-- ==== Defs.lean ====
def Pre_SsmConv (m : (ℓ : Loc Cert.SsmConv.nD Cert.SsmConv.τ Cert.SsmConv.sig) → Buf (Elt Bits) ℓ) : Prop :=
  True

def Pre_SsmConvIdeal (m : (ℓ : Loc Cert.SsmConvIdeal.nD Cert.SsmConvIdeal.τ Cert.SsmConvIdeal.sig) → Buf (Elt Ideal) ℓ) : Prop :=
  True

def Pre_SsmConvRefIdeal (m : (ℓ : Loc Cert.SsmConvRefIdeal.nD Cert.SsmConvRefIdeal.τ Cert.SsmConvRefIdeal.sig) → Buf (Elt Ideal) ℓ) : Prop :=
  True

def Pre_Attention (m : (ℓ : Loc Cert.Attention.nD Cert.Attention.τ Cert.Attention.sig) → Buf (Elt Bits) ℓ) : Prop :=
  True

def Pre_AttentionIdeal (m : (ℓ : Loc Cert.AttentionIdeal.nD Cert.AttentionIdeal.τ Cert.AttentionIdeal.sig) → Buf (Elt Ideal) ℓ) : Prop :=
  True

def Pre_AttentionIdeal_attention_finite [hPre_attention_finite : Cert.Pre_attention_finite.Facts] (m : (ℓ : Loc Cert.AttentionIdeal.nD Cert.AttentionIdeal.τ Cert.AttentionIdeal.sig) → Buf (Elt Ideal) ℓ) : Prop :=
  ∀ c : Dev Cert.AttentionIdeal.nD,
    (Cert.Pre_attention_finite.fn (F := Ideal) (m ((c.tc : Thread Cert.AttentionIdeal.nD Cert.AttentionIdeal.τ).loc Cert.AttentionIdeal.main_arg0)) (m ((c.tc : Thread Cert.AttentionIdeal.nD Cert.AttentionIdeal.τ).loc Cert.AttentionIdeal.main_arg1))).1 = (fun _ => 1#1)
    ∧ (Cert.Pre_attention_finite.fn (F := Ideal) (m ((c.tc : Thread Cert.AttentionIdeal.nD Cert.AttentionIdeal.τ).loc Cert.AttentionIdeal.main_arg0)) (m ((c.tc : Thread Cert.AttentionIdeal.nD Cert.AttentionIdeal.τ).loc Cert.AttentionIdeal.main_arg1))).2 = (fun _ => 1#1)

def Pre_AttentionRefIdeal (m : (ℓ : Loc Cert.AttentionRefIdeal.nD Cert.AttentionRefIdeal.τ Cert.AttentionRefIdeal.sig) → Buf (Elt Ideal) ℓ) : Prop :=
  True

def Pre_AttentionRefIdeal_attention_finite [hPre_attention_finite : Cert.Pre_attention_finite.Facts] (m : (ℓ : Loc Cert.AttentionRefIdeal.nD Cert.AttentionRefIdeal.τ Cert.AttentionRefIdeal.sig) → Buf (Elt Ideal) ℓ) : Prop :=
  ∀ c : Dev Cert.AttentionRefIdeal.nD,
    (Cert.Pre_attention_finite.fn (F := Ideal) (m ((c.tc : Thread Cert.AttentionRefIdeal.nD Cert.AttentionRefIdeal.τ).loc Cert.AttentionRefIdeal.main_arg0)) (m ((c.tc : Thread Cert.AttentionRefIdeal.nD Cert.AttentionRefIdeal.τ).loc Cert.AttentionRefIdeal.main_arg1))).1 = (fun _ => 1#1)
    ∧ (Cert.Pre_attention_finite.fn (F := Ideal) (m ((c.tc : Thread Cert.AttentionRefIdeal.nD Cert.AttentionRefIdeal.τ).loc Cert.AttentionRefIdeal.main_arg0)) (m ((c.tc : Thread Cert.AttentionRefIdeal.nD Cert.AttentionRefIdeal.τ).loc Cert.AttentionRefIdeal.main_arg1))).2 = (fun _ => 1#1)

def Pre_ShortConv (m : (ℓ : Loc Cert.ShortConv.nD Cert.ShortConv.τ Cert.ShortConv.sig) → Buf (Elt Bits) ℓ) : Prop :=
  True

def Pre_ShortConvIdeal (m : (ℓ : Loc Cert.ShortConvIdeal.nD Cert.ShortConvIdeal.τ Cert.ShortConvIdeal.sig) → Buf (Elt Ideal) ℓ) : Prop :=
  True

def Pre_ShortConvRefIdeal (m : (ℓ : Loc Cert.ShortConvRefIdeal.nD Cert.ShortConvRefIdeal.τ Cert.ShortConvRefIdeal.sig) → Buf (Elt Ideal) ℓ) : Prop :=
  True

def Pre_LossLast (m : (ℓ : Loc Cert.LossLast.nD Cert.LossLast.τ Cert.LossLast.sig) → Buf (Elt Bits) ℓ) : Prop :=
  True

def Pre_LossLastIdeal (m : (ℓ : Loc Cert.LossLastIdeal.nD Cert.LossLastIdeal.τ Cert.LossLastIdeal.sig) → Buf (Elt Ideal) ℓ) : Prop :=
  True

def Pre_LossLastIdeal_losslast_finite [hPre_losslast_finite : Cert.Pre_losslast_finite.Facts] (m : (ℓ : Loc Cert.LossLastIdeal.nD Cert.LossLastIdeal.τ Cert.LossLastIdeal.sig) → Buf (Elt Ideal) ℓ) : Prop :=
  ∀ c : Dev Cert.LossLastIdeal.nD,
    (Cert.Pre_losslast_finite.fn (F := Ideal) (m ((c.tc : Thread Cert.LossLastIdeal.nD Cert.LossLastIdeal.τ).loc Cert.LossLastIdeal.main_arg0)) (m ((c.tc : Thread Cert.LossLastIdeal.nD Cert.LossLastIdeal.τ).loc Cert.LossLastIdeal.main_arg1)) (m ((c.tc : Thread Cert.LossLastIdeal.nD Cert.LossLastIdeal.τ).loc Cert.LossLastIdeal.main_arg2)) (m ((c.tc : Thread Cert.LossLastIdeal.nD Cert.LossLastIdeal.τ).loc Cert.LossLastIdeal.main_arg3)) (m ((c.tc : Thread Cert.LossLastIdeal.nD Cert.LossLastIdeal.τ).loc Cert.LossLastIdeal.main_arg4))).1 = (fun _ => 1#1)
    ∧ (Cert.Pre_losslast_finite.fn (F := Ideal) (m ((c.tc : Thread Cert.LossLastIdeal.nD Cert.LossLastIdeal.τ).loc Cert.LossLastIdeal.main_arg0)) (m ((c.tc : Thread Cert.LossLastIdeal.nD Cert.LossLastIdeal.τ).loc Cert.LossLastIdeal.main_arg1)) (m ((c.tc : Thread Cert.LossLastIdeal.nD Cert.LossLastIdeal.τ).loc Cert.LossLastIdeal.main_arg2)) (m ((c.tc : Thread Cert.LossLastIdeal.nD Cert.LossLastIdeal.τ).loc Cert.LossLastIdeal.main_arg3)) (m ((c.tc : Thread Cert.LossLastIdeal.nD Cert.LossLastIdeal.τ).loc Cert.LossLastIdeal.main_arg4))).2.1 = (fun _ => 1#1)
    ∧ (Cert.Pre_losslast_finite.fn (F := Ideal) (m ((c.tc : Thread Cert.LossLastIdeal.nD Cert.LossLastIdeal.τ).loc Cert.LossLastIdeal.main_arg0)) (m ((c.tc : Thread Cert.LossLastIdeal.nD Cert.LossLastIdeal.τ).loc Cert.LossLastIdeal.main_arg1)) (m ((c.tc : Thread Cert.LossLastIdeal.nD Cert.LossLastIdeal.τ).loc Cert.LossLastIdeal.main_arg2)) (m ((c.tc : Thread Cert.LossLastIdeal.nD Cert.LossLastIdeal.τ).loc Cert.LossLastIdeal.main_arg3)) (m ((c.tc : Thread Cert.LossLastIdeal.nD Cert.LossLastIdeal.τ).loc Cert.LossLastIdeal.main_arg4))).2.2.1 = (fun _ => 1#1)
    ∧ (Cert.Pre_losslast_finite.fn (F := Ideal) (m ((c.tc : Thread Cert.LossLastIdeal.nD Cert.LossLastIdeal.τ).loc Cert.LossLastIdeal.main_arg0)) (m ((c.tc : Thread Cert.LossLastIdeal.nD Cert.LossLastIdeal.τ).loc Cert.LossLastIdeal.main_arg1)) (m ((c.tc : Thread Cert.LossLastIdeal.nD Cert.LossLastIdeal.τ).loc Cert.LossLastIdeal.main_arg2)) (m ((c.tc : Thread Cert.LossLastIdeal.nD Cert.LossLastIdeal.τ).loc Cert.LossLastIdeal.main_arg3)) (m ((c.tc : Thread Cert.LossLastIdeal.nD Cert.LossLastIdeal.τ).loc Cert.LossLastIdeal.main_arg4))).2.2.2.1 = (fun _ => 1#1)
    ∧ (Cert.Pre_losslast_finite.fn (F := Ideal) (m ((c.tc : Thread Cert.LossLastIdeal.nD Cert.LossLastIdeal.τ).loc Cert.LossLastIdeal.main_arg0)) (m ((c.tc : Thread Cert.LossLastIdeal.nD Cert.LossLastIdeal.τ).loc Cert.LossLastIdeal.main_arg1)) (m ((c.tc : Thread Cert.LossLastIdeal.nD Cert.LossLastIdeal.τ).loc Cert.LossLastIdeal.main_arg2)) (m ((c.tc : Thread Cert.LossLastIdeal.nD Cert.LossLastIdeal.τ).loc Cert.LossLastIdeal.main_arg3)) (m ((c.tc : Thread Cert.LossLastIdeal.nD Cert.LossLastIdeal.τ).loc Cert.LossLastIdeal.main_arg4))).2.2.2.2 = (fun _ => 1#1)

def Pre_LossLastRefIdeal (m : (ℓ : Loc Cert.LossLastRefIdeal.nD Cert.LossLastRefIdeal.τ Cert.LossLastRefIdeal.sig) → Buf (Elt Ideal) ℓ) : Prop :=
  True

def Pre_LossLastRefIdeal_losslast_finite [hPre_losslast_finite : Cert.Pre_losslast_finite.Facts] (m : (ℓ : Loc Cert.LossLastRefIdeal.nD Cert.LossLastRefIdeal.τ Cert.LossLastRefIdeal.sig) → Buf (Elt Ideal) ℓ) : Prop :=
  ∀ c : Dev Cert.LossLastRefIdeal.nD,
    (Cert.Pre_losslast_finite.fn (F := Ideal) (m ((c.tc : Thread Cert.LossLastRefIdeal.nD Cert.LossLastRefIdeal.τ).loc Cert.LossLastRefIdeal.main_arg0)) (m ((c.tc : Thread Cert.LossLastRefIdeal.nD Cert.LossLastRefIdeal.τ).loc Cert.LossLastRefIdeal.main_arg1)) (m ((c.tc : Thread Cert.LossLastRefIdeal.nD Cert.LossLastRefIdeal.τ).loc Cert.LossLastRefIdeal.main_arg2)) (m ((c.tc : Thread Cert.LossLastRefIdeal.nD Cert.LossLastRefIdeal.τ).loc Cert.LossLastRefIdeal.main_arg3)) (m ((c.tc : Thread Cert.LossLastRefIdeal.nD Cert.LossLastRefIdeal.τ).loc Cert.LossLastRefIdeal.main_arg4))).1 = (fun _ => 1#1)
    ∧ (Cert.Pre_losslast_finite.fn (F := Ideal) (m ((c.tc : Thread Cert.LossLastRefIdeal.nD Cert.LossLastRefIdeal.τ).loc Cert.LossLastRefIdeal.main_arg0)) (m ((c.tc : Thread Cert.LossLastRefIdeal.nD Cert.LossLastRefIdeal.τ).loc Cert.LossLastRefIdeal.main_arg1)) (m ((c.tc : Thread Cert.LossLastRefIdeal.nD Cert.LossLastRefIdeal.τ).loc Cert.LossLastRefIdeal.main_arg2)) (m ((c.tc : Thread Cert.LossLastRefIdeal.nD Cert.LossLastRefIdeal.τ).loc Cert.LossLastRefIdeal.main_arg3)) (m ((c.tc : Thread Cert.LossLastRefIdeal.nD Cert.LossLastRefIdeal.τ).loc Cert.LossLastRefIdeal.main_arg4))).2.1 = (fun _ => 1#1)
    ∧ (Cert.Pre_losslast_finite.fn (F := Ideal) (m ((c.tc : Thread Cert.LossLastRefIdeal.nD Cert.LossLastRefIdeal.τ).loc Cert.LossLastRefIdeal.main_arg0)) (m ((c.tc : Thread Cert.LossLastRefIdeal.nD Cert.LossLastRefIdeal.τ).loc Cert.LossLastRefIdeal.main_arg1)) (m ((c.tc : Thread Cert.LossLastRefIdeal.nD Cert.LossLastRefIdeal.τ).loc Cert.LossLastRefIdeal.main_arg2)) (m ((c.tc : Thread Cert.LossLastRefIdeal.nD Cert.LossLastRefIdeal.τ).loc Cert.LossLastRefIdeal.main_arg3)) (m ((c.tc : Thread Cert.LossLastRefIdeal.nD Cert.LossLastRefIdeal.τ).loc Cert.LossLastRefIdeal.main_arg4))).2.2.1 = (fun _ => 1#1)
    ∧ (Cert.Pre_losslast_finite.fn (F := Ideal) (m ((c.tc : Thread Cert.LossLastRefIdeal.nD Cert.LossLastRefIdeal.τ).loc Cert.LossLastRefIdeal.main_arg0)) (m ((c.tc : Thread Cert.LossLastRefIdeal.nD Cert.LossLastRefIdeal.τ).loc Cert.LossLastRefIdeal.main_arg1)) (m ((c.tc : Thread Cert.LossLastRefIdeal.nD Cert.LossLastRefIdeal.τ).loc Cert.LossLastRefIdeal.main_arg2)) (m ((c.tc : Thread Cert.LossLastRefIdeal.nD Cert.LossLastRefIdeal.τ).loc Cert.LossLastRefIdeal.main_arg3)) (m ((c.tc : Thread Cert.LossLastRefIdeal.nD Cert.LossLastRefIdeal.τ).loc Cert.LossLastRefIdeal.main_arg4))).2.2.2.1 = (fun _ => 1#1)
    ∧ (Cert.Pre_losslast_finite.fn (F := Ideal) (m ((c.tc : Thread Cert.LossLastRefIdeal.nD Cert.LossLastRefIdeal.τ).loc Cert.LossLastRefIdeal.main_arg0)) (m ((c.tc : Thread Cert.LossLastRefIdeal.nD Cert.LossLastRefIdeal.τ).loc Cert.LossLastRefIdeal.main_arg1)) (m ((c.tc : Thread Cert.LossLastRefIdeal.nD Cert.LossLastRefIdeal.τ).loc Cert.LossLastRefIdeal.main_arg2)) (m ((c.tc : Thread Cert.LossLastRefIdeal.nD Cert.LossLastRefIdeal.τ).loc Cert.LossLastRefIdeal.main_arg3)) (m ((c.tc : Thread Cert.LossLastRefIdeal.nD Cert.LossLastRefIdeal.τ).loc Cert.LossLastRefIdeal.main_arg4))).2.2.2.2 = (fun _ => 1#1)

def Pre_AdalnFirst (m : (ℓ : Loc Cert.AdalnFirst.nD Cert.AdalnFirst.τ Cert.AdalnFirst.sig) → Buf (Elt Bits) ℓ) : Prop :=
  True

def Pre_AdalnFirstIdeal (m : (ℓ : Loc Cert.AdalnFirstIdeal.nD Cert.AdalnFirstIdeal.τ Cert.AdalnFirstIdeal.sig) → Buf (Elt Ideal) ℓ) : Prop :=
  True

def Pre_AdalnFirstIdeal_adalnfirst_finite [hPre_adalnfirst_finite : Cert.Pre_adalnfirst_finite.Facts] (m : (ℓ : Loc Cert.AdalnFirstIdeal.nD Cert.AdalnFirstIdeal.τ Cert.AdalnFirstIdeal.sig) → Buf (Elt Ideal) ℓ) : Prop :=
  ∀ c : Dev Cert.AdalnFirstIdeal.nD,
    (Cert.Pre_adalnfirst_finite.fn (F := Ideal) (m ((c.tc : Thread Cert.AdalnFirstIdeal.nD Cert.AdalnFirstIdeal.τ).loc Cert.AdalnFirstIdeal.main_arg0)) (m ((c.tc : Thread Cert.AdalnFirstIdeal.nD Cert.AdalnFirstIdeal.τ).loc Cert.AdalnFirstIdeal.main_arg1)) (m ((c.tc : Thread Cert.AdalnFirstIdeal.nD Cert.AdalnFirstIdeal.τ).loc Cert.AdalnFirstIdeal.main_arg2)) (m ((c.tc : Thread Cert.AdalnFirstIdeal.nD Cert.AdalnFirstIdeal.τ).loc Cert.AdalnFirstIdeal.main_arg3)) (m ((c.tc : Thread Cert.AdalnFirstIdeal.nD Cert.AdalnFirstIdeal.τ).loc Cert.AdalnFirstIdeal.main_arg4)) (m ((c.tc : Thread Cert.AdalnFirstIdeal.nD Cert.AdalnFirstIdeal.τ).loc Cert.AdalnFirstIdeal.main_arg5))).1 = (fun _ => 1#1)
    ∧ (Cert.Pre_adalnfirst_finite.fn (F := Ideal) (m ((c.tc : Thread Cert.AdalnFirstIdeal.nD Cert.AdalnFirstIdeal.τ).loc Cert.AdalnFirstIdeal.main_arg0)) (m ((c.tc : Thread Cert.AdalnFirstIdeal.nD Cert.AdalnFirstIdeal.τ).loc Cert.AdalnFirstIdeal.main_arg1)) (m ((c.tc : Thread Cert.AdalnFirstIdeal.nD Cert.AdalnFirstIdeal.τ).loc Cert.AdalnFirstIdeal.main_arg2)) (m ((c.tc : Thread Cert.AdalnFirstIdeal.nD Cert.AdalnFirstIdeal.τ).loc Cert.AdalnFirstIdeal.main_arg3)) (m ((c.tc : Thread Cert.AdalnFirstIdeal.nD Cert.AdalnFirstIdeal.τ).loc Cert.AdalnFirstIdeal.main_arg4)) (m ((c.tc : Thread Cert.AdalnFirstIdeal.nD Cert.AdalnFirstIdeal.τ).loc Cert.AdalnFirstIdeal.main_arg5))).2.1 = (fun _ => 1#1)
    ∧ (Cert.Pre_adalnfirst_finite.fn (F := Ideal) (m ((c.tc : Thread Cert.AdalnFirstIdeal.nD Cert.AdalnFirstIdeal.τ).loc Cert.AdalnFirstIdeal.main_arg0)) (m ((c.tc : Thread Cert.AdalnFirstIdeal.nD Cert.AdalnFirstIdeal.τ).loc Cert.AdalnFirstIdeal.main_arg1)) (m ((c.tc : Thread Cert.AdalnFirstIdeal.nD Cert.AdalnFirstIdeal.τ).loc Cert.AdalnFirstIdeal.main_arg2)) (m ((c.tc : Thread Cert.AdalnFirstIdeal.nD Cert.AdalnFirstIdeal.τ).loc Cert.AdalnFirstIdeal.main_arg3)) (m ((c.tc : Thread Cert.AdalnFirstIdeal.nD Cert.AdalnFirstIdeal.τ).loc Cert.AdalnFirstIdeal.main_arg4)) (m ((c.tc : Thread Cert.AdalnFirstIdeal.nD Cert.AdalnFirstIdeal.τ).loc Cert.AdalnFirstIdeal.main_arg5))).2.2.1 = (fun _ => 1#1)
    ∧ (Cert.Pre_adalnfirst_finite.fn (F := Ideal) (m ((c.tc : Thread Cert.AdalnFirstIdeal.nD Cert.AdalnFirstIdeal.τ).loc Cert.AdalnFirstIdeal.main_arg0)) (m ((c.tc : Thread Cert.AdalnFirstIdeal.nD Cert.AdalnFirstIdeal.τ).loc Cert.AdalnFirstIdeal.main_arg1)) (m ((c.tc : Thread Cert.AdalnFirstIdeal.nD Cert.AdalnFirstIdeal.τ).loc Cert.AdalnFirstIdeal.main_arg2)) (m ((c.tc : Thread Cert.AdalnFirstIdeal.nD Cert.AdalnFirstIdeal.τ).loc Cert.AdalnFirstIdeal.main_arg3)) (m ((c.tc : Thread Cert.AdalnFirstIdeal.nD Cert.AdalnFirstIdeal.τ).loc Cert.AdalnFirstIdeal.main_arg4)) (m ((c.tc : Thread Cert.AdalnFirstIdeal.nD Cert.AdalnFirstIdeal.τ).loc Cert.AdalnFirstIdeal.main_arg5))).2.2.2 = (fun _ => 1#1)

def Pre_AdalnFirstRefIdeal (m : (ℓ : Loc Cert.AdalnFirstRefIdeal.nD Cert.AdalnFirstRefIdeal.τ Cert.AdalnFirstRefIdeal.sig) → Buf (Elt Ideal) ℓ) : Prop :=
  True

def Pre_AdalnFirstRefIdeal_adalnfirst_finite [hPre_adalnfirst_finite : Cert.Pre_adalnfirst_finite.Facts] (m : (ℓ : Loc Cert.AdalnFirstRefIdeal.nD Cert.AdalnFirstRefIdeal.τ Cert.AdalnFirstRefIdeal.sig) → Buf (Elt Ideal) ℓ) : Prop :=
  ∀ c : Dev Cert.AdalnFirstRefIdeal.nD,
    (Cert.Pre_adalnfirst_finite.fn (F := Ideal) (m ((c.tc : Thread Cert.AdalnFirstRefIdeal.nD Cert.AdalnFirstRefIdeal.τ).loc Cert.AdalnFirstRefIdeal.main_arg0)) (m ((c.tc : Thread Cert.AdalnFirstRefIdeal.nD Cert.AdalnFirstRefIdeal.τ).loc Cert.AdalnFirstRefIdeal.main_arg1)) (m ((c.tc : Thread Cert.AdalnFirstRefIdeal.nD Cert.AdalnFirstRefIdeal.τ).loc Cert.AdalnFirstRefIdeal.main_arg2)) (m ((c.tc : Thread Cert.AdalnFirstRefIdeal.nD Cert.AdalnFirstRefIdeal.τ).loc Cert.AdalnFirstRefIdeal.main_arg3)) (m ((c.tc : Thread Cert.AdalnFirstRefIdeal.nD Cert.AdalnFirstRefIdeal.τ).loc Cert.AdalnFirstRefIdeal.main_arg4)) (m ((c.tc : Thread Cert.AdalnFirstRefIdeal.nD Cert.AdalnFirstRefIdeal.τ).loc Cert.AdalnFirstRefIdeal.main_arg5))).1 = (fun _ => 1#1)
    ∧ (Cert.Pre_adalnfirst_finite.fn (F := Ideal) (m ((c.tc : Thread Cert.AdalnFirstRefIdeal.nD Cert.AdalnFirstRefIdeal.τ).loc Cert.AdalnFirstRefIdeal.main_arg0)) (m ((c.tc : Thread Cert.AdalnFirstRefIdeal.nD Cert.AdalnFirstRefIdeal.τ).loc Cert.AdalnFirstRefIdeal.main_arg1)) (m ((c.tc : Thread Cert.AdalnFirstRefIdeal.nD Cert.AdalnFirstRefIdeal.τ).loc Cert.AdalnFirstRefIdeal.main_arg2)) (m ((c.tc : Thread Cert.AdalnFirstRefIdeal.nD Cert.AdalnFirstRefIdeal.τ).loc Cert.AdalnFirstRefIdeal.main_arg3)) (m ((c.tc : Thread Cert.AdalnFirstRefIdeal.nD Cert.AdalnFirstRefIdeal.τ).loc Cert.AdalnFirstRefIdeal.main_arg4)) (m ((c.tc : Thread Cert.AdalnFirstRefIdeal.nD Cert.AdalnFirstRefIdeal.τ).loc Cert.AdalnFirstRefIdeal.main_arg5))).2.1 = (fun _ => 1#1)
    ∧ (Cert.Pre_adalnfirst_finite.fn (F := Ideal) (m ((c.tc : Thread Cert.AdalnFirstRefIdeal.nD Cert.AdalnFirstRefIdeal.τ).loc Cert.AdalnFirstRefIdeal.main_arg0)) (m ((c.tc : Thread Cert.AdalnFirstRefIdeal.nD Cert.AdalnFirstRefIdeal.τ).loc Cert.AdalnFirstRefIdeal.main_arg1)) (m ((c.tc : Thread Cert.AdalnFirstRefIdeal.nD Cert.AdalnFirstRefIdeal.τ).loc Cert.AdalnFirstRefIdeal.main_arg2)) (m ((c.tc : Thread Cert.AdalnFirstRefIdeal.nD Cert.AdalnFirstRefIdeal.τ).loc Cert.AdalnFirstRefIdeal.main_arg3)) (m ((c.tc : Thread Cert.AdalnFirstRefIdeal.nD Cert.AdalnFirstRefIdeal.τ).loc Cert.AdalnFirstRefIdeal.main_arg4)) (m ((c.tc : Thread Cert.AdalnFirstRefIdeal.nD Cert.AdalnFirstRefIdeal.τ).loc Cert.AdalnFirstRefIdeal.main_arg5))).2.2.1 = (fun _ => 1#1)
    ∧ (Cert.Pre_adalnfirst_finite.fn (F := Ideal) (m ((c.tc : Thread Cert.AdalnFirstRefIdeal.nD Cert.AdalnFirstRefIdeal.τ).loc Cert.AdalnFirstRefIdeal.main_arg0)) (m ((c.tc : Thread Cert.AdalnFirstRefIdeal.nD Cert.AdalnFirstRefIdeal.τ).loc Cert.AdalnFirstRefIdeal.main_arg1)) (m ((c.tc : Thread Cert.AdalnFirstRefIdeal.nD Cert.AdalnFirstRefIdeal.τ).loc Cert.AdalnFirstRefIdeal.main_arg2)) (m ((c.tc : Thread Cert.AdalnFirstRefIdeal.nD Cert.AdalnFirstRefIdeal.τ).loc Cert.AdalnFirstRefIdeal.main_arg3)) (m ((c.tc : Thread Cert.AdalnFirstRefIdeal.nD Cert.AdalnFirstRefIdeal.τ).loc Cert.AdalnFirstRefIdeal.main_arg4)) (m ((c.tc : Thread Cert.AdalnFirstRefIdeal.nD Cert.AdalnFirstRefIdeal.τ).loc Cert.AdalnFirstRefIdeal.main_arg5))).2.2.2 = (fun _ => 1#1)

def Pre_SsmPost (m : (ℓ : Loc Cert.SsmPost.nD Cert.SsmPost.τ Cert.SsmPost.sig) → Buf (Elt Bits) ℓ) : Prop :=
  True

def Pre_SsmPostIdeal (m : (ℓ : Loc Cert.SsmPostIdeal.nD Cert.SsmPostIdeal.τ Cert.SsmPostIdeal.sig) → Buf (Elt Ideal) ℓ) : Prop :=
  True

def Pre_SsmPostIdeal_ssmpost_finite [hPre_ssmpost_finite : Cert.Pre_ssmpost_finite.Facts] (m : (ℓ : Loc Cert.SsmPostIdeal.nD Cert.SsmPostIdeal.τ Cert.SsmPostIdeal.sig) → Buf (Elt Ideal) ℓ) : Prop :=
  ∀ c : Dev Cert.SsmPostIdeal.nD,
    (Cert.Pre_ssmpost_finite.fn (F := Ideal) (m ((c.tc : Thread Cert.SsmPostIdeal.nD Cert.SsmPostIdeal.τ).loc Cert.SsmPostIdeal.main_arg0)) (m ((c.tc : Thread Cert.SsmPostIdeal.nD Cert.SsmPostIdeal.τ).loc Cert.SsmPostIdeal.main_arg1)) (m ((c.tc : Thread Cert.SsmPostIdeal.nD Cert.SsmPostIdeal.τ).loc Cert.SsmPostIdeal.main_arg2)) (m ((c.tc : Thread Cert.SsmPostIdeal.nD Cert.SsmPostIdeal.τ).loc Cert.SsmPostIdeal.main_arg3)) (m ((c.tc : Thread Cert.SsmPostIdeal.nD Cert.SsmPostIdeal.τ).loc Cert.SsmPostIdeal.main_arg4)) (m ((c.tc : Thread Cert.SsmPostIdeal.nD Cert.SsmPostIdeal.τ).loc Cert.SsmPostIdeal.main_arg5))).1 = (fun _ => 1#1)
    ∧ (Cert.Pre_ssmpost_finite.fn (F := Ideal) (m ((c.tc : Thread Cert.SsmPostIdeal.nD Cert.SsmPostIdeal.τ).loc Cert.SsmPostIdeal.main_arg0)) (m ((c.tc : Thread Cert.SsmPostIdeal.nD Cert.SsmPostIdeal.τ).loc Cert.SsmPostIdeal.main_arg1)) (m ((c.tc : Thread Cert.SsmPostIdeal.nD Cert.SsmPostIdeal.τ).loc Cert.SsmPostIdeal.main_arg2)) (m ((c.tc : Thread Cert.SsmPostIdeal.nD Cert.SsmPostIdeal.τ).loc Cert.SsmPostIdeal.main_arg3)) (m ((c.tc : Thread Cert.SsmPostIdeal.nD Cert.SsmPostIdeal.τ).loc Cert.SsmPostIdeal.main_arg4)) (m ((c.tc : Thread Cert.SsmPostIdeal.nD Cert.SsmPostIdeal.τ).loc Cert.SsmPostIdeal.main_arg5))).2.1 = (fun _ => 1#1)
    ∧ (Cert.Pre_ssmpost_finite.fn (F := Ideal) (m ((c.tc : Thread Cert.SsmPostIdeal.nD Cert.SsmPostIdeal.τ).loc Cert.SsmPostIdeal.main_arg0)) (m ((c.tc : Thread Cert.SsmPostIdeal.nD Cert.SsmPostIdeal.τ).loc Cert.SsmPostIdeal.main_arg1)) (m ((c.tc : Thread Cert.SsmPostIdeal.nD Cert.SsmPostIdeal.τ).loc Cert.SsmPostIdeal.main_arg2)) (m ((c.tc : Thread Cert.SsmPostIdeal.nD Cert.SsmPostIdeal.τ).loc Cert.SsmPostIdeal.main_arg3)) (m ((c.tc : Thread Cert.SsmPostIdeal.nD Cert.SsmPostIdeal.τ).loc Cert.SsmPostIdeal.main_arg4)) (m ((c.tc : Thread Cert.SsmPostIdeal.nD Cert.SsmPostIdeal.τ).loc Cert.SsmPostIdeal.main_arg5))).2.2.1 = (fun _ => 1#1)
    ∧ (Cert.Pre_ssmpost_finite.fn (F := Ideal) (m ((c.tc : Thread Cert.SsmPostIdeal.nD Cert.SsmPostIdeal.τ).loc Cert.SsmPostIdeal.main_arg0)) (m ((c.tc : Thread Cert.SsmPostIdeal.nD Cert.SsmPostIdeal.τ).loc Cert.SsmPostIdeal.main_arg1)) (m ((c.tc : Thread Cert.SsmPostIdeal.nD Cert.SsmPostIdeal.τ).loc Cert.SsmPostIdeal.main_arg2)) (m ((c.tc : Thread Cert.SsmPostIdeal.nD Cert.SsmPostIdeal.τ).loc Cert.SsmPostIdeal.main_arg3)) (m ((c.tc : Thread Cert.SsmPostIdeal.nD Cert.SsmPostIdeal.τ).loc Cert.SsmPostIdeal.main_arg4)) (m ((c.tc : Thread Cert.SsmPostIdeal.nD Cert.SsmPostIdeal.τ).loc Cert.SsmPostIdeal.main_arg5))).2.2.2.1 = (fun _ => 1#1)
    ∧ (Cert.Pre_ssmpost_finite.fn (F := Ideal) (m ((c.tc : Thread Cert.SsmPostIdeal.nD Cert.SsmPostIdeal.τ).loc Cert.SsmPostIdeal.main_arg0)) (m ((c.tc : Thread Cert.SsmPostIdeal.nD Cert.SsmPostIdeal.τ).loc Cert.SsmPostIdeal.main_arg1)) (m ((c.tc : Thread Cert.SsmPostIdeal.nD Cert.SsmPostIdeal.τ).loc Cert.SsmPostIdeal.main_arg2)) (m ((c.tc : Thread Cert.SsmPostIdeal.nD Cert.SsmPostIdeal.τ).loc Cert.SsmPostIdeal.main_arg3)) (m ((c.tc : Thread Cert.SsmPostIdeal.nD Cert.SsmPostIdeal.τ).loc Cert.SsmPostIdeal.main_arg4)) (m ((c.tc : Thread Cert.SsmPostIdeal.nD Cert.SsmPostIdeal.τ).loc Cert.SsmPostIdeal.main_arg5))).2.2.2.2.1 = (fun _ => 1#1)
    ∧ (Cert.Pre_ssmpost_finite.fn (F := Ideal) (m ((c.tc : Thread Cert.SsmPostIdeal.nD Cert.SsmPostIdeal.τ).loc Cert.SsmPostIdeal.main_arg0)) (m ((c.tc : Thread Cert.SsmPostIdeal.nD Cert.SsmPostIdeal.τ).loc Cert.SsmPostIdeal.main_arg1)) (m ((c.tc : Thread Cert.SsmPostIdeal.nD Cert.SsmPostIdeal.τ).loc Cert.SsmPostIdeal.main_arg2)) (m ((c.tc : Thread Cert.SsmPostIdeal.nD Cert.SsmPostIdeal.τ).loc Cert.SsmPostIdeal.main_arg3)) (m ((c.tc : Thread Cert.SsmPostIdeal.nD Cert.SsmPostIdeal.τ).loc Cert.SsmPostIdeal.main_arg4)) (m ((c.tc : Thread Cert.SsmPostIdeal.nD Cert.SsmPostIdeal.τ).loc Cert.SsmPostIdeal.main_arg5))).2.2.2.2.2 = (fun _ => 1#1)

def Pre_SsmPostRefIdeal (m : (ℓ : Loc Cert.SsmPostRefIdeal.nD Cert.SsmPostRefIdeal.τ Cert.SsmPostRefIdeal.sig) → Buf (Elt Ideal) ℓ) : Prop :=
  True

def Pre_SsmPostRefIdeal_ssmpost_finite [hPre_ssmpost_finite : Cert.Pre_ssmpost_finite.Facts] (m : (ℓ : Loc Cert.SsmPostRefIdeal.nD Cert.SsmPostRefIdeal.τ Cert.SsmPostRefIdeal.sig) → Buf (Elt Ideal) ℓ) : Prop :=
  ∀ c : Dev Cert.SsmPostRefIdeal.nD,
    (Cert.Pre_ssmpost_finite.fn (F := Ideal) (m ((c.tc : Thread Cert.SsmPostRefIdeal.nD Cert.SsmPostRefIdeal.τ).loc Cert.SsmPostRefIdeal.main_arg0)) (m ((c.tc : Thread Cert.SsmPostRefIdeal.nD Cert.SsmPostRefIdeal.τ).loc Cert.SsmPostRefIdeal.main_arg1)) (m ((c.tc : Thread Cert.SsmPostRefIdeal.nD Cert.SsmPostRefIdeal.τ).loc Cert.SsmPostRefIdeal.main_arg2)) (m ((c.tc : Thread Cert.SsmPostRefIdeal.nD Cert.SsmPostRefIdeal.τ).loc Cert.SsmPostRefIdeal.main_arg3)) (m ((c.tc : Thread Cert.SsmPostRefIdeal.nD Cert.SsmPostRefIdeal.τ).loc Cert.SsmPostRefIdeal.main_arg4)) (m ((c.tc : Thread Cert.SsmPostRefIdeal.nD Cert.SsmPostRefIdeal.τ).loc Cert.SsmPostRefIdeal.main_arg5))).1 = (fun _ => 1#1)
    ∧ (Cert.Pre_ssmpost_finite.fn (F := Ideal) (m ((c.tc : Thread Cert.SsmPostRefIdeal.nD Cert.SsmPostRefIdeal.τ).loc Cert.SsmPostRefIdeal.main_arg0)) (m ((c.tc : Thread Cert.SsmPostRefIdeal.nD Cert.SsmPostRefIdeal.τ).loc Cert.SsmPostRefIdeal.main_arg1)) (m ((c.tc : Thread Cert.SsmPostRefIdeal.nD Cert.SsmPostRefIdeal.τ).loc Cert.SsmPostRefIdeal.main_arg2)) (m ((c.tc : Thread Cert.SsmPostRefIdeal.nD Cert.SsmPostRefIdeal.τ).loc Cert.SsmPostRefIdeal.main_arg3)) (m ((c.tc : Thread Cert.SsmPostRefIdeal.nD Cert.SsmPostRefIdeal.τ).loc Cert.SsmPostRefIdeal.main_arg4)) (m ((c.tc : Thread Cert.SsmPostRefIdeal.nD Cert.SsmPostRefIdeal.τ).loc Cert.SsmPostRefIdeal.main_arg5))).2.1 = (fun _ => 1#1)
    ∧ (Cert.Pre_ssmpost_finite.fn (F := Ideal) (m ((c.tc : Thread Cert.SsmPostRefIdeal.nD Cert.SsmPostRefIdeal.τ).loc Cert.SsmPostRefIdeal.main_arg0)) (m ((c.tc : Thread Cert.SsmPostRefIdeal.nD Cert.SsmPostRefIdeal.τ).loc Cert.SsmPostRefIdeal.main_arg1)) (m ((c.tc : Thread Cert.SsmPostRefIdeal.nD Cert.SsmPostRefIdeal.τ).loc Cert.SsmPostRefIdeal.main_arg2)) (m ((c.tc : Thread Cert.SsmPostRefIdeal.nD Cert.SsmPostRefIdeal.τ).loc Cert.SsmPostRefIdeal.main_arg3)) (m ((c.tc : Thread Cert.SsmPostRefIdeal.nD Cert.SsmPostRefIdeal.τ).loc Cert.SsmPostRefIdeal.main_arg4)) (m ((c.tc : Thread Cert.SsmPostRefIdeal.nD Cert.SsmPostRefIdeal.τ).loc Cert.SsmPostRefIdeal.main_arg5))).2.2.1 = (fun _ => 1#1)
    ∧ (Cert.Pre_ssmpost_finite.fn (F := Ideal) (m ((c.tc : Thread Cert.SsmPostRefIdeal.nD Cert.SsmPostRefIdeal.τ).loc Cert.SsmPostRefIdeal.main_arg0)) (m ((c.tc : Thread Cert.SsmPostRefIdeal.nD Cert.SsmPostRefIdeal.τ).loc Cert.SsmPostRefIdeal.main_arg1)) (m ((c.tc : Thread Cert.SsmPostRefIdeal.nD Cert.SsmPostRefIdeal.τ).loc Cert.SsmPostRefIdeal.main_arg2)) (m ((c.tc : Thread Cert.SsmPostRefIdeal.nD Cert.SsmPostRefIdeal.τ).loc Cert.SsmPostRefIdeal.main_arg3)) (m ((c.tc : Thread Cert.SsmPostRefIdeal.nD Cert.SsmPostRefIdeal.τ).loc Cert.SsmPostRefIdeal.main_arg4)) (m ((c.tc : Thread Cert.SsmPostRefIdeal.nD Cert.SsmPostRefIdeal.τ).loc Cert.SsmPostRefIdeal.main_arg5))).2.2.2.1 = (fun _ => 1#1)
    ∧ (Cert.Pre_ssmpost_finite.fn (F := Ideal) (m ((c.tc : Thread Cert.SsmPostRefIdeal.nD Cert.SsmPostRefIdeal.τ).loc Cert.SsmPostRefIdeal.main_arg0)) (m ((c.tc : Thread Cert.SsmPostRefIdeal.nD Cert.SsmPostRefIdeal.τ).loc Cert.SsmPostRefIdeal.main_arg1)) (m ((c.tc : Thread Cert.SsmPostRefIdeal.nD Cert.SsmPostRefIdeal.τ).loc Cert.SsmPostRefIdeal.main_arg2)) (m ((c.tc : Thread Cert.SsmPostRefIdeal.nD Cert.SsmPostRefIdeal.τ).loc Cert.SsmPostRefIdeal.main_arg3)) (m ((c.tc : Thread Cert.SsmPostRefIdeal.nD Cert.SsmPostRefIdeal.τ).loc Cert.SsmPostRefIdeal.main_arg4)) (m ((c.tc : Thread Cert.SsmPostRefIdeal.nD Cert.SsmPostRefIdeal.τ).loc Cert.SsmPostRefIdeal.main_arg5))).2.2.2.2.1 = (fun _ => 1#1)
    ∧ (Cert.Pre_ssmpost_finite.fn (F := Ideal) (m ((c.tc : Thread Cert.SsmPostRefIdeal.nD Cert.SsmPostRefIdeal.τ).loc Cert.SsmPostRefIdeal.main_arg0)) (m ((c.tc : Thread Cert.SsmPostRefIdeal.nD Cert.SsmPostRefIdeal.τ).loc Cert.SsmPostRefIdeal.main_arg1)) (m ((c.tc : Thread Cert.SsmPostRefIdeal.nD Cert.SsmPostRefIdeal.τ).loc Cert.SsmPostRefIdeal.main_arg2)) (m ((c.tc : Thread Cert.SsmPostRefIdeal.nD Cert.SsmPostRefIdeal.τ).loc Cert.SsmPostRefIdeal.main_arg3)) (m ((c.tc : Thread Cert.SsmPostRefIdeal.nD Cert.SsmPostRefIdeal.τ).loc Cert.SsmPostRefIdeal.main_arg4)) (m ((c.tc : Thread Cert.SsmPostRefIdeal.nD Cert.SsmPostRefIdeal.τ).loc Cert.SsmPostRefIdeal.main_arg5))).2.2.2.2.2 = (fun _ => 1#1)

def Pre_SwiGlu (m : (ℓ : Loc Cert.SwiGlu.nD Cert.SwiGlu.τ Cert.SwiGlu.sig) → Buf (Elt Bits) ℓ) : Prop :=
  True

def Pre_SwiGluIdeal (m : (ℓ : Loc Cert.SwiGluIdeal.nD Cert.SwiGluIdeal.τ Cert.SwiGluIdeal.sig) → Buf (Elt Ideal) ℓ) : Prop :=
  True

def Pre_SwiGluIdeal_swiglu_finite [hPre_swiglu_finite : Cert.Pre_swiglu_finite.Facts] (m : (ℓ : Loc Cert.SwiGluIdeal.nD Cert.SwiGluIdeal.τ Cert.SwiGluIdeal.sig) → Buf (Elt Ideal) ℓ) : Prop :=
  ∀ c : Dev Cert.SwiGluIdeal.nD,
    (Cert.Pre_swiglu_finite.fn (F := Ideal) (m ((c.tc : Thread Cert.SwiGluIdeal.nD Cert.SwiGluIdeal.τ).loc Cert.SwiGluIdeal.main_arg0)) (m ((c.tc : Thread Cert.SwiGluIdeal.nD Cert.SwiGluIdeal.τ).loc Cert.SwiGluIdeal.main_arg1)) (m ((c.tc : Thread Cert.SwiGluIdeal.nD Cert.SwiGluIdeal.τ).loc Cert.SwiGluIdeal.main_arg2))).1 = (fun _ => 1#1)
    ∧ (Cert.Pre_swiglu_finite.fn (F := Ideal) (m ((c.tc : Thread Cert.SwiGluIdeal.nD Cert.SwiGluIdeal.τ).loc Cert.SwiGluIdeal.main_arg0)) (m ((c.tc : Thread Cert.SwiGluIdeal.nD Cert.SwiGluIdeal.τ).loc Cert.SwiGluIdeal.main_arg1)) (m ((c.tc : Thread Cert.SwiGluIdeal.nD Cert.SwiGluIdeal.τ).loc Cert.SwiGluIdeal.main_arg2))).2.1 = (fun _ => 1#1)
    ∧ (Cert.Pre_swiglu_finite.fn (F := Ideal) (m ((c.tc : Thread Cert.SwiGluIdeal.nD Cert.SwiGluIdeal.τ).loc Cert.SwiGluIdeal.main_arg0)) (m ((c.tc : Thread Cert.SwiGluIdeal.nD Cert.SwiGluIdeal.τ).loc Cert.SwiGluIdeal.main_arg1)) (m ((c.tc : Thread Cert.SwiGluIdeal.nD Cert.SwiGluIdeal.τ).loc Cert.SwiGluIdeal.main_arg2))).2.2 = (fun _ => 1#1)

def Pre_SwiGluRefIdeal (m : (ℓ : Loc Cert.SwiGluRefIdeal.nD Cert.SwiGluRefIdeal.τ Cert.SwiGluRefIdeal.sig) → Buf (Elt Ideal) ℓ) : Prop :=
  True

def Pre_SwiGluRefIdeal_swiglu_finite [hPre_swiglu_finite : Cert.Pre_swiglu_finite.Facts] (m : (ℓ : Loc Cert.SwiGluRefIdeal.nD Cert.SwiGluRefIdeal.τ Cert.SwiGluRefIdeal.sig) → Buf (Elt Ideal) ℓ) : Prop :=
  ∀ c : Dev Cert.SwiGluRefIdeal.nD,
    (Cert.Pre_swiglu_finite.fn (F := Ideal) (m ((c.tc : Thread Cert.SwiGluRefIdeal.nD Cert.SwiGluRefIdeal.τ).loc Cert.SwiGluRefIdeal.main_arg0)) (m ((c.tc : Thread Cert.SwiGluRefIdeal.nD Cert.SwiGluRefIdeal.τ).loc Cert.SwiGluRefIdeal.main_arg1)) (m ((c.tc : Thread Cert.SwiGluRefIdeal.nD Cert.SwiGluRefIdeal.τ).loc Cert.SwiGluRefIdeal.main_arg2))).1 = (fun _ => 1#1)
    ∧ (Cert.Pre_swiglu_finite.fn (F := Ideal) (m ((c.tc : Thread Cert.SwiGluRefIdeal.nD Cert.SwiGluRefIdeal.τ).loc Cert.SwiGluRefIdeal.main_arg0)) (m ((c.tc : Thread Cert.SwiGluRefIdeal.nD Cert.SwiGluRefIdeal.τ).loc Cert.SwiGluRefIdeal.main_arg1)) (m ((c.tc : Thread Cert.SwiGluRefIdeal.nD Cert.SwiGluRefIdeal.τ).loc Cert.SwiGluRefIdeal.main_arg2))).2.1 = (fun _ => 1#1)
    ∧ (Cert.Pre_swiglu_finite.fn (F := Ideal) (m ((c.tc : Thread Cert.SwiGluRefIdeal.nD Cert.SwiGluRefIdeal.τ).loc Cert.SwiGluRefIdeal.main_arg0)) (m ((c.tc : Thread Cert.SwiGluRefIdeal.nD Cert.SwiGluRefIdeal.τ).loc Cert.SwiGluRefIdeal.main_arg1)) (m ((c.tc : Thread Cert.SwiGluRefIdeal.nD Cert.SwiGluRefIdeal.τ).loc Cert.SwiGluRefIdeal.main_arg2))).2.2 = (fun _ => 1#1)

def Pre_Sticks (m : (ℓ : Loc Cert.Sticks.nD Cert.Sticks.τ Cert.Sticks.sig) → Buf (Elt Bits) ℓ) : Prop :=
  True

def Pre_SticksIdeal (m : (ℓ : Loc Cert.SticksIdeal.nD Cert.SticksIdeal.τ Cert.SticksIdeal.sig) → Buf (Elt Ideal) ℓ) : Prop :=
  True

def Pre_SticksIdeal_sticks_finite [hPre_sticks_finite : Cert.Pre_sticks_finite.Facts] (m : (ℓ : Loc Cert.SticksIdeal.nD Cert.SticksIdeal.τ Cert.SticksIdeal.sig) → Buf (Elt Ideal) ℓ) : Prop :=
  ∀ c : Dev Cert.SticksIdeal.nD,
    (Cert.Pre_sticks_finite.fn (F := Ideal) (m ((c.tc : Thread Cert.SticksIdeal.nD Cert.SticksIdeal.τ).loc Cert.SticksIdeal.main_arg0))) = (fun _ => 1#1)

def Pre_SticksRefIdeal (m : (ℓ : Loc Cert.SticksRefIdeal.nD Cert.SticksRefIdeal.τ Cert.SticksRefIdeal.sig) → Buf (Elt Ideal) ℓ) : Prop :=
  True

def Pre_SticksRefIdeal_sticks_finite [hPre_sticks_finite : Cert.Pre_sticks_finite.Facts] (m : (ℓ : Loc Cert.SticksRefIdeal.nD Cert.SticksRefIdeal.τ Cert.SticksRefIdeal.sig) → Buf (Elt Ideal) ℓ) : Prop :=
  ∀ c : Dev Cert.SticksRefIdeal.nD,
    (Cert.Pre_sticks_finite.fn (F := Ideal) (m ((c.tc : Thread Cert.SticksRefIdeal.nD Cert.SticksRefIdeal.τ).loc Cert.SticksRefIdeal.main_arg0))) = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Mid (m : (ℓ : Loc Cert.Mid.nD Cert.Mid.τ Cert.Mid.sig) → Buf (Elt Bits) ℓ) : Prop :=
  True

def Pre_MidIdeal (m : (ℓ : Loc Cert.MidIdeal.nD Cert.MidIdeal.τ Cert.MidIdeal.sig) → Buf (Elt Ideal) ℓ) : Prop :=
  True

def Pre_MidIdeal_mid_finite [hPre_mid_finite : Cert.Pre_mid_finite.Facts] (m : (ℓ : Loc Cert.MidIdeal.nD Cert.MidIdeal.τ Cert.MidIdeal.sig) → Buf (Elt Ideal) ℓ) : Prop :=
  ∀ c : Dev Cert.MidIdeal.nD,
    (Cert.Pre_mid_finite.fn (F := Ideal) (m ((c.tc : Thread Cert.MidIdeal.nD Cert.MidIdeal.τ).loc Cert.MidIdeal.main_arg0)) (m ((c.tc : Thread Cert.MidIdeal.nD Cert.MidIdeal.τ).loc Cert.MidIdeal.main_arg1)) (m ((c.tc : Thread Cert.MidIdeal.nD Cert.MidIdeal.τ).loc Cert.MidIdeal.main_arg2)) (m ((c.tc : Thread Cert.MidIdeal.nD Cert.MidIdeal.τ).loc Cert.MidIdeal.main_arg3)) (m ((c.tc : Thread Cert.MidIdeal.nD Cert.MidIdeal.τ).loc Cert.MidIdeal.main_arg4)) (m ((c.tc : Thread Cert.MidIdeal.nD Cert.MidIdeal.τ).loc Cert.MidIdeal.main_arg5)) (m ((c.tc : Thread Cert.MidIdeal.nD Cert.MidIdeal.τ).loc Cert.MidIdeal.main_arg6)) (m ((c.tc : Thread Cert.MidIdeal.nD Cert.MidIdeal.τ).loc Cert.MidIdeal.main_arg7)) (m ((c.tc : Thread Cert.MidIdeal.nD Cert.MidIdeal.τ).loc Cert.MidIdeal.main_arg8))).1 = (fun _ => 1#1)
    ∧ (Cert.Pre_mid_finite.fn (F := Ideal) (m ((c.tc : Thread Cert.MidIdeal.nD Cert.MidIdeal.τ).loc Cert.MidIdeal.main_arg0)) (m ((c.tc : Thread Cert.MidIdeal.nD Cert.MidIdeal.τ).loc Cert.MidIdeal.main_arg1)) (m ((c.tc : Thread Cert.MidIdeal.nD Cert.MidIdeal.τ).loc Cert.MidIdeal.main_arg2)) (m ((c.tc : Thread Cert.MidIdeal.nD Cert.MidIdeal.τ).loc Cert.MidIdeal.main_arg3)) (m ((c.tc : Thread Cert.MidIdeal.nD Cert.MidIdeal.τ).loc Cert.MidIdeal.main_arg4)) (m ((c.tc : Thread Cert.MidIdeal.nD Cert.MidIdeal.τ).loc Cert.MidIdeal.main_arg5)) (m ((c.tc : Thread Cert.MidIdeal.nD Cert.MidIdeal.τ).loc Cert.MidIdeal.main_arg6)) (m ((c.tc : Thread Cert.MidIdeal.nD Cert.MidIdeal.τ).loc Cert.MidIdeal.main_arg7)) (m ((c.tc : Thread Cert.MidIdeal.nD Cert.MidIdeal.τ).loc Cert.MidIdeal.main_arg8))).2.1 = (fun _ => 1#1)
    ∧ (Cert.Pre_mid_finite.fn (F := Ideal) (m ((c.tc : Thread Cert.MidIdeal.nD Cert.MidIdeal.τ).loc Cert.MidIdeal.main_arg0)) (m ((c.tc : Thread Cert.MidIdeal.nD Cert.MidIdeal.τ).loc Cert.MidIdeal.main_arg1)) (m ((c.tc : Thread Cert.MidIdeal.nD Cert.MidIdeal.τ).loc Cert.MidIdeal.main_arg2)) (m ((c.tc : Thread Cert.MidIdeal.nD Cert.MidIdeal.τ).loc Cert.MidIdeal.main_arg3)) (m ((c.tc : Thread Cert.MidIdeal.nD Cert.MidIdeal.τ).loc Cert.MidIdeal.main_arg4)) (m ((c.tc : Thread Cert.MidIdeal.nD Cert.MidIdeal.τ).loc Cert.MidIdeal.main_arg5)) (m ((c.tc : Thread Cert.MidIdeal.nD Cert.MidIdeal.τ).loc Cert.MidIdeal.main_arg6)) (m ((c.tc : Thread Cert.MidIdeal.nD Cert.MidIdeal.τ).loc Cert.MidIdeal.main_arg7)) (m ((c.tc : Thread Cert.MidIdeal.nD Cert.MidIdeal.τ).loc Cert.MidIdeal.main_arg8))).2.2.1 = (fun _ => 1#1)
    ∧ (Cert.Pre_mid_finite.fn (F := Ideal) (m ((c.tc : Thread Cert.MidIdeal.nD Cert.MidIdeal.τ).loc Cert.MidIdeal.main_arg0)) (m ((c.tc : Thread Cert.MidIdeal.nD Cert.MidIdeal.τ).loc Cert.MidIdeal.main_arg1)) (m ((c.tc : Thread Cert.MidIdeal.nD Cert.MidIdeal.τ).loc Cert.MidIdeal.main_arg2)) (m ((c.tc : Thread Cert.MidIdeal.nD Cert.MidIdeal.τ).loc Cert.MidIdeal.main_arg3)) (m ((c.tc : Thread Cert.MidIdeal.nD Cert.MidIdeal.τ).loc Cert.MidIdeal.main_arg4)) (m ((c.tc : Thread Cert.MidIdeal.nD Cert.MidIdeal.τ).loc Cert.MidIdeal.main_arg5)) (m ((c.tc : Thread Cert.MidIdeal.nD Cert.MidIdeal.τ).loc Cert.MidIdeal.main_arg6)) (m ((c.tc : Thread Cert.MidIdeal.nD Cert.MidIdeal.τ).loc Cert.MidIdeal.main_arg7)) (m ((c.tc : Thread Cert.MidIdeal.nD Cert.MidIdeal.τ).loc Cert.MidIdeal.main_arg8))).2.2.2.1 = (fun _ => 1#1)
    ∧ (Cert.Pre_mid_finite.fn (F := Ideal) (m ((c.tc : Thread Cert.MidIdeal.nD Cert.MidIdeal.τ).loc Cert.MidIdeal.main_arg0)) (m ((c.tc : Thread Cert.MidIdeal.nD Cert.MidIdeal.τ).loc Cert.MidIdeal.main_arg1)) (m ((c.tc : Thread Cert.MidIdeal.nD Cert.MidIdeal.τ).loc Cert.MidIdeal.main_arg2)) (m ((c.tc : Thread Cert.MidIdeal.nD Cert.MidIdeal.τ).loc Cert.MidIdeal.main_arg3)) (m ((c.tc : Thread Cert.MidIdeal.nD Cert.MidIdeal.τ).loc Cert.MidIdeal.main_arg4)) (m ((c.tc : Thread Cert.MidIdeal.nD Cert.MidIdeal.τ).loc Cert.MidIdeal.main_arg5)) (m ((c.tc : Thread Cert.MidIdeal.nD Cert.MidIdeal.τ).loc Cert.MidIdeal.main_arg6)) (m ((c.tc : Thread Cert.MidIdeal.nD Cert.MidIdeal.τ).loc Cert.MidIdeal.main_arg7)) (m ((c.tc : Thread Cert.MidIdeal.nD Cert.MidIdeal.τ).loc Cert.MidIdeal.main_arg8))).2.2.2.2.1 = (fun _ => 1#1)
    ∧ (Cert.Pre_mid_finite.fn (F := Ideal) (m ((c.tc : Thread Cert.MidIdeal.nD Cert.MidIdeal.τ).loc Cert.MidIdeal.main_arg0)) (m ((c.tc : Thread Cert.MidIdeal.nD Cert.MidIdeal.τ).loc Cert.MidIdeal.main_arg1)) (m ((c.tc : Thread Cert.MidIdeal.nD Cert.MidIdeal.τ).loc Cert.MidIdeal.main_arg2)) (m ((c.tc : Thread Cert.MidIdeal.nD Cert.MidIdeal.τ).loc Cert.MidIdeal.main_arg3)) (m ((c.tc : Thread Cert.MidIdeal.nD Cert.MidIdeal.τ).loc Cert.MidIdeal.main_arg4)) (m ((c.tc : Thread Cert.MidIdeal.nD Cert.MidIdeal.τ).loc Cert.MidIdeal.main_arg5)) (m ((c.tc : Thread Cert.MidIdeal.nD Cert.MidIdeal.τ).loc Cert.MidIdeal.main_arg6)) (m ((c.tc : Thread Cert.MidIdeal.nD Cert.MidIdeal.τ).loc Cert.MidIdeal.main_arg7)) (m ((c.tc : Thread Cert.MidIdeal.nD Cert.MidIdeal.τ).loc Cert.MidIdeal.main_arg8))).2.2.2.2.2.1 = (fun _ => 1#1)
    ∧ (Cert.Pre_mid_finite.fn (F := Ideal) (m ((c.tc : Thread Cert.MidIdeal.nD Cert.MidIdeal.τ).loc Cert.MidIdeal.main_arg0)) (m ((c.tc : Thread Cert.MidIdeal.nD Cert.MidIdeal.τ).loc Cert.MidIdeal.main_arg1)) (m ((c.tc : Thread Cert.MidIdeal.nD Cert.MidIdeal.τ).loc Cert.MidIdeal.main_arg2)) (m ((c.tc : Thread Cert.MidIdeal.nD Cert.MidIdeal.τ).loc Cert.MidIdeal.main_arg3)) (m ((c.tc : Thread Cert.MidIdeal.nD Cert.MidIdeal.τ).loc Cert.MidIdeal.main_arg4)) (m ((c.tc : Thread Cert.MidIdeal.nD Cert.MidIdeal.τ).loc Cert.MidIdeal.main_arg5)) (m ((c.tc : Thread Cert.MidIdeal.nD Cert.MidIdeal.τ).loc Cert.MidIdeal.main_arg6)) (m ((c.tc : Thread Cert.MidIdeal.nD Cert.MidIdeal.τ).loc Cert.MidIdeal.main_arg7)) (m ((c.tc : Thread Cert.MidIdeal.nD Cert.MidIdeal.τ).loc Cert.MidIdeal.main_arg8))).2.2.2.2.2.2.1 = (fun _ => 1#1)
    ∧ (Cert.Pre_mid_finite.fn (F := Ideal) (m ((c.tc : Thread Cert.MidIdeal.nD Cert.MidIdeal.τ).loc Cert.MidIdeal.main_arg0)) (m ((c.tc : Thread Cert.MidIdeal.nD Cert.MidIdeal.τ).loc Cert.MidIdeal.main_arg1)) (m ((c.tc : Thread Cert.MidIdeal.nD Cert.MidIdeal.τ).loc Cert.MidIdeal.main_arg2)) (m ((c.tc : Thread Cert.MidIdeal.nD Cert.MidIdeal.τ).loc Cert.MidIdeal.main_arg3)) (m ((c.tc : Thread Cert.MidIdeal.nD Cert.MidIdeal.τ).loc Cert.MidIdeal.main_arg4)) (m ((c.tc : Thread Cert.MidIdeal.nD Cert.MidIdeal.τ).loc Cert.MidIdeal.main_arg5)) (m ((c.tc : Thread Cert.MidIdeal.nD Cert.MidIdeal.τ).loc Cert.MidIdeal.main_arg6)) (m ((c.tc : Thread Cert.MidIdeal.nD Cert.MidIdeal.τ).loc Cert.MidIdeal.main_arg7)) (m ((c.tc : Thread Cert.MidIdeal.nD Cert.MidIdeal.τ).loc Cert.MidIdeal.main_arg8))).2.2.2.2.2.2.2 = (fun _ => 1#1)

def Pre_MidRefIdeal (m : (ℓ : Loc Cert.MidRefIdeal.nD Cert.MidRefIdeal.τ Cert.MidRefIdeal.sig) → Buf (Elt Ideal) ℓ) : Prop :=
  True

def Pre_MidRefIdeal_mid_finite [hPre_mid_finite : Cert.Pre_mid_finite.Facts] (m : (ℓ : Loc Cert.MidRefIdeal.nD Cert.MidRefIdeal.τ Cert.MidRefIdeal.sig) → Buf (Elt Ideal) ℓ) : Prop :=
  ∀ c : Dev Cert.MidRefIdeal.nD,
    (Cert.Pre_mid_finite.fn (F := Ideal) (m ((c.tc : Thread Cert.MidRefIdeal.nD Cert.MidRefIdeal.τ).loc Cert.MidRefIdeal.main_arg0)) (m ((c.tc : Thread Cert.MidRefIdeal.nD Cert.MidRefIdeal.τ).loc Cert.MidRefIdeal.main_arg1)) (m ((c.tc : Thread Cert.MidRefIdeal.nD Cert.MidRefIdeal.τ).loc Cert.MidRefIdeal.main_arg2)) (m ((c.tc : Thread Cert.MidRefIdeal.nD Cert.MidRefIdeal.τ).loc Cert.MidRefIdeal.main_arg3)) (m ((c.tc : Thread Cert.MidRefIdeal.nD Cert.MidRefIdeal.τ).loc Cert.MidRefIdeal.main_arg4)) (m ((c.tc : Thread Cert.MidRefIdeal.nD Cert.MidRefIdeal.τ).loc Cert.MidRefIdeal.main_arg5)) (m ((c.tc : Thread Cert.MidRefIdeal.nD Cert.MidRefIdeal.τ).loc Cert.MidRefIdeal.main_arg6)) (m ((c.tc : Thread Cert.MidRefIdeal.nD Cert.MidRefIdeal.τ).loc Cert.MidRefIdeal.main_arg7)) (m ((c.tc : Thread Cert.MidRefIdeal.nD Cert.MidRefIdeal.τ).loc Cert.MidRefIdeal.main_arg8))).1 = (fun _ => 1#1)
    ∧ (Cert.Pre_mid_finite.fn (F := Ideal) (m ((c.tc : Thread Cert.MidRefIdeal.nD Cert.MidRefIdeal.τ).loc Cert.MidRefIdeal.main_arg0)) (m ((c.tc : Thread Cert.MidRefIdeal.nD Cert.MidRefIdeal.τ).loc Cert.MidRefIdeal.main_arg1)) (m ((c.tc : Thread Cert.MidRefIdeal.nD Cert.MidRefIdeal.τ).loc Cert.MidRefIdeal.main_arg2)) (m ((c.tc : Thread Cert.MidRefIdeal.nD Cert.MidRefIdeal.τ).loc Cert.MidRefIdeal.main_arg3)) (m ((c.tc : Thread Cert.MidRefIdeal.nD Cert.MidRefIdeal.τ).loc Cert.MidRefIdeal.main_arg4)) (m ((c.tc : Thread Cert.MidRefIdeal.nD Cert.MidRefIdeal.τ).loc Cert.MidRefIdeal.main_arg5)) (m ((c.tc : Thread Cert.MidRefIdeal.nD Cert.MidRefIdeal.τ).loc Cert.MidRefIdeal.main_arg6)) (m ((c.tc : Thread Cert.MidRefIdeal.nD Cert.MidRefIdeal.τ).loc Cert.MidRefIdeal.main_arg7)) (m ((c.tc : Thread Cert.MidRefIdeal.nD Cert.MidRefIdeal.τ).loc Cert.MidRefIdeal.main_arg8))).2.1 = (fun _ => 1#1)
    ∧ (Cert.Pre_mid_finite.fn (F := Ideal) (m ((c.tc : Thread Cert.MidRefIdeal.nD Cert.MidRefIdeal.τ).loc Cert.MidRefIdeal.main_arg0)) (m ((c.tc : Thread Cert.MidRefIdeal.nD Cert.MidRefIdeal.τ).loc Cert.MidRefIdeal.main_arg1)) (m ((c.tc : Thread Cert.MidRefIdeal.nD Cert.MidRefIdeal.τ).loc Cert.MidRefIdeal.main_arg2)) (m ((c.tc : Thread Cert.MidRefIdeal.nD Cert.MidRefIdeal.τ).loc Cert.MidRefIdeal.main_arg3)) (m ((c.tc : Thread Cert.MidRefIdeal.nD Cert.MidRefIdeal.τ).loc Cert.MidRefIdeal.main_arg4)) (m ((c.tc : Thread Cert.MidRefIdeal.nD Cert.MidRefIdeal.τ).loc Cert.MidRefIdeal.main_arg5)) (m ((c.tc : Thread Cert.MidRefIdeal.nD Cert.MidRefIdeal.τ).loc Cert.MidRefIdeal.main_arg6)) (m ((c.tc : Thread Cert.MidRefIdeal.nD Cert.MidRefIdeal.τ).loc Cert.MidRefIdeal.main_arg7)) (m ((c.tc : Thread Cert.MidRefIdeal.nD Cert.MidRefIdeal.τ).loc Cert.MidRefIdeal.main_arg8))).2.2.1 = (fun _ => 1#1)
    ∧ (Cert.Pre_mid_finite.fn (F := Ideal) (m ((c.tc : Thread Cert.MidRefIdeal.nD Cert.MidRefIdeal.τ).loc Cert.MidRefIdeal.main_arg0)) (m ((c.tc : Thread Cert.MidRefIdeal.nD Cert.MidRefIdeal.τ).loc Cert.MidRefIdeal.main_arg1)) (m ((c.tc : Thread Cert.MidRefIdeal.nD Cert.MidRefIdeal.τ).loc Cert.MidRefIdeal.main_arg2)) (m ((c.tc : Thread Cert.MidRefIdeal.nD Cert.MidRefIdeal.τ).loc Cert.MidRefIdeal.main_arg3)) (m ((c.tc : Thread Cert.MidRefIdeal.nD Cert.MidRefIdeal.τ).loc Cert.MidRefIdeal.main_arg4)) (m ((c.tc : Thread Cert.MidRefIdeal.nD Cert.MidRefIdeal.τ).loc Cert.MidRefIdeal.main_arg5)) (m ((c.tc : Thread Cert.MidRefIdeal.nD Cert.MidRefIdeal.τ).loc Cert.MidRefIdeal.main_arg6)) (m ((c.tc : Thread Cert.MidRefIdeal.nD Cert.MidRefIdeal.τ).loc Cert.MidRefIdeal.main_arg7)) (m ((c.tc : Thread Cert.MidRefIdeal.nD Cert.MidRefIdeal.τ).loc Cert.MidRefIdeal.main_arg8))).2.2.2.1 = (fun _ => 1#1)
    ∧ (Cert.Pre_mid_finite.fn (F := Ideal) (m ((c.tc : Thread Cert.MidRefIdeal.nD Cert.MidRefIdeal.τ).loc Cert.MidRefIdeal.main_arg0)) (m ((c.tc : Thread Cert.MidRefIdeal.nD Cert.MidRefIdeal.τ).loc Cert.MidRefIdeal.main_arg1)) (m ((c.tc : Thread Cert.MidRefIdeal.nD Cert.MidRefIdeal.τ).loc Cert.MidRefIdeal.main_arg2)) (m ((c.tc : Thread Cert.MidRefIdeal.nD Cert.MidRefIdeal.τ).loc Cert.MidRefIdeal.main_arg3)) (m ((c.tc : Thread Cert.MidRefIdeal.nD Cert.MidRefIdeal.τ).loc Cert.MidRefIdeal.main_arg4)) (m ((c.tc : Thread Cert.MidRefIdeal.nD Cert.MidRefIdeal.τ).loc Cert.MidRefIdeal.main_arg5)) (m ((c.tc : Thread Cert.MidRefIdeal.nD Cert.MidRefIdeal.τ).loc Cert.MidRefIdeal.main_arg6)) (m ((c.tc : Thread Cert.MidRefIdeal.nD Cert.MidRefIdeal.τ).loc Cert.MidRefIdeal.main_arg7)) (m ((c.tc : Thread Cert.MidRefIdeal.nD Cert.MidRefIdeal.τ).loc Cert.MidRefIdeal.main_arg8))).2.2.2.2.1 = (fun _ => 1#1)
    ∧ (Cert.Pre_mid_finite.fn (F := Ideal) (m ((c.tc : Thread Cert.MidRefIdeal.nD Cert.MidRefIdeal.τ).loc Cert.MidRefIdeal.main_arg0)) (m ((c.tc : Thread Cert.MidRefIdeal.nD Cert.MidRefIdeal.τ).loc Cert.MidRefIdeal.main_arg1)) (m ((c.tc : Thread Cert.MidRefIdeal.nD Cert.MidRefIdeal.τ).loc Cert.MidRefIdeal.main_arg2)) (m ((c.tc : Thread Cert.MidRefIdeal.nD Cert.MidRefIdeal.τ).loc Cert.MidRefIdeal.main_arg3)) (m ((c.tc : Thread Cert.MidRefIdeal.nD Cert.MidRefIdeal.τ).loc Cert.MidRefIdeal.main_arg4)) (m ((c.tc : Thread Cert.MidRefIdeal.nD Cert.MidRefIdeal.τ).loc Cert.MidRefIdeal.main_arg5)) (m ((c.tc : Thread Cert.MidRefIdeal.nD Cert.MidRefIdeal.τ).loc Cert.MidRefIdeal.main_arg6)) (m ((c.tc : Thread Cert.MidRefIdeal.nD Cert.MidRefIdeal.τ).loc Cert.MidRefIdeal.main_arg7)) (m ((c.tc : Thread Cert.MidRefIdeal.nD Cert.MidRefIdeal.τ).loc Cert.MidRefIdeal.main_arg8))).2.2.2.2.2.1 = (fun _ => 1#1)
    ∧ (Cert.Pre_mid_finite.fn (F := Ideal) (m ((c.tc : Thread Cert.MidRefIdeal.nD Cert.MidRefIdeal.τ).loc Cert.MidRefIdeal.main_arg0)) (m ((c.tc : Thread Cert.MidRefIdeal.nD Cert.MidRefIdeal.τ).loc Cert.MidRefIdeal.main_arg1)) (m ((c.tc : Thread Cert.MidRefIdeal.nD Cert.MidRefIdeal.τ).loc Cert.MidRefIdeal.main_arg2)) (m ((c.tc : Thread Cert.MidRefIdeal.nD Cert.MidRefIdeal.τ).loc Cert.MidRefIdeal.main_arg3)) (m ((c.tc : Thread Cert.MidRefIdeal.nD Cert.MidRefIdeal.τ).loc Cert.MidRefIdeal.main_arg4)) (m ((c.tc : Thread Cert.MidRefIdeal.nD Cert.MidRefIdeal.τ).loc Cert.MidRefIdeal.main_arg5)) (m ((c.tc : Thread Cert.MidRefIdeal.nD Cert.MidRefIdeal.τ).loc Cert.MidRefIdeal.main_arg6)) (m ((c.tc : Thread Cert.MidRefIdeal.nD Cert.MidRefIdeal.τ).loc Cert.MidRefIdeal.main_arg7)) (m ((c.tc : Thread Cert.MidRefIdeal.nD Cert.MidRefIdeal.τ).loc Cert.MidRefIdeal.main_arg8))).2.2.2.2.2.2.1 = (fun _ => 1#1)
    ∧ (Cert.Pre_mid_finite.fn (F := Ideal) (m ((c.tc : Thread Cert.MidRefIdeal.nD Cert.MidRefIdeal.τ).loc Cert.MidRefIdeal.main_arg0)) (m ((c.tc : Thread Cert.MidRefIdeal.nD Cert.MidRefIdeal.τ).loc Cert.MidRefIdeal.main_arg1)) (m ((c.tc : Thread Cert.MidRefIdeal.nD Cert.MidRefIdeal.τ).loc Cert.MidRefIdeal.main_arg2)) (m ((c.tc : Thread Cert.MidRefIdeal.nD Cert.MidRefIdeal.τ).loc Cert.MidRefIdeal.main_arg3)) (m ((c.tc : Thread Cert.MidRefIdeal.nD Cert.MidRefIdeal.τ).loc Cert.MidRefIdeal.main_arg4)) (m ((c.tc : Thread Cert.MidRefIdeal.nD Cert.MidRefIdeal.τ).loc Cert.MidRefIdeal.main_arg5)) (m ((c.tc : Thread Cert.MidRefIdeal.nD Cert.MidRefIdeal.τ).loc Cert.MidRefIdeal.main_arg6)) (m ((c.tc : Thread Cert.MidRefIdeal.nD Cert.MidRefIdeal.τ).loc Cert.MidRefIdeal.main_arg7)) (m ((c.tc : Thread Cert.MidRefIdeal.nD Cert.MidRefIdeal.τ).loc Cert.MidRefIdeal.main_arg8))).2.2.2.2.2.2.2 = (fun _ => 1#1)

def Pre_AdalnOut (m : (ℓ : Loc Cert.AdalnOut.nD Cert.AdalnOut.τ Cert.AdalnOut.sig) → Buf (Elt Bits) ℓ) : Prop :=
  True

def Pre_AdalnOutIdeal (m : (ℓ : Loc Cert.AdalnOutIdeal.nD Cert.AdalnOutIdeal.τ Cert.AdalnOutIdeal.sig) → Buf (Elt Ideal) ℓ) : Prop :=
  True

def Pre_AdalnOutRefIdeal (m : (ℓ : Loc Cert.AdalnOutRefIdeal.nD Cert.AdalnOutRefIdeal.τ Cert.AdalnOutRefIdeal.sig) → Buf (Elt Ideal) ℓ) : Prop :=
  True

def Pre_ConvOut (m : (ℓ : Loc Cert.ConvOut.nD Cert.ConvOut.τ Cert.ConvOut.sig) → Buf (Elt Bits) ℓ) : Prop :=
  True

def Pre_ConvOutIdeal (m : (ℓ : Loc Cert.ConvOutIdeal.nD Cert.ConvOutIdeal.τ Cert.ConvOutIdeal.sig) → Buf (Elt Ideal) ℓ) : Prop :=
  True

def Pre_ConvOutRefIdeal (m : (ℓ : Loc Cert.ConvOutRefIdeal.nD Cert.ConvOutRefIdeal.τ Cert.ConvOutRefIdeal.sig) → Buf (Elt Ideal) ℓ) : Prop :=
  True

def Pre_ShortOut (m : (ℓ : Loc Cert.ShortOut.nD Cert.ShortOut.τ Cert.ShortOut.sig) → Buf (Elt Bits) ℓ) : Prop :=
  True

def Pre_ShortOutIdeal (m : (ℓ : Loc Cert.ShortOutIdeal.nD Cert.ShortOutIdeal.τ Cert.ShortOutIdeal.sig) → Buf (Elt Ideal) ℓ) : Prop :=
  True

def Pre_ShortOutRefIdeal (m : (ℓ : Loc Cert.ShortOutRefIdeal.nD Cert.ShortOutRefIdeal.τ Cert.ShortOutRefIdeal.sig) → Buf (Elt Ideal) ℓ) : Prop :=
  True

def Pre_PostOut (m : (ℓ : Loc Cert.PostOut.nD Cert.PostOut.τ Cert.PostOut.sig) → Buf (Elt Bits) ℓ) : Prop :=
  True

def Pre_PostOutIdeal (m : (ℓ : Loc Cert.PostOutIdeal.nD Cert.PostOutIdeal.τ Cert.PostOutIdeal.sig) → Buf (Elt Ideal) ℓ) : Prop :=
  True

def Pre_PostOutRefIdeal (m : (ℓ : Loc Cert.PostOutRefIdeal.nD Cert.PostOutRefIdeal.τ Cert.PostOutRefIdeal.sig) → Buf (Elt Ideal) ℓ) : Prop :=
  True

def Pre_MergeOut (m : (ℓ : Loc Cert.MergeOut.nD Cert.MergeOut.τ Cert.MergeOut.sig) → Buf (Elt Bits) ℓ) : Prop :=
  True

def Pre_MergeOutIdeal (m : (ℓ : Loc Cert.MergeOutIdeal.nD Cert.MergeOutIdeal.τ Cert.MergeOutIdeal.sig) → Buf (Elt Ideal) ℓ) : Prop :=
  True

def Pre_MergeOutRefIdeal (m : (ℓ : Loc Cert.MergeOutRefIdeal.nD Cert.MergeOutRefIdeal.τ Cert.MergeOutRefIdeal.sig) → Buf (Elt Ideal) ℓ) : Prop :=
  True

def Pre_MidOut (m : (ℓ : Loc Cert.MidOut.nD Cert.MidOut.τ Cert.MidOut.sig) → Buf (Elt Bits) ℓ) : Prop :=
  True

def Pre_MidOutIdeal (m : (ℓ : Loc Cert.MidOutIdeal.nD Cert.MidOutIdeal.τ Cert.MidOutIdeal.sig) → Buf (Elt Ideal) ℓ) : Prop :=
  True

def Pre_MidOutRefIdeal (m : (ℓ : Loc Cert.MidOutRefIdeal.nD Cert.MidOutRefIdeal.τ Cert.MidOutRefIdeal.sig) → Buf (Elt Ideal) ℓ) : Prop :=
  True

def Pre_GluOut (m : (ℓ : Loc Cert.GluOut.nD Cert.GluOut.τ Cert.GluOut.sig) → Buf (Elt Bits) ℓ) : Prop :=
  True

def Pre_GluOutIdeal (m : (ℓ : Loc Cert.GluOutIdeal.nD Cert.GluOutIdeal.τ Cert.GluOutIdeal.sig) → Buf (Elt Ideal) ℓ) : Prop :=
  True

def Pre_GluOutRefIdeal (m : (ℓ : Loc Cert.GluOutRefIdeal.nD Cert.GluOutRefIdeal.τ Cert.GluOutRefIdeal.sig) → Buf (Elt Ideal) ℓ) : Prop :=
  True

def Pre_ModOut (m : (ℓ : Loc Cert.ModOut.nD Cert.ModOut.τ Cert.ModOut.sig) → Buf (Elt Bits) ℓ) : Prop :=
  True

def Pre_ModOutIdeal (m : (ℓ : Loc Cert.ModOutIdeal.nD Cert.ModOutIdeal.τ Cert.ModOutIdeal.sig) → Buf (Elt Ideal) ℓ) : Prop :=
  True

def Pre_ModOutRefIdeal (m : (ℓ : Loc Cert.ModOutRefIdeal.nD Cert.ModOutRefIdeal.τ Cert.ModOutRefIdeal.sig) → Buf (Elt Ideal) ℓ) : Prop :=
  True

def Pre_ModBack (m : (ℓ : Loc Cert.ModBack.nD Cert.ModBack.τ Cert.ModBack.sig) → Buf (Elt Bits) ℓ) : Prop :=
  True

def Pre_ModBackIdeal (m : (ℓ : Loc Cert.ModBackIdeal.nD Cert.ModBackIdeal.τ Cert.ModBackIdeal.sig) → Buf (Elt Ideal) ℓ) : Prop :=
  True

def Pre_ModBackRefIdeal (m : (ℓ : Loc Cert.ModBackRefIdeal.nD Cert.ModBackRefIdeal.τ Cert.ModBackRefIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def Pre_Slots (m : (ℓ : Loc Cert.Slots.nD Cert.Slots.τ Cert.Slots.sig) → Buf (Elt Bits) ℓ) : Prop :=
  True

def Pre_SlotsIdeal (m : (ℓ : Loc Cert.SlotsIdeal.nD Cert.SlotsIdeal.τ Cert.SlotsIdeal.sig) → Buf (Elt Ideal) ℓ) : Prop :=
  True

def Pre_SlotsRefIdeal (m : (ℓ : Loc Cert.SlotsRefIdeal.nD Cert.SlotsRefIdeal.τ Cert.SlotsRefIdeal.sig) → Buf (Elt Ideal) ℓ) : Prop :=
  True

def Pre_Product (m : (ℓ : Loc Cert.Product.nD Cert.Product.τ Cert.Product.sig) → Buf (Elt Bits) ℓ) : Prop :=
  True

def Pre_ProductIdeal (m : (ℓ : Loc Cert.ProductIdeal.nD Cert.ProductIdeal.τ Cert.ProductIdeal.sig) → Buf (Elt Ideal) ℓ) : Prop :=
  True

def Pre_ProductRefIdeal (m : (ℓ : Loc Cert.ProductRefIdeal.nD Cert.ProductRefIdeal.τ Cert.ProductRefIdeal.sig) → Buf (Elt Ideal) ℓ) : Prop :=
  True

def quiescent_SsmConv [hSsmConv : Cert.SsmConv.Facts] : Prop :=
  ∀ (m : (ℓ : Loc Cert.SsmConv.nD Cert.SsmConv.τ Cert.SsmConv.sig) → Buf (Elt Bits) ℓ) (g : Dev Cert.SsmConv.nD → PrngReg), Pre_SsmConv m →
    θ_run (Cert.SsmConv.defs (F := Bits)) (onTc (τ := Cert.SsmConv.τ) (Cert.SsmConv.main (F := Bits))) ⟨m, fun _ => 0, g⟩ (fun r => (∀ c : Dev Cert.SsmConv.nD,
      r.2.mem ((c.tc : Thread Cert.SsmConv.nD Cert.SsmConv.τ).loc Cert.SsmConv.main_arg0) = m ((c.tc : Thread Cert.SsmConv.nD Cert.SsmConv.τ).loc Cert.SsmConv.main_arg0)
      ∧ r.2.mem ((c.tc : Thread Cert.SsmConv.nD Cert.SsmConv.τ).loc Cert.SsmConv.main_arg1) = m ((c.tc : Thread Cert.SsmConv.nD Cert.SsmConv.τ).loc Cert.SsmConv.main_arg1)
      ∧ r.2.mem ((c.tc : Thread Cert.SsmConv.nD Cert.SsmConv.τ).loc Cert.SsmConv.main_arg2) = m ((c.tc : Thread Cert.SsmConv.nD Cert.SsmConv.τ).loc Cert.SsmConv.main_arg2))
      ∧ r.2.sem = fun _ => 0)

def quiescent_SsmConvIdeal [hSsmConvIdeal : Cert.SsmConvIdeal.Facts] : Prop :=
  ∀ (m : (ℓ : Loc Cert.SsmConvIdeal.nD Cert.SsmConvIdeal.τ Cert.SsmConvIdeal.sig) → Buf (Elt Ideal) ℓ) (g : Dev Cert.SsmConvIdeal.nD → PrngReg), Pre_SsmConvIdeal m →
    θ_run (Cert.SsmConvIdeal.defs (F := Ideal)) (onTc (τ := Cert.SsmConvIdeal.τ) (Cert.SsmConvIdeal.main (F := Ideal))) ⟨m, fun _ => 0, g⟩ (fun r => (∀ c : Dev Cert.SsmConvIdeal.nD,
      r.2.mem ((c.tc : Thread Cert.SsmConvIdeal.nD Cert.SsmConvIdeal.τ).loc Cert.SsmConvIdeal.main_arg0) = m ((c.tc : Thread Cert.SsmConvIdeal.nD Cert.SsmConvIdeal.τ).loc Cert.SsmConvIdeal.main_arg0)
      ∧ r.2.mem ((c.tc : Thread Cert.SsmConvIdeal.nD Cert.SsmConvIdeal.τ).loc Cert.SsmConvIdeal.main_arg1) = m ((c.tc : Thread Cert.SsmConvIdeal.nD Cert.SsmConvIdeal.τ).loc Cert.SsmConvIdeal.main_arg1)
      ∧ r.2.mem ((c.tc : Thread Cert.SsmConvIdeal.nD Cert.SsmConvIdeal.τ).loc Cert.SsmConvIdeal.main_arg2) = m ((c.tc : Thread Cert.SsmConvIdeal.nD Cert.SsmConvIdeal.τ).loc Cert.SsmConvIdeal.main_arg2))
      ∧ r.2.sem = fun _ => 0)

def quiescent_SsmConvRefIdeal [hSsmConvRefIdeal : Cert.SsmConvRefIdeal.Facts] : Prop :=
  ∀ (m : (ℓ : Loc Cert.SsmConvRefIdeal.nD Cert.SsmConvRefIdeal.τ Cert.SsmConvRefIdeal.sig) → Buf (Elt Ideal) ℓ) (g : Dev Cert.SsmConvRefIdeal.nD → PrngReg), Pre_SsmConvRefIdeal m →
    θ_run (Cert.SsmConvRefIdeal.defs (F := Ideal)) (onTc (τ := Cert.SsmConvRefIdeal.τ) (Cert.SsmConvRefIdeal.main (F := Ideal))) ⟨m, fun _ => 0, g⟩ (fun r => (∀ c : Dev Cert.SsmConvRefIdeal.nD,
      r.2.mem ((c.tc : Thread Cert.SsmConvRefIdeal.nD Cert.SsmConvRefIdeal.τ).loc Cert.SsmConvRefIdeal.main_arg0) = m ((c.tc : Thread Cert.SsmConvRefIdeal.nD Cert.SsmConvRefIdeal.τ).loc Cert.SsmConvRefIdeal.main_arg0)
      ∧ r.2.mem ((c.tc : Thread Cert.SsmConvRefIdeal.nD Cert.SsmConvRefIdeal.τ).loc Cert.SsmConvRefIdeal.main_arg1) = m ((c.tc : Thread Cert.SsmConvRefIdeal.nD Cert.SsmConvRefIdeal.τ).loc Cert.SsmConvRefIdeal.main_arg1)
      ∧ r.2.mem ((c.tc : Thread Cert.SsmConvRefIdeal.nD Cert.SsmConvRefIdeal.τ).loc Cert.SsmConvRefIdeal.main_arg2) = m ((c.tc : Thread Cert.SsmConvRefIdeal.nD Cert.SsmConvRefIdeal.τ).loc Cert.SsmConvRefIdeal.main_arg2))
      ∧ r.2.sem = fun _ => 0)

def quiescent_Attention [hAttention : Cert.Attention.Facts] : Prop :=
  ∀ (m : (ℓ : Loc Cert.Attention.nD Cert.Attention.τ Cert.Attention.sig) → Buf (Elt Bits) ℓ) (g : Dev Cert.Attention.nD → PrngReg), Pre_Attention m →
    θ_run (Cert.Attention.defs (F := Bits)) (onTc (τ := Cert.Attention.τ) (Cert.Attention.main (F := Bits))) ⟨m, fun _ => 0, g⟩ (fun r => (∀ c : Dev Cert.Attention.nD,
      r.2.mem ((c.tc : Thread Cert.Attention.nD Cert.Attention.τ).loc Cert.Attention.main_arg0) = m ((c.tc : Thread Cert.Attention.nD Cert.Attention.τ).loc Cert.Attention.main_arg0)
      ∧ r.2.mem ((c.tc : Thread Cert.Attention.nD Cert.Attention.τ).loc Cert.Attention.main_arg1) = m ((c.tc : Thread Cert.Attention.nD Cert.Attention.τ).loc Cert.Attention.main_arg1))
      ∧ r.2.sem = fun _ => 0)

def quiescent_AttentionIdeal [hAttentionIdeal : Cert.AttentionIdeal.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1))
      ∧ r.2.sem = fun _ => 0)

def quiescent_AttentionIdeal_pre_attention_finite [hAttentionIdeal : Cert.AttentionIdeal.Facts] [hPre_attention_finite : Cert.Pre_attention_finite.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal_attention_finite m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1))
      ∧ r.2.sem = fun _ => 0)

def quiescent_AttentionRefIdeal [hAttentionRefIdeal : Cert.AttentionRefIdeal.Facts] : Prop :=
  ∀ (m : (ℓ : Loc Cert.AttentionRefIdeal.nD Cert.AttentionRefIdeal.τ Cert.AttentionRefIdeal.sig) → Buf (Elt Ideal) ℓ) (g : Dev Cert.AttentionRefIdeal.nD → PrngReg), Pre_AttentionRefIdeal m →
    θ_run (Cert.AttentionRefIdeal.defs (F := Ideal)) (onTc (τ := Cert.AttentionRefIdeal.τ) (Cert.AttentionRefIdeal.main (F := Ideal))) ⟨m, fun _ => 0, g⟩ (fun r => (∀ c : Dev Cert.AttentionRefIdeal.nD,
      r.2.mem ((c.tc : Thread Cert.AttentionRefIdeal.nD Cert.AttentionRefIdeal.τ).loc Cert.AttentionRefIdeal.main_arg0) = m ((c.tc : Thread Cert.AttentionRefIdeal.nD Cert.AttentionRefIdeal.τ).loc Cert.AttentionRefIdeal.main_arg0)
      ∧ r.2.mem ((c.tc : Thread Cert.AttentionRefIdeal.nD Cert.AttentionRefIdeal.τ).loc Cert.AttentionRefIdeal.main_arg1) = m ((c.tc : Thread Cert.AttentionRefIdeal.nD Cert.AttentionRefIdeal.τ).loc Cert.AttentionRefIdeal.main_arg1))
      ∧ r.2.sem = fun _ => 0)

def quiescent_AttentionRefIdeal_pre_attention_finite [hAttentionRefIdeal : Cert.AttentionRefIdeal.Facts] [hPre_attention_finite : Cert.Pre_attention_finite.Facts] : Prop :=
  ∀ (m : (ℓ : Loc Cert.AttentionRefIdeal.nD Cert.AttentionRefIdeal.τ Cert.AttentionRefIdeal.sig) → Buf (Elt Ideal) ℓ) (g : Dev Cert.AttentionRefIdeal.nD → PrngReg), Pre_AttentionRefIdeal_attention_finite m →
    θ_run (Cert.AttentionRefIdeal.defs (F := Ideal)) (onTc (τ := Cert.AttentionRefIdeal.τ) (Cert.AttentionRefIdeal.main (F := Ideal))) ⟨m, fun _ => 0, g⟩ (fun r => (∀ c : Dev Cert.AttentionRefIdeal.nD,
      r.2.mem ((c.tc : Thread Cert.AttentionRefIdeal.nD Cert.AttentionRefIdeal.τ).loc Cert.AttentionRefIdeal.main_arg0) = m ((c.tc : Thread Cert.AttentionRefIdeal.nD Cert.AttentionRefIdeal.τ).loc Cert.AttentionRefIdeal.main_arg0)
      ∧ r.2.mem ((c.tc : Thread Cert.AttentionRefIdeal.nD Cert.AttentionRefIdeal.τ).loc Cert.AttentionRefIdeal.main_arg1) = m ((c.tc : Thread Cert.AttentionRefIdeal.nD Cert.AttentionRefIdeal.τ).loc Cert.AttentionRefIdeal.main_arg1))
      ∧ r.2.sem = fun _ => 0)

def quiescent_ShortConv [hShortConv : Cert.ShortConv.Facts] : Prop :=
  ∀ (m : (ℓ : Loc Cert.ShortConv.nD Cert.ShortConv.τ Cert.ShortConv.sig) → Buf (Elt Bits) ℓ) (g : Dev Cert.ShortConv.nD → PrngReg), Pre_ShortConv m →
    θ_run (Cert.ShortConv.defs (F := Bits)) (onTc (τ := Cert.ShortConv.τ) (Cert.ShortConv.main (F := Bits))) ⟨m, fun _ => 0, g⟩ (fun r => (∀ c : Dev Cert.ShortConv.nD,
      r.2.mem ((c.tc : Thread Cert.ShortConv.nD Cert.ShortConv.τ).loc Cert.ShortConv.main_arg0) = m ((c.tc : Thread Cert.ShortConv.nD Cert.ShortConv.τ).loc Cert.ShortConv.main_arg0)
      ∧ r.2.mem ((c.tc : Thread Cert.ShortConv.nD Cert.ShortConv.τ).loc Cert.ShortConv.main_arg1) = m ((c.tc : Thread Cert.ShortConv.nD Cert.ShortConv.τ).loc Cert.ShortConv.main_arg1)
      ∧ r.2.mem ((c.tc : Thread Cert.ShortConv.nD Cert.ShortConv.τ).loc Cert.ShortConv.main_arg2) = m ((c.tc : Thread Cert.ShortConv.nD Cert.ShortConv.τ).loc Cert.ShortConv.main_arg2))
      ∧ r.2.sem = fun _ => 0)

def quiescent_ShortConvIdeal [hShortConvIdeal : Cert.ShortConvIdeal.Facts] : Prop :=
  ∀ (m : (ℓ : Loc Cert.ShortConvIdeal.nD Cert.ShortConvIdeal.τ Cert.ShortConvIdeal.sig) → Buf (Elt Ideal) ℓ) (g : Dev Cert.ShortConvIdeal.nD → PrngReg), Pre_ShortConvIdeal m →
    θ_run (Cert.ShortConvIdeal.defs (F := Ideal)) (onTc (τ := Cert.ShortConvIdeal.τ) (Cert.ShortConvIdeal.main (F := Ideal))) ⟨m, fun _ => 0, g⟩ (fun r => (∀ c : Dev Cert.ShortConvIdeal.nD,
      r.2.mem ((c.tc : Thread Cert.ShortConvIdeal.nD Cert.ShortConvIdeal.τ).loc Cert.ShortConvIdeal.main_arg0) = m ((c.tc : Thread Cert.ShortConvIdeal.nD Cert.ShortConvIdeal.τ).loc Cert.ShortConvIdeal.main_arg0)
      ∧ r.2.mem ((c.tc : Thread Cert.ShortConvIdeal.nD Cert.ShortConvIdeal.τ).loc Cert.ShortConvIdeal.main_arg1) = m ((c.tc : Thread Cert.ShortConvIdeal.nD Cert.ShortConvIdeal.τ).loc Cert.ShortConvIdeal.main_arg1)
      ∧ r.2.mem ((c.tc : Thread Cert.ShortConvIdeal.nD Cert.ShortConvIdeal.τ).loc Cert.ShortConvIdeal.main_arg2) = m ((c.tc : Thread Cert.ShortConvIdeal.nD Cert.ShortConvIdeal.τ).loc Cert.ShortConvIdeal.main_arg2))
      ∧ r.2.sem = fun _ => 0)

def quiescent_ShortConvRefIdeal [hShortConvRefIdeal : Cert.ShortConvRefIdeal.Facts] : Prop :=
  ∀ (m : (ℓ : Loc Cert.ShortConvRefIdeal.nD Cert.ShortConvRefIdeal.τ Cert.ShortConvRefIdeal.sig) → Buf (Elt Ideal) ℓ) (g : Dev Cert.ShortConvRefIdeal.nD → PrngReg), Pre_ShortConvRefIdeal m →
    θ_run (Cert.ShortConvRefIdeal.defs (F := Ideal)) (onTc (τ := Cert.ShortConvRefIdeal.τ) (Cert.ShortConvRefIdeal.main (F := Ideal))) ⟨m, fun _ => 0, g⟩ (fun r => (∀ c : Dev Cert.ShortConvRefIdeal.nD,
      r.2.mem ((c.tc : Thread Cert.ShortConvRefIdeal.nD Cert.ShortConvRefIdeal.τ).loc Cert.ShortConvRefIdeal.main_arg0) = m ((c.tc : Thread Cert.ShortConvRefIdeal.nD Cert.ShortConvRefIdeal.τ).loc Cert.ShortConvRefIdeal.main_arg0)
      ∧ r.2.mem ((c.tc : Thread Cert.ShortConvRefIdeal.nD Cert.ShortConvRefIdeal.τ).loc Cert.ShortConvRefIdeal.main_arg1) = m ((c.tc : Thread Cert.ShortConvRefIdeal.nD Cert.ShortConvRefIdeal.τ).loc Cert.ShortConvRefIdeal.main_arg1)
      ∧ r.2.mem ((c.tc : Thread Cert.ShortConvRefIdeal.nD Cert.ShortConvRefIdeal.τ).loc Cert.ShortConvRefIdeal.main_arg2) = m ((c.tc : Thread Cert.ShortConvRefIdeal.nD Cert.ShortConvRefIdeal.τ).loc Cert.ShortConvRefIdeal.main_arg2))
      ∧ r.2.sem = fun _ => 0)

def quiescent_LossLast [hLossLast : Cert.LossLast.Facts] : Prop :=
  ∀ (m : (ℓ : Loc Cert.LossLast.nD Cert.LossLast.τ Cert.LossLast.sig) → Buf (Elt Bits) ℓ) (g : Dev Cert.LossLast.nD → PrngReg), Pre_LossLast m →
    θ_run (Cert.LossLast.defs (F := Bits)) (onTc (τ := Cert.LossLast.τ) (Cert.LossLast.main (F := Bits))) ⟨m, fun _ => 0, g⟩ (fun r => (∀ c : Dev Cert.LossLast.nD,
      r.2.mem ((c.tc : Thread Cert.LossLast.nD Cert.LossLast.τ).loc Cert.LossLast.main_arg0) = m ((c.tc : Thread Cert.LossLast.nD Cert.LossLast.τ).loc Cert.LossLast.main_arg0)
      ∧ r.2.mem ((c.tc : Thread Cert.LossLast.nD Cert.LossLast.τ).loc Cert.LossLast.main_arg1) = m ((c.tc : Thread Cert.LossLast.nD Cert.LossLast.τ).loc Cert.LossLast.main_arg1)
      ∧ r.2.mem ((c.tc : Thread Cert.LossLast.nD Cert.LossLast.τ).loc Cert.LossLast.main_arg2) = m ((c.tc : Thread Cert.LossLast.nD Cert.LossLast.τ).loc Cert.LossLast.main_arg2)
      ∧ r.2.mem ((c.tc : Thread Cert.LossLast.nD Cert.LossLast.τ).loc Cert.LossLast.main_arg3) = m ((c.tc : Thread Cert.LossLast.nD Cert.LossLast.τ).loc Cert.LossLast.main_arg3)
      ∧ r.2.mem ((c.tc : Thread Cert.LossLast.nD Cert.LossLast.τ).loc Cert.LossLast.main_arg4) = m ((c.tc : Thread Cert.LossLast.nD Cert.LossLast.τ).loc Cert.LossLast.main_arg4))
      ∧ r.2.sem = fun _ => 0)

def quiescent_LossLastIdeal [hLossLastIdeal : Cert.LossLastIdeal.Facts] : Prop :=
  ∀ (m : (ℓ : Loc Cert.LossLastIdeal.nD Cert.LossLastIdeal.τ Cert.LossLastIdeal.sig) → Buf (Elt Ideal) ℓ) (g : Dev Cert.LossLastIdeal.nD → PrngReg), Pre_LossLastIdeal m →
    θ_run (Cert.LossLastIdeal.defs (F := Ideal)) (onTc (τ := Cert.LossLastIdeal.τ) (Cert.LossLastIdeal.main (F := Ideal))) ⟨m, fun _ => 0, g⟩ (fun r => (∀ c : Dev Cert.LossLastIdeal.nD,
      r.2.mem ((c.tc : Thread Cert.LossLastIdeal.nD Cert.LossLastIdeal.τ).loc Cert.LossLastIdeal.main_arg0) = m ((c.tc : Thread Cert.LossLastIdeal.nD Cert.LossLastIdeal.τ).loc Cert.LossLastIdeal.main_arg0)
      ∧ r.2.mem ((c.tc : Thread Cert.LossLastIdeal.nD Cert.LossLastIdeal.τ).loc Cert.LossLastIdeal.main_arg1) = m ((c.tc : Thread Cert.LossLastIdeal.nD Cert.LossLastIdeal.τ).loc Cert.LossLastIdeal.main_arg1)
      ∧ r.2.mem ((c.tc : Thread Cert.LossLastIdeal.nD Cert.LossLastIdeal.τ).loc Cert.LossLastIdeal.main_arg2) = m ((c.tc : Thread Cert.LossLastIdeal.nD Cert.LossLastIdeal.τ).loc Cert.LossLastIdeal.main_arg2)
      ∧ r.2.mem ((c.tc : Thread Cert.LossLastIdeal.nD Cert.LossLastIdeal.τ).loc Cert.LossLastIdeal.main_arg3) = m ((c.tc : Thread Cert.LossLastIdeal.nD Cert.LossLastIdeal.τ).loc Cert.LossLastIdeal.main_arg3)
      ∧ r.2.mem ((c.tc : Thread Cert.LossLastIdeal.nD Cert.LossLastIdeal.τ).loc Cert.LossLastIdeal.main_arg4) = m ((c.tc : Thread Cert.LossLastIdeal.nD Cert.LossLastIdeal.τ).loc Cert.LossLastIdeal.main_arg4))
      ∧ r.2.sem = fun _ => 0)

def quiescent_LossLastIdeal_pre_losslast_finite [hLossLastIdeal : Cert.LossLastIdeal.Facts] [hPre_losslast_finite : Cert.Pre_losslast_finite.Facts] : Prop :=
  ∀ (m : (ℓ : Loc Cert.LossLastIdeal.nD Cert.LossLastIdeal.τ Cert.LossLastIdeal.sig) → Buf (Elt Ideal) ℓ) (g : Dev Cert.LossLastIdeal.nD → PrngReg), Pre_LossLastIdeal_losslast_finite m →
    θ_run (Cert.LossLastIdeal.defs (F := Ideal)) (onTc (τ := Cert.LossLastIdeal.τ) (Cert.LossLastIdeal.main (F := Ideal))) ⟨m, fun _ => 0, g⟩ (fun r => (∀ c : Dev Cert.LossLastIdeal.nD,
      r.2.mem ((c.tc : Thread Cert.LossLastIdeal.nD Cert.LossLastIdeal.τ).loc Cert.LossLastIdeal.main_arg0) = m ((c.tc : Thread Cert.LossLastIdeal.nD Cert.LossLastIdeal.τ).loc Cert.LossLastIdeal.main_arg0)
      ∧ r.2.mem ((c.tc : Thread Cert.LossLastIdeal.nD Cert.LossLastIdeal.τ).loc Cert.LossLastIdeal.main_arg1) = m ((c.tc : Thread Cert.LossLastIdeal.nD Cert.LossLastIdeal.τ).loc Cert.LossLastIdeal.main_arg1)
      ∧ r.2.mem ((c.tc : Thread Cert.LossLastIdeal.nD Cert.LossLastIdeal.τ).loc Cert.LossLastIdeal.main_arg2) = m ((c.tc : Thread Cert.LossLastIdeal.nD Cert.LossLastIdeal.τ).loc Cert.LossLastIdeal.main_arg2)
      ∧ r.2.mem ((c.tc : Thread Cert.LossLastIdeal.nD Cert.LossLastIdeal.τ).loc Cert.LossLastIdeal.main_arg3) = m ((c.tc : Thread Cert.LossLastIdeal.nD Cert.LossLastIdeal.τ).loc Cert.LossLastIdeal.main_arg3)
      ∧ r.2.mem ((c.tc : Thread Cert.LossLastIdeal.nD Cert.LossLastIdeal.τ).loc Cert.LossLastIdeal.main_arg4) = m ((c.tc : Thread Cert.LossLastIdeal.nD Cert.LossLastIdeal.τ).loc Cert.LossLastIdeal.main_arg4))
      ∧ r.2.sem = fun _ => 0)

def quiescent_LossLastRefIdeal [hLossLastRefIdeal : Cert.LossLastRefIdeal.Facts] : Prop :=
  ∀ (m : (ℓ : Loc Cert.LossLastRefIdeal.nD Cert.LossLastRefIdeal.τ Cert.LossLastRefIdeal.sig) → Buf (Elt Ideal) ℓ) (g : Dev Cert.LossLastRefIdeal.nD → PrngReg), Pre_LossLastRefIdeal m →
    θ_run (Cert.LossLastRefIdeal.defs (F := Ideal)) (onTc (τ := Cert.LossLastRefIdeal.τ) (Cert.LossLastRefIdeal.main (F := Ideal))) ⟨m, fun _ => 0, g⟩ (fun r => (∀ c : Dev Cert.LossLastRefIdeal.nD,
      r.2.mem ((c.tc : Thread Cert.LossLastRefIdeal.nD Cert.LossLastRefIdeal.τ).loc Cert.LossLastRefIdeal.main_arg0) = m ((c.tc : Thread Cert.LossLastRefIdeal.nD Cert.LossLastRefIdeal.τ).loc Cert.LossLastRefIdeal.main_arg0)
      ∧ r.2.mem ((c.tc : Thread Cert.LossLastRefIdeal.nD Cert.LossLastRefIdeal.τ).loc Cert.LossLastRefIdeal.main_arg1) = m ((c.tc : Thread Cert.LossLastRefIdeal.nD Cert.LossLastRefIdeal.τ).loc Cert.LossLastRefIdeal.main_arg1)
      ∧ r.2.mem ((c.tc : Thread Cert.LossLastRefIdeal.nD Cert.LossLastRefIdeal.τ).loc Cert.LossLastRefIdeal.main_arg2) = m ((c.tc : Thread Cert.LossLastRefIdeal.nD Cert.LossLastRefIdeal.τ).loc Cert.LossLastRefIdeal.main_arg2)
      ∧ r.2.mem ((c.tc : Thread Cert.LossLastRefIdeal.nD Cert.LossLastRefIdeal.τ).loc Cert.LossLastRefIdeal.main_arg3) = m ((c.tc : Thread Cert.LossLastRefIdeal.nD Cert.LossLastRefIdeal.τ).loc Cert.LossLastRefIdeal.main_arg3)
      ∧ r.2.mem ((c.tc : Thread Cert.LossLastRefIdeal.nD Cert.LossLastRefIdeal.τ).loc Cert.LossLastRefIdeal.main_arg4) = m ((c.tc : Thread Cert.LossLastRefIdeal.nD Cert.LossLastRefIdeal.τ).loc Cert.LossLastRefIdeal.main_arg4))
      ∧ r.2.sem = fun _ => 0)

def quiescent_LossLastRefIdeal_pre_losslast_finite [hLossLastRefIdeal : Cert.LossLastRefIdeal.Facts] [hPre_losslast_finite : Cert.Pre_losslast_finite.Facts] : Prop :=
  ∀ (m : (ℓ : Loc Cert.LossLastRefIdeal.nD Cert.LossLastRefIdeal.τ Cert.LossLastRefIdeal.sig) → Buf (Elt Ideal) ℓ) (g : Dev Cert.LossLastRefIdeal.nD → PrngReg), Pre_LossLastRefIdeal_losslast_finite m →
    θ_run (Cert.LossLastRefIdeal.defs (F := Ideal)) (onTc (τ := Cert.LossLastRefIdeal.τ) (Cert.LossLastRefIdeal.main (F := Ideal))) ⟨m, fun _ => 0, g⟩ (fun r => (∀ c : Dev Cert.LossLastRefIdeal.nD,
      r.2.mem ((c.tc : Thread Cert.LossLastRefIdeal.nD Cert.LossLastRefIdeal.τ).loc Cert.LossLastRefIdeal.main_arg0) = m ((c.tc : Thread Cert.LossLastRefIdeal.nD Cert.LossLastRefIdeal.τ).loc Cert.LossLastRefIdeal.main_arg0)
      ∧ r.2.mem ((c.tc : Thread Cert.LossLastRefIdeal.nD Cert.LossLastRefIdeal.τ).loc Cert.LossLastRefIdeal.main_arg1) = m ((c.tc : Thread Cert.LossLastRefIdeal.nD Cert.LossLastRefIdeal.τ).loc Cert.LossLastRefIdeal.main_arg1)
      ∧ r.2.mem ((c.tc : Thread Cert.LossLastRefIdeal.nD Cert.LossLastRefIdeal.τ).loc Cert.LossLastRefIdeal.main_arg2) = m ((c.tc : Thread Cert.LossLastRefIdeal.nD Cert.LossLastRefIdeal.τ).loc Cert.LossLastRefIdeal.main_arg2)
      ∧ r.2.mem ((c.tc : Thread Cert.LossLastRefIdeal.nD Cert.LossLastRefIdeal.τ).loc Cert.LossLastRefIdeal.main_arg3) = m ((c.tc : Thread Cert.LossLastRefIdeal.nD Cert.LossLastRefIdeal.τ).loc Cert.LossLastRefIdeal.main_arg3)
      ∧ r.2.mem ((c.tc : Thread Cert.LossLastRefIdeal.nD Cert.LossLastRefIdeal.τ).loc Cert.LossLastRefIdeal.main_arg4) = m ((c.tc : Thread Cert.LossLastRefIdeal.nD Cert.LossLastRefIdeal.τ).loc Cert.LossLastRefIdeal.main_arg4))
      ∧ r.2.sem = fun _ => 0)

def quiescent_AdalnFirst [hAdalnFirst : Cert.AdalnFirst.Facts] : Prop :=
  ∀ (m : (ℓ : Loc Cert.AdalnFirst.nD Cert.AdalnFirst.τ Cert.AdalnFirst.sig) → Buf (Elt Bits) ℓ) (g : Dev Cert.AdalnFirst.nD → PrngReg), Pre_AdalnFirst m →
    θ_run (Cert.AdalnFirst.defs (F := Bits)) (onTc (τ := Cert.AdalnFirst.τ) (Cert.AdalnFirst.main (F := Bits))) ⟨m, fun _ => 0, g⟩ (fun r => (∀ c : Dev Cert.AdalnFirst.nD,
      r.2.mem ((c.tc : Thread Cert.AdalnFirst.nD Cert.AdalnFirst.τ).loc Cert.AdalnFirst.main_arg0) = m ((c.tc : Thread Cert.AdalnFirst.nD Cert.AdalnFirst.τ).loc Cert.AdalnFirst.main_arg0)
      ∧ r.2.mem ((c.tc : Thread Cert.AdalnFirst.nD Cert.AdalnFirst.τ).loc Cert.AdalnFirst.main_arg1) = m ((c.tc : Thread Cert.AdalnFirst.nD Cert.AdalnFirst.τ).loc Cert.AdalnFirst.main_arg1)
      ∧ r.2.mem ((c.tc : Thread Cert.AdalnFirst.nD Cert.AdalnFirst.τ).loc Cert.AdalnFirst.main_arg2) = m ((c.tc : Thread Cert.AdalnFirst.nD Cert.AdalnFirst.τ).loc Cert.AdalnFirst.main_arg2)
      ∧ r.2.mem ((c.tc : Thread Cert.AdalnFirst.nD Cert.AdalnFirst.τ).loc Cert.AdalnFirst.main_arg3) = m ((c.tc : Thread Cert.AdalnFirst.nD Cert.AdalnFirst.τ).loc Cert.AdalnFirst.main_arg3)
      ∧ r.2.mem ((c.tc : Thread Cert.AdalnFirst.nD Cert.AdalnFirst.τ).loc Cert.AdalnFirst.main_arg4) = m ((c.tc : Thread Cert.AdalnFirst.nD Cert.AdalnFirst.τ).loc Cert.AdalnFirst.main_arg4)
      ∧ r.2.mem ((c.tc : Thread Cert.AdalnFirst.nD Cert.AdalnFirst.τ).loc Cert.AdalnFirst.main_arg5) = m ((c.tc : Thread Cert.AdalnFirst.nD Cert.AdalnFirst.τ).loc Cert.AdalnFirst.main_arg5))
      ∧ r.2.sem = fun _ => 0)

def quiescent_AdalnFirstIdeal [hAdalnFirstIdeal : Cert.AdalnFirstIdeal.Facts] : Prop :=
  ∀ (m : (ℓ : Loc Cert.AdalnFirstIdeal.nD Cert.AdalnFirstIdeal.τ Cert.AdalnFirstIdeal.sig) → Buf (Elt Ideal) ℓ) (g : Dev Cert.AdalnFirstIdeal.nD → PrngReg), Pre_AdalnFirstIdeal m →
    θ_run (Cert.AdalnFirstIdeal.defs (F := Ideal)) (onTc (τ := Cert.AdalnFirstIdeal.τ) (Cert.AdalnFirstIdeal.main (F := Ideal))) ⟨m, fun _ => 0, g⟩ (fun r => (∀ c : Dev Cert.AdalnFirstIdeal.nD,
      r.2.mem ((c.tc : Thread Cert.AdalnFirstIdeal.nD Cert.AdalnFirstIdeal.τ).loc Cert.AdalnFirstIdeal.main_arg0) = m ((c.tc : Thread Cert.AdalnFirstIdeal.nD Cert.AdalnFirstIdeal.τ).loc Cert.AdalnFirstIdeal.main_arg0)
      ∧ r.2.mem ((c.tc : Thread Cert.AdalnFirstIdeal.nD Cert.AdalnFirstIdeal.τ).loc Cert.AdalnFirstIdeal.main_arg1) = m ((c.tc : Thread Cert.AdalnFirstIdeal.nD Cert.AdalnFirstIdeal.τ).loc Cert.AdalnFirstIdeal.main_arg1)
      ∧ r.2.mem ((c.tc : Thread Cert.AdalnFirstIdeal.nD Cert.AdalnFirstIdeal.τ).loc Cert.AdalnFirstIdeal.main_arg2) = m ((c.tc : Thread Cert.AdalnFirstIdeal.nD Cert.AdalnFirstIdeal.τ).loc Cert.AdalnFirstIdeal.main_arg2)
      ∧ r.2.mem ((c.tc : Thread Cert.AdalnFirstIdeal.nD Cert.AdalnFirstIdeal.τ).loc Cert.AdalnFirstIdeal.main_arg3) = m ((c.tc : Thread Cert.AdalnFirstIdeal.nD Cert.AdalnFirstIdeal.τ).loc Cert.AdalnFirstIdeal.main_arg3)
      ∧ r.2.mem ((c.tc : Thread Cert.AdalnFirstIdeal.nD Cert.AdalnFirstIdeal.τ).loc Cert.AdalnFirstIdeal.main_arg4) = m ((c.tc : Thread Cert.AdalnFirstIdeal.nD Cert.AdalnFirstIdeal.τ).loc Cert.AdalnFirstIdeal.main_arg4)
      ∧ r.2.mem ((c.tc : Thread Cert.AdalnFirstIdeal.nD Cert.AdalnFirstIdeal.τ).loc Cert.AdalnFirstIdeal.main_arg5) = m ((c.tc : Thread Cert.AdalnFirstIdeal.nD Cert.AdalnFirstIdeal.τ).loc Cert.AdalnFirstIdeal.main_arg5))
      ∧ r.2.sem = fun _ => 0)

def quiescent_AdalnFirstIdeal_pre_adalnfirst_finite [hAdalnFirstIdeal : Cert.AdalnFirstIdeal.Facts] [hPre_adalnfirst_finite : Cert.Pre_adalnfirst_finite.Facts] : Prop :=
  ∀ (m : (ℓ : Loc Cert.AdalnFirstIdeal.nD Cert.AdalnFirstIdeal.τ Cert.AdalnFirstIdeal.sig) → Buf (Elt Ideal) ℓ) (g : Dev Cert.AdalnFirstIdeal.nD → PrngReg), Pre_AdalnFirstIdeal_adalnfirst_finite m →
    θ_run (Cert.AdalnFirstIdeal.defs (F := Ideal)) (onTc (τ := Cert.AdalnFirstIdeal.τ) (Cert.AdalnFirstIdeal.main (F := Ideal))) ⟨m, fun _ => 0, g⟩ (fun r => (∀ c : Dev Cert.AdalnFirstIdeal.nD,
      r.2.mem ((c.tc : Thread Cert.AdalnFirstIdeal.nD Cert.AdalnFirstIdeal.τ).loc Cert.AdalnFirstIdeal.main_arg0) = m ((c.tc : Thread Cert.AdalnFirstIdeal.nD Cert.AdalnFirstIdeal.τ).loc Cert.AdalnFirstIdeal.main_arg0)
      ∧ r.2.mem ((c.tc : Thread Cert.AdalnFirstIdeal.nD Cert.AdalnFirstIdeal.τ).loc Cert.AdalnFirstIdeal.main_arg1) = m ((c.tc : Thread Cert.AdalnFirstIdeal.nD Cert.AdalnFirstIdeal.τ).loc Cert.AdalnFirstIdeal.main_arg1)
      ∧ r.2.mem ((c.tc : Thread Cert.AdalnFirstIdeal.nD Cert.AdalnFirstIdeal.τ).loc Cert.AdalnFirstIdeal.main_arg2) = m ((c.tc : Thread Cert.AdalnFirstIdeal.nD Cert.AdalnFirstIdeal.τ).loc Cert.AdalnFirstIdeal.main_arg2)
      ∧ r.2.mem ((c.tc : Thread Cert.AdalnFirstIdeal.nD Cert.AdalnFirstIdeal.τ).loc Cert.AdalnFirstIdeal.main_arg3) = m ((c.tc : Thread Cert.AdalnFirstIdeal.nD Cert.AdalnFirstIdeal.τ).loc Cert.AdalnFirstIdeal.main_arg3)
      ∧ r.2.mem ((c.tc : Thread Cert.AdalnFirstIdeal.nD Cert.AdalnFirstIdeal.τ).loc Cert.AdalnFirstIdeal.main_arg4) = m ((c.tc : Thread Cert.AdalnFirstIdeal.nD Cert.AdalnFirstIdeal.τ).loc Cert.AdalnFirstIdeal.main_arg4)
      ∧ r.2.mem ((c.tc : Thread Cert.AdalnFirstIdeal.nD Cert.AdalnFirstIdeal.τ).loc Cert.AdalnFirstIdeal.main_arg5) = m ((c.tc : Thread Cert.AdalnFirstIdeal.nD Cert.AdalnFirstIdeal.τ).loc Cert.AdalnFirstIdeal.main_arg5))
      ∧ r.2.sem = fun _ => 0)

def quiescent_AdalnFirstRefIdeal [hAdalnFirstRefIdeal : Cert.AdalnFirstRefIdeal.Facts] : Prop :=
  ∀ (m : (ℓ : Loc Cert.AdalnFirstRefIdeal.nD Cert.AdalnFirstRefIdeal.τ Cert.AdalnFirstRefIdeal.sig) → Buf (Elt Ideal) ℓ) (g : Dev Cert.AdalnFirstRefIdeal.nD → PrngReg), Pre_AdalnFirstRefIdeal m →
    θ_run (Cert.AdalnFirstRefIdeal.defs (F := Ideal)) (onTc (τ := Cert.AdalnFirstRefIdeal.τ) (Cert.AdalnFirstRefIdeal.main (F := Ideal))) ⟨m, fun _ => 0, g⟩ (fun r => (∀ c : Dev Cert.AdalnFirstRefIdeal.nD,
      r.2.mem ((c.tc : Thread Cert.AdalnFirstRefIdeal.nD Cert.AdalnFirstRefIdeal.τ).loc Cert.AdalnFirstRefIdeal.main_arg0) = m ((c.tc : Thread Cert.AdalnFirstRefIdeal.nD Cert.AdalnFirstRefIdeal.τ).loc Cert.AdalnFirstRefIdeal.main_arg0)
      ∧ r.2.mem ((c.tc : Thread Cert.AdalnFirstRefIdeal.nD Cert.AdalnFirstRefIdeal.τ).loc Cert.AdalnFirstRefIdeal.main_arg1) = m ((c.tc : Thread Cert.AdalnFirstRefIdeal.nD Cert.AdalnFirstRefIdeal.τ).loc Cert.AdalnFirstRefIdeal.main_arg1)
      ∧ r.2.mem ((c.tc : Thread Cert.AdalnFirstRefIdeal.nD Cert.AdalnFirstRefIdeal.τ).loc Cert.AdalnFirstRefIdeal.main_arg2) = m ((c.tc : Thread Cert.AdalnFirstRefIdeal.nD Cert.AdalnFirstRefIdeal.τ).loc Cert.AdalnFirstRefIdeal.main_arg2)
      ∧ r.2.mem ((c.tc : Thread Cert.AdalnFirstRefIdeal.nD Cert.AdalnFirstRefIdeal.τ).loc Cert.AdalnFirstRefIdeal.main_arg3) = m ((c.tc : Thread Cert.AdalnFirstRefIdeal.nD Cert.AdalnFirstRefIdeal.τ).loc Cert.AdalnFirstRefIdeal.main_arg3)
      ∧ r.2.mem ((c.tc : Thread Cert.AdalnFirstRefIdeal.nD Cert.AdalnFirstRefIdeal.τ).loc Cert.AdalnFirstRefIdeal.main_arg4) = m ((c.tc : Thread Cert.AdalnFirstRefIdeal.nD Cert.AdalnFirstRefIdeal.τ).loc Cert.AdalnFirstRefIdeal.main_arg4)
      ∧ r.2.mem ((c.tc : Thread Cert.AdalnFirstRefIdeal.nD Cert.AdalnFirstRefIdeal.τ).loc Cert.AdalnFirstRefIdeal.main_arg5) = m ((c.tc : Thread Cert.AdalnFirstRefIdeal.nD Cert.AdalnFirstRefIdeal.τ).loc Cert.AdalnFirstRefIdeal.main_arg5))
      ∧ r.2.sem = fun _ => 0)

def quiescent_AdalnFirstRefIdeal_pre_adalnfirst_finite [hAdalnFirstRefIdeal : Cert.AdalnFirstRefIdeal.Facts] [hPre_adalnfirst_finite : Cert.Pre_adalnfirst_finite.Facts] : Prop :=
  ∀ (m : (ℓ : Loc Cert.AdalnFirstRefIdeal.nD Cert.AdalnFirstRefIdeal.τ Cert.AdalnFirstRefIdeal.sig) → Buf (Elt Ideal) ℓ) (g : Dev Cert.AdalnFirstRefIdeal.nD → PrngReg), Pre_AdalnFirstRefIdeal_adalnfirst_finite m →
    θ_run (Cert.AdalnFirstRefIdeal.defs (F := Ideal)) (onTc (τ := Cert.AdalnFirstRefIdeal.τ) (Cert.AdalnFirstRefIdeal.main (F := Ideal))) ⟨m, fun _ => 0, g⟩ (fun r => (∀ c : Dev Cert.AdalnFirstRefIdeal.nD,
      r.2.mem ((c.tc : Thread Cert.AdalnFirstRefIdeal.nD Cert.AdalnFirstRefIdeal.τ).loc Cert.AdalnFirstRefIdeal.main_arg0) = m ((c.tc : Thread Cert.AdalnFirstRefIdeal.nD Cert.AdalnFirstRefIdeal.τ).loc Cert.AdalnFirstRefIdeal.main_arg0)
      ∧ r.2.mem ((c.tc : Thread Cert.AdalnFirstRefIdeal.nD Cert.AdalnFirstRefIdeal.τ).loc Cert.AdalnFirstRefIdeal.main_arg1) = m ((c.tc : Thread Cert.AdalnFirstRefIdeal.nD Cert.AdalnFirstRefIdeal.τ).loc Cert.AdalnFirstRefIdeal.main_arg1)
      ∧ r.2.mem ((c.tc : Thread Cert.AdalnFirstRefIdeal.nD Cert.AdalnFirstRefIdeal.τ).loc Cert.AdalnFirstRefIdeal.main_arg2) = m ((c.tc : Thread Cert.AdalnFirstRefIdeal.nD Cert.AdalnFirstRefIdeal.τ).loc Cert.AdalnFirstRefIdeal.main_arg2)
      ∧ r.2.mem ((c.tc : Thread Cert.AdalnFirstRefIdeal.nD Cert.AdalnFirstRefIdeal.τ).loc Cert.AdalnFirstRefIdeal.main_arg3) = m ((c.tc : Thread Cert.AdalnFirstRefIdeal.nD Cert.AdalnFirstRefIdeal.τ).loc Cert.AdalnFirstRefIdeal.main_arg3)
      ∧ r.2.mem ((c.tc : Thread Cert.AdalnFirstRefIdeal.nD Cert.AdalnFirstRefIdeal.τ).loc Cert.AdalnFirstRefIdeal.main_arg4) = m ((c.tc : Thread Cert.AdalnFirstRefIdeal.nD Cert.AdalnFirstRefIdeal.τ).loc Cert.AdalnFirstRefIdeal.main_arg4)
      ∧ r.2.mem ((c.tc : Thread Cert.AdalnFirstRefIdeal.nD Cert.AdalnFirstRefIdeal.τ).loc Cert.AdalnFirstRefIdeal.main_arg5) = m ((c.tc : Thread Cert.AdalnFirstRefIdeal.nD Cert.AdalnFirstRefIdeal.τ).loc Cert.AdalnFirstRefIdeal.main_arg5))
      ∧ r.2.sem = fun _ => 0)

def quiescent_SsmPost [hSsmPost : Cert.SsmPost.Facts] : Prop :=
  ∀ (m : (ℓ : Loc Cert.SsmPost.nD Cert.SsmPost.τ Cert.SsmPost.sig) → Buf (Elt Bits) ℓ) (g : Dev Cert.SsmPost.nD → PrngReg), Pre_SsmPost m →
    θ_run (Cert.SsmPost.defs (F := Bits)) (onTc (τ := Cert.SsmPost.τ) (Cert.SsmPost.main (F := Bits))) ⟨m, fun _ => 0, g⟩ (fun r => (∀ c : Dev Cert.SsmPost.nD,
      r.2.mem ((c.tc : Thread Cert.SsmPost.nD Cert.SsmPost.τ).loc Cert.SsmPost.main_arg0) = m ((c.tc : Thread Cert.SsmPost.nD Cert.SsmPost.τ).loc Cert.SsmPost.main_arg0)
      ∧ r.2.mem ((c.tc : Thread Cert.SsmPost.nD Cert.SsmPost.τ).loc Cert.SsmPost.main_arg1) = m ((c.tc : Thread Cert.SsmPost.nD Cert.SsmPost.τ).loc Cert.SsmPost.main_arg1)
      ∧ r.2.mem ((c.tc : Thread Cert.SsmPost.nD Cert.SsmPost.τ).loc Cert.SsmPost.main_arg2) = m ((c.tc : Thread Cert.SsmPost.nD Cert.SsmPost.τ).loc Cert.SsmPost.main_arg2)
      ∧ r.2.mem ((c.tc : Thread Cert.SsmPost.nD Cert.SsmPost.τ).loc Cert.SsmPost.main_arg3) = m ((c.tc : Thread Cert.SsmPost.nD Cert.SsmPost.τ).loc Cert.SsmPost.main_arg3)
      ∧ r.2.mem ((c.tc : Thread Cert.SsmPost.nD Cert.SsmPost.τ).loc Cert.SsmPost.main_arg4) = m ((c.tc : Thread Cert.SsmPost.nD Cert.SsmPost.τ).loc Cert.SsmPost.main_arg4)
      ∧ r.2.mem ((c.tc : Thread Cert.SsmPost.nD Cert.SsmPost.τ).loc Cert.SsmPost.main_arg5) = m ((c.tc : Thread Cert.SsmPost.nD Cert.SsmPost.τ).loc Cert.SsmPost.main_arg5))
      ∧ r.2.sem = fun _ => 0)

def quiescent_SsmPostIdeal [hSsmPostIdeal : Cert.SsmPostIdeal.Facts] : Prop :=
  ∀ (m : (ℓ : Loc Cert.SsmPostIdeal.nD Cert.SsmPostIdeal.τ Cert.SsmPostIdeal.sig) → Buf (Elt Ideal) ℓ) (g : Dev Cert.SsmPostIdeal.nD → PrngReg), Pre_SsmPostIdeal m →
    θ_run (Cert.SsmPostIdeal.defs (F := Ideal)) (onTc (τ := Cert.SsmPostIdeal.τ) (Cert.SsmPostIdeal.main (F := Ideal))) ⟨m, fun _ => 0, g⟩ (fun r => (∀ c : Dev Cert.SsmPostIdeal.nD,
      r.2.mem ((c.tc : Thread Cert.SsmPostIdeal.nD Cert.SsmPostIdeal.τ).loc Cert.SsmPostIdeal.main_arg0) = m ((c.tc : Thread Cert.SsmPostIdeal.nD Cert.SsmPostIdeal.τ).loc Cert.SsmPostIdeal.main_arg0)
      ∧ r.2.mem ((c.tc : Thread Cert.SsmPostIdeal.nD Cert.SsmPostIdeal.τ).loc Cert.SsmPostIdeal.main_arg1) = m ((c.tc : Thread Cert.SsmPostIdeal.nD Cert.SsmPostIdeal.τ).loc Cert.SsmPostIdeal.main_arg1)
      ∧ r.2.mem ((c.tc : Thread Cert.SsmPostIdeal.nD Cert.SsmPostIdeal.τ).loc Cert.SsmPostIdeal.main_arg2) = m ((c.tc : Thread Cert.SsmPostIdeal.nD Cert.SsmPostIdeal.τ).loc Cert.SsmPostIdeal.main_arg2)
      ∧ r.2.mem ((c.tc : Thread Cert.SsmPostIdeal.nD Cert.SsmPostIdeal.τ).loc Cert.SsmPostIdeal.main_arg3) = m ((c.tc : Thread Cert.SsmPostIdeal.nD Cert.SsmPostIdeal.τ).loc Cert.SsmPostIdeal.main_arg3)
      ∧ r.2.mem ((c.tc : Thread Cert.SsmPostIdeal.nD Cert.SsmPostIdeal.τ).loc Cert.SsmPostIdeal.main_arg4) = m ((c.tc : Thread Cert.SsmPostIdeal.nD Cert.SsmPostIdeal.τ).loc Cert.SsmPostIdeal.main_arg4)
      ∧ r.2.mem ((c.tc : Thread Cert.SsmPostIdeal.nD Cert.SsmPostIdeal.τ).loc Cert.SsmPostIdeal.main_arg5) = m ((c.tc : Thread Cert.SsmPostIdeal.nD Cert.SsmPostIdeal.τ).loc Cert.SsmPostIdeal.main_arg5))
      ∧ r.2.sem = fun _ => 0)

def quiescent_SsmPostIdeal_pre_ssmpost_finite [hSsmPostIdeal : Cert.SsmPostIdeal.Facts] [hPre_ssmpost_finite : Cert.Pre_ssmpost_finite.Facts] : Prop :=
  ∀ (m : (ℓ : Loc Cert.SsmPostIdeal.nD Cert.SsmPostIdeal.τ Cert.SsmPostIdeal.sig) → Buf (Elt Ideal) ℓ) (g : Dev Cert.SsmPostIdeal.nD → PrngReg), Pre_SsmPostIdeal_ssmpost_finite m →
    θ_run (Cert.SsmPostIdeal.defs (F := Ideal)) (onTc (τ := Cert.SsmPostIdeal.τ) (Cert.SsmPostIdeal.main (F := Ideal))) ⟨m, fun _ => 0, g⟩ (fun r => (∀ c : Dev Cert.SsmPostIdeal.nD,
      r.2.mem ((c.tc : Thread Cert.SsmPostIdeal.nD Cert.SsmPostIdeal.τ).loc Cert.SsmPostIdeal.main_arg0) = m ((c.tc : Thread Cert.SsmPostIdeal.nD Cert.SsmPostIdeal.τ).loc Cert.SsmPostIdeal.main_arg0)
      ∧ r.2.mem ((c.tc : Thread Cert.SsmPostIdeal.nD Cert.SsmPostIdeal.τ).loc Cert.SsmPostIdeal.main_arg1) = m ((c.tc : Thread Cert.SsmPostIdeal.nD Cert.SsmPostIdeal.τ).loc Cert.SsmPostIdeal.main_arg1)
      ∧ r.2.mem ((c.tc : Thread Cert.SsmPostIdeal.nD Cert.SsmPostIdeal.τ).loc Cert.SsmPostIdeal.main_arg2) = m ((c.tc : Thread Cert.SsmPostIdeal.nD Cert.SsmPostIdeal.τ).loc Cert.SsmPostIdeal.main_arg2)
      ∧ r.2.mem ((c.tc : Thread Cert.SsmPostIdeal.nD Cert.SsmPostIdeal.τ).loc Cert.SsmPostIdeal.main_arg3) = m ((c.tc : Thread Cert.SsmPostIdeal.nD Cert.SsmPostIdeal.τ).loc Cert.SsmPostIdeal.main_arg3)
      ∧ r.2.mem ((c.tc : Thread Cert.SsmPostIdeal.nD Cert.SsmPostIdeal.τ).loc Cert.SsmPostIdeal.main_arg4) = m ((c.tc : Thread Cert.SsmPostIdeal.nD Cert.SsmPostIdeal.τ).loc Cert.SsmPostIdeal.main_arg4)
      ∧ r.2.mem ((c.tc : Thread Cert.SsmPostIdeal.nD Cert.SsmPostIdeal.τ).loc Cert.SsmPostIdeal.main_arg5) = m ((c.tc : Thread Cert.SsmPostIdeal.nD Cert.SsmPostIdeal.τ).loc Cert.SsmPostIdeal.main_arg5))
      ∧ r.2.sem = fun _ => 0)

def quiescent_SsmPostRefIdeal [hSsmPostRefIdeal : Cert.SsmPostRefIdeal.Facts] : Prop :=
  ∀ (m : (ℓ : Loc Cert.SsmPostRefIdeal.nD Cert.SsmPostRefIdeal.τ Cert.SsmPostRefIdeal.sig) → Buf (Elt Ideal) ℓ) (g : Dev Cert.SsmPostRefIdeal.nD → PrngReg), Pre_SsmPostRefIdeal m →
    θ_run (Cert.SsmPostRefIdeal.defs (F := Ideal)) (onTc (τ := Cert.SsmPostRefIdeal.τ) (Cert.SsmPostRefIdeal.main (F := Ideal))) ⟨m, fun _ => 0, g⟩ (fun r => (∀ c : Dev Cert.SsmPostRefIdeal.nD,
      r.2.mem ((c.tc : Thread Cert.SsmPostRefIdeal.nD Cert.SsmPostRefIdeal.τ).loc Cert.SsmPostRefIdeal.main_arg0) = m ((c.tc : Thread Cert.SsmPostRefIdeal.nD Cert.SsmPostRefIdeal.τ).loc Cert.SsmPostRefIdeal.main_arg0)
      ∧ r.2.mem ((c.tc : Thread Cert.SsmPostRefIdeal.nD Cert.SsmPostRefIdeal.τ).loc Cert.SsmPostRefIdeal.main_arg1) = m ((c.tc : Thread Cert.SsmPostRefIdeal.nD Cert.SsmPostRefIdeal.τ).loc Cert.SsmPostRefIdeal.main_arg1)
      ∧ r.2.mem ((c.tc : Thread Cert.SsmPostRefIdeal.nD Cert.SsmPostRefIdeal.τ).loc Cert.SsmPostRefIdeal.main_arg2) = m ((c.tc : Thread Cert.SsmPostRefIdeal.nD Cert.SsmPostRefIdeal.τ).loc Cert.SsmPostRefIdeal.main_arg2)
      ∧ r.2.mem ((c.tc : Thread Cert.SsmPostRefIdeal.nD Cert.SsmPostRefIdeal.τ).loc Cert.SsmPostRefIdeal.main_arg3) = m ((c.tc : Thread Cert.SsmPostRefIdeal.nD Cert.SsmPostRefIdeal.τ).loc Cert.SsmPostRefIdeal.main_arg3)
      ∧ r.2.mem ((c.tc : Thread Cert.SsmPostRefIdeal.nD Cert.SsmPostRefIdeal.τ).loc Cert.SsmPostRefIdeal.main_arg4) = m ((c.tc : Thread Cert.SsmPostRefIdeal.nD Cert.SsmPostRefIdeal.τ).loc Cert.SsmPostRefIdeal.main_arg4)
      ∧ r.2.mem ((c.tc : Thread Cert.SsmPostRefIdeal.nD Cert.SsmPostRefIdeal.τ).loc Cert.SsmPostRefIdeal.main_arg5) = m ((c.tc : Thread Cert.SsmPostRefIdeal.nD Cert.SsmPostRefIdeal.τ).loc Cert.SsmPostRefIdeal.main_arg5))
      ∧ r.2.sem = fun _ => 0)

def quiescent_SsmPostRefIdeal_pre_ssmpost_finite [hSsmPostRefIdeal : Cert.SsmPostRefIdeal.Facts] [hPre_ssmpost_finite : Cert.Pre_ssmpost_finite.Facts] : Prop :=
  ∀ (m : (ℓ : Loc Cert.SsmPostRefIdeal.nD Cert.SsmPostRefIdeal.τ Cert.SsmPostRefIdeal.sig) → Buf (Elt Ideal) ℓ) (g : Dev Cert.SsmPostRefIdeal.nD → PrngReg), Pre_SsmPostRefIdeal_ssmpost_finite m →
    θ_run (Cert.SsmPostRefIdeal.defs (F := Ideal)) (onTc (τ := Cert.SsmPostRefIdeal.τ) (Cert.SsmPostRefIdeal.main (F := Ideal))) ⟨m, fun _ => 0, g⟩ (fun r => (∀ c : Dev Cert.SsmPostRefIdeal.nD,
      r.2.mem ((c.tc : Thread Cert.SsmPostRefIdeal.nD Cert.SsmPostRefIdeal.τ).loc Cert.SsmPostRefIdeal.main_arg0) = m ((c.tc : Thread Cert.SsmPostRefIdeal.nD Cert.SsmPostRefIdeal.τ).loc Cert.SsmPostRefIdeal.main_arg0)
      ∧ r.2.mem ((c.tc : Thread Cert.SsmPostRefIdeal.nD Cert.SsmPostRefIdeal.τ).loc Cert.SsmPostRefIdeal.main_arg1) = m ((c.tc : Thread Cert.SsmPostRefIdeal.nD Cert.SsmPostRefIdeal.τ).loc Cert.SsmPostRefIdeal.main_arg1)
      ∧ r.2.mem ((c.tc : Thread Cert.SsmPostRefIdeal.nD Cert.SsmPostRefIdeal.τ).loc Cert.SsmPostRefIdeal.main_arg2) = m ((c.tc : Thread Cert.SsmPostRefIdeal.nD Cert.SsmPostRefIdeal.τ).loc Cert.SsmPostRefIdeal.main_arg2)
      ∧ r.2.mem ((c.tc : Thread Cert.SsmPostRefIdeal.nD Cert.SsmPostRefIdeal.τ).loc Cert.SsmPostRefIdeal.main_arg3) = m ((c.tc : Thread Cert.SsmPostRefIdeal.nD Cert.SsmPostRefIdeal.τ).loc Cert.SsmPostRefIdeal.main_arg3)
      ∧ r.2.mem ((c.tc : Thread Cert.SsmPostRefIdeal.nD Cert.SsmPostRefIdeal.τ).loc Cert.SsmPostRefIdeal.main_arg4) = m ((c.tc : Thread Cert.SsmPostRefIdeal.nD Cert.SsmPostRefIdeal.τ).loc Cert.SsmPostRefIdeal.main_arg4)
      ∧ r.2.mem ((c.tc : Thread Cert.SsmPostRefIdeal.nD Cert.SsmPostRefIdeal.τ).loc Cert.SsmPostRefIdeal.main_arg5) = m ((c.tc : Thread Cert.SsmPostRefIdeal.nD Cert.SsmPostRefIdeal.τ).loc Cert.SsmPostRefIdeal.main_arg5))
      ∧ r.2.sem = fun _ => 0)

def quiescent_SwiGlu [hSwiGlu : Cert.SwiGlu.Facts] : Prop :=
  ∀ (m : (ℓ : Loc Cert.SwiGlu.nD Cert.SwiGlu.τ Cert.SwiGlu.sig) → Buf (Elt Bits) ℓ) (g : Dev Cert.SwiGlu.nD → PrngReg), Pre_SwiGlu m →
    θ_run (Cert.SwiGlu.defs (F := Bits)) (onTc (τ := Cert.SwiGlu.τ) (Cert.SwiGlu.main (F := Bits))) ⟨m, fun _ => 0, g⟩ (fun r => (∀ c : Dev Cert.SwiGlu.nD,
      r.2.mem ((c.tc : Thread Cert.SwiGlu.nD Cert.SwiGlu.τ).loc Cert.SwiGlu.main_arg0) = m ((c.tc : Thread Cert.SwiGlu.nD Cert.SwiGlu.τ).loc Cert.SwiGlu.main_arg0)
      ∧ r.2.mem ((c.tc : Thread Cert.SwiGlu.nD Cert.SwiGlu.τ).loc Cert.SwiGlu.main_arg1) = m ((c.tc : Thread Cert.SwiGlu.nD Cert.SwiGlu.τ).loc Cert.SwiGlu.main_arg1)
      ∧ r.2.mem ((c.tc : Thread Cert.SwiGlu.nD Cert.SwiGlu.τ).loc Cert.SwiGlu.main_arg2) = m ((c.tc : Thread Cert.SwiGlu.nD Cert.SwiGlu.τ).loc Cert.SwiGlu.main_arg2))
      ∧ r.2.sem = fun _ => 0)

def quiescent_SwiGluIdeal [hSwiGluIdeal : Cert.SwiGluIdeal.Facts] : Prop :=
  ∀ (m : (ℓ : Loc Cert.SwiGluIdeal.nD Cert.SwiGluIdeal.τ Cert.SwiGluIdeal.sig) → Buf (Elt Ideal) ℓ) (g : Dev Cert.SwiGluIdeal.nD → PrngReg), Pre_SwiGluIdeal m →
    θ_run (Cert.SwiGluIdeal.defs (F := Ideal)) (onTc (τ := Cert.SwiGluIdeal.τ) (Cert.SwiGluIdeal.main (F := Ideal))) ⟨m, fun _ => 0, g⟩ (fun r => (∀ c : Dev Cert.SwiGluIdeal.nD,
      r.2.mem ((c.tc : Thread Cert.SwiGluIdeal.nD Cert.SwiGluIdeal.τ).loc Cert.SwiGluIdeal.main_arg0) = m ((c.tc : Thread Cert.SwiGluIdeal.nD Cert.SwiGluIdeal.τ).loc Cert.SwiGluIdeal.main_arg0)
      ∧ r.2.mem ((c.tc : Thread Cert.SwiGluIdeal.nD Cert.SwiGluIdeal.τ).loc Cert.SwiGluIdeal.main_arg1) = m ((c.tc : Thread Cert.SwiGluIdeal.nD Cert.SwiGluIdeal.τ).loc Cert.SwiGluIdeal.main_arg1)
      ∧ r.2.mem ((c.tc : Thread Cert.SwiGluIdeal.nD Cert.SwiGluIdeal.τ).loc Cert.SwiGluIdeal.main_arg2) = m ((c.tc : Thread Cert.SwiGluIdeal.nD Cert.SwiGluIdeal.τ).loc Cert.SwiGluIdeal.main_arg2))
      ∧ r.2.sem = fun _ => 0)

def quiescent_SwiGluIdeal_pre_swiglu_finite [hSwiGluIdeal : Cert.SwiGluIdeal.Facts] [hPre_swiglu_finite : Cert.Pre_swiglu_finite.Facts] : Prop :=
  ∀ (m : (ℓ : Loc Cert.SwiGluIdeal.nD Cert.SwiGluIdeal.τ Cert.SwiGluIdeal.sig) → Buf (Elt Ideal) ℓ) (g : Dev Cert.SwiGluIdeal.nD → PrngReg), Pre_SwiGluIdeal_swiglu_finite m →
    θ_run (Cert.SwiGluIdeal.defs (F := Ideal)) (onTc (τ := Cert.SwiGluIdeal.τ) (Cert.SwiGluIdeal.main (F := Ideal))) ⟨m, fun _ => 0, g⟩ (fun r => (∀ c : Dev Cert.SwiGluIdeal.nD,
      r.2.mem ((c.tc : Thread Cert.SwiGluIdeal.nD Cert.SwiGluIdeal.τ).loc Cert.SwiGluIdeal.main_arg0) = m ((c.tc : Thread Cert.SwiGluIdeal.nD Cert.SwiGluIdeal.τ).loc Cert.SwiGluIdeal.main_arg0)
      ∧ r.2.mem ((c.tc : Thread Cert.SwiGluIdeal.nD Cert.SwiGluIdeal.τ).loc Cert.SwiGluIdeal.main_arg1) = m ((c.tc : Thread Cert.SwiGluIdeal.nD Cert.SwiGluIdeal.τ).loc Cert.SwiGluIdeal.main_arg1)
      ∧ r.2.mem ((c.tc : Thread Cert.SwiGluIdeal.nD Cert.SwiGluIdeal.τ).loc Cert.SwiGluIdeal.main_arg2) = m ((c.tc : Thread Cert.SwiGluIdeal.nD Cert.SwiGluIdeal.τ).loc Cert.SwiGluIdeal.main_arg2))
      ∧ r.2.sem = fun _ => 0)

def quiescent_SwiGluRefIdeal [hSwiGluRefIdeal : Cert.SwiGluRefIdeal.Facts] : Prop :=
  ∀ (m : (ℓ : Loc Cert.SwiGluRefIdeal.nD Cert.SwiGluRefIdeal.τ Cert.SwiGluRefIdeal.sig) → Buf (Elt Ideal) ℓ) (g : Dev Cert.SwiGluRefIdeal.nD → PrngReg), Pre_SwiGluRefIdeal m →
    θ_run (Cert.SwiGluRefIdeal.defs (F := Ideal)) (onTc (τ := Cert.SwiGluRefIdeal.τ) (Cert.SwiGluRefIdeal.main (F := Ideal))) ⟨m, fun _ => 0, g⟩ (fun r => (∀ c : Dev Cert.SwiGluRefIdeal.nD,
      r.2.mem ((c.tc : Thread Cert.SwiGluRefIdeal.nD Cert.SwiGluRefIdeal.τ).loc Cert.SwiGluRefIdeal.main_arg0) = m ((c.tc : Thread Cert.SwiGluRefIdeal.nD Cert.SwiGluRefIdeal.τ).loc Cert.SwiGluRefIdeal.main_arg0)
      ∧ r.2.mem ((c.tc : Thread Cert.SwiGluRefIdeal.nD Cert.SwiGluRefIdeal.τ).loc Cert.SwiGluRefIdeal.main_arg1) = m ((c.tc : Thread Cert.SwiGluRefIdeal.nD Cert.SwiGluRefIdeal.τ).loc Cert.SwiGluRefIdeal.main_arg1)
      ∧ r.2.mem ((c.tc : Thread Cert.SwiGluRefIdeal.nD Cert.SwiGluRefIdeal.τ).loc Cert.SwiGluRefIdeal.main_arg2) = m ((c.tc : Thread Cert.SwiGluRefIdeal.nD Cert.SwiGluRefIdeal.τ).loc Cert.SwiGluRefIdeal.main_arg2))
      ∧ r.2.sem = fun _ => 0)

def quiescent_SwiGluRefIdeal_pre_swiglu_finite [hSwiGluRefIdeal : Cert.SwiGluRefIdeal.Facts] [hPre_swiglu_finite : Cert.Pre_swiglu_finite.Facts] : Prop :=
  ∀ (m : (ℓ : Loc Cert.SwiGluRefIdeal.nD Cert.SwiGluRefIdeal.τ Cert.SwiGluRefIdeal.sig) → Buf (Elt Ideal) ℓ) (g : Dev Cert.SwiGluRefIdeal.nD → PrngReg), Pre_SwiGluRefIdeal_swiglu_finite m →
    θ_run (Cert.SwiGluRefIdeal.defs (F := Ideal)) (onTc (τ := Cert.SwiGluRefIdeal.τ) (Cert.SwiGluRefIdeal.main (F := Ideal))) ⟨m, fun _ => 0, g⟩ (fun r => (∀ c : Dev Cert.SwiGluRefIdeal.nD,
      r.2.mem ((c.tc : Thread Cert.SwiGluRefIdeal.nD Cert.SwiGluRefIdeal.τ).loc Cert.SwiGluRefIdeal.main_arg0) = m ((c.tc : Thread Cert.SwiGluRefIdeal.nD Cert.SwiGluRefIdeal.τ).loc Cert.SwiGluRefIdeal.main_arg0)
      ∧ r.2.mem ((c.tc : Thread Cert.SwiGluRefIdeal.nD Cert.SwiGluRefIdeal.τ).loc Cert.SwiGluRefIdeal.main_arg1) = m ((c.tc : Thread Cert.SwiGluRefIdeal.nD Cert.SwiGluRefIdeal.τ).loc Cert.SwiGluRefIdeal.main_arg1)
      ∧ r.2.mem ((c.tc : Thread Cert.SwiGluRefIdeal.nD Cert.SwiGluRefIdeal.τ).loc Cert.SwiGluRefIdeal.main_arg2) = m ((c.tc : Thread Cert.SwiGluRefIdeal.nD Cert.SwiGluRefIdeal.τ).loc Cert.SwiGluRefIdeal.main_arg2))
      ∧ r.2.sem = fun _ => 0)

def quiescent_Sticks [hSticks : Cert.Sticks.Facts] : Prop :=
  ∀ (m : (ℓ : Loc Cert.Sticks.nD Cert.Sticks.τ Cert.Sticks.sig) → Buf (Elt Bits) ℓ) (g : Dev Cert.Sticks.nD → PrngReg), Pre_Sticks m →
    θ_run (Cert.Sticks.defs (F := Bits)) (onTc (τ := Cert.Sticks.τ) (Cert.Sticks.main (F := Bits))) ⟨m, fun _ => 0, g⟩ (fun r => (∀ c : Dev Cert.Sticks.nD,
      r.2.mem ((c.tc : Thread Cert.Sticks.nD Cert.Sticks.τ).loc Cert.Sticks.main_arg0) = m ((c.tc : Thread Cert.Sticks.nD Cert.Sticks.τ).loc Cert.Sticks.main_arg0))
      ∧ r.2.sem = fun _ => 0)

def quiescent_SticksIdeal [hSticksIdeal : Cert.SticksIdeal.Facts] : Prop :=
  ∀ (m : (ℓ : Loc Cert.SticksIdeal.nD Cert.SticksIdeal.τ Cert.SticksIdeal.sig) → Buf (Elt Ideal) ℓ) (g : Dev Cert.SticksIdeal.nD → PrngReg), Pre_SticksIdeal m →
    θ_run (Cert.SticksIdeal.defs (F := Ideal)) (onTc (τ := Cert.SticksIdeal.τ) (Cert.SticksIdeal.main (F := Ideal))) ⟨m, fun _ => 0, g⟩ (fun r => (∀ c : Dev Cert.SticksIdeal.nD,
      r.2.mem ((c.tc : Thread Cert.SticksIdeal.nD Cert.SticksIdeal.τ).loc Cert.SticksIdeal.main_arg0) = m ((c.tc : Thread Cert.SticksIdeal.nD Cert.SticksIdeal.τ).loc Cert.SticksIdeal.main_arg0))
      ∧ r.2.sem = fun _ => 0)

def quiescent_SticksIdeal_pre_sticks_finite [hSticksIdeal : Cert.SticksIdeal.Facts] [hPre_sticks_finite : Cert.Pre_sticks_finite.Facts] : Prop :=
  ∀ (m : (ℓ : Loc Cert.SticksIdeal.nD Cert.SticksIdeal.τ Cert.SticksIdeal.sig) → Buf (Elt Ideal) ℓ) (g : Dev Cert.SticksIdeal.nD → PrngReg), Pre_SticksIdeal_sticks_finite m →
    θ_run (Cert.SticksIdeal.defs (F := Ideal)) (onTc (τ := Cert.SticksIdeal.τ) (Cert.SticksIdeal.main (F := Ideal))) ⟨m, fun _ => 0, g⟩ (fun r => (∀ c : Dev Cert.SticksIdeal.nD,
      r.2.mem ((c.tc : Thread Cert.SticksIdeal.nD Cert.SticksIdeal.τ).loc Cert.SticksIdeal.main_arg0) = m ((c.tc : Thread Cert.SticksIdeal.nD Cert.SticksIdeal.τ).loc Cert.SticksIdeal.main_arg0))
      ∧ r.2.sem = fun _ => 0)

def quiescent_SticksRefIdeal [hSticksRefIdeal : Cert.SticksRefIdeal.Facts] : Prop :=
  ∀ (m : (ℓ : Loc Cert.SticksRefIdeal.nD Cert.SticksRefIdeal.τ Cert.SticksRefIdeal.sig) → Buf (Elt Ideal) ℓ) (g : Dev Cert.SticksRefIdeal.nD → PrngReg), Pre_SticksRefIdeal m →
    θ_run (Cert.SticksRefIdeal.defs (F := Ideal)) (onTc (τ := Cert.SticksRefIdeal.τ) (Cert.SticksRefIdeal.main (F := Ideal))) ⟨m, fun _ => 0, g⟩ (fun r => (∀ c : Dev Cert.SticksRefIdeal.nD,
      r.2.mem ((c.tc : Thread Cert.SticksRefIdeal.nD Cert.SticksRefIdeal.τ).loc Cert.SticksRefIdeal.main_arg0) = m ((c.tc : Thread Cert.SticksRefIdeal.nD Cert.SticksRefIdeal.τ).loc Cert.SticksRefIdeal.main_arg0))
      ∧ r.2.sem = fun _ => 0)

def quiescent_SticksRefIdeal_pre_sticks_finite [hSticksRefIdeal : Cert.SticksRefIdeal.Facts] [hPre_sticks_finite : Cert.Pre_sticks_finite.Facts] : Prop :=
  ∀ (m : (ℓ : Loc Cert.SticksRefIdeal.nD Cert.SticksRefIdeal.τ Cert.SticksRefIdeal.sig) → Buf (Elt Ideal) ℓ) (g : Dev Cert.SticksRefIdeal.nD → PrngReg), Pre_SticksRefIdeal_sticks_finite m →
    θ_run (Cert.SticksRefIdeal.defs (F := Ideal)) (onTc (τ := Cert.SticksRefIdeal.τ) (Cert.SticksRefIdeal.main (F := Ideal))) ⟨m, fun _ => 0, g⟩ (fun r => (∀ c : Dev Cert.SticksRefIdeal.nD,
      r.2.mem ((c.tc : Thread Cert.SticksRefIdeal.nD Cert.SticksRefIdeal.τ).loc Cert.SticksRefIdeal.main_arg0) = m ((c.tc : Thread Cert.SticksRefIdeal.nD Cert.SticksRefIdeal.τ).loc Cert.SticksRefIdeal.main_arg0))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7))
      ∧ r.2.sem = fun _ => 0)

def quiescent_Mid [hMid : Cert.Mid.Facts] : Prop :=
  ∀ (m : (ℓ : Loc Cert.Mid.nD Cert.Mid.τ Cert.Mid.sig) → Buf (Elt Bits) ℓ) (g : Dev Cert.Mid.nD → PrngReg), Pre_Mid m →
    θ_run (Cert.Mid.defs (F := Bits)) (onTc (τ := Cert.Mid.τ) (Cert.Mid.main (F := Bits))) ⟨m, fun _ => 0, g⟩ (fun r => (∀ c : Dev Cert.Mid.nD,
      r.2.mem ((c.tc : Thread Cert.Mid.nD Cert.Mid.τ).loc Cert.Mid.main_arg0) = m ((c.tc : Thread Cert.Mid.nD Cert.Mid.τ).loc Cert.Mid.main_arg0)
      ∧ r.2.mem ((c.tc : Thread Cert.Mid.nD Cert.Mid.τ).loc Cert.Mid.main_arg1) = m ((c.tc : Thread Cert.Mid.nD Cert.Mid.τ).loc Cert.Mid.main_arg1)
      ∧ r.2.mem ((c.tc : Thread Cert.Mid.nD Cert.Mid.τ).loc Cert.Mid.main_arg2) = m ((c.tc : Thread Cert.Mid.nD Cert.Mid.τ).loc Cert.Mid.main_arg2)
      ∧ r.2.mem ((c.tc : Thread Cert.Mid.nD Cert.Mid.τ).loc Cert.Mid.main_arg3) = m ((c.tc : Thread Cert.Mid.nD Cert.Mid.τ).loc Cert.Mid.main_arg3)
      ∧ r.2.mem ((c.tc : Thread Cert.Mid.nD Cert.Mid.τ).loc Cert.Mid.main_arg4) = m ((c.tc : Thread Cert.Mid.nD Cert.Mid.τ).loc Cert.Mid.main_arg4)
      ∧ r.2.mem ((c.tc : Thread Cert.Mid.nD Cert.Mid.τ).loc Cert.Mid.main_arg5) = m ((c.tc : Thread Cert.Mid.nD Cert.Mid.τ).loc Cert.Mid.main_arg5)
      ∧ r.2.mem ((c.tc : Thread Cert.Mid.nD Cert.Mid.τ).loc Cert.Mid.main_arg6) = m ((c.tc : Thread Cert.Mid.nD Cert.Mid.τ).loc Cert.Mid.main_arg6)
      ∧ r.2.mem ((c.tc : Thread Cert.Mid.nD Cert.Mid.τ).loc Cert.Mid.main_arg7) = m ((c.tc : Thread Cert.Mid.nD Cert.Mid.τ).loc Cert.Mid.main_arg7)
      ∧ r.2.mem ((c.tc : Thread Cert.Mid.nD Cert.Mid.τ).loc Cert.Mid.main_arg8) = m ((c.tc : Thread Cert.Mid.nD Cert.Mid.τ).loc Cert.Mid.main_arg8))
      ∧ r.2.sem = fun _ => 0)

def quiescent_MidIdeal [hMidIdeal : Cert.MidIdeal.Facts] : Prop :=
  ∀ (m : (ℓ : Loc Cert.MidIdeal.nD Cert.MidIdeal.τ Cert.MidIdeal.sig) → Buf (Elt Ideal) ℓ) (g : Dev Cert.MidIdeal.nD → PrngReg), Pre_MidIdeal m →
    θ_run (Cert.MidIdeal.defs (F := Ideal)) (onTc (τ := Cert.MidIdeal.τ) (Cert.MidIdeal.main (F := Ideal))) ⟨m, fun _ => 0, g⟩ (fun r => (∀ c : Dev Cert.MidIdeal.nD,
      r.2.mem ((c.tc : Thread Cert.MidIdeal.nD Cert.MidIdeal.τ).loc Cert.MidIdeal.main_arg0) = m ((c.tc : Thread Cert.MidIdeal.nD Cert.MidIdeal.τ).loc Cert.MidIdeal.main_arg0)
      ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
      ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
      ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
      ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
      ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
      ∧ r.2.mem ((c.tc : Thread Cert.MidIdeal.nD Cert.MidIdeal.τ).loc Cert.MidIdeal.main_arg6) = m ((c.tc : Thread Cert.MidIdeal.nD Cert.MidIdeal.τ).loc Cert.MidIdeal.main_arg6)
      ∧ r.2.mem ((c.tc : Thread Cert.MidIdeal.nD Cert.MidIdeal.τ).loc Cert.MidIdeal.main_arg7) = m ((c.tc : Thread Cert.MidIdeal.nD Cert.MidIdeal.τ).loc Cert.MidIdeal.main_arg7)
      ∧ r.2.mem ((c.tc : Thread Cert.MidIdeal.nD Cert.MidIdeal.τ).loc Cert.MidIdeal.main_arg8) = m ((c.tc : Thread Cert.MidIdeal.nD Cert.MidIdeal.τ).loc Cert.MidIdeal.main_arg8))
      ∧ r.2.sem = fun _ => 0)

def quiescent_MidIdeal_pre_mid_finite [hMidIdeal : Cert.MidIdeal.Facts] [hPre_mid_finite : Cert.Pre_mid_finite.Facts] : Prop :=
  ∀ (m : (ℓ : Loc Cert.MidIdeal.nD Cert.MidIdeal.τ Cert.MidIdeal.sig) → Buf (Elt Ideal) ℓ) (g : Dev Cert.MidIdeal.nD → PrngReg), Pre_MidIdeal_mid_finite m →
    θ_run (Cert.MidIdeal.defs (F := Ideal)) (onTc (τ := Cert.MidIdeal.τ) (Cert.MidIdeal.main (F := Ideal))) ⟨m, fun _ => 0, g⟩ (fun r => (∀ c : Dev Cert.MidIdeal.nD,
      r.2.mem ((c.tc : Thread Cert.MidIdeal.nD Cert.MidIdeal.τ).loc Cert.MidIdeal.main_arg0) = m ((c.tc : Thread Cert.MidIdeal.nD Cert.MidIdeal.τ).loc Cert.MidIdeal.main_arg0)
      ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
      ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
      ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
      ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
      ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
      ∧ r.2.mem ((c.tc : Thread Cert.MidIdeal.nD Cert.MidIdeal.τ).loc Cert.MidIdeal.main_arg6) = m ((c.tc : Thread Cert.MidIdeal.nD Cert.MidIdeal.τ).loc Cert.MidIdeal.main_arg6)
      ∧ r.2.mem ((c.tc : Thread Cert.MidIdeal.nD Cert.MidIdeal.τ).loc Cert.MidIdeal.main_arg7) = m ((c.tc : Thread Cert.MidIdeal.nD Cert.MidIdeal.τ).loc Cert.MidIdeal.main_arg7)
      ∧ r.2.mem ((c.tc : Thread Cert.MidIdeal.nD Cert.MidIdeal.τ).loc Cert.MidIdeal.main_arg8) = m ((c.tc : Thread Cert.MidIdeal.nD Cert.MidIdeal.τ).loc Cert.MidIdeal.main_arg8))
      ∧ r.2.sem = fun _ => 0)

def quiescent_MidRefIdeal [hMidRefIdeal : Cert.MidRefIdeal.Facts] : Prop :=
  ∀ (m : (ℓ : Loc Cert.MidRefIdeal.nD Cert.MidRefIdeal.τ Cert.MidRefIdeal.sig) → Buf (Elt Ideal) ℓ) (g : Dev Cert.MidRefIdeal.nD → PrngReg), Pre_MidRefIdeal m →
    θ_run (Cert.MidRefIdeal.defs (F := Ideal)) (onTc (τ := Cert.MidRefIdeal.τ) (Cert.MidRefIdeal.main (F := Ideal))) ⟨m, fun _ => 0, g⟩ (fun r => (∀ c : Dev Cert.MidRefIdeal.nD,
      r.2.mem ((c.tc : Thread Cert.MidRefIdeal.nD Cert.MidRefIdeal.τ).loc Cert.MidRefIdeal.main_arg0) = m ((c.tc : Thread Cert.MidRefIdeal.nD Cert.MidRefIdeal.τ).loc Cert.MidRefIdeal.main_arg0)
      ∧ r.2.mem ((c.tc : Thread Cert.MidRefIdeal.nD Cert.MidRefIdeal.τ).loc Cert.MidRefIdeal.main_arg1) = m ((c.tc : Thread Cert.MidRefIdeal.nD Cert.MidRefIdeal.τ).loc Cert.MidRefIdeal.main_arg1)
      ∧ r.2.mem ((c.tc : Thread Cert.MidRefIdeal.nD Cert.MidRefIdeal.τ).loc Cert.MidRefIdeal.main_arg2) = m ((c.tc : Thread Cert.MidRefIdeal.nD Cert.MidRefIdeal.τ).loc Cert.MidRefIdeal.main_arg2)
      ∧ r.2.mem ((c.tc : Thread Cert.MidRefIdeal.nD Cert.MidRefIdeal.τ).loc Cert.MidRefIdeal.main_arg3) = m ((c.tc : Thread Cert.MidRefIdeal.nD Cert.MidRefIdeal.τ).loc Cert.MidRefIdeal.main_arg3)
      ∧ r.2.mem ((c.tc : Thread Cert.MidRefIdeal.nD Cert.MidRefIdeal.τ).loc Cert.MidRefIdeal.main_arg4) = m ((c.tc : Thread Cert.MidRefIdeal.nD Cert.MidRefIdeal.τ).loc Cert.MidRefIdeal.main_arg4)
      ∧ r.2.mem ((c.tc : Thread Cert.MidRefIdeal.nD Cert.MidRefIdeal.τ).loc Cert.MidRefIdeal.main_arg5) = m ((c.tc : Thread Cert.MidRefIdeal.nD Cert.MidRefIdeal.τ).loc Cert.MidRefIdeal.main_arg5)
      ∧ r.2.mem ((c.tc : Thread Cert.MidRefIdeal.nD Cert.MidRefIdeal.τ).loc Cert.MidRefIdeal.main_arg6) = m ((c.tc : Thread Cert.MidRefIdeal.nD Cert.MidRefIdeal.τ).loc Cert.MidRefIdeal.main_arg6)
      ∧ r.2.mem ((c.tc : Thread Cert.MidRefIdeal.nD Cert.MidRefIdeal.τ).loc Cert.MidRefIdeal.main_arg7) = m ((c.tc : Thread Cert.MidRefIdeal.nD Cert.MidRefIdeal.τ).loc Cert.MidRefIdeal.main_arg7)
      ∧ r.2.mem ((c.tc : Thread Cert.MidRefIdeal.nD Cert.MidRefIdeal.τ).loc Cert.MidRefIdeal.main_arg8) = m ((c.tc : Thread Cert.MidRefIdeal.nD Cert.MidRefIdeal.τ).loc Cert.MidRefIdeal.main_arg8))
      ∧ r.2.sem = fun _ => 0)

def quiescent_MidRefIdeal_pre_mid_finite [hMidRefIdeal : Cert.MidRefIdeal.Facts] [hPre_mid_finite : Cert.Pre_mid_finite.Facts] : Prop :=
  ∀ (m : (ℓ : Loc Cert.MidRefIdeal.nD Cert.MidRefIdeal.τ Cert.MidRefIdeal.sig) → Buf (Elt Ideal) ℓ) (g : Dev Cert.MidRefIdeal.nD → PrngReg), Pre_MidRefIdeal_mid_finite m →
    θ_run (Cert.MidRefIdeal.defs (F := Ideal)) (onTc (τ := Cert.MidRefIdeal.τ) (Cert.MidRefIdeal.main (F := Ideal))) ⟨m, fun _ => 0, g⟩ (fun r => (∀ c : Dev Cert.MidRefIdeal.nD,
      r.2.mem ((c.tc : Thread Cert.MidRefIdeal.nD Cert.MidRefIdeal.τ).loc Cert.MidRefIdeal.main_arg0) = m ((c.tc : Thread Cert.MidRefIdeal.nD Cert.MidRefIdeal.τ).loc Cert.MidRefIdeal.main_arg0)
      ∧ r.2.mem ((c.tc : Thread Cert.MidRefIdeal.nD Cert.MidRefIdeal.τ).loc Cert.MidRefIdeal.main_arg1) = m ((c.tc : Thread Cert.MidRefIdeal.nD Cert.MidRefIdeal.τ).loc Cert.MidRefIdeal.main_arg1)
      ∧ r.2.mem ((c.tc : Thread Cert.MidRefIdeal.nD Cert.MidRefIdeal.τ).loc Cert.MidRefIdeal.main_arg2) = m ((c.tc : Thread Cert.MidRefIdeal.nD Cert.MidRefIdeal.τ).loc Cert.MidRefIdeal.main_arg2)
      ∧ r.2.mem ((c.tc : Thread Cert.MidRefIdeal.nD Cert.MidRefIdeal.τ).loc Cert.MidRefIdeal.main_arg3) = m ((c.tc : Thread Cert.MidRefIdeal.nD Cert.MidRefIdeal.τ).loc Cert.MidRefIdeal.main_arg3)
      ∧ r.2.mem ((c.tc : Thread Cert.MidRefIdeal.nD Cert.MidRefIdeal.τ).loc Cert.MidRefIdeal.main_arg4) = m ((c.tc : Thread Cert.MidRefIdeal.nD Cert.MidRefIdeal.τ).loc Cert.MidRefIdeal.main_arg4)
      ∧ r.2.mem ((c.tc : Thread Cert.MidRefIdeal.nD Cert.MidRefIdeal.τ).loc Cert.MidRefIdeal.main_arg5) = m ((c.tc : Thread Cert.MidRefIdeal.nD Cert.MidRefIdeal.τ).loc Cert.MidRefIdeal.main_arg5)
      ∧ r.2.mem ((c.tc : Thread Cert.MidRefIdeal.nD Cert.MidRefIdeal.τ).loc Cert.MidRefIdeal.main_arg6) = m ((c.tc : Thread Cert.MidRefIdeal.nD Cert.MidRefIdeal.τ).loc Cert.MidRefIdeal.main_arg6)
      ∧ r.2.mem ((c.tc : Thread Cert.MidRefIdeal.nD Cert.MidRefIdeal.τ).loc Cert.MidRefIdeal.main_arg7) = m ((c.tc : Thread Cert.MidRefIdeal.nD Cert.MidRefIdeal.τ).loc Cert.MidRefIdeal.main_arg7)
      ∧ r.2.mem ((c.tc : Thread Cert.MidRefIdeal.nD Cert.MidRefIdeal.τ).loc Cert.MidRefIdeal.main_arg8) = m ((c.tc : Thread Cert.MidRefIdeal.nD Cert.MidRefIdeal.τ).loc Cert.MidRefIdeal.main_arg8))
      ∧ r.2.sem = fun _ => 0)

def quiescent_AdalnOut [hAdalnOut : Cert.AdalnOut.Facts] : Prop :=
  ∀ (m : (ℓ : Loc Cert.AdalnOut.nD Cert.AdalnOut.τ Cert.AdalnOut.sig) → Buf (Elt Bits) ℓ) (g : Dev Cert.AdalnOut.nD → PrngReg), Pre_AdalnOut m →
    θ_run (Cert.AdalnOut.defs (F := Bits)) (onTc (τ := Cert.AdalnOut.τ) (Cert.AdalnOut.main (F := Bits))) ⟨m, fun _ => 0, g⟩ (fun r => (∀ c : Dev Cert.AdalnOut.nD,
      r.2.mem ((c.tc : Thread Cert.AdalnOut.nD Cert.AdalnOut.τ).loc Cert.AdalnOut.main_arg0) = m ((c.tc : Thread Cert.AdalnOut.nD Cert.AdalnOut.τ).loc Cert.AdalnOut.main_arg0)
      ∧ r.2.mem ((c.tc : Thread Cert.AdalnOut.nD Cert.AdalnOut.τ).loc Cert.AdalnOut.main_arg1) = m ((c.tc : Thread Cert.AdalnOut.nD Cert.AdalnOut.τ).loc Cert.AdalnOut.main_arg1)
      ∧ r.2.mem ((c.tc : Thread Cert.AdalnOut.nD Cert.AdalnOut.τ).loc Cert.AdalnOut.main_arg2) = m ((c.tc : Thread Cert.AdalnOut.nD Cert.AdalnOut.τ).loc Cert.AdalnOut.main_arg2)
      ∧ r.2.mem ((c.tc : Thread Cert.AdalnOut.nD Cert.AdalnOut.τ).loc Cert.AdalnOut.main_arg3) = m ((c.tc : Thread Cert.AdalnOut.nD Cert.AdalnOut.τ).loc Cert.AdalnOut.main_arg3))
      ∧ r.2.sem = fun _ => 0)

def quiescent_AdalnOutIdeal [hAdalnOutIdeal : Cert.AdalnOutIdeal.Facts] : Prop :=
  ∀ (m : (ℓ : Loc Cert.AdalnOutIdeal.nD Cert.AdalnOutIdeal.τ Cert.AdalnOutIdeal.sig) → Buf (Elt Ideal) ℓ) (g : Dev Cert.AdalnOutIdeal.nD → PrngReg), Pre_AdalnOutIdeal m →
    θ_run (Cert.AdalnOutIdeal.defs (F := Ideal)) (onTc (τ := Cert.AdalnOutIdeal.τ) (Cert.AdalnOutIdeal.main (F := Ideal))) ⟨m, fun _ => 0, g⟩ (fun r => (∀ c : Dev Cert.AdalnOutIdeal.nD,
      r.2.mem ((c.tc : Thread Cert.AdalnOutIdeal.nD Cert.AdalnOutIdeal.τ).loc Cert.AdalnOutIdeal.main_arg0) = m ((c.tc : Thread Cert.AdalnOutIdeal.nD Cert.AdalnOutIdeal.τ).loc Cert.AdalnOutIdeal.main_arg0)
      ∧ r.2.mem ((c.tc : Thread Cert.AdalnOutIdeal.nD Cert.AdalnOutIdeal.τ).loc Cert.AdalnOutIdeal.main_arg1) = m ((c.tc : Thread Cert.AdalnOutIdeal.nD Cert.AdalnOutIdeal.τ).loc Cert.AdalnOutIdeal.main_arg1)
      ∧ r.2.mem ((c.tc : Thread Cert.AdalnOutIdeal.nD Cert.AdalnOutIdeal.τ).loc Cert.AdalnOutIdeal.main_arg2) = m ((c.tc : Thread Cert.AdalnOutIdeal.nD Cert.AdalnOutIdeal.τ).loc Cert.AdalnOutIdeal.main_arg2)
      ∧ r.2.mem ((c.tc : Thread Cert.AdalnOutIdeal.nD Cert.AdalnOutIdeal.τ).loc Cert.AdalnOutIdeal.main_arg3) = m ((c.tc : Thread Cert.AdalnOutIdeal.nD Cert.AdalnOutIdeal.τ).loc Cert.AdalnOutIdeal.main_arg3))
      ∧ r.2.sem = fun _ => 0)

def quiescent_AdalnOutRefIdeal [hAdalnOutRefIdeal : Cert.AdalnOutRefIdeal.Facts] : Prop :=
  ∀ (m : (ℓ : Loc Cert.AdalnOutRefIdeal.nD Cert.AdalnOutRefIdeal.τ Cert.AdalnOutRefIdeal.sig) → Buf (Elt Ideal) ℓ) (g : Dev Cert.AdalnOutRefIdeal.nD → PrngReg), Pre_AdalnOutRefIdeal m →
    θ_run (Cert.AdalnOutRefIdeal.defs (F := Ideal)) (onTc (τ := Cert.AdalnOutRefIdeal.τ) (Cert.AdalnOutRefIdeal.main (F := Ideal))) ⟨m, fun _ => 0, g⟩ (fun r => (∀ c : Dev Cert.AdalnOutRefIdeal.nD,
      r.2.mem ((c.tc : Thread Cert.AdalnOutRefIdeal.nD Cert.AdalnOutRefIdeal.τ).loc Cert.AdalnOutRefIdeal.main_arg0) = m ((c.tc : Thread Cert.AdalnOutRefIdeal.nD Cert.AdalnOutRefIdeal.τ).loc Cert.AdalnOutRefIdeal.main_arg0)
      ∧ r.2.mem ((c.tc : Thread Cert.AdalnOutRefIdeal.nD Cert.AdalnOutRefIdeal.τ).loc Cert.AdalnOutRefIdeal.main_arg1) = m ((c.tc : Thread Cert.AdalnOutRefIdeal.nD Cert.AdalnOutRefIdeal.τ).loc Cert.AdalnOutRefIdeal.main_arg1)
      ∧ r.2.mem ((c.tc : Thread Cert.AdalnOutRefIdeal.nD Cert.AdalnOutRefIdeal.τ).loc Cert.AdalnOutRefIdeal.main_arg2) = m ((c.tc : Thread Cert.AdalnOutRefIdeal.nD Cert.AdalnOutRefIdeal.τ).loc Cert.AdalnOutRefIdeal.main_arg2)
      ∧ r.2.mem ((c.tc : Thread Cert.AdalnOutRefIdeal.nD Cert.AdalnOutRefIdeal.τ).loc Cert.AdalnOutRefIdeal.main_arg3) = m ((c.tc : Thread Cert.AdalnOutRefIdeal.nD Cert.AdalnOutRefIdeal.τ).loc Cert.AdalnOutRefIdeal.main_arg3))
      ∧ r.2.sem = fun _ => 0)

def quiescent_ConvOut [hConvOut : Cert.ConvOut.Facts] : Prop :=
  ∀ (m : (ℓ : Loc Cert.ConvOut.nD Cert.ConvOut.τ Cert.ConvOut.sig) → Buf (Elt Bits) ℓ) (g : Dev Cert.ConvOut.nD → PrngReg), Pre_ConvOut m →
    θ_run (Cert.ConvOut.defs (F := Bits)) (onTc (τ := Cert.ConvOut.τ) (Cert.ConvOut.main (F := Bits))) ⟨m, fun _ => 0, g⟩ (fun r => (∀ c : Dev Cert.ConvOut.nD,
      r.2.mem ((c.tc : Thread Cert.ConvOut.nD Cert.ConvOut.τ).loc Cert.ConvOut.main_arg0) = m ((c.tc : Thread Cert.ConvOut.nD Cert.ConvOut.τ).loc Cert.ConvOut.main_arg0)
      ∧ r.2.mem ((c.tc : Thread Cert.ConvOut.nD Cert.ConvOut.τ).loc Cert.ConvOut.main_arg1) = m ((c.tc : Thread Cert.ConvOut.nD Cert.ConvOut.τ).loc Cert.ConvOut.main_arg1)
      ∧ r.2.mem ((c.tc : Thread Cert.ConvOut.nD Cert.ConvOut.τ).loc Cert.ConvOut.main_arg2) = m ((c.tc : Thread Cert.ConvOut.nD Cert.ConvOut.τ).loc Cert.ConvOut.main_arg2))
      ∧ r.2.sem = fun _ => 0)

def quiescent_ConvOutIdeal [hConvOutIdeal : Cert.ConvOutIdeal.Facts] : Prop :=
  ∀ (m : (ℓ : Loc Cert.ConvOutIdeal.nD Cert.ConvOutIdeal.τ Cert.ConvOutIdeal.sig) → Buf (Elt Ideal) ℓ) (g : Dev Cert.ConvOutIdeal.nD → PrngReg), Pre_ConvOutIdeal m →
    θ_run (Cert.ConvOutIdeal.defs (F := Ideal)) (onTc (τ := Cert.ConvOutIdeal.τ) (Cert.ConvOutIdeal.main (F := Ideal))) ⟨m, fun _ => 0, g⟩ (fun r => (∀ c : Dev Cert.ConvOutIdeal.nD,
      r.2.mem ((c.tc : Thread Cert.ConvOutIdeal.nD Cert.ConvOutIdeal.τ).loc Cert.ConvOutIdeal.main_arg0) = m ((c.tc : Thread Cert.ConvOutIdeal.nD Cert.ConvOutIdeal.τ).loc Cert.ConvOutIdeal.main_arg0)
      ∧ r.2.mem ((c.tc : Thread Cert.ConvOutIdeal.nD Cert.ConvOutIdeal.τ).loc Cert.ConvOutIdeal.main_arg1) = m ((c.tc : Thread Cert.ConvOutIdeal.nD Cert.ConvOutIdeal.τ).loc Cert.ConvOutIdeal.main_arg1)
      ∧ r.2.mem ((c.tc : Thread Cert.ConvOutIdeal.nD Cert.ConvOutIdeal.τ).loc Cert.ConvOutIdeal.main_arg2) = m ((c.tc : Thread Cert.ConvOutIdeal.nD Cert.ConvOutIdeal.τ).loc Cert.ConvOutIdeal.main_arg2))
      ∧ r.2.sem = fun _ => 0)

def quiescent_ConvOutRefIdeal [hConvOutRefIdeal : Cert.ConvOutRefIdeal.Facts] : Prop :=
  ∀ (m : (ℓ : Loc Cert.ConvOutRefIdeal.nD Cert.ConvOutRefIdeal.τ Cert.ConvOutRefIdeal.sig) → Buf (Elt Ideal) ℓ) (g : Dev Cert.ConvOutRefIdeal.nD → PrngReg), Pre_ConvOutRefIdeal m →
    θ_run (Cert.ConvOutRefIdeal.defs (F := Ideal)) (onTc (τ := Cert.ConvOutRefIdeal.τ) (Cert.ConvOutRefIdeal.main (F := Ideal))) ⟨m, fun _ => 0, g⟩ (fun r => (∀ c : Dev Cert.ConvOutRefIdeal.nD,
      r.2.mem ((c.tc : Thread Cert.ConvOutRefIdeal.nD Cert.ConvOutRefIdeal.τ).loc Cert.ConvOutRefIdeal.main_arg0) = m ((c.tc : Thread Cert.ConvOutRefIdeal.nD Cert.ConvOutRefIdeal.τ).loc Cert.ConvOutRefIdeal.main_arg0)
      ∧ r.2.mem ((c.tc : Thread Cert.ConvOutRefIdeal.nD Cert.ConvOutRefIdeal.τ).loc Cert.ConvOutRefIdeal.main_arg1) = m ((c.tc : Thread Cert.ConvOutRefIdeal.nD Cert.ConvOutRefIdeal.τ).loc Cert.ConvOutRefIdeal.main_arg1)
      ∧ r.2.mem ((c.tc : Thread Cert.ConvOutRefIdeal.nD Cert.ConvOutRefIdeal.τ).loc Cert.ConvOutRefIdeal.main_arg2) = m ((c.tc : Thread Cert.ConvOutRefIdeal.nD Cert.ConvOutRefIdeal.τ).loc Cert.ConvOutRefIdeal.main_arg2))
      ∧ r.2.sem = fun _ => 0)

def quiescent_ShortOut [hShortOut : Cert.ShortOut.Facts] : Prop :=
  ∀ (m : (ℓ : Loc Cert.ShortOut.nD Cert.ShortOut.τ Cert.ShortOut.sig) → Buf (Elt Bits) ℓ) (g : Dev Cert.ShortOut.nD → PrngReg), Pre_ShortOut m →
    θ_run (Cert.ShortOut.defs (F := Bits)) (onTc (τ := Cert.ShortOut.τ) (Cert.ShortOut.main (F := Bits))) ⟨m, fun _ => 0, g⟩ (fun r => (∀ c : Dev Cert.ShortOut.nD,
      r.2.mem ((c.tc : Thread Cert.ShortOut.nD Cert.ShortOut.τ).loc Cert.ShortOut.main_arg0) = m ((c.tc : Thread Cert.ShortOut.nD Cert.ShortOut.τ).loc Cert.ShortOut.main_arg0)
      ∧ r.2.mem ((c.tc : Thread Cert.ShortOut.nD Cert.ShortOut.τ).loc Cert.ShortOut.main_arg1) = m ((c.tc : Thread Cert.ShortOut.nD Cert.ShortOut.τ).loc Cert.ShortOut.main_arg1))
      ∧ r.2.sem = fun _ => 0)

def quiescent_ShortOutIdeal [hShortOutIdeal : Cert.ShortOutIdeal.Facts] : Prop :=
  ∀ (m : (ℓ : Loc Cert.ShortOutIdeal.nD Cert.ShortOutIdeal.τ Cert.ShortOutIdeal.sig) → Buf (Elt Ideal) ℓ) (g : Dev Cert.ShortOutIdeal.nD → PrngReg), Pre_ShortOutIdeal m →
    θ_run (Cert.ShortOutIdeal.defs (F := Ideal)) (onTc (τ := Cert.ShortOutIdeal.τ) (Cert.ShortOutIdeal.main (F := Ideal))) ⟨m, fun _ => 0, g⟩ (fun r => (∀ c : Dev Cert.ShortOutIdeal.nD,
      r.2.mem ((c.tc : Thread Cert.ShortOutIdeal.nD Cert.ShortOutIdeal.τ).loc Cert.ShortOutIdeal.main_arg0) = m ((c.tc : Thread Cert.ShortOutIdeal.nD Cert.ShortOutIdeal.τ).loc Cert.ShortOutIdeal.main_arg0)
      ∧ r.2.mem ((c.tc : Thread Cert.ShortOutIdeal.nD Cert.ShortOutIdeal.τ).loc Cert.ShortOutIdeal.main_arg1) = m ((c.tc : Thread Cert.ShortOutIdeal.nD Cert.ShortOutIdeal.τ).loc Cert.ShortOutIdeal.main_arg1))
      ∧ r.2.sem = fun _ => 0)

def quiescent_ShortOutRefIdeal [hShortOutRefIdeal : Cert.ShortOutRefIdeal.Facts] : Prop :=
  ∀ (m : (ℓ : Loc Cert.ShortOutRefIdeal.nD Cert.ShortOutRefIdeal.τ Cert.ShortOutRefIdeal.sig) → Buf (Elt Ideal) ℓ) (g : Dev Cert.ShortOutRefIdeal.nD → PrngReg), Pre_ShortOutRefIdeal m →
    θ_run (Cert.ShortOutRefIdeal.defs (F := Ideal)) (onTc (τ := Cert.ShortOutRefIdeal.τ) (Cert.ShortOutRefIdeal.main (F := Ideal))) ⟨m, fun _ => 0, g⟩ (fun r => (∀ c : Dev Cert.ShortOutRefIdeal.nD,
      r.2.mem ((c.tc : Thread Cert.ShortOutRefIdeal.nD Cert.ShortOutRefIdeal.τ).loc Cert.ShortOutRefIdeal.main_arg0) = m ((c.tc : Thread Cert.ShortOutRefIdeal.nD Cert.ShortOutRefIdeal.τ).loc Cert.ShortOutRefIdeal.main_arg0)
      ∧ r.2.mem ((c.tc : Thread Cert.ShortOutRefIdeal.nD Cert.ShortOutRefIdeal.τ).loc Cert.ShortOutRefIdeal.main_arg1) = m ((c.tc : Thread Cert.ShortOutRefIdeal.nD Cert.ShortOutRefIdeal.τ).loc Cert.ShortOutRefIdeal.main_arg1))
      ∧ r.2.sem = fun _ => 0)

def quiescent_PostOut [hPostOut : Cert.PostOut.Facts] : Prop :=
  ∀ (m : (ℓ : Loc Cert.PostOut.nD Cert.PostOut.τ Cert.PostOut.sig) → Buf (Elt Bits) ℓ) (g : Dev Cert.PostOut.nD → PrngReg), Pre_PostOut m →
    θ_run (Cert.PostOut.defs (F := Bits)) (onTc (τ := Cert.PostOut.τ) (Cert.PostOut.main (F := Bits))) ⟨m, fun _ => 0, g⟩ (fun r => (∀ c : Dev Cert.PostOut.nD,
      r.2.mem ((c.tc : Thread Cert.PostOut.nD Cert.PostOut.τ).loc Cert.PostOut.main_arg0) = m ((c.tc : Thread Cert.PostOut.nD Cert.PostOut.τ).loc Cert.PostOut.main_arg0)
      ∧ r.2.mem ((c.tc : Thread Cert.PostOut.nD Cert.PostOut.τ).loc Cert.PostOut.main_arg1) = m ((c.tc : Thread Cert.PostOut.nD Cert.PostOut.τ).loc Cert.PostOut.main_arg1)
      ∧ r.2.mem ((c.tc : Thread Cert.PostOut.nD Cert.PostOut.τ).loc Cert.PostOut.main_arg2) = m ((c.tc : Thread Cert.PostOut.nD Cert.PostOut.τ).loc Cert.PostOut.main_arg2)
      ∧ r.2.mem ((c.tc : Thread Cert.PostOut.nD Cert.PostOut.τ).loc Cert.PostOut.main_arg3) = m ((c.tc : Thread Cert.PostOut.nD Cert.PostOut.τ).loc Cert.PostOut.main_arg3)
      ∧ r.2.mem ((c.tc : Thread Cert.PostOut.nD Cert.PostOut.τ).loc Cert.PostOut.main_arg4) = m ((c.tc : Thread Cert.PostOut.nD Cert.PostOut.τ).loc Cert.PostOut.main_arg4))
      ∧ r.2.sem = fun _ => 0)

def quiescent_PostOutIdeal [hPostOutIdeal : Cert.PostOutIdeal.Facts] : Prop :=
  ∀ (m : (ℓ : Loc Cert.PostOutIdeal.nD Cert.PostOutIdeal.τ Cert.PostOutIdeal.sig) → Buf (Elt Ideal) ℓ) (g : Dev Cert.PostOutIdeal.nD → PrngReg), Pre_PostOutIdeal m →
    θ_run (Cert.PostOutIdeal.defs (F := Ideal)) (onTc (τ := Cert.PostOutIdeal.τ) (Cert.PostOutIdeal.main (F := Ideal))) ⟨m, fun _ => 0, g⟩ (fun r => (∀ c : Dev Cert.PostOutIdeal.nD,
      r.2.mem ((c.tc : Thread Cert.PostOutIdeal.nD Cert.PostOutIdeal.τ).loc Cert.PostOutIdeal.main_arg0) = m ((c.tc : Thread Cert.PostOutIdeal.nD Cert.PostOutIdeal.τ).loc Cert.PostOutIdeal.main_arg0)
      ∧ r.2.mem ((c.tc : Thread Cert.PostOutIdeal.nD Cert.PostOutIdeal.τ).loc Cert.PostOutIdeal.main_arg1) = m ((c.tc : Thread Cert.PostOutIdeal.nD Cert.PostOutIdeal.τ).loc Cert.PostOutIdeal.main_arg1)
      ∧ r.2.mem ((c.tc : Thread Cert.PostOutIdeal.nD Cert.PostOutIdeal.τ).loc Cert.PostOutIdeal.main_arg2) = m ((c.tc : Thread Cert.PostOutIdeal.nD Cert.PostOutIdeal.τ).loc Cert.PostOutIdeal.main_arg2)
      ∧ r.2.mem ((c.tc : Thread Cert.PostOutIdeal.nD Cert.PostOutIdeal.τ).loc Cert.PostOutIdeal.main_arg3) = m ((c.tc : Thread Cert.PostOutIdeal.nD Cert.PostOutIdeal.τ).loc Cert.PostOutIdeal.main_arg3)
      ∧ r.2.mem ((c.tc : Thread Cert.PostOutIdeal.nD Cert.PostOutIdeal.τ).loc Cert.PostOutIdeal.main_arg4) = m ((c.tc : Thread Cert.PostOutIdeal.nD Cert.PostOutIdeal.τ).loc Cert.PostOutIdeal.main_arg4))
      ∧ r.2.sem = fun _ => 0)

def quiescent_PostOutRefIdeal [hPostOutRefIdeal : Cert.PostOutRefIdeal.Facts] : Prop :=
  ∀ (m : (ℓ : Loc Cert.PostOutRefIdeal.nD Cert.PostOutRefIdeal.τ Cert.PostOutRefIdeal.sig) → Buf (Elt Ideal) ℓ) (g : Dev Cert.PostOutRefIdeal.nD → PrngReg), Pre_PostOutRefIdeal m →
    θ_run (Cert.PostOutRefIdeal.defs (F := Ideal)) (onTc (τ := Cert.PostOutRefIdeal.τ) (Cert.PostOutRefIdeal.main (F := Ideal))) ⟨m, fun _ => 0, g⟩ (fun r => (∀ c : Dev Cert.PostOutRefIdeal.nD,
      r.2.mem ((c.tc : Thread Cert.PostOutRefIdeal.nD Cert.PostOutRefIdeal.τ).loc Cert.PostOutRefIdeal.main_arg0) = m ((c.tc : Thread Cert.PostOutRefIdeal.nD Cert.PostOutRefIdeal.τ).loc Cert.PostOutRefIdeal.main_arg0)
      ∧ r.2.mem ((c.tc : Thread Cert.PostOutRefIdeal.nD Cert.PostOutRefIdeal.τ).loc Cert.PostOutRefIdeal.main_arg1) = m ((c.tc : Thread Cert.PostOutRefIdeal.nD Cert.PostOutRefIdeal.τ).loc Cert.PostOutRefIdeal.main_arg1)
      ∧ r.2.mem ((c.tc : Thread Cert.PostOutRefIdeal.nD Cert.PostOutRefIdeal.τ).loc Cert.PostOutRefIdeal.main_arg2) = m ((c.tc : Thread Cert.PostOutRefIdeal.nD Cert.PostOutRefIdeal.τ).loc Cert.PostOutRefIdeal.main_arg2)
      ∧ r.2.mem ((c.tc : Thread Cert.PostOutRefIdeal.nD Cert.PostOutRefIdeal.τ).loc Cert.PostOutRefIdeal.main_arg3) = m ((c.tc : Thread Cert.PostOutRefIdeal.nD Cert.PostOutRefIdeal.τ).loc Cert.PostOutRefIdeal.main_arg3)
      ∧ r.2.mem ((c.tc : Thread Cert.PostOutRefIdeal.nD Cert.PostOutRefIdeal.τ).loc Cert.PostOutRefIdeal.main_arg4) = m ((c.tc : Thread Cert.PostOutRefIdeal.nD Cert.PostOutRefIdeal.τ).loc Cert.PostOutRefIdeal.main_arg4))
      ∧ r.2.sem = fun _ => 0)

def quiescent_MergeOut [hMergeOut : Cert.MergeOut.Facts] : Prop :=
  ∀ (m : (ℓ : Loc Cert.MergeOut.nD Cert.MergeOut.τ Cert.MergeOut.sig) → Buf (Elt Bits) ℓ) (g : Dev Cert.MergeOut.nD → PrngReg), Pre_MergeOut m →
    θ_run (Cert.MergeOut.defs (F := Bits)) (onTc (τ := Cert.MergeOut.τ) (Cert.MergeOut.main (F := Bits))) ⟨m, fun _ => 0, g⟩ (fun r => (∀ c : Dev Cert.MergeOut.nD,
      r.2.mem ((c.tc : Thread Cert.MergeOut.nD Cert.MergeOut.τ).loc Cert.MergeOut.main_arg0) = m ((c.tc : Thread Cert.MergeOut.nD Cert.MergeOut.τ).loc Cert.MergeOut.main_arg0)
      ∧ r.2.mem ((c.tc : Thread Cert.MergeOut.nD Cert.MergeOut.τ).loc Cert.MergeOut.main_arg1) = m ((c.tc : Thread Cert.MergeOut.nD Cert.MergeOut.τ).loc Cert.MergeOut.main_arg1)
      ∧ r.2.mem ((c.tc : Thread Cert.MergeOut.nD Cert.MergeOut.τ).loc Cert.MergeOut.main_arg2) = m ((c.tc : Thread Cert.MergeOut.nD Cert.MergeOut.τ).loc Cert.MergeOut.main_arg2)
      ∧ r.2.mem ((c.tc : Thread Cert.MergeOut.nD Cert.MergeOut.τ).loc Cert.MergeOut.main_arg3) = m ((c.tc : Thread Cert.MergeOut.nD Cert.MergeOut.τ).loc Cert.MergeOut.main_arg3)
      ∧ r.2.mem ((c.tc : Thread Cert.MergeOut.nD Cert.MergeOut.τ).loc Cert.MergeOut.main_arg4) = m ((c.tc : Thread Cert.MergeOut.nD Cert.MergeOut.τ).loc Cert.MergeOut.main_arg4)
      ∧ r.2.mem ((c.tc : Thread Cert.MergeOut.nD Cert.MergeOut.τ).loc Cert.MergeOut.main_arg5) = m ((c.tc : Thread Cert.MergeOut.nD Cert.MergeOut.τ).loc Cert.MergeOut.main_arg5)
      ∧ r.2.mem ((c.tc : Thread Cert.MergeOut.nD Cert.MergeOut.τ).loc Cert.MergeOut.main_arg6) = m ((c.tc : Thread Cert.MergeOut.nD Cert.MergeOut.τ).loc Cert.MergeOut.main_arg6))
      ∧ r.2.sem = fun _ => 0)

def quiescent_MergeOutIdeal [hMergeOutIdeal : Cert.MergeOutIdeal.Facts] : Prop :=
  ∀ (m : (ℓ : Loc Cert.MergeOutIdeal.nD Cert.MergeOutIdeal.τ Cert.MergeOutIdeal.sig) → Buf (Elt Ideal) ℓ) (g : Dev Cert.MergeOutIdeal.nD → PrngReg), Pre_MergeOutIdeal m →
    θ_run (Cert.MergeOutIdeal.defs (F := Ideal)) (onTc (τ := Cert.MergeOutIdeal.τ) (Cert.MergeOutIdeal.main (F := Ideal))) ⟨m, fun _ => 0, g⟩ (fun r => (∀ c : Dev Cert.MergeOutIdeal.nD,
      r.2.mem ((c.tc : Thread Cert.MergeOutIdeal.nD Cert.MergeOutIdeal.τ).loc Cert.MergeOutIdeal.main_arg0) = m ((c.tc : Thread Cert.MergeOutIdeal.nD Cert.MergeOutIdeal.τ).loc Cert.MergeOutIdeal.main_arg0)
      ∧ r.2.mem ((c.tc : Thread Cert.MergeOutIdeal.nD Cert.MergeOutIdeal.τ).loc Cert.MergeOutIdeal.main_arg1) = m ((c.tc : Thread Cert.MergeOutIdeal.nD Cert.MergeOutIdeal.τ).loc Cert.MergeOutIdeal.main_arg1)
      ∧ r.2.mem ((c.tc : Thread Cert.MergeOutIdeal.nD Cert.MergeOutIdeal.τ).loc Cert.MergeOutIdeal.main_arg2) = m ((c.tc : Thread Cert.MergeOutIdeal.nD Cert.MergeOutIdeal.τ).loc Cert.MergeOutIdeal.main_arg2)
      ∧ r.2.mem ((c.tc : Thread Cert.MergeOutIdeal.nD Cert.MergeOutIdeal.τ).loc Cert.MergeOutIdeal.main_arg3) = m ((c.tc : Thread Cert.MergeOutIdeal.nD Cert.MergeOutIdeal.τ).loc Cert.MergeOutIdeal.main_arg3)
      ∧ r.2.mem ((c.tc : Thread Cert.MergeOutIdeal.nD Cert.MergeOutIdeal.τ).loc Cert.MergeOutIdeal.main_arg4) = m ((c.tc : Thread Cert.MergeOutIdeal.nD Cert.MergeOutIdeal.τ).loc Cert.MergeOutIdeal.main_arg4)
      ∧ r.2.mem ((c.tc : Thread Cert.MergeOutIdeal.nD Cert.MergeOutIdeal.τ).loc Cert.MergeOutIdeal.main_arg5) = m ((c.tc : Thread Cert.MergeOutIdeal.nD Cert.MergeOutIdeal.τ).loc Cert.MergeOutIdeal.main_arg5)
      ∧ r.2.mem ((c.tc : Thread Cert.MergeOutIdeal.nD Cert.MergeOutIdeal.τ).loc Cert.MergeOutIdeal.main_arg6) = m ((c.tc : Thread Cert.MergeOutIdeal.nD Cert.MergeOutIdeal.τ).loc Cert.MergeOutIdeal.main_arg6))
      ∧ r.2.sem = fun _ => 0)

def quiescent_MergeOutRefIdeal [hMergeOutRefIdeal : Cert.MergeOutRefIdeal.Facts] : Prop :=
  ∀ (m : (ℓ : Loc Cert.MergeOutRefIdeal.nD Cert.MergeOutRefIdeal.τ Cert.MergeOutRefIdeal.sig) → Buf (Elt Ideal) ℓ) (g : Dev Cert.MergeOutRefIdeal.nD → PrngReg), Pre_MergeOutRefIdeal m →
    θ_run (Cert.MergeOutRefIdeal.defs (F := Ideal)) (onTc (τ := Cert.MergeOutRefIdeal.τ) (Cert.MergeOutRefIdeal.main (F := Ideal))) ⟨m, fun _ => 0, g⟩ (fun r => (∀ c : Dev Cert.MergeOutRefIdeal.nD,
      r.2.mem ((c.tc : Thread Cert.MergeOutRefIdeal.nD Cert.MergeOutRefIdeal.τ).loc Cert.MergeOutRefIdeal.main_arg0) = m ((c.tc : Thread Cert.MergeOutRefIdeal.nD Cert.MergeOutRefIdeal.τ).loc Cert.MergeOutRefIdeal.main_arg0)
      ∧ r.2.mem ((c.tc : Thread Cert.MergeOutRefIdeal.nD Cert.MergeOutRefIdeal.τ).loc Cert.MergeOutRefIdeal.main_arg1) = m ((c.tc : Thread Cert.MergeOutRefIdeal.nD Cert.MergeOutRefIdeal.τ).loc Cert.MergeOutRefIdeal.main_arg1)
      ∧ r.2.mem ((c.tc : Thread Cert.MergeOutRefIdeal.nD Cert.MergeOutRefIdeal.τ).loc Cert.MergeOutRefIdeal.main_arg2) = m ((c.tc : Thread Cert.MergeOutRefIdeal.nD Cert.MergeOutRefIdeal.τ).loc Cert.MergeOutRefIdeal.main_arg2)
      ∧ r.2.mem ((c.tc : Thread Cert.MergeOutRefIdeal.nD Cert.MergeOutRefIdeal.τ).loc Cert.MergeOutRefIdeal.main_arg3) = m ((c.tc : Thread Cert.MergeOutRefIdeal.nD Cert.MergeOutRefIdeal.τ).loc Cert.MergeOutRefIdeal.main_arg3)
      ∧ r.2.mem ((c.tc : Thread Cert.MergeOutRefIdeal.nD Cert.MergeOutRefIdeal.τ).loc Cert.MergeOutRefIdeal.main_arg4) = m ((c.tc : Thread Cert.MergeOutRefIdeal.nD Cert.MergeOutRefIdeal.τ).loc Cert.MergeOutRefIdeal.main_arg4)
      ∧ r.2.mem ((c.tc : Thread Cert.MergeOutRefIdeal.nD Cert.MergeOutRefIdeal.τ).loc Cert.MergeOutRefIdeal.main_arg5) = m ((c.tc : Thread Cert.MergeOutRefIdeal.nD Cert.MergeOutRefIdeal.τ).loc Cert.MergeOutRefIdeal.main_arg5)
      ∧ r.2.mem ((c.tc : Thread Cert.MergeOutRefIdeal.nD Cert.MergeOutRefIdeal.τ).loc Cert.MergeOutRefIdeal.main_arg6) = m ((c.tc : Thread Cert.MergeOutRefIdeal.nD Cert.MergeOutRefIdeal.τ).loc Cert.MergeOutRefIdeal.main_arg6))
      ∧ r.2.sem = fun _ => 0)

def quiescent_MidOut [hMidOut : Cert.MidOut.Facts] : Prop :=
  ∀ (m : (ℓ : Loc Cert.MidOut.nD Cert.MidOut.τ Cert.MidOut.sig) → Buf (Elt Bits) ℓ) (g : Dev Cert.MidOut.nD → PrngReg), Pre_MidOut m →
    θ_run (Cert.MidOut.defs (F := Bits)) (onTc (τ := Cert.MidOut.τ) (Cert.MidOut.main (F := Bits))) ⟨m, fun _ => 0, g⟩ (fun r => (∀ c : Dev Cert.MidOut.nD,
      r.2.mem ((c.tc : Thread Cert.MidOut.nD Cert.MidOut.τ).loc Cert.MidOut.main_arg0) = m ((c.tc : Thread Cert.MidOut.nD Cert.MidOut.τ).loc Cert.MidOut.main_arg0)
      ∧ r.2.mem ((c.tc : Thread Cert.MidOut.nD Cert.MidOut.τ).loc Cert.MidOut.main_arg1) = m ((c.tc : Thread Cert.MidOut.nD Cert.MidOut.τ).loc Cert.MidOut.main_arg1)
      ∧ r.2.mem ((c.tc : Thread Cert.MidOut.nD Cert.MidOut.τ).loc Cert.MidOut.main_arg2) = m ((c.tc : Thread Cert.MidOut.nD Cert.MidOut.τ).loc Cert.MidOut.main_arg2)
      ∧ r.2.mem ((c.tc : Thread Cert.MidOut.nD Cert.MidOut.τ).loc Cert.MidOut.main_arg3) = m ((c.tc : Thread Cert.MidOut.nD Cert.MidOut.τ).loc Cert.MidOut.main_arg3)
      ∧ r.2.mem ((c.tc : Thread Cert.MidOut.nD Cert.MidOut.τ).loc Cert.MidOut.main_arg4) = m ((c.tc : Thread Cert.MidOut.nD Cert.MidOut.τ).loc Cert.MidOut.main_arg4)
      ∧ r.2.mem ((c.tc : Thread Cert.MidOut.nD Cert.MidOut.τ).loc Cert.MidOut.main_arg5) = m ((c.tc : Thread Cert.MidOut.nD Cert.MidOut.τ).loc Cert.MidOut.main_arg5)
      ∧ r.2.mem ((c.tc : Thread Cert.MidOut.nD Cert.MidOut.τ).loc Cert.MidOut.main_arg6) = m ((c.tc : Thread Cert.MidOut.nD Cert.MidOut.τ).loc Cert.MidOut.main_arg6)
      ∧ r.2.mem ((c.tc : Thread Cert.MidOut.nD Cert.MidOut.τ).loc Cert.MidOut.main_arg7) = m ((c.tc : Thread Cert.MidOut.nD Cert.MidOut.τ).loc Cert.MidOut.main_arg7))
      ∧ r.2.sem = fun _ => 0)

def quiescent_MidOutIdeal [hMidOutIdeal : Cert.MidOutIdeal.Facts] : Prop :=
  ∀ (m : (ℓ : Loc Cert.MidOutIdeal.nD Cert.MidOutIdeal.τ Cert.MidOutIdeal.sig) → Buf (Elt Ideal) ℓ) (g : Dev Cert.MidOutIdeal.nD → PrngReg), Pre_MidOutIdeal m →
    θ_run (Cert.MidOutIdeal.defs (F := Ideal)) (onTc (τ := Cert.MidOutIdeal.τ) (Cert.MidOutIdeal.main (F := Ideal))) ⟨m, fun _ => 0, g⟩ (fun r => (∀ c : Dev Cert.MidOutIdeal.nD,
      r.2.mem ((c.tc : Thread Cert.MidOutIdeal.nD Cert.MidOutIdeal.τ).loc Cert.MidOutIdeal.main_arg0) = m ((c.tc : Thread Cert.MidOutIdeal.nD Cert.MidOutIdeal.τ).loc Cert.MidOutIdeal.main_arg0)
      ∧ r.2.mem ((c.tc : Thread Cert.MidOutIdeal.nD Cert.MidOutIdeal.τ).loc Cert.MidOutIdeal.main_arg1) = m ((c.tc : Thread Cert.MidOutIdeal.nD Cert.MidOutIdeal.τ).loc Cert.MidOutIdeal.main_arg1)
      ∧ r.2.mem ((c.tc : Thread Cert.MidOutIdeal.nD Cert.MidOutIdeal.τ).loc Cert.MidOutIdeal.main_arg2) = m ((c.tc : Thread Cert.MidOutIdeal.nD Cert.MidOutIdeal.τ).loc Cert.MidOutIdeal.main_arg2)
      ∧ r.2.mem ((c.tc : Thread Cert.MidOutIdeal.nD Cert.MidOutIdeal.τ).loc Cert.MidOutIdeal.main_arg3) = m ((c.tc : Thread Cert.MidOutIdeal.nD Cert.MidOutIdeal.τ).loc Cert.MidOutIdeal.main_arg3)
      ∧ r.2.mem ((c.tc : Thread Cert.MidOutIdeal.nD Cert.MidOutIdeal.τ).loc Cert.MidOutIdeal.main_arg4) = m ((c.tc : Thread Cert.MidOutIdeal.nD Cert.MidOutIdeal.τ).loc Cert.MidOutIdeal.main_arg4)
      ∧ r.2.mem ((c.tc : Thread Cert.MidOutIdeal.nD Cert.MidOutIdeal.τ).loc Cert.MidOutIdeal.main_arg5) = m ((c.tc : Thread Cert.MidOutIdeal.nD Cert.MidOutIdeal.τ).loc Cert.MidOutIdeal.main_arg5)
      ∧ r.2.mem ((c.tc : Thread Cert.MidOutIdeal.nD Cert.MidOutIdeal.τ).loc Cert.MidOutIdeal.main_arg6) = m ((c.tc : Thread Cert.MidOutIdeal.nD Cert.MidOutIdeal.τ).loc Cert.MidOutIdeal.main_arg6)
      ∧ r.2.mem ((c.tc : Thread Cert.MidOutIdeal.nD Cert.MidOutIdeal.τ).loc Cert.MidOutIdeal.main_arg7) = m ((c.tc : Thread Cert.MidOutIdeal.nD Cert.MidOutIdeal.τ).loc Cert.MidOutIdeal.main_arg7))
      ∧ r.2.sem = fun _ => 0)

def quiescent_MidOutRefIdeal [hMidOutRefIdeal : Cert.MidOutRefIdeal.Facts] : Prop :=
  ∀ (m : (ℓ : Loc Cert.MidOutRefIdeal.nD Cert.MidOutRefIdeal.τ Cert.MidOutRefIdeal.sig) → Buf (Elt Ideal) ℓ) (g : Dev Cert.MidOutRefIdeal.nD → PrngReg), Pre_MidOutRefIdeal m →
    θ_run (Cert.MidOutRefIdeal.defs (F := Ideal)) (onTc (τ := Cert.MidOutRefIdeal.τ) (Cert.MidOutRefIdeal.main (F := Ideal))) ⟨m, fun _ => 0, g⟩ (fun r => (∀ c : Dev Cert.MidOutRefIdeal.nD,
      r.2.mem ((c.tc : Thread Cert.MidOutRefIdeal.nD Cert.MidOutRefIdeal.τ).loc Cert.MidOutRefIdeal.main_arg0) = m ((c.tc : Thread Cert.MidOutRefIdeal.nD Cert.MidOutRefIdeal.τ).loc Cert.MidOutRefIdeal.main_arg0)
      ∧ r.2.mem ((c.tc : Thread Cert.MidOutRefIdeal.nD Cert.MidOutRefIdeal.τ).loc Cert.MidOutRefIdeal.main_arg1) = m ((c.tc : Thread Cert.MidOutRefIdeal.nD Cert.MidOutRefIdeal.τ).loc Cert.MidOutRefIdeal.main_arg1)
      ∧ r.2.mem ((c.tc : Thread Cert.MidOutRefIdeal.nD Cert.MidOutRefIdeal.τ).loc Cert.MidOutRefIdeal.main_arg2) = m ((c.tc : Thread Cert.MidOutRefIdeal.nD Cert.MidOutRefIdeal.τ).loc Cert.MidOutRefIdeal.main_arg2)
      ∧ r.2.mem ((c.tc : Thread Cert.MidOutRefIdeal.nD Cert.MidOutRefIdeal.τ).loc Cert.MidOutRefIdeal.main_arg3) = m ((c.tc : Thread Cert.MidOutRefIdeal.nD Cert.MidOutRefIdeal.τ).loc Cert.MidOutRefIdeal.main_arg3)
      ∧ r.2.mem ((c.tc : Thread Cert.MidOutRefIdeal.nD Cert.MidOutRefIdeal.τ).loc Cert.MidOutRefIdeal.main_arg4) = m ((c.tc : Thread Cert.MidOutRefIdeal.nD Cert.MidOutRefIdeal.τ).loc Cert.MidOutRefIdeal.main_arg4)
      ∧ r.2.mem ((c.tc : Thread Cert.MidOutRefIdeal.nD Cert.MidOutRefIdeal.τ).loc Cert.MidOutRefIdeal.main_arg5) = m ((c.tc : Thread Cert.MidOutRefIdeal.nD Cert.MidOutRefIdeal.τ).loc Cert.MidOutRefIdeal.main_arg5)
      ∧ r.2.mem ((c.tc : Thread Cert.MidOutRefIdeal.nD Cert.MidOutRefIdeal.τ).loc Cert.MidOutRefIdeal.main_arg6) = m ((c.tc : Thread Cert.MidOutRefIdeal.nD Cert.MidOutRefIdeal.τ).loc Cert.MidOutRefIdeal.main_arg6)
      ∧ r.2.mem ((c.tc : Thread Cert.MidOutRefIdeal.nD Cert.MidOutRefIdeal.τ).loc Cert.MidOutRefIdeal.main_arg7) = m ((c.tc : Thread Cert.MidOutRefIdeal.nD Cert.MidOutRefIdeal.τ).loc Cert.MidOutRefIdeal.main_arg7))
      ∧ r.2.sem = fun _ => 0)

def quiescent_GluOut [hGluOut : Cert.GluOut.Facts] : Prop :=
  ∀ (m : (ℓ : Loc Cert.GluOut.nD Cert.GluOut.τ Cert.GluOut.sig) → Buf (Elt Bits) ℓ) (g : Dev Cert.GluOut.nD → PrngReg), Pre_GluOut m →
    θ_run (Cert.GluOut.defs (F := Bits)) (onTc (τ := Cert.GluOut.τ) (Cert.GluOut.main (F := Bits))) ⟨m, fun _ => 0, g⟩ (fun r => (∀ c : Dev Cert.GluOut.nD,
      r.2.mem ((c.tc : Thread Cert.GluOut.nD Cert.GluOut.τ).loc Cert.GluOut.main_arg0) = m ((c.tc : Thread Cert.GluOut.nD Cert.GluOut.τ).loc Cert.GluOut.main_arg0)
      ∧ r.2.mem ((c.tc : Thread Cert.GluOut.nD Cert.GluOut.τ).loc Cert.GluOut.main_arg1) = m ((c.tc : Thread Cert.GluOut.nD Cert.GluOut.τ).loc Cert.GluOut.main_arg1))
      ∧ r.2.sem = fun _ => 0)

def quiescent_GluOutIdeal [hGluOutIdeal : Cert.GluOutIdeal.Facts] : Prop :=
  ∀ (m : (ℓ : Loc Cert.GluOutIdeal.nD Cert.GluOutIdeal.τ Cert.GluOutIdeal.sig) → Buf (Elt Ideal) ℓ) (g : Dev Cert.GluOutIdeal.nD → PrngReg), Pre_GluOutIdeal m →
    θ_run (Cert.GluOutIdeal.defs (F := Ideal)) (onTc (τ := Cert.GluOutIdeal.τ) (Cert.GluOutIdeal.main (F := Ideal))) ⟨m, fun _ => 0, g⟩ (fun r => (∀ c : Dev Cert.GluOutIdeal.nD,
      r.2.mem ((c.tc : Thread Cert.GluOutIdeal.nD Cert.GluOutIdeal.τ).loc Cert.GluOutIdeal.main_arg0) = m ((c.tc : Thread Cert.GluOutIdeal.nD Cert.GluOutIdeal.τ).loc Cert.GluOutIdeal.main_arg0)
      ∧ r.2.mem ((c.tc : Thread Cert.GluOutIdeal.nD Cert.GluOutIdeal.τ).loc Cert.GluOutIdeal.main_arg1) = m ((c.tc : Thread Cert.GluOutIdeal.nD Cert.GluOutIdeal.τ).loc Cert.GluOutIdeal.main_arg1))
      ∧ r.2.sem = fun _ => 0)

def quiescent_GluOutRefIdeal [hGluOutRefIdeal : Cert.GluOutRefIdeal.Facts] : Prop :=
  ∀ (m : (ℓ : Loc Cert.GluOutRefIdeal.nD Cert.GluOutRefIdeal.τ Cert.GluOutRefIdeal.sig) → Buf (Elt Ideal) ℓ) (g : Dev Cert.GluOutRefIdeal.nD → PrngReg), Pre_GluOutRefIdeal m →
    θ_run (Cert.GluOutRefIdeal.defs (F := Ideal)) (onTc (τ := Cert.GluOutRefIdeal.τ) (Cert.GluOutRefIdeal.main (F := Ideal))) ⟨m, fun _ => 0, g⟩ (fun r => (∀ c : Dev Cert.GluOutRefIdeal.nD,
      r.2.mem ((c.tc : Thread Cert.GluOutRefIdeal.nD Cert.GluOutRefIdeal.τ).loc Cert.GluOutRefIdeal.main_arg0) = m ((c.tc : Thread Cert.GluOutRefIdeal.nD Cert.GluOutRefIdeal.τ).loc Cert.GluOutRefIdeal.main_arg0)
      ∧ r.2.mem ((c.tc : Thread Cert.GluOutRefIdeal.nD Cert.GluOutRefIdeal.τ).loc Cert.GluOutRefIdeal.main_arg1) = m ((c.tc : Thread Cert.GluOutRefIdeal.nD Cert.GluOutRefIdeal.τ).loc Cert.GluOutRefIdeal.main_arg1))
      ∧ r.2.sem = fun _ => 0)

def quiescent_ModOut [hModOut : Cert.ModOut.Facts] : Prop :=
  ∀ (m : (ℓ : Loc Cert.ModOut.nD Cert.ModOut.τ Cert.ModOut.sig) → Buf (Elt Bits) ℓ) (g : Dev Cert.ModOut.nD → PrngReg), Pre_ModOut m →
    θ_run (Cert.ModOut.defs (F := Bits)) (onTc (τ := Cert.ModOut.τ) (Cert.ModOut.main (F := Bits))) ⟨m, fun _ => 0, g⟩ (fun r => (∀ c : Dev Cert.ModOut.nD,
      r.2.mem ((c.tc : Thread Cert.ModOut.nD Cert.ModOut.τ).loc Cert.ModOut.main_arg0) = m ((c.tc : Thread Cert.ModOut.nD Cert.ModOut.τ).loc Cert.ModOut.main_arg0)
      ∧ r.2.mem ((c.tc : Thread Cert.ModOut.nD Cert.ModOut.τ).loc Cert.ModOut.main_arg1) = m ((c.tc : Thread Cert.ModOut.nD Cert.ModOut.τ).loc Cert.ModOut.main_arg1)
      ∧ r.2.mem ((c.tc : Thread Cert.ModOut.nD Cert.ModOut.τ).loc Cert.ModOut.main_arg2) = m ((c.tc : Thread Cert.ModOut.nD Cert.ModOut.τ).loc Cert.ModOut.main_arg2))
      ∧ r.2.sem = fun _ => 0)

def quiescent_ModOutIdeal [hModOutIdeal : Cert.ModOutIdeal.Facts] : Prop :=
  ∀ (m : (ℓ : Loc Cert.ModOutIdeal.nD Cert.ModOutIdeal.τ Cert.ModOutIdeal.sig) → Buf (Elt Ideal) ℓ) (g : Dev Cert.ModOutIdeal.nD → PrngReg), Pre_ModOutIdeal m →
    θ_run (Cert.ModOutIdeal.defs (F := Ideal)) (onTc (τ := Cert.ModOutIdeal.τ) (Cert.ModOutIdeal.main (F := Ideal))) ⟨m, fun _ => 0, g⟩ (fun r => (∀ c : Dev Cert.ModOutIdeal.nD,
      r.2.mem ((c.tc : Thread Cert.ModOutIdeal.nD Cert.ModOutIdeal.τ).loc Cert.ModOutIdeal.main_arg0) = m ((c.tc : Thread Cert.ModOutIdeal.nD Cert.ModOutIdeal.τ).loc Cert.ModOutIdeal.main_arg0)
      ∧ r.2.mem ((c.tc : Thread Cert.ModOutIdeal.nD Cert.ModOutIdeal.τ).loc Cert.ModOutIdeal.main_arg1) = m ((c.tc : Thread Cert.ModOutIdeal.nD Cert.ModOutIdeal.τ).loc Cert.ModOutIdeal.main_arg1)
      ∧ r.2.mem ((c.tc : Thread Cert.ModOutIdeal.nD Cert.ModOutIdeal.τ).loc Cert.ModOutIdeal.main_arg2) = m ((c.tc : Thread Cert.ModOutIdeal.nD Cert.ModOutIdeal.τ).loc Cert.ModOutIdeal.main_arg2))
      ∧ r.2.sem = fun _ => 0)

def quiescent_ModOutRefIdeal [hModOutRefIdeal : Cert.ModOutRefIdeal.Facts] : Prop :=
  ∀ (m : (ℓ : Loc Cert.ModOutRefIdeal.nD Cert.ModOutRefIdeal.τ Cert.ModOutRefIdeal.sig) → Buf (Elt Ideal) ℓ) (g : Dev Cert.ModOutRefIdeal.nD → PrngReg), Pre_ModOutRefIdeal m →
    θ_run (Cert.ModOutRefIdeal.defs (F := Ideal)) (onTc (τ := Cert.ModOutRefIdeal.τ) (Cert.ModOutRefIdeal.main (F := Ideal))) ⟨m, fun _ => 0, g⟩ (fun r => (∀ c : Dev Cert.ModOutRefIdeal.nD,
      r.2.mem ((c.tc : Thread Cert.ModOutRefIdeal.nD Cert.ModOutRefIdeal.τ).loc Cert.ModOutRefIdeal.main_arg0) = m ((c.tc : Thread Cert.ModOutRefIdeal.nD Cert.ModOutRefIdeal.τ).loc Cert.ModOutRefIdeal.main_arg0)
      ∧ r.2.mem ((c.tc : Thread Cert.ModOutRefIdeal.nD Cert.ModOutRefIdeal.τ).loc Cert.ModOutRefIdeal.main_arg1) = m ((c.tc : Thread Cert.ModOutRefIdeal.nD Cert.ModOutRefIdeal.τ).loc Cert.ModOutRefIdeal.main_arg1)
      ∧ r.2.mem ((c.tc : Thread Cert.ModOutRefIdeal.nD Cert.ModOutRefIdeal.τ).loc Cert.ModOutRefIdeal.main_arg2) = m ((c.tc : Thread Cert.ModOutRefIdeal.nD Cert.ModOutRefIdeal.τ).loc Cert.ModOutRefIdeal.main_arg2))
      ∧ r.2.sem = fun _ => 0)

def quiescent_ModBack [hModBack : Cert.ModBack.Facts] : Prop :=
  ∀ (m : (ℓ : Loc Cert.ModBack.nD Cert.ModBack.τ Cert.ModBack.sig) → Buf (Elt Bits) ℓ) (g : Dev Cert.ModBack.nD → PrngReg), Pre_ModBack m →
    θ_run (Cert.ModBack.defs (F := Bits)) (onTc (τ := Cert.ModBack.τ) (Cert.ModBack.main (F := Bits))) ⟨m, fun _ => 0, g⟩ (fun r => (∀ c : Dev Cert.ModBack.nD,
      r.2.mem ((c.tc : Thread Cert.ModBack.nD Cert.ModBack.τ).loc Cert.ModBack.main_arg0) = m ((c.tc : Thread Cert.ModBack.nD Cert.ModBack.τ).loc Cert.ModBack.main_arg0)
      ∧ r.2.mem ((c.tc : Thread Cert.ModBack.nD Cert.ModBack.τ).loc Cert.ModBack.main_arg1) = m ((c.tc : Thread Cert.ModBack.nD Cert.ModBack.τ).loc Cert.ModBack.main_arg1)
      ∧ r.2.mem ((c.tc : Thread Cert.ModBack.nD Cert.ModBack.τ).loc Cert.ModBack.main_arg2) = m ((c.tc : Thread Cert.ModBack.nD Cert.ModBack.τ).loc Cert.ModBack.main_arg2)
      ∧ r.2.mem ((c.tc : Thread Cert.ModBack.nD Cert.ModBack.τ).loc Cert.ModBack.main_arg3) = m ((c.tc : Thread Cert.ModBack.nD Cert.ModBack.τ).loc Cert.ModBack.main_arg3))
      ∧ r.2.sem = fun _ => 0)

def quiescent_ModBackIdeal [hModBackIdeal : Cert.ModBackIdeal.Facts] : Prop :=
  ∀ (m : (ℓ : Loc Cert.ModBackIdeal.nD Cert.ModBackIdeal.τ Cert.ModBackIdeal.sig) → Buf (Elt Ideal) ℓ) (g : Dev Cert.ModBackIdeal.nD → PrngReg), Pre_ModBackIdeal m →
    θ_run (Cert.ModBackIdeal.defs (F := Ideal)) (onTc (τ := Cert.ModBackIdeal.τ) (Cert.ModBackIdeal.main (F := Ideal))) ⟨m, fun _ => 0, g⟩ (fun r => (∀ c : Dev Cert.ModBackIdeal.nD,
      r.2.mem ((c.tc : Thread Cert.ModBackIdeal.nD Cert.ModBackIdeal.τ).loc Cert.ModBackIdeal.main_arg0) = m ((c.tc : Thread Cert.ModBackIdeal.nD Cert.ModBackIdeal.τ).loc Cert.ModBackIdeal.main_arg0)
      ∧ r.2.mem ((c.tc : Thread Cert.ModBackIdeal.nD Cert.ModBackIdeal.τ).loc Cert.ModBackIdeal.main_arg1) = m ((c.tc : Thread Cert.ModBackIdeal.nD Cert.ModBackIdeal.τ).loc Cert.ModBackIdeal.main_arg1)
      ∧ r.2.mem ((c.tc : Thread Cert.ModBackIdeal.nD Cert.ModBackIdeal.τ).loc Cert.ModBackIdeal.main_arg2) = m ((c.tc : Thread Cert.ModBackIdeal.nD Cert.ModBackIdeal.τ).loc Cert.ModBackIdeal.main_arg2)
      ∧ r.2.mem ((c.tc : Thread Cert.ModBackIdeal.nD Cert.ModBackIdeal.τ).loc Cert.ModBackIdeal.main_arg3) = m ((c.tc : Thread Cert.ModBackIdeal.nD Cert.ModBackIdeal.τ).loc Cert.ModBackIdeal.main_arg3))
      ∧ r.2.sem = fun _ => 0)

def quiescent_ModBackRefIdeal [hModBackRefIdeal : Cert.ModBackRefIdeal.Facts] : Prop :=
  ∀ (m : (ℓ : Loc Cert.ModBackRefIdeal.nD Cert.ModBackRefIdeal.τ Cert.ModBackRefIdeal.sig) → Buf (Elt Ideal) ℓ) (g : Dev Cert.ModBackRefIdeal.nD → PrngReg), Pre_ModBackRefIdeal m →
    θ_run (Cert.ModBackRefIdeal.defs (F := Ideal)) (onTc (τ := Cert.ModBackRefIdeal.τ) (Cert.ModBackRefIdeal.main (F := Ideal))) ⟨m, fun _ => 0, g⟩ (fun r => (∀ c : Dev Cert.ModBackRefIdeal.nD,
      r.2.mem ((c.tc : Thread Cert.ModBackRefIdeal.nD Cert.ModBackRefIdeal.τ).loc Cert.ModBackRefIdeal.main_arg0) = m ((c.tc : Thread Cert.ModBackRefIdeal.nD Cert.ModBackRefIdeal.τ).loc Cert.ModBackRefIdeal.main_arg0)
      ∧ r.2.mem ((c.tc : Thread Cert.ModBackRefIdeal.nD Cert.ModBackRefIdeal.τ).loc Cert.ModBackRefIdeal.main_arg1) = m ((c.tc : Thread Cert.ModBackRefIdeal.nD Cert.ModBackRefIdeal.τ).loc Cert.ModBackRefIdeal.main_arg1)
      ∧ r.2.mem ((c.tc : Thread Cert.ModBackRefIdeal.nD Cert.ModBackRefIdeal.τ).loc Cert.ModBackRefIdeal.main_arg2) = m ((c.tc : Thread Cert.ModBackRefIdeal.nD Cert.ModBackRefIdeal.τ).loc Cert.ModBackRefIdeal.main_arg2)
      ∧ r.2.mem ((c.tc : Thread Cert.ModBackRefIdeal.nD Cert.ModBackRefIdeal.τ).loc Cert.ModBackRefIdeal.main_arg3) = m ((c.tc : Thread Cert.ModBackRefIdeal.nD Cert.ModBackRefIdeal.τ).loc Cert.ModBackRefIdeal.main_arg3))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3))
      ∧ r.2.sem = fun _ => 0)

def quiescent_Slots [hSlots : Cert.Slots.Facts] : Prop :=
  ∀ (m : (ℓ : Loc Cert.Slots.nD Cert.Slots.τ Cert.Slots.sig) → Buf (Elt Bits) ℓ) (g : Dev Cert.Slots.nD → PrngReg), Pre_Slots m →
    θ_run (Cert.Slots.defs (F := Bits)) (onTc (τ := Cert.Slots.τ) (Cert.Slots.main (F := Bits))) ⟨m, fun _ => 0, g⟩ (fun r => (∀ c : Dev Cert.Slots.nD,
      r.2.mem ((c.tc : Thread Cert.Slots.nD Cert.Slots.τ).loc Cert.Slots.main_arg0) = m ((c.tc : Thread Cert.Slots.nD Cert.Slots.τ).loc Cert.Slots.main_arg0))
      ∧ r.2.sem = fun _ => 0)

def quiescent_SlotsIdeal [hSlotsIdeal : Cert.SlotsIdeal.Facts] : Prop :=
  ∀ (m : (ℓ : Loc Cert.SlotsIdeal.nD Cert.SlotsIdeal.τ Cert.SlotsIdeal.sig) → Buf (Elt Ideal) ℓ) (g : Dev Cert.SlotsIdeal.nD → PrngReg), Pre_SlotsIdeal m →
    θ_run (Cert.SlotsIdeal.defs (F := Ideal)) (onTc (τ := Cert.SlotsIdeal.τ) (Cert.SlotsIdeal.main (F := Ideal))) ⟨m, fun _ => 0, g⟩ (fun r => (∀ c : Dev Cert.SlotsIdeal.nD,
      r.2.mem ((c.tc : Thread Cert.SlotsIdeal.nD Cert.SlotsIdeal.τ).loc Cert.SlotsIdeal.main_arg0) = m ((c.tc : Thread Cert.SlotsIdeal.nD Cert.SlotsIdeal.τ).loc Cert.SlotsIdeal.main_arg0))
      ∧ r.2.sem = fun _ => 0)

def quiescent_SlotsRefIdeal [hSlotsRefIdeal : Cert.SlotsRefIdeal.Facts] : Prop :=
  ∀ (m : (ℓ : Loc Cert.SlotsRefIdeal.nD Cert.SlotsRefIdeal.τ Cert.SlotsRefIdeal.sig) → Buf (Elt Ideal) ℓ) (g : Dev Cert.SlotsRefIdeal.nD → PrngReg), Pre_SlotsRefIdeal m →
    θ_run (Cert.SlotsRefIdeal.defs (F := Ideal)) (onTc (τ := Cert.SlotsRefIdeal.τ) (Cert.SlotsRefIdeal.main (F := Ideal))) ⟨m, fun _ => 0, g⟩ (fun r => (∀ c : Dev Cert.SlotsRefIdeal.nD,
      r.2.mem ((c.tc : Thread Cert.SlotsRefIdeal.nD Cert.SlotsRefIdeal.τ).loc Cert.SlotsRefIdeal.main_arg0) = m ((c.tc : Thread Cert.SlotsRefIdeal.nD Cert.SlotsRefIdeal.τ).loc Cert.SlotsRefIdeal.main_arg0))
      ∧ r.2.sem = fun _ => 0)

def quiescent_Product [hProduct : Cert.Product.Facts] : Prop :=
  ∀ (m : (ℓ : Loc Cert.Product.nD Cert.Product.τ Cert.Product.sig) → Buf (Elt Bits) ℓ) (g : Dev Cert.Product.nD → PrngReg), Pre_Product m →
    θ_run (Cert.Product.defs (F := Bits)) (onTc (τ := Cert.Product.τ) (Cert.Product.main (F := Bits))) ⟨m, fun _ => 0, g⟩ (fun r => (∀ c : Dev Cert.Product.nD,
      r.2.mem ((c.tc : Thread Cert.Product.nD Cert.Product.τ).loc Cert.Product.main_arg0) = m ((c.tc : Thread Cert.Product.nD Cert.Product.τ).loc Cert.Product.main_arg0)
      ∧ r.2.mem ((c.tc : Thread Cert.Product.nD Cert.Product.τ).loc Cert.Product.main_arg1) = m ((c.tc : Thread Cert.Product.nD Cert.Product.τ).loc Cert.Product.main_arg1))
      ∧ r.2.sem = fun _ => 0)

def quiescent_ProductIdeal [hProductIdeal : Cert.ProductIdeal.Facts] : Prop :=
  ∀ (m : (ℓ : Loc Cert.ProductIdeal.nD Cert.ProductIdeal.τ Cert.ProductIdeal.sig) → Buf (Elt Ideal) ℓ) (g : Dev Cert.ProductIdeal.nD → PrngReg), Pre_ProductIdeal m →
    θ_run (Cert.ProductIdeal.defs (F := Ideal)) (onTc (τ := Cert.ProductIdeal.τ) (Cert.ProductIdeal.main (F := Ideal))) ⟨m, fun _ => 0, g⟩ (fun r => (∀ c : Dev Cert.ProductIdeal.nD,
      r.2.mem ((c.tc : Thread Cert.ProductIdeal.nD Cert.ProductIdeal.τ).loc Cert.ProductIdeal.main_arg0) = m ((c.tc : Thread Cert.ProductIdeal.nD Cert.ProductIdeal.τ).loc Cert.ProductIdeal.main_arg0)
      ∧ r.2.mem ((c.tc : Thread Cert.ProductIdeal.nD Cert.ProductIdeal.τ).loc Cert.ProductIdeal.main_arg1) = m ((c.tc : Thread Cert.ProductIdeal.nD Cert.ProductIdeal.τ).loc Cert.ProductIdeal.main_arg1))
      ∧ r.2.sem = fun _ => 0)

def quiescent_ProductRefIdeal [hProductRefIdeal : Cert.ProductRefIdeal.Facts] : Prop :=
  ∀ (m : (ℓ : Loc Cert.ProductRefIdeal.nD Cert.ProductRefIdeal.τ Cert.ProductRefIdeal.sig) → Buf (Elt Ideal) ℓ) (g : Dev Cert.ProductRefIdeal.nD → PrngReg), Pre_ProductRefIdeal m →
    θ_run (Cert.ProductRefIdeal.defs (F := Ideal)) (onTc (τ := Cert.ProductRefIdeal.τ) (Cert.ProductRefIdeal.main (F := Ideal))) ⟨m, fun _ => 0, g⟩ (fun r => (∀ c : Dev Cert.ProductRefIdeal.nD,
      r.2.mem ((c.tc : Thread Cert.ProductRefIdeal.nD Cert.ProductRefIdeal.τ).loc Cert.ProductRefIdeal.main_arg0) = m ((c.tc : Thread Cert.ProductRefIdeal.nD Cert.ProductRefIdeal.τ).loc Cert.ProductRefIdeal.main_arg0)
      ∧ r.2.mem ((c.tc : Thread Cert.ProductRefIdeal.nD Cert.ProductRefIdeal.τ).loc Cert.ProductRefIdeal.main_arg1) = m ((c.tc : Thread Cert.ProductRefIdeal.nD Cert.ProductRefIdeal.τ).loc Cert.ProductRefIdeal.main_arg1))
      ∧ r.2.sem = fun _ => 0)

def preserves_SsmConv_SsmConvIdeal : Prop :=
  True

def algebraic_SsmConvIdeal_SsmConvRefIdeal [hSsmConvIdeal : Cert.SsmConvIdeal.Facts] [hSsmConvRefIdeal : Cert.SsmConvRefIdeal.Facts] : Prop :=
  ∀ (m : (ℓ : Loc Cert.SsmConvIdeal.nD Cert.SsmConvIdeal.τ Cert.SsmConvIdeal.sig) → Buf (Elt Ideal) ℓ) (g : Dev Cert.SsmConvIdeal.nD → PrngReg)
    (m' : (ℓ : Loc Cert.SsmConvRefIdeal.nD Cert.SsmConvRefIdeal.τ Cert.SsmConvRefIdeal.sig) → Buf (Elt Ideal) ℓ) (g' : Dev Cert.SsmConvRefIdeal.nD → PrngReg), Pre_SsmConvIdeal m →
    (∀ c : Dev Cert.SsmConvIdeal.nD,
      m' ((c.tc : Thread Cert.SsmConvRefIdeal.nD Cert.SsmConvRefIdeal.τ).loc Cert.SsmConvRefIdeal.main_arg0) = m ((c.tc : Thread Cert.SsmConvIdeal.nD Cert.SsmConvIdeal.τ).loc Cert.SsmConvIdeal.main_arg0)
      ∧ m' ((c.tc : Thread Cert.SsmConvRefIdeal.nD Cert.SsmConvRefIdeal.τ).loc Cert.SsmConvRefIdeal.main_arg1) = m ((c.tc : Thread Cert.SsmConvIdeal.nD Cert.SsmConvIdeal.τ).loc Cert.SsmConvIdeal.main_arg1)
      ∧ m' ((c.tc : Thread Cert.SsmConvRefIdeal.nD Cert.SsmConvRefIdeal.τ).loc Cert.SsmConvRefIdeal.main_arg2) = m ((c.tc : Thread Cert.SsmConvIdeal.nD Cert.SsmConvIdeal.τ).loc Cert.SsmConvIdeal.main_arg2)) →
    ∃ (v0 : (c : Dev Cert.SsmConvIdeal.nD) → Buf (Elt Ideal) ((c.tc : Thread Cert.SsmConvIdeal.nD Cert.SsmConvIdeal.τ).loc Cert.SsmConvIdeal.main_v7_0)) (v1 : (c : Dev Cert.SsmConvIdeal.nD) → Buf (Elt Ideal) ((c.tc : Thread Cert.SsmConvIdeal.nD Cert.SsmConvIdeal.τ).loc Cert.SsmConvIdeal.main_v7_1)) (v2 : (c : Dev Cert.SsmConvIdeal.nD) → Buf (Elt Ideal) ((c.tc : Thread Cert.SsmConvIdeal.nD Cert.SsmConvIdeal.τ).loc Cert.SsmConvIdeal.main_v7_2)) (v3 : (c : Dev Cert.SsmConvIdeal.nD) → Buf (Elt Ideal) ((c.tc : Thread Cert.SsmConvIdeal.nD Cert.SsmConvIdeal.τ).loc Cert.SsmConvIdeal.main_v7_3)) (v4 : (c : Dev Cert.SsmConvIdeal.nD) → Buf (Elt Ideal) ((c.tc : Thread Cert.SsmConvIdeal.nD Cert.SsmConvIdeal.τ).loc Cert.SsmConvIdeal.main_v7_4)) (v5 : (c : Dev Cert.SsmConvIdeal.nD) → Buf (Elt Ideal) ((c.tc : Thread Cert.SsmConvIdeal.nD Cert.SsmConvIdeal.τ).loc Cert.SsmConvIdeal.main_v7_5)),
      θ_run (Cert.SsmConvIdeal.defs (F := Ideal)) (onTc (τ := Cert.SsmConvIdeal.τ) (Cert.SsmConvIdeal.main (F := Ideal))) ⟨m, fun _ => 0, g⟩ (fun r => ∀ c : Dev Cert.SsmConvIdeal.nD,
          r.2.mem ((c.tc : Thread Cert.SsmConvIdeal.nD Cert.SsmConvIdeal.τ).loc Cert.SsmConvIdeal.main_v7_0) = v0 c
          ∧ r.2.mem ((c.tc : Thread Cert.SsmConvIdeal.nD Cert.SsmConvIdeal.τ).loc Cert.SsmConvIdeal.main_v7_1) = v1 c
          ∧ r.2.mem ((c.tc : Thread Cert.SsmConvIdeal.nD Cert.SsmConvIdeal.τ).loc Cert.SsmConvIdeal.main_v7_2) = v2 c
          ∧ r.2.mem ((c.tc : Thread Cert.SsmConvIdeal.nD Cert.SsmConvIdeal.τ).loc Cert.SsmConvIdeal.main_v7_3) = v3 c
          ∧ r.2.mem ((c.tc : Thread Cert.SsmConvIdeal.nD Cert.SsmConvIdeal.τ).loc Cert.SsmConvIdeal.main_v7_4) = v4 c
          ∧ r.2.mem ((c.tc : Thread Cert.SsmConvIdeal.nD Cert.SsmConvIdeal.τ).loc Cert.SsmConvIdeal.main_v7_5) = v5 c
          ∧ r.2.mem ((c.tc : Thread Cert.SsmConvIdeal.nD Cert.SsmConvIdeal.τ).loc Cert.SsmConvIdeal.main_arg0) = m ((c.tc : Thread Cert.SsmConvIdeal.nD Cert.SsmConvIdeal.τ).loc Cert.SsmConvIdeal.main_arg0)
          ∧ r.2.mem ((c.tc : Thread Cert.SsmConvIdeal.nD Cert.SsmConvIdeal.τ).loc Cert.SsmConvIdeal.main_arg1) = m ((c.tc : Thread Cert.SsmConvIdeal.nD Cert.SsmConvIdeal.τ).loc Cert.SsmConvIdeal.main_arg1)
          ∧ r.2.mem ((c.tc : Thread Cert.SsmConvIdeal.nD Cert.SsmConvIdeal.τ).loc Cert.SsmConvIdeal.main_arg2) = m ((c.tc : Thread Cert.SsmConvIdeal.nD Cert.SsmConvIdeal.τ).loc Cert.SsmConvIdeal.main_arg2))
      ∧ θ_run (Cert.SsmConvRefIdeal.defs (F := Ideal)) (onTc (τ := Cert.SsmConvRefIdeal.τ) (Cert.SsmConvRefIdeal.main (F := Ideal))) ⟨m', fun _ => 0, g'⟩ (fun r => ∀ c : Dev Cert.SsmConvRefIdeal.nD,
          r.2.mem ((c.tc : Thread Cert.SsmConvRefIdeal.nD Cert.SsmConvRefIdeal.τ).loc Cert.SsmConvRefIdeal.main_v67) = v0 c
          ∧ r.2.mem ((c.tc : Thread Cert.SsmConvRefIdeal.nD Cert.SsmConvRefIdeal.τ).loc Cert.SsmConvRefIdeal.main_v68) = v1 c
          ∧ r.2.mem ((c.tc : Thread Cert.SsmConvRefIdeal.nD Cert.SsmConvRefIdeal.τ).loc Cert.SsmConvRefIdeal.main_v69) = v2 c
          ∧ r.2.mem ((c.tc : Thread Cert.SsmConvRefIdeal.nD Cert.SsmConvRefIdeal.τ).loc Cert.SsmConvRefIdeal.main_v70) = v3 c
          ∧ r.2.mem ((c.tc : Thread Cert.SsmConvRefIdeal.nD Cert.SsmConvRefIdeal.τ).loc Cert.SsmConvRefIdeal.main_v71) = v4 c
          ∧ r.2.mem ((c.tc : Thread Cert.SsmConvRefIdeal.nD Cert.SsmConvRefIdeal.τ).loc Cert.SsmConvRefIdeal.main_v30) = v5 c
          ∧ r.2.mem ((c.tc : Thread Cert.SsmConvRefIdeal.nD Cert.SsmConvRefIdeal.τ).loc Cert.SsmConvRefIdeal.main_arg0) = m' ((c.tc : Thread Cert.SsmConvRefIdeal.nD Cert.SsmConvRefIdeal.τ).loc Cert.SsmConvRefIdeal.main_arg0)
          ∧ r.2.mem ((c.tc : Thread Cert.SsmConvRefIdeal.nD Cert.SsmConvRefIdeal.τ).loc Cert.SsmConvRefIdeal.main_arg1) = m' ((c.tc : Thread Cert.SsmConvRefIdeal.nD Cert.SsmConvRefIdeal.τ).loc Cert.SsmConvRefIdeal.main_arg1)
          ∧ r.2.mem ((c.tc : Thread Cert.SsmConvRefIdeal.nD Cert.SsmConvRefIdeal.τ).loc Cert.SsmConvRefIdeal.main_arg2) = m' ((c.tc : Thread Cert.SsmConvRefIdeal.nD Cert.SsmConvRefIdeal.τ).loc Cert.SsmConvRefIdeal.main_arg2))

def preserves_Attention_AttentionIdeal : Prop :=
  IdealRules.named_const.Statement Cert.AttentionIdeal.κ "cutoff" .f32 0xC2D20000#32 ⊥

def algebraic_AttentionIdeal_AttentionRefIdeal_pre_attention_finite [hAttentionIdeal : Cert.AttentionIdeal.Facts] [hAttentionRefIdeal : Cert.AttentionRefIdeal.Facts] [hPre_attention_finite : Cert.Pre_attention_finite.Facts] : Prop :=
  ∀ (m : (ℓ : Loc Cert.AttentionIdeal.nD Cert.AttentionIdeal.τ Cert.AttentionIdeal.sig) → Buf (Elt Ideal) ℓ) (g : Dev Cert.AttentionIdeal.nD → PrngReg)
    (m' : (ℓ : Loc Cert.AttentionRefIdeal.nD Cert.AttentionRefIdeal.τ Cert.AttentionRefIdeal.sig) → Buf (Elt Ideal) ℓ) (g' : Dev Cert.AttentionRefIdeal.nD → PrngReg), Pre_AttentionIdeal_attention_finite m →
    (∀ c : Dev Cert.AttentionIdeal.nD,
      m' ((c.tc : Thread Cert.AttentionRefIdeal.nD Cert.AttentionRefIdeal.τ).loc Cert.AttentionRefIdeal.main_arg0) = m ((c.tc : Thread Cert.AttentionIdeal.nD Cert.AttentionIdeal.τ).loc Cert.AttentionIdeal.main_arg0)
      ∧ m' ((c.tc : Thread Cert.AttentionRefIdeal.nD Cert.AttentionRefIdeal.τ).loc Cert.AttentionRefIdeal.main_arg1) = m ((c.tc : Thread Cert.AttentionIdeal.nD Cert.AttentionIdeal.τ).loc Cert.AttentionIdeal.main_arg1)) →
    ∃ (v0 : (c : Dev Cert.AttentionIdeal.nD) → Buf (Elt Ideal) ((c.tc : Thread Cert.AttentionIdeal.nD Cert.AttentionIdeal.τ).loc Cert.AttentionIdeal.main_v40_0)) (v1 : (c : Dev Cert.AttentionIdeal.nD) → Buf (Elt Ideal) ((c.tc : Thread Cert.AttentionIdeal.nD Cert.AttentionIdeal.τ).loc Cert.AttentionIdeal.main_v40_1)) (v2 : (c : Dev Cert.AttentionIdeal.nD) → Buf (Elt Ideal) ((c.tc : Thread Cert.AttentionIdeal.nD Cert.AttentionIdeal.τ).loc Cert.AttentionIdeal.main_v40_2)),
      θ_run (Cert.AttentionIdeal.defs (F := Ideal)) (onTc (τ := Cert.AttentionIdeal.τ) (Cert.AttentionIdeal.main (F := Ideal))) ⟨m, fun _ => 0, g⟩ (fun r => ∀ c : Dev Cert.AttentionIdeal.nD,
          r.2.mem ((c.tc : Thread Cert.AttentionIdeal.nD Cert.AttentionIdeal.τ).loc Cert.AttentionIdeal.main_v40_0) = v0 c
          ∧ r.2.mem ((c.tc : Thread Cert.AttentionIdeal.nD Cert.AttentionIdeal.τ).loc Cert.AttentionIdeal.main_v40_1) = v1 c
          ∧ r.2.mem ((c.tc : Thread Cert.AttentionIdeal.nD Cert.AttentionIdeal.τ).loc Cert.AttentionIdeal.main_v40_2) = v2 c
          ∧ r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
          ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1))
      ∧ θ_run (Cert.AttentionRefIdeal.defs (F := Ideal)) (onTc (τ := Cert.AttentionRefIdeal.τ) (Cert.AttentionRefIdeal.main (F := Ideal))) ⟨m', fun _ => 0, g'⟩ (fun r => ∀ c : Dev Cert.AttentionRefIdeal.nD,
          r.2.mem ((c.tc : Thread Cert.AttentionRefIdeal.nD Cert.AttentionRefIdeal.τ).loc Cert.AttentionRefIdeal.main_v56) = v0 c
          ∧ r.2.mem ((c.tc : Thread Cert.AttentionRefIdeal.nD Cert.AttentionRefIdeal.τ).loc Cert.AttentionRefIdeal.main_v54) = v1 c
          ∧ r.2.mem ((c.tc : Thread Cert.AttentionRefIdeal.nD Cert.AttentionRefIdeal.τ).loc Cert.AttentionRefIdeal.main_v52) = v2 c
          ∧ r.2.mem ((c.tc : Thread Cert.AttentionRefIdeal.nD Cert.AttentionRefIdeal.τ).loc Cert.AttentionRefIdeal.main_arg0) = m' ((c.tc : Thread Cert.AttentionRefIdeal.nD Cert.AttentionRefIdeal.τ).loc Cert.AttentionRefIdeal.main_arg0)
          ∧ r.2.mem ((c.tc : Thread Cert.AttentionRefIdeal.nD Cert.AttentionRefIdeal.τ).loc Cert.AttentionRefIdeal.main_arg1) = m' ((c.tc : Thread Cert.AttentionRefIdeal.nD Cert.AttentionRefIdeal.τ).loc Cert.AttentionRefIdeal.main_arg1))

def preserves_ShortConv_ShortConvIdeal : Prop :=
  True

def algebraic_ShortConvIdeal_ShortConvRefIdeal [hShortConvIdeal : Cert.ShortConvIdeal.Facts] [hShortConvRefIdeal : Cert.ShortConvRefIdeal.Facts] : Prop :=
  ∀ (m : (ℓ : Loc Cert.ShortConvIdeal.nD Cert.ShortConvIdeal.τ Cert.ShortConvIdeal.sig) → Buf (Elt Ideal) ℓ) (g : Dev Cert.ShortConvIdeal.nD → PrngReg)
    (m' : (ℓ : Loc Cert.ShortConvRefIdeal.nD Cert.ShortConvRefIdeal.τ Cert.ShortConvRefIdeal.sig) → Buf (Elt Ideal) ℓ) (g' : Dev Cert.ShortConvRefIdeal.nD → PrngReg), Pre_ShortConvIdeal m →
    (∀ c : Dev Cert.ShortConvIdeal.nD,
      m' ((c.tc : Thread Cert.ShortConvRefIdeal.nD Cert.ShortConvRefIdeal.τ).loc Cert.ShortConvRefIdeal.main_arg0) = m ((c.tc : Thread Cert.ShortConvIdeal.nD Cert.ShortConvIdeal.τ).loc Cert.ShortConvIdeal.main_arg0)
      ∧ m' ((c.tc : Thread Cert.ShortConvRefIdeal.nD Cert.ShortConvRefIdeal.τ).loc Cert.ShortConvRefIdeal.main_arg1) = m ((c.tc : Thread Cert.ShortConvIdeal.nD Cert.ShortConvIdeal.τ).loc Cert.ShortConvIdeal.main_arg1)
      ∧ m' ((c.tc : Thread Cert.ShortConvRefIdeal.nD Cert.ShortConvRefIdeal.τ).loc Cert.ShortConvRefIdeal.main_arg2) = m ((c.tc : Thread Cert.ShortConvIdeal.nD Cert.ShortConvIdeal.τ).loc Cert.ShortConvIdeal.main_arg2)) →
    ∃ (v0 : (c : Dev Cert.ShortConvIdeal.nD) → Buf (Elt Ideal) ((c.tc : Thread Cert.ShortConvIdeal.nD Cert.ShortConvIdeal.τ).loc Cert.ShortConvIdeal.main_v8_0)) (v1 : (c : Dev Cert.ShortConvIdeal.nD) → Buf (Elt Ideal) ((c.tc : Thread Cert.ShortConvIdeal.nD Cert.ShortConvIdeal.τ).loc Cert.ShortConvIdeal.main_v8_1)) (v2 : (c : Dev Cert.ShortConvIdeal.nD) → Buf (Elt Ideal) ((c.tc : Thread Cert.ShortConvIdeal.nD Cert.ShortConvIdeal.τ).loc Cert.ShortConvIdeal.main_v8_2)) (v3 : (c : Dev Cert.ShortConvIdeal.nD) → Buf (Elt Ideal) ((c.tc : Thread Cert.ShortConvIdeal.nD Cert.ShortConvIdeal.τ).loc Cert.ShortConvIdeal.main_v8_3)),
      θ_run (Cert.ShortConvIdeal.defs (F := Ideal)) (onTc (τ := Cert.ShortConvIdeal.τ) (Cert.ShortConvIdeal.main (F := Ideal))) ⟨m, fun _ => 0, g⟩ (fun r => ∀ c : Dev Cert.ShortConvIdeal.nD,
          r.2.mem ((c.tc : Thread Cert.ShortConvIdeal.nD Cert.ShortConvIdeal.τ).loc Cert.ShortConvIdeal.main_v8_0) = v0 c
          ∧ r.2.mem ((c.tc : Thread Cert.ShortConvIdeal.nD Cert.ShortConvIdeal.τ).loc Cert.ShortConvIdeal.main_v8_1) = v1 c
          ∧ r.2.mem ((c.tc : Thread Cert.ShortConvIdeal.nD Cert.ShortConvIdeal.τ).loc Cert.ShortConvIdeal.main_v8_2) = v2 c
          ∧ r.2.mem ((c.tc : Thread Cert.ShortConvIdeal.nD Cert.ShortConvIdeal.τ).loc Cert.ShortConvIdeal.main_v8_3) = v3 c
          ∧ r.2.mem ((c.tc : Thread Cert.ShortConvIdeal.nD Cert.ShortConvIdeal.τ).loc Cert.ShortConvIdeal.main_arg0) = m ((c.tc : Thread Cert.ShortConvIdeal.nD Cert.ShortConvIdeal.τ).loc Cert.ShortConvIdeal.main_arg0)
          ∧ r.2.mem ((c.tc : Thread Cert.ShortConvIdeal.nD Cert.ShortConvIdeal.τ).loc Cert.ShortConvIdeal.main_arg1) = m ((c.tc : Thread Cert.ShortConvIdeal.nD Cert.ShortConvIdeal.τ).loc Cert.ShortConvIdeal.main_arg1)
          ∧ r.2.mem ((c.tc : Thread Cert.ShortConvIdeal.nD Cert.ShortConvIdeal.τ).loc Cert.ShortConvIdeal.main_arg2) = m ((c.tc : Thread Cert.ShortConvIdeal.nD Cert.ShortConvIdeal.τ).loc Cert.ShortConvIdeal.main_arg2))
      ∧ θ_run (Cert.ShortConvRefIdeal.defs (F := Ideal)) (onTc (τ := Cert.ShortConvRefIdeal.τ) (Cert.ShortConvRefIdeal.main (F := Ideal))) ⟨m', fun _ => 0, g'⟩ (fun r => ∀ c : Dev Cert.ShortConvRefIdeal.nD,
          r.2.mem ((c.tc : Thread Cert.ShortConvRefIdeal.nD Cert.ShortConvRefIdeal.τ).loc Cert.ShortConvRefIdeal.main_v57) = v0 c
          ∧ r.2.mem ((c.tc : Thread Cert.ShortConvRefIdeal.nD Cert.ShortConvRefIdeal.τ).loc Cert.ShortConvRefIdeal.main_v58) = v1 c
          ∧ r.2.mem ((c.tc : Thread Cert.ShortConvRefIdeal.nD Cert.ShortConvRefIdeal.τ).loc Cert.ShortConvRefIdeal.main_v59) = v2 c
          ∧ r.2.mem ((c.tc : Thread Cert.ShortConvRefIdeal.nD Cert.ShortConvRefIdeal.τ).loc Cert.ShortConvRefIdeal.main_v60) = v3 c
          ∧ r.2.mem ((c.tc : Thread Cert.ShortConvRefIdeal.nD Cert.ShortConvRefIdeal.τ).loc Cert.ShortConvRefIdeal.main_arg0) = m' ((c.tc : Thread Cert.ShortConvRefIdeal.nD Cert.ShortConvRefIdeal.τ).loc Cert.ShortConvRefIdeal.main_arg0)
          ∧ r.2.mem ((c.tc : Thread Cert.ShortConvRefIdeal.nD Cert.ShortConvRefIdeal.τ).loc Cert.ShortConvRefIdeal.main_arg1) = m' ((c.tc : Thread Cert.ShortConvRefIdeal.nD Cert.ShortConvRefIdeal.τ).loc Cert.ShortConvRefIdeal.main_arg1)
          ∧ r.2.mem ((c.tc : Thread Cert.ShortConvRefIdeal.nD Cert.ShortConvRefIdeal.τ).loc Cert.ShortConvRefIdeal.main_arg2) = m' ((c.tc : Thread Cert.ShortConvRefIdeal.nD Cert.ShortConvRefIdeal.τ).loc Cert.ShortConvRefIdeal.main_arg2))

def preserves_LossLast_LossLastIdeal : Prop :=
  True

def algebraic_LossLastIdeal_LossLastRefIdeal_pre_losslast_finite [hLossLastIdeal : Cert.LossLastIdeal.Facts] [hLossLastRefIdeal : Cert.LossLastRefIdeal.Facts] [hPre_losslast_finite : Cert.Pre_losslast_finite.Facts] : Prop :=
  ∀ (m : (ℓ : Loc Cert.LossLastIdeal.nD Cert.LossLastIdeal.τ Cert.LossLastIdeal.sig) → Buf (Elt Ideal) ℓ) (g : Dev Cert.LossLastIdeal.nD → PrngReg)
    (m' : (ℓ : Loc Cert.LossLastRefIdeal.nD Cert.LossLastRefIdeal.τ Cert.LossLastRefIdeal.sig) → Buf (Elt Ideal) ℓ) (g' : Dev Cert.LossLastRefIdeal.nD → PrngReg), Pre_LossLastIdeal_losslast_finite m →
    (∀ c : Dev Cert.LossLastIdeal.nD,
      m' ((c.tc : Thread Cert.LossLastRefIdeal.nD Cert.LossLastRefIdeal.τ).loc Cert.LossLastRefIdeal.main_arg0) = m ((c.tc : Thread Cert.LossLastIdeal.nD Cert.LossLastIdeal.τ).loc Cert.LossLastIdeal.main_arg0)
      ∧ m' ((c.tc : Thread Cert.LossLastRefIdeal.nD Cert.LossLastRefIdeal.τ).loc Cert.LossLastRefIdeal.main_arg1) = m ((c.tc : Thread Cert.LossLastIdeal.nD Cert.LossLastIdeal.τ).loc Cert.LossLastIdeal.main_arg1)
      ∧ m' ((c.tc : Thread Cert.LossLastRefIdeal.nD Cert.LossLastRefIdeal.τ).loc Cert.LossLastRefIdeal.main_arg2) = m ((c.tc : Thread Cert.LossLastIdeal.nD Cert.LossLastIdeal.τ).loc Cert.LossLastIdeal.main_arg2)
      ∧ m' ((c.tc : Thread Cert.LossLastRefIdeal.nD Cert.LossLastRefIdeal.τ).loc Cert.LossLastRefIdeal.main_arg3) = m ((c.tc : Thread Cert.LossLastIdeal.nD Cert.LossLastIdeal.τ).loc Cert.LossLastIdeal.main_arg3)
      ∧ m' ((c.tc : Thread Cert.LossLastRefIdeal.nD Cert.LossLastRefIdeal.τ).loc Cert.LossLastRefIdeal.main_arg4) = m ((c.tc : Thread Cert.LossLastIdeal.nD Cert.LossLastIdeal.τ).loc Cert.LossLastIdeal.main_arg4)) →
    ∃ (v0 : (c : Dev Cert.LossLastIdeal.nD) → Buf (Elt Ideal) ((c.tc : Thread Cert.LossLastIdeal.nD Cert.LossLastIdeal.τ).loc Cert.LossLastIdeal.main_v1_0)) (v1 : (c : Dev Cert.LossLastIdeal.nD) → Buf (Elt Ideal) ((c.tc : Thread Cert.LossLastIdeal.nD Cert.LossLastIdeal.τ).loc Cert.LossLastIdeal.main_v1_1)) (v2 : (c : Dev Cert.LossLastIdeal.nD) → Buf (Elt Ideal) ((c.tc : Thread Cert.LossLastIdeal.nD Cert.LossLastIdeal.τ).loc Cert.LossLastIdeal.main_v1_2)) (v3 : (c : Dev Cert.LossLastIdeal.nD) → Buf (Elt Ideal) ((c.tc : Thread Cert.LossLastIdeal.nD Cert.LossLastIdeal.τ).loc Cert.LossLastIdeal.main_v1_3)) (v4 : (c : Dev Cert.LossLastIdeal.nD) → Buf (Elt Ideal) ((c.tc : Thread Cert.LossLastIdeal.nD Cert.LossLastIdeal.τ).loc Cert.LossLastIdeal.main_v1_4)),
      θ_run (Cert.LossLastIdeal.defs (F := Ideal)) (onTc (τ := Cert.LossLastIdeal.τ) (Cert.LossLastIdeal.main (F := Ideal))) ⟨m, fun _ => 0, g⟩ (fun r => ∀ c : Dev Cert.LossLastIdeal.nD,
          r.2.mem ((c.tc : Thread Cert.LossLastIdeal.nD Cert.LossLastIdeal.τ).loc Cert.LossLastIdeal.main_v1_0) = v0 c
          ∧ r.2.mem ((c.tc : Thread Cert.LossLastIdeal.nD Cert.LossLastIdeal.τ).loc Cert.LossLastIdeal.main_v1_1) = v1 c
          ∧ r.2.mem ((c.tc : Thread Cert.LossLastIdeal.nD Cert.LossLastIdeal.τ).loc Cert.LossLastIdeal.main_v1_2) = v2 c
          ∧ r.2.mem ((c.tc : Thread Cert.LossLastIdeal.nD Cert.LossLastIdeal.τ).loc Cert.LossLastIdeal.main_v1_3) = v3 c
          ∧ r.2.mem ((c.tc : Thread Cert.LossLastIdeal.nD Cert.LossLastIdeal.τ).loc Cert.LossLastIdeal.main_v1_4) = v4 c
          ∧ r.2.mem ((c.tc : Thread Cert.LossLastIdeal.nD Cert.LossLastIdeal.τ).loc Cert.LossLastIdeal.main_arg0) = m ((c.tc : Thread Cert.LossLastIdeal.nD Cert.LossLastIdeal.τ).loc Cert.LossLastIdeal.main_arg0)
          ∧ r.2.mem ((c.tc : Thread Cert.LossLastIdeal.nD Cert.LossLastIdeal.τ).loc Cert.LossLastIdeal.main_arg1) = m ((c.tc : Thread Cert.LossLastIdeal.nD Cert.LossLastIdeal.τ).loc Cert.LossLastIdeal.main_arg1)
          ∧ r.2.mem ((c.tc : Thread Cert.LossLastIdeal.nD Cert.LossLastIdeal.τ).loc Cert.LossLastIdeal.main_arg2) = m ((c.tc : Thread Cert.LossLastIdeal.nD Cert.LossLastIdeal.τ).loc Cert.LossLastIdeal.main_arg2)
          ∧ r.2.mem ((c.tc : Thread Cert.LossLastIdeal.nD Cert.LossLastIdeal.τ).loc Cert.LossLastIdeal.main_arg3) = m ((c.tc : Thread Cert.LossLastIdeal.nD Cert.LossLastIdeal.τ).loc Cert.LossLastIdeal.main_arg3)
          ∧ r.2.mem ((c.tc : Thread Cert.LossLastIdeal.nD Cert.LossLastIdeal.τ).loc Cert.LossLastIdeal.main_arg4) = m ((c.tc : Thread Cert.LossLastIdeal.nD Cert.LossLastIdeal.τ).loc Cert.LossLastIdeal.main_arg4))
      ∧ θ_run (Cert.LossLastRefIdeal.defs (F := Ideal)) (onTc (τ := Cert.LossLastRefIdeal.τ) (Cert.LossLastRefIdeal.main (F := Ideal))) ⟨m', fun _ => 0, g'⟩ (fun r => ∀ c : Dev Cert.LossLastRefIdeal.nD,
          r.2.mem ((c.tc : Thread Cert.LossLastRefIdeal.nD Cert.LossLastRefIdeal.τ).loc Cert.LossLastRefIdeal.main_v32) = v0 c
          ∧ r.2.mem ((c.tc : Thread Cert.LossLastRefIdeal.nD Cert.LossLastRefIdeal.τ).loc Cert.LossLastRefIdeal.main_v74) = v1 c
          ∧ r.2.mem ((c.tc : Thread Cert.LossLastRefIdeal.nD Cert.LossLastRefIdeal.τ).loc Cert.LossLastRefIdeal.main_v37) = v2 c
          ∧ r.2.mem ((c.tc : Thread Cert.LossLastRefIdeal.nD Cert.LossLastRefIdeal.τ).loc Cert.LossLastRefIdeal.main_v40) = v3 c
          ∧ r.2.mem ((c.tc : Thread Cert.LossLastRefIdeal.nD Cert.LossLastRefIdeal.τ).loc Cert.LossLastRefIdeal.main_v80) = v4 c
          ∧ r.2.mem ((c.tc : Thread Cert.LossLastRefIdeal.nD Cert.LossLastRefIdeal.τ).loc Cert.LossLastRefIdeal.main_arg0) = m' ((c.tc : Thread Cert.LossLastRefIdeal.nD Cert.LossLastRefIdeal.τ).loc Cert.LossLastRefIdeal.main_arg0)
          ∧ r.2.mem ((c.tc : Thread Cert.LossLastRefIdeal.nD Cert.LossLastRefIdeal.τ).loc Cert.LossLastRefIdeal.main_arg1) = m' ((c.tc : Thread Cert.LossLastRefIdeal.nD Cert.LossLastRefIdeal.τ).loc Cert.LossLastRefIdeal.main_arg1)
          ∧ r.2.mem ((c.tc : Thread Cert.LossLastRefIdeal.nD Cert.LossLastRefIdeal.τ).loc Cert.LossLastRefIdeal.main_arg2) = m' ((c.tc : Thread Cert.LossLastRefIdeal.nD Cert.LossLastRefIdeal.τ).loc Cert.LossLastRefIdeal.main_arg2)
          ∧ r.2.mem ((c.tc : Thread Cert.LossLastRefIdeal.nD Cert.LossLastRefIdeal.τ).loc Cert.LossLastRefIdeal.main_arg3) = m' ((c.tc : Thread Cert.LossLastRefIdeal.nD Cert.LossLastRefIdeal.τ).loc Cert.LossLastRefIdeal.main_arg3)
          ∧ r.2.mem ((c.tc : Thread Cert.LossLastRefIdeal.nD Cert.LossLastRefIdeal.τ).loc Cert.LossLastRefIdeal.main_arg4) = m' ((c.tc : Thread Cert.LossLastRefIdeal.nD Cert.LossLastRefIdeal.τ).loc Cert.LossLastRefIdeal.main_arg4))

def preserves_AdalnFirst_AdalnFirstIdeal : Prop :=
  True

def algebraic_AdalnFirstIdeal_AdalnFirstRefIdeal_pre_adalnfirst_finite [hAdalnFirstIdeal : Cert.AdalnFirstIdeal.Facts] [hAdalnFirstRefIdeal : Cert.AdalnFirstRefIdeal.Facts] [hPre_adalnfirst_finite : Cert.Pre_adalnfirst_finite.Facts] : Prop :=
  ∀ (m : (ℓ : Loc Cert.AdalnFirstIdeal.nD Cert.AdalnFirstIdeal.τ Cert.AdalnFirstIdeal.sig) → Buf (Elt Ideal) ℓ) (g : Dev Cert.AdalnFirstIdeal.nD → PrngReg)
    (m' : (ℓ : Loc Cert.AdalnFirstRefIdeal.nD Cert.AdalnFirstRefIdeal.τ Cert.AdalnFirstRefIdeal.sig) → Buf (Elt Ideal) ℓ) (g' : Dev Cert.AdalnFirstRefIdeal.nD → PrngReg), Pre_AdalnFirstIdeal_adalnfirst_finite m →
    (∀ c : Dev Cert.AdalnFirstIdeal.nD,
      m' ((c.tc : Thread Cert.AdalnFirstRefIdeal.nD Cert.AdalnFirstRefIdeal.τ).loc Cert.AdalnFirstRefIdeal.main_arg0) = m ((c.tc : Thread Cert.AdalnFirstIdeal.nD Cert.AdalnFirstIdeal.τ).loc Cert.AdalnFirstIdeal.main_arg0)
      ∧ m' ((c.tc : Thread Cert.AdalnFirstRefIdeal.nD Cert.AdalnFirstRefIdeal.τ).loc Cert.AdalnFirstRefIdeal.main_arg1) = m ((c.tc : Thread Cert.AdalnFirstIdeal.nD Cert.AdalnFirstIdeal.τ).loc Cert.AdalnFirstIdeal.main_arg1)
      ∧ m' ((c.tc : Thread Cert.AdalnFirstRefIdeal.nD Cert.AdalnFirstRefIdeal.τ).loc Cert.AdalnFirstRefIdeal.main_arg2) = m ((c.tc : Thread Cert.AdalnFirstIdeal.nD Cert.AdalnFirstIdeal.τ).loc Cert.AdalnFirstIdeal.main_arg2)
      ∧ m' ((c.tc : Thread Cert.AdalnFirstRefIdeal.nD Cert.AdalnFirstRefIdeal.τ).loc Cert.AdalnFirstRefIdeal.main_arg3) = m ((c.tc : Thread Cert.AdalnFirstIdeal.nD Cert.AdalnFirstIdeal.τ).loc Cert.AdalnFirstIdeal.main_arg3)
      ∧ m' ((c.tc : Thread Cert.AdalnFirstRefIdeal.nD Cert.AdalnFirstRefIdeal.τ).loc Cert.AdalnFirstRefIdeal.main_arg4) = m ((c.tc : Thread Cert.AdalnFirstIdeal.nD Cert.AdalnFirstIdeal.τ).loc Cert.AdalnFirstIdeal.main_arg4)
      ∧ m' ((c.tc : Thread Cert.AdalnFirstRefIdeal.nD Cert.AdalnFirstRefIdeal.τ).loc Cert.AdalnFirstRefIdeal.main_arg5) = m ((c.tc : Thread Cert.AdalnFirstIdeal.nD Cert.AdalnFirstIdeal.τ).loc Cert.AdalnFirstIdeal.main_arg5)) →
    ∃ (v0 : (c : Dev Cert.AdalnFirstIdeal.nD) → Buf (Elt Ideal) ((c.tc : Thread Cert.AdalnFirstIdeal.nD Cert.AdalnFirstIdeal.τ).loc Cert.AdalnFirstIdeal.main_v1_0)) (v1 : (c : Dev Cert.AdalnFirstIdeal.nD) → Buf (Elt Ideal) ((c.tc : Thread Cert.AdalnFirstIdeal.nD Cert.AdalnFirstIdeal.τ).loc Cert.AdalnFirstIdeal.main_v1_1)) (v2 : (c : Dev Cert.AdalnFirstIdeal.nD) → Buf (Elt Ideal) ((c.tc : Thread Cert.AdalnFirstIdeal.nD Cert.AdalnFirstIdeal.τ).loc Cert.AdalnFirstIdeal.main_v1_2)) (v3 : (c : Dev Cert.AdalnFirstIdeal.nD) → Buf (Elt Ideal) ((c.tc : Thread Cert.AdalnFirstIdeal.nD Cert.AdalnFirstIdeal.τ).loc Cert.AdalnFirstIdeal.main_v1_3)),
      θ_run (Cert.AdalnFirstIdeal.defs (F := Ideal)) (onTc (τ := Cert.AdalnFirstIdeal.τ) (Cert.AdalnFirstIdeal.main (F := Ideal))) ⟨m, fun _ => 0, g⟩ (fun r => ∀ c : Dev Cert.AdalnFirstIdeal.nD,
          r.2.mem ((c.tc : Thread Cert.AdalnFirstIdeal.nD Cert.AdalnFirstIdeal.τ).loc Cert.AdalnFirstIdeal.main_v1_0) = v0 c
          ∧ r.2.mem ((c.tc : Thread Cert.AdalnFirstIdeal.nD Cert.AdalnFirstIdeal.τ).loc Cert.AdalnFirstIdeal.main_v1_1) = v1 c
          ∧ r.2.mem ((c.tc : Thread Cert.AdalnFirstIdeal.nD Cert.AdalnFirstIdeal.τ).loc Cert.AdalnFirstIdeal.main_v1_2) = v2 c
          ∧ r.2.mem ((c.tc : Thread Cert.AdalnFirstIdeal.nD Cert.AdalnFirstIdeal.τ).loc Cert.AdalnFirstIdeal.main_v1_3) = v3 c
          ∧ r.2.mem ((c.tc : Thread Cert.AdalnFirstIdeal.nD Cert.AdalnFirstIdeal.τ).loc Cert.AdalnFirstIdeal.main_arg0) = m ((c.tc : Thread Cert.AdalnFirstIdeal.nD Cert.AdalnFirstIdeal.τ).loc Cert.AdalnFirstIdeal.main_arg0)
          ∧ r.2.mem ((c.tc : Thread Cert.AdalnFirstIdeal.nD Cert.AdalnFirstIdeal.τ).loc Cert.AdalnFirstIdeal.main_arg1) = m ((c.tc : Thread Cert.AdalnFirstIdeal.nD Cert.AdalnFirstIdeal.τ).loc Cert.AdalnFirstIdeal.main_arg1)
          ∧ r.2.mem ((c.tc : Thread Cert.AdalnFirstIdeal.nD Cert.AdalnFirstIdeal.τ).loc Cert.AdalnFirstIdeal.main_arg2) = m ((c.tc : Thread Cert.AdalnFirstIdeal.nD Cert.AdalnFirstIdeal.τ).loc Cert.AdalnFirstIdeal.main_arg2)
          ∧ r.2.mem ((c.tc : Thread Cert.AdalnFirstIdeal.nD Cert.AdalnFirstIdeal.τ).loc Cert.AdalnFirstIdeal.main_arg3) = m ((c.tc : Thread Cert.AdalnFirstIdeal.nD Cert.AdalnFirstIdeal.τ).loc Cert.AdalnFirstIdeal.main_arg3)
          ∧ r.2.mem ((c.tc : Thread Cert.AdalnFirstIdeal.nD Cert.AdalnFirstIdeal.τ).loc Cert.AdalnFirstIdeal.main_arg4) = m ((c.tc : Thread Cert.AdalnFirstIdeal.nD Cert.AdalnFirstIdeal.τ).loc Cert.AdalnFirstIdeal.main_arg4)
          ∧ r.2.mem ((c.tc : Thread Cert.AdalnFirstIdeal.nD Cert.AdalnFirstIdeal.τ).loc Cert.AdalnFirstIdeal.main_arg5) = m ((c.tc : Thread Cert.AdalnFirstIdeal.nD Cert.AdalnFirstIdeal.τ).loc Cert.AdalnFirstIdeal.main_arg5))
      ∧ θ_run (Cert.AdalnFirstRefIdeal.defs (F := Ideal)) (onTc (τ := Cert.AdalnFirstRefIdeal.τ) (Cert.AdalnFirstRefIdeal.main (F := Ideal))) ⟨m', fun _ => 0, g'⟩ (fun r => ∀ c : Dev Cert.AdalnFirstRefIdeal.nD,
          r.2.mem ((c.tc : Thread Cert.AdalnFirstRefIdeal.nD Cert.AdalnFirstRefIdeal.τ).loc Cert.AdalnFirstRefIdeal.main_v48) = v0 c
          ∧ r.2.mem ((c.tc : Thread Cert.AdalnFirstRefIdeal.nD Cert.AdalnFirstRefIdeal.τ).loc Cert.AdalnFirstRefIdeal.main_v31) = v1 c
          ∧ r.2.mem ((c.tc : Thread Cert.AdalnFirstRefIdeal.nD Cert.AdalnFirstRefIdeal.τ).loc Cert.AdalnFirstRefIdeal.main_v26) = v2 c
          ∧ r.2.mem ((c.tc : Thread Cert.AdalnFirstRefIdeal.nD Cert.AdalnFirstRefIdeal.τ).loc Cert.AdalnFirstRefIdeal.main_v23) = v3 c
          ∧ r.2.mem ((c.tc : Thread Cert.AdalnFirstRefIdeal.nD Cert.AdalnFirstRefIdeal.τ).loc Cert.AdalnFirstRefIdeal.main_arg0) = m' ((c.tc : Thread Cert.AdalnFirstRefIdeal.nD Cert.AdalnFirstRefIdeal.τ).loc Cert.AdalnFirstRefIdeal.main_arg0)
          ∧ r.2.mem ((c.tc : Thread Cert.AdalnFirstRefIdeal.nD Cert.AdalnFirstRefIdeal.τ).loc Cert.AdalnFirstRefIdeal.main_arg1) = m' ((c.tc : Thread Cert.AdalnFirstRefIdeal.nD Cert.AdalnFirstRefIdeal.τ).loc Cert.AdalnFirstRefIdeal.main_arg1)
          ∧ r.2.mem ((c.tc : Thread Cert.AdalnFirstRefIdeal.nD Cert.AdalnFirstRefIdeal.τ).loc Cert.AdalnFirstRefIdeal.main_arg2) = m' ((c.tc : Thread Cert.AdalnFirstRefIdeal.nD Cert.AdalnFirstRefIdeal.τ).loc Cert.AdalnFirstRefIdeal.main_arg2)
          ∧ r.2.mem ((c.tc : Thread Cert.AdalnFirstRefIdeal.nD Cert.AdalnFirstRefIdeal.τ).loc Cert.AdalnFirstRefIdeal.main_arg3) = m' ((c.tc : Thread Cert.AdalnFirstRefIdeal.nD Cert.AdalnFirstRefIdeal.τ).loc Cert.AdalnFirstRefIdeal.main_arg3)
          ∧ r.2.mem ((c.tc : Thread Cert.AdalnFirstRefIdeal.nD Cert.AdalnFirstRefIdeal.τ).loc Cert.AdalnFirstRefIdeal.main_arg4) = m' ((c.tc : Thread Cert.AdalnFirstRefIdeal.nD Cert.AdalnFirstRefIdeal.τ).loc Cert.AdalnFirstRefIdeal.main_arg4)
          ∧ r.2.mem ((c.tc : Thread Cert.AdalnFirstRefIdeal.nD Cert.AdalnFirstRefIdeal.τ).loc Cert.AdalnFirstRefIdeal.main_arg5) = m' ((c.tc : Thread Cert.AdalnFirstRefIdeal.nD Cert.AdalnFirstRefIdeal.τ).loc Cert.AdalnFirstRefIdeal.main_arg5))

def preserves_SsmPost_SsmPostIdeal : Prop :=
  True

def algebraic_SsmPostIdeal_SsmPostRefIdeal_pre_ssmpost_finite [hSsmPostIdeal : Cert.SsmPostIdeal.Facts] [hSsmPostRefIdeal : Cert.SsmPostRefIdeal.Facts] [hPre_ssmpost_finite : Cert.Pre_ssmpost_finite.Facts] : Prop :=
  ∀ (m : (ℓ : Loc Cert.SsmPostIdeal.nD Cert.SsmPostIdeal.τ Cert.SsmPostIdeal.sig) → Buf (Elt Ideal) ℓ) (g : Dev Cert.SsmPostIdeal.nD → PrngReg)
    (m' : (ℓ : Loc Cert.SsmPostRefIdeal.nD Cert.SsmPostRefIdeal.τ Cert.SsmPostRefIdeal.sig) → Buf (Elt Ideal) ℓ) (g' : Dev Cert.SsmPostRefIdeal.nD → PrngReg), Pre_SsmPostIdeal_ssmpost_finite m →
    (∀ c : Dev Cert.SsmPostIdeal.nD,
      m' ((c.tc : Thread Cert.SsmPostRefIdeal.nD Cert.SsmPostRefIdeal.τ).loc Cert.SsmPostRefIdeal.main_arg0) = m ((c.tc : Thread Cert.SsmPostIdeal.nD Cert.SsmPostIdeal.τ).loc Cert.SsmPostIdeal.main_arg0)
      ∧ m' ((c.tc : Thread Cert.SsmPostRefIdeal.nD Cert.SsmPostRefIdeal.τ).loc Cert.SsmPostRefIdeal.main_arg1) = m ((c.tc : Thread Cert.SsmPostIdeal.nD Cert.SsmPostIdeal.τ).loc Cert.SsmPostIdeal.main_arg1)
      ∧ m' ((c.tc : Thread Cert.SsmPostRefIdeal.nD Cert.SsmPostRefIdeal.τ).loc Cert.SsmPostRefIdeal.main_arg2) = m ((c.tc : Thread Cert.SsmPostIdeal.nD Cert.SsmPostIdeal.τ).loc Cert.SsmPostIdeal.main_arg2)
      ∧ m' ((c.tc : Thread Cert.SsmPostRefIdeal.nD Cert.SsmPostRefIdeal.τ).loc Cert.SsmPostRefIdeal.main_arg3) = m ((c.tc : Thread Cert.SsmPostIdeal.nD Cert.SsmPostIdeal.τ).loc Cert.SsmPostIdeal.main_arg3)
      ∧ m' ((c.tc : Thread Cert.SsmPostRefIdeal.nD Cert.SsmPostRefIdeal.τ).loc Cert.SsmPostRefIdeal.main_arg4) = m ((c.tc : Thread Cert.SsmPostIdeal.nD Cert.SsmPostIdeal.τ).loc Cert.SsmPostIdeal.main_arg4)
      ∧ m' ((c.tc : Thread Cert.SsmPostRefIdeal.nD Cert.SsmPostRefIdeal.τ).loc Cert.SsmPostRefIdeal.main_arg5) = m ((c.tc : Thread Cert.SsmPostIdeal.nD Cert.SsmPostIdeal.τ).loc Cert.SsmPostIdeal.main_arg5)) →
    ∃ (v0 : (c : Dev Cert.SsmPostIdeal.nD) → Buf (Elt Ideal) ((c.tc : Thread Cert.SsmPostIdeal.nD Cert.SsmPostIdeal.τ).loc Cert.SsmPostIdeal.main_v10_0)) (v1 : (c : Dev Cert.SsmPostIdeal.nD) → Buf (Elt Ideal) ((c.tc : Thread Cert.SsmPostIdeal.nD Cert.SsmPostIdeal.τ).loc Cert.SsmPostIdeal.main_v10_1)) (v2 : (c : Dev Cert.SsmPostIdeal.nD) → Buf (Elt Ideal) ((c.tc : Thread Cert.SsmPostIdeal.nD Cert.SsmPostIdeal.τ).loc Cert.SsmPostIdeal.main_v10_2)) (v3 : (c : Dev Cert.SsmPostIdeal.nD) → Buf (Elt Ideal) ((c.tc : Thread Cert.SsmPostIdeal.nD Cert.SsmPostIdeal.τ).loc Cert.SsmPostIdeal.main_v10_3)) (v4 : (c : Dev Cert.SsmPostIdeal.nD) → Buf (Elt Ideal) ((c.tc : Thread Cert.SsmPostIdeal.nD Cert.SsmPostIdeal.τ).loc Cert.SsmPostIdeal.main_v10_4)),
      θ_run (Cert.SsmPostIdeal.defs (F := Ideal)) (onTc (τ := Cert.SsmPostIdeal.τ) (Cert.SsmPostIdeal.main (F := Ideal))) ⟨m, fun _ => 0, g⟩ (fun r => ∀ c : Dev Cert.SsmPostIdeal.nD,
          r.2.mem ((c.tc : Thread Cert.SsmPostIdeal.nD Cert.SsmPostIdeal.τ).loc Cert.SsmPostIdeal.main_v10_0) = v0 c
          ∧ r.2.mem ((c.tc : Thread Cert.SsmPostIdeal.nD Cert.SsmPostIdeal.τ).loc Cert.SsmPostIdeal.main_v10_1) = v1 c
          ∧ r.2.mem ((c.tc : Thread Cert.SsmPostIdeal.nD Cert.SsmPostIdeal.τ).loc Cert.SsmPostIdeal.main_v10_2) = v2 c
          ∧ r.2.mem ((c.tc : Thread Cert.SsmPostIdeal.nD Cert.SsmPostIdeal.τ).loc Cert.SsmPostIdeal.main_v10_3) = v3 c
          ∧ r.2.mem ((c.tc : Thread Cert.SsmPostIdeal.nD Cert.SsmPostIdeal.τ).loc Cert.SsmPostIdeal.main_v10_4) = v4 c
          ∧ r.2.mem ((c.tc : Thread Cert.SsmPostIdeal.nD Cert.SsmPostIdeal.τ).loc Cert.SsmPostIdeal.main_arg0) = m ((c.tc : Thread Cert.SsmPostIdeal.nD Cert.SsmPostIdeal.τ).loc Cert.SsmPostIdeal.main_arg0)
          ∧ r.2.mem ((c.tc : Thread Cert.SsmPostIdeal.nD Cert.SsmPostIdeal.τ).loc Cert.SsmPostIdeal.main_arg1) = m ((c.tc : Thread Cert.SsmPostIdeal.nD Cert.SsmPostIdeal.τ).loc Cert.SsmPostIdeal.main_arg1)
          ∧ r.2.mem ((c.tc : Thread Cert.SsmPostIdeal.nD Cert.SsmPostIdeal.τ).loc Cert.SsmPostIdeal.main_arg2) = m ((c.tc : Thread Cert.SsmPostIdeal.nD Cert.SsmPostIdeal.τ).loc Cert.SsmPostIdeal.main_arg2)
          ∧ r.2.mem ((c.tc : Thread Cert.SsmPostIdeal.nD Cert.SsmPostIdeal.τ).loc Cert.SsmPostIdeal.main_arg3) = m ((c.tc : Thread Cert.SsmPostIdeal.nD Cert.SsmPostIdeal.τ).loc Cert.SsmPostIdeal.main_arg3)
          ∧ r.2.mem ((c.tc : Thread Cert.SsmPostIdeal.nD Cert.SsmPostIdeal.τ).loc Cert.SsmPostIdeal.main_arg4) = m ((c.tc : Thread Cert.SsmPostIdeal.nD Cert.SsmPostIdeal.τ).loc Cert.SsmPostIdeal.main_arg4)
          ∧ r.2.mem ((c.tc : Thread Cert.SsmPostIdeal.nD Cert.SsmPostIdeal.τ).loc Cert.SsmPostIdeal.main_arg5) = m ((c.tc : Thread Cert.SsmPostIdeal.nD Cert.SsmPostIdeal.τ).loc Cert.SsmPostIdeal.main_arg5))
      ∧ θ_run (Cert.SsmPostRefIdeal.defs (F := Ideal)) (onTc (τ := Cert.SsmPostRefIdeal.τ) (Cert.SsmPostRefIdeal.main (F := Ideal))) ⟨m', fun _ => 0, g'⟩ (fun r => ∀ c : Dev Cert.SsmPostRefIdeal.nD,
          r.2.mem ((c.tc : Thread Cert.SsmPostRefIdeal.nD Cert.SsmPostRefIdeal.τ).loc Cert.SsmPostRefIdeal.main_v50) = v0 c
          ∧ r.2.mem ((c.tc : Thread Cert.SsmPostRefIdeal.nD Cert.SsmPostRefIdeal.τ).loc Cert.SsmPostRefIdeal.main_v57) = v1 c
          ∧ r.2.mem ((c.tc : Thread Cert.SsmPostRefIdeal.nD Cert.SsmPostRefIdeal.τ).loc Cert.SsmPostRefIdeal.main_v58) = v2 c
          ∧ r.2.mem ((c.tc : Thread Cert.SsmPostRefIdeal.nD Cert.SsmPostRefIdeal.τ).loc Cert.SsmPostRefIdeal.main_v54) = v3 c
          ∧ r.2.mem ((c.tc : Thread Cert.SsmPostRefIdeal.nD Cert.SsmPostRefIdeal.τ).loc Cert.SsmPostRefIdeal.main_v30) = v4 c
          ∧ r.2.mem ((c.tc : Thread Cert.SsmPostRefIdeal.nD Cert.SsmPostRefIdeal.τ).loc Cert.SsmPostRefIdeal.main_arg0) = m' ((c.tc : Thread Cert.SsmPostRefIdeal.nD Cert.SsmPostRefIdeal.τ).loc Cert.SsmPostRefIdeal.main_arg0)
          ∧ r.2.mem ((c.tc : Thread Cert.SsmPostRefIdeal.nD Cert.SsmPostRefIdeal.τ).loc Cert.SsmPostRefIdeal.main_arg1) = m' ((c.tc : Thread Cert.SsmPostRefIdeal.nD Cert.SsmPostRefIdeal.τ).loc Cert.SsmPostRefIdeal.main_arg1)
          ∧ r.2.mem ((c.tc : Thread Cert.SsmPostRefIdeal.nD Cert.SsmPostRefIdeal.τ).loc Cert.SsmPostRefIdeal.main_arg2) = m' ((c.tc : Thread Cert.SsmPostRefIdeal.nD Cert.SsmPostRefIdeal.τ).loc Cert.SsmPostRefIdeal.main_arg2)
          ∧ r.2.mem ((c.tc : Thread Cert.SsmPostRefIdeal.nD Cert.SsmPostRefIdeal.τ).loc Cert.SsmPostRefIdeal.main_arg3) = m' ((c.tc : Thread Cert.SsmPostRefIdeal.nD Cert.SsmPostRefIdeal.τ).loc Cert.SsmPostRefIdeal.main_arg3)
          ∧ r.2.mem ((c.tc : Thread Cert.SsmPostRefIdeal.nD Cert.SsmPostRefIdeal.τ).loc Cert.SsmPostRefIdeal.main_arg4) = m' ((c.tc : Thread Cert.SsmPostRefIdeal.nD Cert.SsmPostRefIdeal.τ).loc Cert.SsmPostRefIdeal.main_arg4)
          ∧ r.2.mem ((c.tc : Thread Cert.SsmPostRefIdeal.nD Cert.SsmPostRefIdeal.τ).loc Cert.SsmPostRefIdeal.main_arg5) = m' ((c.tc : Thread Cert.SsmPostRefIdeal.nD Cert.SsmPostRefIdeal.τ).loc Cert.SsmPostRefIdeal.main_arg5))

def preserves_SwiGlu_SwiGluIdeal : Prop :=
  True

def algebraic_SwiGluIdeal_SwiGluRefIdeal_pre_swiglu_finite [hSwiGluIdeal : Cert.SwiGluIdeal.Facts] [hSwiGluRefIdeal : Cert.SwiGluRefIdeal.Facts] [hPre_swiglu_finite : Cert.Pre_swiglu_finite.Facts] : Prop :=
  ∀ (m : (ℓ : Loc Cert.SwiGluIdeal.nD Cert.SwiGluIdeal.τ Cert.SwiGluIdeal.sig) → Buf (Elt Ideal) ℓ) (g : Dev Cert.SwiGluIdeal.nD → PrngReg)
    (m' : (ℓ : Loc Cert.SwiGluRefIdeal.nD Cert.SwiGluRefIdeal.τ Cert.SwiGluRefIdeal.sig) → Buf (Elt Ideal) ℓ) (g' : Dev Cert.SwiGluRefIdeal.nD → PrngReg), Pre_SwiGluIdeal_swiglu_finite m →
    (∀ c : Dev Cert.SwiGluIdeal.nD,
      m' ((c.tc : Thread Cert.SwiGluRefIdeal.nD Cert.SwiGluRefIdeal.τ).loc Cert.SwiGluRefIdeal.main_arg0) = m ((c.tc : Thread Cert.SwiGluIdeal.nD Cert.SwiGluIdeal.τ).loc Cert.SwiGluIdeal.main_arg0)
      ∧ m' ((c.tc : Thread Cert.SwiGluRefIdeal.nD Cert.SwiGluRefIdeal.τ).loc Cert.SwiGluRefIdeal.main_arg1) = m ((c.tc : Thread Cert.SwiGluIdeal.nD Cert.SwiGluIdeal.τ).loc Cert.SwiGluIdeal.main_arg1)
      ∧ m' ((c.tc : Thread Cert.SwiGluRefIdeal.nD Cert.SwiGluRefIdeal.τ).loc Cert.SwiGluRefIdeal.main_arg2) = m ((c.tc : Thread Cert.SwiGluIdeal.nD Cert.SwiGluIdeal.τ).loc Cert.SwiGluIdeal.main_arg2)) →
    ∃ (v0 : (c : Dev Cert.SwiGluIdeal.nD) → Buf (Elt Ideal) ((c.tc : Thread Cert.SwiGluIdeal.nD Cert.SwiGluIdeal.τ).loc Cert.SwiGluIdeal.main_v13)),
      θ_run (Cert.SwiGluIdeal.defs (F := Ideal)) (onTc (τ := Cert.SwiGluIdeal.τ) (Cert.SwiGluIdeal.main (F := Ideal))) ⟨m, fun _ => 0, g⟩ (fun r => ∀ c : Dev Cert.SwiGluIdeal.nD,
          r.2.mem ((c.tc : Thread Cert.SwiGluIdeal.nD Cert.SwiGluIdeal.τ).loc Cert.SwiGluIdeal.main_v13) = v0 c
          ∧ r.2.mem ((c.tc : Thread Cert.SwiGluIdeal.nD Cert.SwiGluIdeal.τ).loc Cert.SwiGluIdeal.main_arg0) = m ((c.tc : Thread Cert.SwiGluIdeal.nD Cert.SwiGluIdeal.τ).loc Cert.SwiGluIdeal.main_arg0)
          ∧ r.2.mem ((c.tc : Thread Cert.SwiGluIdeal.nD Cert.SwiGluIdeal.τ).loc Cert.SwiGluIdeal.main_arg1) = m ((c.tc : Thread Cert.SwiGluIdeal.nD Cert.SwiGluIdeal.τ).loc Cert.SwiGluIdeal.main_arg1)
          ∧ r.2.mem ((c.tc : Thread Cert.SwiGluIdeal.nD Cert.SwiGluIdeal.τ).loc Cert.SwiGluIdeal.main_arg2) = m ((c.tc : Thread Cert.SwiGluIdeal.nD Cert.SwiGluIdeal.τ).loc Cert.SwiGluIdeal.main_arg2))
      ∧ θ_run (Cert.SwiGluRefIdeal.defs (F := Ideal)) (onTc (τ := Cert.SwiGluRefIdeal.τ) (Cert.SwiGluRefIdeal.main (F := Ideal))) ⟨m', fun _ => 0, g'⟩ (fun r => ∀ c : Dev Cert.SwiGluRefIdeal.nD,
          r.2.mem ((c.tc : Thread Cert.SwiGluRefIdeal.nD Cert.SwiGluRefIdeal.τ).loc Cert.SwiGluRefIdeal.main_v10) = v0 c
          ∧ r.2.mem ((c.tc : Thread Cert.SwiGluRefIdeal.nD Cert.SwiGluRefIdeal.τ).loc Cert.SwiGluRefIdeal.main_arg0) = m' ((c.tc : Thread Cert.SwiGluRefIdeal.nD Cert.SwiGluRefIdeal.τ).loc Cert.SwiGluRefIdeal.main_arg0)
          ∧ r.2.mem ((c.tc : Thread Cert.SwiGluRefIdeal.nD Cert.SwiGluRefIdeal.τ).loc Cert.SwiGluRefIdeal.main_arg1) = m' ((c.tc : Thread Cert.SwiGluRefIdeal.nD Cert.SwiGluRefIdeal.τ).loc Cert.SwiGluRefIdeal.main_arg1)
          ∧ r.2.mem ((c.tc : Thread Cert.SwiGluRefIdeal.nD Cert.SwiGluRefIdeal.τ).loc Cert.SwiGluRefIdeal.main_arg2) = m' ((c.tc : Thread Cert.SwiGluRefIdeal.nD Cert.SwiGluRefIdeal.τ).loc Cert.SwiGluRefIdeal.main_arg2))

def preserves_Sticks_SticksIdeal : Prop :=
  IdealRules.named_const.Statement Cert.SticksIdeal.κ "cutoff" .f32 0xC2D20000#32 ⊥

def algebraic_SticksIdeal_SticksRefIdeal_pre_sticks_finite [hSticksIdeal : Cert.SticksIdeal.Facts] [hSticksRefIdeal : Cert.SticksRefIdeal.Facts] [hPre_sticks_finite : Cert.Pre_sticks_finite.Facts] : Prop :=
  ∀ (m : (ℓ : Loc Cert.SticksIdeal.nD Cert.SticksIdeal.τ Cert.SticksIdeal.sig) → Buf (Elt Ideal) ℓ) (g : Dev Cert.SticksIdeal.nD → PrngReg)
    (m' : (ℓ : Loc Cert.SticksRefIdeal.nD Cert.SticksRefIdeal.τ Cert.SticksRefIdeal.sig) → Buf (Elt Ideal) ℓ) (g' : Dev Cert.SticksRefIdeal.nD → PrngReg), Pre_SticksIdeal_sticks_finite m →
    (∀ c : Dev Cert.SticksIdeal.nD,
      m' ((c.tc : Thread Cert.SticksRefIdeal.nD Cert.SticksRefIdeal.τ).loc Cert.SticksRefIdeal.main_arg0) = m ((c.tc : Thread Cert.SticksIdeal.nD Cert.SticksIdeal.τ).loc Cert.SticksIdeal.main_arg0)) →
    ∃ (v0 : (c : Dev Cert.SticksIdeal.nD) → Buf (Elt Ideal) ((c.tc : Thread Cert.SticksIdeal.nD Cert.SticksIdeal.τ).loc Cert.SticksIdeal.main_v7_0)) (v1 : (c : Dev Cert.SticksIdeal.nD) → Buf (Elt Ideal) ((c.tc : Thread Cert.SticksIdeal.nD Cert.SticksIdeal.τ).loc Cert.SticksIdeal.main_v7_1)),
      θ_run (Cert.SticksIdeal.defs (F := Ideal)) (onTc (τ := Cert.SticksIdeal.τ) (Cert.SticksIdeal.main (F := Ideal))) ⟨m, fun _ => 0, g⟩ (fun r => ∀ c : Dev Cert.SticksIdeal.nD,
          r.2.mem ((c.tc : Thread Cert.SticksIdeal.nD Cert.SticksIdeal.τ).loc Cert.SticksIdeal.main_v7_0) = v0 c
          ∧ r.2.mem ((c.tc : Thread Cert.SticksIdeal.nD Cert.SticksIdeal.τ).loc Cert.SticksIdeal.main_v7_1) = v1 c
          ∧ r.2.mem ((c.tc : Thread Cert.SticksIdeal.nD Cert.SticksIdeal.τ).loc Cert.SticksIdeal.main_arg0) = m ((c.tc : Thread Cert.SticksIdeal.nD Cert.SticksIdeal.τ).loc Cert.SticksIdeal.main_arg0))
      ∧ θ_run (Cert.SticksRefIdeal.defs (F := Ideal)) (onTc (τ := Cert.SticksRefIdeal.τ) (Cert.SticksRefIdeal.main (F := Ideal))) ⟨m', fun _ => 0, g'⟩ (fun r => ∀ c : Dev Cert.SticksRefIdeal.nD,
          r.2.mem ((c.tc : Thread Cert.SticksRefIdeal.nD Cert.SticksRefIdeal.τ).loc Cert.SticksRefIdeal.main_v32) = v0 c
          ∧ r.2.mem ((c.tc : Thread Cert.SticksRefIdeal.nD Cert.SticksRefIdeal.τ).loc Cert.SticksRefIdeal.main_v31) = v1 c
          ∧ r.2.mem ((c.tc : Thread Cert.SticksRefIdeal.nD Cert.SticksRefIdeal.τ).loc Cert.SticksRefIdeal.main_arg0) = m' ((c.tc : Thread Cert.SticksRefIdeal.nD Cert.SticksRefIdeal.τ).loc Cert.SticksRefIdeal.main_arg0))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)) →
    ∃ (v0 : (c : Dev Cert.MergeIdeal.nD) → Buf (Elt Ideal) ((c.tc : Thread Cert.MergeIdeal.nD Cert.MergeIdeal.τ).loc Cert.MergeIdeal.main_v15)) (v1 : (c : Dev Cert.MergeIdeal.nD) → Buf (Elt Ideal) ((c.tc : Thread Cert.MergeIdeal.nD Cert.MergeIdeal.τ).loc Cert.MergeIdeal.main_v14_1)) (v2 : (c : Dev Cert.MergeIdeal.nD) → Buf (Elt Ideal) ((c.tc : Thread Cert.MergeIdeal.nD Cert.MergeIdeal.τ).loc Cert.MergeIdeal.main_v14_2)) (v3 : (c : Dev Cert.MergeIdeal.nD) → Buf (Elt Ideal) ((c.tc : Thread Cert.MergeIdeal.nD Cert.MergeIdeal.τ).loc Cert.MergeIdeal.main_v14_3)) (v4 : (c : Dev Cert.MergeIdeal.nD) → Buf (Elt Ideal) ((c.tc : Thread Cert.MergeIdeal.nD Cert.MergeIdeal.τ).loc Cert.MergeIdeal.main_v14_4)) (v5 : (c : Dev Cert.MergeIdeal.nD) → Buf (Elt Ideal) ((c.tc : Thread Cert.MergeIdeal.nD Cert.MergeIdeal.τ).loc Cert.MergeIdeal.main_v14_5)) (v6 : (c : Dev Cert.MergeIdeal.nD) → Buf (Elt Ideal) ((c.tc : Thread Cert.MergeIdeal.nD Cert.MergeIdeal.τ).loc Cert.MergeIdeal.main_v14_6)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v15) = v0 c
          ∧ r.2.mem ((c.tc : Thread Cert.MergeIdeal.nD Cert.MergeIdeal.τ).loc Cert.MergeIdeal.main_v14_1) = v1 c
          ∧ r.2.mem ((c.tc : Thread Cert.MergeIdeal.nD Cert.MergeIdeal.τ).loc Cert.MergeIdeal.main_v14_2) = v2 c
          ∧ r.2.mem ((c.tc : Thread Cert.MergeIdeal.nD Cert.MergeIdeal.τ).loc Cert.MergeIdeal.main_v14_3) = v3 c
          ∧ r.2.mem ((c.tc : Thread Cert.MergeIdeal.nD Cert.MergeIdeal.τ).loc Cert.MergeIdeal.main_v14_4) = v4 c
          ∧ r.2.mem ((c.tc : Thread Cert.MergeIdeal.nD Cert.MergeIdeal.τ).loc Cert.MergeIdeal.main_v14_5) = v5 c
          ∧ r.2.mem ((c.tc : Thread Cert.MergeIdeal.nD Cert.MergeIdeal.τ).loc Cert.MergeIdeal.main_v14_6) = v6 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v60) = v0 c
          ∧ r.2.mem ((c.tc : Thread Cert.MergeRefIdeal.nD Cert.MergeRefIdeal.τ).loc Cert.MergeRefIdeal.main_v61) = v1 c
          ∧ r.2.mem ((c.tc : Thread Cert.MergeRefIdeal.nD Cert.MergeRefIdeal.τ).loc Cert.MergeRefIdeal.main_v62) = v2 c
          ∧ r.2.mem ((c.tc : Thread Cert.MergeRefIdeal.nD Cert.MergeRefIdeal.τ).loc Cert.MergeRefIdeal.main_v63) = v3 c
          ∧ r.2.mem ((c.tc : Thread Cert.MergeRefIdeal.nD Cert.MergeRefIdeal.τ).loc Cert.MergeRefIdeal.main_v56) = v4 c
          ∧ r.2.mem ((c.tc : Thread Cert.MergeRefIdeal.nD Cert.MergeRefIdeal.τ).loc Cert.MergeRefIdeal.main_v50) = v5 c
          ∧ r.2.mem ((c.tc : Thread Cert.MergeRefIdeal.nD Cert.MergeRefIdeal.τ).loc Cert.MergeRefIdeal.main_v44) = v6 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7))

def preserves_Mid_MidIdeal : Prop :=
  True

def algebraic_MidIdeal_MidRefIdeal_pre_mid_finite [hMidIdeal : Cert.MidIdeal.Facts] [hMidRefIdeal : Cert.MidRefIdeal.Facts] [hPre_mid_finite : Cert.Pre_mid_finite.Facts] : Prop :=
  ∀ (m : (ℓ : Loc Cert.MidIdeal.nD Cert.MidIdeal.τ Cert.MidIdeal.sig) → Buf (Elt Ideal) ℓ) (g : Dev Cert.MidIdeal.nD → PrngReg)
    (m' : (ℓ : Loc Cert.MidRefIdeal.nD Cert.MidRefIdeal.τ Cert.MidRefIdeal.sig) → Buf (Elt Ideal) ℓ) (g' : Dev Cert.MidRefIdeal.nD → PrngReg), Pre_MidIdeal_mid_finite m →
    (∀ c : Dev Cert.MidIdeal.nD,
      m' ((c.tc : Thread Cert.MidRefIdeal.nD Cert.MidRefIdeal.τ).loc Cert.MidRefIdeal.main_arg0) = m ((c.tc : Thread Cert.MidIdeal.nD Cert.MidIdeal.τ).loc Cert.MidIdeal.main_arg0)
      ∧ m' ((c.tc : Thread Cert.MidRefIdeal.nD Cert.MidRefIdeal.τ).loc Cert.MidRefIdeal.main_arg1) = m ((c.tc : Thread Cert.MidIdeal.nD Cert.MidIdeal.τ).loc Cert.MidIdeal.main_arg1)
      ∧ m' ((c.tc : Thread Cert.MidRefIdeal.nD Cert.MidRefIdeal.τ).loc Cert.MidRefIdeal.main_arg2) = m ((c.tc : Thread Cert.MidIdeal.nD Cert.MidIdeal.τ).loc Cert.MidIdeal.main_arg2)
      ∧ m' ((c.tc : Thread Cert.MidRefIdeal.nD Cert.MidRefIdeal.τ).loc Cert.MidRefIdeal.main_arg3) = m ((c.tc : Thread Cert.MidIdeal.nD Cert.MidIdeal.τ).loc Cert.MidIdeal.main_arg3)
      ∧ m' ((c.tc : Thread Cert.MidRefIdeal.nD Cert.MidRefIdeal.τ).loc Cert.MidRefIdeal.main_arg4) = m ((c.tc : Thread Cert.MidIdeal.nD Cert.MidIdeal.τ).loc Cert.MidIdeal.main_arg4)
      ∧ m' ((c.tc : Thread Cert.MidRefIdeal.nD Cert.MidRefIdeal.τ).loc Cert.MidRefIdeal.main_arg5) = m ((c.tc : Thread Cert.MidIdeal.nD Cert.MidIdeal.τ).loc Cert.MidIdeal.main_arg5)
      ∧ m' ((c.tc : Thread Cert.MidRefIdeal.nD Cert.MidRefIdeal.τ).loc Cert.MidRefIdeal.main_arg6) = m ((c.tc : Thread Cert.MidIdeal.nD Cert.MidIdeal.τ).loc Cert.MidIdeal.main_arg6)
      ∧ m' ((c.tc : Thread Cert.MidRefIdeal.nD Cert.MidRefIdeal.τ).loc Cert.MidRefIdeal.main_arg7) = m ((c.tc : Thread Cert.MidIdeal.nD Cert.MidIdeal.τ).loc Cert.MidIdeal.main_arg7)
      ∧ m' ((c.tc : Thread Cert.MidRefIdeal.nD Cert.MidRefIdeal.τ).loc Cert.MidRefIdeal.main_arg8) = m ((c.tc : Thread Cert.MidIdeal.nD Cert.MidIdeal.τ).loc Cert.MidIdeal.main_arg8)) →
    ∃ (v0 : (c : Dev Cert.MidIdeal.nD) → Buf (Elt Ideal) ((c.tc : Thread Cert.MidIdeal.nD Cert.MidIdeal.τ).loc Cert.MidIdeal.main_v2_0)) (v1 : (c : Dev Cert.MidIdeal.nD) → Buf (Elt Ideal) ((c.tc : Thread Cert.MidIdeal.nD Cert.MidIdeal.τ).loc Cert.MidIdeal.main_v2_1)) (v2 : (c : Dev Cert.MidIdeal.nD) → Buf (Elt Ideal) ((c.tc : Thread Cert.MidIdeal.nD Cert.MidIdeal.τ).loc Cert.MidIdeal.main_v2_2)) (v3 : (c : Dev Cert.MidIdeal.nD) → Buf (Elt Ideal) ((c.tc : Thread Cert.MidIdeal.nD Cert.MidIdeal.τ).loc Cert.MidIdeal.main_v2_3)) (v4 : (c : Dev Cert.MidIdeal.nD) → Buf (Elt Ideal) ((c.tc : Thread Cert.MidIdeal.nD Cert.MidIdeal.τ).loc Cert.MidIdeal.main_v2_4)) (v5 : (c : Dev Cert.MidIdeal.nD) → Buf (Elt Ideal) ((c.tc : Thread Cert.MidIdeal.nD Cert.MidIdeal.τ).loc Cert.MidIdeal.main_v2_5)) (v6 : (c : Dev Cert.MidIdeal.nD) → Buf (Elt Ideal) ((c.tc : Thread Cert.MidIdeal.nD Cert.MidIdeal.τ).loc Cert.MidIdeal.main_v2_6)),
      θ_run (Cert.MidIdeal.defs (F := Ideal)) (onTc (τ := Cert.MidIdeal.τ) (Cert.MidIdeal.main (F := Ideal))) ⟨m, fun _ => 0, g⟩ (fun r => ∀ c : Dev Cert.MidIdeal.nD,
          r.2.mem ((c.tc : Thread Cert.MidIdeal.nD Cert.MidIdeal.τ).loc Cert.MidIdeal.main_v2_0) = v0 c
          ∧ r.2.mem ((c.tc : Thread Cert.MidIdeal.nD Cert.MidIdeal.τ).loc Cert.MidIdeal.main_v2_1) = v1 c
          ∧ r.2.mem ((c.tc : Thread Cert.MidIdeal.nD Cert.MidIdeal.τ).loc Cert.MidIdeal.main_v2_2) = v2 c
          ∧ r.2.mem ((c.tc : Thread Cert.MidIdeal.nD Cert.MidIdeal.τ).loc Cert.MidIdeal.main_v2_3) = v3 c
          ∧ r.2.mem ((c.tc : Thread Cert.MidIdeal.nD Cert.MidIdeal.τ).loc Cert.MidIdeal.main_v2_4) = v4 c
          ∧ r.2.mem ((c.tc : Thread Cert.MidIdeal.nD Cert.MidIdeal.τ).loc Cert.MidIdeal.main_v2_5) = v5 c
          ∧ r.2.mem ((c.tc : Thread Cert.MidIdeal.nD Cert.MidIdeal.τ).loc Cert.MidIdeal.main_v2_6) = v6 c
          ∧ r.2.mem ((c.tc : Thread Cert.MidIdeal.nD Cert.MidIdeal.τ).loc Cert.MidIdeal.main_arg0) = m ((c.tc : Thread Cert.MidIdeal.nD Cert.MidIdeal.τ).loc Cert.MidIdeal.main_arg0)
          ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
          ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
          ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
          ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
          ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
          ∧ r.2.mem ((c.tc : Thread Cert.MidIdeal.nD Cert.MidIdeal.τ).loc Cert.MidIdeal.main_arg6) = m ((c.tc : Thread Cert.MidIdeal.nD Cert.MidIdeal.τ).loc Cert.MidIdeal.main_arg6)
          ∧ r.2.mem ((c.tc : Thread Cert.MidIdeal.nD Cert.MidIdeal.τ).loc Cert.MidIdeal.main_arg7) = m ((c.tc : Thread Cert.MidIdeal.nD Cert.MidIdeal.τ).loc Cert.MidIdeal.main_arg7)
          ∧ r.2.mem ((c.tc : Thread Cert.MidIdeal.nD Cert.MidIdeal.τ).loc Cert.MidIdeal.main_arg8) = m ((c.tc : Thread Cert.MidIdeal.nD Cert.MidIdeal.τ).loc Cert.MidIdeal.main_arg8))
      ∧ θ_run (Cert.MidRefIdeal.defs (F := Ideal)) (onTc (τ := Cert.MidRefIdeal.τ) (Cert.MidRefIdeal.main (F := Ideal))) ⟨m', fun _ => 0, g'⟩ (fun r => ∀ c : Dev Cert.MidRefIdeal.nD,
          r.2.mem ((c.tc : Thread Cert.MidRefIdeal.nD Cert.MidRefIdeal.τ).loc Cert.MidRefIdeal.main_v66) = v0 c
          ∧ r.2.mem ((c.tc : Thread Cert.MidRefIdeal.nD Cert.MidRefIdeal.τ).loc Cert.MidRefIdeal.main_v92) = v1 c
          ∧ r.2.mem ((c.tc : Thread Cert.MidRefIdeal.nD Cert.MidRefIdeal.τ).loc Cert.MidRefIdeal.main_v72) = v2 c
          ∧ r.2.mem ((c.tc : Thread Cert.MidRefIdeal.nD Cert.MidRefIdeal.τ).loc Cert.MidRefIdeal.main_v75) = v3 c
          ∧ r.2.mem ((c.tc : Thread Cert.MidRefIdeal.nD Cert.MidRefIdeal.τ).loc Cert.MidRefIdeal.main_v49) = v4 c
          ∧ r.2.mem ((c.tc : Thread Cert.MidRefIdeal.nD Cert.MidRefIdeal.τ).loc Cert.MidRefIdeal.main_v44) = v5 c
          ∧ r.2.mem ((c.tc : Thread Cert.MidRefIdeal.nD Cert.MidRefIdeal.τ).loc Cert.MidRefIdeal.main_v41) = v6 c
          ∧ r.2.mem ((c.tc : Thread Cert.MidRefIdeal.nD Cert.MidRefIdeal.τ).loc Cert.MidRefIdeal.main_arg0) = m' ((c.tc : Thread Cert.MidRefIdeal.nD Cert.MidRefIdeal.τ).loc Cert.MidRefIdeal.main_arg0)
          ∧ r.2.mem ((c.tc : Thread Cert.MidRefIdeal.nD Cert.MidRefIdeal.τ).loc Cert.MidRefIdeal.main_arg1) = m' ((c.tc : Thread Cert.MidRefIdeal.nD Cert.MidRefIdeal.τ).loc Cert.MidRefIdeal.main_arg1)
          ∧ r.2.mem ((c.tc : Thread Cert.MidRefIdeal.nD Cert.MidRefIdeal.τ).loc Cert.MidRefIdeal.main_arg2) = m' ((c.tc : Thread Cert.MidRefIdeal.nD Cert.MidRefIdeal.τ).loc Cert.MidRefIdeal.main_arg2)
          ∧ r.2.mem ((c.tc : Thread Cert.MidRefIdeal.nD Cert.MidRefIdeal.τ).loc Cert.MidRefIdeal.main_arg3) = m' ((c.tc : Thread Cert.MidRefIdeal.nD Cert.MidRefIdeal.τ).loc Cert.MidRefIdeal.main_arg3)
          ∧ r.2.mem ((c.tc : Thread Cert.MidRefIdeal.nD Cert.MidRefIdeal.τ).loc Cert.MidRefIdeal.main_arg4) = m' ((c.tc : Thread Cert.MidRefIdeal.nD Cert.MidRefIdeal.τ).loc Cert.MidRefIdeal.main_arg4)
          ∧ r.2.mem ((c.tc : Thread Cert.MidRefIdeal.nD Cert.MidRefIdeal.τ).loc Cert.MidRefIdeal.main_arg5) = m' ((c.tc : Thread Cert.MidRefIdeal.nD Cert.MidRefIdeal.τ).loc Cert.MidRefIdeal.main_arg5)
          ∧ r.2.mem ((c.tc : Thread Cert.MidRefIdeal.nD Cert.MidRefIdeal.τ).loc Cert.MidRefIdeal.main_arg6) = m' ((c.tc : Thread Cert.MidRefIdeal.nD Cert.MidRefIdeal.τ).loc Cert.MidRefIdeal.main_arg6)
          ∧ r.2.mem ((c.tc : Thread Cert.MidRefIdeal.nD Cert.MidRefIdeal.τ).loc Cert.MidRefIdeal.main_arg7) = m' ((c.tc : Thread Cert.MidRefIdeal.nD Cert.MidRefIdeal.τ).loc Cert.MidRefIdeal.main_arg7)
          ∧ r.2.mem ((c.tc : Thread Cert.MidRefIdeal.nD Cert.MidRefIdeal.τ).loc Cert.MidRefIdeal.main_arg8) = m' ((c.tc : Thread Cert.MidRefIdeal.nD Cert.MidRefIdeal.τ).loc Cert.MidRefIdeal.main_arg8))

def preserves_AdalnOut_AdalnOutIdeal : Prop :=
  True

def algebraic_AdalnOutIdeal_AdalnOutRefIdeal [hAdalnOutIdeal : Cert.AdalnOutIdeal.Facts] [hAdalnOutRefIdeal : Cert.AdalnOutRefIdeal.Facts] : Prop :=
  ∀ (m : (ℓ : Loc Cert.AdalnOutIdeal.nD Cert.AdalnOutIdeal.τ Cert.AdalnOutIdeal.sig) → Buf (Elt Ideal) ℓ) (g : Dev Cert.AdalnOutIdeal.nD → PrngReg)
    (m' : (ℓ : Loc Cert.AdalnOutRefIdeal.nD Cert.AdalnOutRefIdeal.τ Cert.AdalnOutRefIdeal.sig) → Buf (Elt Ideal) ℓ) (g' : Dev Cert.AdalnOutRefIdeal.nD → PrngReg), Pre_AdalnOutIdeal m →
    (∀ c : Dev Cert.AdalnOutIdeal.nD,
      m' ((c.tc : Thread Cert.AdalnOutRefIdeal.nD Cert.AdalnOutRefIdeal.τ).loc Cert.AdalnOutRefIdeal.main_arg0) = m ((c.tc : Thread Cert.AdalnOutIdeal.nD Cert.AdalnOutIdeal.τ).loc Cert.AdalnOutIdeal.main_arg0)
      ∧ m' ((c.tc : Thread Cert.AdalnOutRefIdeal.nD Cert.AdalnOutRefIdeal.τ).loc Cert.AdalnOutRefIdeal.main_arg1) = m ((c.tc : Thread Cert.AdalnOutIdeal.nD Cert.AdalnOutIdeal.τ).loc Cert.AdalnOutIdeal.main_arg1)
      ∧ m' ((c.tc : Thread Cert.AdalnOutRefIdeal.nD Cert.AdalnOutRefIdeal.τ).loc Cert.AdalnOutRefIdeal.main_arg2) = m ((c.tc : Thread Cert.AdalnOutIdeal.nD Cert.AdalnOutIdeal.τ).loc Cert.AdalnOutIdeal.main_arg2)
      ∧ m' ((c.tc : Thread Cert.AdalnOutRefIdeal.nD Cert.AdalnOutRefIdeal.τ).loc Cert.AdalnOutRefIdeal.main_arg3) = m ((c.tc : Thread Cert.AdalnOutIdeal.nD Cert.AdalnOutIdeal.τ).loc Cert.AdalnOutIdeal.main_arg3)) →
    ∃ (v0 : (c : Dev Cert.AdalnOutIdeal.nD) → Buf (Elt Ideal) ((c.tc : Thread Cert.AdalnOutIdeal.nD Cert.AdalnOutIdeal.τ).loc Cert.AdalnOutIdeal.main_v0)),
      θ_run (Cert.AdalnOutIdeal.defs (F := Ideal)) (onTc (τ := Cert.AdalnOutIdeal.τ) (Cert.AdalnOutIdeal.main (F := Ideal))) ⟨m, fun _ => 0, g⟩ (fun r => ∀ c : Dev Cert.AdalnOutIdeal.nD,
          r.2.mem ((c.tc : Thread Cert.AdalnOutIdeal.nD Cert.AdalnOutIdeal.τ).loc Cert.AdalnOutIdeal.main_v0) = v0 c
          ∧ r.2.mem ((c.tc : Thread Cert.AdalnOutIdeal.nD Cert.AdalnOutIdeal.τ).loc Cert.AdalnOutIdeal.main_arg0) = m ((c.tc : Thread Cert.AdalnOutIdeal.nD Cert.AdalnOutIdeal.τ).loc Cert.AdalnOutIdeal.main_arg0)
          ∧ r.2.mem ((c.tc : Thread Cert.AdalnOutIdeal.nD Cert.AdalnOutIdeal.τ).loc Cert.AdalnOutIdeal.main_arg1) = m ((c.tc : Thread Cert.AdalnOutIdeal.nD Cert.AdalnOutIdeal.τ).loc Cert.AdalnOutIdeal.main_arg1)
          ∧ r.2.mem ((c.tc : Thread Cert.AdalnOutIdeal.nD Cert.AdalnOutIdeal.τ).loc Cert.AdalnOutIdeal.main_arg2) = m ((c.tc : Thread Cert.AdalnOutIdeal.nD Cert.AdalnOutIdeal.τ).loc Cert.AdalnOutIdeal.main_arg2)
          ∧ r.2.mem ((c.tc : Thread Cert.AdalnOutIdeal.nD Cert.AdalnOutIdeal.τ).loc Cert.AdalnOutIdeal.main_arg3) = m ((c.tc : Thread Cert.AdalnOutIdeal.nD Cert.AdalnOutIdeal.τ).loc Cert.AdalnOutIdeal.main_arg3))
      ∧ θ_run (Cert.AdalnOutRefIdeal.defs (F := Ideal)) (onTc (τ := Cert.AdalnOutRefIdeal.τ) (Cert.AdalnOutRefIdeal.main (F := Ideal))) ⟨m', fun _ => 0, g'⟩ (fun r => ∀ c : Dev Cert.AdalnOutRefIdeal.nD,
          r.2.mem ((c.tc : Thread Cert.AdalnOutRefIdeal.nD Cert.AdalnOutRefIdeal.τ).loc Cert.AdalnOutRefIdeal.main_v18) = v0 c
          ∧ r.2.mem ((c.tc : Thread Cert.AdalnOutRefIdeal.nD Cert.AdalnOutRefIdeal.τ).loc Cert.AdalnOutRefIdeal.main_arg0) = m' ((c.tc : Thread Cert.AdalnOutRefIdeal.nD Cert.AdalnOutRefIdeal.τ).loc Cert.AdalnOutRefIdeal.main_arg0)
          ∧ r.2.mem ((c.tc : Thread Cert.AdalnOutRefIdeal.nD Cert.AdalnOutRefIdeal.τ).loc Cert.AdalnOutRefIdeal.main_arg1) = m' ((c.tc : Thread Cert.AdalnOutRefIdeal.nD Cert.AdalnOutRefIdeal.τ).loc Cert.AdalnOutRefIdeal.main_arg1)
          ∧ r.2.mem ((c.tc : Thread Cert.AdalnOutRefIdeal.nD Cert.AdalnOutRefIdeal.τ).loc Cert.AdalnOutRefIdeal.main_arg2) = m' ((c.tc : Thread Cert.AdalnOutRefIdeal.nD Cert.AdalnOutRefIdeal.τ).loc Cert.AdalnOutRefIdeal.main_arg2)
          ∧ r.2.mem ((c.tc : Thread Cert.AdalnOutRefIdeal.nD Cert.AdalnOutRefIdeal.τ).loc Cert.AdalnOutRefIdeal.main_arg3) = m' ((c.tc : Thread Cert.AdalnOutRefIdeal.nD Cert.AdalnOutRefIdeal.τ).loc Cert.AdalnOutRefIdeal.main_arg3))

def preserves_ConvOut_ConvOutIdeal : Prop :=
  True

def algebraic_ConvOutIdeal_ConvOutRefIdeal [hConvOutIdeal : Cert.ConvOutIdeal.Facts] [hConvOutRefIdeal : Cert.ConvOutRefIdeal.Facts] : Prop :=
  ∀ (m : (ℓ : Loc Cert.ConvOutIdeal.nD Cert.ConvOutIdeal.τ Cert.ConvOutIdeal.sig) → Buf (Elt Ideal) ℓ) (g : Dev Cert.ConvOutIdeal.nD → PrngReg)
    (m' : (ℓ : Loc Cert.ConvOutRefIdeal.nD Cert.ConvOutRefIdeal.τ Cert.ConvOutRefIdeal.sig) → Buf (Elt Ideal) ℓ) (g' : Dev Cert.ConvOutRefIdeal.nD → PrngReg), Pre_ConvOutIdeal m →
    (∀ c : Dev Cert.ConvOutIdeal.nD,
      m' ((c.tc : Thread Cert.ConvOutRefIdeal.nD Cert.ConvOutRefIdeal.τ).loc Cert.ConvOutRefIdeal.main_arg0) = m ((c.tc : Thread Cert.ConvOutIdeal.nD Cert.ConvOutIdeal.τ).loc Cert.ConvOutIdeal.main_arg0)
      ∧ m' ((c.tc : Thread Cert.ConvOutRefIdeal.nD Cert.ConvOutRefIdeal.τ).loc Cert.ConvOutRefIdeal.main_arg1) = m ((c.tc : Thread Cert.ConvOutIdeal.nD Cert.ConvOutIdeal.τ).loc Cert.ConvOutIdeal.main_arg1)
      ∧ m' ((c.tc : Thread Cert.ConvOutRefIdeal.nD Cert.ConvOutRefIdeal.τ).loc Cert.ConvOutRefIdeal.main_arg2) = m ((c.tc : Thread Cert.ConvOutIdeal.nD Cert.ConvOutIdeal.τ).loc Cert.ConvOutIdeal.main_arg2)) →
    ∃ (v0 : (c : Dev Cert.ConvOutIdeal.nD) → Buf (Elt Ideal) ((c.tc : Thread Cert.ConvOutIdeal.nD Cert.ConvOutIdeal.τ).loc Cert.ConvOutIdeal.main_v7)),
      θ_run (Cert.ConvOutIdeal.defs (F := Ideal)) (onTc (τ := Cert.ConvOutIdeal.τ) (Cert.ConvOutIdeal.main (F := Ideal))) ⟨m, fun _ => 0, g⟩ (fun r => ∀ c : Dev Cert.ConvOutIdeal.nD,
          r.2.mem ((c.tc : Thread Cert.ConvOutIdeal.nD Cert.ConvOutIdeal.τ).loc Cert.ConvOutIdeal.main_v7) = v0 c
          ∧ r.2.mem ((c.tc : Thread Cert.ConvOutIdeal.nD Cert.ConvOutIdeal.τ).loc Cert.ConvOutIdeal.main_arg0) = m ((c.tc : Thread Cert.ConvOutIdeal.nD Cert.ConvOutIdeal.τ).loc Cert.ConvOutIdeal.main_arg0)
          ∧ r.2.mem ((c.tc : Thread Cert.ConvOutIdeal.nD Cert.ConvOutIdeal.τ).loc Cert.ConvOutIdeal.main_arg1) = m ((c.tc : Thread Cert.ConvOutIdeal.nD Cert.ConvOutIdeal.τ).loc Cert.ConvOutIdeal.main_arg1)
          ∧ r.2.mem ((c.tc : Thread Cert.ConvOutIdeal.nD Cert.ConvOutIdeal.τ).loc Cert.ConvOutIdeal.main_arg2) = m ((c.tc : Thread Cert.ConvOutIdeal.nD Cert.ConvOutIdeal.τ).loc Cert.ConvOutIdeal.main_arg2))
      ∧ θ_run (Cert.ConvOutRefIdeal.defs (F := Ideal)) (onTc (τ := Cert.ConvOutRefIdeal.τ) (Cert.ConvOutRefIdeal.main (F := Ideal))) ⟨m', fun _ => 0, g'⟩ (fun r => ∀ c : Dev Cert.ConvOutRefIdeal.nD,
          r.2.mem ((c.tc : Thread Cert.ConvOutRefIdeal.nD Cert.ConvOutRefIdeal.τ).loc Cert.ConvOutRefIdeal.main_v25) = v0 c
          ∧ r.2.mem ((c.tc : Thread Cert.ConvOutRefIdeal.nD Cert.ConvOutRefIdeal.τ).loc Cert.ConvOutRefIdeal.main_arg0) = m' ((c.tc : Thread Cert.ConvOutRefIdeal.nD Cert.ConvOutRefIdeal.τ).loc Cert.ConvOutRefIdeal.main_arg0)
          ∧ r.2.mem ((c.tc : Thread Cert.ConvOutRefIdeal.nD Cert.ConvOutRefIdeal.τ).loc Cert.ConvOutRefIdeal.main_arg1) = m' ((c.tc : Thread Cert.ConvOutRefIdeal.nD Cert.ConvOutRefIdeal.τ).loc Cert.ConvOutRefIdeal.main_arg1)
          ∧ r.2.mem ((c.tc : Thread Cert.ConvOutRefIdeal.nD Cert.ConvOutRefIdeal.τ).loc Cert.ConvOutRefIdeal.main_arg2) = m' ((c.tc : Thread Cert.ConvOutRefIdeal.nD Cert.ConvOutRefIdeal.τ).loc Cert.ConvOutRefIdeal.main_arg2))

def preserves_ShortOut_ShortOutIdeal : Prop :=
  True

def algebraic_ShortOutIdeal_ShortOutRefIdeal [hShortOutIdeal : Cert.ShortOutIdeal.Facts] [hShortOutRefIdeal : Cert.ShortOutRefIdeal.Facts] : Prop :=
  ∀ (m : (ℓ : Loc Cert.ShortOutIdeal.nD Cert.ShortOutIdeal.τ Cert.ShortOutIdeal.sig) → Buf (Elt Ideal) ℓ) (g : Dev Cert.ShortOutIdeal.nD → PrngReg)
    (m' : (ℓ : Loc Cert.ShortOutRefIdeal.nD Cert.ShortOutRefIdeal.τ Cert.ShortOutRefIdeal.sig) → Buf (Elt Ideal) ℓ) (g' : Dev Cert.ShortOutRefIdeal.nD → PrngReg), Pre_ShortOutIdeal m →
    (∀ c : Dev Cert.ShortOutIdeal.nD,
      m' ((c.tc : Thread Cert.ShortOutRefIdeal.nD Cert.ShortOutRefIdeal.τ).loc Cert.ShortOutRefIdeal.main_arg0) = m ((c.tc : Thread Cert.ShortOutIdeal.nD Cert.ShortOutIdeal.τ).loc Cert.ShortOutIdeal.main_arg0)
      ∧ m' ((c.tc : Thread Cert.ShortOutRefIdeal.nD Cert.ShortOutRefIdeal.τ).loc Cert.ShortOutRefIdeal.main_arg1) = m ((c.tc : Thread Cert.ShortOutIdeal.nD Cert.ShortOutIdeal.τ).loc Cert.ShortOutIdeal.main_arg1)) →
    ∃ (v0 : (c : Dev Cert.ShortOutIdeal.nD) → Buf (Elt Ideal) ((c.tc : Thread Cert.ShortOutIdeal.nD Cert.ShortOutIdeal.τ).loc Cert.ShortOutIdeal.main_v7)),
      θ_run (Cert.ShortOutIdeal.defs (F := Ideal)) (onTc (τ := Cert.ShortOutIdeal.τ) (Cert.ShortOutIdeal.main (F := Ideal))) ⟨m, fun _ => 0, g⟩ (fun r => ∀ c : Dev Cert.ShortOutIdeal.nD,
          r.2.mem ((c.tc : Thread Cert.ShortOutIdeal.nD Cert.ShortOutIdeal.τ).loc Cert.ShortOutIdeal.main_v7) = v0 c
          ∧ r.2.mem ((c.tc : Thread Cert.ShortOutIdeal.nD Cert.ShortOutIdeal.τ).loc Cert.ShortOutIdeal.main_arg0) = m ((c.tc : Thread Cert.ShortOutIdeal.nD Cert.ShortOutIdeal.τ).loc Cert.ShortOutIdeal.main_arg0)
          ∧ r.2.mem ((c.tc : Thread Cert.ShortOutIdeal.nD Cert.ShortOutIdeal.τ).loc Cert.ShortOutIdeal.main_arg1) = m ((c.tc : Thread Cert.ShortOutIdeal.nD Cert.ShortOutIdeal.τ).loc Cert.ShortOutIdeal.main_arg1))
      ∧ θ_run (Cert.ShortOutRefIdeal.defs (F := Ideal)) (onTc (τ := Cert.ShortOutRefIdeal.τ) (Cert.ShortOutRefIdeal.main (F := Ideal))) ⟨m', fun _ => 0, g'⟩ (fun r => ∀ c : Dev Cert.ShortOutRefIdeal.nD,
          r.2.mem ((c.tc : Thread Cert.ShortOutRefIdeal.nD Cert.ShortOutRefIdeal.τ).loc Cert.ShortOutRefIdeal.main_v24) = v0 c
          ∧ r.2.mem ((c.tc : Thread Cert.ShortOutRefIdeal.nD Cert.ShortOutRefIdeal.τ).loc Cert.ShortOutRefIdeal.main_arg0) = m' ((c.tc : Thread Cert.ShortOutRefIdeal.nD Cert.ShortOutRefIdeal.τ).loc Cert.ShortOutRefIdeal.main_arg0)
          ∧ r.2.mem ((c.tc : Thread Cert.ShortOutRefIdeal.nD Cert.ShortOutRefIdeal.τ).loc Cert.ShortOutRefIdeal.main_arg1) = m' ((c.tc : Thread Cert.ShortOutRefIdeal.nD Cert.ShortOutRefIdeal.τ).loc Cert.ShortOutRefIdeal.main_arg1))

def preserves_PostOut_PostOutIdeal : Prop :=
  True

def algebraic_PostOutIdeal_PostOutRefIdeal [hPostOutIdeal : Cert.PostOutIdeal.Facts] [hPostOutRefIdeal : Cert.PostOutRefIdeal.Facts] : Prop :=
  ∀ (m : (ℓ : Loc Cert.PostOutIdeal.nD Cert.PostOutIdeal.τ Cert.PostOutIdeal.sig) → Buf (Elt Ideal) ℓ) (g : Dev Cert.PostOutIdeal.nD → PrngReg)
    (m' : (ℓ : Loc Cert.PostOutRefIdeal.nD Cert.PostOutRefIdeal.τ Cert.PostOutRefIdeal.sig) → Buf (Elt Ideal) ℓ) (g' : Dev Cert.PostOutRefIdeal.nD → PrngReg), Pre_PostOutIdeal m →
    (∀ c : Dev Cert.PostOutIdeal.nD,
      m' ((c.tc : Thread Cert.PostOutRefIdeal.nD Cert.PostOutRefIdeal.τ).loc Cert.PostOutRefIdeal.main_arg0) = m ((c.tc : Thread Cert.PostOutIdeal.nD Cert.PostOutIdeal.τ).loc Cert.PostOutIdeal.main_arg0)
      ∧ m' ((c.tc : Thread Cert.PostOutRefIdeal.nD Cert.PostOutRefIdeal.τ).loc Cert.PostOutRefIdeal.main_arg1) = m ((c.tc : Thread Cert.PostOutIdeal.nD Cert.PostOutIdeal.τ).loc Cert.PostOutIdeal.main_arg1)
      ∧ m' ((c.tc : Thread Cert.PostOutRefIdeal.nD Cert.PostOutRefIdeal.τ).loc Cert.PostOutRefIdeal.main_arg2) = m ((c.tc : Thread Cert.PostOutIdeal.nD Cert.PostOutIdeal.τ).loc Cert.PostOutIdeal.main_arg2)
      ∧ m' ((c.tc : Thread Cert.PostOutRefIdeal.nD Cert.PostOutRefIdeal.τ).loc Cert.PostOutRefIdeal.main_arg3) = m ((c.tc : Thread Cert.PostOutIdeal.nD Cert.PostOutIdeal.τ).loc Cert.PostOutIdeal.main_arg3)
      ∧ m' ((c.tc : Thread Cert.PostOutRefIdeal.nD Cert.PostOutRefIdeal.τ).loc Cert.PostOutRefIdeal.main_arg4) = m ((c.tc : Thread Cert.PostOutIdeal.nD Cert.PostOutIdeal.τ).loc Cert.PostOutIdeal.main_arg4)) →
    ∃ (v0 : (c : Dev Cert.PostOutIdeal.nD) → Buf (Elt Ideal) ((c.tc : Thread Cert.PostOutIdeal.nD Cert.PostOutIdeal.τ).loc Cert.PostOutIdeal.main_v9)),
      θ_run (Cert.PostOutIdeal.defs (F := Ideal)) (onTc (τ := Cert.PostOutIdeal.τ) (Cert.PostOutIdeal.main (F := Ideal))) ⟨m, fun _ => 0, g⟩ (fun r => ∀ c : Dev Cert.PostOutIdeal.nD,
          r.2.mem ((c.tc : Thread Cert.PostOutIdeal.nD Cert.PostOutIdeal.τ).loc Cert.PostOutIdeal.main_v9) = v0 c
          ∧ r.2.mem ((c.tc : Thread Cert.PostOutIdeal.nD Cert.PostOutIdeal.τ).loc Cert.PostOutIdeal.main_arg0) = m ((c.tc : Thread Cert.PostOutIdeal.nD Cert.PostOutIdeal.τ).loc Cert.PostOutIdeal.main_arg0)
          ∧ r.2.mem ((c.tc : Thread Cert.PostOutIdeal.nD Cert.PostOutIdeal.τ).loc Cert.PostOutIdeal.main_arg1) = m ((c.tc : Thread Cert.PostOutIdeal.nD Cert.PostOutIdeal.τ).loc Cert.PostOutIdeal.main_arg1)
          ∧ r.2.mem ((c.tc : Thread Cert.PostOutIdeal.nD Cert.PostOutIdeal.τ).loc Cert.PostOutIdeal.main_arg2) = m ((c.tc : Thread Cert.PostOutIdeal.nD Cert.PostOutIdeal.τ).loc Cert.PostOutIdeal.main_arg2)
          ∧ r.2.mem ((c.tc : Thread Cert.PostOutIdeal.nD Cert.PostOutIdeal.τ).loc Cert.PostOutIdeal.main_arg3) = m ((c.tc : Thread Cert.PostOutIdeal.nD Cert.PostOutIdeal.τ).loc Cert.PostOutIdeal.main_arg3)
          ∧ r.2.mem ((c.tc : Thread Cert.PostOutIdeal.nD Cert.PostOutIdeal.τ).loc Cert.PostOutIdeal.main_arg4) = m ((c.tc : Thread Cert.PostOutIdeal.nD Cert.PostOutIdeal.τ).loc Cert.PostOutIdeal.main_arg4))
      ∧ θ_run (Cert.PostOutRefIdeal.defs (F := Ideal)) (onTc (τ := Cert.PostOutRefIdeal.τ) (Cert.PostOutRefIdeal.main (F := Ideal))) ⟨m', fun _ => 0, g'⟩ (fun r => ∀ c : Dev Cert.PostOutRefIdeal.nD,
          r.2.mem ((c.tc : Thread Cert.PostOutRefIdeal.nD Cert.PostOutRefIdeal.τ).loc Cert.PostOutRefIdeal.main_v25) = v0 c
          ∧ r.2.mem ((c.tc : Thread Cert.PostOutRefIdeal.nD Cert.PostOutRefIdeal.τ).loc Cert.PostOutRefIdeal.main_arg0) = m' ((c.tc : Thread Cert.PostOutRefIdeal.nD Cert.PostOutRefIdeal.τ).loc Cert.PostOutRefIdeal.main_arg0)
          ∧ r.2.mem ((c.tc : Thread Cert.PostOutRefIdeal.nD Cert.PostOutRefIdeal.τ).loc Cert.PostOutRefIdeal.main_arg1) = m' ((c.tc : Thread Cert.PostOutRefIdeal.nD Cert.PostOutRefIdeal.τ).loc Cert.PostOutRefIdeal.main_arg1)
          ∧ r.2.mem ((c.tc : Thread Cert.PostOutRefIdeal.nD Cert.PostOutRefIdeal.τ).loc Cert.PostOutRefIdeal.main_arg2) = m' ((c.tc : Thread Cert.PostOutRefIdeal.nD Cert.PostOutRefIdeal.τ).loc Cert.PostOutRefIdeal.main_arg2)
          ∧ r.2.mem ((c.tc : Thread Cert.PostOutRefIdeal.nD Cert.PostOutRefIdeal.τ).loc Cert.PostOutRefIdeal.main_arg3) = m' ((c.tc : Thread Cert.PostOutRefIdeal.nD Cert.PostOutRefIdeal.τ).loc Cert.PostOutRefIdeal.main_arg3)
          ∧ r.2.mem ((c.tc : Thread Cert.PostOutRefIdeal.nD Cert.PostOutRefIdeal.τ).loc Cert.PostOutRefIdeal.main_arg4) = m' ((c.tc : Thread Cert.PostOutRefIdeal.nD Cert.PostOutRefIdeal.τ).loc Cert.PostOutRefIdeal.main_arg4))

def preserves_MergeOut_MergeOutIdeal : Prop :=
  True

def algebraic_MergeOutIdeal_MergeOutRefIdeal [hMergeOutIdeal : Cert.MergeOutIdeal.Facts] [hMergeOutRefIdeal : Cert.MergeOutRefIdeal.Facts] : Prop :=
  ∀ (m : (ℓ : Loc Cert.MergeOutIdeal.nD Cert.MergeOutIdeal.τ Cert.MergeOutIdeal.sig) → Buf (Elt Ideal) ℓ) (g : Dev Cert.MergeOutIdeal.nD → PrngReg)
    (m' : (ℓ : Loc Cert.MergeOutRefIdeal.nD Cert.MergeOutRefIdeal.τ Cert.MergeOutRefIdeal.sig) → Buf (Elt Ideal) ℓ) (g' : Dev Cert.MergeOutRefIdeal.nD → PrngReg), Pre_MergeOutIdeal m →
    (∀ c : Dev Cert.MergeOutIdeal.nD,
      m' ((c.tc : Thread Cert.MergeOutRefIdeal.nD Cert.MergeOutRefIdeal.τ).loc Cert.MergeOutRefIdeal.main_arg0) = m ((c.tc : Thread Cert.MergeOutIdeal.nD Cert.MergeOutIdeal.τ).loc Cert.MergeOutIdeal.main_arg0)
      ∧ m' ((c.tc : Thread Cert.MergeOutRefIdeal.nD Cert.MergeOutRefIdeal.τ).loc Cert.MergeOutRefIdeal.main_arg1) = m ((c.tc : Thread Cert.MergeOutIdeal.nD Cert.MergeOutIdeal.τ).loc Cert.MergeOutIdeal.main_arg1)
      ∧ m' ((c.tc : Thread Cert.MergeOutRefIdeal.nD Cert.MergeOutRefIdeal.τ).loc Cert.MergeOutRefIdeal.main_arg2) = m ((c.tc : Thread Cert.MergeOutIdeal.nD Cert.MergeOutIdeal.τ).loc Cert.MergeOutIdeal.main_arg2)
      ∧ m' ((c.tc : Thread Cert.MergeOutRefIdeal.nD Cert.MergeOutRefIdeal.τ).loc Cert.MergeOutRefIdeal.main_arg3) = m ((c.tc : Thread Cert.MergeOutIdeal.nD Cert.MergeOutIdeal.τ).loc Cert.MergeOutIdeal.main_arg3)
      ∧ m' ((c.tc : Thread Cert.MergeOutRefIdeal.nD Cert.MergeOutRefIdeal.τ).loc Cert.MergeOutRefIdeal.main_arg4) = m ((c.tc : Thread Cert.MergeOutIdeal.nD Cert.MergeOutIdeal.τ).loc Cert.MergeOutIdeal.main_arg4)
      ∧ m' ((c.tc : Thread Cert.MergeOutRefIdeal.nD Cert.MergeOutRefIdeal.τ).loc Cert.MergeOutRefIdeal.main_arg5) = m ((c.tc : Thread Cert.MergeOutIdeal.nD Cert.MergeOutIdeal.τ).loc Cert.MergeOutIdeal.main_arg5)
      ∧ m' ((c.tc : Thread Cert.MergeOutRefIdeal.nD Cert.MergeOutRefIdeal.τ).loc Cert.MergeOutRefIdeal.main_arg6) = m ((c.tc : Thread Cert.MergeOutIdeal.nD Cert.MergeOutIdeal.τ).loc Cert.MergeOutIdeal.main_arg6)) →
    ∃ (v0 : (c : Dev Cert.MergeOutIdeal.nD) → Buf (Elt Ideal) ((c.tc : Thread Cert.MergeOutIdeal.nD Cert.MergeOutIdeal.τ).loc Cert.MergeOutIdeal.main_v13)),
      θ_run (Cert.MergeOutIdeal.defs (F := Ideal)) (onTc (τ := Cert.MergeOutIdeal.τ) (Cert.MergeOutIdeal.main (F := Ideal))) ⟨m, fun _ => 0, g⟩ (fun r => ∀ c : Dev Cert.MergeOutIdeal.nD,
          r.2.mem ((c.tc : Thread Cert.MergeOutIdeal.nD Cert.MergeOutIdeal.τ).loc Cert.MergeOutIdeal.main_v13) = v0 c
          ∧ r.2.mem ((c.tc : Thread Cert.MergeOutIdeal.nD Cert.MergeOutIdeal.τ).loc Cert.MergeOutIdeal.main_arg0) = m ((c.tc : Thread Cert.MergeOutIdeal.nD Cert.MergeOutIdeal.τ).loc Cert.MergeOutIdeal.main_arg0)
          ∧ r.2.mem ((c.tc : Thread Cert.MergeOutIdeal.nD Cert.MergeOutIdeal.τ).loc Cert.MergeOutIdeal.main_arg1) = m ((c.tc : Thread Cert.MergeOutIdeal.nD Cert.MergeOutIdeal.τ).loc Cert.MergeOutIdeal.main_arg1)
          ∧ r.2.mem ((c.tc : Thread Cert.MergeOutIdeal.nD Cert.MergeOutIdeal.τ).loc Cert.MergeOutIdeal.main_arg2) = m ((c.tc : Thread Cert.MergeOutIdeal.nD Cert.MergeOutIdeal.τ).loc Cert.MergeOutIdeal.main_arg2)
          ∧ r.2.mem ((c.tc : Thread Cert.MergeOutIdeal.nD Cert.MergeOutIdeal.τ).loc Cert.MergeOutIdeal.main_arg3) = m ((c.tc : Thread Cert.MergeOutIdeal.nD Cert.MergeOutIdeal.τ).loc Cert.MergeOutIdeal.main_arg3)
          ∧ r.2.mem ((c.tc : Thread Cert.MergeOutIdeal.nD Cert.MergeOutIdeal.τ).loc Cert.MergeOutIdeal.main_arg4) = m ((c.tc : Thread Cert.MergeOutIdeal.nD Cert.MergeOutIdeal.τ).loc Cert.MergeOutIdeal.main_arg4)
          ∧ r.2.mem ((c.tc : Thread Cert.MergeOutIdeal.nD Cert.MergeOutIdeal.τ).loc Cert.MergeOutIdeal.main_arg5) = m ((c.tc : Thread Cert.MergeOutIdeal.nD Cert.MergeOutIdeal.τ).loc Cert.MergeOutIdeal.main_arg5)
          ∧ r.2.mem ((c.tc : Thread Cert.MergeOutIdeal.nD Cert.MergeOutIdeal.τ).loc Cert.MergeOutIdeal.main_arg6) = m ((c.tc : Thread Cert.MergeOutIdeal.nD Cert.MergeOutIdeal.τ).loc Cert.MergeOutIdeal.main_arg6))
      ∧ θ_run (Cert.MergeOutRefIdeal.defs (F := Ideal)) (onTc (τ := Cert.MergeOutRefIdeal.τ) (Cert.MergeOutRefIdeal.main (F := Ideal))) ⟨m', fun _ => 0, g'⟩ (fun r => ∀ c : Dev Cert.MergeOutRefIdeal.nD,
          r.2.mem ((c.tc : Thread Cert.MergeOutRefIdeal.nD Cert.MergeOutRefIdeal.τ).loc Cert.MergeOutRefIdeal.main_v30) = v0 c
          ∧ r.2.mem ((c.tc : Thread Cert.MergeOutRefIdeal.nD Cert.MergeOutRefIdeal.τ).loc Cert.MergeOutRefIdeal.main_arg0) = m' ((c.tc : Thread Cert.MergeOutRefIdeal.nD Cert.MergeOutRefIdeal.τ).loc Cert.MergeOutRefIdeal.main_arg0)
          ∧ r.2.mem ((c.tc : Thread Cert.MergeOutRefIdeal.nD Cert.MergeOutRefIdeal.τ).loc Cert.MergeOutRefIdeal.main_arg1) = m' ((c.tc : Thread Cert.MergeOutRefIdeal.nD Cert.MergeOutRefIdeal.τ).loc Cert.MergeOutRefIdeal.main_arg1)
          ∧ r.2.mem ((c.tc : Thread Cert.MergeOutRefIdeal.nD Cert.MergeOutRefIdeal.τ).loc Cert.MergeOutRefIdeal.main_arg2) = m' ((c.tc : Thread Cert.MergeOutRefIdeal.nD Cert.MergeOutRefIdeal.τ).loc Cert.MergeOutRefIdeal.main_arg2)
          ∧ r.2.mem ((c.tc : Thread Cert.MergeOutRefIdeal.nD Cert.MergeOutRefIdeal.τ).loc Cert.MergeOutRefIdeal.main_arg3) = m' ((c.tc : Thread Cert.MergeOutRefIdeal.nD Cert.MergeOutRefIdeal.τ).loc Cert.MergeOutRefIdeal.main_arg3)
          ∧ r.2.mem ((c.tc : Thread Cert.MergeOutRefIdeal.nD Cert.MergeOutRefIdeal.τ).loc Cert.MergeOutRefIdeal.main_arg4) = m' ((c.tc : Thread Cert.MergeOutRefIdeal.nD Cert.MergeOutRefIdeal.τ).loc Cert.MergeOutRefIdeal.main_arg4)
          ∧ r.2.mem ((c.tc : Thread Cert.MergeOutRefIdeal.nD Cert.MergeOutRefIdeal.τ).loc Cert.MergeOutRefIdeal.main_arg5) = m' ((c.tc : Thread Cert.MergeOutRefIdeal.nD Cert.MergeOutRefIdeal.τ).loc Cert.MergeOutRefIdeal.main_arg5)
          ∧ r.2.mem ((c.tc : Thread Cert.MergeOutRefIdeal.nD Cert.MergeOutRefIdeal.τ).loc Cert.MergeOutRefIdeal.main_arg6) = m' ((c.tc : Thread Cert.MergeOutRefIdeal.nD Cert.MergeOutRefIdeal.τ).loc Cert.MergeOutRefIdeal.main_arg6))

def preserves_MidOut_MidOutIdeal : Prop :=
  True

def algebraic_MidOutIdeal_MidOutRefIdeal [hMidOutIdeal : Cert.MidOutIdeal.Facts] [hMidOutRefIdeal : Cert.MidOutRefIdeal.Facts] : Prop :=
  ∀ (m : (ℓ : Loc Cert.MidOutIdeal.nD Cert.MidOutIdeal.τ Cert.MidOutIdeal.sig) → Buf (Elt Ideal) ℓ) (g : Dev Cert.MidOutIdeal.nD → PrngReg)
    (m' : (ℓ : Loc Cert.MidOutRefIdeal.nD Cert.MidOutRefIdeal.τ Cert.MidOutRefIdeal.sig) → Buf (Elt Ideal) ℓ) (g' : Dev Cert.MidOutRefIdeal.nD → PrngReg), Pre_MidOutIdeal m →
    (∀ c : Dev Cert.MidOutIdeal.nD,
      m' ((c.tc : Thread Cert.MidOutRefIdeal.nD Cert.MidOutRefIdeal.τ).loc Cert.MidOutRefIdeal.main_arg0) = m ((c.tc : Thread Cert.MidOutIdeal.nD Cert.MidOutIdeal.τ).loc Cert.MidOutIdeal.main_arg0)
      ∧ m' ((c.tc : Thread Cert.MidOutRefIdeal.nD Cert.MidOutRefIdeal.τ).loc Cert.MidOutRefIdeal.main_arg1) = m ((c.tc : Thread Cert.MidOutIdeal.nD Cert.MidOutIdeal.τ).loc Cert.MidOutIdeal.main_arg1)
      ∧ m' ((c.tc : Thread Cert.MidOutRefIdeal.nD Cert.MidOutRefIdeal.τ).loc Cert.MidOutRefIdeal.main_arg2) = m ((c.tc : Thread Cert.MidOutIdeal.nD Cert.MidOutIdeal.τ).loc Cert.MidOutIdeal.main_arg2)
      ∧ m' ((c.tc : Thread Cert.MidOutRefIdeal.nD Cert.MidOutRefIdeal.τ).loc Cert.MidOutRefIdeal.main_arg3) = m ((c.tc : Thread Cert.MidOutIdeal.nD Cert.MidOutIdeal.τ).loc Cert.MidOutIdeal.main_arg3)
      ∧ m' ((c.tc : Thread Cert.MidOutRefIdeal.nD Cert.MidOutRefIdeal.τ).loc Cert.MidOutRefIdeal.main_arg4) = m ((c.tc : Thread Cert.MidOutIdeal.nD Cert.MidOutIdeal.τ).loc Cert.MidOutIdeal.main_arg4)
      ∧ m' ((c.tc : Thread Cert.MidOutRefIdeal.nD Cert.MidOutRefIdeal.τ).loc Cert.MidOutRefIdeal.main_arg5) = m ((c.tc : Thread Cert.MidOutIdeal.nD Cert.MidOutIdeal.τ).loc Cert.MidOutIdeal.main_arg5)
      ∧ m' ((c.tc : Thread Cert.MidOutRefIdeal.nD Cert.MidOutRefIdeal.τ).loc Cert.MidOutRefIdeal.main_arg6) = m ((c.tc : Thread Cert.MidOutIdeal.nD Cert.MidOutIdeal.τ).loc Cert.MidOutIdeal.main_arg6)
      ∧ m' ((c.tc : Thread Cert.MidOutRefIdeal.nD Cert.MidOutRefIdeal.τ).loc Cert.MidOutRefIdeal.main_arg7) = m ((c.tc : Thread Cert.MidOutIdeal.nD Cert.MidOutIdeal.τ).loc Cert.MidOutIdeal.main_arg7)) →
    ∃ (v0 : (c : Dev Cert.MidOutIdeal.nD) → Buf (Elt Ideal) ((c.tc : Thread Cert.MidOutIdeal.nD Cert.MidOutIdeal.τ).loc Cert.MidOutIdeal.main_v2_0)) (v1 : (c : Dev Cert.MidOutIdeal.nD) → Buf (Elt Ideal) ((c.tc : Thread Cert.MidOutIdeal.nD Cert.MidOutIdeal.τ).loc Cert.MidOutIdeal.main_v2_1)) (v2 : (c : Dev Cert.MidOutIdeal.nD) → Buf (Elt Ideal) ((c.tc : Thread Cert.MidOutIdeal.nD Cert.MidOutIdeal.τ).loc Cert.MidOutIdeal.main_v2_2)),
      θ_run (Cert.MidOutIdeal.defs (F := Ideal)) (onTc (τ := Cert.MidOutIdeal.τ) (Cert.MidOutIdeal.main (F := Ideal))) ⟨m, fun _ => 0, g⟩ (fun r => ∀ c : Dev Cert.MidOutIdeal.nD,
          r.2.mem ((c.tc : Thread Cert.MidOutIdeal.nD Cert.MidOutIdeal.τ).loc Cert.MidOutIdeal.main_v2_0) = v0 c
          ∧ r.2.mem ((c.tc : Thread Cert.MidOutIdeal.nD Cert.MidOutIdeal.τ).loc Cert.MidOutIdeal.main_v2_1) = v1 c
          ∧ r.2.mem ((c.tc : Thread Cert.MidOutIdeal.nD Cert.MidOutIdeal.τ).loc Cert.MidOutIdeal.main_v2_2) = v2 c
          ∧ r.2.mem ((c.tc : Thread Cert.MidOutIdeal.nD Cert.MidOutIdeal.τ).loc Cert.MidOutIdeal.main_arg0) = m ((c.tc : Thread Cert.MidOutIdeal.nD Cert.MidOutIdeal.τ).loc Cert.MidOutIdeal.main_arg0)
          ∧ r.2.mem ((c.tc : Thread Cert.MidOutIdeal.nD Cert.MidOutIdeal.τ).loc Cert.MidOutIdeal.main_arg1) = m ((c.tc : Thread Cert.MidOutIdeal.nD Cert.MidOutIdeal.τ).loc Cert.MidOutIdeal.main_arg1)
          ∧ r.2.mem ((c.tc : Thread Cert.MidOutIdeal.nD Cert.MidOutIdeal.τ).loc Cert.MidOutIdeal.main_arg2) = m ((c.tc : Thread Cert.MidOutIdeal.nD Cert.MidOutIdeal.τ).loc Cert.MidOutIdeal.main_arg2)
          ∧ r.2.mem ((c.tc : Thread Cert.MidOutIdeal.nD Cert.MidOutIdeal.τ).loc Cert.MidOutIdeal.main_arg3) = m ((c.tc : Thread Cert.MidOutIdeal.nD Cert.MidOutIdeal.τ).loc Cert.MidOutIdeal.main_arg3)
          ∧ r.2.mem ((c.tc : Thread Cert.MidOutIdeal.nD Cert.MidOutIdeal.τ).loc Cert.MidOutIdeal.main_arg4) = m ((c.tc : Thread Cert.MidOutIdeal.nD Cert.MidOutIdeal.τ).loc Cert.MidOutIdeal.main_arg4)
          ∧ r.2.mem ((c.tc : Thread Cert.MidOutIdeal.nD Cert.MidOutIdeal.τ).loc Cert.MidOutIdeal.main_arg5) = m ((c.tc : Thread Cert.MidOutIdeal.nD Cert.MidOutIdeal.τ).loc Cert.MidOutIdeal.main_arg5)
          ∧ r.2.mem ((c.tc : Thread Cert.MidOutIdeal.nD Cert.MidOutIdeal.τ).loc Cert.MidOutIdeal.main_arg6) = m ((c.tc : Thread Cert.MidOutIdeal.nD Cert.MidOutIdeal.τ).loc Cert.MidOutIdeal.main_arg6)
          ∧ r.2.mem ((c.tc : Thread Cert.MidOutIdeal.nD Cert.MidOutIdeal.τ).loc Cert.MidOutIdeal.main_arg7) = m ((c.tc : Thread Cert.MidOutIdeal.nD Cert.MidOutIdeal.τ).loc Cert.MidOutIdeal.main_arg7))
      ∧ θ_run (Cert.MidOutRefIdeal.defs (F := Ideal)) (onTc (τ := Cert.MidOutRefIdeal.τ) (Cert.MidOutRefIdeal.main (F := Ideal))) ⟨m', fun _ => 0, g'⟩ (fun r => ∀ c : Dev Cert.MidOutRefIdeal.nD,
          r.2.mem ((c.tc : Thread Cert.MidOutRefIdeal.nD Cert.MidOutRefIdeal.τ).loc Cert.MidOutRefIdeal.main_v34) = v0 c
          ∧ r.2.mem ((c.tc : Thread Cert.MidOutRefIdeal.nD Cert.MidOutRefIdeal.τ).loc Cert.MidOutRefIdeal.main_v15) = v1 c
          ∧ r.2.mem ((c.tc : Thread Cert.MidOutRefIdeal.nD Cert.MidOutRefIdeal.τ).loc Cert.MidOutRefIdeal.main_v35) = v2 c
          ∧ r.2.mem ((c.tc : Thread Cert.MidOutRefIdeal.nD Cert.MidOutRefIdeal.τ).loc Cert.MidOutRefIdeal.main_arg0) = m' ((c.tc : Thread Cert.MidOutRefIdeal.nD Cert.MidOutRefIdeal.τ).loc Cert.MidOutRefIdeal.main_arg0)
          ∧ r.2.mem ((c.tc : Thread Cert.MidOutRefIdeal.nD Cert.MidOutRefIdeal.τ).loc Cert.MidOutRefIdeal.main_arg1) = m' ((c.tc : Thread Cert.MidOutRefIdeal.nD Cert.MidOutRefIdeal.τ).loc Cert.MidOutRefIdeal.main_arg1)
          ∧ r.2.mem ((c.tc : Thread Cert.MidOutRefIdeal.nD Cert.MidOutRefIdeal.τ).loc Cert.MidOutRefIdeal.main_arg2) = m' ((c.tc : Thread Cert.MidOutRefIdeal.nD Cert.MidOutRefIdeal.τ).loc Cert.MidOutRefIdeal.main_arg2)
          ∧ r.2.mem ((c.tc : Thread Cert.MidOutRefIdeal.nD Cert.MidOutRefIdeal.τ).loc Cert.MidOutRefIdeal.main_arg3) = m' ((c.tc : Thread Cert.MidOutRefIdeal.nD Cert.MidOutRefIdeal.τ).loc Cert.MidOutRefIdeal.main_arg3)
          ∧ r.2.mem ((c.tc : Thread Cert.MidOutRefIdeal.nD Cert.MidOutRefIdeal.τ).loc Cert.MidOutRefIdeal.main_arg4) = m' ((c.tc : Thread Cert.MidOutRefIdeal.nD Cert.MidOutRefIdeal.τ).loc Cert.MidOutRefIdeal.main_arg4)
          ∧ r.2.mem ((c.tc : Thread Cert.MidOutRefIdeal.nD Cert.MidOutRefIdeal.τ).loc Cert.MidOutRefIdeal.main_arg5) = m' ((c.tc : Thread Cert.MidOutRefIdeal.nD Cert.MidOutRefIdeal.τ).loc Cert.MidOutRefIdeal.main_arg5)
          ∧ r.2.mem ((c.tc : Thread Cert.MidOutRefIdeal.nD Cert.MidOutRefIdeal.τ).loc Cert.MidOutRefIdeal.main_arg6) = m' ((c.tc : Thread Cert.MidOutRefIdeal.nD Cert.MidOutRefIdeal.τ).loc Cert.MidOutRefIdeal.main_arg6)
          ∧ r.2.mem ((c.tc : Thread Cert.MidOutRefIdeal.nD Cert.MidOutRefIdeal.τ).loc Cert.MidOutRefIdeal.main_arg7) = m' ((c.tc : Thread Cert.MidOutRefIdeal.nD Cert.MidOutRefIdeal.τ).loc Cert.MidOutRefIdeal.main_arg7))

def preserves_GluOut_GluOutIdeal : Prop :=
  True

def algebraic_GluOutIdeal_GluOutRefIdeal [hGluOutIdeal : Cert.GluOutIdeal.Facts] [hGluOutRefIdeal : Cert.GluOutRefIdeal.Facts] : Prop :=
  ∀ (m : (ℓ : Loc Cert.GluOutIdeal.nD Cert.GluOutIdeal.τ Cert.GluOutIdeal.sig) → Buf (Elt Ideal) ℓ) (g : Dev Cert.GluOutIdeal.nD → PrngReg)
    (m' : (ℓ : Loc Cert.GluOutRefIdeal.nD Cert.GluOutRefIdeal.τ Cert.GluOutRefIdeal.sig) → Buf (Elt Ideal) ℓ) (g' : Dev Cert.GluOutRefIdeal.nD → PrngReg), Pre_GluOutIdeal m →
    (∀ c : Dev Cert.GluOutIdeal.nD,
      m' ((c.tc : Thread Cert.GluOutRefIdeal.nD Cert.GluOutRefIdeal.τ).loc Cert.GluOutRefIdeal.main_arg0) = m ((c.tc : Thread Cert.GluOutIdeal.nD Cert.GluOutIdeal.τ).loc Cert.GluOutIdeal.main_arg0)
      ∧ m' ((c.tc : Thread Cert.GluOutRefIdeal.nD Cert.GluOutRefIdeal.τ).loc Cert.GluOutRefIdeal.main_arg1) = m ((c.tc : Thread Cert.GluOutIdeal.nD Cert.GluOutIdeal.τ).loc Cert.GluOutIdeal.main_arg1)) →
    ∃ (v0 : (c : Dev Cert.GluOutIdeal.nD) → Buf (Elt Ideal) ((c.tc : Thread Cert.GluOutIdeal.nD Cert.GluOutIdeal.τ).loc Cert.GluOutIdeal.main_v12)) (v1 : (c : Dev Cert.GluOutIdeal.nD) → Buf (Elt Ideal) ((c.tc : Thread Cert.GluOutIdeal.nD Cert.GluOutIdeal.τ).loc Cert.GluOutIdeal.main_v7_1)),
      θ_run (Cert.GluOutIdeal.defs (F := Ideal)) (onTc (τ := Cert.GluOutIdeal.τ) (Cert.GluOutIdeal.main (F := Ideal))) ⟨m, fun _ => 0, g⟩ (fun r => ∀ c : Dev Cert.GluOutIdeal.nD,
          r.2.mem ((c.tc : Thread Cert.GluOutIdeal.nD Cert.GluOutIdeal.τ).loc Cert.GluOutIdeal.main_v12) = v0 c
          ∧ r.2.mem ((c.tc : Thread Cert.GluOutIdeal.nD Cert.GluOutIdeal.τ).loc Cert.GluOutIdeal.main_v7_1) = v1 c
          ∧ r.2.mem ((c.tc : Thread Cert.GluOutIdeal.nD Cert.GluOutIdeal.τ).loc Cert.GluOutIdeal.main_arg0) = m ((c.tc : Thread Cert.GluOutIdeal.nD Cert.GluOutIdeal.τ).loc Cert.GluOutIdeal.main_arg0)
          ∧ r.2.mem ((c.tc : Thread Cert.GluOutIdeal.nD Cert.GluOutIdeal.τ).loc Cert.GluOutIdeal.main_arg1) = m ((c.tc : Thread Cert.GluOutIdeal.nD Cert.GluOutIdeal.τ).loc Cert.GluOutIdeal.main_arg1))
      ∧ θ_run (Cert.GluOutRefIdeal.defs (F := Ideal)) (onTc (τ := Cert.GluOutRefIdeal.τ) (Cert.GluOutRefIdeal.main (F := Ideal))) ⟨m', fun _ => 0, g'⟩ (fun r => ∀ c : Dev Cert.GluOutRefIdeal.nD,
          r.2.mem ((c.tc : Thread Cert.GluOutRefIdeal.nD Cert.GluOutRefIdeal.τ).loc Cert.GluOutRefIdeal.main_v3) = v0 c
          ∧ r.2.mem ((c.tc : Thread Cert.GluOutRefIdeal.nD Cert.GluOutRefIdeal.τ).loc Cert.GluOutRefIdeal.main_v6) = v1 c
          ∧ r.2.mem ((c.tc : Thread Cert.GluOutRefIdeal.nD Cert.GluOutRefIdeal.τ).loc Cert.GluOutRefIdeal.main_arg0) = m' ((c.tc : Thread Cert.GluOutRefIdeal.nD Cert.GluOutRefIdeal.τ).loc Cert.GluOutRefIdeal.main_arg0)
          ∧ r.2.mem ((c.tc : Thread Cert.GluOutRefIdeal.nD Cert.GluOutRefIdeal.τ).loc Cert.GluOutRefIdeal.main_arg1) = m' ((c.tc : Thread Cert.GluOutRefIdeal.nD Cert.GluOutRefIdeal.τ).loc Cert.GluOutRefIdeal.main_arg1))

def preserves_ModOut_ModOutIdeal : Prop :=
  True

def algebraic_ModOutIdeal_ModOutRefIdeal [hModOutIdeal : Cert.ModOutIdeal.Facts] [hModOutRefIdeal : Cert.ModOutRefIdeal.Facts] : Prop :=
  ∀ (m : (ℓ : Loc Cert.ModOutIdeal.nD Cert.ModOutIdeal.τ Cert.ModOutIdeal.sig) → Buf (Elt Ideal) ℓ) (g : Dev Cert.ModOutIdeal.nD → PrngReg)
    (m' : (ℓ : Loc Cert.ModOutRefIdeal.nD Cert.ModOutRefIdeal.τ Cert.ModOutRefIdeal.sig) → Buf (Elt Ideal) ℓ) (g' : Dev Cert.ModOutRefIdeal.nD → PrngReg), Pre_ModOutIdeal m →
    (∀ c : Dev Cert.ModOutIdeal.nD,
      m' ((c.tc : Thread Cert.ModOutRefIdeal.nD Cert.ModOutRefIdeal.τ).loc Cert.ModOutRefIdeal.main_arg0) = m ((c.tc : Thread Cert.ModOutIdeal.nD Cert.ModOutIdeal.τ).loc Cert.ModOutIdeal.main_arg0)
      ∧ m' ((c.tc : Thread Cert.ModOutRefIdeal.nD Cert.ModOutRefIdeal.τ).loc Cert.ModOutRefIdeal.main_arg1) = m ((c.tc : Thread Cert.ModOutIdeal.nD Cert.ModOutIdeal.τ).loc Cert.ModOutIdeal.main_arg1)
      ∧ m' ((c.tc : Thread Cert.ModOutRefIdeal.nD Cert.ModOutRefIdeal.τ).loc Cert.ModOutRefIdeal.main_arg2) = m ((c.tc : Thread Cert.ModOutIdeal.nD Cert.ModOutIdeal.τ).loc Cert.ModOutIdeal.main_arg2)) →
    ∃ (v0 : (c : Dev Cert.ModOutIdeal.nD) → Buf (Elt Ideal) ((c.tc : Thread Cert.ModOutIdeal.nD Cert.ModOutIdeal.τ).loc Cert.ModOutIdeal.main_v1)),
      θ_run (Cert.ModOutIdeal.defs (F := Ideal)) (onTc (τ := Cert.ModOutIdeal.τ) (Cert.ModOutIdeal.main (F := Ideal))) ⟨m, fun _ => 0, g⟩ (fun r => ∀ c : Dev Cert.ModOutIdeal.nD,
          r.2.mem ((c.tc : Thread Cert.ModOutIdeal.nD Cert.ModOutIdeal.τ).loc Cert.ModOutIdeal.main_v1) = v0 c
          ∧ r.2.mem ((c.tc : Thread Cert.ModOutIdeal.nD Cert.ModOutIdeal.τ).loc Cert.ModOutIdeal.main_arg0) = m ((c.tc : Thread Cert.ModOutIdeal.nD Cert.ModOutIdeal.τ).loc Cert.ModOutIdeal.main_arg0)
          ∧ r.2.mem ((c.tc : Thread Cert.ModOutIdeal.nD Cert.ModOutIdeal.τ).loc Cert.ModOutIdeal.main_arg1) = m ((c.tc : Thread Cert.ModOutIdeal.nD Cert.ModOutIdeal.τ).loc Cert.ModOutIdeal.main_arg1)
          ∧ r.2.mem ((c.tc : Thread Cert.ModOutIdeal.nD Cert.ModOutIdeal.τ).loc Cert.ModOutIdeal.main_arg2) = m ((c.tc : Thread Cert.ModOutIdeal.nD Cert.ModOutIdeal.τ).loc Cert.ModOutIdeal.main_arg2))
      ∧ θ_run (Cert.ModOutRefIdeal.defs (F := Ideal)) (onTc (τ := Cert.ModOutRefIdeal.τ) (Cert.ModOutRefIdeal.main (F := Ideal))) ⟨m', fun _ => 0, g'⟩ (fun r => ∀ c : Dev Cert.ModOutRefIdeal.nD,
          r.2.mem ((c.tc : Thread Cert.ModOutRefIdeal.nD Cert.ModOutRefIdeal.τ).loc Cert.ModOutRefIdeal.main_v5) = v0 c
          ∧ r.2.mem ((c.tc : Thread Cert.ModOutRefIdeal.nD Cert.ModOutRefIdeal.τ).loc Cert.ModOutRefIdeal.main_arg0) = m' ((c.tc : Thread Cert.ModOutRefIdeal.nD Cert.ModOutRefIdeal.τ).loc Cert.ModOutRefIdeal.main_arg0)
          ∧ r.2.mem ((c.tc : Thread Cert.ModOutRefIdeal.nD Cert.ModOutRefIdeal.τ).loc Cert.ModOutRefIdeal.main_arg1) = m' ((c.tc : Thread Cert.ModOutRefIdeal.nD Cert.ModOutRefIdeal.τ).loc Cert.ModOutRefIdeal.main_arg1)
          ∧ r.2.mem ((c.tc : Thread Cert.ModOutRefIdeal.nD Cert.ModOutRefIdeal.τ).loc Cert.ModOutRefIdeal.main_arg2) = m' ((c.tc : Thread Cert.ModOutRefIdeal.nD Cert.ModOutRefIdeal.τ).loc Cert.ModOutRefIdeal.main_arg2))

def preserves_ModBack_ModBackIdeal : Prop :=
  True

def algebraic_ModBackIdeal_ModBackRefIdeal [hModBackIdeal : Cert.ModBackIdeal.Facts] [hModBackRefIdeal : Cert.ModBackRefIdeal.Facts] : Prop :=
  ∀ (m : (ℓ : Loc Cert.ModBackIdeal.nD Cert.ModBackIdeal.τ Cert.ModBackIdeal.sig) → Buf (Elt Ideal) ℓ) (g : Dev Cert.ModBackIdeal.nD → PrngReg)
    (m' : (ℓ : Loc Cert.ModBackRefIdeal.nD Cert.ModBackRefIdeal.τ Cert.ModBackRefIdeal.sig) → Buf (Elt Ideal) ℓ) (g' : Dev Cert.ModBackRefIdeal.nD → PrngReg), Pre_ModBackIdeal m →
    (∀ c : Dev Cert.ModBackIdeal.nD,
      m' ((c.tc : Thread Cert.ModBackRefIdeal.nD Cert.ModBackRefIdeal.τ).loc Cert.ModBackRefIdeal.main_arg0) = m ((c.tc : Thread Cert.ModBackIdeal.nD Cert.ModBackIdeal.τ).loc Cert.ModBackIdeal.main_arg0)
      ∧ m' ((c.tc : Thread Cert.ModBackRefIdeal.nD Cert.ModBackRefIdeal.τ).loc Cert.ModBackRefIdeal.main_arg1) = m ((c.tc : Thread Cert.ModBackIdeal.nD Cert.ModBackIdeal.τ).loc Cert.ModBackIdeal.main_arg1)
      ∧ m' ((c.tc : Thread Cert.ModBackRefIdeal.nD Cert.ModBackRefIdeal.τ).loc Cert.ModBackRefIdeal.main_arg2) = m ((c.tc : Thread Cert.ModBackIdeal.nD Cert.ModBackIdeal.τ).loc Cert.ModBackIdeal.main_arg2)
      ∧ m' ((c.tc : Thread Cert.ModBackRefIdeal.nD Cert.ModBackRefIdeal.τ).loc Cert.ModBackRefIdeal.main_arg3) = m ((c.tc : Thread Cert.ModBackIdeal.nD Cert.ModBackIdeal.τ).loc Cert.ModBackIdeal.main_arg3)) →
    ∃ (v0 : (c : Dev Cert.ModBackIdeal.nD) → Buf (Elt Ideal) ((c.tc : Thread Cert.ModBackIdeal.nD Cert.ModBackIdeal.τ).loc Cert.ModBackIdeal.main_v0)),
      θ_run (Cert.ModBackIdeal.defs (F := Ideal)) (onTc (τ := Cert.ModBackIdeal.τ) (Cert.ModBackIdeal.main (F := Ideal))) ⟨m, fun _ => 0, g⟩ (fun r => ∀ c : Dev Cert.ModBackIdeal.nD,
          r.2.mem ((c.tc : Thread Cert.ModBackIdeal.nD Cert.ModBackIdeal.τ).loc Cert.ModBackIdeal.main_v0) = v0 c
          ∧ r.2.mem ((c.tc : Thread Cert.ModBackIdeal.nD Cert.ModBackIdeal.τ).loc Cert.ModBackIdeal.main_arg0) = m ((c.tc : Thread Cert.ModBackIdeal.nD Cert.ModBackIdeal.τ).loc Cert.ModBackIdeal.main_arg0)
          ∧ r.2.mem ((c.tc : Thread Cert.ModBackIdeal.nD Cert.ModBackIdeal.τ).loc Cert.ModBackIdeal.main_arg1) = m ((c.tc : Thread Cert.ModBackIdeal.nD Cert.ModBackIdeal.τ).loc Cert.ModBackIdeal.main_arg1)
          ∧ r.2.mem ((c.tc : Thread Cert.ModBackIdeal.nD Cert.ModBackIdeal.τ).loc Cert.ModBackIdeal.main_arg2) = m ((c.tc : Thread Cert.ModBackIdeal.nD Cert.ModBackIdeal.τ).loc Cert.ModBackIdeal.main_arg2)
          ∧ r.2.mem ((c.tc : Thread Cert.ModBackIdeal.nD Cert.ModBackIdeal.τ).loc Cert.ModBackIdeal.main_arg3) = m ((c.tc : Thread Cert.ModBackIdeal.nD Cert.ModBackIdeal.τ).loc Cert.ModBackIdeal.main_arg3))
      ∧ θ_run (Cert.ModBackRefIdeal.defs (F := Ideal)) (onTc (τ := Cert.ModBackRefIdeal.τ) (Cert.ModBackRefIdeal.main (F := Ideal))) ⟨m', fun _ => 0, g'⟩ (fun r => ∀ c : Dev Cert.ModBackRefIdeal.nD,
          r.2.mem ((c.tc : Thread Cert.ModBackRefIdeal.nD Cert.ModBackRefIdeal.τ).loc Cert.ModBackRefIdeal.main_v8) = v0 c
          ∧ r.2.mem ((c.tc : Thread Cert.ModBackRefIdeal.nD Cert.ModBackRefIdeal.τ).loc Cert.ModBackRefIdeal.main_arg0) = m' ((c.tc : Thread Cert.ModBackRefIdeal.nD Cert.ModBackRefIdeal.τ).loc Cert.ModBackRefIdeal.main_arg0)
          ∧ r.2.mem ((c.tc : Thread Cert.ModBackRefIdeal.nD Cert.ModBackRefIdeal.τ).loc Cert.ModBackRefIdeal.main_arg1) = m' ((c.tc : Thread Cert.ModBackRefIdeal.nD Cert.ModBackRefIdeal.τ).loc Cert.ModBackRefIdeal.main_arg1)
          ∧ r.2.mem ((c.tc : Thread Cert.ModBackRefIdeal.nD Cert.ModBackRefIdeal.τ).loc Cert.ModBackRefIdeal.main_arg2) = m' ((c.tc : Thread Cert.ModBackRefIdeal.nD Cert.ModBackRefIdeal.τ).loc Cert.ModBackRefIdeal.main_arg2)
          ∧ r.2.mem ((c.tc : Thread Cert.ModBackRefIdeal.nD Cert.ModBackRefIdeal.τ).loc Cert.ModBackRefIdeal.main_arg3) = m' ((c.tc : Thread Cert.ModBackRefIdeal.nD Cert.ModBackRefIdeal.τ).loc Cert.ModBackRefIdeal.main_arg3))

def preserves_Adam_AdamIdeal : Prop :=
  True

def algebraic_AdamIdeal_AdamRefIdeal [hAdamIdeal : Cert.AdamIdeal.Facts] [hAdamRefIdeal : Cert.AdamRefIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamIdeal m →
    (∀ c : Dev Cert.AdamIdeal.nD,
      m' ((c.tc : Thread Cert.AdamRefIdeal.nD Cert.AdamRefIdeal.τ).loc Cert.AdamRefIdeal.main_arg0) = m ((c.tc : Thread Cert.AdamIdeal.nD Cert.AdamIdeal.τ).loc Cert.AdamIdeal.main_arg0)
      ∧ m' ((c.tc : Thread Cert.AdamRefIdeal.nD Cert.AdamRefIdeal.τ).loc Cert.AdamRefIdeal.main_arg1) = m ((c.tc : Thread Cert.AdamIdeal.nD Cert.AdamIdeal.τ).loc Cert.AdamIdeal.main_arg1)
      ∧ m' ((c.tc : Thread Cert.AdamRefIdeal.nD Cert.AdamRefIdeal.τ).loc Cert.AdamRefIdeal.main_arg2) = m ((c.tc : Thread Cert.AdamIdeal.nD Cert.AdamIdeal.τ).loc Cert.AdamIdeal.main_arg2)
      ∧ m' ((c.tc : Thread Cert.AdamRefIdeal.nD Cert.AdamRefIdeal.τ).loc Cert.AdamRefIdeal.main_arg3) = m ((c.tc : Thread Cert.AdamIdeal.nD Cert.AdamIdeal.τ).loc Cert.AdamIdeal.main_arg3)) →
    ∃ (v0 : (c : Dev Cert.AdamIdeal.nD) → Buf (Elt Ideal) ((c.tc : Thread Cert.AdamIdeal.nD Cert.AdamIdeal.τ).loc Cert.AdamIdeal.main_v4_0)) (v1 : (c : Dev Cert.AdamIdeal.nD) → Buf (Elt Ideal) ((c.tc : Thread Cert.AdamIdeal.nD Cert.AdamIdeal.τ).loc Cert.AdamIdeal.main_v4_1)) (v2 : (c : Dev Cert.AdamIdeal.nD) → Buf (Elt Ideal) ((c.tc : Thread Cert.AdamIdeal.nD Cert.AdamIdeal.τ).loc Cert.AdamIdeal.main_v4_2)) (v3 : (c : Dev Cert.AdamIdeal.nD) → Buf (Elt Ideal) ((c.tc : Thread Cert.AdamIdeal.nD Cert.AdamIdeal.τ).loc Cert.AdamIdeal.main_v4_3)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v4_0) = v0 c
          ∧ r.2.mem ((c.tc : Thread Cert.AdamIdeal.nD Cert.AdamIdeal.τ).loc Cert.AdamIdeal.main_v4_1) = v1 c
          ∧ r.2.mem ((c.tc : Thread Cert.AdamIdeal.nD Cert.AdamIdeal.τ).loc Cert.AdamIdeal.main_v4_2) = v2 c
          ∧ r.2.mem ((c.tc : Thread Cert.AdamIdeal.nD Cert.AdamIdeal.τ).loc Cert.AdamIdeal.main_v4_3) = v3 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_v24) = v0 c
          ∧ r.2.mem ((c.tc : Thread Cert.AdamRefIdeal.nD Cert.AdamRefIdeal.τ).loc Cert.AdamRefIdeal.main_v25) = v1 c
          ∧ r.2.mem ((c.tc : Thread Cert.AdamRefIdeal.nD Cert.AdamRefIdeal.τ).loc Cert.AdamRefIdeal.main_v26) = v2 c
          ∧ r.2.mem ((c.tc : Thread Cert.AdamRefIdeal.nD Cert.AdamRefIdeal.τ).loc Cert.AdamRefIdeal.main_v27) = v3 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3))

def preserves_Slots_SlotsIdeal : Prop :=
  True

def algebraic_SlotsIdeal_SlotsRefIdeal [hSlotsIdeal : Cert.SlotsIdeal.Facts] [hSlotsRefIdeal : Cert.SlotsRefIdeal.Facts] : Prop :=
  ∀ (m : (ℓ : Loc Cert.SlotsIdeal.nD Cert.SlotsIdeal.τ Cert.SlotsIdeal.sig) → Buf (Elt Ideal) ℓ) (g : Dev Cert.SlotsIdeal.nD → PrngReg)
    (m' : (ℓ : Loc Cert.SlotsRefIdeal.nD Cert.SlotsRefIdeal.τ Cert.SlotsRefIdeal.sig) → Buf (Elt Ideal) ℓ) (g' : Dev Cert.SlotsRefIdeal.nD → PrngReg), Pre_SlotsIdeal m →
    (∀ c : Dev Cert.SlotsIdeal.nD,
      m' ((c.tc : Thread Cert.SlotsRefIdeal.nD Cert.SlotsRefIdeal.τ).loc Cert.SlotsRefIdeal.main_arg0) = m ((c.tc : Thread Cert.SlotsIdeal.nD Cert.SlotsIdeal.τ).loc Cert.SlotsIdeal.main_arg0)) →
    ∃ (v0 : (c : Dev Cert.SlotsIdeal.nD) → Buf (Elt Ideal) ((c.tc : Thread Cert.SlotsIdeal.nD Cert.SlotsIdeal.τ).loc Cert.SlotsIdeal.main_v1)),
      θ_run (Cert.SlotsIdeal.defs (F := Ideal)) (onTc (τ := Cert.SlotsIdeal.τ) (Cert.SlotsIdeal.main (F := Ideal))) ⟨m, fun _ => 0, g⟩ (fun r => ∀ c : Dev Cert.SlotsIdeal.nD,
          r.2.mem ((c.tc : Thread Cert.SlotsIdeal.nD Cert.SlotsIdeal.τ).loc Cert.SlotsIdeal.main_v1) = v0 c
          ∧ r.2.mem ((c.tc : Thread Cert.SlotsIdeal.nD Cert.SlotsIdeal.τ).loc Cert.SlotsIdeal.main_arg0) = m ((c.tc : Thread Cert.SlotsIdeal.nD Cert.SlotsIdeal.τ).loc Cert.SlotsIdeal.main_arg0))
      ∧ θ_run (Cert.SlotsRefIdeal.defs (F := Ideal)) (onTc (τ := Cert.SlotsRefIdeal.τ) (Cert.SlotsRefIdeal.main (F := Ideal))) ⟨m', fun _ => 0, g'⟩ (fun r => ∀ c : Dev Cert.SlotsRefIdeal.nD,
          r.2.mem ((c.tc : Thread Cert.SlotsRefIdeal.nD Cert.SlotsRefIdeal.τ).loc Cert.SlotsRefIdeal.main_v0) = v0 c
          ∧ r.2.mem ((c.tc : Thread Cert.SlotsRefIdeal.nD Cert.SlotsRefIdeal.τ).loc Cert.SlotsRefIdeal.main_arg0) = m' ((c.tc : Thread Cert.SlotsRefIdeal.nD Cert.SlotsRefIdeal.τ).loc Cert.SlotsRefIdeal.main_arg0))

def preserves_Product_ProductIdeal : Prop :=
  True

def algebraic_ProductIdeal_ProductRefIdeal [hProductIdeal : Cert.ProductIdeal.Facts] [hProductRefIdeal : Cert.ProductRefIdeal.Facts] : Prop :=
  ∀ (m : (ℓ : Loc Cert.ProductIdeal.nD Cert.ProductIdeal.τ Cert.ProductIdeal.sig) → Buf (Elt Ideal) ℓ) (g : Dev Cert.ProductIdeal.nD → PrngReg)
    (m' : (ℓ : Loc Cert.ProductRefIdeal.nD Cert.ProductRefIdeal.τ Cert.ProductRefIdeal.sig) → Buf (Elt Ideal) ℓ) (g' : Dev Cert.ProductRefIdeal.nD → PrngReg), Pre_ProductIdeal m →
    (∀ c : Dev Cert.ProductIdeal.nD,
      m' ((c.tc : Thread Cert.ProductRefIdeal.nD Cert.ProductRefIdeal.τ).loc Cert.ProductRefIdeal.main_arg0) = m ((c.tc : Thread Cert.ProductIdeal.nD Cert.ProductIdeal.τ).loc Cert.ProductIdeal.main_arg0)
      ∧ m' ((c.tc : Thread Cert.ProductRefIdeal.nD Cert.ProductRefIdeal.τ).loc Cert.ProductRefIdeal.main_arg1) = m ((c.tc : Thread Cert.ProductIdeal.nD Cert.ProductIdeal.τ).loc Cert.ProductIdeal.main_arg1)) →
    ∃ (v0 : (c : Dev Cert.ProductIdeal.nD) → Buf (Elt Ideal) ((c.tc : Thread Cert.ProductIdeal.nD Cert.ProductIdeal.τ).loc Cert.ProductIdeal.main_v13)),
      θ_run (Cert.ProductIdeal.defs (F := Ideal)) (onTc (τ := Cert.ProductIdeal.τ) (Cert.ProductIdeal.main (F := Ideal))) ⟨m, fun _ => 0, g⟩ (fun r => ∀ c : Dev Cert.ProductIdeal.nD,
          r.2.mem ((c.tc : Thread Cert.ProductIdeal.nD Cert.ProductIdeal.τ).loc Cert.ProductIdeal.main_v13) = v0 c
          ∧ r.2.mem ((c.tc : Thread Cert.ProductIdeal.nD Cert.ProductIdeal.τ).loc Cert.ProductIdeal.main_arg0) = m ((c.tc : Thread Cert.ProductIdeal.nD Cert.ProductIdeal.τ).loc Cert.ProductIdeal.main_arg0)
          ∧ r.2.mem ((c.tc : Thread Cert.ProductIdeal.nD Cert.ProductIdeal.τ).loc Cert.ProductIdeal.main_arg1) = m ((c.tc : Thread Cert.ProductIdeal.nD Cert.ProductIdeal.τ).loc Cert.ProductIdeal.main_arg1))
      ∧ θ_run (Cert.ProductRefIdeal.defs (F := Ideal)) (onTc (τ := Cert.ProductRefIdeal.τ) (Cert.ProductRefIdeal.main (F := Ideal))) ⟨m', fun _ => 0, g'⟩ (fun r => ∀ c : Dev Cert.ProductRefIdeal.nD,
          r.2.mem ((c.tc : Thread Cert.ProductRefIdeal.nD Cert.ProductRefIdeal.τ).loc Cert.ProductRefIdeal.main_v1) = v0 c
          ∧ r.2.mem ((c.tc : Thread Cert.ProductRefIdeal.nD Cert.ProductRefIdeal.τ).loc Cert.ProductRefIdeal.main_arg0) = m' ((c.tc : Thread Cert.ProductRefIdeal.nD Cert.ProductRefIdeal.τ).loc Cert.ProductRefIdeal.main_arg0)
          ∧ r.2.mem ((c.tc : Thread Cert.ProductRefIdeal.nD Cert.ProductRefIdeal.τ).loc Cert.ProductRefIdeal.main_arg1) = m' ((c.tc : Thread Cert.ProductRefIdeal.nD Cert.ProductRefIdeal.τ).loc Cert.ProductRefIdeal.main_arg1))

def Claim : Prop :=
  ∃ (hSsmConv : Cert.SsmConv.Facts) (hSsmConvIdeal : Cert.SsmConvIdeal.Facts) (hSsmConvRefIdeal : Cert.SsmConvRefIdeal.Facts) (hAttention : Cert.Attention.Facts) (hAttentionIdeal : Cert.AttentionIdeal.Facts) (hAttentionRefIdeal : Cert.AttentionRefIdeal.Facts) (hShortConv : Cert.ShortConv.Facts) (hShortConvIdeal : Cert.ShortConvIdeal.Facts) (hShortConvRefIdeal : Cert.ShortConvRefIdeal.Facts) (hLossLast : Cert.LossLast.Facts) (hLossLastIdeal : Cert.LossLastIdeal.Facts) (hLossLastRefIdeal : Cert.LossLastRefIdeal.Facts) (hAdalnFirst : Cert.AdalnFirst.Facts) (hAdalnFirstIdeal : Cert.AdalnFirstIdeal.Facts) (hAdalnFirstRefIdeal : Cert.AdalnFirstRefIdeal.Facts) (hSsmPost : Cert.SsmPost.Facts) (hSsmPostIdeal : Cert.SsmPostIdeal.Facts) (hSsmPostRefIdeal : Cert.SsmPostRefIdeal.Facts) (hSwiGlu : Cert.SwiGlu.Facts) (hSwiGluIdeal : Cert.SwiGluIdeal.Facts) (hSwiGluRefIdeal : Cert.SwiGluRefIdeal.Facts) (hSticks : Cert.Sticks.Facts) (hSticksIdeal : Cert.SticksIdeal.Facts) (hSticksRefIdeal : Cert.SticksRefIdeal.Facts) (hMerge : Cert.Merge.Facts) (hMergeIdeal : Cert.MergeIdeal.Facts) (hMergeRefIdeal : Cert.MergeRefIdeal.Facts) (hMid : Cert.Mid.Facts) (hMidIdeal : Cert.MidIdeal.Facts) (hMidRefIdeal : Cert.MidRefIdeal.Facts) (hAdalnOut : Cert.AdalnOut.Facts) (hAdalnOutIdeal : Cert.AdalnOutIdeal.Facts) (hAdalnOutRefIdeal : Cert.AdalnOutRefIdeal.Facts) (hConvOut : Cert.ConvOut.Facts) (hConvOutIdeal : Cert.ConvOutIdeal.Facts) (hConvOutRefIdeal : Cert.ConvOutRefIdeal.Facts) (hShortOut : Cert.ShortOut.Facts) (hShortOutIdeal : Cert.ShortOutIdeal.Facts) (hShortOutRefIdeal : Cert.ShortOutRefIdeal.Facts) (hPostOut : Cert.PostOut.Facts) (hPostOutIdeal : Cert.PostOutIdeal.Facts) (hPostOutRefIdeal : Cert.PostOutRefIdeal.Facts) (hMergeOut : Cert.MergeOut.Facts) (hMergeOutIdeal : Cert.MergeOutIdeal.Facts) (hMergeOutRefIdeal : Cert.MergeOutRefIdeal.Facts) (hMidOut : Cert.MidOut.Facts) (hMidOutIdeal : Cert.MidOutIdeal.Facts) (hMidOutRefIdeal : Cert.MidOutRefIdeal.Facts) (hGluOut : Cert.GluOut.Facts) (hGluOutIdeal : Cert.GluOutIdeal.Facts) (hGluOutRefIdeal : Cert.GluOutRefIdeal.Facts) (hModOut : Cert.ModOut.Facts) (hModOutIdeal : Cert.ModOutIdeal.Facts) (hModOutRefIdeal : Cert.ModOutRefIdeal.Facts) (hModBack : Cert.ModBack.Facts) (hModBackIdeal : Cert.ModBackIdeal.Facts) (hModBackRefIdeal : Cert.ModBackRefIdeal.Facts) (hAdam : Cert.Adam.Facts) (hAdamIdeal : Cert.AdamIdeal.Facts) (hAdamRefIdeal : Cert.AdamRefIdeal.Facts) (hSlots : Cert.Slots.Facts) (hSlotsIdeal : Cert.SlotsIdeal.Facts) (hSlotsRefIdeal : Cert.SlotsRefIdeal.Facts) (hProduct : Cert.Product.Facts) (hProductIdeal : Cert.ProductIdeal.Facts) (hProductRefIdeal : Cert.ProductRefIdeal.Facts) (hPre_attention_finite : Cert.Pre_attention_finite.Facts) (hPre_losslast_finite : Cert.Pre_losslast_finite.Facts) (hPre_adalnfirst_finite : Cert.Pre_adalnfirst_finite.Facts) (hPre_ssmpost_finite : Cert.Pre_ssmpost_finite.Facts) (hPre_swiglu_finite : Cert.Pre_swiglu_finite.Facts) (hPre_sticks_finite : Cert.Pre_sticks_finite.Facts) (hPre_mid_finite : Cert.Pre_mid_finite.Facts),
    quiescent_SsmConv (hSsmConv := hSsmConv)
    ∧ quiescent_SsmConvIdeal (hSsmConvIdeal := hSsmConvIdeal)
    ∧ quiescent_SsmConvRefIdeal (hSsmConvRefIdeal := hSsmConvRefIdeal)
    ∧ quiescent_Attention (hAttention := hAttention)
    ∧ quiescent_AttentionIdeal (hAttentionIdeal := hAttentionIdeal)
    ∧ quiescent_AttentionIdeal_pre_attention_finite (hAttentionIdeal := hAttentionIdeal) (hPre_attention_finite := hPre_attention_finite)
    ∧ quiescent_AttentionRefIdeal (hAttentionRefIdeal := hAttentionRefIdeal)
    ∧ quiescent_AttentionRefIdeal_pre_attention_finite (hAttentionRefIdeal := hAttentionRefIdeal) (hPre_attention_finite := hPre_attention_finite)
    ∧ quiescent_ShortConv (hShortConv := hShortConv)
    ∧ quiescent_ShortConvIdeal (hShortConvIdeal := hShortConvIdeal)
    ∧ quiescent_ShortConvRefIdeal (hShortConvRefIdeal := hShortConvRefIdeal)
    ∧ quiescent_LossLast (hLossLast := hLossLast)
    ∧ quiescent_LossLastIdeal (hLossLastIdeal := hLossLastIdeal)
    ∧ quiescent_LossLastIdeal_pre_losslast_finite (hLossLastIdeal := hLossLastIdeal) (hPre_losslast_finite := hPre_losslast_finite)
    ∧ quiescent_LossLastRefIdeal (hLossLastRefIdeal := hLossLastRefIdeal)
    ∧ quiescent_LossLastRefIdeal_pre_losslast_finite (hLossLastRefIdeal := hLossLastRefIdeal) (hPre_losslast_finite := hPre_losslast_finite)
    ∧ quiescent_AdalnFirst (hAdalnFirst := hAdalnFirst)
    ∧ quiescent_AdalnFirstIdeal (hAdalnFirstIdeal := hAdalnFirstIdeal)
    ∧ quiescent_AdalnFirstIdeal_pre_adalnfirst_finite (hAdalnFirstIdeal := hAdalnFirstIdeal) (hPre_adalnfirst_finite := hPre_adalnfirst_finite)
    ∧ quiescent_AdalnFirstRefIdeal (hAdalnFirstRefIdeal := hAdalnFirstRefIdeal)
    ∧ quiescent_AdalnFirstRefIdeal_pre_adalnfirst_finite (hAdalnFirstRefIdeal := hAdalnFirstRefIdeal) (hPre_adalnfirst_finite := hPre_adalnfirst_finite)
    ∧ quiescent_SsmPost (hSsmPost := hSsmPost)
    ∧ quiescent_SsmPostIdeal (hSsmPostIdeal := hSsmPostIdeal)
    ∧ quiescent_SsmPostIdeal_pre_ssmpost_finite (hSsmPostIdeal := hSsmPostIdeal) (hPre_ssmpost_finite := hPre_ssmpost_finite)
    ∧ quiescent_SsmPostRefIdeal (hSsmPostRefIdeal := hSsmPostRefIdeal)
    ∧ quiescent_SsmPostRefIdeal_pre_ssmpost_finite (hSsmPostRefIdeal := hSsmPostRefIdeal) (hPre_ssmpost_finite := hPre_ssmpost_finite)
    ∧ quiescent_SwiGlu (hSwiGlu := hSwiGlu)
    ∧ quiescent_SwiGluIdeal (hSwiGluIdeal := hSwiGluIdeal)
    ∧ quiescent_SwiGluIdeal_pre_swiglu_finite (hSwiGluIdeal := hSwiGluIdeal) (hPre_swiglu_finite := hPre_swiglu_finite)
    ∧ quiescent_SwiGluRefIdeal (hSwiGluRefIdeal := hSwiGluRefIdeal)
    ∧ quiescent_SwiGluRefIdeal_pre_swiglu_finite (hSwiGluRefIdeal := hSwiGluRefIdeal) (hPre_swiglu_finite := hPre_swiglu_finite)
    ∧ quiescent_Sticks (hSticks := hSticks)
    ∧ quiescent_SticksIdeal (hSticksIdeal := hSticksIdeal)
    ∧ quiescent_SticksIdeal_pre_sticks_finite (hSticksIdeal := hSticksIdeal) (hPre_sticks_finite := hPre_sticks_finite)
    ∧ quiescent_SticksRefIdeal (hSticksRefIdeal := hSticksRefIdeal)
    ∧ quiescent_SticksRefIdeal_pre_sticks_finite (hSticksRefIdeal := hSticksRefIdeal) (hPre_sticks_finite := hPre_sticks_finite)
    ∧ quiescent_Merge (hMerge := hMerge)
    ∧ quiescent_MergeIdeal (hMergeIdeal := hMergeIdeal)
    ∧ quiescent_MergeRefIdeal (hMergeRefIdeal := hMergeRefIdeal)
    ∧ quiescent_Mid (hMid := hMid)
    ∧ quiescent_MidIdeal (hMidIdeal := hMidIdeal)
    ∧ quiescent_MidIdeal_pre_mid_finite (hMidIdeal := hMidIdeal) (hPre_mid_finite := hPre_mid_finite)
    ∧ quiescent_MidRefIdeal (hMidRefIdeal := hMidRefIdeal)
    ∧ quiescent_MidRefIdeal_pre_mid_finite (hMidRefIdeal := hMidRefIdeal) (hPre_mid_finite := hPre_mid_finite)
    ∧ quiescent_AdalnOut (hAdalnOut := hAdalnOut)
    ∧ quiescent_AdalnOutIdeal (hAdalnOutIdeal := hAdalnOutIdeal)
    ∧ quiescent_AdalnOutRefIdeal (hAdalnOutRefIdeal := hAdalnOutRefIdeal)
    ∧ quiescent_ConvOut (hConvOut := hConvOut)
    ∧ quiescent_ConvOutIdeal (hConvOutIdeal := hConvOutIdeal)
    ∧ quiescent_ConvOutRefIdeal (hConvOutRefIdeal := hConvOutRefIdeal)
    ∧ quiescent_ShortOut (hShortOut := hShortOut)
    ∧ quiescent_ShortOutIdeal (hShortOutIdeal := hShortOutIdeal)
    ∧ quiescent_ShortOutRefIdeal (hShortOutRefIdeal := hShortOutRefIdeal)
    ∧ quiescent_PostOut (hPostOut := hPostOut)
    ∧ quiescent_PostOutIdeal (hPostOutIdeal := hPostOutIdeal)
    ∧ quiescent_PostOutRefIdeal (hPostOutRefIdeal := hPostOutRefIdeal)
    ∧ quiescent_MergeOut (hMergeOut := hMergeOut)
    ∧ quiescent_MergeOutIdeal (hMergeOutIdeal := hMergeOutIdeal)
    ∧ quiescent_MergeOutRefIdeal (hMergeOutRefIdeal := hMergeOutRefIdeal)
    ∧ quiescent_MidOut (hMidOut := hMidOut)
    ∧ quiescent_MidOutIdeal (hMidOutIdeal := hMidOutIdeal)
    ∧ quiescent_MidOutRefIdeal (hMidOutRefIdeal := hMidOutRefIdeal)
    ∧ quiescent_GluOut (hGluOut := hGluOut)
    ∧ quiescent_GluOutIdeal (hGluOutIdeal := hGluOutIdeal)
    ∧ quiescent_GluOutRefIdeal (hGluOutRefIdeal := hGluOutRefIdeal)
    ∧ quiescent_ModOut (hModOut := hModOut)
    ∧ quiescent_ModOutIdeal (hModOutIdeal := hModOutIdeal)
    ∧ quiescent_ModOutRefIdeal (hModOutRefIdeal := hModOutRefIdeal)
    ∧ quiescent_ModBack (hModBack := hModBack)
    ∧ quiescent_ModBackIdeal (hModBackIdeal := hModBackIdeal)
    ∧ quiescent_ModBackRefIdeal (hModBackRefIdeal := hModBackRefIdeal)
    ∧ quiescent_Adam (hAdam := hAdam)
    ∧ quiescent_AdamIdeal (hAdamIdeal := hAdamIdeal)
    ∧ quiescent_AdamRefIdeal (hAdamRefIdeal := hAdamRefIdeal)
    ∧ quiescent_Slots (hSlots := hSlots)
    ∧ quiescent_SlotsIdeal (hSlotsIdeal := hSlotsIdeal)
    ∧ quiescent_SlotsRefIdeal (hSlotsRefIdeal := hSlotsRefIdeal)
    ∧ quiescent_Product (hProduct := hProduct)
    ∧ quiescent_ProductIdeal (hProductIdeal := hProductIdeal)
    ∧ quiescent_ProductRefIdeal (hProductRefIdeal := hProductRefIdeal)
    ∧ preserves_SsmConv_SsmConvIdeal
    ∧ algebraic_SsmConvIdeal_SsmConvRefIdeal (hSsmConvIdeal := hSsmConvIdeal) (hSsmConvRefIdeal := hSsmConvRefIdeal)
    ∧ preserves_Attention_AttentionIdeal
    ∧ algebraic_AttentionIdeal_AttentionRefIdeal_pre_attention_finite (hAttentionIdeal := hAttentionIdeal) (hAttentionRefIdeal := hAttentionRefIdeal) (hPre_attention_finite := hPre_attention_finite)
    ∧ preserves_ShortConv_ShortConvIdeal
    ∧ algebraic_ShortConvIdeal_ShortConvRefIdeal (hShortConvIdeal := hShortConvIdeal) (hShortConvRefIdeal := hShortConvRefIdeal)
    ∧ preserves_LossLast_LossLastIdeal
    ∧ algebraic_LossLastIdeal_LossLastRefIdeal_pre_losslast_finite (hLossLastIdeal := hLossLastIdeal) (hLossLastRefIdeal := hLossLastRefIdeal) (hPre_losslast_finite := hPre_losslast_finite)
    ∧ preserves_AdalnFirst_AdalnFirstIdeal
    ∧ algebraic_AdalnFirstIdeal_AdalnFirstRefIdeal_pre_adalnfirst_finite (hAdalnFirstIdeal := hAdalnFirstIdeal) (hAdalnFirstRefIdeal := hAdalnFirstRefIdeal) (hPre_adalnfirst_finite := hPre_adalnfirst_finite)
    ∧ preserves_SsmPost_SsmPostIdeal
    ∧ algebraic_SsmPostIdeal_SsmPostRefIdeal_pre_ssmpost_finite (hSsmPostIdeal := hSsmPostIdeal) (hSsmPostRefIdeal := hSsmPostRefIdeal) (hPre_ssmpost_finite := hPre_ssmpost_finite)
    ∧ preserves_SwiGlu_SwiGluIdeal
    ∧ algebraic_SwiGluIdeal_SwiGluRefIdeal_pre_swiglu_finite (hSwiGluIdeal := hSwiGluIdeal) (hSwiGluRefIdeal := hSwiGluRefIdeal) (hPre_swiglu_finite := hPre_swiglu_finite)
    ∧ preserves_Sticks_SticksIdeal
    ∧ algebraic_SticksIdeal_SticksRefIdeal_pre_sticks_finite (hSticksIdeal := hSticksIdeal) (hSticksRefIdeal := hSticksRefIdeal) (hPre_sticks_finite := hPre_sticks_finite)
    ∧ preserves_Merge_MergeIdeal
    ∧ algebraic_MergeIdeal_MergeRefIdeal (hMergeIdeal := hMergeIdeal) (hMergeRefIdeal := hMergeRefIdeal)
    ∧ preserves_Mid_MidIdeal
    ∧ algebraic_MidIdeal_MidRefIdeal_pre_mid_finite (hMidIdeal := hMidIdeal) (hMidRefIdeal := hMidRefIdeal) (hPre_mid_finite := hPre_mid_finite)
    ∧ preserves_AdalnOut_AdalnOutIdeal
    ∧ algebraic_AdalnOutIdeal_AdalnOutRefIdeal (hAdalnOutIdeal := hAdalnOutIdeal) (hAdalnOutRefIdeal := hAdalnOutRefIdeal)
    ∧ preserves_ConvOut_ConvOutIdeal
    ∧ algebraic_ConvOutIdeal_ConvOutRefIdeal (hConvOutIdeal := hConvOutIdeal) (hConvOutRefIdeal := hConvOutRefIdeal)
    ∧ preserves_ShortOut_ShortOutIdeal
    ∧ algebraic_ShortOutIdeal_ShortOutRefIdeal (hShortOutIdeal := hShortOutIdeal) (hShortOutRefIdeal := hShortOutRefIdeal)
    ∧ preserves_PostOut_PostOutIdeal
    ∧ algebraic_PostOutIdeal_PostOutRefIdeal (hPostOutIdeal := hPostOutIdeal) (hPostOutRefIdeal := hPostOutRefIdeal)
    ∧ preserves_MergeOut_MergeOutIdeal
    ∧ algebraic_MergeOutIdeal_MergeOutRefIdeal (hMergeOutIdeal := hMergeOutIdeal) (hMergeOutRefIdeal := hMergeOutRefIdeal)
    ∧ preserves_MidOut_MidOutIdeal
    ∧ algebraic_MidOutIdeal_MidOutRefIdeal (hMidOutIdeal := hMidOutIdeal) (hMidOutRefIdeal := hMidOutRefIdeal)
    ∧ preserves_GluOut_GluOutIdeal
    ∧ algebraic_GluOutIdeal_GluOutRefIdeal (hGluOutIdeal := hGluOutIdeal) (hGluOutRefIdeal := hGluOutRefIdeal)
    ∧ preserves_ModOut_ModOutIdeal
    ∧ algebraic_ModOutIdeal_ModOutRefIdeal (hModOutIdeal := hModOutIdeal) (hModOutRefIdeal := hModOutRefIdeal)
    ∧ preserves_ModBack_ModBackIdeal
    ∧ algebraic_ModBackIdeal_ModBackRefIdeal (hModBackIdeal := hModBackIdeal) (hModBackRefIdeal := hModBackRefIdeal)
    ∧ preserves_Adam_AdamIdeal
    ∧ algebraic_AdamIdeal_AdamRefIdeal (hAdamIdeal := hAdamIdeal) (hAdamRefIdeal := hAdamRefIdeal)
    ∧ preserves_Slots_SlotsIdeal
    ∧ algebraic_SlotsIdeal_SlotsRefIdeal (hSlotsIdeal := hSlotsIdeal) (hSlotsRefIdeal := hSlotsRefIdeal)
    ∧ preserves_Product_ProductIdeal
    ∧ algebraic_ProductIdeal_ProductRefIdeal (hProductIdeal := hProductIdeal) (hProductRefIdeal := hProductRefIdeal)
-- ==== Pre_adalnfirst_finite.lean ====
abbrev S16384x1024 : Shape := ⟨2, ![16384, 1024]⟩
abbrev S1x1024 : Shape := ⟨2, ![1, 1024]⟩
abbrev S_ : Shape := ⟨0, ![]⟩

class Facts : Prop where
  bcast_S_S16384x1024 : S_.BroadcastsInDim S16384x1024 (![] : Fin 0 → Fin S16384x1024.rank)
  bcast_S_S1x1024 : S_.BroadcastsInDim S1x1024 (![] : Fin 0 → Fin S1x1024.rank)

variable [Facts]

def fn {F : FTy → Type} [FloatOps F] (main_arg0 : FVec F S16384x1024 .f32) (main_arg1 : FVec F S16384x1024 .f32) (main_arg2 : FVec F S16384x1024 .f32) (main_arg3 : FVec F S1x1024 .f32) (main_arg4 : FVec F S1x1024 .f32) (main_arg5 : FVec F S1x1024 .f32) : IVec S16384x1024 1 × IVec S16384x1024 1 × IVec S1x1024 1 × IVec S1x1024 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S16384x1024 .f32 := Host.absf main_arg2
  let main_cst_0 : FVec F S_ .f32 := constant S_ .f32 0x7F800000#32
  let main_v4 : FVec F S16384x1024 .f32 := broadcastInDim S16384x1024 ![] bcast_S_S16384x1024 main_cst_0
  let main_v5 : IVec S16384x1024 1 := cmpf .olt main_v3 main_v4
  let main_v6 : FVec F S1x1024 .f32 := Host.absf main_arg3
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1x1024 .f32 := Host.absf main_arg4
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  (main_v2, main_v5, main_v8, main_v11)
-- ==== Pre_attention_finite.lean ====
abbrev S16384x5896 : Shape := ⟨2, ![16384, 5896]⟩
abbrev S16384x256 : Shape := ⟨2, ![16384, 256]⟩
abbrev S_ : Shape := ⟨0, ![]⟩

class Facts : Prop where
  bcast_S_S16384x5896 : S_.BroadcastsInDim S16384x5896 (![] : Fin 0 → Fin S16384x5896.rank)
  bcast_S_S16384x256 : S_.BroadcastsInDim S16384x256 (![] : Fin 0 → Fin S16384x256.rank)

variable [Facts]

def fn {F : FTy → Type} [FloatOps F] (main_arg0 : FVec F S16384x5896 .f32) (main_arg1 : FVec F S16384x256 .f32) : IVec S16384x5896 1 × IVec S16384x256 1 :=
  let main_v0 : FVec F S16384x5896 .f32 := Host.absf main_arg0
  let main_cst : FVec F S_ .f32 := constant S_ .f32 0x7F800000#32
  let main_v1 : FVec F S16384x5896 .f32 := broadcastInDim S16384x5896 ![] bcast_S_S16384x5896 main_cst
  let main_v2 : IVec S16384x5896 1 := cmpf .olt main_v0 main_v1
  let main_v3 : FVec F S16384x256 .f32 := Host.absf main_arg1
  let main_cst_0 : FVec F S_ .f32 := constant S_ .f32 0x7F800000#32
  let main_v4 : FVec F S16384x256 .f32 := broadcastInDim S16384x256 ![] bcast_S_S16384x256 main_cst_0
  let main_v5 : IVec S16384x256 1 := cmpf .olt main_v3 main_v4
  (main_v2, main_v5)
-- ==== Pre_losslast_finite.lean ====
abbrev S16384x1024 : Shape := ⟨2, ![16384, 1024]⟩
abbrev S1x1024 : Shape := ⟨2, ![1, 1024]⟩
abbrev S_ : Shape := ⟨0, ![]⟩

class Facts : Prop where
  bcast_S_S16384x1024 : S_.BroadcastsInDim S16384x1024 (![] : Fin 0 → Fin S16384x1024.rank)
  bcast_S_S1x1024 : S_.BroadcastsInDim S1x1024 (![] : Fin 0 → Fin S1x1024.rank)

variable [Facts]

def fn {F : FTy → Type} [FloatOps F] (main_arg0 : FVec F S16384x1024 .f32) (main_arg1 : FVec F S16384x1024 .f32) (main_arg2 : FVec F S16384x1024 .f32) (main_arg3 : FVec F S1x1024 .f32) (main_arg4 : FVec F S1x1024 .f32) : IVec S16384x1024 1 × IVec S16384x1024 1 × IVec S16384x1024 1 × IVec S1x1024 1 × IVec S1x1024 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S16384x1024 .f32 := Host.absf main_arg1
  let main_cst_0 : FVec F S_ .f32 := constant S_ .f32 0x7F800000#32
  let main_v4 : FVec F S16384x1024 .f32 := broadcastInDim S16384x1024 ![] bcast_S_S16384x1024 main_cst_0
  let main_v5 : IVec S16384x1024 1 := cmpf .olt main_v3 main_v4
  let main_v6 : FVec F S16384x1024 .f32 := Host.absf main_arg2
  let main_cst_1 : FVec F S_ .f32 := constant S_ .f32 0x7F800000#32
  let main_v7 : FVec F S16384x1024 .f32 := broadcastInDim S16384x1024 ![] bcast_S_S16384x1024 main_cst_1
  let main_v8 : IVec S16384x1024 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S1x1024 .f32 := Host.absf main_arg4
  let main_cst_3 : FVec F S_ .f32 := constant S_ .f32 0x7F800000#32
  let main_v13 : FVec F S1x1024 .f32 := broadcastInDim S1x1024 ![] bcast_S_S1x1024 main_cst_3
  let main_v14 : IVec S1x1024 1 := cmpf .olt main_v12 main_v13
  (main_v2, main_v5, main_v8, main_v11, main_v14)
-- ==== Pre_mid_finite.lean ====
abbrev S16384x1024 : Shape := ⟨2, ![16384, 1024]⟩
abbrev S1x1024 : Shape := ⟨2, ![1, 1024]⟩
abbrev S_ : Shape := ⟨0, ![]⟩

class Facts : Prop where
  bcast_S_S16384x1024 : S_.BroadcastsInDim S16384x1024 (![] : Fin 0 → Fin S16384x1024.rank)
  bcast_S_S1x1024 : S_.BroadcastsInDim S1x1024 (![] : Fin 0 → Fin S1x1024.rank)

variable [Facts]

def fn_part1 {F : FTy → Type} [FloatOps F] (main_arg6 : FVec F S1x1024 .f32) (main_arg7 : FVec F S1x1024 .f32) (main_v2 : IVec S16384x1024 1) (main_v5 : IVec S16384x1024 1) (main_v8 : IVec S16384x1024 1) (main_v11 : IVec S16384x1024 1) (main_v14 : IVec S1x1024 1) (main_v17 : IVec S1x1024 1) : IVec S16384x1024 1 × IVec S16384x1024 1 × IVec S16384x1024 1 × IVec S16384x1024 1 × IVec S1x1024 1 × IVec S1x1024 1 × IVec S1x1024 1 × IVec S1x1024 1 :=
  let main_v18 : FVec F S1x1024 .f32 := Host.absf main_arg6
  let main_cst_5 : FVec F S_ .f32 := constant S_ .f32 0x7F800000#32
  let main_v19 : FVec F S1x1024 .f32 := broadcastInDim S1x1024 ![] bcast_S_S1x1024 main_cst_5
  let main_v20 : IVec S1x1024 1 := cmpf .olt main_v18 main_v19
  let main_v21 : FVec F S1x1024 .f32 := Host.absf main_arg7
  let main_cst_6 : FVec F S_ .f32 := constant S_ .f32 0x7F800000#32
  let main_v22 : FVec F S1x1024 .f32 := broadcastInDim S1x1024 ![] bcast_S_S1x1024 main_cst_6
  let main_v23 : IVec S1x1024 1 := cmpf .olt main_v21 main_v22
  (main_v2, main_v5, main_v8, main_v11, main_v14, main_v17, main_v20, main_v23)

def fn {F : FTy → Type} [FloatOps F] (main_arg0 : FVec F S16384x1024 .f32) (main_arg1 : FVec F S16384x1024 .f32) (main_arg2 : FVec F S16384x1024 .f32) (main_arg3 : FVec F S16384x1024 .f32) (main_arg4 : FVec F S1x1024 .f32) (main_arg5 : FVec F S1x1024 .f32) (main_arg6 : FVec F S1x1024 .f32) (main_arg7 : FVec F S1x1024 .f32) (main_arg8 : FVec F S1x1024 .f32) : IVec S16384x1024 1 × IVec S16384x1024 1 × IVec S16384x1024 1 × IVec S16384x1024 1 × IVec S1x1024 1 × IVec S1x1024 1 × IVec S1x1024 1 × IVec S1x1024 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S16384x1024 .f32 := Host.absf main_arg1
  let main_cst_0 : FVec F S_ .f32 := constant S_ .f32 0x7F800000#32
  let main_v4 : FVec F S16384x1024 .f32 := broadcastInDim S16384x1024 ![] bcast_S_S16384x1024 main_cst_0
  let main_v5 : IVec S16384x1024 1 := cmpf .olt main_v3 main_v4
  let main_v6 : FVec F S16384x1024 .f32 := Host.absf main_arg2
  let main_cst_1 : FVec F S_ .f32 := constant S_ .f32 0x7F800000#32
  let main_v7 : FVec F S16384x1024 .f32 := broadcastInDim S16384x1024 ![] bcast_S_S16384x1024 main_cst_1
  let main_v8 : IVec S16384x1024 1 := cmpf .olt main_v6 main_v7
  let main_v9 : FVec F S16384x1024 .f32 := Host.absf main_arg3
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_v12 : FVec F S1x1024 .f32 := Host.absf main_arg4
  let main_cst_3 : FVec F S_ .f32 := constant S_ .f32 0x7F800000#32
  let main_v13 : FVec F S1x1024 .f32 := broadcastInDim S1x1024 ![] bcast_S_S1x1024 main_cst_3
  let main_v14 : IVec S1x1024 1 := cmpf .olt main_v12 main_v13
  let main_v15 : FVec F S1x1024 .f32 := Host.absf main_arg5
  let main_cst_4 : FVec F S_ .f32 := constant S_ .f32 0x7F800000#32
  let main_v16 : FVec F S1x1024 .f32 := broadcastInDim S1x1024 ![] bcast_S_S1x1024 main_cst_4
  let main_v17 : IVec S1x1024 1 := cmpf .olt main_v15 main_v16
  fn_part1 (F := F) main_arg6 main_arg7 main_v2 main_v5 main_v8 main_v11 main_v14 main_v17
-- ==== Pre_ssmpost_finite.lean ====
abbrev S16384x512 : Shape := ⟨2, ![16384, 512]⟩
abbrev S16384x768 : Shape := ⟨2, ![16384, 768]⟩
abbrev S16384x5896 : Shape := ⟨2, ![16384, 5896]⟩
abbrev S1x8 : Shape := ⟨2, ![1, 8]⟩
abbrev S1x512 : Shape := ⟨2, ![1, 512]⟩
abbrev S_ : Shape := ⟨0, ![]⟩

class Facts : Prop where
  bcast_S_S16384x512 : S_.BroadcastsInDim S16384x512 (![] : Fin 0 → Fin S16384x512.rank)
  bcast_S_S16384x768 : S_.BroadcastsInDim S16384x768 (![] : Fin 0 → Fin S16384x768.rank)
  bcast_S_S16384x5896 : S_.BroadcastsInDim S16384x5896 (![] : Fin 0 → Fin S16384x5896.rank)
  bcast_S_S1x8 : S_.BroadcastsInDim S1x8 (![] : Fin 0 → Fin S1x8.rank)
  bcast_S_S1x512 : S_.BroadcastsInDim S1x512 (![] : Fin 0 → Fin S1x512.rank)

variable [Facts]

def fn {F : FTy → Type} [FloatOps F] (main_arg0 : FVec F S16384x512 .f32) (main_arg1 : FVec F S16384x768 .f32) (main_arg2 : FVec F S16384x5896 .f32) (main_arg3 : FVec F S16384x512 .f32) (main_arg4 : FVec F S1x8 .f32) (main_arg5 : FVec F S1x512 .f32) : IVec S16384x512 1 × IVec S16384x768 1 × IVec S16384x5896 1 × IVec S16384x512 1 × IVec S1x8 1 × IVec S1x512 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_v3 : FVec F S16384x768 .f32 := Host.absf main_arg1
  let main_cst_0 : FVec F S_ .f32 := constant S_ .f32 0x7F800000#32
  let main_v4 : FVec F S16384x768 .f32 := broadcastInDim S16384x768 ![] bcast_S_S16384x768 main_cst_0
  let main_v5 : IVec S16384x768 1 := cmpf .olt main_v3 main_v4
  let main_v6 : FVec F S16384x5896 .f32 := Host.absf main_arg2
  let main_cst_1 : FVec F S_ .f32 := constant S_ .f32 0x7F800000#32
  let main_v7 : FVec F S16384x5896 .f32 := broadcastInDim S16384x5896 ![] bcast_S_S16384x5896 main_cst_1
  let main_v8 : IVec S16384x5896 1 := cmpf .olt main_v6 main_v7
  let main_v9 : FVec F S16384x512 .f32 := Host.absf main_arg3
  let main_cst_2 : FVec F S_ .f32 := constant S_ .f32 0x7F800000#32
  let main_v10 : FVec F S16384x512 .f32 := broadcastInDim S16384x512 ![] bcast_S_S16384x512 main_cst_2
  let main_v11 : IVec S16384x512 1 := cmpf .olt main_v9 main_v10
  let main_v12 : FVec F S1x8 .f32 := Host.absf main_arg4
  let main_cst_3 : FVec F S_ .f32 := constant S_ .f32 0x7F800000#32
  let main_v13 : FVec F S1x8 .f32 := broadcastInDim S1x8 ![] bcast_S_S1x8 main_cst_3
  let main_v14 : IVec S1x8 1 := cmpf .olt main_v12 main_v13
  let main_v15 : FVec F S1x512 .f32 := Host.absf main_arg5
  let main_cst_4 : FVec F S_ .f32 := constant S_ .f32 0x7F800000#32
  let main_v16 : FVec F S1x512 .f32 := broadcastInDim S1x512 ![] bcast_S_S1x512 main_cst_4
  let main_v17 : IVec S1x512 1 := cmpf .olt main_v15 main_v16
  (main_v2, main_v5, main_v8, main_v11, main_v14, main_v17)
-- ==== Pre_sticks_finite.lean ====
abbrev S16384x5896 : Shape := ⟨2, ![16384, 5896]⟩
abbrev S_ : Shape := ⟨0, ![]⟩

class Facts : Prop where
  bcast_S_S16384x5896 : S_.BroadcastsInDim S16384x5896 (![] : Fin 0 → Fin S16384x5896.rank)

variable [Facts]

def fn {F : FTy → Type} [FloatOps F] (main_arg0 : FVec F S16384x5896 .f32) : IVec S16384x5896 1 :=
  let main_v0 : FVec F S16384x5896 .f32 := Host.absf main_arg0
  let main_cst : FVec F S_ .f32 := constant S_ .f32 0x7F800000#32
  let main_v1 : FVec F S16384x5896 .f32 := broadcastInDim S16384x5896 ![] bcast_S_S16384x5896 main_cst
  let main_v2 : IVec S16384x5896 1 := cmpf .olt main_v0 main_v1
  main_v2
-- ==== Pre_swiglu_finite.lean ====
abbrev S16384x1024 : Shape := ⟨2, ![16384, 1024]⟩
abbrev S2816x1024 : Shape := ⟨2, ![2816, 1024]⟩
abbrev S16384x5632 : Shape := ⟨2, ![16384, 5632]⟩
abbrev S_ : Shape := ⟨0, ![]⟩

class Facts : Prop where
  bcast_S_S16384x1024 : S_.BroadcastsInDim S16384x1024 (![] : Fin 0 → Fin S16384x1024.rank)
  bcast_S_S2816x1024 : S_.BroadcastsInDim S2816x1024 (![] : Fin 0 → Fin S2816x1024.rank)
  bcast_S_S16384x5632 : S_.BroadcastsInDim S16384x5632 (![] : Fin 0 → Fin S16384x5632.rank)

variable [Facts]

def fn {F : FTy → Type} [FloatOps F] (main_arg0 : FVec F S16384x1024 .f32) (main_arg1 : FVec F S2816x1024 .f32) (main_arg2 : FVec F S16384x5632 .f32) : IVec S16384x1024 1 × IVec S2816x1024 1 × IVec S16384x5632 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S2816x1024 .f32 := Host.absf main_arg1
  let main_cst_0 : FVec F S_ .f32 := constant S_ .f32 0x7F800000#32
  let main_v4 : FVec F S2816x1024 .f32 := broadcastInDim S2816x1024 ![] bcast_S_S2816x1024 main_cst_0
  let main_v5 : IVec S2816x1024 1 := cmpf .olt main_v3 main_v4
  let main_v6 : FVec F S16384x5632 .f32 := Host.absf main_arg2
  let main_cst_1 : FVec F S_ .f32 := constant S_ .f32 0x7F800000#32
  let main_v7 : FVec F S16384x5632 .f32 := broadcastInDim S16384x5632 ![] bcast_S_S16384x5632 main_cst_1
  let main_v8 : IVec S16384x5632 1 := cmpf .olt main_v6 main_v7
  (main_v2, main_v5, main_v8)
-- ==== SsmConv.lean ====
abbrev S16384x5896 : Shape := ⟨2, ![16384, 5896]⟩
abbrev S16384x768 : Shape := ⟨2, ![16384, 768]⟩
abbrev S4x768 : Shape := ⟨2, ![4, 768]⟩
abbrev S16384x2048 : Shape := ⟨2, ![16384, 2048]⟩
abbrev S16384x8 : Shape := ⟨2, ![16384, 8]⟩
abbrev S_ : Shape := ⟨0, ![]⟩
abbrev S16384x248 : Shape := ⟨2, ![16384, 248]⟩
abbrev S16384x3072 : Shape := ⟨2, ![16384, 3072]⟩
abbrev S16384x6144 : Shape := ⟨2, ![16384, 6144]⟩
abbrev S1x768 : Shape := ⟨2, ![1, 768]⟩
abbrev S512x768 : Shape := ⟨2, ![512, 768]⟩
abbrev S16x768 : Shape := ⟨2, ![16, 768]⟩
abbrev S768 : Shape := ⟨1, ![768]⟩

abbrev nBuf : Space → Nat
  | .hbm => 17
  | .vmem => 16
  | .smem => 0
  | _ => 0

abbrev bufTy : (tb : Table) → Fin (tcTables nBuf tb) → BufTy
  | .hbm, ⟨0, _⟩ => ⟨S16384x5896, .f32⟩
  | .hbm, ⟨1, _⟩ => ⟨S16384x768, .f32⟩
  | .hbm, ⟨2, _⟩ => ⟨S4x768, .f32⟩
  | .hbm, ⟨3, _⟩ => ⟨S16384x2048, .f32⟩
  | .hbm, ⟨4, _⟩ => ⟨S16384x8, .f32⟩
  | .hbm, ⟨5, _⟩ => ⟨S_, .f32⟩
  | .hbm, ⟨6, _⟩ => ⟨S16384x248, .f32⟩
  | .hbm, ⟨7, _⟩ => ⟨S16384x768, .f32⟩
  | .hbm, ⟨8, _⟩ => ⟨S16384x3072, .f32⟩
  | .hbm, ⟨9, _⟩ => ⟨S16384x6144, .f32⟩
  | .hbm, ⟨10, _⟩ => ⟨S16384x6144, .bf16⟩
  | .hbm, ⟨11, _⟩ => ⟨S16384x768, .bf16⟩
  | .hbm, ⟨12, _⟩ => ⟨S1x768, .f32⟩
  | .hbm, ⟨13, _⟩ => ⟨S1x768, .f32⟩
  | .hbm, ⟨14, _⟩ => ⟨S1x768, .f32⟩
  | .hbm, ⟨15, _⟩ => ⟨S1x768, .f32⟩
  | .hbm, ⟨16, _⟩ => ⟨S1x768, .f32⟩
  | .local _ .vmem, ⟨0, _⟩ => ⟨S512x768, .bf16⟩
  | .local _ .vmem, ⟨1, _⟩ => ⟨S512x768, .bf16⟩
  | .local _ .vmem, ⟨2, _⟩ => ⟨S16x768, .bf16⟩
  | .local _ .vmem, ⟨3, _⟩ => ⟨S16x768, .bf16⟩
  | .local _ .vmem, ⟨4, _⟩ => ⟨S512x768, .f32⟩
  | .local _ .vmem, ⟨5, _⟩ => ⟨S512x768, .f32⟩
  | .local _ .vmem, ⟨6, _⟩ => ⟨S16x768, .f32⟩
  | .local _ .vmem, ⟨7, _⟩ => ⟨S16x768, .f32⟩
  | .local _ .vmem, ⟨8, _⟩ => ⟨S4x768, .f32⟩
  | .local _ .vmem, ⟨9, _⟩ => ⟨S512x768, .bf16⟩
  | .local _ .vmem, ⟨10, _⟩ => ⟨S512x768, .bf16⟩
  | .local _ .vmem, ⟨11, _⟩ => ⟨S1x768, .f32⟩
  | .local _ .vmem, ⟨12, _⟩ => ⟨S1x768, .f32⟩
  | .local _ .vmem, ⟨13, _⟩ => ⟨S1x768, .f32⟩
  | .local _ .vmem, ⟨14, _⟩ => ⟨S1x768, .f32⟩
  | .local _ .vmem, ⟨15, _⟩ => ⟨S1x768, .f32⟩
  | _, _ => ⟨S16384x5896, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v7_2 : Ref sig .tc := ⟨.hbm, 13, rfl⟩
abbrev main_v7_3 : Ref sig .tc := ⟨.hbm, 14, rfl⟩
abbrev main_v7_4 : Ref sig .tc := ⟨.hbm, 15, rfl⟩
abbrev main_v7_5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c3_i32 : BitVec 32 := 3#32
  let c0_i32_0 : BitVec 32 := 0#32
  ![v2.toNat, c3_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x768 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== SsmConvRefIdeal.lean ====
abbrev S16384x5896 : Shape := ⟨2, ![16384, 5896]⟩
abbrev S16384x768 : Shape := ⟨2, ![16384, 768]⟩
abbrev S4x768 : Shape := ⟨2, ![4, 768]⟩
abbrev S_ : Shape := ⟨0, ![]⟩
abbrev S1x768 : Shape := ⟨2, ![1, 768]⟩
abbrev S3x768 : Shape := ⟨2, ![3, 768]⟩
abbrev S16387x768 : Shape := ⟨2, ![16387, 768]⟩
abbrev S768 : Shape := ⟨1, ![768]⟩

abbrev nBuf : Space → Nat
  | .hbm => 92
  | .vmem => 0
  | .smem => 0
  | _ => 0

abbrev bufTy : (tb : Table) → Fin (tcTables nBuf tb) → BufTy
  | .hbm, ⟨0, _⟩ => ⟨S16384x5896, .f32⟩
  | .hbm, ⟨1, _⟩ => ⟨S16384x768, .f32⟩
  | .hbm, ⟨2, _⟩ => ⟨S4x768, .f32⟩
  | .hbm, ⟨3, _⟩ => ⟨S_, .f32⟩
  | .hbm, ⟨4, _⟩ => ⟨S1x768, .f32⟩
  | .hbm, ⟨5, _⟩ => ⟨S16384x768, .f32⟩
  | .hbm, ⟨6, _⟩ => ⟨S_, .f32⟩
  | .hbm, ⟨7, _⟩ => ⟨S3x768, .f32⟩
  | .hbm, ⟨8, _⟩ => ⟨S16387x768, .f32⟩
  | .hbm, ⟨9, _⟩ => ⟨S_, .f32⟩
  | .hbm, ⟨10, _⟩ => ⟨S3x768, .f32⟩
  | .hbm, ⟨11, _⟩ => ⟨S1x768, .f32⟩
  | .hbm, ⟨12, _⟩ => ⟨S16384x768, .f32⟩
  | .hbm, ⟨13, _⟩ => ⟨S16384x768, .f32⟩
  | .hbm, ⟨14, _⟩ => ⟨S16384x768, .f32⟩
  | .hbm, ⟨15, _⟩ => ⟨S_, .f32⟩
  | .hbm, ⟨16, _⟩ => ⟨S16384x768, .f32⟩
  | .hbm, ⟨17, _⟩ => ⟨S16384x768, .f32⟩
  | .hbm, ⟨18, _⟩ => ⟨S1x768, .f32⟩
  | .hbm, ⟨19, _⟩ => ⟨S16384x768, .f32⟩
  | .hbm, ⟨20, _⟩ => ⟨S16384x768, .f32⟩
  | .hbm, ⟨21, _⟩ => ⟨S16384x768, .f32⟩
  | .hbm, ⟨22, _⟩ => ⟨S16384x768, .f32⟩
  | .hbm, ⟨23, _⟩ => ⟨S1x768, .f32⟩
  | .hbm, ⟨24, _⟩ => ⟨S16384x768, .f32⟩
  | .hbm, ⟨25, _⟩ => ⟨S16384x768, .f32⟩
  | .hbm, ⟨26, _⟩ => ⟨S16384x768, .f32⟩
  | .hbm, ⟨27, _⟩ => ⟨S16384x768, .f32⟩
  | .hbm, ⟨28, _⟩ => ⟨S1x768, .f32⟩
  | .hbm, ⟨29, _⟩ => ⟨S16384x768, .f32⟩
  | .hbm, ⟨30, _⟩ => ⟨S16384x768, .f32⟩
  | .hbm, ⟨31, _⟩ => ⟨S16384x768, .f32⟩
  | .hbm, ⟨32, _⟩ => ⟨S16384x768, .f32⟩
  | .hbm, ⟨33, _⟩ => ⟨S16384x768, .f32⟩
  | .hbm, ⟨34, _⟩ => ⟨S16384x768, .f32⟩
  | .hbm, ⟨35, _⟩ => ⟨S16384x768, .f32⟩
  | .hbm, ⟨36, _⟩ => ⟨S_, .f32⟩
  | .hbm, ⟨37, _⟩ => ⟨S768, .f32⟩
  | .hbm, ⟨38, _⟩ => ⟨S1x768, .f32⟩
  | .hbm, ⟨39, _⟩ => ⟨S16384x768, .f32⟩
  | .hbm, ⟨40, _⟩ => ⟨S16384x768, .f32⟩
  | .hbm, ⟨41, _⟩ => ⟨S16384x768, .f32⟩
  | .hbm, ⟨42, _⟩ => ⟨S_, .f32⟩
  | .hbm, ⟨43, _⟩ => ⟨S768, .f32⟩
  | .hbm, ⟨44, _⟩ => ⟨S1x768, .f32⟩
  | .hbm, ⟨45, _⟩ => ⟨S_, .f32⟩
  | .hbm, ⟨46, _⟩ => ⟨S16387x768, .f32⟩
  | .hbm, ⟨47, _⟩ => ⟨S_, .f32⟩
  | .hbm, ⟨48, _⟩ => ⟨S4x768, .f32⟩
  | .hbm, ⟨49, _⟩ => ⟨S16384x768, .f32⟩
  | .hbm, ⟨50, _⟩ => ⟨S16384x768, .f32⟩
  | .hbm, ⟨51, _⟩ => ⟨S16384x768, .f32⟩
  | .hbm, ⟨52, _⟩ => ⟨S_, .f32⟩
  | .hbm, ⟨53, _⟩ => ⟨S768, .f32⟩
  | .hbm, ⟨54, _⟩ => ⟨S1x768, .f32⟩
  | .hbm, ⟨55, _⟩ => ⟨S_, .f32⟩
  | .hbm, ⟨56, _⟩ => ⟨S16387x768, .f32⟩
  | .hbm, ⟨57, _⟩ => ⟨S16387x768, .f32⟩
  | .hbm, ⟨58, _⟩ => ⟨S_, .f32⟩
  | .hbm, ⟨59, _⟩ => ⟨S4x768, .f32⟩
  | .hbm, ⟨60, _⟩ => ⟨S4x768, .f32⟩
  | .hbm, ⟨61, _⟩ => ⟨S16384x768, .f32⟩
  | .hbm, ⟨62, _⟩ => ⟨S16384x768, .f32⟩
  | .hbm, ⟨63, _⟩ => ⟨S16384x768, .f32⟩
  | .hbm, ⟨64, _⟩ => ⟨S_, .f32⟩
  | .hbm, ⟨65, _⟩ => ⟨S768, .f32⟩
  | .hbm, ⟨66, _⟩ => ⟨S1x768, .f32⟩
  | .hbm, ⟨67, _⟩ => ⟨S_, .f32⟩
  | .hbm, ⟨68, _⟩ => ⟨S16387x768, .f32⟩
  | .hbm, ⟨69, _⟩ => ⟨S16387x768, .f32⟩
  | .hbm, ⟨70, _⟩ => ⟨S_, .f32⟩
  | .hbm, ⟨71, _⟩ => ⟨S4x768, .f32⟩
  | .hbm, ⟨72, _⟩ => ⟨S4x768, .f32⟩
  | .hbm, ⟨73, _⟩ => ⟨S16384x768, .f32⟩
  | .hbm, ⟨74, _⟩ => ⟨S16384x768, .f32⟩
  | .hbm, ⟨75, _⟩ => ⟨S16384x768, .f32⟩
  | .hbm, ⟨76, _⟩ => ⟨S_, .f32⟩
  | .hbm, ⟨77, _⟩ => ⟨S768, .f32⟩
  | .hbm, ⟨78, _⟩ => ⟨S1x768, .f32⟩
  | .hbm, ⟨79, _⟩ => ⟨S_, .f32⟩
  | .hbm, ⟨80, _⟩ => ⟨S16387x768, .f32⟩
  | .hbm, ⟨81, _⟩ => ⟨S16387x768, .f32⟩
  | .hbm, ⟨82, _⟩ => ⟨S_, .f32⟩
  | .hbm, ⟨83, _⟩ => ⟨S4x768, .f32⟩
  | .hbm, ⟨84, _⟩ => ⟨S4x768, .f32⟩
  | .hbm, ⟨85, _⟩ => ⟨S3x768, .f32⟩
  | .hbm, ⟨86, _⟩ => ⟨S16384x768, .f32⟩
  | .hbm, ⟨87, _⟩ => ⟨S16384x768, .bf16⟩
  | .hbm, ⟨88, _⟩ => ⟨S1x768, .f32⟩
  | .hbm, ⟨89, _⟩ => ⟨S1x768, .f32⟩
  | .hbm, ⟨90, _⟩ => ⟨S1x768, .f32⟩
  | .hbm, ⟨91, _⟩ => ⟨S1x768, .f32⟩
  | _, _ => ⟨S16384x5896, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_3 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst_4 : Ref sig .tc := ⟨.hbm, 42, rfl⟩
abbrev main_v34 : Ref sig .tc := ⟨.hbm, 43, rfl⟩
abbrev main_v35 : Ref sig .tc := ⟨.hbm, 44, rfl⟩
abbrev main_cst_5 : Ref sig .tc := ⟨.hbm, 45, rfl⟩
abbrev main_v36 : Ref sig .tc := ⟨.hbm, 46, rfl⟩
abbrev main_cst_6 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_7 : Ref sig .tc := ⟨.hbm, 52, rfl⟩
abbrev main_v41 : Ref sig .tc := ⟨.hbm, 53, rfl⟩
abbrev main_v42 : Ref sig .tc := ⟨.hbm, 54, rfl⟩
abbrev main_cst_8 : Ref sig .tc := ⟨.hbm, 55, rfl⟩
abbrev main_v43 : Ref sig .tc := ⟨.hbm, 56, rfl⟩
abbrev main_v44 : Ref sig .tc := ⟨.hbm, 57, rfl⟩
abbrev main_cst_9 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_10 : Ref sig .tc := ⟨.hbm, 64, rfl⟩
abbrev main_v50 : Ref sig .tc := ⟨.hbm, 65, rfl⟩
abbrev main_v51 : Ref sig .tc := ⟨.hbm, 66, rfl⟩
abbrev main_cst_11 : Ref sig .tc := ⟨.hbm, 67, rfl⟩
abbrev main_v52 : Ref sig .tc := ⟨.hbm, 68, rfl⟩
abbrev main_v53 : Ref sig .tc := ⟨.hbm, 69, rfl⟩
abbrev main_cst_12 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_13 : Ref sig .tc := ⟨.hbm, 76, rfl⟩
abbrev main_v59 : Ref sig .tc := ⟨.hbm, 77, rfl⟩
abbrev main_v60 : Ref sig .tc := ⟨.hbm, 78, rfl⟩
abbrev main_cst_14 : Ref sig .tc := ⟨.hbm, 79, rfl⟩
abbrev main_v61 : Ref sig .tc := ⟨.hbm, 80, rfl⟩
abbrev main_v62 : Ref sig .tc := ⟨.hbm, 81, rfl⟩
abbrev main_cst_15 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩

abbrev nD : Nat := 1
abbrev τ : Topo := Topo.v7x

variable {F : FTy → Type} [FloatOps F]
-- ==== Attention.lean ====
abbrev S16384x5896 : Shape := ⟨2, ![16384, 5896]⟩
abbrev S16384x256 : Shape := ⟨2, ![16384, 256]⟩
abbrev S16384x4x64 : Shape := ⟨3, ![16384, 4, 64]⟩
abbrev S4x16384x64 : Shape := ⟨3, ![4, 16384, 64]⟩
abbrev S4x16384x16384 : Shape := ⟨3, ![4, 16384, 16384]⟩
abbrev S_ : Shape := ⟨0, ![]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S1x16384x16384 : Shape := ⟨3, ![1, 16384, 16384]⟩
abbrev S16384x2048 : Shape := ⟨2, ![16384, 2048]⟩
abbrev S16384x8 : Shape := ⟨2, ![16384, 8]⟩
abbrev S16384x248 : Shape := ⟨2, ![16384, 248]⟩
abbrev S16384x768 : Shape := ⟨2, ![16384, 768]⟩
abbrev S16384x3072 : Shape := ⟨2, ![16384, 3072]⟩
abbrev S16384x6144 : Shape := ⟨2, ![16384, 6144]⟩
abbrev S512x128 : Shape := ⟨2, ![512, 128]⟩
abbrev S16384x128 : Shape := ⟨2, ![16384, 128]⟩
abbrev S1x128 : Shape := ⟨2, ![1, 128]⟩
abbrev S256x128 : Shape := ⟨2, ![256, 128]⟩
abbrev S256x256 : Shape := ⟨2, ![256, 256]⟩
abbrev S256 : Shape := ⟨1, ![256]⟩
abbrev S256x1 : Shape := ⟨2, ![256, 1]⟩
abbrev S1x256x1 : Shape := ⟨3, ![1, 256, 1]⟩
abbrev S1 : Shape := ⟨1, ![1]⟩
abbrev S1x1x1 : Shape := ⟨3, ![1, 1, 1]⟩

abbrev nBuf : Space → Nat
  | .hbm => 72
  | .vmem => 14
  | .smem => 0
  | _ => 0

abbrev bufTy : (tb : Table) → Fin (tcTables nBuf tb) → BufTy
  | .hbm, ⟨0, _⟩ => ⟨S16384x5896, .f32⟩
  | .hbm, ⟨1, _⟩ => ⟨S16384x256, .f32⟩
  | .hbm, ⟨2, _⟩ => ⟨S16384x256, .f32⟩
  | .hbm, ⟨3, _⟩ => ⟨S16384x256, .f32⟩
  | .hbm, ⟨4, _⟩ => ⟨S16384x256, .f32⟩
  | .hbm, ⟨5, _⟩ => ⟨S16384x4x64, .f32⟩
  | .hbm, ⟨6, _⟩ => ⟨S4x16384x64, .f32⟩
  | .hbm, ⟨7, _⟩ => ⟨S16384x4x64, .f32⟩
  | .hbm, ⟨8, _⟩ => ⟨S4x16384x64, .f32⟩
  | .hbm, ⟨9, _⟩ => ⟨S16384x4x64, .f32⟩
  | .hbm, ⟨10, _⟩ => ⟨S4x16384x64, .f32⟩
  | .hbm, ⟨11, _⟩ => ⟨S4x16384x16384, .f32⟩
  | .hbm, ⟨12, _⟩ => ⟨S_, .f32⟩
  | .hbm, ⟨13, _⟩ => ⟨S4x16384x16384, .f32⟩
  | .hbm, ⟨14, _⟩ => ⟨S4x16384x16384, .f32⟩
  | .hbm, ⟨15, _⟩ => ⟨S16384, .i32⟩
  | .hbm, ⟨16, _⟩ => ⟨S1x16384, .i32⟩
  | .hbm, ⟨17, _⟩ => ⟨S16384, .i32⟩
  | .hbm, ⟨18, _⟩ => ⟨S16384x1, .i32⟩
  | .hbm, ⟨19, _⟩ => ⟨S16384x16384, .i32⟩
  | .hbm, ⟨20, _⟩ => ⟨S16384x16384, .i32⟩
  | .hbm, ⟨21, _⟩ => ⟨S16384x16384, .i1⟩
  | .hbm, ⟨22, _⟩ => ⟨S1x16384x16384, .i1⟩
  | .hbm, ⟨23, _⟩ => ⟨S4x16384x16384, .f32⟩
  | .hbm, ⟨24, _⟩ => ⟨S4x16384x16384, .f32⟩
  | .hbm, ⟨25, _⟩ => ⟨S_, .f32⟩
  | .hbm, ⟨26, _⟩ => ⟨S4x16384x16384, .f32⟩
  | .hbm, ⟨27, _⟩ => ⟨S4x16384x16384, .f32⟩
  | .hbm, ⟨28, _⟩ => ⟨S4x16384x16384, .f32⟩
  | .hbm, ⟨29, _⟩ => ⟨S4x16384x16384, .f32⟩
  | .hbm, ⟨30, _⟩ => ⟨S4x16384x16384, .i1⟩
  | .hbm, ⟨31, _⟩ => ⟨S4x16384x16384, .f32⟩
  | .hbm, ⟨32, _⟩ => ⟨S4x16384x16384, .f32⟩
  | .hbm, ⟨33, _⟩ => ⟨S4x16384x16384, .f32⟩
  | .hbm, ⟨34, _⟩ => ⟨S4x16384x16384, .f32⟩
  | .hbm, ⟨35, _⟩ => ⟨S4x16384x16384, .f32⟩
  | .hbm, ⟨36, _⟩ => ⟨S4x16384x16384, .f32⟩
  | .hbm, ⟨37, _⟩ => ⟨S4x16384x16384, .f32⟩
  | .hbm, ⟨38, _⟩ => ⟨S4x16384x16384, .f32⟩
  | .hbm, ⟨39, _⟩ => ⟨S4x16384x16384, .f32⟩
  | .hbm, ⟨40, _⟩ => ⟨S_, .f32⟩
  | .hbm, ⟨41, _⟩ => ⟨S_, .f32⟩
  | .hbm, ⟨42, _⟩ => ⟨S4x16384x16384, .i1⟩
  | .hbm, ⟨43, _⟩ => ⟨S4x16384x16384, .f32⟩
  | .hbm, ⟨44, _⟩ => ⟨S4x16384x16384, .f32⟩
  | .hbm, ⟨45, _⟩ => ⟨S_, .f32⟩
  | .hbm, ⟨46, _⟩ => ⟨S_, .f32⟩
  | .hbm, ⟨47, _⟩ => ⟨S4x16384x16384, .f32⟩
  | .hbm, ⟨48, _⟩ => ⟨S4x16384x16384, .f32⟩
  | .hbm, ⟨49, _⟩ => ⟨S4x16384x16384, .f32⟩
  | .hbm, ⟨50, _⟩ => ⟨S4x16384x16384, .f32⟩
  | .hbm, ⟨51, _⟩ => ⟨S_, .f32⟩
  | .hbm, ⟨52, _⟩ => ⟨S_, .f32⟩
  | .hbm, ⟨53, _⟩ => ⟨S4x16384x16384, .i1⟩
  | .hbm, ⟨54, _⟩ => ⟨S4x16384x16384, .f32⟩
  | .hbm, ⟨55, _⟩ => ⟨S4x16384x16384, .f32⟩
  | .hbm, ⟨56, _⟩ => ⟨S4x16384x16384, .f32⟩
  | .hbm, ⟨57, _⟩ => ⟨S4x16384x64, .f32⟩
  | .hbm, ⟨58, _⟩ => ⟨S16384x4x64, .f32⟩
  | .hbm, ⟨59, _⟩ => ⟨S16384x256, .f32⟩
  | .hbm, ⟨60, _⟩ => ⟨S16384x2048, .f32⟩
  | .hbm, ⟨61, _⟩ => ⟨S16384x8, .f32⟩
  | .hbm, ⟨62, _⟩ => ⟨S_, .f32⟩
  | .hbm, ⟨63, _⟩ => ⟨S16384x248, .f32⟩
  | .hbm, ⟨64, _⟩ => ⟨S16384x768, .f32⟩
  | .hbm, ⟨65, _⟩ => ⟨S16384x3072, .f32⟩
  | .hbm, ⟨66, _⟩ => ⟨S16384x6144, .f32⟩
  | .hbm, ⟨67, _⟩ => ⟨S16384x6144, .bf16⟩
  | .hbm, ⟨68, _⟩ => ⟨S16384x256, .bf16⟩
  | .hbm, ⟨69, _⟩ => ⟨S16384x256, .f32⟩
  | .hbm, ⟨70, _⟩ => ⟨S16384x256, .f32⟩
  | .hbm, ⟨71, _⟩ => ⟨S16384x256, .f32⟩
  | .local _ .vmem, ⟨0, _⟩ => ⟨S512x128, .bf16⟩
  | .local _ .vmem, ⟨1, _⟩ => ⟨S512x128, .bf16⟩
  | .local _ .vmem, ⟨2, _⟩ => ⟨S16384x128, .bf16⟩
  | .local _ .vmem, ⟨3, _⟩ => ⟨S16384x128, .bf16⟩
  | .local _ .vmem, ⟨4, _⟩ => ⟨S512x128, .bf16⟩
  | .local _ .vmem, ⟨5, _⟩ => ⟨S512x128, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S16384x128, .f32⟩
  | .local _ .vmem, ⟨11, _⟩ => ⟨S16384x128, .f32⟩
  | .local _ .vmem, ⟨12, _⟩ => ⟨S16384x128, .f32⟩
  | .local _ .vmem, ⟨13, _⟩ => ⟨S16384x128, .f32⟩
  | _, _ => ⟨S16384x5896, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_call0_v0 : Ref sig .tc := ⟨.hbm, 24, rfl⟩
abbrev main_call0_call0_cst : Ref sig .tc := ⟨.hbm, 25, rfl⟩
abbrev main_call0_call0_v0 : Ref sig .tc := ⟨.hbm, 26, rfl⟩
abbrev main_call0_call0_v1 : Ref sig .tc := ⟨.hbm, 27, rfl⟩
abbrev main_call0_call0_v2 : Ref sig .tc := ⟨.hbm, 28, rfl⟩
abbrev main_call0_call0_v3 : Ref sig .tc := ⟨.hbm, 29, rfl⟩
abbrev main_call0_call0_v4 : Ref sig .tc := ⟨.hbm, 30, rfl⟩
abbrev main_call0_call0_v5 : Ref sig .tc := ⟨.hbm, 31, rfl⟩
abbrev main_call0_call0_v6 : Ref sig .tc := ⟨.hbm, 32, rfl⟩
abbrev main_call0_call0_v7 : Ref sig .tc := ⟨.hbm, 33, rfl⟩
abbrev main_call0_call0_v8 : Ref sig .tc := ⟨.hbm, 34, rfl⟩
abbrev main_call0_call0_v9 : Ref sig .tc := ⟨.hbm, 35, rfl⟩
abbrev main_call0_call0_v10 : Ref sig .tc := ⟨.hbm, 36, rfl⟩
abbrev main_call0_call0_v11 : Ref sig .tc := ⟨.hbm, 37, rfl⟩
abbrev main_call0_v1 : Ref sig .tc := ⟨.hbm, 38, rfl⟩
abbrev main_v21 : Ref sig .tc := ⟨.hbm, 39, rfl⟩
abbrev main_cst_0 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v22 : Ref sig .tc := ⟨.hbm, 44, rfl⟩
abbrev main_call2_cst : Ref sig .tc := ⟨.hbm, 45, rfl⟩
abbrev main_call2_v0 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_cst_1 : Ref sig .tc := ⟨.hbm, 51, rfl⟩
abbrev main_call3_v0 : Ref sig .tc := ⟨.hbm, 52, rfl⟩
abbrev main_call3_v1 : Ref sig .tc := ⟨.hbm, 53, rfl⟩
abbrev main_call3_v2 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_cst_2 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40_0 : Ref sig .tc := ⟨.hbm, 69, rfl⟩
abbrev main_v40_1 : Ref sig .tc := ⟨.hbm, 70, rfl⟩
abbrev main_v40_2 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![2, 32], ![false, false]⟩

def k0_mult1 (i : grid0.Coords) : BitVec 32 :=
  let arg1 : BitVec 32 := BitVec.ofNat 32 (i 1).val
  let c2_i32 : BitVec 32 := 2#32
  let v3 : BitVec 32 := Scalar.muli arg1 c2_i32
  let c0_i32_1 : BitVec 32 := 0#32
  let v4 : BitVec 32 := Scalar.addi v3 c0_i32_1
  let c256_i32 : BitVec 32 := 256#32
  let v20 : BitVec 32 := Scalar.muli v4 c256_i32
  let c256_i32_5 : BitVec 32 := 256#32
  let v21 : BitVec 32 := Scalar.divsi v20 c256_i32_5
  let c256_i32_21 : BitVec 32 := 256#32
  let v66 : BitVec 32 := Scalar.muli v21 c256_i32_21
  v66
def k0_off1 (i : grid0.Coords) (c0_i32_1 : BitVec 32) : Fin 2 → Nat :=
  let arg1 : BitVec 32 := BitVec.ofNat 32 (i 1).val
  let c2_i32 : BitVec 32 := 2#32
  let v3 : BitVec 32 := Scalar.muli arg1 c2_i32
  let v4 : BitVec 32 := Scalar.addi v3 c0_i32_1
  let c256_i32 : BitVec 32 := 256#32
  let v20 : BitVec 32 := Scalar.muli v4 c256_i32
  let c256_i32_5 : BitVec 32 := 256#32
  let v21 : BitVec 32 := Scalar.divsi v20 c256_i32_5
  let c256_i32_21 : BitVec 32 := 256#32
  let v66 : BitVec 32 := Scalar.muli v21 c256_i32_21
  let v67 : BitVec 32 := v66
  let v68 : Index := Scalar.indexCast v67
  let c0_22 : Index := 0#32
  ![v68.toNat, 0]
def k0_mult2 (i : grid0.Coords) : BitVec 32 :=
  let arg1 : BitVec 32 := BitVec.ofNat 32 (i 1).val
  let c2_i32 : BitVec 32 := 2#32
  let v3 : BitVec 32 := Scalar.muli arg1 c2_i32
  let c0_i32_1 : BitVec 32 := 0#32
  let v4 : BitVec 32 := Scalar.addi v3 c0_i32_1
  let c256_i32 : BitVec 32 := 256#32
  let v20 : BitVec 32 := Scalar.muli v4 c256_i32
  let c256_i32_5 : BitVec 32 := 256#32
  let v21 : BitVec 32 := Scalar.divsi v20 c256_i32_5
  let c1_i32 : BitVec 32 := 1#32
  let v64 : BitVec 32 := Scalar.subi v21 c1_i32
  let c0_i32_20 : BitVec 32 := 0#32
  let v65 : BitVec 32 := Scalar.maxsi v64 c0_i32_20
  let c256_i32_42 : BitVec 32 := 256#32
  let v130 : BitVec 32 := Scalar.muli v65 c256_i32_42
  v130
def k0_off2 (i : grid0.Coords) (c0_i32_1 : BitVec 32) : Fin 2 → Nat :=
  let arg1 : BitVec 32 := BitVec.ofNat 32 (i 1).val
  let c2_i32 : BitVec 32 := 2#32
  let v3 : BitVec 32 := Scalar.muli arg1 c2_i32
  let v4 : BitVec 32 := Scalar.addi v3 c0_i32_1
  let c256_i32 : BitVec 32 := 256#32
  let v20 : BitVec 32 := Scalar.muli v4 c256_i32
  let c256_i32_5 : BitVec 32 := 256#32
  let v21 : BitVec 32 := Scalar.divsi v20 c256_i32_5
  let c1_i32 : BitVec 32 := 1#32
  let v64 : BitVec 32 := Scalar.subi v21 c1_i32
  let c0_i32_20 : BitVec 32 := 0#32
  let v65 : BitVec 32 := Scalar.maxsi v64 c0_i32_20
  let c256_i32_42 : BitVec 32 := 256#32
  let v130 : BitVec 32 := Scalar.muli v65 c256_i32_42
  let v131 : BitVec 32 := v130
  let v132 : Index := Scalar.indexCast v131
  let c0_43 : Index := 0#32
  ![v132.toNat, 0]
def k0_mult3 (i : grid0.Coords) : BitVec 32 :=
  let arg1 : BitVec 32 := BitVec.ofNat 32 (i 1).val
  let c2_i32 : BitVec 32 := 2#32
  let v3 : BitVec 32 := Scalar.muli arg1 c2_i32
  let c0_i32_1 : BitVec 32 := 0#32
  let v4 : BitVec 32 := Scalar.addi v3 c0_i32_1
  let c256_i32 : BitVec 32 := 256#32
  let v20 : BitVec 32 := Scalar.muli v4 c256_i32
  let c256_i32_5 : BitVec 32 := 256#32
  let v21 : BitVec 32 := Scalar.divsi v20 c256_i32_5
  let c256_i32_62 : BitVec 32 := 256#32
  let v193 : BitVec 32 := Scalar.muli v21 c256_i32_62
  v193
def k0_mult4 (i : grid0.Coords) : BitVec 32 :=
  let arg1 : BitVec 32 := BitVec.ofNat 32 (i 1).val
  let c2_i32 : BitVec 32 := 2#32
  let v3 : BitVec 32 := Scalar.muli arg1 c2_i32
  let c0_i32_1 : BitVec 32 := 0#32
  let v4 : BitVec 32 := Scalar.addi v3 c0_i32_1
  let c256_i32 : BitVec 32 := 256#32
  let v20 : BitVec 32 := Scalar.muli v4 c256_i32
  let c256_i32_5 : BitVec 32 := 256#32
  let v21 : BitVec 32 := Scalar.divsi v20 c256_i32_5
  let c1_i32 : BitVec 32 := 1#32
  let v64 : BitVec 32 := Scalar.subi v21 c1_i32
  let c0_i32_20 : BitVec 32 := 0#32
  let v65 : BitVec 32 := Scalar.maxsi v64 c0_i32_20
  let c256_i32_83 : BitVec 32 := 256#32
  let v257 : BitVec 32 := Scalar.muli v65 c256_i32_83
  v257
def k0_mult5 (i : grid0.Coords) : BitVec 32 :=
  let arg1 : BitVec 32 := BitVec.ofNat 32 (i 1).val
  let c2_i32 : BitVec 32 := 2#32
  let v3 : BitVec 32 := Scalar.muli arg1 c2_i32
  let c0_i32_1 : BitVec 32 := 0#32
  let v4 : BitVec 32 := Scalar.addi v3 c0_i32_1
  let c256_i32 : BitVec 32 := 256#32
  let v20 : BitVec 32 := Scalar.muli v4 c256_i32
  let c256_i32_5 : BitVec 32 := 256#32
  let v21 : BitVec 32 := Scalar.divsi v20 c256_i32_5
  let c256_i32_103 : BitVec 32 := 256#32
  let v320 : BitVec 32 := Scalar.muli v21 c256_i32_103
  v320
def k0_mult6 (i : grid0.Coords) : BitVec 32 :=
  let arg1 : BitVec 32 := BitVec.ofNat 32 (i 1).val
  let c2_i32 : BitVec 32 := 2#32
  let v3 : BitVec 32 := Scalar.muli arg1 c2_i32
  let c0_i32_1 : BitVec 32 := 0#32
  let v4 : BitVec 32 := Scalar.addi v3 c0_i32_1
  let c256_i32 : BitVec 32 := 256#32
  let v20 : BitVec 32 := Scalar.muli v4 c256_i32
  let c256_i32_5 : BitVec 32 := 256#32
  let v21 : BitVec 32 := Scalar.divsi v20 c256_i32_5
  let c1_i32 : BitVec 32 := 1#32
  let v64 : BitVec 32 := Scalar.subi v21 c1_i32
  let c0_i32_20 : BitVec 32 := 0#32
  let v65 : BitVec 32 := Scalar.maxsi v64 c0_i32_20
  let c256_i32_108 : BitVec 32 := 256#32
  let v336 : BitVec 32 := Scalar.muli v65 c256_i32_108
  v336
def k0_mult7 (i : grid0.Coords) : BitVec 32 :=
  let arg1 : BitVec 32 := BitVec.ofNat 32 (i 1).val
  let c2_i32_113 : BitVec 32 := 2#32
  let v352 : BitVec 32 := Scalar.muli arg1 c2_i32_113
  let c1_i32_114 : BitVec 32 := 1#32
  let v353 : BitVec 32 := Scalar.addi v352 c1_i32_114
  let c256_i32_120 : BitVec 32 := 256#32
  let v369 : BitVec 32 := Scalar.muli v353 c256_i32_120
  let c256_i32_121 : BitVec 32 := 256#32
  let v370 : BitVec 32 := Scalar.divsi v369 c256_i32_121
  let c256_i32_138 : BitVec 32 := 256#32
  let v415 : BitVec 32 := Scalar.muli v370 c256_i32_138
  v415
def k0_mult8 (i : grid0.Coords) : BitVec 32 :=
  let arg1 : BitVec 32 := BitVec.ofNat 32 (i 1).val
  let c2_i32_113 : BitVec 32 := 2#32
  let v352 : BitVec 32 := Scalar.muli arg1 c2_i32_113
  let c1_i32_114 : BitVec 32 := 1#32
  let v353 : BitVec 32 := Scalar.addi v352 c1_i32_114
  let c256_i32_120 : BitVec 32 := 256#32
  let v369 : BitVec 32 := Scalar.muli v353 c256_i32_120
  let c256_i32_121 : BitVec 32 := 256#32
  let v370 : BitVec 32 := Scalar.divsi v369 c256_i32_121
  let c1_i32_136 : BitVec 32 := 1#32
  let v413 : BitVec 32 := Scalar.subi v370 c1_i32_136
  let c0_i32_137 : BitVec 32 := 0#32
  let v414 : BitVec 32 := Scalar.maxsi v413 c0_i32_137
  let c256_i32_159 : BitVec 32 := 256#32
  let v479 : BitVec 32 := Scalar.muli v414 c256_i32_159
  v479
def k0_mult9 (i : grid0.Coords) : BitVec 32 :=
  let arg1 : BitVec 32 := BitVec.ofNat 32 (i 1).val
  let c2_i32_113 : BitVec 32 := 2#32
  let v352 : BitVec 32 := Scalar.muli arg1 c2_i32_113
  let c1_i32_114 : BitVec 32 := 1#32
  let v353 : BitVec 32 := Scalar.addi v352 c1_i32_114
  let c256_i32_120 : BitVec 32 := 256#32
  let v369 : BitVec 32 := Scalar.muli v353 c256_i32_120
  let c256_i32_121 : BitVec 32 := 256#32
  let v370 : BitVec 32 := Scalar.divsi v369 c256_i32_121
  let c256_i32_179 : BitVec 32 := 256#32
  let v542 : BitVec 32 := Scalar.muli v370 c256_i32_179
  v542
def k0_mult10 (i : grid0.Coords) : BitVec 32 :=
  let arg1 : BitVec 32 := BitVec.ofNat 32 (i 1).val
  let c2_i32_113 : BitVec 32 := 2#32
  let v352 : BitVec 32 := Scalar.muli arg1 c2_i32_113
  let c1_i32_114 : BitVec 32 := 1#32
  let v353 : BitVec 32 := Scalar.addi v352 c1_i32_114
  let c256_i32_120 : BitVec 32 := 256#32
  let v369 : BitVec 32 := Scalar.muli v353 c256_i32_120
  let c256_i32_121 : BitVec 32 := 256#32
  let v370 : BitVec 32 := Scalar.divsi v369 c256_i32_121
  let c1_i32_136 : BitVec 32 := 1#32
  let v413 : BitVec 32 := Scalar.subi v370 c1_i32_136
  let c0_i32_137 : BitVec 32 := 0#32
  let v414 : BitVec 32 := Scalar.maxsi v413 c0_i32_137
  let c256_i32_200 : BitVec 32 := 256#32
  let v606 : BitVec 32 := Scalar.muli v414 c256_i32_200
  v606
def k0_mult11 (i : grid0.Coords) : BitVec 32 :=
  let arg1 : BitVec 32 := BitVec.ofNat 32 (i 1).val
  let c2_i32_113 : BitVec 32 := 2#32
  let v352 : BitVec 32 := Scalar.muli arg1 c2_i32_113
  let c1_i32_114 : BitVec 32 := 1#32
  let v353 : BitVec 32 := Scalar.addi v352 c1_i32_114
  let c256_i32_120 : BitVec 32 := 256#32
  let v369 : BitVec 32 := Scalar.muli v353 c256_i32_120
  let c256_i32_121 : BitVec 32 := 256#32
  let v370 : BitVec 32 := Scalar.divsi v369 c256_i32_121
  let c256_i32_220 : BitVec 32 := 256#32
  let v669 : BitVec 32 := Scalar.muli v370 c256_i32_220
  v669
def k0_mult12 (i : grid0.Coords) : BitVec 32 :=
  let arg1 : BitVec 32 := BitVec.ofNat 32 (i 1).val
  let c2_i32_113 : BitVec 32 := 2#32
  let v352 : BitVec 32 := Scalar.muli arg1 c2_i32_113
  let c1_i32_114 : BitVec 32 := 1#32
  let v353 : BitVec 32 := Scalar.addi v352 c1_i32_114
  let c256_i32_120 : BitVec 32 := 256#32
  let v369 : BitVec 32 := Scalar.muli v353 c256_i32_120
  let c256_i32_121 : BitVec 32 := 256#32
  let v370 : BitVec 32 := Scalar.divsi v369 c256_i32_121
  let c1_i32_136 : BitVec 32 := 1#32
  let v413 : BitVec 32 := Scalar.subi v370 c1_i32_136
  let c0_i32_137 : BitVec 32 := 0#32
  let v414 : BitVec 32 := Scalar.maxsi v413 c0_i32_137
  let c256_i32_225 : BitVec 32 := 256#32
  let v685 : BitVec 32 := Scalar.muli v414 c256_i32_225
  v685
def k0_mult13 (arg10 : BitVec 32) : BitVec 32 :=
  let c256_i32_238 : BitVec 32 := 256#32
  let v717 : BitVec 32 := Scalar.muli arg10 c256_i32_238
  v717

def k0_mult14 (arg10 : BitVec 32) : BitVec 32 :=
  let c256_i32_239 : BitVec 32 := 256#32
  let v719 : BitVec 32 := Scalar.muli arg10 c256_i32_239
  v719
def k0_off3 (arg10 : BitVec 32) : Fin 2 → Nat :=
  let c256_i32_239 : BitVec 32 := 256#32
  let v719 : BitVec 32 := Scalar.muli arg10 c256_i32_239
  let v720 : BitVec 32 := v719
  let v721 : Index := Scalar.indexCast v720
  let c0_240 : Index := 0#32
  ![v721.toNat, 0]
def k0_mult15 (arg10 : BitVec 32) : BitVec 32 :=
  let c256_i32_256 : BitVec 32 := 256#32
  let v776 : BitVec 32 := Scalar.muli arg10 c256_i32_256
  v776

def k0_chk1 (arg10 : BitVec 32) : Prop :=
  (256 ∣ (k0_mult13 arg10).toNat) ∧
  (256 ∣ (k0_mult14 arg10).toNat) ∧
  (∀ a, (k0_off3 arg10) a + S256x128.size a ≤ S16384x128.size a) ∧
  (256 ∣ (k0_mult15 arg10).toNat)
theorem k0_mult13_dvd : ∀ (arg10 : BitVec 32) (k0_hw1 : k0_chk1 arg10), 256 ∣ (k0_mult13 arg10).toNat := fun arg10 k0_hw1 => k0_hw1.1
theorem k0_mult14_dvd : ∀ (arg10 : BitVec 32) (k0_hw1 : k0_chk1 arg10), 256 ∣ (k0_mult14 arg10).toNat := fun arg10 k0_hw1 => k0_hw1.2.1
theorem k0_off3_inb : ∀ (arg10 : BitVec 32) (k0_hw1 : k0_chk1 arg10), ∀ a, (k0_off3 arg10) a + S256x128.size a ≤ S16384x128.size a := fun arg10 k0_hw1 => k0_hw1.2.2.1
theorem k0_mult15_dvd : ∀ (arg10 : BitVec 32) (k0_hw1 : k0_chk1 arg10), 256 ∣ (k0_mult15 arg10).toNat := fun arg10 k0_hw1 => k0_hw1.2.2.2

def k0_mult16 (arg10 : BitVec 32) : BitVec 32 :=
  let c256_i32_238 : BitVec 32 := 256#32
  let v717 : BitVec 32 := Scalar.muli arg10 c256_i32_238
  v717

def k0_mult17 (arg10 : BitVec 32) : BitVec 32 :=
  let c256_i32_239 : BitVec 32 := 256#32
  let v719 : BitVec 32 := Scalar.muli arg10 c256_i32_239
  v719
def k0_off4 (arg10 : BitVec 32) : Fin 2 → Nat :=
  let c256_i32_239 : BitVec 32 := 256#32
  let v719 : BitVec 32 := Scalar.muli arg10 c256_i32_239
  let v720 : BitVec 32 := v719
  let v721 : Index := Scalar.indexCast v720
  let c0_240 : Index := 0#32
  ![v721.toNat, 0]
def k0_mult18 (arg10 : BitVec 32) : BitVec 32 :=
  let c256_i32_256 : BitVec 32 := 256#32
  let v776 : BitVec 32 := Scalar.muli arg10 c256_i32_256
  v776

def k0_chk2 (arg10 : BitVec 32) : Prop :=
  (256 ∣ (k0_mult16 arg10).toNat) ∧
  (256 ∣ (k0_mult17 arg10).toNat) ∧
  (∀ a, (k0_off4 arg10) a + S256x128.size a ≤ S16384x128.size a) ∧
  (256 ∣ (k0_mult18 arg10).toNat)
theorem k0_mult16_dvd : ∀ (arg10 : BitVec 32) (k0_hw2 : k0_chk2 arg10), 256 ∣ (k0_mult16 arg10).toNat := fun arg10 k0_hw2 => k0_hw2.1
theorem k0_mult17_dvd : ∀ (arg10 : BitVec 32) (k0_hw2 : k0_chk2 arg10), 256 ∣ (k0_mult17 arg10).toNat := fun arg10 k0_hw2 => k0_hw2.2.1
theorem k0_off4_inb : ∀ (arg10 : BitVec 32) (k0_hw2 : k0_chk2 arg10), ∀ a, (k0_off4 arg10) a + S256x128.size a ≤ S16384x128.size a := fun arg10 k0_hw2 => k0_hw2.2.2.1
theorem k0_mult18_dvd : ∀ (arg10 : BitVec 32) (k0_hw2 : k0_chk2 arg10), 256 ∣ (k0_mult18 arg10).toNat := fun arg10 k0_hw2 => k0_hw2.2.2.2

def cc0_transform_0 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S16384x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S16384x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S16384x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S16384x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== AttentionIdeal.lean ====
variable {F : FTy → Type} [FloatOps F] [Named F]
def κ : String → Option EReal := fun
  | "cutoff" => some ⊥
  | _ => none
-- ==== AttentionRefIdeal.lean ====
abbrev S16384x5896 : Shape := ⟨2, ![16384, 5896]⟩
abbrev S16384x256 : Shape := ⟨2, ![16384, 256]⟩
abbrev S16384x4x64 : Shape := ⟨3, ![16384, 4, 64]⟩
abbrev S4x16384x64 : Shape := ⟨3, ![4, 16384, 64]⟩
abbrev S4x16384x16384 : Shape := ⟨3, ![4, 16384, 16384]⟩
abbrev S_ : Shape := ⟨0, ![]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S1x16384x16384 : Shape := ⟨3, ![1, 16384, 16384]⟩
abbrev S4x64x16384 : Shape := ⟨3, ![4, 64, 16384]⟩

abbrev nBuf : Space → Nat
  | .hbm => 130
  | .vmem => 0
  | .smem => 0
  | _ => 0

abbrev hbmTy0_0 (i : Nat) : BufTy := match i % 128 with
  | 0 => ⟨S16384x5896, .f32⟩
  | 1 => ⟨S16384x256, .f32⟩
  | 2 => ⟨S16384x256, .f32⟩
  | 3 => ⟨S16384x256, .f32⟩
  | 4 => ⟨S16384x256, .f32⟩
  | 5 => ⟨S16384x4x64, .f32⟩
  | 6 => ⟨S4x16384x64, .f32⟩
  | 7 => ⟨S16384x4x64, .f32⟩
  | 8 => ⟨S4x16384x64, .f32⟩
  | 9 => ⟨S16384x4x64, .f32⟩
  | 10 => ⟨S4x16384x64, .f32⟩
  | 11 => ⟨S4x16384x16384, .f32⟩
  | 12 => ⟨S_, .f32⟩
  | 13 => ⟨S4x16384x16384, .f32⟩
  | 14 => ⟨S4x16384x16384, .f32⟩
  | 15 => ⟨S16384, .i32⟩
  | 16 => ⟨S1x16384, .i32⟩
  | 17 => ⟨S16384, .i32⟩
  | 18 => ⟨S16384x1, .i32⟩
  | 19 => ⟨S16384x16384, .i32⟩
  | 20 => ⟨S16384x16384, .i32⟩
  | 21 => ⟨S16384x16384, .i1⟩
  | 22 => ⟨S1x16384x16384, .i1⟩
  | 23 => ⟨S4x16384x16384, .f32⟩
  | 24 => ⟨S4x16384x16384, .f32⟩
  | 25 => ⟨S_, .f32⟩
  | 26 => ⟨S4x16384x16384, .f32⟩
  | 27 => ⟨S4x16384x16384, .f32⟩
  | 28 => ⟨S4x16384x16384, .f32⟩
  | 29 => ⟨S4x16384x16384, .f32⟩
  | 30 => ⟨S4x16384x16384, .i1⟩
  | 31 => ⟨S4x16384x16384, .f32⟩
  | 32 => ⟨S4x16384x16384, .f32⟩
  | 33 => ⟨S4x16384x16384, .f32⟩
  | 34 => ⟨S4x16384x16384, .f32⟩
  | 35 => ⟨S4x16384x16384, .f32⟩
  | 36 => ⟨S4x16384x16384, .f32⟩
  | 37 => ⟨S4x16384x16384, .f32⟩
  | 38 => ⟨S4x16384x16384, .f32⟩
  | 39 => ⟨S_, .f32⟩
  | 40 => ⟨S4x16384x16384, .f32⟩
  | 41 => ⟨S4x16384x16384, .i1⟩
  | 42 => ⟨S_, .f32⟩
  | 43 => ⟨S4x16384x16384, .f32⟩
  | 44 => ⟨S4x16384x16384, .f32⟩
  | 45 => ⟨S_, .f32⟩
  | 46 => ⟨S4x16384x16384, .f32⟩
  | 47 => ⟨S4x16384x16384, .i1⟩
  | 48 => ⟨S_, .f32⟩
  | 49 => ⟨S4x16384x16384, .f32⟩
  | 50 => ⟨S4x16384x16384, .f32⟩
  | 51 => ⟨S4x16384x16384, .f32⟩
  | 52 => ⟨S4x16384x16384, .f32⟩
  | 53 => ⟨S_, .f32⟩
  | 54 => ⟨S_, .f32⟩
  | 55 => ⟨S_, .i1⟩
  | 56 => ⟨S_, .f32⟩
  | 57 => ⟨S_, .f32⟩
  | 58 => ⟨S_, .f32⟩
  | 59 => ⟨S_, .f32⟩
  | 60 => ⟨S4x16384x16384, .f32⟩
  | 61 => ⟨S4x16384x16384, .i1⟩
  | 62 => ⟨S_, .f32⟩
  | 63 => ⟨S4x16384x16384, .f32⟩
  | 64 => ⟨S4x16384x16384, .f32⟩
  | 65 => ⟨S4x16384x16384, .f32⟩
  | 66 => ⟨S4x16384x16384, .f32⟩
  | 67 => ⟨S4x16384x16384, .f32⟩
  | 68 => ⟨S_, .f32⟩
  | 69 => ⟨S4x16384x16384, .f32⟩
  | 70 => ⟨S4x16384x16384, .f32⟩
  | 71 => ⟨S4x16384x16384, .f32⟩
  | 72 => ⟨S_, .f32⟩
  | 73 => ⟨S_, .f32⟩
  | 74 => ⟨S4x16384x16384, .i1⟩
  | 75 => ⟨S4x16384x16384, .f32⟩
  | 76 => ⟨S4x16384x16384, .f32⟩
  | 77 => ⟨S_, .f32⟩
  | 78 => ⟨S4x16384x16384, .f32⟩
  | 79 => ⟨S_, .f32⟩
  | 80 => ⟨S_, .f32⟩
  | 81 => ⟨S4x16384x16384, .f32⟩
  | 82 => ⟨S4x16384x16384, .f32⟩
  | 83 => ⟨S4x16384x16384, .f32⟩
  | 84 => ⟨S4x16384x16384, .f32⟩
  | 85 => ⟨S_, .f32⟩
  | 86 => ⟨S_, .f32⟩
  | 87 => ⟨S4x16384x16384, .i1⟩
  | 88 => ⟨S4x16384x16384, .f32⟩
  | 89 => ⟨S4x16384x16384, .f32⟩
  | 90 => ⟨S_, .f32⟩
  | 91 => ⟨S4x16384x16384, .f32⟩
  | 92 => ⟨S4x16384x16384, .f32⟩
  | 93 => ⟨S4x16384x64, .f32⟩
  | 94 => ⟨S16384x4x64, .f32⟩
  | 95 => ⟨S16384x256, .f32⟩
  | 96 => ⟨S16384x4x64, .f32⟩
  | 97 => ⟨S4x16384x64, .f32⟩
  | 98 => ⟨S4x64x16384, .f32⟩
  | 99 => ⟨S4x16384x64, .f32⟩
  | 100 => ⟨S4x16384x16384, .f32⟩
  | 101 => ⟨S4x16384x16384, .f32⟩
  | 102 => ⟨S_, .f32⟩
  | 103 => ⟨S4x16384x16384, .f32⟩
  | 104 => ⟨S4x16384x16384, .f32⟩
  | 105 => ⟨S4x16384x16384, .f32⟩
  | 106 => ⟨S4x16384x16384, .f32⟩
  | 107 => ⟨S_, .f32⟩
  | 108 => ⟨S_, .f32⟩
  | 109 => ⟨S4x16384x16384, .f32⟩
  | 110 => ⟨S4x16384x16384, .f32⟩
  | 111 => ⟨S_, .f32⟩
  | 112 => ⟨S4x16384x16384, .f32⟩
  | 113 => ⟨S4x16384x16384, .f32⟩
  | 114 => ⟨S4x16384x16384, .f32⟩
  | 115 => ⟨S4x16384x16384, .f32⟩
  | 116 => ⟨S4x16384x16384, .f32⟩
  | 117 => ⟨S4x16384x16384, .f32⟩
  | 118 => ⟨S4x16384x16384, .f32⟩
  | 119 => ⟨S_, .f32⟩
  | 120 => ⟨S4x16384x16384, .f32⟩
  | 121 => ⟨S4x16384x16384, .f32⟩
  | 122 => ⟨S4x16384x64, .f32⟩
  | 123 => ⟨S4x16384x64, .f32⟩
  | 124 => ⟨S16384x4x64, .f32⟩
  | 125 => ⟨S16384x256, .f32⟩
  | 126 => ⟨S16384x4x64, .f32⟩
  | 127 => ⟨S16384x256, .f32⟩
  | _ => ⟨S16384x5896, .f32⟩

abbrev hbmTy0_1 (i : Nat) : BufTy := match i % 128 with
  | 0 => ⟨S16384x4x64, .f32⟩
  | 1 => ⟨S16384x256, .f32⟩
  | _ => ⟨S16384x5896, .f32⟩

abbrev hbmTy (i : Nat) : BufTy := match i / 128 with
  | 0 => hbmTy0_0 i
  | 1 => hbmTy0_1 i
  | _ => ⟨S16384x5896, .f32⟩

abbrev bufTy : (tb : Table) → Fin (tcTables nBuf tb) → BufTy
  | .hbm, ⟨i, _⟩ => hbmTy i
  | _, _ => ⟨S16384x5896, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_call0_v0 : Ref sig .tc := ⟨.hbm, 24, rfl⟩
abbrev main_call0_call0_cst : Ref sig .tc := ⟨.hbm, 25, rfl⟩
abbrev main_call0_call0_v0 : Ref sig .tc := ⟨.hbm, 26, rfl⟩
abbrev main_call0_call0_v1 : Ref sig .tc := ⟨.hbm, 27, rfl⟩
abbrev main_call0_call0_v2 : Ref sig .tc := ⟨.hbm, 28, rfl⟩
abbrev main_call0_call0_v3 : Ref sig .tc := ⟨.hbm, 29, rfl⟩
abbrev main_call0_call0_v4 : Ref sig .tc := ⟨.hbm, 30, rfl⟩
abbrev main_call0_call0_v5 : Ref sig .tc := ⟨.hbm, 31, rfl⟩
abbrev main_call0_call0_v6 : Ref sig .tc := ⟨.hbm, 32, rfl⟩
abbrev main_call0_call0_v7 : Ref sig .tc := ⟨.hbm, 33, rfl⟩
abbrev main_call0_call0_v8 : Ref sig .tc := ⟨.hbm, 34, rfl⟩
abbrev main_call0_call0_v9 : Ref sig .tc := ⟨.hbm, 35, rfl⟩
abbrev main_call0_call0_v10 : Ref sig .tc := ⟨.hbm, 36, rfl⟩
abbrev main_call0_call0_v11 : Ref sig .tc := ⟨.hbm, 37, rfl⟩
abbrev main_call0_v1_0 : Ref sig .tc := ⟨.hbm, 38, rfl⟩
abbrev main_call0_call0_cst_0 : Ref sig .tc := ⟨.hbm, 39, rfl⟩
abbrev main_call0_call0_v13 : Ref sig .tc := ⟨.hbm, 40, rfl⟩
abbrev main_call0_call0_v14 : Ref sig .tc := ⟨.hbm, 41, rfl⟩
abbrev main_call0_call0_cst_1 : Ref sig .tc := ⟨.hbm, 42, rfl⟩
abbrev main_call0_call0_v15 : Ref sig .tc := ⟨.hbm, 43, rfl⟩
abbrev main_call0_call0_v16 : Ref sig .tc := ⟨.hbm, 44, rfl⟩
abbrev main_call0_call0_cst_2 : Ref sig .tc := ⟨.hbm, 45, rfl⟩
abbrev main_call0_call0_v17 : Ref sig .tc := ⟨.hbm, 46, rfl⟩
abbrev main_call0_call0_v18 : Ref sig .tc := ⟨.hbm, 47, rfl⟩
abbrev main_call0_call0_cst_3 : Ref sig .tc := ⟨.hbm, 48, rfl⟩
abbrev main_call0_call0_v19 : Ref sig .tc := ⟨.hbm, 49, rfl⟩
abbrev main_call0_call0_v20 : Ref sig .tc := ⟨.hbm, 50, rfl⟩
abbrev main_call0_call0_v21 : Ref sig .tc := ⟨.hbm, 51, rfl⟩
abbrev main_v21_1 : Ref sig .tc := ⟨.hbm, 52, rfl⟩
abbrev main_call0_call0_cst_4 : Ref sig .tc := ⟨.hbm, 53, rfl⟩
abbrev main_call0_call0_cst_5 : Ref sig .tc := ⟨.hbm, 54, rfl⟩
abbrev main_call0_call0_v23 : Ref sig .tc := ⟨.hbm, 55, rfl⟩
abbrev main_call0_call0_cst_6 : Ref sig .tc := ⟨.hbm, 56, rfl⟩
abbrev main_call0_call0_cst_7 : Ref sig .tc := ⟨.hbm, 57, rfl⟩
abbrev main_call0_call0_v24 : Ref sig .tc := ⟨.hbm, 58, rfl⟩
abbrev main_call0_call0_cst_8 : Ref sig .tc := ⟨.hbm, 59, rfl⟩
abbrev main_call0_call0_v25 : Ref sig .tc := ⟨.hbm, 60, rfl⟩
abbrev main_call0_call0_v26 : Ref sig .tc := ⟨.hbm, 61, rfl⟩
abbrev main_call0_call0_cst_9 : Ref sig .tc := ⟨.hbm, 62, rfl⟩
abbrev main_call0_call0_v27 : Ref sig .tc := ⟨.hbm, 63, rfl⟩
abbrev main_call0_call0_v28 : Ref sig .tc := ⟨.hbm, 64, rfl⟩
abbrev main_call0_call0_v29 : Ref sig .tc := ⟨.hbm, 65, rfl⟩
abbrev main_call0_call0_v30 : Ref sig .tc := ⟨.hbm, 66, rfl⟩
abbrev main_call0_call0_v31 : Ref sig .tc := ⟨.hbm, 67, rfl⟩
abbrev main_call0_call0_cst_10 : Ref sig .tc := ⟨.hbm, 68, rfl⟩
abbrev main_call0_call0_v32 : Ref sig .tc := ⟨.hbm, 69, rfl⟩
abbrev main_v21_2 : Ref sig .tc := ⟨.hbm, 70, rfl⟩
abbrev main_v21_0 : Ref sig .tc := ⟨.hbm, 71, rfl⟩
abbrev main_cst_0 : Ref sig .tc := ⟨.hbm, 72, rfl⟩
abbrev main_call1_v0 : Ref sig .tc := ⟨.hbm, 73, rfl⟩
abbrev main_v22_1 : Ref sig .tc := ⟨.hbm, 74, rfl⟩
abbrev main_call1_v2 : Ref sig .tc := ⟨.hbm, 75, rfl⟩
abbrev main_v22_0 : Ref sig .tc := ⟨.hbm, 76, rfl⟩
abbrev main_call1_cst : Ref sig .tc := ⟨.hbm, 77, rfl⟩
abbrev main_v22_2 : Ref sig .tc := ⟨.hbm, 78, rfl⟩
abbrev main_call2_cst : Ref sig .tc := ⟨.hbm, 79, rfl⟩
abbrev main_call2_v0 : Ref sig .tc := ⟨.hbm, 80, rfl⟩
abbrev main_v23 : Ref sig .tc := ⟨.hbm, 81, rfl⟩
abbrev main_v24 : Ref sig .tc := ⟨.hbm, 82, rfl⟩
abbrev main_v25 : Ref sig .tc := ⟨.hbm, 83, rfl⟩
abbrev main_v26 : Ref sig .tc := ⟨.hbm, 84, rfl⟩
abbrev main_cst_1 : Ref sig .tc := ⟨.hbm, 85, rfl⟩
abbrev main_call3_v0 : Ref sig .tc := ⟨.hbm, 86, rfl⟩
abbrev main_v27_1 : Ref sig .tc := ⟨.hbm, 87, rfl⟩
abbrev main_call3_v2 : Ref sig .tc := ⟨.hbm, 88, rfl⟩
abbrev main_v27_0 : Ref sig .tc := ⟨.hbm, 89, rfl⟩
abbrev main_call3_cst : Ref sig .tc := ⟨.hbm, 90, rfl⟩
abbrev main_v27_2 : Ref sig .tc := ⟨.hbm, 91, rfl⟩
abbrev main_v28 : Ref sig .tc := ⟨.hbm, 92, rfl⟩
abbrev main_v29 : Ref sig .tc := ⟨.hbm, 93, rfl⟩
abbrev main_v30 : Ref sig .tc := ⟨.hbm, 94, rfl⟩
abbrev main_v31 : Ref sig .tc := ⟨.hbm, 95, rfl⟩
abbrev main_v32 : Ref sig .tc := ⟨.hbm, 96, rfl⟩
abbrev main_v33 : Ref sig .tc := ⟨.hbm, 97, rfl⟩
abbrev main_v34 : Ref sig .tc := ⟨.hbm, 98, rfl⟩
abbrev main_v35 : Ref sig .tc := ⟨.hbm, 99, rfl⟩
abbrev main_v36 : Ref sig .tc := ⟨.hbm, 100, rfl⟩
abbrev main_v37 : Ref sig .tc := ⟨.hbm, 101, rfl⟩
abbrev main_call4_cst : Ref sig .tc := ⟨.hbm, 102, rfl⟩
abbrev main_call4_v0 : Ref sig .tc := ⟨.hbm, 103, rfl⟩
abbrev main_v38 : Ref sig .tc := ⟨.hbm, 104, rfl⟩
abbrev main_v39 : Ref sig .tc := ⟨.hbm, 105, rfl⟩
abbrev main_v40 : Ref sig .tc := ⟨.hbm, 106, rfl⟩
abbrev main_call5_cst : Ref sig .tc := ⟨.hbm, 107, rfl⟩
abbrev main_call5_v0 : Ref sig .tc := ⟨.hbm, 108, rfl⟩
abbrev main_v41 : Ref sig .tc := ⟨.hbm, 109, rfl⟩
abbrev main_v42 : Ref sig .tc := ⟨.hbm, 110, rfl⟩
abbrev main_call6_cst : Ref sig .tc := ⟨.hbm, 111, rfl⟩
abbrev main_call6_v0 : Ref sig .tc := ⟨.hbm, 112, rfl⟩
abbrev main_v43 : Ref sig .tc := ⟨.hbm, 113, rfl⟩
abbrev main_call7_v0 : Ref sig .tc := ⟨.hbm, 114, rfl⟩
abbrev main_call7_v1 : Ref sig .tc := ⟨.hbm, 115, rfl⟩
abbrev main_v44 : Ref sig .tc := ⟨.hbm, 116, rfl⟩
abbrev main_v45 : Ref sig .tc := ⟨.hbm, 117, rfl⟩
abbrev main_v46 : Ref sig .tc := ⟨.hbm, 118, rfl⟩
abbrev main_cst_2 : Ref sig .tc := ⟨.hbm, 119, rfl⟩
abbrev main_v47 : Ref sig .tc := ⟨.hbm, 120, rfl⟩
abbrev main_v48 : Ref sig .tc := ⟨.hbm, 121, rfl⟩
abbrev main_v49 : Ref sig .tc := ⟨.hbm, 122, rfl⟩
abbrev main_v50 : Ref sig .tc := ⟨.hbm, 123, rfl⟩
abbrev main_v51 : Ref sig .tc := ⟨.hbm, 124, rfl⟩
abbrev main_v52 : Ref sig .tc := ⟨.hbm, 125, rfl⟩
abbrev main_v53 : Ref sig .tc := ⟨.hbm, 126, rfl⟩
abbrev main_v54 : Ref sig .tc := ⟨.hbm, 127, rfl⟩
abbrev main_v55 : Ref sig .tc := ⟨.hbm, 128, rfl⟩
abbrev main_v56 : Ref sig .tc := ⟨.hbm, 129, rfl⟩

abbrev nD : Nat := 1
abbrev τ : Topo := Topo.v7x

variable {F : FTy → Type} [FloatOps F]
-- ==== ShortConv.lean ====
abbrev S16384x5896 : Shape := ⟨2, ![16384, 5896]⟩
abbrev S16384x256 : Shape := ⟨2, ![16384, 256]⟩
abbrev S3x256 : Shape := ⟨2, ![3, 256]⟩
abbrev S16384x2048 : Shape := ⟨2, ![16384, 2048]⟩
abbrev S16384x8 : Shape := ⟨2, ![16384, 8]⟩
abbrev S_ : Shape := ⟨0, ![]⟩
abbrev S16384x248 : Shape := ⟨2, ![16384, 248]⟩
abbrev S16384x768 : Shape := ⟨2, ![16384, 768]⟩
abbrev S16384x3072 : Shape := ⟨2, ![16384, 3072]⟩
abbrev S16384x6144 : Shape := ⟨2, ![16384, 6144]⟩
abbrev S1x256 : Shape := ⟨2, ![1, 256]⟩
abbrev S512x768 : Shape := ⟨2, ![512, 768]⟩
abbrev S16x768 : Shape := ⟨2, ![16, 768]⟩
abbrev S512x256 : Shape := ⟨2, ![512, 256]⟩
abbrev S16x256 : Shape := ⟨2, ![16, 256]⟩
abbrev S256 : Shape := ⟨1, ![256]⟩

abbrev nBuf : Space → Nat
  | .hbm => 16
  | .vmem => 16
  | .smem => 0
  | _ => 0

abbrev bufTy : (tb : Table) → Fin (tcTables nBuf tb) → BufTy
  | .hbm, ⟨0, _⟩ => ⟨S16384x5896, .f32⟩
  | .hbm, ⟨1, _⟩ => ⟨S16384x256, .f32⟩
  | .hbm, ⟨2, _⟩ => ⟨S3x256, .f32⟩
  | .hbm, ⟨3, _⟩ => ⟨S16384x2048, .f32⟩
  | .hbm, ⟨4, _⟩ => ⟨S16384x8, .f32⟩
  | .hbm, ⟨5, _⟩ => ⟨S_, .f32⟩
  | .hbm, ⟨6, _⟩ => ⟨S16384x248, .f32⟩
  | .hbm, ⟨7, _⟩ => ⟨S16384x768, .f32⟩
  | .hbm, ⟨8, _⟩ => ⟨S16384x3072, .f32⟩
  | .hbm, ⟨9, _⟩ => ⟨S16384x6144, .f32⟩
  | .hbm, ⟨10, _⟩ => ⟨S16384x6144, .bf16⟩
  | .hbm, ⟨11, _⟩ => ⟨S16384x256, .bf16⟩
  | .hbm, ⟨12, _⟩ => ⟨S16384x768, .bf16⟩
  | .hbm, ⟨13, _⟩ => ⟨S1x256, .f32⟩
  | .hbm, ⟨14, _⟩ => ⟨S1x256, .f32⟩
  | .hbm, ⟨15, _⟩ => ⟨S1x256, .f32⟩
  | .local _ .vmem, ⟨0, _⟩ => ⟨S512x768, .bf16⟩
  | .local _ .vmem, ⟨1, _⟩ => ⟨S512x768, .bf16⟩
  | .local _ .vmem, ⟨2, _⟩ => ⟨S16x768, .bf16⟩
  | .local _ .vmem, ⟨3, _⟩ => ⟨S16x768, .bf16⟩
  | .local _ .vmem, ⟨4, _⟩ => ⟨S16x768, .bf16⟩
  | .local _ .vmem, ⟨5, _⟩ => ⟨S16x768, .bf16⟩
  | .local _ .vmem, ⟨6, _⟩ => ⟨S512x256, .bf16⟩
  | .local _ .vmem, ⟨7, _⟩ => ⟨S512x256, .bf16⟩
  | .local _ .vmem, ⟨8, _⟩ => ⟨S16x256, .bf16⟩
  | .local _ .vmem, ⟨9, _⟩ => ⟨S16x256, .bf16⟩
  | .local _ .vmem, ⟨10, _⟩ => ⟨S3x256, .f32⟩
  | .local _ .vmem, ⟨11, _⟩ => ⟨S512x768, .bf16⟩
  | .local _ .vmem, ⟨12, _⟩ => ⟨S512x768, .bf16⟩
  | .local _ .vmem, ⟨13, _⟩ => ⟨S1x256, .f32⟩
  | .local _ .vmem, ⟨14, _⟩ => ⟨S1x256, .f32⟩
  | .local _ .vmem, ⟨15, _⟩ => ⟨S1x256, .f32⟩
  | _, _ => ⟨S16384x5896, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev main_v8_2 : Ref sig .tc := ⟨.hbm, 14, rfl⟩
abbrev main_v8_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S3x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x768 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ShortConvRefIdeal.lean ====
abbrev S16384x5896 : Shape := ⟨2, ![16384, 5896]⟩
abbrev S16384x256 : Shape := ⟨2, ![16384, 256]⟩
abbrev S3x256 : Shape := ⟨2, ![3, 256]⟩
abbrev S16384x768 : Shape := ⟨2, ![16384, 768]⟩
abbrev S_ : Shape := ⟨0, ![]⟩
abbrev S2x256 : Shape := ⟨2, ![2, 256]⟩
abbrev S16386x256 : Shape := ⟨2, ![16386, 256]⟩
abbrev S1x256 : Shape := ⟨2, ![1, 256]⟩
abbrev S256 : Shape := ⟨1, ![256]⟩

abbrev nBuf : Space → Nat
  | .hbm => 76
  | .vmem => 0
  | .smem => 0
  | _ => 0

abbrev bufTy : (tb : Table) → Fin (tcTables nBuf tb) → BufTy
  | .hbm, ⟨0, _⟩ => ⟨S16384x5896, .f32⟩
  | .hbm, ⟨1, _⟩ => ⟨S16384x256, .f32⟩
  | .hbm, ⟨2, _⟩ => ⟨S3x256, .f32⟩
  | .hbm, ⟨3, _⟩ => ⟨S16384x768, .f32⟩
  | .hbm, ⟨4, _⟩ => ⟨S16384x256, .f32⟩
  | .hbm, ⟨5, _⟩ => ⟨S16384x256, .f32⟩
  | .hbm, ⟨6, _⟩ => ⟨S16384x256, .f32⟩
  | .hbm, ⟨7, _⟩ => ⟨S16384x256, .f32⟩
  | .hbm, ⟨8, _⟩ => ⟨S_, .f32⟩
  | .hbm, ⟨9, _⟩ => ⟨S2x256, .f32⟩
  | .hbm, ⟨10, _⟩ => ⟨S16386x256, .f32⟩
  | .hbm, ⟨11, _⟩ => ⟨S_, .f32⟩
  | .hbm, ⟨12, _⟩ => ⟨S2x256, .f32⟩
  | .hbm, ⟨13, _⟩ => ⟨S1x256, .f32⟩
  | .hbm, ⟨14, _⟩ => ⟨S16384x256, .f32⟩
  | .hbm, ⟨15, _⟩ => ⟨S16384x256, .f32⟩
  | .hbm, ⟨16, _⟩ => ⟨S16384x256, .f32⟩
  | .hbm, ⟨17, _⟩ => ⟨S_, .f32⟩
  | .hbm, ⟨18, _⟩ => ⟨S16384x256, .f32⟩
  | .hbm, ⟨19, _⟩ => ⟨S16384x256, .f32⟩
  | .hbm, ⟨20, _⟩ => ⟨S1x256, .f32⟩
  | .hbm, ⟨21, _⟩ => ⟨S16384x256, .f32⟩
  | .hbm, ⟨22, _⟩ => ⟨S16384x256, .f32⟩
  | .hbm, ⟨23, _⟩ => ⟨S16384x256, .f32⟩
  | .hbm, ⟨24, _⟩ => ⟨S16384x256, .f32⟩
  | .hbm, ⟨25, _⟩ => ⟨S1x256, .f32⟩
  | .hbm, ⟨26, _⟩ => ⟨S16384x256, .f32⟩
  | .hbm, ⟨27, _⟩ => ⟨S16384x256, .f32⟩
  | .hbm, ⟨28, _⟩ => ⟨S16384x256, .f32⟩
  | .hbm, ⟨29, _⟩ => ⟨S16384x256, .f32⟩
  | .hbm, ⟨30, _⟩ => ⟨S16384x256, .f32⟩
  | .hbm, ⟨31, _⟩ => ⟨S16384x256, .f32⟩
  | .hbm, ⟨32, _⟩ => ⟨S16384x256, .f32⟩
  | .hbm, ⟨33, _⟩ => ⟨S16384x256, .f32⟩
  | .hbm, ⟨34, _⟩ => ⟨S16384x256, .f32⟩
  | .hbm, ⟨35, _⟩ => ⟨S16384x256, .f32⟩
  | .hbm, ⟨36, _⟩ => ⟨S_, .f32⟩
  | .hbm, ⟨37, _⟩ => ⟨S256, .f32⟩
  | .hbm, ⟨38, _⟩ => ⟨S1x256, .f32⟩
  | .hbm, ⟨39, _⟩ => ⟨S_, .f32⟩
  | .hbm, ⟨40, _⟩ => ⟨S16386x256, .f32⟩
  | .hbm, ⟨41, _⟩ => ⟨S_, .f32⟩
  | .hbm, ⟨42, _⟩ => ⟨S3x256, .f32⟩
  | .hbm, ⟨43, _⟩ => ⟨S16384x256, .f32⟩
  | .hbm, ⟨44, _⟩ => ⟨S16384x256, .f32⟩
  | .hbm, ⟨45, _⟩ => ⟨S16384x256, .f32⟩
  | .hbm, ⟨46, _⟩ => ⟨S_, .f32⟩
  | .hbm, ⟨47, _⟩ => ⟨S256, .f32⟩
  | .hbm, ⟨48, _⟩ => ⟨S1x256, .f32⟩
  | .hbm, ⟨49, _⟩ => ⟨S_, .f32⟩
  | .hbm, ⟨50, _⟩ => ⟨S16386x256, .f32⟩
  | .hbm, ⟨51, _⟩ => ⟨S16386x256, .f32⟩
  | .hbm, ⟨52, _⟩ => ⟨S_, .f32⟩
  | .hbm, ⟨53, _⟩ => ⟨S3x256, .f32⟩
  | .hbm, ⟨54, _⟩ => ⟨S3x256, .f32⟩
  | .hbm, ⟨55, _⟩ => ⟨S16384x256, .f32⟩
  | .hbm, ⟨56, _⟩ => ⟨S16384x256, .f32⟩
  | .hbm, ⟨57, _⟩ => ⟨S16384x256, .f32⟩
  | .hbm, ⟨58, _⟩ => ⟨S_, .f32⟩
  | .hbm, ⟨59, _⟩ => ⟨S256, .f32⟩
  | .hbm, ⟨60, _⟩ => ⟨S1x256, .f32⟩
  | .hbm, ⟨61, _⟩ => ⟨S_, .f32⟩
  | .hbm, ⟨62, _⟩ => ⟨S16386x256, .f32⟩
  | .hbm, ⟨63, _⟩ => ⟨S16386x256, .f32⟩
  | .hbm, ⟨64, _⟩ => ⟨S_, .f32⟩
  | .hbm, ⟨65, _⟩ => ⟨S3x256, .f32⟩
  | .hbm, ⟨66, _⟩ => ⟨S3x256, .f32⟩
  | .hbm, ⟨67, _⟩ => ⟨S2x256, .f32⟩
  | .hbm, ⟨68, _⟩ => ⟨S16384x256, .f32⟩
  | .hbm, ⟨69, _⟩ => ⟨S16384x256, .f32⟩
  | .hbm, ⟨70, _⟩ => ⟨S16384x256, .f32⟩
  | .hbm, ⟨71, _⟩ => ⟨S16384x768, .f32⟩
  | .hbm, ⟨72, _⟩ => ⟨S16384x768, .bf16⟩
  | .hbm, ⟨73, _⟩ => ⟨S1x256, .f32⟩
  | .hbm, ⟨74, _⟩ => ⟨S1x256, .f32⟩
  | .hbm, ⟨75, _⟩ => ⟨S1x256, .f32⟩
  | _, _ => ⟨S16384x5896, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_cst_2 : Ref sig .tc := ⟨.hbm, 36, rfl⟩
abbrev main_v30 : Ref sig .tc := ⟨.hbm, 37, rfl⟩
abbrev main_v31 : Ref sig .tc := ⟨.hbm, 38, rfl⟩
abbrev main_cst_3 : Ref sig .tc := ⟨.hbm, 39, rfl⟩
abbrev main_v32 : Ref sig .tc := ⟨.hbm, 40, rfl⟩
abbrev main_cst_4 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_5 : Ref sig .tc := ⟨.hbm, 46, rfl⟩
abbrev main_v37 : Ref sig .tc := ⟨.hbm, 47, rfl⟩
abbrev main_v38 : Ref sig .tc := ⟨.hbm, 48, rfl⟩
abbrev main_cst_6 : Ref sig .tc := ⟨.hbm, 49, rfl⟩
abbrev main_v39 : Ref sig .tc := ⟨.hbm, 50, rfl⟩
abbrev main_v40 : Ref sig .tc := ⟨.hbm, 51, rfl⟩
abbrev main_cst_7 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_8 : Ref sig .tc := ⟨.hbm, 58, rfl⟩
abbrev main_v46 : Ref sig .tc := ⟨.hbm, 59, rfl⟩
abbrev main_v47 : Ref sig .tc := ⟨.hbm, 60, rfl⟩
abbrev main_cst_9 : Ref sig .tc := ⟨.hbm, 61, rfl⟩
abbrev main_v48 : Ref sig .tc := ⟨.hbm, 62, rfl⟩
abbrev main_v49 : Ref sig .tc := ⟨.hbm, 63, rfl⟩
abbrev main_cst_10 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩

abbrev nD : Nat := 1
abbrev τ : Topo := Topo.v7x

variable {F : FTy → Type} [FloatOps F]
-- ==== LossLast.lean ====
abbrev S16384x1024 : Shape := ⟨2, ![16384, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 11
  | .vmem => 15
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S1x1024, .f32⟩
  | .hbm, ⟨4, _⟩ => ⟨S1x1024, .f32⟩
  | .hbm, ⟨5, _⟩ => ⟨S16384x1024, .bf16⟩
  | .hbm, ⟨6, _⟩ => ⟨S16384x1024, .f32⟩
  | .hbm, ⟨7, _⟩ => ⟨S16384x1024, .bf16⟩
  | .hbm, ⟨8, _⟩ => ⟨S1x1024, .f32⟩
  | .hbm, ⟨9, _⟩ => ⟨S1x1024, .f32⟩
  | .hbm, ⟨10, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v1_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== LossLastRefIdeal.lean ====
abbrev S16384x1024 : Shape := ⟨2, ![16384, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S1024 : Shape := ⟨1, ![1024]⟩

abbrev nBuf : Space → Nat
  | .hbm => 109
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S1x1024, .f32⟩
  | .hbm, ⟨4, _⟩ => ⟨S1x1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S_, .f32⟩
  | .hbm, ⟨30, _⟩ => ⟨S16384x1024, .f32⟩
  | .hbm, ⟨31, _⟩ => ⟨S16384x1024, .f32⟩
  | .hbm, ⟨32, _⟩ => ⟨S_, .f32⟩
  | .hbm, ⟨33, _⟩ => ⟨S16384, .f32⟩
  | .hbm, ⟨34, _⟩ => ⟨S_, .f32⟩
  | .hbm, ⟨35, _⟩ => ⟨S16384, .f32⟩
  | .hbm, ⟨36, _⟩ => ⟨S16384, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S16384, .f32⟩
  | .hbm, ⟨45, _⟩ => ⟨S_, .f32⟩
  | .hbm, ⟨46, _⟩ => ⟨S16384, .f32⟩
  | .hbm, ⟨47, _⟩ => ⟨S16384, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S16384x1024, .f32⟩
  | .hbm, ⟨57, _⟩ => ⟨S_, .f32⟩
  | .hbm, ⟨58, _⟩ => ⟨S1024, .f32⟩
  | .hbm, ⟨59, _⟩ => ⟨S1x1024, .f32⟩
  | .hbm, ⟨60, _⟩ => ⟨S16384x1024, .f32⟩
  | .hbm, ⟨61, _⟩ => ⟨S16384x1024, .f32⟩
  | .hbm, ⟨62, _⟩ => ⟨S16384x1024, .f32⟩
  | .hbm, ⟨63, _⟩ => ⟨S_, .f32⟩
  | .hbm, ⟨64, _⟩ => ⟨S16384, .f32⟩
  | .hbm, ⟨65, _⟩ => ⟨S16384x1, .f32⟩
  | .hbm, ⟨66, _⟩ => ⟨S16384x1024, .f32⟩
  | .hbm, ⟨67, _⟩ => ⟨S16384x1024, .f32⟩
  | .hbm, ⟨68, _⟩ => ⟨S16384x1, .f32⟩
  | .hbm, ⟨69, _⟩ => ⟨S_, .f32⟩
  | .hbm, ⟨70, _⟩ => ⟨S16384x1, .f32⟩
  | .hbm, ⟨71, _⟩ => ⟨S16384x1, .f32⟩
  | .hbm, ⟨72, _⟩ => ⟨S_, .f32⟩
  | .hbm, ⟨73, _⟩ => ⟨S16384, .f32⟩
  | .hbm, ⟨74, _⟩ => ⟨S16384x1024, .f32⟩
  | .hbm, ⟨75, _⟩ => ⟨S16384x1024, .f32⟩
  | .hbm, ⟨76, _⟩ => ⟨S16384x1024, .f32⟩
  | .hbm, ⟨77, _⟩ => ⟨S16384x1024, .f32⟩
  | .hbm, ⟨78, _⟩ => ⟨S16384x1024, .f32⟩
  | .hbm, ⟨79, _⟩ => ⟨S16384x1024, .f32⟩
  | .hbm, ⟨80, _⟩ => ⟨S_, .f32⟩
  | .hbm, ⟨81, _⟩ => ⟨S16384, .f32⟩
  | .hbm, ⟨82, _⟩ => ⟨S16384x1, .f32⟩
  | .hbm, ⟨83, _⟩ => ⟨S_, .f32⟩
  | .hbm, ⟨84, _⟩ => ⟨S16384x1, .f32⟩
  | .hbm, ⟨85, _⟩ => ⟨S16384x1, .f32⟩
  | .hbm, ⟨86, _⟩ => ⟨S_, .f32⟩
  | .hbm, ⟨87, _⟩ => ⟨S16384x1, .f32⟩
  | .hbm, ⟨88, _⟩ => ⟨S16384x1, .f32⟩
  | .hbm, ⟨89, _⟩ => ⟨S16384x1, .f32⟩
  | .hbm, ⟨90, _⟩ => ⟨S16384x1024, .f32⟩
  | .hbm, ⟨91, _⟩ => ⟨S16384x1024, .f32⟩
  | .hbm, ⟨92, _⟩ => ⟨S16384x1024, .f32⟩
  | .hbm, ⟨93, _⟩ => ⟨S16384x1024, .f32⟩
  | .hbm, ⟨94, _⟩ => ⟨S16384x1024, .f32⟩
  | .hbm, ⟨95, _⟩ => ⟨S16384x1024, .f32⟩
  | .hbm, ⟨96, _⟩ => ⟨S16384x1024, .f32⟩
  | .hbm, ⟨97, _⟩ => ⟨S16384x1024, .f32⟩
  | .hbm, ⟨98, _⟩ => ⟨S16384x1024, .f32⟩
  | .hbm, ⟨99, _⟩ => ⟨S16384x1024, .bf16⟩
  | .hbm, ⟨100, _⟩ => ⟨S_, .f32⟩
  | .hbm, ⟨101, _⟩ => ⟨S1024, .f32⟩
  | .hbm, ⟨102, _⟩ => ⟨S1x1024, .f32⟩
  | .hbm, ⟨103, _⟩ => ⟨S_, .f32⟩
  | .hbm, ⟨104, _⟩ => ⟨S1x1024, .f32⟩
  | .hbm, ⟨105, _⟩ => ⟨S1x1024, .f32⟩
  | .hbm, ⟨106, _⟩ => ⟨S_, .f32⟩
  | .hbm, ⟨107, _⟩ => ⟨S1x1024, .f32⟩
  | .hbm, ⟨108, _⟩ => ⟨S1x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_cst_8 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩
abbrev main_cst_10 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_11 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_12 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_13 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_14 : Ref sig .tc := ⟨.hbm, 69, rfl⟩
abbrev main_v49 : Ref sig .tc := ⟨.hbm, 70, rfl⟩
abbrev main_v50 : Ref sig .tc := ⟨.hbm, 71, rfl⟩
abbrev main_cst_15 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_16 : Ref sig .tc := ⟨.hbm, 80, rfl⟩
abbrev main_v58 : Ref sig .tc := ⟨.hbm, 81, rfl⟩
abbrev main_v59 : Ref sig .tc := ⟨.hbm, 82, rfl⟩
abbrev main_cst_17 : Ref sig .tc := ⟨.hbm, 83, rfl⟩
abbrev main_v60 : Ref sig .tc := ⟨.hbm, 84, rfl⟩
abbrev main_v61 : Ref sig .tc := ⟨.hbm, 85, rfl⟩
abbrev main_cst_18 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_cst_19 : Ref sig .tc := ⟨.hbm, 100, rfl⟩
abbrev main_v75 : Ref sig .tc := ⟨.hbm, 101, rfl⟩
abbrev main_v76 : Ref sig .tc := ⟨.hbm, 102, rfl⟩
abbrev main_cst_20 : Ref sig .tc := ⟨.hbm, 103, rfl⟩
abbrev main_v77 : Ref sig .tc := ⟨.hbm, 104, rfl⟩
abbrev main_v78 : Ref sig .tc := ⟨.hbm, 105, rfl⟩
abbrev main_cst_21 : Ref sig .tc := ⟨.hbm, 106, rfl⟩
abbrev main_v79 : Ref sig .tc := ⟨.hbm, 107, rfl⟩
abbrev main_v80 : Ref sig .tc := ⟨.hbm, 108, rfl⟩

abbrev nD : Nat := 1
abbrev τ : Topo := Topo.v7x

variable {F : FTy → Type} [FloatOps F]
-- ==== AdalnFirst.lean ====
abbrev S16384x1024 : Shape := ⟨2, ![16384, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 11
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S16384x1024, .bf16⟩
  | .hbm, ⟨7, _⟩ => ⟨S16384x1024, .f32⟩
  | .hbm, ⟨8, _⟩ => ⟨S1x1024, .f32⟩
  | .hbm, ⟨9, _⟩ => ⟨S1x1024, .f32⟩
  | .hbm, ⟨10, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .bf16⟩
  | .local _ .vmem, ⟨5, _⟩ => ⟨S512x1024, .bf16⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== AdalnFirstRefIdeal.lean ====
abbrev S16384x1024 : Shape := ⟨2, ![16384, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S1024 : Shape := ⟨1, ![1024]⟩

abbrev nBuf : Space → Nat
  | .hbm => 66
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S_, .f32⟩
  | .hbm, ⟨26, _⟩ => ⟨S1x1024, .f32⟩
  | .hbm, ⟨27, _⟩ => ⟨S1x1024, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S16384x1024, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S_, .f32⟩
  | .hbm, ⟨44, _⟩ => ⟨S1024, .f32⟩
  | .hbm, ⟨45, _⟩ => ⟨S1x1024, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S_, .f32⟩
  | .hbm, ⟨50, _⟩ => ⟨S16384, .f32⟩
  | .hbm, ⟨51, _⟩ => ⟨S16384x1, .f32⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S16384x1, .f32⟩
  | .hbm, ⟨56, _⟩ => ⟨S_, .f32⟩
  | .hbm, ⟨57, _⟩ => ⟨S16384x1, .f32⟩
  | .hbm, ⟨58, _⟩ => ⟨S16384x1, .f32⟩
  | .hbm, ⟨59, _⟩ => ⟨S_, .f32⟩
  | .hbm, ⟨60, _⟩ => ⟨S16384, .f32⟩
  | .hbm, ⟨61, _⟩ => ⟨S16384x1024, .f32⟩
  | .hbm, ⟨62, _⟩ => ⟨S16384x1024, .f32⟩
  | .hbm, ⟨63, _⟩ => ⟨S16384x1024, .f32⟩
  | .hbm, ⟨64, _⟩ => ⟨S16384x1024, .f32⟩
  | .hbm, ⟨65, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_8 : Ref sig .tc := ⟨.hbm, 56, rfl⟩
abbrev main_v41 : Ref sig .tc := ⟨.hbm, 57, rfl⟩
abbrev main_v42 : Ref sig .tc := ⟨.hbm, 58, rfl⟩
abbrev main_cst_9 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩

abbrev nD : Nat := 1
abbrev τ : Topo := Topo.v7x

variable {F : FTy → Type} [FloatOps F]
-- ==== SsmPost.lean ====
abbrev S16384x512 : Shape := ⟨2, ![16384, 512]⟩
abbrev S16384x768 : Shape := ⟨2, ![16384, 768]⟩
abbrev S16384x5896 : Shape := ⟨2, ![16384, 5896]⟩
abbrev S1x8 : Shape := ⟨2, ![1, 8]⟩
abbrev S1x512 : Shape := ⟨2, ![1, 512]⟩
abbrev S1x8x64 : Shape := ⟨3, ![1, 8, 64]⟩
abbrev S16384x2048 : Shape := ⟨2, ![16384, 2048]⟩
abbrev S16384x8 : Shape := ⟨2, ![16384, 8]⟩
abbrev S_ : Shape := ⟨0, ![]⟩
abbrev S16384x248 : Shape := ⟨2, ![16384, 248]⟩
abbrev S16384x3072 : Shape := ⟨2, ![16384, 3072]⟩
abbrev S16384x6144 : Shape := ⟨2, ![16384, 6144]⟩
abbrev S512x512 : Shape := ⟨2, ![512, 512]⟩
abbrev S512x256 : Shape := ⟨2, ![512, 256]⟩
abbrev S512 : Shape := ⟨1, ![512]⟩
abbrev S512x1 : Shape := ⟨2, ![512, 1]⟩

abbrev nBuf : Space → Nat
  | .hbm => 22
  | .vmem => 18
  | .smem => 0
  | _ => 0

abbrev bufTy : (tb : Table) → Fin (tcTables nBuf tb) → BufTy
  | .hbm, ⟨0, _⟩ => ⟨S16384x512, .f32⟩
  | .hbm, ⟨1, _⟩ => ⟨S16384x768, .f32⟩
  | .hbm, ⟨2, _⟩ => ⟨S16384x5896, .f32⟩
  | .hbm, ⟨3, _⟩ => ⟨S16384x512, .f32⟩
  | .hbm, ⟨4, _⟩ => ⟨S1x8, .f32⟩
  | .hbm, ⟨5, _⟩ => ⟨S1x512, .f32⟩
  | .hbm, ⟨6, _⟩ => ⟨S1x8x64, .f32⟩
  | .hbm, ⟨7, _⟩ => ⟨S1x512, .f32⟩
  | .hbm, ⟨8, _⟩ => ⟨S16384x2048, .f32⟩
  | .hbm, ⟨9, _⟩ => ⟨S16384x8, .f32⟩
  | .hbm, ⟨10, _⟩ => ⟨S_, .f32⟩
  | .hbm, ⟨11, _⟩ => ⟨S16384x248, .f32⟩
  | .hbm, ⟨12, _⟩ => ⟨S16384x768, .f32⟩
  | .hbm, ⟨13, _⟩ => ⟨S16384x3072, .f32⟩
  | .hbm, ⟨14, _⟩ => ⟨S16384x6144, .f32⟩
  | .hbm, ⟨15, _⟩ => ⟨S16384x6144, .bf16⟩
  | .hbm, ⟨16, _⟩ => ⟨S16384x512, .bf16⟩
  | .hbm, ⟨17, _⟩ => ⟨S16384x512, .f32⟩
  | .hbm, ⟨18, _⟩ => ⟨S16384x512, .f32⟩
  | .hbm, ⟨19, _⟩ => ⟨S16384x512, .bf16⟩
  | .hbm, ⟨20, _⟩ => ⟨S1x512, .f32⟩
  | .hbm, ⟨21, _⟩ => ⟨S1x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S1x512, .f32⟩
  | .local _ .vmem, ⟨9, _⟩ => ⟨S1x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .bf16⟩
  | .local _ .vmem, ⟨15, _⟩ => ⟨S512x512, .bf16⟩
  | .local _ .vmem, ⟨16, _⟩ => ⟨S1x512, .f32⟩
  | .local _ .vmem, ⟨17, _⟩ => ⟨S1x512, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev main_v10_2 : Ref sig .tc := ⟨.hbm, 19, rfl⟩
abbrev main_v10_3 : Ref sig .tc := ⟨.hbm, 20, rfl⟩
abbrev main_v10_4 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== SsmPostRefIdeal.lean ====
abbrev S16384x512 : Shape := ⟨2, ![16384, 512]⟩
abbrev S16384x768 : Shape := ⟨2, ![16384, 768]⟩
abbrev S16384x5896 : Shape := ⟨2, ![16384, 5896]⟩
abbrev S1x8 : Shape := ⟨2, ![1, 8]⟩
abbrev S1x512 : Shape := ⟨2, ![1, 512]⟩
abbrev S8x1 : Shape := ⟨2, ![8, 1]⟩
abbrev S8x64 : Shape := ⟨2, ![8, 64]⟩
abbrev S_ : Shape := ⟨0, ![]⟩
abbrev S16384x2x256 : Shape := ⟨3, ![16384, 2, 256]⟩
abbrev S16384x2 : Shape := ⟨2, ![16384, 2]⟩
abbrev S16384x2x1 : Shape := ⟨3, ![16384, 2, 1]⟩
abbrev S512 : Shape := ⟨1, ![512]⟩

abbrev nBuf : Space → Nat
  | .hbm => 104
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x768, .f32⟩
  | .hbm, ⟨2, _⟩ => ⟨S16384x5896, .f32⟩
  | .hbm, ⟨3, _⟩ => ⟨S16384x512, .f32⟩
  | .hbm, ⟨4, _⟩ => ⟨S1x8, .f32⟩
  | .hbm, ⟨5, _⟩ => ⟨S1x512, .f32⟩
  | .hbm, ⟨6, _⟩ => ⟨S8x1, .f32⟩
  | .hbm, ⟨7, _⟩ => ⟨S8x64, .f32⟩
  | .hbm, ⟨8, _⟩ => ⟨S1x512, .f32⟩
  | .hbm, ⟨9, _⟩ => ⟨S16384x512, .f32⟩
  | .hbm, ⟨10, _⟩ => ⟨S16384x512, .f32⟩
  | .hbm, ⟨11, _⟩ => ⟨S16384x512, .f32⟩
  | .hbm, ⟨12, _⟩ => ⟨S16384x512, .f32⟩
  | .hbm, ⟨13, _⟩ => ⟨S_, .f32⟩
  | .hbm, ⟨14, _⟩ => ⟨S16384x512, .f32⟩
  | .hbm, ⟨15, _⟩ => ⟨S16384x512, .f32⟩
  | .hbm, ⟨16, _⟩ => ⟨S_, .f32⟩
  | .hbm, ⟨17, _⟩ => ⟨S16384x512, .f32⟩
  | .hbm, ⟨18, _⟩ => ⟨S16384x512, .f32⟩
  | .hbm, ⟨19, _⟩ => ⟨S_, .f32⟩
  | .hbm, ⟨20, _⟩ => ⟨S16384x512, .f32⟩
  | .hbm, ⟨21, _⟩ => ⟨S16384x512, .f32⟩
  | .hbm, ⟨22, _⟩ => ⟨S16384x512, .f32⟩
  | .hbm, ⟨23, _⟩ => ⟨S16384x512, .f32⟩
  | .hbm, ⟨24, _⟩ => ⟨S16384x512, .f32⟩
  | .hbm, ⟨25, _⟩ => ⟨S16384x512, .f32⟩
  | .hbm, ⟨26, _⟩ => ⟨S16384x512, .f32⟩
  | .hbm, ⟨27, _⟩ => ⟨S16384x512, .f32⟩
  | .hbm, ⟨28, _⟩ => ⟨S16384x512, .f32⟩
  | .hbm, ⟨29, _⟩ => ⟨S_, .f32⟩
  | .hbm, ⟨30, _⟩ => ⟨S16384x512, .f32⟩
  | .hbm, ⟨31, _⟩ => ⟨S16384x512, .f32⟩
  | .hbm, ⟨32, _⟩ => ⟨S_, .f32⟩
  | .hbm, ⟨33, _⟩ => ⟨S16384x512, .f32⟩
  | .hbm, ⟨34, _⟩ => ⟨S16384x512, .f32⟩
  | .hbm, ⟨35, _⟩ => ⟨S_, .f32⟩
  | .hbm, ⟨36, _⟩ => ⟨S16384x512, .f32⟩
  | .hbm, ⟨37, _⟩ => ⟨S16384x512, .f32⟩
  | .hbm, ⟨38, _⟩ => ⟨S16384x512, .f32⟩
  | .hbm, ⟨39, _⟩ => ⟨S16384x512, .f32⟩
  | .hbm, ⟨40, _⟩ => ⟨S16384x512, .f32⟩
  | .hbm, ⟨41, _⟩ => ⟨S16384x2x256, .f32⟩
  | .hbm, ⟨42, _⟩ => ⟨S16384x2x256, .f32⟩
  | .hbm, ⟨43, _⟩ => ⟨S_, .f32⟩
  | .hbm, ⟨44, _⟩ => ⟨S16384x2, .f32⟩
  | .hbm, ⟨45, _⟩ => ⟨S16384x2x1, .f32⟩
  | .hbm, ⟨46, _⟩ => ⟨S_, .f32⟩
  | .hbm, ⟨47, _⟩ => ⟨S16384x2x1, .f32⟩
  | .hbm, ⟨48, _⟩ => ⟨S16384x2x1, .f32⟩
  | .hbm, ⟨49, _⟩ => ⟨S_, .f32⟩
  | .hbm, ⟨50, _⟩ => ⟨S16384x2x1, .f32⟩
  | .hbm, ⟨51, _⟩ => ⟨S16384x2x1, .f32⟩
  | .hbm, ⟨52, _⟩ => ⟨S16384x2x1, .f32⟩
  | .hbm, ⟨53, _⟩ => ⟨S16384x2x1, .f32⟩
  | .hbm, ⟨54, _⟩ => ⟨S_, .f32⟩
  | .hbm, ⟨55, _⟩ => ⟨S16384x2x1, .f32⟩
  | .hbm, ⟨56, _⟩ => ⟨S16384x2x1, .f32⟩
  | .hbm, ⟨57, _⟩ => ⟨S16384x2x256, .f32⟩
  | .hbm, ⟨58, _⟩ => ⟨S16384x2x256, .f32⟩
  | .hbm, ⟨59, _⟩ => ⟨S16384x512, .f32⟩
  | .hbm, ⟨60, _⟩ => ⟨S16384x512, .f32⟩
  | .hbm, ⟨61, _⟩ => ⟨S16384x512, .f32⟩
  | .hbm, ⟨62, _⟩ => ⟨S16384x512, .f32⟩
  | .hbm, ⟨63, _⟩ => ⟨S_, .f32⟩
  | .hbm, ⟨64, _⟩ => ⟨S512, .f32⟩
  | .hbm, ⟨65, _⟩ => ⟨S1x512, .f32⟩
  | .hbm, ⟨66, _⟩ => ⟨S16384x512, .f32⟩
  | .hbm, ⟨67, _⟩ => ⟨S16384x512, .f32⟩
  | .hbm, ⟨68, _⟩ => ⟨S16384x2x256, .f32⟩
  | .hbm, ⟨69, _⟩ => ⟨S16384x2x256, .f32⟩
  | .hbm, ⟨70, _⟩ => ⟨S_, .f32⟩
  | .hbm, ⟨71, _⟩ => ⟨S16384x2, .f32⟩
  | .hbm, ⟨72, _⟩ => ⟨S16384x2x1, .f32⟩
  | .hbm, ⟨73, _⟩ => ⟨S16384x2x256, .f32⟩
  | .hbm, ⟨74, _⟩ => ⟨S16384x2x256, .f32⟩
  | .hbm, ⟨75, _⟩ => ⟨S16384x2x1, .f32⟩
  | .hbm, ⟨76, _⟩ => ⟨S_, .f32⟩
  | .hbm, ⟨77, _⟩ => ⟨S16384x2x1, .f32⟩
  | .hbm, ⟨78, _⟩ => ⟨S16384x2x1, .f32⟩
  | .hbm, ⟨79, _⟩ => ⟨S_, .f32⟩
  | .hbm, ⟨80, _⟩ => ⟨S16384x2, .f32⟩
  | .hbm, ⟨81, _⟩ => ⟨S16384x2x256, .f32⟩
  | .hbm, ⟨82, _⟩ => ⟨S16384x2x256, .f32⟩
  | .hbm, ⟨83, _⟩ => ⟨S16384x2x256, .f32⟩
  | .hbm, ⟨84, _⟩ => ⟨S16384x2x256, .f32⟩
  | .hbm, ⟨85, _⟩ => ⟨S16384x2x256, .f32⟩
  | .hbm, ⟨86, _⟩ => ⟨S16384x512, .f32⟩
  | .hbm, ⟨87, _⟩ => ⟨S16384x512, .f32⟩
  | .hbm, ⟨88, _⟩ => ⟨S16384x512, .f32⟩
  | .hbm, ⟨89, _⟩ => ⟨S16384x512, .f32⟩
  | .hbm, ⟨90, _⟩ => ⟨S16384x512, .f32⟩
  | .hbm, ⟨91, _⟩ => ⟨S16384x512, .f32⟩
  | .hbm, ⟨92, _⟩ => ⟨S16384x512, .f32⟩
  | .hbm, ⟨93, _⟩ => ⟨S16384x512, .f32⟩
  | .hbm, ⟨94, _⟩ => ⟨S_, .f32⟩
  | .hbm, ⟨95, _⟩ => ⟨S512, .f32⟩
  | .hbm, ⟨96, _⟩ => ⟨S1x512, .f32⟩
  | .hbm, ⟨97, _⟩ => ⟨S16384x512, .f32⟩
  | .hbm, ⟨98, _⟩ => ⟨S16384x512, .f32⟩
  | .hbm, ⟨99, _⟩ => ⟨S16384x512, .f32⟩
  | .hbm, ⟨100, _⟩ => ⟨S16384x512, .f32⟩
  | .hbm, ⟨101, _⟩ => ⟨S16384x512, .f32⟩
  | .hbm, ⟨102, _⟩ => ⟨S16384x512, .f32⟩
  | .hbm, ⟨103, _⟩ => ⟨S16384x512, .bf16⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_v5_2 : Ref sig .tc := ⟨.hbm, 18, rfl⟩
abbrev main_call0_cst_1 : Ref sig .tc := ⟨.hbm, 19, rfl⟩
abbrev main_call0_v6 : Ref sig .tc := ⟨.hbm, 20, rfl⟩
abbrev main_call0_v7 : Ref sig .tc := ⟨.hbm, 21, rfl⟩
abbrev main_v5_1 : Ref sig .tc := ⟨.hbm, 22, rfl⟩
abbrev main_v5_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_call1_v0 : Ref sig .tc := ⟨.hbm, 27, rfl⟩
abbrev main_call1_v1 : Ref sig .tc := ⟨.hbm, 28, rfl⟩
abbrev main_call1_cst : Ref sig .tc := ⟨.hbm, 29, rfl⟩
abbrev main_call1_v2 : Ref sig .tc := ⟨.hbm, 30, rfl⟩
abbrev main_call1_v3 : Ref sig .tc := ⟨.hbm, 31, rfl⟩
abbrev main_call1_cst_0 : Ref sig .tc := ⟨.hbm, 32, rfl⟩
abbrev main_call1_v4 : Ref sig .tc := ⟨.hbm, 33, rfl⟩
abbrev main_v9_2 : Ref sig .tc := ⟨.hbm, 34, rfl⟩
abbrev main_call1_cst_1 : Ref sig .tc := ⟨.hbm, 35, rfl⟩
abbrev main_call1_v6 : Ref sig .tc := ⟨.hbm, 36, rfl⟩
abbrev main_call1_v7 : Ref sig .tc := ⟨.hbm, 37, rfl⟩
abbrev main_v9_1 : Ref sig .tc := ⟨.hbm, 38, rfl⟩
abbrev main_v9_0 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_cst : Ref sig .tc := ⟨.hbm, 43, rfl⟩
abbrev main_v13 : Ref sig .tc := ⟨.hbm, 44, rfl⟩
abbrev main_v14 : Ref sig .tc := ⟨.hbm, 45, rfl⟩
abbrev main_cst_0 : Ref sig .tc := ⟨.hbm, 46, rfl⟩
abbrev main_v15 : Ref sig .tc := ⟨.hbm, 47, rfl⟩
abbrev main_v16 : Ref sig .tc := ⟨.hbm, 48, rfl⟩
abbrev main_cst_1 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_cst_2 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_cst_3 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_cst_4 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_cst_5 : Ref sig .tc := ⟨.hbm, 76, rfl⟩
abbrev main_v40 : Ref sig .tc := ⟨.hbm, 77, rfl⟩
abbrev main_v41 : Ref sig .tc := ⟨.hbm, 78, rfl⟩
abbrev main_cst_6 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_call2_v0 : Ref sig .tc := ⟨.hbm, 89, rfl⟩
abbrev main_call2_v1 : Ref sig .tc := ⟨.hbm, 90, rfl⟩
abbrev main_call2_v2 : Ref sig .tc := ⟨.hbm, 91, rfl⟩
abbrev main_v51 : Ref sig .tc := ⟨.hbm, 92, rfl⟩
abbrev main_v52 : Ref sig .tc := ⟨.hbm, 93, rfl⟩
abbrev main_cst_7 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_call3_v0 : Ref sig .tc := ⟨.hbm, 99, rfl⟩
abbrev main_call3_v1 : Ref sig .tc := ⟨.hbm, 100, rfl⟩
abbrev main_call3_v2 : Ref sig .tc := ⟨.hbm, 101, rfl⟩
abbrev main_v57 : Ref sig .tc := ⟨.hbm, 102, rfl⟩
abbrev main_v58 : Ref sig .tc := ⟨.hbm, 103, rfl⟩

abbrev nD : Nat := 1
abbrev τ : Topo := Topo.v7x

variable {F : FTy → Type} [FloatOps F]
-- ==== SwiGlu.lean ====
abbrev S16384x1024 : Shape := ⟨2, ![16384, 1024]⟩
abbrev S2816x1024 : Shape := ⟨2, ![2816, 1024]⟩
abbrev S16384x5632 : Shape := ⟨2, ![16384, 5632]⟩
abbrev S16384x1408 : Shape := ⟨2, ![16384, 1408]⟩
abbrev S1024x1024 : Shape := ⟨2, ![1024, 1024]⟩
abbrev S1408x1024 : Shape := ⟨2, ![1408, 1024]⟩
abbrev S1024x2816 : Shape := ⟨2, ![1024, 2816]⟩
abbrev S1024x1408 : Shape := ⟨2, ![1024, 1408]⟩

abbrev nBuf : Space → Nat
  | .hbm => 17
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S2816x1024, .f32⟩
  | .hbm, ⟨2, _⟩ => ⟨S16384x5632, .f32⟩
  | .hbm, ⟨3, _⟩ => ⟨S16384x1408, .f32⟩
  | .hbm, ⟨4, _⟩ => ⟨S16384x1408, .f32⟩
  | .hbm, ⟨5, _⟩ => ⟨S16384x1408, .f32⟩
  | .hbm, ⟨6, _⟩ => ⟨S16384x1408, .f32⟩
  | .hbm, ⟨7, _⟩ => ⟨S16384x5632, .f32⟩
  | .hbm, ⟨8, _⟩ => ⟨S16384x5632, .bf16⟩
  | .hbm, ⟨9, _⟩ => ⟨S16384x1024, .bf16⟩
  | .hbm, ⟨10, _⟩ => ⟨S2816x1024, .bf16⟩
  | .hbm, ⟨11, _⟩ => ⟨S16384x5632, .bf16⟩
  | .hbm, ⟨12, _⟩ => ⟨S16384x1408, .bf16⟩
  | .hbm, ⟨13, _⟩ => ⟨S16384x1408, .bf16⟩
  | .hbm, ⟨14, _⟩ => ⟨S16384x1408, .bf16⟩
  | .hbm, ⟨15, _⟩ => ⟨S16384x1408, .bf16⟩
  | .hbm, ⟨16, _⟩ => ⟨S16384x5632, .bf16⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1024x2816, .bf16⟩
  | .local _ .vmem, ⟨4, _⟩ => ⟨S1024x2816, .bf16⟩
  | .local _ .vmem, ⟨5, _⟩ => ⟨S1024x2816, .bf16⟩
  | .local _ .vmem, ⟨6, _⟩ => ⟨S1024x2816, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1408x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== SwiGluRefIdeal.lean ====
abbrev S16384x1024 : Shape := ⟨2, ![16384, 1024]⟩
abbrev S2816x1024 : Shape := ⟨2, ![2816, 1024]⟩
abbrev S16384x5632 : Shape := ⟨2, ![16384, 5632]⟩
abbrev S16384x2816 : Shape := ⟨2, ![16384, 2816]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2816x1024, .f32⟩
  | .hbm, ⟨2, _⟩ => ⟨S16384x5632, .f32⟩
  | .hbm, ⟨3, _⟩ => ⟨S16384x2816, .f32⟩
  | .hbm, ⟨4, _⟩ => ⟨S16384x2816, .f32⟩
  | .hbm, ⟨5, _⟩ => ⟨S16384x2816, .f32⟩
  | .hbm, ⟨6, _⟩ => ⟨S16384x2816, .f32⟩
  | .hbm, ⟨7, _⟩ => ⟨S_, .f32⟩
  | .hbm, ⟨8, _⟩ => ⟨S16384x2816, .f32⟩
  | .hbm, ⟨9, _⟩ => ⟨S16384x2816, .f32⟩
  | .hbm, ⟨10, _⟩ => ⟨S_, .f32⟩
  | .hbm, ⟨11, _⟩ => ⟨S16384x2816, .f32⟩
  | .hbm, ⟨12, _⟩ => ⟨S16384x2816, .f32⟩
  | .hbm, ⟨13, _⟩ => ⟨S_, .f32⟩
  | .hbm, ⟨14, _⟩ => ⟨S16384x2816, .f32⟩
  | .hbm, ⟨15, _⟩ => ⟨S16384x2816, .f32⟩
  | .hbm, ⟨16, _⟩ => ⟨S16384x2816, .f32⟩
  | .hbm, ⟨17, _⟩ => ⟨S16384x2816, .f32⟩
  | .hbm, ⟨18, _⟩ => ⟨S16384x2816, .f32⟩
  | .hbm, ⟨19, _⟩ => ⟨S16384x1024, .f32⟩
  | .hbm, ⟨20, _⟩ => ⟨S16384x2816, .f32⟩
  | .hbm, ⟨21, _⟩ => ⟨S16384x2816, .f32⟩
  | .hbm, ⟨22, _⟩ => ⟨S16384x2816, .f32⟩
  | .hbm, ⟨23, _⟩ => ⟨S16384x2816, .f32⟩
  | .hbm, ⟨24, _⟩ => ⟨S16384x2816, .f32⟩
  | .hbm, ⟨25, _⟩ => ⟨S16384x2816, .f32⟩
  | .hbm, ⟨26, _⟩ => ⟨S16384x2816, .f32⟩
  | .hbm, ⟨27, _⟩ => ⟨S16384x5632, .f32⟩
  | .hbm, ⟨28, _⟩ => ⟨S16384x5632, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v2_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v2_1 : Ref sig .tc := ⟨.hbm, 16, rfl⟩
abbrev main_v2_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩

abbrev nD : Nat := 1
abbrev τ : Topo := Topo.v7x

variable {F : FTy → Type} [FloatOps F]
-- ==== Sticks.lean ====
abbrev S16384x5896 : Shape := ⟨2, ![16384, 5896]⟩
abbrev S16384x2048 : Shape := ⟨2, ![16384, 2048]⟩
abbrev S16384x8 : Shape := ⟨2, ![16384, 8]⟩
abbrev S_ : Shape := ⟨0, ![]⟩
abbrev S16384x248 : Shape := ⟨2, ![16384, 248]⟩
abbrev S16384x768 : Shape := ⟨2, ![16384, 768]⟩
abbrev S16384x3072 : Shape := ⟨2, ![16384, 3072]⟩
abbrev S16384x6144 : Shape := ⟨2, ![16384, 6144]⟩
abbrev S16384x256 : Shape := ⟨2, ![16384, 256]⟩
abbrev S512x128 : Shape := ⟨2, ![512, 128]⟩
abbrev S16384x128 : Shape := ⟨2, ![16384, 128]⟩
abbrev S256x1 : Shape := ⟨2, ![256, 1]⟩
abbrev S256x128 : Shape := ⟨2, ![256, 128]⟩
abbrev S1x128 : Shape := ⟨2, ![1, 128]⟩
abbrev S256x256 : Shape := ⟨2, ![256, 256]⟩
abbrev S256 : Shape := ⟨1, ![256]⟩
abbrev S1x256x1 : Shape := ⟨3, ![1, 256, 1]⟩
abbrev S1 : Shape := ⟨1, ![1]⟩
abbrev S1x1x1 : Shape := ⟨3, ![1, 1, 1]⟩

abbrev nBuf : Space → Nat
  | .hbm => 11
  | .vmem => 10
  | .smem => 0
  | _ => 0

abbrev bufTy : (tb : Table) → Fin (tcTables nBuf tb) → BufTy
  | .hbm, ⟨0, _⟩ => ⟨S16384x5896, .f32⟩
  | .hbm, ⟨1, _⟩ => ⟨S16384x2048, .f32⟩
  | .hbm, ⟨2, _⟩ => ⟨S16384x8, .f32⟩
  | .hbm, ⟨3, _⟩ => ⟨S_, .f32⟩
  | .hbm, ⟨4, _⟩ => ⟨S16384x248, .f32⟩
  | .hbm, ⟨5, _⟩ => ⟨S16384x768, .f32⟩
  | .hbm, ⟨6, _⟩ => ⟨S16384x3072, .f32⟩
  | .hbm, ⟨7, _⟩ => ⟨S16384x6144, .f32⟩
  | .hbm, ⟨8, _⟩ => ⟨S16384x6144, .bf16⟩
  | .hbm, ⟨9, _⟩ => ⟨S16384x256, .bf16⟩
  | .hbm, ⟨10, _⟩ => ⟨S16384x256, .f32⟩
  | .local _ .vmem, ⟨0, _⟩ => ⟨S512x128, .bf16⟩
  | .local _ .vmem, ⟨1, _⟩ => ⟨S512x128, .bf16⟩
  | .local _ .vmem, ⟨2, _⟩ => ⟨S16384x128, .bf16⟩
  | .local _ .vmem, ⟨3, _⟩ => ⟨S16384x128, .bf16⟩
  | .local _ .vmem, ⟨4, _⟩ => ⟨S16384x128, .bf16⟩
  | .local _ .vmem, ⟨5, _⟩ => ⟨S16384x128, .bf16⟩
  | .local _ .vmem, ⟨6, _⟩ => ⟨S512x128, .bf16⟩
  | .local _ .vmem, ⟨7, _⟩ => ⟨S512x128, .bf16⟩
  | .local _ .vmem, ⟨8, _⟩ => ⟨S512x128, .f32⟩
  | .local _ .vmem, ⟨9, _⟩ => ⟨S512x128, .f32⟩
  | _, _ => ⟨S16384x5896, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7_0 : Ref sig .tc := ⟨.hbm, 9, rfl⟩
abbrev main_v7_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 32], ![false, false]⟩

def k0_mult1 (i : grid0.Coords) : BitVec 32 :=
  let arg1 : BitVec 32 := BitVec.ofNat 32 (i 1).val
  let c2_i32 : BitVec 32 := 2#32
  let v2 : BitVec 32 := Scalar.muli arg1 c2_i32
  let c0_i32 : BitVec 32 := 0#32
  let v3 : BitVec 32 := Scalar.addi v2 c0_i32
  let c256_i32 : BitVec 32 := 256#32
  let v19 : BitVec 32 := Scalar.muli v3 c256_i32
  let c256_i32_5 : BitVec 32 := 256#32
  let v20 : BitVec 32 := Scalar.divsi v19 c256_i32_5
  let c256_i32_8 : BitVec 32 := 256#32
  let v35 : BitVec 32 := Scalar.muli v20 c256_i32_8
  v35
def k0_off1 (i : grid0.Coords) (c0_i32 : BitVec 32) : Fin 2 → Nat :=
  let arg1 : BitVec 32 := BitVec.ofNat 32 (i 1).val
  let c2_i32 : BitVec 32 := 2#32
  let v2 : BitVec 32 := Scalar.muli arg1 c2_i32
  let v3 : BitVec 32 := Scalar.addi v2 c0_i32
  let c256_i32 : BitVec 32 := 256#32
  let v19 : BitVec 32 := Scalar.muli v3 c256_i32
  let c256_i32_5 : BitVec 32 := 256#32
  let v20 : BitVec 32 := Scalar.divsi v19 c256_i32_5
  let c256_i32_8 : BitVec 32 := 256#32
  let v35 : BitVec 32 := Scalar.muli v20 c256_i32_8
  let v36 : BitVec 32 := v35
  let v37 : Index := Scalar.indexCast v36
  let c0_9 : Index := 0#32
  ![v37.toNat, 0]
def k0_mult2 (i : grid0.Coords) : BitVec 32 :=
  let arg1 : BitVec 32 := BitVec.ofNat 32 (i 1).val
  let c2_i32 : BitVec 32 := 2#32
  let v2 : BitVec 32 := Scalar.muli arg1 c2_i32
  let c0_i32 : BitVec 32 := 0#32
  let v3 : BitVec 32 := Scalar.addi v2 c0_i32
  let c256_i32 : BitVec 32 := 256#32
  let v19 : BitVec 32 := Scalar.muli v3 c256_i32
  let c256_i32_5 : BitVec 32 := 256#32
  let v20 : BitVec 32 := Scalar.divsi v19 c256_i32_5
  let c1_i32 : BitVec 32 := 1#32
  let v73 : BitVec 32 := Scalar.subi v20 c1_i32
  let c0_i32_21 : BitVec 32 := 0#32
  let v74 : BitVec 32 := Scalar.maxsi v73 c0_i32_21
  let c256_i32_23 : BitVec 32 := 256#32
  let v76 : BitVec 32 := Scalar.muli v74 c256_i32_23
  v76
def k0_off2 (i : grid0.Coords) (c0_i32 : BitVec 32) : Fin 2 → Nat :=
  let arg1 : BitVec 32 := BitVec.ofNat 32 (i 1).val
  let c2_i32 : BitVec 32 := 2#32
  let v2 : BitVec 32 := Scalar.muli arg1 c2_i32
  let v3 : BitVec 32 := Scalar.addi v2 c0_i32
  let c256_i32 : BitVec 32 := 256#32
  let v19 : BitVec 32 := Scalar.muli v3 c256_i32
  let c256_i32_5 : BitVec 32 := 256#32
  let v20 : BitVec 32 := Scalar.divsi v19 c256_i32_5
  let c1_i32 : BitVec 32 := 1#32
  let v73 : BitVec 32 := Scalar.subi v20 c1_i32
  let c0_i32_21 : BitVec 32 := 0#32
  let v74 : BitVec 32 := Scalar.maxsi v73 c0_i32_21
  let c256_i32_23 : BitVec 32 := 256#32
  let v76 : BitVec 32 := Scalar.muli v74 c256_i32_23
  let v77 : BitVec 32 := v76
  let v80 : Index := Scalar.indexCast v77
  let c0_25 : Index := 0#32
  ![v80.toNat, 0]
def k0_mult3 (i : grid0.Coords) : BitVec 32 :=
  let arg1 : BitVec 32 := BitVec.ofNat 32 (i 1).val
  let c2_i32 : BitVec 32 := 2#32
  let v2 : BitVec 32 := Scalar.muli arg1 c2_i32
  let c0_i32 : BitVec 32 := 0#32
  let v3 : BitVec 32 := Scalar.addi v2 c0_i32
  let c256_i32 : BitVec 32 := 256#32
  let v19 : BitVec 32 := Scalar.muli v3 c256_i32
  let c256_i32_5 : BitVec 32 := 256#32
  let v20 : BitVec 32 := Scalar.divsi v19 c256_i32_5
  let c256_i32_36 : BitVec 32 := 256#32
  let v114 : BitVec 32 := Scalar.muli v20 c256_i32_36
  v114
def k0_mult4 (i : grid0.Coords) : BitVec 32 :=
  let arg1 : BitVec 32 := BitVec.ofNat 32 (i 1).val
  let c2_i32 : BitVec 32 := 2#32
  let v2 : BitVec 32 := Scalar.muli arg1 c2_i32
  let c0_i32 : BitVec 32 := 0#32
  let v3 : BitVec 32 := Scalar.addi v2 c0_i32
  let c256_i32 : BitVec 32 := 256#32
  let v19 : BitVec 32 := Scalar.muli v3 c256_i32
  let c256_i32_5 : BitVec 32 := 256#32
  let v20 : BitVec 32 := Scalar.divsi v19 c256_i32_5
  let c1_i32_49 : BitVec 32 := 1#32
  let v152 : BitVec 32 := Scalar.subi v20 c1_i32_49
  let c0_i32_50 : BitVec 32 := 0#32
  let v153 : BitVec 32 := Scalar.maxsi v152 c0_i32_50
  let c256_i32_52 : BitVec 32 := 256#32
  let v155 : BitVec 32 := Scalar.muli v153 c256_i32_52
  v155
def k0_mult5 (i : grid0.Coords) : BitVec 32 :=
  let arg1 : BitVec 32 := BitVec.ofNat 32 (i 1).val
  let c2_i32_65 : BitVec 32 := 2#32
  let v193 : BitVec 32 := Scalar.muli arg1 c2_i32_65
  let c1_i32_66 : BitVec 32 := 1#32
  let v194 : BitVec 32 := Scalar.addi v193 c1_i32_66
  let c256_i32_72 : BitVec 32 := 256#32
  let v210 : BitVec 32 := Scalar.muli v194 c256_i32_72
  let c256_i32_73 : BitVec 32 := 256#32
  let v211 : BitVec 32 := Scalar.divsi v210 c256_i32_73
  let c256_i32_76 : BitVec 32 := 256#32
  let v226 : BitVec 32 := Scalar.muli v211 c256_i32_76
  v226
def k0_mult6 (i : grid0.Coords) : BitVec 32 :=
  let arg1 : BitVec 32 := BitVec.ofNat 32 (i 1).val
  let c2_i32_65 : BitVec 32 := 2#32
  let v193 : BitVec 32 := Scalar.muli arg1 c2_i32_65
  let c1_i32_66 : BitVec 32 := 1#32
  let v194 : BitVec 32 := Scalar.addi v193 c1_i32_66
  let c256_i32_72 : BitVec 32 := 256#32
  let v210 : BitVec 32 := Scalar.muli v194 c256_i32_72
  let c256_i32_73 : BitVec 32 := 256#32
  let v211 : BitVec 32 := Scalar.divsi v210 c256_i32_73
  let c1_i32_89 : BitVec 32 := 1#32
  let v264 : BitVec 32 := Scalar.subi v211 c1_i32_89
  let c0_i32_90 : BitVec 32 := 0#32
  let v265 : BitVec 32 := Scalar.maxsi v264 c0_i32_90
  let c256_i32_92 : BitVec 32 := 256#32
  let v267 : BitVec 32 := Scalar.muli v265 c256_i32_92
  v267
def k0_mult7 (i : grid0.Coords) : BitVec 32 :=
  let arg1 : BitVec 32 := BitVec.ofNat 32 (i 1).val
  let c2_i32_65 : BitVec 32 := 2#32
  let v193 : BitVec 32 := Scalar.muli arg1 c2_i32_65
  let c1_i32_66 : BitVec 32 := 1#32
  let v194 : BitVec 32 := Scalar.addi v193 c1_i32_66
  let c256_i32_72 : BitVec 32 := 256#32
  let v210 : BitVec 32 := Scalar.muli v194 c256_i32_72
  let c256_i32_73 : BitVec 32 := 256#32
  let v211 : BitVec 32 := Scalar.divsi v210 c256_i32_73
  let c256_i32_105 : BitVec 32 := 256#32
  let v305 : BitVec 32 := Scalar.muli v211 c256_i32_105
  v305
def k0_mult8 (i : grid0.Coords) : BitVec 32 :=
  let arg1 : BitVec 32 := BitVec.ofNat 32 (i 1).val
  let c2_i32_65 : BitVec 32 := 2#32
  let v193 : BitVec 32 := Scalar.muli arg1 c2_i32_65
  let c1_i32_66 : BitVec 32 := 1#32
  let v194 : BitVec 32 := Scalar.addi v193 c1_i32_66
  let c256_i32_72 : BitVec 32 := 256#32
  let v210 : BitVec 32 := Scalar.muli v194 c256_i32_72
  let c256_i32_73 : BitVec 32 := 256#32
  let v211 : BitVec 32 := Scalar.divsi v210 c256_i32_73
  let c1_i32_118 : BitVec 32 := 1#32
  let v343 : BitVec 32 := Scalar.subi v211 c1_i32_118
  let c0_i32_119 : BitVec 32 := 0#32
  let v344 : BitVec 32 := Scalar.maxsi v343 c0_i32_119
  let c256_i32_121 : BitVec 32 := 256#32
  let v346 : BitVec 32 := Scalar.muli v344 c256_i32_121
  v346
def k0_mult9 (arg7 : BitVec 32) : BitVec 32 :=
  let c256_i32_144 : BitVec 32 := 256#32
  let v400 : BitVec 32 := Scalar.muli arg7 c256_i32_144
  v400

def k0_off3 (arg7 : BitVec 32) : Fin 2 → Nat :=
  let c256_i32_144 : BitVec 32 := 256#32
  let v400 : BitVec 32 := Scalar.muli arg7 c256_i32_144
  let v401 : BitVec 32 := v400
  let v402 : Index := Scalar.indexCast v401
  let c0_145 : Index := 0#32
  ![v402.toNat, 0]
def k0_mult10 (arg7 : BitVec 32) : BitVec 32 :=
  let c256_i32_155 : BitVec 32 := 256#32
  let v434 : BitVec 32 := Scalar.muli arg7 c256_i32_155
  v434

def k0_chk1 (arg7 : BitVec 32) : Prop :=
  (256 ∣ (k0_mult9 arg7).toNat) ∧
  (∀ a, (k0_off3 arg7) a + S256x128.size a ≤ S16384x128.size a) ∧
  (256 ∣ (k0_mult10 arg7).toNat)
theorem k0_mult9_dvd : ∀ (arg7 : BitVec 32) (k0_hw1 : k0_chk1 arg7), 256 ∣ (k0_mult9 arg7).toNat := fun arg7 k0_hw1 => k0_hw1.1
theorem k0_off3_inb : ∀ (arg7 : BitVec 32) (k0_hw1 : k0_chk1 arg7), ∀ a, (k0_off3 arg7) a + S256x128.size a ≤ S16384x128.size a := fun arg7 k0_hw1 => k0_hw1.2.1
theorem k0_mult10_dvd : ∀ (arg7 : BitVec 32) (k0_hw1 : k0_chk1 arg7), 256 ∣ (k0_mult10 arg7).toNat := fun arg7 k0_hw1 => k0_hw1.2.2

def k0_mult11 (arg7 : BitVec 32) : BitVec 32 :=
  let c256_i32_144 : BitVec 32 := 256#32
  let v400 : BitVec 32 := Scalar.muli arg7 c256_i32_144
  v400

def k0_off4 (arg7 : BitVec 32) : Fin 2 → Nat :=
  let c256_i32_144 : BitVec 32 := 256#32
  let v400 : BitVec 32 := Scalar.muli arg7 c256_i32_144
  let v401 : BitVec 32 := v400
  let v402 : Index := Scalar.indexCast v401
  let c0_145 : Index := 0#32
  ![v402.toNat, 0]
def k0_mult12 (arg7 : BitVec 32) : BitVec 32 :=
  let c256_i32_155 : BitVec 32 := 256#32
  let v434 : BitVec 32 := Scalar.muli arg7 c256_i32_155
  v434

def k0_chk2 (arg7 : BitVec 32) : Prop :=
  (256 ∣ (k0_mult11 arg7).toNat) ∧
  (∀ a, (k0_off4 arg7) a + S256x128.size a ≤ S16384x128.size a) ∧
  (256 ∣ (k0_mult12 arg7).toNat)
theorem k0_mult11_dvd : ∀ (arg7 : BitVec 32) (k0_hw2 : k0_chk2 arg7), 256 ∣ (k0_mult11 arg7).toNat := fun arg7 k0_hw2 => k0_hw2.1
theorem k0_off4_inb : ∀ (arg7 : BitVec 32) (k0_hw2 : k0_chk2 arg7), ∀ a, (k0_off4 arg7) a + S256x128.size a ≤ S16384x128.size a := fun arg7 k0_hw2 => k0_hw2.2.1
theorem k0_mult12_dvd : ∀ (arg7 : BitVec 32) (k0_hw2 : k0_chk2 arg7), 256 ∣ (k0_mult12 arg7).toNat := fun arg7 k0_hw2 => k0_hw2.2.2

def cc0_transform_0 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16384x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16384x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== SticksIdeal.lean ====
variable {F : FTy → Type} [FloatOps F] [Named F]
def κ : String → Option EReal := fun
  | "cutoff" => some ⊥
  | _ => none
-- ==== SticksRefIdeal.lean ====
abbrev S16384x5896 : Shape := ⟨2, ![16384, 5896]⟩
abbrev S16384x256 : Shape := ⟨2, ![16384, 256]⟩
abbrev S16384x4x64 : Shape := ⟨3, ![16384, 4, 64]⟩
abbrev S4x16384x64 : Shape := ⟨3, ![4, 16384, 64]⟩
abbrev S4x16384x16384 : Shape := ⟨3, ![4, 16384, 16384]⟩
abbrev S_ : Shape := ⟨0, ![]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S1x16384x16384 : Shape := ⟨3, ![1, 16384, 16384]⟩

abbrev nBuf : Space → Nat
  | .hbm => 60
  | .vmem => 0
  | .smem => 0
  | _ => 0

abbrev bufTy : (tb : Table) → Fin (tcTables nBuf tb) → BufTy
  | .hbm, ⟨0, _⟩ => ⟨S16384x5896, .f32⟩
  | .hbm, ⟨1, _⟩ => ⟨S16384x256, .f32⟩
  | .hbm, ⟨2, _⟩ => ⟨S16384x256, .f32⟩
  | .hbm, ⟨3, _⟩ => ⟨S16384x256, .f32⟩
  | .hbm, ⟨4, _⟩ => ⟨S16384x4x64, .f32⟩
  | .hbm, ⟨5, _⟩ => ⟨S4x16384x64, .f32⟩
  | .hbm, ⟨6, _⟩ => ⟨S16384x4x64, .f32⟩
  | .hbm, ⟨7, _⟩ => ⟨S4x16384x64, .f32⟩
  | .hbm, ⟨8, _⟩ => ⟨S16384x4x64, .f32⟩
  | .hbm, ⟨9, _⟩ => ⟨S4x16384x64, .f32⟩
  | .hbm, ⟨10, _⟩ => ⟨S4x16384x16384, .f32⟩
  | .hbm, ⟨11, _⟩ => ⟨S_, .f32⟩
  | .hbm, ⟨12, _⟩ => ⟨S4x16384x16384, .f32⟩
  | .hbm, ⟨13, _⟩ => ⟨S4x16384x16384, .f32⟩
  | .hbm, ⟨14, _⟩ => ⟨S16384, .i32⟩
  | .hbm, ⟨15, _⟩ => ⟨S1x16384, .i32⟩
  | .hbm, ⟨16, _⟩ => ⟨S16384, .i32⟩
  | .hbm, ⟨17, _⟩ => ⟨S16384x1, .i32⟩
  | .hbm, ⟨18, _⟩ => ⟨S16384x16384, .i32⟩
  | .hbm, ⟨19, _⟩ => ⟨S16384x16384, .i32⟩
  | .hbm, ⟨20, _⟩ => ⟨S16384x16384, .i1⟩
  | .hbm, ⟨21, _⟩ => ⟨S1x16384x16384, .i1⟩
  | .hbm, ⟨22, _⟩ => ⟨S4x16384x16384, .f32⟩
  | .hbm, ⟨23, _⟩ => ⟨S4x16384x16384, .f32⟩
  | .hbm, ⟨24, _⟩ => ⟨S_, .f32⟩
  | .hbm, ⟨25, _⟩ => ⟨S4x16384x16384, .f32⟩
  | .hbm, ⟨26, _⟩ => ⟨S4x16384x16384, .f32⟩
  | .hbm, ⟨27, _⟩ => ⟨S4x16384x16384, .f32⟩
  | .hbm, ⟨28, _⟩ => ⟨S4x16384x16384, .f32⟩
  | .hbm, ⟨29, _⟩ => ⟨S4x16384x16384, .i1⟩
  | .hbm, ⟨30, _⟩ => ⟨S4x16384x16384, .f32⟩
  | .hbm, ⟨31, _⟩ => ⟨S4x16384x16384, .f32⟩
  | .hbm, ⟨32, _⟩ => ⟨S4x16384x16384, .f32⟩
  | .hbm, ⟨33, _⟩ => ⟨S4x16384x16384, .f32⟩
  | .hbm, ⟨34, _⟩ => ⟨S4x16384x16384, .f32⟩
  | .hbm, ⟨35, _⟩ => ⟨S4x16384x16384, .f32⟩
  | .hbm, ⟨36, _⟩ => ⟨S4x16384x16384, .f32⟩
  | .hbm, ⟨37, _⟩ => ⟨S4x16384x16384, .f32⟩
  | .hbm, ⟨38, _⟩ => ⟨S4x16384x16384, .f32⟩
  | .hbm, ⟨39, _⟩ => ⟨S_, .f32⟩
  | .hbm, ⟨40, _⟩ => ⟨S_, .f32⟩
  | .hbm, ⟨41, _⟩ => ⟨S4x16384x16384, .i1⟩
  | .hbm, ⟨42, _⟩ => ⟨S4x16384x16384, .f32⟩
  | .hbm, ⟨43, _⟩ => ⟨S4x16384x16384, .f32⟩
  | .hbm, ⟨44, _⟩ => ⟨S_, .f32⟩
  | .hbm, ⟨45, _⟩ => ⟨S_, .f32⟩
  | .hbm, ⟨46, _⟩ => ⟨S4x16384x16384, .f32⟩
  | .hbm, ⟨47, _⟩ => ⟨S4x16384x16384, .f32⟩
  | .hbm, ⟨48, _⟩ => ⟨S4x16384x16384, .f32⟩
  | .hbm, ⟨49, _⟩ => ⟨S4x16384x16384, .f32⟩
  | .hbm, ⟨50, _⟩ => ⟨S_, .f32⟩
  | .hbm, ⟨51, _⟩ => ⟨S_, .f32⟩
  | .hbm, ⟨52, _⟩ => ⟨S4x16384x16384, .i1⟩
  | .hbm, ⟨53, _⟩ => ⟨S4x16384x16384, .f32⟩
  | .hbm, ⟨54, _⟩ => ⟨S4x16384x16384, .f32⟩
  | .hbm, ⟨55, _⟩ => ⟨S4x16384x16384, .f32⟩
  | .hbm, ⟨56, _⟩ => ⟨S4x16384x64, .f32⟩
  | .hbm, ⟨57, _⟩ => ⟨S16384x4x64, .f32⟩
  | .hbm, ⟨58, _⟩ => ⟨S16384x256, .f32⟩
  | .hbm, ⟨59, _⟩ => ⟨S16384x256, .bf16⟩
  | _, _ => ⟨S16384x5896, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_cst : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_call0_v0 : Ref sig .tc := ⟨.hbm, 23, rfl⟩
abbrev main_call0_call0_cst : Ref sig .tc := ⟨.hbm, 24, rfl⟩
abbrev main_call0_call0_v0 : Ref sig .tc := ⟨.hbm, 25, rfl⟩
abbrev main_call0_call0_v1 : Ref sig .tc := ⟨.hbm, 26, rfl⟩
abbrev main_call0_call0_v2 : Ref sig .tc := ⟨.hbm, 27, rfl⟩
abbrev main_call0_call0_v3 : Ref sig .tc := ⟨.hbm, 28, rfl⟩
abbrev main_call0_call0_v4 : Ref sig .tc := ⟨.hbm, 29, rfl⟩
abbrev main_call0_call0_v5 : Ref sig .tc := ⟨.hbm, 30, rfl⟩
abbrev main_call0_call0_v6 : Ref sig .tc := ⟨.hbm, 31, rfl⟩
abbrev main_call0_call0_v7 : Ref sig .tc := ⟨.hbm, 32, rfl⟩
abbrev main_call0_call0_v8 : Ref sig .tc := ⟨.hbm, 33, rfl⟩
abbrev main_call0_call0_v9 : Ref sig .tc := ⟨.hbm, 34, rfl⟩
abbrev main_call0_call0_v10 : Ref sig .tc := ⟨.hbm, 35, rfl⟩
abbrev main_call0_call0_v11 : Ref sig .tc := ⟨.hbm, 36, rfl⟩
abbrev main_call0_v1 : Ref sig .tc := ⟨.hbm, 37, rfl⟩
abbrev main_v21 : Ref sig .tc := ⟨.hbm, 38, rfl⟩
abbrev main_cst_0 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_v22 : Ref sig .tc := ⟨.hbm, 43, rfl⟩
abbrev main_call2_cst : Ref sig .tc := ⟨.hbm, 44, rfl⟩
abbrev main_call2_v0 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_cst_1 : Ref sig .tc := ⟨.hbm, 50, rfl⟩
abbrev main_call3_v0 : Ref sig .tc := ⟨.hbm, 51, rfl⟩
abbrev main_call3_v1 : Ref sig .tc := ⟨.hbm, 52, rfl⟩
abbrev main_call3_v2 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩

abbrev nD : Nat := 1
abbrev τ : Topo := Topo.v7x

variable {F : FTy → Type} [FloatOps F]
-- ==== Merge.lean ====
abbrev S16384x5896 : Shape := ⟨2, ![16384, 5896]⟩
abbrev S16384x256 : Shape := ⟨2, ![16384, 256]⟩
abbrev S16384x512 : Shape := ⟨2, ![16384, 512]⟩
abbrev S256x1024 : Shape := ⟨2, ![256, 1024]⟩
abbrev S512x1024 : Shape := ⟨2, ![512, 1024]⟩
abbrev S16384x1024 : Shape := ⟨2, ![16384, 1024]⟩
abbrev S16384x2048 : Shape := ⟨2, ![16384, 2048]⟩
abbrev S16384x8 : Shape := ⟨2, ![16384, 8]⟩
abbrev S_ : Shape := ⟨0, ![]⟩
abbrev S16384x248 : Shape := ⟨2, ![16384, 248]⟩
abbrev S16384x768 : Shape := ⟨2, ![16384, 768]⟩
abbrev S16384x3072 : Shape := ⟨2, ![16384, 3072]⟩
abbrev S16384x6144 : Shape := ⟨2, ![16384, 6144]⟩
abbrev S512x256 : Shape := ⟨2, ![512, 256]⟩
abbrev S512x512 : Shape := ⟨2, ![512, 512]⟩
abbrev S512x3072 : Shape := ⟨2, ![512, 3072]⟩

abbrev nBuf : Space → Nat
  | .hbm => 31
  | .vmem => 28
  | .smem => 0
  | _ => 0

abbrev bufTy : (tb : Table) → Fin (tcTables nBuf tb) → BufTy
  | .hbm, ⟨0, _⟩ => ⟨S16384x5896, .f32⟩
  | .hbm, ⟨1, _⟩ => ⟨S16384x256, .f32⟩
  | .hbm, ⟨2, _⟩ => ⟨S16384x256, .f32⟩
  | .hbm, ⟨3, _⟩ => ⟨S16384x512, .f32⟩
  | .hbm, ⟨4, _⟩ => ⟨S256x1024, .f32⟩
  | .hbm, ⟨5, _⟩ => ⟨S256x1024, .f32⟩
  | .hbm, ⟨6, _⟩ => ⟨S512x1024, .f32⟩
  | .hbm, ⟨7, _⟩ => ⟨S16384x1024, .f32⟩
  | .hbm, ⟨8, _⟩ => ⟨S16384x2048, .f32⟩
  | .hbm, ⟨9, _⟩ => ⟨S16384x8, .f32⟩
  | .hbm, ⟨10, _⟩ => ⟨S_, .f32⟩
  | .hbm, ⟨11, _⟩ => ⟨S16384x248, .f32⟩
  | .hbm, ⟨12, _⟩ => ⟨S16384x768, .f32⟩
  | .hbm, ⟨13, _⟩ => ⟨S16384x3072, .f32⟩
  | .hbm, ⟨14, _⟩ => ⟨S16384x6144, .f32⟩
  | .hbm, ⟨15, _⟩ => ⟨S16384x6144, .bf16⟩
  | .hbm, ⟨16, _⟩ => ⟨S16384x256, .bf16⟩
  | .hbm, ⟨17, _⟩ => ⟨S16384x256, .bf16⟩
  | .hbm, ⟨18, _⟩ => ⟨S16384x512, .bf16⟩
  | .hbm, ⟨19, _⟩ => ⟨S256x1024, .bf16⟩
  | .hbm, ⟨20, _⟩ => ⟨S256x1024, .bf16⟩
  | .hbm, ⟨21, _⟩ => ⟨S512x1024, .bf16⟩
  | .hbm, ⟨22, _⟩ => ⟨S16384x1024, .bf16⟩
  | .hbm, ⟨23, _⟩ => ⟨S16384x6144, .bf16⟩
  | .hbm, ⟨24, _⟩ => ⟨S16384x256, .bf16⟩
  | .hbm, ⟨25, _⟩ => ⟨S16384x256, .bf16⟩
  | .hbm, ⟨26, _⟩ => ⟨S16384x512, .bf16⟩
  | .hbm, ⟨27, _⟩ => ⟨S256x1024, .f32⟩
  | .hbm, ⟨28, _⟩ => ⟨S256x1024, .f32⟩
  | .hbm, ⟨29, _⟩ => ⟨S512x1024, .f32⟩
  | .hbm, ⟨30, _⟩ => ⟨S16384x3072, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x256, .bf16⟩
  | .local _ .vmem, ⟨7, _⟩ => ⟨S512x256, .bf16⟩
  | .local _ .vmem, ⟨8, _⟩ => ⟨S512x256, .bf16⟩
  | .local _ .vmem, ⟨9, _⟩ => ⟨S512x256, .bf16⟩
  | .local _ .vmem, ⟨10, _⟩ => ⟨S512x512, .bf16⟩
  | .local _ .vmem, ⟨11, _⟩ => ⟨S512x512, .bf16⟩
  | .local _ .vmem, ⟨12, _⟩ => ⟨S256x1024, .bf16⟩
  | .local _ .vmem, ⟨13, _⟩ => ⟨S256x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x3072, .bf16⟩
  | .local _ .vmem, ⟨18, _⟩ => ⟨S512x3072, .bf16⟩
  | .local _ .vmem, ⟨19, _⟩ => ⟨S512x256, .bf16⟩
  | .local _ .vmem, ⟨20, _⟩ => ⟨S512x256, .bf16⟩
  | .local _ .vmem, ⟨21, _⟩ => ⟨S512x256, .bf16⟩
  | .local _ .vmem, ⟨22, _⟩ => ⟨S512x256, .bf16⟩
  | .local _ .vmem, ⟨23, _⟩ => ⟨S512x512, .bf16⟩
  | .local _ .vmem, ⟨24, _⟩ => ⟨S512x512, .bf16⟩
  | .local _ .vmem, ⟨25, _⟩ => ⟨S256x1024, .f32⟩
  | .local _ .vmem, ⟨26, _⟩ => ⟨S256x1024, .f32⟩
  | .local _ .vmem, ⟨27, _⟩ => ⟨S512x1024, .f32⟩
  | _, _ => ⟨S16384x5896, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14_0 : Ref sig .tc := ⟨.hbm, 23, rfl⟩
abbrev main_v14_1 : Ref sig .tc := ⟨.hbm, 24, rfl⟩
abbrev main_v14_2 : Ref sig .tc := ⟨.hbm, 25, rfl⟩
abbrev main_v14_3 : Ref sig .tc := ⟨.hbm, 26, rfl⟩
abbrev main_v14_4 : Ref sig .tc := ⟨.hbm, 27, rfl⟩
abbrev main_v14_5 : Ref sig .tc := ⟨.hbm, 28, rfl⟩
abbrev main_v14_6 : Ref sig .tc := ⟨.hbm, 29, rfl⟩
abbrev main_v15 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg15_0 : Ref sig .tc := ⟨.vmem, 26, rfl⟩
abbrev cc0_stg16_0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem15_0 : DmaSem sig := 26
abbrev cc0_sem16_0 : DmaSem sig := 27

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x3072 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S256x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S512x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== MergeRefIdeal.lean ====
abbrev S16384x5896 : Shape := ⟨2, ![16384, 5896]⟩
abbrev S16384x256 : Shape := ⟨2, ![16384, 256]⟩
abbrev S16384x512 : Shape := ⟨2, ![16384, 512]⟩
abbrev S256x1024 : Shape := ⟨2, ![256, 1024]⟩
abbrev S512x1024 : Shape := ⟨2, ![512, 1024]⟩
abbrev S16384x1024 : Shape := ⟨2, ![16384, 1024]⟩
abbrev S16384x3072 : Shape := ⟨2, ![16384, 3072]⟩
abbrev S_ : Shape := ⟨0, ![]⟩
abbrev S1024x512 : Shape := ⟨2, ![1024, 512]⟩
abbrev S1024x256 : Shape := ⟨2, ![1024, 256]⟩

abbrev nBuf : Space → Nat
  | .hbm => 81
  | .vmem => 0
  | .smem => 0
  | _ => 0

abbrev bufTy : (tb : Table) → Fin (tcTables nBuf tb) → BufTy
  | .hbm, ⟨0, _⟩ => ⟨S16384x5896, .f32⟩
  | .hbm, ⟨1, _⟩ => ⟨S16384x256, .f32⟩
  | .hbm, ⟨2, _⟩ => ⟨S16384x256, .f32⟩
  | .hbm, ⟨3, _⟩ => ⟨S16384x512, .f32⟩
  | .hbm, ⟨4, _⟩ => ⟨S256x1024, .f32⟩
  | .hbm, ⟨5, _⟩ => ⟨S256x1024, .f32⟩
  | .hbm, ⟨6, _⟩ => ⟨S512x1024, .f32⟩
  | .hbm, ⟨7, _⟩ => ⟨S16384x1024, .f32⟩
  | .hbm, ⟨8, _⟩ => ⟨S16384x3072, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S_, .f32⟩
  | .hbm, ⟨15, _⟩ => ⟨S16384x1024, .f32⟩
  | .hbm, ⟨16, _⟩ => ⟨S16384x1024, .f32⟩
  | .hbm, ⟨17, _⟩ => ⟨S_, .f32⟩
  | .hbm, ⟨18, _⟩ => ⟨S16384x1024, .f32⟩
  | .hbm, ⟨19, _⟩ => ⟨S16384x1024, .f32⟩
  | .hbm, ⟨20, _⟩ => ⟨S_, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S16384x1024, .f32⟩
  | .hbm, ⟨30, _⟩ => ⟨S16384x1024, .f32⟩
  | .hbm, ⟨31, _⟩ => ⟨S_, .f32⟩
  | .hbm, ⟨32, _⟩ => ⟨S16384x1024, .f32⟩
  | .hbm, ⟨33, _⟩ => ⟨S16384x1024, .f32⟩
  | .hbm, ⟨34, _⟩ => ⟨S_, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S_, .f32⟩
  | .hbm, ⟨44, _⟩ => ⟨S16384x1024, .f32⟩
  | .hbm, ⟨45, _⟩ => ⟨S16384x1024, .f32⟩
  | .hbm, ⟨46, _⟩ => ⟨S_, .f32⟩
  | .hbm, ⟨47, _⟩ => ⟨S16384x1024, .f32⟩
  | .hbm, ⟨48, _⟩ => ⟨S16384x1024, .f32⟩
  | .hbm, ⟨49, _⟩ => ⟨S_, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S16384x1024, .f32⟩
  | .hbm, ⟨56, _⟩ => ⟨S16384x1024, .f32⟩
  | .hbm, ⟨57, _⟩ => ⟨S16384x1024, .f32⟩
  | .hbm, ⟨58, _⟩ => ⟨S16384x1024, .f32⟩
  | .hbm, ⟨59, _⟩ => ⟨S16384x1024, .f32⟩
  | .hbm, ⟨60, _⟩ => ⟨S1024x512, .f32⟩
  | .hbm, ⟨61, _⟩ => ⟨S512x1024, .f32⟩
  | .hbm, ⟨62, _⟩ => ⟨S16384x512, .f32⟩
  | .hbm, ⟨63, _⟩ => ⟨S16384x1024, .f32⟩
  | .hbm, ⟨64, _⟩ => ⟨S16384x1024, .f32⟩
  | .hbm, ⟨65, _⟩ => ⟨S16384x1024, .f32⟩
  | .hbm, ⟨66, _⟩ => ⟨S1024x256, .f32⟩
  | .hbm, ⟨67, _⟩ => ⟨S256x1024, .f32⟩
  | .hbm, ⟨68, _⟩ => ⟨S16384x256, .f32⟩
  | .hbm, ⟨69, _⟩ => ⟨S16384x1024, .f32⟩
  | .hbm, ⟨70, _⟩ => ⟨S16384x1024, .f32⟩
  | .hbm, ⟨71, _⟩ => ⟨S16384x1024, .f32⟩
  | .hbm, ⟨72, _⟩ => ⟨S1024x256, .f32⟩
  | .hbm, ⟨73, _⟩ => ⟨S256x1024, .f32⟩
  | .hbm, ⟨74, _⟩ => ⟨S16384x256, .f32⟩
  | .hbm, ⟨75, _⟩ => ⟨S16384x1024, .f32⟩
  | .hbm, ⟨76, _⟩ => ⟨S16384x3072, .f32⟩
  | .hbm, ⟨77, _⟩ => ⟨S16384x3072, .bf16⟩
  | .hbm, ⟨78, _⟩ => ⟨S16384x256, .bf16⟩
  | .hbm, ⟨79, _⟩ => ⟨S16384x256, .bf16⟩
  | .hbm, ⟨80, _⟩ => ⟨S16384x512, .bf16⟩
  | _, _ => ⟨S16384x5896, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_5 : Ref sig .tc := ⟨.hbm, 43, rfl⟩
abbrev main_v29 : Ref sig .tc := ⟨.hbm, 44, rfl⟩
abbrev main_v30 : Ref sig .tc := ⟨.hbm, 45, rfl⟩
abbrev main_cst_6 : Ref sig .tc := ⟨.hbm, 46, rfl⟩
abbrev main_v31 : Ref sig .tc := ⟨.hbm, 47, rfl⟩
abbrev main_v32 : Ref sig .tc := ⟨.hbm, 48, rfl⟩
abbrev main_cst_7 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩

abbrev nD : Nat := 1
abbrev τ : Topo := Topo.v7x

variable {F : FTy → Type} [FloatOps F]
-- ==== Mid.lean ====
abbrev S16384x1024 : Shape := ⟨2, ![16384, 1024]⟩
abbrev S1x1024 : Shape := ⟨2, ![1, 1024]⟩
abbrev S512x1024 : Shape := ⟨2, ![512, 1024]⟩
abbrev S3x512x1024 : Shape := ⟨3, ![3, 512, 1024]⟩
abbrev S3 : Shape := ⟨1, ![3]⟩
abbrev S1 : Shape := ⟨1, ![1]⟩
abbrev S_ : Shape := ⟨0, ![]⟩
abbrev S1x512x1024 : Shape := ⟨3, ![1, 512, 1024]⟩
abbrev S512 : Shape := ⟨1, ![512]⟩
abbrev S512x1 : Shape := ⟨2, ![512, 1]⟩
abbrev S1024 : Shape := ⟨1, ![1024]⟩

abbrev nBuf : Space → Nat
  | .hbm => 18
  | .vmem => 18
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S16384x1024, .bf16⟩
  | .hbm, ⟨10, _⟩ => ⟨S16384x1024, .bf16⟩
  | .hbm, ⟨11, _⟩ => ⟨S16384x1024, .f32⟩
  | .hbm, ⟨12, _⟩ => ⟨S16384x1024, .bf16⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .bf16⟩
  | .local _ .vmem, ⟨8, _⟩ => ⟨S512x1024, .bf16⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S3x512x1024, .f32⟩
  | .local _ .vmem, ⟨15, _⟩ => ⟨S3x512x1024, .bf16⟩
  | .local _ .vmem, ⟨16, _⟩ => ⟨S3x512x1024, .f32⟩
  | .local _ .vmem, ⟨17, _⟩ => ⟨S3x512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2_0 : Ref sig .tc := ⟨.hbm, 11, rfl⟩
abbrev main_v2_1 : Ref sig .tc := ⟨.hbm, 12, rfl⟩
abbrev main_v2_2 : Ref sig .tc := ⟨.hbm, 13, rfl⟩
abbrev main_v2_3 : Ref sig .tc := ⟨.hbm, 14, rfl⟩
abbrev main_v2_4 : Ref sig .tc := ⟨.hbm, 15, rfl⟩
abbrev main_v2_5 : Ref sig .tc := ⟨.hbm, 16, rfl⟩
abbrev main_v2_6 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_mult1 : BitVec 32 :=
  let c0_i32_90 : BitVec 32 := 0#32
  c0_i32_90
def k0_off1 (c0_i32_91 : BitVec 32) : Fin 1 → Nat :=
  let c3_i32_92 : BitVec 32 := 3#32
  let v159 : BitVec 32 := Scalar.remsi c0_i32_91 c3_i32_92
  ![v159.toNat]
def k0_off2 (c0_i32_91 : BitVec 32) : Fin 3 → Nat :=
  let c3_i32_92 : BitVec 32 := 3#32
  let v159 : BitVec 32 := Scalar.remsi c0_i32_91 c3_i32_92
  let c0_i32_93 : BitVec 32 := 0#32
  let c0_i32_94 : BitVec 32 := 0#32
  ![v159.toNat, 0, 0]
def k0_mult2 : BitVec 32 :=
  let c0_i32_96 : BitVec 32 := 0#32
  c0_i32_96
def k0_mult3 : BitVec 32 :=
  let c0_i32_102 : BitVec 32 := 0#32
  c0_i32_102
def k0_mult4 : BitVec 32 :=
  let c0_i32_108 : BitVec 32 := 0#32
  c0_i32_108
def k0_mult5 : BitVec 32 :=
  let c512_i32_114 : BitVec 32 := 512#32
  c512_i32_114
def k0_mult6 : BitVec 32 :=
  let c512_i32_120 : BitVec 32 := 512#32
  c512_i32_120
def k0_mult7 : BitVec 32 :=
  let c512_i32_126 : BitVec 32 := 512#32
  c512_i32_126
def k0_mult8 : BitVec 32 :=
  let c512_i32_132 : BitVec 32 := 512#32
  c512_i32_132
def k0_cond2 (i : grid0.Coords) : BitVec 1 :=
  let arg0 : BitVec 32 := BitVec.ofNat 32 (i 0).val
  let c3_i32 : BitVec 32 := 3#32
  let v3 : BitVec 32 := Scalar.addi arg0 c3_i32
  let c1_i32 : BitVec 32 := 1#32
  let v4 : BitVec 32 := Scalar.subi v3 c1_i32
  let c32_i32 : BitVec 32 := 32#32
  let v5 : BitVec 1 := Scalar.cmpi .slt v4 c32_i32
  let v6 : BitVec 32 := Scalar.extui v5
  let c0_i32_1 : BitVec 32 := 0#32
  let v7 : BitVec 1 := Scalar.cmpi .ne v6 c0_i32_1
  v7

def k0_mult9 (i : grid0.Coords) : BitVec 32 :=
  let arg0 : BitVec 32 := BitVec.ofNat 32 (i 0).val
  let c3_i32_75 : BitVec 32 := 3#32
  let v148 : BitVec 32 := Scalar.addi arg0 c3_i32_75
  let c1_i32_76 : BitVec 32 := 1#32
  let v149 : BitVec 32 := Scalar.subi v148 c1_i32_76
  let c512_i32_77 : BitVec 32 := 512#32
  let v150 : BitVec 32 := Scalar.muli v149 c512_i32_77
  v150
def k0_off3 (i : grid0.Coords) : Fin 1 → Nat :=
  let arg0 : BitVec 32 := BitVec.ofNat 32 (i 0).val
  let c3_i32_75 : BitVec 32 := 3#32
  let v148 : BitVec 32 := Scalar.addi arg0 c3_i32_75
  let c1_i32_76 : BitVec 32 := 1#32
  let v149 : BitVec 32 := Scalar.subi v148 c1_i32_76
  let c3_i32_78 : BitVec 32 := 3#32
  let v152 : BitVec 32 := Scalar.remsi v149 c3_i32_78
  ![v152.toNat]
def k0_off4 (i : grid0.Coords) : Fin 3 → Nat :=
  let arg0 : BitVec 32 := BitVec.ofNat 32 (i 0).val
  let c3_i32_75 : BitVec 32 := 3#32
  let v148 : BitVec 32 := Scalar.addi arg0 c3_i32_75
  let c1_i32_76 : BitVec 32 := 1#32
  let v149 : BitVec 32 := Scalar.subi v148 c1_i32_76
  let c3_i32_78 : BitVec 32 := 3#32
  let v152 : BitVec 32 := Scalar.remsi v149 c3_i32_78
  let c0_i32_79 : BitVec 32 := 0#32
  let c0_i32_80 : BitVec 32 := 0#32
  ![v152.toNat, 0, 0]
def k0_off5 (i : grid0.Coords) : Fin 2 → Nat :=
  let arg0 : BitVec 32 := BitVec.ofNat 32 (i 0).val
  let c3_i32_75 : BitVec 32 := 3#32
  let v148 : BitVec 32 := Scalar.addi arg0 c3_i32_75
  let c1_i32_76 : BitVec 32 := 1#32
  let v149 : BitVec 32 := Scalar.subi v148 c1_i32_76
  let c512_i32_77 : BitVec 32 := 512#32
  let v150 : BitVec 32 := Scalar.muli v149 c512_i32_77
  let v151 : BitVec 32 := v150
  let c0_i32_81 : BitVec 32 := 0#32
  ![v151.toNat, 0]
def k0_mult10 (i : grid0.Coords) : BitVec 32 :=
  let arg0 : BitVec 32 := BitVec.ofNat 32 (i 0).val
  let c3_i32_82 : BitVec 32 := 3#32
  let v158 : BitVec 32 := Scalar.addi arg0 c3_i32_82
  let c1_i32_83 : BitVec 32 := 1#32
  let v159 : BitVec 32 := Scalar.subi v158 c1_i32_83
  let c512_i32_84 : BitVec 32 := 512#32
  let v160 : BitVec 32 := Scalar.muli v159 c512_i32_84
  v160
def k0_mult11 (i : grid0.Coords) : BitVec 32 :=
  let arg0 : BitVec 32 := BitVec.ofNat 32 (i 0).val
  let c3_i32_89 : BitVec 32 := 3#32
  let v168 : BitVec 32 := Scalar.addi arg0 c3_i32_89
  let c1_i32_90 : BitVec 32 := 1#32
  let v169 : BitVec 32 := Scalar.subi v168 c1_i32_90
  let c512_i32_91 : BitVec 32 := 512#32
  let v170 : BitVec 32 := Scalar.muli v169 c512_i32_91
  v170
def k0_mult12 (i : grid0.Coords) : BitVec 32 :=
  let arg0 : BitVec 32 := BitVec.ofNat 32 (i 0).val
  let c3_i32_96 : BitVec 32 := 3#32
  let v178 : BitVec 32 := Scalar.addi arg0 c3_i32_96
  let c1_i32_97 : BitVec 32 := 1#32
  let v179 : BitVec 32 := Scalar.subi v178 c1_i32_97
  let c512_i32_98 : BitVec 32 := 512#32
  let v180 : BitVec 32 := Scalar.muli v179 c512_i32_98
  v180
def k0_mult13 (i : grid0.Coords) : BitVec 32 :=
  let arg0 : BitVec 32 := BitVec.ofNat 32 (i 0).val
  let c512_i32 : BitVec 32 := 512#32
  let v8 : BitVec 32 := Scalar.muli arg0 c512_i32
  v8
def k0_off6 (i : grid0.Coords) : Fin 1 → Nat :=
  let arg0 : BitVec 32 := BitVec.ofNat 32 (i 0).val
  let c3_i32_2 : BitVec 32 := 3#32
  let v10 : BitVec 32 := Scalar.remsi arg0 c3_i32_2
  ![v10.toNat]
def k0_off7 (i : grid0.Coords) : Fin 3 → Nat :=
  let arg0 : BitVec 32 := BitVec.ofNat 32 (i 0).val
  let c3_i32_2 : BitVec 32 := 3#32
  let v10 : BitVec 32 := Scalar.remsi arg0 c3_i32_2
  let c0_i32_3 : BitVec 32 := 0#32
  let c0_i32_4 : BitVec 32 := 0#32
  ![v10.toNat, 0, 0]
def k0_off8 (i : grid0.Coords) : Fin 2 → Nat :=
  let arg0 : BitVec 32 := BitVec.ofNat 32 (i 0).val
  let c512_i32 : BitVec 32 := 512#32
  let v8 : BitVec 32 := Scalar.muli arg0 c512_i32
  let v9 : BitVec 32 := v8
  let c0_i32_5 : BitVec 32 := 0#32
  ![v9.toNat, 0]
def k0_mult14 (i : grid0.Coords) : BitVec 32 :=
  let arg0 : BitVec 32 := BitVec.ofNat 32 (i 0).val
  let c512_i32_6 : BitVec 32 := 512#32
  let v16 : BitVec 32 := Scalar.muli arg0 c512_i32_6
  v16
def k0_mult15 (i : grid0.Coords) : BitVec 32 :=
  let arg0 : BitVec 32 := BitVec.ofNat 32 (i 0).val
  let c512_i32_11 : BitVec 32 := 512#32
  let v24 : BitVec 32 := Scalar.muli arg0 c512_i32_11
  v24
def k0_mult16 (i : grid0.Coords) : BitVec 32 :=
  let arg0 : BitVec 32 := BitVec.ofNat 32 (i 0).val
  let c512_i32_16 : BitVec 32 := 512#32
  let v32 : BitVec 32 := Scalar.muli arg0 c512_i32_16
  v32
def k0_off9 (i : grid0.Coords) : Fin 3 → Nat :=
  let arg0 : BitVec 32 := BitVec.ofNat 32 (i 0).val
  let c3_i32_21 : BitVec 32 := 3#32
  let v40 : BitVec 32 := Scalar.remsi arg0 c3_i32_21
  let v41 : Index := Scalar.indexCast v40
  let c0 : Index := 0#32
  let c0_22 : Index := 0#32
  ![v41.toNat, 0, 0]
def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== MidRefIdeal.lean ====
abbrev S16384x1024 : Shape := ⟨2, ![16384, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S1024 : Shape := ⟨1, ![1024]⟩

abbrev nBuf : Space → Nat
  | .hbm => 122
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S16384x1024, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S_, .f32⟩
  | .hbm, ⟨33, _⟩ => ⟨S16384, .f32⟩
  | .hbm, ⟨34, _⟩ => ⟨S16384x1, .f32⟩
  | .hbm, ⟨35, _⟩ => ⟨S_, .f32⟩
  | .hbm, ⟨36, _⟩ => ⟨S16384x1, .f32⟩
  | .hbm, ⟨37, _⟩ => ⟨S16384x1, .f32⟩
  | .hbm, ⟨38, _⟩ => ⟨S_, .f32⟩
  | .hbm, ⟨39, _⟩ => ⟨S16384x1, .f32⟩
  | .hbm, ⟨40, _⟩ => ⟨S16384x1, .f32⟩
  | .hbm, ⟨41, _⟩ => ⟨S16384x1, .f32⟩
  | .hbm, ⟨42, _⟩ => ⟨S16384x1, .f32⟩
  | .hbm, ⟨43, _⟩ => ⟨S_, .f32⟩
  | .hbm, ⟨44, _⟩ => ⟨S16384x1, .f32⟩
  | .hbm, ⟨45, _⟩ => ⟨S16384x1, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S_, .f32⟩
  | .hbm, ⟨51, _⟩ => ⟨S1x1024, .f32⟩
  | .hbm, ⟨52, _⟩ => ⟨S1x1024, .f32⟩
  | .hbm, ⟨53, _⟩ => ⟨S16384x1024, .f32⟩
  | .hbm, ⟨54, _⟩ => ⟨S16384x1024, .f32⟩
  | .hbm, ⟨55, _⟩ => ⟨S16384x1024, .f32⟩
  | .hbm, ⟨56, _⟩ => ⟨S16384x1024, .f32⟩
  | .hbm, ⟨57, _⟩ => ⟨S16384x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S16384x1024, .f32⟩
  | .hbm, ⟨62, _⟩ => ⟨S_, .f32⟩
  | .hbm, ⟨63, _⟩ => ⟨S1024, .f32⟩
  | .hbm, ⟨64, _⟩ => ⟨S1x1024, .f32⟩
  | .hbm, ⟨65, _⟩ => ⟨S16384x1024, .f32⟩
  | .hbm, ⟨66, _⟩ => ⟨S16384x1024, .f32⟩
  | .hbm, ⟨67, _⟩ => ⟨S16384x1024, .f32⟩
  | .hbm, ⟨68, _⟩ => ⟨S_, .f32⟩
  | .hbm, ⟨69, _⟩ => ⟨S1024, .f32⟩
  | .hbm, ⟨70, _⟩ => ⟨S1x1024, .f32⟩
  | .hbm, ⟨71, _⟩ => ⟨S16384x1024, .f32⟩
  | .hbm, ⟨72, _⟩ => ⟨S16384x1024, .f32⟩
  | .hbm, ⟨73, _⟩ => ⟨S16384x1024, .f32⟩
  | .hbm, ⟨74, _⟩ => ⟨S_, .f32⟩
  | .hbm, ⟨75, _⟩ => ⟨S16384, .f32⟩
  | .hbm, ⟨76, _⟩ => ⟨S16384x1, .f32⟩
  | .hbm, ⟨77, _⟩ => ⟨S16384x1024, .f32⟩
  | .hbm, ⟨78, _⟩ => ⟨S16384x1024, .f32⟩
  | .hbm, ⟨79, _⟩ => ⟨S16384x1024, .f32⟩
  | .hbm, ⟨80, _⟩ => ⟨S16384x1, .f32⟩
  | .hbm, ⟨81, _⟩ => ⟨S_, .f32⟩
  | .hbm, ⟨82, _⟩ => ⟨S16384x1, .f32⟩
  | .hbm, ⟨83, _⟩ => ⟨S16384x1, .f32⟩
  | .hbm, ⟨84, _⟩ => ⟨S_, .f32⟩
  | .hbm, ⟨85, _⟩ => ⟨S16384, .f32⟩
  | .hbm, ⟨86, _⟩ => ⟨S16384x1024, .f32⟩
  | .hbm, ⟨87, _⟩ => ⟨S16384x1024, .f32⟩
  | .hbm, ⟨88, _⟩ => ⟨S16384x1024, .f32⟩
  | .hbm, ⟨89, _⟩ => ⟨S16384x1024, .f32⟩
  | .hbm, ⟨90, _⟩ => ⟨S16384x1024, .f32⟩
  | .hbm, ⟨91, _⟩ => ⟨S16384x1024, .f32⟩
  | .hbm, ⟨92, _⟩ => ⟨S16384x1024, .f32⟩
  | .hbm, ⟨93, _⟩ => ⟨S16384x1024, .f32⟩
  | .hbm, ⟨94, _⟩ => ⟨S16384x1024, .f32⟩
  | .hbm, ⟨95, _⟩ => ⟨S_, .f32⟩
  | .hbm, ⟨96, _⟩ => ⟨S1024, .f32⟩
  | .hbm, ⟨97, _⟩ => ⟨S1x1024, .f32⟩
  | .hbm, ⟨98, _⟩ => ⟨S16384x1024, .f32⟩
  | .hbm, ⟨99, _⟩ => ⟨S_, .f32⟩
  | .hbm, ⟨100, _⟩ => ⟨S1024, .f32⟩
  | .hbm, ⟨101, _⟩ => ⟨S1x1024, .f32⟩
  | .hbm, ⟨102, _⟩ => ⟨S16384x1024, .f32⟩
  | .hbm, ⟨103, _⟩ => ⟨S16384x1024, .f32⟩
  | .hbm, ⟨104, _⟩ => ⟨S16384x1024, .f32⟩
  | .hbm, ⟨105, _⟩ => ⟨S_, .f32⟩
  | .hbm, ⟨106, _⟩ => ⟨S16384, .f32⟩
  | .hbm, ⟨107, _⟩ => ⟨S16384x1, .f32⟩
  | .hbm, ⟨108, _⟩ => ⟨S16384x1024, .f32⟩
  | .hbm, ⟨109, _⟩ => ⟨S16384x1024, .f32⟩
  | .hbm, ⟨110, _⟩ => ⟨S16384x1, .f32⟩
  | .hbm, ⟨111, _⟩ => ⟨S_, .f32⟩
  | .hbm, ⟨112, _⟩ => ⟨S16384x1, .f32⟩
  | .hbm, ⟨113, _⟩ => ⟨S16384x1, .f32⟩
  | .hbm, ⟨114, _⟩ => ⟨S_, .f32⟩
  | .hbm, ⟨115, _⟩ => ⟨S16384, .f32⟩
  | .hbm, ⟨116, _⟩ => ⟨S16384x1024, .f32⟩
  | .hbm, ⟨117, _⟩ => ⟨S16384x1024, .f32⟩
  | .hbm, ⟨118, _⟩ => ⟨S16384x1024, .f32⟩
  | .hbm, ⟨119, _⟩ => ⟨S16384x1024, .f32⟩
  | .hbm, ⟨120, _⟩ => ⟨S16384x1024, .f32⟩
  | .hbm, ⟨121, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_8 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_10 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_11 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_12 : Ref sig .tc := ⟨.hbm, 81, rfl⟩
abbrev main_v59 : Ref sig .tc := ⟨.hbm, 82, rfl⟩
abbrev main_v60 : Ref sig .tc := ⟨.hbm, 83, rfl⟩
abbrev main_cst_13 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_cst_14 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_cst_15 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_cst_16 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_cst_17 : Ref sig .tc := ⟨.hbm, 111, rfl⟩
abbrev main_v84 : Ref sig .tc := ⟨.hbm, 112, rfl⟩
abbrev main_v85 : Ref sig .tc := ⟨.hbm, 113, rfl⟩
abbrev main_cst_18 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩

abbrev nD : Nat := 1
abbrev τ : Topo := Topo.v7x

variable {F : FTy → Type} [FloatOps F]
-- ==== AdalnOut.lean ====
abbrev S16384x1024 : Shape := ⟨2, ![16384, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 5
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S512x1024, .bf16⟩
  | .local _ .vmem, ⟨6, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== AdalnOutRefIdeal.lean ====
abbrev S16384x1024 : Shape := ⟨2, ![16384, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩

abbrev nBuf : Space → Nat
  | .hbm => 27
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== ConvOut.lean ====
abbrev S16384x5896 : Shape := ⟨2, ![16384, 5896]⟩
abbrev S4x768 : Shape := ⟨2, ![4, 768]⟩
abbrev S1x768 : Shape := ⟨2, ![1, 768]⟩
abbrev S16384x2048 : Shape := ⟨2, ![16384, 2048]⟩
abbrev S16384x8 : Shape := ⟨2, ![16384, 8]⟩
abbrev S_ : Shape := ⟨0, ![]⟩
abbrev S16384x248 : Shape := ⟨2, ![16384, 248]⟩
abbrev S16384x768 : Shape := ⟨2, ![16384, 768]⟩
abbrev S16384x3072 : Shape := ⟨2, ![16384, 3072]⟩
abbrev S16384x6144 : Shape := ⟨2, ![16384, 6144]⟩
abbrev S512x768 : Shape := ⟨2, ![512, 768]⟩
abbrev S16x768 : Shape := ⟨2, ![16, 768]⟩

abbrev nBuf : Space → Nat
  | .hbm => 12
  | .vmem => 8
  | .smem => 0
  | _ => 0

abbrev bufTy : (tb : Table) → Fin (tcTables nBuf tb) → BufTy
  | .hbm, ⟨0, _⟩ => ⟨S16384x5896, .f32⟩
  | .hbm, ⟨1, _⟩ => ⟨S4x768, .f32⟩
  | .hbm, ⟨2, _⟩ => ⟨S1x768, .f32⟩
  | .hbm, ⟨3, _⟩ => ⟨S16384x2048, .f32⟩
  | .hbm, ⟨4, _⟩ => ⟨S16384x8, .f32⟩
  | .hbm, ⟨5, _⟩ => ⟨S_, .f32⟩
  | .hbm, ⟨6, _⟩ => ⟨S16384x248, .f32⟩
  | .hbm, ⟨7, _⟩ => ⟨S16384x768, .f32⟩
  | .hbm, ⟨8, _⟩ => ⟨S16384x3072, .f32⟩
  | .hbm, ⟨9, _⟩ => ⟨S16384x6144, .f32⟩
  | .hbm, ⟨10, _⟩ => ⟨S16384x6144, .bf16⟩
  | .hbm, ⟨11, _⟩ => ⟨S16384x768, .f32⟩
  | .local _ .vmem, ⟨0, _⟩ => ⟨S512x768, .bf16⟩
  | .local _ .vmem, ⟨1, _⟩ => ⟨S512x768, .bf16⟩
  | .local _ .vmem, ⟨2, _⟩ => ⟨S16x768, .bf16⟩
  | .local _ .vmem, ⟨3, _⟩ => ⟨S16x768, .bf16⟩
  | .local _ .vmem, ⟨4, _⟩ => ⟨S4x768, .f32⟩
  | .local _ .vmem, ⟨5, _⟩ => ⟨S1x768, .f32⟩
  | .local _ .vmem, ⟨6, _⟩ => ⟨S512x768, .f32⟩
  | .local _ .vmem, ⟨7, _⟩ => ⟨S512x768, .f32⟩
  | _, _ => ⟨S16384x5896, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c3_i32 : BitVec 32 := 3#32
  let c0_i32_0 : BitVec 32 := 0#32
  ![v2.toNat, c3_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ConvOutRefIdeal.lean ====
abbrev S16384x5896 : Shape := ⟨2, ![16384, 5896]⟩
abbrev S4x768 : Shape := ⟨2, ![4, 768]⟩
abbrev S1x768 : Shape := ⟨2, ![1, 768]⟩
abbrev S16384x768 : Shape := ⟨2, ![16384, 768]⟩
abbrev S_ : Shape := ⟨0, ![]⟩
abbrev S3x768 : Shape := ⟨2, ![3, 768]⟩
abbrev S16387x768 : Shape := ⟨2, ![16387, 768]⟩

abbrev nBuf : Space → Nat
  | .hbm => 31
  | .vmem => 0
  | .smem => 0
  | _ => 0

abbrev bufTy : (tb : Table) → Fin (tcTables nBuf tb) → BufTy
  | .hbm, ⟨0, _⟩ => ⟨S16384x5896, .f32⟩
  | .hbm, ⟨1, _⟩ => ⟨S4x768, .f32⟩
  | .hbm, ⟨2, _⟩ => ⟨S1x768, .f32⟩
  | .hbm, ⟨3, _⟩ => ⟨S16384x768, .f32⟩
  | .hbm, ⟨4, _⟩ => ⟨S_, .f32⟩
  | .hbm, ⟨5, _⟩ => ⟨S3x768, .f32⟩
  | .hbm, ⟨6, _⟩ => ⟨S16387x768, .f32⟩
  | .hbm, ⟨7, _⟩ => ⟨S1x768, .f32⟩
  | .hbm, ⟨8, _⟩ => ⟨S16384x768, .f32⟩
  | .hbm, ⟨9, _⟩ => ⟨S16384x768, .f32⟩
  | .hbm, ⟨10, _⟩ => ⟨S16384x768, .f32⟩
  | .hbm, ⟨11, _⟩ => ⟨S_, .f32⟩
  | .hbm, ⟨12, _⟩ => ⟨S16384x768, .f32⟩
  | .hbm, ⟨13, _⟩ => ⟨S16384x768, .f32⟩
  | .hbm, ⟨14, _⟩ => ⟨S1x768, .f32⟩
  | .hbm, ⟨15, _⟩ => ⟨S16384x768, .f32⟩
  | .hbm, ⟨16, _⟩ => ⟨S16384x768, .f32⟩
  | .hbm, ⟨17, _⟩ => ⟨S16384x768, .f32⟩
  | .hbm, ⟨18, _⟩ => ⟨S16384x768, .f32⟩
  | .hbm, ⟨19, _⟩ => ⟨S1x768, .f32⟩
  | .hbm, ⟨20, _⟩ => ⟨S16384x768, .f32⟩
  | .hbm, ⟨21, _⟩ => ⟨S16384x768, .f32⟩
  | .hbm, ⟨22, _⟩ => ⟨S16384x768, .f32⟩
  | .hbm, ⟨23, _⟩ => ⟨S16384x768, .f32⟩
  | .hbm, ⟨24, _⟩ => ⟨S1x768, .f32⟩
  | .hbm, ⟨25, _⟩ => ⟨S16384x768, .f32⟩
  | .hbm, ⟨26, _⟩ => ⟨S16384x768, .f32⟩
  | .hbm, ⟨27, _⟩ => ⟨S16384x768, .f32⟩
  | .hbm, ⟨28, _⟩ => ⟨S16384x768, .f32⟩
  | .hbm, ⟨29, _⟩ => ⟨S16384x768, .f32⟩
  | .hbm, ⟨30, _⟩ => ⟨S16384x768, .f32⟩
  | _, _ => ⟨S16384x5896, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩

abbrev nD : Nat := 1
abbrev τ : Topo := Topo.v7x

variable {F : FTy → Type} [FloatOps F]
-- ==== ShortOut.lean ====
abbrev S16384x5896 : Shape := ⟨2, ![16384, 5896]⟩
abbrev S3x256 : Shape := ⟨2, ![3, 256]⟩
abbrev S16384x2048 : Shape := ⟨2, ![16384, 2048]⟩
abbrev S16384x8 : Shape := ⟨2, ![16384, 8]⟩
abbrev S_ : Shape := ⟨0, ![]⟩
abbrev S16384x248 : Shape := ⟨2, ![16384, 248]⟩
abbrev S16384x768 : Shape := ⟨2, ![16384, 768]⟩
abbrev S16384x3072 : Shape := ⟨2, ![16384, 3072]⟩
abbrev S16384x6144 : Shape := ⟨2, ![16384, 6144]⟩
abbrev S16384x256 : Shape := ⟨2, ![16384, 256]⟩
abbrev S512x768 : Shape := ⟨2, ![512, 768]⟩
abbrev S16x768 : Shape := ⟨2, ![16, 768]⟩
abbrev S512x256 : Shape := ⟨2, ![512, 256]⟩
abbrev S16x256 : Shape := ⟨2, ![16, 256]⟩
abbrev S1x256 : Shape := ⟨2, ![1, 256]⟩

abbrev nBuf : Space → Nat
  | .hbm => 11
  | .vmem => 7
  | .smem => 0
  | _ => 0

abbrev bufTy : (tb : Table) → Fin (tcTables nBuf tb) → BufTy
  | .hbm, ⟨0, _⟩ => ⟨S16384x5896, .f32⟩
  | .hbm, ⟨1, _⟩ => ⟨S3x256, .f32⟩
  | .hbm, ⟨2, _⟩ => ⟨S16384x2048, .f32⟩
  | .hbm, ⟨3, _⟩ => ⟨S16384x8, .f32⟩
  | .hbm, ⟨4, _⟩ => ⟨S_, .f32⟩
  | .hbm, ⟨5, _⟩ => ⟨S16384x248, .f32⟩
  | .hbm, ⟨6, _⟩ => ⟨S16384x768, .f32⟩
  | .hbm, ⟨7, _⟩ => ⟨S16384x3072, .f32⟩
  | .hbm, ⟨8, _⟩ => ⟨S16384x6144, .f32⟩
  | .hbm, ⟨9, _⟩ => ⟨S16384x6144, .bf16⟩
  | .hbm, ⟨10, _⟩ => ⟨S16384x256, .bf16⟩
  | .local _ .vmem, ⟨0, _⟩ => ⟨S512x768, .bf16⟩
  | .local _ .vmem, ⟨1, _⟩ => ⟨S512x768, .bf16⟩
  | .local _ .vmem, ⟨2, _⟩ => ⟨S16x768, .bf16⟩
  | .local _ .vmem, ⟨3, _⟩ => ⟨S16x768, .bf16⟩
  | .local _ .vmem, ⟨4, _⟩ => ⟨S3x256, .f32⟩
  | .local _ .vmem, ⟨5, _⟩ => ⟨S512x256, .bf16⟩
  | .local _ .vmem, ⟨6, _⟩ => ⟨S512x256, .bf16⟩
  | _, _ => ⟨S16384x5896, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ShortOutRefIdeal.lean ====
abbrev S16384x5896 : Shape := ⟨2, ![16384, 5896]⟩
abbrev S3x256 : Shape := ⟨2, ![3, 256]⟩
abbrev S16384x768 : Shape := ⟨2, ![16384, 768]⟩
abbrev S16384x256 : Shape := ⟨2, ![16384, 256]⟩
abbrev S_ : Shape := ⟨0, ![]⟩
abbrev S2x256 : Shape := ⟨2, ![2, 256]⟩
abbrev S16386x256 : Shape := ⟨2, ![16386, 256]⟩
abbrev S1x256 : Shape := ⟨2, ![1, 256]⟩

abbrev nBuf : Space → Nat
  | .hbm => 29
  | .vmem => 0
  | .smem => 0
  | _ => 0

abbrev bufTy : (tb : Table) → Fin (tcTables nBuf tb) → BufTy
  | .hbm, ⟨0, _⟩ => ⟨S16384x5896, .f32⟩
  | .hbm, ⟨1, _⟩ => ⟨S3x256, .f32⟩
  | .hbm, ⟨2, _⟩ => ⟨S16384x768, .f32⟩
  | .hbm, ⟨3, _⟩ => ⟨S16384x256, .f32⟩
  | .hbm, ⟨4, _⟩ => ⟨S16384x256, .f32⟩
  | .hbm, ⟨5, _⟩ => ⟨S16384x256, .f32⟩
  | .hbm, ⟨6, _⟩ => ⟨S16384x256, .f32⟩
  | .hbm, ⟨7, _⟩ => ⟨S_, .f32⟩
  | .hbm, ⟨8, _⟩ => ⟨S2x256, .f32⟩
  | .hbm, ⟨9, _⟩ => ⟨S16386x256, .f32⟩
  | .hbm, ⟨10, _⟩ => ⟨S1x256, .f32⟩
  | .hbm, ⟨11, _⟩ => ⟨S16384x256, .f32⟩
  | .hbm, ⟨12, _⟩ => ⟨S16384x256, .f32⟩
  | .hbm, ⟨13, _⟩ => ⟨S16384x256, .f32⟩
  | .hbm, ⟨14, _⟩ => ⟨S_, .f32⟩
  | .hbm, ⟨15, _⟩ => ⟨S16384x256, .f32⟩
  | .hbm, ⟨16, _⟩ => ⟨S16384x256, .f32⟩
  | .hbm, ⟨17, _⟩ => ⟨S1x256, .f32⟩
  | .hbm, ⟨18, _⟩ => ⟨S16384x256, .f32⟩
  | .hbm, ⟨19, _⟩ => ⟨S16384x256, .f32⟩
  | .hbm, ⟨20, _⟩ => ⟨S16384x256, .f32⟩
  | .hbm, ⟨21, _⟩ => ⟨S16384x256, .f32⟩
  | .hbm, ⟨22, _⟩ => ⟨S1x256, .f32⟩
  | .hbm, ⟨23, _⟩ => ⟨S16384x256, .f32⟩
  | .hbm, ⟨24, _⟩ => ⟨S16384x256, .f32⟩
  | .hbm, ⟨25, _⟩ => ⟨S16384x256, .f32⟩
  | .hbm, ⟨26, _⟩ => ⟨S16384x256, .f32⟩
  | .hbm, ⟨27, _⟩ => ⟨S16384x256, .f32⟩
  | .hbm, ⟨28, _⟩ => ⟨S16384x256, .bf16⟩
  | _, _ => ⟨S16384x5896, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩

abbrev nD : Nat := 1
abbrev τ : Topo := Topo.v7x

variable {F : FTy → Type} [FloatOps F]
-- ==== PostOut.lean ====
abbrev S16384x512 : Shape := ⟨2, ![16384, 512]⟩
abbrev S16384x768 : Shape := ⟨2, ![16384, 768]⟩
abbrev S16384x5896 : Shape := ⟨2, ![16384, 5896]⟩
abbrev S1x8 : Shape := ⟨2, ![1, 8]⟩
abbrev S1x512 : Shape := ⟨2, ![1, 512]⟩
abbrev S16384x2048 : Shape := ⟨2, ![16384, 2048]⟩
abbrev S16384x8 : Shape := ⟨2, ![16384, 8]⟩
abbrev S_ : Shape := ⟨0, ![]⟩
abbrev S16384x248 : Shape := ⟨2, ![16384, 248]⟩
abbrev S16384x3072 : Shape := ⟨2, ![16384, 3072]⟩
abbrev S16384x6144 : Shape := ⟨2, ![16384, 6144]⟩
abbrev S1x8x64 : Shape := ⟨3, ![1, 8, 64]⟩
abbrev S512x512 : Shape := ⟨2, ![512, 512]⟩
abbrev S512x256 : Shape := ⟨2, ![512, 256]⟩
abbrev S512 : Shape := ⟨1, ![512]⟩
abbrev S512x1 : Shape := ⟨2, ![512, 1]⟩

abbrev nBuf : Space → Nat
  | .hbm => 16
  | .vmem => 10
  | .smem => 0
  | _ => 0

abbrev bufTy : (tb : Table) → Fin (tcTables nBuf tb) → BufTy
  | .hbm, ⟨0, _⟩ => ⟨S16384x512, .f32⟩
  | .hbm, ⟨1, _⟩ => ⟨S16384x768, .f32⟩
  | .hbm, ⟨2, _⟩ => ⟨S16384x5896, .f32⟩
  | .hbm, ⟨3, _⟩ => ⟨S1x8, .f32⟩
  | .hbm, ⟨4, _⟩ => ⟨S1x512, .f32⟩
  | .hbm, ⟨5, _⟩ => ⟨S16384x2048, .f32⟩
  | .hbm, ⟨6, _⟩ => ⟨S16384x8, .f32⟩
  | .hbm, ⟨7, _⟩ => ⟨S_, .f32⟩
  | .hbm, ⟨8, _⟩ => ⟨S16384x248, .f32⟩
  | .hbm, ⟨9, _⟩ => ⟨S16384x768, .f32⟩
  | .hbm, ⟨10, _⟩ => ⟨S16384x3072, .f32⟩
  | .hbm, ⟨11, _⟩ => ⟨S16384x6144, .f32⟩
  | .hbm, ⟨12, _⟩ => ⟨S16384x6144, .bf16⟩
  | .hbm, ⟨13, _⟩ => ⟨S1x8x64, .f32⟩
  | .hbm, ⟨14, _⟩ => ⟨S1x512, .f32⟩
  | .hbm, ⟨15, _⟩ => ⟨S16384x512, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .bf16⟩
  | .local _ .vmem, ⟨5, _⟩ => ⟨S512x512, .bf16⟩
  | .local _ .vmem, ⟨6, _⟩ => ⟨S1x512, .f32⟩
  | .local _ .vmem, ⟨7, _⟩ => ⟨S1x512, .f32⟩
  | .local _ .vmem, ⟨8, _⟩ => ⟨S512x512, .bf16⟩
  | .local _ .vmem, ⟨9, _⟩ => ⟨S512x512, .bf16⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== PostOutRefIdeal.lean ====
abbrev S16384x512 : Shape := ⟨2, ![16384, 512]⟩
abbrev S16384x768 : Shape := ⟨2, ![16384, 768]⟩
abbrev S16384x5896 : Shape := ⟨2, ![16384, 5896]⟩
abbrev S1x8 : Shape := ⟨2, ![1, 8]⟩
abbrev S1x512 : Shape := ⟨2, ![1, 512]⟩
abbrev S8x1 : Shape := ⟨2, ![8, 1]⟩
abbrev S8x64 : Shape := ⟨2, ![8, 64]⟩
abbrev S_ : Shape := ⟨0, ![]⟩
abbrev S16384x2x256 : Shape := ⟨3, ![16384, 2, 256]⟩
abbrev S16384x2 : Shape := ⟨2, ![16384, 2]⟩
abbrev S16384x2x1 : Shape := ⟨3, ![16384, 2, 1]⟩

abbrev nBuf : Space → Nat
  | .hbm => 50
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x768, .f32⟩
  | .hbm, ⟨2, _⟩ => ⟨S16384x5896, .f32⟩
  | .hbm, ⟨3, _⟩ => ⟨S1x8, .f32⟩
  | .hbm, ⟨4, _⟩ => ⟨S1x512, .f32⟩
  | .hbm, ⟨5, _⟩ => ⟨S8x1, .f32⟩
  | .hbm, ⟨6, _⟩ => ⟨S8x64, .f32⟩
  | .hbm, ⟨7, _⟩ => ⟨S1x512, .f32⟩
  | .hbm, ⟨8, _⟩ => ⟨S16384x512, .f32⟩
  | .hbm, ⟨9, _⟩ => ⟨S16384x512, .f32⟩
  | .hbm, ⟨10, _⟩ => ⟨S16384x512, .f32⟩
  | .hbm, ⟨11, _⟩ => ⟨S16384x512, .f32⟩
  | .hbm, ⟨12, _⟩ => ⟨S_, .f32⟩
  | .hbm, ⟨13, _⟩ => ⟨S16384x512, .f32⟩
  | .hbm, ⟨14, _⟩ => ⟨S16384x512, .f32⟩
  | .hbm, ⟨15, _⟩ => ⟨S_, .f32⟩
  | .hbm, ⟨16, _⟩ => ⟨S16384x512, .f32⟩
  | .hbm, ⟨17, _⟩ => ⟨S16384x512, .f32⟩
  | .hbm, ⟨18, _⟩ => ⟨S16384x512, .f32⟩
  | .hbm, ⟨19, _⟩ => ⟨S16384x512, .f32⟩
  | .hbm, ⟨20, _⟩ => ⟨S16384x512, .f32⟩
  | .hbm, ⟨21, _⟩ => ⟨S16384x512, .f32⟩
  | .hbm, ⟨22, _⟩ => ⟨S16384x512, .f32⟩
  | .hbm, ⟨23, _⟩ => ⟨S16384x512, .f32⟩
  | .hbm, ⟨24, _⟩ => ⟨S_, .f32⟩
  | .hbm, ⟨25, _⟩ => ⟨S16384x512, .f32⟩
  | .hbm, ⟨26, _⟩ => ⟨S16384x512, .f32⟩
  | .hbm, ⟨27, _⟩ => ⟨S_, .f32⟩
  | .hbm, ⟨28, _⟩ => ⟨S16384x512, .f32⟩
  | .hbm, ⟨29, _⟩ => ⟨S16384x512, .f32⟩
  | .hbm, ⟨30, _⟩ => ⟨S16384x512, .f32⟩
  | .hbm, ⟨31, _⟩ => ⟨S16384x512, .f32⟩
  | .hbm, ⟨32, _⟩ => ⟨S16384x2x256, .f32⟩
  | .hbm, ⟨33, _⟩ => ⟨S16384x2x256, .f32⟩
  | .hbm, ⟨34, _⟩ => ⟨S_, .f32⟩
  | .hbm, ⟨35, _⟩ => ⟨S16384x2, .f32⟩
  | .hbm, ⟨36, _⟩ => ⟨S16384x2x1, .f32⟩
  | .hbm, ⟨37, _⟩ => ⟨S_, .f32⟩
  | .hbm, ⟨38, _⟩ => ⟨S16384x2x1, .f32⟩
  | .hbm, ⟨39, _⟩ => ⟨S16384x2x1, .f32⟩
  | .hbm, ⟨40, _⟩ => ⟨S_, .f32⟩
  | .hbm, ⟨41, _⟩ => ⟨S16384x2x1, .f32⟩
  | .hbm, ⟨42, _⟩ => ⟨S16384x2x1, .f32⟩
  | .hbm, ⟨43, _⟩ => ⟨S16384x2x1, .f32⟩
  | .hbm, ⟨44, _⟩ => ⟨S16384x2x256, .f32⟩
  | .hbm, ⟨45, _⟩ => ⟨S16384x2x256, .f32⟩
  | .hbm, ⟨46, _⟩ => ⟨S16384x512, .f32⟩
  | .hbm, ⟨47, _⟩ => ⟨S16384x512, .f32⟩
  | .hbm, ⟨48, _⟩ => ⟨S16384x512, .f32⟩
  | .hbm, ⟨49, _⟩ => ⟨S16384x512, .bf16⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_call1_v0 : Ref sig .tc := ⟨.hbm, 22, rfl⟩
abbrev main_call1_v1 : Ref sig .tc := ⟨.hbm, 23, rfl⟩
abbrev main_call1_cst : Ref sig .tc := ⟨.hbm, 24, rfl⟩
abbrev main_call1_v2 : Ref sig .tc := ⟨.hbm, 25, rfl⟩
abbrev main_call1_v3 : Ref sig .tc := ⟨.hbm, 26, rfl⟩
abbrev main_call1_cst_0 : Ref sig .tc := ⟨.hbm, 27, rfl⟩
abbrev main_call1_v4 : Ref sig .tc := ⟨.hbm, 28, rfl⟩
abbrev main_call1_v5 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_cst : Ref sig .tc := ⟨.hbm, 34, rfl⟩
abbrev main_v13 : Ref sig .tc := ⟨.hbm, 35, rfl⟩
abbrev main_v14 : Ref sig .tc := ⟨.hbm, 36, rfl⟩
abbrev main_cst_0 : Ref sig .tc := ⟨.hbm, 37, rfl⟩
abbrev main_v15 : Ref sig .tc := ⟨.hbm, 38, rfl⟩
abbrev main_v16 : Ref sig .tc := ⟨.hbm, 39, rfl⟩
abbrev main_cst_1 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩

abbrev nD : Nat := 1
abbrev τ : Topo := Topo.v7x

variable {F : FTy → Type} [FloatOps F]
-- ==== MergeOut.lean ====
abbrev S16384x5896 : Shape := ⟨2, ![16384, 5896]⟩
abbrev S16384x256 : Shape := ⟨2, ![16384, 256]⟩
abbrev S16384x512 : Shape := ⟨2, ![16384, 512]⟩
abbrev S256x1024 : Shape := ⟨2, ![256, 1024]⟩
abbrev S512x1024 : Shape := ⟨2, ![512, 1024]⟩
abbrev S16384x2048 : Shape := ⟨2, ![16384, 2048]⟩
abbrev S16384x8 : Shape := ⟨2, ![16384, 8]⟩
abbrev S_ : Shape := ⟨0, ![]⟩
abbrev S16384x248 : Shape := ⟨2, ![16384, 248]⟩
abbrev S16384x768 : Shape := ⟨2, ![16384, 768]⟩
abbrev S16384x3072 : Shape := ⟨2, ![16384, 3072]⟩
abbrev S16384x6144 : Shape := ⟨2, ![16384, 6144]⟩
abbrev S16384x1024 : Shape := ⟨2, ![16384, 1024]⟩
abbrev S512x256 : Shape := ⟨2, ![512, 256]⟩
abbrev S512x512 : Shape := ⟨2, ![512, 512]⟩

abbrev nBuf : Space → Nat
  | .hbm => 22
  | .vmem => 17
  | .smem => 0
  | _ => 0

abbrev bufTy : (tb : Table) → Fin (tcTables nBuf tb) → BufTy
  | .hbm, ⟨0, _⟩ => ⟨S16384x5896, .f32⟩
  | .hbm, ⟨1, _⟩ => ⟨S16384x256, .f32⟩
  | .hbm, ⟨2, _⟩ => ⟨S16384x256, .f32⟩
  | .hbm, ⟨3, _⟩ => ⟨S16384x512, .f32⟩
  | .hbm, ⟨4, _⟩ => ⟨S256x1024, .f32⟩
  | .hbm, ⟨5, _⟩ => ⟨S256x1024, .f32⟩
  | .hbm, ⟨6, _⟩ => ⟨S512x1024, .f32⟩
  | .hbm, ⟨7, _⟩ => ⟨S16384x2048, .f32⟩
  | .hbm, ⟨8, _⟩ => ⟨S16384x8, .f32⟩
  | .hbm, ⟨9, _⟩ => ⟨S_, .f32⟩
  | .hbm, ⟨10, _⟩ => ⟨S16384x248, .f32⟩
  | .hbm, ⟨11, _⟩ => ⟨S16384x768, .f32⟩
  | .hbm, ⟨12, _⟩ => ⟨S16384x3072, .f32⟩
  | .hbm, ⟨13, _⟩ => ⟨S16384x6144, .f32⟩
  | .hbm, ⟨14, _⟩ => ⟨S16384x6144, .bf16⟩
  | .hbm, ⟨15, _⟩ => ⟨S16384x256, .bf16⟩
  | .hbm, ⟨16, _⟩ => ⟨S16384x256, .bf16⟩
  | .hbm, ⟨17, _⟩ => ⟨S16384x512, .bf16⟩
  | .hbm, ⟨18, _⟩ => ⟨S256x1024, .bf16⟩
  | .hbm, ⟨19, _⟩ => ⟨S256x1024, .bf16⟩
  | .hbm, ⟨20, _⟩ => ⟨S512x1024, .bf16⟩
  | .hbm, ⟨21, _⟩ => ⟨S16384x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x256, .bf16⟩
  | .local _ .vmem, ⟨7, _⟩ => ⟨S512x256, .bf16⟩
  | .local _ .vmem, ⟨8, _⟩ => ⟨S512x256, .bf16⟩
  | .local _ .vmem, ⟨9, _⟩ => ⟨S512x256, .bf16⟩
  | .local _ .vmem, ⟨10, _⟩ => ⟨S512x512, .bf16⟩
  | .local _ .vmem, ⟨11, _⟩ => ⟨S512x512, .bf16⟩
  | .local _ .vmem, ⟨12, _⟩ => ⟨S256x1024, .bf16⟩
  | .local _ .vmem, ⟨13, _⟩ => ⟨S256x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | _, _ => ⟨S16384x5896, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MergeOutRefIdeal.lean ====
abbrev S16384x5896 : Shape := ⟨2, ![16384, 5896]⟩
abbrev S16384x256 : Shape := ⟨2, ![16384, 256]⟩
abbrev S16384x512 : Shape := ⟨2, ![16384, 512]⟩
abbrev S256x1024 : Shape := ⟨2, ![256, 1024]⟩
abbrev S512x1024 : Shape := ⟨2, ![512, 1024]⟩
abbrev S16384x3072 : Shape := ⟨2, ![16384, 3072]⟩
abbrev S16384x1024 : Shape := ⟨2, ![16384, 1024]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S16384x5896, .f32⟩
  | .hbm, ⟨1, _⟩ => ⟨S16384x256, .f32⟩
  | .hbm, ⟨2, _⟩ => ⟨S16384x256, .f32⟩
  | .hbm, ⟨3, _⟩ => ⟨S16384x512, .f32⟩
  | .hbm, ⟨4, _⟩ => ⟨S256x1024, .f32⟩
  | .hbm, ⟨5, _⟩ => ⟨S256x1024, .f32⟩
  | .hbm, ⟨6, _⟩ => ⟨S512x1024, .f32⟩
  | .hbm, ⟨7, _⟩ => ⟨S16384x3072, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S_, .f32⟩
  | .hbm, ⟨14, _⟩ => ⟨S16384x1024, .f32⟩
  | .hbm, ⟨15, _⟩ => ⟨S16384x1024, .f32⟩
  | .hbm, ⟨16, _⟩ => ⟨S_, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S_, .f32⟩
  | .hbm, ⟨24, _⟩ => ⟨S16384x1024, .f32⟩
  | .hbm, ⟨25, _⟩ => ⟨S16384x1024, .f32⟩
  | .hbm, ⟨26, _⟩ => ⟨S_, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S_, .f32⟩
  | .hbm, ⟨35, _⟩ => ⟨S16384x1024, .f32⟩
  | .hbm, ⟨36, _⟩ => ⟨S16384x1024, .f32⟩
  | .hbm, ⟨37, _⟩ => ⟨S_, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S16384x1024, .bf16⟩
  | _, _ => ⟨S16384x5896, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩

abbrev nD : Nat := 1
abbrev τ : Topo := Topo.v7x

variable {F : FTy → Type} [FloatOps F]
-- ==== MidOut.lean ====
abbrev S16384x1024 : Shape := ⟨2, ![16384, 1024]⟩
abbrev S1024x1024 : Shape := ⟨2, ![1024, 1024]⟩
abbrev S1x1024 : Shape := ⟨2, ![1, 1024]⟩
abbrev S1024 : Shape := ⟨1, ![1024]⟩
abbrev S1024x1 : Shape := ⟨2, ![1024, 1]⟩

abbrev nBuf : Space → Nat
  | .hbm => 13
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S16384x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S16384x1024, .bf16⟩
  | .hbm, ⟨9, _⟩ => ⟨S1024x1024, .bf16⟩
  | .hbm, ⟨10, _⟩ => ⟨S16384x1024, .bf16⟩
  | .hbm, ⟨11, _⟩ => ⟨S16384x1024, .f32⟩
  | .hbm, ⟨12, _⟩ => ⟨S16384x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .f32⟩
  | .local _ .vmem, ⟨13, _⟩ => ⟨S1024x1024, .f32⟩
  | .local _ .vmem, ⟨14, _⟩ => ⟨S1024x1024, .bf16⟩
  | .local _ .vmem, ⟨15, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v2_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== MidOutRefIdeal.lean ====
abbrev S16384x1024 : Shape := ⟨2, ![16384, 1024]⟩
abbrev S1024x1024 : Shape := ⟨2, ![1024, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩

abbrev nBuf : Space → Nat
  | .hbm => 51
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S16384x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S16384x1024, .f32⟩
  | .hbm, ⟨9, _⟩ => ⟨S16384x1024, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S16384, .f32⟩
  | .hbm, ⟨30, _⟩ => ⟨S16384x1, .f32⟩
  | .hbm, ⟨31, _⟩ => ⟨S_, .f32⟩
  | .hbm, ⟨32, _⟩ => ⟨S16384x1, .f32⟩
  | .hbm, ⟨33, _⟩ => ⟨S16384x1, .f32⟩
  | .hbm, ⟨34, _⟩ => ⟨S_, .f32⟩
  | .hbm, ⟨35, _⟩ => ⟨S16384x1, .f32⟩
  | .hbm, ⟨36, _⟩ => ⟨S16384x1, .f32⟩
  | .hbm, ⟨37, _⟩ => ⟨S16384x1, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S_, .f32⟩
  | .hbm, ⟨43, _⟩ => ⟨S1x1024, .f32⟩
  | .hbm, ⟨44, _⟩ => ⟨S1x1024, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S16384x1024, .bf16⟩
  | .hbm, ⟨50, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩

abbrev nD : Nat := 1
abbrev τ : Topo := Topo.v7x

variable {F : FTy → Type} [FloatOps F]
-- ==== GluOut.lean ====
abbrev S16384x1024 : Shape := ⟨2, ![16384, 1024]⟩
abbrev S1024x5632 : Shape := ⟨2, ![1024, 5632]⟩
abbrev S1024x1408 : Shape := ⟨2, ![1024, 1408]⟩
abbrev S16384x5632 : Shape := ⟨2, ![16384, 5632]⟩
abbrev S16384x2816 : Shape := ⟨2, ![16384, 2816]⟩
abbrev S1024x1024 : Shape := ⟨2, ![1024, 1024]⟩
abbrev S1024x2816 : Shape := ⟨2, ![1024, 2816]⟩
abbrev S16384x1408 : Shape := ⟨2, ![16384, 1408]⟩

abbrev nBuf : Space → Nat
  | .hbm => 16
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S1024x5632, .f32⟩
  | .hbm, ⟨2, _⟩ => ⟨S16384x1024, .bf16⟩
  | .hbm, ⟨3, _⟩ => ⟨S1024x1408, .f32⟩
  | .hbm, ⟨4, _⟩ => ⟨S1024x1408, .f32⟩
  | .hbm, ⟨5, _⟩ => ⟨S1024x1408, .f32⟩
  | .hbm, ⟨6, _⟩ => ⟨S1024x1408, .f32⟩
  | .hbm, ⟨7, _⟩ => ⟨S1024x5632, .f32⟩
  | .hbm, ⟨8, _⟩ => ⟨S1024x5632, .bf16⟩
  | .hbm, ⟨9, _⟩ => ⟨S16384x5632, .bf16⟩
  | .hbm, ⟨10, _⟩ => ⟨S16384x2816, .bf16⟩
  | .hbm, ⟨11, _⟩ => ⟨S16384x1408, .bf16⟩
  | .hbm, ⟨12, _⟩ => ⟨S16384x1408, .bf16⟩
  | .hbm, ⟨13, _⟩ => ⟨S16384x1408, .bf16⟩
  | .hbm, ⟨14, _⟩ => ⟨S16384x1408, .bf16⟩
  | .hbm, ⟨15, _⟩ => ⟨S16384x5632, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2816, .bf16⟩
  | .local _ .vmem, ⟨3, _⟩ => ⟨S1024x2816, .bf16⟩
  | .local _ .vmem, ⟨4, _⟩ => ⟨S1024x2816, .bf16⟩
  | .local _ .vmem, ⟨5, _⟩ => ⟨S1024x1408, .bf16⟩
  | .local _ .vmem, ⟨6, _⟩ => ⟨S1024x1408, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7_0 : Ref sig .tc := ⟨.hbm, 9, rfl⟩
abbrev main_v7_1 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GluOutRefIdeal.lean ====
abbrev S16384x1024 : Shape := ⟨2, ![16384, 1024]⟩
abbrev S1024x5632 : Shape := ⟨2, ![1024, 5632]⟩
abbrev S16384x5632 : Shape := ⟨2, ![16384, 5632]⟩
abbrev S16384x2816 : Shape := ⟨2, ![16384, 2816]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x5632, .f32⟩
  | .hbm, ⟨2, _⟩ => ⟨S16384x5632, .f32⟩
  | .hbm, ⟨3, _⟩ => ⟨S16384x2816, .f32⟩
  | .hbm, ⟨4, _⟩ => ⟨S16384x2816, .f32⟩
  | .hbm, ⟨5, _⟩ => ⟨S16384x5632, .bf16⟩
  | .hbm, ⟨6, _⟩ => ⟨S16384x2816, .f32⟩
  | .hbm, ⟨7, _⟩ => ⟨S16384x2816, .f32⟩
  | .hbm, ⟨8, _⟩ => ⟨S_, .f32⟩
  | .hbm, ⟨9, _⟩ => ⟨S16384x2816, .f32⟩
  | .hbm, ⟨10, _⟩ => ⟨S16384x2816, .f32⟩
  | .hbm, ⟨11, _⟩ => ⟨S_, .f32⟩
  | .hbm, ⟨12, _⟩ => ⟨S16384x2816, .f32⟩
  | .hbm, ⟨13, _⟩ => ⟨S16384x2816, .f32⟩
  | .hbm, ⟨14, _⟩ => ⟨S16384x2816, .f32⟩
  | .hbm, ⟨15, _⟩ => ⟨S16384x2816, .f32⟩
  | .hbm, ⟨16, _⟩ => ⟨S16384x2816, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩

abbrev nD : Nat := 1
abbrev τ : Topo := Topo.v7x

variable {F : FTy → Type} [FloatOps F]
-- ==== ModOut.lean ====
abbrev S8x1024 : Shape := ⟨2, ![8, 1024]⟩
abbrev S2x1024x1536 : Shape := ⟨3, ![2, 1024, 1536]⟩
abbrev S2x1536 : Shape := ⟨2, ![2, 1536]⟩
abbrev S2x1x1536 : Shape := ⟨3, ![2, 1, 1536]⟩
abbrev S2x8x1536 : Shape := ⟨3, ![2, 8, 1536]⟩
abbrev S1x1024x512 : Shape := ⟨3, ![1, 1024, 512]⟩
abbrev S1x1x512 : Shape := ⟨3, ![1, 1, 512]⟩
abbrev S1x8x512 : Shape := ⟨3, ![1, 8, 512]⟩
abbrev S1024x512 : Shape := ⟨2, ![1024, 512]⟩
abbrev S8x512 : Shape := ⟨2, ![8, 512]⟩
abbrev S1x512 : Shape := ⟨2, ![1, 512]⟩

abbrev nBuf : Space → Nat
  | .hbm => 5
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S2x1024x1536, .f32⟩
  | .hbm, ⟨2, _⟩ => ⟨S2x1536, .f32⟩
  | .hbm, ⟨3, _⟩ => ⟨S2x1x1536, .f32⟩
  | .hbm, ⟨4, _⟩ => ⟨S2x8x1536, .f32⟩
  | .local _ .vmem, ⟨0, _⟩ => ⟨S8x1024, .f32⟩
  | .local _ .vmem, ⟨1, _⟩ => ⟨S1x1024x512, .f32⟩
  | .local _ .vmem, ⟨2, _⟩ => ⟨S1x1024x512, .f32⟩
  | .local _ .vmem, ⟨3, _⟩ => ⟨S1x1x512, .f32⟩
  | .local _ .vmem, ⟨4, _⟩ => ⟨S1x1x512, .f32⟩
  | .local _ .vmem, ⟨5, _⟩ => ⟨S1x8x512, .f32⟩
  | .local _ .vmem, ⟨6, _⟩ => ⟨S1x8x512, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ModOutRefIdeal.lean ====
abbrev S8x1024 : Shape := ⟨2, ![8, 1024]⟩
abbrev S2x1024x1536 : Shape := ⟨3, ![2, 1024, 1536]⟩
abbrev S2x1536 : Shape := ⟨2, ![2, 1536]⟩
abbrev S_ : Shape := ⟨0, ![]⟩
abbrev S8x2x1536 : Shape := ⟨3, ![8, 2, 1536]⟩
abbrev S2x1x1536 : Shape := ⟨3, ![2, 1, 1536]⟩
abbrev S2x8x1536 : Shape := ⟨3, ![2, 8, 1536]⟩

abbrev nBuf : Space → Nat
  | .hbm => 17
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S2x1024x1536, .f32⟩
  | .hbm, ⟨2, _⟩ => ⟨S2x1536, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S8x2x1536, .f32⟩
  | .hbm, ⟨13, _⟩ => ⟨S2x1x1536, .f32⟩
  | .hbm, ⟨14, _⟩ => ⟨S2x8x1536, .f32⟩
  | .hbm, ⟨15, _⟩ => ⟨S2x8x1536, .f32⟩
  | .hbm, ⟨16, _⟩ => ⟨S2x8x1536, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== ModBack.lean ====
abbrev S8x1024 : Shape := ⟨2, ![8, 1024]⟩
abbrev S2x1024x1536 : Shape := ⟨3, ![2, 1024, 1536]⟩
abbrev S2x1536 : Shape := ⟨2, ![2, 1536]⟩
abbrev S2x8x1536 : Shape := ⟨3, ![2, 8, 1536]⟩
abbrev S1x8x512 : Shape := ⟨3, ![1, 8, 512]⟩
abbrev S1x1024x512 : Shape := ⟨3, ![1, 1024, 512]⟩
abbrev S8x512 : Shape := ⟨2, ![8, 512]⟩
abbrev S1024x512 : Shape := ⟨2, ![1024, 512]⟩

abbrev nBuf : Space → Nat
  | .hbm => 5
  | .vmem => 5
  | .smem => 0
  | _ => 0

abbrev bufTy : (tb : Table) → Fin (tcTables nBuf tb) → BufTy
  | .hbm, ⟨0, _⟩ => ⟨S8x1024, .f32⟩
  | .hbm, ⟨1, _⟩ => ⟨S2x1024x1536, .f32⟩
  | .hbm, ⟨2, _⟩ => ⟨S2x1536, .f32⟩
  | .hbm, ⟨3, _⟩ => ⟨S2x8x1536, .f32⟩
  | .hbm, ⟨4, _⟩ => ⟨S2x1024x1536, .f32⟩
  | .local _ .vmem, ⟨0, _⟩ => ⟨S8x1024, .f32⟩
  | .local _ .vmem, ⟨1, _⟩ => ⟨S1x8x512, .f32⟩
  | .local _ .vmem, ⟨2, _⟩ => ⟨S1x8x512, .f32⟩
  | .local _ .vmem, ⟨3, _⟩ => ⟨S1x1024x512, .f32⟩
  | .local _ .vmem, ⟨4, _⟩ => ⟨S1x1024x512, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ModBackRefIdeal.lean ====
abbrev S8x1024 : Shape := ⟨2, ![8, 1024]⟩
abbrev S2x1024x1536 : Shape := ⟨3, ![2, 1024, 1536]⟩
abbrev S2x1536 : Shape := ⟨2, ![2, 1536]⟩
abbrev S2x8x1536 : Shape := ⟨3, ![2, 8, 1536]⟩
abbrev S_ : Shape := ⟨0, ![]⟩
abbrev S8x2x1536 : Shape := ⟨3, ![8, 2, 1536]⟩
abbrev S2x1x1536 : Shape := ⟨3, ![2, 1, 1536]⟩
abbrev S2x1536x1024 : Shape := ⟨3, ![2, 1536, 1024]⟩

abbrev nBuf : Space → Nat
  | .hbm => 21
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S2x1024x1536, .f32⟩
  | .hbm, ⟨2, _⟩ => ⟨S2x1536, .f32⟩
  | .hbm, ⟨3, _⟩ => ⟨S2x8x1536, .f32⟩
  | .hbm, ⟨4, _⟩ => ⟨S8x1024, .f32⟩
  | .hbm, ⟨5, _⟩ => ⟨S8x1024, .f32⟩
  | .hbm, ⟨6, _⟩ => ⟨S_, .f32⟩
  | .hbm, ⟨7, _⟩ => ⟨S8x1024, .f32⟩
  | .hbm, ⟨8, _⟩ => ⟨S8x1024, .f32⟩
  | .hbm, ⟨9, _⟩ => ⟨S_, .f32⟩
  | .hbm, ⟨10, _⟩ => ⟨S8x1024, .f32⟩
  | .hbm, ⟨11, _⟩ => ⟨S8x1024, .f32⟩
  | .hbm, ⟨12, _⟩ => ⟨S8x1024, .f32⟩
  | .hbm, ⟨13, _⟩ => ⟨S8x2x1536, .f32⟩
  | .hbm, ⟨14, _⟩ => ⟨S2x1x1536, .f32⟩
  | .hbm, ⟨15, _⟩ => ⟨S2x8x1536, .f32⟩
  | .hbm, ⟨16, _⟩ => ⟨S2x8x1536, .f32⟩
  | .hbm, ⟨17, _⟩ => ⟨S2x8x1536, .f32⟩
  | .hbm, ⟨18, _⟩ => ⟨S8x2x1536, .f32⟩
  | .hbm, ⟨19, _⟩ => ⟨S2x1536x1024, .f32⟩
  | .hbm, ⟨20, _⟩ => ⟨S2x1024x1536, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩

abbrev nD : Nat := 1
abbrev τ : Topo := Topo.v7x

variable {F : FTy → Type} [FloatOps F]
-- ==== Adam.lean ====
abbrev S2x1024x1536 : Shape := ⟨3, ![2, 1024, 1536]⟩
abbrev S2048x1536 : Shape := ⟨2, ![2048, 1536]⟩
abbrev S256x1536 : Shape := ⟨2, ![256, 1536]⟩

abbrev nBuf : Space → Nat
  | .hbm => 12
  | .vmem => 16
  | .smem => 0
  | _ => 0

abbrev bufTy : (tb : Table) → Fin (tcTables nBuf tb) → BufTy
  | .hbm, ⟨0, _⟩ => ⟨S2x1024x1536, .f32⟩
  | .hbm, ⟨1, _⟩ => ⟨S2x1024x1536, .f32⟩
  | .hbm, ⟨2, _⟩ => ⟨S2x1024x1536, .f32⟩
  | .hbm, ⟨3, _⟩ => ⟨S2x1024x1536, .f32⟩
  | .hbm, ⟨4, _⟩ => ⟨S2048x1536, .f32⟩
  | .hbm, ⟨5, _⟩ => ⟨S2048x1536, .f32⟩
  | .hbm, ⟨6, _⟩ => ⟨S2048x1536, .f32⟩
  | .hbm, ⟨7, _⟩ => ⟨S2048x1536, .f32⟩
  | .hbm, ⟨8, _⟩ => ⟨S2048x1536, .f32⟩
  | .hbm, ⟨9, _⟩ => ⟨S2048x1536, .f32⟩
  | .hbm, ⟨10, _⟩ => ⟨S2048x1536, .f32⟩
  | .hbm, ⟨11, _⟩ => ⟨S2048x1536, .f32⟩
  | .local _ .vmem, ⟨0, _⟩ => ⟨S256x1536, .f32⟩
  | .local _ .vmem, ⟨1, _⟩ => ⟨S256x1536, .f32⟩
  | .local _ .vmem, ⟨2, _⟩ => ⟨S256x1536, .f32⟩
  | .local _ .vmem, ⟨3, _⟩ => ⟨S256x1536, .f32⟩
  | .local _ .vmem, ⟨4, _⟩ => ⟨S256x1536, .f32⟩
  | .local _ .vmem, ⟨5, _⟩ => ⟨S256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S256x1536, .f32⟩
  | .local _ .vmem, ⟨11, _⟩ => ⟨S256x1536, .f32⟩
  | .local _ .vmem, ⟨12, _⟩ => ⟨S256x1536, .f32⟩
  | .local _ .vmem, ⟨13, _⟩ => ⟨S256x1536, .f32⟩
  | .local _ .vmem, ⟨14, _⟩ => ⟨S256x1536, .f32⟩
  | .local _ .vmem, ⟨15, _⟩ => ⟨S256x1536, .f32⟩
  | _, _ => ⟨S2x1024x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamRefIdeal.lean ====
abbrev S2x1024x1536 : Shape := ⟨3, ![2, 1024, 1536]⟩
abbrev S_ : Shape := ⟨0, ![]⟩
abbrev S2048x1536 : Shape := ⟨2, ![2048, 1536]⟩

abbrev nBuf : Space → Nat
  | .hbm => 41
  | .vmem => 0
  | .smem => 0
  | _ => 0

abbrev bufTy : (tb : Table) → Fin (tcTables nBuf tb) → BufTy
  | .hbm, ⟨0, _⟩ => ⟨S2x1024x1536, .f32⟩
  | .hbm, ⟨1, _⟩ => ⟨S2x1024x1536, .f32⟩
  | .hbm, ⟨2, _⟩ => ⟨S2x1024x1536, .f32⟩
  | .hbm, ⟨3, _⟩ => ⟨S2x1024x1536, .f32⟩
  | .hbm, ⟨4, _⟩ => ⟨S_, .f32⟩
  | .hbm, ⟨5, _⟩ => ⟨S2x1024x1536, .f32⟩
  | .hbm, ⟨6, _⟩ => ⟨S2x1024x1536, .f32⟩
  | .hbm, ⟨7, _⟩ => ⟨S_, .f32⟩
  | .hbm, ⟨8, _⟩ => ⟨S2x1024x1536, .f32⟩
  | .hbm, ⟨9, _⟩ => ⟨S2x1024x1536, .f32⟩
  | .hbm, ⟨10, _⟩ => ⟨S2x1024x1536, .f32⟩
  | .hbm, ⟨11, _⟩ => ⟨S_, .f32⟩
  | .hbm, ⟨12, _⟩ => ⟨S2x1024x1536, .f32⟩
  | .hbm, ⟨13, _⟩ => ⟨S2x1024x1536, .f32⟩
  | .hbm, ⟨14, _⟩ => ⟨S2x1024x1536, .f32⟩
  | .hbm, ⟨15, _⟩ => ⟨S_, .f32⟩
  | .hbm, ⟨16, _⟩ => ⟨S2x1024x1536, .f32⟩
  | .hbm, ⟨17, _⟩ => ⟨S2x1024x1536, .f32⟩
  | .hbm, ⟨18, _⟩ => ⟨S2x1024x1536, .f32⟩
  | .hbm, ⟨19, _⟩ => ⟨S_, .f32⟩
  | .hbm, ⟨20, _⟩ => ⟨S2x1024x1536, .f32⟩
  | .hbm, ⟨21, _⟩ => ⟨S2x1024x1536, .f32⟩
  | .hbm, ⟨22, _⟩ => ⟨S_, .f32⟩
  | .hbm, ⟨23, _⟩ => ⟨S2x1024x1536, .f32⟩
  | .hbm, ⟨24, _⟩ => ⟨S2x1024x1536, .f32⟩
  | .hbm, ⟨25, _⟩ => ⟨S2x1024x1536, .f32⟩
  | .hbm, ⟨26, _⟩ => ⟨S_, .f32⟩
  | .hbm, ⟨27, _⟩ => ⟨S2x1024x1536, .f32⟩
  | .hbm, ⟨28, _⟩ => ⟨S2x1024x1536, .f32⟩
  | .hbm, ⟨29, _⟩ => ⟨S2x1024x1536, .f32⟩
  | .hbm, ⟨30, _⟩ => ⟨S_, .f32⟩
  | .hbm, ⟨31, _⟩ => ⟨S2x1024x1536, .f32⟩
  | .hbm, ⟨32, _⟩ => ⟨S2x1024x1536, .f32⟩
  | .hbm, ⟨33, _⟩ => ⟨S2x1024x1536, .f32⟩
  | .hbm, ⟨34, _⟩ => ⟨S_, .f32⟩
  | .hbm, ⟨35, _⟩ => ⟨S2x1024x1536, .f32⟩
  | .hbm, ⟨36, _⟩ => ⟨S2x1024x1536, .f32⟩
  | .hbm, ⟨37, _⟩ => ⟨S2048x1536, .f32⟩
  | .hbm, ⟨38, _⟩ => ⟨S2048x1536, .f32⟩
  | .hbm, ⟨39, _⟩ => ⟨S2048x1536, .f32⟩
  | .hbm, ⟨40, _⟩ => ⟨S2048x1536, .f32⟩
  | _, _ => ⟨S2x1024x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Slots.lean ====
abbrev S4x1024x1408 : Shape := ⟨3, ![4, 1024, 1408]⟩
abbrev S1024x1408 : Shape := ⟨2, ![1024, 1408]⟩
abbrev S4x256x1408 : Shape := ⟨3, ![4, 256, 1408]⟩
abbrev S256x1408 : Shape := ⟨2, ![256, 1408]⟩
abbrev S1x256x1408 : Shape := ⟨3, ![1, 256, 1408]⟩

abbrev nBuf : Space → Nat
  | .hbm => 3
  | .vmem => 4
  | .smem => 0
  | _ => 0

abbrev bufTy : (tb : Table) → Fin (tcTables nBuf tb) → BufTy
  | .hbm, ⟨0, _⟩ => ⟨S4x1024x1408, .f32⟩
  | .hbm, ⟨1, _⟩ => ⟨S4x1024x1408, .bf16⟩
  | .hbm, ⟨2, _⟩ => ⟨S1024x1408, .f32⟩
  | .local _ .vmem, ⟨0, _⟩ => ⟨S4x256x1408, .bf16⟩
  | .local _ .vmem, ⟨1, _⟩ => ⟨S4x256x1408, .bf16⟩
  | .local _ .vmem, ⟨2, _⟩ => ⟨S256x1408, .f32⟩
  | .local _ .vmem, ⟨3, _⟩ => ⟨S256x1408, .f32⟩
  | _, _ => ⟨S4x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SlotsRefIdeal.lean ====
abbrev S4x1024x1408 : Shape := ⟨3, ![4, 1024, 1408]⟩
abbrev S_ : Shape := ⟨0, ![]⟩
abbrev S1024x1408 : Shape := ⟨2, ![1024, 1408]⟩

abbrev nBuf : Space → Nat
  | .hbm => 3
  | .vmem => 0
  | .smem => 0
  | _ => 0

abbrev bufTy : (tb : Table) → Fin (tcTables nBuf tb) → BufTy
  | .hbm, ⟨0, _⟩ => ⟨S4x1024x1408, .f32⟩
  | .hbm, ⟨1, _⟩ => ⟨S_, .f32⟩
  | .hbm, ⟨2, _⟩ => ⟨S1024x1408, .f32⟩
  | _, _ => ⟨S4x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Product.lean ====
abbrev S16384x1024 : Shape := ⟨2, ![16384, 1024]⟩
abbrev S1024x5896 : Shape := ⟨2, ![1024, 5896]⟩
abbrev S1024x2048 : Shape := ⟨2, ![1024, 2048]⟩
abbrev S1024x8 : Shape := ⟨2, ![1024, 8]⟩
abbrev S_ : Shape := ⟨0, ![]⟩
abbrev S1024x248 : Shape := ⟨2, ![1024, 248]⟩
abbrev S1024x768 : Shape := ⟨2, ![1024, 768]⟩
abbrev S1024x3072 : Shape := ⟨2, ![1024, 3072]⟩
abbrev S1024x6144 : Shape := ⟨2, ![1024, 6144]⟩
abbrev S16384x6144 : Shape := ⟨2, ![16384, 6144]⟩
abbrev S2048x1024 : Shape := ⟨2, ![2048, 1024]⟩
abbrev S1024x1024 : Shape := ⟨2, ![1024, 1024]⟩
abbrev S16384x2048 : Shape := ⟨2, ![16384, 2048]⟩
abbrev S16384x768 : Shape := ⟨2, ![16384, 768]⟩
abbrev S16384x8 : Shape := ⟨2, ![16384, 8]⟩
abbrev S16384x3072 : Shape := ⟨2, ![16384, 3072]⟩
abbrev S16384x5896 : Shape := ⟨2, ![16384, 5896]⟩

abbrev nBuf : Space → Nat
  | .hbm => 17
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024x5896, .f32⟩
  | .hbm, ⟨2, _⟩ => ⟨S16384x1024, .bf16⟩
  | .hbm, ⟨3, _⟩ => ⟨S1024x2048, .f32⟩
  | .hbm, ⟨4, _⟩ => ⟨S1024x8, .f32⟩
  | .hbm, ⟨5, _⟩ => ⟨S_, .f32⟩
  | .hbm, ⟨6, _⟩ => ⟨S1024x248, .f32⟩
  | .hbm, ⟨7, _⟩ => ⟨S1024x768, .f32⟩
  | .hbm, ⟨8, _⟩ => ⟨S1024x3072, .f32⟩
  | .hbm, ⟨9, _⟩ => ⟨S1024x6144, .f32⟩
  | .hbm, ⟨10, _⟩ => ⟨S1024x6144, .bf16⟩
  | .hbm, ⟨11, _⟩ => ⟨S16384x6144, .bf16⟩
  | .hbm, ⟨12, _⟩ => ⟨S16384x2048, .bf16⟩
  | .hbm, ⟨13, _⟩ => ⟨S16384x768, .bf16⟩
  | .hbm, ⟨14, _⟩ => ⟨S16384x8, .bf16⟩
  | .hbm, ⟨15, _⟩ => ⟨S16384x3072, .bf16⟩
  | .hbm, ⟨16, _⟩ => ⟨S16384x5896, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProductRefIdeal.lean ====
abbrev S16384x1024 : Shape := ⟨2, ![16384, 1024]⟩
abbrev S1024x5896 : Shape := ⟨2, ![1024, 5896]⟩
abbrev S16384x5896 : Shape := ⟨2, ![16384, 5896]⟩

abbrev nBuf : Space → Nat
  | .hbm => 4
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x5896, .f32⟩
  | .hbm, ⟨2, _⟩ => ⟨S16384x5896, .f32⟩
  | .hbm, ⟨3, _⟩ => ⟨S16384x5896, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.SsmConv.Spec.lean ====
/- The gradient of the depthwise convolution of the state-space mixer, as formulas over the extended reals, and the
   reference's run stated with them. -/
module

public import proofs.«01_k».proof.Proof.Gen.SsmConvRefIdeal.Run
public import Idealize.ShloMosaic.Lib.Pointwise

@[expose] public section

set_option maxRecDepth 16384

noncomputable section

namespace Cert.SsmConvRefIdeal.Spec

open Cert.SsmConvRefIdeal Cert.SsmConvRefIdeal.Gen Idealize.ShloMosaic Idealize.ShloMosaic.TcCoe Idealize.SL.Sem

/-- Row `n` of the cotangent, zero from the end of the sequence on. -/
def ahead (d : FVec Ideal S16384x768 .f32) (n : ℕ) (c : Fin 768) : EReal :=
  if h : n < 16384 then d (ix2 (⟨n, h⟩ : Fin 16384) c) else 0

/-- The convolution's input `k` rows above row `r` (columns 2048 to 2815 of the projection), zero above the first row. -/
def above (p : FVec Ideal S16384x5896 .f32) (k : ℕ) (r : Fin 16384) (c : Fin 768) : EReal :=
  if h : k ≤ (r : ℕ) then p (ix2 (⟨r - k, by omega⟩ : Fin 16384) (⟨2048 + c, by omega⟩ : Fin 5896)) else 0

/-- Gradient of the input: the correlation of the cotangent with the four taps. -/
def dInput (d : FVec Ideal S16384x768 .f32) (w : FVec Ideal S4x768 .f32) : FVec Ideal S16384x768 .bf16 := fun i =>
  w (ix2 (3 : Fin 4) (i 1)) * ahead d (i 0).val (i 1) + w (ix2 (2 : Fin 4) (i 1)) * ahead d ((i 0).val + 1) (i 1)
    + w (ix2 (1 : Fin 4) (i 1)) * ahead d ((i 0).val + 2) (i 1) + w (ix2 (0 : Fin 4) (i 1)) * ahead d ((i 0).val + 3) (i 1)

/-- Gradient of the tap that looks `k` rows back. -/
def dTap (p : FVec Ideal S16384x5896 .f32) (d : FVec Ideal S16384x768 .f32) (k : ℕ) : FVec Ideal S1x768 .f32 := fun i =>
  ∑ r : Fin 16384, d (ix2 r (i 1)) * above p k r (i 1)

/-- Gradient of the bias. -/
def dBias (d : FVec Ideal S16384x768 .f32) : FVec Ideal S1x768 .f32 := fun i => ∑ r : Fin 16384, d (ix2 r (i 1))

variable (m : (ℓ : Loc nD τ sig) → Buf (Elt Ideal) ℓ) (ρ : Dev nD → PrngReg)

theorem shifted (p : FVec Ideal S16384x5896 .f32) (k n : ℕ) (hk : k + n = 3) (x : Fin 16384) (j : Fin 768) :
    (if h : n + (x : ℕ) < 3 then 0 else
      p (ix2 (⟨n + x - 3, by omega⟩ : Fin 16384) (⟨2048 + j, by omega⟩ : Fin 5896)) : EReal)
      = above p k x j := by
  unfold above
  by_cases h : n + (x : ℕ) < 3
  · rw [dif_pos h, dif_neg (by omega)]
  · rw [dif_neg h, dif_pos (by omega)]
    have e (a b : ℕ) (ha : a < 16384) (hb : b < 16384) (hab : a = b) :
        (⟨a, ha⟩ : Fin 16384) = ⟨b, hb⟩ := by subst hab; rfl
    rw [e _ _ _ _ (show n + (x : ℕ) - 3 = x - k by omega)]

/-- The reference's run, its results read as the formulas above. -/
theorem run :
    θ_run defs (onTc (τ := τ) (main (F := Ideal))) ⟨m, fun _ => 0, ρ⟩ fun r => ∀ c : Dev nD,
      r.2.mem ((c.tc : Thread nD τ).loc main_v67)
          = dInput (m ((c.tc : Thread nD τ).loc main_arg1)) (m ((c.tc : Thread nD τ).loc main_arg2))
      ∧ r.2.mem ((c.tc : Thread nD τ).loc main_v68)
          = dTap (m ((c.tc : Thread nD τ).loc main_arg0)) (m ((c.tc : Thread nD τ).loc main_arg1)) 3
      ∧ r.2.mem ((c.tc : Thread nD τ).loc main_v69)
          = dTap (m ((c.tc : Thread nD τ).loc main_arg0)) (m ((c.tc : Thread nD τ).loc main_arg1)) 2
      ∧ r.2.mem ((c.tc : Thread nD τ).loc main_v70)
          = dTap (m ((c.tc : Thread nD τ).loc main_arg0)) (m ((c.tc : Thread nD τ).loc main_arg1)) 1
      ∧ r.2.mem ((c.tc : Thread nD τ).loc main_v71)
          = dTap (m ((c.tc : Thread nD τ).loc main_arg0)) (m ((c.tc : Thread nD τ).loc main_arg1)) 0
      ∧ r.2.mem ((c.tc : Thread nD τ).loc main_v30) = dBias (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ?_) (Value.run m ρ)
  obtain ⟨h0, h1, h2, h3, h4, h5, hr⟩ := h c
  refine ⟨h0.trans ?_, h1.trans ?_, h2.trans ?_, h3.trans ?_, h4.trans ?_, h5.trans ?_, hr⟩
  · clear h0 h1 h2 h3 h4 h5 hr
    funext i
    idx_vars i
    pointwise [dInput, ahead]
    have e (n : ℕ) (hn : n < 16384) (x : ℕ) (hx : x = n) (hx' : x < 16384) :
        m ((c.tc : Thread nD τ).loc main_arg1) (ix2 (⟨x, hx'⟩ : Fin 16384) i1)
          = m ((c.tc : Thread nD τ).loc main_arg1) (ix2 (⟨n, hn⟩ : Fin 16384) i1) := by subst hx; rfl
    refine congrArg₂ (· + ·) (congrArg₂ (· + ·) (congrArg₂ (· + ·) rfl ?_) ?_) ?_
    · split_ifs
      · exact congrArg _ (e _ _ _ (by omega) _)
      · omega
      · omega
      · exact (mul_zero _).symm
    · split_ifs
      · exact congrArg _ (e _ _ _ (by omega) _)
      · omega
      · omega
      · exact (mul_zero _).symm
    · split_ifs
      · exact congrArg _ (e _ _ _ (by omega) _)
      · omega
      · omega
      · exact (mul_zero _).symm
  all_goals
    clear h h0 h1 h2 h3 h4 h5 hr
    funext i
    idx_vars i
  · pointwise [dTap, above]
  · pointwise [dTap]
    exact Finset.sum_congr rfl fun x _ => congrArg _ (shifted _ 2 1 rfl x i1)
  · pointwise [dTap]
    exact Finset.sum_congr rfl fun x _ => congrArg _ (shifted _ 1 2 rfl x i1)
  · pointwise [dTap, above]
  · pointwise [dBias]

end Cert.SsmConvRefIdeal.Spec

end
-- ==== Proof.SsmConv.Kernel.lean ====
/- The kernel of the depthwise convolution's gradient: what a grid point stores, and the arrays the grid leaves. -/
module

public import proofs.«01_k».proof.Proof.Gen.SsmConvIdeal.Value
public import proofs.«01_k».proof.Proof.SsmConv.Spec
public import Idealize.ShloMosaic.Lib.Pipeline.ValueKit

@[expose] public section

set_option maxRecDepth 16384

noncomputable section

namespace Cert.SsmConvIdeal.Grid

open Cert.SsmConvIdeal Cert.SsmConvIdeal.Gen Idealize.ShloMosaic Idealize.ShloMosaic.TcCoe Idealize.SL.Sem
open Idealize.ShloMosaic.Pipeline (Dat)
open Cert.SsmConvRefIdeal.Spec (ahead above dInput dTap dBias)

variable (m : (ℓ : Loc nD τ sig) → Buf (Elt Ideal) ℓ)

theorem idx : ∀ t : Fin cfg0.N, win0_0.index t = ![t.val, 3]
    ∧ win0_1.index t = ![t.val * 32 - 1, 3]
    ∧ win0_2.index t = ![t.val, 0]
    ∧ win0_3.index t = ![min ((t.val + 1) * 32) 1023, 0]
    ∧ win0_4.index t = ![0, 0]
    ∧ win0_5.index t = ![t.val, 0]
    ∧ win0_6.index t = ![0, 0]
    ∧ win0_7.index t = ![0, 0]
    ∧ win0_8.index t = ![0, 0]
    ∧ win0_9.index t = ![0, 0]
    ∧ win0_10.index t = ![0, 0]
    ∧ (grid0.coords t 0).val = t.val :=
  (by decide +kernel : ∀ t : Fin grid0.N, _)

/-- The row `n` rows into the tile, read from the tile or, past its end, from the rows after it (zero after the last tile). -/
def next (i : grid0.Coords) (x2 : FVec Ideal S512x768 .f32) (x3 : FVec Ideal S16x768 .f32) (n : ℕ) (hn : n < 515) (j : Fin 768) : EReal :=
  if h : n < 512 then x2 (ix2 (⟨n, h⟩ : Fin 512) j)
  else if (i 0).val = 31 then 0 else x3 (ix2 (⟨n - 512, by omega⟩ : Fin 16) j)

theorem pay11_at (i : grid0.Coords) (x2 : FVec Ideal S512x768 .f32) (x3 : FVec Ideal S16x768 .f32) (x4 : FVec Ideal S4x768 .f32)
    (r : Fin 512) (j : Fin 768) :
    k0_pay11 (F := Ideal) x2 (k0_pay6 i x3) x4 (k0_pay7 i x2 x3 x4) (k0_pay8 x4)
      (iota Kind.tc S512x768 32 [0] iota_S512x768_d0_w32) (k0_pay9 i x2 x3) k0_pay10 (ix2 r j)
      = x4 (ix2 (3 : Fin 4) j) * x2 (ix2 r j) + x4 (ix2 (2 : Fin 4) j) * next i x2 x3 (r + 1) (by omega) j
        + x4 (ix2 (1 : Fin 4) j) * next i x2 x3 (r + 2) (by omega) j
        + x4 (ix2 (0 : Fin 4) j) * next i x2 x3 (r + 3) (by omega) j := by
  have hi : (i 0).val < 32 := (i 0).isLt
  pointwise [k0_pay11, k0_pay10, k0_pay9, k0_pay8, k0_pay7, k0_pay6]
  unfold next
  generalize (i 0).val = i0 at *
  simp only [hlo_ix]
  rw [show (BitVec.ofNat 32 (r : ℕ)).toNat = r from Nat.mod_eq_of_lt (by omega), show (BitVec.ofNat 32 i0).toNat = i0 from Nat.mod_eq_of_lt (by omega)]
  simp only [BitVec.reduceToNat]
  have e (n k : ℕ) (hn : n < 512) (hk : k < 512) (hh : n = k) : x2 (ix2 (⟨n, hn⟩ : Fin 512) j) = x2 (ix2 (⟨k, hk⟩ : Fin 512) j) := by subst hh; rfl
  have e' (n k : ℕ) (hn : n < 16) (hk : k < 16) (hh : n = k) : x3 (ix2 (⟨n, hn⟩ : Fin 16) j) = x3 (ix2 (⟨k, hk⟩ : Fin 16) j) := by subst hh; rfl
  refine congrArg₂ (· + ·) (congrArg₂ (· + ·) (congrArg₂ (· + ·) rfl ?_) ?_) ?_
  all_goals
    refine congrArg _ ?_
    split_ifs <;> first | rfl | omega | exact e _ _ _ _ (by omega) | exact e' 0 _ (by omega) _ (by omega) | exact e' 1 _ (by omega) _ (by omega) | exact e' 2 _ (by omega) _ (by omega)

theorem blk_2 (c : Dev nD) (t : Fin cfg0.N) (r : Fin 512) (j : Fin 768) (h : t.val * 512 + r < 16384) :
    iblk m c 2 t (ix2 r j) = m ((c : Thread nD τ).loc main_arg1) (ix2 (⟨t.val * 512 + r, h⟩ : Fin 16384) j) := by
  blk_ext [iblk, V, idx t]

theorem blk_3 (c : Dev nD) (t : Fin cfg0.N) (r : Fin 16) (j : Fin 768) (h : t.val * 512 + 512 + r < 16384) :
    iblk m c 3 t (ix2 r j) = m ((c : Thread nD τ).loc main_arg1) (ix2 (⟨t.val * 512 + 512 + r, h⟩ : Fin 16384) j) := by
  blk_ext [iblk, V, idx t]

theorem blk_4 (c : Dev nD) (t : Fin cfg0.N) (r : Fin 4) (j : Fin 768) :
    iblk m c 4 t (ix2 r j) = m ((c : Thread nD τ).loc main_arg2) (ix2 r j) := by
  blk_ext [iblk, V, idx t]

theorem blk_0 (c : Dev nD) (t : Fin cfg0.N) (r : Fin 512) (j : Fin 768) (h : t.val * 512 + r < 16384) :
    iblk m c 0 t (ix2 r j) = V m c main_v6 (ix2 (⟨t.val * 512 + r, h⟩ : Fin 16384) (⟨2304 + j, by omega⟩ : Fin 6144)) := by
  obtain ⟨e0, -⟩ := idx t
  blk_ext [iblk, e0]

theorem blk_1 (c : Dev nD) (t : Fin cfg0.N) (ht : t.val ≠ 0) (r : Fin 16) (j : Fin 768) (h : t.val * 512 + r - 16 < 16384) :
    iblk m c 1 t (ix2 r j) = V m c main_v6 (ix2 (⟨t.val * 512 + r - 16, h⟩ : Fin 16384) (⟨2304 + j, by omega⟩ : Fin 6144)) := by
  obtain ⟨-, e1, -⟩ := idx t
  blk_ext [iblk, e1]

theorem padded (c : Dev nD) (r : Fin 16384) (j : Fin 768) : V m c main_v6 (ix2 r (⟨2304 + j, by omega⟩ : Fin 6144))
    = m ((c : Thread nD τ).loc main_arg0) (ix2 r (⟨2048 + j, by omega⟩ : Fin 5896)) := by
  unfold V
  after_results_simp
  pointwise
  rw [dif_neg (by omega), dif_neg (by omega), dif_neg (by omega), dif_pos (by omega)]
  after_results_simp
  pointwise
  exact congrArg _ ((ix2_inj ..).2 ⟨rfl, Fin.ext (by show 2048 + (2304 + (j : ℕ) - 2048 - 8 - 248) = 2048 + j; omega)⟩)

theorem next_eq (c : Dev nD) (t : Fin cfg0.N) (n : ℕ) (hn : n < 515) (j : Fin 768) :
    next (grid0.coords t) (iblk m c 2 t) (iblk m c 3 t) n hn j
      = ahead (m ((c : Thread nD τ).loc main_arg1)) (t.val * 512 + n) j := by
  have ht : t.val < 32 := lt_of_lt_of_eq t.isLt N_0
  have et : (grid0.coords t 0).val = t.val := by obtain ⟨-, -, -, -, -, -, -, -, -, -, -, e⟩ := idx t; exact e
  unfold next ahead
  by_cases h : n < 512
  · rw [dif_pos h, dif_pos (by omega)]
    exact blk_2 m c t ⟨n, h⟩ j _
  · rw [dif_neg h, et]
    by_cases h' : t.val = 31
    · rw [if_pos h', dif_neg (by omega)]
    · rw [if_neg h', dif_pos (by omega)]
      refine (blk_3 m c t ⟨n - 512, by omega⟩ j (by simp; omega)).trans ?_
      exact congrArg _ ((ix2_inj ..).2 ⟨Fin.ext (by simp; omega), rfl⟩)

theorem point_5 (c : Dev nD) (t : Fin cfg0.N) (y : S512x768.Idx) :
    k0_pay11 (F := Ideal) (iblk m c 2 t) (k0_pay6 (grid0.coords t) (iblk m c 3 t)) (iblk m c 4 t)
      (k0_pay7 (grid0.coords t) (iblk m c 2 t) (iblk m c 3 t) (iblk m c 4 t)) (k0_pay8 (iblk m c 4 t))
      (iota Kind.tc S512x768 32 [0] iota_S512x768_d0_w32) (k0_pay9 (grid0.coords t) (iblk m c 2 t) (iblk m c 3 t)) k0_pay10 y
      = dInput (m ((c : Thread nD τ).loc main_arg1)) (m ((c : Thread nD τ).loc main_arg2)) (((cfg0.win 5).blk t).view.emb y) := by
  have ht : t.val < 32 := lt_of_lt_of_eq t.isLt N_0
  idx_vars y
  refine (pay11_at _ _ _ _ y0 y1).trans ?_
  have hemb : (((cfg0.win 5).blk t).view.emb (ix2 y0 y1 : S512x768.Idx)) = ix2 (⟨t.val * 512 + y0, by omega⟩ : Fin 16384) y1 := by
    obtain ⟨-, -, -, -, -, e5, -⟩ := idx t
    blk_ext [e5]
  rw [hemb, next_eq, next_eq, next_eq, blk_4, blk_4, blk_4, blk_4, blk_2 m c t y0 y1 (by omega)]
  unfold dInput
  simp only [ix2_0, ix2_1]
  refine congrArg₂ (· + ·) (congrArg₂ (· + ·) (congrArg₂ (· + ·) (congrArg _ ?_) rfl) rfl) rfl
  unfold ahead
  rw [dif_pos]

theorem final_5 (c : Dev nD) : (dats m 0 c).arrAt 5 (cfgs 0).N
    = dInput (m ((c : Thread nD τ).loc main_arg1)) (m ((c : Thread nD τ).loc main_arg2)) := by
  refine (dats m 0 c).arrAt_eq_of_covers 5 _ (by decide +kernel) fun t hf y => ?_
  blk_simp; rw [after0_5]
  by_cases h : t.val % 32 = 0
  · rw [outsAt0_A m c t h]
    frame_out
    exact point_5 m c t y
  · rw [outsAt0_B m c t h]
    frame_out
    exact point_5 m c t y

/-- The row `k` rows above row `r` of a tile, read from the tile or from the rows before it (zero before the first tile). -/
def prev (i : grid0.Coords) (x0 : FVec Ideal S512x768 .bf16) (x1 : FVec Ideal S16x768 .bf16) (k : ℕ) (hk : k ≤ 16) (r : Fin 512) (j : Fin 768) : EReal :=
  if h : k ≤ (r : ℕ) then x0 (ix2 (⟨r - k, by omega⟩ : Fin 512) j)
  else if (i 0).val = 0 then 0 else x1 (ix2 (⟨16 + r - k, by omega⟩ : Fin 16) j)

/-- One tile's part of the gradient of the tap that looks `k` rows back. -/
def part (i : grid0.Coords) (x0 : FVec Ideal S512x768 .bf16) (x1 : FVec Ideal S16x768 .bf16) (x2 : FVec Ideal S512x768 .f32) (k : ℕ) (hk : k ≤ 16) (j : Fin 768) : EReal :=
  ∑ r : Fin 512, x2 (ix2 r j) * prev i x0 x1 k hk r j

theorem ofNat_toNat (n : ℕ) (h : n < 2 ^ 32) : (BitVec.ofNat 32 n).toNat = n := Nat.mod_eq_of_lt h

theorem tap3_at (i : grid0.Coords) (x0 : FVec Ideal S512x768 .bf16) (x1 : FVec Ideal S16x768 .bf16) (x2 : FVec Ideal S512x768 .f32)
    (a : FVec Ideal S1x768 .f32) (j : S1x768.Idx) :
    k0_pay21 (F := Ideal) (k0_pay5 i x1) x2 (k0_pay17 a) (iota Kind.tc S512x768 32 [0] iota_S512x768_d0_w32) (k0_pay18 (k0_pay4 x0)) k0_pay19
      (k0_pay20 (k0_pay5 i x1)) j = a j + part i x0 x1 x2 3 (by omega) (j 1) := by
  have hi : (i 0).val < 32 := (i 0).isLt
  idx_vars j
  pointwise [k0_pay21, k0_pay5, k0_pay17, k0_pay18, k0_pay4, k0_pay19, k0_pay20, part]
  refine congrArg _ (Finset.sum_congr rfl fun r _ => congrArg _ ?_)
  unfold prev
  generalize (i 0).val = i0 at *
  simp only [hlo_ix]
  rw [ofNat_toNat r.val (by omega), ofNat_toNat i0 (by omega)]
  simp only [BitVec.reduceToNat]
  obtain ⟨r, hr⟩ := r
  simp only
  by_cases h : 3 ≤ r
  · rw [if_neg (by omega), if_neg (by omega), if_neg (by omega), dif_pos h]
    exact congrArg _ ((ix2_inj ..).2 ⟨Fin.ext (by simp; omega), rfl⟩)
  · rw [dif_neg h]
    obtain rfl | rfl | rfl : r = 0 ∨ r = 1 ∨ r = 2 := by omega
    all_goals rfl

theorem tap2_at (i : grid0.Coords) (x0 : FVec Ideal S512x768 .bf16) (x1 : FVec Ideal S16x768 .bf16) (x2 : FVec Ideal S512x768 .f32)
    (a : FVec Ideal S1x768 .f32) (j : S1x768.Idx) :
    k0_pay22 (F := Ideal) (k0_pay4 x0) (k0_pay5 i x1) x2 a j = a j + part i x0 x1 x2 2 (by omega) (j 1) := by
  have hi : (i 0).val < 32 := (i 0).isLt
  idx_vars j
  pointwise [k0_pay22, k0_pay5, k0_pay4, part]
  refine congrArg _ (Finset.sum_congr rfl fun r _ => congrArg _ ?_)
  unfold prev
  generalize (i 0).val = i0 at *
  simp only [hlo_ix]
  rw [ofNat_toNat r.val (by omega), ofNat_toNat i0 (by omega)]
  simp only [BitVec.reduceToNat]
  obtain ⟨r, hr⟩ := r
  simp only
  by_cases h : 2 ≤ r
  · rw [if_neg (by omega), if_neg (by omega), dif_pos h]
    exact congrArg _ ((ix2_inj ..).2 ⟨Fin.ext (by simp; omega), rfl⟩)
  · rw [dif_neg h]
    obtain rfl | rfl : r = 0 ∨ r = 1 := by omega
    all_goals rfl

theorem tap1_at (i : grid0.Coords) (x0 : FVec Ideal S512x768 .bf16) (x1 : FVec Ideal S16x768 .bf16) (x2 : FVec Ideal S512x768 .f32)
    (a : FVec Ideal S1x768 .f32) (j : S1x768.Idx) :
    k0_pay1 (F := Ideal) (k0_pay4 x0) (k0_pay5 i x1) x2 (k0_pay23 a) (iota Kind.tc S512x768 32 [0] iota_S512x768_d0_w32) (1#32) j = a j + part i x0 x1 x2 1 (by omega) (j 1) := by
  have hi : (i 0).val < 32 := (i 0).isLt
  idx_vars j
  pointwise [k0_pay1, k0_pay23, k0_pay5, k0_pay4, part]
  refine congrArg _ (Finset.sum_congr rfl fun r _ => congrArg _ ?_)
  unfold prev
  generalize (i 0).val = i0 at *
  simp only [hlo_ix]
  rw [ofNat_toNat r.val (by omega), ofNat_toNat i0 (by omega)]
  simp only [BitVec.reduceToNat]
  obtain ⟨r, hr⟩ := r
  simp only
  by_cases h : 1 ≤ r
  · rw [if_neg (by omega), dif_pos h]
    exact congrArg _ ((ix2_inj ..).2 ⟨Fin.ext (by simp; omega), rfl⟩)
  · rw [dif_neg h]
    obtain rfl : r = 0 := by omega
    rfl

theorem tap0_at (i : grid0.Coords) (x0 : FVec Ideal S512x768 .bf16) (x1 : FVec Ideal S16x768 .bf16) (x2 : FVec Ideal S512x768 .f32)
    (a : FVec Ideal S1x768 .f32) (j : S1x768.Idx) :
    k0_pay2 (F := Ideal) (k0_pay4 x0) x2 a j = a j + part i x0 x1 x2 0 (by omega) (j 1) := by
  idx_vars j
  pointwise [k0_pay2, k0_pay4, part]
  rfl

theorem bias_at (x2 : FVec Ideal S512x768 .f32) (a : FVec Ideal S1x768 .f32) (j : S1x768.Idx) :
    k0_pay3 (F := Ideal) x2 a j = a j + ∑ r : Fin 512, x2 (ix2 r (j 1)) := by
  idx_vars j
  pointwise [k0_pay3]

theorem sum_parts (c : Dev nD) (k : ℕ) (hk : k ≤ 16) (q : Fin 32 → Fin cfg0.N) (hq : ∀ s, (q s).val = s.val) (j : Fin 768) :
    ∑ s, part (grid0.coords (q s)) (iblk m c 0 (q s)) (iblk m c 1 (q s)) (iblk m c 2 (q s)) k hk j
      = ∑ r : Fin 16384, (show FVec Ideal S16384x768 .f32 from m ((c : Thread nD τ).loc main_arg1)) (ix2 r j) * above (m ((c : Thread nD τ).loc main_arg0)) k r j := by
  unfold part
  refine Fin.sum_mul_add_congr fun s r hl => ?_
  have et : (grid0.coords (q s) 0).val = s := by obtain ⟨-, -, -, -, -, -, -, -, -, -, -, e⟩ := idx (q s); exact e.trans (hq s)
  have hs := hq s
  refine Ideal.mul_congr ?_ ?_
  · refine (blk_2 m c (q s) r j (by omega)).trans ?_
    exact congrArg _ ((ix2_inj ..).2 ⟨Fin.ext (by simp [hs]), rfl⟩)
  · unfold prev above
    by_cases h : k ≤ (r : ℕ)
    · rw [dif_pos h, dif_pos (by simp; omega)]
      refine (blk_0 m c (q s) ⟨r - k, by omega⟩ j (by simp; omega)).trans ((padded m c _ j).trans ?_)
      exact congrArg _ ((ix2_inj ..).2 ⟨Fin.ext (by simp [hs]; omega), rfl⟩)
    · rw [dif_neg h, et]
      by_cases h' : s.val = 0
      · rw [if_pos h', dif_neg (by simp; omega)]
      · rw [if_neg h', dif_pos (by simp; omega)]
        refine (blk_1 m c (q s) (by omega) ⟨16 + r - k, by omega⟩ j (by simp; omega)).trans ((padded m c _ j).trans ?_)
        exact congrArg _ ((ix2_inj ..).2 ⟨Fin.ext (by simp [hs]; omega), rfl⟩)

theorem sum_bias (c : Dev nD) (q : Fin 32 → Fin cfg0.N) (hq : ∀ s, (q s).val = s.val) (j : Fin 768) :
    ∑ s, (∑ r : Fin 512, (show FVec Ideal S512x768 .f32 from iblk m c 2 (q s)) (ix2 r j) : EReal)
      = ∑ r : Fin 16384, (show FVec Ideal S16384x768 .f32 from m ((c : Thread nD τ).loc main_arg1)) (ix2 r j) := by
  refine Fin.sum_mul_add_congr fun s r hl => ?_
  have hs := hq s
  refine (blk_2 m c (q s) r j (by omega)).trans ?_
  exact congrArg _ ((ix2_inj ..).2 ⟨Fin.ext (by simp [hs]), rfl⟩)

theorem point_of (t : Fin cfg0.N) (s : Fin 32) : 32 * (t.val / 32) + s.val = s.val := by
  have h : t.val < 32 := t.isLt
  omega

theorem final_6 (c : Dev nD) : (dats m 0 c).arrAt 6 (cfgs 0).N
    = dTap (m ((c : Thread nD τ).loc main_arg0)) (m ((c : Thread nD τ).loc main_arg1)) 3 := by
  refine (dats m 0 c).arrAt_eq_of_covers 6 _ (by decide +kernel) fun t hf y => ?_
  have e : (win0_6.blk t).view.emb y = y := by
    obtain ⟨-, -, -, -, -, -, e, -⟩ := idx t
    blk_ext [e]
  blk_simp
  rw [after0_6, Pipeline.eq_sum_fin_of_reset_step_apply_of_flush (fun n h => (outsAt0 m c n h).2.1) 32 (fun _ => 0)
    (fun t j => part (grid0.coords t) (iblk m c 0 t) (iblk m c 1 t) (iblk m c 2 t) 3 (by omega) (j 1))
    (fun t h j => by rw [outsAt0_A m c t h]; frame_out; exact (tap3_at _ _ _ _ _ j).trans (by rw [show k0_pay12 (F := Ideal) j = 0 by pointwise [k0_pay12]]))
    (fun t h j => by rw [outsAt0_B m c t h]; frame_out; exact tap3_at _ _ _ _ _ j)
    t ((flush0_6 t).mp hf) _, zero_add, e]
  exact sum_parts m c 3 _ _ (point_of t) _

theorem final_7 (c : Dev nD) : (dats m 0 c).arrAt 7 (cfgs 0).N
    = dTap (m ((c : Thread nD τ).loc main_arg0)) (m ((c : Thread nD τ).loc main_arg1)) 2 := by
  refine (dats m 0 c).arrAt_eq_of_covers 7 _ (by decide +kernel) fun t hf y => ?_
  have e : (win0_7.blk t).view.emb y = y := by
    obtain ⟨-, -, -, -, -, -, -, e, -⟩ := idx t
    blk_ext [e]
  blk_simp
  rw [after0_7, Pipeline.eq_sum_fin_of_reset_step_apply_of_flush (fun n h => (outsAt0 m c n h).2.2.1) 32 (fun _ => 0)
    (fun t j => part (grid0.coords t) (iblk m c 0 t) (iblk m c 1 t) (iblk m c 2 t) 2 (by omega) (j 1))
    (fun t h j => by rw [outsAt0_A m c t h]; frame_out; exact (tap2_at _ _ _ _ _ j).trans (by rw [show k0_pay13 (F := Ideal) j = 0 by pointwise [k0_pay13]]))
    (fun t h j => by rw [outsAt0_B m c t h]; frame_out; exact tap2_at _ _ _ _ _ j)
    t ((flush0_7 t).mp hf) _, zero_add, e]
  exact sum_parts m c 2 _ _ (point_of t) _

theorem final_8 (c : Dev nD) : (dats m 0 c).arrAt 8 (cfgs 0).N
    = dTap (m ((c : Thread nD τ).loc main_arg0)) (m ((c : Thread nD τ).loc main_arg1)) 1 := by
  refine (dats m 0 c).arrAt_eq_of_covers 8 _ (by decide +kernel) fun t hf y => ?_
  have e : (win0_8.blk t).view.emb y = y := by
    obtain ⟨-, -, -, -, -, -, -, -, e, -⟩ := idx t
    blk_ext [e]
  blk_simp
  rw [after0_8, Pipeline.eq_sum_fin_of_reset_step_apply_of_flush (fun n h => (outsAt0 m c n h).2.2.2.1) 32 (fun _ => 0)
    (fun t j => part (grid0.coords t) (iblk m c 0 t) (iblk m c 1 t) (iblk m c 2 t) 1 (by omega) (j 1))
    (fun t h j => by rw [outsAt0_A m c t h]; frame_out; exact (tap1_at _ _ _ _ _ j).trans (by rw [show k0_pay14 (F := Ideal) j = 0 by pointwise [k0_pay14]]))
    (fun t h j => by rw [outsAt0_B m c t h]; frame_out; exact tap1_at _ _ _ _ _ j)
    t ((flush0_8 t).mp hf) _, zero_add, e]
  exact sum_parts m c 1 _ _ (point_of t) _

theorem final_9 (c : Dev nD) : (dats m 0 c).arrAt 9 (cfgs 0).N
    = dTap (m ((c : Thread nD τ).loc main_arg0)) (m ((c : Thread nD τ).loc main_arg1)) 0 := by
  refine (dats m 0 c).arrAt_eq_of_covers 9 _ (by decide +kernel) fun t hf y => ?_
  have e : (win0_9.blk t).view.emb y = y := by
    obtain ⟨-, -, -, -, -, -, -, -, -, e, -⟩ := idx t
    blk_ext [e]
  blk_simp
  rw [after0_9, Pipeline.eq_sum_fin_of_reset_step_apply_of_flush (fun n h => (outsAt0 m c n h).2.2.2.2.1) 32 (fun _ => 0)
    (fun t j => part (grid0.coords t) (iblk m c 0 t) (iblk m c 1 t) (iblk m c 2 t) 0 (by omega) (j 1))
    (fun t h j => by rw [outsAt0_A m c t h]; frame_out; exact (tap0_at _ _ _ _ _ j).trans (by rw [show k0_pay15 (F := Ideal) j = 0 by pointwise [k0_pay15]]))
    (fun t h j => by rw [outsAt0_B m c t h]; frame_out; exact tap0_at _ _ _ _ _ j)
    t ((flush0_9 t).mp hf) _, zero_add, e]
  exact sum_parts m c 0 _ _ (point_of t) _

theorem final_10 (c : Dev nD) : (dats m 0 c).arrAt 10 (cfgs 0).N
    = dBias (m ((c : Thread nD τ).loc main_arg1)) := by
  refine (dats m 0 c).arrAt_eq_of_covers 10 _ (by decide +kernel) fun t hf y => ?_
  have e : (win0_10.blk t).view.emb y = y := by
    obtain ⟨-, -, -, -, -, -, -, -, -, -, e, -⟩ := idx t
    blk_ext [e]
  blk_simp
  rw [after0_10, Pipeline.eq_sum_fin_of_reset_step_apply_of_flush (fun n h => (outsAt0 m c n h).2.2.2.2.2) 32 (fun _ => 0)
    (fun t j => ∑ r : Fin 512, (show FVec Ideal S512x768 .f32 from iblk m c 2 t) (ix2 r (j 1)))
    (fun t h j => by rw [outsAt0_A m c t h]; frame_out; exact (bias_at _ _ j).trans (by rw [show k0_pay16 (F := Ideal) j = 0 by pointwise [k0_pay16]]))
    (fun t h j => by rw [outsAt0_B m c t h]; frame_out; exact bias_at _ _ j)
    t ((flush0_10 t).mp hf) _, zero_add, e]
  exact sum_bias m c _ (point_of t) _

end Cert.SsmConvIdeal.Grid

end
-- ==== Proof.SsmConv.Pair.lean ====
/- The convolution's backward call against the derivative of the convolution's lines. -/
module

public import proofs.«01_k».proof.Defs
public import proofs.«01_k».proof.Proof.SsmConv.Kernel
public import proofs.«01_k».proof.Proof.SsmConv.Spec

@[expose] public section

set_option maxRecDepth 16384

noncomputable section

namespace Cert.Proof

open Idealize.ShloMosaic Idealize.SL.Sem

/-- The derivative's program runs and keeps its arguments; it declares no semaphore. -/
theorem ssmConvRef_frame : Cert.quiescent_SsmConvRefIdeal := fun m ρ _ =>
  (θ_run Cert.SsmConvRefIdeal.defs _ _).mono (fun r h => ⟨fun c => (h c).2.2.2.2.2.2, sem_eq_zero_of_no_sems (by decide) r.2⟩)
    (Cert.SsmConvRefIdeal.Spec.run m ρ)

/-- Every result of the convolution's backward call is the derivative of the convolution's lines. -/
theorem ssmConv : Cert.algebraic_SsmConvIdeal_SsmConvRefIdeal := by
  intro m g m' g' _ ha
  refine ⟨fun c => Cert.SsmConvRefIdeal.Spec.dInput (m ((c.tc : Thread Cert.SsmConvIdeal.nD Cert.SsmConvIdeal.τ).loc Cert.SsmConvIdeal.main_arg1)) (m ((c.tc : Thread Cert.SsmConvIdeal.nD Cert.SsmConvIdeal.τ).loc Cert.SsmConvIdeal.main_arg2)),
    fun c => Cert.SsmConvRefIdeal.Spec.dTap (m ((c.tc : Thread Cert.SsmConvIdeal.nD Cert.SsmConvIdeal.τ).loc Cert.SsmConvIdeal.main_arg0)) (m ((c.tc : Thread Cert.SsmConvIdeal.nD Cert.SsmConvIdeal.τ).loc Cert.SsmConvIdeal.main_arg1)) 3,
    fun c => Cert.SsmConvRefIdeal.Spec.dTap (m ((c.tc : Thread Cert.SsmConvIdeal.nD Cert.SsmConvIdeal.τ).loc Cert.SsmConvIdeal.main_arg0)) (m ((c.tc : Thread Cert.SsmConvIdeal.nD Cert.SsmConvIdeal.τ).loc Cert.SsmConvIdeal.main_arg1)) 2,
    fun c => Cert.SsmConvRefIdeal.Spec.dTap (m ((c.tc : Thread Cert.SsmConvIdeal.nD Cert.SsmConvIdeal.τ).loc Cert.SsmConvIdeal.main_arg0)) (m ((c.tc : Thread Cert.SsmConvIdeal.nD Cert.SsmConvIdeal.τ).loc Cert.SsmConvIdeal.main_arg1)) 1,
    fun c => Cert.SsmConvRefIdeal.Spec.dTap (m ((c.tc : Thread Cert.SsmConvIdeal.nD Cert.SsmConvIdeal.τ).loc Cert.SsmConvIdeal.main_arg0)) (m ((c.tc : Thread Cert.SsmConvIdeal.nD Cert.SsmConvIdeal.τ).loc Cert.SsmConvIdeal.main_arg1)) 0,
    fun c => Cert.SsmConvRefIdeal.Spec.dBias (m ((c.tc : Thread Cert.SsmConvIdeal.nD Cert.SsmConvIdeal.τ).loc Cert.SsmConvIdeal.main_arg1)),
    (θ_run _ _ _).mono (fun r h c => ?_) (Cert.SsmConvIdeal.Value.run_blocks m g),
    (θ_run _ _ _).mono (fun r h c => ?_) (Cert.SsmConvRefIdeal.Spec.run m' g')⟩
  · obtain ⟨h0, h1, h2, h3, h4, h5, ho⟩ := h c
    exact ⟨h0.trans (Cert.SsmConvIdeal.Grid.final_5 m c), h1.trans (Cert.SsmConvIdeal.Grid.final_6 m c),
      h2.trans (Cert.SsmConvIdeal.Grid.final_7 m c), h3.trans (Cert.SsmConvIdeal.Grid.final_8 m c),
      h4.trans (Cert.SsmConvIdeal.Grid.final_9 m c), h5.trans (Cert.SsmConvIdeal.Grid.final_10 m c), ho⟩
  · obtain ⟨h0, h1, h2, h3, h4, h5, ho⟩ := h c
    obtain ⟨a0, a1, a2⟩ := ha c
    rw [a1, a2] at h0
    rw [a0, a1] at h1 h2 h3 h4
    rw [a1] at h5
    exact ⟨h0, h1, h2, h3, h4, h5, ho⟩

end Cert.Proof

end
-- ==== Proof.Attention.Walk.lean ====
/-
  What one grid point of the attention gradient computes, as plain functions of the blocks it reads, for any float values:
  the values the two straight tiles of a half step hand on (`firstHalf`, `secondHalf`), one step of the walk down the
  remaining tiles (`tailStep`) and the whole of that walk (`tail`), and from these what the point leaves in its three
  results (`afterStraight`, `afterPoint`). The names of the values are the program's own.
-/
module

public import proofs.«01_k».proof.Proof.Gen.AttentionIdeal.Skeleton
public import Idealize.ShloMosaic.Lib.VecWindow

@[expose] public section

set_option maxRecDepth 16384

noncomputable section

namespace Cert.Proof.Attention.Ideal

open Cert.AttentionIdeal Cert.AttentionIdeal.Gen
open Idealize.ShloMosaic Idealize.ShloMosaic.TcCoe Idealize.ShloMosaic.VecWindow

variable {F : FTy → Type} [FloatOps F] [Named F]

/-- A tile of `16384x128` rows at offsets `off`. -/
abbrev rows {e : EltTy} (x : Vec F S16384x128 e) (off : Fin 2 → ℕ) (inb : ∀ a, off a + S256x128.size a ≤ S16384x128.size a) : Vec F S256x128 e :=
  window (s := S16384x128) x off S256x128.size inb

/-- The upper and the lower 256 rows of a `512x128` block. -/
abbrev upper {e : EltTy} (x : Vec F S512x128 e) : Vec F S256x128 e := window (s := S512x128) x ![0, 0] S256x128.size inb_S512x128_S256x128_0_0
abbrev lower {e : EltTy} (x : Vec F S512x128 e) : Vec F S256x128 e := window (s := S512x128) x ![256, 0] S256x128.size inb_S512x128_S256x128_256_0

/-- What both heads of a half step hold fixed: queries, the strict triangle, the cotangent's rows, and the row totals. -/
structure Fixed (F : FTy → Type) where
  q0 : FVec F S256x128 .bf16
  strict : FVec F S256x256 .bf16
  do0 : FVec F S256x128 .bf16
  tot0 : FVec F S256x1 .f32
  q1 : FVec F S256x128 .bf16
  do1 : FVec F S256x128 .bf16
  tot1 : FVec F S256x1 .f32

/-- What the walk carries: the next tile, the sums over later columns of the log survival and of the gradient, per head, and
    the two accumulators of the query gradient. -/
abbrev Carried (F : FTy → Type) := BitVec 32 × FVec F S256x1 .f32 × FVec F S256x1 .f32 × FVec F S256x1 .f32 × FVec F S256x1 .f32
  × FVec F S256x128 .f32 × FVec F S256x128 .f32

/-- What the two straight tiles of a half step hand on: the values fixed for it, the word that selects the lanes, what is
    carried into the walk, and what becomes of the rows of the key and value gradients at the two tiles. -/
structure Half (F : FTy → Type) where
  fixed : Fixed F
  lane : IVec S1x128 1
  carried : Carried F
  dk1 : FVec F S256x128 .f32 → FVec F S256x128 .f32
  dv1 : FVec F S256x128 .f32 → FVec F S256x128 .f32
  dk2 : FVec F S256x128 .f32 → FVec F S256x128 .f32
  dv2 : FVec F S256x128 .f32 → FVec F S256x128 .f32

/-- The two straight tiles of the first half step, at grid point `i`: from the rows of the queries, of the cotangent and of
    the attention's output, and the key and value rows of the two tiles. -/
def firstHalf (i : grid0.Coords) (v8 v36 : Vec F S256x128 .bf16) (v47 : Vec F S256x128 .f32) (v69 v72 v133 v136 : Vec F S256x128 .bf16) : Half F :=
  let arg1 := BitVec.ofNat 32 (i 1).val
  let v3 := Scalar.muli arg1 2#32
  let v4 := Scalar.addi v3 0#32
  let v20 := Scalar.muli v4 256#32
  let v21 := Scalar.divsi v20 256#32
  let v7 := k0_pay18
  let v15 := k0_pay20 v8
  let v19 := k0_pay21 v8
  let v29 := k0_pay22 i
  let v35 := k0_pay23 (F := F)
  let v37 := k0_pay24 v36
  let v38 := k0_pay25 (F := F)
  let v39 := k0_pay26
  let v64 := Scalar.subi v21 1#32
  let v65 := Scalar.maxsi v64 0#32
  let v41 := k0_pay27 v37 v38 v39
  let v45 := k0_pay28 v7 v37
  let v55 := k0_pay30 v7 v37 v47
  let v61 := k0_pay31 v7 v37 v47
  let v62 := k0_pay32 (F := F)
  let v63 := k0_pay33 (F := F)
  let v70 := k0_pay34 v69
  let v73 := k0_pay35 v72
  let v74 := k0_pay36 v15 v69
  let v78 := k0_pay37 v15 v69
  let v81 := k0_pay38 v15 v69
  let v121 := k0_pay43 v29 v62 v78 v81
  let v124 := k0_pay44 v29 v35 v41 v62 v73 v74 v78 v81
  let v126 := k0_pay45 v29 v35 v41 v55 v62 v63 v70 v73 v74 v78 v81
  let v127 := k0_pay46 v15 v29 v35 v41 v55 v62 v73 v74 v78 v81
  let v128 := k0_pay47 v29 v35 v41 v62 v74 v78 v81
  let v129 := Scalar.cmpi .sge v21 1#32
  let v134 := k0_pay48 v133
  let v140 := k0_pay49 v15 v133
  let v152 := k0_pay50 v15 v133
  let v160 := k0_pay51 v15 v21 v35 v121 v133
  let v163 := k0_pay52 v15 v21 v35 v41 v121 v133 v136
  let v166 := k0_pay53 v21 v55 v124
  let v173 := k0_pay54 v15 v21 v35 v41 v121 v133 v136
  let v196 := v69
  let v199 := v72
  let cst_71 := constant S256x256 .f32 0x00000000#32
  let v185 := k0_pay56 v121 v129 v152
  let v188 := k0_pay57 v124 v163
  let v190 := k0_pay58 v126 v134 v140 v152 v163 v166 v173
  let v191 := k0_pay59 v15 v140 v152 v163 v166 v173
  let v192 := k0_pay60 v41 v160
  let v197 := k0_pay61 v196
  let v200 := k0_pay62 v199
  let v201 := k0_pay63 v19 v196
  let v215 := k0_pay64 v19 v29 v196
  let v216 := k0_pay65 v19 v29 v196
  let v217 := k0_pay66 v19 v29 v196
  let v256 := Scalar.cmpi .sge v21 1#32
  let v260 := v133
  let v263 := v136
  let v248 := k0_pay70 v62 v215
  let v251 := k0_pay71 v29 v35 v45 v62 v200 v216 v217 cst_71
  let v253 := k0_pay72 v29 v35 v45 v61 v62 v63 v197 v200 v201 v215 v216 v217 cst_71
  let v254 := k0_pay73 v19 v29 v35 v45 v61 v62 v200 v201 v215 v216 v217 cst_71
  let v255 := k0_pay74 v29 v35 v45 v62 v216 v217 cst_71
  let v261 := k0_pay75 v260
  let v287 := k0_pay78 v19 v35 v248 v256 v261
  let v290 := k0_pay79 v19 v35 v45 v248 v256 v261 v263
  let v307 := k0_pay80 v19 v35 v45 v61 v248 v251 v256 v261 v263
  let v309 := k0_pay81 v19 v261
  let v310 := k0_pay82 (F := F)
  let v312 := k0_pay83 v248 v256 v309 v310
  let v315 := k0_pay84 v251 v290
  let v317 := k0_pay85 v253 v261 v307;
  { fixed := ⟨v15, v35, v41, v55, v19, v45, v61⟩, lane := v7
    carried := ⟨Scalar.subi v21 2#32, v185, v312, v188, v315, v190, v317⟩
    dk1 := fun v323 => k0_pay86 v127 v254 v323, dv1 := fun v330 => k0_pay87 v128 v255 v330
    dk2 := fun v339 => k0_pay88 v19 v191 v307 v339, dv2 := fun v346 => k0_pay89 v45 v192 v287 v346 }

/-- The two straight tiles of the second half step. -/
def secondHalf (i : grid0.Coords) (v357 v385 : Vec F S256x128 .bf16) (v396 : Vec F S256x128 .f32) (v418 v421 v482 v485 : Vec F S256x128 .bf16) : Half F :=
  let arg1 : BitVec 32 := BitVec.ofNat 32 (i 1).val
  let c2_i32_113 : BitVec 32 := 2#32
  let v352 := Scalar.muli arg1 c2_i32_113
  let v353 := Scalar.addi v352 1#32
  let v369 := Scalar.muli v353 256#32
  let v370 := Scalar.divsi v369 256#32
  let v356 := k0_pay90
  let v364 := k0_pay92 v357
  let v368 := k0_pay93 v357
  let v378 := k0_pay94 arg1 c2_i32_113
  let v384 := k0_pay95 (F := F)
  let v390 := k0_pay97 v385
  let v394 := k0_pay98 v385
  let v395 := k0_pay99 v385
  let v413 := Scalar.subi v370 1#32
  let v414 := Scalar.maxsi v413 0#32
  let v404 := k0_pay101 v356 v395 v396
  let v410 := k0_pay102 v356 v395 v396
  let v411 := k0_pay103 (F := F)
  let v412 := k0_pay104 (F := F)
  let v419 := k0_pay105 v418
  let v422 := k0_pay106 v421
  let v423 := k0_pay107 v364 v418
  let v437 := k0_pay108 v364 v378 v418
  let v478 := Scalar.cmpi .sge v370 1#32
  let v479 := Scalar.muli v414 256#32
  let v480 := v479
  let v470 := k0_pay112 v411 v437
  let v473 := k0_pay113 v378 v384 v390 v411 v422 v423 v437
  let v475 := k0_pay114 v378 v384 v390 v404 v411 v412 v419 v422 v423 v437
  let v476 := k0_pay115 v364 v378 v384 v390 v404 v411 v422 v423 v437
  let v477 := k0_pay116 v378 v384 v390 v411 v423 v437
  let v483 := k0_pay117 v482
  let v509 := k0_pay120 v364 v384 v470 v478 v483
  let v512 := k0_pay121 v364 v384 v390 v470 v478 v483 v485
  let v529 := k0_pay122 v364 v384 v390 v404 v470 v473 v478 v483 v485
  let v530 := k0_pay123 v364 v483
  let v545 := v418
  let v548 := v421
  let v534 := k0_pay124 v470 v478 v530
  let v537 := k0_pay125 v473 v512
  let v539 := k0_pay126 v475 v483 v529
  let v540 := k0_pay127 v364 v529
  let v541 := k0_pay128 v390 v509
  let v546 := k0_pay129 v545
  let v549 := k0_pay130 v548
  let v550 := k0_pay131 v368 v545
  let v564 := k0_pay132 v368 v378 v545
  let v574 := k0_pay133 v368 v378 v384 v411 v545
  let v605 := Scalar.cmpi .sge v370 1#32
  let v609 := v482
  let v612 := v485
  let v597 := k0_pay136 v411 v564
  let v600 := k0_pay137 v394 v411 v549 v574
  let v602 := k0_pay138 v378 v384 v394 v410 v411 v412 v546 v549 v550 v564 v574
  let v603 := k0_pay139 v368 v378 v384 v394 v410 v411 v549 v550 v564 v574
  let v604 := k0_pay140 v394 v574
  let v610 := k0_pay141 v609
  let v613 := k0_pay142 v612
  let v615 := k0_pay143 v370 v411 v564
  let v616 := k0_pay144 v368 v609
  let v618 := k0_pay145 v368 v609
  let v636 := k0_pay147 v384 v615 v616 v618
  let v656 := k0_pay149 v384 v394 v410 v600 v605 v613 v615 v616 v618
  let v661 := k0_pay150 v597 v605 v616 v618
  let v664 := k0_pay151 v384 v394 v600 v613 v615 v616 v618
  let v666 := k0_pay152 v384 v394 v410 v600 v602 v605 v610 v613 v615 v616 v618;
  { fixed := ⟨v364, v384, v390, v404, v368, v394, v410⟩, lane := v356
    carried := ⟨Scalar.subi v370 2#32, v534, v661, v537, v664, v539, v666⟩
    dk1 := fun v672 => k0_pay153 v476 v603 v672, dv1 := fun v679 => k0_pay154 v477 v604 v679
    dk2 := fun v688 => k0_pay155 v368 v540 v656 v688, dv2 := fun v695 => k0_pay156 v394 v541 v636 v695 }

/-- Whether the walk goes on: a tile is left, and some row of some head still has weight above the cutoff. -/
def goesOn (s : Carried F) : BitVec 1 :=
  Scalar.andi (Scalar.cmpi .sge s.1 0#32) (Scalar.cmpf .ogt (k0_pay2 s.2.1 s.2.2.1) (Named.named κ "cutoff" 0xC2D20000#32 : F .f32))

/-- What one step of the walk carries on, from the key and value rows of its tile. -/
def tailStep (x : Fixed F) (k v : Vec F S256x128 .bf16) (s : Carried F) : Carried F :=
  let v723 := k0_pay158 k
  let v739 := k0_pay160 x.q0 k
  let v750 := k0_pay162 x.q0 x.strict x.do0 s.2.1 k v
  let v760 := k0_pay163 x.q0 x.strict x.do0 x.tot0 s.2.1 s.2.2.2.1 k v
  let v762 := k0_pay164 x.q0 k
  let v780 := k0_pay171 k
  let v784 := k0_pay172 x.q1 k
  let v796 := k0_pay173 x.q1 k
  let v807 := k0_pay175 x.strict x.q1 x.do1 s.2.2.1 k v
  (Scalar.subi s.1 1#32, k0_pay166 s.2.1 v739, k0_pay4 s.2.2.1 v796, k0_pay167 s.2.2.2.1 v750, k0_pay5 s.2.2.2.2.1 v807,
    k0_pay168 s.2.2.2.2.2.1 v723 v750 v760 v762, k0_pay6 x.strict x.tot1 s.2.2.2.2.1 s.2.2.2.2.2.2 v780 v784 v796 v807)

/-- What one step of the walk makes of the rows of the key gradient at its tile. -/
def tailDk (x : Fixed F) (k v : Vec F S256x128 .bf16) (s : Carried F) (old : FVec F S256x128 .f32) : FVec F S256x128 .f32 :=
  let v750 := k0_pay162 x.q0 x.strict x.do0 s.2.1 k v
  let v760 := k0_pay163 x.q0 x.strict x.do0 x.tot0 s.2.1 s.2.2.2.1 k v
  let v762 := k0_pay164 x.q0 k
  k0_pay7 x.strict x.q1 x.tot1 s.2.2.2.2.1 (k0_pay169 x.q0 v750 v760 v762) (k0_pay172 x.q1 k) (k0_pay173 x.q1 k)
    (k0_pay175 x.strict x.q1 x.do1 s.2.2.1 k v) old

/-- What one step of the walk makes of the rows of the value gradient at its tile. -/
def tailDv (x : Fixed F) (k : Vec F S256x128 .bf16) (s : Carried F) (old : FVec F S256x128 .f32) : FVec F S256x128 .f32 :=
  k0_pay8 x.do1 (k0_pay170 x.do0 (k0_pay161 x.q0 x.strict s.2.1 k)) (k0_pay174 x.strict x.q1 s.2.2.1 k) old

/-- The walk, at most `n` further steps: while it goes on, the step at its tile, on what is carried and on the key and value
    gradients; then what is left. -/
def tail (x : Fixed F) (K V : Vec F S16384x128 .bf16) : ℕ → Carried F → Vec F S16384x128 .f32 → Vec F S16384x128 .f32
    → Carried F × Vec F S16384x128 .f32 × Vec F S16384x128 .f32
  | 0, s, dk, dv => (s, dk, dv)
  | n + 1, s, dk, dv =>
    if h : goesOn s = 1#1 ∧ k0_chk1 s.1 then
      let inb := k0_off3_inb s.1 h.2
      tail x K V n (tailStep x (rows K (k0_off3 s.1) inb) (rows V (k0_off3 s.1) inb) s)
        (put dk (k0_off3 s.1) S256x128.size (tailDk x (rows K (k0_off3 s.1) inb) (rows V (k0_off3 s.1) inb) s (rows dk (k0_off3 s.1) inb)))
        (put dv (k0_off3 s.1) S256x128.size (tailDv x (rows K (k0_off3 s.1) inb) s (rows dv (k0_off3 s.1) inb)))
    else (s, dk, dv)

/-- What the two straight tiles of half step `s` leave of the key (or value) gradient. -/
abbrev straight (i : grid0.Coords) (s : Fin 2) (f g : FVec F S256x128 .f32 → FVec F S256x128 .f32) (d : Vec F S16384x128 .f32) : Vec F S16384x128 .f32 :=
  let d' := put d (k0_off1 i (BitVec.ofNat 32 s.val)) S256x128.size (f (rows d _ (k0_off1_inb i s)))
  put d' (k0_off2 i (BitVec.ofNat 32 s.val)) S256x128.size (g (rows d' _ (k0_off2_inb i s)))

/-- Whether the point is the first of its pair of heads, whose key and value gradients start at zero. -/
abbrev opens (i : grid0.Coords) : Prop :=
  Scalar.cmpi .ne (Scalar.extui (Scalar.cmpi .eq (BitVec.ofNat 32 (i 1).val) 0#32)) 0#32 = 1#1

/-- The half steps of point `i` on its blocks: `Q`, `K`, `V`, the cotangent `D` and the attention's output `O`. -/
def half (i : grid0.Coords) (Q : Vec F S512x128 .bf16) (K V : Vec F S16384x128 .bf16) (D : Vec F S512x128 .bf16) (O : Vec F S512x128 .f32) (s : Fin 2) : Half F :=
  match s with
  | 0 => firstHalf i (upper Q) (upper D) (upper O) (rows K _ (k0_off1_inb i 0)) (rows V _ (k0_off1_inb i 0)) (rows K _ (k0_off2_inb i 0)) (rows V _ (k0_off2_inb i 0))
  | 1 => secondHalf i (lower Q) (lower D) (lower O) (rows K _ (k0_off1_inb i 1)) (rows V _ (k0_off1_inb i 1)) (rows K _ (k0_off2_inb i 1)) (rows V _ (k0_off2_inb i 1))

/-- What point `i` leaves in its three results, from the blocks it reads and from what the three held. -/
def atPoint (i : grid0.Coords) (Q : Vec F S512x128 .bf16) (K V : Vec F S16384x128 .bf16) (D : Vec F S512x128 .bf16) (O : Vec F S512x128 .f32)
    (dq : Vec F S512x128 .f32) (dk dv : Vec F S16384x128 .f32) : Vec F S512x128 .f32 × Vec F S16384x128 .f32 × Vec F S16384x128 .f32 :=
  let h0 := half i Q K V D O 0
  let h1 := half i Q K V D O 1
  let dk0 := if opens i then k0_pay16 else dk
  let dv0 := if opens i then k0_pay17 else dv
  let t0 := tail h0.fixed K V 64 h0.carried (straight i 1 h1.dk1 h1.dk2 (straight i 0 h0.dk1 h0.dk2 dk0)) (straight i 1 h1.dv1 h1.dv2 (straight i 0 h0.dv1 h0.dv2 dv0))
  let t1 := tail h1.fixed K V 64 h1.carried t0.2.1 t0.2.2
  (put (put dq ![0, 0] S256x128.size (k0_pay157 h0.lane t0.1.2.2.2.2.2.1 t0.1.2.2.2.2.2.2)) ![256, 0] S256x128.size
      (k0_pay1 h1.lane t1.1.2.2.2.2.2.1 t1.1.2.2.2.2.2.2), t1.2.1, t1.2.2)

end Cert.Proof.Attention.Ideal

end
-- ==== Proof.Attention.Mem.lean ====
/-
  Loads and stores of an owned memref, by the values it holds. Owning a memref at contents `X` (`owns`), a load at a
  unit-stride rectangle reads the window of `X` there (`load_owned`) and an unmasked store leaves `X` with the payload put
  over that window (`store_owned`). Which elements of the underlying buffer the memref places never shows.
-/
module

public import Idealize.ShloMosaic.Lib.VecWindow
public import Idealize.ShloMosaic.Lib.Memref
public import Idealize.ShloMosaic.Lib.Tactic

@[expose] public section

noncomputable section

namespace Cert.Proof.Attention

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {nD : ℕ} {τ : Topo} {sig : RefSig} {Ix : Type} [DecidableEq Ix] {Val : EltTy → Type} {Name : Type} [DecidableEq Name]
variable {U : Type} [URA U] {Lvl : Type} [Preorder Lvl] {Λ : Labels} {defs : Defs nD τ sig Val Λ} (𝒱 : Variants) (c : Thread nD τ)
variable {s : Shape} {e : EltTy} (bd : Option 𝒱.V) (E : Set Name) {α : Type} {Q : α → sProp (MT nD τ sig Ix Val Name U Lvl)}

/-- A load at a unit-stride rectangle reads that window of the owned contents. -/
theorem load_owned {cs : CoreSpace} {m : Memref sig c.2.kind cs s e} {off size : Fin s.rank → ℕ} {inb : ∀ a, off a + size a ≤ s.size a}
    {hl : m.view.LoadsAt (Rect.unit off size inb).toLoadRect}
    {k : ((Rect.unit off size inb).toLoadRect.shape.Idx → Val e) → Prog (TpuEff nD τ sig Val Λ c.2) α} {X : s.Idx → Val e} {q : PosShare TreeShare} :
    owns c m q X
      ⊢ iprop((owns c m q X -∗ wp frame (wpE defs 𝒱 c bd) E (k (VecWindow.window X off size inb)) Q)
        -∗ wp frame (wpE defs 𝒱 c bd) E (.op (.load m (Rect.unit off size inb).toLoadRect hl) k) Q) := by
  unfold owns
  iintro ⟨%f, %hf, H⟩ Hk
  iapply (wp_load 𝒱 c bd E (m := m) (View.setOn_subset_set _ _)) $$ H
  iintro H
  rw [show m.view.readAt Val (Rect.unit off size inb).toLoadRect f = VecWindow.window X off size inb by
    rw [View.readAt_unit m.view f inb rfl inb, hf]]
  iapply Hk
  iexists f; isplitr; · ipureintro; exact hf
  iexact H

/-- An unmasked store at a unit-stride rectangle leaves the owned contents with the payload over that window. -/
theorem store_owned {cs : CoreSpace} {m : Memref sig c.2.kind cs s e} {off size : Fin s.rank → ℕ} {inb : ∀ a, off a + size a ≤ s.size a}
    {w : (Rect.unit off size inb).shape.Idx → Val e} {hx : (m.access (Rect.unit off size inb)).Stores Finset.univ}
    {hm : (Finset.univ : Finset (Rect.unit off size inb).shape.Idx) = Finset.univ ∨ ∀ a, (Rect.unit off size inb).stride a = 1}
    {k : PUnit → Prog (TpuEff nD τ sig Val Λ c.2) α} {X : s.Idx → Val e} :
    owns c m fullShare X
      ⊢ iprop((owns c m fullShare (VecWindow.put X off size w) -∗ wp frame (wpE defs 𝒱 c bd) E (k ⟨⟩) Q)
        -∗ wp frame (wpE defs 𝒱 c bd) E (.op (.store m (Rect.unit off size inb) w Finset.univ hx hm) k) Q) := by
  unfold owns
  iintro ⟨%f, %hf, H⟩ Hk
  iapply (wp_store 𝒱 c bd E (m := m) (r := Rect.unit off size inb) (Mk := Finset.univ) (S := m.view.set) (f := f)
    (View.setOn_slice_subset_set _ _ _)) $$ H
  iintro H
  iapply Hk
  iexists _; isplitr
  swap
  · iexact H
  ipureintro
  rw [← hf]
  exact (View.read_writes_cons_put m.view f inb w [] rfl).trans (by rw [View.writes_nil])

end Cert.Proof.Attention

end
-- ==== Proof.Attention.Tail.lean ====
/-
  The walk down the tiles, as the program runs it: the two `while`s of the kernel's body are labels that call themselves;
  each is met, by induction on the number of tiles left, by the function `tail`.
-/
module

public import proofs.«01_k».proof.Proof.Attention.Walk
public import proofs.«01_k».proof.Proof.Attention.Mem
public import proofs.«01_k».proof.Proof.Gen.AttentionIdeal.Launch
public import proofs.«01_k».proof.Proof.Gen.AttentionIdeal.Points
public import Idealize.ShloMosaic.Lib.Pipeline.FrameBody
public import Idealize.ShloMosaic.Lib.Affine
public import Idealize.ShloMosaic.Lib.WordCmp

@[expose] public section

set_option maxRecDepth 16384

noncomputable section

namespace Cert.Proof.Attention.Ideal

open Cert.AttentionIdeal Cert.AttentionIdeal.Gen
open Idealize.ShloMosaic Idealize.ShloMosaic.TcCoe Idealize.ShloMosaic.VecWindow Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The measure the calls of a label go down by: the tiles left. -/
abbrev 𝒱₀ : Variants := Variants.nat

/-! ### The counter -/

/-- A tile of the 64 there are is inside the arrays. -/
theorem chk_of_lt : ∀ a : Fin 64, k0_chk1 (BitVec.ofNat 32 a.val) := by decide +kernel

/-- A walk that goes on has a tile left. -/
theorem nonneg_of_goesOn {s : Carried F} (h : goesOn s = 1#1) : 0 ≤ s.1.toInt := by
  by_contra hn
  have e : Scalar.cmpi .sge s.1 0#32 = 0#1 := by
    rw [show Scalar.cmpi .sge s.1 0#32 = BitVec.ofBool (decide ((0#32).toInt ≤ s.1.toInt)) from rfl, decide_eq_false (by simpa using hn)]; rfl
  unfold goesOn at h
  rw [e] at h
  generalize Scalar.cmpf (F := F) .ogt (k0_pay2 s.2.1 s.2.2.1) _ = b at h
  revert h; revert b; decide

theorem chk_of_goesOn {s : Carried F} (h : goesOn s = 1#1) (hs : s.1.toInt < 64) : k0_chk1 s.1 := by
  have h0 : 0 ≤ s.1.toInt := nonneg_of_goesOn h
  have e : s.1 = BitVec.ofNat 32 s.1.toNat := by simp
  have : s.1.toNat < 64 := by have := BitVec.toInt_eq_toNat_cond s.1; split at this <;> omega
  rw [e]; exact chk_of_lt ⟨_, this⟩

theorem sub_toInt {a : BitVec 32} (h0 : 0 ≤ a.toInt) : (Scalar.subi a 1#32).toInt = a.toInt - 1 := by
  show (a - 1#32).toInt = _
  have h1 : (1#32).toInt = 1 := rfl
  rw [BitVec.toInt_sub, h1, Int.bmod_def]
  have := BitVec.toInt_lt (x := a)
  norm_num at this ⊢
  omega

/-! ### The labels -/

section Label

variable (c : Dev nD) (i : grid0.Coords)
  (a3 : Memref sig .tc .vmem S16384x128 .bf16) (h3 : a3.IsWhole) (a4 : Memref sig .tc .vmem S16384x128 .bf16) (h4 : a4.IsWhole)
  (a8 : Memref sig .tc .vmem S16384x128 .f32) (h8 : a8.IsWhole) (a9 : Memref sig .tc .vmem S16384x128 .f32) (h9 : a9.IsWhole)
  (K V : Vec F S16384x128 .bf16)

/-- What the walk holds: the keys and the values, and the two gradients it adds to. -/
def held (dk dv : Vec F S16384x128 .f32) : sProp 𝕄 :=
  iprop(owns (c : Thread nD τ) a3 fullShare K ∗ owns (c : Thread nD τ) a4 fullShare V
    ∗ owns (c : Thread nD τ) a8 fullShare dk ∗ owns (c : Thread nD τ) a9 fullShare dv)

/-- The specification of a walk of at most `n` steps: it returns what `tail` carries out, with the gradients as `tail` leaves them. -/
def spec (x : Fixed F) (n : ℕ) (s : Carried F) (dk dv : Vec F S16384x128 .f32) : sWPT 𝕄 (Carried F) := do
  sWPT.consume (held c a3 a4 a8 a9 K V dk dv)
  sWPT.produce (held c a3 a4 a8 a9 K V (tail x K V n s dk dv).2.1 (tail x K V n s dk dv).2.2)
  pure (tail x K V n s dk dv).1

theorem spec_apply (x : Fixed F) (n : ℕ) (s : Carried F) (dk dv : Vec F S16384x128 .f32) (Q : Carried F → sProp 𝕄) :
    spec c a3 a4 a8 a9 K V x n s dk dv Q
      = iprop(held c a3 a4 a8 a9 K V dk dv
          ∗ (held c a3 a4 a8 a9 K V (tail x K V n s dk dv).2.1 (tail x K V n s dk dv).2.2 -∗ Q (tail x K V n s dk dv).1)) := rfl

theorem tail_stop (x : Fixed F) (n : ℕ) (s : Carried F) (dk dv : Vec F S16384x128 .f32) (h : ¬goesOn s = 1#1) : tail x K V n s dk dv = (s, dk, dv) := by
  cases n with
  | zero => rfl
  | succ n => rw [tail, dif_neg fun h' => h h'.1]

/-- The first label, entered with `n` tiles left, does what `tail` says. -/
theorem spec_le1 (E : Set ℕ) (x : Fixed F) : ∀ n : ℕ, n ≤ 64 → ∀ (s : Carried F), s.1.toInt < (n : ℤ) → ∀ (dk dv : Vec F S16384x128 .f32) (Q : Carried F → sProp 𝕄),
    spec c a3 a4 a8 a9 K V x n s dk dv Q
      ⊢ wp frame (wpE (defs₀ (F := F)) 𝒱₀ (c : Thread nD τ) (some n)) E
          (defs₀ (F := F) .tc 1 ⟨i, a3, h3, a4, h4, x.q0, x.strict, x.do0, x.tot0, x.q1, x.do1, x.tot1, a8, h8, a9, h9,
            s.1, s.2.1, s.2.2.1, s.2.2.2.1, s.2.2.2.2.1, s.2.2.2.2.2.1, s.2.2.2.2.2.2⟩) Q := by
  intro n
  induction n with
  | zero =>
    intro _ s hs dk dv Q
    have hg : ¬goesOn s = 1#1 := fun h => by have := nonneg_of_goesOn h; simp at hs; omega
    rw [spec_apply, tail_stop K V x 0 s dk dv hg]
    show _ ⊢ wp frame (wpE (defs₀ (F := F)) 𝒱₀ (c : Thread nD τ) (some 0)) E
      (cc0_while1 i a3 h3 a4 h4 x.q0 x.strict x.do0 x.tot0 x.q1 x.do1 x.tot1 a8 h8 a9 h9
            s.1 s.2.1 s.2.2.1 s.2.2.2.1 s.2.2.2.2.1 s.2.2.2.2.2.1 s.2.2.2.2.2.2) Q
    simp only [cc0_while1_eq_skeleton]; unfold cc0_while1_skel
    have hg' : ¬(Scalar.andi (Scalar.cmpi .sge s.1 0#32) (Scalar.cmpf .ogt (k0_pay2 s.2.1 s.2.2.1) (Named.named κ "cutoff" 0xC2D20000#32 : F .f32)) = 1#1) := hg
    simp only [hg', ↓reduceIte, Prog.pure_eq_ret]
    iintro ⟨H, Hk⟩
    rw [wp_ret]; imodintro
    iapply Hk; iexact H
  | succ n ih =>
    intro hn s hs dk dv Q
    show _ ⊢ wp frame (wpE (defs₀ (F := F)) 𝒱₀ (c : Thread nD τ) (some (n + 1))) E
      (cc0_while1 i a3 h3 a4 h4 x.q0 x.strict x.do0 x.tot0 x.q1 x.do1 x.tot1 a8 h8 a9 h9
            s.1 s.2.1 s.2.2.1 s.2.2.2.1 s.2.2.2.2.1 s.2.2.2.2.2.1 s.2.2.2.2.2.2) Q
    simp only [cc0_while1_eq_skeleton]; unfold cc0_while1_skel
    by_cases hg : goesOn s = 1#1
    · have hchk := chk_of_goesOn hg (by omega)
      have hg' : (Scalar.andi (Scalar.cmpi .sge s.1 0#32) (Scalar.cmpf .ogt (k0_pay2 s.2.1 s.2.2.1) (Named.named κ "cutoff" 0xC2D20000#32 : F .f32)) = 1#1) := hg
      simp only [hg', ↓reduceIte, k0_part17_eq_skeleton, k0_part18_eq_skeleton]
      unfold k0_part17_skel k0_part18_skel
      simp only [Prog.lift, Prog.bind_op, Prog.bind_ret, Prog.pure_eq_ret]
      rw [spec_apply, tail, dif_pos ⟨hg, hchk⟩]
      unfold held
      iintro ⟨⟨H3, H4, H8, H9⟩, Hk⟩
      iapply (wp_assume 𝒱₀ (c : Thread nD τ) (some (n + 1)) E hchk)
      iapply (load_owned 𝒱₀ (c : Thread nD τ) (some (n + 1)) E) $$ H3; iintro H3
      iapply (load_owned 𝒱₀ (c : Thread nD τ) (some (n + 1)) E) $$ H4; iintro H4
      iapply (load_owned 𝒱₀ (c : Thread nD τ) (some (n + 1)) E) $$ H3; iintro H3
      iapply (load_owned 𝒱₀ (c : Thread nD τ) (some (n + 1)) E) $$ H4; iintro H4
      iapply (load_owned 𝒱₀ (c : Thread nD τ) (some (n + 1)) E) $$ H8; iintro H8
      iapply (load_owned 𝒱₀ (c : Thread nD τ) (some (n + 1)) E) $$ H8; iintro H8
      iapply (store_owned 𝒱₀ (c : Thread nD τ) (some (n + 1)) E) $$ H8; iintro H8
      iapply (load_owned 𝒱₀ (c : Thread nD τ) (some (n + 1)) E) $$ H9; iintro H9
      iapply (load_owned 𝒱₀ (c : Thread nD τ) (some (n + 1)) E) $$ H9; iintro H9
      iapply (store_owned 𝒱₀ (c : Thread nD τ) (some (n + 1)) E) $$ H9; iintro H9
      let kt := rows K (k0_off3 s.1) (k0_off3_inb s.1 hchk)
      let vt := rows V (k0_off3 s.1) (k0_off3_inb s.1 hchk)
      let dk' := put dk (k0_off3 s.1) S256x128.size (tailDk x kt vt s (rows dk (k0_off3 s.1) (k0_off3_inb s.1 hchk)))
      let dv' := put dv (k0_off3 s.1) S256x128.size (tailDv x kt s (rows dv (k0_off3 s.1) (k0_off3_inb s.1 hchk)))
      iapply (wp_call_spec 𝒱₀ (c : Thread nD τ) (some (n + 1)) E
        (spec c a3 a4 a8 a9 K V x n (tailStep x (rows K (k0_off3 s.1) (k0_off3_inb s.1 hchk)) (rows V (k0_off3 s.1) (k0_off3_inb s.1 hchk)) s) dk' dv') n
        (fun u hu => by cases hu; exact Nat.lt_succ_self n)
        (ih (by omega) _ (by
          have := nonneg_of_goesOn hg
          show (Scalar.subi s.1 1#32).toInt < (n : ℤ)
          rw [sub_toInt this]; omega) dk' dv'))
      rw [spec_apply]; unfold held
      isplitl [H3 H4 H8 H9]
      · isplitl [H3]; · iexact H3
        isplitl [H4]; · iexact H4
        isplitl [H8]; · iexact H8
        iexact H9
      iintro H
      rw [wp_ret]; imodintro
      iapply Hk; iexact H
    · have hg' : ¬(Scalar.andi (Scalar.cmpi .sge s.1 0#32) (Scalar.cmpf .ogt (k0_pay2 s.2.1 s.2.2.1) (Named.named κ "cutoff" 0xC2D20000#32 : F .f32)) = 1#1) := hg
      rw [spec_apply, tail_stop K V x (n + 1) s dk dv hg]
      simp only [hg', ↓reduceIte, Prog.pure_eq_ret]
      iintro ⟨H, Hk⟩
      rw [wp_ret]; imodintro
      iapply Hk; iexact H

/-- The second walk's arithmetic is the first's. -/
theorem second_walk : @k0_pay9 = @k0_pay2 ∧ @k0_pay11 = @k0_pay4 ∧ @k0_pay12 = @k0_pay5 ∧ @k0_pay13 = @k0_pay6 ∧ @k0_pay14 = @k0_pay7 ∧ @k0_pay15 = @k0_pay8
    ∧ @k0_pay176 = @k0_pay158 ∧ @k0_pay178 = @k0_pay160 ∧ @k0_pay179 = @k0_pay161 ∧ @k0_pay180 = @k0_pay162 ∧ @k0_pay181 = @k0_pay163 ∧ @k0_pay182 = @k0_pay164 ∧ @k0_pay184 = @k0_pay166 ∧ @k0_pay185 = @k0_pay167 ∧ @k0_pay186 = @k0_pay168 ∧ @k0_pay187 = @k0_pay169 ∧ @k0_pay188 = @k0_pay170 ∧ @k0_pay189 = @k0_pay171 ∧ @k0_pay190 = @k0_pay172 ∧ @k0_pay191 = @k0_pay173 ∧ @k0_pay192 = @k0_pay174 ∧ @k0_pay193 = @k0_pay175 := by
  refine ⟨rfl, rfl, rfl, rfl, rfl, rfl, rfl, rfl, rfl, rfl, rfl, rfl, rfl, rfl, rfl, rfl, rfl, rfl, rfl, rfl, rfl, rfl⟩

/-- The second label, entered with `n` tiles left, does what `tail` says. -/
theorem spec_le2 (E : Set ℕ) (x : Fixed F) : ∀ n : ℕ, n ≤ 64 → ∀ (s : Carried F), s.1.toInt < (n : ℤ) → ∀ (dk dv : Vec F S16384x128 .f32) (Q : Carried F → sProp 𝕄),
    spec c a3 a4 a8 a9 K V x n s dk dv Q
      ⊢ wp frame (wpE (defs₀ (F := F)) 𝒱₀ (c : Thread nD τ) (some n)) E
          (defs₀ (F := F) .tc 2 ⟨i, a3, h3, a4, h4, x.q0, x.strict, x.do0, x.tot0, x.q1, x.do1, x.tot1, a8, h8, a9, h9,
            s.1, s.2.1, s.2.2.1, s.2.2.2.1, s.2.2.2.2.1, s.2.2.2.2.2.1, s.2.2.2.2.2.2⟩) Q := by
  obtain ⟨e1, e2, e3, e4, e5, e6, f1, f2, f3, f4, f5, f6, f7, f8, f9, f10, f11, f12, f13, f14, f15, f16⟩ := @second_walk
  intro n
  induction n with
  | zero =>
    intro _ s hs dk dv Q
    have hg : ¬goesOn s = 1#1 := fun h => by have := nonneg_of_goesOn h; simp at hs; omega
    rw [spec_apply, tail_stop K V x 0 s dk dv hg]
    show _ ⊢ wp frame (wpE (defs₀ (F := F)) 𝒱₀ (c : Thread nD τ) (some 0)) E
      (cc0_while2 i a3 h3 a4 h4 x.q0 x.strict x.do0 x.tot0 x.q1 x.do1 x.tot1 a8 h8 a9 h9
            s.1 s.2.1 s.2.2.1 s.2.2.2.1 s.2.2.2.2.1 s.2.2.2.2.2.1 s.2.2.2.2.2.2) Q
    simp only [cc0_while2_eq_skeleton]; unfold cc0_while2_skel
    rw [e1]
    have hg' : ¬(Scalar.andi (Scalar.cmpi .sge s.1 0#32) (Scalar.cmpf .ogt (k0_pay2 s.2.1 s.2.2.1) (Named.named κ "cutoff" 0xC2D20000#32 : F .f32)) = 1#1) := hg
    simp only [hg', ↓reduceIte, Prog.pure_eq_ret]
    iintro ⟨H, Hk⟩
    rw [wp_ret]; imodintro
    iapply Hk; iexact H
  | succ n ih =>
    intro hn s hs dk dv Q
    show _ ⊢ wp frame (wpE (defs₀ (F := F)) 𝒱₀ (c : Thread nD τ) (some (n + 1))) E
      (cc0_while2 i a3 h3 a4 h4 x.q0 x.strict x.do0 x.tot0 x.q1 x.do1 x.tot1 a8 h8 a9 h9
            s.1 s.2.1 s.2.2.1 s.2.2.2.1 s.2.2.2.2.1 s.2.2.2.2.2.1 s.2.2.2.2.2.2) Q
    simp only [cc0_while2_eq_skeleton]; unfold cc0_while2_skel
    rw [e1]
    by_cases hg : goesOn s = 1#1
    · have hchk := chk_of_goesOn hg (by omega)
      have hg' : (Scalar.andi (Scalar.cmpi .sge s.1 0#32) (Scalar.cmpf .ogt (k0_pay2 s.2.1 s.2.2.1) (Named.named κ "cutoff" 0xC2D20000#32 : F .f32)) = 1#1) := hg
      simp only [hg', ↓reduceIte, k0_part19_eq_skeleton, k0_part20_eq_skeleton]
      unfold k0_part19_skel k0_part20_skel
      simp only [Prog.lift, Prog.bind_op, Prog.bind_ret, Prog.pure_eq_ret, e2, e3, e4, e5, e6, f1, f2, f3, f4, f5, f6, f7, f8, f9, f10, f11, f12, f13, f14, f15, f16,
        show @k0_off4 = @k0_off3 from rfl]
      rw [spec_apply, tail, dif_pos ⟨hg, hchk⟩]
      unfold held
      iintro ⟨⟨H3, H4, H8, H9⟩, Hk⟩
      iapply (wp_assume 𝒱₀ (c : Thread nD τ) (some (n + 1)) E hchk)
      iapply (load_owned 𝒱₀ (c : Thread nD τ) (some (n + 1)) E) $$ H3; iintro H3
      iapply (load_owned 𝒱₀ (c : Thread nD τ) (some (n + 1)) E) $$ H4; iintro H4
      iapply (load_owned 𝒱₀ (c : Thread nD τ) (some (n + 1)) E) $$ H3; iintro H3
      iapply (load_owned 𝒱₀ (c : Thread nD τ) (some (n + 1)) E) $$ H4; iintro H4
      iapply (load_owned 𝒱₀ (c : Thread nD τ) (some (n + 1)) E) $$ H8; iintro H8
      iapply (load_owned 𝒱₀ (c : Thread nD τ) (some (n + 1)) E) $$ H8; iintro H8
      iapply (store_owned 𝒱₀ (c : Thread nD τ) (some (n + 1)) E) $$ H8; iintro H8
      iapply (load_owned 𝒱₀ (c : Thread nD τ) (some (n + 1)) E) $$ H9; iintro H9
      iapply (load_owned 𝒱₀ (c : Thread nD τ) (some (n + 1)) E) $$ H9; iintro H9
      iapply (store_owned 𝒱₀ (c : Thread nD τ) (some (n + 1)) E) $$ H9; iintro H9
      let kt := rows K (k0_off3 s.1) (k0_off3_inb s.1 hchk)
      let vt := rows V (k0_off3 s.1) (k0_off3_inb s.1 hchk)
      let dk' := put dk (k0_off3 s.1) S256x128.size (tailDk x kt vt s (rows dk (k0_off3 s.1) (k0_off3_inb s.1 hchk)))
      let dv' := put dv (k0_off3 s.1) S256x128.size (tailDv x kt s (rows dv (k0_off3 s.1) (k0_off3_inb s.1 hchk)))
      iapply (wp_call_spec 𝒱₀ (c : Thread nD τ) (some (n + 1)) E
        (spec c a3 a4 a8 a9 K V x n (tailStep x (rows K (k0_off3 s.1) (k0_off3_inb s.1 hchk)) (rows V (k0_off3 s.1) (k0_off3_inb s.1 hchk)) s) dk' dv') n
        (fun u hu => by cases hu; exact Nat.lt_succ_self n)
        (ih (by omega) _ (by
          have := nonneg_of_goesOn hg
          show (Scalar.subi s.1 1#32).toInt < (n : ℤ)
          rw [sub_toInt this]; omega) dk' dv'))
      rw [spec_apply]; unfold held
      isplitl [H3 H4 H8 H9]
      · isplitl [H3]; · iexact H3
        isplitl [H4]; · iexact H4
        isplitl [H8]; · iexact H8
        iexact H9
      iintro H
      rw [wp_ret]; imodintro
      iapply Hk; iexact H
    · have hg' : ¬(Scalar.andi (Scalar.cmpi .sge s.1 0#32) (Scalar.cmpf .ogt (k0_pay2 s.2.1 s.2.2.1) (Named.named κ "cutoff" 0xC2D20000#32 : F .f32)) = 1#1) := hg
      rw [spec_apply, tail_stop K V x (n + 1) s dk dv hg]
      simp only [hg', ↓reduceIte, Prog.pure_eq_ret]
      iintro ⟨H, Hk⟩
      rw [wp_ret]; imodintro
      iapply Hk; iexact H

end Label

end Cert.Proof.Attention.Ideal

end
-- ==== Proof.Attention.Body.lean ====
/-
  One grid point's program, run: from the blocks it reads and any contents of its three results, the body leaves in the
  results what `atPoint` says.
-/
module

public import proofs.«01_k».proof.Proof.Attention.Tail
public import proofs.«01_k».proof.Proof.Gen.AttentionIdeal.Launch
public import proofs.«01_k».proof.Proof.Gen.AttentionIdeal.Points
public import Idealize.ShloMosaic.Lib.Pipeline.FrameBody
public import Idealize.ShloMosaic.Lib.Affine
public import Idealize.ShloMosaic.Lib.WordCmp

@[expose] public section

set_option maxRecDepth 16384

noncomputable section

namespace Cert.Proof.Attention.Ideal

open Cert.AttentionIdeal Cert.AttentionIdeal.Gen
open Idealize.ShloMosaic Idealize.ShloMosaic.TcCoe Idealize.ShloMosaic.VecWindow Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- A put over the whole shape leaves the payload. -/
theorem put_whole {α : Type} (x w : S16384x128.Idx → α) : put (s := S16384x128) x ![0, 0] S16384x128.size w = w := by
  funext y
  have h : ∀ a, (![0, 0] : Fin 2 → ℕ) a ≤ (y a).val ∧ (y a).val < (![0, 0] : Fin 2 → ℕ) a + S16384x128.size a := fun a => by
    have := (y a).isLt
    fin_cases a <;> exact ⟨Nat.zero_le _, by simpa using this⟩
  show (if h : _ then w (Rect.unitLocal (s := S16384x128) (off := ![0, 0]) (size := S16384x128.size) y h) else _) = w y
  rw [dif_pos h]
  exact congrArg w (funext fun a => Fin.ext (by fin_cases a <;> rfl))

/-- The tile after the two straight ones of the first half step is below the number of tiles there are. -/
theorem first_lt (i : grid0.Coords) (v8 v36 : Vec F S256x128 .bf16) (v47 : Vec F S256x128 .f32) (v69 v72 v133 v136 : Vec F S256x128 .bf16) :
    (firstHalf i v8 v36 v47 v69 v72 v133 v136).carried.1.toInt < ((64 : ℕ) : ℤ) := by
  have : ∀ i : grid0.Coords, (Scalar.subi (Scalar.divsi (Scalar.muli (Scalar.addi (Scalar.muli (BitVec.ofNat 32 (i 1).val) 2#32) 0#32) 256#32) 256#32) 2#32).toInt < ((64 : ℕ) : ℤ) := by
    decide +kernel
  exact this i

/-- And so is that of the second. -/
theorem second_lt (i : grid0.Coords) (v357 v385 : Vec F S256x128 .bf16) (v396 : Vec F S256x128 .f32) (v418 v421 v482 v485 : Vec F S256x128 .bf16) :
    (secondHalf i v357 v385 v396 v418 v421 v482 v485).carried.1.toInt < ((64 : ℕ) : ℤ) := by
  have : ∀ i : grid0.Coords, (Scalar.subi (Scalar.divsi (Scalar.muli (Scalar.addi (Scalar.muli (BitVec.ofNat 32 (i 1).val) 2#32) 1#32) 256#32) 256#32) 2#32).toInt < ((64 : ℕ) : ℤ) := by
    decide +kernel
  exact this i

set_option maxHeartbeats 4000000 in
/-- The body at point `i`, on whole blocks at the contents named: it leaves the inputs as they were and the results as `atPoint` says. -/
theorem body_run (c : Dev nD) (i : grid0.Coords)
    (a2 : Memref sig .tc .vmem S512x128 .bf16) (h2 : a2.IsWhole) (a3 : Memref sig .tc .vmem S16384x128 .bf16) (h3 : a3.IsWhole)
    (a4 : Memref sig .tc .vmem S16384x128 .bf16) (h4 : a4.IsWhole) (a5 : Memref sig .tc .vmem S512x128 .bf16) (h5 : a5.IsWhole)
    (a6 : Memref sig .tc .vmem S512x128 .f32) (h6 : a6.IsWhole) (a7 : Memref sig .tc .vmem S512x128 .f32) (h7 : a7.IsWhole)
    (a8 : Memref sig .tc .vmem S16384x128 .f32) (h8 : a8.IsWhole) (a9 : Memref sig .tc .vmem S16384x128 .f32) (h9 : a9.IsWhole)
    (Q : Vec F S512x128 .bf16) (K V : Vec F S16384x128 .bf16) (D : Vec F S512x128 .bf16) (O dq : Vec F S512x128 .f32) (dk dv : Vec F S16384x128 .f32)
    (Φ : PUnit → sProp 𝕄) :
    iprop(owns (c : Thread nD τ) a2 fullShare Q ∗ owns (c : Thread nD τ) a3 fullShare K ∗ owns (c : Thread nD τ) a4 fullShare V
        ∗ owns (c : Thread nD τ) a5 fullShare D ∗ owns (c : Thread nD τ) a6 fullShare O ∗ owns (c : Thread nD τ) a7 fullShare dq
        ∗ owns (c : Thread nD τ) a8 fullShare dk ∗ owns (c : Thread nD τ) a9 fullShare dv
        ∗ ((owns (c : Thread nD τ) a2 fullShare Q ∗ owns (c : Thread nD τ) a3 fullShare K ∗ owns (c : Thread nD τ) a4 fullShare V
        ∗ owns (c : Thread nD τ) a5 fullShare D ∗ owns (c : Thread nD τ) a6 fullShare O ∗ owns (c : Thread nD τ) a7 fullShare (atPoint i Q K V D O dq dk dv).1
        ∗ owns (c : Thread nD τ) a8 fullShare (atPoint i Q K V D O dq dk dv).2.1 ∗ owns (c : Thread nD τ) a9 fullShare (atPoint i Q K V D O dq dk dv).2.2) -∗ Φ ⟨⟩))
      ⊢ wp frame (wpE (defs₀ (F := F)) 𝒱₀ (c : Thread nD τ) none) Set.univ (cc0_sb_bwd i a2 h2 a3 h3 a4 h4 a5 h5 a6 h6 a7 h7 a8 h8 a9 h9) Φ := by
  rw [cc0_sb_bwd_eq_skeleton]
  unfold cc0_sb_bwd_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel
  by_cases ho : opens i
  · have ho' : Scalar.cmpi .ne (Scalar.extui (Scalar.cmpi .eq (BitVec.ofNat 32 (i 1).val) 0#32)) 0#32 = 1#1 := ho
    simp only [ho', ↓reduceDIte, Prog.lift, Prog.bind_op, Prog.bind_ret, Prog.pure_eq_ret]
    unfold atPoint
    rw [if_pos ho, if_pos ho]
    iintro ⟨H2, H3, H4, H5, H6, H7, H8, H9, Hk⟩
    iapply (load_owned 𝒱₀ (c : Thread nD τ) none Set.univ) $$ H8; iintro H8
    iapply (store_owned 𝒱₀ (c : Thread nD τ) none Set.univ) $$ H8; iintro H8
    iapply (load_owned 𝒱₀ (c : Thread nD τ) none Set.univ) $$ H9; iintro H9
    iapply (store_owned 𝒱₀ (c : Thread nD τ) none Set.univ) $$ H9; iintro H9
    rw [put_whole dk, put_whole dv]
    iapply (load_owned 𝒱₀ (c : Thread nD τ) none Set.univ) $$ H2; iintro H2
    iapply (load_owned 𝒱₀ (c : Thread nD τ) none Set.univ) $$ H5; iintro H5
    iapply (load_owned 𝒱₀ (c : Thread nD τ) none Set.univ) $$ H6; iintro H6
    iapply (load_owned 𝒱₀ (c : Thread nD τ) none Set.univ) $$ H3; iintro H3
    iapply (load_owned 𝒱₀ (c : Thread nD τ) none Set.univ) $$ H4; iintro H4
    iapply (load_owned 𝒱₀ (c : Thread nD τ) none Set.univ) $$ H3; iintro H3
    iapply (load_owned 𝒱₀ (c : Thread nD τ) none Set.univ) $$ H4; iintro H4
    iapply (load_owned 𝒱₀ (c : Thread nD τ) none Set.univ) $$ H3; iintro H3
    iapply (load_owned 𝒱₀ (c : Thread nD τ) none Set.univ) $$ H4; iintro H4
    iapply (load_owned 𝒱₀ (c : Thread nD τ) none Set.univ) $$ H3; iintro H3
    iapply (load_owned 𝒱₀ (c : Thread nD τ) none Set.univ) $$ H4; iintro H4
    iapply (load_owned 𝒱₀ (c : Thread nD τ) none Set.univ) $$ H8; iintro H8
    iapply (load_owned 𝒱₀ (c : Thread nD τ) none Set.univ) $$ H8; iintro H8
    iapply (store_owned 𝒱₀ (c : Thread nD τ) none Set.univ) $$ H8; iintro H8
    iapply (load_owned 𝒱₀ (c : Thread nD τ) none Set.univ) $$ H9; iintro H9
    iapply (load_owned 𝒱₀ (c : Thread nD τ) none Set.univ) $$ H9; iintro H9
    iapply (store_owned 𝒱₀ (c : Thread nD τ) none Set.univ) $$ H9; iintro H9
    iapply (load_owned 𝒱₀ (c : Thread nD τ) none Set.univ) $$ H8; iintro H8
    iapply (load_owned 𝒱₀ (c : Thread nD τ) none Set.univ) $$ H8; iintro H8
    iapply (store_owned 𝒱₀ (c : Thread nD τ) none Set.univ) $$ H8; iintro H8
    iapply (load_owned 𝒱₀ (c : Thread nD τ) none Set.univ) $$ H9; iintro H9
    iapply (load_owned 𝒱₀ (c : Thread nD τ) none Set.univ) $$ H9; iintro H9
    iapply (store_owned 𝒱₀ (c : Thread nD τ) none Set.univ) $$ H9; iintro H9
    iapply (load_owned 𝒱₀ (c : Thread nD τ) none Set.univ) $$ H2; iintro H2
    iapply (load_owned 𝒱₀ (c : Thread nD τ) none Set.univ) $$ H5; iintro H5
    iapply (load_owned 𝒱₀ (c : Thread nD τ) none Set.univ) $$ H6; iintro H6
    iapply (load_owned 𝒱₀ (c : Thread nD τ) none Set.univ) $$ H3; iintro H3
    iapply (load_owned 𝒱₀ (c : Thread nD τ) none Set.univ) $$ H4; iintro H4
    iapply (load_owned 𝒱₀ (c : Thread nD τ) none Set.univ) $$ H3; iintro H3
    iapply (load_owned 𝒱₀ (c : Thread nD τ) none Set.univ) $$ H4; iintro H4
    iapply (load_owned 𝒱₀ (c : Thread nD τ) none Set.univ) $$ H3; iintro H3
    iapply (load_owned 𝒱₀ (c : Thread nD τ) none Set.univ) $$ H4; iintro H4
    iapply (load_owned 𝒱₀ (c : Thread nD τ) none Set.univ) $$ H3; iintro H3
    iapply (load_owned 𝒱₀ (c : Thread nD τ) none Set.univ) $$ H4; iintro H4
    iapply (load_owned 𝒱₀ (c : Thread nD τ) none Set.univ) $$ H8; iintro H8
    iapply (load_owned 𝒱₀ (c : Thread nD τ) none Set.univ) $$ H8; iintro H8
    iapply (store_owned 𝒱₀ (c : Thread nD τ) none Set.univ) $$ H8; iintro H8
    iapply (load_owned 𝒱₀ (c : Thread nD τ) none Set.univ) $$ H9; iintro H9
    iapply (load_owned 𝒱₀ (c : Thread nD τ) none Set.univ) $$ H9; iintro H9
    iapply (store_owned 𝒱₀ (c : Thread nD τ) none Set.univ) $$ H9; iintro H9
    iapply (load_owned 𝒱₀ (c : Thread nD τ) none Set.univ) $$ H8; iintro H8
    iapply (load_owned 𝒱₀ (c : Thread nD τ) none Set.univ) $$ H8; iintro H8
    iapply (store_owned 𝒱₀ (c : Thread nD τ) none Set.univ) $$ H8; iintro H8
    iapply (load_owned 𝒱₀ (c : Thread nD τ) none Set.univ) $$ H9; iintro H9
    iapply (load_owned 𝒱₀ (c : Thread nD τ) none Set.univ) $$ H9; iintro H9
    iapply (store_owned 𝒱₀ (c : Thread nD τ) none Set.univ) $$ H9; iintro H9
    let h0 := half i Q K V D O 0
    let h1 := half i Q K V D O 1
    let dk1 := straight i 1 h1.dk1 h1.dk2 (straight i 0 h0.dk1 h0.dk2 k0_pay16)
    let dv1 := straight i 1 h1.dv1 h1.dv2 (straight i 0 h0.dv1 h0.dv2 k0_pay17)
    iapply (wp_call_spec 𝒱₀ (c : Thread nD τ) none Set.univ (spec c a3 a4 a8 a9 K V h0.fixed 64 h0.carried dk1 dv1) 64 (fun u hu => nomatch hu)
      (spec_le1 c i a3 h3 a4 h4 a8 h8 a9 h9 K V Set.univ h0.fixed 64 le_rfl h0.carried (first_lt i _ _ _ _ _ _ _) dk1 dv1))
    rw [spec_apply]; unfold held
    isplitl [H3 H4 H8 H9]
    · isplitl [H3]; · iexact H3
      isplitl [H4]; · iexact H4
      isplitl [H8]; · iexact H8
      iexact H9
    iintro ⟨H3, H4, H8, H9⟩
    iapply (load_owned 𝒱₀ (c : Thread nD τ) none Set.univ) $$ H7; iintro H7
    iapply (store_owned 𝒱₀ (c : Thread nD τ) none Set.univ) $$ H7; iintro H7
    iapply (wp_call_spec 𝒱₀ (c : Thread nD τ) none Set.univ (spec c a3 a4 a8 a9 K V h1.fixed 64 h1.carried (tail h0.fixed K V 64 h0.carried dk1 dv1).2.1 (tail h0.fixed K V 64 h0.carried dk1 dv1).2.2) 64 (fun u hu => nomatch hu)
      (spec_le2 c i a3 h3 a4 h4 a8 h8 a9 h9 K V Set.univ h1.fixed 64 le_rfl h1.carried (second_lt i _ _ _ _ _ _ _) (tail h0.fixed K V 64 h0.carried dk1 dv1).2.1 (tail h0.fixed K V 64 h0.carried dk1 dv1).2.2))
    rw [spec_apply]; unfold held
    isplitl [H3 H4 H8 H9]
    · isplitl [H3]; · iexact H3
      isplitl [H4]; · iexact H4
      isplitl [H8]; · iexact H8
      iexact H9
    iintro ⟨H3, H4, H8, H9⟩
    iapply (load_owned 𝒱₀ (c : Thread nD τ) none Set.univ) $$ H7; iintro H7
    iapply (store_owned 𝒱₀ (c : Thread nD τ) none Set.univ) $$ H7; iintro H7
    rw [wp_ret]; imodintro
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · have ho' : ¬Scalar.cmpi .ne (Scalar.extui (Scalar.cmpi .eq (BitVec.ofNat 32 (i 1).val) 0#32)) 0#32 = 1#1 := ho
    simp only [ho', ↓reduceDIte, Prog.lift, Prog.bind_op, Prog.bind_ret, Prog.pure_eq_ret]
    unfold atPoint
    rw [if_neg ho, if_neg ho]
    iintro ⟨H2, H3, H4, H5, H6, H7, H8, H9, Hk⟩
    iapply (load_owned 𝒱₀ (c : Thread nD τ) none Set.univ) $$ H2; iintro H2
    iapply (load_owned 𝒱₀ (c : Thread nD τ) none Set.univ) $$ H5; iintro H5
    iapply (load_owned 𝒱₀ (c : Thread nD τ) none Set.univ) $$ H6; iintro H6
    iapply (load_owned 𝒱₀ (c : Thread nD τ) none Set.univ) $$ H3; iintro H3
    iapply (load_owned 𝒱₀ (c : Thread nD τ) none Set.univ) $$ H4; iintro H4
    iapply (load_owned 𝒱₀ (c : Thread nD τ) none Set.univ) $$ H3; iintro H3
    iapply (load_owned 𝒱₀ (c : Thread nD τ) none Set.univ) $$ H4; iintro H4
    iapply (load_owned 𝒱₀ (c : Thread nD τ) none Set.univ) $$ H3; iintro H3
    iapply (load_owned 𝒱₀ (c : Thread nD τ) none Set.univ) $$ H4; iintro H4
    iapply (load_owned 𝒱₀ (c : Thread nD τ) none Set.univ) $$ H3; iintro H3
    iapply (load_owned 𝒱₀ (c : Thread nD τ) none Set.univ) $$ H4; iintro H4
    iapply (load_owned 𝒱₀ (c : Thread nD τ) none Set.univ) $$ H8; iintro H8
    iapply (load_owned 𝒱₀ (c : Thread nD τ) none Set.univ) $$ H8; iintro H8
    iapply (store_owned 𝒱₀ (c : Thread nD τ) none Set.univ) $$ H8; iintro H8
    iapply (load_owned 𝒱₀ (c : Thread nD τ) none Set.univ) $$ H9; iintro H9
    iapply (load_owned 𝒱₀ (c : Thread nD τ) none Set.univ) $$ H9; iintro H9
    iapply (store_owned 𝒱₀ (c : Thread nD τ) none Set.univ) $$ H9; iintro H9
    iapply (load_owned 𝒱₀ (c : Thread nD τ) none Set.univ) $$ H8; iintro H8
    iapply (load_owned 𝒱₀ (c : Thread nD τ) none Set.univ) $$ H8; iintro H8
    iapply (store_owned 𝒱₀ (c : Thread nD τ) none Set.univ) $$ H8; iintro H8
    iapply (load_owned 𝒱₀ (c : Thread nD τ) none Set.univ) $$ H9; iintro H9
    iapply (load_owned 𝒱₀ (c : Thread nD τ) none Set.univ) $$ H9; iintro H9
    iapply (store_owned 𝒱₀ (c : Thread nD τ) none Set.univ) $$ H9; iintro H9
    iapply (load_owned 𝒱₀ (c : Thread nD τ) none Set.univ) $$ H2; iintro H2
    iapply (load_owned 𝒱₀ (c : Thread nD τ) none Set.univ) $$ H5; iintro H5
    iapply (load_owned 𝒱₀ (c : Thread nD τ) none Set.univ) $$ H6; iintro H6
    iapply (load_owned 𝒱₀ (c : Thread nD τ) none Set.univ) $$ H3; iintro H3
    iapply (load_owned 𝒱₀ (c : Thread nD τ) none Set.univ) $$ H4; iintro H4
    iapply (load_owned 𝒱₀ (c : Thread nD τ) none Set.univ) $$ H3; iintro H3
    iapply (load_owned 𝒱₀ (c : Thread nD τ) none Set.univ) $$ H4; iintro H4
    iapply (load_owned 𝒱₀ (c : Thread nD τ) none Set.univ) $$ H3; iintro H3
    iapply (load_owned 𝒱₀ (c : Thread nD τ) none Set.univ) $$ H4; iintro H4
    iapply (load_owned 𝒱₀ (c : Thread nD τ) none Set.univ) $$ H3; iintro H3
    iapply (load_owned 𝒱₀ (c : Thread nD τ) none Set.univ) $$ H4; iintro H4
    iapply (load_owned 𝒱₀ (c : Thread nD τ) none Set.univ) $$ H8; iintro H8
    iapply (load_owned 𝒱₀ (c : Thread nD τ) none Set.univ) $$ H8; iintro H8
    iapply (store_owned 𝒱₀ (c : Thread nD τ) none Set.univ) $$ H8; iintro H8
    iapply (load_owned 𝒱₀ (c : Thread nD τ) none Set.univ) $$ H9; iintro H9
    iapply (load_owned 𝒱₀ (c : Thread nD τ) none Set.univ) $$ H9; iintro H9
    iapply (store_owned 𝒱₀ (c : Thread nD τ) none Set.univ) $$ H9; iintro H9
    iapply (load_owned 𝒱₀ (c : Thread nD τ) none Set.univ) $$ H8; iintro H8
    iapply (load_owned 𝒱₀ (c : Thread nD τ) none Set.univ) $$ H8; iintro H8
    iapply (store_owned 𝒱₀ (c : Thread nD τ) none Set.univ) $$ H8; iintro H8
    iapply (load_owned 𝒱₀ (c : Thread nD τ) none Set.univ) $$ H9; iintro H9
    iapply (load_owned 𝒱₀ (c : Thread nD τ) none Set.univ) $$ H9; iintro H9
    iapply (store_owned 𝒱₀ (c : Thread nD τ) none Set.univ) $$ H9; iintro H9
    let h0 := half i Q K V D O 0
    let h1 := half i Q K V D O 1
    let dk1 := straight i 1 h1.dk1 h1.dk2 (straight i 0 h0.dk1 h0.dk2 dk)
    let dv1 := straight i 1 h1.dv1 h1.dv2 (straight i 0 h0.dv1 h0.dv2 dv)
    iapply (wp_call_spec 𝒱₀ (c : Thread nD τ) none Set.univ (spec c a3 a4 a8 a9 K V h0.fixed 64 h0.carried dk1 dv1) 64 (fun u hu => nomatch hu)
      (spec_le1 c i a3 h3 a4 h4 a8 h8 a9 h9 K V Set.univ h0.fixed 64 le_rfl h0.carried (first_lt i _ _ _ _ _ _ _) dk1 dv1))
    rw [spec_apply]; unfold held
    isplitl [H3 H4 H8 H9]
    · isplitl [H3]; · iexact H3
      isplitl [H4]; · iexact H4
      isplitl [H8]; · iexact H8
      iexact H9
    iintro ⟨H3, H4, H8, H9⟩
    iapply (load_owned 𝒱₀ (c : Thread nD τ) none Set.univ) $$ H7; iintro H7
    iapply (store_owned 𝒱₀ (c : Thread nD τ) none Set.univ) $$ H7; iintro H7
    iapply (wp_call_spec 𝒱₀ (c : Thread nD τ) none Set.univ (spec c a3 a4 a8 a9 K V h1.fixed 64 h1.carried (tail h0.fixed K V 64 h0.carried dk1 dv1).2.1 (tail h0.fixed K V 64 h0.carried dk1 dv1).2.2) 64 (fun u hu => nomatch hu)
      (spec_le2 c i a3 h3 a4 h4 a8 h8 a9 h9 K V Set.univ h1.fixed 64 le_rfl h1.carried (second_lt i _ _ _ _ _ _ _) (tail h0.fixed K V 64 h0.carried dk1 dv1).2.1 (tail h0.fixed K V 64 h0.carried dk1 dv1).2.2))
    rw [spec_apply]; unfold held
    isplitl [H3 H4 H8 H9]
    · isplitl [H3]; · iexact H3
      isplitl [H4]; · iexact H4
      isplitl [H8]; · iexact H8
      iexact H9
    iintro ⟨H3, H4, H8, H9⟩
    iapply (load_owned 𝒱₀ (c : Thread nD τ) none Set.univ) $$ H7; iintro H7
    iapply (store_owned 𝒱₀ (c : Thread nD τ) none Set.univ) $$ H7; iintro H7
    rw [wp_ret]; imodintro
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

end Cert.Proof.Attention.Ideal

end
-- ==== Proof.Attention.Run.lean ====
/-
  The attention gradient run: the region's buffers as the host lines leave them, what each grid point leaves in the three
  results, and the launch. Every execution ends, with the argument arrays as they were and every semaphore counter at zero.
-/
module

public import proofs.«01_k».proof.Proof.Attention.Body

@[expose] public section

set_option maxRecDepth 16384

noncomputable section

namespace Cert.Proof.Attention.Ideal

open Cert.AttentionIdeal Cert.AttentionIdeal.Gen
open Idealize.ShloMosaic Idealize.ShloMosaic.TcCoe Idealize.ShloMosaic.VecWindow Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ### The host lines -/

/-- The host lines in front of the region, stretch by stretch. -/
abbrev stretches : List (List (HloOp τ sig (Elt F))) :=
  [hostOps0, hostOps0_1, hostOps0_2, hostOps0_3, hostOps0_4, hostOps0_5, hostOps0_6, hostOps0_7]

theorem stretches_sub : (stretches (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub⟩

theorem stretches_fresh : (stretches (F := F)).Forall fun ops => ops.Forall fun op => op.fresh = ∅ := by
  simp only [List.Forall]; repeat' constructor

/-- The buffers when the region is entered: after the host lines. -/
abbrev V (c : Dev nD) (b : Ref sig .tc) : Buf (Elt F) ((c : Thread nD τ).loc b) := StableHlo.after (stretches (F := F)).flatten (fun b => m (c, b)) b

set_option maxHeartbeats 1600000 in
theorem hmain : Pipeline.HMain (Ix := Unit) (Name := ℕ) (U := UR sig nD τ) (Lvl := ℕ) cfgs 0 defs₀ 𝒱₀ m (main (F := F)) (V m) :=
  Pipeline.hmain_prefixes cfgs 0 defs₀ 𝒱₀ m main stretches stretches_sub stretches_fresh main_chain

/-- No host line writes the first argument, -/
theorem V_main_arg0 (c : Dev nD) : V m c main_arg0 = m ((c : Thread nD τ).loc main_arg0) :=
  StableHlo.after_of_forall_not_mem (b := Proc.devRef .tc main_arg0) _ _ (List.forall_iff_forall_mem.mp (by
    simp only [stretches, hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- nor the second. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [stretches, hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-! ### What the points leave -/

/-- Window `w`'s block at point `t` of its array as the region finds it. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- What the three results' blocks hold after the point at position `n`, over what the point before left. -/
def outsAt (c : Dev nD) : (n : ℕ) → n < (cfg0 (F := F)).N → Vec F S512x128 .f32 × Vec F S16384x128 .f32 × Vec F S16384x128 .f32
  | 0, h => atPoint (grid0.coords ⟨0, h⟩) (iblk m c 0 ⟨0, h⟩) (iblk m c 1 ⟨0, h⟩) (iblk m c 2 ⟨0, h⟩) (iblk m c 3 ⟨0, h⟩) (iblk m c 4 ⟨0, h⟩)
      (iblk m c 4 ⟨0, h⟩) k0_pay16 k0_pay17
  | n + 1, h => atPoint (grid0.coords ⟨n + 1, h⟩) (iblk m c 0 ⟨n + 1, h⟩) (iblk m c 1 ⟨n + 1, h⟩) (iblk m c 2 ⟨n + 1, h⟩) (iblk m c 3 ⟨n + 1, h⟩) (iblk m c 4 ⟨n + 1, h⟩)
      (iblk m c 4 ⟨n + 1, h⟩) (outsAt c n (Nat.lt_of_succ_lt h)).2.1 (outsAt c n (Nat.lt_of_succ_lt h)).2.2

/-- A pair of heads begins at its first point. -/
theorem opens_iff : ∀ t : Fin (cfg0 (F := F)).N, opens (grid0.coords t) ↔ t.val % 32 = 0 :=
  (by decide +kernel : ∀ t : Fin grid0.N, opens (grid0.coords t) ↔ t.val % 32 = 0)

/-- Two puts that together cover the query block leave nothing of what it held. -/
theorem put_halves {α : Type} (x y : S512x128.Idx → α) (u w : S256x128.Idx → α) :
    put (s := S512x128) (put (s := S512x128) x ![0, 0] S256x128.size u) ![256, 0] S256x128.size w = put (s := S512x128) (put (s := S512x128) y ![0, 0] S256x128.size u) ![256, 0] S256x128.size w := by
  funext z
  by_cases h : ∀ a, (![256, 0] : Fin 2 → ℕ) a ≤ (z a).val ∧ (z a).val < (![256, 0] : Fin 2 → ℕ) a + S256x128.size a
  · unfold put; rw [dif_pos h, dif_pos h]
  · have h' : ∀ a, (![0, 0] : Fin 2 → ℕ) a ≤ (z a).val ∧ (z a).val < (![0, 0] : Fin 2 → ℕ) a + S256x128.size a := by
      have h0 : (z 0).val < 512 := (z 0).isLt
      have h1 : (z 1).val < 128 := (z 1).isLt
      have hn : ¬ 256 ≤ (z 0).val := fun h2 => h fun a => by
        fin_cases a
        · exact ⟨h2, h0⟩
        · exact ⟨Nat.zero_le _, by simpa using h1⟩
      intro a
      fin_cases a
      · exact ⟨Nat.zero_le _, by show (z 0).val < 0 + 256; omega⟩
      · exact ⟨Nat.zero_le _, by simpa using h1⟩
    unfold put; rw [dif_neg h, dif_neg h, dif_pos h', dif_pos h']

/-- What a point leaves does not depend on what the query gradient's block held, -/
theorem atPoint_dq (i : grid0.Coords) (Q : Vec F S512x128 .bf16) (K V : Vec F S16384x128 .bf16) (D : Vec F S512x128 .bf16) (O dq dq' : Vec F S512x128 .f32)
    (dk dv : Vec F S16384x128 .f32) : atPoint i Q K V D O dq dk dv = atPoint i Q K V D O dq' dk dv := by
  unfold atPoint
  exact Prod.ext (put_halves ..) rfl

/-- and at the first point of a pair of heads not on what the other two held. -/
theorem atPoint_opens (i : grid0.Coords) (h : opens i) (Q : Vec F S512x128 .bf16) (K V : Vec F S16384x128 .bf16) (D : Vec F S512x128 .bf16) (O dq dq' : Vec F S512x128 .f32)
    (dk dv dk' dv' : Vec F S16384x128 .f32) : atPoint i Q K V D O dq dk dv = atPoint i Q K V D O dq' dk' dv' := by
  rw [atPoint_dq i Q K V D O dq dq']
  unfold atPoint
  rw [if_pos h, if_pos h, if_pos h, if_pos h]

/-- After a pair's first point: from any contents. -/
theorem outsAt_opens (c : Dev nD) (t : Fin (cfg0 (F := F)).N) (h : t.val % 32 = 0) (dq : Vec F S512x128 .f32) (dk dv : Vec F S16384x128 .f32) :
    atPoint (grid0.coords t) (iblk m c 0 t) (iblk m c 1 t) (iblk m c 2 t) (iblk m c 3 t) (iblk m c 4 t) dq dk dv = outsAt m c t.val t.isLt := by
  obtain ⟨n, hn⟩ := t
  cases n with
  | zero => exact atPoint_opens _ ((opens_iff (F := F) _).2 h) _ _ _ _ _ _ _ _ _ _ _
  | succ n => exact atPoint_opens _ ((opens_iff (F := F) _).2 h) _ _ _ _ _ _ _ _ _ _ _

/-- After another: over what the point before it left. -/
theorem outsAt_step (c : Dev nD) (t : Fin (cfg0 (F := F)).N) (h : ¬t.val % 32 = 0) (dq : Vec F S512x128 .f32) :
    atPoint (grid0.coords t) (iblk m c 0 t) (iblk m c 1 t) (iblk m c 2 t) (iblk m c 3 t) (iblk m c 4 t) dq
      (outsAt m c (t.val - 1) (Nat.lt_of_le_of_lt (Nat.sub_le _ _) t.isLt)).2.1 (outsAt m c (t.val - 1) (Nat.lt_of_le_of_lt (Nat.sub_le _ _) t.isLt)).2.2
      = outsAt m c t.val t.isLt := by
  obtain ⟨n, hn⟩ := t
  cases n with
  | zero => exact absurd (Nat.zero_mod _) h
  | succ n => exact atPoint_dq _ _ _ _ _ _ _ _ _ _

/-! ### The pipeline's data -/

/-- The arrays as the region finds them; the inputs' blocks kept, the results' as `outsAt` says; nothing owed. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt m c t.val t.isLt).1
    | ⟨6, _⟩ => (outsAt m c t.val t.isLt).2.1
    | ⟨7, _⟩ => (outsAt m c t.val t.isLt).2.2
  Φ _ := Pipeline.ΦA spec0 c
  q w := Pipeline.shareOf spec0 w
  owed _ := 0

theorem A_eq (c : Dev nD) (w : Fin (cfg0 (F := F)).W) : (dats m 0 c).A w = V m c (Pipeline.arrRef spec0 w) := by
  dsimp only [dats]

theorem after0_0 (c : Dev nD) (t : Fin (cfg0 (F := F)).N) : (dats m 0 c).after 0 t = iblk m c 0 t := by dsimp only [dats]; rfl
theorem after0_1 (c : Dev nD) (t : Fin (cfg0 (F := F)).N) : (dats m 0 c).after 1 t = iblk m c 1 t := by dsimp only [dats]; rfl
theorem after0_2 (c : Dev nD) (t : Fin (cfg0 (F := F)).N) : (dats m 0 c).after 2 t = iblk m c 2 t := by dsimp only [dats]; rfl
theorem after0_3 (c : Dev nD) (t : Fin (cfg0 (F := F)).N) : (dats m 0 c).after 3 t = iblk m c 3 t := by dsimp only [dats]; rfl
theorem after0_4 (c : Dev nD) (t : Fin (cfg0 (F := F)).N) : (dats m 0 c).after 4 t = iblk m c 4 t := by dsimp only [dats]; rfl
theorem after0_5 (c : Dev nD) (t : Fin (cfg0 (F := F)).N) : (dats m 0 c).after 5 t = (outsAt m c t.val t.isLt).1 := by dsimp only [dats]; rfl
theorem after0_6 (c : Dev nD) (t : Fin (cfg0 (F := F)).N) : (dats m 0 c).after 6 t = (outsAt m c t.val t.isLt).2.1 := by dsimp only [dats]; rfl
theorem after0_7 (c : Dev nD) (t : Fin (cfg0 (F := F)).N) : (dats m 0 c).after 7 t = (outsAt m c t.val t.isLt).2.2 := by dsimp only [dats]; rfl

/-- An input's staging buffer holds its block at every point. -/
theorem before0_0 (c : Dev nD) (t : Fin (cfg0 (F := F)).N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin (cfg0 (F := F)).N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin (cfg0 (F := F)).N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin (cfg0 (F := F)).N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin (cfg0 (F := F)).N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)

/-- But at a pair's first point, the key gradient's block holds what the point before left, -/
theorem before0_6 (c : Dev nD) (t : Fin (cfg0 (F := F)).N) (h0 : ¬t.val % 32 = 0) (d) :
    (dats m 0 c).before 6 t d = (outsAt m c (t.val - 1) (Nat.lt_of_le_of_lt (Nat.sub_le _ _) t.isLt)).2.1 := by
  rw [Dat.before_out_kept _ 6 rfl t (by omega) (Bool.eq_false_iff.mpr fun h => by have := (flush0_6 _).mp h; dsimp only at this; omega)
    (fun _ => rfl) (fun _ _ => rfl)]
  dsimp only [dats]; rfl
/-- and so the value gradient's. -/
theorem before0_7 (c : Dev nD) (t : Fin (cfg0 (F := F)).N) (h0 : ¬t.val % 32 = 0) (d) :
    (dats m 0 c).before 7 t d = (outsAt m c (t.val - 1) (Nat.lt_of_le_of_lt (Nat.sub_le _ _) t.isLt)).2.2 := by
  rw [Dat.before_out_kept _ 7 rfl t (by omega) (Bool.eq_false_iff.mpr fun h => by have := (flush0_7 _).mp h; dsimp only at this; omega)
    (fun _ => rfl) (fun _ _ => rfl)]
  dsimp only [dats]; rfl

/-! ### The body at a point -/

/-- What the body is called with at point `t`, -/
def bodyPre (c : Dev nD) (t : Fin (cfg0 (F := F)).N) : sProp 𝕄 :=
  iprop((dats m 0 c).Φ t.castSucc ∗ (dats m 0 c).owesAt () t.castSucc
    ∗ (∃ d, owns (c : Thread nD τ) (st0_0 (F := F) t) fullShare ((dats m 0 c).before 0 t d))
    ∗ (∃ d, owns (c : Thread nD τ) (st0_1 (F := F) t) fullShare ((dats m 0 c).before 1 t d))
    ∗ (∃ d, owns (c : Thread nD τ) (st0_2 (F := F) t) fullShare ((dats m 0 c).before 2 t d))
    ∗ (∃ d, owns (c : Thread nD τ) (st0_3 (F := F) t) fullShare ((dats m 0 c).before 3 t d))
    ∗ (∃ d, owns (c : Thread nD τ) (st0_4 (F := F) t) fullShare ((dats m 0 c).before 4 t d))
    ∗ (∃ d, owns (c : Thread nD τ) (st0_5 (F := F) t) fullShare ((dats m 0 c).before 5 t d))
    ∗ (∃ d, owns (c : Thread nD τ) (st0_6 (F := F) t) fullShare ((dats m 0 c).before 6 t d))
    ∗ (∃ d, owns (c : Thread nD τ) (st0_7 (F := F) t) fullShare ((dats m 0 c).before 7 t d)))

/-- and what it returns. -/
def bodyPost (c : Dev nD) (t : Fin (cfg0 (F := F)).N) : sProp 𝕄 :=
  iprop((dats m 0 c).Φ t.succ ∗ (dats m 0 c).owesAt () t.succ
    ∗ owns (c : Thread nD τ) (st0_0 (F := F) t) fullShare ((dats m 0 c).after 0 t)
    ∗ owns (c : Thread nD τ) (st0_1 (F := F) t) fullShare ((dats m 0 c).after 1 t)
    ∗ owns (c : Thread nD τ) (st0_2 (F := F) t) fullShare ((dats m 0 c).after 2 t)
    ∗ owns (c : Thread nD τ) (st0_3 (F := F) t) fullShare ((dats m 0 c).after 3 t)
    ∗ owns (c : Thread nD τ) (st0_4 (F := F) t) fullShare ((dats m 0 c).after 4 t)
    ∗ owns (c : Thread nD τ) (st0_5 (F := F) t) fullShare ((dats m 0 c).after 5 t)
    ∗ owns (c : Thread nD τ) (st0_6 (F := F) t) fullShare ((dats m 0 c).after 6 t)
    ∗ owns (c : Thread nD τ) (st0_7 (F := F) t) fullShare ((dats m 0 c).after 7 t))

set_option maxHeartbeats 1600000 in
/-- The body at any point. -/
theorem sound_body (c : Dev nD) (t : Fin (cfg0 (F := F)).N) :
    bodyPre m c t ⊢ wp frame (wpE (defs₀ (F := F)) 𝒱₀ c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  have key := fun dq dk dv => body_run c (grid0.coords t) (st0_0 t) (hstage0_0 (((cfg0 (F := F)).slots t 0).cast nbuf0_0)) (st0_1 t) (hstage0_1 (((cfg0 (F := F)).slots t 1).cast nbuf0_1)) (st0_2 t) (hstage0_2 (((cfg0 (F := F)).slots t 2).cast nbuf0_2)) (st0_3 t) (hstage0_3 (((cfg0 (F := F)).slots t 3).cast nbuf0_3)) (st0_4 t) (hstage0_4 (((cfg0 (F := F)).slots t 4).cast nbuf0_4))
    (st0_5 t) (hstage0_5 (((cfg0 (F := F)).slots t 5).cast nbuf0_5)) (st0_6 t) (hstage0_6 (((cfg0 (F := F)).slots t 6).cast nbuf0_6)) (st0_7 t) (hstage0_7 (((cfg0 (F := F)).slots t 7).cast nbuf0_7))
    (iblk m c 0 t) (iblk m c 1 t) (iblk m c 2 t) (iblk m c 3 t) (iblk m c 4 t) dq dk dv
  by_cases h0 : t.val % 32 = 0
  · simp only [outsAt_opens m c t h0] at key
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (key ((dats m 0 c).before 5 t d5) ((dats m 0 c).before 6 t d6) ((dats m 0 c).before 7 t d7))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · have key' := fun dq => key dq (outsAt m c (t.val - 1) (Nat.lt_of_le_of_lt (Nat.sub_le _ _) t.isLt)).2.1 (outsAt m c (t.val - 1) (Nat.lt_of_le_of_lt (Nat.sub_le _ _) t.isLt)).2.2
    simp only [outsAt_step m c t h0] at key'
    simp only [before0_6 m c t h0, before0_7 m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (key' ((dats m 0 c).before 5 t d5))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The body table's row is the body. -/
theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

/-! ### The run -/

set_option backward.isDefEq.respectTransparency.types false in
/-- The launch: every execution ends, the arrays at what the points leave and the counters at zero. -/
theorem run_main : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ 𝒱₀ m ρ main
    (hbody := fun c => (body_obligation m c).loose) (hq := fun _ _ _ => rfl)
    (howed := fun _ _ => rfl) (V := V m) (hmain := hmain m) (hA := A_eq m) (hΦ := fun _ _ => rfl)

/-- The frame: the arguments end as they were. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c =>
    ⟨((h.1 c).2 main_arg0 (Pipeline.mem_restRefs_of main_arg0 (by decide) ((by decide : ∀ w : Fin 8, (spec0 w).arr.view.ref ≠ main_arg0)))).trans (V_main_arg0 m c),
      ((h.1 c).2 main_arg1 (Pipeline.mem_restRefs_of main_arg1 (by decide) ((by decide : ∀ w : Fin 8, (spec0 w).arr.view.ref ≠ main_arg1)))).trans (V_main_arg1 m c)⟩, h.2⟩) (run_main m ρ)

end Cert.Proof.Attention.Ideal

end
-- ==== Proof.Attention.Prims.lean ====
/-
  The operations of the attention gradient on blocks of real numbers: a block every entry of which is the real number a
  function gives (`Is`) goes under each operation to such a block again.
-/
module

public import proofs.«01_k».proof.Proof.Gen.AttentionIdeal.Skeleton
public import Idealize.ShloMosaic.Lib.Pointwise
public import Idealize.ShloMosaic.Lib.VecWindow
public import Mathlib.Analysis.SpecialFunctions.Log.Basic

@[expose] public section

set_option maxRecDepth 16384

noncomputable section

namespace Cert.Proof.Attention

open Cert.AttentionIdeal Cert.AttentionIdeal.Gen
open Idealize.ShloMosaic Idealize.ShloMosaic.TcCoe

/-- Every entry of the block is the real number `f` gives at its row and column. -/
def Is {a b : ℕ} {φ : FTy} (x : FVec Ideal ⟨2, ![a, b]⟩ φ) (f : ℕ → ℕ → ℝ) : Prop :=
  ∀ (p : Fin a) (q : Fin b), (x (ix2 p q) : EReal) = ((f p q : ℝ) : EReal)

/-- A mask that selects where `P` holds. -/
def Marks {a b : ℕ} (x : IVec ⟨2, ![a, b]⟩ 1) (P : ℕ → ℕ → Prop) : Prop :=
  ∀ (p : Fin a) (q : Fin b), x (ix2 p q) = 1#1 ↔ P p q

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

namespace Is

variable {a b c : ℕ} {φ ψ : FTy} {x : FVec Ideal ⟨2, ![a, b]⟩ φ} {y : FVec Ideal ⟨2, ![a, b]⟩ φ} {f g : ℕ → ℕ → ℝ}

protected theorem congr (h : Is x f) (e : ∀ p < a, ∀ q < b, f p q = g p q) : Is x g := fun p q => (h p q).trans (by rw [e p p.2 q q.2])

protected theorem addf (h : Is x f) (k : Is y g) : Is (addf x y) (fun p q => f p q + g p q) := fun p q => by
  show x (ix2 p q) + y (ix2 p q) = _
  rw [h p q, k p q, EReal.coe_add]

protected theorem subf (h : Is x f) (k : Is y g) : Is (subf x y) (fun p q => f p q - g p q) := fun p q => by
  show x (ix2 p q) - y (ix2 p q) = _
  rw [h p q, k p q, EReal.coe_sub]

protected theorem mulf (h : Is x f) (k : Is y g) : Is (mulf x y) (fun p q => f p q * g p q) := fun p q => by
  show x (ix2 p q) * y (ix2 p q) = _
  rw [h p q, k p q, EReal.coe_mul]

protected theorem exp (h : Is x f) : Is (exp x) (fun p q => Real.exp (f p q)) := fun p q => by
  show Ideal.exp (x (ix2 p q)) = _
  rw [h p q]; rfl

protected theorem truncf (h : Is x f) (e : FTy.bits ψ < FTy.bits φ) : Is (truncf ψ x e) f := h
protected theorem extf (h : Is x f) (e : FTy.bits φ < FTy.bits ψ) : Is (extf ψ x e) f := h

protected theorem cast (h : Is x f) (e : (⟨2, ![a, b]⟩ : Shape).ShapeCasts ⟨2, ![a, b]⟩) : Is (shapeCast ⟨2, ![a, b]⟩ x e) f := fun p q => by
  rw [shapeCast_self]; exact h p q

protected theorem zero : Is (broadcast (⟨2, ![a, b]⟩ : Shape) (Scalar.ofBits (F := Ideal) .f32 0x00000000#32)) (fun _ _ => 0) := fun p q =>
  Ideal.ofBits_zero_f32

protected theorem zero' : Is (broadcast (⟨2, ![a, b]⟩ : Shape) (Scalar.ofBits (F := Ideal) .bf16 0x0000#16)) (fun _ _ => 0) := fun p q =>
  Ideal.ofBits_zero_bf16

protected theorem eighth : Is (broadcast (⟨2, ![a, b]⟩ : Shape) (Scalar.ofBits (F := Ideal) .f32 0x3E000000#32)) (fun _ _ => 0.125) := fun p q => by
  show Ideal.ofBits .f32 0x3E000000#32 = ((0.125 : ℝ) : EReal)
  simp [Ideal.ofBits, Ideal.ieee, -EReal.coe_mul]
  norm_num

protected theorem eighth' : Is (broadcast (⟨2, ![a, b]⟩ : Shape) (Scalar.ofBits (F := Ideal) .bf16 0x3E00#16)) (fun _ _ => 0.125) := fun p q => by
  show Ideal.ofBits .bf16 0x3E00#16 = ((0.125 : ℝ) : EReal)
  simp [Ideal.ofBits, Ideal.ieee, -EReal.coe_mul]
  norm_num

theorem unmarked {m : IVec ⟨2, ![a, b]⟩ 1} {P : ℕ → ℕ → Prop} (hm : Marks m P) {p : Fin a} {q : Fin b} (e : ¬P p q) : m (ix2 p q) = 0#1 := by
  have := mt (hm p q).mp e
  generalize m (ix2 p q) = w at *
  revert w; decide

protected theorem select {m : IVec ⟨2, ![a, b]⟩ 1} {P : ℕ → ℕ → Prop} [∀ p q, Decidable (P p q)] (hm : Marks m P) (h : Is x f) (k : Is y g) :
    Is (select m x y) (fun p q => if P p q then f p q else g p q) := fun p q => by
  show Scalar.select (m (ix2 p q)) (x (ix2 p q)) (y (ix2 p q)) = ((if P p q then f p q else g p q : ℝ) : EReal)
  by_cases e : P p q
  · rw [(hm p q).mpr e, if_pos e]; exact h p q
  · rw [unmarked hm e, if_neg e]; exact k p q

/-- The exponential of a masked block: nothing where the mask does not select. -/
protected theorem exp_masked {m : IVec ⟨2, ![a, b]⟩ 1} {P : ℕ → ℕ → Prop} [∀ p q, Decidable (P p q)] (hm : Marks m P)
    {x : FVec Ideal ⟨2, ![a, b]⟩ .f32} (h : Is x f) :
    Is (exp (Idealize.ShloMosaic.select m x (broadcast (⟨2, ![a, b]⟩ : Shape) (Scalar.ofBits (F := Ideal) .f32 0xFF800000#32))))
      (fun p q => if P p q then Real.exp (f p q) else 0) := fun p q => by
  show Ideal.exp (Scalar.select (m (ix2 p q)) (x (ix2 p q)) (Ideal.ofBits .f32 0xFF800000#32)) = ((if P p q then Real.exp (f p q) else 0 : ℝ) : EReal)
  by_cases e : P p q
  · rw [(hm p q).mpr e, if_pos e]; show Ideal.exp (x (ix2 p q)) = _; rw [h p q]; rfl
  · rw [unmarked hm e, if_neg e]
    show Ideal.exp (Ideal.ofBits .f32 0xFF800000#32) = _
    rw [show Ideal.ofBits .f32 0xFF800000#32 = ⊥ from by simp [Ideal.ofBits, Ideal.ieee]]; rfl

/-- The logarithm of what survives a score: `min (-z) 0 - log (1 + exp (-|z|)) = - log (1 + exp z)`. -/
theorem keep_real (z : ℝ) : min (0 - z) 0 - Real.log (1 + Real.exp (0 - |z|)) = -Real.log (1 + Real.exp z) := by
  rcases le_total 0 z with h | h
  · rw [abs_of_nonneg h, min_eq_left (by linarith), show 1 + Real.exp z = Real.exp z * (1 + Real.exp (0 - z)) by
      rw [mul_add, ← Real.exp_add]; simp [add_comm], Real.log_mul (Real.exp_pos _).ne' (by positivity), Real.log_exp]
    ring
  · rw [abs_of_nonpos h, min_eq_right (by linarith)]; simp

protected theorem keep {x : FVec Ideal ⟨2, ![a, b]⟩ .f32} (h : Is x f) :
    Is (Idealize.ShloMosaic.subf (minimumf (Idealize.ShloMosaic.subf (broadcast (⟨2, ![a, b]⟩ : Shape) (Scalar.ofBits (F := Ideal) .f32 0x00000000#32)) x) (broadcast (⟨2, ![a, b]⟩ : Shape) (Scalar.ofBits (F := Ideal) .f32 0x00000000#32)))
      (log (Idealize.ShloMosaic.addf (broadcast (⟨2, ![a, b]⟩ : Shape) (Scalar.ofBits (F := Ideal) .f32 0x3F800000#32))
        (Idealize.ShloMosaic.exp (Idealize.ShloMosaic.subf (broadcast (⟨2, ![a, b]⟩ : Shape) (Scalar.ofBits (F := Ideal) .f32 0x00000000#32)) (absf x))))))
      (fun p q => -Real.log (1 + Real.exp (f p q))) := fun p q => by
  have e : ((-Real.log (1 + Real.exp (f p q)) : ℝ) : EReal) = ((min (0 - f p q) 0 - Real.log (1 + Real.exp (0 - max (f p q) (-f p q))) : ℝ) : EReal) := by rw [← keep_real]; rfl
  show min (Ideal.ofBits .f32 0x00000000#32 - x (ix2 p q)) (Ideal.ofBits .f32 0x00000000#32)
    - Ideal.log (Ideal.ofBits .f32 0x3F800000#32 + Ideal.exp (Ideal.ofBits .f32 0x00000000#32 - max (x (ix2 p q)) (-x (ix2 p q)))) = ((-Real.log (1 + Real.exp (f p q)) : ℝ) : EReal)
  rw [e, h p q, Ideal.ofBits_zero_f32, Ideal.ofBits_one_f32, ← EReal.coe_neg, ← EReal.coe_strictMono.monotone.map_max, ← EReal.coe_zero, ← EReal.coe_sub,
    ← EReal.coe_sub, ← EReal.coe_strictMono.monotone.map_min, Ideal.exp_coe, ← EReal.coe_one, ← EReal.coe_add, Ideal.log_coe, if_neg (not_le.mpr (by positivity)), ← EReal.coe_sub]

end Is

/-- A block read as whole numbers of the pair of rows and columns: sums along the lanes, and products. -/
theorem Is.rowSum {x : FVec Ideal S256x256 .f32} {f : ℕ → ℕ → ℝ} (h : Is x f) :
    Is (shapeCast S256x1 (multiReduction .add [1] S256 x 0x00000000#32 reduces_S256x256_S256 (.inl rfl) rfl) shapeCasts_S256_S256x1)
      (fun p _ => ∑ k : Fin 256, f p k) := fun p q => by
  pointwise
  rw [coe_sum]
  exact Finset.sum_congr rfl fun k _ => h _ _

theorem Is.laneSum {x : FVec Ideal S256x128 .f32} {f : ℕ → ℕ → ℝ} (h : Is x f) :
    Is (shapeCast S256x1 (multiReduction .add [1] S256 x 0x00000000#32 reduces_S256x128_S256 (.inl rfl) rfl) shapeCasts_S256_S256x1)
      (fun p _ => ∑ k : Fin 128, f p k) := fun p q => by
  pointwise
  rw [coe_sum]
  exact Finset.sum_congr rfl fun k _ => h _ _

theorem Is.spread {x : FVec Ideal S256x1 .f32} {f : ℕ → ℕ → ℝ} (h : Is x f) :
    Is (broadcastTo S256x256 x broadcasts_S256x1_S256x256) (fun p _ => f p 0) := fun p q => by
  pointwise
  exact h p 0

variable {φ ψ : FTy} {f g : ℕ → ℕ → ℝ}

theorem coe_dot {n : ℕ} {u v : Fin n → EReal} {f g : Fin n → ℝ} (h : ∀ k, u k = (f k : EReal)) (k : ∀ k, v k = (g k : EReal)) :
    ∑ i, u i * v i = ((∑ i, f i * g i : ℝ) : EReal) := by
  rw [coe_sum]
  exact Finset.sum_congr rfl fun i _ => by rw [h, k, EReal.coe_mul]

/-- Rows of `x` against rows of `y`. -/
theorem Is.rowsRows {x : FVec Ideal S256x128 φ} {y : FVec Ideal S256x128 φ} (h : Is x f) (k : Is y g) :
    Is (matmul dot_S256x128_S256x128_S256x256_1_1_0_0_n_n none x y (constant S256x256 .f32 0x00000000#32))
      (fun p q => ∑ l : Fin 128, f p l * g q l) := fun p q => by
  pointwise
  exact coe_dot (fun l => h p l) (fun l => k q l)

theorem Is.square {x : FVec Ideal S256x256 φ} {y : FVec Ideal S256x256 φ} (h : Is x f) (k : Is y g) :
    Is (matmul dot_S256x256_S256x256_S256x256_1_0_0_1_n_n none x y (constant S256x256 .f32 0x00000000#32))
      (fun p q => ∑ l : Fin 256, f p l * g l q) := fun p q => by
  pointwise
  exact coe_dot (fun l => h p l) (fun l => k l q)

theorem Is.across {x : FVec Ideal S256x256 φ} {y : FVec Ideal S256x128 φ} (h : Is x f) (k : Is y g) :
    Is (matmul dot_S256x256_S256x128_S256x128_1_0_0_1_n_n none x y (constant S256x128 .f32 0x00000000#32))
      (fun p q => ∑ l : Fin 256, f p l * g l q) := fun p q => by
  pointwise
  exact coe_dot (fun l => h p l) (fun l => k l q)

theorem Is.down {x : FVec Ideal S256x256 φ} {y : FVec Ideal S256x128 φ} (h : Is x f) (k : Is y g) :
    Is (matmul dot_S256x256_S256x128_S256x128_0_0_1_1_n_n none x y (constant S256x128 .f32 0x00000000#32))
      (fun p q => ∑ l : Fin 256, f l p * g l q) := fun p q => by
  pointwise
  exact coe_dot (fun l => h l p) (fun l => k l q)

end Cert.Proof.Attention

end
-- ==== Proof.Attention.Stick.lean ====
/-
  The stick-breaking attention of one head and its gradient, over real numbers: `z t s` is the score of query `t` on key `s`,
  `w t s` the product of the cotangent's row `t` with the value's row `s`. Of a query's 16384 keys those before it count.
  Sums over the later keys are cut into tiles of 256.
-/
module

public import Mathlib.Analysis.SpecialFunctions.Log.Basic
public import Mathlib.Algebra.BigOperators.Intervals
public import Mathlib.Algebra.BigOperators.Fin

@[expose] public section

noncomputable section

namespace Cert.Proof.Attention.Stick

/-- The sum of `f` over the keys from `a` on. -/
def from' (f : ℕ → ℝ) (a : ℕ) : ℝ := ∑ s ∈ Finset.Ico a 16384, f s

/-- The logarithm of what query `t` leaves of the stick at key `s`. -/
def low (z : ℕ → ℕ → ℝ) (t s : ℕ) : ℝ := if s < t then -Real.log (1 + Real.exp (z t s)) else 0

/-- The attention weight. -/
def weight (z : ℕ → ℕ → ℝ) (t s : ℕ) : ℝ := if s < t then Real.exp (z t s + low z t s + from' (low z t) (s + 1)) else 0

/-- The weight times its gradient. -/
def gain (z w : ℕ → ℕ → ℝ) (t s : ℕ) : ℝ := weight z t s * w t s

/-- The gradient of the score. -/
def slope (z w : ℕ → ℕ → ℝ) (t s : ℕ) : ℝ :=
  if s < t then gain z w t s - (from' (gain z w t) 0 - from' (gain z w t) (s + 1)) * Real.exp (z t s + low z t s) else 0

theorem from'_tile (f : ℕ → ℝ) (j : ℕ) (h : j < 64) : from' f (256 * j) = from' f (256 * (j + 1)) + ∑ c : Fin 256, f (256 * j + c) := by
  rw [from', ← Finset.sum_Ico_consecutive f (show 256 * j ≤ 256 * (j + 1) by omega) (show 256 * (j + 1) ≤ 16384 by omega), add_comm]
  congr 1
  rw [Finset.sum_Ico_eq_sum_range, show 256 * (j + 1) - 256 * j = 256 by omega, Finset.sum_range]

theorem from'_eq_zero (f : ℕ → ℝ) (a : ℕ) (h : ∀ s, a ≤ s → f s = 0) : from' f a = 0 :=
  Finset.sum_eq_zero fun s hs => h s (Finset.mem_Ico.mp hs).1

/-- The keys after `c` in a tile, and the tiles after it, are the keys after `c`. -/
theorem from'_strict (f : ℕ → ℝ) (j c : ℕ) (h : j < 64) (hc : c < 256) :
    (∑ k : Fin 256, f (256 * j + k) * (if c < (k : ℕ) then 1 else 0)) + from' f (256 * (j + 1)) = from' f (256 * j + c + 1) := by
  rw [from', from', ← Finset.sum_Ico_consecutive f (show 256 * j + c + 1 ≤ 256 * (j + 1) by omega) (show 256 * (j + 1) ≤ 16384 by omega)]
  congr 1
  rw [Finset.sum_Ico_eq_sum_range, ← Finset.sum_range (fun k => f (256 * j + k) * (if c < k then 1 else 0))]
  rw [show 256 * (j + 1) - (256 * j + c + 1) = 256 - (c + 1) by omega]
  rw [Finset.range_eq_Ico, ← Finset.sum_Ico_consecutive _ (show 0 ≤ c + 1 by omega) (show c + 1 ≤ 256 by omega),
    Finset.sum_eq_zero (s := Finset.Ico 0 (c + 1)) (fun k hk => by rw [if_neg (by have := (Finset.mem_Ico.mp hk).2; omega), mul_zero]), zero_add,
    Finset.sum_Ico_eq_sum_range]
  refine Finset.sum_congr (by rw [Finset.range_eq_Ico]) fun k hk => ?_
  rw [if_pos (by omega), mul_one]
  congr 1
  omega

/-- The row total of the gain is the cotangent against the attention's output, `o d = ∑ weight · v`. -/
theorem from'_gain {D : ℕ} (z : ℕ → ℕ → ℝ) (t : ℕ) (g : Fin D → ℝ) (v : ℕ → Fin D → ℝ) :
    ∑ d, g d * from' (fun s => weight z t s * v s d) 0 = from' (fun s => weight z t s * ∑ d, g d * v s d) 0 := by
  simp only [from', Finset.mul_sum]
  rw [Finset.sum_comm]
  exact Finset.sum_congr rfl fun s _ => Finset.sum_congr rfl fun d _ => by ring

theorem weight_eq_zero (z : ℕ → ℕ → ℝ) {t s : ℕ} (h : t ≤ s) : weight z t s = 0 := if_neg (by omega)
theorem low_eq_zero (z : ℕ → ℕ → ℝ) {t s : ℕ} (h : t ≤ s) : low z t s = 0 := if_neg (by omega)
theorem gain_eq_zero (z w : ℕ → ℕ → ℝ) {t s : ℕ} (h : t ≤ s) : gain z w t s = 0 := by rw [gain, weight_eq_zero z h, zero_mul]
theorem slope_eq_zero (z w : ℕ → ℕ → ℝ) {t s : ℕ} (h : t ≤ s) : slope z w t s = 0 := if_neg (by omega)

end Cert.Proof.Attention.Stick

end
-- ==== Proof.Attention.Cube.lean ====
/-
  The operations of the attention's forward and backward lines on arrays of three axes over real numbers, heads first: an array
  every entry of which is the real number a function gives (`Cube`) goes under each operation to such an array again.  The running
  sums along the last axis are among them.
-/
module

public import proofs.«01_k».proof.Proof.Gen.AttentionRefIdeal.Run
public import proofs.«01_k».proof.Proof.Attention.Prims
public import proofs.«01_k».proof.Proof.Attention.Stick

@[expose] public section

set_option maxRecDepth 16384

noncomputable section

namespace Cert.Proof.Attention.Ideal

open Idealize.ShloMosaic Idealize.ShloMosaic.TcCoe
open Stick (from' low weight gain slope)

/-- The array's entries are the real numbers `f` gives. -/
def Cube {a b c : ℕ} {φ : FTy} (x : FVec Ideal ⟨3, ![a, b, c]⟩ φ) (f : ℕ → ℕ → ℕ → ℝ) : Prop :=
  ∀ (h : Fin a) (t : Fin b) (s : Fin c), x (ix3 h t s) = ((f h t s : ℝ) : EReal)

/-- The mask selects the entries with `P`. -/
def CubeMarks {a b c : ℕ} (x : IVec ⟨3, ![a, b, c]⟩ 1) (P : ℕ → ℕ → ℕ → Prop) : Prop :=
  ∀ (h : Fin a) (t : Fin b) (s : Fin c), x (ix3 h t s) = 1#1 ↔ P h t s

namespace Cube

variable {a b c : ℕ} {φ ψ : FTy} {x y : FVec Ideal ⟨3, ![a, b, c]⟩ φ} {f g : ℕ → ℕ → ℕ → ℝ}

protected theorem congr (h : Cube x f) (e : ∀ p < a, ∀ q < b, ∀ r < c, f p q r = g p q r) : Cube x g :=
  fun p q r => (h p q r).trans (by rw [e p p.2 q q.2 r r.2])

protected theorem addf (h : Cube x f) (k : Cube y g) : Cube (addf x y) (fun p q r => f p q r + g p q r) := fun p q r => by
  show x (ix3 p q r) + y (ix3 p q r) = _
  rw [h, k, EReal.coe_add]

protected theorem subf (h : Cube x f) (k : Cube y g) : Cube (subf x y) (fun p q r => f p q r - g p q r) := fun p q r => by
  show x (ix3 p q r) - y (ix3 p q r) = _
  rw [h, k, EReal.coe_sub]

protected theorem mulf (h : Cube x f) (k : Cube y g) : Cube (mulf x y) (fun p q r => f p q r * g p q r) := fun p q r => by
  show x (ix3 p q r) * y (ix3 p q r) = _
  rw [h, k, EReal.coe_mul]

protected theorem negf (h : Cube x f) : Cube (Host.negf x) (fun p q r => -f p q r) := fun p q r => by
  show -x (ix3 p q r) = _
  rw [h, EReal.coe_neg]

protected theorem exp (h : Cube x f) : Cube (Host.exp x) (fun p q r => Real.exp (f p q r)) := fun p q r => by
  show Ideal.exp (x (ix3 p q r)) = _
  rw [h, Ideal.exp_coe]

theorem unmarked {m : IVec ⟨3, ![a, b, c]⟩ 1} {P : ℕ → ℕ → ℕ → Prop} (hm : CubeMarks m P) {p : Fin a} {q : Fin b} {r : Fin c} (e : ¬P p q r) :
    m (ix3 p q r) = 0#1 := by
  have := mt (hm p q r).mp e
  generalize m (ix3 p q r) = w at *
  revert w; decide

protected theorem select {m : IVec ⟨3, ![a, b, c]⟩ 1} {P : ℕ → ℕ → ℕ → Prop} [∀ p q r, Decidable (P p q r)] (hm : CubeMarks m P)
    (h : Cube x f) (k : Cube y g) : Cube (select m x y) (fun p q r => if P p q r then f p q r else g p q r) := fun p q r => by
  show Scalar.select (m (ix3 p q r)) (x (ix3 p q r)) (y (ix3 p q r)) = ((if P p q r then f p q r else g p q r : ℝ) : EReal)
  by_cases e : P p q r
  · rw [(hm p q r).mpr e, if_pos e]; exact h p q r
  · rw [unmarked hm e, if_neg e]; exact k p q r

/-- The exponential of an array that is −∞ where the mask does not select. -/
protected theorem exp_masked {m : IVec ⟨3, ![a, b, c]⟩ 1} {P : ℕ → ℕ → ℕ → Prop} [∀ p q r, Decidable (P p q r)] (hm : CubeMarks m P)
    {x y : FVec Ideal ⟨3, ![a, b, c]⟩ .f32} (h : Cube x f) (hy : ∀ i, y i = ⊥) :
    Cube (Host.exp (Idealize.ShloMosaic.select m x y)) (fun p q r => if P p q r then Real.exp (f p q r) else 0) := fun p q r => by
  show Ideal.exp (Scalar.select (m (ix3 p q r)) (x (ix3 p q r)) (y (ix3 p q r))) = ((if P p q r then Real.exp (f p q r) else 0 : ℝ) : EReal)
  by_cases e : P p q r
  · rw [(hm p q r).mpr e, if_pos e]; show Ideal.exp (x (ix3 p q r)) = _; rw [h p q r, Ideal.exp_coe]
  · rw [unmarked hm e, if_neg e]
    show Ideal.exp (y (ix3 p q r)) = _
    rw [hy]; rfl

end Cube

/-! ## Running sums -/

/-- Adding a list's terms one after another gives their sum. -/
theorem fold_add {n : ℕ} (g : Fin n → EReal) : (List.finRange n).foldl (fun r i => r + g i) 0 = ∑ i, g i := by
  rw [Fin.sum_univ_def]
  have : ∀ (l : List (Fin n)) (z : EReal), l.foldl (fun r i => r + g i) z = z + (l.map g).sum := by
    intro l
    induction l with
    | nil => intro z; simp
    | cons i l ih => intro z; rw [List.foldl_cons, ih, List.map_cons, List.sum_cons, add_assoc]
  rw [this, zero_add]

/-- The positions of a window along the last axis. -/
def windowEquiv (n : ℕ) : (⟨3, ![1, 1, n]⟩ : Shape).Idx ≃ Fin n where
  toFun i := i 2
  invFun k := ix3 0 0 k
  left_inv i := by
    refine (eq_ix3 i).symm ▸ ?_
    have h0 : i 0 = (0 : Fin 1) := Subsingleton.elim (α := Fin 1) _ _
    have h1 : i 1 = (0 : Fin 1) := Subsingleton.elim (α := Fin 1) _ _
    exact (ix3_inj ..).2 ⟨h0.symm, h1.symm, rfl⟩
  right_inv k := rfl

/-- The sum over a window along the last axis: the entries inside the array. -/
theorem window_apply {a b c n l u : ℕ} (x : (⟨3, ![a, b, c]⟩ : Shape).Idx → EReal)
    (e : (⟨3, ![a, b, c]⟩ : Shape).ReduceWindows (![1, 1, n] : Fin 3 → ℕ) ![1, 1, 1] ![0, 0, l] ![0, 0, u] ⟨3, ![a, b, c]⟩) (h : Fin a) (t : Fin b) (s : Fin c) :
    Ideal.hostReduceWindowAdd (s := ⟨3, ![a, b, c]⟩) (![1, 1, n] : Fin 3 → ℕ) ![1, 1, 1] ![0, 0, l] ![0, 0, u] e x 0 (ix3 h t s)
      = ∑ k : Fin n, if g : l ≤ s + k ∧ s.val + k - l < c then x (ix3 h t ⟨s + k - l, g.2⟩) else 0 := by
  unfold Ideal.hostReduceWindowAdd Host.reduceWindow
  refine (fold_add _).trans ?_
  refine Fintype.sum_equiv ((⟨3, ![1, 1, n]⟩ : Shape).rowMajor.symm.trans (windowEquiv n)) _ _ fun i' => ?_
  let i : (⟨3, ![1, 1, n]⟩ : Shape).Idx := (⟨3, ![1, 1, n]⟩ : Shape).rowMajor.symm i'
  have h0 : (i 0).val = 0 := Nat.lt_one_iff.mp (i 0).2
  have h1 : (i 1).val = 0 := Nat.lt_one_iff.mp (i 1).2
  by_cases g : l ≤ s.val + (i 2).val ∧ s.val + (i 2).val - l < c
  · have hin : ∀ d : Fin 3, (![0, 0, l] : Fin 3 → ℕ) d ≤ (ix3 h t s d).val * (![1, 1, 1] : Fin 3 → ℕ) d + (i d).val ∧
        (ix3 h t s d).val * (![1, 1, 1] : Fin 3 → ℕ) d + (i d).val - (![0, 0, l] : Fin 3 → ℕ) d < (![a, b, c] : Fin 3 → ℕ) d := by
      intro d
      have ha := h.2
      have hb := t.2
      match d with
      | 0 => exact ⟨Nat.zero_le _, by show h.val * 1 + (i 0).val - 0 < a; omega⟩
      | 1 => exact ⟨Nat.zero_le _, by show t.val * 1 + (i 1).val - 0 < b; omega⟩
      | 2 => exact ⟨by show l ≤ s.val * 1 + (i 2).val; omega, by show s.val * 1 + (i 2).val - l < c; omega⟩
    refine (dif_pos hin).trans (Eq.trans ?_ (dif_pos g).symm)
    refine congrArg x (funext fun d => Fin.ext ?_)
    match d with
    | 0 => show h.val * 1 + (i 0).val - 0 = h.val; omega
    | 1 => show t.val * 1 + (i 1).val - 0 = t.val; omega
    | 2 => show s.val * 1 + (i 2).val - l = s.val + (i 2).val - l; omega
  · refine (dif_neg fun hin => g ⟨by have := (hin 2).1; change l ≤ s.val * 1 + (i 2).val at this; omega,
      by have := (hin 2).2; change s.val * 1 + (i 2).val - l < c at this; omega⟩).trans ?_
    exact (dif_neg (c := l ≤ s.val + (i 2).val ∧ s.val + (i 2).val - l < c) (t := fun g => x (ix3 h t ⟨s.val + (i 2).val - l, g.2⟩)) (e := fun _ => (0 : EReal)) g).symm

/-- The sum from an entry to the end of its row. -/
theorem sum_later (f : ℕ → ℝ) (s : ℕ) (hs : s < 16384) :
    (∑ k : Fin 16384, if 0 ≤ s + k.val ∧ s + k.val - 0 < 16384 then f (s + k - 0) else 0) = from' f s := by
  rw [Fin.sum_univ_eq_sum_range (fun k => if 0 ≤ s + k ∧ s + k - 0 < 16384 then f (s + k - 0) else 0) 16384, from', Finset.sum_Ico_eq_sum_range, ← Finset.sum_filter]
  refine Finset.sum_congr (Finset.ext fun k => ?_) fun k _ => by rw [Nat.sub_zero]
  simp only [Finset.mem_filter, Finset.mem_range]
  omega

/-- The sum from the start of a row to an entry. -/
theorem sum_earlier (f : ℕ → ℝ) (s : ℕ) (hs : s < 16384) :
    (∑ k : Fin 16384, if 16383 ≤ s + k.val ∧ s + k.val - 16383 < 16384 then f (s + k - 16383) else 0) = from' f 0 - from' f (s + 1) := by
  have e : from' f 0 - from' f (s + 1) = ∑ k ∈ Finset.range (s + 1), f k := by
    rw [from', from', ← Finset.sum_Ico_consecutive f (Nat.zero_le (s + 1)) hs, add_sub_cancel_right, Finset.range_eq_Ico]
  rw [e, Fin.sum_univ_eq_sum_range (fun k => if 16383 ≤ s + k ∧ s + k - 16383 < 16384 then f (s + k - 16383) else 0) 16384, ← Finset.sum_filter]
  refine Finset.sum_nbij' (fun k => s + k - 16383) (fun k => k + 16383 - s) ?_ ?_ ?_ ?_ fun k _ => rfl
  · intro k; simp only [Finset.mem_filter, Finset.mem_range]; omega
  · intro k; simp only [Finset.mem_filter, Finset.mem_range]; omega
  · intro k; simp only [Finset.mem_filter, Finset.mem_range]; omega
  · intro k; simp only [Finset.mem_filter, Finset.mem_range]; omega

/-- The sum over a window of real numbers. -/
theorem window_real {a b c n l v : ℕ} {x : FVec Ideal ⟨3, ![a, b, c]⟩ .f32} {f : ℕ → ℕ → ℕ → ℝ} (hx : Cube x f) {u : Shape} {z : FVec Ideal u .f32}
    (hu : 0 < u.numel) (hz : ∀ i, z i = 0)
    (e : (⟨3, ![a, b, c]⟩ : Shape).ReduceWindows (![1, 1, n] : Fin 3 → ℕ) ![1, 1, 1] ![0, 0, l] ![0, 0, v] ⟨3, ![a, b, c]⟩) :
    Cube (Host.reduceWindowAdd (t := ⟨3, ![a, b, c]⟩) ![1, 1, n] ![1, 1, 1] ![0, 0, l] ![0, 0, v] x z e hu)
      (fun h t s => ∑ k : Fin n, if l ≤ s + k.val ∧ s + k.val - l < c then f h t (s + k - l) else 0) := fun h t s => by
  show Ideal.hostReduceWindowAdd (s := ⟨3, ![a, b, c]⟩) (![1, 1, n] : Fin 3 → ℕ) ![1, 1, 1] ![0, 0, l] ![0, 0, v] e x (z (Shape.Idx.first hu)) (ix3 h t s) = _
  rw [hz, window_apply, coe_sum]
  refine Finset.sum_congr rfl fun k _ => ?_
  by_cases g : l ≤ s.val + k.val ∧ s.val + k.val - l < c
  · rw [dif_pos g, if_pos g, hx]
  · rw [dif_neg g, if_neg g, EReal.coe_zero]

namespace Cube

variable {a b : ℕ} {x : FVec Ideal ⟨3, ![a, b, 16384]⟩ .f32} {f : ℕ → ℕ → ℕ → ℝ}

protected theorem later (h : Cube x f) {u : Shape} {z : FVec Ideal u .f32} (hu : 0 < u.numel) (hz : ∀ i, z i = 0)
    (e : (⟨3, ![a, b, 16384]⟩ : Shape).ReduceWindows (![1, 1, 16384] : Fin 3 → ℕ) ![1, 1, 1] ![0, 0, 0] ![0, 0, 16383] ⟨3, ![a, b, 16384]⟩) :
    Cube (Host.reduceWindowAdd (t := ⟨3, ![a, b, 16384]⟩) ![1, 1, 16384] ![1, 1, 1] ![0, 0, 0] ![0, 0, 16383] x z e hu) (fun p q r => from' (f p q) r) :=
  (window_real (n := 16384) (l := 0) (v := 16383) h hu hz e).congr fun p _ q _ r hr => sum_later (f p q) r hr

protected theorem earlier (h : Cube x f) {u : Shape} {z : FVec Ideal u .f32} (hu : 0 < u.numel) (hz : ∀ i, z i = 0)
    (e : (⟨3, ![a, b, 16384]⟩ : Shape).ReduceWindows (![1, 1, 16384] : Fin 3 → ℕ) ![1, 1, 1] ![0, 0, 16383] ![0, 0, 0] ⟨3, ![a, b, 16384]⟩) :
    Cube (Host.reduceWindowAdd (t := ⟨3, ![a, b, 16384]⟩) ![1, 1, 16384] ![1, 1, 1] ![0, 0, 16383] ![0, 0, 0] x z e hu) (fun p q r => from' (f p q) 0 - from' (f p q) (r + 1)) :=
  (window_real (n := 16384) (l := 16383) (v := 0) h hu hz e).congr fun p _ q _ r hr => sum_earlier (f p q) r hr

end Cube

end Cert.Proof.Attention.Ideal

end
-- ==== Proof.Attention.Lines.lean ====
/-
  The attention's own lines over real numbers, four heads of 64 lanes: scores, the logarithm of what survives, its sum over the
  later keys, weights, output; and the derivative's lines: gains, their sums over the earlier keys, slopes, the three gradients.
-/
module

public import proofs.«01_k».proof.Proof.Attention.Cube
public import Idealize.ShloMosaic.Lib.WordCmp

@[expose] public section

set_option maxRecDepth 16384

noncomputable section

namespace Cert.Proof.Attention.Ideal.Lines

open Cert.AttentionRefIdeal Cert.AttentionRefIdeal.Gen
open Idealize.ShloMosaic Idealize.ShloMosaic.TcCoe
open Stick (from' low weight gain slope)

/-- A constant everywhere. -/
def const (w : BitVec 32) : FVec Ideal S4x16384x16384 .f32 := broadcastInDim S4x16384x16384 ![] bcast_S_S4x16384x16384 (constant (F := Ideal) S_ .f32 w)

/-- Columns as heads. -/
def heads (x : FVec Ideal S16384x256 .f32) : FVec Ideal S4x16384x64 .f32 :=
  transpose S4x16384x64 [1, 0, 2] (shapeCast S16384x4x64 x shapeCasts_S16384x256_S16384x4x64) transposes_S16384x4x64_S4x16384x64_1_0_2

/-- Heads as columns. -/
def columns (x : FVec Ideal S4x16384x64 .f32) : FVec Ideal S16384x256 .f32 :=
  shapeCast S16384x256 (transpose S16384x4x64 [1, 0, 2] x transposes_S4x16384x64_S16384x4x64_1_0_2) shapeCasts_S16384x4x64_S16384x256

def queries (p : FVec Ideal S16384x5896 .f32) : FVec Ideal S4x16384x64 .f32 := heads (extractStridedSlice S16384x256 ![0, 768] p slices_S16384x5896_S16384x256_0_768)
def keys (p : FVec Ideal S16384x5896 .f32) : FVec Ideal S4x16384x64 .f32 := heads (extractStridedSlice S16384x256 ![0, 1024] p slices_S16384x5896_S16384x256_0_1024)
def values (p : FVec Ideal S16384x5896 .f32) : FVec Ideal S4x16384x64 .f32 := heads (extractStridedSlice S16384x256 ![0, 1280] p slices_S16384x5896_S16384x256_0_1280)

def rowsRows (x y : FVec Ideal S4x16384x64 .f32) : FVec Ideal S4x16384x16384 .f32 :=
  Host.dotGeneral dot_S4x16384x64_S4x16384x64_S4x16384x16384_2_2_1_1_0_0 none x y

def scores (p : FVec Ideal S16384x5896 .f32) : FVec Ideal S4x16384x16384 .f32 := mulf (rowsRows (queries p) (keys p)) (const 0x3E000000#32)

/-- The keys before a query. -/
def before : IVec S4x16384x16384 1 :=
  broadcastInDim S4x16384x16384 ![0, 1, 2] bcast_S1x16384x16384_S4x16384x16384_0_1_2
    (broadcastInDim S1x16384x16384 ![1, 2] bcast_S16384x16384_S1x16384x16384_1_2
      (cmpi .slt (broadcastInDim S16384x16384 ![0, 1] bcast_S1x16384_S16384x16384_0_1 (broadcastInDim S1x16384 ![1] bcast_S16384_S1x16384_1 (iotaInDim S16384 32 0)))
        (broadcastInDim S16384x16384 ![0, 1] bcast_S16384x1_S16384x16384_0_1 (broadcastInDim S16384x1 ![0] bcast_S16384_S16384x1_0 (iotaInDim S16384 32 0)))))

def softplus (x : FVec Ideal S4x16384x16384 .f32) : FVec Ideal S4x16384x16384 .f32 :=
  select (cmpf .une (subf x (const 0x00000000#32)) (subf x (const 0x00000000#32))) (addf x (const 0x00000000#32))
    (addf (maximumf x (const 0x00000000#32)) (Host.log1p (Host.exp (Host.negf (Host.absf (subf x (const 0x00000000#32)))))))

/-- The score, through `-(-z)`. -/
def again (z : FVec Ideal S4x16384x16384 .f32) : FVec Ideal S4x16384x16384 .f32 := Host.negf (Host.negf z)

/-- The logarithm of what survives an earlier key. -/
def lowOf (z : FVec Ideal S4x16384x16384 .f32) : FVec Ideal S4x16384x16384 .f32 :=
  select before (Host.negf (softplus (again z))) (const 0x00000000#32)

def laterOf (l : FVec Ideal S4x16384x16384 .f32) : FVec Ideal S4x16384x16384 .f32 :=
  Host.reduceWindowAdd ![1, 1, 16384] ![1, 1, 1] ![0, 0, 0] ![0, 0, 16383] l (broadcastInDim S_ ![] bcast_S_S_ (constant (F := Ideal) S_ .f32 0x00000000#32))
    reduceWindows_S4x16384x16384_S4x16384x16384_w1s1p0_0_w1s1p0_0_w16384s1p0_16383 h_S_

def weights (z : FVec Ideal S4x16384x16384 .f32) : FVec Ideal S4x16384x16384 .f32 :=
  Host.exp (select before (addf (addf z (lowOf z)) (subf (laterOf (lowOf z)) (lowOf z))) (const 0xFF800000#32))

def outputs (p : FVec Ideal S16384x5896 .f32) : FVec Ideal S16384x256 .f32 :=
  columns (Host.dotGeneral dot_S4x16384x16384_S4x16384x64_S4x16384x64_2_1_1_2_0_0 none (weights (scores p)) (values p))

def gains (z : FVec Ideal S4x16384x16384 .f32) (w : FVec Ideal S4x16384x16384 .f32) : FVec Ideal S4x16384x16384 .f32 :=
  select before (mulf w (weights z)) (const 0x00000000#32)

def earlierOf (g : FVec Ideal S4x16384x16384 .f32) : FVec Ideal S4x16384x16384 .f32 :=
  Host.reduceWindowAdd ![1, 1, 16384] ![1, 1, 1] ![0, 0, 16383] ![0, 0, 0] g (broadcastInDim S_ ![] bcast_S_S_ (constant (F := Ideal) S_ .f32 0x00000000#32))
    reduceWindows_S4x16384x16384_S4x16384x16384_w1s1p0_0_w1s1p0_0_w16384s1p16383_0 h_S_

/-- The derivative of `log (1 + exp x)`. -/
def rise (x : FVec Ideal S4x16384x16384 .f32) : FVec Ideal S4x16384x16384 .f32 :=
  Host.exp (subf (select (cmpf .oeq x (const 0x7F800000#32)) (const 0x00000000#32) x)
    (select (cmpf .oeq (softplus x) (const 0x7F800000#32)) (const 0x00000000#32) (softplus x)))

def slopes (z g : FVec Ideal S4x16384x16384 .f32) : FVec Ideal S4x16384x16384 .f32 :=
  mulf (addf g (Host.negf (Host.negf (mulf (Host.negf (select before (addf (addf g (Host.negf g)) (earlierOf g)) (const 0x00000000#32))) (rise (again z))))))
    (const 0x3E000000#32)

variable (p : FVec Ideal S16384x5896 .f32) (d : FVec Ideal S16384x256 .f32)

def slopesOf : FVec Ideal S4x16384x16384 .f32 := slopes (scores p) (gains (scores p) (rowsRows (heads d) (values p)))

def queryOut : FVec Ideal S16384x256 .f32 :=
  columns (Host.dotGeneral dot_S4x16384x16384_S4x16384x64_S4x16384x64_2_1_1_2_0_0 none (slopesOf p d) (keys p))
def keyOut : FVec Ideal S16384x256 .f32 :=
  columns (Host.dotGeneral dot_S4x16384x16384_S4x16384x64_S4x16384x64_1_1_2_2_0_0 none (slopesOf p d) (queries p))
def valueOut : FVec Ideal S16384x256 .f32 :=
  columns (transpose S4x16384x64 [0, 2, 1] (Host.dotGeneral dot_S4x16384x64_S4x16384x16384_S4x64x16384_1_1_2_2_0_0 none (heads d) (weights (scores p)))
    transposes_S4x64x16384_S4x16384x64_0_2_1)

theorem res56 (m) (c) : Value.res_main_v56 (F := Ideal) m c = queryOut (m ((c.tc : Thread nD τ).loc main_arg0)) (m ((c.tc : Thread nD τ).loc main_arg1)) := rfl
theorem res54 (m) (c) : Value.res_main_v54 (F := Ideal) m c = keyOut (m ((c.tc : Thread nD τ).loc main_arg0)) (m ((c.tc : Thread nD τ).loc main_arg1)) := rfl
theorem res52 (m) (c) : Value.res_main_v52 (F := Ideal) m c = valueOut (m ((c.tc : Thread nD τ).loc main_arg0)) (m ((c.tc : Thread nD τ).loc main_arg1)) := rfl

/-! ## Over real numbers -/

theorem const_zero : ∀ i, const 0x00000000#32 i = 0 := fun i => by
  show Ideal.ofBits .f32 0x00000000#32 = 0
  exact Ideal.ofBits_zero_f32

theorem zero : Cube (const 0x00000000#32) (fun _ _ _ => 0) := fun _ _ _ => const_zero _

theorem eighth : Cube (const 0x3E000000#32) (fun _ _ _ => 0.125) := fun h t s => by
  show Ideal.ofBits .f32 0x3E000000#32 = ((0.125 : ℝ) : EReal)
  simp [Ideal.ofBits, Ideal.ieee, -EReal.coe_mul]
  norm_num

theorem const_top : ∀ i, const 0x7F800000#32 i = ⊤ := fun i => by
  show Ideal.ofBits .f32 0x7F800000#32 = ⊤
  simp [Ideal.ofBits, Ideal.ieee]

theorem const_bot : ∀ i, const 0xFF800000#32 i = ⊥ := fun i => by
  show Ideal.ofBits .f32 0xFF800000#32 = ⊥
  simp [Ideal.ofBits, Ideal.ieee]

theorem marks_before : CubeMarks before (fun _ t s => s < t) := fun h t s => by
  have e : before (ix3 h t s) = IntOp.cmpi .slt (BitVec.ofNat 32 s.val) (BitVec.ofNat 32 t.val) := by pointwise [before]
  rw [e]
  exact WordCmp.cmpi_slt_ofNat_eq_one_iff (by omega) (by omega)

theorem softplus_real (z : ℝ) : max z 0 + Real.log (1 + Real.exp (-|z|)) = Real.log (1 + Real.exp z) := by
  have := Is.keep_real z
  rw [show min (0 - z) 0 = -max z 0 by rw [zero_sub, max_comm, ← neg_zero, min_neg_neg, neg_zero, max_comm], zero_sub] at this
  linarith

variable {x z l g w : FVec Ideal S4x16384x16384 .f32} {f k : ℕ → ℕ → ℕ → ℝ}

theorem is_softplus (h : Cube x f) : Cube (softplus x) (fun p q r => Real.log (1 + Real.exp (f p q r))) := fun p q r => by
  show Scalar.select (Ideal.cmp .une (x (ix3 p q r) - const 0x00000000#32 (ix3 p q r)) (x (ix3 p q r) - const 0x00000000#32 (ix3 p q r))) _
    (max (x (ix3 p q r)) (const 0x00000000#32 (ix3 p q r)) + Ideal.log (1 + Ideal.exp (-max (x (ix3 p q r) - const 0x00000000#32 (ix3 p q r)) (-(x (ix3 p q r) - const 0x00000000#32 (ix3 p q r)))))) = _
  rw [show ∀ y : EReal, Ideal.cmp .une y y = 0#1 from fun y => by simp [Ideal.cmp], const_zero, h p q r, sub_zero]
  show max ((f p q r : ℝ) : EReal) 0 + Ideal.log (1 + Ideal.exp (-max ((f p q r : ℝ) : EReal) (-((f p q r : ℝ) : EReal)))) = _
  show _ = ((Real.log (1 + Real.exp (f p q r)) : ℝ) : EReal)
  rw [← softplus_real, ← EReal.coe_neg, ← EReal.coe_zero, ← EReal.coe_strictMono.monotone.map_max, ← EReal.coe_strictMono.monotone.map_max, ← EReal.coe_neg,
    Ideal.exp_coe, ← EReal.coe_one, ← EReal.coe_add, Ideal.log_coe, if_neg (not_le.mpr (by positivity)), ← EReal.coe_add]
  rfl

theorem is_again (h : Cube z f) : Cube (again z) f := h.negf.negf.congr fun _ _ _ _ _ _ => neg_neg _

theorem is_lowOf (h : Cube z f) : Cube (lowOf z) (fun p t s => low (f p) t s) := Cube.select marks_before (is_softplus (is_again h)).negf zero

theorem init_zero : ∀ i, broadcastInDim S_ ![] bcast_S_S_ (constant (F := Ideal) S_ .f32 0x00000000#32) i = 0 := fun i => by
  show Ideal.ofBits .f32 0x00000000#32 = 0
  exact Ideal.ofBits_zero_f32

theorem is_laterOf (h : Cube l f) : Cube (laterOf l) (fun p q r => from' (f p q) r) := Cube.later h h_S_ init_zero _
theorem is_earlierOf (h : Cube l f) : Cube (earlierOf l) (fun p q r => from' (f p q) 0 - from' (f p q) (r + 1)) := Cube.earlier h h_S_ init_zero _

theorem from'_pop (f : ℕ → ℝ) {s : ℕ} (hs : s < 16384) : from' f s = f s + from' f (s + 1) := Finset.sum_eq_sum_Ico_succ_bot hs f

theorem is_weights (h : Cube z f) : Cube (weights z) (fun p t s => weight (f p) t s) :=
  (Cube.exp_masked marks_before ((h.addf (is_lowOf h)).addf ((is_laterOf (is_lowOf h)).subf (is_lowOf h))) const_bot).congr fun p _ t _ s hs => by
    rw [weight, from'_pop _ hs, add_sub_cancel_left]

theorem is_gains (h : Cube z f) (hw : Cube w k) : Cube (gains z w) (fun p t s => gain (f p) (k p) t s) :=
  (Cube.select marks_before (hw.mulf (is_weights h)) zero).congr fun p _ t _ s _ => by
    by_cases e : s < t
    · rw [if_pos e, gain, mul_comm]
    · rw [if_neg e, Stick.gain_eq_zero _ _ (not_lt.mp e)]

theorem is_rise (h : Cube x f) : Cube (rise x) (fun p q r => Real.exp (f p q r - Real.log (1 + Real.exp (f p q r)))) := fun p q r => by
  show Ideal.exp (Scalar.select (Ideal.cmp .oeq (x (ix3 p q r)) (const 0x7F800000#32 (ix3 p q r))) (const 0x00000000#32 (ix3 p q r)) (x (ix3 p q r))
    - Scalar.select (Ideal.cmp .oeq (softplus x (ix3 p q r)) (const 0x7F800000#32 (ix3 p q r))) (const 0x00000000#32 (ix3 p q r)) (softplus x (ix3 p q r))) = _
  rw [const_top, h p q r, is_softplus h p q r, show ∀ y : ℝ, Ideal.cmp .oeq (y : EReal) ⊤ = 0#1 from fun y => by simp [Ideal.cmp]]
  show Ideal.exp (((f p q r : ℝ) : EReal) - ((Real.log (1 + Real.exp (f p q r)) : ℝ) : EReal)) = _
  rw [← EReal.coe_sub, Ideal.exp_coe]

theorem is_slopes (h : Cube z f) (hg : Cube g (fun p t s => gain (f p) (k p) t s)) : Cube (slopes z g) (fun p t s => slope (f p) (k p) t s * 0.125) :=
  ((hg.addf (((Cube.select marks_before ((hg.addf hg.negf).addf (is_earlierOf hg)) zero).negf.mulf (is_rise (is_again h))).negf.negf)).mulf eighth).congr
    fun p _ t _ s hs => by
    by_cases e : s < t
    · rw [Stick.slope, if_pos e, if_pos e, low, if_pos e]
      simp only [sub_eq_add_neg]
      ring
    · rw [Stick.slope, if_neg e, if_neg e, Stick.gain_eq_zero _ _ (not_lt.mp e)]
      ring

/-! ## Heads and columns -/

theorem is_heads {x : FVec Ideal S16384x256 .f32} {f : ℕ → ℕ → ℝ} (h : Is x f) : Cube (heads x) (fun p t d => f t (64 * p + d)) := fun p t d => by
  have e : heads x (ix3 p t d) = x (ix2 t ⟨64 * p.val + d.val, by omega⟩) := by pointwise [heads]; exact congrArg x ((ix2_inj ..).2 ⟨rfl, Fin.ext (by show p.val * 64 + d.val = 64 * p.val + d.val; omega)⟩)
  rw [e, h]

theorem is_columns {x : FVec Ideal S4x16384x64 .f32} (h : Cube x f) : Is (columns x) (fun t j => f (j / 64) t (j % 64)) := fun t j => by
  have e : columns x (ix2 t j) = x (ix3 ⟨j.val / 64, by omega⟩ t ⟨j.val % 64, by omega⟩) := by pointwise [columns]
  rw [e, h]

theorem is_slice {p : FVec Ideal S16384x5896 .f32} {X : ℕ → ℕ → ℝ} (h : Is p X) (n : ℕ) (hn : n ≤ 2048) (e : S16384x5896.Slices ![0, n] S16384x256) :
    Is (extractStridedSlice S16384x256 ![0, n] p e) (fun t j => X t (n + j)) := fun t j => by
  have e : extractStridedSlice S16384x256 ![0, n] p e (ix2 t j) = p (ix2 t ⟨n + j.val, by omega⟩) := by pointwise
  rw [e, h]

theorem is_rowsRows {x y : FVec Ideal S4x16384x64 .f32} (h : Cube x f) (e : Cube y k) : Cube (rowsRows x y) (fun p t s => ∑ d : Fin 64, f p t d * k p s d) :=
  fun p t s => by
    pointwise [rowsRows]
    exact coe_dot (fun d => h p t d) (fun d => e p s d)

theorem is_across {x : FVec Ideal S4x16384x16384 .f32} {y : FVec Ideal S4x16384x64 .f32} (h : Cube x f) (e : Cube y k) :
    Cube (Host.dotGeneral dot_S4x16384x16384_S4x16384x64_S4x16384x64_2_1_1_2_0_0 none x y) (fun p t d => ∑ s : Fin 16384, f p t s * k p s d) := fun p t d => by
  pointwise
  exact coe_dot (fun s => h p t s) (fun s => e p s d)

theorem is_down {x : FVec Ideal S4x16384x16384 .f32} {y : FVec Ideal S4x16384x64 .f32} (h : Cube x f) (e : Cube y k) :
    Cube (Host.dotGeneral dot_S4x16384x16384_S4x16384x64_S4x16384x64_1_1_2_2_0_0 none x y) (fun p s d => ∑ t : Fin 16384, f p t s * k p t d) := fun p s d => by
  pointwise
  exact coe_dot (fun t => h p t s) (fun t => e p t d)

theorem is_valueHeads {x : FVec Ideal S4x16384x16384 .f32} {y : FVec Ideal S4x16384x64 .f32} (h : Cube x f) (e : Cube y k) :
    Cube (transpose S4x16384x64 [0, 2, 1] (Host.dotGeneral dot_S4x16384x64_S4x16384x16384_S4x64x16384_1_1_2_2_0_0 none y x)
      transposes_S4x64x16384_S4x16384x64_0_2_1) (fun p s d => ∑ t : Fin 16384, k p t d * f p t s) := fun p s d => by
  pointwise
  exact coe_dot (fun t => e p t d) (fun t => h p t s)

end Cert.Proof.Attention.Ideal.Lines

end
-- ==== Proof.Attention.Tile.lean ====
/-
  One head of one tile, in the three forms the attention gradient computes it: the tile on the diagonal (`onDiagonal`), the
  next one, which is skipped where there is none (`besideDiagonal`), and those further down (`below`). What a half step and a
  step of the walk compute are these, for the two heads.
-/
module

public import proofs.«01_k».proof.Proof.Attention.Walk

@[expose] public section

set_option maxRecDepth 16384

noncomputable section

namespace Cert.Proof.Attention.Ideal

open Cert.AttentionIdeal Cert.AttentionIdeal.Gen
open Idealize.ShloMosaic Idealize.ShloMosaic.TcCoe Idealize.ShloMosaic.VecWindow

variable {F : FTy → Type} [FloatOps F] [Named F]

/-- The scores of a tile. -/
def score (q k : FVec F S256x128 .bf16) : FVec F S256x256 .f32 :=
  matmul dot_S256x128_S256x128_S256x256_1_1_0_0_n_n none q (shapeCast S256x128 k shapeCasts_S256x128_S256x128) (constant S256x256 .f32 0x00000000#32)

/-- The logarithm of what survives each score. -/
def keep (z : FVec F S256x256 .f32) : FVec F S256x256 .f32 :=
  subf (minimumf (subf (broadcast S256x256 (Scalar.ofBits .f32 0x00000000#32)) z) (broadcast S256x256 (Scalar.ofBits .f32 0x00000000#32)))
    (log (addf (broadcast S256x256 (Scalar.ofBits .f32 0x3F800000#32)) (exp (subf (broadcast S256x256 (Scalar.ofBits .f32 0x00000000#32)) (absf z)))))

/-- The logarithm of the weights, before any mask. -/
def logWeight (strict : FVec F S256x256 .bf16) (gate : FVec F S256x1 .f32) (z l : FVec F S256x256 .f32) : FVec F S256x256 .f32 :=
  addf (addf (addf z l) (matmul dot_S256x256_S256x256_S256x256_1_0_0_1_n_n none (truncf .bf16 l bitsLt_bf16_f32) strict (constant S256x256 .f32 0x00000000#32)))
    (broadcastTo S256x256 gate broadcasts_S256x1_S256x256)

/-- The weights' gradient, weighted. -/
def gainTile (att : FVec F S256x256 .bf16) (d v : FVec F S256x128 .bf16) : FVec F S256x256 .f32 :=
  mulf (extf .f32 att bitsLt_bf16_f32)
    (matmul dot_S256x128_S256x128_S256x256_1_1_0_0_n_n none d (shapeCast S256x128 v shapeCasts_S256x128_S256x128) (constant S256x256 .f32 0x00000000#32))

/-- The gradient of the scores, before any mask. -/
def slopeTile (strict : FVec F S256x256 .bf16) (b : FVec F S256x1 .f32) (z l g : FVec F S256x256 .f32) : FVec F S256x256 .f32 :=
  subf g (mulf (subf (broadcastTo S256x256 b broadcasts_S256x1_S256x256)
    (addf (matmul dot_S256x256_S256x256_S256x256_1_0_0_1_n_n none (truncf .bf16 g bitsLt_bf16_f32) strict (constant S256x256 .f32 0x00000000#32))
      (matmul dot_S256x256_S256x256_S256x256_1_0_0_1_n_n none (truncf .bf16 (subf g (extf .f32 (truncf .bf16 g bitsLt_bf16_f32) bitsLt_bf16_f32)) bitsLt_bf16_f32) strict
        (constant S256x256 .f32 0x00000000#32)))) (exp (addf z l)))

/-- The row sums of a tile, as a column. -/
def rowSums (x : FVec F S256x256 .f32) : FVec F S256x1 .f32 :=
  shapeCast S256x1 (multiReduction .add [1] S256 x 0x00000000#32 reduces_S256x256_S256 (.inl rfl) rfl) shapeCasts_S256_S256x1

/-- A tile's matrix times rows, and its transpose times rows. -/
def across (x : FVec F S256x256 .bf16) (y : FVec F S256x128 .bf16) : FVec F S256x128 .f32 :=
  matmul dot_S256x256_S256x128_S256x128_1_0_0_1_n_n none x y (constant S256x128 .f32 0x00000000#32)
def down (x : FVec F S256x256 .bf16) (y : FVec F S256x128 .bf16) : FVec F S256x128 .f32 :=
  matmul dot_S256x256_S256x128_S256x128_0_0_1_1_n_n none x y (constant S256x128 .f32 0x00000000#32)

/-- What one head holds fixed over its tiles. -/
structure Head (F : FTy → Type) where
  q : FVec F S256x128 .bf16
  d : FVec F S256x128 .bf16
  tot : FVec F S256x1 .f32

/-- What one head of a tile gives: what it carries on, and its parts of the key and value gradients. -/
structure Tile (F : FTy → Type) where
  later : FVec F S256x1 .f32
  laterGain : FVec F S256x1 .f32
  acc : FVec F S256x128 .f32
  dk : FVec F S256x128 .f32
  dv : FVec F S256x128 .f32

/-- A tile from its weights, gain and slope. -/
def tileOf (h : Head F) (k : FVec F S256x128 .bf16) (later laterGain : FVec F S256x1 .f32) (acc : FVec F S256x128 .f32) (att dz : FVec F S256x256 .bf16) : Tile F :=
  ⟨later, laterGain, addf acc (across dz (shapeCast S256x128 k shapeCasts_S256x128_S256x128)), down dz h.q, down att h.d⟩

def onDiagonal (mask : IVec S256x256 1) (strict : FVec F S256x256 .bf16) (h : Head F) (k v : FVec F S256x128 .bf16) : Tile F :=
  let zero := broadcast S256x1 (Scalar.ofBits .f32 0x00000000#32)
  let z := score h.q k
  let l := select mask (keep z) (broadcast S256x256 (Scalar.ofBits .f32 0x00000000#32))
  let att := truncf .bf16 (exp (select mask (logWeight strict zero z l) (broadcast S256x256 (Scalar.ofBits .f32 0xFF800000#32)))) bitsLt_bf16_f32
  let g := gainTile att h.d v
  let dz := truncf .bf16 (select mask (slopeTile strict (subf h.tot zero) z l g) (broadcast S256x256 (Scalar.ofBits .f32 0x00000000#32))) bitsLt_bf16_f32
  tileOf h k (addf zero (rowSums l)) (addf zero (rowSums g)) (broadcast S256x128 (Scalar.ofBits .f32 0x00000000#32)) att dz

def besideDiagonal (ok : BitVec 1) (strict : FVec F S256x256 .bf16) (h : Head F) (later laterGain : FVec F S256x1 .f32) (acc : FVec F S256x128 .f32)
    (k v : FVec F S256x128 .bf16) : Tile F :=
  let z := score h.q k
  let l := keep z
  let att := truncf .bf16 (exp (logWeight strict (Scalar.select ok later (broadcast S256x1 (Scalar.ofBits .f32 0xFF800000#32))) z l)) bitsLt_bf16_f32
  let g := gainTile att h.d v
  let dz := truncf .bf16 (slopeTile strict (Scalar.select ok (subf h.tot laterGain) (broadcast S256x1 (Scalar.ofBits .f32 0x00000000#32))) z l g) bitsLt_bf16_f32
  tileOf h k (addf later (Scalar.select ok (rowSums l) (broadcast S256x1 (Scalar.ofBits .f32 0x00000000#32)))) (addf laterGain (rowSums g)) acc att dz

def below (strict : FVec F S256x256 .bf16) (h : Head F) (later laterGain : FVec F S256x1 .f32) (acc : FVec F S256x128 .f32) (k v : FVec F S256x128 .bf16) : Tile F :=
  let z := score h.q k
  let l := keep z
  let att := truncf .bf16 (exp (logWeight strict later z l)) bitsLt_bf16_f32
  let g := gainTile att h.d v
  let dz := truncf .bf16 (slopeTile strict (subf h.tot laterGain) z l g) bitsLt_bf16_f32
  tileOf h k (addf later (rowSums l)) (addf laterGain (rowSums g)) acc att dz

/-- The head of lanes below 64, and the other, of a half step's rows. -/
def lanes : IVec S256x128 1 := broadcastTo S256x128 (shapeCast S1x128 k0_pay18 shapeCasts_S1x128_S1x128) broadcasts_S1x128_S256x128
def queries (q : FVec F S256x128 .bf16) : FVec F S256x128 .bf16 :=
  mulf (shapeCast S256x128 q shapeCasts_S256x128_S256x128) (broadcast S256x128 (Scalar.ofBits .bf16 0x3E00#16))
def laneSums (x : FVec F S256x128 .f32) : FVec F S256x1 .f32 :=
  shapeCast S256x1 (multiReduction .add [1] S256 x 0x00000000#32 reduces_S256x128_S256 (.inl rfl) rfl) shapeCasts_S256_S256x1
def against (d : FVec F S256x128 .bf16) (o : FVec F S256x128 .f32) : FVec F S256x128 .f32 :=
  mulf (extf .f32 (shapeCast S256x128 d shapeCasts_S256x128_S256x128) bitsLt_bf16_f32) (shapeCast S256x128 o shapeCasts_S256x128_S256x128)

def head0 (q d : FVec F S256x128 .bf16) (o : FVec F S256x128 .f32) : Head F where
  q := select lanes (queries q) (broadcast S256x128 (Scalar.ofBits .bf16 0x0000#16))
  d := select lanes (shapeCast S256x128 d shapeCasts_S256x128_S256x128) (broadcast S256x128 (Scalar.ofBits .bf16 0x0000#16))
  tot := laneSums (select lanes (against d o) (broadcast S256x128 (Scalar.ofBits .f32 0x00000000#32)))

def head1 (q d : FVec F S256x128 .bf16) (o : FVec F S256x128 .f32) : Head F where
  q := select lanes (broadcast S256x128 (Scalar.ofBits .bf16 0x0000#16)) (queries q)
  d := select lanes (broadcast S256x128 (Scalar.ofBits .bf16 0x0000#16)) (shapeCast S256x128 d shapeCasts_S256x128_S256x128)
  tot := laneSums (select lanes (broadcast S256x128 (Scalar.ofBits .f32 0x00000000#32)) (against d o))

/-- Two tiles' parts added to rows of a gradient. -/
def addTwo (x y old : FVec F S256x128 .f32) : FVec F S256x128 .f32 := addf (shapeCast S256x128 old shapeCasts_S256x128_S256x128) (addf x y)

/-- A half step, from its rows, the mask of the tile on the diagonal, and the number of its block of rows. -/
def halfOf (mask : IVec S256x256 1) (r : BitVec 32) (q d : FVec F S256x128 .bf16) (o : FVec F S256x128 .f32) (k1 v1 k2 v2 : FVec F S256x128 .bf16) : Half F :=
  let strict := k0_pay23 (F := F)
  let h0 := head0 q d o
  let h1 := head1 q d o
  let ok := Scalar.cmpi .sge r 1#32
  let a0 := onDiagonal mask strict h0 k1 v1
  let a1 := onDiagonal mask strict h1 k1 v1
  let b0 := besideDiagonal ok strict h0 a0.later a0.laterGain a0.acc k2 v2
  let b1 := besideDiagonal ok strict h1 a1.later a1.laterGain a1.acc k2 v2
  { fixed := ⟨h0.q, strict, h0.d, h0.tot, h1.q, h1.d, h1.tot⟩, lane := k0_pay18
    carried := ⟨Scalar.subi r 2#32, b0.later, b1.later, b0.laterGain, b1.laterGain, b0.acc, b1.acc⟩
    dk1 := addTwo a0.dk a1.dk, dv1 := addTwo a0.dv a1.dv, dk2 := addTwo b0.dk b1.dk, dv2 := addTwo b0.dv b1.dv }

/-- The number of the block of rows of a point's first and second half step, as the program's word. -/
abbrev word (i : grid0.Coords) (s : BitVec 32) : BitVec 32 :=
  Scalar.divsi (Scalar.muli (Scalar.addi (Scalar.muli (BitVec.ofNat 32 (i 1).val) 2#32) s) 256#32) 256#32

theorem half_ext {x y : Half F} (h1 : x.fixed = y.fixed) (h2 : x.lane = y.lane) (h3 : x.carried = y.carried) (h4 : x.dk1 = y.dk1) (h5 : x.dv1 = y.dv1)
    (h6 : x.dk2 = y.dk2) (h7 : x.dv2 = y.dv2) : x = y := by
  cases x; cases y; subst h1 h2 h3 h4 h5 h6 h7; rfl

theorem carried_ext {x y : Carried F} (h1 : x.1 = y.1) (h2 : x.2.1 = y.2.1) (h3 : x.2.2.1 = y.2.2.1) (h4 : x.2.2.2.1 = y.2.2.2.1) (h5 : x.2.2.2.2.1 = y.2.2.2.2.1)
    (h6 : x.2.2.2.2.2.1 = y.2.2.2.2.2.1) (h7 : x.2.2.2.2.2.2 = y.2.2.2.2.2.2) : x = y :=
  Prod.ext h1 (Prod.ext h2 (Prod.ext h3 (Prod.ext h4 (Prod.ext h5 (Prod.ext h6 h7)))))

set_option maxHeartbeats 4000000 in
theorem firstHalf_eq (i : grid0.Coords) (q d : FVec F S256x128 .bf16) (o : FVec F S256x128 .f32) (k1 v1 k2 v2 : FVec F S256x128 .bf16) :
    firstHalf i q d o k1 v1 k2 v2 = halfOf (k0_pay22 i) (word i 0#32) q d o k1 v1 k2 v2 :=
  half_ext rfl rfl (carried_ext rfl rfl rfl rfl rfl rfl rfl) rfl rfl rfl rfl

set_option maxHeartbeats 4000000 in
theorem secondHalf_eq (i : grid0.Coords) (q d : FVec F S256x128 .bf16) (o : FVec F S256x128 .f32) (k1 v1 k2 v2 : FVec F S256x128 .bf16) :
    secondHalf i q d o k1 v1 k2 v2 = halfOf (k0_pay94 (BitVec.ofNat 32 (i 1).val) 2#32) (word i 1#32) q d o k1 v1 k2 v2 :=
  half_ext rfl rfl (carried_ext rfl rfl rfl rfl rfl rfl rfl) rfl rfl rfl rfl

/-- The two heads of what a walk holds fixed. -/
abbrev Fixed.head0 (x : Fixed F) : Head F := ⟨x.q0, x.do0, x.tot0⟩
abbrev Fixed.head1 (x : Fixed F) : Head F := ⟨x.q1, x.do1, x.tot1⟩

theorem tailStep_eq (x : Fixed F) (k v : Vec F S256x128 .bf16) (j : BitVec 32) (l0 l1 g0 g1 : FVec F S256x1 .f32) (a0 a1 : FVec F S256x128 .f32) :
    tailStep x k v (j, l0, l1, g0, g1, a0, a1)
      = (Scalar.subi j 1#32, (below x.strict x.head0 l0 g0 a0 k v).later, (below x.strict x.head1 l1 g1 a1 k v).later,
        (below x.strict x.head0 l0 g0 a0 k v).laterGain, (below x.strict x.head1 l1 g1 a1 k v).laterGain,
        (below x.strict x.head0 l0 g0 a0 k v).acc, (below x.strict x.head1 l1 g1 a1 k v).acc) := rfl

theorem tailDk_eq (x : Fixed F) (k v : Vec F S256x128 .bf16) (j : BitVec 32) (l0 l1 g0 g1 : FVec F S256x1 .f32) (a0 a1 : FVec F S256x128 .f32) :
    tailDk x k v (j, l0, l1, g0, g1, a0, a1) = addTwo (below x.strict x.head0 l0 g0 a0 k v).dk (below x.strict x.head1 l1 g1 a1 k v).dk := rfl

theorem tailDv_eq (x : Fixed F) (k v : Vec F S256x128 .bf16) (j : BitVec 32) (l0 l1 g0 g1 : FVec F S256x1 .f32) (a0 a1 : FVec F S256x128 .f32) :
    tailDv x k (j, l0, l1, g0, g1, a0, a1) = addTwo (below x.strict x.head0 l0 g0 a0 k v).dv (below x.strict x.head1 l1 g1 a1 k v).dv := rfl

end Cert.Proof.Attention.Ideal

end
-- ==== Proof.Attention.Real.lean ====
/- One head of one tile over real numbers: each form of the tile gives the stick-breaking gradient's own sums. -/
module

public import proofs.«01_k».proof.Proof.Attention.Prims
public import proofs.«01_k».proof.Proof.Attention.Tile
public import proofs.«01_k».proof.Proof.Attention.Stick
public import Idealize.ShloMosaic.Lib.WordCmp

@[expose] public section

set_option maxRecDepth 16384

noncomputable section

namespace Cert.Proof.Attention.Ideal

open Cert.AttentionIdeal Cert.AttentionIdeal.Gen
open Idealize.ShloMosaic Idealize.ShloMosaic.TcCoe
open Stick (from' low weight gain slope)

variable {a b c d f g : ℕ → ℕ → ℝ}

theorem is_score {q k : FVec Ideal S256x128 .bf16} (hq : Is q f) (hk : Is k g) : Is (score q k) (fun p c => ∑ l : Fin 128, f p l * g c l) :=
  hq.rowsRows (hk.cast _)

theorem is_keep {z : FVec Ideal S256x256 .f32} (h : Is z f) : Is (keep z) (fun p c => -Real.log (1 + Real.exp (f p c))) := h.keep

theorem is_rowSums {z : FVec Ideal S256x256 .f32} (h : Is z f) : Is (rowSums z) (fun p _ => ∑ c : Fin 256, f p c) := h.rowSum

theorem is_across {x : FVec Ideal S256x256 .bf16} {y : FVec Ideal S256x128 .bf16} (h : Is x f) (k : Is y g) :
    Is (across x y) (fun p l => ∑ c : Fin 256, f p c * g c l) := h.across k

theorem is_down {x : FVec Ideal S256x256 .bf16} {y : FVec Ideal S256x128 .bf16} (h : Is x f) (k : Is y g) :
    Is (down x y) (fun c l => ∑ p : Fin 256, f p c * g p l) := h.down k

theorem slt_iff {a b : ℕ} (ha : a < 512) (hb : b < 512) : IntOp.cmpi .slt (BitVec.ofNat 32 a) (BitVec.ofNat 32 b) = 1#1 ↔ a < b :=
  WordCmp.cmpi_slt_ofNat_eq_one_iff (by omega) (by omega)

theorem sgt_iff {a b : ℕ} (ha : a < 512) (hb : b < 512) : IntOp.cmpi .sgt (BitVec.ofNat 32 a) (BitVec.ofNat 32 b) = 1#1 ↔ b < a :=
  slt_iff hb ha

theorem bit_eq_zero : ∀ {w : BitVec 1}, w ≠ 1#1 → w = 0#1 := by decide

/-- The strict triangle. -/
theorem is_strict : Is (k0_pay23 (F := Ideal)) (fun k c => if c < k then 1 else 0) := fun p q => by
  pointwise [k0_pay23]
  have h := sgt_iff (a := p) (b := q) (by omega) (by omega)
  generalize IntOp.cmpi .sgt (BitVec.ofNat 32 (p : ℕ)) (BitVec.ofNat 32 (q : ℕ)) = w at h ⊢
  show (((BitVec.setWidth 32 w).toInt : ℝ) : EReal) = _
  by_cases e : (q : ℕ) < p
  · rw [h.mpr e, if_pos e]; simp
  · have : w = 0#1 := bit_eq_zero (mt h.mp e)
    rw [this, if_neg e]; simp

/-- The lanes of the first head are those below 64. -/
theorem marks_lanes : Marks lanes (fun _ l => l < 64) := fun p q => by
  pointwise [lanes, k0_pay18]
  exact slt_iff (by omega) (by omega)

/-- The tile on the diagonal keeps the keys before the query. -/
theorem marks_first (i : grid0.Coords) : Marks (k0_pay22 i) (fun p c => c < p) := fun p q => by
  have e : ∀ n : Fin 32, Scalar.subi (Scalar.muli (Scalar.divsi (Scalar.muli (Scalar.addi (Scalar.muli (BitVec.ofNat 32 n.val) 2#32) 0#32) 256#32) 256#32) 256#32)
      (Scalar.muli (Scalar.addi (Scalar.muli (BitVec.ofNat 32 n.val) 2#32) 0#32) 256#32) = 0#32 := by decide +kernel
  pointwise [k0_pay22]
  rw [e (i 1)]
  exact (by rw [IntOp.addi, BitVec.add_zero] : _ ↔ _).trans (slt_iff (by omega) (by omega))

theorem marks_second (i : grid0.Coords) : Marks (k0_pay94 (BitVec.ofNat 32 (i 1).val) 2#32) (fun p c => c < p) := fun p q => by
  have e : ∀ n : Fin 32, Scalar.subi (Scalar.muli (Scalar.divsi (Scalar.muli (Scalar.addi (Scalar.muli (BitVec.ofNat 32 n.val) 2#32) 1#32) 256#32) 256#32) 256#32)
      (Scalar.muli (Scalar.addi (Scalar.muli (BitVec.ofNat 32 n.val) 2#32) 1#32) 256#32) = 0#32 := by decide +kernel
  pointwise [k0_pay94]
  rw [e (i 1)]
  exact (by rw [IntOp.addi, BitVec.add_zero] : _ ↔ _).trans (slt_iff (by omega) (by omega))

/-- The number of the block of rows of a half step. -/
theorem word_eq (i : grid0.Coords) (s : Fin 2) : word i (BitVec.ofNat 32 s.val) = BitVec.ofNat 32 (2 * (i 1).val + s.val) :=
  (by decide +kernel : ∀ n : Fin 32, ∀ s : Fin 2, Scalar.divsi (Scalar.muli (Scalar.addi (Scalar.muli (BitVec.ofNat 32 n.val) 2#32) (BitVec.ofNat 32 s.val)) 256#32) 256#32
    = BitVec.ofNat 32 (2 * n.val + s.val)) (i 1) s

theorem is_logWeight {strict : FVec Ideal S256x256 .bf16} {gate : FVec Ideal S256x1 .f32} {z l : FVec Ideal S256x256 .f32}
    (hs : Is strict a) (hg : Is gate b) (hz : Is z c) (hl : Is l d) :
    Is (logWeight strict gate z l) (fun p s => c p s + d p s + (∑ k : Fin 256, d p k * a k s) + b p 0) :=
  ((hz.addf hl).addf ((hl.truncf _).square hs)).addf hg.spread

theorem is_gain {att : FVec Ideal S256x256 .bf16} {x v : FVec Ideal S256x128 .bf16} (ha : Is att a) (hx : Is x b) (hv : Is v c) :
    Is (gainTile att x v) (fun p s => a p s * ∑ l : Fin 128, b p l * c s l) :=
  (ha.extf _).mulf (hx.rowsRows (hv.cast _))

theorem is_slope {strict : FVec Ideal S256x256 .bf16} {t : FVec Ideal S256x1 .f32} {z l y : FVec Ideal S256x256 .f32}
    (hs : Is strict a) (ht : Is t b) (hz : Is z c) (hl : Is l d) (hy : Is y f) :
    Is (slopeTile strict t z l y) (fun p s => f p s - (b p 0 - ∑ k : Fin 256, f p k * a k s) * Real.exp (c p s + d p s)) := by
  refine Is.congr (hy.subf ((ht.spread.subf ((((hy.truncf _).square hs)).addf (((hy.subf ((hy.truncf _).extf _)).truncf _).square hs))).mulf (hz.addf hl).exp))
    fun p _ q _ => ?_
  simp

/-- One head of a half step at rows `256 r` on: the scores are `z`, the products with the values `w`, and the row totals the gains' own. -/
structure IsHead (z w : ℕ → ℕ → ℝ) (K V : ℕ → ℕ → ℝ) (r : ℕ) (h : Head Ideal) (q d : ℕ → ℕ → ℝ) : Prop where
  isQ : Is h.q q
  isD : Is h.d d
  tot : Is h.tot (fun p _ => from' (gain z w (256 * r + p)) 0)
  score : ∀ p < 256, ∀ s < 16384, ∑ l : Fin 128, q p l * K s l = z (256 * r + p) s
  against : ∀ p < 256, ∀ s < 16384, ∑ l : Fin 128, d p l * V s l = w (256 * r + p) s

/-- What a head carries once the tiles from `j` on are done. -/
structure Carries (z w : ℕ → ℕ → ℝ) (K : ℕ → ℕ → ℝ) (r j : ℕ) (later laterGain : FVec Ideal S256x1 .f32) (acc : FVec Ideal S256x128 .f32) : Prop where
  later : Is later (fun p _ => from' (low z (256 * r + p)) (256 * j))
  laterGain : Is laterGain (fun p _ => from' (gain z w (256 * r + p)) (256 * j))
  acc : Is acc (fun p l => from' (fun s => slope z w (256 * r + p) s * K s l) (256 * j))

/-- What a tile gives: the carried sums from tile `j` on, and the tile's rows of the key and value gradients. -/
structure Gives (z w : ℕ → ℕ → ℝ) (K : ℕ → ℕ → ℝ) (r j : ℕ) (q d : ℕ → ℕ → ℝ) (t : Tile Ideal) : Prop where
  carries : Carries z w K r j t.later t.laterGain t.acc
  dk : Is t.dk (fun c l => ∑ p : Fin 256, slope z w (256 * r + p) (256 * j + c) * q p l)
  dv : Is t.dv (fun c l => ∑ p : Fin 256, weight z (256 * r + p) (256 * j + c) * d p l)

variable {z w K V : ℕ → ℕ → ℝ} {r j : ℕ} {h : Head Ideal} {q d : ℕ → ℕ → ℝ} {k v : FVec Ideal S256x128 .bf16}
  {later laterGain : FVec Ideal S256x1 .f32} {acc : FVec Ideal S256x128 .f32}

/-- A tile from its parts. -/
theorem tileOf_gives (H : IsHead z w K V r h q d) (hj : j < 64) (hk : Is k (fun c l => K (256 * j + c) l)) {acc : FVec Ideal S256x128 .f32}
    (ha : Is acc (fun p l => from' (fun s => slope z w (256 * r + p) s * K s l) (256 * (j + 1))))
    {later laterGain : FVec Ideal S256x1 .f32} {att dz : FVec Ideal S256x256 .bf16}
    (hl : Is later (fun p _ => from' (low z (256 * r + p)) (256 * j))) (hg : Is laterGain (fun p _ => from' (gain z w (256 * r + p)) (256 * j)))
    (hatt : Is att (fun p c => weight z (256 * r + p) (256 * j + c))) (hdz : Is dz (fun p c => slope z w (256 * r + p) (256 * j + c))) :
    Gives z w K r j q d (tileOf h k later laterGain acc att dz) where
  carries := ⟨hl, hg, (ha.addf (is_across hdz (hk.cast _))).congr fun p _ l _ => (Stick.from'_tile _ j hj).symm⟩
  dk := is_down hdz H.isQ
  dv := is_down hatt H.isD

theorem below_gives (H : IsHead z w K V r h q d) (hj : j < r) (hr : r < 64) (C : Carries z w K r (j + 1) later laterGain acc)
    (hk : Is k (fun c l => K (256 * j + c) l)) (hv : Is v (fun c l => V (256 * j + c) l)) :
    Gives z w K r j q d (below k0_pay23 h later laterGain acc k v) := by
  have hj' : j < 64 := by omega
  have before : ∀ p c, c < 256 → 256 * j + c < 256 * r + p := fun p c hc => by omega
  have hz : Is (score h.q k) (fun p c => z (256 * r + p) (256 * j + c)) := (is_score H.isQ hk).congr fun p hp c hc => H.score p hp _ (by omega)
  have hl : Is (keep (score h.q k)) (fun p c => low z (256 * r + p) (256 * j + c)) :=
    (is_keep hz).congr fun p hp c hc => (if_pos (before p c hc)).symm
  have hatt := (is_logWeight is_strict C.later hz hl).exp.congr (g := fun p c => weight z (256 * r + p) (256 * j + c)) fun p hp c hc => by
    rw [weight, if_pos (before p c hc), add_assoc, Stick.from'_strict _ j c hj' hc]
  have hg := (is_gain (hatt.truncf bitsLt_bf16_f32) H.isD hv).congr (g := fun p c => gain z w (256 * r + p) (256 * j + c)) fun p hp c hc => by
    rw [H.against p hp _ (by omega)]; rfl
  refine tileOf_gives H hj' hk C.acc ((C.later.addf (is_rowSums hl)).congr fun p _ _ _ => (Stick.from'_tile _ j hj').symm)
    ((C.laterGain.addf (is_rowSums hg)).congr fun p _ _ _ => (Stick.from'_tile _ j hj').symm) (hatt.truncf _)
    (((is_slope is_strict (H.tot.subf C.laterGain) hz hl hg).congr fun p hp c hc => ?_).truncf _)
  rw [Stick.slope, if_pos (before p c hc), sub_sub, add_comm (from' _ (256 * (j + 1))), Stick.from'_strict _ j c hj' hc]

theorem besideDiagonal_gives (H : IsHead z w K V r h q d) (hj : j < r) (hr : r < 64) (C : Carries z w K r (j + 1) later laterGain acc)
    (hk : Is k (fun c l => K (256 * j + c) l)) (hv : Is v (fun c l => V (256 * j + c) l)) :
    Gives z w K r j q d (besideDiagonal 1#1 k0_pay23 h later laterGain acc k v) :=
  below_gives H hj hr C hk hv

theorem onDiagonal_gives {mask : IVec S256x256 1} (hm : Marks mask (fun p c => c < p)) (H : IsHead z w K V r h q d) (hr : r < 64)
    (hk : Is k (fun c l => K (256 * r + c) l)) (hv : Is v (fun c l => V (256 * r + c) l)) :
    Gives z w K r r q d (onDiagonal mask k0_pay23 h k v) := by
  have past : ∀ (f : ℕ → ℝ) (p : ℕ), p < 256 → (∀ s, 256 * r + p ≤ s → f s = 0) → from' f (256 * (r + 1)) = 0 := fun f p hp e =>
    Stick.from'_eq_zero f _ fun s hs => e s (by omega)
  have on : ∀ p c, 256 * r + c < 256 * r + p ↔ c < p := fun p c => by omega
  have hz : Is (score h.q k) (fun p c => z (256 * r + p) (256 * r + c)) := (is_score H.isQ hk).congr fun p hp c hc => H.score p hp _ (by omega)
  have hl := (Is.select hm (is_keep hz) Is.zero).congr (g := fun p c => low z (256 * r + p) (256 * r + c)) fun p hp c hc => by
    simp only [low, on]
  have hatt := (Is.exp_masked hm (is_logWeight is_strict Is.zero hz hl)).congr (g := fun p c => weight z (256 * r + p) (256 * r + c)) fun p hp c hc => by
    simp only [weight, on]
    refine if_congr Iff.rfl (congrArg _ ?_) rfl
    rw [← Stick.from'_strict _ r c hr hc, past _ p hp fun s hs => Stick.low_eq_zero z hs, ← add_assoc]
  have hg := (is_gain (hatt.truncf bitsLt_bf16_f32) H.isD hv).congr (g := fun p c => gain z w (256 * r + p) (256 * r + c)) fun p hp c hc => by
    rw [H.against p hp _ (by omega)]; rfl
  refine tileOf_gives H hr hk (Is.zero.congr fun p hp l _ => (past _ p hp fun s hs => by rw [Stick.slope_eq_zero z w hs, zero_mul]).symm)
    ((Is.zero.addf (is_rowSums hl)).congr fun p hp _ _ => ?_)
    ((Is.zero.addf (is_rowSums hg)).congr fun p hp _ _ => ?_) (hatt.truncf _)
    (((Is.select hm (is_slope is_strict (H.tot.subf Is.zero) hz hl hg) Is.zero).congr fun p hp c hc => ?_).truncf _)
  · rw [Stick.from'_tile _ r hr, past _ p hp fun s hs => Stick.low_eq_zero z hs]
  · rw [Stick.from'_tile _ r hr, past _ p hp fun s hs => Stick.gain_eq_zero z w hs]
  · simp only [Stick.slope, on]
    refine if_congr Iff.rfl ?_ rfl
    rw [← Stick.from'_strict _ r c hr hc, past _ p hp fun s hs => Stick.gain_eq_zero z w hs]
    simp only [sub_zero, add_zero]

/-- Where there is no tile beside the diagonal one, what is carried stays, and nothing is added. -/
theorem besideDiagonal_none (H : IsHead z w K V r h q d) (C : Carries z w K r j later laterGain acc)
    {k' v' : ℕ → ℕ → ℝ} (hk : Is k k') (hv : Is v v') :
    Carries z w K r j (besideDiagonal 0#1 k0_pay23 h later laterGain acc k v).later (besideDiagonal 0#1 k0_pay23 h later laterGain acc k v).laterGain
      (besideDiagonal 0#1 k0_pay23 h later laterGain acc k v).acc
    ∧ Is (besideDiagonal 0#1 k0_pay23 h later laterGain acc k v).dk (fun _ _ => 0)
    ∧ Is (besideDiagonal 0#1 k0_pay23 h later laterGain acc k v).dv (fun _ _ => 0) := by
  have hz := is_score H.isQ hk
  have hl := is_keep hz
  have hatt : Is (exp (logWeight k0_pay23 (broadcast S256x1 (Scalar.ofBits (F := Ideal) .f32 0xFF800000#32)) (score h.q k) (keep (score h.q k)))) (fun _ _ => 0) := by
    intro p c
    have e : (broadcastTo S256x256 (broadcast S256x1 (Scalar.ofBits (F := Ideal) .f32 0xFF800000#32)) broadcasts_S256x1_S256x256 : FVec Ideal S256x256 .f32) (ix2 p c) = (⊥ : EReal) := by
      pointwise
      simp [Ideal.ofBits, Ideal.ieee]
    show Ideal.exp ((_ : EReal) + broadcastTo S256x256 (broadcast S256x1 (Scalar.ofBits (F := Ideal) .f32 0xFF800000#32)) broadcasts_S256x1_S256x256 (ix2 p c)) = _
    rw [e, EReal.add_bot]; rfl
  have hg := (is_gain (hatt.truncf bitsLt_bf16_f32) H.isD hv).congr (g := fun _ _ => 0) fun p hp c hc => by simp
  have hdz := ((is_slope is_strict Is.zero hz hl hg).congr (g := fun _ _ => 0) fun p hp c hc => by simp).truncf (ψ := .bf16) bitsLt_bf16_f32
  refine ⟨⟨(C.later.addf Is.zero).congr fun _ _ _ _ => add_zero _, (C.laterGain.addf (is_rowSums hg)).congr fun _ _ _ _ => by simp,
    (C.acc.addf (is_across hdz (hk.cast _))).congr fun _ _ _ _ => by simp⟩, (is_down hdz H.isQ).congr fun _ _ _ _ => by simp,
    (is_down (hatt.truncf bitsLt_bf16_f32) H.isD).congr fun _ _ _ _ => by simp⟩

end Cert.Proof.Attention.Ideal

end
-- ==== Proof.Attention.Loop.lean ====
/-
  The walk over a half step's tiles, over real numbers: it goes on while a tile is left, each step does its tile, and what is
  left at the end are the sums over all keys, with the half step's rows added to the key and value gradients.
-/
module

public import proofs.«01_k».proof.Proof.Attention.Real

@[expose] public section

set_option maxRecDepth 16384

noncomputable section

namespace Cert.Proof.Attention.Ideal

open Cert.AttentionIdeal Cert.AttentionIdeal.Gen
open Idealize.ShloMosaic Idealize.ShloMosaic.TcCoe Idealize.ShloMosaic.VecWindow
open Stick (from' low weight gain slope)

variable {f g : ℕ → ℕ → ℝ}

theorem Is.window {a : ℕ} {φ : FTy} {x : FVec Ideal ⟨2, ![a, 128]⟩ φ} (h : Is x f) {off : Fin 2 → ℕ} {n : ℕ} (e : off = ![n, 0])
    (inb : ∀ a', off a' + S256x128.size a' ≤ (⟨2, ![a, 128]⟩ : Shape).size a') :
    Is (VecWindow.window (s := ⟨2, ![a, 128]⟩) x off S256x128.size inb : FVec Ideal S256x128 φ) (fun c l => f (n + c) l) := fun p q => by
  subst e
  have h0 : n + 256 ≤ a := inb 0
  refine Eq.trans ?_ (h ⟨n + p, by omega⟩ q)
  refine congrArg x (funext fun b => Fin.ext ?_)
  fin_cases b
  · show n + 1 * (p : ℕ) = n + p; omega
  · show 0 + 1 * (q : ℕ) = q; omega

theorem Is.put {a : ℕ} {φ : FTy} {x : FVec Ideal ⟨2, ![a, 128]⟩ φ} {w : FVec Ideal S256x128 φ} (h : Is x f) {off : Fin 2 → ℕ} {n : ℕ} (e : off = ![n, 0]) (k : Is w (fun c l => g (n + c) l)) :
    Is (VecWindow.put (s := ⟨2, ![a, 128]⟩) x off S256x128.size w : FVec Ideal ⟨2, ![a, 128]⟩ φ)
      (fun s l => if n ≤ s ∧ s < n + 256 then g s l else f s l) := fun p q => by
  subst e
  unfold VecWindow.put
  by_cases c : n ≤ (p : ℕ) ∧ (p : ℕ) < n + 256
  · have c' : ∀ b, (![n, 0] : Fin 2 → ℕ) b ≤ (ix2 p q b).val ∧ (ix2 p q b).val < (![n, 0] : Fin 2 → ℕ) b + S256x128.size b := fun b => by
      fin_cases b
      · exact c
      · exact ⟨Nat.zero_le _, by show (q : ℕ) < 0 + 128; omega⟩
    rw [dif_pos c']
    have := k ⟨p - n, by omega⟩ q
    simp only [if_pos c]
    simp only [show n + ((p : ℕ) - n) = p by omega] at this
    refine Eq.trans (congrArg w (funext fun b => Fin.ext ?_)) this
    fin_cases b
    · rfl
    · rfl
  · rw [dif_neg (fun c' => c (c' 0))]
    simp only [if_neg c]
    exact h p q

/-- The gradient `f` with the half step's rows `g` added from tile `j` on. -/
def Done (j : ℕ) (x : FVec Ideal S16384x128 .f32) (f g : ℕ → ℕ → ℝ) : Prop := Is x (fun s l => f s l + if 256 * j ≤ s then g s l else 0)

theorem Done.step {j : ℕ} {x : FVec Ideal S16384x128 .f32} (h : Done (j + 1) x f g) {off : Fin 2 → ℕ} (e : off = ![256 * j, 0])
    (inb : ∀ a, off a + S256x128.size a ≤ S16384x128.size a) {u w : FVec Ideal S256x128 .f32} {u' w' : ℕ → ℕ → ℝ} (hu : Is u u') (hw : Is w w')
    (hg : ∀ c < 256, ∀ l, g (256 * j + c) l = u' c l + w' c l) :
    Done j (VecWindow.put (s := S16384x128) x off S256x128.size (addTwo u w (VecWindow.window (s := S16384x128) x off S256x128.size inb))) f g := by
  have t : Is (addTwo u w (VecWindow.window (s := S16384x128) x off S256x128.size inb)) (fun c l => (fun s l => f s l + g s l) (256 * j + c) l) :=
    (((Is.window h e inb).cast shapeCasts_S256x128_S256x128).addf (hu.addf hw)).congr fun c hc l _ => by
      simp only
      rw [if_neg (by omega), hg c hc l, add_zero]
  refine (Is.put (g := fun s l => f s l + g s l) h e t).congr fun s _ l _ => ?_
  by_cases c : 256 * j ≤ s ∧ s < 256 * j + 256
  · rw [if_pos c, if_pos c.1]
  · rw [if_neg c]
    by_cases c' : 256 * (j + 1) ≤ s
    · rw [if_pos c', if_pos (by omega)]
    · rw [if_neg c', if_neg (by omega)]

/-- A tile that adds nothing leaves the gradient. -/
theorem Done.idle {x : FVec Ideal S16384x128 .f32} (h : Done 0 x f g) {off : Fin 2 → ℕ} {n : ℕ} (e : off = ![n, 0])
    (inb : ∀ a, off a + S256x128.size a ≤ S16384x128.size a) {u w : FVec Ideal S256x128 .f32} (hu : Is u (fun _ _ => 0)) (hw : Is w (fun _ _ => 0)) :
    Done 0 (VecWindow.put (s := S16384x128) x off S256x128.size (addTwo u w (VecWindow.window (s := S16384x128) x off S256x128.size inb))) f g := by
  have t : Is (addTwo u w (VecWindow.window (s := S16384x128) x off S256x128.size inb)) (fun c l => (fun s l => f s l + g s l) (n + c) l) :=
    (((Is.window h e inb).cast shapeCasts_S256x128_S256x128).addf (hu.addf hw)).congr fun c hc l _ => by simp
  refine (Is.put (g := fun s l => f s l + g s l) h e t).congr fun s _ l _ => ?_
  simp

/-! ### Both heads -/

/-- The scores and products of the two heads. -/
structure Pairs where
  z0 : ℕ → ℕ → ℝ
  w0 : ℕ → ℕ → ℝ
  z1 : ℕ → ℕ → ℝ
  w1 : ℕ → ℕ → ℝ

/-- The queries and cotangents of a half step, per head. -/
structure Rows where
  q0 : ℕ → ℕ → ℝ
  d0 : ℕ → ℕ → ℝ
  q1 : ℕ → ℕ → ℝ
  d1 : ℕ → ℕ → ℝ

/-- The rows that the half step at block `r` of rows adds to the key and to the value gradient. -/
def keyPart (P : Pairs) (R : Rows) (r s l : ℕ) : ℝ :=
  (∑ p : Fin 256, slope P.z0 P.w0 (256 * r + p) s * R.q0 p l) + ∑ p : Fin 256, slope P.z1 P.w1 (256 * r + p) s * R.q1 p l
def valuePart (P : Pairs) (R : Rows) (r s l : ℕ) : ℝ :=
  (∑ p : Fin 256, weight P.z0 (256 * r + p) s * R.d0 p l) + ∑ p : Fin 256, weight P.z1 (256 * r + p) s * R.d1 p l

/-- Nothing is added to tiles after the one on the diagonal. -/
theorem keyPart_eq_zero (P : Pairs) (R : Rows) (r s l : ℕ) (h : 256 * (r + 1) ≤ s) : keyPart P R r s l = 0 := by
  unfold keyPart
  rw [Finset.sum_eq_zero fun p _ => mul_eq_zero_of_left (Stick.slope_eq_zero _ _ (by omega)) _, Finset.sum_eq_zero fun p _ => mul_eq_zero_of_left (Stick.slope_eq_zero _ _ (by omega)) _,
    add_zero]
theorem valuePart_eq_zero (P : Pairs) (R : Rows) (r s l : ℕ) (h : 256 * (r + 1) ≤ s) : valuePart P R r s l = 0 := by
  unfold valuePart
  rw [Finset.sum_eq_zero fun p _ => mul_eq_zero_of_left (Stick.weight_eq_zero _ (by omega)) _, Finset.sum_eq_zero fun p _ => mul_eq_zero_of_left (Stick.weight_eq_zero _ (by omega)) _,
    add_zero]

theorem Done.start {x : FVec Ideal S16384x128 .f32} (h : Is x f) (r : ℕ) (e : ∀ s l, 256 * (r + 1) ≤ s → g s l = 0) : Done (r + 1) x f g :=
  h.congr fun s _ l _ => by
    by_cases c : 256 * (r + 1) ≤ s
    · rw [if_pos c, e s l c, add_zero]
    · rw [if_neg c, add_zero]

/-- What a half step at block `r` of rows holds fixed. -/
structure Heads (P : Pairs) (K V : ℕ → ℕ → ℝ) (r : ℕ) (R : Rows) (x : Fixed Ideal) : Prop where
  strict : x.strict = k0_pay23
  first : IsHead P.z0 P.w0 K V r x.head0 R.q0 R.d0
  second : IsHead P.z1 P.w1 K V r x.head1 R.q1 R.d1

/-- What the walk carries with the tiles from `j` on done. -/
structure Bears (P : Pairs) (K : ℕ → ℕ → ℝ) (r j : ℕ) (s : Carried Ideal) : Prop where
  first : Carries P.z0 P.w0 K r j s.2.1 s.2.2.2.1 s.2.2.2.2.2.1
  second : Carries P.z1 P.w1 K r j s.2.2.1 s.2.2.2.2.1 s.2.2.2.2.2.2

/-- The word of the next tile where `j` tiles are left. -/
abbrev next (j : ℕ) : BitVec 32 := Scalar.subi (BitVec.ofNat 32 j) 1#32

theorem next_succ : ∀ j : Fin 64, next (j.val + 1) = BitVec.ofNat 32 j.val ∧ Scalar.subi (next (j.val + 1)) 1#32 = next j.val
    ∧ Scalar.cmpi .sge (next (j.val + 1)) 0#32 = 1#1 ∧ k0_off3 (next (j.val + 1)) = ![256 * j.val, 0]
    ∧ 256 ∣ (k0_mult13 (next (j.val + 1))).toNat ∧ 256 ∣ (k0_mult14 (next (j.val + 1))).toNat ∧ 256 ∣ (k0_mult15 (next (j.val + 1))).toNat := by decide +kernel

theorem chk_next (j : Fin 64) : k0_chk1 (next (j.val + 1)) := by
  obtain ⟨-, -, -, e, h1, h2, h3⟩ := next_succ j
  refine ⟨h1, h2, fun a => ?_, h3⟩
  rw [e]
  fin_cases a
  · show 256 * j.val + 256 ≤ 16384; omega
  · show 0 + 128 ≤ 128; omega

/-- A maximum of real columns is above `-∞`, -/
theorem largest_gt {x y : FVec Ideal S256x1 .f32} (h : Is x f) (k : Is y g) : (⊥ : EReal) < (k0_pay2 x y : Ideal .f32) := by
  pointwise [k0_pay2]
  refine lt_max_of_lt_left ((Finset.lt_fold_max _).2 (Or.inr ⟨((0 : Fin 256), 0), Finset.mem_univ _, ?_⟩))
  rw [h 0 0]
  exact EReal.bot_lt_coe _

/-- so the walk goes on while a tile is left, -/
theorem goesOn_next (j : Fin 64) {l0 l1 g0 g1 : FVec Ideal S256x1 .f32} {a0 a1 : FVec Ideal S256x128 .f32} (h : Is l0 f) (k : Is l1 g) :
    goesOn (next (j.val + 1), l0, l1, g0, g1, a0, a1) = 1#1 := by
  have e : Scalar.cmpf .ogt (k0_pay2 l0 l1) (Named.named κ "cutoff" 0xC2D20000#32 : Ideal .f32) = 1#1 := by
    have := largest_gt h k
    rw [show (Named.named κ "cutoff" 0xC2D20000#32 : Ideal .f32) = (⊥ : EReal) from rfl]
    show BitVec.ofBool (decide ((⊥ : EReal) < (k0_pay2 l0 l1 : Ideal .f32))) = 1#1
    rw [decide_eq_true this]; rfl
  unfold goesOn
  rw [e, (next_succ j).2.2.1]
  rfl

/-- and stops where none is. -/
theorem goesOn_none (w : BitVec 32) (h : Scalar.cmpi .sge w 0#32 = 0#1) {l0 l1 g0 g1 : FVec Ideal S256x1 .f32} {a0 a1 : FVec Ideal S256x128 .f32} :
    goesOn (w, l0, l1, g0, g1, a0, a1) ≠ 1#1 := by
  unfold goesOn
  simp only [h]
  generalize Scalar.cmpf (F := Ideal) _ _ _ = c
  revert c
  decide

variable {P : Pairs} {K V : ℕ → ℕ → ℝ} {r : ℕ} {R : Rows} {x : Fixed Ideal} {Kv Vv : FVec Ideal S16384x128 .bf16}

/-- A walk from which no tile is left. -/
theorem tail_none (w : BitVec 32) (h : Scalar.cmpi .sge w 0#32 = 0#1) (n : ℕ) (l0 l1 g0 g1 : FVec Ideal S256x1 .f32) (a0 a1 : FVec Ideal S256x128 .f32)
    (dk dv : FVec Ideal S16384x128 .f32) : tail x Kv Vv n (w, l0, l1, g0, g1, a0, a1) dk dv = ((w, l0, l1, g0, g1, a0, a1), dk, dv) := by
  cases n with
  | zero => rfl
  | succ n => rw [tail, dif_neg fun h' => goesOn_none w h h'.1]

/-- The walk from where `j` tiles are left. -/
theorem tail_gives (H : Heads P K V r R x) (hr : r < 64) (hK : Is Kv K) (hV : Is Vv V) {f g : ℕ → ℕ → ℝ} : ∀ (j : ℕ), j < r → ∀ (n : ℕ), j ≤ n →
    ∀ (l0 l1 g0 g1 : FVec Ideal S256x1 .f32) (a0 a1 : FVec Ideal S256x128 .f32) (dk dv : FVec Ideal S16384x128 .f32),
    Bears P K r j (next j, l0, l1, g0, g1, a0, a1) → Done j dk f (keyPart P R r) → Done j dv g (valuePart P R r) →
    Bears P K r 0 (tail x Kv Vv n (next j, l0, l1, g0, g1, a0, a1) dk dv).1
      ∧ Done 0 (tail x Kv Vv n (next j, l0, l1, g0, g1, a0, a1) dk dv).2.1 f (keyPart P R r)
      ∧ Done 0 (tail x Kv Vv n (next j, l0, l1, g0, g1, a0, a1) dk dv).2.2 g (valuePart P R r)
  | 0, _, n, _, l0, l1, g0, g1, a0, a1, dk, dv, B, hk, hv => by
    rw [tail_none (next 0) (by decide)]
    exact ⟨B, hk, hv⟩
  | j + 1, hj, n + 1, hn, l0, l1, g0, g1, a0, a1, dk, dv, B, hk, hv => by
    obtain ⟨-, en, -, eo, -⟩ := next_succ ⟨j, by omega⟩
    simp only at en eo
    have cond : goesOn (next (j + 1), l0, l1, g0, g1, a0, a1) = 1#1 ∧ k0_chk1 (next (j + 1)) :=
      ⟨goesOn_next ⟨j, by omega⟩ B.first.later B.second.later, chk_next ⟨j, by omega⟩⟩
    have inb := k0_off3_inb _ cond.2
    have kt := Is.window hK eo inb
    have vt := Is.window hV eo inb
    have t0 := below_gives H.first (by omega) hr B.first kt vt
    have t1 := below_gives H.second (by omega) hr B.second kt vt
    rw [tail, dif_pos cond]
    simp only [tailStep_eq, tailDk_eq, tailDv_eq x (rows Kv (k0_off3 (next (j + 1))) inb) (rows Vv (k0_off3 (next (j + 1))) inb), H.strict, en]
    exact tail_gives H hr hK hV j (by omega) n (by omega) _ _ _ _ _ _ _ _ ⟨t0.carries, t1.carries⟩
      (hk.step eo inb t0.dk t1.dk fun c _ l => rfl) (hv.step eo inb t0.dv t1.dv fun c _ l => rfl)

end Cert.Proof.Attention.Ideal

end
-- ==== Proof.Attention.Point.lean ====
/-
  A grid point over real numbers: from the rows of the queries, of the cotangent and of the attention's output, and all keys and
  values, of a pair of heads in 128 lanes, the point gives its rows of the query gradient and adds its rows' part of the key and
  value gradients.
-/
module

public import proofs.«01_k».proof.Proof.Attention.Loop
public import proofs.«01_k».proof.Proof.Attention.Run

@[expose] public section

set_option maxRecDepth 16384

noncomputable section

namespace Cert.Proof.Attention.Ideal

open Cert.AttentionIdeal Cert.AttentionIdeal.Gen
open Idealize.ShloMosaic Idealize.ShloMosaic.TcCoe Idealize.ShloMosaic.VecWindow
open Stick (from' low weight gain slope)

/-- The lanes of the first and of the second head of a pair. -/
def near (x : ℕ → ℕ → ℝ) (t l : ℕ) : ℝ := if l < 64 then x t l else 0
def far (x : ℕ → ℕ → ℝ) (t l : ℕ) : ℝ := if l < 64 then 0 else x t l

/-- Scaled by one over the root of the head's width. -/
def scaled (x : ℕ → ℕ → ℝ) (t l : ℕ) : ℝ := x t l * 0.125

/-- The products of two heads' rows. -/
def products (x y : ℕ → ℕ → ℝ) (t s : ℕ) : ℝ := ∑ l : Fin 128, x t l * y s l

/-- The scores of the two heads, and their products of cotangent and value. -/
def pairsOf (Q K V D : ℕ → ℕ → ℝ) : Pairs :=
  ⟨products (near (scaled Q)) K, products (near D) V, products (far (scaled Q)) K, products (far D) V⟩

/-- The rows of block `r`. -/
def rowsOf (Q D : ℕ → ℕ → ℝ) (r : ℕ) : Rows :=
  ⟨fun p => near (scaled Q) (256 * r + p), fun p => near D (256 * r + p), fun p => far (scaled Q) (256 * r + p), fun p => far D (256 * r + p)⟩

/-- The attention's output. -/
def output (P : Pairs) (V : ℕ → ℕ → ℝ) (t l : ℕ) : ℝ :=
  if l < 64 then from' (fun s => weight P.z0 t s * V s l) 0 else from' (fun s => weight P.z1 t s * V s l) 0

/-- The query gradient. -/
def queryGrad (P : Pairs) (K : ℕ → ℕ → ℝ) (t l : ℕ) : ℝ :=
  (if l < 64 then from' (fun s => slope P.z0 P.w0 t s * K s l) 0 else from' (fun s => slope P.z1 P.w1 t s * K s l) 0) * 0.125

variable {Q K V D : ℕ → ℕ → ℝ} {r : ℕ} {q d k1 v1 k2 v2 : FVec Ideal S256x128 .bf16} {o : FVec Ideal S256x128 .f32}

theorem isHead0 (hr : r < 64) (hq : Is q (fun p l => Q (256 * r + p) l)) (hd : Is d (fun p l => D (256 * r + p) l))
    (ho : Is o (fun p l => output (pairsOf Q K V D) V (256 * r + p) l)) :
    IsHead (pairsOf Q K V D).z0 (pairsOf Q K V D).w0 K V r (head0 q d o) (rowsOf Q D r).q0 (rowsOf Q D r).d0 where
  isQ := Is.select marks_lanes ((hq.cast _).mulf Is.eighth') Is.zero'
  isD := Is.select marks_lanes (hd.cast _) Is.zero'
  tot := ((Is.select marks_lanes (((hd.cast _).extf _).mulf (ho.cast _)) Is.zero).laneSum).congr fun p hp c hc => by
    refine Eq.trans ?_ (Stick.from'_gain (D := 128) (pairsOf Q K V D).z0 (256 * r + p) (fun l => near D (256 * r + p) l) (fun s l => V s l))
    refine Finset.sum_congr rfl fun l _ => ?_
    unfold output near
    split_ifs <;> simp
  score := fun p hp s hs => rfl
  against := fun p hp s hs => rfl

theorem isHead1 (hr : r < 64) (hq : Is q (fun p l => Q (256 * r + p) l)) (hd : Is d (fun p l => D (256 * r + p) l))
    (ho : Is o (fun p l => output (pairsOf Q K V D) V (256 * r + p) l)) :
    IsHead (pairsOf Q K V D).z1 (pairsOf Q K V D).w1 K V r (head1 q d o) (rowsOf Q D r).q1 (rowsOf Q D r).d1 where
  isQ := Is.select marks_lanes Is.zero' ((hq.cast _).mulf Is.eighth')
  isD := Is.select marks_lanes Is.zero' (hd.cast _)
  tot := ((Is.select marks_lanes Is.zero (((hd.cast _).extf _).mulf (ho.cast _))).laneSum).congr fun p hp c hc => by
    refine Eq.trans ?_ (Stick.from'_gain (D := 128) (pairsOf Q K V D).z1 (256 * r + p) (fun l => far D (256 * r + p) l) (fun s l => V s l))
    refine Finset.sum_congr rfl fun l _ => ?_
    unfold output far
    split_ifs <;> simp
  score := fun p hp s hs => rfl
  against := fun p hp s hs => rfl

/-- What the two straight tiles of a half step at block `r` of rows give: the values held fixed, what is carried into the walk,
    and the rows of the key and value gradients at the two tiles. -/
structure Starts (P : Pairs) (K V : ℕ → ℕ → ℝ) (r : ℕ) (R : Rows) (x : Half Ideal) : Prop where
  lane : x.lane = k0_pay18
  heads : Heads P K V r R x.fixed
  word : x.carried.1 = Scalar.subi (BitVec.ofNat 32 r) 2#32
  bears : Bears P K r (r - 1) x.carried
  dk : ∀ (y : FVec Ideal S16384x128 .f32) (f : ℕ → ℕ → ℝ) (o1 o2 : Fin 2 → ℕ) i1 i2, o1 = ![256 * r, 0] → o2 = ![256 * (r - 1), 0] → Is y f →
    Done (r - 1) (put (put y o1 S256x128.size (x.dk1 (rows (F := Ideal) (e := .f32) y o1 i1))) o2 S256x128.size
      (x.dk2 (rows (F := Ideal) (e := .f32) (put y o1 S256x128.size (x.dk1 (rows (F := Ideal) (e := .f32) y o1 i1))) o2 i2))) f (keyPart P R r)
  dv : ∀ (y : FVec Ideal S16384x128 .f32) (f : ℕ → ℕ → ℝ) (o1 o2 : Fin 2 → ℕ) i1 i2, o1 = ![256 * r, 0] → o2 = ![256 * (r - 1), 0] → Is y f →
    Done (r - 1) (put (put y o1 S256x128.size (x.dv1 (rows (F := Ideal) (e := .f32) y o1 i1))) o2 S256x128.size
      (x.dv2 (rows (F := Ideal) (e := .f32) (put y o1 S256x128.size (x.dv1 (rows (F := Ideal) (e := .f32) y o1 i1))) o2 i2))) f (valuePart P R r)

theorem ok_iff : ∀ r : Fin 64, Scalar.cmpi .sge (BitVec.ofNat 32 r.val) 1#32 = if r.val = 0 then 0#1 else 1#1 := by decide +kernel

theorem halfOf_starts {mask : IVec S256x256 1} (hm : Marks mask (fun p c => c < p)) (hr : r < 64) (hq : Is q (fun p l => Q (256 * r + p) l))
    (hd : Is d (fun p l => D (256 * r + p) l)) (ho : Is o (fun p l => output (pairsOf Q K V D) V (256 * r + p) l))
    (hk1 : Is k1 (fun c l => K (256 * r + c) l)) (hv1 : Is v1 (fun c l => V (256 * r + c) l))
    (hk2 : Is k2 (fun c l => K (256 * (r - 1) + c) l)) (hv2 : Is v2 (fun c l => V (256 * (r - 1) + c) l)) :
    Starts (pairsOf Q K V D) K V r (rowsOf Q D r) (halfOf mask (BitVec.ofNat 32 r) q d o k1 v1 k2 v2) := by
  have H0 := isHead0 (K := K) (V := V) hr hq hd ho
  have H1 := isHead1 (K := K) (V := V) hr hq hd ho
  have a0 := onDiagonal_gives hm H0 hr hk1 hv1
  have a1 := onDiagonal_gives hm H1 hr hk1 hv1
  have ok := ok_iff ⟨r, hr⟩
  simp only at ok
  by_cases e : r = 0
  · rw [if_pos e] at ok
    subst e
    have b0 := besideDiagonal_none H0 a0.carries hk2 hv2
    have b1 := besideDiagonal_none H1 a1.carries hk2 hv2
    refine ⟨rfl, ⟨rfl, H0, H1⟩, rfl, ⟨?_, ?_⟩, fun y f o1 o2 i1 i2 e1 e2 hy => ?_, fun y f o1 o2 i1 i2 e1 e2 hy => ?_⟩
    · simp only [halfOf, ok]
      exact b0.1
    · simp only [halfOf, ok]
      exact b1.1
    · simp only [halfOf, ok]
      have s := (Done.start hy 0 (fun s l h => keyPart_eq_zero _ _ _ s l h)).step e1 i1 a0.dk a1.dk fun c _ l => rfl
      exact s.idle e2 i2 b0.2.1 b1.2.1
    · simp only [halfOf, ok]
      have s := (Done.start hy 0 (fun s l h => valuePart_eq_zero _ _ _ s l h)).step e1 i1 a0.dv a1.dv fun c _ l => rfl
      exact s.idle e2 i2 b0.2.2 b1.2.2
  · rw [if_neg e] at ok
    obtain ⟨j, rfl⟩ : ∃ j, r = j + 1 := ⟨r - 1, by omega⟩
    simp only [Nat.add_sub_cancel] at hk2 hv2
    have b0 := besideDiagonal_gives H0 (Nat.lt_succ_self j) hr a0.carries hk2 hv2
    have b1 := besideDiagonal_gives H1 (Nat.lt_succ_self j) hr a1.carries hk2 hv2
    refine ⟨rfl, ⟨rfl, H0, H1⟩, rfl, ⟨?_, ?_⟩, fun y f o1 o2 i1 i2 e1 e2 hy => ?_, fun y f o1 o2 i1 i2 e1 e2 hy => ?_⟩
    · simp only [halfOf, ok]; exact b0.carries
    · simp only [halfOf, ok]; exact b1.carries
    · simp only [halfOf, ok]
      have s := (Done.start hy (j + 1) (fun s l h => keyPart_eq_zero _ _ _ s l h)).step e1 i1 a0.dk a1.dk fun c _ l => rfl
      exact s.step e2 i2 b0.dk b1.dk fun c _ l => rfl
    · simp only [halfOf, ok]
      have s := (Done.start hy (j + 1) (fun s l h => valuePart_eq_zero _ _ _ s l h)).step e1 i1 a0.dv a1.dv fun c _ l => rfl
      exact s.step e2 i2 b0.dv b1.dv fun c _ l => rfl

/-! ### The point -/

theorem off1_eq (i : grid0.Coords) (s : Fin 2) : k0_off1 i (BitVec.ofNat 32 s.val) = ![256 * (2 * (i 1).val + s.val), 0] := by
  rw [k0_off1_eq i s, show 256 * (2 * (i 1).val + s.val) = 512 * (i 1).val + 256 * s.val by ring]

theorem off2_eq : ∀ (i : grid0.Coords) (s : Fin 2), k0_off2 i (BitVec.ofNat 32 s.val) = ![256 * (2 * (i 1).val + s.val - 1), 0] := by decide +kernel

variable {Qb Db : FVec Ideal S512x128 .bf16} {Ob : FVec Ideal S512x128 .f32} {Kb Vb : FVec Ideal S16384x128 .bf16} {i : grid0.Coords} {n : ℕ}

/-- Each half step of a point starts as it should. -/
theorem first_starts (hn : (i 1).val = n) (hQ : Is Qb (fun p l => Q (512 * n + p) l)) (hK : Is Kb K) (hV : Is Vb V) (hD : Is Db (fun p l => D (512 * n + p) l))
    (hO : Is Ob (fun p l => output (pairsOf Q K V D) V (512 * n + p) l)) :
    Starts (pairsOf Q K V D) K V (2 * n + 0) (rowsOf Q D (2 * n + 0)) (half i Qb Kb Vb Db Ob 0) := by
  have h32 : (i 1).val < 32 := (i 1).isLt
  have k1 := Is.window hK (off1_eq i 0) (k0_off1_inb i 0)
  have v1 := Is.window hV (off1_eq i 0) (k0_off1_inb i 0)
  have k2 := Is.window hK (off2_eq i 0) (k0_off2_inb i 0)
  have v2 := Is.window hV (off2_eq i 0) (k0_off2_inb i 0)
  have w : word i 0#32 = _ := word_eq i 0
  have row : ∀ p, 512 * n + (0 + p) = 256 * (2 * n + 0) + p := fun p => by ring
  have q := (Is.window hQ (n := 0) rfl inb_S512x128_S256x128_0_0).congr (g := fun p l => Q (256 * (2 * n + 0) + p) l) fun p _ l _ => by simp only [row]
  have d := (Is.window hD (n := 0) rfl inb_S512x128_S256x128_0_0).congr (g := fun p l => D (256 * (2 * n + 0) + p) l) fun p _ l _ => by simp only [row]
  have o := (Is.window hO (n := 0) rfl inb_S512x128_S256x128_0_0).congr (g := fun p l => output (pairsOf Q K V D) V (256 * (2 * n + 0) + p) l) fun p _ l _ => by simp only [row]
  rw [hn] at k1 v1 k2 v2 w
  have e : half (F := Ideal) i Qb Kb Vb Db Ob 0 = _ := firstHalf_eq i _ _ _ _ _ _ _
  rw [e, w]
  exact halfOf_starts (marks_first i) (by omega) q d o k1 v1 k2 v2

theorem second_starts (hn : (i 1).val = n) (hQ : Is Qb (fun p l => Q (512 * n + p) l)) (hK : Is Kb K) (hV : Is Vb V) (hD : Is Db (fun p l => D (512 * n + p) l))
    (hO : Is Ob (fun p l => output (pairsOf Q K V D) V (512 * n + p) l)) :
    Starts (pairsOf Q K V D) K V (2 * n + 1) (rowsOf Q D (2 * n + 1)) (half i Qb Kb Vb Db Ob 1) := by
  have h32 : (i 1).val < 32 := (i 1).isLt
  have k1 := Is.window hK (off1_eq i 1) (k0_off1_inb i 1)
  have v1 := Is.window hV (off1_eq i 1) (k0_off1_inb i 1)
  have k2 := Is.window hK (off2_eq i 1) (k0_off2_inb i 1)
  have v2 := Is.window hV (off2_eq i 1) (k0_off2_inb i 1)
  have w : word i 1#32 = _ := word_eq i 1
  have row : ∀ p, 512 * n + (256 + p) = 256 * (2 * n + 1) + p := fun p => by ring
  have q := (Is.window hQ (n := 256) rfl inb_S512x128_S256x128_256_0).congr (g := fun p l => Q (256 * (2 * n + 1) + p) l) fun p _ l _ => by simp only [row]
  have d := (Is.window hD (n := 256) rfl inb_S512x128_S256x128_256_0).congr (g := fun p l => D (256 * (2 * n + 1) + p) l) fun p _ l _ => by simp only [row]
  have o := (Is.window hO (n := 256) rfl inb_S512x128_S256x128_256_0).congr (g := fun p l => output (pairsOf Q K V D) V (256 * (2 * n + 1) + p) l) fun p _ l _ => by simp only [row]
  rw [hn] at k1 v1 k2 v2 w
  have e : half (F := Ideal) i Qb Kb Vb Db Ob 1 = _ := secondHalf_eq i _ _ _ _ _ _ _
  rw [e, w]
  exact halfOf_starts (marks_second i) (by omega) q d o k1 v1 k2 v2

theorem sub_two : ∀ r : Fin 64, Scalar.subi (BitVec.ofNat 32 (r.val + 1)) 2#32 = next r.val := by decide +kernel

/-- The whole walk of a half step. -/
theorem tail_whole {P : Pairs} {R : Rows} {x : Half Ideal} (S : Starts P K V r R x) (hr : r < 64) (hK : Is Kb K) (hV : Is Vb V) {dk dv : FVec Ideal S16384x128 .f32}
    {f g : ℕ → ℕ → ℝ} (hk : Done (r - 1) dk f (keyPart P R r)) (hv : Done (r - 1) dv g (valuePart P R r)) :
    Bears P K r 0 (tail x.fixed Kb Vb 64 x.carried dk dv).1
      ∧ Is (φ := .f32) (tail x.fixed Kb Vb 64 x.carried dk dv).2.1 (fun s l => f s l + keyPart P R r s l)
      ∧ Is (φ := .f32) (tail x.fixed Kb Vb 64 x.carried dk dv).2.2 (fun s l => g s l + valuePart P R r s l) := by
  rcases ec : x.carried with ⟨w, l0, l1, g0, g1, a0, a1⟩
  have hw : w = Scalar.subi (BitVec.ofNat 32 r) 2#32 := by have := S.word; rw [ec] at this; exact this
  have B := S.bears
  rw [ec] at B
  have done : ∀ {y : FVec Ideal S16384x128 .f32} {f g : ℕ → ℕ → ℝ}, Done 0 y f g → Is y (fun s l => f s l + g s l) := fun h =>
    h.congr fun s _ l _ => by rw [if_pos (by omega)]
  by_cases e : r = 0
  · subst e
    rw [tail_none w (by rw [hw]; decide)]
    exact ⟨B, done hk, done hv⟩
  · obtain ⟨j, rfl⟩ : ∃ j, r = j + 1 := ⟨r - 1, by omega⟩
    rw [sub_two ⟨j, by omega⟩] at hw
    subst hw
    obtain ⟨b, k, v⟩ := tail_gives S.heads hr hK hV j (Nat.lt_succ_self j) 64 (by omega) l0 l1 g0 g1 a0 a1 dk dv B hk hv
    exact ⟨b, done k, done v⟩

/-- The rows of the query gradient of a half step. -/
theorem query_rows {P : Pairs} {s : Carried Ideal} (B : Bears P K r 0 s) : Is (k0_pay157 k0_pay18 s.2.2.2.2.2.1 s.2.2.2.2.2.2) (fun p l => queryGrad P K (256 * r + p) l) :=
  (Is.select marks_lanes B.first.acc B.second.acc).mulf Is.eighth

theorem atPoint_gives (hn : (i 1).val = n) (hQ : Is Qb (fun p l => Q (512 * n + p) l)) (hK : Is Kb K) (hV : Is Vb V) (hD : Is Db (fun p l => D (512 * n + p) l))
    (hO : Is Ob (fun p l => output (pairsOf Q K V D) V (512 * n + p) l)) (dq : FVec Ideal S512x128 .f32) (dk dv : FVec Ideal S16384x128 .f32) {f g : ℕ → ℕ → ℝ}
    (hk : Is (if opens i then k0_pay16 else dk) f) (hv : Is (if opens i then k0_pay17 else dv) g) :
    Is (φ := .f32) (atPoint (F := Ideal) i Qb Kb Vb Db Ob dq dk dv).1 (fun p l => queryGrad (pairsOf Q K V D) K (512 * n + p) l)
      ∧ Is (φ := .f32) (atPoint (F := Ideal) i Qb Kb Vb Db Ob dq dk dv).2.1
          (fun s l => f s l + keyPart (pairsOf Q K V D) (rowsOf Q D (2 * n)) (2 * n) s l + keyPart (pairsOf Q K V D) (rowsOf Q D (2 * n + 1)) (2 * n + 1) s l)
      ∧ Is (φ := .f32) (atPoint (F := Ideal) i Qb Kb Vb Db Ob dq dk dv).2.2
          (fun s l => g s l + valuePart (pairsOf Q K V D) (rowsOf Q D (2 * n)) (2 * n) s l + valuePart (pairsOf Q K V D) (rowsOf Q D (2 * n + 1)) (2 * n + 1) s l) := by
  have h32 : (i 1).val < 32 := (i 1).isLt
  have S0 := first_starts hn hQ hK hV hD hO
  have S1 := second_starts hn hQ hK hV hD hO
  have o10 := off1_eq i 0
  have o11 := off1_eq i 1
  have o20 := off2_eq i 0
  have o21 := off2_eq i 1
  rw [hn] at o10 o11 o20 o21
  have k0 := S0.dk _ _ _ _ (k0_off1_inb i 0) (k0_off2_inb i 0) o10 o20 hk
  have v0 := S0.dv _ _ _ _ (k0_off1_inb i 0) (k0_off2_inb i 0) o10 o20 hv
  have k1 := S1.dk _ _ _ _ (k0_off1_inb i 1) (k0_off2_inb i 1) o11 o21 k0
  have v1 := S1.dv _ _ _ _ (k0_off1_inb i 1) (k0_off2_inb i 1) o11 o21 v0
  obtain ⟨b0, tk0, tv0⟩ := tail_whole S0 (by show 2 * n + 0 < 64; omega) hK hV
    (Is.congr k1 (g := fun s l => (f s l + if 256 * (2 * n + 1 - 1) ≤ s then keyPart (pairsOf Q K V D) (rowsOf Q D (2 * n + 1)) (2 * n + 1) s l else 0)
      + if 256 * (2 * n - 1) ≤ s then keyPart (pairsOf Q K V D) (rowsOf Q D (2 * n)) (2 * n) s l else 0) fun s _ l _ => add_right_comm _ _ _)
    (Is.congr v1 (g := fun s l => (g s l + if 256 * (2 * n + 1 - 1) ≤ s then valuePart (pairsOf Q K V D) (rowsOf Q D (2 * n + 1)) (2 * n + 1) s l else 0)
      + if 256 * (2 * n - 1) ≤ s then valuePart (pairsOf Q K V D) (rowsOf Q D (2 * n)) (2 * n) s l else 0) fun s _ l _ => add_right_comm _ _ _)
  obtain ⟨b1, tk1, tv1⟩ := tail_whole S1 (by show 2 * n + 1 < 64; omega) hK hV
    (Is.congr tk0 (g := fun s l => (f s l + keyPart (pairsOf Q K V D) (rowsOf Q D (2 * n)) (2 * n) s l)
      + if 256 * (2 * n + 1 - 1) ≤ s then keyPart (pairsOf Q K V D) (rowsOf Q D (2 * n + 1)) (2 * n + 1) s l else 0) fun s _ l _ => add_right_comm _ _ _)
    (Is.congr tv0 (g := fun s l => (g s l + valuePart (pairsOf Q K V D) (rowsOf Q D (2 * n)) (2 * n) s l)
      + if 256 * (2 * n + 1 - 1) ≤ s then valuePart (pairsOf Q K V D) (rowsOf Q D (2 * n + 1)) (2 * n + 1) s l else 0) fun s _ l _ => add_right_comm _ _ _)
  refine ⟨?_, tk1, tv1⟩
  have r0 := query_rows b0
  have r1 := query_rows b1
  rw [← S0.lane] at r0
  rw [← S1.lane] at r1
  rw [atPoint_dq (F := Ideal) i Qb Kb Vb Db Ob dq (broadcast S512x128 (Scalar.ofBits (F := Ideal) .f32 0x00000000#32))]
  have low0 := Is.put (g := fun p l => queryGrad (pairsOf Q K V D) K (512 * n + p) l) (Is.zero (a := 512) (b := 128)) (off := ![0, 0]) (n := 0) rfl
    (r0.congr fun p _ l _ => by rw [show 256 * (2 * n + 0) + p = 512 * n + (0 + p) by ring])
  have both := Is.put (g := fun p l => queryGrad (pairsOf Q K V D) K (512 * n + p) l) low0 (off := ![256, 0]) (n := 256) rfl
    (r1.congr fun p _ l _ => by rw [show 256 * (2 * n + 1) + p = 512 * n + (256 + p) by ring])
  refine Is.congr both fun p hp l _ => ?_
  by_cases c : 256 ≤ p
  · rw [if_pos ⟨c, by omega⟩]
  · rw [if_neg (by omega), if_pos (by omega)]

end Cert.Proof.Attention.Ideal

end
-- ==== Proof.Attention.Grid.lean ====
/-
  What the grid leaves in its three arrays, over real numbers, where the arrays it reads hold real numbers: `X` the projections'
  first 2048 columns, `Y` the cotangent's, and the attention's output in the fifth.
-/
module

public import proofs.«01_k».proof.Proof.Attention.Point
public import Idealize.ShloMosaic.Lib.Pipeline.ValueKit

@[expose] public section

set_option maxRecDepth 16384

noncomputable section

namespace Cert.Proof.Attention.Ideal

open Cert.AttentionIdeal Cert.AttentionIdeal.Gen
open Idealize.ShloMosaic Idealize.ShloMosaic.TcCoe Idealize.ShloMosaic.VecWindow Idealize.SL.Sem
open Idealize.ShloMosaic.Pipeline (Dat)
open Stick (from' low weight gain slope)

variable (m : (ℓ : Loc nD τ sig) → Buf (Elt Ideal) ℓ)

theorem idx : ∀ t : Fin (cfg0 (F := Ideal)).N, win0_0.index t = ![t.val % 32, 6 + (t.val / 32)]
    ∧ win0_1.index t = ![0, 8 + (t.val / 32)]
    ∧ win0_2.index t = ![0, 10 + (t.val / 32)]
    ∧ win0_3.index t = ![t.val % 32, t.val / 32]
    ∧ win0_4.index t = ![t.val % 32, t.val / 32]
    ∧ win0_5.index t = ![t.val % 32, t.val / 32]
    ∧ win0_6.index t = ![0, t.val / 32]
    ∧ win0_7.index t = ![0, t.val / 32]
    ∧ (grid0.coords t 1).val = t.val % 32 :=
  (by decide +kernel : ∀ t : Fin grid0.N, _)

/-- The rows of a pair of heads: its queries, keys and values among the projections, and its cotangent's. -/
def pairQ (X : ℕ → ℕ → ℝ) (p t l : ℕ) : ℝ := X t (768 + 128 * p + l)
def pairK (X : ℕ → ℕ → ℝ) (p t l : ℕ) : ℝ := X t (1024 + 128 * p + l)
def pairV (X : ℕ → ℕ → ℝ) (p t l : ℕ) : ℝ := X t (1280 + 128 * p + l)
def pairD (Y : ℕ → ℕ → ℝ) (p t l : ℕ) : ℝ := Y t (128 * p + l)

/-- The scores and products of pair `p`. -/
def pairAt (X Y : ℕ → ℕ → ℝ) (p : ℕ) : Pairs := pairsOf (pairQ X p) (pairK X p) (pairV X p) (pairD Y p)

/-- The arrays the grid reads hold real numbers. -/
structure Reads (X Y : ℕ → ℕ → ℝ) (c : Dev nD) : Prop where
  proj : ∀ (r : Fin 16384) (j : ℕ) (h : j < 2048), (V m c main_v38 (ix2 r (⟨j, by omega⟩ : Fin 6144)) : EReal) = ((X r j : ℝ) : EReal)
  cotangent : Is (a := 16384) (b := 256) (φ := .bf16) (V m c main_v39) Y
  out : ∀ (r : Fin 16384) (p l : ℕ) (hp : p < 2) (hl : l < 128),
    (V m c main_v31 (ix2 r (⟨128 * p + l, by omega⟩ : Fin 256)) : EReal) = ((output (pairAt X Y p) (pairV X p) r l : ℝ) : EReal)

variable {m} {X Y : ℕ → ℕ → ℝ} {c : Dev nD}

theorem blk_q (R : Reads m X Y c) (t : Fin (cfg0 (F := Ideal)).N) :
    Is (a := 512) (b := 128) (φ := .bf16) (iblk m c 0 t) (fun p l => pairQ X (t.val / 32) (512 * (t.val % 32) + p) l) := fun p l => by
  have ht : t.val < 64 := t.isLt
  obtain ⟨e0, -⟩ := idx t
  refine Eq.trans ?_ (R.proj ⟨512 * (t.val % 32) + p, by omega⟩ (768 + 128 * (t.val / 32) + l) (by omega))
  blk_ext [iblk, e0]

theorem blk_k (R : Reads m X Y c) (t : Fin (cfg0 (F := Ideal)).N) :
    Is (a := 16384) (b := 128) (φ := .bf16) (iblk m c 1 t) (pairK X (t.val / 32)) := fun p l => by
  have ht : t.val < 64 := t.isLt
  obtain ⟨-, e1, -⟩ := idx t
  refine Eq.trans ?_ (R.proj p (1024 + 128 * (t.val / 32) + l) (by omega))
  blk_ext [iblk, e1]

theorem blk_v (R : Reads m X Y c) (t : Fin (cfg0 (F := Ideal)).N) :
    Is (a := 16384) (b := 128) (φ := .bf16) (iblk m c 2 t) (pairV X (t.val / 32)) := fun p l => by
  have ht : t.val < 64 := t.isLt
  obtain ⟨-, -, e2, -⟩ := idx t
  refine Eq.trans ?_ (R.proj p (1280 + 128 * (t.val / 32) + l) (by omega))
  blk_ext [iblk, e2]

theorem blk_d (R : Reads m X Y c) (t : Fin (cfg0 (F := Ideal)).N) :
    Is (a := 512) (b := 128) (φ := .bf16) (iblk m c 3 t) (fun p l => pairD Y (t.val / 32) (512 * (t.val % 32) + p) l) := fun p l => by
  have ht : t.val < 64 := t.isLt
  obtain ⟨-, -, -, e3, -⟩ := idx t
  refine Eq.trans ?_ (R.cotangent ⟨512 * (t.val % 32) + p, by omega⟩ ⟨128 * (t.val / 32) + l, by omega⟩)
  blk_ext [iblk, e3]

theorem blk_o (R : Reads m X Y c) (t : Fin (cfg0 (F := Ideal)).N) :
    Is (a := 512) (b := 128) (φ := .f32) (iblk m c 4 t)
      (fun p l => output (pairAt X Y (t.val / 32)) (pairV X (t.val / 32)) (512 * (t.val % 32) + p) l) := fun p l => by
  have ht : t.val < 64 := t.isLt
  obtain ⟨-, -, -, -, e4, -⟩ := idx t
  refine Eq.trans ?_ (R.out ⟨512 * (t.val % 32) + p, by omega⟩ (t.val / 32) l (by omega) l.isLt)
  have key : ∀ A : FVec Ideal S16384x256 .f32, ((win0_4.blk t).view.read (Elt Ideal) A) (ix2 p l)
      = A (ix2 (⟨512 * (t.val % 32) + p, by omega⟩ : Fin 16384) (⟨128 * (t.val / 32) + l, by omega⟩ : Fin 256)) := fun A => by
    have he : (win0_4.blk t).view.emb (ix2 p l) = ix2 (⟨512 * (t.val % 32) + p, by omega⟩ : Fin 16384) (⟨128 * (t.val / 32) + l, by omega⟩ : Fin 256) := by blk_ext [e4]
    exact congrArg A he
  exact key _

/-- The key and value gradients of pair `p` from its first `n` blocks of rows. -/
def keyGrad (X Y : ℕ → ℕ → ℝ) (p n s l : ℕ) : ℝ :=
  ∑ r ∈ Finset.range n, keyPart (pairAt X Y p) (rowsOf (pairQ X p) (pairD Y p) r) r s l
def valueGrad (X Y : ℕ → ℕ → ℝ) (p n s l : ℕ) : ℝ :=
  ∑ r ∈ Finset.range n, valuePart (pairAt X Y p) (rowsOf (pairQ X p) (pairD Y p) r) r s l

theorem keyGrad_succ (p n s l : ℕ) : keyGrad X Y p (2 * (n + 1)) s l
    = keyGrad X Y p (2 * n) s l + keyPart (pairAt X Y p) (rowsOf (pairQ X p) (pairD Y p) (2 * n)) (2 * n) s l
      + keyPart (pairAt X Y p) (rowsOf (pairQ X p) (pairD Y p) (2 * n + 1)) (2 * n + 1) s l := by
  rw [keyGrad, keyGrad, show 2 * (n + 1) = 2 * n + 1 + 1 by ring, Finset.sum_range_succ, Finset.sum_range_succ]
theorem valueGrad_succ (p n s l : ℕ) : valueGrad X Y p (2 * (n + 1)) s l
    = valueGrad X Y p (2 * n) s l + valuePart (pairAt X Y p) (rowsOf (pairQ X p) (pairD Y p) (2 * n)) (2 * n) s l
      + valuePart (pairAt X Y p) (rowsOf (pairQ X p) (pairD Y p) (2 * n + 1)) (2 * n + 1) s l := by
  rw [valueGrad, valueGrad, show 2 * (n + 1) = 2 * n + 1 + 1 by ring, Finset.sum_range_succ, Finset.sum_range_succ]

/-- The three arrays of a pair after `n` points of it. -/
def After (X Y : ℕ → ℕ → ℝ) (p n : ℕ) (o : FVec Ideal S512x128 .f32 × FVec Ideal S16384x128 .f32 × FVec Ideal S16384x128 .f32) : Prop :=
  Is o.1 (fun r l => queryGrad (pairAt X Y p) (pairK X p) (512 * n + r) l) ∧ Is o.2.1 (keyGrad X Y p (2 * (n + 1))) ∧ Is o.2.2 (valueGrad X Y p (2 * (n + 1)))

theorem point_gives (R : Reads m X Y c) (t : Fin (cfg0 (F := Ideal)).N) (dq : FVec Ideal S512x128 .f32) (dk dv : FVec Ideal S16384x128 .f32)
    (hk : Is (if opens (grid0.coords t) then k0_pay16 else dk) (keyGrad X Y (t.val / 32) (2 * (t.val % 32))))
    (hv : Is (if opens (grid0.coords t) then k0_pay17 else dv) (valueGrad X Y (t.val / 32) (2 * (t.val % 32)))) :
    After X Y (t.val / 32) (t.val % 32)
      (atPoint (F := Ideal) (grid0.coords t) (iblk m c 0 t) (iblk m c 1 t) (iblk m c 2 t) (iblk m c 3 t) (iblk m c 4 t) dq dk dv) := by
  have e := (idx t).2.2.2.2.2.2.2.2
  obtain ⟨a, b, d⟩ := atPoint_gives e (blk_q R t) (blk_k R t) (blk_v R t) (blk_d R t) (blk_o R t) dq dk dv hk hv
  exact ⟨a, b.congr fun s _ l _ => (keyGrad_succ ..).symm, d.congr fun s _ l _ => (valueGrad_succ ..).symm⟩

/-- What each point leaves. -/
theorem outsAt_gives (R : Reads m X Y c) (n : ℕ) (h : n < (cfg0 (F := Ideal)).N) : After X Y (n / 32) (n % 32) (outsAt m c n h) := by
  have zero_k : ∀ p, Is (k0_pay16 (F := Ideal)) (keyGrad X Y p (2 * 0)) := fun p => Is.zero
  have zero_v : ∀ p, Is (k0_pay17 (F := Ideal)) (valueGrad X Y p (2 * 0)) := fun p => Is.zero
  induction n with
  | zero =>
    refine point_gives R ⟨0, h⟩ _ _ _ ?_ ?_
    · rw [if_pos ((opens_iff (F := Ideal) _).2 (Nat.zero_mod _))]; exact zero_k _
    · rw [if_pos ((opens_iff (F := Ideal) _).2 (Nat.zero_mod _))]; exact zero_v _
  | succ n ih =>
    obtain ⟨-, ik, iv⟩ := ih (Nat.lt_of_succ_lt h)
    refine point_gives R ⟨n + 1, h⟩ _ _ _ ?_ ?_
    · by_cases h0 : (n + 1) % 32 = 0
      · rw [if_pos ((opens_iff (F := Ideal) _).2 h0)]; simp only [h0]; exact zero_k _
      · rw [if_neg (mt (opens_iff (F := Ideal) _).1 h0)]
        simp only [show (n + 1) / 32 = n / 32 by omega, show (n + 1) % 32 = n % 32 + 1 by omega]; exact ik
    · by_cases h0 : (n + 1) % 32 = 0
      · rw [if_pos ((opens_iff (F := Ideal) _).2 h0)]; simp only [h0]; exact zero_v _
      · rw [if_neg (mt (opens_iff (F := Ideal) _).1 h0)]
        simp only [show (n + 1) / 32 = n / 32 by omega, show (n + 1) % 32 = n % 32 + 1 by omega]; exact iv

/-- An array of 256 columns with given real entries. -/
def Array (f : ℕ → ℕ → ℝ) : FVec Ideal S16384x256 .f32 := fun j => ((f (j 0).val (j 1).val : ℝ) : EReal)

theorem final_5 (R : Reads m X Y c) : (dats m 0 c).arrAt 5 (cfgs (F := Ideal) 0).N
    = Array fun t j => queryGrad (pairAt X Y (j / 128)) (pairK X (j / 128)) t (j % 128) := by
  refine (dats m 0 c).arrAt_eq_of_covers 5 _ (by decide +kernel) fun t hf y => ?_
  obtain ⟨-, -, -, -, -, e, -⟩ := idx t
  have ht : t.val < 64 := t.isLt
  rw [after0_5]
  idx_vars y
  blk_simp [e]
  have he : (win0_5.blk t).view.emb (ix2 y0 y1) = ix2 (⟨512 * (t.val % 32) + y0, by omega⟩ : Fin 16384) (⟨128 * (t.val / 32) + y1, by omega⟩ : Fin 256) := by blk_ext [e]
  rw [he]
  refine ((outsAt_gives R t.val t.isLt).1 y0 y1).trans ?_
  show _ = ((queryGrad (pairAt X Y ((128 * (t.val / 32) + y1) / 128)) (pairK X ((128 * (t.val / 32) + y1) / 128)) (512 * (t.val % 32) + y0) ((128 * (t.val / 32) + y1) % 128) : ℝ) : EReal)
  rw [show (128 * (t.val / 32) + (y1 : ℕ)) / 128 = t.val / 32 by omega, show (128 * (t.val / 32) + (y1 : ℕ)) % 128 = y1 by omega]

theorem final_6 (R : Reads m X Y c) : (dats m 0 c).arrAt 6 (cfgs (F := Ideal) 0).N = Array fun s j => keyGrad X Y (j / 128) 64 s (j % 128) := by
  refine (dats m 0 c).arrAt_eq_of_covers 6 _ (by decide +kernel) fun t hf y => ?_
  obtain ⟨-, -, -, -, -, -, e, -⟩ := idx t
  have ht : t.val < 64 := t.isLt
  have h31 := (flush0_6 t).mp hf
  rw [after0_6]
  idx_vars y
  blk_simp [e]
  have he : (win0_6.blk t).view.emb (ix2 y0 y1) = ix2 y0 (⟨128 * (t.val / 32) + y1, by omega⟩ : Fin 256) := by blk_ext [e]
  rw [he]
  refine ((outsAt_gives R t.val t.isLt).2.1 y0 y1).trans ?_
  show _ = ((keyGrad X Y ((128 * (t.val / 32) + y1) / 128) 64 y0 ((128 * (t.val / 32) + y1) % 128) : ℝ) : EReal)
  rw [show (128 * (t.val / 32) + (y1 : ℕ)) / 128 = t.val / 32 by omega, show (128 * (t.val / 32) + (y1 : ℕ)) % 128 = y1 by omega, h31]

theorem final_7 (R : Reads m X Y c) : (dats m 0 c).arrAt 7 (cfgs (F := Ideal) 0).N = Array fun s j => valueGrad X Y (j / 128) 64 s (j % 128) := by
  refine (dats m 0 c).arrAt_eq_of_covers 7 _ (by decide +kernel) fun t hf y => ?_
  obtain ⟨-, -, -, -, -, -, -, e, -⟩ := idx t
  have ht : t.val < 64 := t.isLt
  have h31 := (flush0_7 t).mp hf
  rw [after0_7]
  idx_vars y
  blk_simp [e]
  have he : (win0_7.blk t).view.emb (ix2 y0 y1) = ix2 y0 (⟨128 * (t.val / 32) + y1, by omega⟩ : Fin 256) := by blk_ext [e]
  rw [he]
  refine ((outsAt_gives R t.val t.isLt).2.2 y0 y1).trans ?_
  show _ = ((valueGrad X Y ((128 * (t.val / 32) + y1) / 128) 64 y0 ((128 * (t.val / 32) + y1) % 128) : ℝ) : EReal)
  rw [show (128 * (t.val / 32) + (y1 : ℕ)) / 128 = t.val / 32 by omega, show (128 * (t.val / 32) + (y1 : ℕ)) % 128 = y1 by omega, h31]

end Cert.Proof.Attention.Ideal

end
-- ==== Proof.Attention.Heads.lean ====
/-
  The attention's lines over real numbers, read by pairs of heads: the output and the three gradients as the grid states them.
-/
module

public import proofs.«01_k».proof.Proof.Attention.Lines
public import proofs.«01_k».proof.Proof.Attention.Grid

@[expose] public section

set_option maxRecDepth 16384

noncomputable section

namespace Cert.Proof.Attention.Ideal.Lines

open Idealize.ShloMosaic Idealize.ShloMosaic.TcCoe
open Stick (from' low weight gain)

variable (X Y : ℕ → ℕ → ℝ)

/-- The scores of head `h`, and its products of cotangent and value. -/
def headScore (h t s : ℕ) : ℝ := (∑ d : Fin 64, X t (768 + (64 * h + d)) * X s (1024 + (64 * h + d))) * 0.125
def headProduct (h t s : ℕ) : ℝ := ∑ d : Fin 64, Y t (64 * h + d) * X s (1280 + (64 * h + d))

theorem sum_near (f : ℕ → ℝ) : (∑ l : Fin 128, if l.val < 64 then f l else 0) = ∑ d : Fin 64, f d := by
  rw [Fin.sum_univ_eq_sum_range (fun l => if l < 64 then f l else 0) 128, Fin.sum_univ_eq_sum_range f 64, ← Finset.sum_filter]
  exact Finset.sum_congr (Finset.ext fun l => by simp only [Finset.mem_filter, Finset.mem_range]; omega) fun _ _ => rfl

theorem sum_far (f : ℕ → ℝ) : (∑ l : Fin 128, if l.val < 64 then 0 else f l) = ∑ d : Fin 64, f (64 + d) := by
  rw [Fin.sum_univ_eq_sum_range (fun l => if l < 64 then 0 else f l) 128, Fin.sum_univ_eq_sum_range (fun d => f (64 + d)) 64,
    show (128 : ℕ) = 64 + 64 from rfl, Finset.sum_range_add, Finset.sum_eq_zero fun l hl => if_pos (Finset.mem_range.mp hl), zero_add]
  exact Finset.sum_congr rfl fun l _ => if_neg (by omega)

theorem pair_z0 (p : ℕ) : (pairAt X Y p).z0 = headScore X (2 * p) := funext fun t => funext fun s => by
  show (∑ l : Fin 128, (if l.val < 64 then pairQ X p t l * 0.125 else 0) * pairK X p s l) = _
  refine Eq.trans (Finset.sum_congr rfl fun l _ => ?_) ((sum_near fun l => pairQ X p t l * 0.125 * pairK X p s l).trans ?_)
  · split <;> ring
  · rw [headScore, Finset.sum_mul]
    refine Finset.sum_congr rfl fun d _ => ?_
    rw [pairQ, pairK, show 768 + 128 * p + d.val = 768 + (64 * (2 * p) + d) by omega, show 1024 + 128 * p + d.val = 1024 + (64 * (2 * p) + d) by omega]
    ring

theorem pair_z1 (p : ℕ) : (pairAt X Y p).z1 = headScore X (2 * p + 1) := funext fun t => funext fun s => by
  show (∑ l : Fin 128, (if l.val < 64 then 0 else pairQ X p t l * 0.125) * pairK X p s l) = _
  refine Eq.trans (Finset.sum_congr rfl fun l _ => ?_) ((sum_far fun l => pairQ X p t l * 0.125 * pairK X p s l).trans ?_)
  · split <;> ring
  · rw [headScore, Finset.sum_mul]
    refine Finset.sum_congr rfl fun d _ => ?_
    rw [pairQ, pairK, show 768 + 128 * p + (64 + d.val) = 768 + (64 * (2 * p + 1) + d) by omega, show 1024 + 128 * p + (64 + d.val) = 1024 + (64 * (2 * p + 1) + d) by omega]
    ring

theorem pair_w0 (p : ℕ) : (pairAt X Y p).w0 = headProduct X Y (2 * p) := funext fun t => funext fun s => by
  show (∑ l : Fin 128, (if l.val < 64 then pairD Y p t l else 0) * pairV X p s l) = _
  refine Eq.trans (Finset.sum_congr rfl fun l _ => ?_) ((sum_near fun l => pairD Y p t l * pairV X p s l).trans ?_)
  · split <;> ring
  · rw [headProduct]
    refine Finset.sum_congr rfl fun d _ => ?_
    rw [pairD, pairV, show 128 * p + d.val = 64 * (2 * p) + d by omega, show 1280 + 128 * p + d.val = 1280 + (64 * (2 * p) + d) by omega]

theorem pair_w1 (p : ℕ) : (pairAt X Y p).w1 = headProduct X Y (2 * p + 1) := funext fun t => funext fun s => by
  show (∑ l : Fin 128, (if l.val < 64 then 0 else pairD Y p t l) * pairV X p s l) = _
  refine Eq.trans (Finset.sum_congr rfl fun l _ => ?_) ((sum_far fun l => pairD Y p t l * pairV X p s l).trans ?_)
  · split <;> ring
  · rw [headProduct]
    refine Finset.sum_congr rfl fun d _ => ?_
    rw [pairD, pairV, show 128 * p + (64 + d.val) = 64 * (2 * p + 1) + d by omega, show 1280 + 128 * p + (64 + d.val) = 1280 + (64 * (2 * p + 1) + d) by omega]

theorem from'_zero (f : ℕ → ℝ) : from' f 0 = ∑ s : Fin 16384, f s := by
  rw [from', ← Finset.range_eq_Ico, Fin.sum_univ_eq_sum_range f 16384]

theorem sum_blocks (f : ℕ → ℝ) : (∑ r ∈ Finset.range 64, ∑ p : Fin 256, f (256 * r + p)) = ∑ t : Fin 16384, f t := by
  rw [Fin.sum_univ_eq_sum_range f 16384]
  have : ∀ n, (∑ r ∈ Finset.range n, ∑ p : Fin 256, f (256 * r + p)) = ∑ t ∈ Finset.range (256 * n), f t := by
    intro n
    induction n with
    | zero => rfl
    | succ n ih => rw [Finset.sum_range_succ, ih, mul_add_one, Finset.sum_range_add, Fin.sum_univ_eq_sum_range (fun p => f (256 * n + p)) 256]
  exact this 64

theorem lane_cases (j : ℕ) (h : j < 256) :
    (j % 128 < 64 ∧ j / 64 = 2 * (j / 128) ∧ j % 64 = j % 128) ∨ (¬j % 128 < 64 ∧ j / 64 = 2 * (j / 128) + 1 ∧ 64 + j % 64 = j % 128) := by omega

theorem output_eq (t j : ℕ) (h : j < 256) :
    output (pairAt X Y (j / 128)) (pairV X (j / 128)) t (j % 128) = ∑ s : Fin 16384, weight (headScore X (j / 64)) t s * X s (1280 + (64 * (j / 64) + j % 64)) := by
  rw [output, pair_z0, pair_z1, from'_zero, from'_zero]
  rcases lane_cases j h with ⟨a, b, c⟩ | ⟨a, b, c⟩
  · rw [if_pos a, b]
    exact Finset.sum_congr rfl fun s _ => by rw [pairV]; congr 2; omega
  · rw [if_neg a, b]
    exact Finset.sum_congr rfl fun s _ => by rw [pairV]; congr 2; omega

theorem queryGrad_eq (t j : ℕ) (h : j < 256) : queryGrad (pairAt X Y (j / 128)) (pairK X (j / 128)) t (j % 128)
    = ∑ s : Fin 16384, Stick.slope (headScore X (j / 64)) (headProduct X Y (j / 64)) t s * 0.125 * X s (1024 + (64 * (j / 64) + j % 64)) := by
  rw [queryGrad, pair_z0, pair_z1, pair_w0, pair_w1, from'_zero, from'_zero]
  rcases lane_cases j h with ⟨a, b, c⟩ | ⟨a, b, c⟩
  · rw [if_pos a, b, Finset.sum_mul]
    refine Finset.sum_congr rfl fun s _ => ?_
    rw [pairK, show 1024 + 128 * (j / 128) + j % 128 = 1024 + (64 * (2 * (j / 128)) + j % 64) by omega]; ring
  · rw [if_neg a, b, Finset.sum_mul]
    refine Finset.sum_congr rfl fun s _ => ?_
    rw [pairK, show 1024 + 128 * (j / 128) + j % 128 = 1024 + (64 * (2 * (j / 128) + 1) + j % 64) by omega]; ring

theorem keyGrad_eq (s j : ℕ) (h : j < 256) : keyGrad X Y (j / 128) 64 s (j % 128)
    = ∑ t : Fin 16384, Stick.slope (headScore X (j / 64)) (headProduct X Y (j / 64)) t s * 0.125 * X t (768 + (64 * (j / 64) + j % 64)) := by
  rw [keyGrad]
  simp only [keyPart, pair_z0, pair_z1, pair_w0, pair_w1, rowsOf, near, far, scaled, pairQ]
  rw [Finset.sum_add_distrib, sum_blocks fun t => Stick.slope (headScore X (2 * (j / 128))) (headProduct X Y (2 * (j / 128))) t s
      * if j % 128 < 64 then X t (768 + 128 * (j / 128) + j % 128) * 0.125 else 0,
    sum_blocks fun t => Stick.slope (headScore X (2 * (j / 128) + 1)) (headProduct X Y (2 * (j / 128) + 1)) t s
      * if j % 128 < 64 then 0 else X t (768 + 128 * (j / 128) + j % 128) * 0.125, ← Finset.sum_add_distrib]
  refine Finset.sum_congr rfl fun t _ => ?_
  rcases lane_cases j h with ⟨a, b, c⟩ | ⟨a, b, c⟩
  · rw [if_pos a, if_pos a, b, show 768 + 128 * (j / 128) + j % 128 = 768 + (64 * (2 * (j / 128)) + j % 64) by omega]; ring
  · rw [if_neg a, if_neg a, b, show 768 + 128 * (j / 128) + j % 128 = 768 + (64 * (2 * (j / 128) + 1) + j % 64) by omega]; ring

theorem valueGrad_eq (s j : ℕ) (h : j < 256) : valueGrad X Y (j / 128) 64 s (j % 128)
    = ∑ t : Fin 16384, Y t (64 * (j / 64) + j % 64) * weight (headScore X (j / 64)) t s := by
  rw [valueGrad]
  simp only [valuePart, pair_z0, pair_z1, rowsOf, near, far, pairD]
  rw [Finset.sum_add_distrib, sum_blocks fun t => weight (headScore X (2 * (j / 128))) t s * if j % 128 < 64 then Y t (128 * (j / 128) + j % 128) else 0,
    sum_blocks fun t => weight (headScore X (2 * (j / 128) + 1)) t s * if j % 128 < 64 then 0 else Y t (128 * (j / 128) + j % 128), ← Finset.sum_add_distrib]
  refine Finset.sum_congr rfl fun t _ => ?_
  rcases lane_cases j h with ⟨a, b, c⟩ | ⟨a, b, c⟩
  · rw [if_pos a, if_pos a, b, show 128 * (j / 128) + j % 128 = 64 * (2 * (j / 128)) + j % 64 by omega]; ring
  · rw [if_neg a, if_neg a, b, show 128 * (j / 128) + j % 128 = 64 * (2 * (j / 128) + 1) + j % 64 by omega]; ring

open Cert.AttentionRefIdeal in
section
variable {X Y : ℕ → ℕ → ℝ} {p : FVec Ideal S16384x5896 .f32} {d : FVec Ideal S16384x256 .f32}

theorem is_scores (hp : Is p X) : Cube (scores p) (headScore X) :=
  (is_rowsRows (is_heads (is_slice hp 768 (by decide) _)) (is_heads (is_slice hp 1024 (by decide) _))).mulf eighth

theorem is_outputs (hp : Is p X) : Is (outputs p) (fun t j => output (pairAt X Y (j / 128)) (pairV X (j / 128)) t (j % 128)) :=
  (is_columns (is_across (is_weights (is_scores hp)) (is_heads (is_slice hp 1280 (by decide) _)))).congr fun t _ j hj => (output_eq X Y t j hj).symm

theorem is_slopesOf (hp : Is p X) (hd : Is d Y) : Cube (slopesOf p d) (fun h t s => Stick.slope (headScore X h) (headProduct X Y h) t s * 0.125) :=
  is_slopes (is_scores hp) (is_gains (is_scores hp) (is_rowsRows (is_heads hd) (is_heads (is_slice hp 1280 (by decide) _))))

theorem is_queryOut (hp : Is p X) (hd : Is d Y) : Is (queryOut p d) (fun t j => queryGrad (pairAt X Y (j / 128)) (pairK X (j / 128)) t (j % 128)) :=
  (is_columns (is_across (is_slopesOf hp hd) (is_heads (is_slice hp 1024 (by decide) _)))).congr fun t _ j hj => (queryGrad_eq X Y t j hj).symm

theorem is_keyOut (hp : Is p X) (hd : Is d Y) : Is (keyOut p d) (fun s j => keyGrad X Y (j / 128) 64 s (j % 128)) :=
  (is_columns (is_down (is_slopesOf hp hd) (is_heads (is_slice hp 768 (by decide) _)))).congr fun s _ j hj => (keyGrad_eq X Y s j hj).symm

theorem is_valueOut (hp : Is p X) (hd : Is d Y) : Is (valueOut p d) (fun s j => valueGrad X Y (j / 128) 64 s (j % 128)) :=
  (is_columns (is_valueHeads (is_weights (is_scores hp)) (is_heads hd))).congr fun s _ j hj => (valueGrad_eq X Y s j hj).symm

theorem array_of_is {x : FVec Ideal S16384x256 .f32} {f : ℕ → ℕ → ℝ} (h : Is x f) : x = Array f := funext fun i => by
  rw [show i = ix2 (i 0) (i 1) from eq_ix2 i]
  exact h (i 0) (i 1)

end

end Cert.Proof.Attention.Ideal.Lines

end
-- ==== Proof.Attention.Host.lean ====
/-
  What the host prepares for the attention gradient's grid: the projections rounded to bf16, the cotangent, and the attention's output.
-/
module

public import proofs.«01_k».proof.Proof.Attention.Heads

@[expose] public section

set_option maxRecDepth 16384

noncomputable section

namespace Cert.Proof.Attention.Ideal

open Cert.AttentionIdeal Cert.AttentionIdeal.Gen
open Idealize.ShloMosaic Idealize.ShloMosaic.TcCoe Idealize.ShloMosaic.StableHlo

variable (m : (ℓ : Loc nD τ sig) → Buf (Elt Ideal) ℓ) (c : Dev nD)

theorem V_out : V m c main_v31 = Lines.outputs (m ((c.tc : Thread nD τ).loc main_arg0)) := by
  show after (stretches (F := Ideal)).flatten (fun b => m (c, b)) _ = _
  simp only [stretches, hostOps0, hostOps0_1, hostOps0_2, hostOps0_3, hostOps0_4, hostOps0_5, hostOps0_6, hostOps0_7, List.flatten_cons, List.flatten_nil, List.append_nil, List.cons_append,
    List.nil_append, TRef.binary, TRef.nullary, TRef.ternary, TRef.unary, TRef.toBuf, TRef.ofBuf, cast_eq]
  after_results_simp
  rfl

theorem V_cotangent : V m c main_v39 = m ((c.tc : Thread nD τ).loc main_arg1) := by
  show after (stretches (F := Ideal)).flatten (fun b => m (c, b)) _ = _
  simp only [stretches, hostOps0, hostOps0_1, hostOps0_2, hostOps0_3, hostOps0_4, hostOps0_5, hostOps0_6, hostOps0_7, List.flatten_cons, List.flatten_nil, List.append_nil, List.cons_append,
    List.nil_append, TRef.binary, TRef.nullary, TRef.ternary, TRef.unary, TRef.toBuf, TRef.ofBuf, cast_eq]
  after_results_simp
  rfl

theorem V_proj (r : Fin 16384) (j : ℕ) (h : j < 2048) :
    (V m c main_v38 (ix2 r (⟨j, by omega⟩ : Fin 6144)) : EReal) = m ((c.tc : Thread nD τ).loc main_arg0) (ix2 r (⟨j, by omega⟩ : Fin 5896)) := by
  show after (stretches (F := Ideal)).flatten (fun b => m (c, b)) main_v38 _ = _
  simp only [stretches, hostOps0, hostOps0_1, hostOps0_2, hostOps0_3, hostOps0_4, hostOps0_5, hostOps0_6, hostOps0_7, List.flatten_cons, List.flatten_nil, List.append_nil, List.cons_append,
    List.nil_append, TRef.binary, TRef.nullary, TRef.ternary, TRef.unary, TRef.toBuf, TRef.ofBuf, cast_eq]
  after_results_simp
  pointwise
  rw [dif_pos h]
  after_results_simp
  pointwise

end Cert.Proof.Attention.Ideal

end
-- ==== Proof.Attention.Pair.lean ====
/- The stick-breaking attention's backward call against the derivative of the attention's lines. -/
module

public import proofs.«01_k».proof.Defs
public import proofs.«01_k».proof.Proof.Gen.Pre_attention_finite
public import proofs.«01_k».proof.Proof.Attention.Host

@[expose] public section

set_option maxRecDepth 16384

noncomputable section

namespace Cert.Proof.Attention

open Idealize.ShloMosaic Idealize.SL.Sem Idealize.ShloMosaic.TcCoe

/-- The derivative's program runs and keeps its arguments; it declares no semaphore. -/
theorem ref_frame : Cert.quiescent_AttentionRefIdeal := fun m ρ _ =>
  (θ_run Cert.AttentionRefIdeal.defs _ _).mono (fun r h => ⟨fun c => (h c).2.2.2, sem_eq_zero_of_no_sems (by decide) r.2⟩)
    (Cert.AttentionRefIdeal.Value.run m ρ)

/-- A value below infinity in size is a real number. -/
theorem real_of_lt {x : EReal} (h : Ideal.cmp .olt (max x (-x)) (Ideal.ofBits .f32 0x7F800000#32) = 1#1) : x = ((x.toReal : ℝ) : EReal) := by
  rw [show Ideal.ofBits .f32 0x7F800000#32 = ⊤ by simp [Ideal.ofBits, Ideal.ieee]] at h
  refine (EReal.coe_toReal ?_ ?_).symm
  · rintro rfl; simp [Ideal.cmp] at h
  · rintro rfl; simp [Ideal.cmp] at h

/-- The real numbers of an array. -/
def reals {a b : ℕ} (x : FVec Ideal ⟨2, ![a, b]⟩ .f32) (t j : ℕ) : ℝ := if h : t < a ∧ j < b then EReal.toReal (x (ix2 ⟨t, h.1⟩ ⟨j, h.2⟩)) else 0

theorem is_reals {a b : ℕ} {x : FVec Ideal ⟨2, ![a, b]⟩ .f32} (h : ∀ i, Ideal.cmp .olt (max (x i) (-x i)) (Ideal.ofBits .f32 0x7F800000#32) = 1#1) :
    Is x (reals x) := fun p q => by
  rw [reals, dif_pos ⟨p.2, q.2⟩]
  exact real_of_lt (h _)

open Cert.AttentionIdeal in
section
variable {m : (ℓ : Loc nD τ sig) → Buf (Elt Ideal) ℓ}

theorem finite_args (h : Cert.Pre_AttentionIdeal_attention_finite m) (c : Dev nD) :
    Is (a := 16384) (b := 5896) (φ := .f32) (m ((c.tc : Thread nD τ).loc main_arg0)) (reals (a := 16384) (b := 5896) (m ((c.tc : Thread nD τ).loc main_arg0)))
    ∧ Is (a := 16384) (b := 256) (φ := .f32) (m ((c.tc : Thread nD τ).loc main_arg1)) (reals (a := 16384) (b := 256) (m ((c.tc : Thread nD τ).loc main_arg1))) :=
  ⟨is_reals fun i => congrFun (h c).1 i, is_reals fun i => congrFun (h c).2 i⟩

theorem reads (c : Dev nD) {X Y : ℕ → ℕ → ℝ} (hx : Is (a := 16384) (b := 5896) (φ := .f32) (m ((c.tc : Thread nD τ).loc main_arg0)) X)
    (hy : Is (a := 16384) (b := 256) (φ := .f32) (m ((c.tc : Thread nD τ).loc main_arg1)) Y) : Ideal.Reads m X Y c where
  proj r j h := (Ideal.V_proj m c r j h).trans (hx r ⟨j, by omega⟩)
  cotangent p q := (congrFun (Ideal.V_cotangent m c) (ix2 p q)).trans (hy p q)
  out r p l hp hl := by
    refine (congrFun (Ideal.V_out m c) _).trans ((Ideal.Lines.is_outputs (Y := Y) hx r ⟨128 * p + l, by omega⟩).trans ?_)
    show ((Ideal.output (Ideal.pairAt X Y ((128 * p + l) / 128)) (Ideal.pairV X ((128 * p + l) / 128)) r ((128 * p + l) % 128) : ℝ) : EReal) = _
    rw [show (128 * p + l) / 128 = p by omega, show (128 * p + l) % 128 = l by omega]

end

/-- Every result of the attention's backward call is the derivative of the attention's lines, where the arguments are finite. -/
theorem algebraic : Cert.algebraic_AttentionIdeal_AttentionRefIdeal_pre_attention_finite := by
  intro m g m' g' hf ha
  refine ⟨fun c => Ideal.Lines.queryOut (m ((c.tc : Thread Cert.AttentionIdeal.nD Cert.AttentionIdeal.τ).loc Cert.AttentionIdeal.main_arg0)) (m ((c.tc : Thread Cert.AttentionIdeal.nD Cert.AttentionIdeal.τ).loc Cert.AttentionIdeal.main_arg1)),
    fun c => Ideal.Lines.keyOut (m ((c.tc : Thread Cert.AttentionIdeal.nD Cert.AttentionIdeal.τ).loc Cert.AttentionIdeal.main_arg0)) (m ((c.tc : Thread Cert.AttentionIdeal.nD Cert.AttentionIdeal.τ).loc Cert.AttentionIdeal.main_arg1)),
    fun c => Ideal.Lines.valueOut (m ((c.tc : Thread Cert.AttentionIdeal.nD Cert.AttentionIdeal.τ).loc Cert.AttentionIdeal.main_arg0)) (m ((c.tc : Thread Cert.AttentionIdeal.nD Cert.AttentionIdeal.τ).loc Cert.AttentionIdeal.main_arg1)),
    (θ_run _ _ _).mono (fun r h c => ?_) (Ideal.run_main m g), (θ_run _ _ _).mono (fun r h c => ?_) (Cert.AttentionRefIdeal.Value.run m' g')⟩
  · obtain ⟨hx, hy⟩ := finite_args hf c
    have R := reads c hx hy
    refine ⟨((h.1 c).1 5).trans ((Ideal.final_5 R).trans (Ideal.Lines.array_of_is (Ideal.Lines.is_queryOut hx hy)).symm),
      ((h.1 c).1 6).trans ((Ideal.final_6 R).trans (Ideal.Lines.array_of_is (Ideal.Lines.is_keyOut hx hy)).symm),
      ((h.1 c).1 7).trans ((Ideal.final_7 R).trans (Ideal.Lines.array_of_is (Ideal.Lines.is_valueOut hx hy)).symm),
      ((h.1 c).2 Cert.AttentionIdeal.main_arg0 (Pipeline.mem_restRefs_of Cert.AttentionIdeal.main_arg0 (by decide) ((by decide : ∀ w : Fin 8, (Cert.AttentionIdeal.spec0 w).arr.view.ref ≠ Cert.AttentionIdeal.main_arg0)))).trans (Ideal.V_main_arg0 m c),
      ((h.1 c).2 Cert.AttentionIdeal.main_arg1 (Pipeline.mem_restRefs_of Cert.AttentionIdeal.main_arg1 (by decide) ((by decide : ∀ w : Fin 8, (Cert.AttentionIdeal.spec0 w).arr.view.ref ≠ Cert.AttentionIdeal.main_arg1)))).trans (Ideal.V_main_arg1 m c)⟩
  · obtain ⟨h0, h1, h2, ho⟩ := h c
    obtain ⟨a0, a1⟩ := ha c
    rw [Ideal.Lines.res56, a0, a1] at h0
    rw [Ideal.Lines.res54, a0, a1] at h1
    rw [Ideal.Lines.res52, a0, a1] at h2
    exact ⟨h0, h1, h2, ho⟩

end Cert.Proof.Attention

end
-- ==== Proof.Norm.Real.lean ====
/- Root-mean-square norms over the real numbers: the inverse root of a row's mean square, the gradient of a normed row, and
   the numbers the programs write for the constants of a norm. -/
module

public import Idealize.ShloMosaic.Lib.Pointwise
public import Idealize.ShloMosaic.Lib.Pipeline.ValueKit
public import Mathlib.Analysis.SpecialFunctions.Log.Basic

@[expose] public section

set_option maxRecDepth 16384

noncomputable section

namespace Cert.Proof.Norm

open Idealize.ShloMosaic Idealize.ShloMosaic.TcCoe

/-- Every entry of the array is the real number `f` gives at its row and column. -/
def Is {a b : ℕ} {φ : FTy} (x : FVec Ideal ⟨2, ![a, b]⟩ φ) (f : ℕ → ℕ → ℝ) : Prop :=
  ∀ (p : Fin a) (q : Fin b), (x (ix2 p q) : EReal) = ((f p q : ℝ) : EReal)

/-- The array of the real numbers `f` gives. -/
def arr {a b : ℕ} {φ : FTy} (f : ℕ → ℕ → ℝ) : FVec Ideal ⟨2, ![a, b]⟩ φ := fun i => ((f (i 0) (i 1) : ℝ) : EReal)

theorem eq_arr {a b : ℕ} {φ : FTy} {x : FVec Ideal ⟨2, ![a, b]⟩ φ} {f : ℕ → ℕ → ℝ} (h : Is x f) : x = arr f := funext fun i => by
  rw [show i = ix2 (i 0) (i 1) from eq_ix2 i]
  exact h (i 0) (i 1)

/-- The real numbers of an array. -/
def reals {a b : ℕ} {φ : FTy} (x : FVec Ideal ⟨2, ![a, b]⟩ φ) (t j : ℕ) : ℝ :=
  if h : t < a ∧ j < b then EReal.toReal (x (ix2 ⟨t, h.1⟩ ⟨j, h.2⟩)) else 0

/-- A value below infinity in size is a real number. -/
theorem real_of_lt {x : EReal} (h : Ideal.cmp .olt (max x (-x)) (Ideal.ofBits .f32 0x7F800000#32) = 1#1) : x = ((x.toReal : ℝ) : EReal) := by
  rw [show Ideal.ofBits .f32 0x7F800000#32 = ⊤ by simp [Ideal.ofBits, Ideal.ieee]] at h
  refine (EReal.coe_toReal ?_ ?_).symm
  · rintro rfl; simp [Ideal.cmp] at h
  · rintro rfl; simp [Ideal.cmp] at h

theorem is_reals {a b : ℕ} {x : FVec Ideal ⟨2, ![a, b]⟩ .f32}
    (h : ∀ i, Ideal.cmp .olt (max (x i) (-x i)) (Ideal.ofBits .f32 0x7F800000#32) = 1#1) : Is x (reals x) := fun p q => by
  rw [reals, dif_pos ⟨p.2, q.2⟩]
  exact real_of_lt (h _)

/-- What is added to a mean square before its root is taken. -/
def eps : ℝ := 8796093 / 2 ^ 43

theorem eps_pos : 0 < eps := by unfold eps; norm_num

theorem word_eps : Ideal.ofBits .f32 0x358637BD#32 = ((eps : ℝ) : EReal) := by
  simp [Ideal.ofBits, Ideal.ieee, -EReal.coe_mul, eps]
  norm_num

theorem word_1024 : Ideal.ofBits .f32 0x44800000#32 = ((1024 : ℝ) : EReal) := by
  simp [Ideal.ofBits, Ideal.ieee, -EReal.coe_mul]
  norm_num

theorem word_neg_half : Ideal.ofBits .f32 0xBF000000#32 = ((-(1 / 2) : ℝ) : EReal) := by
  simp [Ideal.ofBits, Ideal.ieee, -EReal.coe_mul]
  norm_num

theorem word_half : Ideal.ofBits .f32 0x3F000000#32 = ((1 / 2 : ℝ) : EReal) := by
  simp [Ideal.ofBits, Ideal.ieee, -EReal.coe_mul]
  norm_num

theorem word_2 : Ideal.ofBits .f32 0x40000000#32 = ((2 : ℝ) : EReal) := by
  simp [Ideal.ofBits, Ideal.ieee, -EReal.coe_mul]
  norm_num

theorem word_1024th : Ideal.ofBits .f32 0x3A800000#32 = ((1 / 1024 : ℝ) : EReal) := by
  simp [Ideal.ofBits, Ideal.ieee, -EReal.coe_mul]
  norm_num

theorem word_2048th : Ideal.ofBits .f32 0x3A000000#32 = ((1 / 2048 : ℝ) : EReal) := by
  simp [Ideal.ofBits, Ideal.ieee, -EReal.coe_mul]
  norm_num

theorem word_1 : Ideal.ofBits .f32 0x3F800000#32 = ((1 : ℝ) : EReal) := by
  rw [Ideal.ofBits_one_f32]; rfl

theorem one_real : (1 : EReal) = ((1 : ℝ) : EReal) := rfl

/-- Division by a number that is not zero. -/
theorem div_real {x y : ℝ} (h : y ≠ 0) : Ideal.div (x : EReal) (y : EReal) = ((x * (1 / y) : ℝ) : EReal) := by
  rw [Ideal.div_coe h, EReal.coe_mul]

theorem rsqrt_real {x : ℝ} (h : 0 < x) : Ideal.rsqrt (x : EReal) = (((√x)⁻¹ : ℝ) : EReal) := by
  rw [Ideal.rsqrt_coe, if_neg (not_lt.mpr h.le), if_neg h.ne']

theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, EReal.coe_add, ih]

theorem square_pos {n : ℕ} (f : Fin n → ℝ) (c : ℝ) (hc : 0 ≤ c) : 0 < (∑ k, f k * f k) * c + eps :=
  add_pos_of_nonneg_of_pos (mul_nonneg (Finset.sum_nonneg fun k _ => mul_self_nonneg _) hc) eps_pos

/-- The mean square of a row of `n` numbers, raised by `eps`. -/
def level (n : ℕ) (x : ℕ → ℕ → ℝ) (p : ℕ) : ℝ := (∑ k : Fin n, x p k * x p k) * (1 / n) + eps

theorem level_pos (n : ℕ) (x : ℕ → ℕ → ℝ) (p : ℕ) : 0 < level n x p := square_pos _ _ (by positivity)

/-- The inverse root of a row's level. -/
def inv (n : ℕ) (x : ℕ → ℕ → ℝ) (p : ℕ) : ℝ := (√(level n x p))⁻¹

/-- The normed array. -/
def unit (n : ℕ) (x : ℕ → ℕ → ℝ) (p q : ℕ) : ℝ := x p q * inv n x p

/-- The gradient of the normed array in the array, at the cotangent `d`. -/
def grad (n : ℕ) (x d : ℕ → ℕ → ℝ) (p q : ℕ) : ℝ :=
  inv n x p * (d p q - unit n x p q * ((∑ k : Fin n, d p k * unit n x p k) * (1 / n)))

theorem inv_eq (n : ℕ) (x : ℕ → ℕ → ℝ) (p : ℕ) : (√((∑ k : Fin n, x p k * x p k) * (1 / n) + eps))⁻¹ = inv n x p := rfl

theorem level_1024 (x : ℕ → ℕ → ℝ) (p : ℕ) : (∑ k : Fin 1024, x p k * x p k) * (1 / 1024) + eps = level 1024 x p := by
  simp [level]

theorem rsqrt_level (n : ℕ) (x : ℕ → ℕ → ℝ) (p : ℕ) : Ideal.rsqrt ((level n x p : ℝ) : EReal) = ((inv n x p : ℝ) : EReal) :=
  rsqrt_real (level_pos n x p)

theorem div_level (y : ℝ) (n : ℕ) (x : ℕ → ℕ → ℝ) (p : ℕ) :
    Ideal.div (y : EReal) ((level n x p : ℝ) : EReal) = ((y * (1 / level n x p) : ℝ) : EReal) := div_real (level_pos n x p).ne'

theorem div_1024 (y : ℝ) : Ideal.div (y : EReal) ((1024 : ℝ) : EReal) = ((y * (1 / 1024) : ℝ) : EReal) := div_real (by norm_num)

theorem inv_level (n : ℕ) (x : ℕ → ℕ → ℝ) (p : ℕ) : inv n x p * (1 / level n x p) = inv n x p * inv n x p * inv n x p := by
  have h : inv n x p * inv n x p = 1 / level n x p := by
    rw [inv, ← mul_inv, Real.mul_self_sqrt (level_pos n x p).le, one_div]
  rw [← h]; ring

/-- The gradient as the product rule writes it: the part through the numbers and the two equal parts through their mean square. -/
theorem grad_eq (n : ℕ) (x d : ℕ → ℕ → ℝ) (p q : ℕ) (w : ℝ)
    (h : w = (∑ k : Fin n, x p k * d p k) * (-(1 / 2) * (inv n x p * (1 / level n x p))) * (1 / n)) :
    d p q * inv n x p + x p q * w + w * x p q = grad n x d p q := by
  rw [h, inv_level, grad]
  have e : ∑ k : Fin n, d p k * unit n x p k = (∑ k : Fin n, x p k * d p k) * inv n x p := by
    rw [Finset.sum_mul]
    exact Finset.sum_congr rfl fun k _ => by rw [unit]; ring
  rw [e, unit]
  ring

/-- The rows of the `t`-th tile of 512 rows. -/
def tile (t : ℕ) (x : ℕ → ℕ → ℝ) (p q : ℕ) : ℝ := x (512 * t + p) q

/-- Sums over the rows of 32 tiles add up to the sum over all rows. -/
theorem sum_tiles (f : ℕ → ℝ) (t : ℕ) (ht : t < 32) : ∑ s : Fin 32, ((∑ r : Fin 512, f (512 * (32 * (t / 32) + s) + r) : ℝ) : EReal)
    = ((∑ r : Fin 16384, f r : ℝ) : EReal) := by
  rw [coe_sum]
  refine congrArg _ ?_
  show (∑ s : Fin 32, ∑ r : Fin 512, f (512 * (32 * (t / 32) + s) + r)) = ∑ r : Fin (32 * 512), f r
  refine Fin.sum_mul_add_congr fun s r hl => ?_
  rw [Nat.div_eq_of_lt ht, Nat.mul_zero, Nat.zero_add]
  exact congrArg f (by simp; ring)

/-- The same with a factor common to all rows. -/
theorem sum_tiles_mul (f : ℕ → ℝ) (a : ℝ) (t : ℕ) (ht : t < 32) :
    ∑ s : Fin 32, (((∑ r : Fin 512, f (512 * (32 * (t / 32) + s) + r)) * a : ℝ) : EReal) = (((∑ r : Fin 16384, f r) * a : ℝ) : EReal) := by
  simp only [Finset.sum_mul]
  exact sum_tiles (fun r => f r * a) t ht

end Cert.Proof.Norm

end
-- ==== Proof.AdalnFirst.Spec.lean ====
/- The derivative of the first layer's modulated norm: what each of its results holds, over the real numbers. -/
module

public import proofs.«01_k».proof.Proof.Gen.AdalnFirstRefIdeal.Run
public import proofs.«01_k».proof.Proof.Norm.Real
public import Idealize.ShloMosaic.Lib.Pointwise

@[expose] public section

set_option maxRecDepth 16384

noncomputable section

namespace Cert.AdalnFirstRefIdeal.Spec

open Cert.AdalnFirstRefIdeal Cert.AdalnFirstRefIdeal.Gen Idealize.ShloMosaic Idealize.ShloMosaic.TcCoe Idealize.SL.Sem Cert.Proof.Norm

/-- What the normed, scaled rows add to the residual stream's gradient. -/
def dx (x h g s : ℕ → ℕ → ℝ) (p q : ℕ) : ℝ := grad 1024 x (fun p q => h p q * (1 + s 0 q) * g 0 q) p q

/-- The norm's weight: the cotangent times the normed rows and the scale, summed over the rows. -/
def dg (x h s : ℕ → ℕ → ℝ) (_ q : ℕ) : ℝ := (∑ r : Fin 16384, h r q * unit 1024 x r q) * (1 + s 0 q)

/-- The scale: the cotangent times the weighted normed rows, summed over the rows. -/
def dscale (x h g : ℕ → ℕ → ℝ) (_ q : ℕ) : ℝ := (∑ r : Fin 16384, h r q * unit 1024 x r q) * g 0 q

/-- The shift: the cotangent summed over the rows. -/
def dshift (h : ℕ → ℕ → ℝ) (_ q : ℕ) : ℝ := ∑ r : Fin 16384, h r q

variable (m : (ℓ : Loc nD τ sig) → Buf (Elt Ideal) ℓ) {x h g s : ℕ → ℕ → ℝ}

theorem out_0 (c : Dev nD) (h0 : Is (φ := .f32) (m ((c.tc : Thread nD τ).loc main_arg0)) x) (h2 : Is (φ := .f32) (m ((c.tc : Thread nD τ).loc main_arg2)) h) (h3 : Is (φ := .f32) (m ((c.tc : Thread nD τ).loc main_arg3)) g)
    (h4 : Is (φ := .f32) (m ((c.tc : Thread nD τ).loc main_arg4)) s) :
    Value.res_main_v48 m c = addf (m ((c.tc : Thread nD τ).loc main_arg1)) (arr (φ := .f32) (dx x h g s)) := funext fun i => by
  idx_vars i
  unfold Value.res_main_v48
  pointwise
  simp only [h0 _ _, h2 _ _, h3 _ _, h4 _ _, word_1024, word_eps, word_neg_half, one_real, ← EReal.coe_mul, ← EReal.coe_add,
    coe_sum, div_1024, level_1024, rsqrt_level, div_level, Fin.sum_univ_one]
  rw [add_assoc, add_assoc, ← EReal.coe_add, ← EReal.coe_add]
  refine congrArg _ (congrArg _ ?_)
  show _ = dx x h g s i0 i1
  rw [dx, ← grad_eq 1024 _ _ _ _ _ rfl]
  simp only [Fin.val_zero, Nat.cast_ofNat]
  ring

theorem run (ρ : Dev nD → PrngReg) (x h g s : Dev nD → ℕ → ℕ → ℝ)
    (H : ∀ c : Dev nD, Is (φ := .f32) (m ((c.tc : Thread nD τ).loc main_arg0)) (x c) ∧ Is (φ := .f32) (m ((c.tc : Thread nD τ).loc main_arg2)) (h c) ∧ Is (φ := .f32) (m ((c.tc : Thread nD τ).loc main_arg3)) (g c)
      ∧ Is (φ := .f32) (m ((c.tc : Thread nD τ).loc main_arg4)) (s c)) :
    θ_run defs (onTc (τ := τ) (main (F := Ideal))) ⟨m, fun _ => 0, ρ⟩ fun r => ∀ c : Dev nD,
      r.2.mem ((c.tc : Thread nD τ).loc main_v48) = addf (m ((c.tc : Thread nD τ).loc main_arg1)) (arr (φ := .f32) (dx (x c) (h c) (g c) (s c)))
      ∧ r.2.mem ((c.tc : Thread nD τ).loc main_v31) = arr (φ := .f32) (dg (x c) (h c) (s c))
      ∧ r.2.mem ((c.tc : Thread nD τ).loc main_v26) = arr (φ := .f32) (dscale (x c) (h c) (g c))
      ∧ r.2.mem ((c.tc : Thread nD τ).loc main_v23) = arr (φ := .f32) (dshift (h c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r k c => ?_) (Value.run m ρ)
  obtain ⟨k0, k1, k2, k3, kr⟩ := k c
  obtain ⟨h0, h2, h3, h4⟩ := H c
  refine ⟨k0.trans (out_0 m c h0 h2 h3 h4), k1.trans (eq_arr fun p q => ?_), k2.trans (eq_arr fun p q => ?_),
    k3.trans (eq_arr fun p q => ?_), kr⟩ <;> clear k0 k1 k2 k3 kr
  all_goals
    pointwise
    simp only [h0 _ _, h2 _ _, h3 _ _, h4 _ _, word_1024, word_eps, one_real, ← EReal.coe_mul, ← EReal.coe_add,
      coe_sum, div_1024, level_1024, rsqrt_level, Fin.val_eq_zero]
    simp only [dg, dscale, dshift, unit, Finset.sum_mul]
  all_goals exact congrArg _ (Finset.sum_congr rfl fun k _ => by ring)

end Cert.AdalnFirstRefIdeal.Spec

end
-- ==== Proof.AdalnFirst.Kernel.lean ====
/- The kernel of the first layer's modulated norm, backward: what a grid point stores, and the arrays the grid leaves. -/
module

public import proofs.«01_k».proof.Proof.Gen.AdalnFirstIdeal.Value
public import proofs.«01_k».proof.Proof.AdalnFirst.Spec
public import Idealize.ShloMosaic.Lib.Pipeline.ValueKit

@[expose] public section

set_option maxRecDepth 16384

noncomputable section

namespace Cert.AdalnFirstIdeal.Grid

open Cert.AdalnFirstIdeal Cert.AdalnFirstIdeal.Gen Idealize.ShloMosaic Idealize.ShloMosaic.TcCoe Idealize.SL.Sem Cert.Proof.Norm
open Idealize.ShloMosaic.Pipeline (Dat)
open Cert.AdalnFirstRefIdeal.Spec (dx dg dscale dshift)

variable (m : (ℓ : Loc nD τ sig) → Buf (Elt Ideal) ℓ) {x h g s : ℕ → ℕ → ℝ}

theorem idx : ∀ t : Fin cfg0.N, win0_0.index t = ![t.val, 0]
    ∧ win0_1.index t = ![t.val, 0]
    ∧ win0_2.index t = ![t.val, 0]
    ∧ win0_3.index t = ![0, 0]
    ∧ win0_4.index t = ![0, 0]
    ∧ win0_5.index t = ![0, 0]
    ∧ win0_6.index t = ![t.val, 0]
    ∧ win0_7.index t = ![0, 0]
    ∧ win0_8.index t = ![0, 0]
    ∧ win0_9.index t = ![0, 0] :=
  (by decide +kernel : ∀ t : Fin grid0.N, _)

theorem dx_at (v0 v1 : FVec Ideal S512x1024 .f32) (v2 : FVec Ideal S512x1024 .bf16) (v4 v5 : FVec Ideal S1x1024 .f32)
    (h0 : Is v0 x) (h2 : Is v2 h) (h3 : Is v4 g) (h4 : Is v5 s) (p : Fin 512) (q : Fin 1024) :
    k0_pay11 v0 v1 v2 v4 v5 (ix2 p q) = v1 (ix2 p q) + ((dx x h g s p q : ℝ) : EReal) := by
  pointwise [k0_pay11, k0_pay9, k0_pay8, k0_pay7]
  simp only [h0 _ _, h2 _ _, h3 _ _, h4 _ _, word_1024, word_eps, one_real, ← EReal.coe_mul, ← EReal.coe_add, ← EReal.coe_sub,
    coe_sum, div_1024, level_1024, rsqrt_level]
  refine congrArg _ (congrArg _ ?_)
  simp only [dx, grad, unit, Fin.val_zero, Nat.cast_ofNat]
  simp only [mul_comm (g 0 _), ← mul_assoc]

theorem dg_at (v0 : FVec Ideal S512x1024 .f32) (v2 : FVec Ideal S512x1024 .bf16) (v5 a : FVec Ideal S1x1024 .f32)
    (h0 : Is v0 x) (h2 : Is v2 h) (h4 : Is v5 s) (j : S1x1024.Idx) :
    k0_pay4 (k0_pay12 v0 v2 v5) a j = a j + (((∑ r : Fin 512, h r (j 1) * unit 1024 x r (j 1)) * (1 + s 0 (j 1)) : ℝ) : EReal) := by
  idx_vars j
  pointwise [k0_pay4, k0_pay12, k0_pay10, k0_pay9, k0_pay8, k0_pay7]
  simp only [h0 _ _, h2 _ _, h4 _ _, word_1024, word_eps, one_real, ← EReal.coe_mul, ← EReal.coe_add, coe_sum, div_1024, level_1024, rsqrt_level,
    Fin.val_eq_zero, unit]

theorem dscale_at (v0 : FVec Ideal S512x1024 .f32) (v2 : FVec Ideal S512x1024 .bf16) (v4 a : FVec Ideal S1x1024 .f32)
    (h0 : Is v0 x) (h2 : Is v2 h) (h3 : Is v4 g) (j : S1x1024.Idx) :
    k0_pay5 (k0_pay13 v0 v2 v4) a j = a j + (((∑ r : Fin 512, h r (j 1) * unit 1024 x r (j 1)) * g 0 (j 1) : ℝ) : EReal) := by
  idx_vars j
  pointwise [k0_pay5, k0_pay13, k0_pay10, k0_pay9, k0_pay8, k0_pay7]
  simp only [h0 _ _, h2 _ _, h3 _ _, word_1024, word_eps, one_real, ← EReal.coe_mul, ← EReal.coe_add, coe_sum, div_1024, level_1024, rsqrt_level,
    Fin.val_eq_zero, unit]

theorem dshift_at (v2 : FVec Ideal S512x1024 .bf16) (a : FVec Ideal S1x1024 .f32) (h2 : Is v2 h) (j : S1x1024.Idx) :
    k0_pay6 (k0_pay7 v2) a j = a j + ((∑ r : Fin 512, h r (j 1) : ℝ) : EReal) := by
  idx_vars j
  pointwise [k0_pay6, k0_pay7]
  simp only [h2 _ _, coe_sum]

section Blocks

variable (c : Dev nD) (t : Fin cfg0.N)

theorem blk_0 (h0 : Is (φ := .f32) (m ((c : Thread nD τ).loc main_arg0)) x) : Is (φ := .f32) (iblk m c 0 t) (tile t x) := fun p q => by
  have ht : t.val < 32 := lt_of_lt_of_eq t.isLt N_0
  refine Eq.trans ?_ (h0 ⟨512 * t.val + p, by omega⟩ q)
  obtain ⟨e, -⟩ := idx t
  blk_ext [iblk, V, e]

theorem blk_1 (p : Fin 512) (q : Fin 1024) (hp : 512 * t.val + p.val < 16384) :
    iblk m c 1 t (ix2 p q) = m ((c : Thread nD τ).loc main_arg1) (ix2 (⟨512 * t.val + p, hp⟩ : Fin 16384) q) := by
  obtain ⟨-, e, -⟩ := idx t
  blk_ext [iblk, V, e]

theorem host_0 (h2 : Is (φ := .f32) (m ((c : Thread nD τ).loc main_arg2)) h) : Is (φ := .bf16) (V m c main_v0) h := fun p q => by
  unfold V
  after_results_simp
  pointwise
  exact h2 p q

theorem blk_2 (h2 : Is (φ := .f32) (m ((c : Thread nD τ).loc main_arg2)) h) : Is (φ := .bf16) (iblk m c 2 t) (tile t h) := fun p q => by
  have ht : t.val < 32 := lt_of_lt_of_eq t.isLt N_0
  refine Eq.trans ?_ (host_0 m c h2 ⟨512 * t.val + p, by omega⟩ q)
  obtain ⟨-, -, e, -⟩ := idx t
  blk_ext [iblk, e]

theorem blk_3 (h3 : Is (φ := .f32) (m ((c : Thread nD τ).loc main_arg3)) g) : Is (φ := .f32) (iblk m c 3 t) g := fun p q => by
  refine Eq.trans ?_ (h3 p q)
  obtain ⟨-, -, -, e, -⟩ := idx t
  blk_ext [iblk, V, e]

theorem blk_4 (h4 : Is (φ := .f32) (m ((c : Thread nD τ).loc main_arg4)) s) : Is (φ := .f32) (iblk m c 4 t) s := fun p q => by
  refine Eq.trans ?_ (h4 p q)
  obtain ⟨-, -, -, -, e, -⟩ := idx t
  blk_ext [iblk, V, e]

end Blocks

section Final

variable (c : Dev nD)
  (h0 : Is (φ := .f32) (m ((c : Thread nD τ).loc main_arg0)) x)
  (h2 : Is (φ := .f32) (m ((c : Thread nD τ).loc main_arg2)) h) (h3 : Is (φ := .f32) (m ((c : Thread nD τ).loc main_arg3)) g)
  (h4 : Is (φ := .f32) (m ((c : Thread nD τ).loc main_arg4)) s)

include h0 h2 h3 h4 in
theorem point_6 (t : Fin cfg0.N) (y : S512x1024.Idx) :
    k0_pay11 (F := Ideal) (iblk m c 0 t) (iblk m c 1 t) (iblk m c 2 t) (iblk m c 3 t) (iblk m c 4 t) y
      = addf (m ((c : Thread nD τ).loc main_arg1)) (arr (a := 16384) (b := 1024) (φ := .f32) (dx x h g s)) ((win0_6.blk t).view.emb y) := by
  idx_vars y
  have ht : t.val < 32 := lt_of_lt_of_eq t.isLt N_0
  refine (dx_at _ _ _ _ _ (blk_0 m c t h0) (blk_2 m c t h2) (blk_3 m c t h3) (blk_4 m c t h4) _ _).trans ?_
  have e : (win0_6.blk t).view.emb (ix2 y0 y1) = ix2 (⟨512 * t.val + y0.val, by omega⟩ : Fin 16384) y1 := by
    obtain ⟨-, -, -, -, -, -, e, -⟩ := idx t
    blk_ext [e]
  refine Eq.trans ?_ (congrArg (addf (m ((c : Thread nD τ).loc main_arg1)) (arr (a := 16384) (b := 1024) (φ := .f32) (dx x h g s))) e).symm
  exact congrArg₂ (· + ·) (blk_1 m c t y0 y1 (by omega)) rfl

include h0 h2 h3 h4 in
theorem final_6 : (dats m 0 c).arrAt 6 (cfgs 0).N = addf (m ((c : Thread nD τ).loc main_arg1)) (arr (a := 16384) (b := 1024) (φ := .f32) (dx x h g s)) := by
  refine (dats m 0 c).arrAt_eq_of_covers 6 _ (by decide +kernel) fun t hf y => ?_
  blk_simp
  rw [after0_6]
  by_cases k : t.val % 32 = 0
  · rw [outsAt0_A m c t k]; frame_out; exact point_6 m c h0 h2 h3 h4 t y
  · rw [outsAt0_B m c t k]; frame_out; exact point_6 m c h0 h2 h3 h4 t y

include h0 h2 h4 in
theorem final_7 : (dats m 0 c).arrAt 7 (cfgs 0).N = arr (a := 1) (b := 1024) (φ := .f32) (dg x h s) := by
  refine (dats m 0 c).arrAt_eq_of_covers 7 _ (by decide +kernel) fun t hf y => ?_
  have ht : t.val < 32 := lt_of_lt_of_eq t.isLt N_0
  have e : (win0_7.blk t).view.emb y = y := by
    obtain ⟨-, -, -, -, -, -, -, e, -⟩ := idx t
    blk_ext [e]
  blk_simp
  rw [after0_7, Pipeline.eq_sum_fin_of_reset_step_apply_of_flush (fun n h => (outsAt0 m c n h).2.1) 32 (fun _ => 0)
    (fun t j => (((∑ r : Fin 512, h (512 * t.val + r) (j 1) * unit 1024 x (512 * t.val + r) (j 1)) * (1 + s 0 (j 1)) : ℝ) : EReal))
    (fun t k j => by rw [outsAt0_A m c t k]; frame_out; exact (dg_at _ _ _ _ (blk_0 m c t h0) (blk_2 m c t h2) (blk_4 m c t h4) j).trans (by rw [show k0_pay1 (F := Ideal) j = 0 by pointwise [k0_pay1]]; rfl))
    (fun t k j => by rw [outsAt0_B m c t k]; frame_out; exact dg_at _ _ _ _ (blk_0 m c t h0) (blk_2 m c t h2) (blk_4 m c t h4) j)
    t ((flush0_7 t).mp hf) _, zero_add, e]
  exact sum_tiles_mul (fun r => h r (y 1) * unit 1024 x r (y 1)) _ t ht

include h0 h2 h3 in
theorem final_8 : (dats m 0 c).arrAt 8 (cfgs 0).N = arr (a := 1) (b := 1024) (φ := .f32) (dscale x h g) := by
  refine (dats m 0 c).arrAt_eq_of_covers 8 _ (by decide +kernel) fun t hf y => ?_
  have ht : t.val < 32 := lt_of_lt_of_eq t.isLt N_0
  have e : (win0_8.blk t).view.emb y = y := by
    obtain ⟨-, -, -, -, -, -, -, -, e, -⟩ := idx t
    blk_ext [e]
  blk_simp
  rw [after0_8, Pipeline.eq_sum_fin_of_reset_step_apply_of_flush (fun n h => (outsAt0 m c n h).2.2.1) 32 (fun _ => 0)
    (fun t j => (((∑ r : Fin 512, h (512 * t.val + r) (j 1) * unit 1024 x (512 * t.val + r) (j 1)) * g 0 (j 1) : ℝ) : EReal))
    (fun t k j => by rw [outsAt0_A m c t k]; frame_out; exact (dscale_at _ _ _ _ (blk_0 m c t h0) (blk_2 m c t h2) (blk_3 m c t h3) j).trans (by rw [show k0_pay2 (F := Ideal) j = 0 by pointwise [k0_pay2]]; rfl))
    (fun t k j => by rw [outsAt0_B m c t k]; frame_out; exact dscale_at _ _ _ _ (blk_0 m c t h0) (blk_2 m c t h2) (blk_3 m c t h3) j)
    t ((flush0_8 t).mp hf) _, zero_add, e]
  exact sum_tiles_mul (fun r => h r (y 1) * unit 1024 x r (y 1)) _ t ht

include h2 in
theorem final_9 : (dats m 0 c).arrAt 9 (cfgs 0).N = arr (a := 1) (b := 1024) (φ := .f32) (dshift h) := by
  refine (dats m 0 c).arrAt_eq_of_covers 9 _ (by decide +kernel) fun t hf y => ?_
  have ht : t.val < 32 := lt_of_lt_of_eq t.isLt N_0
  have e : (win0_9.blk t).view.emb y = y := by
    obtain ⟨-, -, -, -, -, -, -, -, -, e⟩ := idx t
    blk_ext [e]
  blk_simp
  rw [after0_9, Pipeline.eq_sum_fin_of_reset_step_apply_of_flush (fun n h => (outsAt0 m c n h).2.2.2) 32 (fun _ => 0)
    (fun t j => ((∑ r : Fin 512, h (512 * t.val + r) (j 1) : ℝ) : EReal))
    (fun t k j => by rw [outsAt0_A m c t k]; frame_out; exact (dshift_at _ _ (blk_2 m c t h2) j).trans (by rw [show k0_pay3 (F := Ideal) j = 0 by pointwise [k0_pay3]]; rfl))
    (fun t k j => by rw [outsAt0_B m c t k]; frame_out; exact dshift_at _ _ (blk_2 m c t h2) j)
    t ((flush0_9 t).mp hf) _, zero_add, e]
  exact sum_tiles (fun r => h r (y 1)) t ht

end Final

end Cert.AdalnFirstIdeal.Grid

end
-- ==== Proof.AdalnFirst.Pair.lean ====
/- The backward call of the first layer's modulated norm against the derivative of the norm's lines. -/
module

public import proofs.«01_k».proof.Defs
public import proofs.«01_k».proof.Proof.Gen.Pre_adalnfirst_finite
public import proofs.«01_k».proof.Proof.AdalnFirst.Kernel
public import proofs.«01_k».proof.Proof.AdalnFirst.Spec

@[expose] public section

set_option maxRecDepth 16384

noncomputable section

namespace Cert.Proof.AdalnFirst

open Idealize.ShloMosaic Idealize.SL.Sem Cert.Proof.Norm

/-- The derivative's program runs and keeps its arguments; it declares no semaphore. -/
theorem ref_frame : Cert.quiescent_AdalnFirstRefIdeal := fun m ρ _ =>
  (θ_run Cert.AdalnFirstRefIdeal.defs _ _).mono (fun r h => ⟨fun c => (h c).2.2.2.2, sem_eq_zero_of_no_sems (by decide) r.2⟩)
    (Cert.AdalnFirstRefIdeal.Value.run m ρ)

section
variable (m : (ℓ : Loc Cert.AdalnFirstIdeal.nD Cert.AdalnFirstIdeal.τ Cert.AdalnFirstIdeal.sig) → Buf (Elt Ideal) ℓ) (c : Dev Cert.AdalnFirstIdeal.nD)

/-- The numbers of the residual stream, the cotangent, the norm's weight and the scale. -/
def stream : ℕ → ℕ → ℝ := reals (a := 16384) (b := 1024) (φ := .f32) (m ((c.tc : Thread Cert.AdalnFirstIdeal.nD Cert.AdalnFirstIdeal.τ).loc Cert.AdalnFirstIdeal.main_arg0))
def cotangent : ℕ → ℕ → ℝ := reals (a := 16384) (b := 1024) (φ := .f32) (m ((c.tc : Thread Cert.AdalnFirstIdeal.nD Cert.AdalnFirstIdeal.τ).loc Cert.AdalnFirstIdeal.main_arg2))
def weight : ℕ → ℕ → ℝ := reals (a := 1) (b := 1024) (φ := .f32) (m ((c.tc : Thread Cert.AdalnFirstIdeal.nD Cert.AdalnFirstIdeal.τ).loc Cert.AdalnFirstIdeal.main_arg3))
def scale : ℕ → ℕ → ℝ := reals (a := 1) (b := 1024) (φ := .f32) (m ((c.tc : Thread Cert.AdalnFirstIdeal.nD Cert.AdalnFirstIdeal.τ).loc Cert.AdalnFirstIdeal.main_arg4))

end

/-- Every result of the call is the derivative of the norm's lines, where the four arguments it multiplies are finite. -/
theorem algebraic : Cert.algebraic_AdalnFirstIdeal_AdalnFirstRefIdeal_pre_adalnfirst_finite := by
  intro m g m' g' hf ha
  have H (c : Dev Cert.AdalnFirstIdeal.nD) := (⟨is_reals fun i => congrFun (hf c).1 i, is_reals fun i => congrFun (hf c).2.1 i,
    is_reals fun i => congrFun (hf c).2.2.1 i, is_reals fun i => congrFun (hf c).2.2.2 i⟩ :
      Is (φ := .f32) (m ((c.tc : Thread Cert.AdalnFirstIdeal.nD Cert.AdalnFirstIdeal.τ).loc Cert.AdalnFirstIdeal.main_arg0)) (stream m c) ∧ Is (φ := .f32) (m ((c.tc : Thread Cert.AdalnFirstIdeal.nD Cert.AdalnFirstIdeal.τ).loc Cert.AdalnFirstIdeal.main_arg2)) (cotangent m c)
        ∧ Is (φ := .f32) (m ((c.tc : Thread Cert.AdalnFirstIdeal.nD Cert.AdalnFirstIdeal.τ).loc Cert.AdalnFirstIdeal.main_arg3)) (weight m c) ∧ Is (φ := .f32) (m ((c.tc : Thread Cert.AdalnFirstIdeal.nD Cert.AdalnFirstIdeal.τ).loc Cert.AdalnFirstIdeal.main_arg4)) (scale m c))
  refine ⟨fun c => addf (m ((c.tc : Thread Cert.AdalnFirstIdeal.nD Cert.AdalnFirstIdeal.τ).loc Cert.AdalnFirstIdeal.main_arg1)) (arr (φ := .f32) (Cert.AdalnFirstRefIdeal.Spec.dx (stream m c) (cotangent m c) (weight m c) (scale m c))),
    fun c => arr (φ := .f32) (Cert.AdalnFirstRefIdeal.Spec.dg (stream m c) (cotangent m c) (scale m c)),
    fun c => arr (φ := .f32) (Cert.AdalnFirstRefIdeal.Spec.dscale (stream m c) (cotangent m c) (weight m c)),
    fun c => arr (φ := .f32) (Cert.AdalnFirstRefIdeal.Spec.dshift (cotangent m c)),
    (θ_run _ _ _).mono (fun r h c => ?_) (Cert.AdalnFirstIdeal.Value.run_blocks m g),
    (θ_run _ _ _).mono (fun r h c => ?_) (Cert.AdalnFirstRefIdeal.Spec.run m' g' (stream m) (cotangent m) (weight m) (scale m) fun c => ?_)⟩
  · obtain ⟨h0, h2, h3, h4⟩ := H c
    obtain ⟨k0, k1, k2, k3, ho⟩ := h c
    exact ⟨k0.trans (Cert.AdalnFirstIdeal.Grid.final_6 m c h0 h2 h3 h4), k1.trans (Cert.AdalnFirstIdeal.Grid.final_7 m c h0 h2 h4),
      k2.trans (Cert.AdalnFirstIdeal.Grid.final_8 m c h0 h2 h3), k3.trans (Cert.AdalnFirstIdeal.Grid.final_9 m c h2), ho⟩
  · obtain ⟨k0, k1, k2, k3, ho⟩ := h c
    obtain ⟨-, a1, -⟩ := ha c
    rw [a1] at k0
    exact ⟨k0, k1, k2, k3, ho⟩
  · obtain ⟨a0, -, a2, a3, a4, -⟩ := ha c
    obtain ⟨h0, h2, h3, h4⟩ := H c
    rw [a0, a2, a3, a4]
    exact ⟨h0, h2, h3, h4⟩

end Cert.Proof.AdalnFirst

end
-- ==== Proof.LossLast.Spec.lean ====
/- The derivative of the loss and the last residual norm: what each of its results holds, over the real numbers. -/
module

public import proofs.«01_k».proof.Proof.Gen.LossLastRefIdeal.Run
public import proofs.«01_k».proof.Proof.Norm.Real
public import Idealize.ShloMosaic.Lib.Pointwise

@[expose] public section

set_option maxRecDepth 16384

noncomputable section

namespace Cert.LossLastRefIdeal.Spec

open Cert.LossLastRefIdeal Cert.LossLastRefIdeal.Gen Idealize.ShloMosaic Idealize.ShloMosaic.TcCoe Idealize.SL.Sem Cert.Proof.Norm

/-- The prediction less the target: the stream plus the gated, weighted normed rows, less the target. -/
def err (x f y a g : ℕ → ℕ → ℝ) (p q : ℕ) : ℝ := x p q + unit 1024 f p q * (a 0 q * g 0 q) - y p q

/-- The gradient in the prediction: half of a mean of squares has the mean of the numbers as its derivative. -/
def dx (x f y a g : ℕ → ℕ → ℝ) (p q : ℕ) : ℝ := err x f y a g p q * (1 / 1024)

/-- The gradient in the array that is normed. -/
def df (x f y a g : ℕ → ℕ → ℝ) (p q : ℕ) : ℝ := grad 1024 f (fun p q => dx x f y a g p q * (a 0 q * g 0 q)) p q

/-- The gradient in the product of the gate and the weight: what each of the two has but for the other's factor. -/
def both (x f y a g : ℕ → ℕ → ℝ) (q : ℕ) : ℝ := ∑ r : Fin 16384, dx x f y a g r q * unit 1024 f r q

def dgate (x f y a g : ℕ → ℕ → ℝ) (_ q : ℕ) : ℝ := both x f y a g q * g 0 q

def dg (x f y a g : ℕ → ℕ → ℝ) (_ q : ℕ) : ℝ := both x f y a g q * a 0 q

/-- Each column's share of the loss. -/
def loss (x f y a g : ℕ → ℕ → ℝ) (_ q : ℕ) : ℝ := (∑ r : Fin 16384, err x f y a g r q * err x f y a g r q) * (1 / 2048)

variable (m : (ℓ : Loc nD τ sig) → Buf (Elt Ideal) ℓ)

theorem run (ρ : Dev nD → PrngReg) (x f y a g : Dev nD → ℕ → ℕ → ℝ)
    (H : ∀ c : Dev nD, Is (φ := .f32) (m ((c.tc : Thread nD τ).loc main_arg0)) (x c) ∧ Is (φ := .f32) (m ((c.tc : Thread nD τ).loc main_arg1)) (f c)
      ∧ Is (φ := .f32) (m ((c.tc : Thread nD τ).loc main_arg2)) (y c) ∧ Is (φ := .f32) (m ((c.tc : Thread nD τ).loc main_arg3)) (a c)
      ∧ Is (φ := .f32) (m ((c.tc : Thread nD τ).loc main_arg4)) (g c)) :
    θ_run defs (onTc (τ := τ) (main (F := Ideal))) ⟨m, fun _ => 0, ρ⟩ fun r => ∀ c : Dev nD,
      r.2.mem ((c.tc : Thread nD τ).loc main_v32) = arr (φ := .f32) (dx (x c) (f c) (y c) (a c) (g c))
      ∧ r.2.mem ((c.tc : Thread nD τ).loc main_v74) = arr (φ := .bf16) (df (x c) (f c) (y c) (a c) (g c))
      ∧ r.2.mem ((c.tc : Thread nD τ).loc main_v37) = arr (φ := .f32) (dgate (x c) (f c) (y c) (a c) (g c))
      ∧ r.2.mem ((c.tc : Thread nD τ).loc main_v40) = arr (φ := .f32) (dg (x c) (f c) (y c) (a c) (g c))
      ∧ r.2.mem ((c.tc : Thread nD τ).loc main_v80) = arr (φ := .f32) (loss (x c) (f c) (y c) (a c) (g c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r k c => ?_) (Value.run m ρ)
  obtain ⟨k0, k1, k2, k3, k4, kr⟩ := k c
  obtain ⟨h0, h1, h2, h3, h4⟩ := H c
  refine ⟨k0.trans (eq_arr fun p q => ?_), k1.trans (eq_arr fun p q => ?_), k2.trans (eq_arr fun p q => ?_),
    k3.trans (eq_arr fun p q => ?_), k4.trans (eq_arr fun p q => ?_), kr⟩ <;> clear k0 k1 k2 k3 k4 kr
  on_goal 2 => unfold Value.res_main_v74
  all_goals
    pointwise
    simp only [h0 _ _, h1 _ _, h2 _ _, h3 _ _, h4 _ _, word_1024, word_eps, word_half, word_neg_half, word_2, one_real, ← EReal.coe_mul,
      ← EReal.coe_add, ← EReal.coe_sub, coe_sum, div_1024, level_1024, rsqrt_level, div_level, Fin.sum_univ_one, Fin.val_eq_zero]
    refine congrArg _ ?_
  · simp only [dx, err, unit]
    ring
  · rw [df, ← grad_eq 1024 _ _ _ _ _ rfl]
    have e (k : ℕ) : a c 0 k * (1 / 2 * (1 / 1024) * (2 * (x c p k + a c 0 k * (f c p k * inv 1024 (f c) p * g c 0 k) - y c p k))) * g c 0 k
        = dx (x c) (f c) (y c) (a c) (g c) p k * (a c 0 k * g c 0 k) := by
      simp only [dx, err, unit]
      ring
    simp only [e, Nat.cast_ofNat]
  · simp only [dgate, both, dx, err, unit, Finset.sum_mul]
    exact Finset.sum_congr rfl fun k _ => by ring
  · simp only [dg, both, dx, err, unit, Finset.sum_mul]
    exact Finset.sum_congr rfl fun k _ => by ring
  · simp only [loss, err, unit, Finset.sum_mul, Finset.mul_sum]
    exact Finset.sum_congr rfl fun k _ => by ring

end Cert.LossLastRefIdeal.Spec

end
-- ==== Proof.LossLast.Kernel.lean ====
/- The kernel of the loss and the last residual norm, backward: what a grid point stores, and the arrays the grid leaves. -/
module

public import proofs.«01_k».proof.Proof.Gen.LossLastIdeal.Value
public import proofs.«01_k».proof.Proof.LossLast.Spec
public import Idealize.ShloMosaic.Lib.Pipeline.ValueKit

@[expose] public section

set_option maxRecDepth 16384

noncomputable section

namespace Cert.LossLastIdeal.Grid

open Cert.LossLastIdeal Cert.LossLastIdeal.Gen Idealize.ShloMosaic Idealize.ShloMosaic.TcCoe Idealize.SL.Sem Cert.Proof.Norm
open Idealize.ShloMosaic.Pipeline (Dat)
open Cert.LossLastRefIdeal.Spec (err dx df both dgate dg loss)

variable (m : (ℓ : Loc nD τ sig) → Buf (Elt Ideal) ℓ) {x f y a g : ℕ → ℕ → ℝ}

theorem idx : ∀ t : Fin cfg0.N, win0_0.index t = ![t.val, 0]
    ∧ win0_1.index t = ![t.val, 0]
    ∧ win0_2.index t = ![t.val, 0]
    ∧ win0_3.index t = ![0, 0]
    ∧ win0_4.index t = ![0, 0]
    ∧ win0_5.index t = ![t.val, 0]
    ∧ win0_6.index t = ![t.val, 0]
    ∧ win0_7.index t = ![0, 0]
    ∧ win0_8.index t = ![0, 0]
    ∧ win0_9.index t = ![0, 0] :=
  (by decide +kernel : ∀ t : Fin grid0.N, _)

section Tile

variable {v0 v3 : FVec Ideal S512x1024 .f32} {v1 : FVec Ideal S512x1024 .bf16} {v4 v5 : FVec Ideal S1x1024 .f32}
  (h0 : Is v0 x) (h1 : Is v1 f) (h2 : Is v3 y) (h3 : Is v4 a) (h4 : Is v5 g)

include h1 in
theorem inv_at : Is (k0_pay9 v1) (fun p _ => inv 1024 f p) := fun p q => by
  pointwise [k0_pay9, k0_pay8]
  simp only [h1 _ _, word_1024, word_eps, ← EReal.coe_mul, ← EReal.coe_add, coe_sum, div_1024, level_1024, rsqrt_level]

include h1 in
theorem unit_at : Is (k0_pay10 v1) (unit 1024 f) := fun p q => by
  pointwise [k0_pay10, k0_pay8]
  simp only [h1 _ _, inv_at h1 _ _, ← EReal.coe_mul, unit]

include h0 h1 h2 h3 h4 in
theorem err_at : Is (k0_pay12 v0 v1 v3 v4 v5) (err x f y a g) := fun p q => by
  pointwise [k0_pay12, k0_pay11]
  simp only [h0 _ _, h2 _ _, h3 _ _, h4 _ _, unit_at h1 _ _, ← EReal.coe_mul, ← EReal.coe_add, ← EReal.coe_sub, err, Fin.val_zero]

include h0 h1 h2 h3 h4 in
theorem dx_at : Is (k0_pay13 v0 v1 v3 v4 v5) (dx x f y a g) := fun p q => by
  pointwise [k0_pay13]
  simp only [err_at h0 h1 h2 h3 h4 _ _, word_1024th, ← EReal.coe_mul, dx]

include h0 h1 h2 h3 h4 in
theorem df_at : Is (k0_pay1 (k0_pay15 v0 v1 v3 v4 v5)) (df x f y a g) := fun p q => by
  pointwise [k0_pay1, k0_pay15, k0_pay11]
  simp only [dx_at h0 h1 h2 h3 h4 _ _, unit_at h1 _ _, inv_at h1 _ _, h3 _ _, h4 _ _, word_1024, ← EReal.coe_mul, ← EReal.coe_sub,
    coe_sum, div_1024, df, grad, Fin.val_zero, Nat.cast_ofNat]

include h0 h1 h2 h3 h4 in
theorem both_at : Is (k0_pay14 v0 v1 v3 v4 v5) (fun _ q => ∑ r : Fin 512, dx x f y a g r q * unit 1024 f r q) := fun p q => by
  pointwise [k0_pay14]
  simp only [dx_at h0 h1 h2 h3 h4 _ _, unit_at h1 _ _, ← EReal.coe_mul, coe_sum]

include h0 h1 h2 h3 h4 in
theorem dgate_at (b : FVec Ideal S1x1024 .f32) (j : S1x1024.Idx) : k0_pay5 v5 (k0_pay14 v0 v1 v3 v4 v5) b j
    = b j + (((∑ r : Fin 512, dx x f y a g r (j 1) * unit 1024 f r (j 1)) * g 0 (j 1) : ℝ) : EReal) := by
  idx_vars j
  pointwise [k0_pay5]
  simp only [both_at h0 h1 h2 h3 h4 _ _, h4 _ _, ← EReal.coe_mul, Fin.val_eq_zero]

include h0 h1 h2 h3 h4 in
theorem dg_at (b : FVec Ideal S1x1024 .f32) (j : S1x1024.Idx) : k0_pay6 v4 (k0_pay14 v0 v1 v3 v4 v5) b j
    = b j + (((∑ r : Fin 512, dx x f y a g r (j 1) * unit 1024 f r (j 1)) * a 0 (j 1) : ℝ) : EReal) := by
  idx_vars j
  pointwise [k0_pay6]
  simp only [both_at h0 h1 h2 h3 h4 _ _, h3 _ _, ← EReal.coe_mul, Fin.val_eq_zero]

include h0 h1 h2 h3 h4 in
theorem loss_at (b : FVec Ideal S1x1024 .f32) (j : S1x1024.Idx) : k0_pay7 (k0_pay16 v0 v1 v3 v4 v5) b j
    = b j + (((∑ r : Fin 512, err x f y a g r (j 1) * err x f y a g r (j 1)) * (1 / 2048) : ℝ) : EReal) := by
  idx_vars j
  pointwise [k0_pay7, k0_pay16]
  simp only [err_at h0 h1 h2 h3 h4 _ _, word_2048th, ← EReal.coe_mul, coe_sum]

end Tile

section Final

variable (c : Dev nD)
  (h0 : Is (φ := .f32) (m ((c : Thread nD τ).loc main_arg0)) x) (h1 : Is (φ := .f32) (m ((c : Thread nD τ).loc main_arg1)) f)
  (h2 : Is (φ := .f32) (m ((c : Thread nD τ).loc main_arg2)) y) (h3 : Is (φ := .f32) (m ((c : Thread nD τ).loc main_arg3)) a)
  (h4 : Is (φ := .f32) (m ((c : Thread nD τ).loc main_arg4)) g)

include h0 in
theorem blk_0 (t : Fin cfg0.N) : Is (φ := .f32) (iblk m c 0 t) (tile t x) := fun p q => by
  have ht : t.val < 32 := lt_of_lt_of_eq t.isLt N_0
  refine Eq.trans ?_ (h0 ⟨512 * t.val + p, by omega⟩ q)
  obtain ⟨e, -⟩ := idx t
  blk_ext [iblk, V, e]

include h1 in
theorem host_0 : Is (φ := .bf16) (V m c main_v0) f := fun p q => by
  unfold V
  after_results_simp
  pointwise
  exact h1 p q

include h1 in
theorem blk_1 (t : Fin cfg0.N) : Is (φ := .bf16) (iblk m c 1 t) (tile t f) := fun p q => by
  have ht : t.val < 32 := lt_of_lt_of_eq t.isLt N_0
  refine Eq.trans ?_ (host_0 m c h1 ⟨512 * t.val + p, by omega⟩ q)
  obtain ⟨-, e, -⟩ := idx t
  blk_ext [iblk, e]

include h2 in
theorem blk_2 (t : Fin cfg0.N) : Is (φ := .f32) (iblk m c 2 t) (tile t y) := fun p q => by
  have ht : t.val < 32 := lt_of_lt_of_eq t.isLt N_0
  refine Eq.trans ?_ (h2 ⟨512 * t.val + p, by omega⟩ q)
  obtain ⟨-, -, e, -⟩ := idx t
  blk_ext [iblk, V, e]

include h3 in
theorem blk_3 (t : Fin cfg0.N) : Is (φ := .f32) (iblk m c 3 t) a := fun p q => by
  refine Eq.trans ?_ (h3 p q)
  obtain ⟨-, -, -, e, -⟩ := idx t
  blk_ext [iblk, V, e]

include h4 in
theorem blk_4 (t : Fin cfg0.N) : Is (φ := .f32) (iblk m c 4 t) g := fun p q => by
  refine Eq.trans ?_ (h4 p q)
  obtain ⟨-, -, -, -, e, -⟩ := idx t
  blk_ext [iblk, V, e]

include h0 h1 h2 h3 h4 in
theorem final_5 : (dats m 0 c).arrAt 5 (cfgs 0).N = arr (a := 16384) (b := 1024) (φ := .f32) (dx x f y a g) := by
  refine (dats m 0 c).arrAt_eq_of_covers 5 _ (by decide +kernel) fun t hf i => ?_
  have ht : t.val < 32 := lt_of_lt_of_eq t.isLt N_0
  blk_simp
  idx_vars i
  have e : (win0_5.blk t).view.emb (ix2 i0 i1) = ix2 (⟨512 * t.val + i0.val, by omega⟩ : Fin 16384) i1 := by
    obtain ⟨-, -, -, -, -, e, -⟩ := idx t
    blk_ext [e]
  rw [after0_5]
  refine Eq.trans ?_ (congrArg (arr (a := 16384) (b := 1024) (φ := .f32) (dx x f y a g)) e).symm
  by_cases k : t.val % 32 = 0
  · rw [outsAt0_A m c t k]; frame_out; exact dx_at (blk_0 m c h0 t) (blk_1 m c h1 t) (blk_2 m c h2 t) (blk_3 m c h3 t) (blk_4 m c h4 t) i0 i1
  · rw [outsAt0_B m c t k]; frame_out; exact dx_at (blk_0 m c h0 t) (blk_1 m c h1 t) (blk_2 m c h2 t) (blk_3 m c h3 t) (blk_4 m c h4 t) i0 i1

include h0 h1 h2 h3 h4 in
theorem final_6 : (dats m 0 c).arrAt 6 (cfgs 0).N = arr (a := 16384) (b := 1024) (φ := .bf16) (df x f y a g) := by
  refine (dats m 0 c).arrAt_eq_of_covers 6 _ (by decide +kernel) fun t hf i => ?_
  have ht : t.val < 32 := lt_of_lt_of_eq t.isLt N_0
  blk_simp
  idx_vars i
  have e : (win0_6.blk t).view.emb (ix2 i0 i1) = ix2 (⟨512 * t.val + i0.val, by omega⟩ : Fin 16384) i1 := by
    obtain ⟨-, -, -, -, -, -, e, -⟩ := idx t
    blk_ext [e]
  rw [after0_6]
  refine Eq.trans ?_ (congrArg (arr (a := 16384) (b := 1024) (φ := .bf16) (df x f y a g)) e).symm
  by_cases k : t.val % 32 = 0
  · rw [outsAt0_A m c t k]; frame_out; exact df_at (blk_0 m c h0 t) (blk_1 m c h1 t) (blk_2 m c h2 t) (blk_3 m c h3 t) (blk_4 m c h4 t) i0 i1
  · rw [outsAt0_B m c t k]; frame_out; exact df_at (blk_0 m c h0 t) (blk_1 m c h1 t) (blk_2 m c h2 t) (blk_3 m c h3 t) (blk_4 m c h4 t) i0 i1

include h0 h1 h2 h3 h4 in
theorem final_7 : (dats m 0 c).arrAt 7 (cfgs 0).N = arr (a := 1) (b := 1024) (φ := .f32) (dgate x f y a g) := by
  refine (dats m 0 c).arrAt_eq_of_covers 7 _ (by decide +kernel) fun t hf i => ?_
  have ht : t.val < 32 := lt_of_lt_of_eq t.isLt N_0
  have e : (win0_7.blk t).view.emb i = i := by
    obtain ⟨-, -, -, -, -, -, -, e, -⟩ := idx t
    blk_ext [e]
  blk_simp
  rw [after0_7, Pipeline.eq_sum_fin_of_reset_step_apply_of_flush (fun n h => (outsAt0 m c n h).2.2.1) 32 (fun _ => 0)
    (fun t j => (((∑ r : Fin 512, dx x f y a g (512 * t.val + r) (j 1) * unit 1024 f (512 * t.val + r) (j 1)) * g 0 (j 1) : ℝ) : EReal))
    (fun t k j => by rw [outsAt0_A m c t k]; frame_out; exact (dgate_at (blk_0 m c h0 t) (blk_1 m c h1 t) (blk_2 m c h2 t) (blk_3 m c h3 t) (blk_4 m c h4 t) _ j).trans (by rw [show k0_pay2 (F := Ideal) j = 0 by pointwise [k0_pay2]]; rfl))
    (fun t k j => by rw [outsAt0_B m c t k]; frame_out; exact dgate_at (blk_0 m c h0 t) (blk_1 m c h1 t) (blk_2 m c h2 t) (blk_3 m c h3 t) (blk_4 m c h4 t) _ j)
    t ((flush0_7 t).mp hf) _, zero_add, e]
  exact sum_tiles_mul (fun r => dx x f y a g r (i 1) * unit 1024 f r (i 1)) _ t ht

include h0 h1 h2 h3 h4 in
theorem final_8 : (dats m 0 c).arrAt 8 (cfgs 0).N = arr (a := 1) (b := 1024) (φ := .f32) (dg x f y a g) := by
  refine (dats m 0 c).arrAt_eq_of_covers 8 _ (by decide +kernel) fun t hf i => ?_
  have ht : t.val < 32 := lt_of_lt_of_eq t.isLt N_0
  have e : (win0_8.blk t).view.emb i = i := by
    obtain ⟨-, -, -, -, -, -, -, -, e, -⟩ := idx t
    blk_ext [e]
  blk_simp
  rw [after0_8, Pipeline.eq_sum_fin_of_reset_step_apply_of_flush (fun n h => (outsAt0 m c n h).2.2.2.1) 32 (fun _ => 0)
    (fun t j => (((∑ r : Fin 512, dx x f y a g (512 * t.val + r) (j 1) * unit 1024 f (512 * t.val + r) (j 1)) * a 0 (j 1) : ℝ) : EReal))
    (fun t k j => by rw [outsAt0_A m c t k]; frame_out; exact (dg_at (blk_0 m c h0 t) (blk_1 m c h1 t) (blk_2 m c h2 t) (blk_3 m c h3 t) (blk_4 m c h4 t) _ j).trans (by rw [show k0_pay3 (F := Ideal) j = 0 by pointwise [k0_pay3]]; rfl))
    (fun t k j => by rw [outsAt0_B m c t k]; frame_out; exact dg_at (blk_0 m c h0 t) (blk_1 m c h1 t) (blk_2 m c h2 t) (blk_3 m c h3 t) (blk_4 m c h4 t) _ j)
    t ((flush0_8 t).mp hf) _, zero_add, e]
  exact sum_tiles_mul (fun r => dx x f y a g r (i 1) * unit 1024 f r (i 1)) _ t ht

include h0 h1 h2 h3 h4 in
theorem final_9 : (dats m 0 c).arrAt 9 (cfgs 0).N = arr (a := 1) (b := 1024) (φ := .f32) (loss x f y a g) := by
  refine (dats m 0 c).arrAt_eq_of_covers 9 _ (by decide +kernel) fun t hf i => ?_
  have ht : t.val < 32 := lt_of_lt_of_eq t.isLt N_0
  have e : (win0_9.blk t).view.emb i = i := by
    obtain ⟨-, -, -, -, -, -, -, -, -, e⟩ := idx t
    blk_ext [e]
  blk_simp
  rw [after0_9, Pipeline.eq_sum_fin_of_reset_step_apply_of_flush (fun n h => (outsAt0 m c n h).2.2.2.2) 32 (fun _ => 0)
    (fun t j => (((∑ r : Fin 512, err x f y a g (512 * t.val + r) (j 1) * err x f y a g (512 * t.val + r) (j 1)) * (1 / 2048) : ℝ) : EReal))
    (fun t k j => by rw [outsAt0_A m c t k]; frame_out; exact (loss_at (blk_0 m c h0 t) (blk_1 m c h1 t) (blk_2 m c h2 t) (blk_3 m c h3 t) (blk_4 m c h4 t) _ j).trans (by rw [show k0_pay4 (F := Ideal) j = 0 by pointwise [k0_pay4]]; rfl))
    (fun t k j => by rw [outsAt0_B m c t k]; frame_out; exact loss_at (blk_0 m c h0 t) (blk_1 m c h1 t) (blk_2 m c h2 t) (blk_3 m c h3 t) (blk_4 m c h4 t) _ j)
    t ((flush0_9 t).mp hf) _, zero_add, e]
  exact sum_tiles_mul (fun r => err x f y a g r (i 1) * err x f y a g r (i 1)) _ t ht

end Final

end Cert.LossLastIdeal.Grid

end
-- ==== Proof.LossLast.Pair.lean ====
/- The backward call of the loss and the last residual norm against the derivative of the loss's lines. -/
module

public import proofs.«01_k».proof.Defs
public import proofs.«01_k».proof.Proof.Gen.Pre_losslast_finite
public import proofs.«01_k».proof.Proof.LossLast.Kernel
public import proofs.«01_k».proof.Proof.LossLast.Spec

@[expose] public section

set_option maxRecDepth 16384

noncomputable section

namespace Cert.Proof.LossLast

open Idealize.ShloMosaic Idealize.SL.Sem Cert.Proof.Norm

/-- The derivative's program runs and keeps its arguments; it declares no semaphore. -/
theorem ref_frame : Cert.quiescent_LossLastRefIdeal := fun m ρ _ =>
  (θ_run Cert.LossLastRefIdeal.defs _ _).mono (fun r h => ⟨fun c => (h c).2.2.2.2.2, sem_eq_zero_of_no_sems (by decide) r.2⟩)
    (Cert.LossLastRefIdeal.Value.run m ρ)

section
variable (m : (ℓ : Loc Cert.LossLastIdeal.nD Cert.LossLastIdeal.τ Cert.LossLastIdeal.sig) → Buf (Elt Ideal) ℓ) (c : Dev Cert.LossLastIdeal.nD)

/-- The numbers of the stream, the array that is normed, the target, the gate and the norm's weight. -/
def stream : ℕ → ℕ → ℝ := reals (a := 16384) (b := 1024) (φ := .f32) (m ((c.tc : Thread Cert.LossLastIdeal.nD Cert.LossLastIdeal.τ).loc Cert.LossLastIdeal.main_arg0))
def normed : ℕ → ℕ → ℝ := reals (a := 16384) (b := 1024) (φ := .f32) (m ((c.tc : Thread Cert.LossLastIdeal.nD Cert.LossLastIdeal.τ).loc Cert.LossLastIdeal.main_arg1))
def target : ℕ → ℕ → ℝ := reals (a := 16384) (b := 1024) (φ := .f32) (m ((c.tc : Thread Cert.LossLastIdeal.nD Cert.LossLastIdeal.τ).loc Cert.LossLastIdeal.main_arg2))
def gate : ℕ → ℕ → ℝ := reals (a := 1) (b := 1024) (φ := .f32) (m ((c.tc : Thread Cert.LossLastIdeal.nD Cert.LossLastIdeal.τ).loc Cert.LossLastIdeal.main_arg3))
def weight : ℕ → ℕ → ℝ := reals (a := 1) (b := 1024) (φ := .f32) (m ((c.tc : Thread Cert.LossLastIdeal.nD Cert.LossLastIdeal.τ).loc Cert.LossLastIdeal.main_arg4))

end

/-- Every result of the call is the derivative of the loss's lines (the last: the columns' shares of the loss), where the arguments are finite. -/
theorem algebraic : Cert.algebraic_LossLastIdeal_LossLastRefIdeal_pre_losslast_finite := by
  intro m g m' g' hf ha
  have H (c : Dev Cert.LossLastIdeal.nD) := (⟨is_reals fun i => congrFun (hf c).1 i, is_reals fun i => congrFun (hf c).2.1 i,
    is_reals fun i => congrFun (hf c).2.2.1 i, is_reals fun i => congrFun (hf c).2.2.2.1 i, is_reals fun i => congrFun (hf c).2.2.2.2 i⟩ :
      Is (φ := .f32) (m ((c.tc : Thread Cert.LossLastIdeal.nD Cert.LossLastIdeal.τ).loc Cert.LossLastIdeal.main_arg0)) (stream m c) ∧ Is (φ := .f32) (m ((c.tc : Thread Cert.LossLastIdeal.nD Cert.LossLastIdeal.τ).loc Cert.LossLastIdeal.main_arg1)) (normed m c) ∧ Is (φ := .f32) (m ((c.tc : Thread Cert.LossLastIdeal.nD Cert.LossLastIdeal.τ).loc Cert.LossLastIdeal.main_arg2)) (target m c) ∧ Is (φ := .f32) (m ((c.tc : Thread Cert.LossLastIdeal.nD Cert.LossLastIdeal.τ).loc Cert.LossLastIdeal.main_arg3)) (gate m c) ∧ Is (φ := .f32) (m ((c.tc : Thread Cert.LossLastIdeal.nD Cert.LossLastIdeal.τ).loc Cert.LossLastIdeal.main_arg4)) (weight m c))
  refine ⟨fun c => arr (φ := .f32) (Cert.LossLastRefIdeal.Spec.dx (stream m c) (normed m c) (target m c) (gate m c) (weight m c)),
    fun c => arr (φ := .bf16) (Cert.LossLastRefIdeal.Spec.df (stream m c) (normed m c) (target m c) (gate m c) (weight m c)),
    fun c => arr (φ := .f32) (Cert.LossLastRefIdeal.Spec.dgate (stream m c) (normed m c) (target m c) (gate m c) (weight m c)),
    fun c => arr (φ := .f32) (Cert.LossLastRefIdeal.Spec.dg (stream m c) (normed m c) (target m c) (gate m c) (weight m c)),
    fun c => arr (φ := .f32) (Cert.LossLastRefIdeal.Spec.loss (stream m c) (normed m c) (target m c) (gate m c) (weight m c)),
    (θ_run _ _ _).mono (fun r h c => ?_) (Cert.LossLastIdeal.Value.run_blocks m g),
    (θ_run _ _ _).mono (fun r h c => h c)
      (Cert.LossLastRefIdeal.Spec.run m' g' (stream m) (normed m) (target m) (gate m) (weight m) fun c => ?_)⟩
  · obtain ⟨h0, h1, h2, h3, h4⟩ := H c
    obtain ⟨k0, k1, k2, k3, k4, ho⟩ := h c
    exact ⟨k0.trans (Cert.LossLastIdeal.Grid.final_5 m c h0 h1 h2 h3 h4), k1.trans (Cert.LossLastIdeal.Grid.final_6 m c h0 h1 h2 h3 h4),
      k2.trans (Cert.LossLastIdeal.Grid.final_7 m c h0 h1 h2 h3 h4), k3.trans (Cert.LossLastIdeal.Grid.final_8 m c h0 h1 h2 h3 h4),
      k4.trans (Cert.LossLastIdeal.Grid.final_9 m c h0 h1 h2 h3 h4), ho⟩
  · obtain ⟨a0, a1, a2, a3, a4⟩ := ha c
    rw [a0, a1, a2, a3, a4]
    exact H c

end Cert.Proof.LossLast

end
-- ==== Proof.ShortConv.Spec.lean ====
/- The gradient of the gated short convolution, as formulas over the extended reals, and the reference's run stated with
   them. -/
module

public import proofs.«01_k».proof.Proof.Gen.ShortConvRefIdeal.Run
public import Idealize.ShloMosaic.Lib.Pointwise

@[expose] public section

set_option maxRecDepth 16384

noncomputable section

namespace Cert.ShortConvRefIdeal.Spec

open Cert.ShortConvRefIdeal Cert.ShortConvRefIdeal.Gen Idealize.ShloMosaic Idealize.ShloMosaic.TcCoe Idealize.SL.Sem

/-- The convolution's input (the product of the projection's second and third bands) `k` rows above row `r`, zero above
    the first row. -/
def above (p : FVec Ideal S16384x5896 .f32) (k : ℕ) (r : Fin 16384) (c : Fin 256) : EReal :=
  if h : k ≤ (r : ℕ) then
    p (ix2 (⟨r - k, by omega⟩ : Fin 16384) (⟨256 + c, by omega⟩ : Fin 5896))
      * p (ix2 (⟨r - k, by omega⟩ : Fin 16384) (⟨512 + c, by omega⟩ : Fin 5896))
  else 0

/-- Row `n` of the convolution's cotangent (the projection's first band times the result's), zero from the end on. -/
def ahead (p : FVec Ideal S16384x5896 .f32) (d : FVec Ideal S16384x256 .f32) (n : ℕ) (c : Fin 256) : EReal :=
  if h : n < 16384 then p (ix2 (⟨n, h⟩ : Fin 16384) (⟨c, by omega⟩ : Fin 5896)) * d (ix2 (⟨n, h⟩ : Fin 16384) c) else 0

/-- The convolution at row `r`. -/
def conv (p : FVec Ideal S16384x5896 .f32) (w : FVec Ideal S3x256 .f32) (r : Fin 16384) (c : Fin 256) : EReal :=
  w (ix2 (0 : Fin 3) c) * above p 2 r c + w (ix2 (1 : Fin 3) c) * above p 1 r c + w (ix2 (2 : Fin 3) c) * above p 0 r c

/-- Gradient of the convolution's input at row `r`. -/
def du (p : FVec Ideal S16384x5896 .f32) (d : FVec Ideal S16384x256 .f32) (w : FVec Ideal S3x256 .f32) (r : Fin 16384) (c : Fin 256) : EReal :=
  w (ix2 (2 : Fin 3) c) * ahead p d r c + w (ix2 (1 : Fin 3) c) * ahead p d (r + 1) c + w (ix2 (0 : Fin 3) c) * ahead p d (r + 2) c

/-- Gradient of the three bands of the projection. -/
def dBands (p : FVec Ideal S16384x5896 .f32) (d : FVec Ideal S16384x256 .f32) (w : FVec Ideal S3x256 .f32) : FVec Ideal S16384x768 .bf16 := fun i =>
  if h : (i 1).val < 256 then d (ix2 (i 0) (⟨(i 1).val, h⟩ : Fin 256)) * conv p w (i 0) ⟨(i 1).val, h⟩
  else if h : (i 1).val < 512 then
    du p d w (i 0) ⟨(i 1).val - 256, by omega⟩ * p (ix2 (i 0) (⟨(i 1).val + 256, by omega⟩ : Fin 5896))
  else p (ix2 (i 0) (⟨(i 1).val - 256, by have := (i 1).isLt; simp at this; omega⟩ : Fin 5896))
    * du p d w (i 0) ⟨(i 1).val - 512, by have := (i 1).isLt; simp at this; omega⟩

/-- Gradient of the tap that looks `k` rows back. -/
def dTap (p : FVec Ideal S16384x5896 .f32) (d : FVec Ideal S16384x256 .f32) (k : ℕ) : FVec Ideal S1x256 .f32 := fun i =>
  ∑ r : Fin 16384, ahead p d r (i 1) * above p k r (i 1)

theorem at_p (p : FVec Ideal S16384x5896 .f32) {a b c d : ℕ} (ha : a < 16384) (hb : b < 16384) (hc : c < 5896) (hd : d < 5896)
    (h : a = b) (h' : c = d) : (p (ix2 (⟨a, ha⟩ : Fin 16384) (⟨c, hc⟩ : Fin 5896)) : EReal) = p (ix2 ⟨b, hb⟩ ⟨d, hd⟩) := by
  subst h h'; rfl

theorem at_d (p : FVec Ideal S16384x256 .f32) {a b c d : ℕ} (ha : a < 16384) (hb : b < 16384) (hc : c < 256) (hd : d < 256)
    (h : a = b) (h' : c = d) : (p (ix2 (⟨a, ha⟩ : Fin 16384) (⟨c, hc⟩ : Fin 256)) : EReal) = p (ix2 ⟨b, hb⟩ ⟨d, hd⟩) := by
  subst h h'; rfl

theorem at_w (p : FVec Ideal S3x256 .f32) (k : Fin 3) {c d : ℕ} (hc : c < 256) (hd : d < 256)
    (h' : c = d) : (p (ix2 k (⟨c, hc⟩ : Fin 256)) : EReal) = p (ix2 k ⟨d, hd⟩) := by
  subst h'; rfl

/-- The row `k` above row `x`, as the padded input is read. -/
theorem shifted (p : FVec Ideal S16384x5896 .f32) (k n : ℕ) (hk : k + n = 2) (x : Fin 16384) (j : Fin 256) :
    (if h : n + (x : ℕ) < 2 then 0 else
      p (ix2 (⟨n + x - 2, by omega⟩ : Fin 16384) (⟨256 + j, by omega⟩ : Fin 5896))
        * p (ix2 (⟨n + x - 2, by omega⟩ : Fin 16384) (⟨512 + j, by omega⟩ : Fin 5896)) : EReal)
      = above p k x j := by
  unfold above
  by_cases h : n + (x : ℕ) < 2
  · rw [dif_pos h, dif_neg (by omega)]
  · rw [dif_neg h, dif_pos (by omega)]
    exact congrArg₂ (· * ·) (at_p p _ _ _ _ (by omega) rfl) (at_p p _ _ _ _ (by omega) rfl)

/-- One term of the input's gradient, as the padded cotangent is read. -/
theorem term (p : FVec Ideal S16384x5896 .f32) (d : FVec Ideal S16384x256 .f32) (w : FVec Ideal S3x256 .f32) (k : Fin 3) (n x : ℕ)
    (P : Prop) [Decidable P] (hP : P ↔ n < 16384) (e : n = x) (j j' : Fin 256) (hj : j = j')
    (y : P → EReal) (hy : ∀ h : P, y h = w (ix2 k j) * (p (ix2 (⟨n, hP.mp h⟩ : Fin 16384) (⟨j, by omega⟩ : Fin 5896)) * d (ix2 (⟨n, hP.mp h⟩ : Fin 16384) j))) :
    (if h : P then y h else 0) = w (ix2 k j') * ahead p d x j' := by
  subst e hj
  unfold ahead
  by_cases h : P
  · rw [dif_pos h, dif_pos (hP.mp h), hy]
  · rw [dif_neg h, dif_neg (fun h' => h (hP.mpr h')), mul_zero]

section Bands

variable (p : FVec Ideal S16384x5896 .f32) (d : FVec Ideal S16384x256 .f32) (w : FVec Ideal S3x256 .f32) (r : Fin 16384)

/-- The convolution, as the padded input is read. -/
theorem conv_read (c : Fin 256) :
    (w (ix2 (0 : Fin 3) c) * (if h : (r : ℕ) < 2 then 0 else
        p (ix2 (⟨r - 2, by omega⟩ : Fin 16384) (⟨256 + c, by omega⟩ : Fin 5896))
          * p (ix2 (⟨r - 2, by omega⟩ : Fin 16384) (⟨512 + c, by omega⟩ : Fin 5896)) : EReal)
      + w (ix2 (1 : Fin 3) c) * (if h : 1 + (r : ℕ) < 2 then 0 else
        p (ix2 (⟨1 + r - 2, by omega⟩ : Fin 16384) (⟨256 + c, by omega⟩ : Fin 5896))
          * p (ix2 (⟨1 + r - 2, by omega⟩ : Fin 16384) (⟨512 + c, by omega⟩ : Fin 5896)) : EReal)
      + w (ix2 (2 : Fin 3) c) * (p (ix2 r (⟨256 + c, by omega⟩ : Fin 5896)) * p (ix2 r (⟨512 + c, by omega⟩ : Fin 5896))) : EReal)
      = conv p w r c := by
  unfold conv
  rw [← shifted p 2 0 rfl r c, ← shifted p 1 1 rfl r c]
  simp only [Nat.zero_add]
  refine congrArg _ (congrArg _ ?_)
  unfold above
  rw [dif_pos (by omega)]
  rfl

/-- The input's gradient, as the padded cotangents are read. -/
theorem du_read (c : ℕ) (c' : Fin 256) (hc : c = c') :
    ((if h : c < 256 then w (ix2 (2 : Fin 3) (⟨c, h⟩ : Fin 256))
          * (p (ix2 r (⟨c, by omega⟩ : Fin 5896)) * d (ix2 r (⟨c, h⟩ : Fin 256))) else 0 : EReal)
      + (if h : (1 ≤ 2 + (r : ℕ) ∧ 2 + (r : ℕ) - 1 < 16384) ∧ c < 256 then w (ix2 (1 : Fin 3) (⟨c, h.2⟩ : Fin 256))
          * (p (ix2 (⟨2 + r - 1, h.1.2⟩ : Fin 16384) (⟨c, by omega⟩ : Fin 5896)) * d (ix2 (⟨2 + r - 1, h.1.2⟩ : Fin 16384) (⟨c, h.2⟩ : Fin 256))) else 0 : EReal)
      + (if h : 2 + (r : ℕ) < 16384 ∧ c < 256 then w (ix2 (0 : Fin 3) (⟨c, h.2⟩ : Fin 256))
          * (p (ix2 (⟨2 + r, h.1⟩ : Fin 16384) (⟨c, by omega⟩ : Fin 5896)) * d (ix2 (⟨2 + r, h.1⟩ : Fin 16384) (⟨c, h.2⟩ : Fin 256))) else 0 : EReal) : EReal)
      = du p d w r c' := by
  subst hc
  unfold du
  refine congrArg₂ (· + ·) (congrArg₂ (· + ·) ?_ ?_) ?_
  · rw [dif_pos c'.isLt]
    unfold ahead
    rw [dif_pos r.isLt]
  · exact term p d w 1 (2 + r - 1) (r + 1) _ (by omega) (by omega) c' c' rfl _ fun h => rfl
  · exact term p d w 0 (2 + r) (r + 2) _ (by omega) (by omega) c' c' rfl _ fun h => rfl

end Bands

variable (m : (ℓ : Loc nD τ sig) → Buf (Elt Ideal) ℓ) (ρ : Dev nD → PrngReg)

/-- The reference's run, its results read as the formulas above. -/
theorem run :
    θ_run defs (onTc (τ := τ) (main (F := Ideal))) ⟨m, fun _ => 0, ρ⟩ fun r => ∀ c : Dev nD,
      r.2.mem ((c.tc : Thread nD τ).loc main_v57)
          = dBands (m ((c.tc : Thread nD τ).loc main_arg0)) (m ((c.tc : Thread nD τ).loc main_arg1)) (m ((c.tc : Thread nD τ).loc main_arg2))
      ∧ r.2.mem ((c.tc : Thread nD τ).loc main_v58)
          = dTap (m ((c.tc : Thread nD τ).loc main_arg0)) (m ((c.tc : Thread nD τ).loc main_arg1)) 2
      ∧ r.2.mem ((c.tc : Thread nD τ).loc main_v59)
          = dTap (m ((c.tc : Thread nD τ).loc main_arg0)) (m ((c.tc : Thread nD τ).loc main_arg1)) 1
      ∧ r.2.mem ((c.tc : Thread nD τ).loc main_v60)
          = dTap (m ((c.tc : Thread nD τ).loc main_arg0)) (m ((c.tc : Thread nD τ).loc main_arg1)) 0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ?_) (Value.run m ρ)
  obtain ⟨h0, h1, h2, h3, hr⟩ := h c
  refine ⟨h0.trans ?_, h1.trans ?_, h2.trans ?_, h3.trans ?_, hr⟩
  all_goals
    clear h h0 h1 h2 h3 hr
    funext i
    idx_vars i
  · pointwise [Value.res_main_v57, dBands]
    by_cases h : (i1 : ℕ) < 256
    · refine (dif_pos h).trans (Eq.trans ?_ (dif_pos h).symm)
      exact congrArg _ (conv_read _ _ i0 ⟨i1, h⟩)
    refine (dif_neg h).trans (Eq.trans ?_ (dif_neg h).symm)
    by_cases h' : (i1 : ℕ) < 512
    · refine (dif_pos (by omega)).trans (Eq.trans ?_ (dif_pos h').symm)
      exact congrArg₂ (· * ·) (du_read _ _ _ i0 _ ⟨i1 - 256, by omega⟩ rfl) (at_p _ _ _ _ _ rfl (by omega))
    · refine (dif_neg (by omega)).trans (Eq.trans ?_ (dif_neg h').symm)
      exact congrArg₂ (· * ·) (at_p _ _ _ _ _ rfl (by omega)) (du_read _ _ _ i0 _ ⟨i1 - 512, by omega⟩ (by simp; omega))
  · pointwise [dTap, above, ahead]
  · pointwise [dTap, ahead]
    exact Finset.sum_congr rfl fun x _ => congrArg _ (shifted _ 1 1 rfl x i1)
  · pointwise [dTap, above, ahead]

end Cert.ShortConvRefIdeal.Spec

end
-- ==== Proof.ShortConv.Kernel.lean ====
/- The kernel of the gated short convolution's gradient: what a grid point stores, and the arrays the grid leaves. -/
module

public import proofs.«01_k».proof.Proof.Gen.ShortConvIdeal.Value
public import proofs.«01_k».proof.Proof.ShortConv.Spec
public import Idealize.ShloMosaic.Lib.Pipeline.ValueKit

@[expose] public section

set_option maxRecDepth 16384

noncomputable section

namespace Cert.ShortConvIdeal.Grid

open Cert.ShortConvIdeal Cert.ShortConvIdeal.Gen Idealize.ShloMosaic Idealize.ShloMosaic.TcCoe Idealize.SL.Sem
open Idealize.ShloMosaic.Pipeline (Dat)
open Cert.ShortConvRefIdeal.Spec (ahead above conv du dBands dTap)

variable (m : (ℓ : Loc nD τ sig) → Buf (Elt Ideal) ℓ)

theorem idx : ∀ t : Fin cfg0.N, win0_0.index t = ![t.val, 0]
    ∧ win0_1.index t = ![t.val * 32 - 1, 0]
    ∧ win0_2.index t = ![min ((t.val + 1) * 32) 1023, 0]
    ∧ win0_3.index t = ![t.val, 0]
    ∧ win0_4.index t = ![min ((t.val + 1) * 32) 1023, 0]
    ∧ win0_5.index t = ![0, 0]
    ∧ win0_6.index t = ![t.val, 0]
    ∧ win0_7.index t = ![0, 0]
    ∧ win0_8.index t = ![0, 0]
    ∧ win0_9.index t = ![0, 0]
    ∧ (grid0.coords t 0).val = t.val :=
  (by decide +kernel : ∀ t : Fin grid0.N, _)

section Tile

variable (i : grid0.Coords) (x0 : FVec Ideal S512x768 .bf16) (x1 x2 : FVec Ideal S16x768 .bf16) (x3 : FVec Ideal S512x256 .bf16)
  (x4 : FVec Ideal S16x256 .bf16) (x5 : FVec Ideal S3x256 .f32)

/-- The convolution's input `k` rows above row `r` of a tile, read from the tile or from the rows before it (zero before
    the first tile). -/
def prev (k : ℕ) (hk : k ≤ 16) (r : Fin 512) (j : Fin 256) : EReal :=
  if h : k ≤ (r : ℕ) then
    x0 (ix2 (⟨r - k, by omega⟩ : Fin 512) (⟨256 + j, by omega⟩ : Fin 768)) * x0 (ix2 (⟨r - k, by omega⟩ : Fin 512) (⟨512 + j, by omega⟩ : Fin 768))
  else if (i 0).val = 0 then 0
  else x1 (ix2 (⟨16 + r - k, by omega⟩ : Fin 16) (⟨256 + j, by omega⟩ : Fin 768)) * x1 (ix2 (⟨16 + r - k, by omega⟩ : Fin 16) (⟨512 + j, by omega⟩ : Fin 768))

/-- The convolution's cotangent `n` rows into the tile, read from the tile or, past its end, from the rows after it (zero
    after the last tile). -/
def next (n : ℕ) (hn : n < 515) (j : Fin 256) : EReal :=
  if h : n < 512 then x0 (ix2 (⟨n, h⟩ : Fin 512) (⟨j, by omega⟩ : Fin 768)) * x3 (ix2 (⟨n, h⟩ : Fin 512) j)
  else if (i 0).val = 31 then 0
  else x2 (ix2 (⟨n - 512, by omega⟩ : Fin 16) (⟨j, by omega⟩ : Fin 768)) * x4 (ix2 (⟨n - 512, by omega⟩ : Fin 16) j)

theorem ofNat_toNat (n : ℕ) (h : n < 2 ^ 32) : (BitVec.ofNat 32 n).toNat = n := Nat.mod_eq_of_lt h

theorem at_2 {a b : ℕ} (x : FVec Ideal ⟨2, ![a, b]⟩ .bf16) {p q r s : ℕ} (hp : p < a) (hq : q < a) (hr : r < b) (hs : s < b)
    (h : p = q) (h' : r = s) : (x (ix2 (⟨p, hp⟩ : Fin a) (⟨r, hr⟩ : Fin b)) : EReal) = x (ix2 ⟨q, hq⟩ ⟨s, hs⟩) := by
  subst h h'; rfl

theorem pay7_at (r : Fin 512) (j : Fin 256) : k0_pay7 (F := Ideal) x0 (ix2 r j) = prev i x0 x1 0 (by omega) r j := by
  pointwise [k0_pay7, k0_pay6, k0_pay5, k0_pay2, prev]

theorem pay9_at (r : Fin 512) (j : Fin 256) : k0_pay9 (F := Ideal) i x0 x1 (ix2 r j) = prev i x0 x1 1 (by omega) r j := by
  have hi : (i 0).val < 32 := (i 0).isLt
  pointwise [k0_pay9, k0_pay8, k0_pay7, k0_pay6, k0_pay5, k0_pay2]
  unfold prev
  generalize (i 0).val = i0 at *
  simp only [hlo_ix]
  rw [ofNat_toNat r.val (by omega), ofNat_toNat i0 (by omega)]
  simp only [BitVec.reduceToNat]
  obtain ⟨r, hr⟩ := r
  simp only
  by_cases h : 1 ≤ r
  · rw [if_neg (by omega), dif_pos h]
    exact congrArg₂ (· * ·) (at_2 x0 _ _ _ _ (by omega) rfl) (at_2 x0 _ _ _ _ (by omega) rfl)
  · rw [dif_neg h]
    obtain rfl : r = 0 := by omega
    rfl

theorem pay10_at (r : Fin 512) (j : Fin 256) : k0_pay10 (F := Ideal) i x0 x1 (ix2 r j) = prev i x0 x1 2 (by omega) r j := by
  have hi : (i 0).val < 32 := (i 0).isLt
  pointwise [k0_pay10, k0_pay8, k0_pay7, k0_pay6, k0_pay5, k0_pay2]
  unfold prev
  generalize (i 0).val = i0 at *
  simp only [hlo_ix]
  rw [ofNat_toNat r.val (by omega), ofNat_toNat i0 (by omega)]
  simp only [BitVec.reduceToNat]
  obtain ⟨r, hr⟩ := r
  simp only
  by_cases h : 2 ≤ r
  · rw [if_neg (by omega), if_neg (by omega), dif_pos h]
    exact congrArg₂ (· * ·) (at_2 x0 _ _ _ _ (by omega) rfl) (at_2 x0 _ _ _ _ (by omega) rfl)
  · rw [dif_neg h]
    obtain rfl | rfl : r = 0 ∨ r = 1 := by omega
    all_goals rfl

theorem pay14_at (r : Fin 512) (j : Fin 256) : k0_pay14 (F := Ideal) (k0_pay4 x0) x3 (ix2 r j)
    = x0 (ix2 r (⟨j, by omega⟩ : Fin 768)) * x3 (ix2 r j) := by
  pointwise [k0_pay14, k0_pay13, k0_pay4, k0_pay2]
  exact mul_comm _ _

/-- One tile's part of the gradient of the tap that looks `k` rows back. -/
def part (k : ℕ) (hk : k ≤ 16) (j : Fin 256) : EReal :=
  ∑ r : Fin 512, x0 (ix2 r (⟨j, by omega⟩ : Fin 768)) * x3 (ix2 r j) * prev i x0 x1 k hk r j

theorem tap2_at (a : FVec Ideal S1x256 .f32) (j : S1x256.Idx) :
    k0_pay28 (F := Ideal) (k0_pay10 i x0 x1) (k0_pay14 (k0_pay4 x0) x3) a j = a j + part i x0 x1 x3 2 (by omega) (j 1) := by
  idx_vars j
  pointwise [k0_pay28, part]
  simp only [pay10_at, pay14_at]

theorem tap1_at (a : FVec Ideal S1x256 .f32) (j : S1x256.Idx) :
    k0_pay29 (F := Ideal) (k0_pay9 i x0 x1) (k0_pay14 (k0_pay4 x0) x3) a j = a j + part i x0 x1 x3 1 (by omega) (j 1) := by
  idx_vars j
  pointwise [k0_pay29, part]
  simp only [pay9_at, pay14_at]

theorem tap0_at (a : FVec Ideal S1x256 .f32) (j : S1x256.Idx) :
    k0_pay1 (F := Ideal) (k0_pay30 a) (k0_pay31 (k0_pay7 x0) (k0_pay14 (k0_pay4 x0) x3)) j
      = a j + part i x0 x1 x3 0 (by omega) (j 1) := by
  idx_vars j
  pointwise [k0_pay1, k0_pay30, k0_pay31, part]
  simp only [pay7_at i x0 x1, pay14_at]

theorem conv_at (r : Fin 512) (j : Fin 256) :
    k0_pay22 (F := Ideal) (k0_pay12 (k0_pay7 x0) (k0_pay9 i x0 x1) (k0_pay10 i x0 x1) x5 (k0_pay11 x5)) (k0_pay13 x3) (ix2 r j)
      = x3 (ix2 r j) * (x5 (ix2 (0 : Fin 3) j) * prev i x0 x1 2 (by omega) r j + x5 (ix2 (1 : Fin 3) j) * prev i x0 x1 1 (by omega) r j
          + x5 (ix2 (2 : Fin 3) j) * prev i x0 x1 0 (by omega) r j) := by
  pointwise [k0_pay22, k0_pay12, k0_pay11, k0_pay13]
  simp only [pay7_at i x0 x1, pay9_at, pay10_at]
  refine congrArg _ ?_
  rw [add_comm, add_comm (x5 (ix2 (2 : Fin 3) j) * _), ← add_assoc]

/-- The input's gradient at a row of the tile. -/
def grad (r : Fin 512) (j : Fin 256) : EReal :=
  x5 (ix2 (2 : Fin 3) j) * next i x0 x2 x3 x4 r (by omega) j + x5 (ix2 (1 : Fin 3) j) * next i x0 x2 x3 x4 (r + 1) (by omega) j
    + x5 (ix2 (0 : Fin 3) j) * next i x0 x2 x3 x4 (r + 2) (by omega) j

theorem grad_at (r : Fin 512) (j : Fin 256) :
    k0_pay21 (F := Ideal) (k0_pay16 (BitVec.ofNat 32 (i 0).val) (k0_pay3 x2) (k0_pay4 x0) x5 x3 x4) (k0_pay17 x5)
      (k0_pay18 (BitVec.ofNat 32 (i 0).val) (k0_pay3 x2) (k0_pay4 x0) x3 x4) k0_pay19
      (k0_pay20 (BitVec.ofNat 32 (i 0).val) (k0_pay3 x2) x4) (ix2 r j) = grad i x0 x2 x3 x4 x5 r j := by
  have hi : (i 0).val < 32 := (i 0).isLt
  pointwise [k0_pay21, k0_pay16, k0_pay17, k0_pay18, k0_pay19, k0_pay20, k0_pay15, k0_pay3]
  simp only [pay14_at]
  unfold grad next
  generalize (i 0).val = i0 at *
  simp only [hlo_ix]
  rw [ofNat_toNat r.val (by omega), ofNat_toNat i0 (by omega)]
  simp only [BitVec.reduceToNat]
  obtain ⟨r, hr⟩ := r
  simp only
  refine congrArg₂ (· + ·) (congrArg₂ (· + ·) ?_ ?_) ?_
  · rw [dif_pos hr]
  · refine congrArg _ ?_
    by_cases h : r = 511
    · subst h
      rw [if_pos rfl, dif_neg (by omega), mul_comm]
      rfl
    · rw [if_neg h, dif_pos (by omega)]
      exact congrArg₂ (· * ·) (at_2 x0 _ _ _ _ (by omega) rfl) (at_2 x3 _ _ _ _ (by omega) rfl)
  · refine congrArg _ ?_
    by_cases h : r = 511
    · subst h
      rw [if_pos rfl, dif_neg (by omega), mul_comm]
      rfl
    · rw [if_neg h]
      by_cases h' : r = 510
      · subst h'
        rw [if_pos rfl, dif_neg (by omega), mul_comm]
        rfl
      · rw [if_neg h', dif_pos (by omega)]
        exact congrArg₂ (· * ·) (at_2 x0 _ _ _ _ (by omega) rfl) (at_2 x3 _ _ _ _ (by omega) rfl)

theorem second_at (r : Fin 512) (j : Fin 256) (a : FVec Ideal S512x256 .f32) (b : FVec Ideal S1x256 .f32) (e : FVec Ideal S512x256 .f32)
    (f : IVec S512x256 1) (g : FVec Ideal S1x256 .f32) :
    k0_pay23 (F := Ideal) (k0_pay6 x0) a b e f g (ix2 r j) = k0_pay21 a b e f g (ix2 r j) * x0 (ix2 r (⟨512 + j, by omega⟩ : Fin 768)) := by
  pointwise [k0_pay23, k0_pay6, k0_pay2]

theorem third_at (r : Fin 512) (j : Fin 256) (a : FVec Ideal S512x256 .f32) (b : FVec Ideal S1x256 .f32) (e : FVec Ideal S512x256 .f32)
    (f : IVec S512x256 1) (g : FVec Ideal S1x256 .f32) :
    k0_pay24 (F := Ideal) (k0_pay5 x0) a b e f g (ix2 r j) = x0 (ix2 r (⟨256 + j, by omega⟩ : Fin 768)) * k0_pay21 a b e f g (ix2 r j) := by
  pointwise [k0_pay24, k0_pay5, k0_pay2]
  exact mul_comm _ _

end Tile

theorem padded (c : Dev nD) (r : Fin 16384) (j : Fin 768) : V m c main_v6 (ix2 r (⟨j, by omega⟩ : Fin 6144))
    = m ((c : Thread nD τ).loc main_arg0) (ix2 r (⟨j, by omega⟩ : Fin 5896)) := by
  unfold V
  after_results_simp
  pointwise
  rw [dif_pos (by omega)]
  after_results_simp
  pointwise

theorem cotangent (c : Dev nD) (r : Fin 16384) (j : Fin 256) : V m c main_v7 (ix2 r j) = m ((c : Thread nD τ).loc main_arg1) (ix2 r j) := by
  unfold V
  after_results_simp
  pointwise

theorem blk_0 (c : Dev nD) (t : Fin cfg0.N) (r : Fin 512) (j : Fin 768) (h : t.val * 512 + r < 16384) :
    iblk m c 0 t (ix2 r j) = m ((c : Thread nD τ).loc main_arg0) (ix2 (⟨t.val * 512 + r, h⟩ : Fin 16384) (⟨j, by omega⟩ : Fin 5896)) := by
  obtain ⟨e0, -⟩ := idx t
  refine Eq.trans ?_ (padded m c _ j)
  blk_ext [iblk, e0]

theorem blk_1 (c : Dev nD) (t : Fin cfg0.N) (ht : t.val ≠ 0) (r : Fin 16) (j : Fin 768) (h : t.val * 512 + r - 16 < 16384) :
    iblk m c 1 t (ix2 r j) = m ((c : Thread nD τ).loc main_arg0) (ix2 (⟨t.val * 512 + r - 16, h⟩ : Fin 16384) (⟨j, by omega⟩ : Fin 5896)) := by
  obtain ⟨-, e1, -⟩ := idx t
  refine Eq.trans ?_ (padded m c _ j)
  blk_ext [iblk, e1]

theorem blk_2 (c : Dev nD) (t : Fin cfg0.N) (r : Fin 16) (j : Fin 768) (h : t.val * 512 + 512 + r < 16384) :
    iblk m c 2 t (ix2 r j) = m ((c : Thread nD τ).loc main_arg0) (ix2 (⟨t.val * 512 + 512 + r, h⟩ : Fin 16384) (⟨j, by omega⟩ : Fin 5896)) := by
  obtain ⟨-, -, e2, -⟩ := idx t
  refine Eq.trans ?_ (padded m c _ j)
  blk_ext [iblk, e2]

theorem blk_3 (c : Dev nD) (t : Fin cfg0.N) (r : Fin 512) (j : Fin 256) (h : t.val * 512 + r < 16384) :
    iblk m c 3 t (ix2 r j) = m ((c : Thread nD τ).loc main_arg1) (ix2 (⟨t.val * 512 + r, h⟩ : Fin 16384) j) := by
  obtain ⟨-, -, -, e3, -⟩ := idx t
  refine Eq.trans ?_ (cotangent m c _ j)
  blk_ext [iblk, e3]

theorem blk_4 (c : Dev nD) (t : Fin cfg0.N) (r : Fin 16) (j : Fin 256) (h : t.val * 512 + 512 + r < 16384) :
    iblk m c 4 t (ix2 r j) = m ((c : Thread nD τ).loc main_arg1) (ix2 (⟨t.val * 512 + 512 + r, h⟩ : Fin 16384) j) := by
  obtain ⟨-, -, -, -, e4, -⟩ := idx t
  refine Eq.trans ?_ (cotangent m c _ j)
  blk_ext [iblk, e4]

theorem blk_5 (c : Dev nD) (t : Fin cfg0.N) (r : Fin 3) (j : Fin 256) :
    iblk m c 5 t (ix2 r j) = m ((c : Thread nD τ).loc main_arg2) (ix2 r j) := by
  blk_ext [iblk, V, idx t]

theorem coord (t : Fin cfg0.N) : (grid0.coords t 0).val = t.val := (idx t).2.2.2.2.2.2.2.2.2.2

theorem prev_eq (c : Dev nD) (t : Fin cfg0.N) (k : ℕ) (hk : k ≤ 16) (r : Fin 512) (j : Fin 256) (h : t.val * 512 + r < 16384) :
    prev (grid0.coords t) (iblk m c 0 t) (iblk m c 1 t) k hk r j
      = above (m ((c : Thread nD τ).loc main_arg0)) k ⟨t.val * 512 + r, h⟩ j := by
  unfold prev above
  by_cases hr : k ≤ (r : ℕ)
  · rw [dif_pos hr, dif_pos (by simp; omega)]
    refine congrArg₂ (· * ·) ((blk_0 m c t _ _ (by simp; omega)).trans ?_) ((blk_0 m c t _ _ (by simp; omega)).trans ?_)
    all_goals exact Cert.ShortConvRefIdeal.Spec.at_p _ _ _ _ _ (by simp; omega) rfl
  · rw [dif_neg hr, coord]
    by_cases h' : t.val = 0
    · rw [if_pos h', dif_neg (by simp; omega)]
    · rw [if_neg h', dif_pos (by simp; omega)]
      refine congrArg₂ (· * ·) ((blk_1 m c t h' _ _ (by simp; omega)).trans ?_) ((blk_1 m c t h' _ _ (by simp; omega)).trans ?_)
      all_goals exact Cert.ShortConvRefIdeal.Spec.at_p _ _ _ _ _ (by simp; omega) rfl

theorem next_eq (c : Dev nD) (t : Fin cfg0.N) (n : ℕ) (hn : n < 515) (j : Fin 256) :
    next (grid0.coords t) (iblk m c 0 t) (iblk m c 2 t) (iblk m c 3 t) (iblk m c 4 t) n hn j
      = ahead (m ((c : Thread nD τ).loc main_arg0)) (m ((c : Thread nD τ).loc main_arg1)) (t.val * 512 + n) j := by
  have ht : t.val < 32 := lt_of_lt_of_eq t.isLt N_0
  unfold next ahead
  by_cases h : n < 512
  · rw [dif_pos h, dif_pos (by omega)]
    exact congrArg₂ (· * ·) (blk_0 m c t ⟨n, h⟩ ⟨j, by omega⟩ _) (blk_3 m c t ⟨n, h⟩ j _)
  · rw [dif_neg h, coord]
    by_cases h' : t.val = 31
    · rw [if_pos h', dif_neg (by omega)]
    · rw [if_neg h', dif_pos (by omega)]
      refine congrArg₂ (· * ·) ((blk_2 m c t _ _ (by simp; omega)).trans ?_) ((blk_4 m c t _ _ (by simp; omega)).trans ?_)
      · exact Cert.ShortConvRefIdeal.Spec.at_p _ _ _ _ _ (by simp; omega) rfl
      · exact Cert.ShortConvRefIdeal.Spec.at_d _ _ _ _ _ (by simp; omega) rfl

theorem grad_eq (c : Dev nD) (t : Fin cfg0.N) (r : Fin 512) (j : Fin 256) (h : t.val * 512 + r < 16384) :
    grad (grid0.coords t) (iblk m c 0 t) (iblk m c 2 t) (iblk m c 3 t) (iblk m c 4 t) (iblk m c 5 t) r j
      = du (m ((c : Thread nD τ).loc main_arg0)) (m ((c : Thread nD τ).loc main_arg1)) (m ((c : Thread nD τ).loc main_arg2)) ⟨t.val * 512 + r, h⟩ j := by
  unfold grad du
  rw [next_eq, next_eq, next_eq, blk_5, blk_5, blk_5]
  rfl

theorem first_eq (c : Dev nD) (t : Fin cfg0.N) (r : Fin 512) (j : Fin 256) (y0 : Fin 512) (y1 : Fin 768) (h0 : (y0 : ℕ) = r) (h1 : (y1 : ℕ) = j)
    (h : t.val * 512 + y0 < 16384) :
    k0_pay22 (F := Ideal) (k0_pay12 (k0_pay7 (iblk m c 0 t)) (k0_pay9 (grid0.coords t) (iblk m c 0 t) (iblk m c 1 t))
        (k0_pay10 (grid0.coords t) (iblk m c 0 t) (iblk m c 1 t)) (iblk m c 5 t) (k0_pay11 (iblk m c 5 t))) (k0_pay13 (iblk m c 3 t)) (ix2 r j)
      = dBands (m ((c : Thread nD τ).loc main_arg0)) (m ((c : Thread nD τ).loc main_arg1)) (m ((c : Thread nD τ).loc main_arg2)) (ix2 (⟨t.val * 512 + y0, h⟩ : Fin 16384) y1) := by
  obtain rfl : y0 = r := Fin.ext h0
  have hb : (j : ℕ) < 768 := by omega
  obtain rfl : y1 = ⟨j, hb⟩ := Fin.ext h1
  refine (conv_at _ _ _ _ _ _ _).trans ?_
  rw [prev_eq m c t 0 _ y0 j h, prev_eq m c t 1 _ y0 j h, prev_eq m c t 2 _ y0 j h, blk_5, blk_5, blk_5, blk_3 m c t y0 j h]
  unfold dBands conv
  refine Eq.trans ?_ (dif_pos (show (j : ℕ) < 256 from j.isLt)).symm
  rfl

theorem second_eq (c : Dev nD) (t : Fin cfg0.N) (r : Fin 512) (j : Fin 256) (y0 : Fin 512) (y1 : Fin 768) (h0 : (y0 : ℕ) = r) (h1 : (y1 : ℕ) = 256 + j)
    (h : t.val * 512 + y0 < 16384) :
    k0_pay23 (F := Ideal) (k0_pay6 (iblk m c 0 t))
      (k0_pay16 (BitVec.ofNat 32 (grid0.coords t 0).val) (k0_pay3 (iblk m c 2 t)) (k0_pay4 (iblk m c 0 t)) (iblk m c 5 t) (iblk m c 3 t) (iblk m c 4 t))
      (k0_pay17 (iblk m c 5 t))
      (k0_pay18 (BitVec.ofNat 32 (grid0.coords t 0).val) (k0_pay3 (iblk m c 2 t)) (k0_pay4 (iblk m c 0 t)) (iblk m c 3 t) (iblk m c 4 t))
      k0_pay19 (k0_pay20 (BitVec.ofNat 32 (grid0.coords t 0).val) (k0_pay3 (iblk m c 2 t)) (iblk m c 4 t)) (ix2 r j)
      = dBands (m ((c : Thread nD τ).loc main_arg0)) (m ((c : Thread nD τ).loc main_arg1)) (m ((c : Thread nD τ).loc main_arg2)) (ix2 (⟨t.val * 512 + y0, h⟩ : Fin 16384) y1) := by
  obtain rfl : y0 = r := Fin.ext h0
  have hb : 256 + (j : ℕ) < 768 := by omega
  obtain rfl : y1 = ⟨256 + j, hb⟩ := Fin.ext h1
  refine (second_at _ _ _ _ _ _ _ _).trans ?_
  rw [grad_at, grad_eq m c t y0 j h, blk_0 m c t y0 _ h]
  unfold dBands
  refine Eq.trans ?_ ((dif_neg (show ¬ (256 + (j : ℕ) < 256) by omega)).trans (dif_pos (show 256 + (j : ℕ) < 512 by omega))).symm
  refine congrArg₂ (· * ·) (congrArg _ (Fin.ext ?_)) (Cert.ShortConvRefIdeal.Spec.at_p _ _ _ _ _ rfl ?_)
  · simp
  · simp; omega

theorem third_eq (c : Dev nD) (t : Fin cfg0.N) (r : Fin 512) (j : Fin 256) (y0 : Fin 512) (y1 : Fin 768) (h0 : (y0 : ℕ) = r) (h1 : (y1 : ℕ) = 512 + j)
    (h : t.val * 512 + y0 < 16384) :
    k0_pay24 (F := Ideal) (k0_pay5 (iblk m c 0 t))
      (k0_pay16 (BitVec.ofNat 32 (grid0.coords t 0).val) (k0_pay3 (iblk m c 2 t)) (k0_pay4 (iblk m c 0 t)) (iblk m c 5 t) (iblk m c 3 t) (iblk m c 4 t))
      (k0_pay17 (iblk m c 5 t))
      (k0_pay18 (BitVec.ofNat 32 (grid0.coords t 0).val) (k0_pay3 (iblk m c 2 t)) (k0_pay4 (iblk m c 0 t)) (iblk m c 3 t) (iblk m c 4 t))
      k0_pay19 (k0_pay20 (BitVec.ofNat 32 (grid0.coords t 0).val) (k0_pay3 (iblk m c 2 t)) (iblk m c 4 t)) (ix2 r j)
      = dBands (m ((c : Thread nD τ).loc main_arg0)) (m ((c : Thread nD τ).loc main_arg1)) (m ((c : Thread nD τ).loc main_arg2)) (ix2 (⟨t.val * 512 + y0, h⟩ : Fin 16384) y1) := by
  obtain rfl : y0 = r := Fin.ext h0
  have hb : 512 + (j : ℕ) < 768 := by omega
  obtain rfl : y1 = ⟨512 + j, hb⟩ := Fin.ext h1
  refine (third_at _ _ _ _ _ _ _ _).trans ?_
  rw [grad_at, grad_eq m c t y0 j h, blk_0 m c t y0 _ h]
  unfold dBands
  refine Eq.trans ?_ ((dif_neg (show ¬ (512 + (j : ℕ) < 256) by omega)).trans (dif_neg (show ¬ (512 + (j : ℕ) < 512) by omega))).symm
  refine congrArg₂ (· * ·) (Cert.ShortConvRefIdeal.Spec.at_p _ _ _ _ _ rfl ?_) (congrArg _ (Fin.ext ?_))
  · simp; omega
  · simp

/-- What a point leaves in the block of the three bands. -/
theorem point_6 (c : Dev nD) (t : Fin cfg0.N) (y : S512x768.Idx) :
    (outsAt0 m c t.val t.isLt).1 y = dBands (m ((c : Thread nD τ).loc main_arg0)) (m ((c : Thread nD τ).loc main_arg1)) (m ((c : Thread nD τ).loc main_arg2)) (((cfg0.win 6).blk t).view.emb y) := by
  have ht : t.val < 32 := lt_of_lt_of_eq t.isLt N_0
  idx_vars y
  have hemb : (((cfg0.win 6).blk t).view.emb (ix2 y0 y1 : S512x768.Idx)) = ix2 (⟨t.val * 512 + y0, by omega⟩ : Fin 16384) y1 := by
    obtain ⟨-, -, -, -, -, -, e6, -⟩ := idx t
    blk_ext [e6]
  rw [hemb]
  by_cases hA : t.val % 32 = 0
  · rw [outsAt0_A m c t hA]
    frame_out
    canon_tiles x h
    · idx_vars x
      exact third_eq m c t x0 x1 y0 y1 h0 h1 _
    · idx_vars x
      exact second_eq m c t x0 x1 y0 y1 h0 h1 _
    · idx_vars x
      exact first_eq m c t x0 x1 y0 y1 h0 h1 _
  · rw [outsAt0_B m c t hA]
    frame_out
    canon_tiles x h
    · idx_vars x
      exact third_eq m c t x0 x1 y0 y1 h0 h1 _
    · idx_vars x
      exact second_eq m c t x0 x1 y0 y1 h0 h1 _
    · idx_vars x
      exact first_eq m c t x0 x1 y0 y1 h0 h1 _

theorem final_6 (c : Dev nD) : (dats m 0 c).arrAt 6 (cfgs 0).N
    = dBands (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp
  rw [after0_6]
  exact point_6 m c t y

theorem sum_parts (c : Dev nD) (k : ℕ) (hk : k ≤ 16) (q : Fin 32 → Fin cfg0.N) (hq : ∀ s, (q s).val = s.val) (j : Fin 256) :
    ∑ s, part (grid0.coords (q s)) (iblk m c 0 (q s)) (iblk m c 1 (q s)) (iblk m c 3 (q s)) k hk j
      = ∑ r : Fin 16384, ahead (m ((c : Thread nD τ).loc main_arg0)) (m ((c : Thread nD τ).loc main_arg1)) r j * above (m ((c : Thread nD τ).loc main_arg0)) k r j := by
  unfold part
  refine Fin.sum_mul_add_congr fun s r hl => ?_
  have hs := hq s
  have hh : (q s).val * 512 + r < 16384 := by omega
  have e : (⟨(q s).val * 512 + r, hh⟩ : Fin 16384) = ⟨s * 512 + r, hl⟩ := Fin.ext (by simp [hs])
  refine Ideal.mul_congr ?_ ((prev_eq m c (q s) k hk r j hh).trans (by rw [e]))
  unfold ahead
  refine Eq.trans ?_ (dif_pos hl).symm
  exact Ideal.mul_congr ((blk_0 m c (q s) r ⟨j, by omega⟩ hh).trans (Cert.ShortConvRefIdeal.Spec.at_p _ _ _ _ _ (by simp [hs]) rfl))
    ((blk_3 m c (q s) r j hh).trans (Cert.ShortConvRefIdeal.Spec.at_d _ _ _ _ _ (by simp [hs]) rfl))

theorem point_of (t : Fin cfg0.N) (s : Fin 32) : 32 * (t.val / 32) + s.val = s.val := by
  have h : t.val < 32 := t.isLt
  omega

theorem final_7 (c : Dev nD) : (dats m 0 c).arrAt 7 (cfgs 0).N
    = dTap (m ((c : Thread nD τ).loc main_arg0)) (m ((c : Thread nD τ).loc main_arg1)) 2 := by
  refine (dats m 0 c).arrAt_eq_of_covers 7 _ (by decide +kernel) fun t hf y => ?_
  have e : (win0_7.blk t).view.emb y = y := by
    obtain ⟨-, -, -, -, -, -, -, e, -⟩ := idx t
    blk_ext [e]
  blk_simp
  rw [after0_7, Pipeline.eq_sum_fin_of_reset_step_apply_of_flush (fun n h => (outsAt0 m c n h).2.1) 32 (fun _ => 0)
    (fun t j => part (grid0.coords t) (iblk m c 0 t) (iblk m c 1 t) (iblk m c 3 t) 2 (by omega) (j 1))
    (fun t h j => by rw [outsAt0_A m c t h]; frame_out; exact (tap2_at _ _ _ _ _ j).trans (by rw [show k0_pay25 (F := Ideal) j = 0 by pointwise [k0_pay25]]))
    (fun t h j => by rw [outsAt0_B m c t h]; frame_out; exact tap2_at _ _ _ _ _ j)
    t ((flush0_7 t).mp hf) _, zero_add, e]
  exact sum_parts m c 2 _ _ (point_of t) _

theorem final_8 (c : Dev nD) : (dats m 0 c).arrAt 8 (cfgs 0).N
    = dTap (m ((c : Thread nD τ).loc main_arg0)) (m ((c : Thread nD τ).loc main_arg1)) 1 := by
  refine (dats m 0 c).arrAt_eq_of_covers 8 _ (by decide +kernel) fun t hf y => ?_
  have e : (win0_8.blk t).view.emb y = y := by
    obtain ⟨-, -, -, -, -, -, -, -, e, -⟩ := idx t
    blk_ext [e]
  blk_simp
  rw [after0_8, Pipeline.eq_sum_fin_of_reset_step_apply_of_flush (fun n h => (outsAt0 m c n h).2.2.1) 32 (fun _ => 0)
    (fun t j => part (grid0.coords t) (iblk m c 0 t) (iblk m c 1 t) (iblk m c 3 t) 1 (by omega) (j 1))
    (fun t h j => by rw [outsAt0_A m c t h]; frame_out; exact (tap1_at _ _ _ _ _ j).trans (by rw [show k0_pay26 (F := Ideal) j = 0 by pointwise [k0_pay26]]))
    (fun t h j => by rw [outsAt0_B m c t h]; frame_out; exact tap1_at _ _ _ _ _ j)
    t ((flush0_8 t).mp hf) _, zero_add, e]
  exact sum_parts m c 1 _ _ (point_of t) _

theorem final_9 (c : Dev nD) : (dats m 0 c).arrAt 9 (cfgs 0).N
    = dTap (m ((c : Thread nD τ).loc main_arg0)) (m ((c : Thread nD τ).loc main_arg1)) 0 := by
  refine (dats m 0 c).arrAt_eq_of_covers 9 _ (by decide +kernel) fun t hf y => ?_
  have e : (win0_9.blk t).view.emb y = y := by
    obtain ⟨-, -, -, -, -, -, -, -, -, e, -⟩ := idx t
    blk_ext [e]
  blk_simp
  rw [after0_9, Pipeline.eq_sum_fin_of_reset_step_apply_of_flush (fun n h => (outsAt0 m c n h).2.2.2) 32 (fun _ => 0)
    (fun t j => part (grid0.coords t) (iblk m c 0 t) (iblk m c 1 t) (iblk m c 3 t) 0 (by omega) (j 1))
    (fun t h j => by rw [outsAt0_A m c t h]; frame_out; exact (tap0_at _ _ _ _ _ j).trans (by rw [show k0_pay27 (F := Ideal) j = 0 by pointwise [k0_pay27]]))
    (fun t h j => by rw [outsAt0_B m c t h]; frame_out; exact tap0_at _ _ _ _ _ j)
    t ((flush0_9 t).mp hf) _, zero_add, e]
  exact sum_parts m c 0 _ _ (point_of t) _

end Cert.ShortConvIdeal.Grid

end
-- ==== Proof.ShortConv.Pair.lean ====
/- The gated short convolution's backward call against the derivative of its lines. -/
module

public import proofs.«01_k».proof.Defs
public import proofs.«01_k».proof.Proof.ShortConv.Kernel
public import proofs.«01_k».proof.Proof.ShortConv.Spec

@[expose] public section

set_option maxRecDepth 16384

noncomputable section

namespace Cert.Proof.ShortConv

open Idealize.ShloMosaic Idealize.SL.Sem

/-- The derivative's program runs and keeps its arguments; it declares no semaphore. -/
theorem ref_frame : Cert.quiescent_ShortConvRefIdeal := fun m ρ _ =>
  (θ_run Cert.ShortConvRefIdeal.defs _ _).mono (fun r h => ⟨fun c => (h c).2.2.2.2, sem_eq_zero_of_no_sems (by decide) r.2⟩)
    (Cert.ShortConvRefIdeal.Spec.run m ρ)

/-- Every result of the short convolution's backward call is the derivative of its lines. -/
theorem algebraic : Cert.algebraic_ShortConvIdeal_ShortConvRefIdeal := by
  intro m g m' g' _ ha
  refine ⟨fun c => Cert.ShortConvRefIdeal.Spec.dBands (m ((c.tc : Thread Cert.ShortConvIdeal.nD Cert.ShortConvIdeal.τ).loc Cert.ShortConvIdeal.main_arg0)) (m ((c.tc : Thread Cert.ShortConvIdeal.nD Cert.ShortConvIdeal.τ).loc Cert.ShortConvIdeal.main_arg1)) (m ((c.tc : Thread Cert.ShortConvIdeal.nD Cert.ShortConvIdeal.τ).loc Cert.ShortConvIdeal.main_arg2)),
    fun c => Cert.ShortConvRefIdeal.Spec.dTap (m ((c.tc : Thread Cert.ShortConvIdeal.nD Cert.ShortConvIdeal.τ).loc Cert.ShortConvIdeal.main_arg0)) (m ((c.tc : Thread Cert.ShortConvIdeal.nD Cert.ShortConvIdeal.τ).loc Cert.ShortConvIdeal.main_arg1)) 2,
    fun c => Cert.ShortConvRefIdeal.Spec.dTap (m ((c.tc : Thread Cert.ShortConvIdeal.nD Cert.ShortConvIdeal.τ).loc Cert.ShortConvIdeal.main_arg0)) (m ((c.tc : Thread Cert.ShortConvIdeal.nD Cert.ShortConvIdeal.τ).loc Cert.ShortConvIdeal.main_arg1)) 1,
    fun c => Cert.ShortConvRefIdeal.Spec.dTap (m ((c.tc : Thread Cert.ShortConvIdeal.nD Cert.ShortConvIdeal.τ).loc Cert.ShortConvIdeal.main_arg0)) (m ((c.tc : Thread Cert.ShortConvIdeal.nD Cert.ShortConvIdeal.τ).loc Cert.ShortConvIdeal.main_arg1)) 0,
    (θ_run _ _ _).mono (fun r h c => ?_) (Cert.ShortConvIdeal.Value.run_blocks m g),
    (θ_run _ _ _).mono (fun r h c => ?_) (Cert.ShortConvRefIdeal.Spec.run m' g')⟩
  · obtain ⟨h0, h1, h2, h3, ho⟩ := h c
    exact ⟨h0.trans (Cert.ShortConvIdeal.Grid.final_6 m c), h1.trans (Cert.ShortConvIdeal.Grid.final_7 m c),
      h2.trans (Cert.ShortConvIdeal.Grid.final_8 m c), h3.trans (Cert.ShortConvIdeal.Grid.final_9 m c), ho⟩
  · obtain ⟨h0, h1, h2, h3, ho⟩ := h c
    obtain ⟨a0, a1, a2⟩ := ha c
    rw [a0, a1, a2] at h0
    rw [a0, a1] at h1 h2 h3
    exact ⟨h0, h1, h2, h3, ho⟩

end Cert.Proof.ShortConv

end
-- ==== Proof.SsmPost.Lines.lean ====
/- The derivative of the skip, the gate and the grouped norm: its host operations in four stretches, and what each stretch leaves. -/
module

public import proofs.«01_k».proof.Proof.Gen.SsmPostRefIdeal
public import Idealize.ShloMosaic.Lib.StableHlo.Run
public import Idealize.ShloMosaic.Lib.Pipeline.Frame
public import proofs.«01_k».proof.Proof.Norm.Real
public import Idealize.ShloMosaic.Lib.Pointwise

@[expose] public section

set_option maxRecDepth 16384

noncomputable section

namespace Cert.SsmPostRefIdeal.Lines

open Cert.SsmPostRefIdeal Cert.SsmPostRefIdeal.Gen Idealize.ShloMosaic Idealize.ShloMosaic.TcCoe Idealize.SL.Sem Idealize.ShloMosaic.StableHlo

section Run

variable {F : FTy → Type} [FloatOps F]

/-- The gate, the skip and their product, in two groups of columns. -/
abbrev opsA : List (HloOp τ sig (Elt F)) :=
  [ reshape main_arg4 main_v0 (rfl : (.f32 : EltTy) = .f32) shapeCasts_S1x8_S8x1,
    unary main_v0 main_v1 (broadcastInDim S8x64 ![0, 1] bcast_S8x1_S8x64_0_1 : (⟨S8x1, .f32⟩ : BufTy).Contents (Elt F) → (⟨S8x64, .f32⟩ : BufTy).Contents (Elt F)),
    reshape main_v1 main_v2 (rfl : (.f32 : EltTy) = .f32) shapeCasts_S8x64_S1x512,
    unary main_arg1 main_v3 ((extractStridedSlice S16384x512 ![0, 0] · slices_S16384x768_S16384x512_0_0) : (⟨S16384x768, .f32⟩ : BufTy).Contents (Elt F) → (⟨S16384x512, .f32⟩ : BufTy).Contents (Elt F)),
    unary main_arg2 main_v4 ((extractStridedSlice S16384x512 ![0, 1536] · slices_S16384x5896_S16384x512_0_1536) : (⟨S16384x5896, .f32⟩ : BufTy).Contents (Elt F) → (⟨S16384x512, .f32⟩ : BufTy).Contents (Elt F)),
    TRef.unary (TRef.of (T := ⟨S16384x512, .f32⟩) main_v3) (TRef.of (T := ⟨S16384x512, .f32⟩) main_call0_v0) Host.negf,
    TRef.unary (TRef.of (T := ⟨S16384x512, .f32⟩) main_call0_v0) (TRef.of (T := ⟨S16384x512, .f32⟩) main_call0_v1) Host.exp,
    TRef.nullary (TRef.of (T := ⟨S_, .f32⟩) main_call0_cst) (constant S_ .f32 0x3F800000#32),
    TRef.unary (TRef.of (T := ⟨S_, .f32⟩) main_call0_cst) (TRef.of (T := ⟨S16384x512, .f32⟩) main_call0_v2) (broadcastInDim S16384x512 ![] bcast_S_S16384x512),
    TRef.binary (TRef.of (T := ⟨S16384x512, .f32⟩) main_call0_v2) (TRef.of (T := ⟨S16384x512, .f32⟩) main_call0_v1) (TRef.of (T := ⟨S16384x512, .f32⟩) main_call0_v3) addf,
    TRef.nullary (TRef.of (T := ⟨S_, .f32⟩) main_call0_cst_0) (constant S_ .f32 0x3F800000#32),
    TRef.unary (TRef.of (T := ⟨S_, .f32⟩) main_call0_cst_0) (TRef.of (T := ⟨S16384x512, .f32⟩) main_call0_v4) (broadcastInDim S16384x512 ![] bcast_S_S16384x512),
    TRef.binary (TRef.of (T := ⟨S16384x512, .f32⟩) main_call0_v4) (TRef.of (T := ⟨S16384x512, .f32⟩) main_call0_v3) (TRef.of (T := ⟨S16384x512, .f32⟩) main_v5_2) Host.divf,
    TRef.nullary (TRef.of (T := ⟨S_, .f32⟩) main_call0_cst_1) (constant S_ .f32 0x3F800000#32),
    TRef.unary (TRef.of (T := ⟨S_, .f32⟩) main_call0_cst_1) (TRef.of (T := ⟨S16384x512, .f32⟩) main_call0_v6) (broadcastInDim S16384x512 ![] bcast_S_S16384x512),
    TRef.binary (TRef.of (T := ⟨S16384x512, .f32⟩) main_call0_v6) (TRef.of (T := ⟨S16384x512, .f32⟩) main_v5_2) (TRef.of (T := ⟨S16384x512, .f32⟩) main_call0_v7) subf,
    TRef.binary (TRef.of (T := ⟨S16384x512, .f32⟩) main_v5_2) (TRef.of (T := ⟨S16384x512, .f32⟩) main_call0_v7) (TRef.of (T := ⟨S16384x512, .f32⟩) main_v5_1) mulf,
    TRef.binary (TRef.of (T := ⟨S16384x512, .f32⟩) main_v3) (TRef.of (T := ⟨S16384x512, .f32⟩) main_v5_2) (TRef.of (T := ⟨S16384x512, .f32⟩) main_v5_0) mulf,
    unary main_v2 main_v6 (broadcastInDim S16384x512 ![0, 1] bcast_S1x512_S16384x512_0_1 : (⟨S1x512, .f32⟩ : BufTy).Contents (Elt F) → (⟨S16384x512, .f32⟩ : BufTy).Contents (Elt F)),
    binary main_v5_0 main_v6 main_v7 (mulf : (⟨S16384x512, .f32⟩ : BufTy).Contents (Elt F) → (⟨S16384x512, .f32⟩ : BufTy).Contents (Elt F) → (⟨S16384x512, .f32⟩ : BufTy).Contents (Elt F)),
    binary main_arg0 main_v7 main_v8 (addf : (⟨S16384x512, .f32⟩ : BufTy).Contents (Elt F) → (⟨S16384x512, .f32⟩ : BufTy).Contents (Elt F) → (⟨S16384x512, .f32⟩ : BufTy).Contents (Elt F)),
    TRef.unary (TRef.of (T := ⟨S16384x512, .f32⟩) main_v4) (TRef.of (T := ⟨S16384x512, .f32⟩) main_call1_v0) Host.negf,
    TRef.unary (TRef.of (T := ⟨S16384x512, .f32⟩) main_call1_v0) (TRef.of (T := ⟨S16384x512, .f32⟩) main_call1_v1) Host.exp,
    TRef.nullary (TRef.of (T := ⟨S_, .f32⟩) main_call1_cst) (constant S_ .f32 0x3F800000#32),
    TRef.unary (TRef.of (T := ⟨S_, .f32⟩) main_call1_cst) (TRef.of (T := ⟨S16384x512, .f32⟩) main_call1_v2) (broadcastInDim S16384x512 ![] bcast_S_S16384x512),
    TRef.binary (TRef.of (T := ⟨S16384x512, .f32⟩) main_call1_v2) (TRef.of (T := ⟨S16384x512, .f32⟩) main_call1_v1) (TRef.of (T := ⟨S16384x512, .f32⟩) main_call1_v3) addf,
    TRef.nullary (TRef.of (T := ⟨S_, .f32⟩) main_call1_cst_0) (constant S_ .f32 0x3F800000#32),
    TRef.unary (TRef.of (T := ⟨S_, .f32⟩) main_call1_cst_0) (TRef.of (T := ⟨S16384x512, .f32⟩) main_call1_v4) (broadcastInDim S16384x512 ![] bcast_S_S16384x512),
    TRef.binary (TRef.of (T := ⟨S16384x512, .f32⟩) main_call1_v4) (TRef.of (T := ⟨S16384x512, .f32⟩) main_call1_v3) (TRef.of (T := ⟨S16384x512, .f32⟩) main_v9_2) Host.divf,
    TRef.nullary (TRef.of (T := ⟨S_, .f32⟩) main_call1_cst_1) (constant S_ .f32 0x3F800000#32),
    TRef.unary (TRef.of (T := ⟨S_, .f32⟩) main_call1_cst_1) (TRef.of (T := ⟨S16384x512, .f32⟩) main_call1_v6) (broadcastInDim S16384x512 ![] bcast_S_S16384x512),
    TRef.binary (TRef.of (T := ⟨S16384x512, .f32⟩) main_call1_v6) (TRef.of (T := ⟨S16384x512, .f32⟩) main_v9_2) (TRef.of (T := ⟨S16384x512, .f32⟩) main_call1_v7) subf,
    TRef.binary (TRef.of (T := ⟨S16384x512, .f32⟩) main_v9_2) (TRef.of (T := ⟨S16384x512, .f32⟩) main_call1_v7) (TRef.of (T := ⟨S16384x512, .f32⟩) main_v9_1) mulf,
    TRef.binary (TRef.of (T := ⟨S16384x512, .f32⟩) main_v4) (TRef.of (T := ⟨S16384x512, .f32⟩) main_v9_2) (TRef.of (T := ⟨S16384x512, .f32⟩) main_v9_0) mulf,
    binary main_v8 main_v9_0 main_v10 (mulf : (⟨S16384x512, .f32⟩ : BufTy).Contents (Elt F) → (⟨S16384x512, .f32⟩ : BufTy).Contents (Elt F) → (⟨S16384x512, .f32⟩ : BufTy).Contents (Elt F)),
    reshape main_v10 main_v11 (rfl : (.f32 : EltTy) = .f32) shapeCasts_S16384x512_S16384x2x256 ]

/-- The norm of each group. -/
abbrev opsB : List (HloOp τ sig (Elt F)) :=
  [ binary main_v11 main_v11 main_v12 (mulf : (⟨S16384x2x256, .f32⟩ : BufTy).Contents (Elt F) → (⟨S16384x2x256, .f32⟩ : BufTy).Contents (Elt F) → (⟨S16384x2x256, .f32⟩ : BufTy).Contents (Elt F)),
    nullary main_cst (constant S_ .f32 0x00000000#32),
    binary main_v12 main_cst main_v13 ((fun x v => Host.reduceAdd x v reducesTo_S16384x2x256_S16384x2_d2 h_S_) : (⟨S16384x2x256, .f32⟩ : BufTy).Contents (Elt F) → (⟨S_, .f32⟩ : BufTy).Contents (Elt F) → (⟨S16384x2, .f32⟩ : BufTy).Contents (Elt F)),
    unary main_v13 main_v14 (broadcastInDim S16384x2x1 ![0, 1] bcast_S16384x2_S16384x2x1_0_1 : (⟨S16384x2, .f32⟩ : BufTy).Contents (Elt F) → (⟨S16384x2x1, .f32⟩ : BufTy).Contents (Elt F)),
    nullary main_cst_0 (constant S_ .f32 0x43800000#32),
    unary main_cst_0 main_v15 (broadcastInDim S16384x2x1 ![] bcast_S_S16384x2x1 : (⟨S_, .f32⟩ : BufTy).Contents (Elt F) → (⟨S16384x2x1, .f32⟩ : BufTy).Contents (Elt F)),
    binary main_v14 main_v15 main_v16 (Host.divf : (⟨S16384x2x1, .f32⟩ : BufTy).Contents (Elt F) → (⟨S16384x2x1, .f32⟩ : BufTy).Contents (Elt F) → (⟨S16384x2x1, .f32⟩ : BufTy).Contents (Elt F)),
    nullary main_cst_1 (constant S_ .f32 0x358637BD#32),
    unary main_cst_1 main_v17 (broadcastInDim S16384x2x1 ![] bcast_S_S16384x2x1 : (⟨S_, .f32⟩ : BufTy).Contents (Elt F) → (⟨S16384x2x1, .f32⟩ : BufTy).Contents (Elt F)),
    binary main_v16 main_v17 main_v18 (addf : (⟨S16384x2x1, .f32⟩ : BufTy).Contents (Elt F) → (⟨S16384x2x1, .f32⟩ : BufTy).Contents (Elt F) → (⟨S16384x2x1, .f32⟩ : BufTy).Contents (Elt F)),
    unary main_v18 main_v19 (Host.rsqrt : (⟨S16384x2x1, .f32⟩ : BufTy).Contents (Elt F) → (⟨S16384x2x1, .f32⟩ : BufTy).Contents (Elt F)),
    binary main_v19 main_v18 main_v20 (Host.divf : (⟨S16384x2x1, .f32⟩ : BufTy).Contents (Elt F) → (⟨S16384x2x1, .f32⟩ : BufTy).Contents (Elt F) → (⟨S16384x2x1, .f32⟩ : BufTy).Contents (Elt F)),
    nullary main_cst_2 (constant S_ .f32 0xBF000000#32),
    unary main_cst_2 main_v21 (broadcastInDim S16384x2x1 ![] bcast_S_S16384x2x1 : (⟨S_, .f32⟩ : BufTy).Contents (Elt F) → (⟨S16384x2x1, .f32⟩ : BufTy).Contents (Elt F)),
    binary main_v21 main_v20 main_v22 (mulf : (⟨S16384x2x1, .f32⟩ : BufTy).Contents (Elt F) → (⟨S16384x2x1, .f32⟩ : BufTy).Contents (Elt F) → (⟨S16384x2x1, .f32⟩ : BufTy).Contents (Elt F)),
    unary main_v19 main_v23 (broadcastInDim S16384x2x256 ![0, 1, 2] bcast_S16384x2x1_S16384x2x256_0_1_2 : (⟨S16384x2x1, .f32⟩ : BufTy).Contents (Elt F) → (⟨S16384x2x256, .f32⟩ : BufTy).Contents (Elt F)),
    binary main_v11 main_v23 main_v24 (mulf : (⟨S16384x2x256, .f32⟩ : BufTy).Contents (Elt F) → (⟨S16384x2x256, .f32⟩ : BufTy).Contents (Elt F) → (⟨S16384x2x256, .f32⟩ : BufTy).Contents (Elt F)),
    reshape main_v24 main_v25 (rfl : (.f32 : EltTy) = .f32) shapeCasts_S16384x2x256_S16384x512 ]

/-- The gradient through the norm. -/
abbrev opsC : List (HloOp τ sig (Elt F)) :=
  [ unary main_arg5 main_v26 (broadcastInDim S16384x512 ![0, 1] bcast_S1x512_S16384x512_0_1 : (⟨S1x512, .f32⟩ : BufTy).Contents (Elt F) → (⟨S16384x512, .f32⟩ : BufTy).Contents (Elt F)),
    binary main_v25 main_v26 main_v27 (mulf : (⟨S16384x512, .f32⟩ : BufTy).Contents (Elt F) → (⟨S16384x512, .f32⟩ : BufTy).Contents (Elt F) → (⟨S16384x512, .f32⟩ : BufTy).Contents (Elt F)),
    binary main_v25 main_arg3 main_v28 (mulf : (⟨S16384x512, .f32⟩ : BufTy).Contents (Elt F) → (⟨S16384x512, .f32⟩ : BufTy).Contents (Elt F) → (⟨S16384x512, .f32⟩ : BufTy).Contents (Elt F)),
    nullary main_cst_3 (constant S_ .f32 0x00000000#32),
    binary main_v28 main_cst_3 main_v29 ((fun x v => Host.reduceAdd x v reducesTo_S16384x512_S512_d0 h_S_) : (⟨S16384x512, .f32⟩ : BufTy).Contents (Elt F) → (⟨S_, .f32⟩ : BufTy).Contents (Elt F) → (⟨S512, .f32⟩ : BufTy).Contents (Elt F)),
    reshape main_v29 main_v30 (rfl : (.f32 : EltTy) = .f32) shapeCasts_S512_S1x512,
    unary main_arg5 main_v31 (broadcastInDim S16384x512 ![0, 1] bcast_S1x512_S16384x512_0_1 : (⟨S1x512, .f32⟩ : BufTy).Contents (Elt F) → (⟨S16384x512, .f32⟩ : BufTy).Contents (Elt F)),
    binary main_arg3 main_v31 main_v32 (mulf : (⟨S16384x512, .f32⟩ : BufTy).Contents (Elt F) → (⟨S16384x512, .f32⟩ : BufTy).Contents (Elt F) → (⟨S16384x512, .f32⟩ : BufTy).Contents (Elt F)),
    reshape main_v32 main_v33 (rfl : (.f32 : EltTy) = .f32) shapeCasts_S16384x512_S16384x2x256,
    binary main_v11 main_v33 main_v34 (mulf : (⟨S16384x2x256, .f32⟩ : BufTy).Contents (Elt F) → (⟨S16384x2x256, .f32⟩ : BufTy).Contents (Elt F) → (⟨S16384x2x256, .f32⟩ : BufTy).Contents (Elt F)),
    nullary main_cst_4 (constant S_ .f32 0x00000000#32),
    binary main_v34 main_cst_4 main_v35 ((fun x v => Host.reduceAdd x v reducesTo_S16384x2x256_S16384x2_d2 h_S_) : (⟨S16384x2x256, .f32⟩ : BufTy).Contents (Elt F) → (⟨S_, .f32⟩ : BufTy).Contents (Elt F) → (⟨S16384x2, .f32⟩ : BufTy).Contents (Elt F)),
    reshape main_v35 main_v36 (rfl : (.f32 : EltTy) = .f32) shapeCasts_S16384x2_S16384x2x1,
    unary main_v19 main_v37 (broadcastInDim S16384x2x256 ![0, 1, 2] bcast_S16384x2x1_S16384x2x256_0_1_2 : (⟨S16384x2x1, .f32⟩ : BufTy).Contents (Elt F) → (⟨S16384x2x256, .f32⟩ : BufTy).Contents (Elt F)),
    binary main_v33 main_v37 main_v38 (mulf : (⟨S16384x2x256, .f32⟩ : BufTy).Contents (Elt F) → (⟨S16384x2x256, .f32⟩ : BufTy).Contents (Elt F) → (⟨S16384x2x256, .f32⟩ : BufTy).Contents (Elt F)),
    binary main_v36 main_v22 main_v39 (mulf : (⟨S16384x2x1, .f32⟩ : BufTy).Contents (Elt F) → (⟨S16384x2x1, .f32⟩ : BufTy).Contents (Elt F) → (⟨S16384x2x1, .f32⟩ : BufTy).Contents (Elt F)),
    nullary main_cst_5 (constant S_ .f32 0x43800000#32),
    unary main_cst_5 main_v40 (broadcastInDim S16384x2x1 ![] bcast_S_S16384x2x1 : (⟨S_, .f32⟩ : BufTy).Contents (Elt F) → (⟨S16384x2x1, .f32⟩ : BufTy).Contents (Elt F)),
    binary main_v39 main_v40 main_v41 (Host.divf : (⟨S16384x2x1, .f32⟩ : BufTy).Contents (Elt F) → (⟨S16384x2x1, .f32⟩ : BufTy).Contents (Elt F) → (⟨S16384x2x1, .f32⟩ : BufTy).Contents (Elt F)),
    nullary main_cst_6 (constant S_ .f32 0x00000000#32),
    binary main_v41 main_cst_6 main_v42 ((fun x v => Host.reduceAdd x v reducesTo_S16384x2x1_S16384x2_d2 h_S_) : (⟨S16384x2x1, .f32⟩ : BufTy).Contents (Elt F) → (⟨S_, .f32⟩ : BufTy).Contents (Elt F) → (⟨S16384x2, .f32⟩ : BufTy).Contents (Elt F)),
    unary main_v42 main_v43 (broadcastInDim S16384x2x256 ![0, 1] bcast_S16384x2_S16384x2x256_0_1 : (⟨S16384x2, .f32⟩ : BufTy).Contents (Elt F) → (⟨S16384x2x256, .f32⟩ : BufTy).Contents (Elt F)),
    binary main_v11 main_v43 main_v44 (mulf : (⟨S16384x2x256, .f32⟩ : BufTy).Contents (Elt F) → (⟨S16384x2x256, .f32⟩ : BufTy).Contents (Elt F) → (⟨S16384x2x256, .f32⟩ : BufTy).Contents (Elt F)),
    binary main_v38 main_v44 main_v45 (addf : (⟨S16384x2x256, .f32⟩ : BufTy).Contents (Elt F) → (⟨S16384x2x256, .f32⟩ : BufTy).Contents (Elt F) → (⟨S16384x2x256, .f32⟩ : BufTy).Contents (Elt F)),
    binary main_v43 main_v11 main_v46 (mulf : (⟨S16384x2x256, .f32⟩ : BufTy).Contents (Elt F) → (⟨S16384x2x256, .f32⟩ : BufTy).Contents (Elt F) → (⟨S16384x2x256, .f32⟩ : BufTy).Contents (Elt F)),
    binary main_v45 main_v46 main_v47 (addf : (⟨S16384x2x256, .f32⟩ : BufTy).Contents (Elt F) → (⟨S16384x2x256, .f32⟩ : BufTy).Contents (Elt F) → (⟨S16384x2x256, .f32⟩ : BufTy).Contents (Elt F)),
    reshape main_v47 main_v48 (rfl : (.f32 : EltTy) = .f32) shapeCasts_S16384x2x256_S16384x512 ]

/-- The gradients of the two gates and of the skip. -/
abbrev opsD : List (HloOp τ sig (Elt F)) :=
  [ binary main_v8 main_v48 main_v49 (mulf : (⟨S16384x512, .f32⟩ : BufTy).Contents (Elt F) → (⟨S16384x512, .f32⟩ : BufTy).Contents (Elt F) → (⟨S16384x512, .f32⟩ : BufTy).Contents (Elt F)),
    binary main_v48 main_v9_0 main_v50 (mulf : (⟨S16384x512, .f32⟩ : BufTy).Contents (Elt F) → (⟨S16384x512, .f32⟩ : BufTy).Contents (Elt F) → (⟨S16384x512, .f32⟩ : BufTy).Contents (Elt F)),
    TRef.binary (TRef.of (T := ⟨S16384x512, .f32⟩) main_v4) (TRef.of (T := ⟨S16384x512, .f32⟩) main_v49) (TRef.of (T := ⟨S16384x512, .f32⟩) main_call2_v0) mulf,
    TRef.binary (TRef.of (T := ⟨S16384x512, .f32⟩) main_v49) (TRef.of (T := ⟨S16384x512, .f32⟩) main_v9_2) (TRef.of (T := ⟨S16384x512, .f32⟩) main_call2_v1) mulf,
    TRef.binary (TRef.of (T := ⟨S16384x512, .f32⟩) main_call2_v0) (TRef.of (T := ⟨S16384x512, .f32⟩) main_v9_1) (TRef.of (T := ⟨S16384x512, .f32⟩) main_call2_v2) mulf,
    TRef.binary (TRef.of (T := ⟨S16384x512, .f32⟩) main_call2_v1) (TRef.of (T := ⟨S16384x512, .f32⟩) main_call2_v2) (TRef.of (T := ⟨S16384x512, .f32⟩) main_v51) addf,
    binary main_v5_0 main_v50 main_v52 (mulf : (⟨S16384x512, .f32⟩ : BufTy).Contents (Elt F) → (⟨S16384x512, .f32⟩ : BufTy).Contents (Elt F) → (⟨S16384x512, .f32⟩ : BufTy).Contents (Elt F)),
    nullary main_cst_7 (constant S_ .f32 0x00000000#32),
    binary main_v52 main_cst_7 main_v53 ((fun x v => Host.reduceAdd x v reducesTo_S16384x512_S512_d0 h_S_) : (⟨S16384x512, .f32⟩ : BufTy).Contents (Elt F) → (⟨S_, .f32⟩ : BufTy).Contents (Elt F) → (⟨S512, .f32⟩ : BufTy).Contents (Elt F)),
    reshape main_v53 main_v54 (rfl : (.f32 : EltTy) = .f32) shapeCasts_S512_S1x512,
    unary main_v2 main_v55 (broadcastInDim S16384x512 ![0, 1] bcast_S1x512_S16384x512_0_1 : (⟨S1x512, .f32⟩ : BufTy).Contents (Elt F) → (⟨S16384x512, .f32⟩ : BufTy).Contents (Elt F)),
    binary main_v50 main_v55 main_v56 (mulf : (⟨S16384x512, .f32⟩ : BufTy).Contents (Elt F) → (⟨S16384x512, .f32⟩ : BufTy).Contents (Elt F) → (⟨S16384x512, .f32⟩ : BufTy).Contents (Elt F)),
    TRef.binary (TRef.of (T := ⟨S16384x512, .f32⟩) main_v3) (TRef.of (T := ⟨S16384x512, .f32⟩) main_v56) (TRef.of (T := ⟨S16384x512, .f32⟩) main_call3_v0) mulf,
    TRef.binary (TRef.of (T := ⟨S16384x512, .f32⟩) main_v56) (TRef.of (T := ⟨S16384x512, .f32⟩) main_v5_2) (TRef.of (T := ⟨S16384x512, .f32⟩) main_call3_v1) mulf,
    TRef.binary (TRef.of (T := ⟨S16384x512, .f32⟩) main_call3_v0) (TRef.of (T := ⟨S16384x512, .f32⟩) main_v5_1) (TRef.of (T := ⟨S16384x512, .f32⟩) main_call3_v2) mulf,
    TRef.binary (TRef.of (T := ⟨S16384x512, .f32⟩) main_call3_v1) (TRef.of (T := ⟨S16384x512, .f32⟩) main_call3_v2) (TRef.of (T := ⟨S16384x512, .f32⟩) main_v57) addf,
    unary main_v51 main_v58 ((truncf .bf16 · bitsLt_bf16_f32) : (⟨S16384x512, .f32⟩ : BufTy).Contents (Elt F) → (⟨S16384x512, .bf16⟩ : BufTy).Contents (Elt F)) ]

/-- @main's operations, in order. -/
abbrev ops : List (HloOp τ sig (Elt F)) := opsA ++ (opsB ++ (opsC ++ opsD))

set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem opsA_sub : (opsA : List (HloOp τ sig (Elt F))).Forall fun op => op.bufs ⊆ tcRefs τ sig :=
  ⟨reshape_bufs_sub .., unary_bufs_sub .., reshape_bufs_sub .., unary_bufs_sub .., unary_bufs_sub .., unary_bufs_sub .., unary_bufs_sub .., nullary_bufs_sub .., unary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., nullary_bufs_sub .., unary_bufs_sub .., binary_bufs_sub .., binary_bufs_sub .., binary_bufs_sub .., binary_bufs_sub .., reshape_bufs_sub ..⟩
theorem opsB_sub : (opsB : List (HloOp τ sig (Elt F))).Forall fun op => op.bufs ⊆ tcRefs τ sig :=
  ⟨binary_bufs_sub .., nullary_bufs_sub .., binary_bufs_sub .., unary_bufs_sub .., nullary_bufs_sub .., unary_bufs_sub .., binary_bufs_sub .., nullary_bufs_sub .., unary_bufs_sub .., binary_bufs_sub .., unary_bufs_sub .., binary_bufs_sub .., nullary_bufs_sub .., unary_bufs_sub .., binary_bufs_sub .., unary_bufs_sub .., binary_bufs_sub .., reshape_bufs_sub ..⟩
theorem opsC_sub : (opsC : List (HloOp τ sig (Elt F))).Forall fun op => op.bufs ⊆ tcRefs τ sig :=
  ⟨unary_bufs_sub .., binary_bufs_sub .., binary_bufs_sub .., nullary_bufs_sub .., binary_bufs_sub .., reshape_bufs_sub .., unary_bufs_sub .., binary_bufs_sub .., reshape_bufs_sub .., binary_bufs_sub .., nullary_bufs_sub .., binary_bufs_sub .., reshape_bufs_sub .., unary_bufs_sub .., binary_bufs_sub .., binary_bufs_sub .., nullary_bufs_sub .., unary_bufs_sub .., binary_bufs_sub .., nullary_bufs_sub .., binary_bufs_sub .., unary_bufs_sub .., binary_bufs_sub .., binary_bufs_sub .., binary_bufs_sub .., binary_bufs_sub .., reshape_bufs_sub ..⟩
theorem opsD_sub : (opsD : List (HloOp τ sig (Elt F))).Forall fun op => op.bufs ⊆ tcRefs τ sig :=
  ⟨binary_bufs_sub .., binary_bufs_sub .., binary_bufs_sub .., binary_bufs_sub .., binary_bufs_sub .., binary_bufs_sub .., binary_bufs_sub .., nullary_bufs_sub .., binary_bufs_sub .., reshape_bufs_sub .., unary_bufs_sub .., binary_bufs_sub .., binary_bufs_sub .., binary_bufs_sub .., binary_bufs_sub .., binary_bufs_sub .., unary_bufs_sub ..⟩

theorem ops_sub : (ops : List (HloOp τ sig (Elt F))).Forall fun op => op.bufs ⊆ tcRefs τ sig :=
  List.forall_append.mpr ⟨opsA_sub, List.forall_append.mpr ⟨opsB_sub, List.forall_append.mpr ⟨opsC_sub, opsD_sub⟩⟩⟩

/-- The buffers after the four stretches, one after the other. -/
theorem after_ops (V : Valuation τ sig (Elt F)) : after ops V = after opsD (after opsC (after opsB (after opsA V))) := by
  rw [ops, after_append, after_append, after_append]

theorem run (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = after opsD (after opsC (after opsB (after opsA fun b => m (c, b)))) (Proc.devRef .tc b) :=
  (θ_run defs _ _).mono (fun r h c b => (h c b).trans (by rw [after_ops]))
    (run_seq scopedRefs_eq scopedSems_eq defs main (fun _ => ops) main_eq (fun _ => ops_sub) m ρ)

end Run

end Cert.SsmPostRefIdeal.Lines

end
-- ==== Proof.SsmPost.Spec.lean ====
/- The derivative of the skip, the gate and the grouped norm: what each of its results holds, over the real numbers. -/
module

public import proofs.«01_k».proof.Proof.SsmPost.Lines

@[expose] public section

set_option maxRecDepth 16384

noncomputable section

namespace Cert.SsmPostRefIdeal.Spec

open Cert.SsmPostRefIdeal Cert.SsmPostRefIdeal.Gen Idealize.ShloMosaic Idealize.ShloMosaic.TcCoe Idealize.SL.Sem Cert.Proof.Norm
open Idealize.ShloMosaic.StableHlo Cert.SsmPostRefIdeal.Lines

/-- The logistic function. -/
def sg (x : ℝ) : ℝ := (1 + Real.exp (-x))⁻¹

theorem logistic_real (x : ℝ) : Ideal.logistic (x : EReal) = ((sg x : ℝ) : EReal) := by rw [Ideal.logistic_coe]; rfl

theorem div_exp (x : ℝ) : Ideal.div ((1 : ℝ) : EReal) (((1 : ℝ) : EReal) + Ideal.exp (-(x : EReal))) = ((sg x : ℝ) : EReal) := logistic_real x

theorem word_256 : Ideal.ofBits .f32 0x43800000#32 = ((256 : ℝ) : EReal) := by
  simp [Ideal.ofBits, Ideal.ieee, -EReal.coe_mul]
  norm_num

theorem div_256 (y : ℝ) : Ideal.div (y : EReal) ((256 : ℝ) : EReal) = ((y * (1 / 256) : ℝ) : EReal) := div_real (by norm_num)

theorem level_256 (x : ℕ → ℕ → ℝ) (p : ℕ) : (∑ k : Fin 256, x p k * x p k) * (1 / 256) + eps = level 256 x p := by
  simp [level]

/-- The columns of group `g`, of 256 columns each. -/
def half (g : ℕ) (x : ℕ → ℕ → ℝ) (p k : ℕ) : ℝ := x p (g * 256 + k)

/-- A function of a group's numbers, put back at the columns of the whole array. -/
def whole (f : ℕ → ℕ → ℕ → ℝ) (p q : ℕ) : ℝ := f (q / 256) p (q % 256)

/-- A head's number, at each of its 64 columns. -/
def rep (s : ℕ → ℕ → ℝ) (_ q : ℕ) : ℝ := s 0 (q / 64)

/-- The gate's columns of the projection. -/
def gate (x : ℕ → ℕ → ℝ) (p q : ℕ) : ℝ := x p (1536 + q)

/-- The scan's output and the skip. -/
def t (y a d : ℕ → ℕ → ℝ) (p q : ℕ) : ℝ := y p q + a p q * sg (a p q) * d 0 q

/-- The gate. -/
def gz (z : ℕ → ℕ → ℝ) (p q : ℕ) : ℝ := z p q * sg (z p q)

/-- The gated array, which the norm takes group by group. -/
def gated (y a z d : ℕ → ℕ → ℝ) (p q : ℕ) : ℝ := t y a d p q * gz z p q

/-- The cotangent of the normed array. -/
def dn (h w : ℕ → ℕ → ℝ) (p q : ℕ) : ℝ := h p q * w 0 q

/-- The normed array. -/
def normed (x : ℕ → ℕ → ℝ) : ℕ → ℕ → ℝ := whole fun g => unit 256 (half g x)

/-- The gradient of the gated array. -/
def dy (x e : ℕ → ℕ → ℝ) : ℕ → ℕ → ℝ := whole fun g => grad 256 (half g x) (half g e)

variable (y a z h d w : ℕ → ℕ → ℝ)

/-- The gradient of the scan's output. -/
def dt (p q : ℕ) : ℝ := dy (gated y a z d) (dn h w) p q * gz z p q

/-- The gradient of what the skip's gate reads. -/
def da (p q : ℕ) : ℝ := dt y a z h d w p q * d 0 q * (sg (a p q) + a p q * sg (a p q) * (1 - sg (a p q)))

/-- The gradient of what the gate reads. -/
def dz (p q : ℕ) : ℝ := dy (gated y a z d) (dn h w) p q * t y a d p q * (sg (z p q) + gz z p q * (1 - sg (z p q)))

/-- The gradient of the skip's weights, summed over the rows. -/
def dd (_ q : ℕ) : ℝ := ∑ r : Fin 16384, dt y a z h d w r q * (a r q * sg (a r q))

/-- The gradient of the norm's weights, summed over the rows. -/
def dw (_ q : ℕ) : ℝ := ∑ r : Fin 16384, h r q * normed (gated y a z d) r q

/-- Every entry of the array of groups is the real number `f` gives at its row and its column of the whole array. -/
def Is3 {a b c : ℕ} (x : FVec Ideal ⟨3, ![a, b, c]⟩ .f32) (f : ℕ → ℕ → ℕ → ℝ) : Prop :=
  ∀ (p : Fin a) (g : Fin b) (k : Fin c), (x (Idealize.ShloMosaic.ix3 p g k) : EReal) = ((f p g k : ℝ) : EReal)

variable {y a z h d w}

section A
variable (V : Valuation τ sig (Elt Ideal)) {s x : ℕ → ℕ → ℝ}
  (h0 : Is (φ := .f32) (V (Proc.devRef .tc main_arg0)) y)
  (h1 : Is (a := 16384) (b := 768) (φ := .f32) (V (Proc.devRef .tc main_arg1)) a)
  (h2 : Is (a := 16384) (b := 5896) (φ := .f32) (V (Proc.devRef .tc main_arg2)) x)
  (h4 : Is (a := 1) (b := 8) (φ := .f32) (V (Proc.devRef .tc main_arg4)) s)

include h4 in
theorem A_v2 : Is (φ := .f32) (after opsA V (Proc.devRef .tc main_v2)) (rep s) := fun p q => by
  simp only [opsA, TRef.binary, TRef.nullary, TRef.unary, TRef.toBuf, TRef.ofBuf, cast_eq]
  after_results_simp
  pointwise
  exact h4 _ _

include h1 in
theorem A_v3 : Is (φ := .f32) (after opsA V (Proc.devRef .tc main_v3)) a := fun p q => by
  simp only [opsA, TRef.binary, TRef.nullary, TRef.unary, TRef.toBuf, TRef.ofBuf, cast_eq]
  after_results_simp
  pointwise
  exact h1 _ _

include h2 in
theorem A_v4 : Is (φ := .f32) (after opsA V (Proc.devRef .tc main_v4)) (gate x) := fun p q => by
  simp only [opsA, TRef.binary, TRef.nullary, TRef.unary, TRef.toBuf, TRef.ofBuf, cast_eq]
  after_results_simp
  pointwise
  exact h2 _ _

include h1 in
theorem A_v5_0 : Is (φ := .f32) (after opsA V (Proc.devRef .tc main_v5_0)) (fun p q => a p q * sg (a p q)) := fun p q => by
  simp only [opsA, TRef.binary, TRef.nullary, TRef.unary, TRef.toBuf, TRef.ofBuf, cast_eq]
  after_results_simp
  pointwise
  simp only [h1 _ _, one_real, div_exp, ← EReal.coe_mul, ← EReal.coe_add, ← EReal.coe_sub]

include h1 in
theorem A_v5_1 : Is (φ := .f32) (after opsA V (Proc.devRef .tc main_v5_1)) (fun p q => sg (a p q) * (1 - sg (a p q))) := fun p q => by
  simp only [opsA, TRef.binary, TRef.nullary, TRef.unary, TRef.toBuf, TRef.ofBuf, cast_eq]
  after_results_simp
  pointwise
  simp only [h1 _ _, one_real, div_exp, ← EReal.coe_mul, ← EReal.coe_add, ← EReal.coe_sub]

include h1 in
theorem A_v5_2 : Is (φ := .f32) (after opsA V (Proc.devRef .tc main_v5_2)) (fun p q => sg (a p q)) := fun p q => by
  simp only [opsA, TRef.binary, TRef.nullary, TRef.unary, TRef.toBuf, TRef.ofBuf, cast_eq]
  after_results_simp
  pointwise
  simp only [h1 _ _, one_real, div_exp, ← EReal.coe_mul, ← EReal.coe_add, ← EReal.coe_sub]

include h2 in
theorem A_v9_0 : Is (φ := .f32) (after opsA V (Proc.devRef .tc main_v9_0)) (gz (gate x)) := fun p q => by
  simp only [opsA, TRef.binary, TRef.nullary, TRef.unary, TRef.toBuf, TRef.ofBuf, cast_eq]
  after_results_simp
  pointwise
  simp only [h2 _ _, one_real, div_exp, ← EReal.coe_mul, ← EReal.coe_add, ← EReal.coe_sub]
  rfl

include h2 in
theorem A_v9_1 : Is (φ := .f32) (after opsA V (Proc.devRef .tc main_v9_1)) (fun p q => sg (gate x p q) * (1 - sg (gate x p q))) := fun p q => by
  simp only [opsA, TRef.binary, TRef.nullary, TRef.unary, TRef.toBuf, TRef.ofBuf, cast_eq]
  after_results_simp
  pointwise
  simp only [h2 _ _, one_real, div_exp, ← EReal.coe_mul, ← EReal.coe_add, ← EReal.coe_sub]
  rfl

include h2 in
theorem A_v9_2 : Is (φ := .f32) (after opsA V (Proc.devRef .tc main_v9_2)) (fun p q => sg (gate x p q)) := fun p q => by
  simp only [opsA, TRef.binary, TRef.nullary, TRef.unary, TRef.toBuf, TRef.ofBuf, cast_eq]
  after_results_simp
  pointwise
  simp only [h2 _ _, one_real, div_exp, ← EReal.coe_mul, ← EReal.coe_add, ← EReal.coe_sub]
  rfl

include h0 h1 h4 in
theorem A_v8 : Is (φ := .f32) (after opsA V (Proc.devRef .tc main_v8)) (t y a (rep s)) := fun p q => by
  simp only [opsA, TRef.binary, TRef.nullary, TRef.unary, TRef.toBuf, TRef.ofBuf, cast_eq]
  after_results_simp
  pointwise
  simp only [h0 _ _, h1 _ _, h4 _ _, one_real, div_exp, ← EReal.coe_mul, ← EReal.coe_add, ← EReal.coe_sub]
  rfl

include h0 h1 h2 h4 in
theorem A_v11 : Is3 (after opsA V (Proc.devRef .tc main_v11)) (fun p g k => half g (gated y a (gate x) (rep s)) p k) := fun p g k => by
  simp only [opsA, TRef.binary, TRef.nullary, TRef.unary, TRef.toBuf, TRef.ofBuf, cast_eq]
  after_results_simp
  pointwise
  simp only [h0 _ _, h1 _ _, h2 _ _, h4 _ _, one_real, div_exp, ← EReal.coe_mul, ← EReal.coe_add, ← EReal.coe_sub]
  rfl

end A

theorem A_kept (V : Valuation τ sig (Elt Ideal)) : after opsA V (Proc.devRef .tc main_arg0) = V (Proc.devRef .tc main_arg0)
    ∧ after opsA V (Proc.devRef .tc main_arg1) = V (Proc.devRef .tc main_arg1)
    ∧ after opsA V (Proc.devRef .tc main_arg2) = V (Proc.devRef .tc main_arg2)
    ∧ after opsA V (Proc.devRef .tc main_arg3) = V (Proc.devRef .tc main_arg3)
    ∧ after opsA V (Proc.devRef .tc main_arg4) = V (Proc.devRef .tc main_arg4)
    ∧ after opsA V (Proc.devRef .tc main_arg5) = V (Proc.devRef .tc main_arg5) := by
  refine ⟨?_, ?_, ?_, ?_, ?_, ?_⟩ <;> (simp only [opsA, TRef.binary, TRef.nullary, TRef.unary, TRef.toBuf, TRef.ofBuf, cast_eq]; after_results_simp)

section B
variable (V : Valuation τ sig (Elt Ideal)) {x : ℕ → ℕ → ℝ}
  (h11 : Is3 (V (Proc.devRef .tc main_v11)) (fun p g k => half g x p k))

include h11 in
theorem B_v25 : Is (φ := .f32) (after opsB V (Proc.devRef .tc main_v25)) (normed x) := fun p q => by
  simp only [opsB, TRef.binary, TRef.nullary, TRef.unary, TRef.toBuf, TRef.ofBuf, cast_eq]
  after_results_simp
  pointwise
  simp only [h11 _ _ _, word_256, word_eps, word_neg_half, ← EReal.coe_mul, ← EReal.coe_add, coe_sum, div_256, level_256, rsqrt_level, div_level]
  rfl

include h11 in
theorem B_v19 : Is3 (after opsB V (Proc.devRef .tc main_v19)) (fun p g _ => inv 256 (half g x) p) := fun p g k => by
  simp only [opsB, TRef.binary, TRef.nullary, TRef.unary, TRef.toBuf, TRef.ofBuf, cast_eq]
  after_results_simp
  pointwise
  simp only [h11 _ _ _, word_256, word_eps, word_neg_half, ← EReal.coe_mul, ← EReal.coe_add, coe_sum, div_256, level_256, rsqrt_level, div_level]

include h11 in
theorem B_v22 : Is3 (after opsB V (Proc.devRef .tc main_v22)) (fun p g _ => -(1 / 2) * (inv 256 (half g x) p * (1 / level 256 (half g x) p))) := fun p g k => by
  simp only [opsB, TRef.binary, TRef.nullary, TRef.unary, TRef.toBuf, TRef.ofBuf, cast_eq]
  after_results_simp
  pointwise
  simp only [h11 _ _ _, word_256, word_eps, word_neg_half, ← EReal.coe_mul, ← EReal.coe_add, coe_sum, div_256, level_256, rsqrt_level, div_level]

end B

theorem B_kept (V : Valuation τ sig (Elt Ideal)) : after opsB V (Proc.devRef .tc main_arg0) = V (Proc.devRef .tc main_arg0)
    ∧ after opsB V (Proc.devRef .tc main_arg1) = V (Proc.devRef .tc main_arg1)
    ∧ after opsB V (Proc.devRef .tc main_arg2) = V (Proc.devRef .tc main_arg2)
    ∧ after opsB V (Proc.devRef .tc main_arg3) = V (Proc.devRef .tc main_arg3)
    ∧ after opsB V (Proc.devRef .tc main_arg4) = V (Proc.devRef .tc main_arg4)
    ∧ after opsB V (Proc.devRef .tc main_arg5) = V (Proc.devRef .tc main_arg5)
    ∧ after opsB V (Proc.devRef .tc main_v2) = V (Proc.devRef .tc main_v2)
    ∧ after opsB V (Proc.devRef .tc main_v3) = V (Proc.devRef .tc main_v3)
    ∧ after opsB V (Proc.devRef .tc main_v4) = V (Proc.devRef .tc main_v4)
    ∧ after opsB V (Proc.devRef .tc main_v5_0) = V (Proc.devRef .tc main_v5_0)
    ∧ after opsB V (Proc.devRef .tc main_v5_1) = V (Proc.devRef .tc main_v5_1)
    ∧ after opsB V (Proc.devRef .tc main_v5_2) = V (Proc.devRef .tc main_v5_2)
    ∧ after opsB V (Proc.devRef .tc main_v8) = V (Proc.devRef .tc main_v8)
    ∧ after opsB V (Proc.devRef .tc main_v9_0) = V (Proc.devRef .tc main_v9_0)
    ∧ after opsB V (Proc.devRef .tc main_v9_1) = V (Proc.devRef .tc main_v9_1)
    ∧ after opsB V (Proc.devRef .tc main_v9_2) = V (Proc.devRef .tc main_v9_2)
    ∧ after opsB V (Proc.devRef .tc main_v11) = V (Proc.devRef .tc main_v11) := by
  refine ⟨?_, ?_, ?_, ?_, ?_, ?_, ?_, ?_, ?_, ?_, ?_, ?_, ?_, ?_, ?_, ?_, ?_⟩ <;> (simp only [opsB, TRef.binary, TRef.nullary, TRef.unary, TRef.toBuf, TRef.ofBuf, cast_eq]; after_results_simp)

section C
variable (V : Valuation τ sig (Elt Ideal)) {x : ℕ → ℕ → ℝ}
  (h3 : Is (φ := .f32) (V (Proc.devRef .tc main_arg3)) h) (h5 : Is (φ := .f32) (V (Proc.devRef .tc main_arg5)) w)
  (h11 : Is3 (V (Proc.devRef .tc main_v11)) (fun p g k => half g x p k))
  (h19 : Is3 (V (Proc.devRef .tc main_v19)) (fun p g _ => inv 256 (half g x) p))
  (h22 : Is3 (V (Proc.devRef .tc main_v22)) (fun p g _ => -(1 / 2) * (inv 256 (half g x) p * (1 / level 256 (half g x) p))))
  (h25 : Is (φ := .f32) (V (Proc.devRef .tc main_v25)) (normed x))

include h3 h5 h11 h19 h22 in
theorem C_v48 : Is (φ := .f32) (after opsC V (Proc.devRef .tc main_v48)) (dy x (dn h w)) := fun p q => by
  simp only [opsC, TRef.binary, TRef.nullary, TRef.unary, TRef.toBuf, TRef.ofBuf, cast_eq]
  after_results_simp
  pointwise
  simp only [h3 _ _, h5 _ _, h11 _ _ _, h19 _ _ _, h22 _ _ _, word_256, ← EReal.coe_mul, ← EReal.coe_add, coe_sum, div_256, Fin.sum_univ_one, Fin.val_eq_zero]
  exact congrArg _ (grad_eq 256 (half (q / 256) x) (half (q / 256) (dn h w)) p (q % 256) _ (by simp only [Nat.cast_ofNat]; rfl))

include h3 h25 in
theorem C_v30 : Is (φ := .f32) (after opsC V (Proc.devRef .tc main_v30)) (fun _ q => ∑ r : Fin 16384, h r q * normed x r q) := fun p q => by
  simp only [opsC, TRef.binary, TRef.nullary, TRef.unary, TRef.toBuf, TRef.ofBuf, cast_eq]
  after_results_simp
  pointwise
  simp only [h3 _ _, h25 _ _, ← EReal.coe_mul, coe_sum]
  exact congrArg _ (Finset.sum_congr rfl fun k _ => by ring)

end C

theorem C_kept (V : Valuation τ sig (Elt Ideal)) : after opsC V (Proc.devRef .tc main_arg0) = V (Proc.devRef .tc main_arg0)
    ∧ after opsC V (Proc.devRef .tc main_arg1) = V (Proc.devRef .tc main_arg1)
    ∧ after opsC V (Proc.devRef .tc main_arg2) = V (Proc.devRef .tc main_arg2)
    ∧ after opsC V (Proc.devRef .tc main_arg3) = V (Proc.devRef .tc main_arg3)
    ∧ after opsC V (Proc.devRef .tc main_arg4) = V (Proc.devRef .tc main_arg4)
    ∧ after opsC V (Proc.devRef .tc main_arg5) = V (Proc.devRef .tc main_arg5)
    ∧ after opsC V (Proc.devRef .tc main_v2) = V (Proc.devRef .tc main_v2)
    ∧ after opsC V (Proc.devRef .tc main_v3) = V (Proc.devRef .tc main_v3)
    ∧ after opsC V (Proc.devRef .tc main_v4) = V (Proc.devRef .tc main_v4)
    ∧ after opsC V (Proc.devRef .tc main_v5_0) = V (Proc.devRef .tc main_v5_0)
    ∧ after opsC V (Proc.devRef .tc main_v5_1) = V (Proc.devRef .tc main_v5_1)
    ∧ after opsC V (Proc.devRef .tc main_v5_2) = V (Proc.devRef .tc main_v5_2)
    ∧ after opsC V (Proc.devRef .tc main_v8) = V (Proc.devRef .tc main_v8)
    ∧ after opsC V (Proc.devRef .tc main_v9_0) = V (Proc.devRef .tc main_v9_0)
    ∧ after opsC V (Proc.devRef .tc main_v9_1) = V (Proc.devRef .tc main_v9_1)
    ∧ after opsC V (Proc.devRef .tc main_v9_2) = V (Proc.devRef .tc main_v9_2) := by
  refine ⟨?_, ?_, ?_, ?_, ?_, ?_, ?_, ?_, ?_, ?_, ?_, ?_, ?_, ?_, ?_, ?_⟩ <;> (simp only [opsC, TRef.binary, TRef.nullary, TRef.unary, TRef.toBuf, TRef.ofBuf, cast_eq]; after_results_simp)

section D
variable (V : Valuation τ sig (Elt Ideal)) {x : ℕ → ℕ → ℝ} {e : ℕ → ℕ → ℝ}
  (h2 : Is (φ := .f32) (V (Proc.devRef .tc main_v2)) d) (h3 : Is (φ := .f32) (V (Proc.devRef .tc main_v3)) a)
  (h4 : Is (φ := .f32) (V (Proc.devRef .tc main_v4)) z)
  (h50 : Is (φ := .f32) (V (Proc.devRef .tc main_v5_0)) fun p q => a p q * sg (a p q))
  (h51 : Is (φ := .f32) (V (Proc.devRef .tc main_v5_1)) fun p q => sg (a p q) * (1 - sg (a p q)))
  (h52 : Is (φ := .f32) (V (Proc.devRef .tc main_v5_2)) fun p q => sg (a p q))
  (h8 : Is (φ := .f32) (V (Proc.devRef .tc main_v8)) x)
  (h90 : Is (φ := .f32) (V (Proc.devRef .tc main_v9_0)) (gz z))
  (h91 : Is (φ := .f32) (V (Proc.devRef .tc main_v9_1)) fun p q => sg (z p q) * (1 - sg (z p q)))
  (h92 : Is (φ := .f32) (V (Proc.devRef .tc main_v9_2)) fun p q => sg (z p q))
  (h48 : Is (φ := .f32) (V (Proc.devRef .tc main_v48)) e)

include h48 h90 in
theorem D_v50 : Is (φ := .f32) (after opsD V (Proc.devRef .tc main_v50)) (fun p q => e p q * gz z p q) := fun p q => by
  simp only [opsD, TRef.binary, TRef.nullary, TRef.unary, TRef.toBuf, TRef.ofBuf, cast_eq]
  after_results_simp
  pointwise
  simp only [h48 _ _, h90 _ _, ← EReal.coe_mul, ← EReal.coe_add, coe_sum, Fin.val_eq_zero]

include h48 h90 h2 h3 h51 h52 in
theorem D_v57 : Is (φ := .f32) (after opsD V (Proc.devRef .tc main_v57)) (fun p q => e p q * gz z p q * d 0 q * (sg (a p q) + a p q * sg (a p q) * (1 - sg (a p q)))) := fun p q => by
  simp only [opsD, TRef.binary, TRef.nullary, TRef.unary, TRef.toBuf, TRef.ofBuf, cast_eq]
  after_results_simp
  pointwise
  simp only [h48 _ _, h90 _ _, h2 _ _, h3 _ _, h51 _ _, h52 _ _, ← EReal.coe_mul, ← EReal.coe_add, coe_sum, Fin.val_eq_zero]
  exact congrArg _ (by ring)

include h48 h8 h4 h91 h92 in
theorem D_v58 : Is (φ := .bf16) (after opsD V (Proc.devRef .tc main_v58)) (fun p q => e p q * x p q * (sg (z p q) + gz z p q * (1 - sg (z p q)))) := fun p q => by
  simp only [opsD, TRef.binary, TRef.nullary, TRef.unary, TRef.toBuf, TRef.ofBuf, cast_eq]
  after_results_simp
  pointwise
  simp only [h48 _ _, h8 _ _, h4 _ _, h91 _ _, h92 _ _, ← EReal.coe_mul, ← EReal.coe_add, coe_sum, Fin.val_eq_zero]
  exact congrArg _ (by rw [gz]; ring)

include h48 h50 h90 in
theorem D_v54 : Is (φ := .f32) (after opsD V (Proc.devRef .tc main_v54)) (fun _ q => ∑ r : Fin 16384, e r q * gz z r q * (a r q * sg (a r q))) := fun p q => by
  simp only [opsD, TRef.binary, TRef.nullary, TRef.unary, TRef.toBuf, TRef.ofBuf, cast_eq]
  after_results_simp
  pointwise
  simp only [h48 _ _, h50 _ _, h90 _ _, ← EReal.coe_mul, ← EReal.coe_add, coe_sum, Fin.val_eq_zero]
  exact congrArg _ (Finset.sum_congr rfl fun k _ => by ring)

end D

theorem D_kept (V : Valuation τ sig (Elt Ideal)) : after opsD V (Proc.devRef .tc main_arg0) = V (Proc.devRef .tc main_arg0)
    ∧ after opsD V (Proc.devRef .tc main_arg1) = V (Proc.devRef .tc main_arg1)
    ∧ after opsD V (Proc.devRef .tc main_arg2) = V (Proc.devRef .tc main_arg2)
    ∧ after opsD V (Proc.devRef .tc main_arg3) = V (Proc.devRef .tc main_arg3)
    ∧ after opsD V (Proc.devRef .tc main_arg4) = V (Proc.devRef .tc main_arg4)
    ∧ after opsD V (Proc.devRef .tc main_arg5) = V (Proc.devRef .tc main_arg5)
    ∧ after opsD V (Proc.devRef .tc main_v30) = V (Proc.devRef .tc main_v30) := by
  refine ⟨?_, ?_, ?_, ?_, ?_, ?_, ?_⟩ <;> (simp only [opsD, TRef.binary, TRef.nullary, TRef.unary, TRef.toBuf, TRef.ofBuf, cast_eq]; after_results_simp)

section All
variable (V : Valuation τ sig (Elt Ideal)) {s x : ℕ → ℕ → ℝ}
  (h0 : Is (φ := .f32) (V (Proc.devRef .tc main_arg0)) y)
  (h1 : Is (a := 16384) (b := 768) (φ := .f32) (V (Proc.devRef .tc main_arg1)) a)
  (h2 : Is (a := 16384) (b := 5896) (φ := .f32) (V (Proc.devRef .tc main_arg2)) x)
  (h3 : Is (φ := .f32) (V (Proc.devRef .tc main_arg3)) h)
  (h4 : Is (a := 1) (b := 8) (φ := .f32) (V (Proc.devRef .tc main_arg4)) s)
  (h5 : Is (φ := .f32) (V (Proc.devRef .tc main_arg5)) w)

include h0 h1 h2 h3 h4 h5 in
/-- What the four stretches leave in the five results. -/
theorem all : let W := after opsD (after opsC (after opsB (after opsA V)))
    Is (φ := .f32) (W (Proc.devRef .tc main_v50)) (dt y a (gate x) h (rep s) w)
    ∧ Is (φ := .f32) (W (Proc.devRef .tc main_v57)) (da y a (gate x) h (rep s) w)
    ∧ Is (φ := .bf16) (W (Proc.devRef .tc main_v58)) (dz y a (gate x) h (rep s) w)
    ∧ Is (φ := .f32) (W (Proc.devRef .tc main_v54)) (dd y a (gate x) h (rep s) w)
    ∧ Is (φ := .f32) (W (Proc.devRef .tc main_v30)) (dw y a (gate x) h (rep s)) := by
  obtain ⟨-, -, -, a3, -, a5⟩ := A_kept V
  obtain ⟨-, -, -, b3, -, b5, bv2, bv3, bv4, bv5_0, bv5_1, bv5_2, bv8, bv9_0, bv9_1, bv9_2, bv11⟩ := B_kept (after opsA V)
  obtain ⟨-, -, -, -, -, -, cv2, cv3, cv4, cv5_0, cv5_1, cv5_2, cv8, cv9_0, cv9_1, cv9_2⟩ := C_kept (after opsB (after opsA V))
  obtain ⟨-, -, -, -, -, -, d30⟩ := D_kept (after opsC (after opsB (after opsA V)))
  have ev2 := A_v2 V h4
  rw [← bv2, ← cv2] at ev2
  have ev3 := A_v3 V h1
  rw [← bv3, ← cv3] at ev3
  have ev4 := A_v4 V h2
  rw [← bv4, ← cv4] at ev4
  have ev5_0 := A_v5_0 V h1
  rw [← bv5_0, ← cv5_0] at ev5_0
  have ev5_1 := A_v5_1 V h1
  rw [← bv5_1, ← cv5_1] at ev5_1
  have ev5_2 := A_v5_2 V h1
  rw [← bv5_2, ← cv5_2] at ev5_2
  have ev8 := A_v8 V h0 h1 h4
  rw [← bv8, ← cv8] at ev8
  have ev9_0 := A_v9_0 V h2
  rw [← bv9_0, ← cv9_0] at ev9_0
  have ev9_1 := A_v9_1 V h2
  rw [← bv9_1, ← cv9_1] at ev9_1
  have ev9_2 := A_v9_2 V h2
  rw [← bv9_2, ← cv9_2] at ev9_2
  have e11 := A_v11 V h0 h1 h2 h4
  have e19 := B_v19 _ e11
  have e22 := B_v22 _ e11
  have e25 := B_v25 _ e11
  rw [← bv11] at e11
  rw [← a3, ← b3] at h3
  rw [← a5, ← b5] at h5
  have e48 := C_v48 _ h3 h5 e11 e19 e22
  refine ⟨D_v50 _ ev9_0 e48, D_v57 _ ev2 ev3 ev5_1 ev5_2 ev9_0 e48, D_v58 _ ev4 ev8 ev9_1 ev9_2 e48, D_v54 _ ev5_0 ev9_0 e48, ?_⟩
  rw [d30]
  exact C_v30 _ h3 e25

/-- The arguments stay. -/
theorem args : let W := after opsD (after opsC (after opsB (after opsA V)))
    W (Proc.devRef .tc main_arg0) = V (Proc.devRef .tc main_arg0)
    ∧ W (Proc.devRef .tc main_arg1) = V (Proc.devRef .tc main_arg1)
    ∧ W (Proc.devRef .tc main_arg2) = V (Proc.devRef .tc main_arg2)
    ∧ W (Proc.devRef .tc main_arg3) = V (Proc.devRef .tc main_arg3)
    ∧ W (Proc.devRef .tc main_arg4) = V (Proc.devRef .tc main_arg4)
    ∧ W (Proc.devRef .tc main_arg5) = V (Proc.devRef .tc main_arg5) := by
  obtain ⟨a0, a1, a2, a3, a4, a5⟩ := A_kept V
  obtain ⟨b0, b1, b2, b3, b4, b5, -⟩ := B_kept (after opsA V)
  obtain ⟨c0, c1, c2, c3, c4, c5, -⟩ := C_kept (after opsB (after opsA V))
  obtain ⟨d0, d1, d2, d3, d4, d5, -⟩ := D_kept (after opsC (after opsB (after opsA V)))
  exact ⟨d0.trans (c0.trans (b0.trans a0)), d1.trans (c1.trans (b1.trans a1)), d2.trans (c2.trans (b2.trans a2)), d3.trans (c3.trans (b3.trans a3)), d4.trans (c4.trans (b4.trans a4)), d5.trans (c5.trans (b5.trans a5))⟩

end All

section Run
variable (m : (ℓ : Loc nD τ sig) → Buf (Elt Ideal) ℓ) (ρ : Dev nD → PrngReg) (y a x h s w : Dev nD → ℕ → ℕ → ℝ)

theorem run (H : ∀ c : Dev nD, Is (φ := .f32) (m ((c.tc : Thread nD τ).loc main_arg0)) (y c) ∧ Is (a := 16384) (b := 768) (φ := .f32) (m ((c.tc : Thread nD τ).loc main_arg1)) (a c)
      ∧ Is (a := 16384) (b := 5896) (φ := .f32) (m ((c.tc : Thread nD τ).loc main_arg2)) (x c) ∧ Is (φ := .f32) (m ((c.tc : Thread nD τ).loc main_arg3)) (h c)
      ∧ Is (a := 1) (b := 8) (φ := .f32) (m ((c.tc : Thread nD τ).loc main_arg4)) (s c) ∧ Is (φ := .f32) (m ((c.tc : Thread nD τ).loc main_arg5)) (w c)) :
    θ_run defs (onTc (τ := τ) (main (F := Ideal))) ⟨m, fun _ => 0, ρ⟩ fun r => ∀ c : Dev nD,
      r.2.mem ((c.tc : Thread nD τ).loc main_v50) = arr (φ := .f32) (dt (y c) (a c) (gate (x c)) (h c) (rep (s c)) (w c))
      ∧ r.2.mem ((c.tc : Thread nD τ).loc main_v57) = arr (φ := .f32) (da (y c) (a c) (gate (x c)) (h c) (rep (s c)) (w c))
      ∧ r.2.mem ((c.tc : Thread nD τ).loc main_v58) = arr (φ := .bf16) (dz (y c) (a c) (gate (x c)) (h c) (rep (s c)) (w c))
      ∧ r.2.mem ((c.tc : Thread nD τ).loc main_v54) = arr (φ := .f32) (dd (y c) (a c) (gate (x c)) (h c) (rep (s c)) (w c))
      ∧ r.2.mem ((c.tc : Thread nD τ).loc main_v30) = arr (φ := .f32) (dw (y c) (a c) (gate (x c)) (h c) (rep (s c)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r k c => ?_) (Lines.run m ρ)
  obtain ⟨h0, h1, h2, h3, h4, h5⟩ := H c
  obtain ⟨o0, o1, o2, o3, o4⟩ := all (fun b => m (c, b)) h0 h1 h2 h3 h4 h5
  obtain ⟨r0, r1, r2, r3, r4, r5⟩ := args fun b => m (c, b)
  exact ⟨(k c _).trans (eq_arr o0), (k c _).trans (eq_arr o1), (k c _).trans (eq_arr o2), (k c _).trans (eq_arr o3), (k c _).trans (eq_arr o4),
    (k c _).trans r0, (k c _).trans r1, (k c _).trans r2, (k c _).trans r3, (k c _).trans r4, (k c _).trans r5⟩

/-- The run keeps the arguments, whatever they hold. -/
theorem run_args : θ_run defs (onTc (τ := τ) (main (F := Ideal))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r k c => ?_) (Lines.run m ρ)
  obtain ⟨r0, r1, r2, r3, r4, r5⟩ := args fun b => m (c, b)
  exact ⟨(k c _).trans r0, (k c _).trans r1, (k c _).trans r2, (k c _).trans r3, (k c _).trans r4, (k c _).trans r5⟩

end Run

end Cert.SsmPostRefIdeal.Spec

end
-- ==== Proof.SsmPost.Kernel.lean ====
/- The kernel of the skip, the gate and the grouped norm, backward: what a grid point stores, and the arrays the grid leaves. -/
module

public import proofs.«01_k».proof.Proof.Gen.SsmPostIdeal.Value
public import proofs.«01_k».proof.Proof.SsmPost.Spec
public import Idealize.ShloMosaic.Lib.Pipeline.ValueKit

@[expose] public section

set_option maxRecDepth 16384

noncomputable section

namespace Cert.SsmPostIdeal.Grid

open Cert.SsmPostIdeal Cert.SsmPostIdeal.Gen Idealize.ShloMosaic Idealize.ShloMosaic.TcCoe Idealize.SL.Sem Cert.Proof.Norm
open Idealize.ShloMosaic.Pipeline (Dat)
open Cert.SsmPostRefIdeal.Spec

variable (m : (ℓ : Loc nD τ sig) → Buf (Elt Ideal) ℓ) {y a z h d w x e : ℕ → ℕ → ℝ}

theorem idx : ∀ t : Fin cfg0.N, win0_0.index t = ![t.val, 0]
    ∧ win0_1.index t = ![t.val, 0]
    ∧ win0_2.index t = ![t.val, 3]
    ∧ win0_3.index t = ![t.val, 0]
    ∧ win0_4.index t = ![0, 0]
    ∧ win0_5.index t = ![0, 0]
    ∧ win0_6.index t = ![t.val, 0]
    ∧ win0_7.index t = ![t.val, 0]
    ∧ win0_8.index t = ![t.val, 0]
    ∧ win0_9.index t = ![0, 0]
    ∧ win0_10.index t = ![0, 0] :=
  (by decide +kernel : ∀ t : Fin grid0.N, _)

section Point

variable {v0 v1 : FVec Ideal S512x512 .f32} {v2 v4 : FVec Ideal S512x512 .bf16} {v6 v8 : FVec Ideal S1x512 .f32}
  (h0 : Is v0 y) (h1 : Is v1 a) (h2 : Is v2 z) (h4 : Is v4 h) (h6 : Is v6 d) (h8 : Is v8 w)

include h6 in
theorem is_6 : Is (k0_pay6 v6) d := fun p q => by
  pointwise [k0_pay6]
  exact (h6 _ _).trans (by simp only [Fin.val_eq_zero])

include h4 in
theorem is_8 : Is (k0_pay8 v4) h := fun p q => by
  pointwise [k0_pay8]
  exact h4 _ _

include h1 in
theorem is_9 : Is (k0_pay9 v1) (fun p q => sg (a p q)) := fun p q => by
  pointwise [k0_pay9]
  simp only [h1 _ _, logistic_real]

include h2 in
theorem is_10 : Is (k0_pay10 v2) (fun p q => sg (z p q)) := fun p q => by
  pointwise [k0_pay10, k0_pay7]
  simp only [h2 _ _, logistic_real]

include h1 in
theorem is_11 : Is (k0_pay11 v1) (fun p q => a p q * sg (a p q)) := fun p q => by
  pointwise [k0_pay11, k0_pay9]
  simp only [h1 _ _, logistic_real, ← EReal.coe_mul]

include h2 in
theorem is_12 : Is (k0_pay12 v2) (gz z) := fun p q => by
  pointwise [k0_pay12, k0_pay10, k0_pay7]
  simp only [h2 _ _, logistic_real, ← EReal.coe_mul]
  rfl

include h0 h1 h6 in
theorem is_13 : Is (k0_pay13 v0 v1 v6) (t y a d) := fun p q => by
  pointwise [k0_pay13, k0_pay11, k0_pay9, k0_pay6]
  simp only [h0 _ _, h1 _ _, h6 _ _, logistic_real, ← EReal.coe_mul, ← EReal.coe_add]
  rfl

include h0 h1 h2 h6 in
theorem is_14 : Is (k0_pay14 v0 v1 v2 v6) (gated y a z d) := fun p q => by
  pointwise [k0_pay14]
  rw [is_13 h0 h1 h6, is_12 h2, ← EReal.coe_mul]
  rfl

include h4 h8 in
theorem is_15 : Is (k0_pay15 v4 v8) (dn h w) := fun p q => by
  pointwise [k0_pay15, k0_pay8]
  simp only [h4 _ _, h8 _ _, ← EReal.coe_mul]
  rfl

/-- The part of the norm's gradient that the inverse root scales. -/
def rest (g : ℕ) (x e : ℕ → ℕ → ℝ) (p k : ℕ) : ℝ :=
  half g e p k - unit 256 (half g x) p k * ((∑ i : Fin 256, half g e p i * unit 256 (half g x) p i) * (1 / 256))

include h0 h1 h2 h6 in
theorem is_16 : Is (k0_pay16 v0 v1 v2 v6) (half 0 (gated y a z d)) := fun p q => by
  pointwise [k0_pay16]
  rw [is_14 h0 h1 h2 h6]
  simp [half]

include h0 h1 h2 h6 in
theorem is_17 : Is (k0_pay17 v0 v1 v2 v6) (fun p _ => inv 256 (half 0 (gated y a z d)) p) := fun p q => by
  pointwise [k0_pay17]
  simp only [is_16 h0 h1 h2 h6 _ _, word_256, word_eps, ← EReal.coe_mul, ← EReal.coe_add, coe_sum, div_256, level_256, rsqrt_level]

include h0 h1 h2 h6 in
theorem is_18 : Is (k0_pay18 v0 v1 v2 v6) (unit 256 (half 0 (gated y a z d))) := fun p q => by
  pointwise [k0_pay18]
  rw [is_16 h0 h1 h2 h6, is_17 h0 h1 h2 h6, ← EReal.coe_mul]
  rfl

include h0 h1 h2 h4 h6 h8 in
theorem is_19 : Is (k0_pay19 v0 v1 v2 v4 v6 v8) (rest 0 (gated y a z d) (dn h w)) := fun p q => by
  pointwise [k0_pay19]
  simp only [is_18 h0 h1 h2 h6 _ _, is_15 h4 h8 _ _, word_256, ← EReal.coe_mul, ← EReal.coe_sub, coe_sum, div_256]
  simp [rest, half]

include h0 h1 h2 h6 in
theorem is_20 : Is (k0_pay20 v0 v1 v2 v6) (fun p _ => inv 256 (half 0 (gated y a z d)) p) := fun p q => by
  pointwise [k0_pay20]
  rw [is_17 h0 h1 h2 h6]

end Point

section Second

variable {v7 : FVec Ideal S1x512 .f32} {v10 v11 v12 v13 v14 v17 v18 v20 : FVec Ideal S512x512 .f32} {v32 v40 v41 : FVec Ideal S512x256 .f32}
  (h7 : Is v7 d) (h10 : Is v10 h) (h11 : Is v11 fun p q => sg (a p q)) (h12 : Is v12 fun p q => sg (z p q))
  (h13 : Is v13 fun p q => a p q * sg (a p q)) (h14 : Is v14 (gz z)) (h17 : Is v17 y)
  (h18 : Is v18 x) (h20 : Is v20 e) (h32 : Is v32 (unit 256 (half 0 x))) (h40 : Is v40 (rest 0 x e)) (h41 : Is v41 fun p _ => inv 256 (half 0 x) p)

include h18 in
theorem is_21 : Is (k0_pay21 v18) (half 1 x) := fun p q => by
  pointwise [k0_pay21]
  rw [h18]
  simp [half]

include h18 in
theorem is_22 : Is (k0_pay22 v18) (fun p _ => inv 256 (half 1 x) p) := fun p q => by
  pointwise [k0_pay22]
  simp only [is_21 h18 _ _, word_256, word_eps, ← EReal.coe_mul, ← EReal.coe_add, coe_sum, div_256, level_256, rsqrt_level]

include h18 in
theorem is_23 : Is (k0_pay23 v18) (unit 256 (half 1 x)) := fun p q => by
  pointwise [k0_pay23]
  rw [is_21 h18, is_22 h18, ← EReal.coe_mul]
  rfl

include h18 h20 h40 h41 in
theorem is_24 : Is (k0_pay24 v18 v20 v40 v41) (dy x e) := fun p q => by
  pointwise [k0_pay24]
  by_cases hq : (q : ℕ) < 256
  · have e1 : (q : ℕ) / 256 = 0 := by omega
    have e2 : (q : ℕ) % 256 = q := by omega
    rw [dif_pos hq, h41 _ _, h40 _ _, ← EReal.coe_mul]
    refine congrArg _ ?_
    rw [dy, whole, e1, e2]
    simp only [grad, rest, Nat.cast_ofNat]
  · have e1 : (q : ℕ) / 256 = 1 := by omega
    have e2 : (q : ℕ) % 256 = q - 256 := by omega
    rw [dif_neg hq]
    simp only [h20 _ _, is_22 h18 _ _, is_23 h18 _ _, word_256, ← EReal.coe_mul, ← EReal.coe_sub, coe_sum, div_256]
    refine congrArg _ ?_
    rw [dy, whole, e1, e2]
    simp only [grad, half, Nat.cast_ofNat, Nat.one_mul]

include h18 h10 h32 in
theorem is_29 : Is (k0_pay29 v10 v18 v32) (fun _ q => ∑ r : Fin 512, h r q * normed x r q) := fun p q => by
  pointwise [k0_pay29]
  by_cases hq : (q : ℕ) < 256
  · have e1 : (q : ℕ) / 256 = 0 := by omega
    have e2 : (q : ℕ) % 256 = q := by omega
    simp only [dif_pos hq, h10 _ _, h32 _ _, ← EReal.coe_mul, coe_sum, normed, whole, e1, e2]
  · have e1 : (q : ℕ) / 256 = 1 := by omega
    have e2 : (q : ℕ) % 256 = q - 256 := by omega
    simp only [dif_neg hq, h10 _ _, is_23 h18 _ _, ← EReal.coe_mul, coe_sum, normed, whole, e1, e2]

include h14 h18 h20 h40 h41 in
theorem is_25 : Is (k0_pay25 v14 v18 v20 v40 v41) (fun p q => dy x e p q * gz z p q) := fun p q => by
  pointwise [k0_pay25]
  rw [is_24 h18 h20 h40 h41, h14, ← EReal.coe_mul]

include h7 h11 h13 h14 h18 h20 h40 h41 in
theorem is_26 : Is (k0_pay26 v7 v11 v13 v14 v18 v20 v40 v41) (fun p q => dy x e p q * gz z p q * d 0 q * (sg (a p q) + a p q * sg (a p q) * (1 - sg (a p q)))) := fun p q => by
  pointwise [k0_pay26]
  simp only [is_25 h14 h18 h20 h40 h41 _ _, h7 _ _, h11 _ _, h13 _ _, one_real, ← EReal.coe_mul, ← EReal.coe_add, ← EReal.coe_sub, Fin.val_eq_zero]

include h12 h14 h17 h18 h20 h40 h41 in
theorem is_27 : Is (k0_pay27 v12 v14 v17 v18 v20 v40 v41) (fun p q => dy x e p q * y p q * (sg (z p q) + gz z p q * (1 - sg (z p q)))) := fun p q => by
  pointwise [k0_pay27]
  simp only [is_24 h18 h20 h40 h41 _ _, h12 _ _, h14 _ _, h17 _ _, one_real, ← EReal.coe_mul, ← EReal.coe_add, ← EReal.coe_sub]

include h13 h14 h18 h20 h40 h41 in
theorem is_28 : Is (k0_pay28 v13 v14 v18 v20 v40 v41) (fun _ q => ∑ r : Fin 512, dy x e r q * gz z r q * (a r q * sg (a r q))) := fun p q => by
  pointwise [k0_pay28]
  simp only [is_25 h14 h18 h20 h40 h41 _ _, h13 _ _, ← EReal.coe_mul, coe_sum]

end Second

section Blocks

variable (c : Dev nD) (t : Fin cfg0.N)

theorem blk_0 (h0 : Is (φ := .f32) (m ((c : Thread nD τ).loc main_arg0)) y) : Is (φ := .f32) (iblk m c 0 t) (tile t y) := fun p q => by
  have ht : t.val < 32 := lt_of_lt_of_eq t.isLt N_0
  refine Eq.trans ?_ (h0 ⟨512 * t.val + p, by omega⟩ q)
  obtain ⟨e, -⟩ := idx t
  blk_ext [iblk, V, e]

theorem blk_1 (h1 : Is (a := 16384) (b := 768) (φ := .f32) (m ((c : Thread nD τ).loc main_arg1)) a) : Is (φ := .f32) (X0_1 m c t) (tile t a) := fun p q => by
  have ht : t.val < 32 := lt_of_lt_of_eq t.isLt N_0
  refine Eq.trans ?_ (h1 ⟨512 * t.val + p, by omega⟩ ⟨q, by omega⟩)
  unfold X0_1 Pipeline.Window.fill
  rw [dif_pos (moved0_1 t _)]
  obtain ⟨-, e, -⟩ := idx t
  blk_ext [iblk, V, e]

theorem host_2 (h2 : Is (a := 16384) (b := 5896) (φ := .f32) (m ((c : Thread nD τ).loc main_arg2)) x) (p : Fin 16384) (q : Fin 512) :
    (V m c main_v8 : FVec Ideal S16384x6144 .bf16) (ix2 p ⟨1536 + q.val, by omega⟩) = ((gate x p q : ℝ) : EReal) := by
  unfold V
  after_results_simp
  pointwise
  rw [dif_pos (by omega)]
  after_results_simp
  pointwise
  exact h2 _ _

theorem host_3 (h3 : Is (φ := .f32) (m ((c : Thread nD τ).loc main_arg3)) h) : Is (φ := .bf16) (V m c main_v9) h := fun p q => by
  unfold V
  after_results_simp
  pointwise
  exact h3 p q

theorem host_4 (h4 : Is (a := 1) (b := 8) (φ := .f32) (m ((c : Thread nD τ).loc main_arg4)) d) : Is (φ := .f32) (V m c main_v1) (rep d) := fun p q => by
  unfold V
  after_results_simp
  pointwise
  exact h4 _ _

theorem blk_2 (h2 : Is (a := 16384) (b := 5896) (φ := .f32) (m ((c : Thread nD τ).loc main_arg2)) x) : Is (φ := .bf16) (iblk m c 2 t) (tile t (gate x)) := fun p q => by
  have ht : t.val < 32 := lt_of_lt_of_eq t.isLt N_0
  refine Eq.trans ?_ (host_2 m c h2 ⟨512 * t.val + p, by omega⟩ q)
  obtain ⟨-, -, e, -⟩ := idx t
  blk_ext [iblk, e]

theorem blk_3 (h3 : Is (φ := .f32) (m ((c : Thread nD τ).loc main_arg3)) h) : Is (φ := .bf16) (iblk m c 3 t) (tile t h) := fun p q => by
  have ht : t.val < 32 := lt_of_lt_of_eq t.isLt N_0
  refine Eq.trans ?_ (host_3 m c h3 ⟨512 * t.val + p, by omega⟩ q)
  obtain ⟨-, -, -, e, -⟩ := idx t
  blk_ext [iblk, e]

theorem blk_4 (h4 : Is (a := 1) (b := 8) (φ := .f32) (m ((c : Thread nD τ).loc main_arg4)) d) : Is (φ := .f32) (iblk m c 4 t) (rep d) := fun p q => by
  refine Eq.trans ?_ (host_4 m c h4 p q)
  obtain ⟨-, -, -, -, e, -⟩ := idx t
  blk_ext [iblk, e]

theorem blk_5 (h5 : Is (φ := .f32) (m ((c : Thread nD τ).loc main_arg5)) w) : Is (φ := .f32) (iblk m c 5 t) w := fun p q => by
  refine Eq.trans ?_ (h5 p q)
  obtain ⟨-, -, -, -, -, e, -⟩ := idx t
  blk_ext [iblk, V, e]

end Blocks

section Final

variable (c : Dev nD)
  (h0 : Is (φ := .f32) (m ((c : Thread nD τ).loc main_arg0)) y) (h1 : Is (a := 16384) (b := 768) (φ := .f32) (m ((c : Thread nD τ).loc main_arg1)) a)
  (h2 : Is (a := 16384) (b := 5896) (φ := .f32) (m ((c : Thread nD τ).loc main_arg2)) x) (h3 : Is (φ := .f32) (m ((c : Thread nD τ).loc main_arg3)) h)
  (h4 : Is (a := 1) (b := 8) (φ := .f32) (m ((c : Thread nD τ).loc main_arg4)) d) (h5 : Is (φ := .f32) (m ((c : Thread nD τ).loc main_arg5)) w)

theorem point_6 (t : Fin cfg0.N) {v : FVec Ideal S512x512 .f32} (hv : Is v (tile t (dt y a (gate x) h (rep d) w))) (j : S512x512.Idx) :
    v j = arr (a := 16384) (b := 512) (φ := .f32) (dt y a (gate x) h (rep d) w) ((win0_6.blk t).view.emb j) := by
  idx_vars j
  have ht : t.val < 32 := lt_of_lt_of_eq t.isLt N_0
  have e : (win0_6.blk t).view.emb (ix2 j0 j1) = ix2 (⟨512 * t.val + j0.val, by omega⟩ : Fin 16384) j1 := by
    obtain ⟨-, -, -, -, -, -, e, -⟩ := idx t
    blk_ext [e]
  refine (hv _ _).trans (Eq.trans ?_ (congrArg (arr (a := 16384) (b := 512) (φ := .f32) (dt y a (gate x) h (rep d) w)) e).symm)
  rfl

include h0 h1 h2 h3 h4 h5 in
theorem final_6 : (dats m 0 c).arrAt 6 (cfgs 0).N = arr (a := 16384) (b := 512) (φ := .f32) (dt y a (gate x) h (rep d) w) := by
  refine (dats m 0 c).arrAt_eq_of_covers 6 _ (by decide +kernel) fun t hf y' => ?_
  have k := is_25 (is_12 (blk_2 m c t h2)) (is_14 (blk_0 m c t h0) (blk_1 m c t h1) (blk_2 m c t h2) (blk_4 m c t h4)) (is_15 (blk_3 m c t h3) (blk_5 m c t h5)) (is_19 (blk_0 m c t h0) (blk_1 m c t h1) (blk_2 m c t h2) (blk_3 m c t h3) (blk_4 m c t h4) (blk_5 m c t h5)) (is_20 (blk_0 m c t h0) (blk_1 m c t h1) (blk_2 m c t h2) (blk_4 m c t h4))
  blk_simp
  rw [after0_6]
  by_cases hk : t.val % 32 = 0
  · rw [outsAt0_A m c t hk]; frame_out; exact point_6 t k y'
  · rw [outsAt0_B m c t hk]; frame_out; exact point_6 t k y'

theorem point_7 (t : Fin cfg0.N) {v : FVec Ideal S512x512 .f32} (hv : Is v (tile t (da y a (gate x) h (rep d) w))) (j : S512x512.Idx) :
    v j = arr (a := 16384) (b := 512) (φ := .f32) (da y a (gate x) h (rep d) w) ((win0_7.blk t).view.emb j) := by
  idx_vars j
  have ht : t.val < 32 := lt_of_lt_of_eq t.isLt N_0
  have e : (win0_7.blk t).view.emb (ix2 j0 j1) = ix2 (⟨512 * t.val + j0.val, by omega⟩ : Fin 16384) j1 := by
    obtain ⟨-, -, -, -, -, -, -, e, -⟩ := idx t
    blk_ext [e]
  refine (hv _ _).trans (Eq.trans ?_ (congrArg (arr (a := 16384) (b := 512) (φ := .f32) (da y a (gate x) h (rep d) w)) e).symm)
  rfl

include h0 h1 h2 h3 h4 h5 in
theorem final_7 : (dats m 0 c).arrAt 7 (cfgs 0).N = arr (a := 16384) (b := 512) (φ := .f32) (da y a (gate x) h (rep d) w) := by
  refine (dats m 0 c).arrAt_eq_of_covers 7 _ (by decide +kernel) fun t hf y' => ?_
  have k := is_26 (is_6 (blk_4 m c t h4)) (is_9 (blk_1 m c t h1)) (is_11 (blk_1 m c t h1)) (is_12 (blk_2 m c t h2)) (is_14 (blk_0 m c t h0) (blk_1 m c t h1) (blk_2 m c t h2) (blk_4 m c t h4)) (is_15 (blk_3 m c t h3) (blk_5 m c t h5)) (is_19 (blk_0 m c t h0) (blk_1 m c t h1) (blk_2 m c t h2) (blk_3 m c t h3) (blk_4 m c t h4) (blk_5 m c t h5)) (is_20 (blk_0 m c t h0) (blk_1 m c t h1) (blk_2 m c t h2) (blk_4 m c t h4))
  blk_simp
  rw [after0_7]
  by_cases hk : t.val % 32 = 0
  · rw [outsAt0_A m c t hk]; frame_out; exact point_7 t k y'
  · rw [outsAt0_B m c t hk]; frame_out; exact point_7 t k y'

theorem point_8 (t : Fin cfg0.N) {v : FVec Ideal S512x512 .bf16} (hv : Is v (tile t (dz y a (gate x) h (rep d) w))) (j : S512x512.Idx) :
    v j = arr (a := 16384) (b := 512) (φ := .bf16) (dz y a (gate x) h (rep d) w) ((win0_8.blk t).view.emb j) := by
  idx_vars j
  have ht : t.val < 32 := lt_of_lt_of_eq t.isLt N_0
  have e : (win0_8.blk t).view.emb (ix2 j0 j1) = ix2 (⟨512 * t.val + j0.val, by omega⟩ : Fin 16384) j1 := by
    obtain ⟨-, -, -, -, -, -, -, -, e, -⟩ := idx t
    blk_ext [e]
  refine (hv _ _).trans (Eq.trans ?_ (congrArg (arr (a := 16384) (b := 512) (φ := .bf16) (dz y a (gate x) h (rep d) w)) e).symm)
  rfl

include h0 h1 h2 h3 h4 h5 in
theorem final_8 : (dats m 0 c).arrAt 8 (cfgs 0).N = arr (a := 16384) (b := 512) (φ := .bf16) (dz y a (gate x) h (rep d) w) := by
  refine (dats m 0 c).arrAt_eq_of_covers 8 _ (by decide +kernel) fun t hf y' => ?_
  have k := is_27 (is_10 (blk_2 m c t h2)) (is_12 (blk_2 m c t h2)) (is_13 (blk_0 m c t h0) (blk_1 m c t h1) (blk_4 m c t h4)) (is_14 (blk_0 m c t h0) (blk_1 m c t h1) (blk_2 m c t h2) (blk_4 m c t h4)) (is_15 (blk_3 m c t h3) (blk_5 m c t h5)) (is_19 (blk_0 m c t h0) (blk_1 m c t h1) (blk_2 m c t h2) (blk_3 m c t h3) (blk_4 m c t h4) (blk_5 m c t h5)) (is_20 (blk_0 m c t h0) (blk_1 m c t h1) (blk_2 m c t h2) (blk_4 m c t h4))
  blk_simp
  rw [after0_8]
  by_cases hk : t.val % 32 = 0
  · rw [outsAt0_A m c t hk]; frame_out; exact point_8 t (v := k0_pay1 _) (fun p q => (by pointwise [k0_pay1]; exact k p q)) y'
  · rw [outsAt0_B m c t hk]; frame_out; exact point_8 t (v := k0_pay1 _) (fun p q => (by pointwise [k0_pay1]; exact k p q)) y'

theorem row_at {v a' : FVec Ideal S1x512 .f32} {f : ℕ → ℕ → ℝ} (hv : Is v f) (j : S1x512.Idx) :
    k0_pay4 v a' j = a' j + ((f 0 (j 1) : ℝ) : EReal) := by
  idx_vars j
  pointwise [k0_pay4]
  rw [hv _ _, Fin.val_eq_zero]

theorem row_at' {v a' : FVec Ideal S1x512 .f32} {f : ℕ → ℕ → ℝ} (hv : Is v f) (j : S1x512.Idx) :
    k0_pay5 v a' j = a' j + ((f 0 (j 1) : ℝ) : EReal) := by
  idx_vars j
  pointwise [k0_pay5]
  rw [hv _ _, Fin.val_eq_zero]

include h0 h1 h2 h3 h4 h5 in
theorem final_9 : (dats m 0 c).arrAt 9 (cfgs 0).N = arr (a := 1) (b := 512) (φ := .f32) (dd y a (gate x) h (rep d) w) := by
  refine (dats m 0 c).arrAt_eq_of_covers 9 _ (by decide +kernel) fun t hf j => ?_
  have ht : t.val < 32 := lt_of_lt_of_eq t.isLt N_0
  have e : (win0_9.blk t).view.emb j = j := by
    obtain ⟨-, -, -, -, -, -, -, -, -, e, -⟩ := idx t
    blk_ext [e]
  have k (t : Fin cfg0.N) := is_28 (is_11 (blk_1 m c t h1)) (is_12 (blk_2 m c t h2)) (is_14 (blk_0 m c t h0) (blk_1 m c t h1) (blk_2 m c t h2) (blk_4 m c t h4)) (is_15 (blk_3 m c t h3) (blk_5 m c t h5)) (is_19 (blk_0 m c t h0) (blk_1 m c t h1) (blk_2 m c t h2) (blk_3 m c t h3) (blk_4 m c t h4) (blk_5 m c t h5)) (is_20 (blk_0 m c t h0) (blk_1 m c t h1) (blk_2 m c t h2) (blk_4 m c t h4))
  blk_simp
  rw [after0_9, Pipeline.eq_sum_fin_of_reset_step_apply_of_flush (fun n h => (outsAt0 m c n h).2.2.2.1) 32 (fun _ => 0)
    (fun t j => ((∑ r : Fin 512, dt y a (gate x) h (rep d) w (512 * t.val + r) (j 1) * (a (512 * t.val + r) (j 1) * sg (a (512 * t.val + r) (j 1))) : ℝ) : EReal))
    (fun t hk j => by rw [outsAt0_A m c t hk]; frame_out; exact (row_at (k t) j).trans (by rw [show k0_pay2 (F := Ideal) j = 0 by pointwise [k0_pay2]]; rfl))
    (fun t hk j => by rw [outsAt0_B m c t hk]; frame_out; exact row_at (k t) j)
    t ((flush0_9 t).mp hf) _, zero_add, e]
  exact sum_tiles (fun r => dt y a (gate x) h (rep d) w (r) (j 1) * (a (r) (j 1) * sg (a (r) (j 1)))) t ht

include h0 h1 h2 h3 h4 h5 in
theorem final_10 : (dats m 0 c).arrAt 10 (cfgs 0).N = arr (a := 1) (b := 512) (φ := .f32) (dw y a (gate x) h (rep d)) := by
  refine (dats m 0 c).arrAt_eq_of_covers 10 _ (by decide +kernel) fun t hf j => ?_
  have ht : t.val < 32 := lt_of_lt_of_eq t.isLt N_0
  have e : (win0_10.blk t).view.emb j = j := by
    obtain ⟨-, -, -, -, -, -, -, -, -, -, e⟩ := idx t
    blk_ext [e]
  have k (t : Fin cfg0.N) := is_29 (is_8 (blk_3 m c t h3)) (is_14 (blk_0 m c t h0) (blk_1 m c t h1) (blk_2 m c t h2) (blk_4 m c t h4)) (is_18 (blk_0 m c t h0) (blk_1 m c t h1) (blk_2 m c t h2) (blk_4 m c t h4))
  blk_simp
  rw [after0_10, Pipeline.eq_sum_fin_of_reset_step_apply_of_flush (fun n h => (outsAt0 m c n h).2.2.2.2) 32 (fun _ => 0)
    (fun t j => ((∑ r : Fin 512, h (512 * t.val + r) (j 1) * normed (gated y a (gate x) (rep d)) (512 * t.val + r) (j 1) : ℝ) : EReal))
    (fun t hk j => by rw [outsAt0_A m c t hk]; frame_out; exact (row_at' (k t) j).trans (by rw [show k0_pay3 (F := Ideal) j = 0 by pointwise [k0_pay3]]; rfl))
    (fun t hk j => by rw [outsAt0_B m c t hk]; frame_out; exact row_at' (k t) j)
    t ((flush0_10 t).mp hf) _, zero_add, e]
  exact sum_tiles (fun r => h (r) (j 1) * normed (gated y a (gate x) (rep d)) (r) (j 1)) t ht

end Final

end Cert.SsmPostIdeal.Grid

end
-- ==== Proof.SsmPost.Pair.lean ====
/- The backward call of the skip, the gate and the grouped norm against the derivative of their lines. -/
module

public import proofs.«01_k».proof.Defs
public import proofs.«01_k».proof.Proof.Gen.Pre_ssmpost_finite
public import proofs.«01_k».proof.Proof.SsmPost.Kernel
public import proofs.«01_k».proof.Proof.SsmPost.Spec

@[expose] public section

set_option maxRecDepth 16384

noncomputable section

namespace Cert.Proof.SsmPost

open Idealize.ShloMosaic Idealize.SL.Sem Cert.Proof.Norm

/-- The derivative's program runs and keeps its arguments; it declares no semaphore. -/
theorem ref_frame : Cert.quiescent_SsmPostRefIdeal := fun m ρ _ =>
  (θ_run Cert.SsmPostRefIdeal.defs _ _).mono (fun r h => ⟨h, sem_eq_zero_of_no_sems (by decide) r.2⟩)
    (Cert.SsmPostRefIdeal.Spec.run_args m ρ)

section
variable (m : (ℓ : Loc Cert.SsmPostIdeal.nD Cert.SsmPostIdeal.τ Cert.SsmPostIdeal.sig) → Buf (Elt Ideal) ℓ) (c : Dev Cert.SsmPostIdeal.nD)

/-- The numbers of the scan's output, of what the skip's gate reads, of the projection, the cotangent, the skip's and the norm's weights. -/
def scanned : ℕ → ℕ → ℝ := reals (a := 16384) (b := 512) (φ := .f32) (m ((c.tc : Thread Cert.SsmPostIdeal.nD Cert.SsmPostIdeal.τ).loc Cert.SsmPostIdeal.main_arg0))
def before : ℕ → ℕ → ℝ := reals (a := 16384) (b := 768) (φ := .f32) (m ((c.tc : Thread Cert.SsmPostIdeal.nD Cert.SsmPostIdeal.τ).loc Cert.SsmPostIdeal.main_arg1))
def projected : ℕ → ℕ → ℝ := reals (a := 16384) (b := 5896) (φ := .f32) (m ((c.tc : Thread Cert.SsmPostIdeal.nD Cert.SsmPostIdeal.τ).loc Cert.SsmPostIdeal.main_arg2))
def cotangent : ℕ → ℕ → ℝ := reals (a := 16384) (b := 512) (φ := .f32) (m ((c.tc : Thread Cert.SsmPostIdeal.nD Cert.SsmPostIdeal.τ).loc Cert.SsmPostIdeal.main_arg3))
def skip : ℕ → ℕ → ℝ := reals (a := 1) (b := 8) (φ := .f32) (m ((c.tc : Thread Cert.SsmPostIdeal.nD Cert.SsmPostIdeal.τ).loc Cert.SsmPostIdeal.main_arg4))
def weight : ℕ → ℕ → ℝ := reals (a := 1) (b := 512) (φ := .f32) (m ((c.tc : Thread Cert.SsmPostIdeal.nD Cert.SsmPostIdeal.τ).loc Cert.SsmPostIdeal.main_arg5))

end

/-- Every result of the call is the derivative of the lines' forward, where the arguments are finite. -/
theorem algebraic : Cert.algebraic_SsmPostIdeal_SsmPostRefIdeal_pre_ssmpost_finite := by
  intro m g m' g' hf ha
  have H (c : Dev Cert.SsmPostIdeal.nD) := (⟨is_reals fun i => congrFun (hf c).1 i, is_reals fun i => congrFun (hf c).2.1 i, is_reals fun i => congrFun (hf c).2.2.1 i, is_reals fun i => congrFun (hf c).2.2.2.1 i, is_reals fun i => congrFun (hf c).2.2.2.2.1 i, is_reals fun i => congrFun (hf c).2.2.2.2.2 i⟩ :
      Is (a := 16384) (b := 512) (φ := .f32) (m ((c.tc : Thread Cert.SsmPostIdeal.nD Cert.SsmPostIdeal.τ).loc Cert.SsmPostIdeal.main_arg0)) (scanned m c)
        ∧ Is (a := 16384) (b := 768) (φ := .f32) (m ((c.tc : Thread Cert.SsmPostIdeal.nD Cert.SsmPostIdeal.τ).loc Cert.SsmPostIdeal.main_arg1)) (before m c)
        ∧ Is (a := 16384) (b := 5896) (φ := .f32) (m ((c.tc : Thread Cert.SsmPostIdeal.nD Cert.SsmPostIdeal.τ).loc Cert.SsmPostIdeal.main_arg2)) (projected m c)
        ∧ Is (a := 16384) (b := 512) (φ := .f32) (m ((c.tc : Thread Cert.SsmPostIdeal.nD Cert.SsmPostIdeal.τ).loc Cert.SsmPostIdeal.main_arg3)) (cotangent m c)
        ∧ Is (a := 1) (b := 8) (φ := .f32) (m ((c.tc : Thread Cert.SsmPostIdeal.nD Cert.SsmPostIdeal.τ).loc Cert.SsmPostIdeal.main_arg4)) (skip m c)
        ∧ Is (a := 1) (b := 512) (φ := .f32) (m ((c.tc : Thread Cert.SsmPostIdeal.nD Cert.SsmPostIdeal.τ).loc Cert.SsmPostIdeal.main_arg5)) (weight m c))
  refine ⟨fun c => arr (φ := .f32) (Cert.SsmPostRefIdeal.Spec.dt (scanned m c) (before m c) (Cert.SsmPostRefIdeal.Spec.gate (projected m c)) (cotangent m c) (Cert.SsmPostRefIdeal.Spec.rep (skip m c)) (weight m c)),
    fun c => arr (φ := .f32) (Cert.SsmPostRefIdeal.Spec.da (scanned m c) (before m c) (Cert.SsmPostRefIdeal.Spec.gate (projected m c)) (cotangent m c) (Cert.SsmPostRefIdeal.Spec.rep (skip m c)) (weight m c)),
    fun c => arr (φ := .bf16) (Cert.SsmPostRefIdeal.Spec.dz (scanned m c) (before m c) (Cert.SsmPostRefIdeal.Spec.gate (projected m c)) (cotangent m c) (Cert.SsmPostRefIdeal.Spec.rep (skip m c)) (weight m c)),
    fun c => arr (φ := .f32) (Cert.SsmPostRefIdeal.Spec.dd (scanned m c) (before m c) (Cert.SsmPostRefIdeal.Spec.gate (projected m c)) (cotangent m c) (Cert.SsmPostRefIdeal.Spec.rep (skip m c)) (weight m c)),
    fun c => arr (φ := .f32) (Cert.SsmPostRefIdeal.Spec.dw (scanned m c) (before m c) (Cert.SsmPostRefIdeal.Spec.gate (projected m c)) (cotangent m c) (Cert.SsmPostRefIdeal.Spec.rep (skip m c))),
    (θ_run _ _ _).mono (fun r h c => ?_) (Cert.SsmPostIdeal.Value.run_blocks m g),
    (Cert.SsmPostRefIdeal.Spec.run m' g' (scanned m) (before m) (projected m) (cotangent m) (skip m) (weight m) fun c => ?_)⟩
  · obtain ⟨h0, h1, h2, h3, h4, h5⟩ := H c
    obtain ⟨k0, k1, k2, k3, k4, ho⟩ := h c
    exact ⟨k0.trans (Cert.SsmPostIdeal.Grid.final_6 m c h0 h1 h2 h3 h4 h5), k1.trans (Cert.SsmPostIdeal.Grid.final_7 m c h0 h1 h2 h3 h4 h5), k2.trans (Cert.SsmPostIdeal.Grid.final_8 m c h0 h1 h2 h3 h4 h5), k3.trans (Cert.SsmPostIdeal.Grid.final_9 m c h0 h1 h2 h3 h4 h5), k4.trans (Cert.SsmPostIdeal.Grid.final_10 m c h0 h1 h2 h3 h4 h5), ho⟩
  · obtain ⟨a0, a1, a2, a3, a4, a5⟩ := ha c
    obtain ⟨h0, h1, h2, h3, h4, h5⟩ := H c
    rw [a0, a1, a2, a3, a4, a5]
    exact ⟨h0, h1, h2, h3, h4, h5⟩

end Cert.Proof.SsmPost

end
-- ==== Proof.SwiGlu.Spec.lean ====
/- The derivative of SwiGLU before its product: what it holds, over the real numbers. -/
module

public import proofs.«01_k».proof.Proof.Gen.SwiGluRefIdeal.Run
public import proofs.«01_k».proof.Proof.Norm.Real
public import proofs.«01_k».proof.Proof.SsmPost.Spec

@[expose] public section

set_option maxRecDepth 16384

noncomputable section

namespace Cert.SwiGluRefIdeal.Spec

open Cert.SwiGluRefIdeal Cert.SwiGluRefIdeal.Gen Idealize.ShloMosaic Idealize.ShloMosaic.TcCoe Idealize.SL.Sem Cert.Proof.Norm
open Cert.SsmPostRefIdeal.Spec (sg div_exp)

/-- The cotangent of the gated activations: the cotangent times the transposed weights. -/
def act (h w : ℕ → ℕ → ℝ) (p q : ℕ) : ℝ := ∑ k : Fin 1024, h p k * w q k

/-- The gradient of the gate's half of the projection (`x` below column 2816). -/
def dgate (h w x : ℕ → ℕ → ℝ) (p q : ℕ) : ℝ :=
  act h w p q * x p (2816 + q) * (sg (x p q) + x p q * sg (x p q) * (1 - sg (x p q)))

/-- The gradient of the other half. -/
def dup (h w x : ℕ → ℕ → ℝ) (p q : ℕ) : ℝ := act h w p q * (x p q * sg (x p q))

/-- The gradient of the projection, both halves side by side. -/
def d (h w x : ℕ → ℕ → ℝ) (p q : ℕ) : ℝ := if q < 2816 then dgate h w x p q else dup h w x p (q - 2816)

variable (m : (ℓ : Loc nD τ sig) → Buf (Elt Ideal) ℓ) {h w x : ℕ → ℕ → ℝ}

theorem run (ρ : Dev nD → PrngReg) (h w x : Dev nD → ℕ → ℕ → ℝ)
    (H : ∀ c : Dev nD, Is (φ := .f32) (m ((c.tc : Thread nD τ).loc main_arg0)) (h c) ∧ Is (φ := .f32) (m ((c.tc : Thread nD τ).loc main_arg1)) (w c)
      ∧ Is (φ := .f32) (m ((c.tc : Thread nD τ).loc main_arg2)) (x c)) :
    θ_run defs (onTc (τ := τ) (main (F := Ideal))) ⟨m, fun _ => 0, ρ⟩ fun r => ∀ c : Dev nD,
      r.2.mem ((c.tc : Thread nD τ).loc main_v10) = arr (φ := .bf16) (d (h c) (w c) (x c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r k c => ?_) (Value.run m ρ)
  obtain ⟨k0, kr⟩ := k c
  obtain ⟨h0, h1, h2⟩ := H c
  refine ⟨k0.trans (eq_arr fun p q => ?_), kr⟩
  clear k0 kr
  pointwise
  by_cases hq : q.val < 2816
  · simp only [hq, dite_true, h0 _ _, h1 _ _, h2 _ _, one_real, div_exp, ← EReal.coe_mul, ← EReal.coe_add, ← EReal.coe_sub, coe_sum]
    refine congrArg _ ?_
    simp only [d, hq, if_true, dgate, act, Nat.add_comm]
    ring
  · simp only [hq, dite_false, h0 _ _, h1 _ _, h2 _ _, one_real, div_exp, ← EReal.coe_mul, ← EReal.coe_add, ← EReal.coe_sub, coe_sum]
    refine congrArg _ ?_
    simp only [d, hq, if_false, dup, act]
    ring

end Cert.SwiGluRefIdeal.Spec

end
-- ==== Proof.SwiGlu.Kernel.lean ====
/- The kernel of SwiGLU's gradient: what a grid point stores, the array the grid leaves, and the columns put back in order. -/
module

public import proofs.«01_k».proof.Proof.Gen.SwiGluIdeal.Frame
public import proofs.«01_k».proof.Proof.SwiGlu.Spec
public import Idealize.ShloMosaic.Lib.Pipeline.ValueKit

@[expose] public section

set_option maxRecDepth 16384

noncomputable section

namespace Cert.SwiGluIdeal.Grid

open Cert.SwiGluIdeal Cert.SwiGluIdeal.Gen Idealize.ShloMosaic Idealize.ShloMosaic.TcCoe Idealize.SL.Sem Cert.Proof.Norm
open Idealize.ShloMosaic.Pipeline (Dat)
open Cert.SsmPostRefIdeal.Spec (sg logistic_real)
open Cert.SwiGluRefIdeal.Spec (act dgate dup d)

variable (m : (ℓ : Loc nD τ sig) → Buf (Elt Ideal) ℓ) {h w x : ℕ → ℕ → ℝ}

theorem idx : ∀ t : Fin cfg0.N, win0_0.index t = ![t.val % 16, 0]
    ∧ win0_1.index t = ![t.val / 16, 0]
    ∧ win0_2.index t = ![t.val % 16, t.val / 16]
    ∧ win0_3.index t = ![t.val % 16, t.val / 16] :=
  (by decide +kernel : ∀ t : Fin grid0.N, _)

theorem points (t : Fin cfg0.N) : t.val < 32 := lt_of_lt_of_eq t.isLt (by decide +kernel : cfg0.N = 32)

/-- The order of columns the call works in: of each block of 2816, 1408 of the gate's and 1408 of the other half's. It is its own inverse. -/
def swap (q : ℕ) : ℕ := if q < 1408 then q else if q < 2816 then q + 1408 else if q < 4224 then q - 1408 else q

theorem swap_lt {q : ℕ} (hq : q < 5632) : swap q < 5632 := by unfold swap; split_ifs <;> omega

theorem swap_gate {j k : ℕ} (hj : j < 2) (hk : k < 1408) : swap (2816 * j + k) = 1408 * j + k := by
  unfold swap; split_ifs <;> omega

theorem swap_other {j k : ℕ} (hj : j < 2) (hk : k < 1408) : swap (2816 * j + (1408 + k)) = 2816 + (1408 * j + k) := by
  unfold swap; split_ifs <;> omega

/-- What a point stores: the gate's gradient in the block's first half of the columns, the other half's gradient in the second. -/
theorem stored (v0 : FVec Ideal S1024x1024 .bf16) (v2 : FVec Ideal S1408x1024 .bf16) (v5 : FVec Ideal S1024x2816 .bf16)
    {h w x : ℕ → ℕ → ℝ} (h0 : Is v0 h) (h1 : Is v2 w) (h2 : Is v5 x) :
    Is (k0_pay1 v0 v2 v5) fun p q => if q < 1408
      then act h w p q * x p (1408 + q) * (sg (x p q) + x p q * sg (x p q) * (1 - sg (x p q)))
      else act h w p (q - 1408) * (x p (q - 1408) * sg (x p (q - 1408))) := fun p q => by
  pointwise [k0_pay1]
  by_cases hq : q.val < 1408
  · simp only [hq, dite_true, h0 _ _, h1 _ _, h2 _ _, one_real, logistic_real, ← EReal.coe_mul, ← EReal.coe_add, ← EReal.coe_sub, coe_sum]
    refine congrArg _ ?_
    simp only [if_true, act, Nat.add_comm]
  · simp only [hq, dite_false, h0 _ _, h1 _ _, h2 _ _, one_real, logistic_real, ← EReal.coe_mul, ← EReal.coe_add, ← EReal.coe_sub, coe_sum]
    refine congrArg _ ?_
    simp only [if_false, act]

section Blocks

variable (c : Dev nD) (t : Fin cfg0.N)

theorem host_0 (h0 : Is (φ := .f32) (m ((c : Thread nD τ).loc main_arg0)) h) : Is (φ := .bf16) (V m c main_v6) h := fun p q => by
  unfold V V0
  simp only [List.flatten_cons, List.flatten_nil, List.append_nil]
  after_results_simp
  pointwise
  exact h0 p q

theorem host_1 (h1 : Is (φ := .f32) (m ((c : Thread nD τ).loc main_arg1)) w) : Is (φ := .bf16) (V m c main_v7) w := fun p q => by
  unfold V V0
  simp only [List.flatten_cons, List.flatten_nil, List.append_nil]
  after_results_simp
  pointwise
  exact h1 p q

/-- Four bands of columns side by side, cut from an array in the order `swap` names. -/
theorem bands {φ : FTy} (A : FVec Ideal S16384x5632 φ) (f : ℕ → ℕ → ℝ) (hA : Is A f) (p : Fin 16384) (q : Fin 5632) :
    (concatenate (α := Ideal φ) S16384x5632 1 [⟨S16384x1408, (extractStridedSlice S16384x1408 ![0, 0] A slices_S16384x5632_S16384x1408_0_0 : FVec Ideal S16384x1408 φ)⟩,
      ⟨S16384x1408, (extractStridedSlice S16384x1408 ![0, 2816] A slices_S16384x5632_S16384x1408_0_2816 : FVec Ideal S16384x1408 φ)⟩,
      ⟨S16384x1408, (extractStridedSlice S16384x1408 ![0, 1408] A slices_S16384x5632_S16384x1408_0_1408 : FVec Ideal S16384x1408 φ)⟩,
      ⟨S16384x1408, (extractStridedSlice S16384x1408 ![0, 4224] A slices_S16384x5632_S16384x1408_0_4224 : FVec Ideal S16384x1408 φ)⟩]
      concatenates_S16384x1408_S16384x1408_S16384x1408_S16384x1408_S16384x5632_d1 (ix2 p q) : EReal) = ((f p (swap q) : ℝ) : EReal) := by
  have hs := swap_lt q.isLt
  refine Eq.trans ?_ (hA p ⟨swap q, hs⟩)
  pointwise
  split_ifs
  all_goals exact congrArg (fun k => A (ix2 p k)) (Fin.ext (by show _ = swap q.val; unfold swap; (repeat' split) <;> first | omega | (simp only []; omega)))

theorem host_2 (h2 : Is (φ := .f32) (m ((c : Thread nD τ).loc main_arg2)) x) : Is (φ := .bf16) (V m c main_v5) (fun p q => x p (swap q)) := fun p q => by
  unfold V V0
  simp only [List.flatten_cons, List.flatten_nil, List.append_nil]
  after_results_simp
  exact bands _ x h2 p q

theorem blk_0 (h0 : Is (φ := .f32) (m ((c : Thread nD τ).loc main_arg0)) h) :
    Is (φ := .bf16) (iblk m c 0 t) (fun p q => h (1024 * (t.val % 16) + p) q) := fun p q => by
  have ht := points t
  refine Eq.trans ?_ (host_0 m c h0 ⟨1024 * (t.val % 16) + p, by omega⟩ q)
  obtain ⟨e, -⟩ := idx t
  blk_ext [iblk, e]

theorem blk_1 (h1 : Is (φ := .f32) (m ((c : Thread nD τ).loc main_arg1)) w) :
    Is (φ := .bf16) (iblk m c 1 t) (fun p q => w (1408 * (t.val / 16) + p) q) := fun p q => by
  have ht := points t
  refine Eq.trans ?_ (host_1 m c h1 ⟨1408 * (t.val / 16) + p, by omega⟩ q)
  obtain ⟨-, e, -⟩ := idx t
  blk_ext [iblk, e]

theorem blk_2 (h2 : Is (φ := .f32) (m ((c : Thread nD τ).loc main_arg2)) x) :
    Is (φ := .bf16) (iblk m c 2 t) (fun p q => x (1024 * (t.val % 16) + p) (swap (2816 * (t.val / 16) + q))) := fun p q => by
  have ht := points t
  refine Eq.trans ?_ (host_2 m c h2 ⟨1024 * (t.val % 16) + p, by omega⟩ ⟨2816 * (t.val / 16) + q, by omega⟩)
  obtain ⟨-, -, e, -⟩ := idx t
  blk_ext [iblk, e]

end Blocks

section Final

variable (c : Dev nD)
  (h0 : Is (φ := .f32) (m ((c : Thread nD τ).loc main_arg0)) h) (h1 : Is (φ := .f32) (m ((c : Thread nD τ).loc main_arg1)) w)
  (h2 : Is (φ := .f32) (m ((c : Thread nD τ).loc main_arg2)) x)

include h0 h1 h2 in
theorem point_3 (t : Fin cfg0.N) (y : S1024x2816.Idx) :
    k0_pay1 (F := Ideal) (iblk m c 0 t) (iblk m c 1 t) (iblk m c 2 t) y
      = arr (a := 16384) (b := 5632) (φ := .bf16) (fun p q => d h w x p (swap q)) ((win0_3.blk t).view.emb y) := by
  idx_vars y
  have ht := points t
  refine (stored _ _ _ (blk_0 m c t h0) (blk_1 m c t h1) (blk_2 m c t h2) _ _).trans ?_
  have e : (win0_3.blk t).view.emb (ix2 y0 y1)
      = ix2 (⟨1024 * (t.val % 16) + y0.val, by omega⟩ : Fin 16384) (⟨2816 * (t.val / 16) + y1.val, by omega⟩ : Fin 5632) := by
    obtain ⟨-, -, -, e⟩ := idx t
    blk_ext [e]
  refine Eq.trans ?_ (congrArg (arr (a := 16384) (b := 5632) (φ := .bf16) (fun p q => d h w x p (swap q))) e).symm
  refine congrArg (fun r : ℝ => (r : EReal)) ?_
  have hj : t.val / 16 < 2 := by omega
  by_cases hq : y1.val < 1408
  · have e1 : swap (2816 * (t.val / 16) + y1.val) = 1408 * (t.val / 16) + y1.val := swap_gate hj hq
    have e2 := swap_other hj hq
    have hl : 1408 * (t.val / 16) + y1.val < 2816 := by omega
    show _ = d h w x (1024 * (t.val % 16) + y0.val) (swap (2816 * (t.val / 16) + y1.val))
    simp only [hq, if_true, e1, e2, d, hl, dgate, act]
  · obtain ⟨k, hk⟩ : ∃ k, y1.val = 1408 + k := ⟨y1.val - 1408, by omega⟩
    have hk' : k < 1408 := by omega
    have e1 := swap_gate hj hk'
    have e2 := swap_other hj hk'
    show _ = d h w x (1024 * (t.val % 16) + y0.val) (swap (2816 * (t.val / 16) + y1.val))
    simp only [hk, Nat.not_lt_of_le (Nat.le_add_right 1408 k), Nat.not_lt_of_le (Nat.le_add_right 2816 _), if_false, Nat.add_sub_cancel_left, e1, e2, d, dup, act]

include h0 h1 h2 in
theorem final_3 : (dats m 0 c).arrAt 3 (cfgs 0).N = arr (a := 16384) (b := 5632) (φ := .bf16) (fun p q => d h w x p (swap q)) := by
  refine (dats m 0 c).arrAt_eq_of_covers 3 _ (by decide +kernel) fun t hf y => ?_
  blk_simp
  rw [after0_3]
  unfold out0_3
  frame_out
  exact point_3 m c h0 h1 h2 t y

theorem swap_swap (q : ℕ) : swap (swap q) = q := by unfold swap; split_ifs <;> omega

include h0 h1 h2 in
/-- The host's last lines put the columns back in the order of the projection. -/
theorem result : Pipeline.afterTail₀ cfgs (dats m) 0 (V0 m) [hostOps1] c main_v13 = arr (a := 16384) (b := 5632) (φ := .bf16) (d h w x) := by
  have e := Pipeline.withArrays_arr (cfgs 0).spec launch0.win.arr_inj c (V0 m c) (fun w => (dats m 0 c).arrAt w (cfgs 0).N) 3
  refine eq_arr fun p q => ?_
  unfold Pipeline.afterTail₀
  simp only [List.flatten_cons, List.flatten_nil, List.append_nil]
  after_results_simp
  refine (bands _ (fun p q => d h w x p (swap q)) (fun p q => (congrFun (e.trans (final_3 m c h0 h1 h2)) (ix2 p q)).trans rfl) p q).trans ?_
  rw [swap_swap]

end Final

theorem run (ρ : Dev nD → PrngReg) (h w x : Dev nD → ℕ → ℕ → ℝ)
    (H : ∀ c : Dev nD, Is (φ := .f32) (m ((c : Thread nD τ).loc main_arg0)) (h c) ∧ Is (φ := .f32) (m ((c : Thread nD τ).loc main_arg1)) (w c)
      ∧ Is (φ := .f32) (m ((c : Thread nD τ).loc main_arg2)) (x c)) :
    θ_run defs (onTc (τ := τ) (main (F := Ideal))) ⟨m, fun _ => 0, ρ⟩ fun r => ∀ c : Dev nD,
      r.2.mem ((c.tc : Thread nD τ).loc main_v13) = arr (φ := .bf16) (d (h c) (w c) (x c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r k c => ⟨((k.1 c).2 main_v13 (Pipeline.mem_restRefs_of main_v13 (by decide) (by decide))).trans
      (result m c (H c).1 (H c).2.1 (H c).2.2), k.2 c⟩)
    (θ_run_and (run_main m ρ) (unchanged m ρ))

end Cert.SwiGluIdeal.Grid

end
-- ==== Proof.SwiGlu.Pair.lean ====
/- SwiGLU's gradient by the call against the derivative of its lines. -/
module

public import proofs.«01_k».proof.Defs
public import proofs.«01_k».proof.Proof.Gen.Pre_swiglu_finite
public import proofs.«01_k».proof.Proof.SwiGlu.Kernel
public import proofs.«01_k».proof.Proof.SwiGlu.Spec

@[expose] public section

set_option maxRecDepth 16384

noncomputable section

namespace Cert.Proof.SwiGlu

open Idealize.ShloMosaic Idealize.SL.Sem Cert.Proof.Norm

/-- The derivative's program runs and keeps its arguments; it declares no semaphore. -/
theorem ref_frame : Cert.quiescent_SwiGluRefIdeal := fun m ρ _ =>
  (θ_run Cert.SwiGluRefIdeal.defs _ _).mono (fun r h => ⟨fun c => (h c).2, sem_eq_zero_of_no_sems (by decide) r.2⟩)
    (Cert.SwiGluRefIdeal.Value.run m ρ)

section
variable (m : (ℓ : Loc Cert.SwiGluIdeal.nD Cert.SwiGluIdeal.τ Cert.SwiGluIdeal.sig) → Buf (Elt Ideal) ℓ) (c : Dev Cert.SwiGluIdeal.nD)

/-- The numbers of the cotangent, of the weights after the gate and of the projection. -/
def cotangent : ℕ → ℕ → ℝ := reals (a := 16384) (b := 1024) (φ := .f32) (m ((c.tc : Thread Cert.SwiGluIdeal.nD Cert.SwiGluIdeal.τ).loc Cert.SwiGluIdeal.main_arg0))
def weights : ℕ → ℕ → ℝ := reals (a := 2816) (b := 1024) (φ := .f32) (m ((c.tc : Thread Cert.SwiGluIdeal.nD Cert.SwiGluIdeal.τ).loc Cert.SwiGluIdeal.main_arg1))
def projected : ℕ → ℕ → ℝ := reals (a := 16384) (b := 5632) (φ := .f32) (m ((c.tc : Thread Cert.SwiGluIdeal.nD Cert.SwiGluIdeal.τ).loc Cert.SwiGluIdeal.main_arg2))

end

/-- The call's result is the derivative of SwiGLU and its product in the projection, where the arguments are finite. -/
theorem algebraic : Cert.algebraic_SwiGluIdeal_SwiGluRefIdeal_pre_swiglu_finite := by
  intro m g m' g' hf ha
  have H (c : Dev Cert.SwiGluIdeal.nD) := (⟨is_reals fun i => congrFun (hf c).1 i, is_reals fun i => congrFun (hf c).2.1 i, is_reals fun i => congrFun (hf c).2.2 i⟩ :
      Is (a := 16384) (b := 1024) (φ := .f32) (m ((c.tc : Thread Cert.SwiGluIdeal.nD Cert.SwiGluIdeal.τ).loc Cert.SwiGluIdeal.main_arg0)) (cotangent m c)
        ∧ Is (a := 2816) (b := 1024) (φ := .f32) (m ((c.tc : Thread Cert.SwiGluIdeal.nD Cert.SwiGluIdeal.τ).loc Cert.SwiGluIdeal.main_arg1)) (weights m c)
        ∧ Is (a := 16384) (b := 5632) (φ := .f32) (m ((c.tc : Thread Cert.SwiGluIdeal.nD Cert.SwiGluIdeal.τ).loc Cert.SwiGluIdeal.main_arg2)) (projected m c))
  refine ⟨fun c => arr (φ := .bf16) (Cert.SwiGluRefIdeal.Spec.d (cotangent m c) (weights m c) (projected m c)),
    Cert.SwiGluIdeal.Grid.run m g (cotangent m) (weights m) (projected m) H,
    Cert.SwiGluRefIdeal.Spec.run m' g' (cotangent m) (weights m) (projected m) fun c => ?_⟩
  obtain ⟨a0, a1, a2⟩ := ha c
  rw [a0, a1, a2]
  exact H c

end Cert.Proof.SwiGlu

end
-- ==== Proof.Sticks.Walk.lean ====
/-
  What one grid point of the attention computes, as plain functions of the blocks it reads, for any float values: what the two
  straight tiles of a half step hand on (`firstHalf`, `secondHalf`), one step of the walk down the remaining tiles
  (`tailStep`) and the whole of that walk (`tail`), and from these what the point leaves in its two results (`atPoint`). The
  names of the values are the program's own.
-/
module

public import proofs.«01_k».proof.Proof.Gen.SticksIdeal.Skeleton
public import Idealize.ShloMosaic.Lib.VecWindow

@[expose] public section

set_option maxRecDepth 16384

noncomputable section

namespace Cert.Proof.Sticks.Ideal

open Cert.SticksIdeal Cert.SticksIdeal.Gen
open Idealize.ShloMosaic Idealize.ShloMosaic.TcCoe Idealize.ShloMosaic.VecWindow

variable {F : FTy → Type} [FloatOps F] [Named F]

/-- A tile of `16384x128` rows at offsets `off`. -/
abbrev rows {e : EltTy} (x : Vec F S16384x128 e) (off : Fin 2 → ℕ) (inb : ∀ a, off a + S256x128.size a ≤ S16384x128.size a) : Vec F S256x128 e :=
  window (s := S16384x128) x off S256x128.size inb

/-- The upper and the lower 256 rows of a `512x128` block. -/
abbrev upper {e : EltTy} (x : Vec F S512x128 e) : Vec F S256x128 e := window (s := S512x128) x ![0, 0] S256x128.size inb_S512x128_S256x128_0_0
abbrev lower {e : EltTy} (x : Vec F S512x128 e) : Vec F S256x128 e := window (s := S512x128) x ![256, 0] S256x128.size inb_S512x128_S256x128_256_0

/-- What a half step holds fixed: the queries of its two heads, and the strict triangle. -/
structure Fixed (F : FTy → Type) where
  q0 : FVec F S256x128 .bf16
  strict : FVec F S256x256 .bf16
  q1 : FVec F S256x128 .bf16

/-- What the walk carries: the next tile, and per head the sums over later columns of the log survival and the output so far. -/
abbrev Carried (F : FTy → Type) := BitVec 32 × FVec F S256x1 .f32 × FVec F S256x1 .f32 × FVec F S256x128 .f32 × FVec F S256x128 .f32

/-- What the two straight tiles of a half step hand on: the values fixed for it, the word that selects the lanes, and what is
    carried into the walk. -/
structure Half (F : FTy → Type) where
  fixed : Fixed F
  lane : IVec S1x128 1
  carried : Carried F

/-- The two straight tiles of the first half step, at grid point `i`: from the rows of the queries, and the key and value rows
    of the two tiles. -/
def firstHalf (i : grid0.Coords) (v7 v38 v66 v81 v105 : Vec F S256x128 .bf16) : Half F :=
  let arg1 : BitVec 32 := BitVec.ofNat 32 (i 1).val
  let v2 := Scalar.muli arg1 2#32
  let v3 := Scalar.addi v2 0#32
  let v19 := Scalar.muli v3 256#32
  let v20 := Scalar.divsi v19 256#32
  let v0 := k0_pay11 (F := F)
  let v1 := k0_pay12 (F := F)
  let v6 := k0_pay13
  let v14 := k0_pay15 v7
  let v18 := k0_pay16 v7
  let v28 := k0_pay17 i
  let v34 := k0_pay18 (F := F)
  let v40 := k0_pay19 v7 v38
  let v69 := k0_pay21 v0 v1 v28 v34 v40 v66
  let v72 := k0_pay22 v0 v28 v40
  let v75 := Scalar.cmpi .sge v20 1#32
  let v79 := k0_pay23 v0 v20 v28 v40
  let v83 := k0_pay24 v14 v81
  let v108 := k0_pay26 v34 v69 v79 v83 v105
  let v113 := k0_pay27 v72 v75 v83
  let v119 := k0_pay28 v18 v38
  let v123 := k0_pay29 v18 v38
  let v127 := k0_pay30 v18 v38
  let one : F .f32 := Scalar.ofBits .f32 0x3F800000#32
  let v148 := k0_pay32 v0 v1 v28 v34 v119 v123 v127 one v66
  let v151 := k0_pay33 v0 v28 v123 v127 one
  let v158 := k0_pay34 v0 v20 v28 v123 v127 one
  let v162 := k0_pay35 v18 v81
  let v166 := k0_pay36 v18 v81
  let v170 := k0_pay37 v18 v81
  let v187 := k0_pay39 v34 v148 v158 v162 v166 v170 one v105
  let v192 := k0_pay40 v151 v75 v166 v170 one
  { fixed := ⟨v14, v34, v18⟩, lane := v6, carried := ⟨Scalar.subi v20 2#32, v113, v192, v108, v187⟩ }

/-- The two straight tiles of the second half step. -/
def secondHalf (i : grid0.Coords) (v198 v229 v257 v272 v296 : Vec F S256x128 .bf16) : Half F :=
  let arg1 : BitVec 32 := BitVec.ofNat 32 (i 1).val
  let v193 := Scalar.muli arg1 2#32
  let v194 := Scalar.addi v193 1#32
  let v210 := Scalar.muli v194 256#32
  let v211 := Scalar.divsi v210 256#32
  let v0 := k0_pay11 (F := F)
  let v1 := k0_pay12 (F := F)
  let v197 := k0_pay41
  let v205 := k0_pay43 v198
  let v209 := k0_pay44 v198
  let v212 := iota .tc S256x256 32 [0] iota_S256x256_d0_w32
  let v213 := iota .tc S256x256 32 [1] iota_S256x256_d1_w32
  let v214 := Scalar.muli v211 256#32
  let v219 := k0_pay45 v194 v212 v213 v214
  let v225 := k0_pay46 (F := F)
  let v245 := k0_pay48 v194 v205 v212 v213 v214 v229
  let v260 := k0_pay49 v0 v1 v194 v205 v212 v213 v214 v229 v257
  let v299 := k0_pay53 v0 v205 v211 v225 v245 v260 v272 v296
  let v304 := k0_pay54 v0 v205 v211 v245 v272
  let v339 := k0_pay57 v0 v1 v209 v219 v225 v229 v257
  let v342 := k0_pay58 v0 v209 v219 v229
  let v345 := Scalar.cmpi .sge v211 1#32
  let v378 := k0_pay61 v209 v225 v339 v342 v345 v272 v296
  let v383 := k0_pay62 v209 v342 v345 v272
  { fixed := ⟨v205, v225, v209⟩, lane := v197, carried := ⟨Scalar.subi v211 2#32, v304, v383, v299, v378⟩ }

/-- Whether the walk goes on: a tile is left, and some row of some head still has weight above the cutoff. -/
def goesOn (s : Carried F) : BitVec 1 :=
  Scalar.andi (Scalar.cmpi .sge s.1 0#32) (Scalar.cmpf .ogt (k0_pay3 s.2.1 s.2.2.1) (Named.named κ "cutoff" 0xC2D20000#32 : F .f32))

/-- What one step of the walk carries on, from the key and value rows of its tile. -/
def tailStep (x : Fixed F) (k v : Vec F S256x128 .bf16) (s : Carried F) : Carried F :=
  let v439 := k0_pay69 x.q1 k
  let v441 := k0_pay70 x.q1 k
  let v442 := k0_pay71 (F := F)
  (Scalar.subi s.1 1#32, k0_pay68 x.q0 s.2.1 k, k0_pay6 s.2.2.1 v439 v441 v442, k0_pay67 x.q0 x.strict s.2.1 s.2.2.2.1 k v,
    k0_pay5 x.strict s.2.2.1 s.2.2.2.2 v439 v441 v442 v)

/-- The walk, at most `n` further steps: while it goes on, the step at its tile; then what is carried. -/
def tail (x : Fixed F) (K V : Vec F S16384x128 .bf16) : ℕ → Carried F → Carried F
  | 0, s => s
  | n + 1, s =>
    if h : goesOn s = 1#1 ∧ k0_chk1 s.1 then
      tail x K V n (tailStep x (rows K (k0_off3 s.1) (k0_off3_inb s.1 h.2)) (rows V (k0_off3 s.1) (k0_off3_inb s.1 h.2)) s)
    else s

/-- The half steps of point `i` on its blocks: the queries, and all keys and values. -/
def half (i : grid0.Coords) (Q : Vec F S512x128 .bf16) (K V : Vec F S16384x128 .bf16) (s : Fin 2) : Half F :=
  match s with
  | 0 => firstHalf i (upper Q) (rows K _ (k0_off1_inb i 0)) (rows V _ (k0_off1_inb i 0)) (rows K _ (k0_off2_inb i 0)) (rows V _ (k0_off2_inb i 0))
  | 1 => secondHalf i (lower Q) (rows K _ (k0_off1_inb i 1)) (rows V _ (k0_off1_inb i 1)) (rows K _ (k0_off2_inb i 1)) (rows V _ (k0_off2_inb i 1))

/-- What point `i` leaves in its two results, from the blocks it reads and from what the two held. -/
def atPoint (i : grid0.Coords) (Q : Vec F S512x128 .bf16) (K V : Vec F S16384x128 .bf16) (o : Vec F S512x128 .bf16) (w : Vec F S512x128 .f32) :
    Vec F S512x128 .bf16 × Vec F S512x128 .f32 :=
  let h0 := half i Q K V 0
  let h1 := half i Q K V 1
  let t0 := tail h0.fixed K V 64 h0.carried
  let t1 := tail h1.fixed K V 64 h1.carried
  (put (put o ![0, 0] S256x128.size (k0_pay64 h0.lane t0.2.2.2.1 t0.2.2.2.2)) ![256, 0] S256x128.size (k0_pay2 h1.lane t1.2.2.2.1 t1.2.2.2.2),
    put (put w ![0, 0] S256x128.size (k0_pay63 h0.lane t0.2.2.2.1 t0.2.2.2.2)) ![256, 0] S256x128.size (k0_pay1 h1.lane t1.2.2.2.1 t1.2.2.2.2))

end Cert.Proof.Sticks.Ideal

end
-- ==== Proof.Sticks.Tail.lean ====
/-
  The walk down the tiles, as the program runs it: the two `while`s of the kernel's body are labels that call themselves;
  each is met, by induction on the number of tiles left, by the function `tail`.
-/
module

public import proofs.«01_k».proof.Proof.Sticks.Walk
public import proofs.«01_k».proof.Proof.Attention.Mem
public import proofs.«01_k».proof.Proof.Gen.SticksIdeal.Launch
public import proofs.«01_k».proof.Proof.Gen.SticksIdeal.Points
public import Idealize.ShloMosaic.Lib.Pipeline.FrameBody
public import Idealize.ShloMosaic.Lib.Affine
public import Idealize.ShloMosaic.Lib.WordCmp

@[expose] public section

set_option maxRecDepth 16384

noncomputable section

namespace Cert.Proof.Sticks.Ideal

open Cert.SticksIdeal Cert.SticksIdeal.Gen
open Idealize.ShloMosaic Idealize.ShloMosaic.TcCoe Idealize.ShloMosaic.VecWindow Idealize.ShloMosaic.Tactic
open Cert.Proof.Attention (load_owned store_owned)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The measure the calls of a label go down by: the tiles left. -/
abbrev 𝒱₀ : Variants := Variants.nat

/-! ### The counter -/

/-- A tile of the 64 there are is inside the arrays. -/
theorem chk_of_lt : ∀ a : Fin 64, k0_chk1 (BitVec.ofNat 32 a.val) := by decide +kernel

/-- A walk that goes on has a tile left. -/
theorem nonneg_of_goesOn {s : Carried F} (h : goesOn s = 1#1) : 0 ≤ s.1.toInt := by
  by_contra hn
  have e : Scalar.cmpi .sge s.1 0#32 = 0#1 := by
    rw [show Scalar.cmpi .sge s.1 0#32 = BitVec.ofBool (decide ((0#32).toInt ≤ s.1.toInt)) from rfl, decide_eq_false (by simpa using hn)]; rfl
  unfold goesOn at h
  rw [e] at h
  generalize Scalar.cmpf (F := F) .ogt (k0_pay3 s.2.1 s.2.2.1) _ = b at h
  revert h; revert b; decide

theorem chk_of_goesOn {s : Carried F} (h : goesOn s = 1#1) (hs : s.1.toInt < 64) : k0_chk1 s.1 := by
  have h0 : 0 ≤ s.1.toInt := nonneg_of_goesOn h
  have e : s.1 = BitVec.ofNat 32 s.1.toNat := by simp
  have : s.1.toNat < 64 := by have := BitVec.toInt_eq_toNat_cond s.1; split at this <;> omega
  rw [e]; exact chk_of_lt ⟨_, this⟩

theorem sub_toInt {a : BitVec 32} (h0 : 0 ≤ a.toInt) : (Scalar.subi a 1#32).toInt = a.toInt - 1 := by
  show (a - 1#32).toInt = _
  have h1 : (1#32).toInt = 1 := rfl
  rw [BitVec.toInt_sub, h1, Int.bmod_def]
  have h2 : a.toInt < 2147483648 := BitVec.toInt_lt (x := a)
  have h3 : ((2 ^ 32 : ℕ) : ℤ) = 4294967296 := rfl
  rw [h3]
  omega

/-! ### The labels -/

section Label

variable (c : Dev nD) (i : grid0.Coords)
  (a3 : Memref sig .tc .vmem S16384x128 .bf16) (h3 : a3.IsWhole) (a4 : Memref sig .tc .vmem S16384x128 .bf16) (h4 : a4.IsWhole)
  (K V : Vec F S16384x128 .bf16)

/-- What the walk holds: the keys and the values. -/
def held : sProp 𝕄 := iprop(owns (c : Thread nD τ) a3 fullShare K ∗ owns (c : Thread nD τ) a4 fullShare V)

/-- The specification of a walk of at most `n` steps: it returns what `tail` carries out. -/
def spec (x : Fixed F) (n : ℕ) (s : Carried F) : sWPT 𝕄 (Carried F) := do
  sWPT.consume (held c a3 a4 K V)
  sWPT.produce (held c a3 a4 K V)
  pure (tail x K V n s)

theorem spec_apply (x : Fixed F) (n : ℕ) (s : Carried F) (Q : Carried F → sProp 𝕄) :
    spec c a3 a4 K V x n s Q = iprop(held c a3 a4 K V ∗ (held c a3 a4 K V -∗ Q (tail x K V n s))) := rfl

theorem tail_stop (x : Fixed F) (n : ℕ) (s : Carried F) (h : ¬goesOn s = 1#1) : tail x K V n s = s := by
  cases n with
  | zero => rfl
  | succ n => rw [tail, dif_neg fun h' => h h'.1]

/-- The first label, entered with `n` tiles left, does what `tail` says. -/
theorem spec_le1 (E : Set ℕ) (x : Fixed F) : ∀ n : ℕ, n ≤ 64 → ∀ (s : Carried F), s.1.toInt < (n : ℤ) → ∀ (Q : Carried F → sProp 𝕄),
    spec c a3 a4 K V x n s Q
      ⊢ wp frame (wpE (defs₀ (F := F)) 𝒱₀ (c : Thread nD τ) (some n)) E
          (defs₀ (F := F) .tc 1 ⟨i, a3, h3, x.q0, x.strict, a4, h4, x.q1, s.1, s.2.1, s.2.2.1, s.2.2.2.1, s.2.2.2.2⟩) Q := by
  intro n
  induction n with
  | zero =>
    intro _ s hs Q
    have hg : ¬goesOn s = 1#1 := fun h => by have := nonneg_of_goesOn h; simp at hs; omega
    rw [spec_apply, tail_stop K V x 0 s hg]
    show _ ⊢ wp frame (wpE (defs₀ (F := F)) 𝒱₀ (c : Thread nD τ) (some 0)) E
      (cc0_while1 i a3 h3 x.q0 x.strict a4 h4 x.q1 s.1 s.2.1 s.2.2.1 s.2.2.2.1 s.2.2.2.2) Q
    simp only [cc0_while1_eq_skeleton]; unfold cc0_while1_skel
    have hg' : ¬(Scalar.andi (Scalar.cmpi .sge s.1 0#32) (Scalar.cmpf .ogt (k0_pay3 s.2.1 s.2.2.1) (Named.named κ "cutoff" 0xC2D20000#32 : F .f32)) = 1#1) := hg
    simp only [hg', ↓reduceIte, Prog.pure_eq_ret]
    iintro ⟨H, Hk⟩
    rw [wp_ret]; imodintro
    iapply Hk; iexact H
  | succ n ih =>
    intro hn s hs Q
    show _ ⊢ wp frame (wpE (defs₀ (F := F)) 𝒱₀ (c : Thread nD τ) (some (n + 1))) E
      (cc0_while1 i a3 h3 x.q0 x.strict a4 h4 x.q1 s.1 s.2.1 s.2.2.1 s.2.2.2.1 s.2.2.2.2) Q
    simp only [cc0_while1_eq_skeleton]; unfold cc0_while1_skel
    by_cases hg : goesOn s = 1#1
    · have hchk := chk_of_goesOn hg (by omega)
      have hg' : (Scalar.andi (Scalar.cmpi .sge s.1 0#32) (Scalar.cmpf .ogt (k0_pay3 s.2.1 s.2.2.1) (Named.named κ "cutoff" 0xC2D20000#32 : F .f32)) = 1#1) := hg
      simp only [hg', ↓reduceIte, k0_part10_eq_skeleton]
      unfold k0_part10_skel
      simp only [Prog.lift, Prog.bind_op, Prog.bind_ret, Prog.pure_eq_ret]
      rw [spec_apply, tail, dif_pos ⟨hg, hchk⟩]
      unfold held
      iintro ⟨⟨H3, H4⟩, Hk⟩
      iapply (wp_assume 𝒱₀ (c : Thread nD τ) (some (n + 1)) E hchk)
      iapply (load_owned 𝒱₀ (c : Thread nD τ) (some (n + 1)) E) $$ H3; iintro H3
      iapply (load_owned 𝒱₀ (c : Thread nD τ) (some (n + 1)) E) $$ H4; iintro H4
      iapply (load_owned 𝒱₀ (c : Thread nD τ) (some (n + 1)) E) $$ H3; iintro H3
      iapply (load_owned 𝒱₀ (c : Thread nD τ) (some (n + 1)) E) $$ H4; iintro H4
      iapply (wp_call_spec 𝒱₀ (c : Thread nD τ) (some (n + 1)) E
        (spec c a3 a4 K V x n (tailStep x (rows K (k0_off3 s.1) (k0_off3_inb s.1 hchk)) (rows V (k0_off3 s.1) (k0_off3_inb s.1 hchk)) s)) n
        (fun u hu => by cases hu; exact Nat.lt_succ_self n)
        (ih (by omega) _ (by
          have := nonneg_of_goesOn hg
          show (Scalar.subi s.1 1#32).toInt < (n : ℤ)
          rw [sub_toInt this]; omega)))
      rw [spec_apply]; unfold held
      isplitl [H3 H4]
      · isplitl [H3]; · iexact H3
        iexact H4
      iintro H
      rw [wp_ret]; imodintro
      iapply Hk; iexact H
    · have hg' : ¬(Scalar.andi (Scalar.cmpi .sge s.1 0#32) (Scalar.cmpf .ogt (k0_pay3 s.2.1 s.2.2.1) (Named.named κ "cutoff" 0xC2D20000#32 : F .f32)) = 1#1) := hg
      rw [spec_apply, tail_stop K V x (n + 1) s hg]
      simp only [hg', ↓reduceIte, Prog.pure_eq_ret]
      iintro ⟨H, Hk⟩
      rw [wp_ret]; imodintro
      iapply Hk; iexact H

/-- The second walk's arithmetic is the first's. -/
theorem second_walk : @k0_pay7 = @k0_pay3 ∧ @k0_pay9 = @k0_pay5 ∧ @k0_pay10 = @k0_pay6 ∧ @k0_pay74 = @k0_pay67 ∧ @k0_pay75 = @k0_pay68
    ∧ @k0_pay76 = @k0_pay69 ∧ @k0_pay77 = @k0_pay70 ∧ @k0_pay78 = @k0_pay71 :=
  ⟨rfl, rfl, rfl, rfl, rfl, rfl, rfl, rfl⟩

/-- The second label, entered with `n` tiles left, does what `tail` says. -/
theorem spec_le2 (E : Set ℕ) (x : Fixed F) : ∀ n : ℕ, n ≤ 64 → ∀ (s : Carried F), s.1.toInt < (n : ℤ) → ∀ (Q : Carried F → sProp 𝕄),
    spec c a3 a4 K V x n s Q
      ⊢ wp frame (wpE (defs₀ (F := F)) 𝒱₀ (c : Thread nD τ) (some n)) E
          (defs₀ (F := F) .tc 2 ⟨i, a3, h3, x.q0, x.strict, a4, h4, x.q1, s.1, s.2.1, s.2.2.1, s.2.2.2.1, s.2.2.2.2⟩) Q := by
  obtain ⟨e1, e2, e3, e4, e5, e6, e7, e8⟩ := @second_walk
  intro n
  induction n with
  | zero =>
    intro _ s hs Q
    have hg : ¬goesOn s = 1#1 := fun h => by have := nonneg_of_goesOn h; simp at hs; omega
    rw [spec_apply, tail_stop K V x 0 s hg]
    show _ ⊢ wp frame (wpE (defs₀ (F := F)) 𝒱₀ (c : Thread nD τ) (some 0)) E
      (cc0_while2 i a3 h3 x.q0 x.strict a4 h4 x.q1 s.1 s.2.1 s.2.2.1 s.2.2.2.1 s.2.2.2.2) Q
    simp only [cc0_while2_eq_skeleton]; unfold cc0_while2_skel
    rw [e1]
    have hg' : ¬(Scalar.andi (Scalar.cmpi .sge s.1 0#32) (Scalar.cmpf .ogt (k0_pay3 s.2.1 s.2.2.1) (Named.named κ "cutoff" 0xC2D20000#32 : F .f32)) = 1#1) := hg
    simp only [hg', ↓reduceIte, Prog.pure_eq_ret]
    iintro ⟨H, Hk⟩
    rw [wp_ret]; imodintro
    iapply Hk; iexact H
  | succ n ih =>
    intro hn s hs Q
    show _ ⊢ wp frame (wpE (defs₀ (F := F)) 𝒱₀ (c : Thread nD τ) (some (n + 1))) E
      (cc0_while2 i a3 h3 x.q0 x.strict a4 h4 x.q1 s.1 s.2.1 s.2.2.1 s.2.2.2.1 s.2.2.2.2) Q
    simp only [cc0_while2_eq_skeleton]; unfold cc0_while2_skel
    rw [e1]
    by_cases hg : goesOn s = 1#1
    · have hchk := chk_of_goesOn hg (by omega)
      have hg' : (Scalar.andi (Scalar.cmpi .sge s.1 0#32) (Scalar.cmpf .ogt (k0_pay3 s.2.1 s.2.2.1) (Named.named κ "cutoff" 0xC2D20000#32 : F .f32)) = 1#1) := hg
      simp only [hg', ↓reduceIte, k0_part11_eq_skeleton]
      unfold k0_part11_skel
      simp only [Prog.lift, Prog.bind_op, Prog.bind_ret, Prog.pure_eq_ret, e2, e3, e4, e5, e6, e7, e8,
        show @k0_off4 = @k0_off3 from rfl]
      rw [spec_apply, tail, dif_pos ⟨hg, hchk⟩]
      unfold held
      iintro ⟨⟨H3, H4⟩, Hk⟩
      iapply (wp_assume 𝒱₀ (c : Thread nD τ) (some (n + 1)) E hchk)
      iapply (load_owned 𝒱₀ (c : Thread nD τ) (some (n + 1)) E) $$ H3; iintro H3
      iapply (load_owned 𝒱₀ (c : Thread nD τ) (some (n + 1)) E) $$ H4; iintro H4
      iapply (load_owned 𝒱₀ (c : Thread nD τ) (some (n + 1)) E) $$ H3; iintro H3
      iapply (load_owned 𝒱₀ (c : Thread nD τ) (some (n + 1)) E) $$ H4; iintro H4
      iapply (wp_call_spec 𝒱₀ (c : Thread nD τ) (some (n + 1)) E
        (spec c a3 a4 K V x n (tailStep x (rows K (k0_off3 s.1) (k0_off3_inb s.1 hchk)) (rows V (k0_off3 s.1) (k0_off3_inb s.1 hchk)) s)) n
        (fun u hu => by cases hu; exact Nat.lt_succ_self n)
        (ih (by omega) _ (by
          have := nonneg_of_goesOn hg
          show (Scalar.subi s.1 1#32).toInt < (n : ℤ)
          rw [sub_toInt this]; omega)))
      rw [spec_apply]; unfold held
      isplitl [H3 H4]
      · isplitl [H3]; · iexact H3
        iexact H4
      iintro H
      rw [wp_ret]; imodintro
      iapply Hk; iexact H
    · have hg' : ¬(Scalar.andi (Scalar.cmpi .sge s.1 0#32) (Scalar.cmpf .ogt (k0_pay3 s.2.1 s.2.2.1) (Named.named κ "cutoff" 0xC2D20000#32 : F .f32)) = 1#1) := hg
      rw [spec_apply, tail_stop K V x (n + 1) s hg]
      simp only [hg', ↓reduceIte, Prog.pure_eq_ret]
      iintro ⟨H, Hk⟩
      rw [wp_ret]; imodintro
      iapply Hk; iexact H

end Label

end Cert.Proof.Sticks.Ideal

end
-- ==== Proof.Sticks.Body.lean ====
/-
  One grid point's program, run: from the blocks it reads and any contents of its two results, the body leaves in the results
  what `atPoint` says.
-/
module

public import proofs.«01_k».proof.Proof.Sticks.Tail
public import proofs.«01_k».proof.Proof.Gen.SticksIdeal.Launch
public import proofs.«01_k».proof.Proof.Gen.SticksIdeal.Points
public import Idealize.ShloMosaic.Lib.Pipeline.FrameBody
public import Idealize.ShloMosaic.Lib.Affine
public import Idealize.ShloMosaic.Lib.WordCmp

@[expose] public section

set_option maxRecDepth 16384

noncomputable section

namespace Cert.Proof.Sticks.Ideal

open Cert.SticksIdeal Cert.SticksIdeal.Gen
open Idealize.ShloMosaic Idealize.ShloMosaic.TcCoe Idealize.ShloMosaic.VecWindow Idealize.ShloMosaic.Tactic
open Cert.Proof.Attention (load_owned store_owned)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The tile after the two straight ones of the first half step is below the number of tiles there are. -/
theorem first_lt (i : grid0.Coords) (v7 v38 v66 v81 v105 : Vec F S256x128 .bf16) : (firstHalf i v7 v38 v66 v81 v105).carried.1.toInt < ((64 : ℕ) : ℤ) := by
  have : ∀ i : grid0.Coords, (Scalar.subi (Scalar.divsi (Scalar.muli (Scalar.addi (Scalar.muli (BitVec.ofNat 32 (i 1).val) 2#32) 0#32) 256#32) 256#32) 2#32).toInt < ((64 : ℕ) : ℤ) := by
    decide +kernel
  exact this i

/-- And so is that of the second. -/
theorem second_lt (i : grid0.Coords) (v198 v229 v257 v272 v296 : Vec F S256x128 .bf16) : (secondHalf i v198 v229 v257 v272 v296).carried.1.toInt < ((64 : ℕ) : ℤ) := by
  have : ∀ i : grid0.Coords, (Scalar.subi (Scalar.divsi (Scalar.muli (Scalar.addi (Scalar.muli (BitVec.ofNat 32 (i 1).val) 2#32) 1#32) 256#32) 256#32) 2#32).toInt < ((64 : ℕ) : ℤ) := by
    decide +kernel
  exact this i

set_option maxHeartbeats 4000000 in
/-- The body at point `i`, on whole blocks at the contents named: it leaves the inputs as they were and the results as `atPoint` says. -/
theorem body_run (c : Dev nD) (i : grid0.Coords)
    (a2 : Memref sig .tc .vmem S512x128 .bf16) (h2 : a2.IsWhole) (a3 : Memref sig .tc .vmem S16384x128 .bf16) (h3 : a3.IsWhole)
    (a4 : Memref sig .tc .vmem S16384x128 .bf16) (h4 : a4.IsWhole) (a5 : Memref sig .tc .vmem S512x128 .bf16) (h5 : a5.IsWhole)
    (a6 : Memref sig .tc .vmem S512x128 .f32) (h6 : a6.IsWhole)
    (Q : Vec F S512x128 .bf16) (K V : Vec F S16384x128 .bf16) (o : Vec F S512x128 .bf16) (w : Vec F S512x128 .f32) (Φ : PUnit → sProp 𝕄) :
    iprop(owns (c : Thread nD τ) a2 fullShare Q ∗ owns (c : Thread nD τ) a3 fullShare K ∗ owns (c : Thread nD τ) a4 fullShare V
        ∗ owns (c : Thread nD τ) a5 fullShare o ∗ owns (c : Thread nD τ) a6 fullShare w
        ∗ ((owns (c : Thread nD τ) a2 fullShare Q ∗ owns (c : Thread nD τ) a3 fullShare K ∗ owns (c : Thread nD τ) a4 fullShare V
        ∗ owns (c : Thread nD τ) a5 fullShare (atPoint i Q K V o w).1 ∗ owns (c : Thread nD τ) a6 fullShare (atPoint i Q K V o w).2) -∗ Φ ⟨⟩))
      ⊢ wp frame (wpE (defs₀ (F := F)) 𝒱₀ (c : Thread nD τ) none) Set.univ (cc0_sb_fwd i a2 h2 a3 h3 a4 h4 a5 h5 a6 h6) Φ := by
  rw [cc0_sb_fwd_eq_skeleton]
  unfold cc0_sb_fwd_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold k0_part1_skel k0_part2_skel k0_part3_skel k0_part4_skel k0_part5_skel k0_part6_skel k0_part7_skel k0_part8_skel k0_part9_skel
  simp only [Prog.lift, Prog.bind_op, Prog.bind_ret, Prog.pure_eq_ret]
  unfold atPoint
  let h0 := half i Q K V 0
  let h1 := half i Q K V 1
  iintro ⟨H2, H3, H4, H5, H6, Hk⟩
  iapply (load_owned 𝒱₀ (c : Thread nD τ) none Set.univ) $$ H2; iintro H2
  iapply (load_owned 𝒱₀ (c : Thread nD τ) none Set.univ) $$ H3; iintro H3
  iapply (load_owned 𝒱₀ (c : Thread nD τ) none Set.univ) $$ H4; iintro H4
  iapply (load_owned 𝒱₀ (c : Thread nD τ) none Set.univ) $$ H3; iintro H3
  iapply (load_owned 𝒱₀ (c : Thread nD τ) none Set.univ) $$ H4; iintro H4
  iapply (load_owned 𝒱₀ (c : Thread nD τ) none Set.univ) $$ H3; iintro H3
  iapply (load_owned 𝒱₀ (c : Thread nD τ) none Set.univ) $$ H4; iintro H4
  iapply (load_owned 𝒱₀ (c : Thread nD τ) none Set.univ) $$ H3; iintro H3
  iapply (load_owned 𝒱₀ (c : Thread nD τ) none Set.univ) $$ H4; iintro H4
  iapply (load_owned 𝒱₀ (c : Thread nD τ) none Set.univ) $$ H2; iintro H2
  iapply (load_owned 𝒱₀ (c : Thread nD τ) none Set.univ) $$ H3; iintro H3
  iapply (load_owned 𝒱₀ (c : Thread nD τ) none Set.univ) $$ H4; iintro H4
  iapply (load_owned 𝒱₀ (c : Thread nD τ) none Set.univ) $$ H3; iintro H3
  iapply (load_owned 𝒱₀ (c : Thread nD τ) none Set.univ) $$ H4; iintro H4
  iapply (load_owned 𝒱₀ (c : Thread nD τ) none Set.univ) $$ H3; iintro H3
  iapply (load_owned 𝒱₀ (c : Thread nD τ) none Set.univ) $$ H4; iintro H4
  iapply (load_owned 𝒱₀ (c : Thread nD τ) none Set.univ) $$ H3; iintro H3
  iapply (load_owned 𝒱₀ (c : Thread nD τ) none Set.univ) $$ H4; iintro H4
  iapply (wp_call_spec 𝒱₀ (c : Thread nD τ) none Set.univ (spec c a3 a4 K V h0.fixed 64 h0.carried) 64 (fun u hu => nomatch hu)
    (spec_le1 c i a3 h3 a4 h4 K V Set.univ h0.fixed 64 le_rfl h0.carried (first_lt i _ _ _ _ _)))
  rw [spec_apply]; unfold held
  isplitl [H3 H4]
  · isplitl [H3]; · iexact H3
    iexact H4
  iintro ⟨H3, H4⟩
  iapply (load_owned 𝒱₀ (c : Thread nD τ) none Set.univ) $$ H5; iintro H5
  iapply (store_owned 𝒱₀ (c : Thread nD τ) none Set.univ) $$ H5; iintro H5
  iapply (load_owned 𝒱₀ (c : Thread nD τ) none Set.univ) $$ H6; iintro H6
  iapply (store_owned 𝒱₀ (c : Thread nD τ) none Set.univ) $$ H6; iintro H6
  iapply (wp_call_spec 𝒱₀ (c : Thread nD τ) none Set.univ (spec c a3 a4 K V h1.fixed 64 h1.carried) 64 (fun u hu => nomatch hu)
    (spec_le2 c i a3 h3 a4 h4 K V Set.univ h1.fixed 64 le_rfl h1.carried (second_lt i _ _ _ _ _)))
  rw [spec_apply]; unfold held
  isplitl [H3 H4]
  · isplitl [H3]; · iexact H3
    iexact H4
  iintro ⟨H3, H4⟩
  iapply (load_owned 𝒱₀ (c : Thread nD τ) none Set.univ) $$ H5; iintro H5
  iapply (store_owned 𝒱₀ (c : Thread nD τ) none Set.univ) $$ H5; iintro H5
  iapply (load_owned 𝒱₀ (c : Thread nD τ) none Set.univ) $$ H6; iintro H6
  iapply (store_owned 𝒱₀ (c : Thread nD τ) none Set.univ) $$ H6; iintro H6
  rw [wp_ret]; imodintro
  iapply Hk
  isplitl [H2]; · iexact H2
  isplitl [H3]; · iexact H3
  isplitl [H4]; · iexact H4
  isplitl [H5]; · iexact H5
  iexact H6

end Cert.Proof.Sticks.Ideal

end
-- ==== Proof.Sticks.Run.lean ====
/-
  The attention run: the region's buffers as the host lines leave them, what each grid point leaves in the two
  results, and the launch. Every execution ends, with the argument array as it was and every semaphore counter at zero.
-/
module

public import proofs.«01_k».proof.Proof.Sticks.Body

@[expose] public section

set_option maxRecDepth 16384

noncomputable section

namespace Cert.Proof.Sticks.Ideal

open Cert.SticksIdeal Cert.SticksIdeal.Gen
open Idealize.ShloMosaic Idealize.ShloMosaic.TcCoe Idealize.ShloMosaic.VecWindow Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ### The host lines -/

/-- The host lines in front of the region, stretch by stretch. -/
abbrev stretches : List (List (HloOp τ sig (Elt F))) :=
  [hostOps0]

theorem stretches_sub : (stretches (F := F)).Forall fun ops => ops.Forall fun op => op.bufs ⊆ StableHlo.tcRefs τ sig :=
  hostOps0_sub

theorem stretches_fresh : (stretches (F := F)).Forall fun ops => ops.Forall fun op => op.fresh = ∅ := by
  simp only [List.Forall]; repeat' constructor

/-- The buffers when the region is entered: after the host lines. -/
abbrev V (c : Dev nD) (b : Ref sig .tc) : Buf (Elt F) ((c : Thread nD τ).loc b) := StableHlo.after (stretches (F := F)).flatten (fun b => m (c, b)) b

set_option maxHeartbeats 1600000 in
theorem hmain : Pipeline.HMain (Ix := Unit) (Name := ℕ) (U := UR sig nD τ) (Lvl := ℕ) cfgs 0 defs₀ 𝒱₀ m (main (F := F)) (V m) :=
  Pipeline.hmain_prefixes cfgs 0 defs₀ 𝒱₀ m main stretches stretches_sub stretches_fresh main_chain

/-- No host line writes the argument. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [stretches, hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-! ### What the points leave -/

/-- Window `w`'s block at point `t` of its array as the region finds it. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- Two puts that together cover a block leave nothing of what it held. -/
theorem put_halves {α : Type} (x y : S512x128.Idx → α) (u w : S256x128.Idx → α) :
    put (s := S512x128) (put (s := S512x128) x ![0, 0] S256x128.size u) ![256, 0] S256x128.size w = put (s := S512x128) (put (s := S512x128) y ![0, 0] S256x128.size u) ![256, 0] S256x128.size w := by
  funext z
  by_cases h : ∀ a, (![256, 0] : Fin 2 → ℕ) a ≤ (z a).val ∧ (z a).val < (![256, 0] : Fin 2 → ℕ) a + S256x128.size a
  · unfold put; rw [dif_pos h, dif_pos h]
  · have h' : ∀ a, (![0, 0] : Fin 2 → ℕ) a ≤ (z a).val ∧ (z a).val < (![0, 0] : Fin 2 → ℕ) a + S256x128.size a := by
      have h0 : (z 0).val < 512 := (z 0).isLt
      have h1 : (z 1).val < 128 := (z 1).isLt
      have hn : ¬ 256 ≤ (z 0).val := fun h2 => h fun a => by
        fin_cases a
        · exact ⟨h2, h0⟩
        · exact ⟨Nat.zero_le _, by simpa using h1⟩
      intro a
      fin_cases a
      · exact ⟨Nat.zero_le _, by show (z 0).val < 0 + 256; omega⟩
      · exact ⟨Nat.zero_le _, by simpa using h1⟩
    unfold put; rw [dif_neg h, dif_neg h, dif_pos h', dif_pos h']

/-- What a point leaves does not depend on what the results' blocks held. -/
theorem atPoint_any (i : grid0.Coords) (Q : Vec F S512x128 .bf16) (K V : Vec F S16384x128 .bf16) (o o' : Vec F S512x128 .bf16) (w w' : Vec F S512x128 .f32) :
    atPoint i Q K V o w = atPoint i Q K V o' w' := by
  unfold atPoint
  exact Prod.ext (put_halves ..) (put_halves ..)

/-- What the two results' blocks hold after point `t`. -/
def outsAt (c : Dev nD) (t : Fin (cfg0 (F := F)).N) : Vec F S512x128 .bf16 × Vec F S512x128 .f32 :=
  atPoint (grid0.coords t) (iblk m c 0 t) (iblk m c 1 t) (iblk m c 2 t) (iblk m c 0 t) (broadcast S512x128 (Scalar.ofBits .f32 0x00000000#32))

/-! ### The pipeline's data -/

/-- The arrays as the region finds them; the inputs' blocks kept, the results' as `outsAt` says; nothing owed. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt m c t).1
    | ⟨4, _⟩ => (outsAt m c t).2
  Φ _ := Pipeline.ΦA spec0 c
  q w := Pipeline.shareOf spec0 w
  owed _ := 0

theorem A_eq (c : Dev nD) (w : Fin (cfg0 (F := F)).W) : (dats m 0 c).A w = V m c (Pipeline.arrRef spec0 w) := by
  dsimp only [dats]

theorem after0_0 (c : Dev nD) (t : Fin (cfg0 (F := F)).N) : (dats m 0 c).after 0 t = iblk m c 0 t := by dsimp only [dats]; rfl
theorem after0_1 (c : Dev nD) (t : Fin (cfg0 (F := F)).N) : (dats m 0 c).after 1 t = iblk m c 1 t := by dsimp only [dats]; rfl
theorem after0_2 (c : Dev nD) (t : Fin (cfg0 (F := F)).N) : (dats m 0 c).after 2 t = iblk m c 2 t := by dsimp only [dats]; rfl
theorem after0_3 (c : Dev nD) (t : Fin (cfg0 (F := F)).N) : (dats m 0 c).after 3 t = (outsAt m c t).1 := by dsimp only [dats]; rfl
theorem after0_4 (c : Dev nD) (t : Fin (cfg0 (F := F)).N) : (dats m 0 c).after 4 t = (outsAt m c t).2 := by dsimp only [dats]; rfl

/-- An input's staging buffer holds its block at every point. -/
theorem before0_0 (c : Dev nD) (t : Fin (cfg0 (F := F)).N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin (cfg0 (F := F)).N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin (cfg0 (F := F)).N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)

/-! ### The body at a point -/

/-- What the body is called with at point `t`, -/
def bodyPre (c : Dev nD) (t : Fin (cfg0 (F := F)).N) : sProp 𝕄 :=
  iprop((dats m 0 c).Φ t.castSucc ∗ (dats m 0 c).owesAt () t.castSucc
    ∗ (∃ d, owns (c : Thread nD τ) (st0_0 (F := F) t) fullShare ((dats m 0 c).before 0 t d))
    ∗ (∃ d, owns (c : Thread nD τ) (st0_1 (F := F) t) fullShare ((dats m 0 c).before 1 t d))
    ∗ (∃ d, owns (c : Thread nD τ) (st0_2 (F := F) t) fullShare ((dats m 0 c).before 2 t d))
    ∗ (∃ d, owns (c : Thread nD τ) (st0_3 (F := F) t) fullShare ((dats m 0 c).before 3 t d))
    ∗ (∃ d, owns (c : Thread nD τ) (st0_4 (F := F) t) fullShare ((dats m 0 c).before 4 t d)))

/-- and what it returns. -/
def bodyPost (c : Dev nD) (t : Fin (cfg0 (F := F)).N) : sProp 𝕄 :=
  iprop((dats m 0 c).Φ t.succ ∗ (dats m 0 c).owesAt () t.succ
    ∗ owns (c : Thread nD τ) (st0_0 (F := F) t) fullShare ((dats m 0 c).after 0 t)
    ∗ owns (c : Thread nD τ) (st0_1 (F := F) t) fullShare ((dats m 0 c).after 1 t)
    ∗ owns (c : Thread nD τ) (st0_2 (F := F) t) fullShare ((dats m 0 c).after 2 t)
    ∗ owns (c : Thread nD τ) (st0_3 (F := F) t) fullShare ((dats m 0 c).after 3 t)
    ∗ owns (c : Thread nD τ) (st0_4 (F := F) t) fullShare ((dats m 0 c).after 4 t))

set_option maxHeartbeats 1600000 in
/-- The body at any point. -/
theorem sound_body (c : Dev nD) (t : Fin (cfg0 (F := F)).N) :
    bodyPre m c t ⊢ wp frame (wpE (defs₀ (F := F)) 𝒱₀ c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4]
  have key := fun o w => body_run c (grid0.coords t) (st0_0 t) (hstage0_0 (((cfg0 (F := F)).slots t 0).cast nbuf0_0)) (st0_1 t) (hstage0_1 (((cfg0 (F := F)).slots t 1).cast nbuf0_1)) (st0_2 t) (hstage0_2 (((cfg0 (F := F)).slots t 2).cast nbuf0_2)) (st0_3 t) (hstage0_3 (((cfg0 (F := F)).slots t 3).cast nbuf0_3)) (st0_4 t) (hstage0_4 (((cfg0 (F := F)).slots t 4).cast nbuf0_4))
    (iblk m c 0 t) (iblk m c 1 t) (iblk m c 2 t) o w
  have e : ∀ o w, atPoint (grid0.coords t) (iblk m c 0 t) (iblk m c 1 t) (iblk m c 2 t) o w = outsAt m c t := fun o w => atPoint_any _ _ _ _ _ _ _ _
  simp only [e] at key
  iintro ⟨HΦ, Ho, ⟨%d0, H0⟩, ⟨%d1, H1⟩, ⟨%d2, H2⟩, ⟨%d3, H3⟩, ⟨%d4, H4⟩⟩
  iapply (key ((dats m 0 c).before 3 t d3) ((dats m 0 c).before 4 t d4))
  isplitl [H0]; · iexact H0
  isplitl [H1]; · iexact H1
  isplitl [H2]; · iexact H2
  isplitl [H3]; · iexact H3
  isplitl [H4]; · iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body table's row is the body. -/
theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

/-! ### The run -/

set_option backward.isDefEq.respectTransparency.types false in
/-- The launch: every execution ends, the arrays at what the points leave and the counters at zero. -/
theorem run_main : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ 𝒱₀ m ρ main
    (hbody := fun c => (body_obligation m c).loose) (hq := fun _ _ _ => rfl)
    (howed := fun _ _ => rfl) (V := V m) (hmain := hmain m) (hA := A_eq m) (hΦ := fun _ _ => rfl)

/-- The frame: the argument ends as it was. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  (θ_run defs _ _).mono (fun _ h => ⟨fun c =>
    ((h.1 c).2 main_arg0 (Pipeline.mem_restRefs_of main_arg0 (by decide) ((by decide : ∀ w : Fin 5, (spec0 w).arr.view.ref ≠ main_arg0)))).trans (V_main_arg0 m c), h.2⟩) (run_main m ρ)

end Cert.Proof.Sticks.Ideal

end
-- ==== Proof.Sticks.Real.lean ====
/-
  The forward attention's tiles: each form of a tile of one head as a function of blocks (on the diagonal, beside it, below it), the
  program's half steps and walk as these, and what each gives over real numbers: the later keys' sum of the log survivals, and
  the output's part from the later keys.
-/
module

public import proofs.«01_k».proof.Proof.Sticks.Walk
public import proofs.«01_k».proof.Proof.Attention.Point

@[expose] public section

set_option maxRecDepth 16384

noncomputable section

namespace Cert.Proof.Sticks.Ideal

open Cert.SticksIdeal Cert.SticksIdeal.Gen
open Idealize.ShloMosaic Idealize.ShloMosaic.TcCoe Idealize.ShloMosaic.VecWindow
open Cert.Proof.Attention (Is Marks)
open Cert.Proof.Attention.Ideal (score keep logWeight rowSums across queries is_score is_keep is_rowSums is_across is_logWeight slt_iff)
open Cert.Proof.Attention.Stick (from' low weight)
open Cert.Proof.Attention (Stick.from'_tile Stick.from'_strict Stick.from'_eq_zero Stick.low_eq_zero Stick.weight_eq_zero)

/-- What one head of a tile carries on: the later keys' sum of the log survivals, and the output so far. -/
structure Tile where
  later : FVec Ideal S256x1 .f32
  acc : FVec Ideal S256x128 .f32

/-- A tile's weights times its value rows, added to the output so far. -/
def plus (acc : FVec Ideal S256x128 .f32) (w : FVec Ideal S256x256 .f32) (v : FVec Ideal S256x128 .bf16) : FVec Ideal S256x128 .f32 :=
  addf acc (across (truncf .bf16 w bitsLt_bf16_f32) (shapeCast S256x128 v shapeCasts_S256x128_S256x128))

def onDiagonal (mask : IVec S256x256 1) (strict : FVec Ideal S256x256 .bf16) (q k v : FVec Ideal S256x128 .bf16) : Tile :=
  let zero := broadcast S256x1 (Scalar.ofBits .f32 0x00000000#32)
  let z := score q k
  let l := select mask (keep z) (broadcast S256x256 (Scalar.ofBits .f32 0x00000000#32))
  ⟨addf zero (rowSums l), plus (broadcast S256x128 (Scalar.ofBits .f32 0x00000000#32))
    (exp (select mask (logWeight strict zero z l) (broadcast S256x256 (Scalar.ofBits .f32 0xFF800000#32)))) v⟩

def besideDiagonal (ok : BitVec 1) (strict : FVec Ideal S256x256 .bf16) (q : FVec Ideal S256x128 .bf16) (later : FVec Ideal S256x1 .f32)
    (acc : FVec Ideal S256x128 .f32) (k v : FVec Ideal S256x128 .bf16) : Tile :=
  let z := score q k
  let l := keep z
  ⟨addf later (Scalar.select ok (rowSums l) (broadcast S256x1 (Scalar.ofBits .f32 0x00000000#32))),
    plus acc (exp (logWeight strict (Scalar.select ok later (broadcast S256x1 (Scalar.ofBits .f32 0xFF800000#32))) z l)) v⟩

def below (strict : FVec Ideal S256x256 .bf16) (q : FVec Ideal S256x128 .bf16) (later : FVec Ideal S256x1 .f32) (acc : FVec Ideal S256x128 .f32)
    (k v : FVec Ideal S256x128 .bf16) : Tile :=
  let z := score q k
  let l := keep z
  ⟨addf later (rowSums l), plus acc (exp (logWeight strict later z l)) v⟩

/-- The head of lanes below 64, and the other, of a half step's queries. -/
def lanes : IVec S256x128 1 := broadcastTo S256x128 (shapeCast S1x128 k0_pay13 shapeCasts_S1x128_S1x128) broadcasts_S1x128_S256x128
def head0 (q : FVec Ideal S256x128 .bf16) : FVec Ideal S256x128 .bf16 := select lanes (queries q) (broadcast S256x128 (Scalar.ofBits .bf16 0x0000#16))
def head1 (q : FVec Ideal S256x128 .bf16) : FVec Ideal S256x128 .bf16 := select lanes (broadcast S256x128 (Scalar.ofBits .bf16 0x0000#16)) (queries q)

/-- A half step, from its rows, the mask of the tile on the diagonal, and the number of its block of rows. -/
def halfOf (mask : IVec S256x256 1) (r : BitVec 32) (q k1 v1 k2 v2 : FVec Ideal S256x128 .bf16) : Half Ideal :=
  let strict := k0_pay18 (F := Ideal)
  let ok := Scalar.cmpi .sge r 1#32
  let a0 := onDiagonal mask strict (head0 q) k1 v1
  let a1 := onDiagonal mask strict (head1 q) k1 v1
  let b0 := besideDiagonal ok strict (head0 q) a0.later a0.acc k2 v2
  let b1 := besideDiagonal ok strict (head1 q) a1.later a1.acc k2 v2
  { fixed := ⟨head0 q, strict, head1 q⟩, lane := k0_pay13, carried := ⟨Scalar.subi r 2#32, b0.later, b1.later, b0.acc, b1.acc⟩ }

/-- The number of the block of rows of a point's first and second half step, as the program's word. -/
abbrev word (i : grid0.Coords) (s : BitVec 32) : BitVec 32 :=
  Scalar.divsi (Scalar.muli (Scalar.addi (Scalar.muli (BitVec.ofNat 32 (i 1).val) 2#32) s) 256#32) 256#32

theorem half_ext {x y : Half Ideal} (h1 : x.fixed = y.fixed) (h2 : x.lane = y.lane) (h3 : x.carried = y.carried) : x = y := by
  cases x; cases y; subst h1 h2 h3; rfl

theorem carried_ext {x y : Carried Ideal} (h1 : x.1 = y.1) (h2 : x.2.1 = y.2.1) (h3 : x.2.2.1 = y.2.2.1) (h4 : x.2.2.2.1 = y.2.2.2.1) (h5 : x.2.2.2.2 = y.2.2.2.2) : x = y :=
  Prod.ext h1 (Prod.ext h2 (Prod.ext h3 (Prod.ext h4 h5)))

/-- The mask of the second half step's tile on the diagonal. -/
abbrev secondMask (i : grid0.Coords) : IVec S256x256 1 :=
  k0_pay45 (Scalar.addi (Scalar.muli (BitVec.ofNat 32 (i 1).val) 2#32) 1#32) (iota .tc S256x256 32 [0] iota_S256x256_d0_w32) (iota .tc S256x256 32 [1] iota_S256x256_d1_w32)
    (Scalar.muli (word i 1#32) 256#32)

set_option maxHeartbeats 4000000 in
theorem firstHalf_eq (i : grid0.Coords) (q k1 v1 k2 v2 : FVec Ideal S256x128 .bf16) : firstHalf (F := Ideal) i q k1 v1 k2 v2 = halfOf (k0_pay17 i) (word i 0#32) q k1 v1 k2 v2 :=
  half_ext rfl rfl (carried_ext rfl rfl rfl rfl rfl)

set_option maxHeartbeats 4000000 in
theorem secondHalf_eq (i : grid0.Coords) (q k1 v1 k2 v2 : FVec Ideal S256x128 .bf16) : secondHalf (F := Ideal) i q k1 v1 k2 v2 = halfOf (secondMask i) (word i 1#32) q k1 v1 k2 v2 :=
  half_ext rfl rfl (carried_ext rfl rfl rfl rfl rfl)

theorem tailStep_eq (x : Fixed Ideal) (k v : FVec Ideal S256x128 .bf16) (j : BitVec 32) (l0 l1 : FVec Ideal S256x1 .f32) (a0 a1 : FVec Ideal S256x128 .f32) :
    tailStep (F := Ideal) x k v (j, l0, l1, a0, a1)
      = (Scalar.subi j 1#32, (below x.strict x.q0 l0 a0 k v).later, (below x.strict x.q1 l1 a1 k v).later,
        (below x.strict x.q0 l0 a0 k v).acc, (below x.strict x.q1 l1 a1 k v).acc) :=
  carried_ext rfl rfl rfl rfl rfl

/-! ### Masks and words -/

/-- The strict triangle. -/
theorem is_strict : Is (k0_pay18 (F := Ideal)) (fun k c => if c < k then 1 else 0) := Attention.Ideal.is_strict

/-- The lanes of the first head are those below 64. -/
theorem marks_lanes : Marks lanes (fun _ l => l < 64) := Attention.Ideal.marks_lanes

/-- The tile on the diagonal keeps the keys before the query. -/
theorem marks_first (i : grid0.Coords) : Marks (k0_pay17 i) (fun p c => c < p) := fun p q => by
  have e : ∀ n : Fin 32, Scalar.subi (Scalar.muli (Scalar.divsi (Scalar.muli (Scalar.addi (Scalar.muli (BitVec.ofNat 32 n.val) 2#32) 0#32) 256#32) 256#32) 256#32)
      (Scalar.muli (Scalar.addi (Scalar.muli (BitVec.ofNat 32 n.val) 2#32) 0#32) 256#32) = 0#32 := by decide +kernel
  pointwise [k0_pay17]
  rw [e (i 1)]
  exact (by rw [IntOp.addi, BitVec.add_zero] : _ ↔ _).trans (slt_iff (by omega) (by omega))

theorem marks_second (i : grid0.Coords) : Marks (secondMask i) (fun p c => c < p) := fun p q => by
  have e : ∀ n : Fin 32, Scalar.subi (Scalar.muli (Scalar.divsi (Scalar.muli (Scalar.addi (Scalar.muli (BitVec.ofNat 32 n.val) 2#32) 1#32) 256#32) 256#32) 256#32)
      (Scalar.muli (Scalar.addi (Scalar.muli (BitVec.ofNat 32 n.val) 2#32) 1#32) 256#32) = 0#32 := by decide +kernel
  pointwise [k0_pay45]
  rw [e (i 1)]
  exact (by rw [IntOp.addi, BitVec.add_zero] : _ ↔ _).trans (slt_iff (by omega) (by omega))

/-- The number of the block of rows of a half step. -/
theorem word_eq (i : grid0.Coords) (s : Fin 2) : word i (BitVec.ofNat 32 s.val) = BitVec.ofNat 32 (2 * (i 1).val + s.val) :=
  (by decide +kernel : ∀ n : Fin 32, ∀ s : Fin 2, Scalar.divsi (Scalar.muli (Scalar.addi (Scalar.muli (BitVec.ofNat 32 n.val) 2#32) (BitVec.ofNat 32 s.val)) 256#32) 256#32
    = BitVec.ofNat 32 (2 * n.val + s.val)) (i 1) s

/-! ### Over real numbers -/

variable {f g : ℕ → ℕ → ℝ}

/-- The queries `q` of one head, at rows `256 r` on, have the scores `z` on the keys `K`. -/
structure Scores (z K : ℕ → ℕ → ℝ) (r : ℕ) (x : FVec Ideal S256x128 .bf16) (q : ℕ → ℕ → ℝ) : Prop where
  isQ : Is x q
  score : ∀ p < 256, ∀ s < 16384, ∑ l : Fin 128, q p l * K s l = z (256 * r + p) s

/-- What a head carries once the tiles from `j` on are done. -/
structure Carries (z V : ℕ → ℕ → ℝ) (r j : ℕ) (later : FVec Ideal S256x1 .f32) (acc : FVec Ideal S256x128 .f32) : Prop where
  later : Is later (fun p _ => from' (low z (256 * r + p)) (256 * j))
  acc : Is acc (fun p l => from' (fun s => weight z (256 * r + p) s * V s l) (256 * j))

variable {z K V : ℕ → ℕ → ℝ} {r j : ℕ} {x : FVec Ideal S256x128 .bf16} {q : ℕ → ℕ → ℝ} {k v : FVec Ideal S256x128 .bf16}
  {later : FVec Ideal S256x1 .f32} {acc : FVec Ideal S256x128 .f32}

theorem is_plus {w : FVec Ideal S256x256 .f32} (ha : Is acc f) {u g : ℕ → ℕ → ℝ} (hw : Is w u) (hv : Is v g) :
    Is (plus acc w v) (fun p l => f p l + ∑ c : Fin 256, u p c * g c l) := ha.addf (is_across (hw.truncf _) (hv.cast _))

theorem below_gives (H : Scores z K r x q) (hj : j < r) (hr : r < 64) (C : Carries z V r (j + 1) later acc)
    (hk : Is k (fun c l => K (256 * j + c) l)) (hv : Is v (fun c l => V (256 * j + c) l)) :
    Carries z V r j (below k0_pay18 x later acc k v).later (below k0_pay18 x later acc k v).acc := by
  have hj' : j < 64 := by omega
  have before : ∀ p c, c < 256 → 256 * j + c < 256 * r + p := fun p c hc => by omega
  have hz : Is (score x k) (fun p c => z (256 * r + p) (256 * j + c)) := (is_score H.isQ hk).congr fun p hp c hc => H.score p hp _ (by omega)
  have hl : Is (keep (score x k)) (fun p c => low z (256 * r + p) (256 * j + c)) :=
    (is_keep hz).congr fun p hp c hc => (if_pos (before p c hc)).symm
  have hatt := (is_logWeight is_strict C.later hz hl).exp.congr (g := fun p c => weight z (256 * r + p) (256 * j + c)) fun p hp c hc => by
    rw [weight, if_pos (before p c hc), add_assoc, Stick.from'_strict _ j c hj' hc]
  exact ⟨(C.later.addf (is_rowSums hl)).congr fun p _ _ _ => (Stick.from'_tile _ j hj').symm,
    (is_plus C.acc hatt hv).congr fun p _ l _ => (Stick.from'_tile _ j hj').symm⟩

theorem besideDiagonal_gives (H : Scores z K r x q) (hj : j < r) (hr : r < 64) (C : Carries z V r (j + 1) later acc)
    (hk : Is k (fun c l => K (256 * j + c) l)) (hv : Is v (fun c l => V (256 * j + c) l)) :
    Carries z V r j (besideDiagonal 1#1 k0_pay18 x later acc k v).later (besideDiagonal 1#1 k0_pay18 x later acc k v).acc :=
  below_gives H hj hr C hk hv

theorem onDiagonal_gives {mask : IVec S256x256 1} (hm : Marks mask (fun p c => c < p)) (H : Scores z K r x q) (hr : r < 64)
    (hk : Is k (fun c l => K (256 * r + c) l)) (hv : Is v (fun c l => V (256 * r + c) l)) :
    Carries z V r r (onDiagonal mask k0_pay18 x k v).later (onDiagonal mask k0_pay18 x k v).acc := by
  have past : ∀ (f : ℕ → ℝ) (p : ℕ), p < 256 → (∀ s, 256 * r + p ≤ s → f s = 0) → from' f (256 * (r + 1)) = 0 := fun f p hp e =>
    Stick.from'_eq_zero f _ fun s hs => e s (by omega)
  have on : ∀ p c, 256 * r + c < 256 * r + p ↔ c < p := fun p c => by omega
  have hz : Is (score x k) (fun p c => z (256 * r + p) (256 * r + c)) := (is_score H.isQ hk).congr fun p hp c hc => H.score p hp _ (by omega)
  have hl := (Is.select hm (is_keep hz) Is.zero).congr (g := fun p c => low z (256 * r + p) (256 * r + c)) fun p hp c hc => by
    simp only [low, on]
  have hatt := (Is.exp_masked hm (is_logWeight is_strict Is.zero hz hl)).congr (g := fun p c => weight z (256 * r + p) (256 * r + c)) fun p hp c hc => by
    simp only [weight, on]
    refine if_congr Iff.rfl (congrArg _ ?_) rfl
    rw [← Stick.from'_strict _ r c hr hc, past _ p hp fun s hs => Stick.low_eq_zero z hs, ← add_assoc]
  refine ⟨(Is.zero.addf (is_rowSums hl)).congr fun p hp _ _ => ?_, (is_plus Is.zero hatt hv).congr fun p hp l _ => ?_⟩
  · rw [Stick.from'_tile _ r hr, past _ p hp fun s hs => Stick.low_eq_zero z hs]
  · rw [Stick.from'_tile _ r hr, past _ p hp fun s hs => by rw [Stick.weight_eq_zero z hs, zero_mul]]

/-- Where there is no tile beside the diagonal one, what is carried stays. -/
theorem besideDiagonal_none (H : Scores z K r x q) (C : Carries z V r j later acc) {k' v' : ℕ → ℕ → ℝ} (hk : Is k k') (hv : Is v v') :
    Carries z V r j (besideDiagonal 0#1 k0_pay18 x later acc k v).later (besideDiagonal 0#1 k0_pay18 x later acc k v).acc := by
  have hz := is_score H.isQ hk
  have hatt : Is (exp (logWeight k0_pay18 (broadcast S256x1 (Scalar.ofBits (F := Ideal) .f32 0xFF800000#32)) (score x k) (keep (score x k)))) (fun _ _ => 0) := by
    intro p c
    have e : (broadcastTo S256x256 (broadcast S256x1 (Scalar.ofBits (F := Ideal) .f32 0xFF800000#32)) broadcasts_S256x1_S256x256 : FVec Ideal S256x256 .f32) (ix2 p c) = (⊥ : EReal) := by
      pointwise
      simp [Ideal.ofBits, Ideal.ieee]
    show Ideal.exp ((_ : EReal) + broadcastTo S256x256 (broadcast S256x1 (Scalar.ofBits (F := Ideal) .f32 0xFF800000#32)) broadcasts_S256x1_S256x256 (ix2 p c)) = _
    rw [e, EReal.add_bot]; rfl
  exact ⟨(C.later.addf Is.zero).congr fun _ _ _ _ => add_zero _, (is_plus C.acc hatt hv).congr fun _ _ _ _ => by simp⟩

end Cert.Proof.Sticks.Ideal

end
-- ==== Proof.Sticks.Point.lean ====
/-
  The forward attention's walk over a half step's tiles and a whole grid point, over real numbers: the walk goes on while a tile is
  left, each step does its tile, and a point leaves its rows of the output, twice.
-/
module

public import proofs.«01_k».proof.Proof.Sticks.Real
public import proofs.«01_k».proof.Proof.Sticks.Run

@[expose] public section

set_option maxRecDepth 16384

noncomputable section

namespace Cert.Proof.Sticks.Ideal

open Cert.SticksIdeal Cert.SticksIdeal.Gen
open Idealize.ShloMosaic Idealize.ShloMosaic.TcCoe Idealize.ShloMosaic.VecWindow
open Cert.Proof.Attention (Is Marks)
open Cert.Proof.Attention.Ideal (Pairs pairsOf near far scaled products output queries next)
open Cert.Proof.Attention.Stick (from' low weight)

variable {f g : ℕ → ℕ → ℝ}

/-- What a half step at block `r` of rows holds fixed. -/
structure Heads (P : Pairs) (K : ℕ → ℕ → ℝ) (r : ℕ) (q0 q1 : ℕ → ℕ → ℝ) (x : Fixed Ideal) : Prop where
  strict : x.strict = k0_pay18
  first : Scores P.z0 K r x.q0 q0
  second : Scores P.z1 K r x.q1 q1

/-- What the walk carries with the tiles from `j` on done. -/
structure Bears (P : Pairs) (V : ℕ → ℕ → ℝ) (r j : ℕ) (s : Carried Ideal) : Prop where
  first : Carries P.z0 V r j s.2.1 s.2.2.2.1
  second : Carries P.z1 V r j s.2.2.1 s.2.2.2.2

theorem next_succ : ∀ j : Fin 64, next (j.val + 1) = BitVec.ofNat 32 j.val ∧ Scalar.subi (next (j.val + 1)) 1#32 = next j.val
    ∧ Scalar.cmpi .sge (next (j.val + 1)) 0#32 = 1#1 ∧ k0_off3 (next (j.val + 1)) = ![256 * j.val, 0]
    ∧ 256 ∣ (k0_mult9 (next (j.val + 1))).toNat ∧ 256 ∣ (k0_mult10 (next (j.val + 1))).toNat := by decide +kernel

theorem chk_next (j : Fin 64) : k0_chk1 (next (j.val + 1)) := by
  obtain ⟨-, -, -, e, h1, h2⟩ := next_succ j
  refine ⟨h1, fun a => ?_, h2⟩
  rw [e]
  fin_cases a
  · show 256 * j.val + 256 ≤ 16384; omega
  · show 0 + 128 ≤ 128; omega

/-- A maximum of real columns is above `-∞`, -/
theorem largest_gt {x y : FVec Ideal S256x1 .f32} (h : Is x f) (k : Is y g) : (⊥ : EReal) < (k0_pay3 x y : Ideal .f32) := Attention.Ideal.largest_gt h k

/-- so the walk goes on while a tile is left, -/
theorem goesOn_next (j : Fin 64) {l0 l1 : FVec Ideal S256x1 .f32} {a0 a1 : FVec Ideal S256x128 .f32} (h : Is l0 f) (k : Is l1 g) :
    goesOn (next (j.val + 1), l0, l1, a0, a1) = 1#1 := by
  have e : Scalar.cmpf .ogt (k0_pay3 l0 l1) (Named.named κ "cutoff" 0xC2D20000#32 : Ideal .f32) = 1#1 := by
    have := largest_gt h k
    rw [show (Named.named κ "cutoff" 0xC2D20000#32 : Ideal .f32) = (⊥ : EReal) from rfl]
    show BitVec.ofBool (decide ((⊥ : EReal) < (k0_pay3 l0 l1 : Ideal .f32))) = 1#1
    rw [decide_eq_true this]; rfl
  unfold goesOn
  rw [e, (next_succ j).2.2.1]
  rfl

/-- and stops where none is. -/
theorem goesOn_none (w : BitVec 32) (h : Scalar.cmpi .sge w 0#32 = 0#1) {l0 l1 : FVec Ideal S256x1 .f32} {a0 a1 : FVec Ideal S256x128 .f32} :
    goesOn (w, l0, l1, a0, a1) ≠ 1#1 := by
  unfold goesOn
  simp only [h]
  generalize Scalar.cmpf (F := Ideal) _ _ _ = c
  revert c
  decide

variable {P : Pairs} {Q K V : ℕ → ℕ → ℝ} {r : ℕ} {q0 q1 : ℕ → ℕ → ℝ} {x : Fixed Ideal} {Kv Vv : FVec Ideal S16384x128 .bf16}

/-- A walk from which no tile is left. -/
theorem tail_none (w : BitVec 32) (h : Scalar.cmpi .sge w 0#32 = 0#1) (n : ℕ) (l0 l1 : FVec Ideal S256x1 .f32) (a0 a1 : FVec Ideal S256x128 .f32) :
    tail x Kv Vv n (w, l0, l1, a0, a1) = (w, l0, l1, a0, a1) := by
  cases n with
  | zero => rfl
  | succ n => rw [tail, dif_neg fun h' => goesOn_none w h h'.1]

/-- The walk from where `j` tiles are left. -/
theorem tail_gives (H : Heads P K r q0 q1 x) (hr : r < 64) (hK : Is Kv K) (hV : Is Vv V) : ∀ (j : ℕ), j < r → ∀ (n : ℕ), j ≤ n →
    ∀ (l0 l1 : FVec Ideal S256x1 .f32) (a0 a1 : FVec Ideal S256x128 .f32), Bears P V r j (next j, l0, l1, a0, a1) →
    Bears P V r 0 (tail x Kv Vv n (next j, l0, l1, a0, a1))
  | 0, _, n, _, l0, l1, a0, a1, B => by
    rw [tail_none (next 0) (by decide)]
    exact B
  | j + 1, hj, n + 1, hn, l0, l1, a0, a1, B => by
    obtain ⟨-, en, -, eo, -⟩ := next_succ ⟨j, by omega⟩
    simp only at en eo
    have cond : goesOn (next (j + 1), l0, l1, a0, a1) = 1#1 ∧ k0_chk1 (next (j + 1)) :=
      ⟨goesOn_next ⟨j, by omega⟩ B.first.later B.second.later, chk_next ⟨j, by omega⟩⟩
    have inb := k0_off3_inb _ cond.2
    have kt := Attention.Ideal.Is.window hK eo inb
    have vt := Attention.Ideal.Is.window hV eo inb
    have t0 := below_gives H.first (by omega) hr B.first kt vt
    have t1 := below_gives H.second (by omega) hr B.second kt vt
    rw [tail, dif_pos cond]
    simp only [tailStep_eq, H.strict, en]
    exact tail_gives H hr hK hV j (by omega) n (by omega) _ _ _ _ ⟨t0, t1⟩

/-! ### A half step -/

variable {D : ℕ → ℕ → ℝ} {q k1 v1 k2 v2 : FVec Ideal S256x128 .bf16}

theorem scores0 (hr : r < 64) (hq : Is q (fun p l => Q (256 * r + p) l)) :
    Scores (pairsOf Q K V D).z0 K r (head0 q) (fun p => near (scaled Q) (256 * r + p)) where
  isQ := Is.select marks_lanes ((hq.cast _).mulf Is.eighth') Is.zero'
  score := fun p hp s hs => rfl

theorem scores1 (hr : r < 64) (hq : Is q (fun p l => Q (256 * r + p) l)) :
    Scores (pairsOf Q K V D).z1 K r (head1 q) (fun p => far (scaled Q) (256 * r + p)) where
  isQ := Is.select marks_lanes Is.zero' ((hq.cast _).mulf Is.eighth')
  score := fun p hp s hs => rfl

/-- What the two straight tiles of a half step at block `r` of rows give: the values held fixed, and what is carried into the walk. -/
structure Starts (P : Pairs) (K V : ℕ → ℕ → ℝ) (r : ℕ) (q0 q1 : ℕ → ℕ → ℝ) (x : Half Ideal) : Prop where
  lane : x.lane = k0_pay13
  heads : Heads P K r q0 q1 x.fixed
  word : x.carried.1 = Scalar.subi (BitVec.ofNat 32 r) 2#32
  bears : Bears P V r (r - 1) x.carried

theorem halfOf_starts {mask : IVec S256x256 1} (hm : Marks mask (fun p c => c < p)) (hr : r < 64) (hq : Is q (fun p l => Q (256 * r + p) l))
    (hk1 : Is k1 (fun c l => K (256 * r + c) l)) (hv1 : Is v1 (fun c l => V (256 * r + c) l))
    (hk2 : Is k2 (fun c l => K (256 * (r - 1) + c) l)) (hv2 : Is v2 (fun c l => V (256 * (r - 1) + c) l)) :
    Starts (pairsOf Q K V D) K V r (fun p => near (scaled Q) (256 * r + p)) (fun p => far (scaled Q) (256 * r + p)) (halfOf mask (BitVec.ofNat 32 r) q k1 v1 k2 v2) := by
  have H0 := scores0 (K := K) (V := V) (D := D) hr hq
  have H1 := scores1 (K := K) (V := V) (D := D) hr hq
  have a0 := onDiagonal_gives hm H0 hr hk1 hv1
  have a1 := onDiagonal_gives hm H1 hr hk1 hv1
  have ok := Attention.Ideal.ok_iff ⟨r, hr⟩
  simp only at ok
  by_cases e : r = 0
  · rw [if_pos e] at ok
    subst e
    have b0 := besideDiagonal_none H0 a0 hk2 hv2
    have b1 := besideDiagonal_none H1 a1 hk2 hv2
    refine ⟨rfl, ⟨rfl, H0, H1⟩, rfl, ⟨?_, ?_⟩⟩
    · simp only [halfOf, ok]; exact b0
    · simp only [halfOf, ok]; exact b1
  · rw [if_neg e] at ok
    obtain ⟨j, rfl⟩ : ∃ j, r = j + 1 := ⟨r - 1, by omega⟩
    simp only [Nat.add_sub_cancel] at hk2 hv2
    have b0 := besideDiagonal_gives H0 (Nat.lt_succ_self j) hr a0 hk2 hv2
    have b1 := besideDiagonal_gives H1 (Nat.lt_succ_self j) hr a1 hk2 hv2
    refine ⟨rfl, ⟨rfl, H0, H1⟩, rfl, ⟨?_, ?_⟩⟩
    · simp only [halfOf, ok]; exact b0
    · simp only [halfOf, ok]; exact b1

/-! ### The point -/

theorem off1_eq : ∀ (i : grid0.Coords) (s : Fin 2), k0_off1 i (BitVec.ofNat 32 s.val) = ![256 * (2 * (i 1).val + s.val), 0] := by decide +kernel

theorem off2_eq : ∀ (i : grid0.Coords) (s : Fin 2), k0_off2 i (BitVec.ofNat 32 s.val) = ![256 * (2 * (i 1).val + s.val - 1), 0] := by decide +kernel

variable {Qb : FVec Ideal S512x128 .bf16} {Kb Vb : FVec Ideal S16384x128 .bf16} {i : grid0.Coords} {n : ℕ}

/-- Each half step of a point starts as it should. -/
theorem first_starts (hn : (i 1).val = n) (hQ : Is Qb (fun p l => Q (512 * n + p) l)) (hK : Is Kb K) (hV : Is Vb V) :
    Starts (pairsOf Q K V D) K V (2 * n + 0) (fun p => near (scaled Q) (256 * (2 * n + 0) + p)) (fun p => far (scaled Q) (256 * (2 * n + 0) + p)) (half i Qb Kb Vb 0) := by
  have h32 : (i 1).val < 32 := (i 1).isLt
  have k1 := Attention.Ideal.Is.window hK (off1_eq i 0) (k0_off1_inb i 0)
  have v1 := Attention.Ideal.Is.window hV (off1_eq i 0) (k0_off1_inb i 0)
  have k2 := Attention.Ideal.Is.window hK (off2_eq i 0) (k0_off2_inb i 0)
  have v2 := Attention.Ideal.Is.window hV (off2_eq i 0) (k0_off2_inb i 0)
  have w : word i 0#32 = _ := word_eq i 0
  have row : ∀ p, 512 * n + (0 + p) = 256 * (2 * n + 0) + p := fun p => by ring
  have q := (Attention.Ideal.Is.window hQ (n := 0) rfl inb_S512x128_S256x128_0_0).congr (g := fun p l => Q (256 * (2 * n + 0) + p) l) fun p _ l _ => by simp only [row]
  rw [hn] at k1 v1 k2 v2 w
  have e : half (F := Ideal) i Qb Kb Vb 0 = _ := firstHalf_eq i _ _ _ _ _
  rw [e, w]
  exact halfOf_starts (marks_first i) (by omega) q k1 v1 k2 v2

theorem second_starts (hn : (i 1).val = n) (hQ : Is Qb (fun p l => Q (512 * n + p) l)) (hK : Is Kb K) (hV : Is Vb V) :
    Starts (pairsOf Q K V D) K V (2 * n + 1) (fun p => near (scaled Q) (256 * (2 * n + 1) + p)) (fun p => far (scaled Q) (256 * (2 * n + 1) + p)) (half i Qb Kb Vb 1) := by
  have h32 : (i 1).val < 32 := (i 1).isLt
  have k1 := Attention.Ideal.Is.window hK (off1_eq i 1) (k0_off1_inb i 1)
  have v1 := Attention.Ideal.Is.window hV (off1_eq i 1) (k0_off1_inb i 1)
  have k2 := Attention.Ideal.Is.window hK (off2_eq i 1) (k0_off2_inb i 1)
  have v2 := Attention.Ideal.Is.window hV (off2_eq i 1) (k0_off2_inb i 1)
  have w : word i 1#32 = _ := word_eq i 1
  have row : ∀ p, 512 * n + (256 + p) = 256 * (2 * n + 1) + p := fun p => by ring
  have q := (Attention.Ideal.Is.window hQ (n := 256) rfl inb_S512x128_S256x128_256_0).congr (g := fun p l => Q (256 * (2 * n + 1) + p) l) fun p _ l _ => by simp only [row]
  rw [hn] at k1 v1 k2 v2 w
  have e : half (F := Ideal) i Qb Kb Vb 1 = _ := secondHalf_eq i _ _ _ _ _
  rw [e, w]
  exact halfOf_starts (marks_second i) (by omega) q k1 v1 k2 v2

/-- The whole walk of a half step. -/
theorem tail_whole {x : Half Ideal} (S : Starts P K V r q0 q1 x) (hr : r < 64) (hK : Is Kb K) (hV : Is Vb V) : Bears P V r 0 (tail x.fixed Kb Vb 64 x.carried) := by
  rcases ec : x.carried with ⟨w, l0, l1, a0, a1⟩
  have hw : w = Scalar.subi (BitVec.ofNat 32 r) 2#32 := by have := S.word; rw [ec] at this; exact this
  have B := S.bears
  rw [ec] at B
  by_cases e : r = 0
  · subst e
    rw [tail_none w (by rw [hw]; decide)]
    exact B
  · obtain ⟨j, rfl⟩ : ∃ j, r = j + 1 := ⟨r - 1, by omega⟩
    rw [Attention.Ideal.sub_two ⟨j, by omega⟩] at hw
    subst hw
    exact tail_gives S.heads hr hK hV j (Nat.lt_succ_self j) 64 (by omega) l0 l1 a0 a1 B

/-- The rows of the output of a half step. -/
theorem output_rows {s : Carried Ideal} (B : Bears P V r 0 s) : Is (k0_pay63 k0_pay13 s.2.2.2.1 s.2.2.2.2) (fun p l => output P V (256 * r + p) l) :=
  Is.select marks_lanes B.first.acc B.second.acc

/-- Two halves of rows put into a block. -/
theorem put_rows {φ : FTy} {f : ℕ → ℕ → ℝ} {o : FVec Ideal S512x128 φ} {h : ℕ → ℕ → ℝ} (ho : Is o h) {u w : FVec Ideal S256x128 φ} (hu : Is u (fun p l => f (0 + p) l))
    (hw : Is w (fun p l => f (256 + p) l)) : Is (put (put o ![0, 0] S256x128.size u) ![256, 0] S256x128.size w) f := by
  refine Is.congr (Attention.Ideal.Is.put (g := f) (Attention.Ideal.Is.put (g := f) ho (off := ![0, 0]) (n := 0) rfl hu) (off := ![256, 0]) (n := 256) rfl hw) fun p hp l _ => ?_
  by_cases c : 256 ≤ p
  · rw [if_pos ⟨c, by omega⟩]
  · rw [if_neg (by omega), if_pos (by omega)]

theorem atPoint_gives (D : ℕ → ℕ → ℝ) (hn : (i 1).val = n) (hQ : Is Qb (fun p l => Q (512 * n + p) l)) (hK : Is Kb K) (hV : Is Vb V) (o : FVec Ideal S512x128 .bf16) (w : FVec Ideal S512x128 .f32)
    {f' g' : ℕ → ℕ → ℝ} (ho : Is o f') (hw : Is w g') :
    Is (φ := .bf16) (atPoint (F := Ideal) i Qb Kb Vb o w).1 (fun p l => output (pairsOf Q K V D) V (512 * n + p) l)
      ∧ Is (φ := .f32) (atPoint (F := Ideal) i Qb Kb Vb o w).2 (fun p l => output (pairsOf Q K V D) V (512 * n + p) l) := by
  have h32 : (i 1).val < 32 := (i 1).isLt
  have S0 := first_starts (D := D) hn hQ hK hV
  have S1 := second_starts (D := D) hn hQ hK hV
  have r0 := output_rows (tail_whole S0 (by show 2 * n + 0 < 64; omega) hK hV)
  have r1 := output_rows (tail_whole S1 (by show 2 * n + 1 < 64; omega) hK hV)
  rw [← S0.lane] at r0
  rw [← S1.lane] at r1
  have u0 := r0.congr (g := fun p l => output (pairsOf Q K V D) V (512 * n + (0 + p)) l) fun p _ l _ => by rw [show 256 * (2 * n + 0) + p = 512 * n + (0 + p) by ring]
  have u1 := r1.congr (g := fun p l => output (pairsOf Q K V D) V (512 * n + (256 + p)) l) fun p _ l _ => by rw [show 256 * (2 * n + 1) + p = 512 * n + (256 + p) by ring]
  exact ⟨put_rows (f := fun p l => output (pairsOf Q K V D) V (512 * n + p) l) ho (u0.truncf _) (u1.truncf _),
    put_rows (f := fun p l => output (pairsOf Q K V D) V (512 * n + p) l) hw u0 u1⟩

end Cert.Proof.Sticks.Ideal

end
-- ==== Proof.Sticks.Grid.lean ====
/-
  What the forward attention's host prepares, the projections rounded to bf16, and what its grid leaves in its two arrays, over real
  numbers: the attention's output, `X` the projections' first 2048 columns.
-/
module

public import proofs.«01_k».proof.Proof.Sticks.Point
public import proofs.«01_k».proof.Proof.Attention.Grid
public import Idealize.ShloMosaic.Lib.Pipeline.ValueKit

@[expose] public section

set_option maxRecDepth 16384

noncomputable section

namespace Cert.Proof.Sticks.Ideal

open Cert.SticksIdeal Cert.SticksIdeal.Gen
open Idealize.ShloMosaic Idealize.ShloMosaic.TcCoe Idealize.ShloMosaic.VecWindow
open Idealize.SL.Sem Idealize.ShloMosaic.StableHlo
open Idealize.ShloMosaic.Pipeline (Dat)
open Cert.Proof.Attention (Is)
open Cert.Proof.Attention.Ideal (output pairQ pairK pairV pairAt Array)

variable (m : (ℓ : Loc nD τ sig) → Buf (Elt Ideal) ℓ)

theorem V_proj (c : Dev nD) (r : Fin 16384) (j : ℕ) (h : j < 2048) :
    (V m c main_v6 (ix2 r (⟨j, by omega⟩ : Fin 6144)) : EReal) = m ((c.tc : Thread nD τ).loc main_arg0) (ix2 r (⟨j, by omega⟩ : Fin 5896)) := by
  show after (stretches (F := Ideal)).flatten (fun b => m (c, b)) main_v6 _ = _
  simp only [stretches, hostOps0, List.flatten_cons, List.flatten_nil, List.append_nil, List.cons_append,
    List.nil_append, TRef.binary, TRef.nullary, TRef.ternary, TRef.unary, TRef.toBuf, TRef.ofBuf, cast_eq]
  after_results_simp
  pointwise
  rw [dif_pos h]
  after_results_simp
  pointwise

theorem idx : ∀ t : Fin (cfg0 (F := Ideal)).N, win0_0.index t = ![t.val % 32, 6 + (t.val / 32)]
    ∧ win0_1.index t = ![0, 8 + (t.val / 32)]
    ∧ win0_2.index t = ![0, 10 + (t.val / 32)]
    ∧ win0_3.index t = ![t.val % 32, t.val / 32]
    ∧ win0_4.index t = ![t.val % 32, t.val / 32]
    ∧ (grid0.coords t 1).val = t.val % 32 :=
  (by decide +kernel : ∀ t : Fin grid0.N, _)

variable {m} {X : ℕ → ℕ → ℝ} {c : Dev nD}

/-- The projections are the real numbers `X`. -/
abbrev Reads (m : (ℓ : Loc nD τ sig) → Buf (Elt Ideal) ℓ) (X : ℕ → ℕ → ℝ) (c : Dev nD) : Prop :=
  ∀ (r : Fin 16384) (j : ℕ) (h : j < 2048), (V m c main_v6 (ix2 r (⟨j, by omega⟩ : Fin 6144)) : EReal) = ((X r j : ℝ) : EReal)

theorem blk_q (R : Reads m X c) (t : Fin (cfg0 (F := Ideal)).N) :
    Is (a := 512) (b := 128) (φ := .bf16) (iblk m c 0 t) (fun p l => pairQ X (t.val / 32) (512 * (t.val % 32) + p) l) := fun p l => by
  have ht : t.val < 64 := t.isLt
  obtain ⟨e0, -⟩ := idx t
  refine Eq.trans ?_ (R ⟨512 * (t.val % 32) + p, by omega⟩ (768 + 128 * (t.val / 32) + l) (by omega))
  blk_ext [iblk, e0]

theorem blk_k (R : Reads m X c) (t : Fin (cfg0 (F := Ideal)).N) :
    Is (a := 16384) (b := 128) (φ := .bf16) (iblk m c 1 t) (pairK X (t.val / 32)) := fun p l => by
  have ht : t.val < 64 := t.isLt
  obtain ⟨-, e1, -⟩ := idx t
  refine Eq.trans ?_ (R p (1024 + 128 * (t.val / 32) + l) (by omega))
  blk_ext [iblk, e1]

theorem blk_v (R : Reads m X c) (t : Fin (cfg0 (F := Ideal)).N) :
    Is (a := 16384) (b := 128) (φ := .bf16) (iblk m c 2 t) (pairV X (t.val / 32)) := fun p l => by
  have ht : t.val < 64 := t.isLt
  obtain ⟨-, -, e2, -⟩ := idx t
  refine Eq.trans ?_ (R p (1280 + 128 * (t.val / 32) + l) (by omega))
  blk_ext [iblk, e2]

/-- What each point leaves. -/
theorem outsAt_gives (Y : ℕ → ℕ → ℝ) (R : Reads m X c) (t : Fin (cfg0 (F := Ideal)).N) :
    Is (φ := .bf16) (outsAt m c t).1 (fun r l => output (pairAt X Y (t.val / 32)) (pairV X (t.val / 32)) (512 * (t.val % 32) + r) l)
      ∧ Is (φ := .f32) (outsAt m c t).2 (fun r l => output (pairAt X Y (t.val / 32)) (pairV X (t.val / 32)) (512 * (t.val % 32) + r) l) :=
  atPoint_gives _ (idx t).2.2.2.2.2 (blk_q R t) (blk_k R t) (blk_v R t) (iblk m c 0 t) _ (blk_q R t) Is.zero

theorem final_3 (Y : ℕ → ℕ → ℝ) (R : Reads m X c) : (dats m 0 c).arrAt 3 (cfgs (F := Ideal) 0).N
    = Array fun t j => output (pairAt X Y (j / 128)) (pairV X (j / 128)) t (j % 128) := by
  refine (dats m 0 c).arrAt_eq_of_covers 3 _ (by decide +kernel) fun t hf y => ?_
  obtain ⟨-, -, -, e, -⟩ := idx t
  have ht : t.val < 64 := t.isLt
  rw [after0_3]
  idx_vars y
  blk_simp [e]
  have he : (win0_3.blk t).view.emb (ix2 y0 y1) = ix2 (⟨512 * (t.val % 32) + y0, by omega⟩ : Fin 16384) (⟨128 * (t.val / 32) + y1, by omega⟩ : Fin 256) := by blk_ext [e]
  rw [he]
  refine ((outsAt_gives Y R t).1 y0 y1).trans ?_
  show _ = ((output (pairAt X Y ((128 * (t.val / 32) + y1) / 128)) (pairV X ((128 * (t.val / 32) + y1) / 128)) (512 * (t.val % 32) + y0) ((128 * (t.val / 32) + y1) % 128) : ℝ) : EReal)
  rw [show (128 * (t.val / 32) + (y1 : ℕ)) / 128 = t.val / 32 by omega, show (128 * (t.val / 32) + (y1 : ℕ)) % 128 = y1 by omega]

theorem final_4 (Y : ℕ → ℕ → ℝ) (R : Reads m X c) : (dats m 0 c).arrAt 4 (cfgs (F := Ideal) 0).N
    = Array fun t j => output (pairAt X Y (j / 128)) (pairV X (j / 128)) t (j % 128) := by
  refine (dats m 0 c).arrAt_eq_of_covers 4 _ (by decide +kernel) fun t hf y => ?_
  obtain ⟨-, -, -, -, e, -⟩ := idx t
  have ht : t.val < 64 := t.isLt
  rw [after0_4]
  idx_vars y
  blk_simp [e]
  have he : (win0_4.blk t).view.emb (ix2 y0 y1) = ix2 (⟨512 * (t.val % 32) + y0, by omega⟩ : Fin 16384) (⟨128 * (t.val / 32) + y1, by omega⟩ : Fin 256) := by blk_ext [e]
  rw [he]
  refine ((outsAt_gives Y R t).2 y0 y1).trans ?_
  show _ = ((output (pairAt X Y ((128 * (t.val / 32) + y1) / 128)) (pairV X ((128 * (t.val / 32) + y1) / 128)) (512 * (t.val % 32) + y0) ((128 * (t.val / 32) + y1) % 128) : ℝ) : EReal)
  rw [show (128 * (t.val / 32) + (y1 : ℕ)) / 128 = t.val / 32 by omega, show (128 * (t.val / 32) + (y1 : ℕ)) % 128 = y1 by omega]

end Cert.Proof.Sticks.Ideal

end
-- ==== Proof.Sticks.Pair.lean ====
/- The stick-breaking attention's forward call against the attention's lines. -/
module

public import proofs.«01_k».proof.Defs
public import proofs.«01_k».proof.Proof.Gen.Pre_sticks_finite
public import proofs.«01_k».proof.Proof.Gen.SticksRefIdeal.Run
public import proofs.«01_k».proof.Proof.Sticks.Grid
public import proofs.«01_k».proof.Proof.Attention.Pair

@[expose] public section

set_option maxRecDepth 16384

noncomputable section

namespace Cert.Proof.Sticks

open Idealize.ShloMosaic Idealize.SL.Sem Idealize.ShloMosaic.TcCoe
open Cert.Proof.Attention (Is reals is_reals)
open Cert.Proof.Attention.Ideal (Lines.outputs Lines.is_outputs Lines.array_of_is)

/-- The lines' program runs and keeps its argument; it declares no semaphore. -/
theorem ref_frame : Cert.quiescent_SticksRefIdeal := fun m ρ _ =>
  (θ_run Cert.SticksRefIdeal.defs _ _).mono (fun r h => ⟨fun c => (h c).2.2, sem_eq_zero_of_no_sems (by decide) r.2⟩)
    (Cert.SticksRefIdeal.Value.run m ρ)

open Cert.SticksRefIdeal in
/-- The lines' result is the attention's output. -/
theorem res31 (m) (c) : Value.res_main_v31 (F := Ideal) m c = Lines.outputs (m ((c.tc : Thread nD τ).loc main_arg0)) := rfl

open Cert.SticksRefIdeal in
/-- Rounding changes nothing over the reals. -/
theorem res32 (m) (c) : Value.res_main_v32 (F := Ideal) m c = Lines.outputs (m ((c.tc : Thread nD τ).loc main_arg0)) := rfl

open Cert.SticksIdeal in
theorem finite_args {m : (ℓ : Loc nD τ sig) → Buf (Elt Ideal) ℓ} (h : Cert.Pre_SticksIdeal_sticks_finite m) (c : Dev nD) :
    Is (a := 16384) (b := 5896) (φ := .f32) (m ((c.tc : Thread nD τ).loc main_arg0)) (reals (a := 16384) (b := 5896) (m ((c.tc : Thread nD τ).loc main_arg0))) :=
  is_reals fun i => congrFun (h c) i

/-- Both results of the attention's forward call are the attention's output, where the projections are finite. -/
theorem algebraic : Cert.algebraic_SticksIdeal_SticksRefIdeal_pre_sticks_finite := by
  intro m g m' g' hf ha
  refine ⟨fun c => Lines.outputs (m ((c.tc : Thread Cert.SticksIdeal.nD Cert.SticksIdeal.τ).loc Cert.SticksIdeal.main_arg0)),
    fun c => Lines.outputs (m ((c.tc : Thread Cert.SticksIdeal.nD Cert.SticksIdeal.τ).loc Cert.SticksIdeal.main_arg0)),
    (θ_run _ _ _).mono (fun r h c => ?_) (Ideal.run_main m g), (θ_run _ _ _).mono (fun r h c => ?_) (Cert.SticksRefIdeal.Value.run m' g')⟩
  · have hx := finite_args hf c
    have R : Ideal.Reads m _ c := fun r j h => (Ideal.V_proj m c r j h).trans (hx r ⟨j, by omega⟩)
    have e := (Lines.array_of_is (Lines.is_outputs (Y := fun _ _ => 0) hx)).symm
    exact ⟨((h.1 c).1 3).trans ((Ideal.final_3 (fun _ _ => 0) R).trans e), ((h.1 c).1 4).trans ((Ideal.final_4 (fun _ _ => 0) R).trans e),
      ((h.1 c).2 Cert.SticksIdeal.main_arg0 (Pipeline.mem_restRefs_of Cert.SticksIdeal.main_arg0 (by decide) ((by decide : ∀ w : Fin 5, (Cert.SticksIdeal.spec0 w).arr.view.ref ≠ Cert.SticksIdeal.main_arg0)))).trans (Ideal.V_main_arg0 m c)⟩
  · obtain ⟨h0, h1, ho⟩ := h c
    have a0 := ha c
    rw [res32, a0] at h0
    rw [res31, a0] at h1
    exact ⟨h0, h1, ho⟩

end Cert.Proof.Sticks

end
-- ==== Proof.Merge.Spec.lean ====
/- The gradient of the sigmoid-gated merge of three branches, as formulas over the extended reals, and the reference's run
   stated with them. -/
module

public import proofs.«01_k».proof.Proof.Gen.MergeRefIdeal.Run
public import Idealize.ShloMosaic.Lib.Pointwise

@[expose] public section

set_option maxRecDepth 16384

noncomputable section

namespace Cert.MergeRefIdeal.Spec

open Cert.MergeRefIdeal Cert.MergeRefIdeal.Gen Idealize.ShloMosaic Idealize.ShloMosaic.TcCoe Idealize.SL.Sem

/-- The sigmoid of the projection's gate column `q`. -/
def gate (p : FVec Ideal S16384x5896 .f32) (r : Fin 16384) (q : ℕ) : EReal :=
  if h : 2824 + q < 5896 then Ideal.logistic (p (ix2 r (⟨2824 + q, h⟩ : Fin 5896))) else 0

variable {K : ℕ} (p : FVec Ideal S16384x5896 .f32) (y : FVec Ideal ⟨2, ![16384, K]⟩ .f32) (w : FVec Ideal ⟨2, ![K, 1024]⟩ .f32)
  (d : FVec Ideal S16384x1024 .f32) (b : ℕ)

theorem gate_eq (r : Fin 16384) (n q : ℕ) (hn : n < 5896) (e : n = 2824 + q) :
    Ideal.logistic (p (ix2 r (⟨n, hn⟩ : Fin 5896))) = gate p r q := by
  subst e
  unfold gate
  rw [dif_pos hn]

/-- Gradient of the gate's argument in column `b + j`: the cotangent times the branch's product, times the sigmoid's
    derivative. -/
def dGate (r : Fin 16384) (j : Fin 1024) : EReal :=
  d (ix2 r j) * (∑ k : Fin K, y (ix2 r k) * w (ix2 k j)) * (gate p r (b + j) * (1 - gate p r (b + j)))

theorem dGate_eq (r : Fin 16384) (j k : Fin 1024) (n : ℕ) (hn : n < 5896) (e : n = 2824 + (b + j)) (hk : (j : ℕ) = k) :
    d (ix2 r j) * (∑ k : Fin K, y (ix2 r k) * w (ix2 k j)) * (Ideal.logistic (p (ix2 r (⟨n, hn⟩ : Fin 5896)))
      * (1 - Ideal.logistic (p (ix2 r (⟨n, hn⟩ : Fin 5896))))) = dGate p y w d b r k := by
  obtain rfl := Fin.ext hk
  rw [gate_eq p r n _ hn e]
  rfl

/-- Gradient of a branch. -/
def dBranch : FVec Ideal ⟨2, ![16384, K]⟩ .bf16 := fun i =>
  ∑ j : Fin 1024, gate p (i 0) (b + j) * d (ix2 (i 0) j) * w (ix2 (i 1) j)

/-- Gradient of a branch's weight. -/
def dWeight : FVec Ideal ⟨2, ![K, 1024]⟩ .f32 := fun i =>
  ∑ r : Fin 16384, gate p r (b + (i 1 : Fin 1024)) * d (ix2 r (i 1)) * y (ix2 r (i 0))

/-- Gradients of the three gates' arguments, side by side. -/
def dGates (ya yb : FVec Ideal S16384x256 .f32) (yc : FVec Ideal S16384x512 .f32) (wa wb : FVec Ideal S256x1024 .f32)
    (wc : FVec Ideal S512x1024 .f32) : FVec Ideal S16384x3072 .bf16 := fun i =>
  if h : (i 1 : Fin 3072).val < 1024 then dGate p ya wa d 0 (i 0) ⟨(i 1 : Fin 3072).val, h⟩
  else if h' : (i 1 : Fin 3072).val < 2048 then dGate p yb wb d 1024 (i 0) ⟨(i 1 : Fin 3072).val - 1024, by omega⟩
  else dGate p yc wc d 2048 (i 0) ⟨(i 1 : Fin 3072).val - 2048, by have hi : (i 1 : Fin 3072).val < 3072 := (i 1).isLt; omega⟩

variable (m : (ℓ : Loc nD τ sig) → Buf (Elt Ideal) ℓ) (ρ : Dev nD → PrngReg)

set_option maxHeartbeats 1000000 in
/-- The reference's run, its results read as the formulas above. -/
theorem run :
    θ_run defs (onTc (τ := τ) (main (F := Ideal))) ⟨m, fun _ => 0, ρ⟩ fun r => ∀ c : Dev nD,
      r.2.mem ((c.tc : Thread nD τ).loc main_v60)
          = dGates (m ((c.tc : Thread nD τ).loc main_arg0)) (m ((c.tc : Thread nD τ).loc main_arg7)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v61)
          = dBranch (K := 256) (m ((c.tc : Thread nD τ).loc main_arg0)) (m ((c.tc : Thread nD τ).loc main_arg4)) (m ((c.tc : Thread nD τ).loc main_arg7)) 0
      ∧ r.2.mem ((c.tc : Thread nD τ).loc main_v62)
          = dBranch (K := 256) (m ((c.tc : Thread nD τ).loc main_arg0)) (m ((c.tc : Thread nD τ).loc main_arg5)) (m ((c.tc : Thread nD τ).loc main_arg7)) 1024
      ∧ r.2.mem ((c.tc : Thread nD τ).loc main_v63)
          = dBranch (K := 512) (m ((c.tc : Thread nD τ).loc main_arg0)) (m ((c.tc : Thread nD τ).loc main_arg6)) (m ((c.tc : Thread nD τ).loc main_arg7)) 2048
      ∧ r.2.mem ((c.tc : Thread nD τ).loc main_v56)
          = dWeight (K := 256) (m ((c.tc : Thread nD τ).loc main_arg0)) (m ((c.tc : Thread nD τ).loc main_arg1)) (m ((c.tc : Thread nD τ).loc main_arg7)) 0
      ∧ r.2.mem ((c.tc : Thread nD τ).loc main_v50)
          = dWeight (K := 256) (m ((c.tc : Thread nD τ).loc main_arg0)) (m ((c.tc : Thread nD τ).loc main_arg2)) (m ((c.tc : Thread nD τ).loc main_arg7)) 1024
      ∧ r.2.mem ((c.tc : Thread nD τ).loc main_v44)
          = dWeight (K := 512) (m ((c.tc : Thread nD τ).loc main_arg0)) (m ((c.tc : Thread nD τ).loc main_arg3)) (m ((c.tc : Thread nD τ).loc main_arg7)) 2048
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run defs _ _).mono (fun r h c => ?_) (Value.run m ρ)
  obtain ⟨h0, h1, h2, h3, h4, h5, h6, hr⟩ := h c
  refine ⟨h0.trans ?_, h1.trans ?_, h2.trans ?_, h3.trans ?_, h4.trans ?_, h5.trans ?_, h6.trans ?_, hr⟩
  all_goals
    clear h h0 h1 h2 h3 h4 h5 h6 hr
    generalize m ((c.tc : Thread nD τ).loc main_arg0) = p
    generalize m ((c.tc : Thread nD τ).loc main_arg1) = ya
    generalize m ((c.tc : Thread nD τ).loc main_arg2) = yb
    generalize m ((c.tc : Thread nD τ).loc main_arg3) = yc
    generalize m ((c.tc : Thread nD τ).loc main_arg4) = wa
    generalize m ((c.tc : Thread nD τ).loc main_arg5) = wb
    generalize m ((c.tc : Thread nD τ).loc main_arg6) = wc
    generalize m ((c.tc : Thread nD τ).loc main_arg7) = d
    funext i
    idx_vars i
  · pointwise [dGates]
    by_cases h : (i1 : ℕ) < 1024
    · refine (dif_pos h).trans (Eq.trans ?_ (dif_pos h).symm)
      exact dGate_eq _ _ _ _ _ _ _ _ _ _ (by simp) rfl
    refine (dif_neg h).trans (Eq.trans ?_ (dif_neg h).symm)
    by_cases h' : (i1 : ℕ) < 2048
    · refine (dif_pos (by omega)).trans (Eq.trans ?_ (dif_pos h').symm)
      exact dGate_eq _ _ _ _ _ _ _ _ _ _ rfl rfl
    · refine (dif_neg (by omega)).trans (Eq.trans ?_ (dif_neg h').symm)
      exact dGate_eq _ _ _ _ _ _ _ _ _ _ rfl (by show (i1 : ℕ) - 1024 - 1024 = (i1 : ℕ) - 2048; omega)
  · pointwise [dBranch]
    exact Finset.sum_congr rfl fun j _ => congrArg (· * _) (congrArg (· * _) (gate_eq _ _ _ _ _ (by omega)))
  · pointwise [dBranch]
    exact Finset.sum_congr rfl fun j _ => congrArg (· * _) (congrArg (· * _) (gate_eq _ _ _ _ _ (by omega)))
  · pointwise [dBranch]
    exact Finset.sum_congr rfl fun j _ => congrArg (· * _) (congrArg (· * _) (gate_eq _ _ _ _ _ (by omega)))
  all_goals
    pointwise [dWeight]
    exact Finset.sum_congr rfl fun r _ => congrArg (· * _) (congrArg (· * _) (gate_eq _ _ _ _ _ (by omega)))

end Cert.MergeRefIdeal.Spec

end
-- ==== Proof.Merge.Kernel.lean ====
/- The kernel of the gated merge's gradient: what a grid point stores, and the arrays the grid leaves. -/
module

public import proofs.«01_k».proof.Proof.Gen.MergeIdeal.Frame
public import proofs.«01_k».proof.Proof.Merge.Spec
public import Idealize.ShloMosaic.Lib.Pipeline.ValueKit

@[expose] public section

set_option maxRecDepth 16384

noncomputable section

namespace Cert.MergeIdeal.Grid

open Cert.MergeIdeal Cert.MergeIdeal.Gen Idealize.ShloMosaic Idealize.ShloMosaic.TcCoe Idealize.SL.Sem
open Idealize.ShloMosaic.Pipeline (Dat)
open Cert.MergeRefIdeal.Spec (gate gate_eq dGate dBranch dWeight dGates)

variable (m : (ℓ : Loc nD τ sig) → Buf (Elt Ideal) ℓ)

theorem idx : ∀ t : Fin cfg0.N, win0_0.index t = ![t.val, 3]
    ∧ win0_1.index t = ![t.val, 4]
    ∧ win0_2.index t = ![t.val, 5]
    ∧ win0_3.index t = ![t.val, 0]
    ∧ win0_4.index t = ![t.val, 0]
    ∧ win0_5.index t = ![t.val, 0]
    ∧ win0_6.index t = ![0, 0]
    ∧ win0_7.index t = ![0, 0]
    ∧ win0_8.index t = ![0, 0]
    ∧ win0_9.index t = ![t.val, 0]
    ∧ win0_10.index t = ![t.val, 1]
    ∧ win0_11.index t = ![t.val, 0]
    ∧ win0_12.index t = ![t.val, 0]
    ∧ win0_13.index t = ![t.val, 0]
    ∧ win0_14.index t = ![0, 0]
    ∧ win0_15.index t = ![0, 0]
    ∧ win0_16.index t = ![0, 0] :=
  (by decide +kernel : ∀ t : Fin grid0.N, _)

section Tile

variable {K : ℕ} (dm g : FVec Ideal S512x1024 .bf16) (y : FVec Ideal ⟨2, ![512, K]⟩ .bf16) (w : FVec Ideal ⟨2, ![K, 1024]⟩ .bf16)

/-- Gradient of a gate's argument on a tile. -/
def tGate (r : Fin 512) (j : Fin 1024) : EReal :=
  dm (ix2 r j) * (∑ k : Fin K, y (ix2 r k) * w (ix2 k j)) * (Ideal.logistic (g (ix2 r j)) * (1 - Ideal.logistic (g (ix2 r j))))

/-- Gradient of a branch on a tile. -/
def tBranch (r : Fin 512) (k : Fin K) : EReal :=
  ∑ j : Fin 1024, Ideal.logistic (g (ix2 r j)) * dm (ix2 r j) * w (ix2 k j)

/-- One tile's part of the gradient of a branch's weight. -/
def tWeight (k : Fin K) (j : Fin 1024) : EReal :=
  ∑ r : Fin 512, Ideal.logistic (g (ix2 r j)) * dm (ix2 r j) * y (ix2 r k)

end Tile

section Stored

variable (dm g : FVec Ideal S512x1024 .bf16) (y : FVec Ideal S512x256 .bf16) (w : FVec Ideal S256x1024 .bf16)
  (y' : FVec Ideal S512x512 .bf16) (w' : FVec Ideal S512x1024 .bf16)

theorem first_gate (r : Fin 512) (j : Fin 1024) : k0_pay13 (F := Ideal) dm y w g (ix2 r j) = tGate dm g y w r j := by
  pointwise [k0_pay13, k0_pay11, k0_pay10, k0_pay9, k0_pay8, tGate]
  exact mul_assoc _ _ _

theorem second_gate (r : Fin 512) (j : Fin 1024) : k0_pay20 (F := Ideal) (k0_pay8 dm) y w g (ix2 r j) = tGate dm g y w r j := by
  pointwise [k0_pay20, k0_pay18, k0_pay17, k0_pay16, k0_pay8, tGate]
  exact mul_assoc _ _ _

theorem third_gate (r : Fin 512) (j : Fin 1024) :
    k0_pay2 (F := Ideal) (k0_pay8 dm) (k0_pay23 y') (k0_pay24 w') (k0_pay25 g) (ix2 r j) = tGate dm g y' w' r j := by
  pointwise [k0_pay2, k0_pay23, k0_pay24, k0_pay25, k0_pay8, tGate]
  exact mul_assoc _ _ _

theorem first_branch (r : Fin 512) (k : Fin 256) : k0_pay14 (F := Ideal) dm w g (ix2 r k) = tBranch dm g w r k := by
  pointwise [k0_pay14, k0_pay12, k0_pay11, k0_pay10, k0_pay8, tBranch]
  exact Finset.sum_congr rfl fun j _ => congrArg (· * _) (mul_comm _ _)

theorem second_branch (r : Fin 512) (k : Fin 256) : k0_pay21 (F := Ideal) (k0_pay8 dm) w g (ix2 r k) = tBranch dm g w r k := by
  pointwise [k0_pay21, k0_pay19, k0_pay18, k0_pay17, k0_pay8, tBranch]
  exact Finset.sum_congr rfl fun j _ => congrArg (· * _) (mul_comm _ _)

theorem third_branch (r : Fin 512) (k : Fin 512) :
    k0_pay3 (F := Ideal) (k0_pay8 dm) (k0_pay24 w') (k0_pay25 g) (ix2 r k) = tBranch dm g w' r k := by
  pointwise [k0_pay3, k0_pay1, k0_pay24, k0_pay25, k0_pay8, tBranch]
  exact Finset.sum_congr rfl fun j _ => congrArg (· * _) (mul_comm _ _)

theorem reorder (a b c : EReal) : a * (b * c) = c * b * a := by rw [mul_comm a, mul_comm b]

theorem first_weight (a : FVec Ideal S256x1024 .f32) (i : S256x1024.Idx) :
    k0_pay15 (F := Ideal) dm y g a i = a i + tWeight dm g y (i 0) (i 1) := by
  idx_vars i
  pointwise [k0_pay15, k0_pay12, k0_pay11, k0_pay9, k0_pay8, tWeight]
  exact congrArg (_ + ·) (Finset.sum_congr rfl fun r _ => reorder _ _ _)

theorem second_weight (a : FVec Ideal S256x1024 .f32) (i : S256x1024.Idx) :
    k0_pay22 (F := Ideal) (k0_pay8 dm) y g a i = a i + tWeight dm g y (i 0) (i 1) := by
  idx_vars i
  pointwise [k0_pay22, k0_pay19, k0_pay18, k0_pay16, k0_pay8, tWeight]
  exact congrArg (_ + ·) (Finset.sum_congr rfl fun r _ => reorder _ _ _)

theorem third_weight (a : FVec Ideal S512x1024 .f32) (i : S512x1024.Idx) :
    k0_pay4 (F := Ideal) (k0_pay8 dm) (k0_pay23 y') (k0_pay25 g) a i = a i + tWeight dm g y' (i 0) (i 1) := by
  idx_vars i
  pointwise [k0_pay4, k0_pay1, k0_pay23, k0_pay25, k0_pay8, tWeight]
  exact congrArg (_ + ·) (Finset.sum_congr rfl fun r _ => reorder _ _ _)

end Stored

section Blocks

variable (c : Dev nD) (t : Fin cfg0.N)

/-- The columns of the gates lie behind the padding in the array the grid reads. -/
theorem host_gates (r : Fin 16384) (j : Fin 3072) : V m c main_v6 (ix2 r (⟨3072 + j, by omega⟩ : Fin 6144))
    = m ((c : Thread nD τ).loc main_arg0) (ix2 r (⟨2824 + j, by omega⟩ : Fin 5896)) := by
  unfold V V0
  simp only [List.flatten_cons, List.flatten_nil, List.append_nil]
  after_results_simp
  pointwise
  rw [dif_neg (by omega), dif_neg (by omega), dif_neg (by omega), dif_neg (by omega)]
  after_results_simp
  pointwise
  exact congrArg (fun k => m ((c : Thread nD τ).loc main_arg0) (ix2 r k)) (Fin.ext (by simp; omega))

theorem host_1 (i : S16384x256.Idx) : V m c main_v7 i = m ((c : Thread nD τ).loc main_arg1) i := by
  unfold V V0
  simp only [List.flatten_cons, List.flatten_nil, List.append_nil]
  after_results_simp
  idx_vars i
  pointwise

theorem host_2 (i : S16384x256.Idx) : V m c main_v8 i = m ((c : Thread nD τ).loc main_arg2) i := by
  unfold V V0
  simp only [List.flatten_cons, List.flatten_nil, List.append_nil]
  after_results_simp
  idx_vars i
  pointwise

theorem host_3 (i : S16384x512.Idx) : V m c main_v9 i = m ((c : Thread nD τ).loc main_arg3) i := by
  unfold V V0
  simp only [List.flatten_cons, List.flatten_nil, List.append_nil]
  after_results_simp
  idx_vars i
  pointwise

theorem host_4 (i : S256x1024.Idx) : V m c main_v10 i = m ((c : Thread nD τ).loc main_arg4) i := by
  unfold V V0
  simp only [List.flatten_cons, List.flatten_nil, List.append_nil]
  after_results_simp
  idx_vars i
  pointwise

theorem host_5 (i : S256x1024.Idx) : V m c main_v11 i = m ((c : Thread nD τ).loc main_arg5) i := by
  unfold V V0
  simp only [List.flatten_cons, List.flatten_nil, List.append_nil]
  after_results_simp
  idx_vars i
  pointwise

theorem host_6 (i : S512x1024.Idx) : V m c main_v12 i = m ((c : Thread nD τ).loc main_arg6) i := by
  unfold V V0
  simp only [List.flatten_cons, List.flatten_nil, List.append_nil]
  after_results_simp
  idx_vars i
  pointwise

theorem host_7 (i : S16384x1024.Idx) : V m c main_v13 i = m ((c : Thread nD τ).loc main_arg7) i := by
  unfold V V0
  simp only [List.flatten_cons, List.flatten_nil, List.append_nil]
  after_results_simp
  idx_vars i
  pointwise

theorem points : t.val < 32 := lt_of_lt_of_eq t.isLt N_0

/-- The row of the arrays that row `r` of point `t`'s tile is. -/
def row (r : Fin 512) : Fin 16384 := ⟨t.val * 512 + r, by have := points t; omega⟩

theorem gate_0 (r : Fin 512) (j : Fin 1024) :
    Ideal.logistic (iblk m c 0 t (ix2 r j)) = gate (m ((c : Thread nD τ).loc main_arg0)) (row t r) (0 + j) := by
  have e : iblk m c 0 t (ix2 r j) = m ((c : Thread nD τ).loc main_arg0) (ix2 (row t r) (⟨2824 + (0 + j), by omega⟩ : Fin 5896)) := by
    obtain ⟨e, -⟩ := idx t
    refine Eq.trans ?_ (host_gates m c (row t r) ⟨0 + j, by omega⟩)
    blk_ext [iblk, e, row]
  rw [e]
  exact gate_eq _ _ _ _ _ rfl

theorem gate_1 (r : Fin 512) (j : Fin 1024) :
    Ideal.logistic (iblk m c 1 t (ix2 r j)) = gate (m ((c : Thread nD τ).loc main_arg0)) (row t r) (1024 + j) := by
  have e : iblk m c 1 t (ix2 r j) = m ((c : Thread nD τ).loc main_arg0) (ix2 (row t r) (⟨2824 + (1024 + j), by omega⟩ : Fin 5896)) := by
    obtain ⟨-, e, -⟩ := idx t
    refine Eq.trans ?_ (host_gates m c (row t r) ⟨1024 + j, by omega⟩)
    blk_ext [iblk, e, row]
  rw [e]
  exact gate_eq _ _ _ _ _ rfl

theorem gate_2 (r : Fin 512) (j : Fin 1024) :
    Ideal.logistic (iblk m c 2 t (ix2 r j)) = gate (m ((c : Thread nD τ).loc main_arg0)) (row t r) (2048 + j) := by
  have e : iblk m c 2 t (ix2 r j) = m ((c : Thread nD τ).loc main_arg0) (ix2 (row t r) (⟨2824 + (2048 + j), by omega⟩ : Fin 5896)) := by
    obtain ⟨-, -, e, -⟩ := idx t
    refine Eq.trans ?_ (host_gates m c (row t r) ⟨2048 + j, by omega⟩)
    blk_ext [iblk, e, row]
  rw [e]
  exact gate_eq _ _ _ _ _ rfl

theorem blk_3 (r : Fin 512) (k : Fin 256) : iblk m c 3 t (ix2 r k) = m ((c : Thread nD τ).loc main_arg1) (ix2 (row t r) k) := by
  obtain ⟨-, -, -, e, -⟩ := idx t
  refine Eq.trans ?_ (host_1 m c (ix2 (row t r) k))
  blk_ext [iblk, e, row]

theorem blk_4 (r : Fin 512) (k : Fin 256) : iblk m c 4 t (ix2 r k) = m ((c : Thread nD τ).loc main_arg2) (ix2 (row t r) k) := by
  obtain ⟨-, -, -, -, e, -⟩ := idx t
  refine Eq.trans ?_ (host_2 m c (ix2 (row t r) k))
  blk_ext [iblk, e, row]

theorem blk_5 (r : Fin 512) (k : Fin 512) : iblk m c 5 t (ix2 r k) = m ((c : Thread nD τ).loc main_arg3) (ix2 (row t r) k) := by
  obtain ⟨-, -, -, -, -, e, -⟩ := idx t
  refine Eq.trans ?_ (host_3 m c (ix2 (row t r) k))
  blk_ext [iblk, e, row]

theorem blk_6 (k : Fin 256) (j : Fin 1024) : iblk m c 6 t (ix2 k j) = m ((c : Thread nD τ).loc main_arg4) (ix2 k j) := by
  obtain ⟨-, -, -, -, -, -, e, -⟩ := idx t
  refine Eq.trans ?_ (host_4 m c (ix2 k j))
  blk_ext [iblk, e]

theorem blk_7 (k : Fin 256) (j : Fin 1024) : iblk m c 7 t (ix2 k j) = m ((c : Thread nD τ).loc main_arg5) (ix2 k j) := by
  obtain ⟨-, -, -, -, -, -, -, e, -⟩ := idx t
  refine Eq.trans ?_ (host_5 m c (ix2 k j))
  blk_ext [iblk, e]

theorem blk_8 (k : Fin 512) (j : Fin 1024) : iblk m c 8 t (ix2 k j) = m ((c : Thread nD τ).loc main_arg6) (ix2 k j) := by
  obtain ⟨-, -, -, -, -, -, -, -, e, -⟩ := idx t
  refine Eq.trans ?_ (host_6 m c (ix2 k j))
  blk_ext [iblk, e]

theorem blk_9 (r : Fin 512) (k : Fin 1024) : iblk m c 9 t (ix2 r k) = m ((c : Thread nD τ).loc main_arg7) (ix2 (row t r) k) := by
  obtain ⟨-, -, -, -, -, -, -, -, -, e, -⟩ := idx t
  refine Eq.trans ?_ (host_7 m c (ix2 (row t r) k))
  blk_ext [iblk, e, row]

theorem tGate_0 (r : Fin 512) (j : Fin 1024) :
    tGate (iblk m c 9 t) (iblk m c 0 t) (iblk m c 3 t) (iblk m c 6 t) r j = dGate (K := 256) (m ((c : Thread nD τ).loc main_arg0)) (m ((c : Thread nD τ).loc main_arg1)) (m ((c : Thread nD τ).loc main_arg4)) (m ((c : Thread nD τ).loc main_arg7)) 0 (row t r) j := by
  exact Ideal.mul_congr (Ideal.mul_congr (blk_9 m c t r j) (Finset.sum_congr rfl fun k _ => Ideal.mul_congr (blk_3 m c t r k) (blk_6 m c t k j)))
    (Ideal.mul_congr (gate_0 m c t r j) (congrArg (fun x : EReal => 1 - x) (gate_0 m c t r j)))

theorem tBranch_0 (r : Fin 512) (k : Fin 256) :
    tBranch (iblk m c 9 t) (iblk m c 0 t) (iblk m c 6 t) r k = dBranch (K := 256) (m ((c : Thread nD τ).loc main_arg0)) (m ((c : Thread nD τ).loc main_arg4)) (m ((c : Thread nD τ).loc main_arg7)) 0 (ix2 (row t r) k) := by
  refine Finset.sum_congr rfl fun j _ => ?_
  exact Ideal.mul_congr (Ideal.mul_congr (gate_0 m c t r j) (blk_9 m c t r j)) (blk_6 m c t k j)

theorem tWeight_0 (q : Fin 32 → Fin cfg0.N) (hq : ∀ s, (q s).val = s.val) (i : (⟨2, ![256, 1024]⟩ : Shape).Idx) :
    ∑ s, tWeight (iblk m c 9 (q s)) (iblk m c 0 (q s)) (iblk m c 3 (q s)) (i 0 : Fin 256) (i 1 : Fin 1024) = dWeight (K := 256) (m ((c : Thread nD τ).loc main_arg0)) (m ((c : Thread nD τ).loc main_arg1)) (m ((c : Thread nD τ).loc main_arg7)) 0 i := by
  idx_vars i
  unfold tWeight dWeight
  refine Fin.sum_mul_add_congr fun s r hl => ?_
  have e : row (q s) r = ⟨s * 512 + r, hl⟩ := Fin.ext (by simp [row, hq s])
  rw [← e]
  exact Ideal.mul_congr (Ideal.mul_congr (gate_0 m c (q s) r i1) (blk_9 m c (q s) r i1)) (blk_3 m c (q s) r i0)

theorem tGate_1 (r : Fin 512) (j : Fin 1024) :
    tGate (iblk m c 9 t) (iblk m c 1 t) (iblk m c 4 t) (iblk m c 7 t) r j = dGate (K := 256) (m ((c : Thread nD τ).loc main_arg0)) (m ((c : Thread nD τ).loc main_arg2)) (m ((c : Thread nD τ).loc main_arg5)) (m ((c : Thread nD τ).loc main_arg7)) 1024 (row t r) j := by
  exact Ideal.mul_congr (Ideal.mul_congr (blk_9 m c t r j) (Finset.sum_congr rfl fun k _ => Ideal.mul_congr (blk_4 m c t r k) (blk_7 m c t k j)))
    (Ideal.mul_congr (gate_1 m c t r j) (congrArg (fun x : EReal => 1 - x) (gate_1 m c t r j)))

theorem tBranch_1 (r : Fin 512) (k : Fin 256) :
    tBranch (iblk m c 9 t) (iblk m c 1 t) (iblk m c 7 t) r k = dBranch (K := 256) (m ((c : Thread nD τ).loc main_arg0)) (m ((c : Thread nD τ).loc main_arg5)) (m ((c : Thread nD τ).loc main_arg7)) 1024 (ix2 (row t r) k) := by
  refine Finset.sum_congr rfl fun j _ => ?_
  exact Ideal.mul_congr (Ideal.mul_congr (gate_1 m c t r j) (blk_9 m c t r j)) (blk_7 m c t k j)

theorem tWeight_1 (q : Fin 32 → Fin cfg0.N) (hq : ∀ s, (q s).val = s.val) (i : (⟨2, ![256, 1024]⟩ : Shape).Idx) :
    ∑ s, tWeight (iblk m c 9 (q s)) (iblk m c 1 (q s)) (iblk m c 4 (q s)) (i 0 : Fin 256) (i 1 : Fin 1024) = dWeight (K := 256) (m ((c : Thread nD τ).loc main_arg0)) (m ((c : Thread nD τ).loc main_arg2)) (m ((c : Thread nD τ).loc main_arg7)) 1024 i := by
  idx_vars i
  unfold tWeight dWeight
  refine Fin.sum_mul_add_congr fun s r hl => ?_
  have e : row (q s) r = ⟨s * 512 + r, hl⟩ := Fin.ext (by simp [row, hq s])
  rw [← e]
  exact Ideal.mul_congr (Ideal.mul_congr (gate_1 m c (q s) r i1) (blk_9 m c (q s) r i1)) (blk_4 m c (q s) r i0)

theorem tGate_2 (r : Fin 512) (j : Fin 1024) :
    tGate (iblk m c 9 t) (iblk m c 2 t) (iblk m c 5 t) (iblk m c 8 t) r j = dGate (K := 512) (m ((c : Thread nD τ).loc main_arg0)) (m ((c : Thread nD τ).loc main_arg3)) (m ((c : Thread nD τ).loc main_arg6)) (m ((c : Thread nD τ).loc main_arg7)) 2048 (row t r) j := by
  exact Ideal.mul_congr (Ideal.mul_congr (blk_9 m c t r j) (Finset.sum_congr rfl fun k _ => Ideal.mul_congr (blk_5 m c t r k) (blk_8 m c t k j)))
    (Ideal.mul_congr (gate_2 m c t r j) (congrArg (fun x : EReal => 1 - x) (gate_2 m c t r j)))

theorem tBranch_2 (r : Fin 512) (k : Fin 512) :
    tBranch (iblk m c 9 t) (iblk m c 2 t) (iblk m c 8 t) r k = dBranch (K := 512) (m ((c : Thread nD τ).loc main_arg0)) (m ((c : Thread nD τ).loc main_arg6)) (m ((c : Thread nD τ).loc main_arg7)) 2048 (ix2 (row t r) k) := by
  refine Finset.sum_congr rfl fun j _ => ?_
  exact Ideal.mul_congr (Ideal.mul_congr (gate_2 m c t r j) (blk_9 m c t r j)) (blk_8 m c t k j)

theorem tWeight_2 (q : Fin 32 → Fin cfg0.N) (hq : ∀ s, (q s).val = s.val) (i : (⟨2, ![512, 1024]⟩ : Shape).Idx) :
    ∑ s, tWeight (iblk m c 9 (q s)) (iblk m c 2 (q s)) (iblk m c 5 (q s)) (i 0 : Fin 512) (i 1 : Fin 1024) = dWeight (K := 512) (m ((c : Thread nD τ).loc main_arg0)) (m ((c : Thread nD τ).loc main_arg3)) (m ((c : Thread nD τ).loc main_arg7)) 2048 i := by
  idx_vars i
  unfold tWeight dWeight
  refine Fin.sum_mul_add_congr fun s r hl => ?_
  have e : row (q s) r = ⟨s * 512 + r, hl⟩ := Fin.ext (by simp [row, hq s])
  rw [← e]
  exact Ideal.mul_congr (Ideal.mul_congr (gate_2 m c (q s) r i1) (blk_9 m c (q s) r i1)) (blk_5 m c (q s) r i0)

theorem point_of (s : Fin 32) : 32 * (t.val / 32) + s.val = s.val := by
  have h := points t
  omega

end Blocks

section Final

variable (c : Dev nD)

theorem first_eq (t : Fin cfg0.N) (r : Fin 512) (j : Fin 1024) (y0 : Fin 512) (y1 : Fin 3072) (h0 : (y0 : ℕ) = r) (h1 : (y1 : ℕ) = j) :
    k0_pay13 (F := Ideal) (iblk m c 9 t) (iblk m c 3 t) (iblk m c 6 t) (iblk m c 0 t) (ix2 r j)
      = dGates (m ((c : Thread nD τ).loc main_arg0)) (m ((c : Thread nD τ).loc main_arg7)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 (row t y0) y1) := by
  obtain rfl : y0 = r := Fin.ext h0
  refine (first_gate _ _ _ _ _ _).trans ((tGate_0 m c t _ _).trans ?_)
  unfold dGates
  refine Eq.trans ?_ (dif_pos (show (y1 : ℕ) < 1024 by omega)).symm
  exact congrArg _ (Fin.ext (by simp [h1]))

theorem second_eq (t : Fin cfg0.N) (r : Fin 512) (j : Fin 1024) (y0 : Fin 512) (y1 : Fin 3072) (h0 : (y0 : ℕ) = r) (h1 : (y1 : ℕ) = 1024 + j) :
    k0_pay20 (F := Ideal) (k0_pay8 (iblk m c 9 t)) (iblk m c 4 t) (iblk m c 7 t) (iblk m c 1 t) (ix2 r j)
      = dGates (m ((c : Thread nD τ).loc main_arg0)) (m ((c : Thread nD τ).loc main_arg7)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 (row t y0) y1) := by
  obtain rfl : y0 = r := Fin.ext h0
  refine (second_gate _ _ _ _ _ _).trans ((tGate_1 m c t _ _).trans ?_)
  unfold dGates
  refine Eq.trans ?_ ((dif_neg (show ¬((y1 : ℕ) < 1024) by omega)).trans (dif_pos (show (y1 : ℕ) < 2048 by omega))).symm
  exact congrArg _ (Fin.ext (by simp; omega))

theorem third_eq (t : Fin cfg0.N) (r : Fin 512) (j : Fin 1024) (y0 : Fin 512) (y1 : Fin 3072) (h0 : (y0 : ℕ) = r) (h1 : (y1 : ℕ) = 2048 + j) :
    k0_pay2 (F := Ideal) (k0_pay8 (iblk m c 9 t)) (k0_pay23 (iblk m c 5 t)) (k0_pay24 (iblk m c 8 t)) (k0_pay25 (iblk m c 2 t)) (ix2 r j)
      = dGates (m ((c : Thread nD τ).loc main_arg0)) (m ((c : Thread nD τ).loc main_arg7)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 (row t y0) y1) := by
  obtain rfl : y0 = r := Fin.ext h0
  refine (third_gate _ _ _ _ _ _).trans ((tGate_2 m c t _ _).trans ?_)
  unfold dGates
  refine Eq.trans ?_ ((dif_neg (show ¬((y1 : ℕ) < 1024) by omega)).trans (dif_neg (show ¬((y1 : ℕ) < 2048) by omega))).symm
  exact congrArg _ (Fin.ext (by simp; omega))

/-- The array of the gates' gradients, written from column 3072 on. -/
def gates : FVec Ideal S16384x6144 .bf16 := fun i =>
  if h : 3072 ≤ (i 1 : Fin 6144).val then dGates (m ((c : Thread nD τ).loc main_arg0)) (m ((c : Thread nD τ).loc main_arg7)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
    (ix2 (i 0) (⟨(i 1 : Fin 6144).val - 3072, by have hi : (i 1 : Fin 6144).val < 6144 := (i 1).isLt; omega⟩ : Fin 3072)) else 0

theorem point_10 (t : Fin cfg0.N) (y : S512x3072.Idx) :
    (outsAt0 m c t.val t.isLt).1 y = gates m c (((cfg0.win 10).blk t).view.emb y) := by
  have ht := points t
  idx_vars y
  have hemb : (((cfg0.win 10).blk t).view.emb (ix2 y0 y1 : S512x3072.Idx)) = ix2 (row t y0) (⟨3072 + y1, by omega⟩ : Fin 6144) := by
    obtain ⟨-, -, -, -, -, -, -, -, -, -, e, -⟩ := idx t
    blk_ext [e, row]
  rw [hemb]
  refine Eq.trans ?_ (dif_pos (by show 3072 ≤ 3072 + (y1 : ℕ); omega)).symm
  refine Eq.trans ?_ (congrArg (fun k => dGates (m ((c : Thread nD τ).loc main_arg0)) (m ((c : Thread nD τ).loc main_arg7)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 (row t y0) k)) (show y1 = _ from Fin.ext (by simp)))
  by_cases hA : t.val % 32 = 0
  · rw [outsAt0_A m c t hA]
    frame_out
    canon_tiles x h
    · idx_vars x
      exact third_eq m c t x0 x1 y0 y1 h0 h1
    · idx_vars x
      exact second_eq m c t x0 x1 y0 y1 h0 h1
    · idx_vars x
      exact first_eq m c t x0 x1 y0 y1 h0 h1
  · rw [outsAt0_B m c t hA]
    frame_out
    canon_tiles x h
    · idx_vars x
      exact third_eq m c t x0 x1 y0 y1 h0 h1
    · idx_vars x
      exact second_eq m c t x0 x1 y0 y1 h0 h1
    · idx_vars x
      exact first_eq m c t x0 x1 y0 y1 h0 h1

theorem final_10 : (dats m 0 c).arrAt 10 (cfgs 0).N
    = fun i : S16384x6144.Idx => if 3072 ≤ (i 1 : ℕ) then gates m c i else (dats m 0 c).A 10 i := by
  refine (dats m 0 c).arrAt_eq_of_coversWhere 10 _ (fun β => 1 ≤ β 1) (by decide +kernel) (fun t hf y => ?_) (fun j => by blk_simp [Pipeline.Window.cell_apply]; omega)
  blk_simp
  rw [after0_10]
  exact point_10 m c t y

theorem final_11 : (dats m 0 c).arrAt 11 (cfgs 0).N = dBranch (K := 256) (m ((c : Thread nD τ).loc main_arg0)) (m ((c : Thread nD τ).loc main_arg4)) (m ((c : Thread nD τ).loc main_arg7)) 0 := by
  refine (dats m 0 c).arrAt_eq_of_covers 11 _ (by decide +kernel) fun t hf y => ?_
  blk_simp
  rw [after0_11]
  have ht := points t
  idx_vars y
  have e : (win0_11.blk t).view.emb (ix2 y0 y1) = ix2 (row t y0) y1 := by
    obtain ⟨-, -, -, -, -, -, -, -, -, -, -, e, -⟩ := idx t
    blk_ext [e, row]
  refine Eq.trans ?_ (congrArg (dBranch (K := 256) (m ((c : Thread nD τ).loc main_arg0)) (m ((c : Thread nD τ).loc main_arg4)) (m ((c : Thread nD τ).loc main_arg7)) 0) e).symm
  by_cases hA : t.val % 32 = 0
  · rw [outsAt0_A m c t hA]
    frame_out
    exact (first_branch _ _ _ _ _).trans (tBranch_0 m c t _ _)
  · rw [outsAt0_B m c t hA]
    frame_out
    exact (first_branch _ _ _ _ _).trans (tBranch_0 m c t _ _)

theorem final_12 : (dats m 0 c).arrAt 12 (cfgs 0).N = dBranch (K := 256) (m ((c : Thread nD τ).loc main_arg0)) (m ((c : Thread nD τ).loc main_arg5)) (m ((c : Thread nD τ).loc main_arg7)) 1024 := by
  refine (dats m 0 c).arrAt_eq_of_covers 12 _ (by decide +kernel) fun t hf y => ?_
  blk_simp
  rw [after0_12]
  have ht := points t
  idx_vars y
  have e : (win0_12.blk t).view.emb (ix2 y0 y1) = ix2 (row t y0) y1 := by
    obtain ⟨-, -, -, -, -, -, -, -, -, -, -, -, e, -⟩ := idx t
    blk_ext [e, row]
  refine Eq.trans ?_ (congrArg (dBranch (K := 256) (m ((c : Thread nD τ).loc main_arg0)) (m ((c : Thread nD τ).loc main_arg5)) (m ((c : Thread nD τ).loc main_arg7)) 1024) e).symm
  by_cases hA : t.val % 32 = 0
  · rw [outsAt0_A m c t hA]
    frame_out
    exact (second_branch _ _ _ _ _).trans (tBranch_1 m c t _ _)
  · rw [outsAt0_B m c t hA]
    frame_out
    exact (second_branch _ _ _ _ _).trans (tBranch_1 m c t _ _)

theorem final_13 : (dats m 0 c).arrAt 13 (cfgs 0).N = dBranch (K := 512) (m ((c : Thread nD τ).loc main_arg0)) (m ((c : Thread nD τ).loc main_arg6)) (m ((c : Thread nD τ).loc main_arg7)) 2048 := by
  refine (dats m 0 c).arrAt_eq_of_covers 13 _ (by decide +kernel) fun t hf y => ?_
  blk_simp
  rw [after0_13]
  have ht := points t
  idx_vars y
  have e : (win0_13.blk t).view.emb (ix2 y0 y1) = ix2 (row t y0) y1 := by
    obtain ⟨-, -, -, -, -, -, -, -, -, -, -, -, -, e, -⟩ := idx t
    blk_ext [e, row]
  refine Eq.trans ?_ (congrArg (dBranch (K := 512) (m ((c : Thread nD τ).loc main_arg0)) (m ((c : Thread nD τ).loc main_arg6)) (m ((c : Thread nD τ).loc main_arg7)) 2048) e).symm
  by_cases hA : t.val % 32 = 0
  · rw [outsAt0_A m c t hA]
    frame_out
    exact (third_branch _ _ _ _ _).trans (tBranch_2 m c t _ _)
  · rw [outsAt0_B m c t hA]
    frame_out
    exact (third_branch _ _ _ _ _).trans (tBranch_2 m c t _ _)

theorem final_14 : (dats m 0 c).arrAt 14 (cfgs 0).N = dWeight (K := 256) (m ((c : Thread nD τ).loc main_arg0)) (m ((c : Thread nD τ).loc main_arg1)) (m ((c : Thread nD τ).loc main_arg7)) 0 := by
  refine (dats m 0 c).arrAt_eq_of_covers 14 _ (by decide +kernel) fun t hf y => ?_
  have e : (win0_14.blk t).view.emb y = y := by
    obtain ⟨-, -, -, -, -, -, -, -, -, -, -, -, -, -, e, -⟩ := idx t
    blk_ext [e]
  blk_simp
  rw [after0_14, Pipeline.eq_sum_fin_of_reset_step_apply_of_flush (fun n h => (outsAt0 m c n h).2.2.2.2.1) 32 (fun _ => 0)
    (fun t j => tWeight (iblk m c 9 t) (iblk m c 0 t) (iblk m c 3 t) (j 0) (j 1))
    (fun t h j => by rw [outsAt0_A m c t h]; frame_out; exact (first_weight _ _ _ _ j).trans (by rw [show k0_pay5 (F := Ideal) j = 0 by pointwise [k0_pay5]]))
    (fun t h j => by rw [outsAt0_B m c t h]; frame_out; exact first_weight _ _ _ _ j)
    t ((flush0_14 t).mp hf) _, zero_add, e]
  exact tWeight_0 m c _ (point_of t) _

theorem final_15 : (dats m 0 c).arrAt 15 (cfgs 0).N = dWeight (K := 256) (m ((c : Thread nD τ).loc main_arg0)) (m ((c : Thread nD τ).loc main_arg2)) (m ((c : Thread nD τ).loc main_arg7)) 1024 := by
  refine (dats m 0 c).arrAt_eq_of_covers 15 _ (by decide +kernel) fun t hf y => ?_
  have e : (win0_15.blk t).view.emb y = y := by
    obtain ⟨-, -, -, -, -, -, -, -, -, -, -, -, -, -, -, e, -⟩ := idx t
    blk_ext [e]
  blk_simp
  rw [after0_15, Pipeline.eq_sum_fin_of_reset_step_apply_of_flush (fun n h => (outsAt0 m c n h).2.2.2.2.2.1) 32 (fun _ => 0)
    (fun t j => tWeight (iblk m c 9 t) (iblk m c 1 t) (iblk m c 4 t) (j 0) (j 1))
    (fun t h j => by rw [outsAt0_A m c t h]; frame_out; exact (second_weight _ _ _ _ j).trans (by rw [show k0_pay6 (F := Ideal) j = 0 by pointwise [k0_pay6]]))
    (fun t h j => by rw [outsAt0_B m c t h]; frame_out; exact second_weight _ _ _ _ j)
    t ((flush0_15 t).mp hf) _, zero_add, e]
  exact tWeight_1 m c _ (point_of t) _

theorem final_16 : (dats m 0 c).arrAt 16 (cfgs 0).N = dWeight (K := 512) (m ((c : Thread nD τ).loc main_arg0)) (m ((c : Thread nD τ).loc main_arg3)) (m ((c : Thread nD τ).loc main_arg7)) 2048 := by
  refine (dats m 0 c).arrAt_eq_of_covers 16 _ (by decide +kernel) fun t hf y => ?_
  have e : (win0_16.blk t).view.emb y = y := by
    obtain ⟨-, -, -, -, -, -, -, -, -, -, -, -, -, -, -, -, e⟩ := idx t
    blk_ext [e]
  blk_simp
  rw [after0_16, Pipeline.eq_sum_fin_of_reset_step_apply_of_flush (fun n h => (outsAt0 m c n h).2.2.2.2.2.2) 32 (fun _ => 0)
    (fun t j => tWeight (iblk m c 9 t) (iblk m c 2 t) (iblk m c 5 t) (j 0) (j 1))
    (fun t h j => by rw [outsAt0_A m c t h]; frame_out; exact (third_weight _ _ _ _ j).trans (by rw [show k0_pay7 (F := Ideal) j = 0 by pointwise [k0_pay7]]))
    (fun t h j => by rw [outsAt0_B m c t h]; frame_out; exact third_weight _ _ _ _ j)
    t ((flush0_16 t).mp hf) _, zero_add, e]
  exact tWeight_2 m c _ (point_of t) _

/-- The host's last line keeps the gates' columns. -/
theorem result : Pipeline.afterTail₀ cfgs (dats m) 0 (V0 m) [hostOps1] c main_v15 = dGates (m ((c : Thread nD τ).loc main_arg0)) (m ((c : Thread nD τ).loc main_arg7)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  have e := Pipeline.withArrays_arr_shared (cfgs 0).spec c (V0 m c) (fun w => (dats m 0 c).arrAt w (cfgs 0).N)
    ((dats m 0 c).arrAt_sharedIn sharedIn0 (V0 m c) (A_eq m c) (cfgs 0).N) 10
  unfold Pipeline.afterTail₀
  simp only [List.flatten_cons, List.flatten_nil, List.append_nil]
  after_results_simp
  funext i
  idx_vars i
  pointwise
  refine (congrFun (e.trans (final_10 m c)) _).trans ((if_pos (by simp)).trans ((dif_pos (by simp)).trans ?_))
  exact congrArg (fun k => dGates (m ((c : Thread nD τ).loc main_arg0)) (m ((c : Thread nD τ).loc main_arg7)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 i0 k)) (Fin.ext (by simp))

end Final

theorem run (ρ : Dev nD → PrngReg) :
    θ_run defs (onTc (τ := τ) (main (F := Ideal))) ⟨m, fun _ => 0, ρ⟩ fun r => ∀ c : Dev nD,
      r.2.mem ((c.tc : Thread nD τ).loc main_v15) = dGates (m ((c : Thread nD τ).loc main_arg0)) (m ((c : Thread nD τ).loc main_arg7)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c.tc : Thread nD τ).loc main_v14_1) = dBranch (K := 256) (m ((c : Thread nD τ).loc main_arg0)) (m ((c : Thread nD τ).loc main_arg4)) (m ((c : Thread nD τ).loc main_arg7)) 0
      ∧ r.2.mem ((c.tc : Thread nD τ).loc main_v14_2) = dBranch (K := 256) (m ((c : Thread nD τ).loc main_arg0)) (m ((c : Thread nD τ).loc main_arg5)) (m ((c : Thread nD τ).loc main_arg7)) 1024
      ∧ r.2.mem ((c.tc : Thread nD τ).loc main_v14_3) = dBranch (K := 512) (m ((c : Thread nD τ).loc main_arg0)) (m ((c : Thread nD τ).loc main_arg6)) (m ((c : Thread nD τ).loc main_arg7)) 2048
      ∧ r.2.mem ((c.tc : Thread nD τ).loc main_v14_4) = dWeight (K := 256) (m ((c : Thread nD τ).loc main_arg0)) (m ((c : Thread nD τ).loc main_arg1)) (m ((c : Thread nD τ).loc main_arg7)) 0
      ∧ r.2.mem ((c.tc : Thread nD τ).loc main_v14_5) = dWeight (K := 256) (m ((c : Thread nD τ).loc main_arg0)) (m ((c : Thread nD τ).loc main_arg2)) (m ((c : Thread nD τ).loc main_arg7)) 1024
      ∧ r.2.mem ((c.tc : Thread nD τ).loc main_v14_6) = dWeight (K := 512) (m ((c : Thread nD τ).loc main_arg0)) (m ((c : Thread nD τ).loc main_arg3)) (m ((c : Thread nD τ).loc main_arg7)) 2048
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r k c => ⟨((k.1 c).2 main_v15 (Pipeline.mem_restRefs_of main_v15 (by decide) (by decide))).trans (result m c),
      ((k.1 c).1 11).trans (final_11 m c), ((k.1 c).1 12).trans (final_12 m c), ((k.1 c).1 13).trans (final_13 m c),
      ((k.1 c).1 14).trans (final_14 m c), ((k.1 c).1 15).trans (final_15 m c), ((k.1 c).1 16).trans (final_16 m c), k.2 c⟩)
    (θ_run_and (run_main m ρ) (unchanged m ρ))

end Cert.MergeIdeal.Grid

end
-- ==== Proof.Merge.Pair.lean ====
/- The gated merge's backward call against the derivative of its lines. -/
module

public import proofs.«01_k».proof.Defs
public import proofs.«01_k».proof.Proof.Merge.Kernel
public import proofs.«01_k».proof.Proof.Merge.Spec

@[expose] public section

set_option maxRecDepth 16384

noncomputable section

namespace Cert.Proof.Merge

open Idealize.ShloMosaic Idealize.SL.Sem

/-- The derivative's program runs and keeps its arguments; it declares no semaphore. -/
theorem ref_frame : Cert.quiescent_MergeRefIdeal := fun m ρ _ =>
  (θ_run Cert.MergeRefIdeal.defs _ _).mono (fun r h => ⟨fun c => (h c).2.2.2.2.2.2.2, sem_eq_zero_of_no_sems (by decide) r.2⟩)
    (Cert.MergeRefIdeal.Spec.run m ρ)

/-- Every result of the merge's backward call is the derivative of its lines. -/
theorem algebraic : Cert.algebraic_MergeIdeal_MergeRefIdeal := by
  intro m g m' g' _ ha
  refine ⟨fun c => Cert.MergeRefIdeal.Spec.dGates (m ((c.tc : Thread Cert.MergeIdeal.nD Cert.MergeIdeal.τ).loc Cert.MergeIdeal.main_arg0)) (m ((c.tc : Thread Cert.MergeIdeal.nD Cert.MergeIdeal.τ).loc Cert.MergeIdeal.main_arg7)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)),
    fun c => Cert.MergeRefIdeal.Spec.dBranch (K := 256) (m ((c.tc : Thread Cert.MergeIdeal.nD Cert.MergeIdeal.τ).loc Cert.MergeIdeal.main_arg0)) (m ((c.tc : Thread Cert.MergeIdeal.nD Cert.MergeIdeal.τ).loc Cert.MergeIdeal.main_arg4)) (m ((c.tc : Thread Cert.MergeIdeal.nD Cert.MergeIdeal.τ).loc Cert.MergeIdeal.main_arg7)) 0,
    fun c => Cert.MergeRefIdeal.Spec.dBranch (K := 256) (m ((c.tc : Thread Cert.MergeIdeal.nD Cert.MergeIdeal.τ).loc Cert.MergeIdeal.main_arg0)) (m ((c.tc : Thread Cert.MergeIdeal.nD Cert.MergeIdeal.τ).loc Cert.MergeIdeal.main_arg5)) (m ((c.tc : Thread Cert.MergeIdeal.nD Cert.MergeIdeal.τ).loc Cert.MergeIdeal.main_arg7)) 1024,
    fun c => Cert.MergeRefIdeal.Spec.dBranch (K := 512) (m ((c.tc : Thread Cert.MergeIdeal.nD Cert.MergeIdeal.τ).loc Cert.MergeIdeal.main_arg0)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) 2048,
    fun c => Cert.MergeRefIdeal.Spec.dWeight (K := 256) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg7)) 0,
    fun c => Cert.MergeRefIdeal.Spec.dWeight (K := 256) (m ((c.tc : Thread Cert.MergeIdeal.nD Cert.MergeIdeal.τ).loc Cert.MergeIdeal.main_arg0)) (m ((c.tc : Thread Cert.MergeIdeal.nD Cert.MergeIdeal.τ).loc Cert.MergeIdeal.main_arg2)) (m ((c.tc : Thread Cert.MergeIdeal.nD Cert.MergeIdeal.τ).loc Cert.MergeIdeal.main_arg7)) 1024,
    fun c => Cert.MergeRefIdeal.Spec.dWeight (K := 512) (m ((c.tc : Thread Cert.MergeIdeal.nD Cert.MergeIdeal.τ).loc Cert.MergeIdeal.main_arg0)) (m ((c.tc : Thread Cert.MergeIdeal.nD Cert.MergeIdeal.τ).loc Cert.MergeIdeal.main_arg3)) (m ((c.tc : Thread Cert.MergeIdeal.nD Cert.MergeIdeal.τ).loc Cert.MergeIdeal.main_arg7)) 2048,
    Cert.MergeIdeal.Grid.run m g,
    (θ_run _ _ _).mono (fun r h c => ?_) (Cert.MergeRefIdeal.Spec.run m' g')⟩
  obtain ⟨h0, h1, h2, h3, h4, h5, h6, ho⟩ := h c
  obtain ⟨a0, a1, a2, a3, a4, a5, a6, a7⟩ := ha c
  rw [a0, a7, a1, a2, a3, a4, a5, a6] at h0
  rw [a0, a4, a7] at h1
  rw [a0, a5, a7] at h2
  rw [a0, a6, a7] at h3
  rw [a0, a1, a7] at h4
  rw [a0, a2, a7] at h5
  rw [a0, a3, a7] at h6
  exact ⟨h0, h1, h2, h3, h4, h5, h6, ho⟩

end Cert.Proof.Merge

end
-- ==== Proof.Mid.Grid.lean ====
/- The backward call between two sub-layers (residual norm, then the modulated norm): its frame. Each point of the grid runs
   the body once; three kinds of points are told apart by whether the ring of copies is being filled (the first point), kept
   full, or drained (the last points). -/
module

public import proofs.«01_k».proof.Proof.Gen.MidIdeal.Frame.RunC
public import Idealize.ShloMosaic.Lib.Claim

@[expose] public section

set_option maxRecDepth 16384

noncomputable section

namespace Cert.MidIdeal.Grid

open Cert.MidIdeal Cert.MidIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The blocks a point leaves: the gradients of the stream and of the sub-layer's output, and the five sums over rows. -/
abbrev Outs (F : FTy → Type) [FloatOps F] : Type := Vec F S512x1024 .f32 × Vec F S512x1024 .bf16 × Vec F S1x1024 .f32 × Vec F S1x1024 .f32 × Vec F S1x1024 .f32 × Vec F S1x1024 .f32 × Vec F S1x1024 .f32

section Runs

variable (c : Dev nD) (t : Fin cfg0.N)

/-- The body at the first point. -/
def runFirst (h0 : cond0_0 (grid0.coords t)) (h1 : cond0_1 (grid0.coords t)) :=
  kernelRun0_A c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) h0 h1
    (iblk m c 0 t) (iblk m c 1 t) (iblk m c 2 t) (iblk m c 3 t) (iblk m c 4 t) (V m c main_arg0) (V m c main_v0) (V m c main_arg2) (V m c main_v1)

/-- The body at a point that starts further copies, the sums being `x`'s. -/
def runMiddle (h0 : ¬cond0_0 (grid0.coords t)) (h1 : cond0_1 (grid0.coords t)) (x : Outs F) :=
  kernelRun0_B c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) h0 h1
    (iblk m c 0 t) (iblk m c 1 t) (iblk m c 2 t) (iblk m c 3 t) (iblk m c 4 t) x.2.2.1 x.2.2.2.1 x.2.2.2.2.1 x.2.2.2.2.2.1 x.2.2.2.2.2.2 (V m c main_arg0) (V m c main_v0) (V m c main_arg2) (V m c main_v1)

/-- The body at a point that starts none. -/
def runLast (h0 : ¬cond0_0 (grid0.coords t)) (h1 : ¬cond0_1 (grid0.coords t)) (x : Outs F) :=
  kernelRun0_C c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) h0 h1
    (iblk m c 0 t) (iblk m c 1 t) (iblk m c 2 t) (iblk m c 3 t) (iblk m c 4 t) x.2.2.1 x.2.2.2.1 x.2.2.2.2.1 x.2.2.2.2.2.1 x.2.2.2.2.2.2 (V m c main_arg0) (V m c main_v0) (V m c main_arg2) (V m c main_v1)

/-- The blocks as the pieces stored into them leave them. -/
def blocks (L5 : List (View.Piece (Elt F) S512x1024 .f32)) (L6 : List (View.Piece (Elt F) S512x1024 .bf16))
    (L7 L8 L9 L10 L11 : List (View.Piece (Elt F) S1x1024 .f32)) : Outs F :=
  (VO0_5.read (Elt F) (VO0_5.writes (Elt F) VO0_5.junk L5),
    VO0_6.read (Elt F) (VO0_6.writes (Elt F) VO0_6.junk L6),
    VO0_7.read (Elt F) (VO0_7.writes (Elt F) VO0_7.junk L7),
    VO0_8.read (Elt F) (VO0_8.writes (Elt F) VO0_8.junk L8),
    VO0_9.read (Elt F) (VO0_9.writes (Elt F) VO0_9.junk L9),
    VO0_10.read (Elt F) (VO0_10.writes (Elt F) VO0_10.junk L10),
    VO0_11.read (Elt F) (VO0_11.writes (Elt F) VO0_11.junk L11))

def first (h0 : cond0_0 (grid0.coords t)) (h1 : cond0_1 (grid0.coords t)) : Outs F :=
  blocks (runFirst m c t h0 h1).1 (runFirst m c t h0 h1).2.1 (runFirst m c t h0 h1).2.2.1 (runFirst m c t h0 h1).2.2.2.1 (runFirst m c t h0 h1).2.2.2.2.1 (runFirst m c t h0 h1).2.2.2.2.2.1 (runFirst m c t h0 h1).2.2.2.2.2.2.1

def middle (h0 : ¬cond0_0 (grid0.coords t)) (h1 : cond0_1 (grid0.coords t)) (x : Outs F) : Outs F :=
  blocks (runMiddle m c t h0 h1 x).1 (runMiddle m c t h0 h1 x).2.1 (runMiddle m c t h0 h1 x).2.2.1 (runMiddle m c t h0 h1 x).2.2.2.1 (runMiddle m c t h0 h1 x).2.2.2.2.1 (runMiddle m c t h0 h1 x).2.2.2.2.2.1 (runMiddle m c t h0 h1 x).2.2.2.2.2.2.1

def last (h0 : ¬cond0_0 (grid0.coords t)) (h1 : ¬cond0_1 (grid0.coords t)) (x : Outs F) : Outs F :=
  blocks (runLast m c t h0 h1 x).1 (runLast m c t h0 h1 x).2.1 (runLast m c t h0 h1 x).2.2.1 (runLast m c t h0 h1 x).2.2.2.1 (runLast m c t h0 h1 x).2.2.2.2.1 (runLast m c t h0 h1 x).2.2.2.2.2.1 (runLast m c t h0 h1 x).2.2.2.2.2.2.1

end Runs

/-- What is stored at such a point covers every block. -/
theorem cover_first (c : Dev nD) (t : Fin cfg0.N) (h0 : cond0_0 (grid0.coords t)) (h1 : cond0_1 (grid0.coords t)) :
    (∀ y : S512x1024.Idx, ∃ pc ∈ (runFirst m c t h0 h1).1, y ∈ pc.1.set)
    ∧ (∀ y : S512x1024.Idx, ∃ pc ∈ (runFirst m c t h0 h1).2.1, y ∈ pc.1.set)
    ∧ (∀ y : S1x1024.Idx, ∃ pc ∈ (runFirst m c t h0 h1).2.2.1, y ∈ pc.1.set)
    ∧ (∀ y : S1x1024.Idx, ∃ pc ∈ (runFirst m c t h0 h1).2.2.2.1, y ∈ pc.1.set)
    ∧ (∀ y : S1x1024.Idx, ∃ pc ∈ (runFirst m c t h0 h1).2.2.2.2.1, y ∈ pc.1.set)
    ∧ (∀ y : S1x1024.Idx, ∃ pc ∈ (runFirst m c t h0 h1).2.2.2.2.2.1, y ∈ pc.1.set)
    ∧ (∀ y : S1x1024.Idx, ∃ pc ∈ (runFirst m c t h0 h1).2.2.2.2.2.2.1, y ∈ pc.1.set) :=
  ⟨fun y => View.cover_of_tiledL (runFirst m c t h0 h1).1 S512x1024.size (by sl_kernel_rfl) y,
   fun y => View.cover_of_tiledL (runFirst m c t h0 h1).2.1 S512x1024.size (by sl_kernel_rfl) y,
   fun y => View.cover_of_tiledL (runFirst m c t h0 h1).2.2.1 S1x1024.size (by sl_kernel_rfl) y,
   fun y => View.cover_of_tiledL (runFirst m c t h0 h1).2.2.2.1 S1x1024.size (by sl_kernel_rfl) y,
   fun y => View.cover_of_tiledL (runFirst m c t h0 h1).2.2.2.2.1 S1x1024.size (by sl_kernel_rfl) y,
   fun y => View.cover_of_tiledL (runFirst m c t h0 h1).2.2.2.2.2.1 S1x1024.size (by sl_kernel_rfl) y,
   fun y => View.cover_of_tiledL (runFirst m c t h0 h1).2.2.2.2.2.2.1 S1x1024.size (by sl_kernel_rfl) y⟩

/-- What is stored at such a point covers every block. -/
theorem cover_middle (c : Dev nD) (t : Fin cfg0.N) (h0 : ¬cond0_0 (grid0.coords t)) (h1 : cond0_1 (grid0.coords t)) (x : Outs F) :
    (∀ y : S512x1024.Idx, ∃ pc ∈ (runMiddle m c t h0 h1 x).1, y ∈ pc.1.set)
    ∧ (∀ y : S512x1024.Idx, ∃ pc ∈ (runMiddle m c t h0 h1 x).2.1, y ∈ pc.1.set)
    ∧ (∀ y : S1x1024.Idx, ∃ pc ∈ (runMiddle m c t h0 h1 x).2.2.1, y ∈ pc.1.set)
    ∧ (∀ y : S1x1024.Idx, ∃ pc ∈ (runMiddle m c t h0 h1 x).2.2.2.1, y ∈ pc.1.set)
    ∧ (∀ y : S1x1024.Idx, ∃ pc ∈ (runMiddle m c t h0 h1 x).2.2.2.2.1, y ∈ pc.1.set)
    ∧ (∀ y : S1x1024.Idx, ∃ pc ∈ (runMiddle m c t h0 h1 x).2.2.2.2.2.1, y ∈ pc.1.set)
    ∧ (∀ y : S1x1024.Idx, ∃ pc ∈ (runMiddle m c t h0 h1 x).2.2.2.2.2.2.1, y ∈ pc.1.set) :=
  ⟨fun y => View.cover_of_tiledL (runMiddle m c t h0 h1 x).1 S512x1024.size (by sl_kernel_rfl) y,
   fun y => View.cover_of_tiledL (runMiddle m c t h0 h1 x).2.1 S512x1024.size (by sl_kernel_rfl) y,
   fun y => View.cover_of_tiledL (runMiddle m c t h0 h1 x).2.2.1 S1x1024.size (by sl_kernel_rfl) y,
   fun y => View.cover_of_tiledL (runMiddle m c t h0 h1 x).2.2.2.1 S1x1024.size (by sl_kernel_rfl) y,
   fun y => View.cover_of_tiledL (runMiddle m c t h0 h1 x).2.2.2.2.1 S1x1024.size (by sl_kernel_rfl) y,
   fun y => View.cover_of_tiledL (runMiddle m c t h0 h1 x).2.2.2.2.2.1 S1x1024.size (by sl_kernel_rfl) y,
   fun y => View.cover_of_tiledL (runMiddle m c t h0 h1 x).2.2.2.2.2.2.1 S1x1024.size (by sl_kernel_rfl) y⟩

/-- What is stored at such a point covers every block. -/
theorem cover_last (c : Dev nD) (t : Fin cfg0.N) (h0 : ¬cond0_0 (grid0.coords t)) (h1 : ¬cond0_1 (grid0.coords t)) (x : Outs F) :
    (∀ y : S512x1024.Idx, ∃ pc ∈ (runLast m c t h0 h1 x).1, y ∈ pc.1.set)
    ∧ (∀ y : S512x1024.Idx, ∃ pc ∈ (runLast m c t h0 h1 x).2.1, y ∈ pc.1.set)
    ∧ (∀ y : S1x1024.Idx, ∃ pc ∈ (runLast m c t h0 h1 x).2.2.1, y ∈ pc.1.set)
    ∧ (∀ y : S1x1024.Idx, ∃ pc ∈ (runLast m c t h0 h1 x).2.2.2.1, y ∈ pc.1.set)
    ∧ (∀ y : S1x1024.Idx, ∃ pc ∈ (runLast m c t h0 h1 x).2.2.2.2.1, y ∈ pc.1.set)
    ∧ (∀ y : S1x1024.Idx, ∃ pc ∈ (runLast m c t h0 h1 x).2.2.2.2.2.1, y ∈ pc.1.set)
    ∧ (∀ y : S1x1024.Idx, ∃ pc ∈ (runLast m c t h0 h1 x).2.2.2.2.2.2.1, y ∈ pc.1.set) :=
  ⟨fun y => View.cover_of_tiledL (runLast m c t h0 h1 x).1 S512x1024.size (by sl_kernel_rfl) y,
   fun y => View.cover_of_tiledL (runLast m c t h0 h1 x).2.1 S512x1024.size (by sl_kernel_rfl) y,
   fun y => View.cover_of_tiledL (runLast m c t h0 h1 x).2.2.1 S1x1024.size (by sl_kernel_rfl) y,
   fun y => View.cover_of_tiledL (runLast m c t h0 h1 x).2.2.2.1 S1x1024.size (by sl_kernel_rfl) y,
   fun y => View.cover_of_tiledL (runLast m c t h0 h1 x).2.2.2.2.1 S1x1024.size (by sl_kernel_rfl) y,
   fun y => View.cover_of_tiledL (runLast m c t h0 h1 x).2.2.2.2.2.1 S1x1024.size (by sl_kernel_rfl) y,
   fun y => View.cover_of_tiledL (runLast m c t h0 h1 x).2.2.2.2.2.2.1 S1x1024.size (by sl_kernel_rfl) y⟩

/-- What the blocks hold after the body at point `n`. -/
def outsAt (c : Dev nD) : (n : ℕ) → n < cfg0.N → Outs F
  | 0, hn => first m c ⟨0, hn⟩ ((hcond0_0 ⟨0, hn⟩).mpr (Nat.zero_mod _)) ((hcond0_1 ⟨0, hn⟩).mpr (by (try dsimp only); omega))
  | n + 1, hn =>
    if h0 : (n + 1) % 32 = 0 then False.elim (by have hN : n + 1 < 32 := lt_of_lt_of_eq hn N_0; omega)
    else if h1 : (n + 1) < 30 then
      middle m c ⟨n + 1, hn⟩ (fun h => h0 ((hcond0_0 ⟨n + 1, hn⟩).mp h)) ((hcond0_1 ⟨n + 1, hn⟩).mpr h1) (outsAt c n (by omega))
    else last m c ⟨n + 1, hn⟩ (fun h => h0 ((hcond0_0 ⟨n + 1, hn⟩).mp h)) (fun h => h1 ((hcond0_1 ⟨n + 1, hn⟩).mp h)) (outsAt c n (by omega))

theorem before_lt (t : Fin cfg0.N) : t.val - 1 < cfg0.N := Nat.lt_of_le_of_lt (Nat.sub_le _ _) t.isLt

theorem outsAt_first (c : Dev nD) (t : Fin cfg0.N) (h0 : t.val % 32 = 0) (h1 : t.val < 30) :
    outsAt m c t.val t.isLt = first m c t ((hcond0_0 t).mpr h0) ((hcond0_1 t).mpr h1) := by
  obtain ⟨n, hn⟩ := t
  cases n with
  | zero => exact rfl
  | succ n => exact absurd h0 (by dsimp only at h1 ⊢; omega)

theorem outsAt_middle (c : Dev nD) (t : Fin cfg0.N) (h0 : ¬t.val % 32 = 0) (h1 : t.val < 30) :
    outsAt m c t.val t.isLt = middle m c t (fun h => h0 ((hcond0_0 t).mp h)) ((hcond0_1 t).mpr h1) (outsAt m c (t.val - 1) (before_lt t)) := by
  obtain ⟨n, hn⟩ := t
  cases n with
  | zero => exact absurd (Nat.zero_mod _) h0
  | succ n => exact (dif_neg h0).trans ((dif_pos h1).trans rfl)

theorem outsAt_last (c : Dev nD) (t : Fin cfg0.N) (h0 : ¬t.val % 32 = 0) (h1 : ¬t.val < 30) :
    outsAt m c t.val t.isLt = last m c t (fun h => h0 ((hcond0_0 t).mp h)) (fun h => h1 ((hcond0_1 t).mp h)) (outsAt m c (t.val - 1) (before_lt t)) := by
  obtain ⟨n, hn⟩ := t
  cases n with
  | zero => exact absurd (Nat.zero_mod _) h0
  | succ n => exact (dif_neg h0).trans ((dif_neg h1).trans rfl)

/-- What holds between points: the generator's state, and the four rings of copies. -/
def PhiR (c : Dev nD) (k : ℕ) : sProp 𝕄 := iprop((∃ r, prngReg c r) ∗ ringAt0_0 c (V m c main_arg0) k ∗ ringAt0_1 c (V m c main_v0) k ∗ ringAt0_2 c (V m c main_arg2) k ∗ ringAt0_3 c (V m c main_v1) k)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt m c t.val t.isLt).1
    | ⟨6, _⟩ => (outsAt m c t.val t.isLt).2.1
    | ⟨7, _⟩ => (outsAt m c t.val t.isLt).2.2.1
    | ⟨8, _⟩ => (outsAt m c t.val t.isLt).2.2.2.1
    | ⟨9, _⟩ => (outsAt m c t.val t.isLt).2.2.2.2.1
    | ⟨10, _⟩ => (outsAt m c t.val t.isLt).2.2.2.2.2.1
    | ⟨11, _⟩ => (outsAt m c t.val t.isLt).2.2.2.2.2.2
  Φ t := PhiR m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = (outsAt m c t.val t.isLt).1 := by dsimp only [dats]
theorem after_6 (c : Dev nD) (t : Fin cfg0.N) : (dats m 0 c).after 6 t = (outsAt m c t.val t.isLt).2.1 := by dsimp only [dats]
theorem after_7 (c : Dev nD) (t : Fin cfg0.N) : (dats m 0 c).after 7 t = (outsAt m c t.val t.isLt).2.2.1 := by dsimp only [dats]
theorem after_8 (c : Dev nD) (t : Fin cfg0.N) : (dats m 0 c).after 8 t = (outsAt m c t.val t.isLt).2.2.2.1 := by dsimp only [dats]
theorem after_9 (c : Dev nD) (t : Fin cfg0.N) : (dats m 0 c).after 9 t = (outsAt m c t.val t.isLt).2.2.2.2.1 := by dsimp only [dats]
theorem after_10 (c : Dev nD) (t : Fin cfg0.N) : (dats m 0 c).after 10 t = (outsAt m c t.val t.isLt).2.2.2.2.2.1 := by dsimp only [dats]
theorem after_11 (c : Dev nD) (t : Fin cfg0.N) : (dats m 0 c).after 11 t = (outsAt m c t.val t.isLt).2.2.2.2.2.2 := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

section Kept

variable (c : Dev nD) (t : Fin cfg0.N) (h0 : ¬t.val % 32 = 0)

include h0 in
theorem before_7 (d) : (dats m 0 c).before 7 t d = (outsAt m c (t.val - 1) (before_lt t)).2.2.1 := by
  have hN : t.val < 32 := lt_of_lt_of_eq t.isLt N_0
  rw [Dat.before_out_kept _ 7 rfl t (by omega) (Bool.eq_false_iff.mpr fun h => by have := (flush0_7 _).mp h; dsimp only at this; omega)
    (fun _ => rfl) (fun _ _ => rfl)]
  dsimp only [dats]

include h0 in
theorem before_8 (d) : (dats m 0 c).before 8 t d = (outsAt m c (t.val - 1) (before_lt t)).2.2.2.1 := by
  have hN : t.val < 32 := lt_of_lt_of_eq t.isLt N_0
  rw [Dat.before_out_kept _ 8 rfl t (by omega) (Bool.eq_false_iff.mpr fun h => by have := (flush0_8 _).mp h; dsimp only at this; omega)
    (fun _ => rfl) (fun _ _ => rfl)]
  dsimp only [dats]

include h0 in
theorem before_9 (d) : (dats m 0 c).before 9 t d = (outsAt m c (t.val - 1) (before_lt t)).2.2.2.2.1 := by
  have hN : t.val < 32 := lt_of_lt_of_eq t.isLt N_0
  rw [Dat.before_out_kept _ 9 rfl t (by omega) (Bool.eq_false_iff.mpr fun h => by have := (flush0_9 _).mp h; dsimp only at this; omega)
    (fun _ => rfl) (fun _ _ => rfl)]
  dsimp only [dats]

include h0 in
theorem before_10 (d) : (dats m 0 c).before 10 t d = (outsAt m c (t.val - 1) (before_lt t)).2.2.2.2.2.1 := by
  have hN : t.val < 32 := lt_of_lt_of_eq t.isLt N_0
  rw [Dat.before_out_kept _ 10 rfl t (by omega) (Bool.eq_false_iff.mpr fun h => by have := (flush0_10 _).mp h; dsimp only at this; omega)
    (fun _ => rfl) (fun _ _ => rfl)]
  dsimp only [dats]

include h0 in
theorem before_11 (d) : (dats m 0 c).before 11 t d = (outsAt m c (t.val - 1) (before_lt t)).2.2.2.2.2.2 := by
  have hN : t.val < 32 := lt_of_lt_of_eq t.isLt N_0
  rw [Dat.before_out_kept _ 11 rfl t (by omega) (Bool.eq_false_iff.mpr fun h => by have := (flush0_11 _).mp h; dsimp only at this; omega)
    (fun _ => rfl) (fun _ _ => rfl)]
  dsimp only [dats]

end Kept

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t))

/-- The invariant at a point's start. -/
theorem PhiR_castSucc (c : Dev nD) (t : Fin cfg0.N) : (dats m 0 c).Φ t.castSucc = PhiR m c t.val := by
  dsimp only [dats]; simp only [Fin.coe_castSucc]
/-- The invariant at a point's end. -/
theorem PhiR_succ (c : Dev nD) (t : Fin cfg0.N) : (dats m 0 c).Φ t.succ = PhiR m c (t.val + 1) := by
  dsimp only [dats]; simp only [Fin.val_succ]

/-- Blocks that the stored pieces cover hold those pieces, whatever they held before. -/
theorem blocks_left (t : Fin cfg0.N) (L5 : List (View.Piece (Elt F) S512x1024 .f32)) (L6 : List (View.Piece (Elt F) S512x1024 .bf16))
    (L7 L8 L9 L10 L11 : List (View.Piece (Elt F) S1x1024 .f32))
    (k5 : ∀ y, ∃ pc ∈ L5, y ∈ pc.1.set)
    (k6 : ∀ y, ∃ pc ∈ L6, y ∈ pc.1.set)
    (k7 : ∀ y, ∃ pc ∈ L7, y ∈ pc.1.set)
    (k8 : ∀ y, ∃ pc ∈ L8, y ∈ pc.1.set)
    (k9 : ∀ y, ∃ pc ∈ L9, y ∈ pc.1.set)
    (k10 : ∀ y, ∃ pc ∈ L10, y ∈ pc.1.set)
    (k11 : ∀ y, ∃ pc ∈ L11, y ∈ pc.1.set) :
    (∀ e, (ms0_5 t).view.read (Elt F) ((ms0_5 t).view.writes (Elt F) e L5) = (blocks L5 L6 L7 L8 L9 L10 L11).1)
    ∧ (∀ e, (ms0_6 t).view.read (Elt F) ((ms0_6 t).view.writes (Elt F) e L6) = (blocks L5 L6 L7 L8 L9 L10 L11).2.1)
    ∧ (∀ e, (ms0_7 t).view.read (Elt F) ((ms0_7 t).view.writes (Elt F) e L7) = (blocks L5 L6 L7 L8 L9 L10 L11).2.2.1)
    ∧ (∀ e, (ms0_8 t).view.read (Elt F) ((ms0_8 t).view.writes (Elt F) e L8) = (blocks L5 L6 L7 L8 L9 L10 L11).2.2.2.1)
    ∧ (∀ e, (ms0_9 t).view.read (Elt F) ((ms0_9 t).view.writes (Elt F) e L9) = (blocks L5 L6 L7 L8 L9 L10 L11).2.2.2.2.1)
    ∧ (∀ e, (ms0_10 t).view.read (Elt F) ((ms0_10 t).view.writes (Elt F) e L10) = (blocks L5 L6 L7 L8 L9 L10 L11).2.2.2.2.2.1)
    ∧ (∀ e, (ms0_11 t).view.read (Elt F) ((ms0_11 t).view.writes (Elt F) e L11) = (blocks L5 L6 L7 L8 L9 L10 L11).2.2.2.2.2.2) :=
  ⟨fun e => View.read_writes_of_cover (ms0_5 t).view e VO0_5 VO0_5.junk _ k5,
   fun e => View.read_writes_of_cover (ms0_6 t).view e VO0_6 VO0_6.junk _ k6,
   fun e => View.read_writes_of_cover (ms0_7 t).view e VO0_7 VO0_7.junk _ k7,
   fun e => View.read_writes_of_cover (ms0_8 t).view e VO0_8 VO0_8.junk _ k8,
   fun e => View.read_writes_of_cover (ms0_9 t).view e VO0_9 VO0_9.junk _ k9,
   fun e => View.read_writes_of_cover (ms0_10 t).view e VO0_10 VO0_10.junk _ k10,
   fun e => View.read_writes_of_cover (ms0_11 t).view e VO0_11 VO0_11.junk _ k11⟩

/-- What such a point stores, read back. -/
theorem left_first (c : Dev nD) (t : Fin cfg0.N) (h0 : cond0_0 (grid0.coords t)) (h1 : cond0_1 (grid0.coords t)) :
    (∀ e, (ms0_5 t).view.read (Elt F) ((ms0_5 t).view.writes (Elt F) e (runFirst m c t h0 h1).1) = (first m c t h0 h1).1)
    ∧ (∀ e, (ms0_6 t).view.read (Elt F) ((ms0_6 t).view.writes (Elt F) e (runFirst m c t h0 h1).2.1) = (first m c t h0 h1).2.1)
    ∧ (∀ e, (ms0_7 t).view.read (Elt F) ((ms0_7 t).view.writes (Elt F) e (runFirst m c t h0 h1).2.2.1) = (first m c t h0 h1).2.2.1)
    ∧ (∀ e, (ms0_8 t).view.read (Elt F) ((ms0_8 t).view.writes (Elt F) e (runFirst m c t h0 h1).2.2.2.1) = (first m c t h0 h1).2.2.2.1)
    ∧ (∀ e, (ms0_9 t).view.read (Elt F) ((ms0_9 t).view.writes (Elt F) e (runFirst m c t h0 h1).2.2.2.2.1) = (first m c t h0 h1).2.2.2.2.1)
    ∧ (∀ e, (ms0_10 t).view.read (Elt F) ((ms0_10 t).view.writes (Elt F) e (runFirst m c t h0 h1).2.2.2.2.2.1) = (first m c t h0 h1).2.2.2.2.2.1)
    ∧ (∀ e, (ms0_11 t).view.read (Elt F) ((ms0_11 t).view.writes (Elt F) e (runFirst m c t h0 h1).2.2.2.2.2.2.1) = (first m c t h0 h1).2.2.2.2.2.2):=
  have k := cover_first m c t h0 h1
  blocks_left t _ _ _ _ _ _ _ k.1 k.2.1 k.2.2.1 k.2.2.2.1 k.2.2.2.2.1 k.2.2.2.2.2.1 k.2.2.2.2.2.2

/-- What such a point stores, read back. -/
theorem left_middle (c : Dev nD) (t : Fin cfg0.N) (h0 : ¬cond0_0 (grid0.coords t)) (h1 : cond0_1 (grid0.coords t)) (x : Outs F) :
    (∀ e, (ms0_5 t).view.read (Elt F) ((ms0_5 t).view.writes (Elt F) e (runMiddle m c t h0 h1 x).1) = (middle m c t h0 h1 x).1)
    ∧ (∀ e, (ms0_6 t).view.read (Elt F) ((ms0_6 t).view.writes (Elt F) e (runMiddle m c t h0 h1 x).2.1) = (middle m c t h0 h1 x).2.1)
    ∧ (∀ e, (ms0_7 t).view.read (Elt F) ((ms0_7 t).view.writes (Elt F) e (runMiddle m c t h0 h1 x).2.2.1) = (middle m c t h0 h1 x).2.2.1)
    ∧ (∀ e, (ms0_8 t).view.read (Elt F) ((ms0_8 t).view.writes (Elt F) e (runMiddle m c t h0 h1 x).2.2.2.1) = (middle m c t h0 h1 x).2.2.2.1)
    ∧ (∀ e, (ms0_9 t).view.read (Elt F) ((ms0_9 t).view.writes (Elt F) e (runMiddle m c t h0 h1 x).2.2.2.2.1) = (middle m c t h0 h1 x).2.2.2.2.1)
    ∧ (∀ e, (ms0_10 t).view.read (Elt F) ((ms0_10 t).view.writes (Elt F) e (runMiddle m c t h0 h1 x).2.2.2.2.2.1) = (middle m c t h0 h1 x).2.2.2.2.2.1)
    ∧ (∀ e, (ms0_11 t).view.read (Elt F) ((ms0_11 t).view.writes (Elt F) e (runMiddle m c t h0 h1 x).2.2.2.2.2.2.1) = (middle m c t h0 h1 x).2.2.2.2.2.2):=
  have k := cover_middle m c t h0 h1 x
  blocks_left t _ _ _ _ _ _ _ k.1 k.2.1 k.2.2.1 k.2.2.2.1 k.2.2.2.2.1 k.2.2.2.2.2.1 k.2.2.2.2.2.2

/-- What such a point stores, read back. -/
theorem left_last (c : Dev nD) (t : Fin cfg0.N) (h0 : ¬cond0_0 (grid0.coords t)) (h1 : ¬cond0_1 (grid0.coords t)) (x : Outs F) :
    (∀ e, (ms0_5 t).view.read (Elt F) ((ms0_5 t).view.writes (Elt F) e (runLast m c t h0 h1 x).1) = (last m c t h0 h1 x).1)
    ∧ (∀ e, (ms0_6 t).view.read (Elt F) ((ms0_6 t).view.writes (Elt F) e (runLast m c t h0 h1 x).2.1) = (last m c t h0 h1 x).2.1)
    ∧ (∀ e, (ms0_7 t).view.read (Elt F) ((ms0_7 t).view.writes (Elt F) e (runLast m c t h0 h1 x).2.2.1) = (last m c t h0 h1 x).2.2.1)
    ∧ (∀ e, (ms0_8 t).view.read (Elt F) ((ms0_8 t).view.writes (Elt F) e (runLast m c t h0 h1 x).2.2.2.1) = (last m c t h0 h1 x).2.2.2.1)
    ∧ (∀ e, (ms0_9 t).view.read (Elt F) ((ms0_9 t).view.writes (Elt F) e (runLast m c t h0 h1 x).2.2.2.2.1) = (last m c t h0 h1 x).2.2.2.2.1)
    ∧ (∀ e, (ms0_10 t).view.read (Elt F) ((ms0_10 t).view.writes (Elt F) e (runLast m c t h0 h1 x).2.2.2.2.2.1) = (last m c t h0 h1 x).2.2.2.2.2.1)
    ∧ (∀ e, (ms0_11 t).view.read (Elt F) ((ms0_11 t).view.writes (Elt F) e (runLast m c t h0 h1 x).2.2.2.2.2.2.1) = (last m c t h0 h1 x).2.2.2.2.2.2):=
  have k := cover_last m c t h0 h1 x
  blocks_left t _ _ _ _ _ _ _ k.1 k.2.1 k.2.2.1 k.2.2.2.1 k.2.2.2.2.1 k.2.2.2.2.2.1 k.2.2.2.2.2.2

end Cert.MidIdeal.Grid

end
-- ==== Proof.Mid.First.lean ====
/- The call between two sub-layers, backward: the body at the first point of the grid. -/
module

public import proofs.«01_k».proof.Proof.Mid.Grid

@[expose] public section

set_option maxRecDepth 16384

noncomputable section

namespace Cert.MidIdeal.Grid

open Cert.MidIdeal Cert.MidIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 0 in
/-- The body at the first point: the rings are empty before it and hold two copies in flight after it. -/
theorem sound_first (c : Dev nD) (t : Fin cfg0.N) (h0 : t.val % 32 = 0) (h1 : t.val < 30) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [after_0, after_1, after_2, after_3, after_4, after_5, after_6, after_7, after_8, after_9, after_10, after_11]
  rw [PhiR_castSucc m c t, PhiR_succ m c t]
  unfold Dat.owesAt Pipeline.owesWithin
  rw [show (dats m 0 c).owed t.castSucc = 0 from rfl, show (dats m 0 c).owed t.succ = 0 from rfl]
  unfold PhiR ringAt0_0 ringAt0_1 ringAt0_2 ringAt0_3
  have hN : t.val < 32 := lt_of_lt_of_eq t.isLt N_0
  have hs : ¬t.val + 1 = 0 := by omega
  have hz : t.val = 0 := by omega
  simp only [if_pos hz, if_neg hs]
  iterate 4 rw [Ring.At₀_eq3' _ _ _ t.val hz (by decide : 3 ≤ 32), Ring.At3_one' _ _ _ _ t.val hz (by decide : 3 ≤ 32)]
  iintro ⟨⟨Hg, ⟨-, Hr00, Hr01, Hr02⟩, ⟨-, Hr10, Hr11, Hr12⟩, ⟨-, Hr20, Hr21, Hr22⟩, ⟨-, Hr30, Hr31, Hr32⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((runFirst m c t ((hcond0_0 t).mpr h0) ((hcond0_1 t).mpr h1)).2.2.2.2.2.2.2 W _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [Hr00]; · iexact Hr00
  isplitl [Hr01]; · iexact Hr01
  isplitl [Hr02]; · iexact Hr02
  isplitl [Hr10]; · iexact Hr10
  isplitl [Hr11]; · iexact Hr11
  isplitl [Hr12]; · iexact Hr12
  isplitl [Hr20]; · iexact Hr20
  isplitl [Hr21]; · iexact Hr21
  isplitl [Hr22]; · iexact Hr22
  isplitl [Hr30]; · iexact Hr30
  isplitl [Hr31]; · iexact Hr31
  isplitl [Hr32]; · iexact Hr32
  isplitl [HW]; · iexact HW
  iintro ⟨H0, H1, H2, H3, H4, ⟨%e5, H5⟩, ⟨%e6, H6⟩, ⟨%e7, H7⟩, ⟨%e8, H8⟩, ⟨%e9, H9⟩, ⟨%e10, H10⟩, ⟨%e11, H11⟩, Hr00, Hr01, Hr02, Hr10, Hr11, Hr12, Hr20, Hr21, Hr22, Hr30, Hr31, Hr32, ⟨%W', HW⟩⟩
  isplitl [Hg Hr00 Hr01 Hr02 Hr10 Hr11 Hr12 Hr20 Hr21 Hr22 Hr30 Hr31 Hr32]
  · isplitl [Hg]; · iexact Hg
    isplitl [Hr00 Hr01 Hr02]
    · iapply (Ring.with_homes (Idealize.SL.BI.Entails.refl _))
      isplitl [Hr00]; · iexact Hr00
      isplitl [Hr01]; · iexact Hr01
      iexact Hr02
    isplitl [Hr10 Hr11 Hr12]
    · iapply (Ring.with_homes (Idealize.SL.BI.Entails.refl _))
      isplitl [Hr10]; · iexact Hr10
      isplitl [Hr11]; · iexact Hr11
      iexact Hr12
    isplitl [Hr20 Hr21 Hr22]
    · iapply (Ring.with_homes (Idealize.SL.BI.Entails.refl _))
      isplitl [Hr20]; · iexact Hr20
      isplitl [Hr21]; · iexact Hr21
      iexact Hr22
    iapply (Ring.with_homes (Idealize.SL.BI.Entails.refl _))
    isplitl [Hr30]; · iexact Hr30
    isplitl [Hr31]; · iexact Hr31
    iexact Hr32
  isplitl [HW]
  · iexists W'; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; rw [outsAt_first m c t h0 h1]; exact (left_first m c t _ _).1 _
  isplitl [H6]
  · unfold owns; iexists _; isplitr
    swap; · iexact H6
    ipureintro; rw [outsAt_first m c t h0 h1]; exact (left_first m c t _ _).2.1 _
  isplitl [H7]
  · unfold owns; iexists _; isplitr
    swap; · iexact H7
    ipureintro; rw [outsAt_first m c t h0 h1]; exact (left_first m c t _ _).2.2.1 _
  isplitl [H8]
  · unfold owns; iexists _; isplitr
    swap; · iexact H8
    ipureintro; rw [outsAt_first m c t h0 h1]; exact (left_first m c t _ _).2.2.2.1 _
  isplitl [H9]
  · unfold owns; iexists _; isplitr
    swap; · iexact H9
    ipureintro; rw [outsAt_first m c t h0 h1]; exact (left_first m c t _ _).2.2.2.2.1 _
  isplitl [H10]
  · unfold owns; iexists _; isplitr
    swap; · iexact H10
    ipureintro; rw [outsAt_first m c t h0 h1]; exact (left_first m c t _ _).2.2.2.2.2.1 _
  unfold owns; iexists _; isplitr
  swap; · iexact H11
  ipureintro; rw [outsAt_first m c t h0 h1]; exact (left_first m c t _ _).2.2.2.2.2.2 _

end Cert.MidIdeal.Grid

end
-- ==== Proof.Mid.Middle.lean ====
/- The call between two sub-layers, backward: the body at a point that starts further copies. -/
module

public import proofs.«01_k».proof.Proof.Mid.Grid

@[expose] public section

set_option maxRecDepth 16384

noncomputable section

namespace Cert.MidIdeal.Grid

open Cert.MidIdeal Cert.MidIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 0 in
/-- The body at a point that starts further copies. -/
theorem sound_middle (c : Dev nD) (t : Fin cfg0.N) (h0 : ¬t.val % 32 = 0) (h1 : t.val < 30) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_7 m c t h0, before_8 m c t h0, before_9 m c t h0, before_10 m c t h0, before_11 m c t h0]
  rw [after_0, after_1, after_2, after_3, after_4, after_5, after_6, after_7, after_8, after_9, after_10, after_11]
  rw [PhiR_castSucc m c t, PhiR_succ m c t]
  unfold Dat.owesAt Pipeline.owesWithin
  rw [show (dats m 0 c).owed t.castSucc = 0 from rfl, show (dats m 0 c).owed t.succ = 0 from rfl]
  unfold PhiR ringAt0_0 ringAt0_1 ringAt0_2 ringAt0_3
  have hN : t.val < 32 := lt_of_lt_of_eq t.isLt N_0
  have hs : ¬t.val + 1 = 0 := by omega
  have hz : ¬t.val = 0 := by omega
  have hb : t.val + 2 < 32 := by omega
  simp only [if_neg hz, if_neg hs]
  iterate 4 rw [Ring.At3_here _ _ _ _ t.val hb, Ring.At3_next _ _ _ _ t.val hb, Ring.slotAt3_next0 _ _ _ t.val (by omega), Ring.slotAt3_next1 _ _ _ t.val hb]
  iintro ⟨⟨Hg, ⟨-, Hr00, Hr01, Hr02⟩, ⟨-, Hr10, Hr11, Hr12⟩, ⟨-, Hr20, Hr21, Hr22⟩, ⟨-, Hr30, Hr31, Hr32⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((runMiddle m c t (fun h => h0 ((hcond0_0 t).mp h)) ((hcond0_1 t).mpr h1) (outsAt m c (t.val - 1) (before_lt t))).2.2.2.2.2.2.2 W _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexact H7
  isplitl [H8]; · iexact H8
  isplitl [H9]; · iexact H9
  isplitl [H10]; · iexact H10
  isplitl [H11]; · iexact H11
  isplitl [Hr00]; · iexact Hr00
  isplitl [Hr01]; · iexact Hr01
  isplitl [Hr02]; · iexact Hr02
  isplitl [Hr10]; · iexact Hr10
  isplitl [Hr11]; · iexact Hr11
  isplitl [Hr12]; · iexact Hr12
  isplitl [Hr20]; · iexact Hr20
  isplitl [Hr21]; · iexact Hr21
  isplitl [Hr22]; · iexact Hr22
  isplitl [Hr30]; · iexact Hr30
  isplitl [Hr31]; · iexact Hr31
  isplitl [Hr32]; · iexact Hr32
  isplitl [HW]; · iexact HW
  iintro ⟨H0, H1, H2, H3, H4, ⟨%e5, H5⟩, ⟨%e6, H6⟩, ⟨%e7, H7⟩, ⟨%e8, H8⟩, ⟨%e9, H9⟩, ⟨%e10, H10⟩, ⟨%e11, H11⟩, Hr00, Hr01, Hr02, Hr10, Hr11, Hr12, Hr20, Hr21, Hr22, Hr30, Hr31, Hr32, ⟨%W', HW⟩⟩
  isplitl [Hg Hr00 Hr01 Hr02 Hr10 Hr11 Hr12 Hr20 Hr21 Hr22 Hr30 Hr31 Hr32]
  · isplitl [Hg]; · iexact Hg
    isplitl [Hr00 Hr01 Hr02]
    · iapply (Ring.with_homes (Idealize.SL.BI.Entails.refl _))
      isplitl [Hr00]; · iexact Hr00
      isplitl [Hr01]; · iexact Hr01
      iexact Hr02
    isplitl [Hr10 Hr11 Hr12]
    · iapply (Ring.with_homes (Idealize.SL.BI.Entails.refl _))
      isplitl [Hr10]; · iexact Hr10
      isplitl [Hr11]; · iexact Hr11
      iexact Hr12
    isplitl [Hr20 Hr21 Hr22]
    · iapply (Ring.with_homes (Idealize.SL.BI.Entails.refl _))
      isplitl [Hr20]; · iexact Hr20
      isplitl [Hr21]; · iexact Hr21
      iexact Hr22
    iapply (Ring.with_homes (Idealize.SL.BI.Entails.refl _))
    isplitl [Hr30]; · iexact Hr30
    isplitl [Hr31]; · iexact Hr31
    iexact Hr32
  isplitl [HW]
  · iexists W'; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; rw [outsAt_middle m c t h0 h1]; exact (left_middle m c t _ _ _).1 _
  isplitl [H6]
  · unfold owns; iexists _; isplitr
    swap; · iexact H6
    ipureintro; rw [outsAt_middle m c t h0 h1]; exact (left_middle m c t _ _ _).2.1 _
  isplitl [H7]
  · unfold owns; iexists _; isplitr
    swap; · iexact H7
    ipureintro; rw [outsAt_middle m c t h0 h1]; exact (left_middle m c t _ _ _).2.2.1 _
  isplitl [H8]
  · unfold owns; iexists _; isplitr
    swap; · iexact H8
    ipureintro; rw [outsAt_middle m c t h0 h1]; exact (left_middle m c t _ _ _).2.2.2.1 _
  isplitl [H9]
  · unfold owns; iexists _; isplitr
    swap; · iexact H9
    ipureintro; rw [outsAt_middle m c t h0 h1]; exact (left_middle m c t _ _ _).2.2.2.2.1 _
  isplitl [H10]
  · unfold owns; iexists _; isplitr
    swap; · iexact H10
    ipureintro; rw [outsAt_middle m c t h0 h1]; exact (left_middle m c t _ _ _).2.2.2.2.2.1 _
  unfold owns; iexists _; isplitr
  swap; · iexact H11
  ipureintro; rw [outsAt_middle m c t h0 h1]; exact (left_middle m c t _ _ _).2.2.2.2.2.2 _

end Cert.MidIdeal.Grid

end
-- ==== Proof.Mid.Last.lean ====
/- The call between two sub-layers, backward: the body at one of the last points, which start no copy. -/
module

public import proofs.«01_k».proof.Proof.Mid.Grid

@[expose] public section

set_option maxRecDepth 16384

noncomputable section

namespace Cert.MidIdeal.Grid

open Cert.MidIdeal Cert.MidIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 0 in
/-- The body at a point that starts none. -/
theorem sound_last (c : Dev nD) (t : Fin cfg0.N) (h0 : ¬t.val % 32 = 0) (h1 : ¬t.val < 30) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_7 m c t h0, before_8 m c t h0, before_9 m c t h0, before_10 m c t h0, before_11 m c t h0]
  rw [after_0, after_1, after_2, after_3, after_4, after_5, after_6, after_7, after_8, after_9, after_10, after_11]
  rw [PhiR_castSucc m c t, PhiR_succ m c t]
  unfold Dat.owesAt Pipeline.owesWithin
  rw [show (dats m 0 c).owed t.castSucc = 0 from rfl, show (dats m 0 c).owed t.succ = 0 from rfl]
  unfold PhiR ringAt0_0 ringAt0_1 ringAt0_2 ringAt0_3
  have hN : t.val < 32 := lt_of_lt_of_eq t.isLt N_0
  have hs : ¬t.val + 1 = 0 := by omega
  have hz : ¬t.val = 0 := by omega
  have hb : 32 ≤ t.val + 2 := by omega
  simp only [if_neg hz, if_neg hs]
  iterate 4 rw [Ring.At3_here_tail _ _ _ _ t.val hN, Ring.At3_next_tail _ _ _ _ t.val hb hN, Ring.slotAt3_tail_role _ _ _ t.val]
  iintro ⟨⟨Hg, ⟨-, Hr00, Hr01, Hr02⟩, ⟨-, Hr10, Hr11, Hr12⟩, ⟨-, Hr20, Hr21, Hr22⟩, ⟨-, Hr30, Hr31, Hr32⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((runLast m c t (fun h => h0 ((hcond0_0 t).mp h)) (fun h => h1 ((hcond0_1 t).mp h)) (outsAt m c (t.val - 1) (before_lt t))).2.2.2.2.2.2.2 W _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexact H7
  isplitl [H8]; · iexact H8
  isplitl [H9]; · iexact H9
  isplitl [H10]; · iexact H10
  isplitl [H11]; · iexact H11
  isplitl [Hr00]; · iexact Hr00
  isplitl [Hr01]; · iexact Hr01
  isplitl [Hr02]; · iexact Hr02
  isplitl [Hr10]; · iexact Hr10
  isplitl [Hr11]; · iexact Hr11
  isplitl [Hr12]; · iexact Hr12
  isplitl [Hr20]; · iexact Hr20
  isplitl [Hr21]; · iexact Hr21
  isplitl [Hr22]; · iexact Hr22
  isplitl [Hr30]; · iexact Hr30
  isplitl [Hr31]; · iexact Hr31
  isplitl [Hr32]; · iexact Hr32
  isplitl [HW]; · iexact HW
  iintro ⟨H0, H1, H2, H3, H4, ⟨%e5, H5⟩, ⟨%e6, H6⟩, ⟨%e7, H7⟩, ⟨%e8, H8⟩, ⟨%e9, H9⟩, ⟨%e10, H10⟩, ⟨%e11, H11⟩, Hr00, Hr01, Hr02, Hr10, Hr11, Hr12, Hr20, Hr21, Hr22, Hr30, Hr31, Hr32, ⟨%W', HW⟩⟩
  isplitl [Hg Hr00 Hr01 Hr02 Hr10 Hr11 Hr12 Hr20 Hr21 Hr22 Hr30 Hr31 Hr32]
  · isplitl [Hg]; · iexact Hg
    isplitl [Hr00 Hr01 Hr02]
    · iapply (Ring.with_homes (Idealize.SL.BI.Entails.refl _))
      isplitl [Hr00]; · iexact Hr00
      isplitl [Hr01]; · iexact Hr01
      iexact Hr02
    isplitl [Hr10 Hr11 Hr12]
    · iapply (Ring.with_homes (Idealize.SL.BI.Entails.refl _))
      isplitl [Hr10]; · iexact Hr10
      isplitl [Hr11]; · iexact Hr11
      iexact Hr12
    isplitl [Hr20 Hr21 Hr22]
    · iapply (Ring.with_homes (Idealize.SL.BI.Entails.refl _))
      isplitl [Hr20]; · iexact Hr20
      isplitl [Hr21]; · iexact Hr21
      iexact Hr22
    iapply (Ring.with_homes (Idealize.SL.BI.Entails.refl _))
    isplitl [Hr30]; · iexact Hr30
    isplitl [Hr31]; · iexact Hr31
    iexact Hr32
  isplitl [HW]
  · iexists W'; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; rw [outsAt_last m c t h0 h1]; exact (left_last m c t _ _ _).1 _
  isplitl [H6]
  · unfold owns; iexists _; isplitr
    swap; · iexact H6
    ipureintro; rw [outsAt_last m c t h0 h1]; exact (left_last m c t _ _ _).2.1 _
  isplitl [H7]
  · unfold owns; iexists _; isplitr
    swap; · iexact H7
    ipureintro; rw [outsAt_last m c t h0 h1]; exact (left_last m c t _ _ _).2.2.1 _
  isplitl [H8]
  · unfold owns; iexists _; isplitr
    swap; · iexact H8
    ipureintro; rw [outsAt_last m c t h0 h1]; exact (left_last m c t _ _ _).2.2.2.1 _
  isplitl [H9]
  · unfold owns; iexists _; isplitr
    swap; · iexact H9
    ipureintro; rw [outsAt_last m c t h0 h1]; exact (left_last m c t _ _ _).2.2.2.2.1 _
  isplitl [H10]
  · unfold owns; iexists _; isplitr
    swap; · iexact H10
    ipureintro; rw [outsAt_last m c t h0 h1]; exact (left_last m c t _ _ _).2.2.2.2.2.1 _
  unfold owns; iexists _; isplitr
  swap; · iexact H11
  ipureintro; rw [outsAt_last m c t h0 h1]; exact (left_last m c t _ _ _).2.2.2.2.2.2 _

end Cert.MidIdeal.Grid

end
-- ==== Proof.Mid.Frame.lean ====
/- The call between two sub-layers, backward: every execution ends, the arguments unchanged and the counters at zero. -/
module

public import proofs.«01_k».proof.Proof.Mid.First
public import proofs.«01_k».proof.Proof.Mid.Middle
public import proofs.«01_k».proof.Proof.Mid.Last

@[expose] public section

set_option maxRecDepth 16384

noncomputable section

namespace Cert.MidIdeal.Grid

open Cert.MidIdeal Cert.MidIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The body at any point. -/
theorem sound_body (c : Dev nD) (t : Fin cfg0.N) :
    bodyPre m c t ⊢ wp frame (wpE (defs₀ (F := F)) Variants.none c none) Set.univ (bodyAt0 t) (fun _ => bodyPost m c t) := by
  have hN : t.val < 32 := lt_of_lt_of_eq t.isLt N_0
  by_cases h0 : t.val % 32 = 0
  · exact sound_first m c t h0 (by omega)
  · by_cases h1 : t.val < 30
    · exact sound_middle m c t h0 h1
    · exact sound_last m c t h0 h1

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- Before the first point the launch hands over the empty rings, -/
theorem hin (c : Dev nD) : Pipeline.ΦD osem0 spec0 H0 (V m) c ⊢ (dats m 0 c).Φ 0 := by
  rw [PhiD0_eq, show (dats m 0 c).Φ 0 = PhiR m c 0 from rfl]
  unfold PhiR
  iintro ⟨⟨HR0_0, HR0_1, HR0_2, HR0_3⟩, Hg, ⟨Hq0, Hq1, Hq2, Hq3, Hq4, Hq5, Hq6, Hq7, Hq8, Hq9, Hq10, Hq11⟩, ⟨Hh0, Hh1, Hh2, Hh3⟩⟩
  isplitl [Hg]; · iexact Hg
  isplitl [HR0_0 Hq0 Hq1 Hq2 Hh0]
  · iapply (ring0_0_in (F := F) m c)
    isplitl [HR0_0]; · iexact HR0_0
    isplitl [Hq0 Hq1 Hq2]
    · isplitl [Hq0]; · iexact Hq0
      isplitl [Hq1]; · iexact Hq1
      iexact Hq2
    iexact Hh0
  isplitl [HR0_1 Hq3 Hq4 Hq5 Hh1]
  · iapply (ring0_1_in (F := F) m c)
    isplitl [HR0_1]; · iexact HR0_1
    isplitl [Hq3 Hq4 Hq5]
    · isplitl [Hq3]; · iexact Hq3
      isplitl [Hq4]; · iexact Hq4
      iexact Hq5
    iexact Hh1
  isplitl [HR0_2 Hq6 Hq7 Hq8 Hh2]
  · iapply (ring0_2_in (F := F) m c)
    isplitl [HR0_2]; · iexact HR0_2
    isplitl [Hq6 Hq7 Hq8]
    · isplitl [Hq6]; · iexact Hq6
      isplitl [Hq7]; · iexact Hq7
      iexact Hq8
    iexact Hh2
  iapply (ring0_3_in (F := F) m c)
  isplitl [HR0_3]; · iexact HR0_3
  isplitl [Hq9 Hq10 Hq11]
  · isplitl [Hq9]; · iexact Hq9
    isplitl [Hq10]; · iexact Hq10
    iexact Hq11
  iexact Hh3
/-- and after the last point they are empty again. -/
theorem hout (c : Dev nD) : (dats m 0 c).Φ (Fin.last cfg0.N) ⊢ Pipeline.ΦD osem0 spec0 H0 (V m) c := by
  rw [PhiD0_eq, show (dats m 0 c).Φ (Fin.last cfg0.N) = PhiR m c grid0.N from rfl]
  unfold PhiR
  rw [show grid0.N = 32 by rw [N_0]]
  iintro ⟨Hg, HR0_0, HR0_1, HR0_2, HR0_3⟩
  ihave HX0_0 := (ring0_0_out (F := F) m c) $$ HR0_0
  icases HX0_0 with ⟨HR0_0, ⟨Hq0, Hq1, Hq2⟩, Hh0⟩
  ihave HX0_1 := (ring0_1_out (F := F) m c) $$ HR0_1
  icases HX0_1 with ⟨HR0_1, ⟨Hq3, Hq4, Hq5⟩, Hh1⟩
  ihave HX0_2 := (ring0_2_out (F := F) m c) $$ HR0_2
  icases HX0_2 with ⟨HR0_2, ⟨Hq6, Hq7, Hq8⟩, Hh2⟩
  ihave HX0_3 := (ring0_3_out (F := F) m c) $$ HR0_3
  icases HX0_3 with ⟨HR0_3, ⟨Hq9, Hq10, Hq11⟩, Hh3⟩
  isplitl [HR0_0 HR0_1 HR0_2 HR0_3]
  · isplitl [HR0_0]; · iexact HR0_0
    isplitl [HR0_1]; · iexact HR0_1
    isplitl [HR0_2]; · iexact HR0_2
    iexact HR0_3
  isplitl [Hg]
  · iexact Hg
  isplitl [Hq0 Hq1 Hq2 Hq3 Hq4 Hq5 Hq6 Hq7 Hq8 Hq9 Hq10 Hq11]
  · isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    iexact Hq11
  isplitl [Hh0]; · iexact Hh0
  isplitl [Hh1]; · iexact Hh1
  isplitl [Hh2]; · iexact Hh2
  iexact Hh3

set_option backward.isDefEq.respectTransparency.types false in
/-- Every weakly fair execution ends, the arrays as the points leave them and the counters at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

/-- The frame: the arguments unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ) ((θ_run defs _ _).mono (fun _ h => h.2) (run_main_quiescent m ρ))

end Cert.MidIdeal.Grid

end
-- ==== Proof.Mid.Ring.lean ====
/- The gradient between the sub-layers: what the copies bring into the scratch slots. -/
module

public import proofs.«01_k».proof.Proof.Mid.Grid
public import proofs.«01_k».proof.Proof.Norm.Real
public import Idealize.ShloMosaic.Lib.Pipeline.ValueKit
public import Idealize.ShloMosaic.Lib.ValueLayout

@[expose] public section

set_option maxRecDepth 16384

noncomputable section

namespace Cert.MidIdeal.Grid

open Cert.MidIdeal Cert.MidIdeal.Gen Idealize.ShloMosaic Idealize.ShloMosaic.TcCoe Idealize.SL.Sem Cert.Proof.Norm

variable (m : (ℓ : Loc nD τ sig) → Buf (Elt Ideal) ℓ) (c : Dev nD) (t : Fin cfg0.N)

/-- A slot read where a copy landed whole: the copy's values, under the leading axis of the slot. -/
theorem slot_read {sp : Space} {e : EltTy} (M : Memref sig .tc sp S3x512x1024 e) (off : Fin 3 → ℕ) (s : ℕ) (h : off = ![s, 0, 0])
    (inb : ∀ a, off a + S1x512x1024.size a ≤ S3x512x1024.size a) (inb' : ∀ a, (![s, 0, 0] : Fin 3 → ℕ) a + S1x512x1024.size a ≤ S3x512x1024.size a)
    (w : S512x1024.Idx → Elt Ideal e) (p : Fin 512) (q : Fin 1024) :
    M.view.readAt (Elt Ideal) (Rect.unit (s := S3x512x1024) off S1x512x1024.size inb).toLoadRect
      (((M.slice (Rect.unit (s := S3x512x1024) ![s, 0, 0] S1x512x1024.size inb') (fun _ => rfl)).squeeze S512x1024 squeezes_S1x512x1024_S512x1024).view.writes
        (Elt Ideal) (View.junk _) [⟨Rect.whole S512x1024, w⟩]) (ix3 0 p q) = w (ix2 p q) := by
  subst h
  have k := congrFun (((M.slice (Rect.unit (s := S3x512x1024) ![s, 0, 0] S1x512x1024.size inb') (fun _ => rfl)).squeeze S512x1024
    squeezes_S1x512x1024_S512x1024).view.read_writes_whole (Val := Elt Ideal) (View.junk _) w) (ix2 p q)
  refine Eq.trans ?_ k
  exact (congrArg (fun i => M.view.read (Elt Ideal) _ ((Rect.unit (s := S3x512x1024) ![s, 0, 0] S1x512x1024.size inb').emb i))
    (Idealize.ShloMosaic.ValueIdx.reshapeEquiv_ix2_1ab squeezes_S1x512x1024_S512x1024.numel_eq p q)).symm

/-- The stream's rows a point reads from their slot. -/
abbrev slotX : Vec Ideal S1x512x1024 .f32 := View.readAt (Elt Ideal) (View.whole cc0_scratch0)
  (Rect.unit (s := S3x512x1024) (k0_off9 (grid0.coords t)) S1x512x1024.size (k0_off9_inb (grid0.coords t))).toLoadRect
  ((rslot0_0 (Ring.sl 3 t.val)).view.writes (Elt Ideal) (rslot0_0 (Ring.sl 3 t.val)).view.junk
    [⟨Rect.whole S512x1024, ReadAs.same.apply ((srcB0_0 (Ring.bk 32 t.val)).view.read (Elt Ideal) (V m c main_arg0))⟩])

theorem slotX_at (p : Fin 512) (q : Fin 1024) (h : 512 * t.val + p.val < 16384) :
    slotX m c t (ix3 0 p q) = V m c main_arg0 (ix2 (⟨512 * t.val + p.val, h⟩ : Fin 16384) q) := by
  have ht : t.val < 32 := lt_of_lt_of_eq t.isLt N_0
  refine (slot_read scM0_0 _ _ (coff0_0_13 t) _ _ _ p q).trans ?_
  refine congrArg (V m c main_arg0) (show (Rect.unit (s := S16384x1024) ![512 * (Ring.bk 32 t.val).val, 0] S512x1024.size (inb_src0_0 _)).emb (ix2 p q)
    = ix2 (⟨512 * t.val + p.val, h⟩ : Fin 16384) q from ?_)
  have hb : (Ring.bk 32 t.val).val = t.val := Nat.mod_eq_of_lt ht
  blk_ext [hb]

/-- The sub-layer's output's rows a point reads from their slot. -/
abbrev slotY : Vec Ideal S1x512x1024 .bf16 := View.readAt (Elt Ideal) (View.whole cc0_scratch1)
  (Rect.unit (s := S3x512x1024) (k0_off9 (grid0.coords t)) S1x512x1024.size (k0_off9_inb (grid0.coords t))).toLoadRect
  ((rslot0_1 (Ring.sl 3 t.val)).view.writes (Elt Ideal) (rslot0_1 (Ring.sl 3 t.val)).view.junk
    [⟨Rect.whole S512x1024, ReadAs.same.apply ((srcB0_1 (Ring.bk 32 t.val)).view.read (Elt Ideal) (V m c main_v0))⟩])

theorem slotY_at (p : Fin 512) (q : Fin 1024) (h : 512 * t.val + p.val < 16384) :
    slotY m c t (ix3 0 p q) = V m c main_v0 (ix2 (⟨512 * t.val + p.val, h⟩ : Fin 16384) q) := by
  have ht : t.val < 32 := lt_of_lt_of_eq t.isLt N_0
  refine (slot_read scM0_1 _ _ (coff0_1_13 t) _ _ _ p q).trans ?_
  refine congrArg (V m c main_v0) (show (Rect.unit (s := S16384x1024) ![512 * (Ring.bk 32 t.val).val, 0] S512x1024.size (inb_src0_1 _)).emb (ix2 p q)
    = ix2 (⟨512 * t.val + p.val, h⟩ : Fin 16384) q from ?_)
  have hb : (Ring.bk 32 t.val).val = t.val := Nat.mod_eq_of_lt ht
  blk_ext [hb]

/-- The stream's cotangent's rows a point reads from their slot. -/
abbrev slotE : Vec Ideal S1x512x1024 .f32 := View.readAt (Elt Ideal) (View.whole cc0_scratch2)
  (Rect.unit (s := S3x512x1024) (k0_off9 (grid0.coords t)) S1x512x1024.size (k0_off9_inb (grid0.coords t))).toLoadRect
  ((rslot0_2 (Ring.sl 3 t.val)).view.writes (Elt Ideal) (rslot0_2 (Ring.sl 3 t.val)).view.junk
    [⟨Rect.whole S512x1024, ReadAs.same.apply ((srcB0_2 (Ring.bk 32 t.val)).view.read (Elt Ideal) (V m c main_arg2))⟩])

theorem slotE_at (p : Fin 512) (q : Fin 1024) (h : 512 * t.val + p.val < 16384) :
    slotE m c t (ix3 0 p q) = V m c main_arg2 (ix2 (⟨512 * t.val + p.val, h⟩ : Fin 16384) q) := by
  have ht : t.val < 32 := lt_of_lt_of_eq t.isLt N_0
  refine (slot_read scM0_2 _ _ (coff0_2_13 t) _ _ _ p q).trans ?_
  refine congrArg (V m c main_arg2) (show (Rect.unit (s := S16384x1024) ![512 * (Ring.bk 32 t.val).val, 0] S512x1024.size (inb_src0_2 _)).emb (ix2 p q)
    = ix2 (⟨512 * t.val + p.val, h⟩ : Fin 16384) q from ?_)
  have hb : (Ring.bk 32 t.val).val = t.val := Nat.mod_eq_of_lt ht
  blk_ext [hb]

/-- The normed stream's cotangent's rows a point reads from their slot. -/
abbrev slotH : Vec Ideal S1x512x1024 .bf16 := View.readAt (Elt Ideal) (View.whole cc0_scratch3)
  (Rect.unit (s := S3x512x1024) (k0_off9 (grid0.coords t)) S1x512x1024.size (k0_off9_inb (grid0.coords t))).toLoadRect
  ((rslot0_3 (Ring.sl 3 t.val)).view.writes (Elt Ideal) (rslot0_3 (Ring.sl 3 t.val)).view.junk
    [⟨Rect.whole S512x1024, ReadAs.same.apply ((srcB0_3 (Ring.bk 32 t.val)).view.read (Elt Ideal) (V m c main_v1))⟩])

theorem slotH_at (p : Fin 512) (q : Fin 1024) (h : 512 * t.val + p.val < 16384) :
    slotH m c t (ix3 0 p q) = V m c main_v1 (ix2 (⟨512 * t.val + p.val, h⟩ : Fin 16384) q) := by
  have ht : t.val < 32 := lt_of_lt_of_eq t.isLt N_0
  refine (slot_read scM0_3 _ _ (coff0_3_13 t) _ _ _ p q).trans ?_
  refine congrArg (V m c main_v1) (show (Rect.unit (s := S16384x1024) ![512 * (Ring.bk 32 t.val).val, 0] S512x1024.size (inb_src0_3 _)).emb (ix2 p q)
    = ix2 (⟨512 * t.val + p.val, h⟩ : Fin 16384) q from ?_)
  have hb : (Ring.bk 32 t.val).val = t.val := Nat.mod_eq_of_lt ht
  blk_ext [hb]

end Cert.MidIdeal.Grid

end
-- ==== Proof.Mid.Spec.lean ====
/- The derivative of the norms between the sub-layers: what each of its results holds, over the real numbers. -/
module

public import proofs.«01_k».proof.Proof.Gen.MidRefIdeal.Run
public import proofs.«01_k».proof.Proof.Norm.Real
public import Idealize.ShloMosaic.Lib.Pointwise

@[expose] public section

set_option maxRecDepth 16384

noncomputable section

namespace Cert.MidRefIdeal.Spec

open Cert.MidRefIdeal Cert.MidRefIdeal.Gen Idealize.ShloMosaic Idealize.ShloMosaic.TcCoe Idealize.SL.Sem Cert.Proof.Norm

/-- The arrays of one device, read as real numbers: the stream, the sub-layer's output, the two cotangents, the gate, the two weights,
    the scale and the shift. -/
structure Reals where
  x : ℕ → ℕ → ℝ
  y : ℕ → ℕ → ℝ
  e : ℕ → ℕ → ℝ
  h : ℕ → ℕ → ℝ
  a : ℕ → ℕ → ℝ
  g : ℕ → ℕ → ℝ
  w : ℕ → ℕ → ℝ
  s : ℕ → ℕ → ℝ

variable (d : Reals)

/-- The stream after the sub-layer: the gated, weighted normed output added. -/
def stream (p q : ℕ) : ℝ := d.x p q + unit 1024 d.y p q * (d.a 0 q * d.g 0 q)

/-- The gradient in the stream: what comes past the norm, and what comes through it. -/
def dx (p q : ℕ) : ℝ := d.e p q + grad 1024 (stream d) (fun p q => d.h p q * (d.w 0 q * (1 + d.s 0 q))) p q

/-- The gradient in the sub-layer's output. -/
def dy (p q : ℕ) : ℝ := grad 1024 d.y (fun p q => dx d p q * (d.a 0 q * d.g 0 q)) p q

/-- The gradient in the product of the gate and the first weight. -/
def both (q : ℕ) : ℝ := ∑ r : Fin 16384, dx d r q * unit 1024 d.y r q

/-- The gradient in the product of the second weight and the scale. -/
def scaled (q : ℕ) : ℝ := ∑ r : Fin 16384, d.h r q * unit 1024 (stream d) r q

def da (_ q : ℕ) : ℝ := both d q * d.g 0 q

def dg (_ q : ℕ) : ℝ := both d q * d.a 0 q

def dw (_ q : ℕ) : ℝ := scaled d q * (1 + d.s 0 q)

def ds (_ q : ℕ) : ℝ := scaled d q * d.w 0 q

def dt (_ q : ℕ) : ℝ := ∑ r : Fin 16384, d.h r q

variable (m : (ℓ : Loc nD τ sig) → Buf (Elt Ideal) ℓ)

/-- The arrays before the run are the numbers `d` gives. -/
def Reads (c : Dev nD) : Prop :=
  Is (φ := .f32) (m ((c.tc : Thread nD τ).loc main_arg0)) d.x ∧ Is (φ := .f32) (m ((c.tc : Thread nD τ).loc main_arg1)) d.y
    ∧ Is (φ := .f32) (m ((c.tc : Thread nD τ).loc main_arg2)) d.e ∧ Is (φ := .f32) (m ((c.tc : Thread nD τ).loc main_arg3)) d.h
    ∧ Is (φ := .f32) (m ((c.tc : Thread nD τ).loc main_arg4)) d.a ∧ Is (φ := .f32) (m ((c.tc : Thread nD τ).loc main_arg5)) d.g
    ∧ Is (φ := .f32) (m ((c.tc : Thread nD τ).loc main_arg6)) d.w ∧ Is (φ := .f32) (m ((c.tc : Thread nD τ).loc main_arg7)) d.s

/-- The stream, as the program writes it. -/
theorem stream_eq (p k : ℕ) : d.x p k + d.a 0 k * (d.y p k * inv 1024 d.y p * d.g 0 k) = stream d p k := by
  rw [stream, unit]
  ring

/-- The weight of the stream in the gradient that comes through the norm, as the program writes it. -/
def slope (p : ℕ) : ℝ := (∑ i : Fin 1024, stream d p i * (d.h p i * (1 + d.s 0 i) * d.w 0 i))
  * (-(1 / 2) * (inv 1024 (stream d) p * (1 / level 1024 (stream d) p))) * (1 / 1024)

theorem dx_eq (p q : ℕ) : d.e p q + d.h p q * (1 + d.s 0 q) * d.w 0 q * inv 1024 (stream d) p
      + stream d p q * ((∑ i : Fin 1024, stream d p i * (d.h p i * (1 + d.s 0 i) * d.w 0 i))
        * (-(1 / 2) * (inv 1024 (stream d) p * (1 / level 1024 (stream d) p))) * (1 / 1024))
      + (∑ i : Fin 1024, stream d p i * (d.h p i * (1 + d.s 0 i) * d.w 0 i))
        * (-(1 / 2) * (inv 1024 (stream d) p * (1 / level 1024 (stream d) p))) * (1 / 1024) * stream d p q = dx d p q := by
  rw [dx, ← grad_eq 1024 _ _ _ _ (slope d p) ?_]
  · rw [slope]; ring
  · simp only [slope, Nat.cast_ofNat]
    refine congrArg (· * _ * _) (Finset.sum_congr rfl fun k _ => by ring)

set_option maxHeartbeats 3200000 in
theorem run (ρ : Dev nD → PrngReg) (d : Dev nD → Reals) (H : ∀ c : Dev nD, Reads (d c) m c) :
    θ_run defs (onTc (τ := τ) (main (F := Ideal))) ⟨m, fun _ => 0, ρ⟩ fun r => ∀ c : Dev nD,
      r.2.mem ((c.tc : Thread nD τ).loc main_v66) = arr (φ := .f32) (dx (d c))
      ∧ r.2.mem ((c.tc : Thread nD τ).loc main_v92) = arr (φ := .bf16) (dy (d c))
      ∧ r.2.mem ((c.tc : Thread nD τ).loc main_v72) = arr (φ := .f32) (da (d c))
      ∧ r.2.mem ((c.tc : Thread nD τ).loc main_v75) = arr (φ := .f32) (dg (d c))
      ∧ r.2.mem ((c.tc : Thread nD τ).loc main_v49) = arr (φ := .f32) (dw (d c))
      ∧ r.2.mem ((c.tc : Thread nD τ).loc main_v44) = arr (φ := .f32) (ds (d c))
      ∧ r.2.mem ((c.tc : Thread nD τ).loc main_v41) = arr (φ := .f32) (dt (d c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) := by
  refine (θ_run defs _ _).mono (fun r k c => ?_) (Value.run m ρ)
  obtain ⟨k0, k1, k2, k3, k4, k5, k6, kr⟩ := k c
  obtain ⟨h0, h1, h2, h3, h4, h5, h6, h7⟩ := H c
  refine ⟨k0.trans (eq_arr fun p q => ?_), k1.trans (eq_arr fun p q => ?_), k2.trans (eq_arr fun p q => ?_),
    k3.trans (eq_arr fun p q => ?_), k4.trans (eq_arr fun p q => ?_), k5.trans (eq_arr fun p q => ?_), k6.trans (eq_arr fun p q => ?_), kr⟩
    <;> clear k0 k1 k2 k3 k4 k5 k6 kr
  on_goal 1 => unfold Value.res_main_v66
  on_goal 2 => unfold Value.res_main_v92
  on_goal 3 => unfold Value.res_main_v72
  on_goal 4 => unfold Value.res_main_v75
  all_goals
    pointwise
    simp only [h0 _ _, h1 _ _, h2 _ _, h3 _ _, h4 _ _, h5 _ _, h6 _ _, h7 _ _, word_1024, word_eps, word_neg_half, one_real, ← EReal.coe_mul,
      ← EReal.coe_add, ← EReal.coe_sub, coe_sum, div_1024, level_1024, rsqrt_level, div_level, stream_eq, dx_eq, Fin.sum_univ_one, Fin.val_eq_zero]
  all_goals refine congrArg _ ?_
  · rw [dy, ← grad_eq 1024 _ _ _ _ _ rfl]
    have e (k : ℕ) : (d c).a 0 k * dx (d c) p k * (d c).g 0 k = dx (d c) p k * ((d c).a 0 k * (d c).g 0 k) := by ring
    simp only [e, Nat.cast_ofNat]
  · simp only [da, both, unit, Finset.sum_mul]
    exact Finset.sum_congr rfl fun k _ => by ring
  · simp only [dg, both, unit, Finset.sum_mul]
    exact Finset.sum_congr rfl fun k _ => by ring
  · simp only [dw, scaled, unit, Finset.sum_mul]
    exact Finset.sum_congr rfl fun k _ => by ring
  · simp only [ds, scaled, unit, Finset.sum_mul]
    exact Finset.sum_congr rfl fun k _ => by ring
  · rfl

end Cert.MidRefIdeal.Spec
-- ==== Proof.Mid.Kernel.lean ====
/- The gradient between the sub-layers: what a grid point stores, and the arrays the grid leaves. -/
module

public import proofs.«01_k».proof.Proof.Mid.Frame
public import proofs.«01_k».proof.Proof.Mid.Ring
public import proofs.«01_k».proof.Proof.Mid.Spec
public import Idealize.ShloMosaic.Lib.Pipeline.ValueKit

@[expose] public section

set_option maxRecDepth 16384

noncomputable section

namespace Cert.MidIdeal.Grid

open Cert.MidIdeal Cert.MidIdeal.Gen Idealize.ShloMosaic Idealize.ShloMosaic.TcCoe Idealize.SL.Sem Cert.Proof.Norm
open Idealize.ShloMosaic.Pipeline (Dat)
open Cert.MidRefIdeal.Spec

variable (m : (ℓ : Loc nD τ sig) → Buf (Elt Ideal) ℓ) {d : Reals}

theorem idx : ∀ t : Fin cfg0.N, win0_0.index t = ![0, 0]
    ∧ win0_1.index t = ![0, 0]
    ∧ win0_2.index t = ![0, 0]
    ∧ win0_3.index t = ![0, 0]
    ∧ win0_4.index t = ![0, 0]
    ∧ win0_5.index t = ![t.val, 0]
    ∧ win0_6.index t = ![t.val, 0]
    ∧ win0_7.index t = ![0, 0]
    ∧ win0_8.index t = ![0, 0]
    ∧ win0_9.index t = ![0, 0]
    ∧ win0_10.index t = ![0, 0]
    ∧ win0_11.index t = ![0, 0] :=
  (by decide +kernel : ∀ t : Fin grid0.N, _)

section Tile

variable {x e y h : FVec Ideal S512x1024 .f32} {r : FVec Ideal S512x1 .f32} {a g w s : FVec Ideal S1x1024 .f32}
  (hx : Is x d.x) (he : Is e d.e) (hy : Is y d.y) (hh : Is h d.h) (hr : Is r (fun p _ => inv 1024 d.y p))
  (ha : Is a d.a) (hg : Is g d.g) (hw : Is w d.w) (hs : Is s d.s)

include hy hr in
theorem unit_at : Is (k0_pay11 y r) (unit 1024 d.y) := fun p q => by
  pointwise [k0_pay11]
  simp only [hy _ _, hr _ _, ← EReal.coe_mul, unit]

include hx hy hr ha hg in
theorem stream_at : Is (k0_pay13 x a g y r) (stream d) := fun p q => by
  pointwise [k0_pay13, k0_pay12]
  simp only [hx _ _, ha _ _, hg _ _, unit_at hy hr _ _, ← EReal.coe_mul, ← EReal.coe_add, stream, Fin.val_zero]

include hx hy hr ha hg in
theorem inv_at : Is (k0_pay14 x a g y r) (fun p _ => inv 1024 (stream d) p) := fun p q => by
  pointwise [k0_pay14]
  simp only [stream_at hx hy hr ha hg _ _, word_1024, word_eps, ← EReal.coe_mul, ← EReal.coe_add, coe_sum, div_1024, level_1024, rsqrt_level]

include hx hy hr ha hg in
theorem normed_at : Is (k0_pay15 x a g y r) (unit 1024 (stream d)) := fun p q => by
  pointwise [k0_pay15]
  simp only [stream_at hx hy hr ha hg _ _, inv_at hx hy hr ha hg _ _, ← EReal.coe_mul, unit]

include hx hy hh hr ha hg in
theorem scaled_at : Is (k0_pay16 x a g y h r) (fun _ q => ∑ r : Fin 512, d.h r q * unit 1024 (stream d) r q) := fun p q => by
  pointwise [k0_pay16]
  simp only [hh _ _, normed_at hx hy hr ha hg _ _, ← EReal.coe_mul, coe_sum]

include hx he hy hh hr ha hg hw hs in
theorem dx_at : Is (k0_pay17 x e a g w s y h r) (dx d) := fun p q => by
  pointwise [k0_pay17]
  simp only [he _ _, hh _ _, hw _ _, hs _ _, normed_at hx hy hr ha hg _ _, inv_at hx hy hr ha hg _ _, word_1, word_1024, one_real,
    ← EReal.coe_mul, ← EReal.coe_add, ← EReal.coe_sub, coe_sum, div_1024, dx, grad, Fin.val_zero, Nat.cast_ofNat]

include hx he hy hh hr ha hg hw hs in
theorem both_at : Is (k0_pay18 x e a g w s y h r) (fun _ q => ∑ r : Fin 512, dx d r q * unit 1024 d.y r q) := fun p q => by
  pointwise [k0_pay18]
  simp only [dx_at hx he hy hh hr ha hg hw hs _ _, unit_at hy hr _ _, ← EReal.coe_mul, coe_sum]

include hx he hy hh hr ha hg hw hs in
theorem dy_at : Is (k0_pay20 (k0_pay19 x e a g w s y h r)) (dy d) := fun p q => by
  pointwise [k0_pay20, k0_pay19, k0_pay12]
  simp only [dx_at hx he hy hh hr ha hg hw hs _ _, unit_at hy hr _ _, hr _ _, ha _ _, hg _ _, word_1024,
    ← EReal.coe_mul, ← EReal.coe_sub, coe_sum, div_1024, dy, grad, Fin.val_zero, Nat.cast_ofNat]

variable (b : FVec Ideal S1x1024 .f32) (j : S1x1024.Idx)

include hx he hy hh hr ha hg hw hs in
theorem da_at : k0_pay21 g (k0_pay18 x e a g w s y h r) b j
    = b j + (((∑ r : Fin 512, dx d r (j 1) * unit 1024 d.y r (j 1)) * d.g 0 (j 1) : ℝ) : EReal) := by
  idx_vars j
  pointwise [k0_pay21]
  simp only [both_at hx he hy hh hr ha hg hw hs _ _, hg _ _, ← EReal.coe_mul, Fin.val_eq_zero]

include hx he hy hh hr ha hg hw hs in
theorem dg_at : k0_pay22 a (k0_pay18 x e a g w s y h r) b j
    = b j + (((∑ r : Fin 512, dx d r (j 1) * unit 1024 d.y r (j 1)) * d.a 0 (j 1) : ℝ) : EReal) := by
  idx_vars j
  pointwise [k0_pay22]
  simp only [both_at hx he hy hh hr ha hg hw hs _ _, ha _ _, ← EReal.coe_mul, Fin.val_eq_zero]

include hx hy hh hr ha hg hs in
theorem dw_at : k0_pay23 s (k0_pay16 x a g y h r) b j
    = b j + (((∑ r : Fin 512, d.h r (j 1) * unit 1024 (stream d) r (j 1)) * (1 + d.s 0 (j 1)) : ℝ) : EReal) := by
  idx_vars j
  pointwise [k0_pay23]
  simp only [scaled_at hx hy hh hr ha hg _ _, hs _ _, word_1, one_real, ← EReal.coe_mul, ← EReal.coe_add, Fin.val_eq_zero]

include hx hy hh hr ha hg hw in
theorem ds_at : k0_pay24 w (k0_pay16 x a g y h r) b j
    = b j + (((∑ r : Fin 512, d.h r (j 1) * unit 1024 (stream d) r (j 1)) * d.w 0 (j 1) : ℝ) : EReal) := by
  idx_vars j
  pointwise [k0_pay24]
  simp only [scaled_at hx hy hh hr ha hg _ _, hw _ _, ← EReal.coe_mul, Fin.val_eq_zero]

include hh in
theorem dt_at : k0_pay25 h b j = b j + (((∑ r : Fin 512, d.h r (j 1)) * 1 : ℝ) : EReal) := by
  idx_vars j
  pointwise [k0_pay25]
  simp only [hh _ _, coe_sum, mul_one]

end Tile

section Point

variable (c : Dev nD) (t : Fin cfg0.N)

/-- The arrays at the launch are the numbers `d` gives. -/
def Reads (d : Reals) : Prop :=
  Is (φ := .f32) (m ((c : Thread nD τ).loc main_arg0)) d.x ∧ Is (φ := .f32) (m ((c : Thread nD τ).loc main_arg1)) d.y
    ∧ Is (φ := .f32) (m ((c : Thread nD τ).loc main_arg2)) d.e ∧ Is (φ := .f32) (m ((c : Thread nD τ).loc main_arg3)) d.h
    ∧ Is (φ := .f32) (m ((c : Thread nD τ).loc main_arg4)) d.a ∧ Is (φ := .f32) (m ((c : Thread nD τ).loc main_arg5)) d.g
    ∧ Is (φ := .f32) (m ((c : Thread nD τ).loc main_arg6)) d.w ∧ Is (φ := .f32) (m ((c : Thread nD τ).loc main_arg7)) d.s

/-- The numbers of the rows of point `t`. -/
def cut (t : ℕ) (d : Reals) : Reals := { d with x := tile t d.x, y := tile t d.y, e := tile t d.e, h := tile t d.h }

variable {m c} (H : Reads m c d)

include H

theorem x_tile : Is (k0_pay6 (slotX m c t)) (cut t d).x := fun p q => by
  have ht : t.val < 32 := lt_of_lt_of_eq t.isLt N_0
  pointwise [k0_pay6]
  exact (slotX_at m c t p q (by omega)).trans ((congrFun (V_main_arg0 m c) _).trans (H.1 _ q))

theorem e_tile : Is (k0_pay7 (slotE m c t)) (cut t d).e := fun p q => by
  have ht : t.val < 32 := lt_of_lt_of_eq t.isLt N_0
  pointwise [k0_pay7]
  exact (slotE_at m c t p q (by omega)).trans ((congrFun (V_main_arg2 m c) _).trans (H.2.2.1 _ q))

theorem y_host : Is (φ := .bf16) (V m c main_v0) d.y := fun p q => by
  unfold V
  after_results_simp
  pointwise
  exact H.2.1 p q

theorem h_host : Is (φ := .bf16) (V m c main_v1) d.h := fun p q => by
  unfold V
  after_results_simp
  pointwise
  exact H.2.2.2.1 p q

theorem y_tile : Is (k0_pay8 (slotY m c t)) (cut t d).y := fun p q => by
  have ht : t.val < 32 := lt_of_lt_of_eq t.isLt N_0
  pointwise [k0_pay8]
  exact (slotY_at m c t p q (by omega)).trans (y_host H _ q)

theorem h_tile : Is (k0_pay9 (slotH m c t)) (cut t d).h := fun p q => by
  have ht : t.val < 32 := lt_of_lt_of_eq t.isLt N_0
  pointwise [k0_pay9]
  exact (slotH_at m c t p q (by omega)).trans (h_host H _ q)

theorem r_tile : Is (k0_pay10 (slotY m c t)) (fun p _ => inv 1024 (cut t d).y p) := fun p q => by
  pointwise [k0_pay10]
  simp only [y_tile t H _ _, word_1024, word_eps, ← EReal.coe_mul, ← EReal.coe_add, coe_sum, div_1024, level_1024, rsqrt_level]

theorem a_blk : Is (φ := .f32) (iblk m c 0 t) (cut t d).a := fun p q => by
  refine Eq.trans ?_ (H.2.2.2.2.1 p q)
  obtain ⟨e, -⟩ := idx t
  blk_ext [iblk, V, e]

theorem g_blk : Is (φ := .f32) (iblk m c 1 t) (cut t d).g := fun p q => by
  refine Eq.trans ?_ (H.2.2.2.2.2.1 p q)
  obtain ⟨-, e, -⟩ := idx t
  blk_ext [iblk, V, e]

theorem w_blk : Is (φ := .f32) (iblk m c 2 t) (cut t d).w := fun p q => by
  refine Eq.trans ?_ (H.2.2.2.2.2.2.1 p q)
  obtain ⟨-, -, e, -⟩ := idx t
  blk_ext [iblk, V, e]

theorem s_blk : Is (φ := .f32) (iblk m c 3 t) (cut t d).s := fun p q => by
  refine Eq.trans ?_ (H.2.2.2.2.2.2.2 p q)
  obtain ⟨-, -, -, e, -⟩ := idx t
  blk_ext [iblk, V, e]

end Point

section Final

variable {c : Dev nD} (H : Reads m c d)

include H

theorem out_5 (t : Fin cfg0.N) : Is (φ := .f32) (outsAt m c t.val t.isLt).1 (dx (cut t d)) := fun p q => by
  by_cases k : t.val % 32 = 0
  · rw [outsAt_first m c t k (by have := lt_of_lt_of_eq t.isLt N_0; omega)]
    unfold first blocks runFirst; frame_out
    exact dx_at (x_tile t H) (e_tile t H) (y_tile t H) (h_tile t H) (r_tile t H) (a_blk t H) (g_blk t H) (w_blk t H) (s_blk t H) p q
  by_cases k' : t.val < 30
  · rw [outsAt_middle m c t k k']; unfold middle blocks runMiddle; frame_out
    exact dx_at (x_tile t H) (e_tile t H) (y_tile t H) (h_tile t H) (r_tile t H) (a_blk t H) (g_blk t H) (w_blk t H) (s_blk t H) p q
  · rw [outsAt_last m c t k k']; unfold last blocks runLast; frame_out
    exact dx_at (x_tile t H) (e_tile t H) (y_tile t H) (h_tile t H) (r_tile t H) (a_blk t H) (g_blk t H) (w_blk t H) (s_blk t H) p q

theorem out_6 (t : Fin cfg0.N) : Is (φ := .bf16) (outsAt m c t.val t.isLt).2.1 (dy (cut t d)) := fun p q => by
  by_cases k : t.val % 32 = 0
  · rw [outsAt_first m c t k (by have := lt_of_lt_of_eq t.isLt N_0; omega)]
    unfold first blocks runFirst; frame_out
    exact dy_at (x_tile t H) (e_tile t H) (y_tile t H) (h_tile t H) (r_tile t H) (a_blk t H) (g_blk t H) (w_blk t H) (s_blk t H) p q
  by_cases k' : t.val < 30
  · rw [outsAt_middle m c t k k']; unfold middle blocks runMiddle; frame_out
    exact dy_at (x_tile t H) (e_tile t H) (y_tile t H) (h_tile t H) (r_tile t H) (a_blk t H) (g_blk t H) (w_blk t H) (s_blk t H) p q
  · rw [outsAt_last m c t k k']; unfold last blocks runLast; frame_out
    exact dy_at (x_tile t H) (e_tile t H) (y_tile t H) (h_tile t H) (r_tile t H) (a_blk t H) (g_blk t H) (w_blk t H) (s_blk t H) p q

theorem final_5 : (dats m 0 c).arrAt 5 (cfgs 0).N = arr (a := 16384) (b := 1024) (φ := .f32) (dx d) := by
  refine (dats m 0 c).arrAt_eq_of_covers 5 _ (by decide +kernel) fun t hf i => ?_
  have ht : t.val < 32 := lt_of_lt_of_eq t.isLt N_0
  blk_simp
  idx_vars i
  have e : (win0_5.blk t).view.emb (ix2 i0 i1) = ix2 (⟨512 * t.val + i0.val, by omega⟩ : Fin 16384) i1 := by
    obtain ⟨-, -, -, -, -, e, -⟩ := idx t
    blk_ext [e]
  rw [after_5]
  exact (out_5 m H t i0 i1).trans (congrArg (arr (a := 16384) (b := 1024) (φ := .f32) (dx d)) e).symm

theorem final_6 : (dats m 0 c).arrAt 6 (cfgs 0).N = arr (a := 16384) (b := 1024) (φ := .bf16) (dy d) := by
  refine (dats m 0 c).arrAt_eq_of_covers 6 _ (by decide +kernel) fun t hf i => ?_
  have ht : t.val < 32 := lt_of_lt_of_eq t.isLt N_0
  blk_simp
  idx_vars i
  have e : (win0_6.blk t).view.emb (ix2 i0 i1) = ix2 (⟨512 * t.val + i0.val, by omega⟩ : Fin 16384) i1 := by
    obtain ⟨-, -, -, -, -, -, e, -⟩ := idx t
    blk_ext [e]
  rw [after_6]
  exact (out_6 m H t i0 i1).trans (congrArg (arr (a := 16384) (b := 1024) (φ := .bf16) (dy d)) e).symm

omit H in
/-- A block that starts at zero and takes each point's sum over its rows ends at the sum over all rows. -/
theorem sum_at (o : Outs Ideal → FVec Ideal S1x1024 .f32) (f : ℕ → ℕ → ℝ) (a : ℕ → ℝ)
    (h0 : ∀ (t : Fin cfg0.N) k k' j, o (first m c t k k') j = ((((∑ r : Fin 512, f (512 * t.val + r) (j 1)) * a (j 1) : ℝ) : EReal)))
    (h1 : ∀ (t : Fin cfg0.N) k k' b j, o (middle m c t k k' b) j = o b j + ((((∑ r : Fin 512, f (512 * t.val + r) (j 1)) * a (j 1) : ℝ) : EReal)))
    (h2 : ∀ (t : Fin cfg0.N) k k' b j, o (last m c t k k' b) j = o b j + ((((∑ r : Fin 512, f (512 * t.val + r) (j 1)) * a (j 1) : ℝ) : EReal)))
    (t : Fin cfg0.N) (hf : t.val = 31) (j : S1x1024.Idx) :
    o (outsAt m c t.val t.isLt) j = (((∑ r : Fin 16384, f r (j 1)) * a (j 1) : ℝ) : EReal) := by
  rw [Pipeline.eq_sum_fin_of_reset_step_apply_of_flush (fun n h => o (outsAt m c n h)) 32 (fun _ => 0)
    (fun t j => (((∑ r : Fin 512, f (512 * t.val + r) (j 1)) * a (j 1) : ℝ) : EReal))
    (fun t k j => by
      rw [outsAt_first m c t k (by have := lt_of_lt_of_eq t.isLt N_0; omega), h0, zero_add])
    (fun t k j => by
      by_cases k' : t.val < 30
      · rw [outsAt_middle m c t k k', h1]
      · rw [outsAt_last m c t k k', h2])
    t (by omega) _, zero_add]
  exact sum_tiles_mul (fun r => f r (j 1)) _ t (lt_of_lt_of_eq t.isLt N_0)

theorem final_7 : (dats m 0 c).arrAt 7 (cfgs 0).N = arr (a := 1) (b := 1024) (φ := .f32) (da d) := by
  refine (dats m 0 c).arrAt_eq_of_covers 7 _ (by decide +kernel) fun t hf i => ?_
  have e : (win0_7.blk t).view.emb i = i := by
    obtain ⟨-, -, -, -, -, -, -, e, -⟩ := idx t
    blk_ext [e]
  blk_simp
  rw [after_7, sum_at m (fun o => o.2.2.1) (fun r q => dx d r q * unit 1024 d.y r q) (fun q => d.g 0 q)
    (fun t k k' j => by
      dsimp only; unfold first blocks runFirst; frame_out
      exact (da_at (x_tile t H) (e_tile t H) (y_tile t H) (h_tile t H) (r_tile t H) (a_blk t H) (g_blk t H) (w_blk t H) (s_blk t H) _ j).trans (by rw [show k0_pay1 (F := Ideal) j = 0 by pointwise [k0_pay1], zero_add]; rfl))
    (fun t k k' b j => by dsimp only; unfold middle blocks runMiddle; frame_out; exact da_at (x_tile t H) (e_tile t H) (y_tile t H) (h_tile t H) (r_tile t H) (a_blk t H) (g_blk t H) (w_blk t H) (s_blk t H) _ j)
    (fun t k k' b j => by dsimp only; unfold last blocks runLast; frame_out; exact da_at (x_tile t H) (e_tile t H) (y_tile t H) (h_tile t H) (r_tile t H) (a_blk t H) (g_blk t H) (w_blk t H) (s_blk t H) _ j)
    t (by have := (flush0_7 t).mp hf; have := lt_of_lt_of_eq t.isLt N_0; omega) i, e]
  exact rfl

theorem final_8 : (dats m 0 c).arrAt 8 (cfgs 0).N = arr (a := 1) (b := 1024) (φ := .f32) (dg d) := by
  refine (dats m 0 c).arrAt_eq_of_covers 8 _ (by decide +kernel) fun t hf i => ?_
  have e : (win0_8.blk t).view.emb i = i := by
    obtain ⟨-, -, -, -, -, -, -, -, e, -⟩ := idx t
    blk_ext [e]
  blk_simp
  rw [after_8, sum_at m (fun o => o.2.2.2.1) (fun r q => dx d r q * unit 1024 d.y r q) (fun q => d.a 0 q)
    (fun t k k' j => by
      dsimp only; unfold first blocks runFirst; frame_out
      exact (dg_at (x_tile t H) (e_tile t H) (y_tile t H) (h_tile t H) (r_tile t H) (a_blk t H) (g_blk t H) (w_blk t H) (s_blk t H) _ j).trans (by rw [show k0_pay2 (F := Ideal) j = 0 by pointwise [k0_pay2], zero_add]; rfl))
    (fun t k k' b j => by dsimp only; unfold middle blocks runMiddle; frame_out; exact dg_at (x_tile t H) (e_tile t H) (y_tile t H) (h_tile t H) (r_tile t H) (a_blk t H) (g_blk t H) (w_blk t H) (s_blk t H) _ j)
    (fun t k k' b j => by dsimp only; unfold last blocks runLast; frame_out; exact dg_at (x_tile t H) (e_tile t H) (y_tile t H) (h_tile t H) (r_tile t H) (a_blk t H) (g_blk t H) (w_blk t H) (s_blk t H) _ j)
    t (by have := (flush0_8 t).mp hf; have := lt_of_lt_of_eq t.isLt N_0; omega) i, e]
  exact rfl

theorem final_9 : (dats m 0 c).arrAt 9 (cfgs 0).N = arr (a := 1) (b := 1024) (φ := .f32) (dw d) := by
  refine (dats m 0 c).arrAt_eq_of_covers 9 _ (by decide +kernel) fun t hf i => ?_
  have e : (win0_9.blk t).view.emb i = i := by
    obtain ⟨-, -, -, -, -, -, -, -, -, e, -⟩ := idx t
    blk_ext [e]
  blk_simp
  rw [after_9, sum_at m (fun o => o.2.2.2.2.1) (fun r q => d.h r q * unit 1024 (stream d) r q) (fun q => 1 + d.s 0 q)
    (fun t k k' j => by
      dsimp only; unfold first blocks runFirst; frame_out
      exact (dw_at (x_tile t H) (y_tile t H) (h_tile t H) (r_tile t H) (a_blk t H) (g_blk t H) (s_blk t H) _ j).trans (by rw [show k0_pay3 (F := Ideal) j = 0 by pointwise [k0_pay3], zero_add]; rfl))
    (fun t k k' b j => by dsimp only; unfold middle blocks runMiddle; frame_out; exact dw_at (x_tile t H) (y_tile t H) (h_tile t H) (r_tile t H) (a_blk t H) (g_blk t H) (s_blk t H) _ j)
    (fun t k k' b j => by dsimp only; unfold last blocks runLast; frame_out; exact dw_at (x_tile t H) (y_tile t H) (h_tile t H) (r_tile t H) (a_blk t H) (g_blk t H) (s_blk t H) _ j)
    t (by have := (flush0_9 t).mp hf; have := lt_of_lt_of_eq t.isLt N_0; omega) i, e]
  exact rfl

theorem final_10 : (dats m 0 c).arrAt 10 (cfgs 0).N = arr (a := 1) (b := 1024) (φ := .f32) (ds d) := by
  refine (dats m 0 c).arrAt_eq_of_covers 10 _ (by decide +kernel) fun t hf i => ?_
  have e : (win0_10.blk t).view.emb i = i := by
    obtain ⟨-, -, -, -, -, -, -, -, -, -, e, -⟩ := idx t
    blk_ext [e]
  blk_simp
  rw [after_10, sum_at m (fun o => o.2.2.2.2.2.1) (fun r q => d.h r q * unit 1024 (stream d) r q) (fun q => d.w 0 q)
    (fun t k k' j => by
      dsimp only; unfold first blocks runFirst; frame_out
      exact (ds_at (x_tile t H) (y_tile t H) (h_tile t H) (r_tile t H) (a_blk t H) (g_blk t H) (w_blk t H) _ j).trans (by rw [show k0_pay4 (F := Ideal) j = 0 by pointwise [k0_pay4], zero_add]; rfl))
    (fun t k k' b j => by dsimp only; unfold middle blocks runMiddle; frame_out; exact ds_at (x_tile t H) (y_tile t H) (h_tile t H) (r_tile t H) (a_blk t H) (g_blk t H) (w_blk t H) _ j)
    (fun t k k' b j => by dsimp only; unfold last blocks runLast; frame_out; exact ds_at (x_tile t H) (y_tile t H) (h_tile t H) (r_tile t H) (a_blk t H) (g_blk t H) (w_blk t H) _ j)
    t (by have := (flush0_10 t).mp hf; have := lt_of_lt_of_eq t.isLt N_0; omega) i, e]
  exact rfl

theorem final_11 : (dats m 0 c).arrAt 11 (cfgs 0).N = arr (a := 1) (b := 1024) (φ := .f32) (dt d) := by
  refine (dats m 0 c).arrAt_eq_of_covers 11 _ (by decide +kernel) fun t hf i => ?_
  have e : (win0_11.blk t).view.emb i = i := by
    obtain ⟨-, -, -, -, -, -, -, -, -, -, -, e⟩ := idx t
    blk_ext [e]
  blk_simp
  rw [after_11, sum_at m (fun o => o.2.2.2.2.2.2) (fun r q => d.h r q) (fun q => 1)
    (fun t k k' j => by
      dsimp only; unfold first blocks runFirst; frame_out
      exact (dt_at (h_tile t H) _ j).trans (by rw [show k0_pay5 (F := Ideal) j = 0 by pointwise [k0_pay5], zero_add]; rfl))
    (fun t k k' b j => by dsimp only; unfold middle blocks runMiddle; frame_out; exact dt_at (h_tile t H) _ j)
    (fun t k k' b j => by dsimp only; unfold last blocks runLast; frame_out; exact dt_at (h_tile t H) _ j)
    t (by have := (flush0_11 t).mp hf; have := lt_of_lt_of_eq t.isLt N_0; omega) i, e]
  exact (congrArg _ (mul_one _))

end Final

end Cert.MidIdeal.Grid

end
-- ==== Proof.Mid.Pair.lean ====
/- The call between two sub-layers, backward, against the derivative of the forward lines. -/
module

public import proofs.«01_k».proof.Defs
public import proofs.«01_k».proof.Proof.Gen.Pre_mid_finite
public import proofs.«01_k».proof.Proof.Gen.Mid
public import proofs.«01_k».proof.Proof.Mid.Kernel
public import proofs.«01_k».proof.Proof.Mid.Spec

@[expose] public section

set_option maxRecDepth 16384

noncomputable section

namespace Cert.Proof.Mid

open Idealize.ShloMosaic Idealize.SL.Sem Cert.Proof.Norm

/-- The kernel runs on the machine's floats and keeps its arguments: the frame holds over any floats. -/
theorem bits_frame : Cert.quiescent_Mid := fun m ρ _ => by
  have e : (Cert.MidIdeal.defs (F := Bits)) = Cert.Mid.defs := by sl_kernel_rfl
  have e' : (Cert.MidIdeal.main (F := Bits)) = Cert.Mid.main := by sl_kernel_rfl
  have h := Cert.MidIdeal.Grid.frame (F := Bits) m ρ
  rw [e, e'] at h
  exact h

/-- The derivative's program runs and keeps its arguments; it declares no semaphore. -/
theorem ref_frame : Cert.quiescent_MidRefIdeal := fun m ρ _ =>
  (θ_run Cert.MidRefIdeal.defs _ _).mono (fun r h => ⟨fun c => (h c).2.2.2.2.2.2.2, sem_eq_zero_of_no_sems (by decide) r.2⟩)
    (Cert.MidRefIdeal.Value.run m ρ)

/-- The numbers of the arguments. -/
def numbers (m : (ℓ : Loc Cert.MidIdeal.nD Cert.MidIdeal.τ Cert.MidIdeal.sig) → Buf (Elt Ideal) ℓ) (c : Dev Cert.MidIdeal.nD) :
    Cert.MidRefIdeal.Spec.Reals where
  x := reals (a := 16384) (b := 1024) (φ := .f32) (m ((c.tc : Thread Cert.MidIdeal.nD Cert.MidIdeal.τ).loc Cert.MidIdeal.main_arg0))
  y := reals (a := 16384) (b := 1024) (φ := .f32) (m ((c.tc : Thread Cert.MidIdeal.nD Cert.MidIdeal.τ).loc Cert.MidIdeal.main_arg1))
  e := reals (a := 16384) (b := 1024) (φ := .f32) (m ((c.tc : Thread Cert.MidIdeal.nD Cert.MidIdeal.τ).loc Cert.MidIdeal.main_arg2))
  h := reals (a := 16384) (b := 1024) (φ := .f32) (m ((c.tc : Thread Cert.MidIdeal.nD Cert.MidIdeal.τ).loc Cert.MidIdeal.main_arg3))
  a := reals (a := 1) (b := 1024) (φ := .f32) (m ((c.tc : Thread Cert.MidIdeal.nD Cert.MidIdeal.τ).loc Cert.MidIdeal.main_arg4))
  g := reals (a := 1) (b := 1024) (φ := .f32) (m ((c.tc : Thread Cert.MidIdeal.nD Cert.MidIdeal.τ).loc Cert.MidIdeal.main_arg5))
  w := reals (a := 1) (b := 1024) (φ := .f32) (m ((c.tc : Thread Cert.MidIdeal.nD Cert.MidIdeal.τ).loc Cert.MidIdeal.main_arg6))
  s := reals (a := 1) (b := 1024) (φ := .f32) (m ((c.tc : Thread Cert.MidIdeal.nD Cert.MidIdeal.τ).loc Cert.MidIdeal.main_arg7))

/-- Every result of the call is the derivative of the forward lines, where the arguments but the shift are finite. -/
theorem algebraic : Cert.algebraic_MidIdeal_MidRefIdeal_pre_mid_finite := by
  intro m g m' g' hf ha
  have H (c : Dev Cert.MidIdeal.nD) : Cert.MidIdeal.Grid.Reads m c (numbers m c) := ⟨is_reals fun i => congrFun (hf c).1 i, is_reals fun i => congrFun (hf c).2.1 i, is_reals fun i => congrFun (hf c).2.2.1 i, is_reals fun i => congrFun (hf c).2.2.2.1 i, is_reals fun i => congrFun (hf c).2.2.2.2.1 i, is_reals fun i => congrFun (hf c).2.2.2.2.2.1 i, is_reals fun i => congrFun (hf c).2.2.2.2.2.2.1 i, is_reals fun i => congrFun (hf c).2.2.2.2.2.2.2 i⟩
  refine ⟨fun c => arr (φ := .f32) (Cert.MidRefIdeal.Spec.dx (numbers m c)), fun c => arr (φ := .bf16) (Cert.MidRefIdeal.Spec.dy (numbers m c)), fun c => arr (φ := .f32) (Cert.MidRefIdeal.Spec.da (numbers m c)), fun c => arr (φ := .f32) (Cert.MidRefIdeal.Spec.dg (numbers m c)), fun c => arr (φ := .f32) (Cert.MidRefIdeal.Spec.dw (numbers m c)), fun c => arr (φ := .f32) (Cert.MidRefIdeal.Spec.ds (numbers m c)), fun c => arr (φ := .f32) (Cert.MidRefIdeal.Spec.dt (numbers m c)),
    (θ_run _ _ _).mono (fun r h c => ?_) (θ_run_and (Cert.MidIdeal.Grid.run_main m g) (Cert.MidIdeal.Grid.unchanged m g)),
    (θ_run _ _ _).mono (fun r h c => h c) (Cert.MidRefIdeal.Spec.run m' g' (numbers m) fun c => ?_)⟩
  · exact ⟨((h.1 c).1 5).trans (Cert.MidIdeal.Grid.final_5 m (H c)), ((h.1 c).1 6).trans (Cert.MidIdeal.Grid.final_6 m (H c)), ((h.1 c).1 7).trans (Cert.MidIdeal.Grid.final_7 m (H c)), ((h.1 c).1 8).trans (Cert.MidIdeal.Grid.final_8 m (H c)), ((h.1 c).1 9).trans (Cert.MidIdeal.Grid.final_9 m (H c)), ((h.1 c).1 10).trans (Cert.MidIdeal.Grid.final_10 m (H c)), ((h.1 c).1 11).trans (Cert.MidIdeal.Grid.final_11 m (H c)), h.2 c⟩
  · obtain ⟨a0, a1, a2, a3, a4, a5, a6, a7, -⟩ := ha c
    unfold Cert.MidRefIdeal.Spec.Reads
    rw [a0, a1, a2, a3, a4, a5, a6, a7]
    exact H c

end Cert.Proof.Mid

end
-- ==== Proof.AdalnOut.Pair.lean ====
/- The modulated norm before the first layer: the kernel's array against the norm's lines. -/
module

public import proofs.«01_k».proof.Defs
public import proofs.«01_k».proof.Proof.Gen.AdalnOutIdeal.Value
public import proofs.«01_k».proof.Proof.Gen.AdalnOutRefIdeal.Run
public import Idealize.ShloMosaic.Lib.Pipeline.ValueKit
public import Idealize.ShloMosaic.Lib.Pointwise

@[expose] public section

set_option maxRecDepth 16384

noncomputable section

namespace Cert.AdalnOutRefIdeal.Spec

open Cert.AdalnOutRefIdeal Cert.AdalnOutRefIdeal.Gen Idealize.ShloMosaic Idealize.ShloMosaic.TcCoe Idealize.SL.Sem

/-- A row's mean square raised by the norm's small constant, its inverse root. -/
def scale (x : FVec Ideal S16384x1024 .f32) (r : Fin 16384) : EReal :=
  Ideal.rsqrt (Ideal.div (∑ k : Fin 1024, x (ix2 r k) * x (ix2 r k)) (Ideal.ofBits .f32 0x44800000#32) + Ideal.ofBits .f32 0x358637BD#32)

/-- The modulated norm. -/
def normed (x : FVec Ideal S16384x1024 .f32) (g s h : FVec Ideal S1x1024 .f32) : FVec Ideal S16384x1024 .bf16 := fun i =>
  x i * scale x (i 0) * g (ix2 (0 : Fin 1) (i 1)) * (1 + s (ix2 (0 : Fin 1) (i 1))) + h (ix2 (0 : Fin 1) (i 1))

variable (m : (ℓ : Loc nD τ sig) → Buf (Elt Ideal) ℓ) (ρ : Dev nD → PrngReg)

/-- The reference's run, its result read as the formula above. -/
theorem run :
    θ_run defs (onTc (τ := τ) (main (F := Ideal))) ⟨m, fun _ => 0, ρ⟩ fun r => ∀ c : Dev nD,
      r.2.mem ((c.tc : Thread nD τ).loc main_v18) = normed (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_) (Value.run m ρ)
  obtain ⟨h0, hr⟩ := h c
  refine ⟨h0.trans ?_, hr⟩
  clear h h0 hr
  funext i
  idx_vars i
  pointwise [normed, scale]

end Cert.AdalnOutRefIdeal.Spec

namespace Cert.AdalnOutIdeal.Grid

open Cert.AdalnOutIdeal Cert.AdalnOutIdeal.Gen Idealize.ShloMosaic Idealize.ShloMosaic.TcCoe Idealize.SL.Sem
open Idealize.ShloMosaic.Pipeline (Dat)
open Cert.AdalnOutRefIdeal.Spec (scale normed)

variable (m : (ℓ : Loc nD τ sig) → Buf (Elt Ideal) ℓ)

theorem idx : ∀ t : Fin cfg0.N, win0_0.index t = ![t.val, 0]
    ∧ win0_1.index t = ![0, 0]
    ∧ win0_2.index t = ![0, 0]
    ∧ win0_3.index t = ![0, 0]
    ∧ win0_4.index t = ![t.val, 0] :=
  (by decide +kernel : ∀ t : Fin grid0.N, _)

section Blocks

variable (c : Dev nD) (t : Fin cfg0.N) (r : Fin 512) (q : Fin 1024)

theorem blk_0 (h : t.val * 512 + r < 16384) :
    iblk m c 0 t (ix2 r q) = m ((c : Thread nD τ).loc main_arg0) (ix2 (⟨t.val * 512 + r, h⟩ : Fin 16384) q) := by
  blk_ext [iblk, V, idx t]

theorem blk_1 : iblk m c 1 t (ix2 (0 : Fin 1) q) = m ((c : Thread nD τ).loc main_arg1) (ix2 (0 : Fin 1) q) := by
  blk_ext [iblk, V, idx t]

theorem blk_2 : iblk m c 2 t (ix2 (0 : Fin 1) q) = m ((c : Thread nD τ).loc main_arg2) (ix2 (0 : Fin 1) q) := by
  blk_ext [iblk, V, idx t]

theorem blk_3 : iblk m c 3 t (ix2 (0 : Fin 1) q) = m ((c : Thread nD τ).loc main_arg3) (ix2 (0 : Fin 1) q) := by
  blk_ext [iblk, V, idx t]

end Blocks

theorem stored (c : Dev nD) (t : Fin cfg0.N) (y : S512x1024.Idx) :
    k0_pay1 (F := Ideal) (iblk m c 0 t) (iblk m c 1 t) (iblk m c 2 t) (iblk m c 3 t) y
      = normed (m ((c : Thread nD τ).loc main_arg0)) (m ((c : Thread nD τ).loc main_arg1)) (m ((c : Thread nD τ).loc main_arg2)) (m ((c : Thread nD τ).loc main_arg3)) (((cfg0.win 4).blk t).view.emb y) := by
  have ht : t.val < 32 := lt_of_lt_of_eq t.isLt N_0
  idx_vars y
  have hemb : (((cfg0.win 4).blk t).view.emb (ix2 y0 y1 : S512x1024.Idx)) = ix2 (⟨t.val * 512 + y0, by omega⟩ : Fin 16384) y1 := by
    obtain ⟨-, -, -, -, e⟩ := idx t
    blk_ext [e]
  rw [hemb]
  pointwise [k0_pay1, normed, scale]
  have e0 (k : Fin 1024) := blk_0 m c t y0 k (by omega)
  simp only [e0, blk_1, blk_2, blk_3]

theorem final (c : Dev nD) : (dats m 0 c).arrAt 4 (cfgs 0).N = normed (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp; rw [after0_4]
  frame_out
  exact stored m c t y

end Cert.AdalnOutIdeal.Grid

namespace Cert.Proof.AdalnOut

open Idealize.ShloMosaic Idealize.SL.Sem

/-- The norm's program runs and keeps its arguments; it declares no semaphore. -/
theorem ref_frame : Cert.quiescent_AdalnOutRefIdeal := fun m ρ _ =>
  (θ_run Cert.AdalnOutRefIdeal.defs _ _).mono (fun r h => ⟨fun c => (h c).2, sem_eq_zero_of_no_sems (by decide) r.2⟩)
    (Cert.AdalnOutRefIdeal.Spec.run m ρ)

/-- The kernel's array is the modulated norm. -/
theorem algebraic : Cert.algebraic_AdalnOutIdeal_AdalnOutRefIdeal := by
  intro m g m' g' _ ha
  refine ⟨fun c => Cert.AdalnOutRefIdeal.Spec.normed (m ((c.tc : Thread Cert.AdalnOutIdeal.nD Cert.AdalnOutIdeal.τ).loc Cert.AdalnOutIdeal.main_arg0)) (m ((c.tc : Thread Cert.AdalnOutIdeal.nD Cert.AdalnOutIdeal.τ).loc Cert.AdalnOutIdeal.main_arg1)) (m ((c.tc : Thread Cert.AdalnOutIdeal.nD Cert.AdalnOutIdeal.τ).loc Cert.AdalnOutIdeal.main_arg2)) (m ((c.tc : Thread Cert.AdalnOutIdeal.nD Cert.AdalnOutIdeal.τ).loc Cert.AdalnOutIdeal.main_arg3)),
    (θ_run _ _ _).mono (fun r h c => ?_) (Cert.AdalnOutIdeal.Value.run_blocks m g),
    (θ_run _ _ _).mono (fun r h c => ?_) (Cert.AdalnOutRefIdeal.Spec.run m' g')⟩
  · obtain ⟨h0, ho⟩ := h c
    exact ⟨h0.trans (Cert.AdalnOutIdeal.Grid.final m c), ho⟩
  · obtain ⟨h0, ho⟩ := h c
    obtain ⟨a0, a1, a2, a3⟩ := ha c
    rw [a0, a1, a2, a3] at h0
    exact ⟨h0, ho⟩

end Cert.Proof.AdalnOut

end
-- ==== Proof.ConvOut.Pair.lean ====
/- The depthwise convolution of the state-space mixer: the kernel's array against the convolution's lines. -/
module

public import proofs.«01_k».proof.Defs
public import proofs.«01_k».proof.Proof.Gen.ConvOutIdeal.Value
public import proofs.«01_k».proof.Proof.Gen.ConvOutRefIdeal.Run
public import Idealize.ShloMosaic.Lib.Pipeline.ValueKit
public import Idealize.ShloMosaic.Lib.Pointwise

@[expose] public section

set_option maxRecDepth 16384

noncomputable section

namespace Cert.ConvOutRefIdeal.Spec

open Cert.ConvOutRefIdeal Cert.ConvOutRefIdeal.Gen Idealize.ShloMosaic Idealize.ShloMosaic.TcCoe Idealize.SL.Sem

/-- The convolution's input `k` rows above row `r` (columns 2048 to 2815 of the projection), zero above the first row. -/
def above (p : FVec Ideal S16384x5896 .f32) (k : ℕ) (r : Fin 16384) (c : Fin 768) : EReal :=
  if h : k ≤ (r : ℕ) then p (ix2 (⟨r - k, by omega⟩ : Fin 16384) (⟨2048 + c, by omega⟩ : Fin 5896)) else 0

/-- The convolution: four taps and the bias. -/
def conv (p : FVec Ideal S16384x5896 .f32) (w : FVec Ideal S4x768 .f32) (b : FVec Ideal S1x768 .f32) : FVec Ideal S16384x768 .f32 := fun i =>
  w (ix2 (0 : Fin 4) (i 1)) * above p 3 (i 0) (i 1) + w (ix2 (1 : Fin 4) (i 1)) * above p 2 (i 0) (i 1)
    + w (ix2 (2 : Fin 4) (i 1)) * above p 1 (i 0) (i 1) + w (ix2 (3 : Fin 4) (i 1)) * above p 0 (i 0) (i 1) + b (ix2 (0 : Fin 1) (i 1))

theorem shifted (p : FVec Ideal S16384x5896 .f32) (k n : ℕ) (hk : k + n = 3) (x : Fin 16384) (j : Fin 768) :
    (if h : n + (x : ℕ) < 3 then 0 else
      p (ix2 (⟨n + x - 3, by omega⟩ : Fin 16384) (⟨2048 + j, by omega⟩ : Fin 5896)) : EReal)
      = above p k x j := by
  unfold above
  by_cases h : n + (x : ℕ) < 3
  · rw [dif_pos h, dif_neg (by omega)]
  · rw [dif_neg h, dif_pos (by omega)]
    exact congrArg p ((ix2_inj ..).2 ⟨Fin.ext (by show n + (x : ℕ) - 3 = x - k; omega), rfl⟩)

variable (m : (ℓ : Loc nD τ sig) → Buf (Elt Ideal) ℓ) (ρ : Dev nD → PrngReg)

/-- The reference's run, its result read as the formula above. -/
theorem run :
    θ_run defs (onTc (τ := τ) (main (F := Ideal))) ⟨m, fun _ => 0, ρ⟩ fun r => ∀ c : Dev nD,
      r.2.mem ((c.tc : Thread nD τ).loc main_v25) = conv (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ?_) (Value.run m ρ)
  obtain ⟨h0, hr⟩ := h c
  refine ⟨h0.trans ?_, hr⟩
  clear h h0 hr
  funext i
  idx_vars i
  pointwise [conv]
  refine congrArg₂ (· + ·) (congrArg₂ (· + ·) (congrArg₂ (· + ·) (congrArg₂ (· + ·) (congrArg _ ?_) (congrArg _ ?_)) (congrArg _ ?_)) (congrArg _ ?_)) rfl
  · simpa only [zero_add] using shifted (m ((c.tc : Thread nD τ).loc main_arg0)) 3 0 rfl i0 i1
  · exact shifted _ 2 1 rfl i0 i1
  · exact shifted _ 1 2 rfl i0 i1
  · unfold above
    rw [dif_pos (Nat.zero_le _)]
    rfl

end Cert.ConvOutRefIdeal.Spec

namespace Cert.ConvOutIdeal.Grid

open Cert.ConvOutIdeal Cert.ConvOutIdeal.Gen Idealize.ShloMosaic Idealize.ShloMosaic.TcCoe Idealize.SL.Sem
open Idealize.ShloMosaic.Pipeline (Dat)
open Cert.ConvOutRefIdeal.Spec (above conv)

variable (m : (ℓ : Loc nD τ sig) → Buf (Elt Ideal) ℓ)

theorem idx : ∀ t : Fin cfg0.N, win0_0.index t = ![t.val, 3]
    ∧ win0_1.index t = ![t.val * 32 - 1, 3]
    ∧ win0_2.index t = ![0, 0]
    ∧ win0_3.index t = ![0, 0]
    ∧ win0_4.index t = ![t.val, 0]
    ∧ (grid0.coords t 0).val = t.val :=
  (by decide +kernel : ∀ t : Fin grid0.N, _)

/-- The row `k` rows above row `r` of a tile, read from the tile or from the rows before it (zero before the first tile). -/
def prev (i : grid0.Coords) (x0 : FVec Ideal S512x768 .bf16) (x1 : FVec Ideal S16x768 .bf16) (k : ℕ) (hk : k ≤ 16) (r : Fin 512) (j : Fin 768) : EReal :=
  if h : k ≤ (r : ℕ) then x0 (ix2 (⟨r - k, by omega⟩ : Fin 512) j)
  else if (i 0).val = 0 then 0 else x1 (ix2 (⟨16 + r - k, by omega⟩ : Fin 16) j)

theorem ofNat_toNat (n : ℕ) (h : n < 2 ^ 32) : (BitVec.ofNat 32 n).toNat = n := Nat.mod_eq_of_lt h

theorem stored_at (i : grid0.Coords) (x0 : FVec Ideal S512x768 .bf16) (x1 : FVec Ideal S16x768 .bf16) (x2 : FVec Ideal S4x768 .f32)
    (x3 : FVec Ideal S1x768 .f32) (r : Fin 512) (j : Fin 768) :
    k0_pay1 (F := Ideal) (k0_pay2 x0) (k0_pay3 i x1) x2 (k0_pay4 i x0 x1 x2 x3) (k0_pay5 i x0 x1) (k0_pay6 x2) (ix2 r j)
      = x2 (ix2 (3 : Fin 4) j) * x0 (ix2 r j) + x3 (ix2 (0 : Fin 1) j) + x2 (ix2 (2 : Fin 4) j) * prev i x0 x1 1 (by omega) r j
        + x2 (ix2 (1 : Fin 4) j) * prev i x0 x1 2 (by omega) r j
        + x2 (ix2 (0 : Fin 4) j) * prev i x0 x1 3 (by omega) r j := by
  have hi : (i 0).val < 32 := (i 0).isLt
  pointwise [k0_pay1, k0_pay2, k0_pay3, k0_pay4, k0_pay5, k0_pay6]
  unfold prev
  generalize (i 0).val = i0 at *
  simp only [hlo_ix]
  rw [ofNat_toNat r.val (by omega), ofNat_toNat i0 (by omega)]
  simp only [BitVec.reduceToNat]
  obtain ⟨r, hr⟩ := r
  simp only
  refine congrArg₂ (· + ·) (congrArg₂ (· + ·) (congrArg₂ (· + ·) rfl (congrArg _ ?_)) (congrArg _ ?_)) (congrArg _ ?_)
  · by_cases h : 1 ≤ r
    · rw [if_neg (by omega), dif_pos h]
      exact congrArg _ ((ix2_inj ..).2 ⟨Fin.ext (by simp; omega), rfl⟩)
    · rw [dif_neg h]
      obtain rfl : r = 0 := by omega
      rfl
  · by_cases h : 2 ≤ r
    · rw [if_neg (by omega), if_neg (by omega), dif_pos h]
      exact congrArg _ ((ix2_inj ..).2 ⟨Fin.ext (by simp; omega), rfl⟩)
    · rw [dif_neg h]
      obtain rfl | rfl : r = 0 ∨ r = 1 := by omega
      all_goals rfl
  · by_cases h : 3 ≤ r
    · rw [if_neg (by omega), if_neg (by omega), if_neg (by omega), dif_pos h]
      exact congrArg _ ((ix2_inj ..).2 ⟨Fin.ext (by simp; omega), rfl⟩)
    · rw [dif_neg h]
      obtain rfl | rfl | rfl : r = 0 ∨ r = 1 ∨ r = 2 := by omega
      all_goals rfl

theorem blk_2 (c : Dev nD) (t : Fin cfg0.N) (r : Fin 4) (j : Fin 768) :
    iblk m c 2 t (ix2 r j) = m ((c : Thread nD τ).loc main_arg1) (ix2 r j) := by
  blk_ext [iblk, V, idx t]

theorem blk_3 (c : Dev nD) (t : Fin cfg0.N) (j : Fin 768) :
    iblk m c 3 t (ix2 (0 : Fin 1) j) = m ((c : Thread nD τ).loc main_arg2) (ix2 (0 : Fin 1) j) := by
  blk_ext [iblk, V, idx t]

theorem blk_0 (c : Dev nD) (t : Fin cfg0.N) (r : Fin 512) (j : Fin 768) (h : t.val * 512 + r < 16384) :
    iblk m c 0 t (ix2 r j) = V m c main_v6 (ix2 (⟨t.val * 512 + r, h⟩ : Fin 16384) (⟨2304 + j, by omega⟩ : Fin 6144)) := by
  obtain ⟨e0, -⟩ := idx t
  blk_ext [iblk, e0]

theorem blk_1 (c : Dev nD) (t : Fin cfg0.N) (ht : t.val ≠ 0) (r : Fin 16) (j : Fin 768) (h : t.val * 512 + r - 16 < 16384) :
    iblk m c 1 t (ix2 r j) = V m c main_v6 (ix2 (⟨t.val * 512 + r - 16, h⟩ : Fin 16384) (⟨2304 + j, by omega⟩ : Fin 6144)) := by
  obtain ⟨-, e1, -⟩ := idx t
  blk_ext [iblk, e1]

theorem padded (c : Dev nD) (r : Fin 16384) (j : Fin 768) : V m c main_v6 (ix2 r (⟨2304 + j, by omega⟩ : Fin 6144))
    = m ((c : Thread nD τ).loc main_arg0) (ix2 r (⟨2048 + j, by omega⟩ : Fin 5896)) := by
  unfold V
  after_results_simp
  pointwise
  rw [dif_neg (by omega), dif_neg (by omega), dif_neg (by omega), dif_pos (by omega)]
  after_results_simp
  pointwise
  exact congrArg _ ((ix2_inj ..).2 ⟨rfl, Fin.ext (by show 2048 + (2304 + (j : ℕ) - 2048 - 8 - 248) = 2048 + j; omega)⟩)

theorem prev_eq (c : Dev nD) (t : Fin cfg0.N) (k : ℕ) (hk : k ≤ 16) (r : Fin 512) (j : Fin 768) (h : t.val * 512 + r < 16384) :
    prev (grid0.coords t) (iblk m c 0 t) (iblk m c 1 t) k hk r j
      = above (m ((c : Thread nD τ).loc main_arg0)) k (⟨t.val * 512 + r, h⟩ : Fin 16384) j := by
  have et : (grid0.coords t 0).val = t.val := by obtain ⟨-, -, -, -, -, e⟩ := idx t; exact e
  unfold prev above
  by_cases h : k ≤ (r : ℕ)
  · rw [dif_pos h, dif_pos (by simp; omega)]
    refine (blk_0 m c t ⟨r - k, by omega⟩ j (by simp; omega)).trans ((padded m c _ j).trans ?_)
    exact congrArg _ ((ix2_inj ..).2 ⟨Fin.ext (by simp; omega), rfl⟩)
  · rw [dif_neg h, et]
    by_cases h' : t.val = 0
    · rw [if_pos h', dif_neg (by simp; omega)]
    · rw [if_neg h', dif_pos (by simp; omega)]
      refine (blk_1 m c t h' ⟨16 + r - k, by omega⟩ j (by simp; omega)).trans ((padded m c _ j).trans ?_)
      exact congrArg _ ((ix2_inj ..).2 ⟨Fin.ext (by simp; omega), rfl⟩)

theorem reorder (a b c d e : EReal) : a + e + b + c + d = d + c + b + a + e := by
  rw [add_comm (d + c + b + a) e, add_comm a e]
  simp only [add_assoc]
  rw [add_comm c d, add_left_comm b d c, add_comm b c, add_left_comm a d (c + b), add_left_comm a c b, add_comm a b]

theorem stored (c : Dev nD) (t : Fin cfg0.N) (y : S512x768.Idx) :
    k0_pay1 (F := Ideal) (k0_pay2 (iblk m c 0 t)) (k0_pay3 (grid0.coords t) (iblk m c 1 t)) (iblk m c 2 t)
      (k0_pay4 (grid0.coords t) (iblk m c 0 t) (iblk m c 1 t) (iblk m c 2 t) (iblk m c 3 t))
      (k0_pay5 (grid0.coords t) (iblk m c 0 t) (iblk m c 1 t)) (k0_pay6 (iblk m c 2 t)) y
      = conv (m ((c : Thread nD τ).loc main_arg0)) (m ((c : Thread nD τ).loc main_arg1)) (m ((c : Thread nD τ).loc main_arg2)) (((cfg0.win 4).blk t).view.emb y) := by
  have ht : t.val < 32 := lt_of_lt_of_eq t.isLt N_0
  idx_vars y
  refine (stored_at _ _ _ _ _ y0 y1).trans ?_
  have hemb : (((cfg0.win 4).blk t).view.emb (ix2 y0 y1 : S512x768.Idx)) = ix2 (⟨t.val * 512 + y0, by omega⟩ : Fin 16384) y1 := by
    obtain ⟨-, -, -, -, e, -⟩ := idx t
    blk_ext [e]
  have e0 : iblk m c 0 t (ix2 y0 y1) = above (m ((c : Thread nD τ).loc main_arg0)) 0 (⟨t.val * 512 + y0, by omega⟩ : Fin 16384) y1 := by
    rw [← prev_eq m c t 0 (by omega) y0 y1 (by omega)]
    unfold prev
    rw [dif_pos (Nat.zero_le _)]
    rfl
  rw [hemb, prev_eq m c t _ _ _ _ (by omega), prev_eq m c t _ _ _ _ (by omega), prev_eq m c t _ _ _ _ (by omega), e0,
    blk_2, blk_2, blk_2, blk_2, blk_3]
  exact reorder _ _ _ _ _

theorem final (c : Dev nD) : (dats m 0 c).arrAt 4 (cfgs 0).N = conv (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp; rw [after0_4]
  frame_out
  exact stored m c t y

end Cert.ConvOutIdeal.Grid

namespace Cert.Proof.ConvOut

open Idealize.ShloMosaic Idealize.SL.Sem

/-- The reference's program runs and keeps its arguments; it declares no semaphore. -/
theorem ref_frame : Cert.quiescent_ConvOutRefIdeal := fun m ρ _ =>
  (θ_run Cert.ConvOutRefIdeal.defs _ _).mono (fun r h => ⟨fun c => (h c).2, sem_eq_zero_of_no_sems (by decide) r.2⟩)
    (Cert.ConvOutRefIdeal.Spec.run m ρ)

/-- The kernel's array is the convolution. -/
theorem algebraic : Cert.algebraic_ConvOutIdeal_ConvOutRefIdeal := by
  intro m g m' g' _ ha
  refine ⟨fun c => Cert.ConvOutRefIdeal.Spec.conv (m ((c.tc : Thread Cert.ConvOutIdeal.nD Cert.ConvOutIdeal.τ).loc Cert.ConvOutIdeal.main_arg0)) (m ((c.tc : Thread Cert.ConvOutIdeal.nD Cert.ConvOutIdeal.τ).loc Cert.ConvOutIdeal.main_arg1)) (m ((c.tc : Thread Cert.ConvOutIdeal.nD Cert.ConvOutIdeal.τ).loc Cert.ConvOutIdeal.main_arg2)),
    (θ_run _ _ _).mono (fun r h c => ?_) (Cert.ConvOutIdeal.Value.run_blocks m g),
    (θ_run _ _ _).mono (fun r h c => ?_) (Cert.ConvOutRefIdeal.Spec.run m' g')⟩
  · obtain ⟨h0, ho⟩ := h c
    exact ⟨h0.trans (Cert.ConvOutIdeal.Grid.final m c), ho⟩
  · obtain ⟨h0, ho⟩ := h c
    obtain ⟨a0, a1, a2⟩ := ha c
    rw [a0, a1, a2] at h0
    exact ⟨h0, ho⟩

end Cert.Proof.ConvOut

end
-- ==== Proof.ShortOut.Pair.lean ====
/- The gated short convolution: the kernel's array against its lines. -/
module

public import proofs.«01_k».proof.Defs
public import proofs.«01_k».proof.Proof.Gen.ShortOutIdeal.Value
public import proofs.«01_k».proof.Proof.Gen.ShortOutRefIdeal.Run
public import Idealize.ShloMosaic.Lib.Pipeline.ValueKit
public import Idealize.ShloMosaic.Lib.Pointwise

@[expose] public section

set_option maxRecDepth 16384

noncomputable section

namespace Cert.ShortOutRefIdeal.Spec

open Cert.ShortOutRefIdeal Cert.ShortOutRefIdeal.Gen Idealize.ShloMosaic Idealize.ShloMosaic.TcCoe Idealize.SL.Sem

/-- The product of the two gated bands `k` rows above row `r`, zero above the first row. -/
def above (p : FVec Ideal S16384x5896 .f32) (k : ℕ) (r : Fin 16384) (c : Fin 256) : EReal :=
  if h : k ≤ (r : ℕ) then p (ix2 (⟨r - k, by omega⟩ : Fin 16384) (⟨256 + c, by omega⟩ : Fin 5896))
    * p (ix2 (⟨r - k, by omega⟩ : Fin 16384) (⟨512 + c, by omega⟩ : Fin 5896)) else 0

/-- The gate times the convolution's three taps. -/
def conv (p : FVec Ideal S16384x5896 .f32) (w : FVec Ideal S3x256 .f32) : FVec Ideal S16384x256 .bf16 := fun i =>
  p (ix2 (i 0) (⟨(i 1 : Fin 256), by have h : (i 1 : Fin 256).val < 256 := (i 1).isLt; omega⟩ : Fin 5896))
    * (w (ix2 (0 : Fin 3) (i 1)) * above p 2 (i 0) (i 1) + w (ix2 (1 : Fin 3) (i 1)) * above p 1 (i 0) (i 1)
      + w (ix2 (2 : Fin 3) (i 1)) * above p 0 (i 0) (i 1))

theorem shifted (p : FVec Ideal S16384x5896 .f32) (k n : ℕ) (hk : k + n = 2) (x : Fin 16384) (j : Fin 256) :
    (if h : n + (x : ℕ) < 2 then 0 else
      p (ix2 (⟨n + x - 2, by omega⟩ : Fin 16384) (⟨256 + j, by omega⟩ : Fin 5896))
        * p (ix2 (⟨n + x - 2, by omega⟩ : Fin 16384) (⟨512 + j, by omega⟩ : Fin 5896)) : EReal)
      = above p k x j := by
  unfold above
  by_cases h : n + (x : ℕ) < 2
  · rw [dif_pos h, dif_neg (by omega)]
  · rw [dif_neg h, dif_pos (by omega)]
    have e : n + (x : ℕ) - 2 = x - k := by omega
    simp only [e]

variable (m : (ℓ : Loc nD τ sig) → Buf (Elt Ideal) ℓ) (ρ : Dev nD → PrngReg)

/-- The reference's run, its result read as the formula above. -/
theorem run :
    θ_run defs (onTc (τ := τ) (main (F := Ideal))) ⟨m, fun _ => 0, ρ⟩ fun r => ∀ c : Dev nD,
      r.2.mem ((c.tc : Thread nD τ).loc main_v24) = conv (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ?_) (Value.run m ρ)
  obtain ⟨h0, hr⟩ := h c
  refine ⟨h0.trans ?_, hr⟩
  clear h h0 hr
  funext i
  idx_vars i
  pointwise [conv]
  refine congrArg _ (congrArg₂ (· + ·) (congrArg₂ (· + ·) (congrArg _ ?_) (congrArg _ ?_)) (congrArg _ ?_))
  · simpa only [zero_add] using shifted (m ((c.tc : Thread nD τ).loc main_arg0)) 2 0 rfl i0 i1
  · exact shifted _ 1 1 rfl i0 i1
  · unfold above
    rw [dif_pos (Nat.zero_le _)]
    rfl

end Cert.ShortOutRefIdeal.Spec

namespace Cert.ShortOutIdeal.Grid

open Cert.ShortOutIdeal Cert.ShortOutIdeal.Gen Idealize.ShloMosaic Idealize.ShloMosaic.TcCoe Idealize.SL.Sem
open Idealize.ShloMosaic.Pipeline (Dat)
open Cert.ShortOutRefIdeal.Spec (above conv)

variable (m : (ℓ : Loc nD τ sig) → Buf (Elt Ideal) ℓ)

theorem idx : ∀ t : Fin cfg0.N, win0_0.index t = ![t.val, 0]
    ∧ win0_1.index t = ![t.val * 32 - 1, 0]
    ∧ win0_2.index t = ![0, 0]
    ∧ win0_3.index t = ![t.val, 0]
    ∧ (grid0.coords t 0).val = t.val :=
  (by decide +kernel : ∀ t : Fin grid0.N, _)

/-- The product of the two gated bands `k` rows above row `r` of a tile, read from the tile or from the rows before it
    (zero before the first tile). -/
def prev (i : grid0.Coords) (x0 : FVec Ideal S512x768 .bf16) (x1 : FVec Ideal S16x768 .bf16) (k : ℕ) (hk : k ≤ 16) (r : Fin 512) (j : Fin 256) : EReal :=
  if h : k ≤ (r : ℕ) then x0 (ix2 (⟨r - k, by omega⟩ : Fin 512) (⟨256 + j, by omega⟩ : Fin 768))
    * x0 (ix2 (⟨r - k, by omega⟩ : Fin 512) (⟨512 + j, by omega⟩ : Fin 768))
  else if (i 0).val = 0 then 0 else x1 (ix2 (⟨16 + r - k, by omega⟩ : Fin 16) (⟨256 + j, by omega⟩ : Fin 768))
    * x1 (ix2 (⟨16 + r - k, by omega⟩ : Fin 16) (⟨512 + j, by omega⟩ : Fin 768))

theorem ofNat_toNat (n : ℕ) (h : n < 2 ^ 32) : (BitVec.ofNat 32 n).toNat = n := Nat.mod_eq_of_lt h

theorem stored_at (i : grid0.Coords) (x0 : FVec Ideal S512x768 .bf16) (x1 : FVec Ideal S16x768 .bf16) (x2 : FVec Ideal S3x256 .f32)
    (r : Fin 512) (j : Fin 256) :
    k0_pay1 (F := Ideal) (k0_pay3 x0) (k0_pay6 i x0 x1 x2) (k0_pay7 x2) (k0_pay8 i x0 x1) k0_pay9 (k0_pay10 i x1) (ix2 r j)
      = x0 (ix2 r (⟨j, by omega⟩ : Fin 768)) * (x2 (ix2 (2 : Fin 3) j) * prev i x0 x1 0 (by omega) r j
        + x2 (ix2 (1 : Fin 3) j) * prev i x0 x1 1 (by omega) r j
        + x2 (ix2 (0 : Fin 3) j) * prev i x0 x1 2 (by omega) r j) := by
  have hi : (i 0).val < 32 := (i 0).isLt
  pointwise [k0_pay1, k0_pay2, k0_pay3, k0_pay4, k0_pay5, k0_pay6, k0_pay7, k0_pay8, k0_pay9, k0_pay10]
  unfold prev
  generalize (i 0).val = i0 at *
  simp only [hlo_ix]
  rw [ofNat_toNat r.val (by omega), ofNat_toNat i0 (by omega)]
  simp only [BitVec.reduceToNat]
  obtain ⟨r, hr⟩ := r
  simp only
  refine congrArg _ (congrArg₂ (· + ·) (congrArg₂ (· + ·) rfl (congrArg _ ?_)) (congrArg _ ?_))
  · by_cases h : 1 ≤ r
    · rw [if_neg (by omega), dif_pos h]
      refine Ideal.mul_congr ?_ ?_ <;> exact congrArg _ ((ix2_inj ..).2 ⟨Fin.ext (by simp; omega), rfl⟩)
    · rw [dif_neg h]
      obtain rfl : r = 0 := by omega
      rfl
  · by_cases h : 2 ≤ r
    · rw [if_neg (by omega), if_neg (by omega), dif_pos h]
      refine Ideal.mul_congr ?_ ?_ <;> exact congrArg _ ((ix2_inj ..).2 ⟨Fin.ext (by simp; omega), rfl⟩)
    · rw [dif_neg h]
      obtain rfl | rfl : r = 0 ∨ r = 1 := by omega
      all_goals rfl

theorem blk_2 (c : Dev nD) (t : Fin cfg0.N) (r : Fin 3) (j : Fin 256) :
    iblk m c 2 t (ix2 r j) = m ((c : Thread nD τ).loc main_arg1) (ix2 r j) := by
  blk_ext [iblk, V, idx t]

theorem padded (c : Dev nD) (r : Fin 16384) (j : Fin 768) : V m c main_v6 (ix2 r (⟨j, by omega⟩ : Fin 6144))
    = m ((c : Thread nD τ).loc main_arg0) (ix2 r (⟨j, by omega⟩ : Fin 5896)) := by
  unfold V
  after_results_simp
  pointwise
  rw [dif_pos (by omega)]
  after_results_simp
  pointwise

theorem blk_0 (c : Dev nD) (t : Fin cfg0.N) (r : Fin 512) (j : Fin 768) (h : t.val * 512 + r < 16384) :
    iblk m c 0 t (ix2 r j) = m ((c : Thread nD τ).loc main_arg0) (ix2 (⟨t.val * 512 + r, h⟩ : Fin 16384) (⟨j, by omega⟩ : Fin 5896)) := by
  obtain ⟨e0, -⟩ := idx t
  refine Eq.trans ?_ (padded m c _ j)
  blk_ext [iblk, e0]

theorem blk_1 (c : Dev nD) (t : Fin cfg0.N) (ht : t.val ≠ 0) (r : Fin 16) (j : Fin 768) (h : t.val * 512 + r - 16 < 16384) :
    iblk m c 1 t (ix2 r j) = m ((c : Thread nD τ).loc main_arg0) (ix2 (⟨t.val * 512 + r - 16, h⟩ : Fin 16384) (⟨j, by omega⟩ : Fin 5896)) := by
  obtain ⟨-, e1, -⟩ := idx t
  refine Eq.trans ?_ (padded m c _ j)
  blk_ext [iblk, e1]

theorem prev_eq (c : Dev nD) (t : Fin cfg0.N) (k : ℕ) (hk : k ≤ 16) (r : Fin 512) (j : Fin 256) (h : t.val * 512 + r < 16384) :
    prev (grid0.coords t) (iblk m c 0 t) (iblk m c 1 t) k hk r j
      = above (m ((c : Thread nD τ).loc main_arg0)) k (⟨t.val * 512 + r, h⟩ : Fin 16384) j := by
  have et : (grid0.coords t 0).val = t.val := by obtain ⟨-, -, -, -, e⟩ := idx t; exact e
  unfold prev above
  by_cases h : k ≤ (r : ℕ)
  · rw [dif_pos h, dif_pos (by simp; omega)]
    refine Ideal.mul_congr ?_ ?_ <;>
      refine (blk_0 m c t ⟨r - k, by omega⟩ _ (by simp; omega)).trans ?_ <;>
      exact congrArg _ ((ix2_inj ..).2 ⟨Fin.ext (by simp; omega), rfl⟩)
  · rw [dif_neg h, et]
    by_cases h' : t.val = 0
    · rw [if_pos h', dif_neg (by simp; omega)]
    · rw [if_neg h', dif_pos (by simp; omega)]
      refine Ideal.mul_congr ?_ ?_ <;>
        refine (blk_1 m c t h' ⟨16 + r - k, by omega⟩ _ (by simp; omega)).trans ?_ <;>
        exact congrArg _ ((ix2_inj ..).2 ⟨Fin.ext (by simp; omega), rfl⟩)

theorem reorder (a b c : EReal) : a + b + c = c + b + a := by
  rw [add_comm a b, add_comm (b + a) c, add_assoc]

theorem stored (c : Dev nD) (t : Fin cfg0.N) (y : S512x256.Idx) :
    k0_pay1 (F := Ideal) (k0_pay3 (iblk m c 0 t)) (k0_pay6 (grid0.coords t) (iblk m c 0 t) (iblk m c 1 t) (iblk m c 2 t)) (k0_pay7 (iblk m c 2 t))
      (k0_pay8 (grid0.coords t) (iblk m c 0 t) (iblk m c 1 t)) k0_pay9 (k0_pay10 (grid0.coords t) (iblk m c 1 t)) y
      = conv (m ((c : Thread nD τ).loc main_arg0)) (m ((c : Thread nD τ).loc main_arg1)) (((cfg0.win 3).blk t).view.emb y) := by
  have ht : t.val < 32 := lt_of_lt_of_eq t.isLt N_0
  idx_vars y
  refine (stored_at _ _ _ _ y0 y1).trans ?_
  have hemb : (((cfg0.win 3).blk t).view.emb (ix2 y0 y1 : S512x256.Idx)) = ix2 (⟨t.val * 512 + y0, by omega⟩ : Fin 16384) y1 := by
    obtain ⟨-, -, -, e, -⟩ := idx t
    blk_ext [e]
  rw [hemb, prev_eq m c t _ _ _ _ (by omega), prev_eq m c t _ _ _ _ (by omega), prev_eq m c t _ _ _ _ (by omega),
    blk_0 m c t _ _ (by omega), blk_2, blk_2, blk_2]
  exact congrArg _ (reorder _ _ _)

theorem final (c : Dev nD) : (dats m 0 c).arrAt 3 (cfgs 0).N = conv (m ((c : Thread nD τ).loc main_arg0)) (m ((c : Thread nD τ).loc main_arg1)) := by
  refine (dats m 0 c).arrAt_eq_of_covers 3 _ (by decide +kernel) fun t hf y => ?_
  blk_simp; rw [after0_3]
  frame_out
  exact stored m c t y

end Cert.ShortOutIdeal.Grid

namespace Cert.Proof.ShortOut

open Idealize.ShloMosaic Idealize.SL.Sem

/-- The reference's program runs and keeps its arguments; it declares no semaphore. -/
theorem ref_frame : Cert.quiescent_ShortOutRefIdeal := fun m ρ _ =>
  (θ_run Cert.ShortOutRefIdeal.defs _ _).mono (fun r h => ⟨fun c => (h c).2, sem_eq_zero_of_no_sems (by decide) r.2⟩)
    (Cert.ShortOutRefIdeal.Spec.run m ρ)

/-- The kernel's array is the gated short convolution. -/
theorem algebraic : Cert.algebraic_ShortOutIdeal_ShortOutRefIdeal := by
  intro m g m' g' _ ha
  refine ⟨fun c => Cert.ShortOutRefIdeal.Spec.conv (m ((c.tc : Thread Cert.ShortOutIdeal.nD Cert.ShortOutIdeal.τ).loc Cert.ShortOutIdeal.main_arg0)) (m ((c.tc : Thread Cert.ShortOutIdeal.nD Cert.ShortOutIdeal.τ).loc Cert.ShortOutIdeal.main_arg1)),
    (θ_run _ _ _).mono (fun r h c => ?_) (Cert.ShortOutIdeal.Value.run_blocks m g),
    (θ_run _ _ _).mono (fun r h c => ?_) (Cert.ShortOutRefIdeal.Spec.run m' g')⟩
  · obtain ⟨h0, ho⟩ := h c
    exact ⟨h0.trans (Cert.ShortOutIdeal.Grid.final m c), ho⟩
  · obtain ⟨h0, ho⟩ := h c
    obtain ⟨a0, a1⟩ := ha c
    rw [a0, a1] at h0
    exact ⟨h0, ho⟩

end Cert.Proof.ShortOut

end
-- ==== Proof.MergeOut.Pair.lean ====
/- The gated merge of the branches' products: the kernel's array against its lines. -/
module

public import proofs.«01_k».proof.Defs
public import proofs.«01_k».proof.Proof.Gen.MergeOutIdeal.Value
public import proofs.«01_k».proof.Proof.Gen.MergeOutRefIdeal.Run
public import Idealize.ShloMosaic.Lib.Pipeline.ValueKit
public import Idealize.ShloMosaic.Lib.Pointwise

@[expose] public section

set_option maxRecDepth 16384

noncomputable section

namespace Cert.MergeOutRefIdeal.Spec

open Cert.MergeOutRefIdeal Cert.MergeOutRefIdeal.Gen Idealize.ShloMosaic Idealize.ShloMosaic.TcCoe Idealize.SL.Sem

/-- One branch: the sigmoid of the gate's column `b + j` times the branch's product. -/
def branch {K : ℕ} (p : FVec Ideal S16384x5896 .f32) (y : FVec Ideal ⟨2, ![16384, K]⟩ .f32) (w : FVec Ideal ⟨2, ![K, 1024]⟩ .f32)
    (b : ℕ) (hb : b ≤ 2048) (r : Fin 16384) (j : Fin 1024) : EReal :=
  Ideal.logistic (p (ix2 r (⟨2824 + (b + j), by omega⟩ : Fin 5896))) * ∑ k : Fin K, y (ix2 r k) * w (ix2 k j)

/-- The sum of the three branches. -/
def merged (p : FVec Ideal S16384x5896 .f32) (ya yb : FVec Ideal S16384x256 .f32) (yc : FVec Ideal S16384x512 .f32)
    (wa wb : FVec Ideal S256x1024 .f32) (wc : FVec Ideal S512x1024 .f32) : FVec Ideal S16384x1024 .bf16 := fun i =>
  branch p ya wa 0 (by omega) (i 0) (i 1) + branch p yb wb 1024 (by omega) (i 0) (i 1) + branch p yc wc 2048 (by omega) (i 0) (i 1)

variable (m : (ℓ : Loc nD τ sig) → Buf (Elt Ideal) ℓ) (ρ : Dev nD → PrngReg)

/-- The reference's run, its result read as the formula above. -/
theorem run :
    θ_run defs (onTc (τ := τ) (main (F := Ideal))) ⟨m, fun _ => 0, ρ⟩ fun r => ∀ c : Dev nD,
      r.2.mem ((c.tc : Thread nD τ).loc main_v30) = merged (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run defs _ _).mono (fun r h c => ?_) (Value.run m ρ)
  obtain ⟨h0, hr⟩ := h c
  refine ⟨h0.trans ?_, hr⟩
  clear h h0 hr
  generalize m ((c.tc : Thread nD τ).loc main_arg0) = p
  generalize m ((c.tc : Thread nD τ).loc main_arg1) = ya
  generalize m ((c.tc : Thread nD τ).loc main_arg2) = yb
  generalize m ((c.tc : Thread nD τ).loc main_arg3) = yc
  generalize m ((c.tc : Thread nD τ).loc main_arg4) = wa
  generalize m ((c.tc : Thread nD τ).loc main_arg5) = wb
  generalize m ((c.tc : Thread nD τ).loc main_arg6) = wc
  funext i
  idx_vars i
  pointwise [merged, branch]
  simp only [Ideal.logistic]

end Cert.MergeOutRefIdeal.Spec

namespace Cert.MergeOutIdeal.Grid

open Cert.MergeOutIdeal Cert.MergeOutIdeal.Gen Idealize.ShloMosaic Idealize.ShloMosaic.TcCoe Idealize.SL.Sem
open Idealize.ShloMosaic.Pipeline (Dat)
open Cert.MergeOutRefIdeal.Spec (branch merged)

variable (m : (ℓ : Loc nD τ sig) → Buf (Elt Ideal) ℓ)

theorem idx : ∀ t : Fin cfg0.N, win0_0.index t = ![t.val, 3]
    ∧ win0_1.index t = ![t.val, 4]
    ∧ win0_2.index t = ![t.val, 5]
    ∧ win0_3.index t = ![t.val, 0]
    ∧ win0_4.index t = ![t.val, 0]
    ∧ win0_5.index t = ![t.val, 0]
    ∧ win0_6.index t = ![0, 0]
    ∧ win0_7.index t = ![0, 0]
    ∧ win0_8.index t = ![0, 0]
    ∧ win0_9.index t = ![t.val, 0] :=
  (by decide +kernel : ∀ t : Fin grid0.N, _)

/-- One branch on a tile. -/
def tile {K : ℕ} (g : FVec Ideal S512x1024 .bf16) (y : FVec Ideal ⟨2, ![512, K]⟩ .bf16) (w : FVec Ideal ⟨2, ![K, 1024]⟩ .bf16)
    (r : Fin 512) (j : Fin 1024) : EReal := Ideal.logistic (g (ix2 r j)) * ∑ k : Fin K, y (ix2 r k) * w (ix2 k j)

theorem stored_at (g0 g1 g2 : FVec Ideal S512x1024 .bf16) (ya yb : FVec Ideal S512x256 .bf16) (yc : FVec Ideal S512x512 .bf16)
    (wa wb : FVec Ideal S256x1024 .bf16) (wc : FVec Ideal S512x1024 .bf16) (r : Fin 512) (j : Fin 1024) :
    k0_pay1 (F := Ideal) g0 ya wa g1 yb wb g2 yc wc (ix2 r j) = tile g0 ya wa r j + tile g1 yb wb r j + tile g2 yc wc r j := by
  pointwise [k0_pay1, tile]

section Blocks

variable (c : Dev nD) (t : Fin cfg0.N)

/-- The columns of the gates lie behind the padding in the array the grid reads. -/
theorem host_gates (r : Fin 16384) (j : Fin 3072) : V m c main_v6 (ix2 r (⟨3072 + j, by omega⟩ : Fin 6144))
    = m ((c : Thread nD τ).loc main_arg0) (ix2 r (⟨2824 + j, by omega⟩ : Fin 5896)) := by
  unfold V
  after_results_simp
  pointwise
  rw [dif_neg (by omega), dif_neg (by omega), dif_neg (by omega), dif_neg (by omega)]
  after_results_simp
  pointwise
  exact congrArg (fun k => m ((c : Thread nD τ).loc main_arg0) (ix2 r k)) (Fin.ext (by simp; omega))

theorem host_1 (i : S16384x256.Idx) : V m c main_v7 i = m ((c : Thread nD τ).loc main_arg1) i := by
  unfold V
  after_results_simp
  idx_vars i
  pointwise

theorem host_2 (i : S16384x256.Idx) : V m c main_v8 i = m ((c : Thread nD τ).loc main_arg2) i := by
  unfold V
  after_results_simp
  idx_vars i
  pointwise

theorem host_3 (i : S16384x512.Idx) : V m c main_v9 i = m ((c : Thread nD τ).loc main_arg3) i := by
  unfold V
  after_results_simp
  idx_vars i
  pointwise

theorem host_4 (i : S256x1024.Idx) : V m c main_v10 i = m ((c : Thread nD τ).loc main_arg4) i := by
  unfold V
  after_results_simp
  idx_vars i
  pointwise

theorem host_5 (i : S256x1024.Idx) : V m c main_v11 i = m ((c : Thread nD τ).loc main_arg5) i := by
  unfold V
  after_results_simp
  idx_vars i
  pointwise

theorem host_6 (i : S512x1024.Idx) : V m c main_v12 i = m ((c : Thread nD τ).loc main_arg6) i := by
  unfold V
  after_results_simp
  idx_vars i
  pointwise

theorem gate_0 (r : Fin 512) (j : Fin 1024) (h : t.val * 512 + r < 16384) : iblk m c 0 t (ix2 r j)
    = m ((c : Thread nD τ).loc main_arg0) (ix2 (⟨t.val * 512 + r, h⟩ : Fin 16384) (⟨2824 + (0 + j), by omega⟩ : Fin 5896)) := by
  refine Eq.trans ?_ (host_gates m c _ ⟨0 + j, by omega⟩)
  obtain ⟨e0, e1, e2, -⟩ := idx t
  blk_ext [iblk, e0]

theorem gate_1 (r : Fin 512) (j : Fin 1024) (h : t.val * 512 + r < 16384) : iblk m c 1 t (ix2 r j)
    = m ((c : Thread nD τ).loc main_arg0) (ix2 (⟨t.val * 512 + r, h⟩ : Fin 16384) (⟨2824 + (1024 + j), by omega⟩ : Fin 5896)) := by
  refine Eq.trans ?_ (host_gates m c _ ⟨1024 + j, by omega⟩)
  obtain ⟨e0, e1, e2, -⟩ := idx t
  blk_ext [iblk, e1]

theorem gate_2 (r : Fin 512) (j : Fin 1024) (h : t.val * 512 + r < 16384) : iblk m c 2 t (ix2 r j)
    = m ((c : Thread nD τ).loc main_arg0) (ix2 (⟨t.val * 512 + r, h⟩ : Fin 16384) (⟨2824 + (2048 + j), by omega⟩ : Fin 5896)) := by
  refine Eq.trans ?_ (host_gates m c _ ⟨2048 + j, by omega⟩)
  obtain ⟨e0, e1, e2, -⟩ := idx t
  blk_ext [iblk, e2]

theorem branch_1 (r : Fin 512) (k : Fin 256) (h : t.val * 512 + r < 16384) : iblk m c 3 t (ix2 r k)
    = m ((c : Thread nD τ).loc main_arg1) (ix2 (⟨t.val * 512 + r, h⟩ : Fin 16384) k) := by
  refine Eq.trans ?_ (host_1 m c _)
  obtain ⟨-, -, -, e3, e4, e5, -⟩ := idx t
  blk_ext [iblk, e3]

theorem branch_2 (r : Fin 512) (k : Fin 256) (h : t.val * 512 + r < 16384) : iblk m c 4 t (ix2 r k)
    = m ((c : Thread nD τ).loc main_arg2) (ix2 (⟨t.val * 512 + r, h⟩ : Fin 16384) k) := by
  refine Eq.trans ?_ (host_2 m c _)
  obtain ⟨-, -, -, e3, e4, e5, -⟩ := idx t
  blk_ext [iblk, e4]

theorem branch_3 (r : Fin 512) (k : Fin 512) (h : t.val * 512 + r < 16384) : iblk m c 5 t (ix2 r k)
    = m ((c : Thread nD τ).loc main_arg3) (ix2 (⟨t.val * 512 + r, h⟩ : Fin 16384) k) := by
  refine Eq.trans ?_ (host_3 m c _)
  obtain ⟨-, -, -, e3, e4, e5, -⟩ := idx t
  blk_ext [iblk, e5]

theorem weight_4 (k : Fin 256) (j : Fin 1024) : iblk m c 6 t (ix2 k j) = m ((c : Thread nD τ).loc main_arg4) (ix2 k j) := by
  refine Eq.trans ?_ (host_4 m c _)
  obtain ⟨-, -, -, -, -, -, e6, e7, e8, -⟩ := idx t
  blk_ext [iblk, e6]

theorem weight_5 (k : Fin 256) (j : Fin 1024) : iblk m c 7 t (ix2 k j) = m ((c : Thread nD τ).loc main_arg5) (ix2 k j) := by
  refine Eq.trans ?_ (host_5 m c _)
  obtain ⟨-, -, -, -, -, -, e6, e7, e8, -⟩ := idx t
  blk_ext [iblk, e7]

theorem weight_6 (k : Fin 512) (j : Fin 1024) : iblk m c 8 t (ix2 k j) = m ((c : Thread nD τ).loc main_arg6) (ix2 k j) := by
  refine Eq.trans ?_ (host_6 m c _)
  obtain ⟨-, -, -, -, -, -, e6, e7, e8, -⟩ := idx t
  blk_ext [iblk, e8]

end Blocks

theorem stored (c : Dev nD) (t : Fin cfg0.N) (y : S512x1024.Idx) :
    k0_pay1 (F := Ideal) (iblk m c 0 t) (iblk m c 3 t) (iblk m c 6 t) (iblk m c 1 t) (iblk m c 4 t) (iblk m c 7 t) (iblk m c 2 t) (iblk m c 5 t) (iblk m c 8 t) y
      = merged (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg0.win 9).blk t).view.emb y) := by
  have ht : t.val < 32 := lt_of_lt_of_eq t.isLt N_0
  idx_vars y
  refine (stored_at _ _ _ _ _ _ _ _ _ y0 y1).trans ?_
  have hemb : (((cfg0.win 9).blk t).view.emb (ix2 y0 y1 : S512x1024.Idx)) = ix2 (⟨t.val * 512 + y0, by omega⟩ : Fin 16384) y1 := by
    obtain ⟨-, -, -, -, -, -, -, -, -, e⟩ := idx t
    blk_ext [e]
  rw [hemb]
  refine congrArg₂ (· + ·) (congrArg₂ (· + ·) ?_ ?_) ?_
  · exact congrArg₂ (fun a b : EReal => Ideal.logistic a * b) (gate_0 m c t y0 y1 _)
      (Finset.sum_congr rfl fun k _ => Ideal.mul_congr (branch_1 m c t y0 k _) (weight_4 m c t k y1))
  · exact congrArg₂ (fun a b : EReal => Ideal.logistic a * b) (gate_1 m c t y0 y1 _)
      (Finset.sum_congr rfl fun k _ => Ideal.mul_congr (branch_2 m c t y0 k _) (weight_5 m c t k y1))
  · exact congrArg₂ (fun a b : EReal => Ideal.logistic a * b) (gate_2 m c t y0 y1 _)
      (Finset.sum_congr rfl fun k _ => Ideal.mul_congr (branch_3 m c t y0 k _) (weight_6 m c t k y1))

theorem final (c : Dev nD) : (dats m 0 c).arrAt 9 (cfgs 0).N = merged (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 9 _ (by decide +kernel) fun t hf y => ?_
  blk_simp; rw [after0_9]
  frame_out
  exact stored m c t y

end Cert.MergeOutIdeal.Grid

namespace Cert.Proof.MergeOut

open Idealize.ShloMosaic Idealize.SL.Sem

/-- The reference's program runs and keeps its arguments; it declares no semaphore. -/
theorem ref_frame : Cert.quiescent_MergeOutRefIdeal := fun m ρ _ =>
  (θ_run Cert.MergeOutRefIdeal.defs _ _).mono (fun r h => ⟨fun c => (h c).2, sem_eq_zero_of_no_sems (by decide) r.2⟩)
    (Cert.MergeOutRefIdeal.Spec.run m ρ)

/-- The kernel's array is the merge of the three branches. -/
theorem algebraic : Cert.algebraic_MergeOutIdeal_MergeOutRefIdeal := by
  intro m g m' g' _ ha
  refine ⟨fun c => Cert.MergeOutRefIdeal.Spec.merged (m ((c.tc : Thread Cert.MergeOutIdeal.nD Cert.MergeOutIdeal.τ).loc Cert.MergeOutIdeal.main_arg0)) (m ((c.tc : Thread Cert.MergeOutIdeal.nD Cert.MergeOutIdeal.τ).loc Cert.MergeOutIdeal.main_arg1)) (m ((c.tc : Thread Cert.MergeOutIdeal.nD Cert.MergeOutIdeal.τ).loc Cert.MergeOutIdeal.main_arg2)) (m ((c.tc : Thread Cert.MergeOutIdeal.nD Cert.MergeOutIdeal.τ).loc Cert.MergeOutIdeal.main_arg3)) (m ((c.tc : Thread Cert.MergeOutIdeal.nD Cert.MergeOutIdeal.τ).loc Cert.MergeOutIdeal.main_arg4)) (m ((c.tc : Thread Cert.MergeOutIdeal.nD Cert.MergeOutIdeal.τ).loc Cert.MergeOutIdeal.main_arg5)) (m ((c.tc : Thread Cert.MergeOutIdeal.nD Cert.MergeOutIdeal.τ).loc Cert.MergeOutIdeal.main_arg6)),
    (θ_run _ _ _).mono (fun r h c => ?_) (Cert.MergeOutIdeal.Value.run_blocks m g),
    (θ_run _ _ _).mono (fun r h c => ?_) (Cert.MergeOutRefIdeal.Spec.run m' g')⟩
  · obtain ⟨h0, ho⟩ := h c
    exact ⟨h0.trans (Cert.MergeOutIdeal.Grid.final m c), ho⟩
  · obtain ⟨h0, ho⟩ := h c
    obtain ⟨a0, a1, a2, a3, a4, a5, a6⟩ := ha c
    rw [a0, a1, a2, a3, a4, a5, a6] at h0
    exact ⟨h0, ho⟩

end Cert.Proof.MergeOut

end
-- ==== Proof.MidOut.Pair.lean ====
/- The output product with the norms between the sub-layers: the kernel's arrays against their lines. -/
module

public import proofs.«01_k».proof.Defs
public import proofs.«01_k».proof.Proof.Gen.MidOutIdeal.Value
public import proofs.«01_k».proof.Proof.Gen.MidOutRefIdeal.Run
public import Idealize.ShloMosaic.Lib.Pipeline.ValueKit
public import Idealize.ShloMosaic.Lib.Pointwise

@[expose] public section

set_option maxRecDepth 16384

noncomputable section

namespace Cert.MidOutRefIdeal.Spec

open Cert.MidOutRefIdeal Cert.MidOutRefIdeal.Gen Idealize.ShloMosaic Idealize.ShloMosaic.TcCoe Idealize.SL.Sem

/-- The inverse root of a row's mean square raised by the norm's small constant. -/
def scale (f : Fin 1024 → EReal) : EReal :=
  Ideal.rsqrt (Ideal.div (∑ k, f k * f k) (Ideal.ofBits .f32 0x44800000#32) + Ideal.ofBits .f32 0x358637BD#32)

section Rows

variable {n : ℕ} {φ ψ : FTy} (a : FVec Ideal ⟨2, ![n, 1024]⟩ φ) (w : FVec Ideal ⟨2, ![1024, 1024]⟩ ψ) (x : FVec Ideal ⟨2, ![n, 1024]⟩ .f32)
  (gate gpost gpre sc sh : FVec Ideal ⟨2, ![1, 1024]⟩ .f32) (r : Fin n)

/-- A row of the product. -/
def mixRow (j : Fin 1024) : EReal := ∑ k : Fin 1024, a (ix2 r k) * w (ix2 k j)

/-- A row of the stream: what it was, and the gated norm of the product. -/
def streamRow (j : Fin 1024) : EReal :=
  x (ix2 r j) + gate (ix2 (0 : Fin 1) j) * (mixRow a w r j * scale (mixRow a w r) * gpost (ix2 (0 : Fin 1) j))

/-- A row of the stream's modulated norm. -/
def normRow (j : Fin 1024) : EReal :=
  streamRow a w x gate gpost r j * scale (streamRow a w x gate gpost r) * gpre (ix2 (0 : Fin 1) j) * (1 + sc (ix2 (0 : Fin 1) j))
    + sh (ix2 (0 : Fin 1) j)

end Rows

/-- The product. -/
def mix (a : FVec Ideal S16384x1024 .f32) (w : FVec Ideal S1024x1024 .f32) : FVec Ideal S16384x1024 .bf16 := fun i => mixRow (n := 16384) a w (i 0) (i 1)

/-- The stream. -/
def stream (a : FVec Ideal S16384x1024 .f32) (w : FVec Ideal S1024x1024 .f32) (x : FVec Ideal S16384x1024 .f32)
    (gate gpost : FVec Ideal S1x1024 .f32) : FVec Ideal S16384x1024 .f32 := fun i => streamRow (n := 16384) a w x gate gpost (i 0) (i 1)

/-- The modulated norm. -/
def normed (a : FVec Ideal S16384x1024 .f32) (w : FVec Ideal S1024x1024 .f32) (x : FVec Ideal S16384x1024 .f32)
    (gate gpost gpre sc sh : FVec Ideal S1x1024 .f32) : FVec Ideal S16384x1024 .bf16 := fun i =>
  normRow (n := 16384) a w x gate gpost gpre sc sh (i 0) (i 1)

variable (m : (ℓ : Loc nD τ sig) → Buf (Elt Ideal) ℓ) (ρ : Dev nD → PrngReg)

/-- The reference's run, its results read as the formulas above. -/
theorem run :
    θ_run defs (onTc (τ := τ) (main (F := Ideal))) ⟨m, fun _ => 0, ρ⟩ fun r => ∀ c : Dev nD,
      r.2.mem ((c.tc : Thread nD τ).loc main_v34) = mix (m ((c.tc : Thread nD τ).loc main_arg0)) (m ((c.tc : Thread nD τ).loc main_arg1))
      ∧ r.2.mem ((c.tc : Thread nD τ).loc main_v15) = stream (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v35) = normed (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run defs _ _).mono (fun r h c => ?_) (Value.run m ρ)
  obtain ⟨h0, h1, h2, hr⟩ := h c
  refine ⟨h0.trans ?_, h1.trans ?_, h2.trans ?_, hr⟩
  all_goals
    clear h h0 h1 h2 hr
    try unfold Value.res_main_v35
    generalize m ((c.tc : Thread nD τ).loc main_arg0) = a0
    generalize m ((c.tc : Thread nD τ).loc main_arg1) = a1
    generalize m ((c.tc : Thread nD τ).loc main_arg2) = a2
    generalize m ((c.tc : Thread nD τ).loc main_arg3) = a3
    generalize m ((c.tc : Thread nD τ).loc main_arg4) = a4
    generalize m ((c.tc : Thread nD τ).loc main_arg5) = a5
    generalize m ((c.tc : Thread nD τ).loc main_arg6) = a6
    generalize m ((c.tc : Thread nD τ).loc main_arg7) = a7
    funext i
    idx_vars i
  · pointwise [mix, mixRow]
  · pointwise [stream, streamRow, mixRow, scale]
  · pointwise [normed, normRow, streamRow, mixRow, scale]

end Cert.MidOutRefIdeal.Spec

namespace Cert.MidOutIdeal.Grid

open Cert.MidOutIdeal Cert.MidOutIdeal.Gen Idealize.ShloMosaic Idealize.ShloMosaic.TcCoe Idealize.SL.Sem
open Idealize.ShloMosaic.Pipeline (Dat)
open Cert.MidOutRefIdeal.Spec (scale mixRow streamRow normRow mix stream normed)

variable (m : (ℓ : Loc nD τ sig) → Buf (Elt Ideal) ℓ)

theorem idx : ∀ t : Fin cfg0.N, win0_0.index t = ![t.val, 0]
    ∧ win0_1.index t = ![0, 0]
    ∧ win0_2.index t = ![t.val, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![t.val, 0]
    ∧ win0_9.index t = ![t.val, 0]
    ∧ win0_10.index t = ![t.val, 0] :=
  (by decide +kernel : ∀ t : Fin grid0.N, _)

section Stored

variable (a : FVec Ideal S1024x1024 .bf16) (w : FVec Ideal S1024x1024 .bf16) (x : FVec Ideal S1024x1024 .f32)
  (gate gpost gpre sc sh : FVec Ideal S1x1024 .f32) (r : Fin 1024) (j : Fin 1024)

theorem mix_at : k0_pay3 (F := Ideal) a w (ix2 r j) = mixRow (n := 1024) a w r j := by
  pointwise [k0_pay3, mixRow]

theorem stream_at : k0_pay4 (F := Ideal) a w x gate gpost (ix2 r j) = streamRow (n := 1024) a w x gate gpost r j := by
  pointwise [k0_pay4, streamRow, scale]
  simp only [mix_at]

theorem scale_at : k0_pay5 (F := Ideal) a w x gate gpost (ix2 r j) = scale (streamRow (n := 1024) a w x gate gpost r) := by
  pointwise [k0_pay5, scale]
  simp only [stream_at]

theorem norm_at : k0_pay2 (F := Ideal) gpre sc sh (k0_pay4 a w x gate gpost) (k0_pay5 a w x gate gpost) (ix2 r j)
    = normRow (n := 1024) a w x gate gpost gpre sc sh r j := by
  pointwise [k0_pay2, normRow]
  rw [stream_at, scale_at]

/-- The stream's block under its second name: the same sum over the whole blocks. -/
theorem stream_name : k0_pay6 (F := Ideal) a w x gate gpost gpre sc sh = k0_pay4 a w x gate gpost := by
  unfold k0_pay6
  simp (disch := decide) only [r0_0, r0_1, View.ld_unit_lit']

end Stored

section Blocks

variable (c : Dev nD) (t : Fin cfg0.N) (r : Fin 1024) (q : Fin 1024)

theorem host_0 (i : S16384x1024.Idx) : V m c main_v0 i = m ((c : Thread nD τ).loc main_arg0) i := by
  unfold V
  after_results_simp
  idx_vars i
  pointwise

theorem host_1 (i : S1024x1024.Idx) : V m c main_v1 i = m ((c : Thread nD τ).loc main_arg1) i := by
  unfold V
  after_results_simp
  idx_vars i
  pointwise

theorem blk_0 (h : t.val * 1024 + r < 16384) :
    iblk m c 0 t (ix2 r q) = m ((c : Thread nD τ).loc main_arg0) (ix2 (⟨t.val * 1024 + r, h⟩ : Fin 16384) q) := by
  refine Eq.trans ?_ (host_0 m c _)
  obtain ⟨e, -⟩ := idx t
  blk_ext [iblk, e]

theorem blk_1 : iblk m c 1 t (ix2 r q) = m ((c : Thread nD τ).loc main_arg1) (ix2 r q) := by
  refine Eq.trans ?_ (host_1 m c _)
  obtain ⟨-, e, -⟩ := idx t
  blk_ext [iblk, e]

theorem blk_2 (h : t.val * 1024 + r < 16384) :
    iblk m c 2 t (ix2 r q) = m ((c : Thread nD τ).loc main_arg2) (ix2 (⟨t.val * 1024 + r, h⟩ : Fin 16384) q) := by
  blk_ext [iblk, V, idx t]

theorem blk_3 : iblk m c 3 t (ix2 (0 : Fin 1) q) = m ((c : Thread nD τ).loc main_arg3) (ix2 (0 : Fin 1) q) := by
  blk_ext [iblk, V, idx t]

theorem blk_4 : iblk m c 4 t (ix2 (0 : Fin 1) q) = m ((c : Thread nD τ).loc main_arg4) (ix2 (0 : Fin 1) q) := by
  blk_ext [iblk, V, idx t]

theorem blk_5 : iblk m c 5 t (ix2 (0 : Fin 1) q) = m ((c : Thread nD τ).loc main_arg5) (ix2 (0 : Fin 1) q) := by
  blk_ext [iblk, V, idx t]

theorem blk_6 : iblk m c 6 t (ix2 (0 : Fin 1) q) = m ((c : Thread nD τ).loc main_arg6) (ix2 (0 : Fin 1) q) := by
  blk_ext [iblk, V, idx t]

theorem blk_7 : iblk m c 7 t (ix2 (0 : Fin 1) q) = m ((c : Thread nD τ).loc main_arg7) (ix2 (0 : Fin 1) q) := by
  blk_ext [iblk, V, idx t]

theorem mix_blk (h : t.val * 1024 + r < 16384) : mixRow (n := 1024) (φ := .bf16) (ψ := .bf16) (iblk m c 0 t) (iblk m c 1 t) r
    = mixRow (n := 16384) (φ := .f32) (ψ := .f32) (m ((c : Thread nD τ).loc main_arg0)) (m ((c : Thread nD τ).loc main_arg1)) (⟨t.val * 1024 + r, h⟩ : Fin 16384) := by
  funext j
  exact Finset.sum_congr rfl fun k _ => Ideal.mul_congr (blk_0 m c t r k h) (blk_1 m c t k j)

theorem stream_blk (h : t.val * 1024 + r < 16384) : streamRow (n := 1024) (φ := .bf16) (ψ := .bf16) (iblk m c 0 t) (iblk m c 1 t) (iblk m c 2 t) (iblk m c 3 t) (iblk m c 4 t) r
    = streamRow (n := 16384) (φ := .f32) (ψ := .f32) (m ((c : Thread nD τ).loc main_arg0)) (m ((c : Thread nD τ).loc main_arg1)) (m ((c : Thread nD τ).loc main_arg2)) (m ((c : Thread nD τ).loc main_arg3)) (m ((c : Thread nD τ).loc main_arg4)) (⟨t.val * 1024 + r, h⟩ : Fin 16384) := by
  funext j
  unfold streamRow
  rw [mix_blk m c t r h, blk_2 m c t r j h, blk_3, blk_4]

theorem norm_blk (h : t.val * 1024 + r < 16384) : normRow (n := 1024) (φ := .bf16) (ψ := .bf16) (iblk m c 0 t) (iblk m c 1 t) (iblk m c 2 t) (iblk m c 3 t) (iblk m c 4 t) (iblk m c 5 t) (iblk m c 6 t) (iblk m c 7 t) r
    = normRow (n := 16384) (φ := .f32) (ψ := .f32) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (⟨t.val * 1024 + r, h⟩ : Fin 16384) := by
  funext j
  unfold normRow
  rw [stream_blk m c t r h, blk_5, blk_6, blk_7]

end Blocks

theorem stored_8 (c : Dev nD) (t : Fin cfg0.N) (y : S1024x1024.Idx) :
    k0_pay1 (F := Ideal) (k0_pay3 (iblk m c 0 t) (iblk m c 1 t)) y
      = mix (m ((c : Thread nD τ).loc main_arg0)) (m ((c : Thread nD τ).loc main_arg1)) (((cfg0.win 8).blk t).view.emb y) := by
  have ht : t.val < 16 := lt_of_lt_of_eq t.isLt N_0
  idx_vars y
  have hemb : (((cfg0.win 8).blk t).view.emb (ix2 y0 y1 : S1024x1024.Idx)) = ix2 (⟨t.val * 1024 + y0, by omega⟩ : Fin 16384) y1 := by
    obtain ⟨-, -, -, -, -, -, -, -, e8, e9, e10⟩ := idx t
    blk_ext [e8]
  rw [hemb]
  exact (mix_at _ _ y0 y1).trans (congrFun (mix_blk m c t y0 (by omega)) y1)

theorem final_8 (c : Dev nD) : (dats m 0 c).arrAt 8 (cfgs 0).N = mix (m ((c : Thread nD τ).loc main_arg0)) (m ((c : Thread nD τ).loc main_arg1)) := by
  refine (dats m 0 c).arrAt_eq_of_covers 8 _ (by decide +kernel) fun t hf y => ?_
  blk_simp; rw [after0_8]
  frame_out
  exact stored_8 m c t y

theorem stored_9 (c : Dev nD) (t : Fin cfg0.N) (y : S1024x1024.Idx) :
    k0_pay4 (F := Ideal) (iblk m c 0 t) (iblk m c 1 t) (iblk m c 2 t) (iblk m c 3 t) (iblk m c 4 t) y
      = stream (m ((c : Thread nD τ).loc main_arg0)) (m ((c : Thread nD τ).loc main_arg1)) (m ((c : Thread nD τ).loc main_arg2)) (m ((c : Thread nD τ).loc main_arg3)) (m ((c : Thread nD τ).loc main_arg4)) (((cfg0.win 9).blk t).view.emb y) := by
  have ht : t.val < 16 := lt_of_lt_of_eq t.isLt N_0
  idx_vars y
  have hemb : (((cfg0.win 9).blk t).view.emb (ix2 y0 y1 : S1024x1024.Idx)) = ix2 (⟨t.val * 1024 + y0, by omega⟩ : Fin 16384) y1 := by
    obtain ⟨-, -, -, -, -, -, -, -, e8, e9, e10⟩ := idx t
    blk_ext [e9]
  rw [hemb]
  exact (stream_at _ _ _ _ _ y0 y1).trans (congrFun (stream_blk m c t y0 (by omega)) y1)

theorem final_9 (c : Dev nD) : (dats m 0 c).arrAt 9 (cfgs 0).N = stream (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 9 _ (by decide +kernel) fun t hf y => ?_
  blk_simp; rw [after0_9]
  frame_out
  rw [stream_name]
  exact stored_9 m c t y

theorem stored_10 (c : Dev nD) (t : Fin cfg0.N) (y : S1024x1024.Idx) :
    k0_pay2 (F := Ideal) (iblk m c 5 t) (iblk m c 6 t) (iblk m c 7 t) (k0_pay4 (iblk m c 0 t) (iblk m c 1 t) (iblk m c 2 t) (iblk m c 3 t) (iblk m c 4 t)) (k0_pay5 (iblk m c 0 t) (iblk m c 1 t) (iblk m c 2 t) (iblk m c 3 t) (iblk m c 4 t)) y
      = normed (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (((cfg0.win 10).blk t).view.emb y) := by
  have ht : t.val < 16 := lt_of_lt_of_eq t.isLt N_0
  idx_vars y
  have hemb : (((cfg0.win 10).blk t).view.emb (ix2 y0 y1 : S1024x1024.Idx)) = ix2 (⟨t.val * 1024 + y0, by omega⟩ : Fin 16384) y1 := by
    obtain ⟨-, -, -, -, -, -, -, -, e8, e9, e10⟩ := idx t
    blk_ext [e10]
  rw [hemb]
  exact (norm_at _ _ _ _ _ _ _ _ y0 y1).trans (congrFun (norm_blk m c t y0 (by omega)) y1)

theorem final_10 (c : Dev nD) : (dats m 0 c).arrAt 10 (cfgs 0).N = normed (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 10 _ (by decide +kernel) fun t hf y => ?_
  blk_simp; rw [after0_10]
  frame_out
  rw [stream_name]
  exact stored_10 m c t y

end Cert.MidOutIdeal.Grid

namespace Cert.Proof.MidOut

open Idealize.ShloMosaic Idealize.SL.Sem

/-- The reference's program runs and keeps its arguments; it declares no semaphore. -/
theorem ref_frame : Cert.quiescent_MidOutRefIdeal := fun m ρ _ =>
  (θ_run Cert.MidOutRefIdeal.defs _ _).mono (fun r h => ⟨fun c => (h c).2.2.2, sem_eq_zero_of_no_sems (by decide) r.2⟩)
    (Cert.MidOutRefIdeal.Spec.run m ρ)

/-- The kernel's arrays are the product, the stream and its modulated norm. -/
theorem algebraic : Cert.algebraic_MidOutIdeal_MidOutRefIdeal := by
  intro m g m' g' _ ha
  refine ⟨fun c => Cert.MidOutRefIdeal.Spec.mix (m ((c.tc : Thread Cert.MidOutIdeal.nD Cert.MidOutIdeal.τ).loc Cert.MidOutIdeal.main_arg0)) (m ((c.tc : Thread Cert.MidOutIdeal.nD Cert.MidOutIdeal.τ).loc Cert.MidOutIdeal.main_arg1)),
    fun c => Cert.MidOutRefIdeal.Spec.stream (m ((c.tc : Thread Cert.MidOutIdeal.nD Cert.MidOutIdeal.τ).loc Cert.MidOutIdeal.main_arg0)) (m ((c.tc : Thread Cert.MidOutIdeal.nD Cert.MidOutIdeal.τ).loc Cert.MidOutIdeal.main_arg1)) (m ((c.tc : Thread Cert.MidOutIdeal.nD Cert.MidOutIdeal.τ).loc Cert.MidOutIdeal.main_arg2)) (m ((c.tc : Thread Cert.MidOutIdeal.nD Cert.MidOutIdeal.τ).loc Cert.MidOutIdeal.main_arg3)) (m ((c.tc : Thread Cert.MidOutIdeal.nD Cert.MidOutIdeal.τ).loc Cert.MidOutIdeal.main_arg4)),
    fun c => Cert.MidOutRefIdeal.Spec.normed (m ((c.tc : Thread Cert.MidOutIdeal.nD Cert.MidOutIdeal.τ).loc Cert.MidOutIdeal.main_arg0)) (m ((c.tc : Thread Cert.MidOutIdeal.nD Cert.MidOutIdeal.τ).loc Cert.MidOutIdeal.main_arg1)) (m ((c.tc : Thread Cert.MidOutIdeal.nD Cert.MidOutIdeal.τ).loc Cert.MidOutIdeal.main_arg2)) (m ((c.tc : Thread Cert.MidOutIdeal.nD Cert.MidOutIdeal.τ).loc Cert.MidOutIdeal.main_arg3)) (m ((c.tc : Thread Cert.MidOutIdeal.nD Cert.MidOutIdeal.τ).loc Cert.MidOutIdeal.main_arg4)) (m ((c.tc : Thread Cert.MidOutIdeal.nD Cert.MidOutIdeal.τ).loc Cert.MidOutIdeal.main_arg5)) (m ((c.tc : Thread Cert.MidOutIdeal.nD Cert.MidOutIdeal.τ).loc Cert.MidOutIdeal.main_arg6)) (m ((c.tc : Thread Cert.MidOutIdeal.nD Cert.MidOutIdeal.τ).loc Cert.MidOutIdeal.main_arg7)),
    (θ_run _ _ _).mono (fun r h c => ?_) (Cert.MidOutIdeal.Value.run_blocks m g),
    (θ_run _ _ _).mono (fun r h c => ?_) (Cert.MidOutRefIdeal.Spec.run m' g')⟩
  · obtain ⟨h0, h1, h2, ho⟩ := h c
    exact ⟨h0.trans (Cert.MidOutIdeal.Grid.final_8 m c), h1.trans (Cert.MidOutIdeal.Grid.final_9 m c),
      h2.trans (Cert.MidOutIdeal.Grid.final_10 m c), ho⟩
  · obtain ⟨h0, h1, h2, ho⟩ := h c
    obtain ⟨a0, a1, a2, a3, a4, a5, a6, a7⟩ := ha c
    rw [a0, a1] at h0
    rw [a0, a1, a2, a3, a4] at h1
    rw [a0, a1, a2, a3, a4, a5, a6, a7] at h2
    exact ⟨h0, h1, h2, ho⟩

end Cert.Proof.MidOut

end
-- ==== Proof.PostOut.Pair.lean ====
/- The skip, the gate and the grouped norm after the state-space scan: the kernel's array against their lines. -/
module

public import proofs.«01_k».proof.Defs
public import proofs.«01_k».proof.Proof.Gen.PostOutIdeal.Value
public import proofs.«01_k».proof.Proof.Gen.PostOutRefIdeal.Run
public import Idealize.ShloMosaic.Lib.Pipeline.ValueKit
public import Idealize.ShloMosaic.Lib.Pointwise

@[expose] public section

set_option maxRecDepth 16384

noncomputable section

namespace Cert.PostOutRefIdeal.Spec

open Cert.PostOutRefIdeal Cert.PostOutRefIdeal.Gen Idealize.ShloMosaic Idealize.ShloMosaic.TcCoe Idealize.SL.Sem

/-- A value times its sigmoid. -/
def silu (x : EReal) : EReal := x * Ideal.logistic x

/-- A row of the scan's output with its skip, gated. -/
def gated (y a z d : Fin 512 → EReal) (j : Fin 512) : EReal := (y j + silu (a j) * d j) * silu (z j)

/-- The inverse root of a group's mean square raised by the norm's small constant. -/
def scale (f : Fin 256 → EReal) : EReal :=
  Ideal.rsqrt (Ideal.div (∑ k, f k * f k) (Ideal.ofBits .f32 0x43800000#32) + Ideal.ofBits .f32 0x358637BD#32)

/-- A row's grouped norm: two groups of 256 columns. -/
def normRow (f w : Fin 512 → EReal) (j : Fin 512) : EReal :=
  f j * scale (fun k => f (⟨(j : ℕ) / 256 * 256 + k, by omega⟩ : Fin 512)) * w j

/-- The whole array. -/
def post (y : FVec Ideal S16384x512 .f32) (a : FVec Ideal S16384x768 .f32) (p : FVec Ideal S16384x5896 .f32) (d : FVec Ideal S1x8 .f32)
    (w : FVec Ideal S1x512 .f32) : FVec Ideal S16384x512 .bf16 := fun i =>
  normRow (gated (fun q => y (ix2 (i 0) q)) (fun q => a (ix2 (i 0) (⟨q, by omega⟩ : Fin 768)))
    (fun q => p (ix2 (i 0) (⟨1536 + q, by omega⟩ : Fin 5896))) (fun q => d (ix2 (0 : Fin 1) (⟨(q : ℕ) / 64, by omega⟩ : Fin 8))))
    (fun q => w (ix2 (0 : Fin 1) q)) (i 1)

variable (m : (ℓ : Loc nD τ sig) → Buf (Elt Ideal) ℓ) (ρ : Dev nD → PrngReg)

/-- The reference's run, its result read as the formula above. -/
theorem run :
    θ_run defs (onTc (τ := τ) (main (F := Ideal))) ⟨m, fun _ => 0, ρ⟩ fun r => ∀ c : Dev nD,
      r.2.mem ((c.tc : Thread nD τ).loc main_v25) = post (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (Value.run m ρ)
  obtain ⟨h0, hr⟩ := h c
  refine ⟨h0.trans ?_, hr⟩
  clear h h0 hr
  unfold Value.res_main_v25
  generalize m ((c.tc : Thread nD τ).loc main_arg0) = a0
  generalize m ((c.tc : Thread nD τ).loc main_arg1) = a1
  generalize m ((c.tc : Thread nD τ).loc main_arg2) = a2
  generalize m ((c.tc : Thread nD τ).loc main_arg3) = a3
  generalize m ((c.tc : Thread nD τ).loc main_arg4) = a4
  funext i
  idx_vars i
  pointwise [post, normRow, scale, gated, silu, Ideal.logistic]

end Cert.PostOutRefIdeal.Spec

namespace Cert.PostOutIdeal.Grid

open Cert.PostOutIdeal Cert.PostOutIdeal.Gen Idealize.ShloMosaic Idealize.ShloMosaic.TcCoe Idealize.SL.Sem
open Idealize.ShloMosaic.Pipeline (Dat)
open Cert.PostOutRefIdeal.Spec (silu gated scale normRow post)

variable (m : (ℓ : Loc nD τ sig) → Buf (Elt Ideal) ℓ)

theorem idx : ∀ t : Fin cfg0.N, win0_0.index t = ![t.val, 0]
    ∧ win0_1.index t = ![t.val, 0]
    ∧ win0_2.index t = ![t.val, 3]
    ∧ win0_3.index t = ![0, 0]
    ∧ win0_4.index t = ![0, 0]
    ∧ win0_5.index t = ![t.val, 0] :=
  (by decide +kernel : ∀ t : Fin grid0.N, _)

theorem norm_at (y a : FVec Ideal S512x512 .f32) (z : FVec Ideal S512x512 .bf16) (d w : FVec Ideal S1x512 .f32) (r j : Fin 512) :
    k0_pay1 (F := Ideal) y a z d w (ix2 r j) = normRow (gated (fun q => y (ix2 r q)) (fun q => a (ix2 r q)) (fun q => z (ix2 r q))
      (fun q => d (ix2 (0 : Fin 1) q))) (fun q => w (ix2 (0 : Fin 1) q)) j := by
  pointwise [k0_pay1, normRow, scale, gated, silu]
  by_cases h : (j : ℕ) < 256
  · have e : (j : ℕ) / 256 * 256 = 0 := by omega
    rw [dif_pos h]
    simp only [e, zero_add]
  · have e : (j : ℕ) / 256 * 256 = 256 := by omega
    have e' : 256 + ((j : ℕ) - 256) = j := by omega
    rw [dif_neg h]
    simp only [e, e', Fin.eta]

section Blocks

variable (c : Dev nD) (t : Fin cfg0.N) (r q : Fin 512)

theorem host_2 (r : Fin 16384) : (V m c main_v6 : FVec Ideal S16384x6144 .bf16) (ix2 r (⟨1536 + q, by omega⟩ : Fin 6144))
    = m ((c : Thread nD τ).loc main_arg2) (ix2 r (⟨1536 + q, by omega⟩ : Fin 5896)) := by
  unfold V
  after_results_simp
  pointwise
  rw [dif_pos (by omega)]
  after_results_simp
  pointwise

theorem host_3 : V m c main_v8 (ix2 (0 : Fin 1) q) = m ((c : Thread nD τ).loc main_arg3) (ix2 (0 : Fin 1) (⟨(q : ℕ) / 64, by omega⟩ : Fin 8)) := by
  unfold V
  after_results_simp
  pointwise

theorem blk_0 (h : t.val * 512 + r < 16384) :
    iblk m c 0 t (ix2 r q) = m ((c : Thread nD τ).loc main_arg0) (ix2 (⟨t.val * 512 + r, h⟩ : Fin 16384) q) := by
  obtain ⟨e, -⟩ := idx t
  blk_ext [iblk, V, e]

theorem blk_1 (h : t.val * 512 + r < 16384) :
    X0_1 m c t (ix2 r q) = m ((c : Thread nD τ).loc main_arg1) (ix2 (⟨t.val * 512 + r, h⟩ : Fin 16384) (⟨q, by omega⟩ : Fin 768)) := by
  unfold X0_1 Pipeline.Window.fill
  rw [dif_pos (moved0_1 t _)]
  obtain ⟨-, e, -⟩ := idx t
  blk_ext [iblk, V, e]

theorem blk_2 (h : t.val * 512 + r < 16384) : iblk m c 2 t (ix2 r q)
    = m ((c : Thread nD τ).loc main_arg2) (ix2 (⟨t.val * 512 + r, h⟩ : Fin 16384) (⟨1536 + q, by omega⟩ : Fin 5896)) := by
  refine Eq.trans ?_ (host_2 m c q _)
  obtain ⟨-, -, e, -⟩ := idx t
  blk_ext [iblk, e]

theorem blk_3 : iblk m c 3 t (ix2 (0 : Fin 1) q) = m ((c : Thread nD τ).loc main_arg3) (ix2 (0 : Fin 1) (⟨(q : ℕ) / 64, by omega⟩ : Fin 8)) := by
  refine Eq.trans ?_ (host_3 m c q)
  obtain ⟨-, -, -, e, -⟩ := idx t
  blk_ext [iblk, e]

theorem blk_4 : iblk m c 4 t (ix2 (0 : Fin 1) q) = m ((c : Thread nD τ).loc main_arg4) (ix2 (0 : Fin 1) q) := by
  obtain ⟨-, -, -, -, e, -⟩ := idx t
  blk_ext [iblk, V, e]

end Blocks

theorem stored (c : Dev nD) (t : Fin cfg0.N) (y : S512x512.Idx) :
    k0_pay1 (F := Ideal) (iblk m c 0 t) (X0_1 m c t) (iblk m c 2 t) (iblk m c 3 t) (iblk m c 4 t) y
      = post (m ((c : Thread nD τ).loc main_arg0)) (m ((c : Thread nD τ).loc main_arg1)) (m ((c : Thread nD τ).loc main_arg2)) (m ((c : Thread nD τ).loc main_arg3)) (m ((c : Thread nD τ).loc main_arg4)) (((cfg0.win 5).blk t).view.emb y) := by
  have ht : t.val < 32 := lt_of_lt_of_eq t.isLt N_0
  idx_vars y
  have hemb : (((cfg0.win 5).blk t).view.emb (ix2 y0 y1 : S512x512.Idx)) = ix2 (⟨t.val * 512 + y0, by omega⟩ : Fin 16384) y1 := by
    obtain ⟨-, -, -, -, -, e⟩ := idx t
    blk_ext [e]
  rw [hemb]
  refine (norm_at _ _ _ _ _ y0 y1).trans ?_
  rw [show (fun q => iblk m c 0 t (ix2 y0 q)) = _ from funext fun q => blk_0 m c t y0 q (by omega),
    show (fun q => X0_1 m c t (ix2 y0 q)) = _ from funext fun q => blk_1 m c t y0 q (by omega),
    show (fun q => iblk m c 2 t (ix2 y0 q)) = _ from funext fun q => blk_2 m c t y0 q (by omega),
    show (fun q => iblk m c 3 t (ix2 (0 : Fin 1) q)) = _ from funext fun q => blk_3 m c t q,
    show (fun q => iblk m c 4 t (ix2 (0 : Fin 1) q)) = _ from funext fun q => blk_4 m c t q]
  rfl

theorem final (c : Dev nD) : (dats m 0 c).arrAt 5 (cfgs 0).N = post (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5]
  unfold outsAt0
  frame_out
  exact stored m c t y

end Cert.PostOutIdeal.Grid

namespace Cert.Proof.PostOut

open Idealize.ShloMosaic Idealize.SL.Sem

/-- The reference's program runs and keeps its arguments; it declares no semaphore. -/
theorem ref_frame : Cert.quiescent_PostOutRefIdeal := fun m ρ _ =>
  (θ_run Cert.PostOutRefIdeal.defs _ _).mono (fun r h => ⟨fun c => (h c).2, sem_eq_zero_of_no_sems (by decide) r.2⟩)
    (Cert.PostOutRefIdeal.Spec.run m ρ)

/-- The kernel's array is the gated grouped norm. -/
theorem algebraic : Cert.algebraic_PostOutIdeal_PostOutRefIdeal := by
  intro m g m' g' _ ha
  refine ⟨fun c => Cert.PostOutRefIdeal.Spec.post (m ((c.tc : Thread Cert.PostOutIdeal.nD Cert.PostOutIdeal.τ).loc Cert.PostOutIdeal.main_arg0)) (m ((c.tc : Thread Cert.PostOutIdeal.nD Cert.PostOutIdeal.τ).loc Cert.PostOutIdeal.main_arg1)) (m ((c.tc : Thread Cert.PostOutIdeal.nD Cert.PostOutIdeal.τ).loc Cert.PostOutIdeal.main_arg2)) (m ((c.tc : Thread Cert.PostOutIdeal.nD Cert.PostOutIdeal.τ).loc Cert.PostOutIdeal.main_arg3)) (m ((c.tc : Thread Cert.PostOutIdeal.nD Cert.PostOutIdeal.τ).loc Cert.PostOutIdeal.main_arg4)),
    (θ_run _ _ _).mono (fun r h c => ?_) (Cert.PostOutIdeal.Value.run_blocks m g),
    (θ_run _ _ _).mono (fun r h c => ?_) (Cert.PostOutRefIdeal.Spec.run m' g')⟩
  · obtain ⟨h0, ho⟩ := h c
    exact ⟨h0.trans (Cert.PostOutIdeal.Grid.final m c), ho⟩
  · obtain ⟨h0, ho⟩ := h c
    obtain ⟨a0, a1, a2, a3, a4⟩ := ha c
    rw [a0, a1, a2, a3, a4] at h0
    exact ⟨h0, ho⟩

end Cert.Proof.PostOut

end
-- ==== Proof.GluOut.Pair.lean ====
/- The product in the feed-forward layer with the gate fused behind it: the kernel's arrays against their lines. -/
module

public import proofs.«01_k».proof.Defs
public import proofs.«01_k».proof.Proof.Gen.GluOutIdeal.Frame
public import proofs.«01_k».proof.Proof.Gen.GluOutRefIdeal.Run
public import Idealize.ShloMosaic.Lib.Pipeline.ValueKit
public import Idealize.ShloMosaic.Lib.Pointwise

@[expose] public section

set_option maxRecDepth 16384

noncomputable section

namespace Cert.GluOutRefIdeal.Spec

open Cert.GluOutRefIdeal Cert.GluOutRefIdeal.Gen Idealize.ShloMosaic Idealize.ShloMosaic.TcCoe Idealize.SL.Sem

section
variable (h : FVec Ideal S16384x1024 .f32) (w : FVec Ideal S1024x5632 .f32)

/-- An entry of the product. -/
def proj (r : Fin 16384) (q : Fin 5632) : EReal := ∑ k : Fin 1024, h (ix2 r k) * w (ix2 k q)

/-- The product. -/
def both : FVec Ideal S16384x5632 .bf16 := fun i => proj h w (i 0) (i 1)

/-- The gate's half times its sigmoid times the other half. -/
def act : FVec Ideal S16384x2816 .bf16 := fun i =>
  let j : Fin 2816 := i 1
  proj h w (i 0) ⟨j, by omega⟩ * Ideal.logistic (proj h w (i 0) ⟨j, by omega⟩) * proj h w (i 0) ⟨2816 + j, by omega⟩

end

variable (m : (ℓ : Loc nD τ sig) → Buf (Elt Ideal) ℓ) (ρ : Dev nD → PrngReg)

/-- The reference's run, its results read as the formulas above. -/
theorem run :
    θ_run defs (onTc (τ := τ) (main (F := Ideal))) ⟨m, fun _ => 0, ρ⟩ fun r => ∀ c : Dev nD,
      r.2.mem ((c.tc : Thread nD τ).loc main_v3) = both (m ((c.tc : Thread nD τ).loc main_arg0)) (m ((c.tc : Thread nD τ).loc main_arg1))
      ∧ r.2.mem ((c.tc : Thread nD τ).loc main_v6) = act (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ?_) (Value.run m ρ)
  obtain ⟨h0, h1, hr⟩ := h c
  refine ⟨h0.trans ?_, h1.trans ?_, hr⟩
  all_goals
    clear h h0 h1 hr
    generalize m ((c.tc : Thread nD τ).loc main_arg0) = a
    generalize m ((c.tc : Thread nD τ).loc main_arg1) = b
    funext i
    idx_vars i
  · pointwise [both, proj]
  · pointwise [act, proj]
    simp only [Ideal.logistic]

end Cert.GluOutRefIdeal.Spec

namespace Cert.GluOutIdeal.Grid

open Cert.GluOutIdeal Cert.GluOutIdeal.Gen Idealize.ShloMosaic Idealize.ShloMosaic.TcCoe Idealize.SL.Sem
open Idealize.ShloMosaic.Pipeline (Dat)
open Cert.GluOutRefIdeal.Spec (proj both act)

variable (m : (ℓ : Loc nD τ sig) → Buf (Elt Ideal) ℓ)

theorem idx : ∀ t : Fin cfg0.N, win0_0.index t = ![t.val % 16, 0]
    ∧ win0_1.index t = ![0, t.val / 16]
    ∧ win0_2.index t = ![t.val % 16, t.val / 16]
    ∧ win0_3.index t = ![t.val % 16, t.val / 16] :=
  (by decide +kernel : ∀ t : Fin grid0.N, _)

theorem points (t : Fin cfg0.N) : t.val < 32 := lt_of_lt_of_eq t.isLt (by decide +kernel : cfg0.N = 32)

/-- The order of columns the call works in: of each block of 2816, 1408 of the gate's and 1408 of the other half's. It is its own inverse. -/
def place (q : ℕ) : ℕ := if q < 1408 then q else if q < 2816 then q + 1408 else if q < 4224 then q - 1408 else q

theorem place_lt {q : ℕ} (hq : q < 5632) : place q < 5632 := by unfold place; split_ifs <;> omega

theorem place_place (q : ℕ) : place (place q) = q := by unfold place; split_ifs <;> omega

theorem place_gate {j k : ℕ} (hj : j < 2) (hk : k < 1408) : place (2816 * j + k) = 1408 * j + k := by
  unfold place; split_ifs <;> omega

theorem place_other {j k : ℕ} (hj : j < 2) (hk : k < 1408) : place (2816 * j + (1408 + k)) = 2816 + (1408 * j + k) := by
  unfold place; split_ifs <;> omega

section Stored

variable (a : FVec Ideal S1024x1024 .bf16) (w : FVec Ideal S1024x2816 .bf16) (r : Fin 1024)

theorem prod_at (q : Fin 2816) : k0_pay1 (F := Ideal) a w (ix2 r q) = ∑ k : Fin 1024, a (ix2 r k) * w (ix2 k q) := by
  pointwise [k0_pay1]

theorem both_at (q : Fin 2816) : k0_pay2 (F := Ideal) a w (ix2 r q) = k0_pay1 (F := Ideal) a w (ix2 r q) := by
  pointwise [k0_pay2]

theorem act_at (j : Fin 1408) : k0_pay3 (F := Ideal) a w (ix2 r j)
    = k0_pay1 (F := Ideal) a w (ix2 r (⟨j, by omega⟩ : Fin 2816))
      * Ideal.logistic (k0_pay1 (F := Ideal) a w (ix2 r (⟨j, by omega⟩ : Fin 2816)))
      * k0_pay1 (F := Ideal) a w (ix2 r (⟨1408 + j, by omega⟩ : Fin 2816)) := by
  pointwise [k0_pay3]

end Stored

/-- Four bands of the weights' columns side by side, in the order `place` names. -/
theorem bands_w (A : FVec Ideal S1024x5632 .f32) (p : Fin 1024) (q : Fin 5632) :
    (concatenate (α := Ideal .f32) S1024x5632 1 [⟨S1024x1408, (extractStridedSlice S1024x1408 ![0, 0] A slices_S1024x5632_S1024x1408_0_0 : FVec Ideal S1024x1408 .f32)⟩,
      ⟨S1024x1408, (extractStridedSlice S1024x1408 ![0, 2816] A slices_S1024x5632_S1024x1408_0_2816 : FVec Ideal S1024x1408 .f32)⟩,
      ⟨S1024x1408, (extractStridedSlice S1024x1408 ![0, 1408] A slices_S1024x5632_S1024x1408_0_1408 : FVec Ideal S1024x1408 .f32)⟩,
      ⟨S1024x1408, (extractStridedSlice S1024x1408 ![0, 4224] A slices_S1024x5632_S1024x1408_0_4224 : FVec Ideal S1024x1408 .f32)⟩]
      concatenates_S1024x1408_S1024x1408_S1024x1408_S1024x1408_S1024x5632_d1 (ix2 p q) : EReal) = A (ix2 p ⟨place q, place_lt q.isLt⟩) := by
  pointwise
  split_ifs
  all_goals exact congrArg (fun k => A (ix2 p k)) (Fin.ext (by show _ = place q.val; unfold place; (repeat' split) <;> first | omega | (simp only []; omega)))

/-- Four bands of the product's columns side by side, in the order `place` names. -/
theorem bands_p (A : FVec Ideal S16384x5632 .bf16) (p : Fin 16384) (q : Fin 5632) :
    (concatenate (α := Ideal .bf16) S16384x5632 1 [⟨S16384x1408, (extractStridedSlice S16384x1408 ![0, 0] A slices_S16384x5632_S16384x1408_0_0 : FVec Ideal S16384x1408 .bf16)⟩,
      ⟨S16384x1408, (extractStridedSlice S16384x1408 ![0, 2816] A slices_S16384x5632_S16384x1408_0_2816 : FVec Ideal S16384x1408 .bf16)⟩,
      ⟨S16384x1408, (extractStridedSlice S16384x1408 ![0, 1408] A slices_S16384x5632_S16384x1408_0_1408 : FVec Ideal S16384x1408 .bf16)⟩,
      ⟨S16384x1408, (extractStridedSlice S16384x1408 ![0, 4224] A slices_S16384x5632_S16384x1408_0_4224 : FVec Ideal S16384x1408 .bf16)⟩]
      concatenates_S16384x1408_S16384x1408_S16384x1408_S16384x1408_S16384x5632_d1 (ix2 p q) : EReal) = A (ix2 p ⟨place q, place_lt q.isLt⟩) := by
  pointwise
  split_ifs
  all_goals exact congrArg (fun k => A (ix2 p k)) (Fin.ext (by show _ = place q.val; unfold place; (repeat' split) <;> first | omega | (simp only []; omega)))

section Blocks

variable (c : Dev nD) (t : Fin cfg0.N)

theorem host_0 (p : Fin 16384) (q : Fin 1024) : V m c main_v0 (ix2 p q) = m ((c : Thread nD τ).loc main_arg0) (ix2 p q) := by
  unfold V V0
  simp only [List.flatten_cons, List.flatten_nil, List.append_nil]
  after_results_simp
  pointwise

theorem host_1 (p : Fin 1024) (q : Fin 5632) :
    V m c main_v6 (ix2 p q) = m ((c : Thread nD τ).loc main_arg1) (ix2 p (⟨place q, place_lt q.isLt⟩ : Fin 5632)) := by
  unfold V V0
  simp only [List.flatten_cons, List.flatten_nil, List.append_nil]
  after_results_simp
  exact bands_w _ p q

theorem blk_0 (r k : Fin 1024) (h : 1024 * (t.val % 16) + r < 16384) :
    iblk m c 0 t (ix2 r k) = m ((c : Thread nD τ).loc main_arg0) (ix2 (⟨1024 * (t.val % 16) + r, h⟩ : Fin 16384) k) := by
  refine Eq.trans ?_ (host_0 m c _ _)
  obtain ⟨e, -⟩ := idx t
  blk_ext [iblk, e]

theorem blk_1 (k : Fin 1024) (q : Fin 2816) (h : 2816 * (t.val / 16) + q < 5632) :
    iblk m c 1 t (ix2 k q) = m ((c : Thread nD τ).loc main_arg1) (ix2 k (⟨place (2816 * (t.val / 16) + q), place_lt h⟩ : Fin 5632)) := by
  refine Eq.trans ?_ (host_1 m c k ⟨2816 * (t.val / 16) + q, h⟩)
  obtain ⟨-, e, -⟩ := idx t
  blk_ext [iblk, e]

theorem prod_blk (r : Fin 1024) (q : Fin 2816) (h : 1024 * (t.val % 16) + r < 16384) (h' : 2816 * (t.val / 16) + q < 5632) :
    k0_pay1 (F := Ideal) (iblk m c 0 t) (iblk m c 1 t) (ix2 r q)
      = proj (m ((c : Thread nD τ).loc main_arg0)) (m ((c : Thread nD τ).loc main_arg1)) ⟨1024 * (t.val % 16) + r, h⟩
          ⟨place (2816 * (t.val / 16) + q), place_lt h'⟩ :=
  (prod_at _ _ r q).trans (Finset.sum_congr rfl fun k _ => congrArg₂ (fun a b : EReal => a * b) (blk_0 m c t r k h) (blk_1 m c t k q h'))

/-- The product with its columns in the call's order. -/
def shuffled (h : FVec Ideal S16384x1024 .f32) (w : FVec Ideal S1024x5632 .f32) : FVec Ideal S16384x5632 .bf16 := fun i =>
  proj h w (i 0) ⟨place (i 1 : Fin 5632), place_lt (i 1 : Fin 5632).isLt⟩

theorem stored_2 (y : S1024x2816.Idx) : k0_pay2 (F := Ideal) (iblk m c 0 t) (iblk m c 1 t) y
    = shuffled (m ((c : Thread nD τ).loc main_arg0)) (m ((c : Thread nD τ).loc main_arg1)) (((cfg0.win 2).blk t).view.emb y) := by
  have ht := points t
  idx_vars y
  have e : (((cfg0.win 2).blk t).view.emb (ix2 y0 y1 : S1024x2816.Idx))
      = ix2 (⟨1024 * (t.val % 16) + y0, by omega⟩ : Fin 16384) (⟨2816 * (t.val / 16) + y1, by omega⟩ : Fin 5632) := by
    obtain ⟨-, -, e, -⟩ := idx t
    blk_ext [e]
  rw [e]
  exact (both_at _ _ y0 y1).trans (prod_blk m c t y0 y1 (by omega) (by omega))

theorem stored_3 (y : S1024x1408.Idx) : k0_pay3 (F := Ideal) (iblk m c 0 t) (iblk m c 1 t) y
    = act (m ((c : Thread nD τ).loc main_arg0)) (m ((c : Thread nD τ).loc main_arg1)) (((cfg0.win 3).blk t).view.emb y) := by
  have ht := points t
  idx_vars y
  have hr : 1024 * (t.val % 16) + y0 < 16384 := by omega
  have e : (((cfg0.win 3).blk t).view.emb (ix2 y0 y1 : S1024x1408.Idx))
      = ix2 (⟨1024 * (t.val % 16) + y0, hr⟩ : Fin 16384) (⟨1408 * (t.val / 16) + y1, by omega⟩ : Fin 2816) := by
    obtain ⟨-, -, -, e⟩ := idx t
    blk_ext [e]
  rw [e]
  refine (act_at _ _ y0 y1).trans ?_
  have hj : t.val / 16 < 2 := by omega
  have g := (prod_blk m c t y0 (⟨y1, by omega⟩ : Fin 2816) hr (by show 2816 * (t.val / 16) + (y1 : ℕ) < 5632; omega)).trans
    (congrArg (proj _ _ _) (Fin.ext (b := (⟨1408 * (t.val / 16) + y1, by omega⟩ : Fin 5632)) (place_gate hj y1.isLt)))
  have o := (prod_blk m c t y0 (⟨1408 + y1, by omega⟩ : Fin 2816) hr (by show 2816 * (t.val / 16) + (1408 + (y1 : ℕ)) < 5632; omega)).trans
    (congrArg (proj _ _ _) (Fin.ext (b := (⟨2816 + (1408 * (t.val / 16) + y1), by omega⟩ : Fin 5632)) (place_other hj y1.isLt)))
  rw [g, o]
  rfl

end Blocks

theorem final_2 (c : Dev nD) : (dats m 0 c).arrAt 2 (cfgs 0).N = shuffled (m ((c : Thread nD τ).loc main_arg0)) (m ((c : Thread nD τ).loc main_arg1)) := by
  refine (dats m 0 c).arrAt_eq_of_covers 2 _ (by decide +kernel) fun t hf y => ?_
  blk_simp; rw [after0_2]
  unfold out0_2
  frame_out
  exact stored_2 m c t y

theorem final_3 (c : Dev nD) : (dats m 0 c).arrAt 3 (cfgs 0).N = act (m ((c : Thread nD τ).loc main_arg0)) (m ((c : Thread nD τ).loc main_arg1)) := by
  refine (dats m 0 c).arrAt_eq_of_covers 3 _ (by decide +kernel) fun t hf y => ?_
  blk_simp; rw [after0_3]
  unfold out0_3
  frame_out
  exact stored_3 m c t y

/-- The host's last lines put the columns back in the order of the projection. -/
theorem result (c : Dev nD) : Pipeline.afterTail₀ cfgs (dats m) 0 (V0 m) [hostOps1] c main_v12
    = both (m ((c : Thread nD τ).loc main_arg0)) (m ((c : Thread nD τ).loc main_arg1)) := by
  have e := Pipeline.withArrays_arr (cfgs 0).spec launch0.win.arr_inj c (V0 m c) (fun w => (dats m 0 c).arrAt w (cfgs 0).N) 2
  funext i
  idx_vars i
  unfold Pipeline.afterTail₀
  simp only [List.flatten_cons, List.flatten_nil, List.append_nil]
  after_results_simp
  refine (bands_p _ i0 i1).trans ((congrFun (e.trans (final_2 m c)) (ix2 i0 (⟨place i1, place_lt i1.isLt⟩ : Fin 5632))).trans ?_)
  exact congrArg (proj _ _ i0) (Fin.ext (place_place i1))

theorem run (ρ : Dev nD → PrngReg) :
    θ_run defs (onTc (τ := τ) (main (F := Ideal))) ⟨m, fun _ => 0, ρ⟩ fun r => ∀ c : Dev nD,
      r.2.mem ((c.tc : Thread nD τ).loc main_v12) = both (m ((c.tc : Thread nD τ).loc main_arg0)) (m ((c.tc : Thread nD τ).loc main_arg1))
      ∧ r.2.mem ((c.tc : Thread nD τ).loc main_v7_1) = act (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r k c => ⟨((k.1 c).2 main_v12 (Pipeline.mem_restRefs_of main_v12 (by decide) (by decide))).trans (result m c),
      ((k.1 c).1 3).trans (final_3 m c), k.2 c⟩)
    (θ_run_and (run_main m ρ) (unchanged m ρ))

end Cert.GluOutIdeal.Grid

namespace Cert.Proof.GluOut

open Idealize.ShloMosaic Idealize.SL.Sem

/-- The reference's program runs and keeps its arguments; it declares no semaphore. -/
theorem ref_frame : Cert.quiescent_GluOutRefIdeal := fun m ρ _ =>
  (θ_run Cert.GluOutRefIdeal.defs _ _).mono (fun r h => ⟨fun c => (h c).2.2, sem_eq_zero_of_no_sems (by decide) r.2⟩)
    (Cert.GluOutRefIdeal.Spec.run m ρ)

/-- The kernel's arrays are the product and the gated half. -/
theorem algebraic : Cert.algebraic_GluOutIdeal_GluOutRefIdeal := by
  intro m g m' g' _ ha
  refine ⟨fun c => Cert.GluOutRefIdeal.Spec.both (m ((c.tc : Thread Cert.GluOutIdeal.nD Cert.GluOutIdeal.τ).loc Cert.GluOutIdeal.main_arg0)) (m ((c.tc : Thread Cert.GluOutIdeal.nD Cert.GluOutIdeal.τ).loc Cert.GluOutIdeal.main_arg1)),
    fun c => Cert.GluOutRefIdeal.Spec.act (m ((c.tc : Thread Cert.GluOutIdeal.nD Cert.GluOutIdeal.τ).loc Cert.GluOutIdeal.main_arg0)) (m ((c.tc : Thread Cert.GluOutIdeal.nD Cert.GluOutIdeal.τ).loc Cert.GluOutIdeal.main_arg1)),
    Cert.GluOutIdeal.Grid.run m g,
    (θ_run _ _ _).mono (fun r h c => ?_) (Cert.GluOutRefIdeal.Spec.run m' g')⟩
  obtain ⟨h0, h1, ho⟩ := h c
  obtain ⟨a0, a1⟩ := ha c
  rw [a0, a1] at h0 h1
  exact ⟨h0, h1, ho⟩

end Cert.Proof.GluOut

end
-- ==== Proof.ModOut.Pair.lean ====
/- The modulation of the layers: the kernel's array against its line. -/
module

public import proofs.«01_k».proof.Defs
public import proofs.«01_k».proof.Proof.Gen.ModOutIdeal.Value
public import proofs.«01_k».proof.Proof.Gen.ModOutRefIdeal.Run
public import Idealize.ShloMosaic.Lib.Pipeline.ValueKit
public import Idealize.ShloMosaic.Lib.Pointwise

@[expose] public section

set_option maxRecDepth 16384

noncomputable section

namespace Cert.ModOutRefIdeal.Spec

open Cert.ModOutRefIdeal Cert.ModOutRefIdeal.Gen Idealize.ShloMosaic Idealize.ShloMosaic.TcCoe Idealize.SL.Sem

/-- The condition times its sigmoid. -/
def gated (c : FVec Ideal S8x1024 .f32) (b : Fin 8) (k : Fin 1024) : EReal := c (ix2 b k) * Ideal.logistic (c (ix2 b k))

/-- The modulation: for each layer the gated condition times the layer's weights, and the bias. -/
def modulation (c : FVec Ideal S8x1024 .f32) (w : FVec Ideal S2x1024x1536 .f32) (b : FVec Ideal S2x1536 .f32) : FVec Ideal S2x8x1536 .f32 := fun i =>
  (∑ k : Fin 1024, gated c (i 1) k * w (ix3 (i 0) k (i 2))) + b (ix2 (i 0) (i 2))

variable (m : (ℓ : Loc nD τ sig) → Buf (Elt Ideal) ℓ) (ρ : Dev nD → PrngReg)

/-- The reference's run, its results read as the formulas above. -/
theorem run :
    θ_run defs (onTc (τ := τ) (main (F := Ideal))) ⟨m, fun _ => 0, ρ⟩ fun r => ∀ c : Dev nD,
      r.2.mem ((c.tc : Thread nD τ).loc main_v5) = modulation (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ?_) (Value.run m ρ)
  obtain ⟨h0, hr⟩ := h c
  refine ⟨h0.trans ?_, hr⟩
  all_goals
    clear h h0 hr
    generalize m ((c.tc : Thread nD τ).loc main_arg0) = a0
    generalize m ((c.tc : Thread nD τ).loc main_arg1) = a1
    generalize m ((c.tc : Thread nD τ).loc main_arg2) = a2
    funext i
    idx_vars i
  pointwise [modulation, gated]
  simp only [Ideal.logistic]

end Cert.ModOutRefIdeal.Spec

namespace Cert.ModOutIdeal.Grid

open Cert.ModOutIdeal Cert.ModOutIdeal.Gen Idealize.ShloMosaic Idealize.ShloMosaic.TcCoe Idealize.SL.Sem
open Idealize.ShloMosaic.Pipeline (Dat)
open Cert.ModOutRefIdeal.Spec (gated modulation)

variable (m : (ℓ : Loc nD τ sig) → Buf (Elt Ideal) ℓ)

theorem idx : ∀ t : Fin cfg0.N, win0_0.index t = ![0, 0]
    ∧ win0_1.index t = ![t.val / 3, 0, t.val % 3]
    ∧ win0_2.index t = ![t.val / 3, 0, t.val % 3]
    ∧ win0_3.index t = ![t.val / 3, 0, t.val % 3] :=
  (by decide +kernel : ∀ t : Fin grid0.N, _)

theorem points (t : Fin cfg0.N) : t.val < 6 := lt_of_lt_of_eq t.isLt (by decide +kernel : cfg0.N = 6)

section Blocks

variable (c : Dev nD) (t : Fin cfg0.N) (q : Fin 512)

theorem host (l : Fin 2) (n : Fin 1536) : V m c main_v0 (ix3 l (0 : Fin 1) n) = m ((c : Thread nD τ).loc main_arg2) (ix2 l n) := by
  unfold V
  after_results_simp
  pointwise

theorem blk_0 (b : Fin 8) (k : Fin 1024) : iblk m c 0 t (ix2 b k) = m ((c : Thread nD τ).loc main_arg0) (ix2 b k) := by
  obtain ⟨e, -⟩ := idx t
  blk_ext [iblk, V, e]

theorem blk_1 (k : Fin 1024) (h : t.val / 3 < 2) (h' : t.val % 3 * 512 + q < 1536) :
    iblk m c 1 t (ix3 (0 : Fin 1) k q) = m ((c : Thread nD τ).loc main_arg1) (ix3 (⟨t.val / 3, h⟩ : Fin 2) k (⟨t.val % 3 * 512 + q, h'⟩ : Fin 1536)) := by
  obtain ⟨-, e, -⟩ := idx t
  blk_ext [iblk, V, e]

theorem blk_2 (h : t.val / 3 < 2) (h' : t.val % 3 * 512 + q < 1536) :
    iblk m c 2 t (ix3 (0 : Fin 1) (0 : Fin 1) q) = m ((c : Thread nD τ).loc main_arg2) (ix2 (⟨t.val / 3, h⟩ : Fin 2) (⟨t.val % 3 * 512 + q, h'⟩ : Fin 1536)) := by
  refine Eq.trans ?_ (host m c _ _)
  obtain ⟨-, -, e, -⟩ := idx t
  blk_ext [iblk, e]

end Blocks

theorem stored (c : Dev nD) (t : Fin cfg0.N) (y : S1x8x512.Idx) : k0_pay1 (F := Ideal) (iblk m c 0 t) (iblk m c 1 t) (iblk m c 2 t) y
    = modulation (m ((c : Thread nD τ).loc main_arg0)) (m ((c : Thread nD τ).loc main_arg1)) (m ((c : Thread nD τ).loc main_arg2)) (((cfg0.win 3).blk t).view.emb y) := by
  have ht := points t
  idx_vars y
  have hl : t.val / 3 < 2 := by omega
  have hq : t.val % 3 * 512 + y2 < 1536 := by omega
  have e : (((cfg0.win 3).blk t).view.emb (ix3 y0 y1 y2 : S1x8x512.Idx)) = ix3 (⟨t.val / 3, hl⟩ : Fin 2) y1 (⟨t.val % 3 * 512 + y2, hq⟩ : Fin 1536) := by
    obtain ⟨-, -, -, e⟩ := idx t
    blk_ext [e]
  rw [e]
  pointwise [k0_pay1, modulation, gated]
  have e1 (k : Fin 1024) := blk_1 m c t y2 k hl hq
  have e2 := blk_2 m c t y2 hl hq
  simp only [blk_0, e1, e2]

theorem final (c : Dev nD) : (dats m 0 c).arrAt 3 (cfgs 0).N = modulation (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp; rw [after0_3]
  frame_out
  exact stored m c t y

end Cert.ModOutIdeal.Grid

namespace Cert.Proof.ModOut

open Idealize.ShloMosaic Idealize.SL.Sem

/-- The reference's program runs and keeps its arguments; it declares no semaphore. -/
theorem ref_frame : Cert.quiescent_ModOutRefIdeal := fun m ρ _ =>
  (θ_run Cert.ModOutRefIdeal.defs _ _).mono (fun r h => ⟨fun c => (h c).2, sem_eq_zero_of_no_sems (by decide) r.2⟩)
    (Cert.ModOutRefIdeal.Spec.run m ρ)

/-- The kernel's array is the modulation. -/
theorem algebraic : Cert.algebraic_ModOutIdeal_ModOutRefIdeal := by
  intro m g m' g' _ ha
  refine ⟨fun c => Cert.ModOutRefIdeal.Spec.modulation (m ((c.tc : Thread Cert.ModOutIdeal.nD Cert.ModOutIdeal.τ).loc Cert.ModOutIdeal.main_arg0)) (m ((c.tc : Thread Cert.ModOutIdeal.nD Cert.ModOutIdeal.τ).loc Cert.ModOutIdeal.main_arg1)) (m ((c.tc : Thread Cert.ModOutIdeal.nD Cert.ModOutIdeal.τ).loc Cert.ModOutIdeal.main_arg2)),
    (θ_run _ _ _).mono (fun r h c => ?_) (Cert.ModOutIdeal.Value.run_blocks m g),
    (θ_run _ _ _).mono (fun r h c => ?_) (Cert.ModOutRefIdeal.Spec.run m' g')⟩
  · obtain ⟨h0, ho⟩ := h c
    exact ⟨h0.trans (Cert.ModOutIdeal.Grid.final m c), ho⟩
  · obtain ⟨h0, ho⟩ := h c
    obtain ⟨a0, a1, a2⟩ := ha c
    rw [a0, a1, a2] at h0
    exact ⟨h0, ho⟩

end Cert.Proof.ModOut

end
-- ==== Proof.ModBack.Pair.lean ====
/- The gradient of the modulation's weights: the kernel's array against the derivative of its line. -/
module

public import proofs.«01_k».proof.Defs
public import proofs.«01_k».proof.Proof.Gen.ModBackIdeal.Value
public import proofs.«01_k».proof.Proof.Gen.ModBackRefIdeal.Run
public import Idealize.ShloMosaic.Lib.Pipeline.ValueKit
public import Idealize.ShloMosaic.Lib.Pointwise

@[expose] public section

set_option maxRecDepth 16384

noncomputable section

namespace Cert.ModBackRefIdeal.Spec

open Cert.ModBackRefIdeal Cert.ModBackRefIdeal.Gen Idealize.ShloMosaic Idealize.ShloMosaic.TcCoe Idealize.SL.Sem

/-- The condition times its sigmoid. -/
def gated (c : FVec Ideal S8x1024 .f32) (b : Fin 8) (k : Fin 1024) : EReal := c (ix2 b k) * Ideal.logistic (c (ix2 b k))

/-- The gradient of the weights: the gated condition times the cotangent, summed over the samples. -/
def weights (c : FVec Ideal S8x1024 .f32) (d : FVec Ideal S2x8x1536 .f32) : FVec Ideal S2x1024x1536 .f32 := fun i =>
  ∑ b : Fin 8, gated c b (i 1) * d (ix3 (i 0) b (i 2))

variable (m : (ℓ : Loc nD τ sig) → Buf (Elt Ideal) ℓ) (ρ : Dev nD → PrngReg)

/-- The reference's run, its results read as the formulas above. -/
theorem run :
    θ_run defs (onTc (τ := τ) (main (F := Ideal))) ⟨m, fun _ => 0, ρ⟩ fun r => ∀ c : Dev nD,
      r.2.mem ((c.tc : Thread nD τ).loc main_v8) = weights (m ((c.tc : Thread nD τ).loc main_arg0)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_) (Value.run m ρ)
  obtain ⟨h0, hr⟩ := h c
  refine ⟨h0.trans ?_, hr⟩
  all_goals
    clear h h0 hr
    generalize m ((c.tc : Thread nD τ).loc main_arg0) = a0
    generalize m ((c.tc : Thread nD τ).loc main_arg1) = a1
    generalize m ((c.tc : Thread nD τ).loc main_arg2) = a2
    generalize m ((c.tc : Thread nD τ).loc main_arg3) = a3
    funext i
    idx_vars i
  pointwise [weights, gated]
  simp only [Ideal.logistic]
  exact Finset.sum_congr rfl fun b _ => mul_comm _ _

end Cert.ModBackRefIdeal.Spec

namespace Cert.ModBackIdeal.Grid

open Cert.ModBackIdeal Cert.ModBackIdeal.Gen Idealize.ShloMosaic Idealize.ShloMosaic.TcCoe Idealize.SL.Sem
open Idealize.ShloMosaic.Pipeline (Dat)
open Cert.ModBackRefIdeal.Spec (gated weights)

variable (m : (ℓ : Loc nD τ sig) → Buf (Elt Ideal) ℓ)

theorem idx : ∀ t : Fin cfg0.N, win0_0.index t = ![0, 0]
    ∧ win0_1.index t = ![t.val / 3, 0, t.val % 3]
    ∧ win0_2.index t = ![t.val / 3, 0, t.val % 3] :=
  (by decide +kernel : ∀ t : Fin grid0.N, _)

theorem points (t : Fin cfg0.N) : t.val < 6 := lt_of_lt_of_eq t.isLt (by decide +kernel : cfg0.N = 6)

section Blocks

variable (c : Dev nD) (t : Fin cfg0.N) (b : Fin 8)

theorem blk_0 (k : Fin 1024) : iblk m c 0 t (ix2 b k) = m ((c : Thread nD τ).loc main_arg0) (ix2 b k) := by
  obtain ⟨e, -⟩ := idx t
  blk_ext [iblk, V, e]

theorem blk_1 (q : Fin 512) (h : t.val / 3 < 2) (h' : t.val % 3 * 512 + q < 1536) :
    iblk m c 1 t (ix3 (0 : Fin 1) b q) = m ((c : Thread nD τ).loc main_arg3) (ix3 (⟨t.val / 3, h⟩ : Fin 2) b (⟨t.val % 3 * 512 + q, h'⟩ : Fin 1536)) := by
  obtain ⟨-, e, -⟩ := idx t
  blk_ext [iblk, V, e]

end Blocks

theorem stored (c : Dev nD) (t : Fin cfg0.N) (y : S1x1024x512.Idx) : k0_pay1 (F := Ideal) (iblk m c 0 t) (iblk m c 1 t) y
    = weights (m ((c : Thread nD τ).loc main_arg0)) (m ((c : Thread nD τ).loc main_arg3)) (((cfg0.win 2).blk t).view.emb y) := by
  have ht := points t
  idx_vars y
  have hl : t.val / 3 < 2 := by omega
  have hq : t.val % 3 * 512 + y2 < 1536 := by omega
  have e : (((cfg0.win 2).blk t).view.emb (ix3 y0 y1 y2 : S1x1024x512.Idx)) = ix3 (⟨t.val / 3, hl⟩ : Fin 2) y1 (⟨t.val % 3 * 512 + y2, hq⟩ : Fin 1536) := by
    obtain ⟨-, -, e⟩ := idx t
    blk_ext [e]
  rw [e]
  pointwise [k0_pay1, weights, gated]
  have e1 (b : Fin 8) := blk_1 m c t b y2 hl hq
  simp only [blk_0, e1]

theorem final (c : Dev nD) : (dats m 0 c).arrAt 2 (cfgs 0).N = weights (m ((c : Thread nD τ).loc main_arg0)) (m ((c : Thread nD τ).loc main_arg3)) := by
  refine (dats m 0 c).arrAt_eq_of_covers 2 _ (by decide +kernel) fun t hf y => ?_
  blk_simp; rw [after0_2]
  frame_out
  exact stored m c t y

end Cert.ModBackIdeal.Grid

namespace Cert.Proof.ModBack

open Idealize.ShloMosaic Idealize.SL.Sem

/-- The reference's program runs and keeps its arguments; it declares no semaphore. -/
theorem ref_frame : Cert.quiescent_ModBackRefIdeal := fun m ρ _ =>
  (θ_run Cert.ModBackRefIdeal.defs _ _).mono (fun r h => ⟨fun c => (h c).2, sem_eq_zero_of_no_sems (by decide) r.2⟩)
    (Cert.ModBackRefIdeal.Spec.run m ρ)

/-- The kernel's array is the gradient of the weights. -/
theorem algebraic : Cert.algebraic_ModBackIdeal_ModBackRefIdeal := by
  intro m g m' g' _ ha
  refine ⟨fun c => Cert.ModBackRefIdeal.Spec.weights (m ((c.tc : Thread Cert.ModBackIdeal.nD Cert.ModBackIdeal.τ).loc Cert.ModBackIdeal.main_arg0)) (m ((c.tc : Thread Cert.ModBackIdeal.nD Cert.ModBackIdeal.τ).loc Cert.ModBackIdeal.main_arg3)),
    (θ_run _ _ _).mono (fun r h c => ?_) (Cert.ModBackIdeal.Value.run_blocks m g),
    (θ_run _ _ _).mono (fun r h c => ?_) (Cert.ModBackRefIdeal.Spec.run m' g')⟩
  · obtain ⟨h0, ho⟩ := h c
    exact ⟨h0.trans (Cert.ModBackIdeal.Grid.final m c), ho⟩
  · obtain ⟨h0, ho⟩ := h c
    obtain ⟨a0, a1, a2, a3⟩ := ha c
    rw [a0, a3] at h0
    exact ⟨h0, ho⟩

end Cert.Proof.ModBack

end
-- ==== Proof.Adam.Pair.lean ====
/- The optimiser's step: the kernel's arrays against its lines. -/
module

public import proofs.«01_k».proof.Defs
public import proofs.«01_k».proof.Proof.Gen.AdamIdeal.Value
public import proofs.«01_k».proof.Proof.Gen.AdamRefIdeal.Run
public import Idealize.ShloMosaic.Lib.Pipeline.ValueKit
public import Idealize.ShloMosaic.Lib.Pointwise

@[expose] public section

set_option maxRecDepth 16384

noncomputable section

namespace Cert.AdamRefIdeal.Spec

open Cert.AdamRefIdeal Cert.AdamRefIdeal.Gen Idealize.ShloMosaic Idealize.ShloMosaic.TcCoe Idealize.SL.Sem

/-- The place in the two layers' array of a place in the array of rows. -/
def place (i : S2048x1536.Idx) : S2x1024x1536.Idx :=
  let r : Fin 2048 := i 0
  ix3 (⟨r / 1024, by omega⟩ : Fin 2) (⟨r % 1024, by omega⟩ : Fin 1024) (i 1 : Fin 1536)

/-- The array of rows. -/
def flat (g : FVec Ideal S2x1024x1536 .f32) : FVec Ideal S2048x1536 .f32 := fun i => g (place i)

theorem flat_eq (g : FVec Ideal S2x1024x1536 .f32) : (shapeCast S2048x1536 g shapeCasts_S2x1024x1536_S2048x1536 : FVec Ideal S2048x1536 .f32) = flat g := by
  funext i
  idx_vars i
  pointwise [flat, place]

/-- The next first moment. -/
def mean (g m : FVec Ideal S2x1024x1536 .f32) : FVec Ideal S2048x1536 .f32 := fun i =>
  Ideal.ofBits .f32 0x3F666666#32 * m (place i) + Ideal.ofBits .f32 0x3DCCCCCD#32 * g (place i)

/-- The next second moment. -/
def square (g v : FVec Ideal S2x1024x1536 .f32) : FVec Ideal S2048x1536 .f32 := fun i =>
  Ideal.ofBits .f32 0x3F7FBE77#32 * v (place i) + Ideal.ofBits .f32 0x3A83126F#32 * (g (place i) * g (place i))

/-- The step. -/
def delta (w g m v : FVec Ideal S2x1024x1536 .f32) : FVec Ideal S2048x1536 .f32 := fun i =>
  Ideal.ofBits .f32 0xBA83126F#32 *
    (Ideal.div (Ideal.div (mean g m i) (Ideal.ofBits .f32 0x3F26BD02#32))
        (Ideal.sqrt (Ideal.div (square g v i) (Ideal.ofBits .f32 0x3C231ACC#32)) + Ideal.ofBits .f32 0x322BCC77#32)
      + Ideal.ofBits .f32 0x3C23D70A#32 * w (place i))

variable (m : (ℓ : Loc nD τ sig) → Buf (Elt Ideal) ℓ) (ρ : Dev nD → PrngReg)

/-- The reference's run, its results read as the formulas above. -/
theorem run :
    θ_run defs (onTc (τ := τ) (main (F := Ideal))) ⟨m, fun _ => 0, ρ⟩ fun r => ∀ c : Dev nD,
      r.2.mem ((c.tc : Thread nD τ).loc main_v24) = flat (m ((c.tc : Thread nD τ).loc main_arg1))
      ∧ r.2.mem ((c.tc : Thread nD τ).loc main_v25) = delta (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v26) = mean (m ((c.tc : Thread nD τ).loc main_arg1)) (m ((c.tc : Thread nD τ).loc main_arg2))
      ∧ r.2.mem ((c.tc : Thread nD τ).loc main_v27) = square (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_) (Value.run m ρ)
  obtain ⟨h0, h1, h2, h3, hr⟩ := h c
  refine ⟨h0.trans (flat_eq _), h1.trans ?_, h2.trans ?_, h3.trans ?_, hr⟩
  all_goals
    clear h h0 h1 h2 h3 hr
    generalize m ((c.tc : Thread nD τ).loc main_arg0) = a0
    generalize m ((c.tc : Thread nD τ).loc main_arg1) = a1
    generalize m ((c.tc : Thread nD τ).loc main_arg2) = a2
    generalize m ((c.tc : Thread nD τ).loc main_arg3) = a3
    funext i
    idx_vars i
    pointwise [delta, mean, square, place]

end Cert.AdamRefIdeal.Spec

namespace Cert.AdamIdeal.Grid

open Cert.AdamIdeal Cert.AdamIdeal.Gen Idealize.ShloMosaic Idealize.ShloMosaic.TcCoe Idealize.SL.Sem
open Idealize.ShloMosaic.Pipeline (Dat)
open Cert.AdamRefIdeal.Spec (place flat mean square delta)

variable (m : (ℓ : Loc nD τ sig) → Buf (Elt Ideal) ℓ)

theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

section Blocks

variable (c : Dev nD) (t : Fin cfg0.N) (r : Fin 256) (q : Fin 1536)

theorem host_0 (j : S2048x1536.Idx) : V m c main_v0 j = m ((c : Thread nD τ).loc main_arg0) (place j) := by
  idx_vars j
  unfold V
  after_results_simp
  pointwise [place]

theorem blk_0 (h : t.val * 256 + r < 2048) : iblk m c 0 t (ix2 r q) = m ((c : Thread nD τ).loc main_arg0) (place (ix2 (⟨t.val * 256 + r, h⟩ : Fin 2048) q)) := by
  refine Eq.trans ?_ (host_0 m c _)
  obtain ⟨e, -⟩ := idx t
  blk_ext [iblk, e]

theorem host_1 (j : S2048x1536.Idx) : V m c main_v1 j = m ((c : Thread nD τ).loc main_arg1) (place j) := by
  idx_vars j
  unfold V
  after_results_simp
  pointwise [place]

theorem blk_1 (h : t.val * 256 + r < 2048) : iblk m c 1 t (ix2 r q) = m ((c : Thread nD τ).loc main_arg1) (place (ix2 (⟨t.val * 256 + r, h⟩ : Fin 2048) q)) := by
  refine Eq.trans ?_ (host_1 m c _)
  obtain ⟨-, e, -⟩ := idx t
  blk_ext [iblk, e]

theorem host_2 (j : S2048x1536.Idx) : V m c main_v2 j = m ((c : Thread nD τ).loc main_arg2) (place j) := by
  idx_vars j
  unfold V
  after_results_simp
  pointwise [place]

theorem blk_2 (h : t.val * 256 + r < 2048) : iblk m c 2 t (ix2 r q) = m ((c : Thread nD τ).loc main_arg2) (place (ix2 (⟨t.val * 256 + r, h⟩ : Fin 2048) q)) := by
  refine Eq.trans ?_ (host_2 m c _)
  obtain ⟨-, -, e, -⟩ := idx t
  blk_ext [iblk, e]

theorem host_3 (j : S2048x1536.Idx) : V m c main_v3 j = m ((c : Thread nD τ).loc main_arg3) (place j) := by
  idx_vars j
  unfold V
  after_results_simp
  pointwise [place]

theorem blk_3 (h : t.val * 256 + r < 2048) : iblk m c 3 t (ix2 r q) = m ((c : Thread nD τ).loc main_arg3) (place (ix2 (⟨t.val * 256 + r, h⟩ : Fin 2048) q)) := by
  refine Eq.trans ?_ (host_3 m c _)
  obtain ⟨-, -, -, e, -⟩ := idx t
  blk_ext [iblk, e]

end Blocks

theorem stored_4 (c : Dev nD) (t : Fin cfg0.N) (y : S256x1536.Idx) : k0_pay1 (F := Ideal) (iblk m c 1 t) y
    = flat (m ((c : Thread nD τ).loc main_arg1)) (((cfg0.win 4).blk t).view.emb y) := by
  have ht : t.val < 8 := lt_of_lt_of_eq t.isLt (by decide +kernel : cfg0.N = 8)
  idx_vars y
  have h : t.val * 256 + y0 < 2048 := by omega
  have e : (((cfg0.win 4).blk t).view.emb (ix2 y0 y1 : S256x1536.Idx)) = ix2 (⟨t.val * 256 + y0, h⟩ : Fin 2048) y1 := by
    obtain ⟨-, -, -, -, e, -⟩ := idx t
    blk_ext [e]
  rw [e]
  pointwise [k0_pay1, k0_pay2, k0_pay3, k0_pay4, flat]
  simp only [blk_1 m c t y0 y1 h]

theorem final_4 (c : Dev nD) : (dats m 0 c).arrAt 4 (cfgs 0).N = flat (m ((c : Thread nD τ).loc main_arg1)) := by
  refine (dats m 0 c).arrAt_eq_of_covers 4 _ (by decide +kernel) fun t hf y => ?_
  blk_simp; rw [after0_4]
  frame_out
  exact stored_4 m c t y

theorem stored_5 (c : Dev nD) (t : Fin cfg0.N) (y : S256x1536.Idx) : k0_pay4 (F := Ideal) (iblk m c 1 t) (iblk m c 2 t) (iblk m c 3 t) (iblk m c 0 t) y
    = delta (m ((c : Thread nD τ).loc main_arg0)) (m ((c : Thread nD τ).loc main_arg1)) (m ((c : Thread nD τ).loc main_arg2)) (m ((c : Thread nD τ).loc main_arg3)) (((cfg0.win 5).blk t).view.emb y) := by
  have ht : t.val < 8 := lt_of_lt_of_eq t.isLt (by decide +kernel : cfg0.N = 8)
  idx_vars y
  have h : t.val * 256 + y0 < 2048 := by omega
  have e : (((cfg0.win 5).blk t).view.emb (ix2 y0 y1 : S256x1536.Idx)) = ix2 (⟨t.val * 256 + y0, h⟩ : Fin 2048) y1 := by
    obtain ⟨-, -, -, -, -, e, -⟩ := idx t
    blk_ext [e]
  rw [e]
  pointwise [k0_pay1, k0_pay2, k0_pay3, k0_pay4, delta, mean, square]
  simp only [blk_0 m c t y0 y1 h, blk_1 m c t y0 y1 h, blk_2 m c t y0 y1 h, blk_3 m c t y0 y1 h]

theorem final_5 (c : Dev nD) : (dats m 0 c).arrAt 5 (cfgs 0).N = delta (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp; rw [after0_5]
  frame_out
  exact stored_5 m c t y

theorem stored_6 (c : Dev nD) (t : Fin cfg0.N) (y : S256x1536.Idx) : k0_pay2 (F := Ideal) (iblk m c 1 t) (iblk m c 2 t) y
    = mean (m ((c : Thread nD τ).loc main_arg1)) (m ((c : Thread nD τ).loc main_arg2)) (((cfg0.win 6).blk t).view.emb y) := by
  have ht : t.val < 8 := lt_of_lt_of_eq t.isLt (by decide +kernel : cfg0.N = 8)
  idx_vars y
  have h : t.val * 256 + y0 < 2048 := by omega
  have e : (((cfg0.win 6).blk t).view.emb (ix2 y0 y1 : S256x1536.Idx)) = ix2 (⟨t.val * 256 + y0, h⟩ : Fin 2048) y1 := by
    obtain ⟨-, -, -, -, -, -, e, -⟩ := idx t
    blk_ext [e]
  rw [e]
  pointwise [k0_pay1, k0_pay2, k0_pay3, k0_pay4, mean]
  simp only [blk_1 m c t y0 y1 h, blk_2 m c t y0 y1 h]

theorem final_6 (c : Dev nD) : (dats m 0 c).arrAt 6 (cfgs 0).N = mean (m ((c : Thread nD τ).loc main_arg1)) (m ((c : Thread nD τ).loc main_arg2)) := by
  refine (dats m 0 c).arrAt_eq_of_covers 6 _ (by decide +kernel) fun t hf y => ?_
  blk_simp; rw [after0_6]
  frame_out
  exact stored_6 m c t y

theorem stored_7 (c : Dev nD) (t : Fin cfg0.N) (y : S256x1536.Idx) : k0_pay3 (F := Ideal) (iblk m c 1 t) (iblk m c 3 t) y
    = square (m ((c : Thread nD τ).loc main_arg1)) (m ((c : Thread nD τ).loc main_arg3)) (((cfg0.win 7).blk t).view.emb y) := by
  have ht : t.val < 8 := lt_of_lt_of_eq t.isLt (by decide +kernel : cfg0.N = 8)
  idx_vars y
  have h : t.val * 256 + y0 < 2048 := by omega
  have e : (((cfg0.win 7).blk t).view.emb (ix2 y0 y1 : S256x1536.Idx)) = ix2 (⟨t.val * 256 + y0, h⟩ : Fin 2048) y1 := by
    obtain ⟨-, -, -, -, -, -, -, e⟩ := idx t
    blk_ext [e]
  rw [e]
  pointwise [k0_pay1, k0_pay2, k0_pay3, k0_pay4, square]
  simp only [blk_1 m c t y0 y1 h, blk_3 m c t y0 y1 h]

theorem final_7 (c : Dev nD) : (dats m 0 c).arrAt 7 (cfgs 0).N = square (m ((c : Thread nD τ).loc main_arg1)) (m ((c : Thread nD τ).loc main_arg3)) := by
  refine (dats m 0 c).arrAt_eq_of_covers 7 _ (by decide +kernel) fun t hf y => ?_
  blk_simp; rw [after0_7]
  frame_out
  exact stored_7 m c t y

end Cert.AdamIdeal.Grid

namespace Cert.Proof.Adam

open Idealize.ShloMosaic Idealize.SL.Sem

/-- The reference's program runs and keeps its arguments; it declares no semaphore. -/
theorem ref_frame : Cert.quiescent_AdamRefIdeal := fun m ρ _ =>
  (θ_run Cert.AdamRefIdeal.defs _ _).mono (fun r h => ⟨fun c => (h c).2.2.2.2, sem_eq_zero_of_no_sems (by decide) r.2⟩)
    (Cert.AdamRefIdeal.Spec.run m ρ)

/-- The kernel's arrays are the gradient, the step and the two moments. -/
theorem algebraic : Cert.algebraic_AdamIdeal_AdamRefIdeal := by
  intro m g m' g' _ ha
  refine ⟨fun c => Cert.AdamRefIdeal.Spec.flat (m ((c.tc : Thread Cert.AdamIdeal.nD Cert.AdamIdeal.τ).loc Cert.AdamIdeal.main_arg1)),
    fun c => Cert.AdamRefIdeal.Spec.delta (m ((c.tc : Thread Cert.AdamIdeal.nD Cert.AdamIdeal.τ).loc Cert.AdamIdeal.main_arg0)) (m ((c.tc : Thread Cert.AdamIdeal.nD Cert.AdamIdeal.τ).loc Cert.AdamIdeal.main_arg1)) (m ((c.tc : Thread Cert.AdamIdeal.nD Cert.AdamIdeal.τ).loc Cert.AdamIdeal.main_arg2)) (m ((c.tc : Thread Cert.AdamIdeal.nD Cert.AdamIdeal.τ).loc Cert.AdamIdeal.main_arg3)),
    fun c => Cert.AdamRefIdeal.Spec.mean (m ((c.tc : Thread Cert.AdamIdeal.nD Cert.AdamIdeal.τ).loc Cert.AdamIdeal.main_arg1)) (m ((c.tc : Thread Cert.AdamIdeal.nD Cert.AdamIdeal.τ).loc Cert.AdamIdeal.main_arg2)),
    fun c => Cert.AdamRefIdeal.Spec.square (m ((c.tc : Thread Cert.AdamIdeal.nD Cert.AdamIdeal.τ).loc Cert.AdamIdeal.main_arg1)) (m ((c.tc : Thread Cert.AdamIdeal.nD Cert.AdamIdeal.τ).loc Cert.AdamIdeal.main_arg3)),
    (θ_run _ _ _).mono (fun r h c => ?_) (Cert.AdamIdeal.Value.run_blocks m g),
    (θ_run _ _ _).mono (fun r h c => ?_) (Cert.AdamRefIdeal.Spec.run m' g')⟩
  · obtain ⟨h0, h1, h2, h3, ho⟩ := h c
    exact ⟨h0.trans (Cert.AdamIdeal.Grid.final_4 m c), h1.trans (Cert.AdamIdeal.Grid.final_5 m c), h2.trans (Cert.AdamIdeal.Grid.final_6 m c), h3.trans (Cert.AdamIdeal.Grid.final_7 m c), ho⟩
  · obtain ⟨h0, h1, h2, h3, ho⟩ := h c
    obtain ⟨a0, a1, a2, a3⟩ := ha c
    rw [a1] at h0
    rw [a0, a1, a2, a3] at h1
    rw [a1, a2] at h2
    rw [a1, a3] at h3
    exact ⟨h0, h1, h2, h3, ho⟩

end Cert.Proof.Adam

end
-- ==== Proof.Slots.Pair.lean ====
/- The sum of the chips' parts of a weight's gradient: the kernel's array against the sum. -/
module

public import proofs.«01_k».proof.Defs
public import proofs.«01_k».proof.Proof.Gen.SlotsIdeal.Value
public import proofs.«01_k».proof.Proof.Gen.SlotsRefIdeal.Run
public import Idealize.ShloMosaic.Lib.Pipeline.ValueKit
public import Idealize.ShloMosaic.Lib.Pointwise

@[expose] public section

set_option maxRecDepth 16384

noncomputable section

namespace Cert.SlotsRefIdeal.Spec

open Cert.SlotsRefIdeal Cert.SlotsRefIdeal.Gen Idealize.ShloMosaic Idealize.ShloMosaic.TcCoe Idealize.SL.Sem

/-- The sum of the parts. -/
def total (a : FVec Ideal S4x1024x1408 .f32) : FVec Ideal S1024x1408 .f32 := fun i => ∑ s : Fin 4, a (ix3 s (i 0) (i 1))

variable (m : (ℓ : Loc nD τ sig) → Buf (Elt Ideal) ℓ) (ρ : Dev nD → PrngReg)

/-- The reference's run, its results read as the formulas above. -/
theorem run :
    θ_run defs (onTc (τ := τ) (main (F := Ideal))) ⟨m, fun _ => 0, ρ⟩ fun r => ∀ c : Dev nD,
      r.2.mem ((c.tc : Thread nD τ).loc main_v0) = total (m ((c.tc : Thread nD τ).loc main_arg0))
      ∧ r.2.mem ((c.tc : Thread nD τ).loc main_arg0) = m ((c.tc : Thread nD τ).loc main_arg0) := by
  refine (θ_run defs _ _).mono (fun r h c => ?_) (Value.run m ρ)
  obtain ⟨h0, hr⟩ := h c
  refine ⟨h0.trans ?_, hr⟩
  all_goals
    clear h h0 hr
    generalize m ((c.tc : Thread nD τ).loc main_arg0) = a0
    funext i
    idx_vars i
    pointwise [total]

end Cert.SlotsRefIdeal.Spec

namespace Cert.SlotsIdeal.Grid

open Cert.SlotsIdeal Cert.SlotsIdeal.Gen Idealize.ShloMosaic Idealize.ShloMosaic.TcCoe Idealize.SL.Sem
open Idealize.ShloMosaic.Pipeline (Dat)
open Cert.SlotsRefIdeal.Spec (total)

variable (m : (ℓ : Loc nD τ sig) → Buf (Elt Ideal) ℓ)

theorem idx : ∀ t : Fin cfg0.N, win0_0.index t = ![0, t.val, 0] ∧ win0_1.index t = ![t.val, 0] :=
  (by decide +kernel : ∀ t : Fin grid0.N, _)

section Blocks

variable (c : Dev nD) (t : Fin cfg0.N) (r : Fin 256) (q : Fin 1408)

theorem host (s : Fin 4) (p : Fin 1024) (q : Fin 1408) : V m c main_v0 (ix3 s p q) = m ((c : Thread nD τ).loc main_arg0) (ix3 s p q) := by
  unfold V
  after_results_simp
  pointwise

theorem blk (s : Fin 4) (h : t.val * 256 + r < 1024) :
    iblk m c 0 t (ix3 s r q) = m ((c : Thread nD τ).loc main_arg0) (ix3 s (⟨t.val * 256 + r, h⟩ : Fin 1024) q) := by
  refine Eq.trans ?_ (host m c _ _ _)
  obtain ⟨e, -⟩ := idx t
  blk_ext [iblk, e]

end Blocks

theorem stored (c : Dev nD) (t : Fin cfg0.N) (y : S256x1408.Idx) :
    k0_pay1 (F := Ideal) (View.ld (iblk m c 0 t) r0_0) (View.ld (iblk m c 0 t) r0_1) (View.ld (iblk m c 0 t) r0_2) (View.ld (iblk m c 0 t) r0_3) y
      = total (m ((c : Thread nD τ).loc main_arg0)) (((cfg0.win 1).blk t).view.emb y) := by
  have ht : t.val < 4 := lt_of_lt_of_eq t.isLt (by decide +kernel : cfg0.N = 4)
  idx_vars y
  have h : t.val * 256 + y0 < 1024 := by omega
  have e : (((cfg0.win 1).blk t).view.emb (ix2 y0 y1 : S256x1408.Idx)) = ix2 (⟨t.val * 256 + y0, h⟩ : Fin 1024) y1 := by
    obtain ⟨-, e⟩ := idx t
    blk_ext [e]
  rw [e]
  pointwise [k0_pay1, total]
  rw [Fin.sum_univ_four]
  exact congrArg₂ (fun a b : EReal => a + b) (congrArg₂ (fun a b : EReal => a + b) (congrArg₂ (fun a b : EReal => a + b)
    (blk m c t y0 y1 0 h) (blk m c t y0 y1 1 h)) (blk m c t y0 y1 2 h)) (blk m c t y0 y1 3 h)

theorem final (c : Dev nD) : (dats m 0 c).arrAt 1 (cfgs 0).N = total (m ((c : Thread nD τ).loc main_arg0)) := by
  refine (dats m 0 c).arrAt_eq_of_covers 1 _ (by decide +kernel) fun t hf y => ?_
  blk_simp; rw [after0_1]
  unfold out0_1
  frame_out
  exact stored m c t y

end Cert.SlotsIdeal.Grid

namespace Cert.Proof.Slots

open Idealize.ShloMosaic Idealize.SL.Sem

/-- The reference's program runs and keeps its arguments; it declares no semaphore. -/
theorem ref_frame : Cert.quiescent_SlotsRefIdeal := fun m ρ _ =>
  (θ_run Cert.SlotsRefIdeal.defs _ _).mono (fun r h => ⟨fun c => (h c).2, sem_eq_zero_of_no_sems (by decide) r.2⟩)
    (Cert.SlotsRefIdeal.Spec.run m ρ)

/-- The kernel's array is the sum of the parts. -/
theorem algebraic : Cert.algebraic_SlotsIdeal_SlotsRefIdeal := by
  intro m g m' g' _ ha
  refine ⟨fun c => Cert.SlotsRefIdeal.Spec.total (m ((c.tc : Thread Cert.SlotsIdeal.nD Cert.SlotsIdeal.τ).loc Cert.SlotsIdeal.main_arg0)),
    (θ_run _ _ _).mono (fun r h c => ?_) (Cert.SlotsIdeal.Value.run_blocks m g),
    (θ_run _ _ _).mono (fun r h c => ?_) (Cert.SlotsRefIdeal.Spec.run m' g')⟩
  · obtain ⟨h0, ho⟩ := h c
    exact ⟨h0.trans (Cert.SlotsIdeal.Grid.final m c), ho⟩
  · obtain ⟨h0, ho⟩ := h c
    have a0 := ha c
    rw [a0] at h0
    exact ⟨h0, ho⟩

end Cert.Proof.Slots

end
-- ==== Proof.Product.Pair.lean ====
/- The projection into the mixers, a plain product: the kernel's array against the product. -/
module

public import proofs.«01_k».proof.Defs
public import proofs.«01_k».proof.Proof.Gen.ProductIdeal.Frame
public import proofs.«01_k».proof.Proof.Gen.ProductRefIdeal.Run
public import Idealize.ShloMosaic.Lib.Pipeline.ValueKit
public import Idealize.ShloMosaic.Lib.Pointwise

@[expose] public section

set_option maxRecDepth 16384

noncomputable section

namespace Cert.ProductRefIdeal.Spec

open Cert.ProductRefIdeal Cert.ProductRefIdeal.Gen Idealize.ShloMosaic Idealize.ShloMosaic.TcCoe Idealize.SL.Sem

/-- The product. -/
def proj (h : FVec Ideal S16384x1024 .f32) (w : FVec Ideal S1024x5896 .f32) : FVec Ideal S16384x5896 .bf16 := fun i =>
  ∑ k : Fin 1024, h (ix2 (i 0) k) * w (ix2 k (i 1))

variable (m : (ℓ : Loc nD τ sig) → Buf (Elt Ideal) ℓ) (ρ : Dev nD → PrngReg)

/-- The reference's run, its results read as the formulas above. -/
theorem run :
    θ_run defs (onTc (τ := τ) (main (F := Ideal))) ⟨m, fun _ => 0, ρ⟩ fun r => ∀ c : Dev nD,
      r.2.mem ((c.tc : Thread nD τ).loc main_v1) = proj (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ?_) (Value.run m ρ)
  obtain ⟨h0, hr⟩ := h c
  refine ⟨h0.trans ?_, hr⟩
  all_goals
    clear h h0 hr
    generalize m ((c.tc : Thread nD τ).loc main_arg0) = a0
    generalize m ((c.tc : Thread nD τ).loc main_arg1) = a1
    funext i
    idx_vars i
    pointwise [proj]

end Cert.ProductRefIdeal.Spec

namespace Cert.ProductIdeal.Grid

open Cert.ProductIdeal Cert.ProductIdeal.Gen Idealize.ShloMosaic Idealize.ShloMosaic.TcCoe Idealize.SL.Sem
open Idealize.ShloMosaic.Pipeline (Dat)
open Cert.ProductRefIdeal.Spec (proj)

variable (m : (ℓ : Loc nD τ sig) → Buf (Elt Ideal) ℓ)

theorem idx : ∀ t : Fin cfg0.N, win0_0.index t = ![t.val / 6, 0]
    ∧ win0_1.index t = ![0, t.val % 6]
    ∧ win0_2.index t = ![t.val / 6, t.val % 6] :=
  (by decide +kernel : ∀ t : Fin grid0.N, _)

theorem points (t : Fin cfg0.N) : t.val < 48 := lt_of_lt_of_eq t.isLt (by decide +kernel : cfg0.N = 48)

theorem pay_at (a : FVec Ideal S2048x1024 .bf16) (w : FVec Ideal S1024x1024 .bf16) (r : Fin 2048) (q : Fin 1024) :
    k0_pay1 (F := Ideal) a w (ix2 r q) = ∑ k : Fin 1024, a (ix2 r k) * w (ix2 k q) := by
  pointwise [k0_pay1]

/-- The column of the padded weights that holds a column of the weights. -/
def place (q : ℕ) : ℕ := if q < 2048 then q else if q < 2816 then q + 256 else if q < 2824 then q - 768 else q + 248

theorem place_lt {q : ℕ} (hq : q < 5896) : place q < 6144 := by unfold place; split_ifs <;> omega

/-- The product of two arrays. -/
def prod (a : FVec Ideal S16384x1024 .bf16) (w : FVec Ideal S1024x6144 .bf16) : FVec Ideal S16384x6144 .bf16 := fun i =>
  ∑ k : Fin 1024, a (ix2 (i 0) k) * w (ix2 k (i 1))

/-- The product over the padded columns. -/
def wide (c : Dev nD) : FVec Ideal S16384x6144 .bf16 := prod (V m c main_v0) (V m c main_v7)

section Blocks

variable (c : Dev nD) (t : Fin cfg0.N)

theorem host_0 (p : Fin 16384) (q : Fin 1024) : V m c main_v0 (ix2 p q) = m ((c : Thread nD τ).loc main_arg0) (ix2 p q) := by
  unfold V V0
  simp only [List.flatten_cons, List.flatten_nil, List.append_nil]
  after_results_simp
  pointwise

theorem host_1 (p : Fin 1024) (q : Fin 5896) :
    V m c main_v7 (ix2 p (⟨place q, place_lt q.isLt⟩ : Fin 6144)) = m ((c : Thread nD τ).loc main_arg1) (ix2 p q) := by
  unfold V V0
  simp only [List.flatten_cons, List.flatten_nil, List.append_nil]
  after_results_simp
  obtain ⟨q, hq⟩ := q
  unfold place
  pointwise
  split_ifs
  all_goals first
    | omega
    | (after_results_simp
       try pointwise
       try exact congrArg (fun k => m ((c : Thread nD τ).loc main_arg1) (ix2 p k)) (Fin.ext (by first | omega | rfl | (dsimp only; omega))))

theorem product (p : Fin 16384) (q : Fin 5896) : wide m c (ix2 p (⟨place q, place_lt q.isLt⟩ : Fin 6144)) = proj (m ((c : Thread nD τ).loc main_arg0)) (m ((c : Thread nD τ).loc main_arg1)) (ix2 p q) := by
  unfold wide prod proj
  exact Finset.sum_congr rfl fun k _ => congrArg₂ (fun a b : EReal => a * b) (host_0 m c p k) (host_1 m c k q)

theorem blk_0 (r : Fin 2048) (k : Fin 1024) (h : t.val / 6 * 2048 + r < 16384) :
    iblk m c 0 t (ix2 r k) = V m c main_v0 (ix2 (⟨t.val / 6 * 2048 + r, h⟩ : Fin 16384) k) := by
  obtain ⟨e, -⟩ := idx t
  blk_ext [iblk, e]

theorem blk_1 (k q : Fin 1024) (h : t.val % 6 * 1024 + q < 6144) :
    iblk m c 1 t (ix2 k q) = V m c main_v7 (ix2 k (⟨t.val % 6 * 1024 + q, h⟩ : Fin 6144)) := by
  obtain ⟨-, e, -⟩ := idx t
  blk_ext [iblk, e]

theorem stored (y : S2048x1024.Idx) : k0_pay1 (F := Ideal) (iblk m c 0 t) (iblk m c 1 t) y = wide m c (((cfg0.win 2).blk t).view.emb y) := by
  have ht := points t
  idx_vars y
  have hr : t.val / 6 * 2048 + y0 < 16384 := by omega
  have hq : t.val % 6 * 1024 + y1 < 6144 := by omega
  have e : (((cfg0.win 2).blk t).view.emb (ix2 y0 y1 : S2048x1024.Idx)) = ix2 (⟨t.val / 6 * 2048 + y0, hr⟩ : Fin 16384) (⟨t.val % 6 * 1024 + y1, hq⟩ : Fin 6144) := by
    obtain ⟨-, -, e⟩ := idx t
    blk_ext [e]
  rw [e]
  exact (pay_at _ _ y0 y1).trans (Finset.sum_congr rfl fun k _ => congrArg₂ (fun a b : EReal => a * b) (blk_0 m c t y0 k hr) (blk_1 m c t k y1 hq))

end Blocks

theorem final (c : Dev nD) : (dats m 0 c).arrAt 2 (cfgs 0).N = wide m c := by
  refine (dats m 0 c).arrAt_eq_of_covers 2 _ (by decide +kernel) fun t hf y => ?_
  blk_simp; rw [after0_2]
  unfold out0_2
  frame_out
  exact stored m c t y

/-- Four bands of the padded columns side by side are the columns of the projection. -/
theorem bands (A : FVec Ideal S16384x6144 .bf16) (p : Fin 16384) (q : Fin 5896) :
    (concatenate (α := Ideal .bf16) S16384x5896 1 [⟨S16384x2048, (extractStridedSlice S16384x2048 ![0, 0] A slices_S16384x6144_S16384x2048_0_0 : FVec Ideal S16384x2048 .bf16)⟩,
      ⟨S16384x768, (extractStridedSlice S16384x768 ![0, 2304] A slices_S16384x6144_S16384x768_0_2304 : FVec Ideal S16384x768 .bf16)⟩,
      ⟨S16384x8, (extractStridedSlice S16384x8 ![0, 2048] A slices_S16384x6144_S16384x8_0_2048 : FVec Ideal S16384x8 .bf16)⟩,
      ⟨S16384x3072, (extractStridedSlice S16384x3072 ![0, 3072] A slices_S16384x6144_S16384x3072_0_3072 : FVec Ideal S16384x3072 .bf16)⟩]
      concatenates_S16384x2048_S16384x768_S16384x8_S16384x3072_S16384x5896_d1 (ix2 p q) : EReal) = A (ix2 p ⟨place q, place_lt q.isLt⟩) := by
  pointwise
  split_ifs
  all_goals exact congrArg (fun k => A (ix2 p k)) (Fin.ext (by show _ = place q.val; unfold place; (repeat' split) <;> (first | omega | (dsimp only; try omega))))

/-- The host's last lines leave the projection's columns in their order. -/
theorem result (c : Dev nD) : Pipeline.afterTail₀ cfgs (dats m) 0 (V0 m) [hostOps1] c main_v13 = proj (m ((c : Thread nD τ).loc main_arg0)) (m ((c : Thread nD τ).loc main_arg1)) := by
  have e := Pipeline.withArrays_arr (cfgs 0).spec launch0.win.arr_inj c (V0 m c) (fun w => (dats m 0 c).arrAt w (cfgs 0).N) 2
  funext i
  idx_vars i
  unfold Pipeline.afterTail₀
  simp only [List.flatten_cons, List.flatten_nil, List.append_nil]
  after_results_simp
  simp only [Matrix.cons_val_zero, Matrix.cons_val_one, Matrix.cons_val]
  after_results_simp
  refine (bands _ i0 i1).trans ((congrFun (e.trans (final m c)) (ix2 i0 (⟨place i1, place_lt i1.isLt⟩ : Fin 6144))).trans ?_)
  exact product m c i0 i1

theorem run (ρ : Dev nD → PrngReg) :
    θ_run defs (onTc (τ := τ) (main (F := Ideal))) ⟨m, fun _ => 0, ρ⟩ fun r => ∀ c : Dev nD,
      r.2.mem ((c.tc : Thread nD τ).loc main_v13) = proj (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r k c => ⟨((k.1 c).2 main_v13 (Pipeline.mem_restRefs_of main_v13 (by decide) (by decide))).trans (result m c), k.2 c⟩)
    (θ_run_and (run_main m ρ) (unchanged m ρ))

end Cert.ProductIdeal.Grid

namespace Cert.Proof.Product

open Idealize.ShloMosaic Idealize.SL.Sem

/-- The reference's program runs and keeps its arguments; it declares no semaphore. -/
theorem ref_frame : Cert.quiescent_ProductRefIdeal := fun m ρ _ =>
  (θ_run Cert.ProductRefIdeal.defs _ _).mono (fun r h => ⟨fun c => (h c).2, sem_eq_zero_of_no_sems (by decide) r.2⟩)
    (Cert.ProductRefIdeal.Spec.run m ρ)

/-- The kernel's array is the product. -/
theorem algebraic : Cert.algebraic_ProductIdeal_ProductRefIdeal := by
  intro m g m' g' _ ha
  refine ⟨fun c => Cert.ProductRefIdeal.Spec.proj (m ((c.tc : Thread Cert.ProductIdeal.nD Cert.ProductIdeal.τ).loc Cert.ProductIdeal.main_arg0)) (m ((c.tc : Thread Cert.ProductIdeal.nD Cert.ProductIdeal.τ).loc Cert.ProductIdeal.main_arg1)),
    (θ_run _ _ _).mono (fun r h c => ?_) (Cert.ProductIdeal.Grid.run m g),
    (θ_run _ _ _).mono (fun r h c => ?_) (Cert.ProductRefIdeal.Spec.run m' g')⟩
  · obtain ⟨h0, ho⟩ := h c
    exact ⟨h0, ho⟩
  · obtain ⟨h0, ho⟩ := h c
    obtain ⟨a0, a1⟩ := ha c
    rw [a0, a1] at h0
    exact ⟨h0, ho⟩

end Cert.Proof.Product

end
-- ==== Proof.lean ====
module

public import proofs.«01_k».proof.Defs
public import proofs.«01_k».proof.Proof.Gen.SsmConv
public import proofs.«01_k».proof.Proof.Gen.SsmConv.Skeleton
public import proofs.«01_k».proof.Proof.Gen.SsmConv.Launch
public import proofs.«01_k».proof.Proof.Gen.SsmConv.Points
public import proofs.«01_k».proof.Proof.Gen.SsmConv.Frame
public import proofs.«01_k».proof.Proof.Gen.SsmConvIdeal
public import proofs.«01_k».proof.Proof.Gen.SsmConvIdeal.Skeleton
public import proofs.«01_k».proof.Proof.Gen.SsmConvIdeal.Launch
public import proofs.«01_k».proof.Proof.Gen.SsmConvIdeal.Points
public import proofs.«01_k».proof.Proof.Gen.SsmConvIdeal.Frame
public import proofs.«01_k».proof.Proof.Gen.SsmConvRefIdeal
public import proofs.«01_k».proof.Proof.Gen.Attention
public import proofs.«01_k».proof.Proof.Gen.Attention.Skeleton
public import proofs.«01_k».proof.Proof.Gen.Attention.Launch
public import proofs.«01_k».proof.Proof.Gen.Attention.Points
public import proofs.«01_k».proof.Proof.Gen.AttentionIdeal
public import proofs.«01_k».proof.Proof.Gen.AttentionIdeal.Skeleton
public import proofs.«01_k».proof.Proof.Gen.AttentionIdeal.Launch
public import proofs.«01_k».proof.Proof.Gen.AttentionIdeal.Points
public import proofs.«01_k».proof.Proof.Gen.AttentionRefIdeal
public import proofs.«01_k».proof.Proof.Gen.ShortConv
public import proofs.«01_k».proof.Proof.Gen.ShortConv.Skeleton
public import proofs.«01_k».proof.Proof.Gen.ShortConv.Launch
public import proofs.«01_k».proof.Proof.Gen.ShortConv.Points
public import proofs.«01_k».proof.Proof.Gen.ShortConv.Frame
public import proofs.«01_k».proof.Proof.Gen.ShortConvIdeal
public import proofs.«01_k».proof.Proof.Gen.ShortConvIdeal.Skeleton
public import proofs.«01_k».proof.Proof.Gen.ShortConvIdeal.Launch
public import proofs.«01_k».proof.Proof.Gen.ShortConvIdeal.Points
public import proofs.«01_k».proof.Proof.Gen.ShortConvIdeal.Frame
public import proofs.«01_k».proof.Proof.Gen.ShortConvRefIdeal
public import proofs.«01_k».proof.Proof.Gen.LossLast
public import proofs.«01_k».proof.Proof.Gen.LossLast.Skeleton
public import proofs.«01_k».proof.Proof.Gen.LossLast.Launch
public import proofs.«01_k».proof.Proof.Gen.LossLast.Points
public import proofs.«01_k».proof.Proof.Gen.LossLast.Frame
public import proofs.«01_k».proof.Proof.Gen.LossLastIdeal
public import proofs.«01_k».proof.Proof.Gen.LossLastIdeal.Skeleton
public import proofs.«01_k».proof.Proof.Gen.LossLastIdeal.Launch
public import proofs.«01_k».proof.Proof.Gen.LossLastIdeal.Points
public import proofs.«01_k».proof.Proof.Gen.LossLastIdeal.Frame
public import proofs.«01_k».proof.Proof.Gen.LossLastRefIdeal
public import proofs.«01_k».proof.Proof.Gen.AdalnFirst
public import proofs.«01_k».proof.Proof.Gen.AdalnFirst.Skeleton
public import proofs.«01_k».proof.Proof.Gen.AdalnFirst.Launch
public import proofs.«01_k».proof.Proof.Gen.AdalnFirst.Points
public import proofs.«01_k».proof.Proof.Gen.AdalnFirst.Frame
public import proofs.«01_k».proof.Proof.Gen.AdalnFirstIdeal
public import proofs.«01_k».proof.Proof.Gen.AdalnFirstIdeal.Skeleton
public import proofs.«01_k».proof.Proof.Gen.AdalnFirstIdeal.Launch
public import proofs.«01_k».proof.Proof.Gen.AdalnFirstIdeal.Points
public import proofs.«01_k».proof.Proof.Gen.AdalnFirstIdeal.Frame
public import proofs.«01_k».proof.Proof.Gen.AdalnFirstRefIdeal
public import proofs.«01_k».proof.Proof.Gen.SsmPost
public import proofs.«01_k».proof.Proof.Gen.SsmPost.Skeleton
public import proofs.«01_k».proof.Proof.Gen.SsmPost.Launch
public import proofs.«01_k».proof.Proof.Gen.SsmPost.Points
public import proofs.«01_k».proof.Proof.Gen.SsmPost.Frame
public import proofs.«01_k».proof.Proof.Gen.SsmPostIdeal
public import proofs.«01_k».proof.Proof.Gen.SsmPostIdeal.Skeleton
public import proofs.«01_k».proof.Proof.Gen.SsmPostIdeal.Launch
public import proofs.«01_k».proof.Proof.Gen.SsmPostIdeal.Points
public import proofs.«01_k».proof.Proof.Gen.SsmPostIdeal.Frame
public import proofs.«01_k».proof.Proof.Gen.SsmPostRefIdeal
public import proofs.«01_k».proof.Proof.Gen.SwiGlu
public import proofs.«01_k».proof.Proof.Gen.SwiGlu.Skeleton
public import proofs.«01_k».proof.Proof.Gen.SwiGlu.Launch
public import proofs.«01_k».proof.Proof.Gen.SwiGlu.Points
public import proofs.«01_k».proof.Proof.Gen.SwiGlu.Frame
public import proofs.«01_k».proof.Proof.Gen.SwiGluIdeal
public import proofs.«01_k».proof.Proof.Gen.SwiGluIdeal.Skeleton
public import proofs.«01_k».proof.Proof.Gen.SwiGluIdeal.Launch
public import proofs.«01_k».proof.Proof.Gen.SwiGluIdeal.Points
public import proofs.«01_k».proof.Proof.Gen.SwiGluIdeal.Frame
public import proofs.«01_k».proof.Proof.Gen.SwiGluRefIdeal
public import proofs.«01_k».proof.Proof.Gen.Sticks
public import proofs.«01_k».proof.Proof.Gen.Sticks.Skeleton
public import proofs.«01_k».proof.Proof.Gen.Sticks.Launch
public import proofs.«01_k».proof.Proof.Gen.Sticks.Points
public import proofs.«01_k».proof.Proof.Gen.SticksIdeal
public import proofs.«01_k».proof.Proof.Gen.SticksIdeal.Skeleton
public import proofs.«01_k».proof.Proof.Gen.SticksIdeal.Launch
public import proofs.«01_k».proof.Proof.Gen.SticksIdeal.Points
public import proofs.«01_k».proof.Proof.Gen.SticksRefIdeal
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import proofs.«01_k».proof.Proof.Gen.Mid
public import proofs.«01_k».proof.Proof.Gen.Mid.Skeleton
public import proofs.«01_k».proof.Proof.Gen.Mid.Launch
public import proofs.«01_k».proof.Proof.Gen.Mid.Points
public import proofs.«01_k».proof.Proof.Gen.MidIdeal
public import proofs.«01_k».proof.Proof.Gen.MidIdeal.Skeleton
public import proofs.«01_k».proof.Proof.Gen.MidIdeal.Launch
public import proofs.«01_k».proof.Proof.Gen.MidIdeal.Points
public import proofs.«01_k».proof.Proof.Gen.MidRefIdeal
public import proofs.«01_k».proof.Proof.Gen.AdalnOut
public import proofs.«01_k».proof.Proof.Gen.AdalnOut.Skeleton
public import proofs.«01_k».proof.Proof.Gen.AdalnOut.Launch
public import proofs.«01_k».proof.Proof.Gen.AdalnOut.Points
public import proofs.«01_k».proof.Proof.Gen.AdalnOut.Frame
public import proofs.«01_k».proof.Proof.Gen.AdalnOutIdeal
public import proofs.«01_k».proof.Proof.Gen.AdalnOutIdeal.Skeleton
public import proofs.«01_k».proof.Proof.Gen.AdalnOutIdeal.Launch
public import proofs.«01_k».proof.Proof.Gen.AdalnOutIdeal.Points
public import proofs.«01_k».proof.Proof.Gen.AdalnOutIdeal.Frame
public import proofs.«01_k».proof.Proof.Gen.AdalnOutRefIdeal
public import proofs.«01_k».proof.Proof.Gen.ConvOut
public import proofs.«01_k».proof.Proof.Gen.ConvOut.Skeleton
public import proofs.«01_k».proof.Proof.Gen.ConvOut.Launch
public import proofs.«01_k».proof.Proof.Gen.ConvOut.Points
public import proofs.«01_k».proof.Proof.Gen.ConvOut.Frame
public import proofs.«01_k».proof.Proof.Gen.ConvOutIdeal
public import proofs.«01_k».proof.Proof.Gen.ConvOutIdeal.Skeleton
public import proofs.«01_k».proof.Proof.Gen.ConvOutIdeal.Launch
public import proofs.«01_k».proof.Proof.Gen.ConvOutIdeal.Points
public import proofs.«01_k».proof.Proof.Gen.ConvOutIdeal.Frame
public import proofs.«01_k».proof.Proof.Gen.ConvOutRefIdeal
public import proofs.«01_k».proof.Proof.Gen.ShortOut
public import proofs.«01_k».proof.Proof.Gen.ShortOut.Skeleton
public import proofs.«01_k».proof.Proof.Gen.ShortOut.Launch
public import proofs.«01_k».proof.Proof.Gen.ShortOut.Points
public import proofs.«01_k».proof.Proof.Gen.ShortOut.Frame
public import proofs.«01_k».proof.Proof.Gen.ShortOutIdeal
public import proofs.«01_k».proof.Proof.Gen.ShortOutIdeal.Skeleton
public import proofs.«01_k».proof.Proof.Gen.ShortOutIdeal.Launch
public import proofs.«01_k».proof.Proof.Gen.ShortOutIdeal.Points
public import proofs.«01_k».proof.Proof.Gen.ShortOutIdeal.Frame
public import proofs.«01_k».proof.Proof.Gen.ShortOutRefIdeal
public import proofs.«01_k».proof.Proof.Gen.PostOut
public import proofs.«01_k».proof.Proof.Gen.PostOut.Skeleton
public import proofs.«01_k».proof.Proof.Gen.PostOut.Launch
public import proofs.«01_k».proof.Proof.Gen.PostOut.Points
public import proofs.«01_k».proof.Proof.Gen.PostOut.Frame
public import proofs.«01_k».proof.Proof.Gen.PostOutIdeal
public import proofs.«01_k».proof.Proof.Gen.PostOutIdeal.Skeleton
public import proofs.«01_k».proof.Proof.Gen.PostOutIdeal.Launch
public import proofs.«01_k».proof.Proof.Gen.PostOutIdeal.Points
public import proofs.«01_k».proof.Proof.Gen.PostOutIdeal.Frame
public import proofs.«01_k».proof.Proof.Gen.PostOutRefIdeal
public import proofs.«01_k».proof.Proof.Gen.MergeOut
public import proofs.«01_k».proof.Proof.Gen.MergeOut.Skeleton
public import proofs.«01_k».proof.Proof.Gen.MergeOut.Launch
public import proofs.«01_k».proof.Proof.Gen.MergeOut.Points
public import proofs.«01_k».proof.Proof.Gen.MergeOut.Frame
public import proofs.«01_k».proof.Proof.Gen.MergeOutIdeal
public import proofs.«01_k».proof.Proof.Gen.MergeOutIdeal.Skeleton
public import proofs.«01_k».proof.Proof.Gen.MergeOutIdeal.Launch
public import proofs.«01_k».proof.Proof.Gen.MergeOutIdeal.Points
public import proofs.«01_k».proof.Proof.Gen.MergeOutIdeal.Frame
public import proofs.«01_k».proof.Proof.Gen.MergeOutRefIdeal
public import proofs.«01_k».proof.Proof.Gen.MidOut
public import proofs.«01_k».proof.Proof.Gen.MidOut.Skeleton
public import proofs.«01_k».proof.Proof.Gen.MidOut.Launch
public import proofs.«01_k».proof.Proof.Gen.MidOut.Points
public import proofs.«01_k».proof.Proof.Gen.MidOut.Frame
public import proofs.«01_k».proof.Proof.Gen.MidOutIdeal
public import proofs.«01_k».proof.Proof.Gen.MidOutIdeal.Skeleton
public import proofs.«01_k».proof.Proof.Gen.MidOutIdeal.Launch
public import proofs.«01_k».proof.Proof.Gen.MidOutIdeal.Points
public import proofs.«01_k».proof.Proof.Gen.MidOutIdeal.Frame
public import proofs.«01_k».proof.Proof.Gen.MidOutRefIdeal
public import proofs.«01_k».proof.Proof.Gen.GluOut
public import proofs.«01_k».proof.Proof.Gen.GluOut.Skeleton
public import proofs.«01_k».proof.Proof.Gen.GluOut.Launch
public import proofs.«01_k».proof.Proof.Gen.GluOut.Points
public import proofs.«01_k».proof.Proof.Gen.GluOut.Frame
public import proofs.«01_k».proof.Proof.Gen.GluOutIdeal
public import proofs.«01_k».proof.Proof.Gen.GluOutIdeal.Skeleton
public import proofs.«01_k».proof.Proof.Gen.GluOutIdeal.Launch
public import proofs.«01_k».proof.Proof.Gen.GluOutIdeal.Points
public import proofs.«01_k».proof.Proof.Gen.GluOutIdeal.Frame
public import proofs.«01_k».proof.Proof.Gen.GluOutRefIdeal
public import proofs.«01_k».proof.Proof.Gen.ModOut
public import proofs.«01_k».proof.Proof.Gen.ModOut.Skeleton
public import proofs.«01_k».proof.Proof.Gen.ModOut.Launch
public import proofs.«01_k».proof.Proof.Gen.ModOut.Points
public import proofs.«01_k».proof.Proof.Gen.ModOut.Frame
public import proofs.«01_k».proof.Proof.Gen.ModOutIdeal
public import proofs.«01_k».proof.Proof.Gen.ModOutIdeal.Skeleton
public import proofs.«01_k».proof.Proof.Gen.ModOutIdeal.Launch
public import proofs.«01_k».proof.Proof.Gen.ModOutIdeal.Points
public import proofs.«01_k».proof.Proof.Gen.ModOutIdeal.Frame
public import proofs.«01_k».proof.Proof.Gen.ModOutRefIdeal
public import proofs.«01_k».proof.Proof.Gen.ModBack
public import proofs.«01_k».proof.Proof.Gen.ModBack.Skeleton
public import proofs.«01_k».proof.Proof.Gen.ModBack.Launch
public import proofs.«01_k».proof.Proof.Gen.ModBack.Points
public import proofs.«01_k».proof.Proof.Gen.ModBack.Frame
public import proofs.«01_k».proof.Proof.Gen.ModBackIdeal
public import proofs.«01_k».proof.Proof.Gen.ModBackIdeal.Skeleton
public import proofs.«01_k».proof.Proof.Gen.ModBackIdeal.Launch
public import proofs.«01_k».proof.Proof.Gen.ModBackIdeal.Points
public import proofs.«01_k».proof.Proof.Gen.ModBackIdeal.Frame
public import proofs.«01_k».proof.Proof.Gen.ModBackRefIdeal
public import proofs.«01_k».proof.Proof.Gen.Adam
public import proofs.«01_k».proof.Proof.Gen.Adam.Skeleton
public import proofs.«01_k».proof.Proof.Gen.Adam.Launch
public import proofs.«01_k».proof.Proof.Gen.Adam.Points
public import proofs.«01_k».proof.Proof.Gen.Adam.Frame
public import proofs.«01_k».proof.Proof.Gen.AdamIdeal
public import proofs.«01_k».proof.Proof.Gen.AdamIdeal.Skeleton
public import proofs.«01_k».proof.Proof.Gen.AdamIdeal.Launch
public import proofs.«01_k».proof.Proof.Gen.AdamIdeal.Points
public import proofs.«01_k».proof.Proof.Gen.AdamIdeal.Frame
public import proofs.«01_k».proof.Proof.Gen.AdamRefIdeal
public import proofs.«01_k».proof.Proof.Gen.Slots
public import proofs.«01_k».proof.Proof.Gen.Slots.Skeleton
public import proofs.«01_k».proof.Proof.Gen.Slots.Launch
public import proofs.«01_k».proof.Proof.Gen.Slots.Points
public import proofs.«01_k».proof.Proof.Gen.Slots.Frame
public import proofs.«01_k».proof.Proof.Gen.SlotsIdeal
public import proofs.«01_k».proof.Proof.Gen.SlotsIdeal.Skeleton
public import proofs.«01_k».proof.Proof.Gen.SlotsIdeal.Launch
public import proofs.«01_k».proof.Proof.Gen.SlotsIdeal.Points
public import proofs.«01_k».proof.Proof.Gen.SlotsIdeal.Frame
public import proofs.«01_k».proof.Proof.Gen.SlotsRefIdeal
public import proofs.«01_k».proof.Proof.Gen.Product
public import proofs.«01_k».proof.Proof.Gen.Product.Skeleton
public import proofs.«01_k».proof.Proof.Gen.Product.Launch
public import proofs.«01_k».proof.Proof.Gen.Product.Points
public import proofs.«01_k».proof.Proof.Gen.Product.Frame
public import proofs.«01_k».proof.Proof.Gen.ProductIdeal
public import proofs.«01_k».proof.Proof.Gen.ProductIdeal.Skeleton
public import proofs.«01_k».proof.Proof.Gen.ProductIdeal.Launch
public import proofs.«01_k».proof.Proof.Gen.ProductIdeal.Points
public import proofs.«01_k».proof.Proof.Gen.ProductIdeal.Frame
public import proofs.«01_k».proof.Proof.Gen.ProductRefIdeal
public import proofs.«01_k».proof.Proof.Gen.Pre_attention_finite
public import proofs.«01_k».proof.Proof.Gen.Pre_losslast_finite
public import proofs.«01_k».proof.Proof.Gen.Pre_adalnfirst_finite
public import proofs.«01_k».proof.Proof.Gen.Pre_ssmpost_finite
public import proofs.«01_k».proof.Proof.Gen.Pre_swiglu_finite
public import proofs.«01_k».proof.Proof.Gen.Pre_sticks_finite
public import proofs.«01_k».proof.Proof.Gen.Pre_mid_finite
public import proofs.«01_k».proof.Proof.Gen.SsmConvIdeal.Value
public import proofs.«01_k».proof.Proof.Gen.SsmConvRefIdeal.Run
public import proofs.«01_k».proof.Proof.Gen.AttentionRefIdeal.Run
public import proofs.«01_k».proof.Proof.SsmConv.Pair
public import proofs.«01_k».proof.Proof.Attention.Run
public import proofs.«01_k».proof.Proof.Attention.Bits.Run
public import proofs.«01_k».proof.Proof.Attention.Pair
public import proofs.«01_k».proof.Proof.Gen.ShortConvIdeal.Value
public import proofs.«01_k».proof.Proof.Gen.ShortConvRefIdeal.Run
public import proofs.«01_k».proof.Proof.Gen.LossLastIdeal.Value
public import proofs.«01_k».proof.Proof.Gen.LossLastRefIdeal.Run
public import proofs.«01_k».proof.Proof.Gen.AdalnFirstIdeal.Value
public import proofs.«01_k».proof.Proof.Gen.AdalnFirstRefIdeal.Run
public import proofs.«01_k».proof.Proof.AdalnFirst.Pair
public import proofs.«01_k».proof.Proof.LossLast.Pair
public import proofs.«01_k».proof.Proof.ShortConv.Pair
public import proofs.«01_k».proof.Proof.Gen.SsmPostIdeal.Value
public import proofs.«01_k».proof.Proof.SsmPost.Pair
public import proofs.«01_k».proof.Proof.Gen.SwiGluRefIdeal.Run
public import proofs.«01_k».proof.Proof.SwiGlu.Pair
public import proofs.«01_k».proof.Proof.Gen.SticksRefIdeal.Run
public import proofs.«01_k».proof.Proof.Sticks.Run
public import proofs.«01_k».proof.Proof.Sticks.Bits.Run
public import proofs.«01_k».proof.Proof.Sticks.Pair
public import proofs.«01_k».proof.Proof.Gen.MergeRefIdeal.Run
public import proofs.«01_k».proof.Proof.Merge.Pair
public import proofs.«01_k».proof.Proof.Gen.MidRefIdeal.Run
public import proofs.«01_k».proof.Proof.Gen.MidIdeal.Frame.RunC
public import proofs.«01_k».proof.Proof.Mid.Pair
public import proofs.«01_k».proof.Proof.Gen.AdalnOutIdeal.Value
public import proofs.«01_k».proof.Proof.Gen.AdalnOutRefIdeal.Run
public import proofs.«01_k».proof.Proof.Gen.ConvOutIdeal.Value
public import proofs.«01_k».proof.Proof.Gen.ConvOutRefIdeal.Run
public import proofs.«01_k».proof.Proof.Gen.ShortOutIdeal.Value
public import proofs.«01_k».proof.Proof.Gen.ShortOutRefIdeal.Run
public import proofs.«01_k».proof.Proof.Gen.PostOutIdeal.Value
public import proofs.«01_k».proof.Proof.Gen.PostOutRefIdeal.Run
public import proofs.«01_k».proof.Proof.Gen.MergeOutIdeal.Value
public import proofs.«01_k».proof.Proof.Gen.MergeOutRefIdeal.Run
public import proofs.«01_k».proof.Proof.Gen.MidOutIdeal.Value
public import proofs.«01_k».proof.Proof.Gen.MidOutRefIdeal.Run
public import proofs.«01_k».proof.Proof.AdalnOut.Pair
public import proofs.«01_k».proof.Proof.ConvOut.Pair
public import proofs.«01_k».proof.Proof.ShortOut.Pair
public import proofs.«01_k».proof.Proof.MergeOut.Pair
public import proofs.«01_k».proof.Proof.MidOut.Pair
public import proofs.«01_k».proof.Proof.PostOut.Pair
public import proofs.«01_k».proof.Proof.Gen.GluOutRefIdeal.Run
public import proofs.«01_k».proof.Proof.GluOut.Pair
public import proofs.«01_k».proof.Proof.Gen.ModOutIdeal.Value
public import proofs.«01_k».proof.Proof.Gen.ModOutRefIdeal.Run
public import proofs.«01_k».proof.Proof.ModOut.Pair
public import proofs.«01_k».proof.Proof.Gen.ModBackIdeal.Value
public import proofs.«01_k».proof.Proof.Gen.ModBackRefIdeal.Run
public import proofs.«01_k».proof.Proof.ModBack.Pair
public import proofs.«01_k».proof.Proof.Gen.AdamIdeal.Value
public import proofs.«01_k».proof.Proof.Gen.AdamRefIdeal.Run
public import proofs.«01_k».proof.Proof.Adam.Pair
public import proofs.«01_k».proof.Proof.Gen.SlotsIdeal.Value
public import proofs.«01_k».proof.Proof.Gen.SlotsRefIdeal.Run
public import proofs.«01_k».proof.Proof.Slots.Pair
public import proofs.«01_k».proof.Proof.Gen.ProductRefIdeal.Run
public import proofs.«01_k».proof.Proof.Product.Pair
public import Idealize.ShloMosaic.Adequacy
public import Idealize.ShloMosaic.Init

@[expose] public section

noncomputable section

namespace Cert.Proof

open Idealize.ShloMosaic Idealize.SL.Sem Cert.SsmConv

theorem claim : Cert.Claim := ⟨Cert.SsmConv.Gen.facts, Cert.SsmConvIdeal.Gen.facts, Cert.SsmConvRefIdeal.Gen.facts, Cert.Attention.Gen.facts, Cert.AttentionIdeal.Gen.facts, Cert.AttentionRefIdeal.Gen.facts, Cert.ShortConv.Gen.facts, Cert.ShortConvIdeal.Gen.facts, Cert.ShortConvRefIdeal.Gen.facts, Cert.LossLast.Gen.facts, Cert.LossLastIdeal.Gen.facts, Cert.LossLastRefIdeal.Gen.facts, Cert.AdalnFirst.Gen.facts, Cert.AdalnFirstIdeal.Gen.facts, Cert.AdalnFirstRefIdeal.Gen.facts, Cert.SsmPost.Gen.facts, Cert.SsmPostIdeal.Gen.facts, Cert.SsmPostRefIdeal.Gen.facts, Cert.SwiGlu.Gen.facts, Cert.SwiGluIdeal.Gen.facts, Cert.SwiGluRefIdeal.Gen.facts, Cert.Sticks.Gen.facts, Cert.SticksIdeal.Gen.facts, Cert.SticksRefIdeal.Gen.facts, Cert.Merge.Gen.facts, Cert.MergeIdeal.Gen.facts, Cert.MergeRefIdeal.Gen.facts, Cert.Mid.Gen.facts, Cert.MidIdeal.Gen.facts, Cert.MidRefIdeal.Gen.facts, Cert.AdalnOut.Gen.facts, Cert.AdalnOutIdeal.Gen.facts, Cert.AdalnOutRefIdeal.Gen.facts, Cert.ConvOut.Gen.facts, Cert.ConvOutIdeal.Gen.facts, Cert.ConvOutRefIdeal.Gen.facts, Cert.ShortOut.Gen.facts, Cert.ShortOutIdeal.Gen.facts, Cert.ShortOutRefIdeal.Gen.facts, Cert.PostOut.Gen.facts, Cert.PostOutIdeal.Gen.facts, Cert.PostOutRefIdeal.Gen.facts, Cert.MergeOut.Gen.facts, Cert.MergeOutIdeal.Gen.facts, Cert.MergeOutRefIdeal.Gen.facts, Cert.MidOut.Gen.facts, Cert.MidOutIdeal.Gen.facts, Cert.MidOutRefIdeal.Gen.facts, Cert.GluOut.Gen.facts, Cert.GluOutIdeal.Gen.facts, Cert.GluOutRefIdeal.Gen.facts, Cert.ModOut.Gen.facts, Cert.ModOutIdeal.Gen.facts, Cert.ModOutRefIdeal.Gen.facts, Cert.ModBack.Gen.facts, Cert.ModBackIdeal.Gen.facts, Cert.ModBackRefIdeal.Gen.facts, Cert.Adam.Gen.facts, Cert.AdamIdeal.Gen.facts, Cert.AdamRefIdeal.Gen.facts, Cert.Slots.Gen.facts, Cert.SlotsIdeal.Gen.facts, Cert.SlotsRefIdeal.Gen.facts, Cert.Product.Gen.facts, Cert.ProductIdeal.Gen.facts, Cert.ProductRefIdeal.Gen.facts, Cert.Pre_attention_finite.Gen.facts, Cert.Pre_losslast_finite.Gen.facts, Cert.Pre_adalnfirst_finite.Gen.facts, Cert.Pre_ssmpost_finite.Gen.facts, Cert.Pre_swiglu_finite.Gen.facts, Cert.Pre_sticks_finite.Gen.facts, Cert.Pre_mid_finite.Gen.facts,
  fun m ρ _ => Cert.SsmConv.Gen.frame m ρ,
  fun m ρ _ => Cert.SsmConvIdeal.Gen.frame m ρ,
  ssmConvRef_frame,
  fun m ρ _ => Cert.Proof.Attention.Bits.frame_run m ρ,
  fun m ρ _ => Cert.Proof.Attention.Ideal.frame_run m ρ,
  fun m ρ _ => Cert.Proof.Attention.Ideal.frame_run m ρ,
  Attention.ref_frame,
  fun m ρ _ => Attention.ref_frame m ρ trivial,
  fun m ρ _ => Cert.ShortConv.Gen.frame m ρ,
  fun m ρ _ => Cert.ShortConvIdeal.Gen.frame m ρ,
  ShortConv.ref_frame,
  fun m ρ _ => Cert.LossLast.Gen.frame m ρ,
  fun m ρ _ => Cert.LossLastIdeal.Gen.frame m ρ,
  fun m ρ _ => Cert.LossLastIdeal.Gen.frame m ρ,
  LossLast.ref_frame,
  fun m ρ _ => LossLast.ref_frame m ρ trivial,
  fun m ρ _ => Cert.AdalnFirst.Gen.frame m ρ,
  fun m ρ _ => Cert.AdalnFirstIdeal.Gen.frame m ρ,
  fun m ρ _ => Cert.AdalnFirstIdeal.Gen.frame m ρ,
  AdalnFirst.ref_frame,
  fun m ρ _ => AdalnFirst.ref_frame m ρ trivial,
  fun m ρ _ => Cert.SsmPost.Gen.frame m ρ,
  fun m ρ _ => Cert.SsmPostIdeal.Gen.frame m ρ,
  fun m ρ _ => Cert.SsmPostIdeal.Gen.frame m ρ,
  SsmPost.ref_frame,
  fun m ρ _ => SsmPost.ref_frame m ρ trivial,
  fun m ρ _ => Cert.SwiGlu.Gen.frame m ρ,
  fun m ρ _ => Cert.SwiGluIdeal.Gen.frame m ρ,
  fun m ρ _ => Cert.SwiGluIdeal.Gen.frame m ρ,
  SwiGlu.ref_frame,
  fun m ρ _ => SwiGlu.ref_frame m ρ trivial,
  fun m ρ _ => Cert.Proof.Sticks.Bits.frame_run m ρ,
  fun m ρ _ => Cert.Proof.Sticks.Ideal.frame_run m ρ,
  fun m ρ _ => Cert.Proof.Sticks.Ideal.frame_run m ρ,
  Sticks.ref_frame,
  fun m ρ _ => Sticks.ref_frame m ρ trivial,
  fun m ρ _ => Cert.Merge.Gen.frame m ρ,
  fun m ρ _ => Cert.MergeIdeal.Gen.frame m ρ,
  Merge.ref_frame,
  Mid.bits_frame,
  fun m ρ _ => Cert.MidIdeal.Grid.frame m ρ,
  fun m ρ _ => Cert.MidIdeal.Grid.frame m ρ,
  Mid.ref_frame,
  fun m ρ _ => Mid.ref_frame m ρ trivial,
  fun m ρ _ => Cert.AdalnOut.Gen.frame m ρ,
  fun m ρ _ => Cert.AdalnOutIdeal.Gen.frame m ρ,
  AdalnOut.ref_frame,
  fun m ρ _ => Cert.ConvOut.Gen.frame m ρ,
  fun m ρ _ => Cert.ConvOutIdeal.Gen.frame m ρ,
  ConvOut.ref_frame,
  fun m ρ _ => Cert.ShortOut.Gen.frame m ρ,
  fun m ρ _ => Cert.ShortOutIdeal.Gen.frame m ρ,
  ShortOut.ref_frame,
  fun m ρ _ => Cert.PostOut.Gen.frame m ρ,
  fun m ρ _ => Cert.PostOutIdeal.Gen.frame m ρ,
  PostOut.ref_frame,
  fun m ρ _ => Cert.MergeOut.Gen.frame m ρ,
  fun m ρ _ => Cert.MergeOutIdeal.Gen.frame m ρ,
  MergeOut.ref_frame,
  fun m ρ _ => Cert.MidOut.Gen.frame m ρ,
  fun m ρ _ => Cert.MidOutIdeal.Gen.frame m ρ,
  MidOut.ref_frame,
  fun m ρ _ => Cert.GluOut.Gen.frame m ρ,
  fun m ρ _ => Cert.GluOutIdeal.Gen.frame m ρ,
  GluOut.ref_frame,
  fun m ρ _ => Cert.ModOut.Gen.frame m ρ,
  fun m ρ _ => Cert.ModOutIdeal.Gen.frame m ρ,
  ModOut.ref_frame,
  fun m ρ _ => Cert.ModBack.Gen.frame m ρ,
  fun m ρ _ => Cert.ModBackIdeal.Gen.frame m ρ,
  ModBack.ref_frame,
  fun m ρ _ => Cert.Adam.Gen.frame m ρ,
  fun m ρ _ => Cert.AdamIdeal.Gen.frame m ρ,
  Adam.ref_frame,
  fun m ρ _ => Cert.Slots.Gen.frame m ρ,
  fun m ρ _ => Cert.SlotsIdeal.Gen.frame m ρ,
  Slots.ref_frame,
  fun m ρ _ => Cert.Product.Gen.frame m ρ,
  fun m ρ _ => Cert.ProductIdeal.Gen.frame m ρ,
  Product.ref_frame,
  trivial,
  ssmConv,
  IdealRules.named_const.statement Cert.AttentionIdeal.κ "cutoff" .f32 0xC2D20000#32 ⊥ rfl,
  Attention.algebraic,
  trivial,
  ShortConv.algebraic,
  trivial,
  LossLast.algebraic,
  trivial,
  AdalnFirst.algebraic,
  trivial,
  SsmPost.algebraic,
  trivial,
  SwiGlu.algebraic,
  IdealRules.named_const.statement Cert.SticksIdeal.κ "cutoff" .f32 0xC2D20000#32 ⊥ rfl,
  Sticks.algebraic,
  trivial,
  Merge.algebraic,
  trivial,
  Mid.algebraic,
  trivial,
  AdalnOut.algebraic,
  trivial,
  ConvOut.algebraic,
  trivial,
  ShortOut.algebraic,
  trivial,
  PostOut.algebraic,
  trivial,
  MergeOut.algebraic,
  trivial,
  MidOut.algebraic,
  trivial,
  GluOut.algebraic,
  trivial,
  ModOut.algebraic,
  trivial,
  ModBack.algebraic,
  trivial,
  Adam.algebraic,
  trivial,
  Slots.algebraic,
  trivial,
  Product.algebraic⟩

end Cert.Proof

end
